-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 [hPre_inside : Cert.Pre_inside.Facts] (m : (ℓ : Loc Cert.Kernel3.nD Cert.Kernel3.τ Cert.Kernel3.sig) → Buf (Elt Bits) ℓ) : Prop :=
  ∀ c : Dev Cert.Kernel3.nD,
    (Cert.Pre_inside.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_inside : Cert.Pre_inside.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_inside.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_inside [hPre_inside : Cert.Pre_inside.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_inside.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] [hPre_inside : Cert.Pre_inside.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_inside : Cert.Pre_inside.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_inside [hReference3Ideal : Cert.Reference3Ideal.Facts] [hPre_inside : Cert.Pre_inside.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_inside m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)) (v4 : (c : Dev Cert.Kernel2Ideal.nD) → Buf (Elt Ideal) ((c.tc : Thread Cert.Kernel2Ideal.nD Cert.Kernel2Ideal.τ).loc Cert.Kernel2Ideal.main_v8_4)) (v5 : (c : Dev Cert.Kernel2Ideal.nD) → Buf (Elt Ideal) ((c.tc : Thread Cert.Kernel2Ideal.nD Cert.Kernel2Ideal.τ).loc Cert.Kernel2Ideal.main_v8_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_v8_4) = v4 c
          ∧ r.2.mem ((c.tc : Thread Cert.Kernel2Ideal.nD Cert.Kernel2Ideal.τ).loc Cert.Kernel2Ideal.main_v8_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_v116) = v1 c
          ∧ r.2.mem ((c.tc : Thread Cert.Reference2Ideal.nD Cert.Reference2Ideal.τ).loc Cert.Reference2Ideal.main_v118) = v2 c
          ∧ r.2.mem ((c.tc : Thread Cert.Reference2Ideal.nD Cert.Reference2Ideal.τ).loc Cert.Reference2Ideal.main_v119) = v3 c
          ∧ r.2.mem ((c.tc : Thread Cert.Reference2Ideal.nD Cert.Reference2Ideal.τ).loc Cert.Reference2Ideal.main_v120) = v4 c
          ∧ r.2.mem ((c.tc : Thread Cert.Reference2Ideal.nD Cert.Reference2Ideal.τ).loc Cert.Reference2Ideal.main_v129) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] [hPre_inside : Cert.Pre_inside.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_inside : Cert.Pre_inside.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3) (hPre_inside := hPre_inside)
    ∧ quiescent_Kernel3Ideal (hKernel3Ideal := hKernel3Ideal) (hPre_inside := hPre_inside)
    ∧ quiescent_Reference3Ideal (hReference3Ideal := hReference3Ideal)
    ∧ quiescent_Reference3Ideal_pre_inside (hReference3Ideal := hReference3Ideal) (hPre_inside := hPre_inside)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal) (hPre_inside := hPre_inside)
-- ==== Pre_finite.lean ====
abbrev S16896x512 : Shape := ⟨2, ![16896, 512]⟩
abbrev S16896x2 : Shape := ⟨2, ![16896, 2]⟩
abbrev S512x512 : Shape := ⟨2, ![512, 512]⟩
abbrev S512 : Shape := ⟨1, ![512]⟩
abbrev S512x256 : Shape := ⟨2, ![512, 256]⟩
abbrev S256 : Shape := ⟨1, ![256]⟩
abbrev S512x128 : Shape := ⟨2, ![512, 128]⟩
abbrev S128 : Shape := ⟨1, ![128]⟩
abbrev S_ : Shape := ⟨0, ![]⟩

class Facts : Prop where
  bcast_S_S16896x512 : S_.BroadcastsInDim S16896x512 (![] : Fin 0 → Fin S16896x512.rank)
  reducesTo_S16896x512_S_d0_1 : S16896x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S16896x512 .f32) (main_arg1 : FVec F S16896x2 .f32) (main_arg2 : FVec F S512x512 .f32) (main_arg3 : FVec F S512 .f32) (main_arg4 : FVec F S512x256 .f32) (main_arg5 : FVec F S256 .f32) (main_arg6 : FVec F S512x128 .f32) (main_arg7 : FVec F S128 .f32) : IVec S_ 1 :=
  let main_v0 : FVec F S16896x512 .f32 := Host.absf main_arg0
  let main_cst : FVec F S_ .f32 := constant S_ .f32 0x7F800000#32
  let main_v1 : FVec F S16896x512 .f32 := broadcastInDim S16896x512 ![] bcast_S_S16896x512 main_cst
  let main_v2 : IVec S16896x512 1 := cmpf .olt main_v0 main_v1
  let main_c : IVec S_ 1 := constantI S_ 1 1#1
  let main_v3 : IVec S_ 1 := (fun x v => Host.reduce IntOp.andi x v reducesTo_S16896x512_S_d0_1 h_S_) main_v2 main_c
  let main_v4 : FVec F S512x128 .f32 := Host.absf main_arg6
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg7
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Pre_inside.lean ====
abbrev S4x4224x128 : Shape := ⟨3, ![4, 4224, 128]⟩
abbrev S4x33344x1x128 : Shape := ⟨4, ![4, 33344, 1, 128]⟩
abbrev S_ : Shape := ⟨0, ![]⟩

class Facts : Prop where
  bcast_S_S4x4224x128 : S_.BroadcastsInDim S4x4224x128 (![] : Fin 0 → Fin S4x4224x128.rank)
  reducesTo_S4x4224x128_S_d0_1_2 : S4x4224x128.ReducesTo [0, 1, 2] S_
  h_S_ : 0 < S_.numel

variable [Facts]

def fn {F : FTy → Type} [FloatOps F] (main_arg0 : IVec S4x4224x128 32) (main_arg1 : FVec F S4x4224x128 .f32) (main_arg2 : FVec F S4x4224x128 .f32) (main_arg3 : FVec F S4x4224x128 .f32) (main_arg4 : FVec F S4x4224x128 .f32) (main_arg5 : FVec F S4x33344x1x128 .f32) : IVec S_ 1 :=
  let main_c : IVec S_ 32 := constantI S_ 32 0#32
  let main_v0 : IVec S4x4224x128 32 := broadcastInDim S4x4224x128 ![] bcast_S_S4x4224x128 main_c
  let main_v1 : IVec S4x4224x128 1 := cmpi .sge main_arg0 main_v0
  let main_c_0 : IVec S_ 32 := constantI S_ 32 33343#32
  let main_v2 : IVec S4x4224x128 32 := broadcastInDim S4x4224x128 ![] bcast_S_S4x4224x128 main_c_0
  let main_v3 : IVec S4x4224x128 1 := cmpi .slt main_arg0 main_v2
  let main_v4 : IVec S4x4224x128 1 := andi main_v1 main_v3
  let main_c_1 : IVec S_ 1 := constantI S_ 1 1#1
  let main_v5 : IVec S_ 1 := (fun x v => Host.reduce IntOp.andi x v reducesTo_S4x4224x128_S_d0_1_2 h_S_) main_v4 main_c_1
  main_v5
-- ==== Kernel.lean ====
abbrev S16896x512 : Shape := ⟨2, ![16896, 512]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S2048x512 : Shape := ⟨2, ![2048, 512]⟩
abbrev S1x512 : Shape := ⟨2, ![1, 512]⟩
abbrev S1x2048 : Shape := ⟨2, ![1, 2048]⟩
abbrev S512x1 : Shape := ⟨2, ![512, 1]⟩

abbrev nBuf : Space → Nat
  | .hbm => 20
  | .vmem => 16
  | .smem => 0
  | _ => 0

abbrev bufTy : (tb : Table) → Fin (tcTables nBuf tb) → BufTy
  | .hbm, ⟨0, _⟩ => ⟨S16896x512, .f32⟩
  | .hbm, ⟨1, _⟩ => ⟨S16896x512, .f32⟩
  | .hbm, ⟨2, _⟩ => ⟨S512x512, .f32⟩
  | .hbm, ⟨3, _⟩ => ⟨S512, .f32⟩
  | .hbm, ⟨4, _⟩ => ⟨S512x2048, .f32⟩
  | .hbm, ⟨5, _⟩ => ⟨S2048, .f32⟩
  | .hbm, ⟨6, _⟩ => ⟨S2048x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S1x512, .f32⟩
  | .hbm, ⟨13, _⟩ => ⟨S1x2048, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S16896x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S1x512, .f32⟩
  | .local _ .vmem, ⟨6, _⟩ => ⟨S512x2048, .f32⟩
  | .local _ .vmem, ⟨7, _⟩ => ⟨S1x2048, .f32⟩
  | .local _ .vmem, ⟨8, _⟩ => ⟨S2048x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | _, _ => ⟨S16896x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S16896x512 : Shape := ⟨2, ![16896, 512]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S2048x512 : Shape := ⟨2, ![2048, 512]⟩
abbrev S1x512 : Shape := ⟨2, ![1, 512]⟩
abbrev S_ : Shape := ⟨0, ![]⟩
abbrev S16896 : Shape := ⟨1, ![16896]⟩
abbrev S16896x1 : Shape := ⟨2, ![16896, 1]⟩
abbrev S16896x2048 : Shape := ⟨2, ![16896, 2048]⟩
abbrev S1x2048 : Shape := ⟨2, ![1, 2048]⟩

abbrev nBuf : Space → Nat
  | .hbm => 87
  | .vmem => 0
  | .smem => 0
  | _ => 0

abbrev bufTy : (tb : Table) → Fin (tcTables nBuf tb) → BufTy
  | .hbm, ⟨0, _⟩ => ⟨S16896x512, .f32⟩
  | .hbm, ⟨1, _⟩ => ⟨S16896x512, .f32⟩
  | .hbm, ⟨2, _⟩ => ⟨S512x512, .f32⟩
  | .hbm, ⟨3, _⟩ => ⟨S512, .f32⟩
  | .hbm, ⟨4, _⟩ => ⟨S512x2048, .f32⟩
  | .hbm, ⟨5, _⟩ => ⟨S2048, .f32⟩
  | .hbm, ⟨6, _⟩ => ⟨S2048x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S16896x512, .f32⟩
  | .hbm, ⟨13, _⟩ => ⟨S1x512, .f32⟩
  | .hbm, ⟨14, _⟩ => ⟨S16896x512, .f32⟩
  | .hbm, ⟨15, _⟩ => ⟨S16896x512, .f32⟩
  | .hbm, ⟨16, _⟩ => ⟨S16896x512, .f32⟩
  | .hbm, ⟨17, _⟩ => ⟨S_, .f32⟩
  | .hbm, ⟨18, _⟩ => ⟨S16896, .f32⟩
  | .hbm, ⟨19, _⟩ => ⟨S16896x1, .f32⟩
  | .hbm, ⟨20, _⟩ => ⟨S_, .f32⟩
  | .hbm, ⟨21, _⟩ => ⟨S16896x1, .f32⟩
  | .hbm, ⟨22, _⟩ => ⟨S16896x1, .f32⟩
  | .hbm, ⟨23, _⟩ => ⟨S16896x512, .f32⟩
  | .hbm, ⟨24, _⟩ => ⟨S16896x512, .f32⟩
  | .hbm, ⟨25, _⟩ => ⟨S16896x512, .f32⟩
  | .hbm, ⟨26, _⟩ => ⟨S_, .f32⟩
  | .hbm, ⟨27, _⟩ => ⟨S16896, .f32⟩
  | .hbm, ⟨28, _⟩ => ⟨S16896x1, .f32⟩
  | .hbm, ⟨29, _⟩ => ⟨S_, .f32⟩
  | .hbm, ⟨30, _⟩ => ⟨S16896x1, .f32⟩
  | .hbm, ⟨31, _⟩ => ⟨S16896x1, .f32⟩
  | .hbm, ⟨32, _⟩ => ⟨S16896x512, .f32⟩
  | .hbm, ⟨33, _⟩ => ⟨S16896x512, .f32⟩
  | .hbm, ⟨34, _⟩ => ⟨S_, .f32⟩
  | .hbm, ⟨35, _⟩ => ⟨S16896x1, .f32⟩
  | .hbm, ⟨36, _⟩ => ⟨S16896x1, .f32⟩
  | .hbm, ⟨37, _⟩ => ⟨S16896x1, .f32⟩
  | .hbm, ⟨38, _⟩ => ⟨S16896x512, .f32⟩
  | .hbm, ⟨39, _⟩ => ⟨S16896x512, .f32⟩
  | .hbm, ⟨40, _⟩ => ⟨S1x512, .f32⟩
  | .hbm, ⟨41, _⟩ => ⟨S16896x512, .f32⟩
  | .hbm, ⟨42, _⟩ => ⟨S16896x512, .f32⟩
  | .hbm, ⟨43, _⟩ => ⟨S1x512, .f32⟩
  | .hbm, ⟨44, _⟩ => ⟨S16896x512, .f32⟩
  | .hbm, ⟨45, _⟩ => ⟨S16896x512, .f32⟩
  | .hbm, ⟨46, _⟩ => ⟨S16896x2048, .f32⟩
  | .hbm, ⟨47, _⟩ => ⟨S1x2048, .f32⟩
  | .hbm, ⟨48, _⟩ => ⟨S16896x2048, .f32⟩
  | .hbm, ⟨49, _⟩ => ⟨S16896x2048, .f32⟩
  | .hbm, ⟨50, _⟩ => ⟨S_, .f32⟩
  | .hbm, ⟨51, _⟩ => ⟨S16896x2048, .f32⟩
  | .hbm, ⟨52, _⟩ => ⟨S16896x2048, .f32⟩
  | .hbm, ⟨53, _⟩ => ⟨S16896x512, .f32⟩
  | .hbm, ⟨54, _⟩ => ⟨S1x512, .f32⟩
  | .hbm, ⟨55, _⟩ => ⟨S16896x512, .f32⟩
  | .hbm, ⟨56, _⟩ => ⟨S16896x512, .f32⟩
  | .hbm, ⟨57, _⟩ => ⟨S16896x512, .f32⟩
  | .hbm, ⟨58, _⟩ => ⟨S_, .f32⟩
  | .hbm, ⟨59, _⟩ => ⟨S16896, .f32⟩
  | .hbm, ⟨60, _⟩ => ⟨S16896x1, .f32⟩
  | .hbm, ⟨61, _⟩ => ⟨S_, .f32⟩
  | .hbm, ⟨62, _⟩ => ⟨S16896x1, .f32⟩
  | .hbm, ⟨63, _⟩ => ⟨S16896x1, .f32⟩
  | .hbm, ⟨64, _⟩ => ⟨S16896x512, .f32⟩
  | .hbm, ⟨65, _⟩ => ⟨S16896x512, .f32⟩
  | .hbm, ⟨66, _⟩ => ⟨S16896x512, .f32⟩
  | .hbm, ⟨67, _⟩ => ⟨S_, .f32⟩
  | .hbm, ⟨68, _⟩ => ⟨S16896, .f32⟩
  | .hbm, ⟨69, _⟩ => ⟨S16896x1, .f32⟩
  | .hbm, ⟨70, _⟩ => ⟨S_, .f32⟩
  | .hbm, ⟨71, _⟩ => ⟨S16896x1, .f32⟩
  | .hbm, ⟨72, _⟩ => ⟨S16896x1, .f32⟩
  | .hbm, ⟨73, _⟩ => ⟨S16896x512, .f32⟩
  | .hbm, ⟨74, _⟩ => ⟨S16896x512, .f32⟩
  | .hbm, ⟨75, _⟩ => ⟨S_, .f32⟩
  | .hbm, ⟨76, _⟩ => ⟨S16896x1, .f32⟩
  | .hbm, ⟨77, _⟩ => ⟨S16896x1, .f32⟩
  | .hbm, ⟨78, _⟩ => ⟨S16896x1, .f32⟩
  | .hbm, ⟨79, _⟩ => ⟨S16896x512, .f32⟩
  | .hbm, ⟨80, _⟩ => ⟨S16896x512, .f32⟩
  | .hbm, ⟨81, _⟩ => ⟨S1x512, .f32⟩
  | .hbm, ⟨82, _⟩ => ⟨S16896x512, .f32⟩
  | .hbm, ⟨83, _⟩ => ⟨S16896x512, .f32⟩
  | .hbm, ⟨84, _⟩ => ⟨S1x512, .f32⟩
  | .hbm, ⟨85, _⟩ => ⟨S16896x512, .f32⟩
  | .hbm, ⟨86, _⟩ => ⟨S16896x512, .f32⟩
  | _, _ => ⟨S16896x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_4 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== Kernel2.lean ====
abbrev S16896x512 : Shape := ⟨2, ![16896, 512]⟩
abbrev S16896x2 : Shape := ⟨2, ![16896, 2]⟩
abbrev S512x512 : Shape := ⟨2, ![512, 512]⟩
abbrev S512 : Shape := ⟨1, ![512]⟩
abbrev S512x256 : Shape := ⟨2, ![512, 256]⟩
abbrev S256 : Shape := ⟨1, ![256]⟩
abbrev S512x128 : Shape := ⟨2, ![512, 128]⟩
abbrev S128 : Shape := ⟨1, ![128]⟩
abbrev S512x8x4x4x2 : Shape := ⟨5, ![512, 8, 4, 4, 2]⟩
abbrev S512x2x8x4x4 : Shape := ⟨5, ![512, 2, 8, 4, 4]⟩
abbrev S8x4x4x2 : Shape := ⟨4, ![8, 4, 4, 2]⟩
abbrev S2x8x4x4 : Shape := ⟨4, ![2, 8, 4, 4]⟩
abbrev S1x256 : Shape := ⟨2, ![1, 256]⟩
abbrev S1x512 : Shape := ⟨2, ![1, 512]⟩
abbrev S1x128 : Shape := ⟨2, ![1, 128]⟩
abbrev S16896x128 : Shape := ⟨2, ![16896, 128]⟩
abbrev S256x512 : Shape := ⟨2, ![256, 512]⟩
abbrev S256x2 : Shape := ⟨2, ![256, 2]⟩
abbrev S256x128 : Shape := ⟨2, ![256, 128]⟩
abbrev S256x256 : Shape := ⟨2, ![256, 256]⟩
abbrev S256x1 : Shape := ⟨2, ![256, 1]⟩
abbrev S128x128 : Shape := ⟨2, ![128, 128]⟩

abbrev nBuf : Space → Nat
  | .hbm => 22
  | .vmem => 22
  | .smem => 0
  | _ => 0

abbrev bufTy : (tb : Table) → Fin (tcTables nBuf tb) → BufTy
  | .hbm, ⟨0, _⟩ => ⟨S16896x512, .f32⟩
  | .hbm, ⟨1, _⟩ => ⟨S16896x2, .f32⟩
  | .hbm, ⟨2, _⟩ => ⟨S512x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S512x128, .f32⟩
  | .hbm, ⟨7, _⟩ => ⟨S128, .f32⟩
  | .hbm, ⟨8, _⟩ => ⟨S512x8x4x4x2, .f32⟩
  | .hbm, ⟨9, _⟩ => ⟨S512x2x8x4x4, .f32⟩
  | .hbm, ⟨10, _⟩ => ⟨S512x256, .f32⟩
  | .hbm, ⟨11, _⟩ => ⟨S8x4x4x2, .f32⟩
  | .hbm, ⟨12, _⟩ => ⟨S2x8x4x4, .f32⟩
  | .hbm, ⟨13, _⟩ => ⟨S1x256, .f32⟩
  | .hbm, ⟨14, _⟩ => ⟨S1x512, .f32⟩
  | .hbm, ⟨15, _⟩ => ⟨S1x128, .f32⟩
  | .hbm, ⟨16, _⟩ => ⟨S16896x512, .f32⟩
  | .hbm, ⟨17, _⟩ => ⟨S16896x128, .f32⟩
  | .hbm, ⟨18, _⟩ => ⟨S16896x128, .f32⟩
  | .hbm, ⟨19, _⟩ => ⟨S16896x128, .f32⟩
  | .hbm, ⟨20, _⟩ => ⟨S16896x128, .f32⟩
  | .hbm, ⟨21, _⟩ => ⟨S16896x128, .i32⟩
  | .local _ .vmem, ⟨0, _⟩ => ⟨S256x512, .f32⟩
  | .local _ .vmem, ⟨1, _⟩ => ⟨S256x512, .f32⟩
  | .local _ .vmem, ⟨2, _⟩ => ⟨S256x2, .f32⟩
  | .local _ .vmem, ⟨3, _⟩ => ⟨S256x2, .f32⟩
  | .local _ .vmem, ⟨4, _⟩ => ⟨S512x512, .f32⟩
  | .local _ .vmem, ⟨5, _⟩ => ⟨S1x512, .f32⟩
  | .local _ .vmem, ⟨6, _⟩ => ⟨S512x256, .f32⟩
  | .local _ .vmem, ⟨7, _⟩ => ⟨S1x256, .f32⟩
  | .local _ .vmem, ⟨8, _⟩ => ⟨S512x128, .f32⟩
  | .local _ .vmem, ⟨9, _⟩ => ⟨S1x128, .f32⟩
  | .local _ .vmem, ⟨10, _⟩ => ⟨S256x512, .f32⟩
  | .local _ .vmem, ⟨11, _⟩ => ⟨S256x512, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .i32⟩
  | .local _ .vmem, ⟨21, _⟩ => ⟨S256x128, .i32⟩
  | _, _ => ⟨S16896x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S16896x512 : Shape := ⟨2, ![16896, 512]⟩
abbrev S16896x2 : Shape := ⟨2, ![16896, 2]⟩
abbrev S512x512 : Shape := ⟨2, ![512, 512]⟩
abbrev S512 : Shape := ⟨1, ![512]⟩
abbrev S512x256 : Shape := ⟨2, ![512, 256]⟩
abbrev S256 : Shape := ⟨1, ![256]⟩
abbrev S512x128 : Shape := ⟨2, ![512, 128]⟩
abbrev S128 : Shape := ⟨1, ![128]⟩
abbrev S4 : Shape := ⟨1, ![4]⟩
abbrev S1x512 : Shape := ⟨2, ![1, 512]⟩
abbrev S16896x256 : Shape := ⟨2, ![16896, 256]⟩
abbrev S1x256 : Shape := ⟨2, ![1, 256]⟩
abbrev S16896x8x4x4x2 : Shape := ⟨5, ![16896, 8, 4, 4, 2]⟩
abbrev S16896x128 : Shape := ⟨2, ![16896, 128]⟩
abbrev S1x128 : Shape := ⟨2, ![1, 128]⟩
abbrev S16896x8x16 : Shape := ⟨3, ![16896, 8, 16]⟩
abbrev S_ : Shape := ⟨0, ![]⟩
abbrev S16896x8 : Shape := ⟨2, ![16896, 8]⟩
abbrev S16896x8x1 : Shape := ⟨3, ![16896, 8, 1]⟩
abbrev S16896x8x4x4 : Shape := ⟨4, ![16896, 8, 4, 4]⟩
abbrev S1x1x4x1 : Shape := ⟨4, ![1, 1, 4, 1]⟩
abbrev S8 : Shape := ⟨1, ![8]⟩
abbrev S1x8x1x1 : Shape := ⟨4, ![1, 8, 1, 1]⟩
abbrev S16896x1 : Shape := ⟨2, ![16896, 1]⟩
abbrev S16896 : Shape := ⟨1, ![16896]⟩
abbrev S16896x1x1x1 : Shape := ⟨4, ![16896, 1, 1, 1]⟩
abbrev S16896x8x4x4x1 : Shape := ⟨5, ![16896, 8, 4, 4, 1]⟩
abbrev S1x8x4x1 : Shape := ⟨4, ![1, 8, 4, 1]⟩

abbrev nBuf : Space → Nat
  | .hbm => 166
  | .vmem => 0
  | .smem => 0
  | _ => 0

abbrev hbmTy0_0 (i : Nat) : BufTy := match i % 128 with
  | 0 => ⟨S16896x512, .f32⟩
  | 1 => ⟨S16896x2, .f32⟩
  | 2 => ⟨S512x512, .f32⟩
  | 3 => ⟨S512, .f32⟩
  | 4 => ⟨S512x256, .f32⟩
  | 5 => ⟨S256, .f32⟩
  | 6 => ⟨S512x128, .f32⟩
  | 7 => ⟨S128, .f32⟩
  | 8 => ⟨S4, .i32⟩
  | 9 => ⟨S4, .i32⟩
  | 10 => ⟨S16896x512, .f32⟩
  | 11 => ⟨S1x512, .f32⟩
  | 12 => ⟨S16896x512, .f32⟩
  | 13 => ⟨S16896x512, .f32⟩
  | 14 => ⟨S16896x256, .f32⟩
  | 15 => ⟨S1x256, .f32⟩
  | 16 => ⟨S16896x256, .f32⟩
  | 17 => ⟨S16896x256, .f32⟩
  | 18 => ⟨S16896x8x4x4x2, .f32⟩
  | 19 => ⟨S16896x128, .f32⟩
  | 20 => ⟨S1x128, .f32⟩
  | 21 => ⟨S16896x128, .f32⟩
  | 22 => ⟨S16896x128, .f32⟩
  | 23 => ⟨S16896x8x16, .f32⟩
  | 24 => ⟨S_, .f32⟩
  | 25 => ⟨S16896x8, .f32⟩
  | 26 => ⟨S_, .f32⟩
  | 27 => ⟨S16896x8, .f32⟩
  | 28 => ⟨S16896x8, .f32⟩
  | 29 => ⟨S16896x8x1, .f32⟩
  | 30 => ⟨S16896x8x16, .f32⟩
  | 31 => ⟨S16896x8x16, .f32⟩
  | 32 => ⟨S16896x8x16, .f32⟩
  | 33 => ⟨S_, .f32⟩
  | 34 => ⟨S16896x8, .f32⟩
  | 35 => ⟨S16896x8x1, .f32⟩
  | 36 => ⟨S16896x8x16, .f32⟩
  | 37 => ⟨S16896x8x16, .f32⟩
  | 38 => ⟨S16896x8x4x4, .f32⟩
  | 39 => ⟨S1x1x4x1, .i32⟩
  | 40 => ⟨S1x1x4x1, .i32⟩
  | 41 => ⟨S8, .i32⟩
  | 42 => ⟨S1x8x1x1, .i32⟩
  | 43 => ⟨S_, .i32⟩
  | 44 => ⟨S1x8x1x1, .i32⟩
  | 45 => ⟨S1x8x1x1, .i32⟩
  | 46 => ⟨S1x1x4x1, .f32⟩
  | 47 => ⟨S16896x1, .f32⟩
  | 48 => ⟨S16896, .f32⟩
  | 49 => ⟨S16896x1x1x1, .f32⟩
  | 50 => ⟨S16896x8x4x4x1, .f32⟩
  | 51 => ⟨S16896x8x4x4, .f32⟩
  | 52 => ⟨S16896x8x4x4, .f32⟩
  | 53 => ⟨S16896x8x4x4, .f32⟩
  | 54 => ⟨S16896x8x4x4, .f32⟩
  | 55 => ⟨S16896x8x4x4, .f32⟩
  | 56 => ⟨S16896x8x4x4, .f32⟩
  | 57 => ⟨S16896x8x4x4, .f32⟩
  | 58 => ⟨S_, .f32⟩
  | 59 => ⟨S16896x8x4x4, .f32⟩
  | 60 => ⟨S16896x8x4x4, .f32⟩
  | 61 => ⟨S16896x8x4x4, .f32⟩
  | 62 => ⟨S16896x8x4x4, .f32⟩
  | 63 => ⟨S_, .f32⟩
  | 64 => ⟨S16896x8x4x4, .f32⟩
  | 65 => ⟨S16896x8x4x4, .f32⟩
  | 66 => ⟨S16896x8x4x4, .i32⟩
  | 67 => ⟨S_, .i32⟩
  | 68 => ⟨S1x1x4x1, .i32⟩
  | 69 => ⟨S1x1x4x1, .i32⟩
  | 70 => ⟨S_, .i32⟩
  | 71 => ⟨S_, .i32⟩
  | 72 => ⟨S16896x8x4x4, .i32⟩
  | 73 => ⟨S16896x8x4x4, .i32⟩
  | 74 => ⟨S16896x8x4x4, .i32⟩
  | 75 => ⟨S16896x8x4x4, .i32⟩
  | 76 => ⟨S16896x8x4x4, .i1⟩
  | 77 => ⟨S16896x8x4x4, .f32⟩
  | 78 => ⟨S16896x8x4x4, .f32⟩
  | 79 => ⟨S_, .i32⟩
  | 80 => ⟨S16896x8x4x4, .i32⟩
  | 81 => ⟨S16896x8x4x4, .i32⟩
  | 82 => ⟨S16896x8x4x4, .i1⟩
  | 83 => ⟨S16896x8x4x4, .f32⟩
  | 84 => ⟨S16896x8x4x4, .f32⟩
  | 85 => ⟨S16896x8x4x4, .f32⟩
  | 86 => ⟨S_, .i32⟩
  | 87 => ⟨S16896x8x4x4, .i32⟩
  | 88 => ⟨S16896x8x4x4, .i32⟩
  | 89 => ⟨S16896x8x4x4, .i1⟩
  | 90 => ⟨S16896x8x4x4, .f32⟩
  | 91 => ⟨S16896x8x4x4, .f32⟩
  | 92 => ⟨S_, .i32⟩
  | 93 => ⟨S16896x8x4x4, .i32⟩
  | 94 => ⟨S16896x8x4x4, .i32⟩
  | 95 => ⟨S16896x8x4x4, .i1⟩
  | 96 => ⟨S16896x8x4x4, .f32⟩
  | 97 => ⟨S16896x8x4x4, .f32⟩
  | 98 => ⟨S16896x8x4x4, .f32⟩
  | 99 => ⟨S16896x1, .f32⟩
  | 100 => ⟨S16896, .f32⟩
  | 101 => ⟨S16896x1x1x1, .f32⟩
  | 102 => ⟨S16896x8x4x4x1, .f32⟩
  | 103 => ⟨S16896x8x4x4, .f32⟩
  | 104 => ⟨S16896x8x4x4, .f32⟩
  | 105 => ⟨S16896x8x4x4, .f32⟩
  | 106 => ⟨S16896x8x4x4, .f32⟩
  | 107 => ⟨S16896x8x4x4, .f32⟩
  | 108 => ⟨S16896x8x4x4, .f32⟩
  | 109 => ⟨S16896x8x4x4, .f32⟩
  | 110 => ⟨S_, .f32⟩
  | 111 => ⟨S16896x8x4x4, .f32⟩
  | 112 => ⟨S16896x8x4x4, .f32⟩
  | 113 => ⟨S16896x8x4x4, .f32⟩
  | 114 => ⟨S16896x8x4x4, .f32⟩
  | 115 => ⟨S_, .f32⟩
  | 116 => ⟨S16896x8x4x4, .f32⟩
  | 117 => ⟨S16896x8x4x4, .f32⟩
  | 118 => ⟨S16896x8x4x4, .i32⟩
  | 119 => ⟨S_, .i32⟩
  | 120 => ⟨S1x1x4x1, .i32⟩
  | 121 => ⟨S1x1x4x1, .i32⟩
  | 122 => ⟨S_, .i32⟩
  | 123 => ⟨S_, .i32⟩
  | 124 => ⟨S16896x8x4x4, .i32⟩
  | 125 => ⟨S16896x8x4x4, .i32⟩
  | 126 => ⟨S16896x8x4x4, .i32⟩
  | 127 => ⟨S16896x8x4x4, .i32⟩
  | _ => ⟨S16896x512, .f32⟩

abbrev hbmTy0_1 (i : Nat) : BufTy := match i % 128 with
  | 0 => ⟨S16896x8x4x4, .i1⟩
  | 1 => ⟨S16896x8x4x4, .f32⟩
  | 2 => ⟨S16896x8x4x4, .f32⟩
  | 3 => ⟨S_, .i32⟩
  | 4 => ⟨S16896x8x4x4, .i32⟩
  | 5 => ⟨S16896x8x4x4, .i32⟩
  | 6 => ⟨S16896x8x4x4, .i1⟩
  | 7 => ⟨S16896x8x4x4, .f32⟩
  | 8 => ⟨S16896x8x4x4, .f32⟩
  | 9 => ⟨S16896x8x4x4, .f32⟩
  | 10 => ⟨S_, .i32⟩
  | 11 => ⟨S16896x8x4x4, .i32⟩
  | 12 => ⟨S16896x8x4x4, .i32⟩
  | 13 => ⟨S16896x8x4x4, .i1⟩
  | 14 => ⟨S16896x8x4x4, .f32⟩
  | 15 => ⟨S16896x8x4x4, .f32⟩
  | 16 => ⟨S_, .i32⟩
  | 17 => ⟨S16896x8x4x4, .i32⟩
  | 18 => ⟨S16896x8x4x4, .i32⟩
  | 19 => ⟨S16896x8x4x4, .i1⟩
  | 20 => ⟨S16896x8x4x4, .f32⟩
  | 21 => ⟨S16896x8x4x4, .f32⟩
  | 22 => ⟨S16896x8x4x4, .f32⟩
  | 23 => ⟨S16896x8x4x4, .f32⟩
  | 24 => ⟨S16896x128, .f32⟩
  | 25 => ⟨S16896x8x4x4, .f32⟩
  | 26 => ⟨S16896x128, .f32⟩
  | 27 => ⟨S16896x128, .f32⟩
  | 28 => ⟨S16896x128, .f32⟩
  | 29 => ⟨S1x8x4x1, .i32⟩
  | 30 => ⟨S1x8x4x1, .i32⟩
  | 31 => ⟨S1x8x4x1, .i32⟩
  | 32 => ⟨S16896x8x4x4, .i32⟩
  | 33 => ⟨S16896x8x4x4, .i32⟩
  | 34 => ⟨S16896x8x4x4, .i32⟩
  | 35 => ⟨S16896x8x4x4, .i32⟩
  | 36 => ⟨S16896x8x4x4, .i32⟩
  | 37 => ⟨S16896x128, .i32⟩
  | _ => ⟨S16896x512, .f32⟩

abbrev hbmTy (i : Nat) : BufTy := match i / 128 with
  | 0 => hbmTy0_0 i
  | 1 => hbmTy0_1 i
  | _ => ⟨S16896x512, .f32⟩

abbrev bufTy : (tb : Table) → Fin (tcTables nBuf tb) → BufTy
  | .hbm, ⟨i, _⟩ => hbmTy i
  | _, _ => ⟨S16896x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_6 : Ref sig .tc := ⟨.hbm, 67, rfl⟩
abbrev main_v51 : Ref sig .tc := ⟨.hbm, 68, rfl⟩
abbrev main_v52 : Ref sig .tc := ⟨.hbm, 69, rfl⟩
abbrev main_c_7 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_8 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_9 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_10 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_11 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_12 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_c_13 : Ref sig .tc := ⟨.hbm, 119, rfl⟩
abbrev main_v92 : Ref sig .tc := ⟨.hbm, 120, rfl⟩
abbrev main_v93 : Ref sig .tc := ⟨.hbm, 121, rfl⟩
abbrev main_c_14 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_call1_v3 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_15 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_c_16 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_17 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩

abbrev nD : Nat := 1
abbrev τ : Topo := Topo.v7x

variable {F : FTy → Type} [FloatOps F]
-- ==== Kernel3.lean ====
abbrev S4x4224x128 : Shape := ⟨3, ![4, 4224, 128]⟩
abbrev S4x33344x1x128 : Shape := ⟨4, ![4, 33344, 1, 128]⟩
abbrev S4x33792x64 : Shape := ⟨3, ![4, 33792, 64]⟩
abbrev S1x8x128 : Shape := ⟨3, ![1, 8, 128]⟩
abbrev S1x33344x1x128 : Shape := ⟨4, ![1, 33344, 1, 128]⟩
abbrev S1x64x64 : Shape := ⟨3, ![1, 64, 64]⟩
abbrev S128x128 : Shape := ⟨2, ![128, 128]⟩
abbrev S8x128 : Shape := ⟨2, ![8, 128]⟩
abbrev S1x1x1 : Shape := ⟨3, ![1, 1, 1]⟩
abbrev S1x1x1x128 : Shape := ⟨4, ![1, 1, 1, 128]⟩
abbrev S128 : Shape := ⟨1, ![128]⟩
abbrev S1x128 : Shape := ⟨2, ![1, 128]⟩
abbrev S8x64 : Shape := ⟨2, ![8, 64]⟩
abbrev S128x64 : Shape := ⟨2, ![128, 64]⟩
abbrev S8x16x64 : Shape := ⟨3, ![8, 16, 64]⟩
abbrev S1x8x64 : Shape := ⟨3, ![1, 8, 64]⟩

abbrev nBuf : Space → Nat
  | .hbm => 7
  | .vmem => 14
  | .smem => 2
  | _ => 0

abbrev bufTy : (tb : Table) → Fin (tcTables nBuf tb) → BufTy
  | .hbm, ⟨0, _⟩ => ⟨S4x4224x128, .i32⟩
  | .hbm, ⟨1, _⟩ => ⟨S4x4224x128, .f32⟩
  | .hbm, ⟨2, _⟩ => ⟨S4x4224x128, .f32⟩
  | .hbm, ⟨3, _⟩ => ⟨S4x4224x128, .f32⟩
  | .hbm, ⟨4, _⟩ => ⟨S4x4224x128, .f32⟩
  | .hbm, ⟨5, _⟩ => ⟨S4x33344x1x128, .f32⟩
  | .hbm, ⟨6, _⟩ => ⟨S4x33792x64, .f32⟩
  | .local _ .vmem, ⟨0, _⟩ => ⟨S1x8x128, .f32⟩
  | .local _ .vmem, ⟨1, _⟩ => ⟨S1x8x128, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x33344x1x128, .f32⟩
  | .local _ .vmem, ⟨9, _⟩ => ⟨S1x33344x1x128, .f32⟩
  | .local _ .vmem, ⟨10, _⟩ => ⟨S1x64x64, .f32⟩
  | .local _ .vmem, ⟨11, _⟩ => ⟨S1x64x64, .f32⟩
  | .local _ .vmem, ⟨12, _⟩ => ⟨S128x128, .f32⟩
  | .local _ .vmem, ⟨13, _⟩ => ⟨S128x128, .f32⟩
  | .local _ .smem, ⟨0, _⟩ => ⟨S1x8x128, .i32⟩
  | .local _ .smem, ⟨1, _⟩ => ⟨S1x8x128, .i32⟩
  | _, _ => ⟨S4x4224x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 528], ![false, false]⟩

def k0_off1 (v8 : BitVec 32) : Fin 4 → Nat :=
  let c0_14 : Index := 0#32
  let v9 : Index := Scalar.indexCast v8
  let c0_15 : Index := 0#32
  let c0_16 : Index := 0#32
  ![0, v9.toNat, 0, 0]

def k0_off2 (v8 : BitVec 32) : Fin 4 → Nat :=
  let c0_19 : Index := 0#32
  let c1_i32 : BitVec 32 := 1#32
  let v15 : BitVec 32 := Scalar.addi v8 c1_i32
  let v16 : Index := Scalar.indexCast v15
  let c0_20 : Index := 0#32
  let c0_21 : Index := 0#32
  ![0, v16.toNat, 0, 0]

def k0_chk1 (v8 : BitVec 32) : Prop :=
  (∀ a, (k0_off1 v8) a + S1x1x1x128.size a ≤ S1x33344x1x128.size a) ∧
  (∀ a, (k0_off2 v8) a + S1x1x1x128.size a ≤ S1x33344x1x128.size a)
theorem k0_off1_inb : ∀ (v8 : BitVec 32) (k0_hw1 : k0_chk1 v8), ∀ a, (k0_off1 v8) a + S1x1x1x128.size a ≤ S1x33344x1x128.size a := fun v8 k0_hw1 => k0_hw1.1
theorem k0_off2_inb : ∀ (v8 : BitVec 32) (k0_hw1 : k0_chk1 v8), ∀ a, (k0_off2 v8) a + S1x1x1x128.size a ≤ S1x33344x1x128.size a := fun v8 k0_hw1 => k0_hw1.2

def k0_off3 (v22 : BitVec 32) : Fin 4 → Nat :=
  let c0_26 : Index := 0#32
  let v23 : Index := Scalar.indexCast v22
  let c0_27 : Index := 0#32
  let c0_28 : Index := 0#32
  ![0, v23.toNat, 0, 0]

def k0_off4 (v22 : BitVec 32) : Fin 4 → Nat :=
  let c0_32 : Index := 0#32
  let c1_i32_31 : BitVec 32 := 1#32
  let v29 : BitVec 32 := Scalar.addi v22 c1_i32_31
  let v30 : Index := Scalar.indexCast v29
  let c0_33 : Index := 0#32
  let c0_34 : Index := 0#32
  ![0, v30.toNat, 0, 0]

def k0_chk2 (v22 : BitVec 32) : Prop :=
  (∀ a, (k0_off3 v22) a + S1x1x1x128.size a ≤ S1x33344x1x128.size a) ∧
  (∀ a, (k0_off4 v22) a + S1x1x1x128.size a ≤ S1x33344x1x128.size a)
theorem k0_off3_inb : ∀ (v22 : BitVec 32) (k0_hw2 : k0_chk2 v22), ∀ a, (k0_off3 v22) a + S1x1x1x128.size a ≤ S1x33344x1x128.size a := fun v22 k0_hw2 => k0_hw2.1
theorem k0_off4_inb : ∀ (v22 : BitVec 32) (k0_hw2 : k0_chk2 v22), ∀ a, (k0_off4 v22) a + S1x1x1x128.size a ≤ S1x33344x1x128.size a := fun v22 k0_hw2 => k0_hw2.2

def k0_off5 (v36 : BitVec 32) : Fin 4 → Nat :=
  let c0_39 : Index := 0#32
  let v37 : Index := Scalar.indexCast v36
  let c0_40 : Index := 0#32
  let c0_41 : Index := 0#32
  ![0, v37.toNat, 0, 0]

def k0_off6 (v36 : BitVec 32) : Fin 4 → Nat :=
  let c0_45 : Index := 0#32
  let c1_i32_44 : BitVec 32 := 1#32
  let v43 : BitVec 32 := Scalar.addi v36 c1_i32_44
  let v44 : Index := Scalar.indexCast v43
  let c0_46 : Index := 0#32
  let c0_47 : Index := 0#32
  ![0, v44.toNat, 0, 0]

def k0_chk3 (v36 : BitVec 32) : Prop :=
  (∀ a, (k0_off5 v36) a + S1x1x1x128.size a ≤ S1x33344x1x128.size a) ∧
  (∀ a, (k0_off6 v36) a + S1x1x1x128.size a ≤ S1x33344x1x128.size a)
theorem k0_off5_inb : ∀ (v36 : BitVec 32) (k0_hw3 : k0_chk3 v36), ∀ a, (k0_off5 v36) a + S1x1x1x128.size a ≤ S1x33344x1x128.size a := fun v36 k0_hw3 => k0_hw3.1
theorem k0_off6_inb : ∀ (v36 : BitVec 32) (k0_hw3 : k0_chk3 v36), ∀ a, (k0_off6 v36) a + S1x1x1x128.size a ≤ S1x33344x1x128.size a := fun v36 k0_hw3 => k0_hw3.2

def k0_off7 (v50 : BitVec 32) : Fin 4 → Nat :=
  let c0_52 : Index := 0#32
  let v51 : Index := Scalar.indexCast v50
  let c0_53 : Index := 0#32
  let c0_54 : Index := 0#32
  ![0, v51.toNat, 0, 0]

def k0_off8 (v50 : BitVec 32) : Fin 4 → Nat :=
  let c0_58 : Index := 0#32
  let c1_i32_57 : BitVec 32 := 1#32
  let v57 : BitVec 32 := Scalar.addi v50 c1_i32_57
  let v58 : Index := Scalar.indexCast v57
  let c0_59 : Index := 0#32
  let c0_60 : Index := 0#32
  ![0, v58.toNat, 0, 0]

def k0_chk4 (v50 : BitVec 32) : Prop :=
  (∀ a, (k0_off7 v50) a + S1x1x1x128.size a ≤ S1x33344x1x128.size a) ∧
  (∀ a, (k0_off8 v50) a + S1x1x1x128.size a ≤ S1x33344x1x128.size a)
theorem k0_off7_inb : ∀ (v50 : BitVec 32) (k0_hw4 : k0_chk4 v50), ∀ a, (k0_off7 v50) a + S1x1x1x128.size a ≤ S1x33344x1x128.size a := fun v50 k0_hw4 => k0_hw4.1
theorem k0_off8_inb : ∀ (v50 : BitVec 32) (k0_hw4 : k0_chk4 v50), ∀ a, (k0_off8 v50) a + S1x1x1x128.size a ≤ S1x33344x1x128.size a := fun v50 k0_hw4 => k0_hw4.2

def k0_off9 (v64 : BitVec 32) : Fin 4 → Nat :=
  let c0_65 : Index := 0#32
  let v65 : Index := Scalar.indexCast v64
  let c0_66 : Index := 0#32
  let c0_67 : Index := 0#32
  ![0, v65.toNat, 0, 0]

def k0_off10 (v64 : BitVec 32) : Fin 4 → Nat :=
  let c0_71 : Index := 0#32
  let c1_i32_70 : BitVec 32 := 1#32
  let v71 : BitVec 32 := Scalar.addi v64 c1_i32_70
  let v72 : Index := Scalar.indexCast v71
  let c0_72 : Index := 0#32
  let c0_73 : Index := 0#32
  ![0, v72.toNat, 0, 0]

def k0_chk5 (v64 : BitVec 32) : Prop :=
  (∀ a, (k0_off9 v64) a + S1x1x1x128.size a ≤ S1x33344x1x128.size a) ∧
  (∀ a, (k0_off10 v64) a + S1x1x1x128.size a ≤ S1x33344x1x128.size a)
theorem k0_off9_inb : ∀ (v64 : BitVec 32) (k0_hw5 : k0_chk5 v64), ∀ a, (k0_off9 v64) a + S1x1x1x128.size a ≤ S1x33344x1x128.size a := fun v64 k0_hw5 => k0_hw5.1
theorem k0_off10_inb : ∀ (v64 : BitVec 32) (k0_hw5 : k0_chk5 v64), ∀ a, (k0_off10 v64) a + S1x1x1x128.size a ≤ S1x33344x1x128.size a := fun v64 k0_hw5 => k0_hw5.2

def k0_off11 (v78 : BitVec 32) : Fin 4 → Nat :=
  let c0_78 : Index := 0#32
  let v79 : Index := Scalar.indexCast v78
  let c0_79 : Index := 0#32
  let c0_80 : Index := 0#32
  ![0, v79.toNat, 0, 0]

def k0_off12 (v78 : BitVec 32) : Fin 4 → Nat :=
  let c0_84 : Index := 0#32
  let c1_i32_83 : BitVec 32 := 1#32
  let v85 : BitVec 32 := Scalar.addi v78 c1_i32_83
  let v86 : Index := Scalar.indexCast v85
  let c0_85 : Index := 0#32
  let c0_86 : Index := 0#32
  ![0, v86.toNat, 0, 0]

def k0_chk6 (v78 : BitVec 32) : Prop :=
  (∀ a, (k0_off11 v78) a + S1x1x1x128.size a ≤ S1x33344x1x128.size a) ∧
  (∀ a, (k0_off12 v78) a + S1x1x1x128.size a ≤ S1x33344x1x128.size a)
theorem k0_off11_inb : ∀ (v78 : BitVec 32) (k0_hw6 : k0_chk6 v78), ∀ a, (k0_off11 v78) a + S1x1x1x128.size a ≤ S1x33344x1x128.size a := fun v78 k0_hw6 => k0_hw6.1
theorem k0_off12_inb : ∀ (v78 : BitVec 32) (k0_hw6 : k0_chk6 v78), ∀ a, (k0_off12 v78) a + S1x1x1x128.size a ≤ S1x33344x1x128.size a := fun v78 k0_hw6 => k0_hw6.2

def k0_off13 (v92 : BitVec 32) : Fin 4 → Nat :=
  let c0_91 : Index := 0#32
  let v93 : Index := Scalar.indexCast v92
  let c0_92 : Index := 0#32
  let c0_93 : Index := 0#32
  ![0, v93.toNat, 0, 0]

def k0_off14 (v92 : BitVec 32) : Fin 4 → Nat :=
  let c0_97 : Index := 0#32
  let c1_i32_96 : BitVec 32 := 1#32
  let v99 : BitVec 32 := Scalar.addi v92 c1_i32_96
  let v100 : Index := Scalar.indexCast v99
  let c0_98 : Index := 0#32
  let c0_99 : Index := 0#32
  ![0, v100.toNat, 0, 0]

def k0_chk7 (v92 : BitVec 32) : Prop :=
  (∀ a, (k0_off13 v92) a + S1x1x1x128.size a ≤ S1x33344x1x128.size a) ∧
  (∀ a, (k0_off14 v92) a + S1x1x1x128.size a ≤ S1x33344x1x128.size a)
theorem k0_off13_inb : ∀ (v92 : BitVec 32) (k0_hw7 : k0_chk7 v92), ∀ a, (k0_off13 v92) a + S1x1x1x128.size a ≤ S1x33344x1x128.size a := fun v92 k0_hw7 => k0_hw7.1
theorem k0_off14_inb : ∀ (v92 : BitVec 32) (k0_hw7 : k0_chk7 v92), ∀ a, (k0_off14 v92) a + S1x1x1x128.size a ≤ S1x33344x1x128.size a := fun v92 k0_hw7 => k0_hw7.2

def k0_off15 (v106 : BitVec 32) : Fin 4 → Nat :=
  let c0_104 : Index := 0#32
  let v107 : Index := Scalar.indexCast v106
  let c0_105 : Index := 0#32
  let c0_106 : Index := 0#32
  ![0, v107.toNat, 0, 0]

def k0_off16 (v106 : BitVec 32) : Fin 4 → Nat :=
  let c0_110 : Index := 0#32
  let c1_i32_109 : BitVec 32 := 1#32
  let v113 : BitVec 32 := Scalar.addi v106 c1_i32_109
  let v114 : Index := Scalar.indexCast v113
  let c0_111 : Index := 0#32
  let c0_112 : Index := 0#32
  ![0, v114.toNat, 0, 0]

def k0_chk8 (v106 : BitVec 32) : Prop :=
  (∀ a, (k0_off15 v106) a + S1x1x1x128.size a ≤ S1x33344x1x128.size a) ∧
  (∀ a, (k0_off16 v106) a + S1x1x1x128.size a ≤ S1x33344x1x128.size a)
theorem k0_off15_inb : ∀ (v106 : BitVec 32) (k0_hw8 : k0_chk8 v106), ∀ a, (k0_off15 v106) a + S1x1x1x128.size a ≤ S1x33344x1x128.size a := fun v106 k0_hw8 => k0_hw8.1
theorem k0_off16_inb : ∀ (v106 : BitVec 32) (k0_hw8 : k0_chk8 v106), ∀ a, (k0_off16 v106) a + S1x1x1x128.size a ≤ S1x33344x1x128.size a := fun v106 k0_hw8 => k0_hw8.2

def k0_off17 (v120 : BitVec 32) : Fin 4 → Nat :=
  let c0_117 : Index := 0#32
  let v121 : Index := Scalar.indexCast v120
  let c0_118 : Index := 0#32
  let c0_119 : Index := 0#32
  ![0, v121.toNat, 0, 0]

def k0_off18 (v120 : BitVec 32) : Fin 4 → Nat :=
  let c0_123 : Index := 0#32
  let c1_i32_122 : BitVec 32 := 1#32
  let v127 : BitVec 32 := Scalar.addi v120 c1_i32_122
  let v128 : Index := Scalar.indexCast v127
  let c0_124 : Index := 0#32
  let c0_125 : Index := 0#32
  ![0, v128.toNat, 0, 0]

def k0_chk9 (v120 : BitVec 32) : Prop :=
  (∀ a, (k0_off17 v120) a + S1x1x1x128.size a ≤ S1x33344x1x128.size a) ∧
  (∀ a, (k0_off18 v120) a + S1x1x1x128.size a ≤ S1x33344x1x128.size a)
theorem k0_off17_inb : ∀ (v120 : BitVec 32) (k0_hw9 : k0_chk9 v120), ∀ a, (k0_off17 v120) a + S1x1x1x128.size a ≤ S1x33344x1x128.size a := fun v120 k0_hw9 => k0_hw9.1
theorem k0_off18_inb : ∀ (v120 : BitVec 32) (k0_hw9 : k0_chk9 v120), ∀ a, (k0_off18 v120) a + S1x1x1x128.size a ≤ S1x33344x1x128.size a := fun v120 k0_hw9 => k0_hw9.2

def k0_off19 (v134 : BitVec 32) : Fin 4 → Nat :=
  let c0_130 : Index := 0#32
  let v135 : Index := Scalar.indexCast v134
  let c0_131 : Index := 0#32
  let c0_132 : Index := 0#32
  ![0, v135.toNat, 0, 0]

def k0_off20 (v134 : BitVec 32) : Fin 4 → Nat :=
  let c0_136 : Index := 0#32
  let c1_i32_135 : BitVec 32 := 1#32
  let v141 : BitVec 32 := Scalar.addi v134 c1_i32_135
  let v142 : Index := Scalar.indexCast v141
  let c0_137 : Index := 0#32
  let c0_138 : Index := 0#32
  ![0, v142.toNat, 0, 0]

def k0_chk10 (v134 : BitVec 32) : Prop :=
  (∀ a, (k0_off19 v134) a + S1x1x1x128.size a ≤ S1x33344x1x128.size a) ∧
  (∀ a, (k0_off20 v134) a + S1x1x1x128.size a ≤ S1x33344x1x128.size a)
theorem k0_off19_inb : ∀ (v134 : BitVec 32) (k0_hw10 : k0_chk10 v134), ∀ a, (k0_off19 v134) a + S1x1x1x128.size a ≤ S1x33344x1x128.size a := fun v134 k0_hw10 => k0_hw10.1
theorem k0_off20_inb : ∀ (v134 : BitVec 32) (k0_hw10 : k0_chk10 v134), ∀ a, (k0_off20 v134) a + S1x1x1x128.size a ≤ S1x33344x1x128.size a := fun v134 k0_hw10 => k0_hw10.2

def k0_off21 (v148 : BitVec 32) : Fin 4 → Nat :=
  let c0_143 : Index := 0#32
  let v149 : Index := Scalar.indexCast v148
  let c0_144 : Index := 0#32
  let c0_145 : Index := 0#32
  ![0, v149.toNat, 0, 0]

def k0_off22 (v148 : BitVec 32) : Fin 4 → Nat :=
  let c0_149 : Index := 0#32
  let c1_i32_148 : BitVec 32 := 1#32
  let v155 : BitVec 32 := Scalar.addi v148 c1_i32_148
  let v156 : Index := Scalar.indexCast v155
  let c0_150 : Index := 0#32
  let c0_151 : Index := 0#32
  ![0, v156.toNat, 0, 0]

def k0_chk11 (v148 : BitVec 32) : Prop :=
  (∀ a, (k0_off21 v148) a + S1x1x1x128.size a ≤ S1x33344x1x128.size a) ∧
  (∀ a, (k0_off22 v148) a + S1x1x1x128.size a ≤ S1x33344x1x128.size a)
theorem k0_off21_inb : ∀ (v148 : BitVec 32) (k0_hw11 : k0_chk11 v148), ∀ a, (k0_off21 v148) a + S1x1x1x128.size a ≤ S1x33344x1x128.size a := fun v148 k0_hw11 => k0_hw11.1
theorem k0_off22_inb : ∀ (v148 : BitVec 32) (k0_hw11 : k0_chk11 v148), ∀ a, (k0_off22 v148) a + S1x1x1x128.size a ≤ S1x33344x1x128.size a := fun v148 k0_hw11 => k0_hw11.2

def k0_off23 (v162 : BitVec 32) : Fin 4 → Nat :=
  let c0_156 : Index := 0#32
  let v163 : Index := Scalar.indexCast v162
  let c0_157 : Index := 0#32
  let c0_158 : Index := 0#32
  ![0, v163.toNat, 0, 0]

def k0_off24 (v162 : BitVec 32) : Fin 4 → Nat :=
  let c0_162 : Index := 0#32
  let c1_i32_161 : BitVec 32 := 1#32
  let v169 : BitVec 32 := Scalar.addi v162 c1_i32_161
  let v170 : Index := Scalar.indexCast v169
  let c0_163 : Index := 0#32
  let c0_164 : Index := 0#32
  ![0, v170.toNat, 0, 0]

def k0_chk12 (v162 : BitVec 32) : Prop :=
  (∀ a, (k0_off23 v162) a + S1x1x1x128.size a ≤ S1x33344x1x128.size a) ∧
  (∀ a, (k0_off24 v162) a + S1x1x1x128.size a ≤ S1x33344x1x128.size a)
theorem k0_off23_inb : ∀ (v162 : BitVec 32) (k0_hw12 : k0_chk12 v162), ∀ a, (k0_off23 v162) a + S1x1x1x128.size a ≤ S1x33344x1x128.size a := fun v162 k0_hw12 => k0_hw12.1
theorem k0_off24_inb : ∀ (v162 : BitVec 32) (k0_hw12 : k0_chk12 v162), ∀ a, (k0_off24 v162) a + S1x1x1x128.size a ≤ S1x33344x1x128.size a := fun v162 k0_hw12 => k0_hw12.2

def k0_off25 (v176 : BitVec 32) : Fin 4 → Nat :=
  let c0_169 : Index := 0#32
  let v177 : Index := Scalar.indexCast v176
  let c0_170 : Index := 0#32
  let c0_171 : Index := 0#32
  ![0, v177.toNat, 0, 0]

def k0_off26 (v176 : BitVec 32) : Fin 4 → Nat :=
  let c0_175 : Index := 0#32
  let c1_i32_174 : BitVec 32 := 1#32
  let v183 : BitVec 32 := Scalar.addi v176 c1_i32_174
  let v184 : Index := Scalar.indexCast v183
  let c0_176 : Index := 0#32
  let c0_177 : Index := 0#32
  ![0, v184.toNat, 0, 0]

def k0_chk13 (v176 : BitVec 32) : Prop :=
  (∀ a, (k0_off25 v176) a + S1x1x1x128.size a ≤ S1x33344x1x128.size a) ∧
  (∀ a, (k0_off26 v176) a + S1x1x1x128.size a ≤ S1x33344x1x128.size a)
theorem k0_off25_inb : ∀ (v176 : BitVec 32) (k0_hw13 : k0_chk13 v176), ∀ a, (k0_off25 v176) a + S1x1x1x128.size a ≤ S1x33344x1x128.size a := fun v176 k0_hw13 => k0_hw13.1
theorem k0_off26_inb : ∀ (v176 : BitVec 32) (k0_hw13 : k0_chk13 v176), ∀ a, (k0_off26 v176) a + S1x1x1x128.size a ≤ S1x33344x1x128.size a := fun v176 k0_hw13 => k0_hw13.2

def k0_off27 (v190 : BitVec 32) : Fin 4 → Nat :=
  let c0_182 : Index := 0#32
  let v191 : Index := Scalar.indexCast v190
  let c0_183 : Index := 0#32
  let c0_184 : Index := 0#32
  ![0, v191.toNat, 0, 0]

def k0_off28 (v190 : BitVec 32) : Fin 4 → Nat :=
  let c0_188 : Index := 0#32
  let c1_i32_187 : BitVec 32 := 1#32
  let v197 : BitVec 32 := Scalar.addi v190 c1_i32_187
  let v198 : Index := Scalar.indexCast v197
  let c0_189 : Index := 0#32
  let c0_190 : Index := 0#32
  ![0, v198.toNat, 0, 0]

def k0_chk14 (v190 : BitVec 32) : Prop :=
  (∀ a, (k0_off27 v190) a + S1x1x1x128.size a ≤ S1x33344x1x128.size a) ∧
  (∀ a, (k0_off28 v190) a + S1x1x1x128.size a ≤ S1x33344x1x128.size a)
theorem k0_off27_inb : ∀ (v190 : BitVec 32) (k0_hw14 : k0_chk14 v190), ∀ a, (k0_off27 v190) a + S1x1x1x128.size a ≤ S1x33344x1x128.size a := fun v190 k0_hw14 => k0_hw14.1
theorem k0_off28_inb : ∀ (v190 : BitVec 32) (k0_hw14 : k0_chk14 v190), ∀ a, (k0_off28 v190) a + S1x1x1x128.size a ≤ S1x33344x1x128.size a := fun v190 k0_hw14 => k0_hw14.2

def k0_off29 (v204 : BitVec 32) : Fin 4 → Nat :=
  let c0_195 : Index := 0#32
  let v205 : Index := Scalar.indexCast v204
  let c0_196 : Index := 0#32
  let c0_197 : Index := 0#32
  ![0, v205.toNat, 0, 0]

def k0_off30 (v204 : BitVec 32) : Fin 4 → Nat :=
  let c0_201 : Index := 0#32
  let c1_i32_200 : BitVec 32 := 1#32
  let v211 : BitVec 32 := Scalar.addi v204 c1_i32_200
  let v212 : Index := Scalar.indexCast v211
  let c0_202 : Index := 0#32
  let c0_203 : Index := 0#32
  ![0, v212.toNat, 0, 0]

def k0_chk15 (v204 : BitVec 32) : Prop :=
  (∀ a, (k0_off29 v204) a + S1x1x1x128.size a ≤ S1x33344x1x128.size a) ∧
  (∀ a, (k0_off30 v204) a + S1x1x1x128.size a ≤ S1x33344x1x128.size a)
theorem k0_off29_inb : ∀ (v204 : BitVec 32) (k0_hw15 : k0_chk15 v204), ∀ a, (k0_off29 v204) a + S1x1x1x128.size a ≤ S1x33344x1x128.size a := fun v204 k0_hw15 => k0_hw15.1
theorem k0_off30_inb : ∀ (v204 : BitVec 32) (k0_hw15 : k0_chk15 v204), ∀ a, (k0_off30 v204) a + S1x1x1x128.size a ≤ S1x33344x1x128.size a := fun v204 k0_hw15 => k0_hw15.2

def k0_off31 (v218 : BitVec 32) : Fin 4 → Nat :=
  let c0_208 : Index := 0#32
  let v219 : Index := Scalar.indexCast v218
  let c0_209 : Index := 0#32
  let c0_210 : Index := 0#32
  ![0, v219.toNat, 0, 0]

def k0_off32 (v218 : BitVec 32) : Fin 4 → Nat :=
  let c0_214 : Index := 0#32
  let c1_i32_213 : BitVec 32 := 1#32
  let v225 : BitVec 32 := Scalar.addi v218 c1_i32_213
  let v226 : Index := Scalar.indexCast v225
  let c0_215 : Index := 0#32
  let c0_216 : Index := 0#32
  ![0, v226.toNat, 0, 0]

def k0_chk16 (v218 : BitVec 32) : Prop :=
  (∀ a, (k0_off31 v218) a + S1x1x1x128.size a ≤ S1x33344x1x128.size a) ∧
  (∀ a, (k0_off32 v218) a + S1x1x1x128.size a ≤ S1x33344x1x128.size a)
theorem k0_off31_inb : ∀ (v218 : BitVec 32) (k0_hw16 : k0_chk16 v218), ∀ a, (k0_off31 v218) a + S1x1x1x128.size a ≤ S1x33344x1x128.size a := fun v218 k0_hw16 => k0_hw16.1
theorem k0_off32_inb : ∀ (v218 : BitVec 32) (k0_hw16 : k0_chk16 v218), ∀ a, (k0_off32 v218) a + S1x1x1x128.size a ≤ S1x33344x1x128.size a := fun v218 k0_hw16 => k0_hw16.2

def k0_off33 (v232 : BitVec 32) : Fin 4 → Nat :=
  let c0_221 : Index := 0#32
  let v233 : Index := Scalar.indexCast v232
  let c0_222 : Index := 0#32
  let c0_223 : Index := 0#32
  ![0, v233.toNat, 0, 0]

def k0_off34 (v232 : BitVec 32) : Fin 4 → Nat :=
  let c0_227 : Index := 0#32
  let c1_i32_226 : BitVec 32 := 1#32
  let v239 : BitVec 32 := Scalar.addi v232 c1_i32_226
  let v240 : Index := Scalar.indexCast v239
  let c0_228 : Index := 0#32
  let c0_229 : Index := 0#32
  ![0, v240.toNat, 0, 0]

def k0_chk17 (v232 : BitVec 32) : Prop :=
  (∀ a, (k0_off33 v232) a + S1x1x1x128.size a ≤ S1x33344x1x128.size a) ∧
  (∀ a, (k0_off34 v232) a + S1x1x1x128.size a ≤ S1x33344x1x128.size a)
theorem k0_off33_inb : ∀ (v232 : BitVec 32) (k0_hw17 : k0_chk17 v232), ∀ a, (k0_off33 v232) a + S1x1x1x128.size a ≤ S1x33344x1x128.size a := fun v232 k0_hw17 => k0_hw17.1
theorem k0_off34_inb : ∀ (v232 : BitVec 32) (k0_hw17 : k0_chk17 v232), ∀ a, (k0_off34 v232) a + S1x1x1x128.size a ≤ S1x33344x1x128.size a := fun v232 k0_hw17 => k0_hw17.2

def k0_off35 (v246 : BitVec 32) : Fin 4 → Nat :=
  let c0_234 : Index := 0#32
  let v247 : Index := Scalar.indexCast v246
  let c0_235 : Index := 0#32
  let c0_236 : Index := 0#32
  ![0, v247.toNat, 0, 0]

def k0_off36 (v246 : BitVec 32) : Fin 4 → Nat :=
  let c0_240 : Index := 0#32
  let c1_i32_239 : BitVec 32 := 1#32
  let v253 : BitVec 32 := Scalar.addi v246 c1_i32_239
  let v254 : Index := Scalar.indexCast v253
  let c0_241 : Index := 0#32
  let c0_242 : Index := 0#32
  ![0, v254.toNat, 0, 0]

def k0_chk18 (v246 : BitVec 32) : Prop :=
  (∀ a, (k0_off35 v246) a + S1x1x1x128.size a ≤ S1x33344x1x128.size a) ∧
  (∀ a, (k0_off36 v246) a + S1x1x1x128.size a ≤ S1x33344x1x128.size a)
theorem k0_off35_inb : ∀ (v246 : BitVec 32) (k0_hw18 : k0_chk18 v246), ∀ a, (k0_off35 v246) a + S1x1x1x128.size a ≤ S1x33344x1x128.size a := fun v246 k0_hw18 => k0_hw18.1
theorem k0_off36_inb : ∀ (v246 : BitVec 32) (k0_hw18 : k0_chk18 v246), ∀ a, (k0_off36 v246) a + S1x1x1x128.size a ≤ S1x33344x1x128.size a := fun v246 k0_hw18 => k0_hw18.2

def k0_off37 (v260 : BitVec 32) : Fin 4 → Nat :=
  let c0_247 : Index := 0#32
  let v261 : Index := Scalar.indexCast v260
  let c0_248 : Index := 0#32
  let c0_249 : Index := 0#32
  ![0, v261.toNat, 0, 0]

def k0_off38 (v260 : BitVec 32) : Fin 4 → Nat :=
  let c0_253 : Index := 0#32
  let c1_i32_252 : BitVec 32 := 1#32
  let v267 : BitVec 32 := Scalar.addi v260 c1_i32_252
  let v268 : Index := Scalar.indexCast v267
  let c0_254 : Index := 0#32
  let c0_255 : Index := 0#32
  ![0, v268.toNat, 0, 0]

def k0_chk19 (v260 : BitVec 32) : Prop :=
  (∀ a, (k0_off37 v260) a + S1x1x1x128.size a ≤ S1x33344x1x128.size a) ∧
  (∀ a, (k0_off38 v260) a + S1x1x1x128.size a ≤ S1x33344x1x128.size a)
theorem k0_off37_inb : ∀ (v260 : BitVec 32) (k0_hw19 : k0_chk19 v260), ∀ a, (k0_off37 v260) a + S1x1x1x128.size a ≤ S1x33344x1x128.size a := fun v260 k0_hw19 => k0_hw19.1
theorem k0_off38_inb : ∀ (v260 : BitVec 32) (k0_hw19 : k0_chk19 v260), ∀ a, (k0_off38 v260) a + S1x1x1x128.size a ≤ S1x33344x1x128.size a := fun v260 k0_hw19 => k0_hw19.2

def k0_off39 (v274 : BitVec 32) : Fin 4 → Nat :=
  let c0_260 : Index := 0#32
  let v275 : Index := Scalar.indexCast v274
  let c0_261 : Index := 0#32
  let c0_262 : Index := 0#32
  ![0, v275.toNat, 0, 0]

def k0_off40 (v274 : BitVec 32) : Fin 4 → Nat :=
  let c0_266 : Index := 0#32
  let c1_i32_265 : BitVec 32 := 1#32
  let v281 : BitVec 32 := Scalar.addi v274 c1_i32_265
  let v282 : Index := Scalar.indexCast v281
  let c0_267 : Index := 0#32
  let c0_268 : Index := 0#32
  ![0, v282.toNat, 0, 0]

def k0_chk20 (v274 : BitVec 32) : Prop :=
  (∀ a, (k0_off39 v274) a + S1x1x1x128.size a ≤ S1x33344x1x128.size a) ∧
  (∀ a, (k0_off40 v274) a + S1x1x1x128.size a ≤ S1x33344x1x128.size a)
theorem k0_off39_inb : ∀ (v274 : BitVec 32) (k0_hw20 : k0_chk20 v274), ∀ a, (k0_off39 v274) a + S1x1x1x128.size a ≤ S1x33344x1x128.size a := fun v274 k0_hw20 => k0_hw20.1
theorem k0_off40_inb : ∀ (v274 : BitVec 32) (k0_hw20 : k0_chk20 v274), ∀ a, (k0_off40 v274) a + S1x1x1x128.size a ≤ S1x33344x1x128.size a := fun v274 k0_hw20 => k0_hw20.2

def k0_off41 (v288 : BitVec 32) : Fin 4 → Nat :=
  let c0_273 : Index := 0#32
  let v289 : Index := Scalar.indexCast v288
  let c0_274 : Index := 0#32
  let c0_275 : Index := 0#32
  ![0, v289.toNat, 0, 0]

def k0_off42 (v288 : BitVec 32) : Fin 4 → Nat :=
  let c0_279 : Index := 0#32
  let c1_i32_278 : BitVec 32 := 1#32
  let v295 : BitVec 32 := Scalar.addi v288 c1_i32_278
  let v296 : Index := Scalar.indexCast v295
  let c0_280 : Index := 0#32
  let c0_281 : Index := 0#32
  ![0, v296.toNat, 0, 0]

def k0_chk21 (v288 : BitVec 32) : Prop :=
  (∀ a, (k0_off41 v288) a + S1x1x1x128.size a ≤ S1x33344x1x128.size a) ∧
  (∀ a, (k0_off42 v288) a + S1x1x1x128.size a ≤ S1x33344x1x128.size a)
theorem k0_off41_inb : ∀ (v288 : BitVec 32) (k0_hw21 : k0_chk21 v288), ∀ a, (k0_off41 v288) a + S1x1x1x128.size a ≤ S1x33344x1x128.size a := fun v288 k0_hw21 => k0_hw21.1
theorem k0_off42_inb : ∀ (v288 : BitVec 32) (k0_hw21 : k0_chk21 v288), ∀ a, (k0_off42 v288) a + S1x1x1x128.size a ≤ S1x33344x1x128.size a := fun v288 k0_hw21 => k0_hw21.2

def k0_off43 (v302 : BitVec 32) : Fin 4 → Nat :=
  let c0_286 : Index := 0#32
  let v303 : Index := Scalar.indexCast v302
  let c0_287 : Index := 0#32
  let c0_288 : Index := 0#32
  ![0, v303.toNat, 0, 0]

def k0_off44 (v302 : BitVec 32) : Fin 4 → Nat :=
  let c0_292 : Index := 0#32
  let c1_i32_291 : BitVec 32 := 1#32
  let v309 : BitVec 32 := Scalar.addi v302 c1_i32_291
  let v310 : Index := Scalar.indexCast v309
  let c0_293 : Index := 0#32
  let c0_294 : Index := 0#32
  ![0, v310.toNat, 0, 0]

def k0_chk22 (v302 : BitVec 32) : Prop :=
  (∀ a, (k0_off43 v302) a + S1x1x1x128.size a ≤ S1x33344x1x128.size a) ∧
  (∀ a, (k0_off44 v302) a + S1x1x1x128.size a ≤ S1x33344x1x128.size a)
theorem k0_off43_inb : ∀ (v302 : BitVec 32) (k0_hw22 : k0_chk22 v302), ∀ a, (k0_off43 v302) a + S1x1x1x128.size a ≤ S1x33344x1x128.size a := fun v302 k0_hw22 => k0_hw22.1
theorem k0_off44_inb : ∀ (v302 : BitVec 32) (k0_hw22 : k0_chk22 v302), ∀ a, (k0_off44 v302) a + S1x1x1x128.size a ≤ S1x33344x1x128.size a := fun v302 k0_hw22 => k0_hw22.2

def k0_off45 (v316 : BitVec 32) : Fin 4 → Nat :=
  let c0_299 : Index := 0#32
  let v317 : Index := Scalar.indexCast v316
  let c0_300 : Index := 0#32
  let c0_301 : Index := 0#32
  ![0, v317.toNat, 0, 0]

def k0_off46 (v316 : BitVec 32) : Fin 4 → Nat :=
  let c0_305 : Index := 0#32
  let c1_i32_304 : BitVec 32 := 1#32
  let v323 : BitVec 32 := Scalar.addi v316 c1_i32_304
  let v324 : Index := Scalar.indexCast v323
  let c0_306 : Index := 0#32
  let c0_307 : Index := 0#32
  ![0, v324.toNat, 0, 0]

def k0_chk23 (v316 : BitVec 32) : Prop :=
  (∀ a, (k0_off45 v316) a + S1x1x1x128.size a ≤ S1x33344x1x128.size a) ∧
  (∀ a, (k0_off46 v316) a + S1x1x1x128.size a ≤ S1x33344x1x128.size a)
theorem k0_off45_inb : ∀ (v316 : BitVec 32) (k0_hw23 : k0_chk23 v316), ∀ a, (k0_off45 v316) a + S1x1x1x128.size a ≤ S1x33344x1x128.size a := fun v316 k0_hw23 => k0_hw23.1
theorem k0_off46_inb : ∀ (v316 : BitVec 32) (k0_hw23 : k0_chk23 v316), ∀ a, (k0_off46 v316) a + S1x1x1x128.size a ≤ S1x33344x1x128.size a := fun v316 k0_hw23 => k0_hw23.2

def k0_off47 (v330 : BitVec 32) : Fin 4 → Nat :=
  let c0_312 : Index := 0#32
  let v331 : Index := Scalar.indexCast v330
  let c0_313 : Index := 0#32
  let c0_314 : Index := 0#32
  ![0, v331.toNat, 0, 0]

def k0_off48 (v330 : BitVec 32) : Fin 4 → Nat :=
  let c0_318 : Index := 0#32
  let c1_i32_317 : BitVec 32 := 1#32
  let v337 : BitVec 32 := Scalar.addi v330 c1_i32_317
  let v338 : Index := Scalar.indexCast v337
  let c0_319 : Index := 0#32
  let c0_320 : Index := 0#32
  ![0, v338.toNat, 0, 0]

def k0_chk24 (v330 : BitVec 32) : Prop :=
  (∀ a, (k0_off47 v330) a + S1x1x1x128.size a ≤ S1x33344x1x128.size a) ∧
  (∀ a, (k0_off48 v330) a + S1x1x1x128.size a ≤ S1x33344x1x128.size a)
theorem k0_off47_inb : ∀ (v330 : BitVec 32) (k0_hw24 : k0_chk24 v330), ∀ a, (k0_off47 v330) a + S1x1x1x128.size a ≤ S1x33344x1x128.size a := fun v330 k0_hw24 => k0_hw24.1
theorem k0_off48_inb : ∀ (v330 : BitVec 32) (k0_hw24 : k0_chk24 v330), ∀ a, (k0_off48 v330) a + S1x1x1x128.size a ≤ S1x33344x1x128.size a := fun v330 k0_hw24 => k0_hw24.2

def k0_off49 (v344 : BitVec 32) : Fin 4 → Nat :=
  let c0_325 : Index := 0#32
  let v345 : Index := Scalar.indexCast v344
  let c0_326 : Index := 0#32
  let c0_327 : Index := 0#32
  ![0, v345.toNat, 0, 0]

def k0_off50 (v344 : BitVec 32) : Fin 4 → Nat :=
  let c0_331 : Index := 0#32
  let c1_i32_330 : BitVec 32 := 1#32
  let v351 : BitVec 32 := Scalar.addi v344 c1_i32_330
  let v352 : Index := Scalar.indexCast v351
  let c0_332 : Index := 0#32
  let c0_333 : Index := 0#32
  ![0, v352.toNat, 0, 0]

def k0_chk25 (v344 : BitVec 32) : Prop :=
  (∀ a, (k0_off49 v344) a + S1x1x1x128.size a ≤ S1x33344x1x128.size a) ∧
  (∀ a, (k0_off50 v344) a + S1x1x1x128.size a ≤ S1x33344x1x128.size a)
theorem k0_off49_inb : ∀ (v344 : BitVec 32) (k0_hw25 : k0_chk25 v344), ∀ a, (k0_off49 v344) a + S1x1x1x128.size a ≤ S1x33344x1x128.size a := fun v344 k0_hw25 => k0_hw25.1
theorem k0_off50_inb : ∀ (v344 : BitVec 32) (k0_hw25 : k0_chk25 v344), ∀ a, (k0_off50 v344) a + S1x1x1x128.size a ≤ S1x33344x1x128.size a := fun v344 k0_hw25 => k0_hw25.2

def k0_off51 (v358 : BitVec 32) : Fin 4 → Nat :=
  let c0_338 : Index := 0#32
  let v359 : Index := Scalar.indexCast v358
  let c0_339 : Index := 0#32
  let c0_340 : Index := 0#32
  ![0, v359.toNat, 0, 0]

def k0_off52 (v358 : BitVec 32) : Fin 4 → Nat :=
  let c0_344 : Index := 0#32
  let c1_i32_343 : BitVec 32 := 1#32
  let v365 : BitVec 32 := Scalar.addi v358 c1_i32_343
  let v366 : Index := Scalar.indexCast v365
  let c0_345 : Index := 0#32
  let c0_346 : Index := 0#32
  ![0, v366.toNat, 0, 0]

def k0_chk26 (v358 : BitVec 32) : Prop :=
  (∀ a, (k0_off51 v358) a + S1x1x1x128.size a ≤ S1x33344x1x128.size a) ∧
  (∀ a, (k0_off52 v358) a + S1x1x1x128.size a ≤ S1x33344x1x128.size a)
theorem k0_off51_inb : ∀ (v358 : BitVec 32) (k0_hw26 : k0_chk26 v358), ∀ a, (k0_off51 v358) a + S1x1x1x128.size a ≤ S1x33344x1x128.size a := fun v358 k0_hw26 => k0_hw26.1
theorem k0_off52_inb : ∀ (v358 : BitVec 32) (k0_hw26 : k0_chk26 v358), ∀ a, (k0_off52 v358) a + S1x1x1x128.size a ≤ S1x33344x1x128.size a := fun v358 k0_hw26 => k0_hw26.2

def k0_off53 (v372 : BitVec 32) : Fin 4 → Nat :=
  let c0_351 : Index := 0#32
  let v373 : Index := Scalar.indexCast v372
  let c0_352 : Index := 0#32
  let c0_353 : Index := 0#32
  ![0, v373.toNat, 0, 0]

def k0_off54 (v372 : BitVec 32) : Fin 4 → Nat :=
  let c0_357 : Index := 0#32
  let c1_i32_356 : BitVec 32 := 1#32
  let v379 : BitVec 32 := Scalar.addi v372 c1_i32_356
  let v380 : Index := Scalar.indexCast v379
  let c0_358 : Index := 0#32
  let c0_359 : Index := 0#32
  ![0, v380.toNat, 0, 0]

def k0_chk27 (v372 : BitVec 32) : Prop :=
  (∀ a, (k0_off53 v372) a + S1x1x1x128.size a ≤ S1x33344x1x128.size a) ∧
  (∀ a, (k0_off54 v372) a + S1x1x1x128.size a ≤ S1x33344x1x128.size a)
theorem k0_off53_inb : ∀ (v372 : BitVec 32) (k0_hw27 : k0_chk27 v372), ∀ a, (k0_off53 v372) a + S1x1x1x128.size a ≤ S1x33344x1x128.size a := fun v372 k0_hw27 => k0_hw27.1
theorem k0_off54_inb : ∀ (v372 : BitVec 32) (k0_hw27 : k0_chk27 v372), ∀ a, (k0_off54 v372) a + S1x1x1x128.size a ≤ S1x33344x1x128.size a := fun v372 k0_hw27 => k0_hw27.2

def k0_off55 (v386 : BitVec 32) : Fin 4 → Nat :=
  let c0_364 : Index := 0#32
  let v387 : Index := Scalar.indexCast v386
  let c0_365 : Index := 0#32
  let c0_366 : Index := 0#32
  ![0, v387.toNat, 0, 0]

def k0_off56 (v386 : BitVec 32) : Fin 4 → Nat :=
  let c0_370 : Index := 0#32
  let c1_i32_369 : BitVec 32 := 1#32
  let v393 : BitVec 32 := Scalar.addi v386 c1_i32_369
  let v394 : Index := Scalar.indexCast v393
  let c0_371 : Index := 0#32
  let c0_372 : Index := 0#32
  ![0, v394.toNat, 0, 0]

def k0_chk28 (v386 : BitVec 32) : Prop :=
  (∀ a, (k0_off55 v386) a + S1x1x1x128.size a ≤ S1x33344x1x128.size a) ∧
  (∀ a, (k0_off56 v386) a + S1x1x1x128.size a ≤ S1x33344x1x128.size a)
theorem k0_off55_inb : ∀ (v386 : BitVec 32) (k0_hw28 : k0_chk28 v386), ∀ a, (k0_off55 v386) a + S1x1x1x128.size a ≤ S1x33344x1x128.size a := fun v386 k0_hw28 => k0_hw28.1
theorem k0_off56_inb : ∀ (v386 : BitVec 32) (k0_hw28 : k0_chk28 v386), ∀ a, (k0_off56 v386) a + S1x1x1x128.size a ≤ S1x33344x1x128.size a := fun v386 k0_hw28 => k0_hw28.2

def k0_off57 (v400 : BitVec 32) : Fin 4 → Nat :=
  let c0_377 : Index := 0#32
  let v401 : Index := Scalar.indexCast v400
  let c0_378 : Index := 0#32
  let c0_379 : Index := 0#32
  ![0, v401.toNat, 0, 0]

def k0_off58 (v400 : BitVec 32) : Fin 4 → Nat :=
  let c0_383 : Index := 0#32
  let c1_i32_382 : BitVec 32 := 1#32
  let v407 : BitVec 32 := Scalar.addi v400 c1_i32_382
  let v408 : Index := Scalar.indexCast v407
  let c0_384 : Index := 0#32
  let c0_385 : Index := 0#32
  ![0, v408.toNat, 0, 0]

def k0_chk29 (v400 : BitVec 32) : Prop :=
  (∀ a, (k0_off57 v400) a + S1x1x1x128.size a ≤ S1x33344x1x128.size a) ∧
  (∀ a, (k0_off58 v400) a + S1x1x1x128.size a ≤ S1x33344x1x128.size a)
theorem k0_off57_inb : ∀ (v400 : BitVec 32) (k0_hw29 : k0_chk29 v400), ∀ a, (k0_off57 v400) a + S1x1x1x128.size a ≤ S1x33344x1x128.size a := fun v400 k0_hw29 => k0_hw29.1
theorem k0_off58_inb : ∀ (v400 : BitVec 32) (k0_hw29 : k0_chk29 v400), ∀ a, (k0_off58 v400) a + S1x1x1x128.size a ≤ S1x33344x1x128.size a := fun v400 k0_hw29 => k0_hw29.2

def k0_off59 (v414 : BitVec 32) : Fin 4 → Nat :=
  let c0_390 : Index := 0#32
  let v415 : Index := Scalar.indexCast v414
  let c0_391 : Index := 0#32
  let c0_392 : Index := 0#32
  ![0, v415.toNat, 0, 0]

def k0_off60 (v414 : BitVec 32) : Fin 4 → Nat :=
  let c0_396 : Index := 0#32
  let c1_i32_395 : BitVec 32 := 1#32
  let v421 : BitVec 32 := Scalar.addi v414 c1_i32_395
  let v422 : Index := Scalar.indexCast v421
  let c0_397 : Index := 0#32
  let c0_398 : Index := 0#32
  ![0, v422.toNat, 0, 0]

def k0_chk30 (v414 : BitVec 32) : Prop :=
  (∀ a, (k0_off59 v414) a + S1x1x1x128.size a ≤ S1x33344x1x128.size a) ∧
  (∀ a, (k0_off60 v414) a + S1x1x1x128.size a ≤ S1x33344x1x128.size a)
theorem k0_off59_inb : ∀ (v414 : BitVec 32) (k0_hw30 : k0_chk30 v414), ∀ a, (k0_off59 v414) a + S1x1x1x128.size a ≤ S1x33344x1x128.size a := fun v414 k0_hw30 => k0_hw30.1
theorem k0_off60_inb : ∀ (v414 : BitVec 32) (k0_hw30 : k0_chk30 v414), ∀ a, (k0_off60 v414) a + S1x1x1x128.size a ≤ S1x33344x1x128.size a := fun v414 k0_hw30 => k0_hw30.2

def k0_off61 (v428 : BitVec 32) : Fin 4 → Nat :=
  let c0_403 : Index := 0#32
  let v429 : Index := Scalar.indexCast v428
  let c0_404 : Index := 0#32
  let c0_405 : Index := 0#32
  ![0, v429.toNat, 0, 0]

def k0_off62 (v428 : BitVec 32) : Fin 4 → Nat :=
  let c0_409 : Index := 0#32
  let c1_i32_408 : BitVec 32 := 1#32
  let v435 : BitVec 32 := Scalar.addi v428 c1_i32_408
  let v436 : Index := Scalar.indexCast v435
  let c0_410 : Index := 0#32
  let c0_411 : Index := 0#32
  ![0, v436.toNat, 0, 0]

def k0_chk31 (v428 : BitVec 32) : Prop :=
  (∀ a, (k0_off61 v428) a + S1x1x1x128.size a ≤ S1x33344x1x128.size a) ∧
  (∀ a, (k0_off62 v428) a + S1x1x1x128.size a ≤ S1x33344x1x128.size a)
theorem k0_off61_inb : ∀ (v428 : BitVec 32) (k0_hw31 : k0_chk31 v428), ∀ a, (k0_off61 v428) a + S1x1x1x128.size a ≤ S1x33344x1x128.size a := fun v428 k0_hw31 => k0_hw31.1
theorem k0_off62_inb : ∀ (v428 : BitVec 32) (k0_hw31 : k0_chk31 v428), ∀ a, (k0_off62 v428) a + S1x1x1x128.size a ≤ S1x33344x1x128.size a := fun v428 k0_hw31 => k0_hw31.2

def k0_off63 (v442 : BitVec 32) : Fin 4 → Nat :=
  let c0_416 : Index := 0#32
  let v443 : Index := Scalar.indexCast v442
  let c0_417 : Index := 0#32
  let c0_418 : Index := 0#32
  ![0, v443.toNat, 0, 0]

def k0_off64 (v442 : BitVec 32) : Fin 4 → Nat :=
  let c0_422 : Index := 0#32
  let c1_i32_421 : BitVec 32 := 1#32
  let v449 : BitVec 32 := Scalar.addi v442 c1_i32_421
  let v450 : Index := Scalar.indexCast v449
  let c0_423 : Index := 0#32
  let c0_424 : Index := 0#32
  ![0, v450.toNat, 0, 0]

def k0_chk32 (v442 : BitVec 32) : Prop :=
  (∀ a, (k0_off63 v442) a + S1x1x1x128.size a ≤ S1x33344x1x128.size a) ∧
  (∀ a, (k0_off64 v442) a + S1x1x1x128.size a ≤ S1x33344x1x128.size a)
theorem k0_off63_inb : ∀ (v442 : BitVec 32) (k0_hw32 : k0_chk32 v442), ∀ a, (k0_off63 v442) a + S1x1x1x128.size a ≤ S1x33344x1x128.size a := fun v442 k0_hw32 => k0_hw32.1
theorem k0_off64_inb : ∀ (v442 : BitVec 32) (k0_hw32 : k0_chk32 v442), ∀ a, (k0_off64 v442) a + S1x1x1x128.size a ≤ S1x33344x1x128.size a := fun v442 k0_hw32 => k0_hw32.2

def k0_off65 (v456 : BitVec 32) : Fin 4 → Nat :=
  let c0_429 : Index := 0#32
  let v457 : Index := Scalar.indexCast v456
  let c0_430 : Index := 0#32
  let c0_431 : Index := 0#32
  ![0, v457.toNat, 0, 0]

def k0_off66 (v456 : BitVec 32) : Fin 4 → Nat :=
  let c0_435 : Index := 0#32
  let c1_i32_434 : BitVec 32 := 1#32
  let v463 : BitVec 32 := Scalar.addi v456 c1_i32_434
  let v464 : Index := Scalar.indexCast v463
  let c0_436 : Index := 0#32
  let c0_437 : Index := 0#32
  ![0, v464.toNat, 0, 0]

def k0_chk33 (v456 : BitVec 32) : Prop :=
  (∀ a, (k0_off65 v456) a + S1x1x1x128.size a ≤ S1x33344x1x128.size a) ∧
  (∀ a, (k0_off66 v456) a + S1x1x1x128.size a ≤ S1x33344x1x128.size a)
theorem k0_off65_inb : ∀ (v456 : BitVec 32) (k0_hw33 : k0_chk33 v456), ∀ a, (k0_off65 v456) a + S1x1x1x128.size a ≤ S1x33344x1x128.size a := fun v456 k0_hw33 => k0_hw33.1
theorem k0_off66_inb : ∀ (v456 : BitVec 32) (k0_hw33 : k0_chk33 v456), ∀ a, (k0_off66 v456) a + S1x1x1x128.size a ≤ S1x33344x1x128.size a := fun v456 k0_hw33 => k0_hw33.2

def k0_off67 (v470 : BitVec 32) : Fin 4 → Nat :=
  let c0_442 : Index := 0#32
  let v471 : Index := Scalar.indexCast v470
  let c0_443 : Index := 0#32
  let c0_444 : Index := 0#32
  ![0, v471.toNat, 0, 0]

def k0_off68 (v470 : BitVec 32) : Fin 4 → Nat :=
  let c0_448 : Index := 0#32
  let c1_i32_447 : BitVec 32 := 1#32
  let v477 : BitVec 32 := Scalar.addi v470 c1_i32_447
  let v478 : Index := Scalar.indexCast v477
  let c0_449 : Index := 0#32
  let c0_450 : Index := 0#32
  ![0, v478.toNat, 0, 0]

def k0_chk34 (v470 : BitVec 32) : Prop :=
  (∀ a, (k0_off67 v470) a + S1x1x1x128.size a ≤ S1x33344x1x128.size a) ∧
  (∀ a, (k0_off68 v470) a + S1x1x1x128.size a ≤ S1x33344x1x128.size a)
theorem k0_off67_inb : ∀ (v470 : BitVec 32) (k0_hw34 : k0_chk34 v470), ∀ a, (k0_off67 v470) a + S1x1x1x128.size a ≤ S1x33344x1x128.size a := fun v470 k0_hw34 => k0_hw34.1
theorem k0_off68_inb : ∀ (v470 : BitVec 32) (k0_hw34 : k0_chk34 v470), ∀ a, (k0_off68 v470) a + S1x1x1x128.size a ≤ S1x33344x1x128.size a := fun v470 k0_hw34 => k0_hw34.2

def k0_off69 (v484 : BitVec 32) : Fin 4 → Nat :=
  let c0_455 : Index := 0#32
  let v485 : Index := Scalar.indexCast v484
  let c0_456 : Index := 0#32
  let c0_457 : Index := 0#32
  ![0, v485.toNat, 0, 0]

def k0_off70 (v484 : BitVec 32) : Fin 4 → Nat :=
  let c0_461 : Index := 0#32
  let c1_i32_460 : BitVec 32 := 1#32
  let v491 : BitVec 32 := Scalar.addi v484 c1_i32_460
  let v492 : Index := Scalar.indexCast v491
  let c0_462 : Index := 0#32
  let c0_463 : Index := 0#32
  ![0, v492.toNat, 0, 0]

def k0_chk35 (v484 : BitVec 32) : Prop :=
  (∀ a, (k0_off69 v484) a + S1x1x1x128.size a ≤ S1x33344x1x128.size a) ∧
  (∀ a, (k0_off70 v484) a + S1x1x1x128.size a ≤ S1x33344x1x128.size a)
theorem k0_off69_inb : ∀ (v484 : BitVec 32) (k0_hw35 : k0_chk35 v484), ∀ a, (k0_off69 v484) a + S1x1x1x128.size a ≤ S1x33344x1x128.size a := fun v484 k0_hw35 => k0_hw35.1
theorem k0_off70_inb : ∀ (v484 : BitVec 32) (k0_hw35 : k0_chk35 v484), ∀ a, (k0_off70 v484) a + S1x1x1x128.size a ≤ S1x33344x1x128.size a := fun v484 k0_hw35 => k0_hw35.2

def k0_off71 (v498 : BitVec 32) : Fin 4 → Nat :=
  let c0_468 : Index := 0#32
  let v499 : Index := Scalar.indexCast v498
  let c0_469 : Index := 0#32
  let c0_470 : Index := 0#32
  ![0, v499.toNat, 0, 0]

def k0_off72 (v498 : BitVec 32) : Fin 4 → Nat :=
  let c0_474 : Index := 0#32
  let c1_i32_473 : BitVec 32 := 1#32
  let v505 : BitVec 32 := Scalar.addi v498 c1_i32_473
  let v506 : Index := Scalar.indexCast v505
  let c0_475 : Index := 0#32
  let c0_476 : Index := 0#32
  ![0, v506.toNat, 0, 0]

def k0_chk36 (v498 : BitVec 32) : Prop :=
  (∀ a, (k0_off71 v498) a + S1x1x1x128.size a ≤ S1x33344x1x128.size a) ∧
  (∀ a, (k0_off72 v498) a + S1x1x1x128.size a ≤ S1x33344x1x128.size a)
theorem k0_off71_inb : ∀ (v498 : BitVec 32) (k0_hw36 : k0_chk36 v498), ∀ a, (k0_off71 v498) a + S1x1x1x128.size a ≤ S1x33344x1x128.size a := fun v498 k0_hw36 => k0_hw36.1
theorem k0_off72_inb : ∀ (v498 : BitVec 32) (k0_hw36 : k0_chk36 v498), ∀ a, (k0_off72 v498) a + S1x1x1x128.size a ≤ S1x33344x1x128.size a := fun v498 k0_hw36 => k0_hw36.2

def k0_off73 (v512 : BitVec 32) : Fin 4 → Nat :=
  let c0_481 : Index := 0#32
  let v513 : Index := Scalar.indexCast v512
  let c0_482 : Index := 0#32
  let c0_483 : Index := 0#32
  ![0, v513.toNat, 0, 0]

def k0_off74 (v512 : BitVec 32) : Fin 4 → Nat :=
  let c0_487 : Index := 0#32
  let c1_i32_486 : BitVec 32 := 1#32
  let v519 : BitVec 32 := Scalar.addi v512 c1_i32_486
  let v520 : Index := Scalar.indexCast v519
  let c0_488 : Index := 0#32
  let c0_489 : Index := 0#32
  ![0, v520.toNat, 0, 0]

def k0_chk37 (v512 : BitVec 32) : Prop :=
  (∀ a, (k0_off73 v512) a + S1x1x1x128.size a ≤ S1x33344x1x128.size a) ∧
  (∀ a, (k0_off74 v512) a + S1x1x1x128.size a ≤ S1x33344x1x128.size a)
theorem k0_off73_inb : ∀ (v512 : BitVec 32) (k0_hw37 : k0_chk37 v512), ∀ a, (k0_off73 v512) a + S1x1x1x128.size a ≤ S1x33344x1x128.size a := fun v512 k0_hw37 => k0_hw37.1
theorem k0_off74_inb : ∀ (v512 : BitVec 32) (k0_hw37 : k0_chk37 v512), ∀ a, (k0_off74 v512) a + S1x1x1x128.size a ≤ S1x33344x1x128.size a := fun v512 k0_hw37 => k0_hw37.2

def k0_off75 (v526 : BitVec 32) : Fin 4 → Nat :=
  let c0_494 : Index := 0#32
  let v527 : Index := Scalar.indexCast v526
  let c0_495 : Index := 0#32
  let c0_496 : Index := 0#32
  ![0, v527.toNat, 0, 0]

def k0_off76 (v526 : BitVec 32) : Fin 4 → Nat :=
  let c0_500 : Index := 0#32
  let c1_i32_499 : BitVec 32 := 1#32
  let v533 : BitVec 32 := Scalar.addi v526 c1_i32_499
  let v534 : Index := Scalar.indexCast v533
  let c0_501 : Index := 0#32
  let c0_502 : Index := 0#32
  ![0, v534.toNat, 0, 0]

def k0_chk38 (v526 : BitVec 32) : Prop :=
  (∀ a, (k0_off75 v526) a + S1x1x1x128.size a ≤ S1x33344x1x128.size a) ∧
  (∀ a, (k0_off76 v526) a + S1x1x1x128.size a ≤ S1x33344x1x128.size a)
theorem k0_off75_inb : ∀ (v526 : BitVec 32) (k0_hw38 : k0_chk38 v526), ∀ a, (k0_off75 v526) a + S1x1x1x128.size a ≤ S1x33344x1x128.size a := fun v526 k0_hw38 => k0_hw38.1
theorem k0_off76_inb : ∀ (v526 : BitVec 32) (k0_hw38 : k0_chk38 v526), ∀ a, (k0_off76 v526) a + S1x1x1x128.size a ≤ S1x33344x1x128.size a := fun v526 k0_hw38 => k0_hw38.2

def k0_off77 (v540 : BitVec 32) : Fin 4 → Nat :=
  let c0_507 : Index := 0#32
  let v541 : Index := Scalar.indexCast v540
  let c0_508 : Index := 0#32
  let c0_509 : Index := 0#32
  ![0, v541.toNat, 0, 0]

def k0_off78 (v540 : BitVec 32) : Fin 4 → Nat :=
  let c0_513 : Index := 0#32
  let c1_i32_512 : BitVec 32 := 1#32
  let v547 : BitVec 32 := Scalar.addi v540 c1_i32_512
  let v548 : Index := Scalar.indexCast v547
  let c0_514 : Index := 0#32
  let c0_515 : Index := 0#32
  ![0, v548.toNat, 0, 0]

def k0_chk39 (v540 : BitVec 32) : Prop :=
  (∀ a, (k0_off77 v540) a + S1x1x1x128.size a ≤ S1x33344x1x128.size a) ∧
  (∀ a, (k0_off78 v540) a + S1x1x1x128.size a ≤ S1x33344x1x128.size a)
theorem k0_off77_inb : ∀ (v540 : BitVec 32) (k0_hw39 : k0_chk39 v540), ∀ a, (k0_off77 v540) a + S1x1x1x128.size a ≤ S1x33344x1x128.size a := fun v540 k0_hw39 => k0_hw39.1
theorem k0_off78_inb : ∀ (v540 : BitVec 32) (k0_hw39 : k0_chk39 v540), ∀ a, (k0_off78 v540) a + S1x1x1x128.size a ≤ S1x33344x1x128.size a := fun v540 k0_hw39 => k0_hw39.2

def k0_off79 (v554 : BitVec 32) : Fin 4 → Nat :=
  let c0_520 : Index := 0#32
  let v555 : Index := Scalar.indexCast v554
  let c0_521 : Index := 0#32
  let c0_522 : Index := 0#32
  ![0, v555.toNat, 0, 0]

def k0_off80 (v554 : BitVec 32) : Fin 4 → Nat :=
  let c0_526 : Index := 0#32
  let c1_i32_525 : BitVec 32 := 1#32
  let v561 : BitVec 32 := Scalar.addi v554 c1_i32_525
  let v562 : Index := Scalar.indexCast v561
  let c0_527 : Index := 0#32
  let c0_528 : Index := 0#32
  ![0, v562.toNat, 0, 0]

def k0_chk40 (v554 : BitVec 32) : Prop :=
  (∀ a, (k0_off79 v554) a + S1x1x1x128.size a ≤ S1x33344x1x128.size a) ∧
  (∀ a, (k0_off80 v554) a + S1x1x1x128.size a ≤ S1x33344x1x128.size a)
theorem k0_off79_inb : ∀ (v554 : BitVec 32) (k0_hw40 : k0_chk40 v554), ∀ a, (k0_off79 v554) a + S1x1x1x128.size a ≤ S1x33344x1x128.size a := fun v554 k0_hw40 => k0_hw40.1
theorem k0_off80_inb : ∀ (v554 : BitVec 32) (k0_hw40 : k0_chk40 v554), ∀ a, (k0_off80 v554) a + S1x1x1x128.size a ≤ S1x33344x1x128.size a := fun v554 k0_hw40 => k0_hw40.2

def k0_off81 (v568 : BitVec 32) : Fin 4 → Nat :=
  let c0_533 : Index := 0#32
  let v569 : Index := Scalar.indexCast v568
  let c0_534 : Index := 0#32
  let c0_535 : Index := 0#32
  ![0, v569.toNat, 0, 0]

def k0_off82 (v568 : BitVec 32) : Fin 4 → Nat :=
  let c0_539 : Index := 0#32
  let c1_i32_538 : BitVec 32 := 1#32
  let v575 : BitVec 32 := Scalar.addi v568 c1_i32_538
  let v576 : Index := Scalar.indexCast v575
  let c0_540 : Index := 0#32
  let c0_541 : Index := 0#32
  ![0, v576.toNat, 0, 0]

def k0_chk41 (v568 : BitVec 32) : Prop :=
  (∀ a, (k0_off81 v568) a + S1x1x1x128.size a ≤ S1x33344x1x128.size a) ∧
  (∀ a, (k0_off82 v568) a + S1x1x1x128.size a ≤ S1x33344x1x128.size a)
theorem k0_off81_inb : ∀ (v568 : BitVec 32) (k0_hw41 : k0_chk41 v568), ∀ a, (k0_off81 v568) a + S1x1x1x128.size a ≤ S1x33344x1x128.size a := fun v568 k0_hw41 => k0_hw41.1
theorem k0_off82_inb : ∀ (v568 : BitVec 32) (k0_hw41 : k0_chk41 v568), ∀ a, (k0_off82 v568) a + S1x1x1x128.size a ≤ S1x33344x1x128.size a := fun v568 k0_hw41 => k0_hw41.2

def k0_off83 (v582 : BitVec 32) : Fin 4 → Nat :=
  let c0_546 : Index := 0#32
  let v583 : Index := Scalar.indexCast v582
  let c0_547 : Index := 0#32
  let c0_548 : Index := 0#32
  ![0, v583.toNat, 0, 0]

def k0_off84 (v582 : BitVec 32) : Fin 4 → Nat :=
  let c0_552 : Index := 0#32
  let c1_i32_551 : BitVec 32 := 1#32
  let v589 : BitVec 32 := Scalar.addi v582 c1_i32_551
  let v590 : Index := Scalar.indexCast v589
  let c0_553 : Index := 0#32
  let c0_554 : Index := 0#32
  ![0, v590.toNat, 0, 0]

def k0_chk42 (v582 : BitVec 32) : Prop :=
  (∀ a, (k0_off83 v582) a + S1x1x1x128.size a ≤ S1x33344x1x128.size a) ∧
  (∀ a, (k0_off84 v582) a + S1x1x1x128.size a ≤ S1x33344x1x128.size a)
theorem k0_off83_inb : ∀ (v582 : BitVec 32) (k0_hw42 : k0_chk42 v582), ∀ a, (k0_off83 v582) a + S1x1x1x128.size a ≤ S1x33344x1x128.size a := fun v582 k0_hw42 => k0_hw42.1
theorem k0_off84_inb : ∀ (v582 : BitVec 32) (k0_hw42 : k0_chk42 v582), ∀ a, (k0_off84 v582) a + S1x1x1x128.size a ≤ S1x33344x1x128.size a := fun v582 k0_hw42 => k0_hw42.2

def k0_off85 (v596 : BitVec 32) : Fin 4 → Nat :=
  let c0_559 : Index := 0#32
  let v597 : Index := Scalar.indexCast v596
  let c0_560 : Index := 0#32
  let c0_561 : Index := 0#32
  ![0, v597.toNat, 0, 0]

def k0_off86 (v596 : BitVec 32) : Fin 4 → Nat :=
  let c0_565 : Index := 0#32
  let c1_i32_564 : BitVec 32 := 1#32
  let v603 : BitVec 32 := Scalar.addi v596 c1_i32_564
  let v604 : Index := Scalar.indexCast v603
  let c0_566 : Index := 0#32
  let c0_567 : Index := 0#32
  ![0, v604.toNat, 0, 0]

def k0_chk43 (v596 : BitVec 32) : Prop :=
  (∀ a, (k0_off85 v596) a + S1x1x1x128.size a ≤ S1x33344x1x128.size a) ∧
  (∀ a, (k0_off86 v596) a + S1x1x1x128.size a ≤ S1x33344x1x128.size a)
theorem k0_off85_inb : ∀ (v596 : BitVec 32) (k0_hw43 : k0_chk43 v596), ∀ a, (k0_off85 v596) a + S1x1x1x128.size a ≤ S1x33344x1x128.size a := fun v596 k0_hw43 => k0_hw43.1
theorem k0_off86_inb : ∀ (v596 : BitVec 32) (k0_hw43 : k0_chk43 v596), ∀ a, (k0_off86 v596) a + S1x1x1x128.size a ≤ S1x33344x1x128.size a := fun v596 k0_hw43 => k0_hw43.2

def k0_off87 (v610 : BitVec 32) : Fin 4 → Nat :=
  let c0_572 : Index := 0#32
  let v611 : Index := Scalar.indexCast v610
  let c0_573 : Index := 0#32
  let c0_574 : Index := 0#32
  ![0, v611.toNat, 0, 0]

def k0_off88 (v610 : BitVec 32) : Fin 4 → Nat :=
  let c0_578 : Index := 0#32
  let c1_i32_577 : BitVec 32 := 1#32
  let v617 : BitVec 32 := Scalar.addi v610 c1_i32_577
  let v618 : Index := Scalar.indexCast v617
  let c0_579 : Index := 0#32
  let c0_580 : Index := 0#32
  ![0, v618.toNat, 0, 0]

def k0_chk44 (v610 : BitVec 32) : Prop :=
  (∀ a, (k0_off87 v610) a + S1x1x1x128.size a ≤ S1x33344x1x128.size a) ∧
  (∀ a, (k0_off88 v610) a + S1x1x1x128.size a ≤ S1x33344x1x128.size a)
theorem k0_off87_inb : ∀ (v610 : BitVec 32) (k0_hw44 : k0_chk44 v610), ∀ a, (k0_off87 v610) a + S1x1x1x128.size a ≤ S1x33344x1x128.size a := fun v610 k0_hw44 => k0_hw44.1
theorem k0_off88_inb : ∀ (v610 : BitVec 32) (k0_hw44 : k0_chk44 v610), ∀ a, (k0_off88 v610) a + S1x1x1x128.size a ≤ S1x33344x1x128.size a := fun v610 k0_hw44 => k0_hw44.2

def k0_off89 (v624 : BitVec 32) : Fin 4 → Nat :=
  let c0_585 : Index := 0#32
  let v625 : Index := Scalar.indexCast v624
  let c0_586 : Index := 0#32
  let c0_587 : Index := 0#32
  ![0, v625.toNat, 0, 0]

def k0_off90 (v624 : BitVec 32) : Fin 4 → Nat :=
  let c0_591 : Index := 0#32
  let c1_i32_590 : BitVec 32 := 1#32
  let v631 : BitVec 32 := Scalar.addi v624 c1_i32_590
  let v632 : Index := Scalar.indexCast v631
  let c0_592 : Index := 0#32
  let c0_593 : Index := 0#32
  ![0, v632.toNat, 0, 0]

def k0_chk45 (v624 : BitVec 32) : Prop :=
  (∀ a, (k0_off89 v624) a + S1x1x1x128.size a ≤ S1x33344x1x128.size a) ∧
  (∀ a, (k0_off90 v624) a + S1x1x1x128.size a ≤ S1x33344x1x128.size a)
theorem k0_off89_inb : ∀ (v624 : BitVec 32) (k0_hw45 : k0_chk45 v624), ∀ a, (k0_off89 v624) a + S1x1x1x128.size a ≤ S1x33344x1x128.size a := fun v624 k0_hw45 => k0_hw45.1
theorem k0_off90_inb : ∀ (v624 : BitVec 32) (k0_hw45 : k0_chk45 v624), ∀ a, (k0_off90 v624) a + S1x1x1x128.size a ≤ S1x33344x1x128.size a := fun v624 k0_hw45 => k0_hw45.2

def k0_off91 (v638 : BitVec 32) : Fin 4 → Nat :=
  let c0_598 : Index := 0#32
  let v639 : Index := Scalar.indexCast v638
  let c0_599 : Index := 0#32
  let c0_600 : Index := 0#32
  ![0, v639.toNat, 0, 0]

def k0_off92 (v638 : BitVec 32) : Fin 4 → Nat :=
  let c0_604 : Index := 0#32
  let c1_i32_603 : BitVec 32 := 1#32
  let v645 : BitVec 32 := Scalar.addi v638 c1_i32_603
  let v646 : Index := Scalar.indexCast v645
  let c0_605 : Index := 0#32
  let c0_606 : Index := 0#32
  ![0, v646.toNat, 0, 0]

def k0_chk46 (v638 : BitVec 32) : Prop :=
  (∀ a, (k0_off91 v638) a + S1x1x1x128.size a ≤ S1x33344x1x128.size a) ∧
  (∀ a, (k0_off92 v638) a + S1x1x1x128.size a ≤ S1x33344x1x128.size a)
theorem k0_off91_inb : ∀ (v638 : BitVec 32) (k0_hw46 : k0_chk46 v638), ∀ a, (k0_off91 v638) a + S1x1x1x128.size a ≤ S1x33344x1x128.size a := fun v638 k0_hw46 => k0_hw46.1
theorem k0_off92_inb : ∀ (v638 : BitVec 32) (k0_hw46 : k0_chk46 v638), ∀ a, (k0_off92 v638) a + S1x1x1x128.size a ≤ S1x33344x1x128.size a := fun v638 k0_hw46 => k0_hw46.2

def k0_off93 (v652 : BitVec 32) : Fin 4 → Nat :=
  let c0_611 : Index := 0#32
  let v653 : Index := Scalar.indexCast v652
  let c0_612 : Index := 0#32
  let c0_613 : Index := 0#32
  ![0, v653.toNat, 0, 0]

def k0_off94 (v652 : BitVec 32) : Fin 4 → Nat :=
  let c0_617 : Index := 0#32
  let c1_i32_616 : BitVec 32 := 1#32
  let v659 : BitVec 32 := Scalar.addi v652 c1_i32_616
  let v660 : Index := Scalar.indexCast v659
  let c0_618 : Index := 0#32
  let c0_619 : Index := 0#32
  ![0, v660.toNat, 0, 0]

def k0_chk47 (v652 : BitVec 32) : Prop :=
  (∀ a, (k0_off93 v652) a + S1x1x1x128.size a ≤ S1x33344x1x128.size a) ∧
  (∀ a, (k0_off94 v652) a + S1x1x1x128.size a ≤ S1x33344x1x128.size a)
theorem k0_off93_inb : ∀ (v652 : BitVec 32) (k0_hw47 : k0_chk47 v652), ∀ a, (k0_off93 v652) a + S1x1x1x128.size a ≤ S1x33344x1x128.size a := fun v652 k0_hw47 => k0_hw47.1
theorem k0_off94_inb : ∀ (v652 : BitVec 32) (k0_hw47 : k0_chk47 v652), ∀ a, (k0_off94 v652) a + S1x1x1x128.size a ≤ S1x33344x1x128.size a := fun v652 k0_hw47 => k0_hw47.2

def k0_off95 (v666 : BitVec 32) : Fin 4 → Nat :=
  let c0_624 : Index := 0#32
  let v667 : Index := Scalar.indexCast v666
  let c0_625 : Index := 0#32
  let c0_626 : Index := 0#32
  ![0, v667.toNat, 0, 0]

def k0_off96 (v666 : BitVec 32) : Fin 4 → Nat :=
  let c0_630 : Index := 0#32
  let c1_i32_629 : BitVec 32 := 1#32
  let v673 : BitVec 32 := Scalar.addi v666 c1_i32_629
  let v674 : Index := Scalar.indexCast v673
  let c0_631 : Index := 0#32
  let c0_632 : Index := 0#32
  ![0, v674.toNat, 0, 0]

def k0_chk48 (v666 : BitVec 32) : Prop :=
  (∀ a, (k0_off95 v666) a + S1x1x1x128.size a ≤ S1x33344x1x128.size a) ∧
  (∀ a, (k0_off96 v666) a + S1x1x1x128.size a ≤ S1x33344x1x128.size a)
theorem k0_off95_inb : ∀ (v666 : BitVec 32) (k0_hw48 : k0_chk48 v666), ∀ a, (k0_off95 v666) a + S1x1x1x128.size a ≤ S1x33344x1x128.size a := fun v666 k0_hw48 => k0_hw48.1
theorem k0_off96_inb : ∀ (v666 : BitVec 32) (k0_hw48 : k0_chk48 v666), ∀ a, (k0_off96 v666) a + S1x1x1x128.size a ≤ S1x33344x1x128.size a := fun v666 k0_hw48 => k0_hw48.2

def k0_off97 (v680 : BitVec 32) : Fin 4 → Nat :=
  let c0_637 : Index := 0#32
  let v681 : Index := Scalar.indexCast v680
  let c0_638 : Index := 0#32
  let c0_639 : Index := 0#32
  ![0, v681.toNat, 0, 0]

def k0_off98 (v680 : BitVec 32) : Fin 4 → Nat :=
  let c0_643 : Index := 0#32
  let c1_i32_642 : BitVec 32 := 1#32
  let v687 : BitVec 32 := Scalar.addi v680 c1_i32_642
  let v688 : Index := Scalar.indexCast v687
  let c0_644 : Index := 0#32
  let c0_645 : Index := 0#32
  ![0, v688.toNat, 0, 0]

def k0_chk49 (v680 : BitVec 32) : Prop :=
  (∀ a, (k0_off97 v680) a + S1x1x1x128.size a ≤ S1x33344x1x128.size a) ∧
  (∀ a, (k0_off98 v680) a + S1x1x1x128.size a ≤ S1x33344x1x128.size a)
theorem k0_off97_inb : ∀ (v680 : BitVec 32) (k0_hw49 : k0_chk49 v680), ∀ a, (k0_off97 v680) a + S1x1x1x128.size a ≤ S1x33344x1x128.size a := fun v680 k0_hw49 => k0_hw49.1
theorem k0_off98_inb : ∀ (v680 : BitVec 32) (k0_hw49 : k0_chk49 v680), ∀ a, (k0_off98 v680) a + S1x1x1x128.size a ≤ S1x33344x1x128.size a := fun v680 k0_hw49 => k0_hw49.2

def k0_off99 (v694 : BitVec 32) : Fin 4 → Nat :=
  let c0_650 : Index := 0#32
  let v695 : Index := Scalar.indexCast v694
  let c0_651 : Index := 0#32
  let c0_652 : Index := 0#32
  ![0, v695.toNat, 0, 0]

def k0_off100 (v694 : BitVec 32) : Fin 4 → Nat :=
  let c0_656 : Index := 0#32
  let c1_i32_655 : BitVec 32 := 1#32
  let v701 : BitVec 32 := Scalar.addi v694 c1_i32_655
  let v702 : Index := Scalar.indexCast v701
  let c0_657 : Index := 0#32
  let c0_658 : Index := 0#32
  ![0, v702.toNat, 0, 0]

def k0_chk50 (v694 : BitVec 32) : Prop :=
  (∀ a, (k0_off99 v694) a + S1x1x1x128.size a ≤ S1x33344x1x128.size a) ∧
  (∀ a, (k0_off100 v694) a + S1x1x1x128.size a ≤ S1x33344x1x128.size a)
theorem k0_off99_inb : ∀ (v694 : BitVec 32) (k0_hw50 : k0_chk50 v694), ∀ a, (k0_off99 v694) a + S1x1x1x128.size a ≤ S1x33344x1x128.size a := fun v694 k0_hw50 => k0_hw50.1
theorem k0_off100_inb : ∀ (v694 : BitVec 32) (k0_hw50 : k0_chk50 v694), ∀ a, (k0_off100 v694) a + S1x1x1x128.size a ≤ S1x33344x1x128.size a := fun v694 k0_hw50 => k0_hw50.2

def k0_off101 (v708 : BitVec 32) : Fin 4 → Nat :=
  let c0_663 : Index := 0#32
  let v709 : Index := Scalar.indexCast v708
  let c0_664 : Index := 0#32
  let c0_665 : Index := 0#32
  ![0, v709.toNat, 0, 0]

def k0_off102 (v708 : BitVec 32) : Fin 4 → Nat :=
  let c0_669 : Index := 0#32
  let c1_i32_668 : BitVec 32 := 1#32
  let v715 : BitVec 32 := Scalar.addi v708 c1_i32_668
  let v716 : Index := Scalar.indexCast v715
  let c0_670 : Index := 0#32
  let c0_671 : Index := 0#32
  ![0, v716.toNat, 0, 0]

def k0_chk51 (v708 : BitVec 32) : Prop :=
  (∀ a, (k0_off101 v708) a + S1x1x1x128.size a ≤ S1x33344x1x128.size a) ∧
  (∀ a, (k0_off102 v708) a + S1x1x1x128.size a ≤ S1x33344x1x128.size a)
theorem k0_off101_inb : ∀ (v708 : BitVec 32) (k0_hw51 : k0_chk51 v708), ∀ a, (k0_off101 v708) a + S1x1x1x128.size a ≤ S1x33344x1x128.size a := fun v708 k0_hw51 => k0_hw51.1
theorem k0_off102_inb : ∀ (v708 : BitVec 32) (k0_hw51 : k0_chk51 v708), ∀ a, (k0_off102 v708) a + S1x1x1x128.size a ≤ S1x33344x1x128.size a := fun v708 k0_hw51 => k0_hw51.2

def k0_off103 (v722 : BitVec 32) : Fin 4 → Nat :=
  let c0_676 : Index := 0#32
  let v723 : Index := Scalar.indexCast v722
  let c0_677 : Index := 0#32
  let c0_678 : Index := 0#32
  ![0, v723.toNat, 0, 0]

def k0_off104 (v722 : BitVec 32) : Fin 4 → Nat :=
  let c0_682 : Index := 0#32
  let c1_i32_681 : BitVec 32 := 1#32
  let v729 : BitVec 32 := Scalar.addi v722 c1_i32_681
  let v730 : Index := Scalar.indexCast v729
  let c0_683 : Index := 0#32
  let c0_684 : Index := 0#32
  ![0, v730.toNat, 0, 0]

def k0_chk52 (v722 : BitVec 32) : Prop :=
  (∀ a, (k0_off103 v722) a + S1x1x1x128.size a ≤ S1x33344x1x128.size a) ∧
  (∀ a, (k0_off104 v722) a + S1x1x1x128.size a ≤ S1x33344x1x128.size a)
theorem k0_off103_inb : ∀ (v722 : BitVec 32) (k0_hw52 : k0_chk52 v722), ∀ a, (k0_off103 v722) a + S1x1x1x128.size a ≤ S1x33344x1x128.size a := fun v722 k0_hw52 => k0_hw52.1
theorem k0_off104_inb : ∀ (v722 : BitVec 32) (k0_hw52 : k0_chk52 v722), ∀ a, (k0_off104 v722) a + S1x1x1x128.size a ≤ S1x33344x1x128.size a := fun v722 k0_hw52 => k0_hw52.2

def k0_off105 (v736 : BitVec 32) : Fin 4 → Nat :=
  let c0_689 : Index := 0#32
  let v737 : Index := Scalar.indexCast v736
  let c0_690 : Index := 0#32
  let c0_691 : Index := 0#32
  ![0, v737.toNat, 0, 0]

def k0_off106 (v736 : BitVec 32) : Fin 4 → Nat :=
  let c0_695 : Index := 0#32
  let c1_i32_694 : BitVec 32 := 1#32
  let v743 : BitVec 32 := Scalar.addi v736 c1_i32_694
  let v744 : Index := Scalar.indexCast v743
  let c0_696 : Index := 0#32
  let c0_697 : Index := 0#32
  ![0, v744.toNat, 0, 0]

def k0_chk53 (v736 : BitVec 32) : Prop :=
  (∀ a, (k0_off105 v736) a + S1x1x1x128.size a ≤ S1x33344x1x128.size a) ∧
  (∀ a, (k0_off106 v736) a + S1x1x1x128.size a ≤ S1x33344x1x128.size a)
theorem k0_off105_inb : ∀ (v736 : BitVec 32) (k0_hw53 : k0_chk53 v736), ∀ a, (k0_off105 v736) a + S1x1x1x128.size a ≤ S1x33344x1x128.size a := fun v736 k0_hw53 => k0_hw53.1
theorem k0_off106_inb : ∀ (v736 : BitVec 32) (k0_hw53 : k0_chk53 v736), ∀ a, (k0_off106 v736) a + S1x1x1x128.size a ≤ S1x33344x1x128.size a := fun v736 k0_hw53 => k0_hw53.2

def k0_off107 (v750 : BitVec 32) : Fin 4 → Nat :=
  let c0_702 : Index := 0#32
  let v751 : Index := Scalar.indexCast v750
  let c0_703 : Index := 0#32
  let c0_704 : Index := 0#32
  ![0, v751.toNat, 0, 0]

def k0_off108 (v750 : BitVec 32) : Fin 4 → Nat :=
  let c0_708 : Index := 0#32
  let c1_i32_707 : BitVec 32 := 1#32
  let v757 : BitVec 32 := Scalar.addi v750 c1_i32_707
  let v758 : Index := Scalar.indexCast v757
  let c0_709 : Index := 0#32
  let c0_710 : Index := 0#32
  ![0, v758.toNat, 0, 0]

def k0_chk54 (v750 : BitVec 32) : Prop :=
  (∀ a, (k0_off107 v750) a + S1x1x1x128.size a ≤ S1x33344x1x128.size a) ∧
  (∀ a, (k0_off108 v750) a + S1x1x1x128.size a ≤ S1x33344x1x128.size a)
theorem k0_off107_inb : ∀ (v750 : BitVec 32) (k0_hw54 : k0_chk54 v750), ∀ a, (k0_off107 v750) a + S1x1x1x128.size a ≤ S1x33344x1x128.size a := fun v750 k0_hw54 => k0_hw54.1
theorem k0_off108_inb : ∀ (v750 : BitVec 32) (k0_hw54 : k0_chk54 v750), ∀ a, (k0_off108 v750) a + S1x1x1x128.size a ≤ S1x33344x1x128.size a := fun v750 k0_hw54 => k0_hw54.2

def k0_off109 (v764 : BitVec 32) : Fin 4 → Nat :=
  let c0_715 : Index := 0#32
  let v765 : Index := Scalar.indexCast v764
  let c0_716 : Index := 0#32
  let c0_717 : Index := 0#32
  ![0, v765.toNat, 0, 0]

def k0_off110 (v764 : BitVec 32) : Fin 4 → Nat :=
  let c0_721 : Index := 0#32
  let c1_i32_720 : BitVec 32 := 1#32
  let v771 : BitVec 32 := Scalar.addi v764 c1_i32_720
  let v772 : Index := Scalar.indexCast v771
  let c0_722 : Index := 0#32
  let c0_723 : Index := 0#32
  ![0, v772.toNat, 0, 0]

def k0_chk55 (v764 : BitVec 32) : Prop :=
  (∀ a, (k0_off109 v764) a + S1x1x1x128.size a ≤ S1x33344x1x128.size a) ∧
  (∀ a, (k0_off110 v764) a + S1x1x1x128.size a ≤ S1x33344x1x128.size a)
theorem k0_off109_inb : ∀ (v764 : BitVec 32) (k0_hw55 : k0_chk55 v764), ∀ a, (k0_off109 v764) a + S1x1x1x128.size a ≤ S1x33344x1x128.size a := fun v764 k0_hw55 => k0_hw55.1
theorem k0_off110_inb : ∀ (v764 : BitVec 32) (k0_hw55 : k0_chk55 v764), ∀ a, (k0_off110 v764) a + S1x1x1x128.size a ≤ S1x33344x1x128.size a := fun v764 k0_hw55 => k0_hw55.2

def k0_off111 (v778 : BitVec 32) : Fin 4 → Nat :=
  let c0_728 : Index := 0#32
  let v779 : Index := Scalar.indexCast v778
  let c0_729 : Index := 0#32
  let c0_730 : Index := 0#32
  ![0, v779.toNat, 0, 0]

def k0_off112 (v778 : BitVec 32) : Fin 4 → Nat :=
  let c0_734 : Index := 0#32
  let c1_i32_733 : BitVec 32 := 1#32
  let v785 : BitVec 32 := Scalar.addi v778 c1_i32_733
  let v786 : Index := Scalar.indexCast v785
  let c0_735 : Index := 0#32
  let c0_736 : Index := 0#32
  ![0, v786.toNat, 0, 0]

def k0_chk56 (v778 : BitVec 32) : Prop :=
  (∀ a, (k0_off111 v778) a + S1x1x1x128.size a ≤ S1x33344x1x128.size a) ∧
  (∀ a, (k0_off112 v778) a + S1x1x1x128.size a ≤ S1x33344x1x128.size a)
theorem k0_off111_inb : ∀ (v778 : BitVec 32) (k0_hw56 : k0_chk56 v778), ∀ a, (k0_off111 v778) a + S1x1x1x128.size a ≤ S1x33344x1x128.size a := fun v778 k0_hw56 => k0_hw56.1
theorem k0_off112_inb : ∀ (v778 : BitVec 32) (k0_hw56 : k0_chk56 v778), ∀ a, (k0_off112 v778) a + S1x1x1x128.size a ≤ S1x33344x1x128.size a := fun v778 k0_hw56 => k0_hw56.2

def k0_off113 (v792 : BitVec 32) : Fin 4 → Nat :=
  let c0_741 : Index := 0#32
  let v793 : Index := Scalar.indexCast v792
  let c0_742 : Index := 0#32
  let c0_743 : Index := 0#32
  ![0, v793.toNat, 0, 0]

def k0_off114 (v792 : BitVec 32) : Fin 4 → Nat :=
  let c0_747 : Index := 0#32
  let c1_i32_746 : BitVec 32 := 1#32
  let v799 : BitVec 32 := Scalar.addi v792 c1_i32_746
  let v800 : Index := Scalar.indexCast v799
  let c0_748 : Index := 0#32
  let c0_749 : Index := 0#32
  ![0, v800.toNat, 0, 0]

def k0_chk57 (v792 : BitVec 32) : Prop :=
  (∀ a, (k0_off113 v792) a + S1x1x1x128.size a ≤ S1x33344x1x128.size a) ∧
  (∀ a, (k0_off114 v792) a + S1x1x1x128.size a ≤ S1x33344x1x128.size a)
theorem k0_off113_inb : ∀ (v792 : BitVec 32) (k0_hw57 : k0_chk57 v792), ∀ a, (k0_off113 v792) a + S1x1x1x128.size a ≤ S1x33344x1x128.size a := fun v792 k0_hw57 => k0_hw57.1
theorem k0_off114_inb : ∀ (v792 : BitVec 32) (k0_hw57 : k0_chk57 v792), ∀ a, (k0_off114 v792) a + S1x1x1x128.size a ≤ S1x33344x1x128.size a := fun v792 k0_hw57 => k0_hw57.2

def k0_off115 (v806 : BitVec 32) : Fin 4 → Nat :=
  let c0_754 : Index := 0#32
  let v807 : Index := Scalar.indexCast v806
  let c0_755 : Index := 0#32
  let c0_756 : Index := 0#32
  ![0, v807.toNat, 0, 0]

def k0_off116 (v806 : BitVec 32) : Fin 4 → Nat :=
  let c0_760 : Index := 0#32
  let c1_i32_759 : BitVec 32 := 1#32
  let v813 : BitVec 32 := Scalar.addi v806 c1_i32_759
  let v814 : Index := Scalar.indexCast v813
  let c0_761 : Index := 0#32
  let c0_762 : Index := 0#32
  ![0, v814.toNat, 0, 0]

def k0_chk58 (v806 : BitVec 32) : Prop :=
  (∀ a, (k0_off115 v806) a + S1x1x1x128.size a ≤ S1x33344x1x128.size a) ∧
  (∀ a, (k0_off116 v806) a + S1x1x1x128.size a ≤ S1x33344x1x128.size a)
theorem k0_off115_inb : ∀ (v806 : BitVec 32) (k0_hw58 : k0_chk58 v806), ∀ a, (k0_off115 v806) a + S1x1x1x128.size a ≤ S1x33344x1x128.size a := fun v806 k0_hw58 => k0_hw58.1
theorem k0_off116_inb : ∀ (v806 : BitVec 32) (k0_hw58 : k0_chk58 v806), ∀ a, (k0_off116 v806) a + S1x1x1x128.size a ≤ S1x33344x1x128.size a := fun v806 k0_hw58 => k0_hw58.2

def k0_off117 (v820 : BitVec 32) : Fin 4 → Nat :=
  let c0_767 : Index := 0#32
  let v821 : Index := Scalar.indexCast v820
  let c0_768 : Index := 0#32
  let c0_769 : Index := 0#32
  ![0, v821.toNat, 0, 0]

def k0_off118 (v820 : BitVec 32) : Fin 4 → Nat :=
  let c0_773 : Index := 0#32
  let c1_i32_772 : BitVec 32 := 1#32
  let v827 : BitVec 32 := Scalar.addi v820 c1_i32_772
  let v828 : Index := Scalar.indexCast v827
  let c0_774 : Index := 0#32
  let c0_775 : Index := 0#32
  ![0, v828.toNat, 0, 0]

def k0_chk59 (v820 : BitVec 32) : Prop :=
  (∀ a, (k0_off117 v820) a + S1x1x1x128.size a ≤ S1x33344x1x128.size a) ∧
  (∀ a, (k0_off118 v820) a + S1x1x1x128.size a ≤ S1x33344x1x128.size a)
theorem k0_off117_inb : ∀ (v820 : BitVec 32) (k0_hw59 : k0_chk59 v820), ∀ a, (k0_off117 v820) a + S1x1x1x128.size a ≤ S1x33344x1x128.size a := fun v820 k0_hw59 => k0_hw59.1
theorem k0_off118_inb : ∀ (v820 : BitVec 32) (k0_hw59 : k0_chk59 v820), ∀ a, (k0_off118 v820) a + S1x1x1x128.size a ≤ S1x33344x1x128.size a := fun v820 k0_hw59 => k0_hw59.2

def k0_off119 (v834 : BitVec 32) : Fin 4 → Nat :=
  let c0_780 : Index := 0#32
  let v835 : Index := Scalar.indexCast v834
  let c0_781 : Index := 0#32
  let c0_782 : Index := 0#32
  ![0, v835.toNat, 0, 0]

def k0_off120 (v834 : BitVec 32) : Fin 4 → Nat :=
  let c0_786 : Index := 0#32
  let c1_i32_785 : BitVec 32 := 1#32
  let v841 : BitVec 32 := Scalar.addi v834 c1_i32_785
  let v842 : Index := Scalar.indexCast v841
  let c0_787 : Index := 0#32
  let c0_788 : Index := 0#32
  ![0, v842.toNat, 0, 0]

def k0_chk60 (v834 : BitVec 32) : Prop :=
  (∀ a, (k0_off119 v834) a + S1x1x1x128.size a ≤ S1x33344x1x128.size a) ∧
  (∀ a, (k0_off120 v834) a + S1x1x1x128.size a ≤ S1x33344x1x128.size a)
theorem k0_off119_inb : ∀ (v834 : BitVec 32) (k0_hw60 : k0_chk60 v834), ∀ a, (k0_off119 v834) a + S1x1x1x128.size a ≤ S1x33344x1x128.size a := fun v834 k0_hw60 => k0_hw60.1
theorem k0_off120_inb : ∀ (v834 : BitVec 32) (k0_hw60 : k0_chk60 v834), ∀ a, (k0_off120 v834) a + S1x1x1x128.size a ≤ S1x33344x1x128.size a := fun v834 k0_hw60 => k0_hw60.2

def k0_off121 (v848 : BitVec 32) : Fin 4 → Nat :=
  let c0_793 : Index := 0#32
  let v849 : Index := Scalar.indexCast v848
  let c0_794 : Index := 0#32
  let c0_795 : Index := 0#32
  ![0, v849.toNat, 0, 0]

def k0_off122 (v848 : BitVec 32) : Fin 4 → Nat :=
  let c0_799 : Index := 0#32
  let c1_i32_798 : BitVec 32 := 1#32
  let v855 : BitVec 32 := Scalar.addi v848 c1_i32_798
  let v856 : Index := Scalar.indexCast v855
  let c0_800 : Index := 0#32
  let c0_801 : Index := 0#32
  ![0, v856.toNat, 0, 0]

def k0_chk61 (v848 : BitVec 32) : Prop :=
  (∀ a, (k0_off121 v848) a + S1x1x1x128.size a ≤ S1x33344x1x128.size a) ∧
  (∀ a, (k0_off122 v848) a + S1x1x1x128.size a ≤ S1x33344x1x128.size a)
theorem k0_off121_inb : ∀ (v848 : BitVec 32) (k0_hw61 : k0_chk61 v848), ∀ a, (k0_off121 v848) a + S1x1x1x128.size a ≤ S1x33344x1x128.size a := fun v848 k0_hw61 => k0_hw61.1
theorem k0_off122_inb : ∀ (v848 : BitVec 32) (k0_hw61 : k0_chk61 v848), ∀ a, (k0_off122 v848) a + S1x1x1x128.size a ≤ S1x33344x1x128.size a := fun v848 k0_hw61 => k0_hw61.2

def k0_off123 (v862 : BitVec 32) : Fin 4 → Nat :=
  let c0_806 : Index := 0#32
  let v863 : Index := Scalar.indexCast v862
  let c0_807 : Index := 0#32
  let c0_808 : Index := 0#32
  ![0, v863.toNat, 0, 0]

def k0_off124 (v862 : BitVec 32) : Fin 4 → Nat :=
  let c0_812 : Index := 0#32
  let c1_i32_811 : BitVec 32 := 1#32
  let v869 : BitVec 32 := Scalar.addi v862 c1_i32_811
  let v870 : Index := Scalar.indexCast v869
  let c0_813 : Index := 0#32
  let c0_814 : Index := 0#32
  ![0, v870.toNat, 0, 0]

def k0_chk62 (v862 : BitVec 32) : Prop :=
  (∀ a, (k0_off123 v862) a + S1x1x1x128.size a ≤ S1x33344x1x128.size a) ∧
  (∀ a, (k0_off124 v862) a + S1x1x1x128.size a ≤ S1x33344x1x128.size a)
theorem k0_off123_inb : ∀ (v862 : BitVec 32) (k0_hw62 : k0_chk62 v862), ∀ a, (k0_off123 v862) a + S1x1x1x128.size a ≤ S1x33344x1x128.size a := fun v862 k0_hw62 => k0_hw62.1
theorem k0_off124_inb : ∀ (v862 : BitVec 32) (k0_hw62 : k0_chk62 v862), ∀ a, (k0_off124 v862) a + S1x1x1x128.size a ≤ S1x33344x1x128.size a := fun v862 k0_hw62 => k0_hw62.2

def k0_off125 (v876 : BitVec 32) : Fin 4 → Nat :=
  let c0_819 : Index := 0#32
  let v877 : Index := Scalar.indexCast v876
  let c0_820 : Index := 0#32
  let c0_821 : Index := 0#32
  ![0, v877.toNat, 0, 0]

def k0_off126 (v876 : BitVec 32) : Fin 4 → Nat :=
  let c0_825 : Index := 0#32
  let c1_i32_824 : BitVec 32 := 1#32
  let v883 : BitVec 32 := Scalar.addi v876 c1_i32_824
  let v884 : Index := Scalar.indexCast v883
  let c0_826 : Index := 0#32
  let c0_827 : Index := 0#32
  ![0, v884.toNat, 0, 0]

def k0_chk63 (v876 : BitVec 32) : Prop :=
  (∀ a, (k0_off125 v876) a + S1x1x1x128.size a ≤ S1x33344x1x128.size a) ∧
  (∀ a, (k0_off126 v876) a + S1x1x1x128.size a ≤ S1x33344x1x128.size a)
theorem k0_off125_inb : ∀ (v876 : BitVec 32) (k0_hw63 : k0_chk63 v876), ∀ a, (k0_off125 v876) a + S1x1x1x128.size a ≤ S1x33344x1x128.size a := fun v876 k0_hw63 => k0_hw63.1
theorem k0_off126_inb : ∀ (v876 : BitVec 32) (k0_hw63 : k0_chk63 v876), ∀ a, (k0_off126 v876) a + S1x1x1x128.size a ≤ S1x33344x1x128.size a := fun v876 k0_hw63 => k0_hw63.2

def k0_off127 (v890 : BitVec 32) : Fin 4 → Nat :=
  let c0_832 : Index := 0#32
  let v891 : Index := Scalar.indexCast v890
  let c0_833 : Index := 0#32
  let c0_834 : Index := 0#32
  ![0, v891.toNat, 0, 0]

def k0_off128 (v890 : BitVec 32) : Fin 4 → Nat :=
  let c0_838 : Index := 0#32
  let c1_i32_837 : BitVec 32 := 1#32
  let v897 : BitVec 32 := Scalar.addi v890 c1_i32_837
  let v898 : Index := Scalar.indexCast v897
  let c0_839 : Index := 0#32
  let c0_840 : Index := 0#32
  ![0, v898.toNat, 0, 0]

def k0_chk64 (v890 : BitVec 32) : Prop :=
  (∀ a, (k0_off127 v890) a + S1x1x1x128.size a ≤ S1x33344x1x128.size a) ∧
  (∀ a, (k0_off128 v890) a + S1x1x1x128.size a ≤ S1x33344x1x128.size a)
theorem k0_off127_inb : ∀ (v890 : BitVec 32) (k0_hw64 : k0_chk64 v890), ∀ a, (k0_off127 v890) a + S1x1x1x128.size a ≤ S1x33344x1x128.size a := fun v890 k0_hw64 => k0_hw64.1
theorem k0_off128_inb : ∀ (v890 : BitVec 32) (k0_hw64 : k0_chk64 v890), ∀ a, (k0_off128 v890) a + S1x1x1x128.size a ≤ S1x33344x1x128.size a := fun v890 k0_hw64 => k0_hw64.2

def k0_off129 (v904 : BitVec 32) : Fin 4 → Nat :=
  let c0_845 : Index := 0#32
  let v905 : Index := Scalar.indexCast v904
  let c0_846 : Index := 0#32
  let c0_847 : Index := 0#32
  ![0, v905.toNat, 0, 0]

def k0_off130 (v904 : BitVec 32) : Fin 4 → Nat :=
  let c0_851 : Index := 0#32
  let c1_i32_850 : BitVec 32 := 1#32
  let v911 : BitVec 32 := Scalar.addi v904 c1_i32_850
  let v912 : Index := Scalar.indexCast v911
  let c0_852 : Index := 0#32
  let c0_853 : Index := 0#32
  ![0, v912.toNat, 0, 0]

def k0_chk65 (v904 : BitVec 32) : Prop :=
  (∀ a, (k0_off129 v904) a + S1x1x1x128.size a ≤ S1x33344x1x128.size a) ∧
  (∀ a, (k0_off130 v904) a + S1x1x1x128.size a ≤ S1x33344x1x128.size a)
theorem k0_off129_inb : ∀ (v904 : BitVec 32) (k0_hw65 : k0_chk65 v904), ∀ a, (k0_off129 v904) a + S1x1x1x128.size a ≤ S1x33344x1x128.size a := fun v904 k0_hw65 => k0_hw65.1
theorem k0_off130_inb : ∀ (v904 : BitVec 32) (k0_hw65 : k0_chk65 v904), ∀ a, (k0_off130 v904) a + S1x1x1x128.size a ≤ S1x33344x1x128.size a := fun v904 k0_hw65 => k0_hw65.2

def k0_off131 (v918 : BitVec 32) : Fin 4 → Nat :=
  let c0_858 : Index := 0#32
  let v919 : Index := Scalar.indexCast v918
  let c0_859 : Index := 0#32
  let c0_860 : Index := 0#32
  ![0, v919.toNat, 0, 0]

def k0_off132 (v918 : BitVec 32) : Fin 4 → Nat :=
  let c0_864 : Index := 0#32
  let c1_i32_863 : BitVec 32 := 1#32
  let v925 : BitVec 32 := Scalar.addi v918 c1_i32_863
  let v926 : Index := Scalar.indexCast v925
  let c0_865 : Index := 0#32
  let c0_866 : Index := 0#32
  ![0, v926.toNat, 0, 0]

def k0_chk66 (v918 : BitVec 32) : Prop :=
  (∀ a, (k0_off131 v918) a + S1x1x1x128.size a ≤ S1x33344x1x128.size a) ∧
  (∀ a, (k0_off132 v918) a + S1x1x1x128.size a ≤ S1x33344x1x128.size a)
theorem k0_off131_inb : ∀ (v918 : BitVec 32) (k0_hw66 : k0_chk66 v918), ∀ a, (k0_off131 v918) a + S1x1x1x128.size a ≤ S1x33344x1x128.size a := fun v918 k0_hw66 => k0_hw66.1
theorem k0_off132_inb : ∀ (v918 : BitVec 32) (k0_hw66 : k0_chk66 v918), ∀ a, (k0_off132 v918) a + S1x1x1x128.size a ≤ S1x33344x1x128.size a := fun v918 k0_hw66 => k0_hw66.2

def k0_off133 (v932 : BitVec 32) : Fin 4 → Nat :=
  let c0_871 : Index := 0#32
  let v933 : Index := Scalar.indexCast v932
  let c0_872 : Index := 0#32
  let c0_873 : Index := 0#32
  ![0, v933.toNat, 0, 0]

def k0_off134 (v932 : BitVec 32) : Fin 4 → Nat :=
  let c0_877 : Index := 0#32
  let c1_i32_876 : BitVec 32 := 1#32
  let v939 : BitVec 32 := Scalar.addi v932 c1_i32_876
  let v940 : Index := Scalar.indexCast v939
  let c0_878 : Index := 0#32
  let c0_879 : Index := 0#32
  ![0, v940.toNat, 0, 0]

def k0_chk67 (v932 : BitVec 32) : Prop :=
  (∀ a, (k0_off133 v932) a + S1x1x1x128.size a ≤ S1x33344x1x128.size a) ∧
  (∀ a, (k0_off134 v932) a + S1x1x1x128.size a ≤ S1x33344x1x128.size a)
theorem k0_off133_inb : ∀ (v932 : BitVec 32) (k0_hw67 : k0_chk67 v932), ∀ a, (k0_off133 v932) a + S1x1x1x128.size a ≤ S1x33344x1x128.size a := fun v932 k0_hw67 => k0_hw67.1
theorem k0_off134_inb : ∀ (v932 : BitVec 32) (k0_hw67 : k0_chk67 v932), ∀ a, (k0_off134 v932) a + S1x1x1x128.size a ≤ S1x33344x1x128.size a := fun v932 k0_hw67 => k0_hw67.2

def k0_off135 (v946 : BitVec 32) : Fin 4 → Nat :=
  let c0_884 : Index := 0#32
  let v947 : Index := Scalar.indexCast v946
  let c0_885 : Index := 0#32
  let c0_886 : Index := 0#32
  ![0, v947.toNat, 0, 0]

def k0_off136 (v946 : BitVec 32) : Fin 4 → Nat :=
  let c0_890 : Index := 0#32
  let c1_i32_889 : BitVec 32 := 1#32
  let v953 : BitVec 32 := Scalar.addi v946 c1_i32_889
  let v954 : Index := Scalar.indexCast v953
  let c0_891 : Index := 0#32
  let c0_892 : Index := 0#32
  ![0, v954.toNat, 0, 0]

def k0_chk68 (v946 : BitVec 32) : Prop :=
  (∀ a, (k0_off135 v946) a + S1x1x1x128.size a ≤ S1x33344x1x128.size a) ∧
  (∀ a, (k0_off136 v946) a + S1x1x1x128.size a ≤ S1x33344x1x128.size a)
theorem k0_off135_inb : ∀ (v946 : BitVec 32) (k0_hw68 : k0_chk68 v946), ∀ a, (k0_off135 v946) a + S1x1x1x128.size a ≤ S1x33344x1x128.size a := fun v946 k0_hw68 => k0_hw68.1
theorem k0_off136_inb : ∀ (v946 : BitVec 32) (k0_hw68 : k0_chk68 v946), ∀ a, (k0_off136 v946) a + S1x1x1x128.size a ≤ S1x33344x1x128.size a := fun v946 k0_hw68 => k0_hw68.2

def k0_off137 (v960 : BitVec 32) : Fin 4 → Nat :=
  let c0_897 : Index := 0#32
  let v961 : Index := Scalar.indexCast v960
  let c0_898 : Index := 0#32
  let c0_899 : Index := 0#32
  ![0, v961.toNat, 0, 0]

def k0_off138 (v960 : BitVec 32) : Fin 4 → Nat :=
  let c0_903 : Index := 0#32
  let c1_i32_902 : BitVec 32 := 1#32
  let v967 : BitVec 32 := Scalar.addi v960 c1_i32_902
  let v968 : Index := Scalar.indexCast v967
  let c0_904 : Index := 0#32
  let c0_905 : Index := 0#32
  ![0, v968.toNat, 0, 0]

def k0_chk69 (v960 : BitVec 32) : Prop :=
  (∀ a, (k0_off137 v960) a + S1x1x1x128.size a ≤ S1x33344x1x128.size a) ∧
  (∀ a, (k0_off138 v960) a + S1x1x1x128.size a ≤ S1x33344x1x128.size a)
theorem k0_off137_inb : ∀ (v960 : BitVec 32) (k0_hw69 : k0_chk69 v960), ∀ a, (k0_off137 v960) a + S1x1x1x128.size a ≤ S1x33344x1x128.size a := fun v960 k0_hw69 => k0_hw69.1
theorem k0_off138_inb : ∀ (v960 : BitVec 32) (k0_hw69 : k0_chk69 v960), ∀ a, (k0_off138 v960) a + S1x1x1x128.size a ≤ S1x33344x1x128.size a := fun v960 k0_hw69 => k0_hw69.2

def k0_off139 (v974 : BitVec 32) : Fin 4 → Nat :=
  let c0_910 : Index := 0#32
  let v975 : Index := Scalar.indexCast v974
  let c0_911 : Index := 0#32
  let c0_912 : Index := 0#32
  ![0, v975.toNat, 0, 0]

def k0_off140 (v974 : BitVec 32) : Fin 4 → Nat :=
  let c0_916 : Index := 0#32
  let c1_i32_915 : BitVec 32 := 1#32
  let v981 : BitVec 32 := Scalar.addi v974 c1_i32_915
  let v982 : Index := Scalar.indexCast v981
  let c0_917 : Index := 0#32
  let c0_918 : Index := 0#32
  ![0, v982.toNat, 0, 0]

def k0_chk70 (v974 : BitVec 32) : Prop :=
  (∀ a, (k0_off139 v974) a + S1x1x1x128.size a ≤ S1x33344x1x128.size a) ∧
  (∀ a, (k0_off140 v974) a + S1x1x1x128.size a ≤ S1x33344x1x128.size a)
theorem k0_off139_inb : ∀ (v974 : BitVec 32) (k0_hw70 : k0_chk70 v974), ∀ a, (k0_off139 v974) a + S1x1x1x128.size a ≤ S1x33344x1x128.size a := fun v974 k0_hw70 => k0_hw70.1
theorem k0_off140_inb : ∀ (v974 : BitVec 32) (k0_hw70 : k0_chk70 v974), ∀ a, (k0_off140 v974) a + S1x1x1x128.size a ≤ S1x33344x1x128.size a := fun v974 k0_hw70 => k0_hw70.2

def k0_off141 (v988 : BitVec 32) : Fin 4 → Nat :=
  let c0_923 : Index := 0#32
  let v989 : Index := Scalar.indexCast v988
  let c0_924 : Index := 0#32
  let c0_925 : Index := 0#32
  ![0, v989.toNat, 0, 0]

def k0_off142 (v988 : BitVec 32) : Fin 4 → Nat :=
  let c0_929 : Index := 0#32
  let c1_i32_928 : BitVec 32 := 1#32
  let v995 : BitVec 32 := Scalar.addi v988 c1_i32_928
  let v996 : Index := Scalar.indexCast v995
  let c0_930 : Index := 0#32
  let c0_931 : Index := 0#32
  ![0, v996.toNat, 0, 0]

def k0_chk71 (v988 : BitVec 32) : Prop :=
  (∀ a, (k0_off141 v988) a + S1x1x1x128.size a ≤ S1x33344x1x128.size a) ∧
  (∀ a, (k0_off142 v988) a + S1x1x1x128.size a ≤ S1x33344x1x128.size a)
theorem k0_off141_inb : ∀ (v988 : BitVec 32) (k0_hw71 : k0_chk71 v988), ∀ a, (k0_off141 v988) a + S1x1x1x128.size a ≤ S1x33344x1x128.size a := fun v988 k0_hw71 => k0_hw71.1
theorem k0_off142_inb : ∀ (v988 : BitVec 32) (k0_hw71 : k0_chk71 v988), ∀ a, (k0_off142 v988) a + S1x1x1x128.size a ≤ S1x33344x1x128.size a := fun v988 k0_hw71 => k0_hw71.2

def k0_off143 (v1002 : BitVec 32) : Fin 4 → Nat :=
  let c0_936 : Index := 0#32
  let v1003 : Index := Scalar.indexCast v1002
  let c0_937 : Index := 0#32
  let c0_938 : Index := 0#32
  ![0, v1003.toNat, 0, 0]

def k0_off144 (v1002 : BitVec 32) : Fin 4 → Nat :=
  let c0_942 : Index := 0#32
  let c1_i32_941 : BitVec 32 := 1#32
  let v1009 : BitVec 32 := Scalar.addi v1002 c1_i32_941
  let v1010 : Index := Scalar.indexCast v1009
  let c0_943 : Index := 0#32
  let c0_944 : Index := 0#32
  ![0, v1010.toNat, 0, 0]

def k0_chk72 (v1002 : BitVec 32) : Prop :=
  (∀ a, (k0_off143 v1002) a + S1x1x1x128.size a ≤ S1x33344x1x128.size a) ∧
  (∀ a, (k0_off144 v1002) a + S1x1x1x128.size a ≤ S1x33344x1x128.size a)
theorem k0_off143_inb : ∀ (v1002 : BitVec 32) (k0_hw72 : k0_chk72 v1002), ∀ a, (k0_off143 v1002) a + S1x1x1x128.size a ≤ S1x33344x1x128.size a := fun v1002 k0_hw72 => k0_hw72.1
theorem k0_off144_inb : ∀ (v1002 : BitVec 32) (k0_hw72 : k0_chk72 v1002), ∀ a, (k0_off144 v1002) a + S1x1x1x128.size a ≤ S1x33344x1x128.size a := fun v1002 k0_hw72 => k0_hw72.2

def k0_off145 (v1016 : BitVec 32) : Fin 4 → Nat :=
  let c0_949 : Index := 0#32
  let v1017 : Index := Scalar.indexCast v1016
  let c0_950 : Index := 0#32
  let c0_951 : Index := 0#32
  ![0, v1017.toNat, 0, 0]

def k0_off146 (v1016 : BitVec 32) : Fin 4 → Nat :=
  let c0_955 : Index := 0#32
  let c1_i32_954 : BitVec 32 := 1#32
  let v1023 : BitVec 32 := Scalar.addi v1016 c1_i32_954
  let v1024 : Index := Scalar.indexCast v1023
  let c0_956 : Index := 0#32
  let c0_957 : Index := 0#32
  ![0, v1024.toNat, 0, 0]

def k0_chk73 (v1016 : BitVec 32) : Prop :=
  (∀ a, (k0_off145 v1016) a + S1x1x1x128.size a ≤ S1x33344x1x128.size a) ∧
  (∀ a, (k0_off146 v1016) a + S1x1x1x128.size a ≤ S1x33344x1x128.size a)
theorem k0_off145_inb : ∀ (v1016 : BitVec 32) (k0_hw73 : k0_chk73 v1016), ∀ a, (k0_off145 v1016) a + S1x1x1x128.size a ≤ S1x33344x1x128.size a := fun v1016 k0_hw73 => k0_hw73.1
theorem k0_off146_inb : ∀ (v1016 : BitVec 32) (k0_hw73 : k0_chk73 v1016), ∀ a, (k0_off146 v1016) a + S1x1x1x128.size a ≤ S1x33344x1x128.size a := fun v1016 k0_hw73 => k0_hw73.2

def k0_off147 (v1030 : BitVec 32) : Fin 4 → Nat :=
  let c0_962 : Index := 0#32
  let v1031 : Index := Scalar.indexCast v1030
  let c0_963 : Index := 0#32
  let c0_964 : Index := 0#32
  ![0, v1031.toNat, 0, 0]

def k0_off148 (v1030 : BitVec 32) : Fin 4 → Nat :=
  let c0_968 : Index := 0#32
  let c1_i32_967 : BitVec 32 := 1#32
  let v1037 : BitVec 32 := Scalar.addi v1030 c1_i32_967
  let v1038 : Index := Scalar.indexCast v1037
  let c0_969 : Index := 0#32
  let c0_970 : Index := 0#32
  ![0, v1038.toNat, 0, 0]

def k0_chk74 (v1030 : BitVec 32) : Prop :=
  (∀ a, (k0_off147 v1030) a + S1x1x1x128.size a ≤ S1x33344x1x128.size a) ∧
  (∀ a, (k0_off148 v1030) a + S1x1x1x128.size a ≤ S1x33344x1x128.size a)
theorem k0_off147_inb : ∀ (v1030 : BitVec 32) (k0_hw74 : k0_chk74 v1030), ∀ a, (k0_off147 v1030) a + S1x1x1x128.size a ≤ S1x33344x1x128.size a := fun v1030 k0_hw74 => k0_hw74.1
theorem k0_off148_inb : ∀ (v1030 : BitVec 32) (k0_hw74 : k0_chk74 v1030), ∀ a, (k0_off148 v1030) a + S1x1x1x128.size a ≤ S1x33344x1x128.size a := fun v1030 k0_hw74 => k0_hw74.2

def k0_off149 (v1044 : BitVec 32) : Fin 4 → Nat :=
  let c0_975 : Index := 0#32
  let v1045 : Index := Scalar.indexCast v1044
  let c0_976 : Index := 0#32
  let c0_977 : Index := 0#32
  ![0, v1045.toNat, 0, 0]

def k0_off150 (v1044 : BitVec 32) : Fin 4 → Nat :=
  let c0_981 : Index := 0#32
  let c1_i32_980 : BitVec 32 := 1#32
  let v1051 : BitVec 32 := Scalar.addi v1044 c1_i32_980
  let v1052 : Index := Scalar.indexCast v1051
  let c0_982 : Index := 0#32
  let c0_983 : Index := 0#32
  ![0, v1052.toNat, 0, 0]

def k0_chk75 (v1044 : BitVec 32) : Prop :=
  (∀ a, (k0_off149 v1044) a + S1x1x1x128.size a ≤ S1x33344x1x128.size a) ∧
  (∀ a, (k0_off150 v1044) a + S1x1x1x128.size a ≤ S1x33344x1x128.size a)
theorem k0_off149_inb : ∀ (v1044 : BitVec 32) (k0_hw75 : k0_chk75 v1044), ∀ a, (k0_off149 v1044) a + S1x1x1x128.size a ≤ S1x33344x1x128.size a := fun v1044 k0_hw75 => k0_hw75.1
theorem k0_off150_inb : ∀ (v1044 : BitVec 32) (k0_hw75 : k0_chk75 v1044), ∀ a, (k0_off150 v1044) a + S1x1x1x128.size a ≤ S1x33344x1x128.size a := fun v1044 k0_hw75 => k0_hw75.2

def k0_off151 (v1058 : BitVec 32) : Fin 4 → Nat :=
  let c0_988 : Index := 0#32
  let v1059 : Index := Scalar.indexCast v1058
  let c0_989 : Index := 0#32
  let c0_990 : Index := 0#32
  ![0, v1059.toNat, 0, 0]

def k0_off152 (v1058 : BitVec 32) : Fin 4 → Nat :=
  let c0_994 : Index := 0#32
  let c1_i32_993 : BitVec 32 := 1#32
  let v1065 : BitVec 32 := Scalar.addi v1058 c1_i32_993
  let v1066 : Index := Scalar.indexCast v1065
  let c0_995 : Index := 0#32
  let c0_996 : Index := 0#32
  ![0, v1066.toNat, 0, 0]

def k0_chk76 (v1058 : BitVec 32) : Prop :=
  (∀ a, (k0_off151 v1058) a + S1x1x1x128.size a ≤ S1x33344x1x128.size a) ∧
  (∀ a, (k0_off152 v1058) a + S1x1x1x128.size a ≤ S1x33344x1x128.size a)
theorem k0_off151_inb : ∀ (v1058 : BitVec 32) (k0_hw76 : k0_chk76 v1058), ∀ a, (k0_off151 v1058) a + S1x1x1x128.size a ≤ S1x33344x1x128.size a := fun v1058 k0_hw76 => k0_hw76.1
theorem k0_off152_inb : ∀ (v1058 : BitVec 32) (k0_hw76 : k0_chk76 v1058), ∀ a, (k0_off152 v1058) a + S1x1x1x128.size a ≤ S1x33344x1x128.size a := fun v1058 k0_hw76 => k0_hw76.2

def k0_off153 (v1072 : BitVec 32) : Fin 4 → Nat :=
  let c0_1001 : Index := 0#32
  let v1073 : Index := Scalar.indexCast v1072
  let c0_1002 : Index := 0#32
  let c0_1003 : Index := 0#32
  ![0, v1073.toNat, 0, 0]

def k0_off154 (v1072 : BitVec 32) : Fin 4 → Nat :=
  let c0_1007 : Index := 0#32
  let c1_i32_1006 : BitVec 32 := 1#32
  let v1079 : BitVec 32 := Scalar.addi v1072 c1_i32_1006
  let v1080 : Index := Scalar.indexCast v1079
  let c0_1008 : Index := 0#32
  let c0_1009 : Index := 0#32
  ![0, v1080.toNat, 0, 0]

def k0_chk77 (v1072 : BitVec 32) : Prop :=
  (∀ a, (k0_off153 v1072) a + S1x1x1x128.size a ≤ S1x33344x1x128.size a) ∧
  (∀ a, (k0_off154 v1072) a + S1x1x1x128.size a ≤ S1x33344x1x128.size a)
theorem k0_off153_inb : ∀ (v1072 : BitVec 32) (k0_hw77 : k0_chk77 v1072), ∀ a, (k0_off153 v1072) a + S1x1x1x128.size a ≤ S1x33344x1x128.size a := fun v1072 k0_hw77 => k0_hw77.1
theorem k0_off154_inb : ∀ (v1072 : BitVec 32) (k0_hw77 : k0_chk77 v1072), ∀ a, (k0_off154 v1072) a + S1x1x1x128.size a ≤ S1x33344x1x128.size a := fun v1072 k0_hw77 => k0_hw77.2

def k0_off155 (v1086 : BitVec 32) : Fin 4 → Nat :=
  let c0_1014 : Index := 0#32
  let v1087 : Index := Scalar.indexCast v1086
  let c0_1015 : Index := 0#32
  let c0_1016 : Index := 0#32
  ![0, v1087.toNat, 0, 0]

def k0_off156 (v1086 : BitVec 32) : Fin 4 → Nat :=
  let c0_1020 : Index := 0#32
  let c1_i32_1019 : BitVec 32 := 1#32
  let v1093 : BitVec 32 := Scalar.addi v1086 c1_i32_1019
  let v1094 : Index := Scalar.indexCast v1093
  let c0_1021 : Index := 0#32
  let c0_1022 : Index := 0#32
  ![0, v1094.toNat, 0, 0]

def k0_chk78 (v1086 : BitVec 32) : Prop :=
  (∀ a, (k0_off155 v1086) a + S1x1x1x128.size a ≤ S1x33344x1x128.size a) ∧
  (∀ a, (k0_off156 v1086) a + S1x1x1x128.size a ≤ S1x33344x1x128.size a)
theorem k0_off155_inb : ∀ (v1086 : BitVec 32) (k0_hw78 : k0_chk78 v1086), ∀ a, (k0_off155 v1086) a + S1x1x1x128.size a ≤ S1x33344x1x128.size a := fun v1086 k0_hw78 => k0_hw78.1
theorem k0_off156_inb : ∀ (v1086 : BitVec 32) (k0_hw78 : k0_chk78 v1086), ∀ a, (k0_off156 v1086) a + S1x1x1x128.size a ≤ S1x33344x1x128.size a := fun v1086 k0_hw78 => k0_hw78.2

def k0_off157 (v1100 : BitVec 32) : Fin 4 → Nat :=
  let c0_1027 : Index := 0#32
  let v1101 : Index := Scalar.indexCast v1100
  let c0_1028 : Index := 0#32
  let c0_1029 : Index := 0#32
  ![0, v1101.toNat, 0, 0]

def k0_off158 (v1100 : BitVec 32) : Fin 4 → Nat :=
  let c0_1033 : Index := 0#32
  let c1_i32_1032 : BitVec 32 := 1#32
  let v1107 : BitVec 32 := Scalar.addi v1100 c1_i32_1032
  let v1108 : Index := Scalar.indexCast v1107
  let c0_1034 : Index := 0#32
  let c0_1035 : Index := 0#32
  ![0, v1108.toNat, 0, 0]

def k0_chk79 (v1100 : BitVec 32) : Prop :=
  (∀ a, (k0_off157 v1100) a + S1x1x1x128.size a ≤ S1x33344x1x128.size a) ∧
  (∀ a, (k0_off158 v1100) a + S1x1x1x128.size a ≤ S1x33344x1x128.size a)
theorem k0_off157_inb : ∀ (v1100 : BitVec 32) (k0_hw79 : k0_chk79 v1100), ∀ a, (k0_off157 v1100) a + S1x1x1x128.size a ≤ S1x33344x1x128.size a := fun v1100 k0_hw79 => k0_hw79.1
theorem k0_off158_inb : ∀ (v1100 : BitVec 32) (k0_hw79 : k0_chk79 v1100), ∀ a, (k0_off158 v1100) a + S1x1x1x128.size a ≤ S1x33344x1x128.size a := fun v1100 k0_hw79 => k0_hw79.2

def k0_off159 (v1114 : BitVec 32) : Fin 4 → Nat :=
  let c0_1040 : Index := 0#32
  let v1115 : Index := Scalar.indexCast v1114
  let c0_1041 : Index := 0#32
  let c0_1042 : Index := 0#32
  ![0, v1115.toNat, 0, 0]

def k0_off160 (v1114 : BitVec 32) : Fin 4 → Nat :=
  let c0_1046 : Index := 0#32
  let c1_i32_1045 : BitVec 32 := 1#32
  let v1121 : BitVec 32 := Scalar.addi v1114 c1_i32_1045
  let v1122 : Index := Scalar.indexCast v1121
  let c0_1047 : Index := 0#32
  let c0_1048 : Index := 0#32
  ![0, v1122.toNat, 0, 0]

def k0_chk80 (v1114 : BitVec 32) : Prop :=
  (∀ a, (k0_off159 v1114) a + S1x1x1x128.size a ≤ S1x33344x1x128.size a) ∧
  (∀ a, (k0_off160 v1114) a + S1x1x1x128.size a ≤ S1x33344x1x128.size a)
theorem k0_off159_inb : ∀ (v1114 : BitVec 32) (k0_hw80 : k0_chk80 v1114), ∀ a, (k0_off159 v1114) a + S1x1x1x128.size a ≤ S1x33344x1x128.size a := fun v1114 k0_hw80 => k0_hw80.1
theorem k0_off160_inb : ∀ (v1114 : BitVec 32) (k0_hw80 : k0_chk80 v1114), ∀ a, (k0_off160 v1114) a + S1x1x1x128.size a ≤ S1x33344x1x128.size a := fun v1114 k0_hw80 => k0_hw80.2

def k0_off161 (v1128 : BitVec 32) : Fin 4 → Nat :=
  let c0_1053 : Index := 0#32
  let v1129 : Index := Scalar.indexCast v1128
  let c0_1054 : Index := 0#32
  let c0_1055 : Index := 0#32
  ![0, v1129.toNat, 0, 0]

def k0_off162 (v1128 : BitVec 32) : Fin 4 → Nat :=
  let c0_1059 : Index := 0#32
  let c1_i32_1058 : BitVec 32 := 1#32
  let v1135 : BitVec 32 := Scalar.addi v1128 c1_i32_1058
  let v1136 : Index := Scalar.indexCast v1135
  let c0_1060 : Index := 0#32
  let c0_1061 : Index := 0#32
  ![0, v1136.toNat, 0, 0]

def k0_chk81 (v1128 : BitVec 32) : Prop :=
  (∀ a, (k0_off161 v1128) a + S1x1x1x128.size a ≤ S1x33344x1x128.size a) ∧
  (∀ a, (k0_off162 v1128) a + S1x1x1x128.size a ≤ S1x33344x1x128.size a)
theorem k0_off161_inb : ∀ (v1128 : BitVec 32) (k0_hw81 : k0_chk81 v1128), ∀ a, (k0_off161 v1128) a + S1x1x1x128.size a ≤ S1x33344x1x128.size a := fun v1128 k0_hw81 => k0_hw81.1
theorem k0_off162_inb : ∀ (v1128 : BitVec 32) (k0_hw81 : k0_chk81 v1128), ∀ a, (k0_off162 v1128) a + S1x1x1x128.size a ≤ S1x33344x1x128.size a := fun v1128 k0_hw81 => k0_hw81.2

def k0_off163 (v1142 : BitVec 32) : Fin 4 → Nat :=
  let c0_1066 : Index := 0#32
  let v1143 : Index := Scalar.indexCast v1142
  let c0_1067 : Index := 0#32
  let c0_1068 : Index := 0#32
  ![0, v1143.toNat, 0, 0]

def k0_off164 (v1142 : BitVec 32) : Fin 4 → Nat :=
  let c0_1072 : Index := 0#32
  let c1_i32_1071 : BitVec 32 := 1#32
  let v1149 : BitVec 32 := Scalar.addi v1142 c1_i32_1071
  let v1150 : Index := Scalar.indexCast v1149
  let c0_1073 : Index := 0#32
  let c0_1074 : Index := 0#32
  ![0, v1150.toNat, 0, 0]

def k0_chk82 (v1142 : BitVec 32) : Prop :=
  (∀ a, (k0_off163 v1142) a + S1x1x1x128.size a ≤ S1x33344x1x128.size a) ∧
  (∀ a, (k0_off164 v1142) a + S1x1x1x128.size a ≤ S1x33344x1x128.size a)
theorem k0_off163_inb : ∀ (v1142 : BitVec 32) (k0_hw82 : k0_chk82 v1142), ∀ a, (k0_off163 v1142) a + S1x1x1x128.size a ≤ S1x33344x1x128.size a := fun v1142 k0_hw82 => k0_hw82.1
theorem k0_off164_inb : ∀ (v1142 : BitVec 32) (k0_hw82 : k0_chk82 v1142), ∀ a, (k0_off164 v1142) a + S1x1x1x128.size a ≤ S1x33344x1x128.size a := fun v1142 k0_hw82 => k0_hw82.2

def k0_off165 (v1156 : BitVec 32) : Fin 4 → Nat :=
  let c0_1079 : Index := 0#32
  let v1157 : Index := Scalar.indexCast v1156
  let c0_1080 : Index := 0#32
  let c0_1081 : Index := 0#32
  ![0, v1157.toNat, 0, 0]

def k0_off166 (v1156 : BitVec 32) : Fin 4 → Nat :=
  let c0_1085 : Index := 0#32
  let c1_i32_1084 : BitVec 32 := 1#32
  let v1163 : BitVec 32 := Scalar.addi v1156 c1_i32_1084
  let v1164 : Index := Scalar.indexCast v1163
  let c0_1086 : Index := 0#32
  let c0_1087 : Index := 0#32
  ![0, v1164.toNat, 0, 0]

def k0_chk83 (v1156 : BitVec 32) : Prop :=
  (∀ a, (k0_off165 v1156) a + S1x1x1x128.size a ≤ S1x33344x1x128.size a) ∧
  (∀ a, (k0_off166 v1156) a + S1x1x1x128.size a ≤ S1x33344x1x128.size a)
theorem k0_off165_inb : ∀ (v1156 : BitVec 32) (k0_hw83 : k0_chk83 v1156), ∀ a, (k0_off165 v1156) a + S1x1x1x128.size a ≤ S1x33344x1x128.size a := fun v1156 k0_hw83 => k0_hw83.1
theorem k0_off166_inb : ∀ (v1156 : BitVec 32) (k0_hw83 : k0_chk83 v1156), ∀ a, (k0_off166 v1156) a + S1x1x1x128.size a ≤ S1x33344x1x128.size a := fun v1156 k0_hw83 => k0_hw83.2

def k0_off167 (v1170 : BitVec 32) : Fin 4 → Nat :=
  let c0_1092 : Index := 0#32
  let v1171 : Index := Scalar.indexCast v1170
  let c0_1093 : Index := 0#32
  let c0_1094 : Index := 0#32
  ![0, v1171.toNat, 0, 0]

def k0_off168 (v1170 : BitVec 32) : Fin 4 → Nat :=
  let c0_1098 : Index := 0#32
  let c1_i32_1097 : BitVec 32 := 1#32
  let v1177 : BitVec 32 := Scalar.addi v1170 c1_i32_1097
  let v1178 : Index := Scalar.indexCast v1177
  let c0_1099 : Index := 0#32
  let c0_1100 : Index := 0#32
  ![0, v1178.toNat, 0, 0]

def k0_chk84 (v1170 : BitVec 32) : Prop :=
  (∀ a, (k0_off167 v1170) a + S1x1x1x128.size a ≤ S1x33344x1x128.size a) ∧
  (∀ a, (k0_off168 v1170) a + S1x1x1x128.size a ≤ S1x33344x1x128.size a)
theorem k0_off167_inb : ∀ (v1170 : BitVec 32) (k0_hw84 : k0_chk84 v1170), ∀ a, (k0_off167 v1170) a + S1x1x1x128.size a ≤ S1x33344x1x128.size a := fun v1170 k0_hw84 => k0_hw84.1
theorem k0_off168_inb : ∀ (v1170 : BitVec 32) (k0_hw84 : k0_chk84 v1170), ∀ a, (k0_off168 v1170) a + S1x1x1x128.size a ≤ S1x33344x1x128.size a := fun v1170 k0_hw84 => k0_hw84.2

def k0_off169 (v1184 : BitVec 32) : Fin 4 → Nat :=
  let c0_1105 : Index := 0#32
  let v1185 : Index := Scalar.indexCast v1184
  let c0_1106 : Index := 0#32
  let c0_1107 : Index := 0#32
  ![0, v1185.toNat, 0, 0]

def k0_off170 (v1184 : BitVec 32) : Fin 4 → Nat :=
  let c0_1111 : Index := 0#32
  let c1_i32_1110 : BitVec 32 := 1#32
  let v1191 : BitVec 32 := Scalar.addi v1184 c1_i32_1110
  let v1192 : Index := Scalar.indexCast v1191
  let c0_1112 : Index := 0#32
  let c0_1113 : Index := 0#32
  ![0, v1192.toNat, 0, 0]

def k0_chk85 (v1184 : BitVec 32) : Prop :=
  (∀ a, (k0_off169 v1184) a + S1x1x1x128.size a ≤ S1x33344x1x128.size a) ∧
  (∀ a, (k0_off170 v1184) a + S1x1x1x128.size a ≤ S1x33344x1x128.size a)
theorem k0_off169_inb : ∀ (v1184 : BitVec 32) (k0_hw85 : k0_chk85 v1184), ∀ a, (k0_off169 v1184) a + S1x1x1x128.size a ≤ S1x33344x1x128.size a := fun v1184 k0_hw85 => k0_hw85.1
theorem k0_off170_inb : ∀ (v1184 : BitVec 32) (k0_hw85 : k0_chk85 v1184), ∀ a, (k0_off170 v1184) a + S1x1x1x128.size a ≤ S1x33344x1x128.size a := fun v1184 k0_hw85 => k0_hw85.2

def k0_off171 (v1198 : BitVec 32) : Fin 4 → Nat :=
  let c0_1118 : Index := 0#32
  let v1199 : Index := Scalar.indexCast v1198
  let c0_1119 : Index := 0#32
  let c0_1120 : Index := 0#32
  ![0, v1199.toNat, 0, 0]

def k0_off172 (v1198 : BitVec 32) : Fin 4 → Nat :=
  let c0_1124 : Index := 0#32
  let c1_i32_1123 : BitVec 32 := 1#32
  let v1205 : BitVec 32 := Scalar.addi v1198 c1_i32_1123
  let v1206 : Index := Scalar.indexCast v1205
  let c0_1125 : Index := 0#32
  let c0_1126 : Index := 0#32
  ![0, v1206.toNat, 0, 0]

def k0_chk86 (v1198 : BitVec 32) : Prop :=
  (∀ a, (k0_off171 v1198) a + S1x1x1x128.size a ≤ S1x33344x1x128.size a) ∧
  (∀ a, (k0_off172 v1198) a + S1x1x1x128.size a ≤ S1x33344x1x128.size a)
theorem k0_off171_inb : ∀ (v1198 : BitVec 32) (k0_hw86 : k0_chk86 v1198), ∀ a, (k0_off171 v1198) a + S1x1x1x128.size a ≤ S1x33344x1x128.size a := fun v1198 k0_hw86 => k0_hw86.1
theorem k0_off172_inb : ∀ (v1198 : BitVec 32) (k0_hw86 : k0_chk86 v1198), ∀ a, (k0_off172 v1198) a + S1x1x1x128.size a ≤ S1x33344x1x128.size a := fun v1198 k0_hw86 => k0_hw86.2

def k0_off173 (v1212 : BitVec 32) : Fin 4 → Nat :=
  let c0_1131 : Index := 0#32
  let v1213 : Index := Scalar.indexCast v1212
  let c0_1132 : Index := 0#32
  let c0_1133 : Index := 0#32
  ![0, v1213.toNat, 0, 0]

def k0_off174 (v1212 : BitVec 32) : Fin 4 → Nat :=
  let c0_1137 : Index := 0#32
  let c1_i32_1136 : BitVec 32 := 1#32
  let v1219 : BitVec 32 := Scalar.addi v1212 c1_i32_1136
  let v1220 : Index := Scalar.indexCast v1219
  let c0_1138 : Index := 0#32
  let c0_1139 : Index := 0#32
  ![0, v1220.toNat, 0, 0]

def k0_chk87 (v1212 : BitVec 32) : Prop :=
  (∀ a, (k0_off173 v1212) a + S1x1x1x128.size a ≤ S1x33344x1x128.size a) ∧
  (∀ a, (k0_off174 v1212) a + S1x1x1x128.size a ≤ S1x33344x1x128.size a)
theorem k0_off173_inb : ∀ (v1212 : BitVec 32) (k0_hw87 : k0_chk87 v1212), ∀ a, (k0_off173 v1212) a + S1x1x1x128.size a ≤ S1x33344x1x128.size a := fun v1212 k0_hw87 => k0_hw87.1
theorem k0_off174_inb : ∀ (v1212 : BitVec 32) (k0_hw87 : k0_chk87 v1212), ∀ a, (k0_off174 v1212) a + S1x1x1x128.size a ≤ S1x33344x1x128.size a := fun v1212 k0_hw87 => k0_hw87.2

def k0_off175 (v1226 : BitVec 32) : Fin 4 → Nat :=
  let c0_1144 : Index := 0#32
  let v1227 : Index := Scalar.indexCast v1226
  let c0_1145 : Index := 0#32
  let c0_1146 : Index := 0#32
  ![0, v1227.toNat, 0, 0]

def k0_off176 (v1226 : BitVec 32) : Fin 4 → Nat :=
  let c0_1150 : Index := 0#32
  let c1_i32_1149 : BitVec 32 := 1#32
  let v1233 : BitVec 32 := Scalar.addi v1226 c1_i32_1149
  let v1234 : Index := Scalar.indexCast v1233
  let c0_1151 : Index := 0#32
  let c0_1152 : Index := 0#32
  ![0, v1234.toNat, 0, 0]

def k0_chk88 (v1226 : BitVec 32) : Prop :=
  (∀ a, (k0_off175 v1226) a + S1x1x1x128.size a ≤ S1x33344x1x128.size a) ∧
  (∀ a, (k0_off176 v1226) a + S1x1x1x128.size a ≤ S1x33344x1x128.size a)
theorem k0_off175_inb : ∀ (v1226 : BitVec 32) (k0_hw88 : k0_chk88 v1226), ∀ a, (k0_off175 v1226) a + S1x1x1x128.size a ≤ S1x33344x1x128.size a := fun v1226 k0_hw88 => k0_hw88.1
theorem k0_off176_inb : ∀ (v1226 : BitVec 32) (k0_hw88 : k0_chk88 v1226), ∀ a, (k0_off176 v1226) a + S1x1x1x128.size a ≤ S1x33344x1x128.size a := fun v1226 k0_hw88 => k0_hw88.2

def k0_off177 (v1240 : BitVec 32) : Fin 4 → Nat :=
  let c0_1157 : Index := 0#32
  let v1241 : Index := Scalar.indexCast v1240
  let c0_1158 : Index := 0#32
  let c0_1159 : Index := 0#32
  ![0, v1241.toNat, 0, 0]

def k0_off178 (v1240 : BitVec 32) : Fin 4 → Nat :=
  let c0_1163 : Index := 0#32
  let c1_i32_1162 : BitVec 32 := 1#32
  let v1247 : BitVec 32 := Scalar.addi v1240 c1_i32_1162
  let v1248 : Index := Scalar.indexCast v1247
  let c0_1164 : Index := 0#32
  let c0_1165 : Index := 0#32
  ![0, v1248.toNat, 0, 0]

def k0_chk89 (v1240 : BitVec 32) : Prop :=
  (∀ a, (k0_off177 v1240) a + S1x1x1x128.size a ≤ S1x33344x1x128.size a) ∧
  (∀ a, (k0_off178 v1240) a + S1x1x1x128.size a ≤ S1x33344x1x128.size a)
theorem k0_off177_inb : ∀ (v1240 : BitVec 32) (k0_hw89 : k0_chk89 v1240), ∀ a, (k0_off177 v1240) a + S1x1x1x128.size a ≤ S1x33344x1x128.size a := fun v1240 k0_hw89 => k0_hw89.1
theorem k0_off178_inb : ∀ (v1240 : BitVec 32) (k0_hw89 : k0_chk89 v1240), ∀ a, (k0_off178 v1240) a + S1x1x1x128.size a ≤ S1x33344x1x128.size a := fun v1240 k0_hw89 => k0_hw89.2

def k0_off179 (v1254 : BitVec 32) : Fin 4 → Nat :=
  let c0_1170 : Index := 0#32
  let v1255 : Index := Scalar.indexCast v1254
  let c0_1171 : Index := 0#32
  let c0_1172 : Index := 0#32
  ![0, v1255.toNat, 0, 0]

def k0_off180 (v1254 : BitVec 32) : Fin 4 → Nat :=
  let c0_1176 : Index := 0#32
  let c1_i32_1175 : BitVec 32 := 1#32
  let v1261 : BitVec 32 := Scalar.addi v1254 c1_i32_1175
  let v1262 : Index := Scalar.indexCast v1261
  let c0_1177 : Index := 0#32
  let c0_1178 : Index := 0#32
  ![0, v1262.toNat, 0, 0]

def k0_chk90 (v1254 : BitVec 32) : Prop :=
  (∀ a, (k0_off179 v1254) a + S1x1x1x128.size a ≤ S1x33344x1x128.size a) ∧
  (∀ a, (k0_off180 v1254) a + S1x1x1x128.size a ≤ S1x33344x1x128.size a)
theorem k0_off179_inb : ∀ (v1254 : BitVec 32) (k0_hw90 : k0_chk90 v1254), ∀ a, (k0_off179 v1254) a + S1x1x1x128.size a ≤ S1x33344x1x128.size a := fun v1254 k0_hw90 => k0_hw90.1
theorem k0_off180_inb : ∀ (v1254 : BitVec 32) (k0_hw90 : k0_chk90 v1254), ∀ a, (k0_off180 v1254) a + S1x1x1x128.size a ≤ S1x33344x1x128.size a := fun v1254 k0_hw90 => k0_hw90.2

def k0_off181 (v1268 : BitVec 32) : Fin 4 → Nat :=
  let c0_1183 : Index := 0#32
  let v1269 : Index := Scalar.indexCast v1268
  let c0_1184 : Index := 0#32
  let c0_1185 : Index := 0#32
  ![0, v1269.toNat, 0, 0]

def k0_off182 (v1268 : BitVec 32) : Fin 4 → Nat :=
  let c0_1189 : Index := 0#32
  let c1_i32_1188 : BitVec 32 := 1#32
  let v1275 : BitVec 32 := Scalar.addi v1268 c1_i32_1188
  let v1276 : Index := Scalar.indexCast v1275
  let c0_1190 : Index := 0#32
  let c0_1191 : Index := 0#32
  ![0, v1276.toNat, 0, 0]

def k0_chk91 (v1268 : BitVec 32) : Prop :=
  (∀ a, (k0_off181 v1268) a + S1x1x1x128.size a ≤ S1x33344x1x128.size a) ∧
  (∀ a, (k0_off182 v1268) a + S1x1x1x128.size a ≤ S1x33344x1x128.size a)
theorem k0_off181_inb : ∀ (v1268 : BitVec 32) (k0_hw91 : k0_chk91 v1268), ∀ a, (k0_off181 v1268) a + S1x1x1x128.size a ≤ S1x33344x1x128.size a := fun v1268 k0_hw91 => k0_hw91.1
theorem k0_off182_inb : ∀ (v1268 : BitVec 32) (k0_hw91 : k0_chk91 v1268), ∀ a, (k0_off182 v1268) a + S1x1x1x128.size a ≤ S1x33344x1x128.size a := fun v1268 k0_hw91 => k0_hw91.2

def k0_off183 (v1282 : BitVec 32) : Fin 4 → Nat :=
  let c0_1196 : Index := 0#32
  let v1283 : Index := Scalar.indexCast v1282
  let c0_1197 : Index := 0#32
  let c0_1198 : Index := 0#32
  ![0, v1283.toNat, 0, 0]

def k0_off184 (v1282 : BitVec 32) : Fin 4 → Nat :=
  let c0_1202 : Index := 0#32
  let c1_i32_1201 : BitVec 32 := 1#32
  let v1289 : BitVec 32 := Scalar.addi v1282 c1_i32_1201
  let v1290 : Index := Scalar.indexCast v1289
  let c0_1203 : Index := 0#32
  let c0_1204 : Index := 0#32
  ![0, v1290.toNat, 0, 0]

def k0_chk92 (v1282 : BitVec 32) : Prop :=
  (∀ a, (k0_off183 v1282) a + S1x1x1x128.size a ≤ S1x33344x1x128.size a) ∧
  (∀ a, (k0_off184 v1282) a + S1x1x1x128.size a ≤ S1x33344x1x128.size a)
theorem k0_off183_inb : ∀ (v1282 : BitVec 32) (k0_hw92 : k0_chk92 v1282), ∀ a, (k0_off183 v1282) a + S1x1x1x128.size a ≤ S1x33344x1x128.size a := fun v1282 k0_hw92 => k0_hw92.1
theorem k0_off184_inb : ∀ (v1282 : BitVec 32) (k0_hw92 : k0_chk92 v1282), ∀ a, (k0_off184 v1282) a + S1x1x1x128.size a ≤ S1x33344x1x128.size a := fun v1282 k0_hw92 => k0_hw92.2

def k0_off185 (v1296 : BitVec 32) : Fin 4 → Nat :=
  let c0_1209 : Index := 0#32
  let v1297 : Index := Scalar.indexCast v1296
  let c0_1210 : Index := 0#32
  let c0_1211 : Index := 0#32
  ![0, v1297.toNat, 0, 0]

def k0_off186 (v1296 : BitVec 32) : Fin 4 → Nat :=
  let c0_1215 : Index := 0#32
  let c1_i32_1214 : BitVec 32 := 1#32
  let v1303 : BitVec 32 := Scalar.addi v1296 c1_i32_1214
  let v1304 : Index := Scalar.indexCast v1303
  let c0_1216 : Index := 0#32
  let c0_1217 : Index := 0#32
  ![0, v1304.toNat, 0, 0]

def k0_chk93 (v1296 : BitVec 32) : Prop :=
  (∀ a, (k0_off185 v1296) a + S1x1x1x128.size a ≤ S1x33344x1x128.size a) ∧
  (∀ a, (k0_off186 v1296) a + S1x1x1x128.size a ≤ S1x33344x1x128.size a)
theorem k0_off185_inb : ∀ (v1296 : BitVec 32) (k0_hw93 : k0_chk93 v1296), ∀ a, (k0_off185 v1296) a + S1x1x1x128.size a ≤ S1x33344x1x128.size a := fun v1296 k0_hw93 => k0_hw93.1
theorem k0_off186_inb : ∀ (v1296 : BitVec 32) (k0_hw93 : k0_chk93 v1296), ∀ a, (k0_off186 v1296) a + S1x1x1x128.size a ≤ S1x33344x1x128.size a := fun v1296 k0_hw93 => k0_hw93.2

def k0_off187 (v1310 : BitVec 32) : Fin 4 → Nat :=
  let c0_1222 : Index := 0#32
  let v1311 : Index := Scalar.indexCast v1310
  let c0_1223 : Index := 0#32
  let c0_1224 : Index := 0#32
  ![0, v1311.toNat, 0, 0]

def k0_off188 (v1310 : BitVec 32) : Fin 4 → Nat :=
  let c0_1228 : Index := 0#32
  let c1_i32_1227 : BitVec 32 := 1#32
  let v1317 : BitVec 32 := Scalar.addi v1310 c1_i32_1227
  let v1318 : Index := Scalar.indexCast v1317
  let c0_1229 : Index := 0#32
  let c0_1230 : Index := 0#32
  ![0, v1318.toNat, 0, 0]

def k0_chk94 (v1310 : BitVec 32) : Prop :=
  (∀ a, (k0_off187 v1310) a + S1x1x1x128.size a ≤ S1x33344x1x128.size a) ∧
  (∀ a, (k0_off188 v1310) a + S1x1x1x128.size a ≤ S1x33344x1x128.size a)
theorem k0_off187_inb : ∀ (v1310 : BitVec 32) (k0_hw94 : k0_chk94 v1310), ∀ a, (k0_off187 v1310) a + S1x1x1x128.size a ≤ S1x33344x1x128.size a := fun v1310 k0_hw94 => k0_hw94.1
theorem k0_off188_inb : ∀ (v1310 : BitVec 32) (k0_hw94 : k0_chk94 v1310), ∀ a, (k0_off188 v1310) a + S1x1x1x128.size a ≤ S1x33344x1x128.size a := fun v1310 k0_hw94 => k0_hw94.2

def k0_off189 (v1324 : BitVec 32) : Fin 4 → Nat :=
  let c0_1235 : Index := 0#32
  let v1325 : Index := Scalar.indexCast v1324
  let c0_1236 : Index := 0#32
  let c0_1237 : Index := 0#32
  ![0, v1325.toNat, 0, 0]

def k0_off190 (v1324 : BitVec 32) : Fin 4 → Nat :=
  let c0_1241 : Index := 0#32
  let c1_i32_1240 : BitVec 32 := 1#32
  let v1331 : BitVec 32 := Scalar.addi v1324 c1_i32_1240
  let v1332 : Index := Scalar.indexCast v1331
  let c0_1242 : Index := 0#32
  let c0_1243 : Index := 0#32
  ![0, v1332.toNat, 0, 0]

def k0_chk95 (v1324 : BitVec 32) : Prop :=
  (∀ a, (k0_off189 v1324) a + S1x1x1x128.size a ≤ S1x33344x1x128.size a) ∧
  (∀ a, (k0_off190 v1324) a + S1x1x1x128.size a ≤ S1x33344x1x128.size a)
theorem k0_off189_inb : ∀ (v1324 : BitVec 32) (k0_hw95 : k0_chk95 v1324), ∀ a, (k0_off189 v1324) a + S1x1x1x128.size a ≤ S1x33344x1x128.size a := fun v1324 k0_hw95 => k0_hw95.1
theorem k0_off190_inb : ∀ (v1324 : BitVec 32) (k0_hw95 : k0_chk95 v1324), ∀ a, (k0_off190 v1324) a + S1x1x1x128.size a ≤ S1x33344x1x128.size a := fun v1324 k0_hw95 => k0_hw95.2

def k0_off191 (v1338 : BitVec 32) : Fin 4 → Nat :=
  let c0_1248 : Index := 0#32
  let v1339 : Index := Scalar.indexCast v1338
  let c0_1249 : Index := 0#32
  let c0_1250 : Index := 0#32
  ![0, v1339.toNat, 0, 0]

def k0_off192 (v1338 : BitVec 32) : Fin 4 → Nat :=
  let c0_1254 : Index := 0#32
  let c1_i32_1253 : BitVec 32 := 1#32
  let v1345 : BitVec 32 := Scalar.addi v1338 c1_i32_1253
  let v1346 : Index := Scalar.indexCast v1345
  let c0_1255 : Index := 0#32
  let c0_1256 : Index := 0#32
  ![0, v1346.toNat, 0, 0]

def k0_chk96 (v1338 : BitVec 32) : Prop :=
  (∀ a, (k0_off191 v1338) a + S1x1x1x128.size a ≤ S1x33344x1x128.size a) ∧
  (∀ a, (k0_off192 v1338) a + S1x1x1x128.size a ≤ S1x33344x1x128.size a)
theorem k0_off191_inb : ∀ (v1338 : BitVec 32) (k0_hw96 : k0_chk96 v1338), ∀ a, (k0_off191 v1338) a + S1x1x1x128.size a ≤ S1x33344x1x128.size a := fun v1338 k0_hw96 => k0_hw96.1
theorem k0_off192_inb : ∀ (v1338 : BitVec 32) (k0_hw96 : k0_chk96 v1338), ∀ a, (k0_off192 v1338) a + S1x1x1x128.size a ≤ S1x33344x1x128.size a := fun v1338 k0_hw96 => k0_hw96.2

def k0_off193 (v1352 : BitVec 32) : Fin 4 → Nat :=
  let c0_1261 : Index := 0#32
  let v1353 : Index := Scalar.indexCast v1352
  let c0_1262 : Index := 0#32
  let c0_1263 : Index := 0#32
  ![0, v1353.toNat, 0, 0]

def k0_off194 (v1352 : BitVec 32) : Fin 4 → Nat :=
  let c0_1267 : Index := 0#32
  let c1_i32_1266 : BitVec 32 := 1#32
  let v1359 : BitVec 32 := Scalar.addi v1352 c1_i32_1266
  let v1360 : Index := Scalar.indexCast v1359
  let c0_1268 : Index := 0#32
  let c0_1269 : Index := 0#32
  ![0, v1360.toNat, 0, 0]

def k0_chk97 (v1352 : BitVec 32) : Prop :=
  (∀ a, (k0_off193 v1352) a + S1x1x1x128.size a ≤ S1x33344x1x128.size a) ∧
  (∀ a, (k0_off194 v1352) a + S1x1x1x128.size a ≤ S1x33344x1x128.size a)
theorem k0_off193_inb : ∀ (v1352 : BitVec 32) (k0_hw97 : k0_chk97 v1352), ∀ a, (k0_off193 v1352) a + S1x1x1x128.size a ≤ S1x33344x1x128.size a := fun v1352 k0_hw97 => k0_hw97.1
theorem k0_off194_inb : ∀ (v1352 : BitVec 32) (k0_hw97 : k0_chk97 v1352), ∀ a, (k0_off194 v1352) a + S1x1x1x128.size a ≤ S1x33344x1x128.size a := fun v1352 k0_hw97 => k0_hw97.2

def k0_off195 (v1366 : BitVec 32) : Fin 4 → Nat :=
  let c0_1274 : Index := 0#32
  let v1367 : Index := Scalar.indexCast v1366
  let c0_1275 : Index := 0#32
  let c0_1276 : Index := 0#32
  ![0, v1367.toNat, 0, 0]

def k0_off196 (v1366 : BitVec 32) : Fin 4 → Nat :=
  let c0_1280 : Index := 0#32
  let c1_i32_1279 : BitVec 32 := 1#32
  let v1373 : BitVec 32 := Scalar.addi v1366 c1_i32_1279
  let v1374 : Index := Scalar.indexCast v1373
  let c0_1281 : Index := 0#32
  let c0_1282 : Index := 0#32
  ![0, v1374.toNat, 0, 0]

def k0_chk98 (v1366 : BitVec 32) : Prop :=
  (∀ a, (k0_off195 v1366) a + S1x1x1x128.size a ≤ S1x33344x1x128.size a) ∧
  (∀ a, (k0_off196 v1366) a + S1x1x1x128.size a ≤ S1x33344x1x128.size a)
theorem k0_off195_inb : ∀ (v1366 : BitVec 32) (k0_hw98 : k0_chk98 v1366), ∀ a, (k0_off195 v1366) a + S1x1x1x128.size a ≤ S1x33344x1x128.size a := fun v1366 k0_hw98 => k0_hw98.1
theorem k0_off196_inb : ∀ (v1366 : BitVec 32) (k0_hw98 : k0_chk98 v1366), ∀ a, (k0_off196 v1366) a + S1x1x1x128.size a ≤ S1x33344x1x128.size a := fun v1366 k0_hw98 => k0_hw98.2

def k0_off197 (v1380 : BitVec 32) : Fin 4 → Nat :=
  let c0_1287 : Index := 0#32
  let v1381 : Index := Scalar.indexCast v1380
  let c0_1288 : Index := 0#32
  let c0_1289 : Index := 0#32
  ![0, v1381.toNat, 0, 0]

def k0_off198 (v1380 : BitVec 32) : Fin 4 → Nat :=
  let c0_1293 : Index := 0#32
  let c1_i32_1292 : BitVec 32 := 1#32
  let v1387 : BitVec 32 := Scalar.addi v1380 c1_i32_1292
  let v1388 : Index := Scalar.indexCast v1387
  let c0_1294 : Index := 0#32
  let c0_1295 : Index := 0#32
  ![0, v1388.toNat, 0, 0]

def k0_chk99 (v1380 : BitVec 32) : Prop :=
  (∀ a, (k0_off197 v1380) a + S1x1x1x128.size a ≤ S1x33344x1x128.size a) ∧
  (∀ a, (k0_off198 v1380) a + S1x1x1x128.size a ≤ S1x33344x1x128.size a)
theorem k0_off197_inb : ∀ (v1380 : BitVec 32) (k0_hw99 : k0_chk99 v1380), ∀ a, (k0_off197 v1380) a + S1x1x1x128.size a ≤ S1x33344x1x128.size a := fun v1380 k0_hw99 => k0_hw99.1
theorem k0_off198_inb : ∀ (v1380 : BitVec 32) (k0_hw99 : k0_chk99 v1380), ∀ a, (k0_off198 v1380) a + S1x1x1x128.size a ≤ S1x33344x1x128.size a := fun v1380 k0_hw99 => k0_hw99.2

def k0_off199 (v1394 : BitVec 32) : Fin 4 → Nat :=
  let c0_1300 : Index := 0#32
  let v1395 : Index := Scalar.indexCast v1394
  let c0_1301 : Index := 0#32
  let c0_1302 : Index := 0#32
  ![0, v1395.toNat, 0, 0]

def k0_off200 (v1394 : BitVec 32) : Fin 4 → Nat :=
  let c0_1306 : Index := 0#32
  let c1_i32_1305 : BitVec 32 := 1#32
  let v1401 : BitVec 32 := Scalar.addi v1394 c1_i32_1305
  let v1402 : Index := Scalar.indexCast v1401
  let c0_1307 : Index := 0#32
  let c0_1308 : Index := 0#32
  ![0, v1402.toNat, 0, 0]

def k0_chk100 (v1394 : BitVec 32) : Prop :=
  (∀ a, (k0_off199 v1394) a + S1x1x1x128.size a ≤ S1x33344x1x128.size a) ∧
  (∀ a, (k0_off200 v1394) a + S1x1x1x128.size a ≤ S1x33344x1x128.size a)
theorem k0_off199_inb : ∀ (v1394 : BitVec 32) (k0_hw100 : k0_chk100 v1394), ∀ a, (k0_off199 v1394) a + S1x1x1x128.size a ≤ S1x33344x1x128.size a := fun v1394 k0_hw100 => k0_hw100.1
theorem k0_off200_inb : ∀ (v1394 : BitVec 32) (k0_hw100 : k0_chk100 v1394), ∀ a, (k0_off200 v1394) a + S1x1x1x128.size a ≤ S1x33344x1x128.size a := fun v1394 k0_hw100 => k0_hw100.2

def k0_off201 (v1408 : BitVec 32) : Fin 4 → Nat :=
  let c0_1313 : Index := 0#32
  let v1409 : Index := Scalar.indexCast v1408
  let c0_1314 : Index := 0#32
  let c0_1315 : Index := 0#32
  ![0, v1409.toNat, 0, 0]

def k0_off202 (v1408 : BitVec 32) : Fin 4 → Nat :=
  let c0_1319 : Index := 0#32
  let c1_i32_1318 : BitVec 32 := 1#32
  let v1415 : BitVec 32 := Scalar.addi v1408 c1_i32_1318
  let v1416 : Index := Scalar.indexCast v1415
  let c0_1320 : Index := 0#32
  let c0_1321 : Index := 0#32
  ![0, v1416.toNat, 0, 0]

def k0_chk101 (v1408 : BitVec 32) : Prop :=
  (∀ a, (k0_off201 v1408) a + S1x1x1x128.size a ≤ S1x33344x1x128.size a) ∧
  (∀ a, (k0_off202 v1408) a + S1x1x1x128.size a ≤ S1x33344x1x128.size a)
theorem k0_off201_inb : ∀ (v1408 : BitVec 32) (k0_hw101 : k0_chk101 v1408), ∀ a, (k0_off201 v1408) a + S1x1x1x128.size a ≤ S1x33344x1x128.size a := fun v1408 k0_hw101 => k0_hw101.1
theorem k0_off202_inb : ∀ (v1408 : BitVec 32) (k0_hw101 : k0_chk101 v1408), ∀ a, (k0_off202 v1408) a + S1x1x1x128.size a ≤ S1x33344x1x128.size a := fun v1408 k0_hw101 => k0_hw101.2

def k0_off203 (v1422 : BitVec 32) : Fin 4 → Nat :=
  let c0_1326 : Index := 0#32
  let v1423 : Index := Scalar.indexCast v1422
  let c0_1327 : Index := 0#32
  let c0_1328 : Index := 0#32
  ![0, v1423.toNat, 0, 0]

def k0_off204 (v1422 : BitVec 32) : Fin 4 → Nat :=
  let c0_1332 : Index := 0#32
  let c1_i32_1331 : BitVec 32 := 1#32
  let v1429 : BitVec 32 := Scalar.addi v1422 c1_i32_1331
  let v1430 : Index := Scalar.indexCast v1429
  let c0_1333 : Index := 0#32
  let c0_1334 : Index := 0#32
  ![0, v1430.toNat, 0, 0]

def k0_chk102 (v1422 : BitVec 32) : Prop :=
  (∀ a, (k0_off203 v1422) a + S1x1x1x128.size a ≤ S1x33344x1x128.size a) ∧
  (∀ a, (k0_off204 v1422) a + S1x1x1x128.size a ≤ S1x33344x1x128.size a)
theorem k0_off203_inb : ∀ (v1422 : BitVec 32) (k0_hw102 : k0_chk102 v1422), ∀ a, (k0_off203 v1422) a + S1x1x1x128.size a ≤ S1x33344x1x128.size a := fun v1422 k0_hw102 => k0_hw102.1
theorem k0_off204_inb : ∀ (v1422 : BitVec 32) (k0_hw102 : k0_chk102 v1422), ∀ a, (k0_off204 v1422) a + S1x1x1x128.size a ≤ S1x33344x1x128.size a := fun v1422 k0_hw102 => k0_hw102.2

def k0_off205 (v1436 : BitVec 32) : Fin 4 → Nat :=
  let c0_1339 : Index := 0#32
  let v1437 : Index := Scalar.indexCast v1436
  let c0_1340 : Index := 0#32
  let c0_1341 : Index := 0#32
  ![0, v1437.toNat, 0, 0]

def k0_off206 (v1436 : BitVec 32) : Fin 4 → Nat :=
  let c0_1345 : Index := 0#32
  let c1_i32_1344 : BitVec 32 := 1#32
  let v1443 : BitVec 32 := Scalar.addi v1436 c1_i32_1344
  let v1444 : Index := Scalar.indexCast v1443
  let c0_1346 : Index := 0#32
  let c0_1347 : Index := 0#32
  ![0, v1444.toNat, 0, 0]

def k0_chk103 (v1436 : BitVec 32) : Prop :=
  (∀ a, (k0_off205 v1436) a + S1x1x1x128.size a ≤ S1x33344x1x128.size a) ∧
  (∀ a, (k0_off206 v1436) a + S1x1x1x128.size a ≤ S1x33344x1x128.size a)
theorem k0_off205_inb : ∀ (v1436 : BitVec 32) (k0_hw103 : k0_chk103 v1436), ∀ a, (k0_off205 v1436) a + S1x1x1x128.size a ≤ S1x33344x1x128.size a := fun v1436 k0_hw103 => k0_hw103.1
theorem k0_off206_inb : ∀ (v1436 : BitVec 32) (k0_hw103 : k0_chk103 v1436), ∀ a, (k0_off206 v1436) a + S1x1x1x128.size a ≤ S1x33344x1x128.size a := fun v1436 k0_hw103 => k0_hw103.2

def k0_off207 (v1450 : BitVec 32) : Fin 4 → Nat :=
  let c0_1352 : Index := 0#32
  let v1451 : Index := Scalar.indexCast v1450
  let c0_1353 : Index := 0#32
  let c0_1354 : Index := 0#32
  ![0, v1451.toNat, 0, 0]

def k0_off208 (v1450 : BitVec 32) : Fin 4 → Nat :=
  let c0_1358 : Index := 0#32
  let c1_i32_1357 : BitVec 32 := 1#32
  let v1457 : BitVec 32 := Scalar.addi v1450 c1_i32_1357
  let v1458 : Index := Scalar.indexCast v1457
  let c0_1359 : Index := 0#32
  let c0_1360 : Index := 0#32
  ![0, v1458.toNat, 0, 0]

def k0_chk104 (v1450 : BitVec 32) : Prop :=
  (∀ a, (k0_off207 v1450) a + S1x1x1x128.size a ≤ S1x33344x1x128.size a) ∧
  (∀ a, (k0_off208 v1450) a + S1x1x1x128.size a ≤ S1x33344x1x128.size a)
theorem k0_off207_inb : ∀ (v1450 : BitVec 32) (k0_hw104 : k0_chk104 v1450), ∀ a, (k0_off207 v1450) a + S1x1x1x128.size a ≤ S1x33344x1x128.size a := fun v1450 k0_hw104 => k0_hw104.1
theorem k0_off208_inb : ∀ (v1450 : BitVec 32) (k0_hw104 : k0_chk104 v1450), ∀ a, (k0_off208 v1450) a + S1x1x1x128.size a ≤ S1x33344x1x128.size a := fun v1450 k0_hw104 => k0_hw104.2

def k0_off209 (v1464 : BitVec 32) : Fin 4 → Nat :=
  let c0_1365 : Index := 0#32
  let v1465 : Index := Scalar.indexCast v1464
  let c0_1366 : Index := 0#32
  let c0_1367 : Index := 0#32
  ![0, v1465.toNat, 0, 0]

def k0_off210 (v1464 : BitVec 32) : Fin 4 → Nat :=
  let c0_1371 : Index := 0#32
  let c1_i32_1370 : BitVec 32 := 1#32
  let v1471 : BitVec 32 := Scalar.addi v1464 c1_i32_1370
  let v1472 : Index := Scalar.indexCast v1471
  let c0_1372 : Index := 0#32
  let c0_1373 : Index := 0#32
  ![0, v1472.toNat, 0, 0]

def k0_chk105 (v1464 : BitVec 32) : Prop :=
  (∀ a, (k0_off209 v1464) a + S1x1x1x128.size a ≤ S1x33344x1x128.size a) ∧
  (∀ a, (k0_off210 v1464) a + S1x1x1x128.size a ≤ S1x33344x1x128.size a)
theorem k0_off209_inb : ∀ (v1464 : BitVec 32) (k0_hw105 : k0_chk105 v1464), ∀ a, (k0_off209 v1464) a + S1x1x1x128.size a ≤ S1x33344x1x128.size a := fun v1464 k0_hw105 => k0_hw105.1
theorem k0_off210_inb : ∀ (v1464 : BitVec 32) (k0_hw105 : k0_chk105 v1464), ∀ a, (k0_off210 v1464) a + S1x1x1x128.size a ≤ S1x33344x1x128.size a := fun v1464 k0_hw105 => k0_hw105.2

def k0_off211 (v1478 : BitVec 32) : Fin 4 → Nat :=
  let c0_1378 : Index := 0#32
  let v1479 : Index := Scalar.indexCast v1478
  let c0_1379 : Index := 0#32
  let c0_1380 : Index := 0#32
  ![0, v1479.toNat, 0, 0]

def k0_off212 (v1478 : BitVec 32) : Fin 4 → Nat :=
  let c0_1384 : Index := 0#32
  let c1_i32_1383 : BitVec 32 := 1#32
  let v1485 : BitVec 32 := Scalar.addi v1478 c1_i32_1383
  let v1486 : Index := Scalar.indexCast v1485
  let c0_1385 : Index := 0#32
  let c0_1386 : Index := 0#32
  ![0, v1486.toNat, 0, 0]

def k0_chk106 (v1478 : BitVec 32) : Prop :=
  (∀ a, (k0_off211 v1478) a + S1x1x1x128.size a ≤ S1x33344x1x128.size a) ∧
  (∀ a, (k0_off212 v1478) a + S1x1x1x128.size a ≤ S1x33344x1x128.size a)
theorem k0_off211_inb : ∀ (v1478 : BitVec 32) (k0_hw106 : k0_chk106 v1478), ∀ a, (k0_off211 v1478) a + S1x1x1x128.size a ≤ S1x33344x1x128.size a := fun v1478 k0_hw106 => k0_hw106.1
theorem k0_off212_inb : ∀ (v1478 : BitVec 32) (k0_hw106 : k0_chk106 v1478), ∀ a, (k0_off212 v1478) a + S1x1x1x128.size a ≤ S1x33344x1x128.size a := fun v1478 k0_hw106 => k0_hw106.2

def k0_off213 (v1492 : BitVec 32) : Fin 4 → Nat :=
  let c0_1391 : Index := 0#32
  let v1493 : Index := Scalar.indexCast v1492
  let c0_1392 : Index := 0#32
  let c0_1393 : Index := 0#32
  ![0, v1493.toNat, 0, 0]

def k0_off214 (v1492 : BitVec 32) : Fin 4 → Nat :=
  let c0_1397 : Index := 0#32
  let c1_i32_1396 : BitVec 32 := 1#32
  let v1499 : BitVec 32 := Scalar.addi v1492 c1_i32_1396
  let v1500 : Index := Scalar.indexCast v1499
  let c0_1398 : Index := 0#32
  let c0_1399 : Index := 0#32
  ![0, v1500.toNat, 0, 0]

def k0_chk107 (v1492 : BitVec 32) : Prop :=
  (∀ a, (k0_off213 v1492) a + S1x1x1x128.size a ≤ S1x33344x1x128.size a) ∧
  (∀ a, (k0_off214 v1492) a + S1x1x1x128.size a ≤ S1x33344x1x128.size a)
theorem k0_off213_inb : ∀ (v1492 : BitVec 32) (k0_hw107 : k0_chk107 v1492), ∀ a, (k0_off213 v1492) a + S1x1x1x128.size a ≤ S1x33344x1x128.size a := fun v1492 k0_hw107 => k0_hw107.1
theorem k0_off214_inb : ∀ (v1492 : BitVec 32) (k0_hw107 : k0_chk107 v1492), ∀ a, (k0_off214 v1492) a + S1x1x1x128.size a ≤ S1x33344x1x128.size a := fun v1492 k0_hw107 => k0_hw107.2

def k0_off215 (v1506 : BitVec 32) : Fin 4 → Nat :=
  let c0_1404 : Index := 0#32
  let v1507 : Index := Scalar.indexCast v1506
  let c0_1405 : Index := 0#32
  let c0_1406 : Index := 0#32
  ![0, v1507.toNat, 0, 0]

def k0_off216 (v1506 : BitVec 32) : Fin 4 → Nat :=
  let c0_1410 : Index := 0#32
  let c1_i32_1409 : BitVec 32 := 1#32
  let v1513 : BitVec 32 := Scalar.addi v1506 c1_i32_1409
  let v1514 : Index := Scalar.indexCast v1513
  let c0_1411 : Index := 0#32
  let c0_1412 : Index := 0#32
  ![0, v1514.toNat, 0, 0]

def k0_chk108 (v1506 : BitVec 32) : Prop :=
  (∀ a, (k0_off215 v1506) a + S1x1x1x128.size a ≤ S1x33344x1x128.size a) ∧
  (∀ a, (k0_off216 v1506) a + S1x1x1x128.size a ≤ S1x33344x1x128.size a)
theorem k0_off215_inb : ∀ (v1506 : BitVec 32) (k0_hw108 : k0_chk108 v1506), ∀ a, (k0_off215 v1506) a + S1x1x1x128.size a ≤ S1x33344x1x128.size a := fun v1506 k0_hw108 => k0_hw108.1
theorem k0_off216_inb : ∀ (v1506 : BitVec 32) (k0_hw108 : k0_chk108 v1506), ∀ a, (k0_off216 v1506) a + S1x1x1x128.size a ≤ S1x33344x1x128.size a := fun v1506 k0_hw108 => k0_hw108.2

def k0_off217 (v1520 : BitVec 32) : Fin 4 → Nat :=
  let c0_1417 : Index := 0#32
  let v1521 : Index := Scalar.indexCast v1520
  let c0_1418 : Index := 0#32
  let c0_1419 : Index := 0#32
  ![0, v1521.toNat, 0, 0]

def k0_off218 (v1520 : BitVec 32) : Fin 4 → Nat :=
  let c0_1423 : Index := 0#32
  let c1_i32_1422 : BitVec 32 := 1#32
  let v1527 : BitVec 32 := Scalar.addi v1520 c1_i32_1422
  let v1528 : Index := Scalar.indexCast v1527
  let c0_1424 : Index := 0#32
  let c0_1425 : Index := 0#32
  ![0, v1528.toNat, 0, 0]

def k0_chk109 (v1520 : BitVec 32) : Prop :=
  (∀ a, (k0_off217 v1520) a + S1x1x1x128.size a ≤ S1x33344x1x128.size a) ∧
  (∀ a, (k0_off218 v1520) a + S1x1x1x128.size a ≤ S1x33344x1x128.size a)
theorem k0_off217_inb : ∀ (v1520 : BitVec 32) (k0_hw109 : k0_chk109 v1520), ∀ a, (k0_off217 v1520) a + S1x1x1x128.size a ≤ S1x33344x1x128.size a := fun v1520 k0_hw109 => k0_hw109.1
theorem k0_off218_inb : ∀ (v1520 : BitVec 32) (k0_hw109 : k0_chk109 v1520), ∀ a, (k0_off218 v1520) a + S1x1x1x128.size a ≤ S1x33344x1x128.size a := fun v1520 k0_hw109 => k0_hw109.2

def k0_off219 (v1534 : BitVec 32) : Fin 4 → Nat :=
  let c0_1430 : Index := 0#32
  let v1535 : Index := Scalar.indexCast v1534
  let c0_1431 : Index := 0#32
  let c0_1432 : Index := 0#32
  ![0, v1535.toNat, 0, 0]

def k0_off220 (v1534 : BitVec 32) : Fin 4 → Nat :=
  let c0_1436 : Index := 0#32
  let c1_i32_1435 : BitVec 32 := 1#32
  let v1541 : BitVec 32 := Scalar.addi v1534 c1_i32_1435
  let v1542 : Index := Scalar.indexCast v1541
  let c0_1437 : Index := 0#32
  let c0_1438 : Index := 0#32
  ![0, v1542.toNat, 0, 0]

def k0_chk110 (v1534 : BitVec 32) : Prop :=
  (∀ a, (k0_off219 v1534) a + S1x1x1x128.size a ≤ S1x33344x1x128.size a) ∧
  (∀ a, (k0_off220 v1534) a + S1x1x1x128.size a ≤ S1x33344x1x128.size a)
theorem k0_off219_inb : ∀ (v1534 : BitVec 32) (k0_hw110 : k0_chk110 v1534), ∀ a, (k0_off219 v1534) a + S1x1x1x128.size a ≤ S1x33344x1x128.size a := fun v1534 k0_hw110 => k0_hw110.1
theorem k0_off220_inb : ∀ (v1534 : BitVec 32) (k0_hw110 : k0_chk110 v1534), ∀ a, (k0_off220 v1534) a + S1x1x1x128.size a ≤ S1x33344x1x128.size a := fun v1534 k0_hw110 => k0_hw110.2

def k0_off221 (v1548 : BitVec 32) : Fin 4 → Nat :=
  let c0_1443 : Index := 0#32
  let v1549 : Index := Scalar.indexCast v1548
  let c0_1444 : Index := 0#32
  let c0_1445 : Index := 0#32
  ![0, v1549.toNat, 0, 0]

def k0_off222 (v1548 : BitVec 32) : Fin 4 → Nat :=
  let c0_1449 : Index := 0#32
  let c1_i32_1448 : BitVec 32 := 1#32
  let v1555 : BitVec 32 := Scalar.addi v1548 c1_i32_1448
  let v1556 : Index := Scalar.indexCast v1555
  let c0_1450 : Index := 0#32
  let c0_1451 : Index := 0#32
  ![0, v1556.toNat, 0, 0]

def k0_chk111 (v1548 : BitVec 32) : Prop :=
  (∀ a, (k0_off221 v1548) a + S1x1x1x128.size a ≤ S1x33344x1x128.size a) ∧
  (∀ a, (k0_off222 v1548) a + S1x1x1x128.size a ≤ S1x33344x1x128.size a)
theorem k0_off221_inb : ∀ (v1548 : BitVec 32) (k0_hw111 : k0_chk111 v1548), ∀ a, (k0_off221 v1548) a + S1x1x1x128.size a ≤ S1x33344x1x128.size a := fun v1548 k0_hw111 => k0_hw111.1
theorem k0_off222_inb : ∀ (v1548 : BitVec 32) (k0_hw111 : k0_chk111 v1548), ∀ a, (k0_off222 v1548) a + S1x1x1x128.size a ≤ S1x33344x1x128.size a := fun v1548 k0_hw111 => k0_hw111.2

def k0_off223 (v1562 : BitVec 32) : Fin 4 → Nat :=
  let c0_1456 : Index := 0#32
  let v1563 : Index := Scalar.indexCast v1562
  let c0_1457 : Index := 0#32
  let c0_1458 : Index := 0#32
  ![0, v1563.toNat, 0, 0]

def k0_off224 (v1562 : BitVec 32) : Fin 4 → Nat :=
  let c0_1462 : Index := 0#32
  let c1_i32_1461 : BitVec 32 := 1#32
  let v1569 : BitVec 32 := Scalar.addi v1562 c1_i32_1461
  let v1570 : Index := Scalar.indexCast v1569
  let c0_1463 : Index := 0#32
  let c0_1464 : Index := 0#32
  ![0, v1570.toNat, 0, 0]

def k0_chk112 (v1562 : BitVec 32) : Prop :=
  (∀ a, (k0_off223 v1562) a + S1x1x1x128.size a ≤ S1x33344x1x128.size a) ∧
  (∀ a, (k0_off224 v1562) a + S1x1x1x128.size a ≤ S1x33344x1x128.size a)
theorem k0_off223_inb : ∀ (v1562 : BitVec 32) (k0_hw112 : k0_chk112 v1562), ∀ a, (k0_off223 v1562) a + S1x1x1x128.size a ≤ S1x33344x1x128.size a := fun v1562 k0_hw112 => k0_hw112.1
theorem k0_off224_inb : ∀ (v1562 : BitVec 32) (k0_hw112 : k0_chk112 v1562), ∀ a, (k0_off224 v1562) a + S1x1x1x128.size a ≤ S1x33344x1x128.size a := fun v1562 k0_hw112 => k0_hw112.2

def k0_off225 (v1576 : BitVec 32) : Fin 4 → Nat :=
  let c0_1469 : Index := 0#32
  let v1577 : Index := Scalar.indexCast v1576
  let c0_1470 : Index := 0#32
  let c0_1471 : Index := 0#32
  ![0, v1577.toNat, 0, 0]

def k0_off226 (v1576 : BitVec 32) : Fin 4 → Nat :=
  let c0_1475 : Index := 0#32
  let c1_i32_1474 : BitVec 32 := 1#32
  let v1583 : BitVec 32 := Scalar.addi v1576 c1_i32_1474
  let v1584 : Index := Scalar.indexCast v1583
  let c0_1476 : Index := 0#32
  let c0_1477 : Index := 0#32
  ![0, v1584.toNat, 0, 0]

def k0_chk113 (v1576 : BitVec 32) : Prop :=
  (∀ a, (k0_off225 v1576) a + S1x1x1x128.size a ≤ S1x33344x1x128.size a) ∧
  (∀ a, (k0_off226 v1576) a + S1x1x1x128.size a ≤ S1x33344x1x128.size a)
theorem k0_off225_inb : ∀ (v1576 : BitVec 32) (k0_hw113 : k0_chk113 v1576), ∀ a, (k0_off225 v1576) a + S1x1x1x128.size a ≤ S1x33344x1x128.size a := fun v1576 k0_hw113 => k0_hw113.1
theorem k0_off226_inb : ∀ (v1576 : BitVec 32) (k0_hw113 : k0_chk113 v1576), ∀ a, (k0_off226 v1576) a + S1x1x1x128.size a ≤ S1x33344x1x128.size a := fun v1576 k0_hw113 => k0_hw113.2

def k0_off227 (v1590 : BitVec 32) : Fin 4 → Nat :=
  let c0_1482 : Index := 0#32
  let v1591 : Index := Scalar.indexCast v1590
  let c0_1483 : Index := 0#32
  let c0_1484 : Index := 0#32
  ![0, v1591.toNat, 0, 0]

def k0_off228 (v1590 : BitVec 32) : Fin 4 → Nat :=
  let c0_1488 : Index := 0#32
  let c1_i32_1487 : BitVec 32 := 1#32
  let v1597 : BitVec 32 := Scalar.addi v1590 c1_i32_1487
  let v1598 : Index := Scalar.indexCast v1597
  let c0_1489 : Index := 0#32
  let c0_1490 : Index := 0#32
  ![0, v1598.toNat, 0, 0]

def k0_chk114 (v1590 : BitVec 32) : Prop :=
  (∀ a, (k0_off227 v1590) a + S1x1x1x128.size a ≤ S1x33344x1x128.size a) ∧
  (∀ a, (k0_off228 v1590) a + S1x1x1x128.size a ≤ S1x33344x1x128.size a)
theorem k0_off227_inb : ∀ (v1590 : BitVec 32) (k0_hw114 : k0_chk114 v1590), ∀ a, (k0_off227 v1590) a + S1x1x1x128.size a ≤ S1x33344x1x128.size a := fun v1590 k0_hw114 => k0_hw114.1
theorem k0_off228_inb : ∀ (v1590 : BitVec 32) (k0_hw114 : k0_chk114 v1590), ∀ a, (k0_off228 v1590) a + S1x1x1x128.size a ≤ S1x33344x1x128.size a := fun v1590 k0_hw114 => k0_hw114.2

def k0_off229 (v1604 : BitVec 32) : Fin 4 → Nat :=
  let c0_1495 : Index := 0#32
  let v1605 : Index := Scalar.indexCast v1604
  let c0_1496 : Index := 0#32
  let c0_1497 : Index := 0#32
  ![0, v1605.toNat, 0, 0]

def k0_off230 (v1604 : BitVec 32) : Fin 4 → Nat :=
  let c0_1501 : Index := 0#32
  let c1_i32_1500 : BitVec 32 := 1#32
  let v1611 : BitVec 32 := Scalar.addi v1604 c1_i32_1500
  let v1612 : Index := Scalar.indexCast v1611
  let c0_1502 : Index := 0#32
  let c0_1503 : Index := 0#32
  ![0, v1612.toNat, 0, 0]

def k0_chk115 (v1604 : BitVec 32) : Prop :=
  (∀ a, (k0_off229 v1604) a + S1x1x1x128.size a ≤ S1x33344x1x128.size a) ∧
  (∀ a, (k0_off230 v1604) a + S1x1x1x128.size a ≤ S1x33344x1x128.size a)
theorem k0_off229_inb : ∀ (v1604 : BitVec 32) (k0_hw115 : k0_chk115 v1604), ∀ a, (k0_off229 v1604) a + S1x1x1x128.size a ≤ S1x33344x1x128.size a := fun v1604 k0_hw115 => k0_hw115.1
theorem k0_off230_inb : ∀ (v1604 : BitVec 32) (k0_hw115 : k0_chk115 v1604), ∀ a, (k0_off230 v1604) a + S1x1x1x128.size a ≤ S1x33344x1x128.size a := fun v1604 k0_hw115 => k0_hw115.2

def k0_off231 (v1618 : BitVec 32) : Fin 4 → Nat :=
  let c0_1508 : Index := 0#32
  let v1619 : Index := Scalar.indexCast v1618
  let c0_1509 : Index := 0#32
  let c0_1510 : Index := 0#32
  ![0, v1619.toNat, 0, 0]

def k0_off232 (v1618 : BitVec 32) : Fin 4 → Nat :=
  let c0_1514 : Index := 0#32
  let c1_i32_1513 : BitVec 32 := 1#32
  let v1625 : BitVec 32 := Scalar.addi v1618 c1_i32_1513
  let v1626 : Index := Scalar.indexCast v1625
  let c0_1515 : Index := 0#32
  let c0_1516 : Index := 0#32
  ![0, v1626.toNat, 0, 0]

def k0_chk116 (v1618 : BitVec 32) : Prop :=
  (∀ a, (k0_off231 v1618) a + S1x1x1x128.size a ≤ S1x33344x1x128.size a) ∧
  (∀ a, (k0_off232 v1618) a + S1x1x1x128.size a ≤ S1x33344x1x128.size a)
theorem k0_off231_inb : ∀ (v1618 : BitVec 32) (k0_hw116 : k0_chk116 v1618), ∀ a, (k0_off231 v1618) a + S1x1x1x128.size a ≤ S1x33344x1x128.size a := fun v1618 k0_hw116 => k0_hw116.1
theorem k0_off232_inb : ∀ (v1618 : BitVec 32) (k0_hw116 : k0_chk116 v1618), ∀ a, (k0_off232 v1618) a + S1x1x1x128.size a ≤ S1x33344x1x128.size a := fun v1618 k0_hw116 => k0_hw116.2

def k0_off233 (v1632 : BitVec 32) : Fin 4 → Nat :=
  let c0_1521 : Index := 0#32
  let v1633 : Index := Scalar.indexCast v1632
  let c0_1522 : Index := 0#32
  let c0_1523 : Index := 0#32
  ![0, v1633.toNat, 0, 0]

def k0_off234 (v1632 : BitVec 32) : Fin 4 → Nat :=
  let c0_1527 : Index := 0#32
  let c1_i32_1526 : BitVec 32 := 1#32
  let v1639 : BitVec 32 := Scalar.addi v1632 c1_i32_1526
  let v1640 : Index := Scalar.indexCast v1639
  let c0_1528 : Index := 0#32
  let c0_1529 : Index := 0#32
  ![0, v1640.toNat, 0, 0]

def k0_chk117 (v1632 : BitVec 32) : Prop :=
  (∀ a, (k0_off233 v1632) a + S1x1x1x128.size a ≤ S1x33344x1x128.size a) ∧
  (∀ a, (k0_off234 v1632) a + S1x1x1x128.size a ≤ S1x33344x1x128.size a)
theorem k0_off233_inb : ∀ (v1632 : BitVec 32) (k0_hw117 : k0_chk117 v1632), ∀ a, (k0_off233 v1632) a + S1x1x1x128.size a ≤ S1x33344x1x128.size a := fun v1632 k0_hw117 => k0_hw117.1
theorem k0_off234_inb : ∀ (v1632 : BitVec 32) (k0_hw117 : k0_chk117 v1632), ∀ a, (k0_off234 v1632) a + S1x1x1x128.size a ≤ S1x33344x1x128.size a := fun v1632 k0_hw117 => k0_hw117.2

def k0_off235 (v1646 : BitVec 32) : Fin 4 → Nat :=
  let c0_1534 : Index := 0#32
  let v1647 : Index := Scalar.indexCast v1646
  let c0_1535 : Index := 0#32
  let c0_1536 : Index := 0#32
  ![0, v1647.toNat, 0, 0]

def k0_off236 (v1646 : BitVec 32) : Fin 4 → Nat :=
  let c0_1540 : Index := 0#32
  let c1_i32_1539 : BitVec 32 := 1#32
  let v1653 : BitVec 32 := Scalar.addi v1646 c1_i32_1539
  let v1654 : Index := Scalar.indexCast v1653
  let c0_1541 : Index := 0#32
  let c0_1542 : Index := 0#32
  ![0, v1654.toNat, 0, 0]

def k0_chk118 (v1646 : BitVec 32) : Prop :=
  (∀ a, (k0_off235 v1646) a + S1x1x1x128.size a ≤ S1x33344x1x128.size a) ∧
  (∀ a, (k0_off236 v1646) a + S1x1x1x128.size a ≤ S1x33344x1x128.size a)
theorem k0_off235_inb : ∀ (v1646 : BitVec 32) (k0_hw118 : k0_chk118 v1646), ∀ a, (k0_off235 v1646) a + S1x1x1x128.size a ≤ S1x33344x1x128.size a := fun v1646 k0_hw118 => k0_hw118.1
theorem k0_off236_inb : ∀ (v1646 : BitVec 32) (k0_hw118 : k0_chk118 v1646), ∀ a, (k0_off236 v1646) a + S1x1x1x128.size a ≤ S1x33344x1x128.size a := fun v1646 k0_hw118 => k0_hw118.2

def k0_off237 (v1660 : BitVec 32) : Fin 4 → Nat :=
  let c0_1547 : Index := 0#32
  let v1661 : Index := Scalar.indexCast v1660
  let c0_1548 : Index := 0#32
  let c0_1549 : Index := 0#32
  ![0, v1661.toNat, 0, 0]

def k0_off238 (v1660 : BitVec 32) : Fin 4 → Nat :=
  let c0_1553 : Index := 0#32
  let c1_i32_1552 : BitVec 32 := 1#32
  let v1667 : BitVec 32 := Scalar.addi v1660 c1_i32_1552
  let v1668 : Index := Scalar.indexCast v1667
  let c0_1554 : Index := 0#32
  let c0_1555 : Index := 0#32
  ![0, v1668.toNat, 0, 0]

def k0_chk119 (v1660 : BitVec 32) : Prop :=
  (∀ a, (k0_off237 v1660) a + S1x1x1x128.size a ≤ S1x33344x1x128.size a) ∧
  (∀ a, (k0_off238 v1660) a + S1x1x1x128.size a ≤ S1x33344x1x128.size a)
theorem k0_off237_inb : ∀ (v1660 : BitVec 32) (k0_hw119 : k0_chk119 v1660), ∀ a, (k0_off237 v1660) a + S1x1x1x128.size a ≤ S1x33344x1x128.size a := fun v1660 k0_hw119 => k0_hw119.1
theorem k0_off238_inb : ∀ (v1660 : BitVec 32) (k0_hw119 : k0_chk119 v1660), ∀ a, (k0_off238 v1660) a + S1x1x1x128.size a ≤ S1x33344x1x128.size a := fun v1660 k0_hw119 => k0_hw119.2

def k0_off239 (v1674 : BitVec 32) : Fin 4 → Nat :=
  let c0_1560 : Index := 0#32
  let v1675 : Index := Scalar.indexCast v1674
  let c0_1561 : Index := 0#32
  let c0_1562 : Index := 0#32
  ![0, v1675.toNat, 0, 0]

def k0_off240 (v1674 : BitVec 32) : Fin 4 → Nat :=
  let c0_1566 : Index := 0#32
  let c1_i32_1565 : BitVec 32 := 1#32
  let v1681 : BitVec 32 := Scalar.addi v1674 c1_i32_1565
  let v1682 : Index := Scalar.indexCast v1681
  let c0_1567 : Index := 0#32
  let c0_1568 : Index := 0#32
  ![0, v1682.toNat, 0, 0]

def k0_chk120 (v1674 : BitVec 32) : Prop :=
  (∀ a, (k0_off239 v1674) a + S1x1x1x128.size a ≤ S1x33344x1x128.size a) ∧
  (∀ a, (k0_off240 v1674) a + S1x1x1x128.size a ≤ S1x33344x1x128.size a)
theorem k0_off239_inb : ∀ (v1674 : BitVec 32) (k0_hw120 : k0_chk120 v1674), ∀ a, (k0_off239 v1674) a + S1x1x1x128.size a ≤ S1x33344x1x128.size a := fun v1674 k0_hw120 => k0_hw120.1
theorem k0_off240_inb : ∀ (v1674 : BitVec 32) (k0_hw120 : k0_chk120 v1674), ∀ a, (k0_off240 v1674) a + S1x1x1x128.size a ≤ S1x33344x1x128.size a := fun v1674 k0_hw120 => k0_hw120.2

def k0_off241 (v1688 : BitVec 32) : Fin 4 → Nat :=
  let c0_1573 : Index := 0#32
  let v1689 : Index := Scalar.indexCast v1688
  let c0_1574 : Index := 0#32
  let c0_1575 : Index := 0#32
  ![0, v1689.toNat, 0, 0]

def k0_off242 (v1688 : BitVec 32) : Fin 4 → Nat :=
  let c0_1579 : Index := 0#32
  let c1_i32_1578 : BitVec 32 := 1#32
  let v1695 : BitVec 32 := Scalar.addi v1688 c1_i32_1578
  let v1696 : Index := Scalar.indexCast v1695
  let c0_1580 : Index := 0#32
  let c0_1581 : Index := 0#32
  ![0, v1696.toNat, 0, 0]

def k0_chk121 (v1688 : BitVec 32) : Prop :=
  (∀ a, (k0_off241 v1688) a + S1x1x1x128.size a ≤ S1x33344x1x128.size a) ∧
  (∀ a, (k0_off242 v1688) a + S1x1x1x128.size a ≤ S1x33344x1x128.size a)
theorem k0_off241_inb : ∀ (v1688 : BitVec 32) (k0_hw121 : k0_chk121 v1688), ∀ a, (k0_off241 v1688) a + S1x1x1x128.size a ≤ S1x33344x1x128.size a := fun v1688 k0_hw121 => k0_hw121.1
theorem k0_off242_inb : ∀ (v1688 : BitVec 32) (k0_hw121 : k0_chk121 v1688), ∀ a, (k0_off242 v1688) a + S1x1x1x128.size a ≤ S1x33344x1x128.size a := fun v1688 k0_hw121 => k0_hw121.2

def k0_off243 (v1702 : BitVec 32) : Fin 4 → Nat :=
  let c0_1586 : Index := 0#32
  let v1703 : Index := Scalar.indexCast v1702
  let c0_1587 : Index := 0#32
  let c0_1588 : Index := 0#32
  ![0, v1703.toNat, 0, 0]

def k0_off244 (v1702 : BitVec 32) : Fin 4 → Nat :=
  let c0_1592 : Index := 0#32
  let c1_i32_1591 : BitVec 32 := 1#32
  let v1709 : BitVec 32 := Scalar.addi v1702 c1_i32_1591
  let v1710 : Index := Scalar.indexCast v1709
  let c0_1593 : Index := 0#32
  let c0_1594 : Index := 0#32
  ![0, v1710.toNat, 0, 0]

def k0_chk122 (v1702 : BitVec 32) : Prop :=
  (∀ a, (k0_off243 v1702) a + S1x1x1x128.size a ≤ S1x33344x1x128.size a) ∧
  (∀ a, (k0_off244 v1702) a + S1x1x1x128.size a ≤ S1x33344x1x128.size a)
theorem k0_off243_inb : ∀ (v1702 : BitVec 32) (k0_hw122 : k0_chk122 v1702), ∀ a, (k0_off243 v1702) a + S1x1x1x128.size a ≤ S1x33344x1x128.size a := fun v1702 k0_hw122 => k0_hw122.1
theorem k0_off244_inb : ∀ (v1702 : BitVec 32) (k0_hw122 : k0_chk122 v1702), ∀ a, (k0_off244 v1702) a + S1x1x1x128.size a ≤ S1x33344x1x128.size a := fun v1702 k0_hw122 => k0_hw122.2

def k0_off245 (v1716 : BitVec 32) : Fin 4 → Nat :=
  let c0_1599 : Index := 0#32
  let v1717 : Index := Scalar.indexCast v1716
  let c0_1600 : Index := 0#32
  let c0_1601 : Index := 0#32
  ![0, v1717.toNat, 0, 0]

def k0_off246 (v1716 : BitVec 32) : Fin 4 → Nat :=
  let c0_1605 : Index := 0#32
  let c1_i32_1604 : BitVec 32 := 1#32
  let v1723 : BitVec 32 := Scalar.addi v1716 c1_i32_1604
  let v1724 : Index := Scalar.indexCast v1723
  let c0_1606 : Index := 0#32
  let c0_1607 : Index := 0#32
  ![0, v1724.toNat, 0, 0]

def k0_chk123 (v1716 : BitVec 32) : Prop :=
  (∀ a, (k0_off245 v1716) a + S1x1x1x128.size a ≤ S1x33344x1x128.size a) ∧
  (∀ a, (k0_off246 v1716) a + S1x1x1x128.size a ≤ S1x33344x1x128.size a)
theorem k0_off245_inb : ∀ (v1716 : BitVec 32) (k0_hw123 : k0_chk123 v1716), ∀ a, (k0_off245 v1716) a + S1x1x1x128.size a ≤ S1x33344x1x128.size a := fun v1716 k0_hw123 => k0_hw123.1
theorem k0_off246_inb : ∀ (v1716 : BitVec 32) (k0_hw123 : k0_chk123 v1716), ∀ a, (k0_off246 v1716) a + S1x1x1x128.size a ≤ S1x33344x1x128.size a := fun v1716 k0_hw123 => k0_hw123.2

def k0_off247 (v1730 : BitVec 32) : Fin 4 → Nat :=
  let c0_1612 : Index := 0#32
  let v1731 : Index := Scalar.indexCast v1730
  let c0_1613 : Index := 0#32
  let c0_1614 : Index := 0#32
  ![0, v1731.toNat, 0, 0]

def k0_off248 (v1730 : BitVec 32) : Fin 4 → Nat :=
  let c0_1618 : Index := 0#32
  let c1_i32_1617 : BitVec 32 := 1#32
  let v1737 : BitVec 32 := Scalar.addi v1730 c1_i32_1617
  let v1738 : Index := Scalar.indexCast v1737
  let c0_1619 : Index := 0#32
  let c0_1620 : Index := 0#32
  ![0, v1738.toNat, 0, 0]

def k0_chk124 (v1730 : BitVec 32) : Prop :=
  (∀ a, (k0_off247 v1730) a + S1x1x1x128.size a ≤ S1x33344x1x128.size a) ∧
  (∀ a, (k0_off248 v1730) a + S1x1x1x128.size a ≤ S1x33344x1x128.size a)
theorem k0_off247_inb : ∀ (v1730 : BitVec 32) (k0_hw124 : k0_chk124 v1730), ∀ a, (k0_off247 v1730) a + S1x1x1x128.size a ≤ S1x33344x1x128.size a := fun v1730 k0_hw124 => k0_hw124.1
theorem k0_off248_inb : ∀ (v1730 : BitVec 32) (k0_hw124 : k0_chk124 v1730), ∀ a, (k0_off248 v1730) a + S1x1x1x128.size a ≤ S1x33344x1x128.size a := fun v1730 k0_hw124 => k0_hw124.2

def k0_off249 (v1744 : BitVec 32) : Fin 4 → Nat :=
  let c0_1625 : Index := 0#32
  let v1745 : Index := Scalar.indexCast v1744
  let c0_1626 : Index := 0#32
  let c0_1627 : Index := 0#32
  ![0, v1745.toNat, 0, 0]

def k0_off250 (v1744 : BitVec 32) : Fin 4 → Nat :=
  let c0_1631 : Index := 0#32
  let c1_i32_1630 : BitVec 32 := 1#32
  let v1751 : BitVec 32 := Scalar.addi v1744 c1_i32_1630
  let v1752 : Index := Scalar.indexCast v1751
  let c0_1632 : Index := 0#32
  let c0_1633 : Index := 0#32
  ![0, v1752.toNat, 0, 0]

def k0_chk125 (v1744 : BitVec 32) : Prop :=
  (∀ a, (k0_off249 v1744) a + S1x1x1x128.size a ≤ S1x33344x1x128.size a) ∧
  (∀ a, (k0_off250 v1744) a + S1x1x1x128.size a ≤ S1x33344x1x128.size a)
theorem k0_off249_inb : ∀ (v1744 : BitVec 32) (k0_hw125 : k0_chk125 v1744), ∀ a, (k0_off249 v1744) a + S1x1x1x128.size a ≤ S1x33344x1x128.size a := fun v1744 k0_hw125 => k0_hw125.1
theorem k0_off250_inb : ∀ (v1744 : BitVec 32) (k0_hw125 : k0_chk125 v1744), ∀ a, (k0_off250 v1744) a + S1x1x1x128.size a ≤ S1x33344x1x128.size a := fun v1744 k0_hw125 => k0_hw125.2

def k0_off251 (v1758 : BitVec 32) : Fin 4 → Nat :=
  let c0_1638 : Index := 0#32
  let v1759 : Index := Scalar.indexCast v1758
  let c0_1639 : Index := 0#32
  let c0_1640 : Index := 0#32
  ![0, v1759.toNat, 0, 0]

def k0_off252 (v1758 : BitVec 32) : Fin 4 → Nat :=
  let c0_1644 : Index := 0#32
  let c1_i32_1643 : BitVec 32 := 1#32
  let v1765 : BitVec 32 := Scalar.addi v1758 c1_i32_1643
  let v1766 : Index := Scalar.indexCast v1765
  let c0_1645 : Index := 0#32
  let c0_1646 : Index := 0#32
  ![0, v1766.toNat, 0, 0]

def k0_chk126 (v1758 : BitVec 32) : Prop :=
  (∀ a, (k0_off251 v1758) a + S1x1x1x128.size a ≤ S1x33344x1x128.size a) ∧
  (∀ a, (k0_off252 v1758) a + S1x1x1x128.size a ≤ S1x33344x1x128.size a)
theorem k0_off251_inb : ∀ (v1758 : BitVec 32) (k0_hw126 : k0_chk126 v1758), ∀ a, (k0_off251 v1758) a + S1x1x1x128.size a ≤ S1x33344x1x128.size a := fun v1758 k0_hw126 => k0_hw126.1
theorem k0_off252_inb : ∀ (v1758 : BitVec 32) (k0_hw126 : k0_chk126 v1758), ∀ a, (k0_off252 v1758) a + S1x1x1x128.size a ≤ S1x33344x1x128.size a := fun v1758 k0_hw126 => k0_hw126.2

def k0_off253 (v1772 : BitVec 32) : Fin 4 → Nat :=
  let c0_1651 : Index := 0#32
  let v1773 : Index := Scalar.indexCast v1772
  let c0_1652 : Index := 0#32
  let c0_1653 : Index := 0#32
  ![0, v1773.toNat, 0, 0]

def k0_off254 (v1772 : BitVec 32) : Fin 4 → Nat :=
  let c0_1657 : Index := 0#32
  let c1_i32_1656 : BitVec 32 := 1#32
  let v1779 : BitVec 32 := Scalar.addi v1772 c1_i32_1656
  let v1780 : Index := Scalar.indexCast v1779
  let c0_1658 : Index := 0#32
  let c0_1659 : Index := 0#32
  ![0, v1780.toNat, 0, 0]

def k0_chk127 (v1772 : BitVec 32) : Prop :=
  (∀ a, (k0_off253 v1772) a + S1x1x1x128.size a ≤ S1x33344x1x128.size a) ∧
  (∀ a, (k0_off254 v1772) a + S1x1x1x128.size a ≤ S1x33344x1x128.size a)
theorem k0_off253_inb : ∀ (v1772 : BitVec 32) (k0_hw127 : k0_chk127 v1772), ∀ a, (k0_off253 v1772) a + S1x1x1x128.size a ≤ S1x33344x1x128.size a := fun v1772 k0_hw127 => k0_hw127.1
theorem k0_off254_inb : ∀ (v1772 : BitVec 32) (k0_hw127 : k0_chk127 v1772), ∀ a, (k0_off254 v1772) a + S1x1x1x128.size a ≤ S1x33344x1x128.size a := fun v1772 k0_hw127 => k0_hw127.2

def k0_off255 (v1786 : BitVec 32) : Fin 4 → Nat :=
  let c0_1664 : Index := 0#32
  let v1787 : Index := Scalar.indexCast v1786
  let c0_1665 : Index := 0#32
  let c0_1666 : Index := 0#32
  ![0, v1787.toNat, 0, 0]

def k0_off256 (v1786 : BitVec 32) : Fin 4 → Nat :=
  let c0_1670 : Index := 0#32
  let c1_i32_1669 : BitVec 32 := 1#32
  let v1793 : BitVec 32 := Scalar.addi v1786 c1_i32_1669
  let v1794 : Index := Scalar.indexCast v1793
  let c0_1671 : Index := 0#32
  let c0_1672 : Index := 0#32
  ![0, v1794.toNat, 0, 0]

def k0_chk128 (v1786 : BitVec 32) : Prop :=
  (∀ a, (k0_off255 v1786) a + S1x1x1x128.size a ≤ S1x33344x1x128.size a) ∧
  (∀ a, (k0_off256 v1786) a + S1x1x1x128.size a ≤ S1x33344x1x128.size a)
theorem k0_off255_inb : ∀ (v1786 : BitVec 32) (k0_hw128 : k0_chk128 v1786), ∀ a, (k0_off255 v1786) a + S1x1x1x128.size a ≤ S1x33344x1x128.size a := fun v1786 k0_hw128 => k0_hw128.1
theorem k0_off256_inb : ∀ (v1786 : BitVec 32) (k0_hw128 : k0_chk128 v1786), ∀ a, (k0_off256 v1786) a + S1x1x1x128.size a ≤ S1x33344x1x128.size a := fun v1786 k0_hw128 => k0_hw128.2

def k0_off257 (v1829 : BitVec 32) : Fin 4 → Nat :=
  let c0_1690 : Index := 0#32
  let v1830 : Index := Scalar.indexCast v1829
  let c0_1691 : Index := 0#32
  let c0_1692 : Index := 0#32
  ![0, v1830.toNat, 0, 0]

def k0_off258 (v1829 : BitVec 32) : Fin 4 → Nat :=
  let c0_1696 : Index := 0#32
  let c1_i32_1695 : BitVec 32 := 1#32
  let v1836 : BitVec 32 := Scalar.addi v1829 c1_i32_1695
  let v1837 : Index := Scalar.indexCast v1836
  let c0_1697 : Index := 0#32
  let c0_1698 : Index := 0#32
  ![0, v1837.toNat, 0, 0]

def k0_chk129 (v1829 : BitVec 32) : Prop :=
  (∀ a, (k0_off257 v1829) a + S1x1x1x128.size a ≤ S1x33344x1x128.size a) ∧
  (∀ a, (k0_off258 v1829) a + S1x1x1x128.size a ≤ S1x33344x1x128.size a)
theorem k0_off257_inb : ∀ (v1829 : BitVec 32) (k0_hw129 : k0_chk129 v1829), ∀ a, (k0_off257 v1829) a + S1x1x1x128.size a ≤ S1x33344x1x128.size a := fun v1829 k0_hw129 => k0_hw129.1
theorem k0_off258_inb : ∀ (v1829 : BitVec 32) (k0_hw129 : k0_chk129 v1829), ∀ a, (k0_off258 v1829) a + S1x1x1x128.size a ≤ S1x33344x1x128.size a := fun v1829 k0_hw129 => k0_hw129.2

def k0_off259 (v1843 : BitVec 32) : Fin 4 → Nat :=
  let c0_1704 : Index := 0#32
  let v1844 : Index := Scalar.indexCast v1843
  let c0_1705 : Index := 0#32
  let c0_1706 : Index := 0#32
  ![0, v1844.toNat, 0, 0]

def k0_off260 (v1843 : BitVec 32) : Fin 4 → Nat :=
  let c0_1710 : Index := 0#32
  let c1_i32_1709 : BitVec 32 := 1#32
  let v1850 : BitVec 32 := Scalar.addi v1843 c1_i32_1709
  let v1851 : Index := Scalar.indexCast v1850
  let c0_1711 : Index := 0#32
  let c0_1712 : Index := 0#32
  ![0, v1851.toNat, 0, 0]

def k0_chk130 (v1843 : BitVec 32) : Prop :=
  (∀ a, (k0_off259 v1843) a + S1x1x1x128.size a ≤ S1x33344x1x128.size a) ∧
  (∀ a, (k0_off260 v1843) a + S1x1x1x128.size a ≤ S1x33344x1x128.size a)
theorem k0_off259_inb : ∀ (v1843 : BitVec 32) (k0_hw130 : k0_chk130 v1843), ∀ a, (k0_off259 v1843) a + S1x1x1x128.size a ≤ S1x33344x1x128.size a := fun v1843 k0_hw130 => k0_hw130.1
theorem k0_off260_inb : ∀ (v1843 : BitVec 32) (k0_hw130 : k0_chk130 v1843), ∀ a, (k0_off260 v1843) a + S1x1x1x128.size a ≤ S1x33344x1x128.size a := fun v1843 k0_hw130 => k0_hw130.2

def k0_off261 (v1857 : BitVec 32) : Fin 4 → Nat :=
  let c0_1718 : Index := 0#32
  let v1858 : Index := Scalar.indexCast v1857
  let c0_1719 : Index := 0#32
  let c0_1720 : Index := 0#32
  ![0, v1858.toNat, 0, 0]

def k0_off262 (v1857 : BitVec 32) : Fin 4 → Nat :=
  let c0_1724 : Index := 0#32
  let c1_i32_1723 : BitVec 32 := 1#32
  let v1864 : BitVec 32 := Scalar.addi v1857 c1_i32_1723
  let v1865 : Index := Scalar.indexCast v1864
  let c0_1725 : Index := 0#32
  let c0_1726 : Index := 0#32
  ![0, v1865.toNat, 0, 0]

def k0_chk131 (v1857 : BitVec 32) : Prop :=
  (∀ a, (k0_off261 v1857) a + S1x1x1x128.size a ≤ S1x33344x1x128.size a) ∧
  (∀ a, (k0_off262 v1857) a + S1x1x1x128.size a ≤ S1x33344x1x128.size a)
theorem k0_off261_inb : ∀ (v1857 : BitVec 32) (k0_hw131 : k0_chk131 v1857), ∀ a, (k0_off261 v1857) a + S1x1x1x128.size a ≤ S1x33344x1x128.size a := fun v1857 k0_hw131 => k0_hw131.1
theorem k0_off262_inb : ∀ (v1857 : BitVec 32) (k0_hw131 : k0_chk131 v1857), ∀ a, (k0_off262 v1857) a + S1x1x1x128.size a ≤ S1x33344x1x128.size a := fun v1857 k0_hw131 => k0_hw131.2

def k0_off263 (v1871 : BitVec 32) : Fin 4 → Nat :=
  let c0_1732 : Index := 0#32
  let v1872 : Index := Scalar.indexCast v1871
  let c0_1733 : Index := 0#32
  let c0_1734 : Index := 0#32
  ![0, v1872.toNat, 0, 0]

def k0_off264 (v1871 : BitVec 32) : Fin 4 → Nat :=
  let c0_1738 : Index := 0#32
  let c1_i32_1737 : BitVec 32 := 1#32
  let v1878 : BitVec 32 := Scalar.addi v1871 c1_i32_1737
  let v1879 : Index := Scalar.indexCast v1878
  let c0_1739 : Index := 0#32
  let c0_1740 : Index := 0#32
  ![0, v1879.toNat, 0, 0]

def k0_chk132 (v1871 : BitVec 32) : Prop :=
  (∀ a, (k0_off263 v1871) a + S1x1x1x128.size a ≤ S1x33344x1x128.size a) ∧
  (∀ a, (k0_off264 v1871) a + S1x1x1x128.size a ≤ S1x33344x1x128.size a)
theorem k0_off263_inb : ∀ (v1871 : BitVec 32) (k0_hw132 : k0_chk132 v1871), ∀ a, (k0_off263 v1871) a + S1x1x1x128.size a ≤ S1x33344x1x128.size a := fun v1871 k0_hw132 => k0_hw132.1
theorem k0_off264_inb : ∀ (v1871 : BitVec 32) (k0_hw132 : k0_chk132 v1871), ∀ a, (k0_off264 v1871) a + S1x1x1x128.size a ≤ S1x33344x1x128.size a := fun v1871 k0_hw132 => k0_hw132.2

def k0_off265 (v1885 : BitVec 32) : Fin 4 → Nat :=
  let c0_1746 : Index := 0#32
  let v1886 : Index := Scalar.indexCast v1885
  let c0_1747 : Index := 0#32
  let c0_1748 : Index := 0#32
  ![0, v1886.toNat, 0, 0]

def k0_off266 (v1885 : BitVec 32) : Fin 4 → Nat :=
  let c0_1752 : Index := 0#32
  let c1_i32_1751 : BitVec 32 := 1#32
  let v1892 : BitVec 32 := Scalar.addi v1885 c1_i32_1751
  let v1893 : Index := Scalar.indexCast v1892
  let c0_1753 : Index := 0#32
  let c0_1754 : Index := 0#32
  ![0, v1893.toNat, 0, 0]

def k0_chk133 (v1885 : BitVec 32) : Prop :=
  (∀ a, (k0_off265 v1885) a + S1x1x1x128.size a ≤ S1x33344x1x128.size a) ∧
  (∀ a, (k0_off266 v1885) a + S1x1x1x128.size a ≤ S1x33344x1x128.size a)
theorem k0_off265_inb : ∀ (v1885 : BitVec 32) (k0_hw133 : k0_chk133 v1885), ∀ a, (k0_off265 v1885) a + S1x1x1x128.size a ≤ S1x33344x1x128.size a := fun v1885 k0_hw133 => k0_hw133.1
theorem k0_off266_inb : ∀ (v1885 : BitVec 32) (k0_hw133 : k0_chk133 v1885), ∀ a, (k0_off266 v1885) a + S1x1x1x128.size a ≤ S1x33344x1x128.size a := fun v1885 k0_hw133 => k0_hw133.2

def k0_off267 (v1899 : BitVec 32) : Fin 4 → Nat :=
  let c0_1760 : Index := 0#32
  let v1900 : Index := Scalar.indexCast v1899
  let c0_1761 : Index := 0#32
  let c0_1762 : Index := 0#32
  ![0, v1900.toNat, 0, 0]

def k0_off268 (v1899 : BitVec 32) : Fin 4 → Nat :=
  let c0_1766 : Index := 0#32
  let c1_i32_1765 : BitVec 32 := 1#32
  let v1906 : BitVec 32 := Scalar.addi v1899 c1_i32_1765
  let v1907 : Index := Scalar.indexCast v1906
  let c0_1767 : Index := 0#32
  let c0_1768 : Index := 0#32
  ![0, v1907.toNat, 0, 0]

def k0_chk134 (v1899 : BitVec 32) : Prop :=
  (∀ a, (k0_off267 v1899) a + S1x1x1x128.size a ≤ S1x33344x1x128.size a) ∧
  (∀ a, (k0_off268 v1899) a + S1x1x1x128.size a ≤ S1x33344x1x128.size a)
theorem k0_off267_inb : ∀ (v1899 : BitVec 32) (k0_hw134 : k0_chk134 v1899), ∀ a, (k0_off267 v1899) a + S1x1x1x128.size a ≤ S1x33344x1x128.size a := fun v1899 k0_hw134 => k0_hw134.1
theorem k0_off268_inb : ∀ (v1899 : BitVec 32) (k0_hw134 : k0_chk134 v1899), ∀ a, (k0_off268 v1899) a + S1x1x1x128.size a ≤ S1x33344x1x128.size a := fun v1899 k0_hw134 => k0_hw134.2

def k0_off269 (v1913 : BitVec 32) : Fin 4 → Nat :=
  let c0_1774 : Index := 0#32
  let v1914 : Index := Scalar.indexCast v1913
  let c0_1775 : Index := 0#32
  let c0_1776 : Index := 0#32
  ![0, v1914.toNat, 0, 0]

def k0_off270 (v1913 : BitVec 32) : Fin 4 → Nat :=
  let c0_1780 : Index := 0#32
  let c1_i32_1779 : BitVec 32 := 1#32
  let v1920 : BitVec 32 := Scalar.addi v1913 c1_i32_1779
  let v1921 : Index := Scalar.indexCast v1920
  let c0_1781 : Index := 0#32
  let c0_1782 : Index := 0#32
  ![0, v1921.toNat, 0, 0]

def k0_chk135 (v1913 : BitVec 32) : Prop :=
  (∀ a, (k0_off269 v1913) a + S1x1x1x128.size a ≤ S1x33344x1x128.size a) ∧
  (∀ a, (k0_off270 v1913) a + S1x1x1x128.size a ≤ S1x33344x1x128.size a)
theorem k0_off269_inb : ∀ (v1913 : BitVec 32) (k0_hw135 : k0_chk135 v1913), ∀ a, (k0_off269 v1913) a + S1x1x1x128.size a ≤ S1x33344x1x128.size a := fun v1913 k0_hw135 => k0_hw135.1
theorem k0_off270_inb : ∀ (v1913 : BitVec 32) (k0_hw135 : k0_chk135 v1913), ∀ a, (k0_off270 v1913) a + S1x1x1x128.size a ≤ S1x33344x1x128.size a := fun v1913 k0_hw135 => k0_hw135.2

def k0_off271 (v1927 : BitVec 32) : Fin 4 → Nat :=
  let c0_1788 : Index := 0#32
  let v1928 : Index := Scalar.indexCast v1927
  let c0_1789 : Index := 0#32
  let c0_1790 : Index := 0#32
  ![0, v1928.toNat, 0, 0]

def k0_off272 (v1927 : BitVec 32) : Fin 4 → Nat :=
  let c0_1794 : Index := 0#32
  let c1_i32_1793 : BitVec 32 := 1#32
  let v1934 : BitVec 32 := Scalar.addi v1927 c1_i32_1793
  let v1935 : Index := Scalar.indexCast v1934
  let c0_1795 : Index := 0#32
  let c0_1796 : Index := 0#32
  ![0, v1935.toNat, 0, 0]

def k0_chk136 (v1927 : BitVec 32) : Prop :=
  (∀ a, (k0_off271 v1927) a + S1x1x1x128.size a ≤ S1x33344x1x128.size a) ∧
  (∀ a, (k0_off272 v1927) a + S1x1x1x128.size a ≤ S1x33344x1x128.size a)
theorem k0_off271_inb : ∀ (v1927 : BitVec 32) (k0_hw136 : k0_chk136 v1927), ∀ a, (k0_off271 v1927) a + S1x1x1x128.size a ≤ S1x33344x1x128.size a := fun v1927 k0_hw136 => k0_hw136.1
theorem k0_off272_inb : ∀ (v1927 : BitVec 32) (k0_hw136 : k0_chk136 v1927), ∀ a, (k0_off272 v1927) a + S1x1x1x128.size a ≤ S1x33344x1x128.size a := fun v1927 k0_hw136 => k0_hw136.2

def k0_off273 (v1941 : BitVec 32) : Fin 4 → Nat :=
  let c0_1802 : Index := 0#32
  let v1942 : Index := Scalar.indexCast v1941
  let c0_1803 : Index := 0#32
  let c0_1804 : Index := 0#32
  ![0, v1942.toNat, 0, 0]

def k0_off274 (v1941 : BitVec 32) : Fin 4 → Nat :=
  let c0_1808 : Index := 0#32
  let c1_i32_1807 : BitVec 32 := 1#32
  let v1948 : BitVec 32 := Scalar.addi v1941 c1_i32_1807
  let v1949 : Index := Scalar.indexCast v1948
  let c0_1809 : Index := 0#32
  let c0_1810 : Index := 0#32
  ![0, v1949.toNat, 0, 0]

def k0_chk137 (v1941 : BitVec 32) : Prop :=
  (∀ a, (k0_off273 v1941) a + S1x1x1x128.size a ≤ S1x33344x1x128.size a) ∧
  (∀ a, (k0_off274 v1941) a + S1x1x1x128.size a ≤ S1x33344x1x128.size a)
theorem k0_off273_inb : ∀ (v1941 : BitVec 32) (k0_hw137 : k0_chk137 v1941), ∀ a, (k0_off273 v1941) a + S1x1x1x128.size a ≤ S1x33344x1x128.size a := fun v1941 k0_hw137 => k0_hw137.1
theorem k0_off274_inb : ∀ (v1941 : BitVec 32) (k0_hw137 : k0_chk137 v1941), ∀ a, (k0_off274 v1941) a + S1x1x1x128.size a ≤ S1x33344x1x128.size a := fun v1941 k0_hw137 => k0_hw137.2

def k0_off275 (v1955 : BitVec 32) : Fin 4 → Nat :=
  let c0_1816 : Index := 0#32
  let v1956 : Index := Scalar.indexCast v1955
  let c0_1817 : Index := 0#32
  let c0_1818 : Index := 0#32
  ![0, v1956.toNat, 0, 0]

def k0_off276 (v1955 : BitVec 32) : Fin 4 → Nat :=
  let c0_1822 : Index := 0#32
  let c1_i32_1821 : BitVec 32 := 1#32
  let v1962 : BitVec 32 := Scalar.addi v1955 c1_i32_1821
  let v1963 : Index := Scalar.indexCast v1962
  let c0_1823 : Index := 0#32
  let c0_1824 : Index := 0#32
  ![0, v1963.toNat, 0, 0]

def k0_chk138 (v1955 : BitVec 32) : Prop :=
  (∀ a, (k0_off275 v1955) a + S1x1x1x128.size a ≤ S1x33344x1x128.size a) ∧
  (∀ a, (k0_off276 v1955) a + S1x1x1x128.size a ≤ S1x33344x1x128.size a)
theorem k0_off275_inb : ∀ (v1955 : BitVec 32) (k0_hw138 : k0_chk138 v1955), ∀ a, (k0_off275 v1955) a + S1x1x1x128.size a ≤ S1x33344x1x128.size a := fun v1955 k0_hw138 => k0_hw138.1
theorem k0_off276_inb : ∀ (v1955 : BitVec 32) (k0_hw138 : k0_chk138 v1955), ∀ a, (k0_off276 v1955) a + S1x1x1x128.size a ≤ S1x33344x1x128.size a := fun v1955 k0_hw138 => k0_hw138.2

def k0_off277 (v1969 : BitVec 32) : Fin 4 → Nat :=
  let c0_1830 : Index := 0#32
  let v1970 : Index := Scalar.indexCast v1969
  let c0_1831 : Index := 0#32
  let c0_1832 : Index := 0#32
  ![0, v1970.toNat, 0, 0]

def k0_off278 (v1969 : BitVec 32) : Fin 4 → Nat :=
  let c0_1836 : Index := 0#32
  let c1_i32_1835 : BitVec 32 := 1#32
  let v1976 : BitVec 32 := Scalar.addi v1969 c1_i32_1835
  let v1977 : Index := Scalar.indexCast v1976
  let c0_1837 : Index := 0#32
  let c0_1838 : Index := 0#32
  ![0, v1977.toNat, 0, 0]

def k0_chk139 (v1969 : BitVec 32) : Prop :=
  (∀ a, (k0_off277 v1969) a + S1x1x1x128.size a ≤ S1x33344x1x128.size a) ∧
  (∀ a, (k0_off278 v1969) a + S1x1x1x128.size a ≤ S1x33344x1x128.size a)
theorem k0_off277_inb : ∀ (v1969 : BitVec 32) (k0_hw139 : k0_chk139 v1969), ∀ a, (k0_off277 v1969) a + S1x1x1x128.size a ≤ S1x33344x1x128.size a := fun v1969 k0_hw139 => k0_hw139.1
theorem k0_off278_inb : ∀ (v1969 : BitVec 32) (k0_hw139 : k0_chk139 v1969), ∀ a, (k0_off278 v1969) a + S1x1x1x128.size a ≤ S1x33344x1x128.size a := fun v1969 k0_hw139 => k0_hw139.2

def k0_off279 (v1983 : BitVec 32) : Fin 4 → Nat :=
  let c0_1844 : Index := 0#32
  let v1984 : Index := Scalar.indexCast v1983
  let c0_1845 : Index := 0#32
  let c0_1846 : Index := 0#32
  ![0, v1984.toNat, 0, 0]

def k0_off280 (v1983 : BitVec 32) : Fin 4 → Nat :=
  let c0_1850 : Index := 0#32
  let c1_i32_1849 : BitVec 32 := 1#32
  let v1990 : BitVec 32 := Scalar.addi v1983 c1_i32_1849
  let v1991 : Index := Scalar.indexCast v1990
  let c0_1851 : Index := 0#32
  let c0_1852 : Index := 0#32
  ![0, v1991.toNat, 0, 0]

def k0_chk140 (v1983 : BitVec 32) : Prop :=
  (∀ a, (k0_off279 v1983) a + S1x1x1x128.size a ≤ S1x33344x1x128.size a) ∧
  (∀ a, (k0_off280 v1983) a + S1x1x1x128.size a ≤ S1x33344x1x128.size a)
theorem k0_off279_inb : ∀ (v1983 : BitVec 32) (k0_hw140 : k0_chk140 v1983), ∀ a, (k0_off279 v1983) a + S1x1x1x128.size a ≤ S1x33344x1x128.size a := fun v1983 k0_hw140 => k0_hw140.1
theorem k0_off280_inb : ∀ (v1983 : BitVec 32) (k0_hw140 : k0_chk140 v1983), ∀ a, (k0_off280 v1983) a + S1x1x1x128.size a ≤ S1x33344x1x128.size a := fun v1983 k0_hw140 => k0_hw140.2

def k0_off281 (v1997 : BitVec 32) : Fin 4 → Nat :=
  let c0_1858 : Index := 0#32
  let v1998 : Index := Scalar.indexCast v1997
  let c0_1859 : Index := 0#32
  let c0_1860 : Index := 0#32
  ![0, v1998.toNat, 0, 0]

def k0_off282 (v1997 : BitVec 32) : Fin 4 → Nat :=
  let c0_1864 : Index := 0#32
  let c1_i32_1863 : BitVec 32 := 1#32
  let v2004 : BitVec 32 := Scalar.addi v1997 c1_i32_1863
  let v2005 : Index := Scalar.indexCast v2004
  let c0_1865 : Index := 0#32
  let c0_1866 : Index := 0#32
  ![0, v2005.toNat, 0, 0]

def k0_chk141 (v1997 : BitVec 32) : Prop :=
  (∀ a, (k0_off281 v1997) a + S1x1x1x128.size a ≤ S1x33344x1x128.size a) ∧
  (∀ a, (k0_off282 v1997) a + S1x1x1x128.size a ≤ S1x33344x1x128.size a)
theorem k0_off281_inb : ∀ (v1997 : BitVec 32) (k0_hw141 : k0_chk141 v1997), ∀ a, (k0_off281 v1997) a + S1x1x1x128.size a ≤ S1x33344x1x128.size a := fun v1997 k0_hw141 => k0_hw141.1
theorem k0_off282_inb : ∀ (v1997 : BitVec 32) (k0_hw141 : k0_chk141 v1997), ∀ a, (k0_off282 v1997) a + S1x1x1x128.size a ≤ S1x33344x1x128.size a := fun v1997 k0_hw141 => k0_hw141.2

def k0_off283 (v2011 : BitVec 32) : Fin 4 → Nat :=
  let c0_1872 : Index := 0#32
  let v2012 : Index := Scalar.indexCast v2011
  let c0_1873 : Index := 0#32
  let c0_1874 : Index := 0#32
  ![0, v2012.toNat, 0, 0]

def k0_off284 (v2011 : BitVec 32) : Fin 4 → Nat :=
  let c0_1878 : Index := 0#32
  let c1_i32_1877 : BitVec 32 := 1#32
  let v2018 : BitVec 32 := Scalar.addi v2011 c1_i32_1877
  let v2019 : Index := Scalar.indexCast v2018
  let c0_1879 : Index := 0#32
  let c0_1880 : Index := 0#32
  ![0, v2019.toNat, 0, 0]

def k0_chk142 (v2011 : BitVec 32) : Prop :=
  (∀ a, (k0_off283 v2011) a + S1x1x1x128.size a ≤ S1x33344x1x128.size a) ∧
  (∀ a, (k0_off284 v2011) a + S1x1x1x128.size a ≤ S1x33344x1x128.size a)
theorem k0_off283_inb : ∀ (v2011 : BitVec 32) (k0_hw142 : k0_chk142 v2011), ∀ a, (k0_off283 v2011) a + S1x1x1x128.size a ≤ S1x33344x1x128.size a := fun v2011 k0_hw142 => k0_hw142.1
theorem k0_off284_inb : ∀ (v2011 : BitVec 32) (k0_hw142 : k0_chk142 v2011), ∀ a, (k0_off284 v2011) a + S1x1x1x128.size a ≤ S1x33344x1x128.size a := fun v2011 k0_hw142 => k0_hw142.2

def k0_off285 (v2025 : BitVec 32) : Fin 4 → Nat :=
  let c0_1886 : Index := 0#32
  let v2026 : Index := Scalar.indexCast v2025
  let c0_1887 : Index := 0#32
  let c0_1888 : Index := 0#32
  ![0, v2026.toNat, 0, 0]

def k0_off286 (v2025 : BitVec 32) : Fin 4 → Nat :=
  let c0_1892 : Index := 0#32
  let c1_i32_1891 : BitVec 32 := 1#32
  let v2032 : BitVec 32 := Scalar.addi v2025 c1_i32_1891
  let v2033 : Index := Scalar.indexCast v2032
  let c0_1893 : Index := 0#32
  let c0_1894 : Index := 0#32
  ![0, v2033.toNat, 0, 0]

def k0_chk143 (v2025 : BitVec 32) : Prop :=
  (∀ a, (k0_off285 v2025) a + S1x1x1x128.size a ≤ S1x33344x1x128.size a) ∧
  (∀ a, (k0_off286 v2025) a + S1x1x1x128.size a ≤ S1x33344x1x128.size a)
theorem k0_off285_inb : ∀ (v2025 : BitVec 32) (k0_hw143 : k0_chk143 v2025), ∀ a, (k0_off285 v2025) a + S1x1x1x128.size a ≤ S1x33344x1x128.size a := fun v2025 k0_hw143 => k0_hw143.1
theorem k0_off286_inb : ∀ (v2025 : BitVec 32) (k0_hw143 : k0_chk143 v2025), ∀ a, (k0_off286 v2025) a + S1x1x1x128.size a ≤ S1x33344x1x128.size a := fun v2025 k0_hw143 => k0_hw143.2

def k0_off287 (v2039 : BitVec 32) : Fin 4 → Nat :=
  let c0_1900 : Index := 0#32
  let v2040 : Index := Scalar.indexCast v2039
  let c0_1901 : Index := 0#32
  let c0_1902 : Index := 0#32
  ![0, v2040.toNat, 0, 0]

def k0_off288 (v2039 : BitVec 32) : Fin 4 → Nat :=
  let c0_1906 : Index := 0#32
  let c1_i32_1905 : BitVec 32 := 1#32
  let v2046 : BitVec 32 := Scalar.addi v2039 c1_i32_1905
  let v2047 : Index := Scalar.indexCast v2046
  let c0_1907 : Index := 0#32
  let c0_1908 : Index := 0#32
  ![0, v2047.toNat, 0, 0]

def k0_chk144 (v2039 : BitVec 32) : Prop :=
  (∀ a, (k0_off287 v2039) a + S1x1x1x128.size a ≤ S1x33344x1x128.size a) ∧
  (∀ a, (k0_off288 v2039) a + S1x1x1x128.size a ≤ S1x33344x1x128.size a)
theorem k0_off287_inb : ∀ (v2039 : BitVec 32) (k0_hw144 : k0_chk144 v2039), ∀ a, (k0_off287 v2039) a + S1x1x1x128.size a ≤ S1x33344x1x128.size a := fun v2039 k0_hw144 => k0_hw144.1
theorem k0_off288_inb : ∀ (v2039 : BitVec 32) (k0_hw144 : k0_chk144 v2039), ∀ a, (k0_off288 v2039) a + S1x1x1x128.size a ≤ S1x33344x1x128.size a := fun v2039 k0_hw144 => k0_hw144.2

def k0_off289 (v2053 : BitVec 32) : Fin 4 → Nat :=
  let c0_1914 : Index := 0#32
  let v2054 : Index := Scalar.indexCast v2053
  let c0_1915 : Index := 0#32
  let c0_1916 : Index := 0#32
  ![0, v2054.toNat, 0, 0]

def k0_off290 (v2053 : BitVec 32) : Fin 4 → Nat :=
  let c0_1920 : Index := 0#32
  let c1_i32_1919 : BitVec 32 := 1#32
  let v2060 : BitVec 32 := Scalar.addi v2053 c1_i32_1919
  let v2061 : Index := Scalar.indexCast v2060
  let c0_1921 : Index := 0#32
  let c0_1922 : Index := 0#32
  ![0, v2061.toNat, 0, 0]

def k0_chk145 (v2053 : BitVec 32) : Prop :=
  (∀ a, (k0_off289 v2053) a + S1x1x1x128.size a ≤ S1x33344x1x128.size a) ∧
  (∀ a, (k0_off290 v2053) a + S1x1x1x128.size a ≤ S1x33344x1x128.size a)
theorem k0_off289_inb : ∀ (v2053 : BitVec 32) (k0_hw145 : k0_chk145 v2053), ∀ a, (k0_off289 v2053) a + S1x1x1x128.size a ≤ S1x33344x1x128.size a := fun v2053 k0_hw145 => k0_hw145.1
theorem k0_off290_inb : ∀ (v2053 : BitVec 32) (k0_hw145 : k0_chk145 v2053), ∀ a, (k0_off290 v2053) a + S1x1x1x128.size a ≤ S1x33344x1x128.size a := fun v2053 k0_hw145 => k0_hw145.2

def k0_off291 (v2067 : BitVec 32) : Fin 4 → Nat :=
  let c0_1928 : Index := 0#32
  let v2068 : Index := Scalar.indexCast v2067
  let c0_1929 : Index := 0#32
  let c0_1930 : Index := 0#32
  ![0, v2068.toNat, 0, 0]

def k0_off292 (v2067 : BitVec 32) : Fin 4 → Nat :=
  let c0_1934 : Index := 0#32
  let c1_i32_1933 : BitVec 32 := 1#32
  let v2074 : BitVec 32 := Scalar.addi v2067 c1_i32_1933
  let v2075 : Index := Scalar.indexCast v2074
  let c0_1935 : Index := 0#32
  let c0_1936 : Index := 0#32
  ![0, v2075.toNat, 0, 0]

def k0_chk146 (v2067 : BitVec 32) : Prop :=
  (∀ a, (k0_off291 v2067) a + S1x1x1x128.size a ≤ S1x33344x1x128.size a) ∧
  (∀ a, (k0_off292 v2067) a + S1x1x1x128.size a ≤ S1x33344x1x128.size a)
theorem k0_off291_inb : ∀ (v2067 : BitVec 32) (k0_hw146 : k0_chk146 v2067), ∀ a, (k0_off291 v2067) a + S1x1x1x128.size a ≤ S1x33344x1x128.size a := fun v2067 k0_hw146 => k0_hw146.1
theorem k0_off292_inb : ∀ (v2067 : BitVec 32) (k0_hw146 : k0_chk146 v2067), ∀ a, (k0_off292 v2067) a + S1x1x1x128.size a ≤ S1x33344x1x128.size a := fun v2067 k0_hw146 => k0_hw146.2

def k0_off293 (v2081 : BitVec 32) : Fin 4 → Nat :=
  let c0_1942 : Index := 0#32
  let v2082 : Index := Scalar.indexCast v2081
  let c0_1943 : Index := 0#32
  let c0_1944 : Index := 0#32
  ![0, v2082.toNat, 0, 0]

def k0_off294 (v2081 : BitVec 32) : Fin 4 → Nat :=
  let c0_1948 : Index := 0#32
  let c1_i32_1947 : BitVec 32 := 1#32
  let v2088 : BitVec 32 := Scalar.addi v2081 c1_i32_1947
  let v2089 : Index := Scalar.indexCast v2088
  let c0_1949 : Index := 0#32
  let c0_1950 : Index := 0#32
  ![0, v2089.toNat, 0, 0]

def k0_chk147 (v2081 : BitVec 32) : Prop :=
  (∀ a, (k0_off293 v2081) a + S1x1x1x128.size a ≤ S1x33344x1x128.size a) ∧
  (∀ a, (k0_off294 v2081) a + S1x1x1x128.size a ≤ S1x33344x1x128.size a)
theorem k0_off293_inb : ∀ (v2081 : BitVec 32) (k0_hw147 : k0_chk147 v2081), ∀ a, (k0_off293 v2081) a + S1x1x1x128.size a ≤ S1x33344x1x128.size a := fun v2081 k0_hw147 => k0_hw147.1
theorem k0_off294_inb : ∀ (v2081 : BitVec 32) (k0_hw147 : k0_chk147 v2081), ∀ a, (k0_off294 v2081) a + S1x1x1x128.size a ≤ S1x33344x1x128.size a := fun v2081 k0_hw147 => k0_hw147.2

def k0_off295 (v2095 : BitVec 32) : Fin 4 → Nat :=
  let c0_1956 : Index := 0#32
  let v2096 : Index := Scalar.indexCast v2095
  let c0_1957 : Index := 0#32
  let c0_1958 : Index := 0#32
  ![0, v2096.toNat, 0, 0]

def k0_off296 (v2095 : BitVec 32) : Fin 4 → Nat :=
  let c0_1962 : Index := 0#32
  let c1_i32_1961 : BitVec 32 := 1#32
  let v2102 : BitVec 32 := Scalar.addi v2095 c1_i32_1961
  let v2103 : Index := Scalar.indexCast v2102
  let c0_1963 : Index := 0#32
  let c0_1964 : Index := 0#32
  ![0, v2103.toNat, 0, 0]

def k0_chk148 (v2095 : BitVec 32) : Prop :=
  (∀ a, (k0_off295 v2095) a + S1x1x1x128.size a ≤ S1x33344x1x128.size a) ∧
  (∀ a, (k0_off296 v2095) a + S1x1x1x128.size a ≤ S1x33344x1x128.size a)
theorem k0_off295_inb : ∀ (v2095 : BitVec 32) (k0_hw148 : k0_chk148 v2095), ∀ a, (k0_off295 v2095) a + S1x1x1x128.size a ≤ S1x33344x1x128.size a := fun v2095 k0_hw148 => k0_hw148.1
theorem k0_off296_inb : ∀ (v2095 : BitVec 32) (k0_hw148 : k0_chk148 v2095), ∀ a, (k0_off296 v2095) a + S1x1x1x128.size a ≤ S1x33344x1x128.size a := fun v2095 k0_hw148 => k0_hw148.2

def k0_off297 (v2109 : BitVec 32) : Fin 4 → Nat :=
  let c0_1970 : Index := 0#32
  let v2110 : Index := Scalar.indexCast v2109
  let c0_1971 : Index := 0#32
  let c0_1972 : Index := 0#32
  ![0, v2110.toNat, 0, 0]

def k0_off298 (v2109 : BitVec 32) : Fin 4 → Nat :=
  let c0_1976 : Index := 0#32
  let c1_i32_1975 : BitVec 32 := 1#32
  let v2116 : BitVec 32 := Scalar.addi v2109 c1_i32_1975
  let v2117 : Index := Scalar.indexCast v2116
  let c0_1977 : Index := 0#32
  let c0_1978 : Index := 0#32
  ![0, v2117.toNat, 0, 0]

def k0_chk149 (v2109 : BitVec 32) : Prop :=
  (∀ a, (k0_off297 v2109) a + S1x1x1x128.size a ≤ S1x33344x1x128.size a) ∧
  (∀ a, (k0_off298 v2109) a + S1x1x1x128.size a ≤ S1x33344x1x128.size a)
theorem k0_off297_inb : ∀ (v2109 : BitVec 32) (k0_hw149 : k0_chk149 v2109), ∀ a, (k0_off297 v2109) a + S1x1x1x128.size a ≤ S1x33344x1x128.size a := fun v2109 k0_hw149 => k0_hw149.1
theorem k0_off298_inb : ∀ (v2109 : BitVec 32) (k0_hw149 : k0_chk149 v2109), ∀ a, (k0_off298 v2109) a + S1x1x1x128.size a ≤ S1x33344x1x128.size a := fun v2109 k0_hw149 => k0_hw149.2

def k0_off299 (v2123 : BitVec 32) : Fin 4 → Nat :=
  let c0_1984 : Index := 0#32
  let v2124 : Index := Scalar.indexCast v2123
  let c0_1985 : Index := 0#32
  let c0_1986 : Index := 0#32
  ![0, v2124.toNat, 0, 0]

def k0_off300 (v2123 : BitVec 32) : Fin 4 → Nat :=
  let c0_1990 : Index := 0#32
  let c1_i32_1989 : BitVec 32 := 1#32
  let v2130 : BitVec 32 := Scalar.addi v2123 c1_i32_1989
  let v2131 : Index := Scalar.indexCast v2130
  let c0_1991 : Index := 0#32
  let c0_1992 : Index := 0#32
  ![0, v2131.toNat, 0, 0]

def k0_chk150 (v2123 : BitVec 32) : Prop :=
  (∀ a, (k0_off299 v2123) a + S1x1x1x128.size a ≤ S1x33344x1x128.size a) ∧
  (∀ a, (k0_off300 v2123) a + S1x1x1x128.size a ≤ S1x33344x1x128.size a)
theorem k0_off299_inb : ∀ (v2123 : BitVec 32) (k0_hw150 : k0_chk150 v2123), ∀ a, (k0_off299 v2123) a + S1x1x1x128.size a ≤ S1x33344x1x128.size a := fun v2123 k0_hw150 => k0_hw150.1
theorem k0_off300_inb : ∀ (v2123 : BitVec 32) (k0_hw150 : k0_chk150 v2123), ∀ a, (k0_off300 v2123) a + S1x1x1x128.size a ≤ S1x33344x1x128.size a := fun v2123 k0_hw150 => k0_hw150.2

def k0_off301 (v2137 : BitVec 32) : Fin 4 → Nat :=
  let c0_1998 : Index := 0#32
  let v2138 : Index := Scalar.indexCast v2137
  let c0_1999 : Index := 0#32
  let c0_2000 : Index := 0#32
  ![0, v2138.toNat, 0, 0]

def k0_off302 (v2137 : BitVec 32) : Fin 4 → Nat :=
  let c0_2004 : Index := 0#32
  let c1_i32_2003 : BitVec 32 := 1#32
  let v2144 : BitVec 32 := Scalar.addi v2137 c1_i32_2003
  let v2145 : Index := Scalar.indexCast v2144
  let c0_2005 : Index := 0#32
  let c0_2006 : Index := 0#32
  ![0, v2145.toNat, 0, 0]

def k0_chk151 (v2137 : BitVec 32) : Prop :=
  (∀ a, (k0_off301 v2137) a + S1x1x1x128.size a ≤ S1x33344x1x128.size a) ∧
  (∀ a, (k0_off302 v2137) a + S1x1x1x128.size a ≤ S1x33344x1x128.size a)
theorem k0_off301_inb : ∀ (v2137 : BitVec 32) (k0_hw151 : k0_chk151 v2137), ∀ a, (k0_off301 v2137) a + S1x1x1x128.size a ≤ S1x33344x1x128.size a := fun v2137 k0_hw151 => k0_hw151.1
theorem k0_off302_inb : ∀ (v2137 : BitVec 32) (k0_hw151 : k0_chk151 v2137), ∀ a, (k0_off302 v2137) a + S1x1x1x128.size a ≤ S1x33344x1x128.size a := fun v2137 k0_hw151 => k0_hw151.2

def k0_off303 (v2151 : BitVec 32) : Fin 4 → Nat :=
  let c0_2012 : Index := 0#32
  let v2152 : Index := Scalar.indexCast v2151
  let c0_2013 : Index := 0#32
  let c0_2014 : Index := 0#32
  ![0, v2152.toNat, 0, 0]

def k0_off304 (v2151 : BitVec 32) : Fin 4 → Nat :=
  let c0_2018 : Index := 0#32
  let c1_i32_2017 : BitVec 32 := 1#32
  let v2158 : BitVec 32 := Scalar.addi v2151 c1_i32_2017
  let v2159 : Index := Scalar.indexCast v2158
  let c0_2019 : Index := 0#32
  let c0_2020 : Index := 0#32
  ![0, v2159.toNat, 0, 0]

def k0_chk152 (v2151 : BitVec 32) : Prop :=
  (∀ a, (k0_off303 v2151) a + S1x1x1x128.size a ≤ S1x33344x1x128.size a) ∧
  (∀ a, (k0_off304 v2151) a + S1x1x1x128.size a ≤ S1x33344x1x128.size a)
theorem k0_off303_inb : ∀ (v2151 : BitVec 32) (k0_hw152 : k0_chk152 v2151), ∀ a, (k0_off303 v2151) a + S1x1x1x128.size a ≤ S1x33344x1x128.size a := fun v2151 k0_hw152 => k0_hw152.1
theorem k0_off304_inb : ∀ (v2151 : BitVec 32) (k0_hw152 : k0_chk152 v2151), ∀ a, (k0_off304 v2151) a + S1x1x1x128.size a ≤ S1x33344x1x128.size a := fun v2151 k0_hw152 => k0_hw152.2

def k0_off305 (v2165 : BitVec 32) : Fin 4 → Nat :=
  let c0_2026 : Index := 0#32
  let v2166 : Index := Scalar.indexCast v2165
  let c0_2027 : Index := 0#32
  let c0_2028 : Index := 0#32
  ![0, v2166.toNat, 0, 0]

def k0_off306 (v2165 : BitVec 32) : Fin 4 → Nat :=
  let c0_2032 : Index := 0#32
  let c1_i32_2031 : BitVec 32 := 1#32
  let v2172 : BitVec 32 := Scalar.addi v2165 c1_i32_2031
  let v2173 : Index := Scalar.indexCast v2172
  let c0_2033 : Index := 0#32
  let c0_2034 : Index := 0#32
  ![0, v2173.toNat, 0, 0]

def k0_chk153 (v2165 : BitVec 32) : Prop :=
  (∀ a, (k0_off305 v2165) a + S1x1x1x128.size a ≤ S1x33344x1x128.size a) ∧
  (∀ a, (k0_off306 v2165) a + S1x1x1x128.size a ≤ S1x33344x1x128.size a)
theorem k0_off305_inb : ∀ (v2165 : BitVec 32) (k0_hw153 : k0_chk153 v2165), ∀ a, (k0_off305 v2165) a + S1x1x1x128.size a ≤ S1x33344x1x128.size a := fun v2165 k0_hw153 => k0_hw153.1
theorem k0_off306_inb : ∀ (v2165 : BitVec 32) (k0_hw153 : k0_chk153 v2165), ∀ a, (k0_off306 v2165) a + S1x1x1x128.size a ≤ S1x33344x1x128.size a := fun v2165 k0_hw153 => k0_hw153.2

def k0_off307 (v2179 : BitVec 32) : Fin 4 → Nat :=
  let c0_2040 : Index := 0#32
  let v2180 : Index := Scalar.indexCast v2179
  let c0_2041 : Index := 0#32
  let c0_2042 : Index := 0#32
  ![0, v2180.toNat, 0, 0]

def k0_off308 (v2179 : BitVec 32) : Fin 4 → Nat :=
  let c0_2046 : Index := 0#32
  let c1_i32_2045 : BitVec 32 := 1#32
  let v2186 : BitVec 32 := Scalar.addi v2179 c1_i32_2045
  let v2187 : Index := Scalar.indexCast v2186
  let c0_2047 : Index := 0#32
  let c0_2048 : Index := 0#32
  ![0, v2187.toNat, 0, 0]

def k0_chk154 (v2179 : BitVec 32) : Prop :=
  (∀ a, (k0_off307 v2179) a + S1x1x1x128.size a ≤ S1x33344x1x128.size a) ∧
  (∀ a, (k0_off308 v2179) a + S1x1x1x128.size a ≤ S1x33344x1x128.size a)
theorem k0_off307_inb : ∀ (v2179 : BitVec 32) (k0_hw154 : k0_chk154 v2179), ∀ a, (k0_off307 v2179) a + S1x1x1x128.size a ≤ S1x33344x1x128.size a := fun v2179 k0_hw154 => k0_hw154.1
theorem k0_off308_inb : ∀ (v2179 : BitVec 32) (k0_hw154 : k0_chk154 v2179), ∀ a, (k0_off308 v2179) a + S1x1x1x128.size a ≤ S1x33344x1x128.size a := fun v2179 k0_hw154 => k0_hw154.2

def k0_off309 (v2193 : BitVec 32) : Fin 4 → Nat :=
  let c0_2054 : Index := 0#32
  let v2194 : Index := Scalar.indexCast v2193
  let c0_2055 : Index := 0#32
  let c0_2056 : Index := 0#32
  ![0, v2194.toNat, 0, 0]

def k0_off310 (v2193 : BitVec 32) : Fin 4 → Nat :=
  let c0_2060 : Index := 0#32
  let c1_i32_2059 : BitVec 32 := 1#32
  let v2200 : BitVec 32 := Scalar.addi v2193 c1_i32_2059
  let v2201 : Index := Scalar.indexCast v2200
  let c0_2061 : Index := 0#32
  let c0_2062 : Index := 0#32
  ![0, v2201.toNat, 0, 0]

def k0_chk155 (v2193 : BitVec 32) : Prop :=
  (∀ a, (k0_off309 v2193) a + S1x1x1x128.size a ≤ S1x33344x1x128.size a) ∧
  (∀ a, (k0_off310 v2193) a + S1x1x1x128.size a ≤ S1x33344x1x128.size a)
theorem k0_off309_inb : ∀ (v2193 : BitVec 32) (k0_hw155 : k0_chk155 v2193), ∀ a, (k0_off309 v2193) a + S1x1x1x128.size a ≤ S1x33344x1x128.size a := fun v2193 k0_hw155 => k0_hw155.1
theorem k0_off310_inb : ∀ (v2193 : BitVec 32) (k0_hw155 : k0_chk155 v2193), ∀ a, (k0_off310 v2193) a + S1x1x1x128.size a ≤ S1x33344x1x128.size a := fun v2193 k0_hw155 => k0_hw155.2

def k0_off311 (v2207 : BitVec 32) : Fin 4 → Nat :=
  let c0_2068 : Index := 0#32
  let v2208 : Index := Scalar.indexCast v2207
  let c0_2069 : Index := 0#32
  let c0_2070 : Index := 0#32
  ![0, v2208.toNat, 0, 0]

def k0_off312 (v2207 : BitVec 32) : Fin 4 → Nat :=
  let c0_2074 : Index := 0#32
  let c1_i32_2073 : BitVec 32 := 1#32
  let v2214 : BitVec 32 := Scalar.addi v2207 c1_i32_2073
  let v2215 : Index := Scalar.indexCast v2214
  let c0_2075 : Index := 0#32
  let c0_2076 : Index := 0#32
  ![0, v2215.toNat, 0, 0]

def k0_chk156 (v2207 : BitVec 32) : Prop :=
  (∀ a, (k0_off311 v2207) a + S1x1x1x128.size a ≤ S1x33344x1x128.size a) ∧
  (∀ a, (k0_off312 v2207) a + S1x1x1x128.size a ≤ S1x33344x1x128.size a)
theorem k0_off311_inb : ∀ (v2207 : BitVec 32) (k0_hw156 : k0_chk156 v2207), ∀ a, (k0_off311 v2207) a + S1x1x1x128.size a ≤ S1x33344x1x128.size a := fun v2207 k0_hw156 => k0_hw156.1
theorem k0_off312_inb : ∀ (v2207 : BitVec 32) (k0_hw156 : k0_chk156 v2207), ∀ a, (k0_off312 v2207) a + S1x1x1x128.size a ≤ S1x33344x1x128.size a := fun v2207 k0_hw156 => k0_hw156.2

def k0_off313 (v2221 : BitVec 32) : Fin 4 → Nat :=
  let c0_2082 : Index := 0#32
  let v2222 : Index := Scalar.indexCast v2221
  let c0_2083 : Index := 0#32
  let c0_2084 : Index := 0#32
  ![0, v2222.toNat, 0, 0]

def k0_off314 (v2221 : BitVec 32) : Fin 4 → Nat :=
  let c0_2088 : Index := 0#32
  let c1_i32_2087 : BitVec 32 := 1#32
  let v2228 : BitVec 32 := Scalar.addi v2221 c1_i32_2087
  let v2229 : Index := Scalar.indexCast v2228
  let c0_2089 : Index := 0#32
  let c0_2090 : Index := 0#32
  ![0, v2229.toNat, 0, 0]

def k0_chk157 (v2221 : BitVec 32) : Prop :=
  (∀ a, (k0_off313 v2221) a + S1x1x1x128.size a ≤ S1x33344x1x128.size a) ∧
  (∀ a, (k0_off314 v2221) a + S1x1x1x128.size a ≤ S1x33344x1x128.size a)
theorem k0_off313_inb : ∀ (v2221 : BitVec 32) (k0_hw157 : k0_chk157 v2221), ∀ a, (k0_off313 v2221) a + S1x1x1x128.size a ≤ S1x33344x1x128.size a := fun v2221 k0_hw157 => k0_hw157.1
theorem k0_off314_inb : ∀ (v2221 : BitVec 32) (k0_hw157 : k0_chk157 v2221), ∀ a, (k0_off314 v2221) a + S1x1x1x128.size a ≤ S1x33344x1x128.size a := fun v2221 k0_hw157 => k0_hw157.2

def k0_off315 (v2235 : BitVec 32) : Fin 4 → Nat :=
  let c0_2096 : Index := 0#32
  let v2236 : Index := Scalar.indexCast v2235
  let c0_2097 : Index := 0#32
  let c0_2098 : Index := 0#32
  ![0, v2236.toNat, 0, 0]

def k0_off316 (v2235 : BitVec 32) : Fin 4 → Nat :=
  let c0_2102 : Index := 0#32
  let c1_i32_2101 : BitVec 32 := 1#32
  let v2242 : BitVec 32 := Scalar.addi v2235 c1_i32_2101
  let v2243 : Index := Scalar.indexCast v2242
  let c0_2103 : Index := 0#32
  let c0_2104 : Index := 0#32
  ![0, v2243.toNat, 0, 0]

def k0_chk158 (v2235 : BitVec 32) : Prop :=
  (∀ a, (k0_off315 v2235) a + S1x1x1x128.size a ≤ S1x33344x1x128.size a) ∧
  (∀ a, (k0_off316 v2235) a + S1x1x1x128.size a ≤ S1x33344x1x128.size a)
theorem k0_off315_inb : ∀ (v2235 : BitVec 32) (k0_hw158 : k0_chk158 v2235), ∀ a, (k0_off315 v2235) a + S1x1x1x128.size a ≤ S1x33344x1x128.size a := fun v2235 k0_hw158 => k0_hw158.1
theorem k0_off316_inb : ∀ (v2235 : BitVec 32) (k0_hw158 : k0_chk158 v2235), ∀ a, (k0_off316 v2235) a + S1x1x1x128.size a ≤ S1x33344x1x128.size a := fun v2235 k0_hw158 => k0_hw158.2

def k0_off317 (v2249 : BitVec 32) : Fin 4 → Nat :=
  let c0_2110 : Index := 0#32
  let v2250 : Index := Scalar.indexCast v2249
  let c0_2111 : Index := 0#32
  let c0_2112 : Index := 0#32
  ![0, v2250.toNat, 0, 0]

def k0_off318 (v2249 : BitVec 32) : Fin 4 → Nat :=
  let c0_2116 : Index := 0#32
  let c1_i32_2115 : BitVec 32 := 1#32
  let v2256 : BitVec 32 := Scalar.addi v2249 c1_i32_2115
  let v2257 : Index := Scalar.indexCast v2256
  let c0_2117 : Index := 0#32
  let c0_2118 : Index := 0#32
  ![0, v2257.toNat, 0, 0]

def k0_chk159 (v2249 : BitVec 32) : Prop :=
  (∀ a, (k0_off317 v2249) a + S1x1x1x128.size a ≤ S1x33344x1x128.size a) ∧
  (∀ a, (k0_off318 v2249) a + S1x1x1x128.size a ≤ S1x33344x1x128.size a)
theorem k0_off317_inb : ∀ (v2249 : BitVec 32) (k0_hw159 : k0_chk159 v2249), ∀ a, (k0_off317 v2249) a + S1x1x1x128.size a ≤ S1x33344x1x128.size a := fun v2249 k0_hw159 => k0_hw159.1
theorem k0_off318_inb : ∀ (v2249 : BitVec 32) (k0_hw159 : k0_chk159 v2249), ∀ a, (k0_off318 v2249) a + S1x1x1x128.size a ≤ S1x33344x1x128.size a := fun v2249 k0_hw159 => k0_hw159.2

def k0_off319 (v2263 : BitVec 32) : Fin 4 → Nat :=
  let c0_2124 : Index := 0#32
  let v2264 : Index := Scalar.indexCast v2263
  let c0_2125 : Index := 0#32
  let c0_2126 : Index := 0#32
  ![0, v2264.toNat, 0, 0]

def k0_off320 (v2263 : BitVec 32) : Fin 4 → Nat :=
  let c0_2130 : Index := 0#32
  let c1_i32_2129 : BitVec 32 := 1#32
  let v2270 : BitVec 32 := Scalar.addi v2263 c1_i32_2129
  let v2271 : Index := Scalar.indexCast v2270
  let c0_2131 : Index := 0#32
  let c0_2132 : Index := 0#32
  ![0, v2271.toNat, 0, 0]

def k0_chk160 (v2263 : BitVec 32) : Prop :=
  (∀ a, (k0_off319 v2263) a + S1x1x1x128.size a ≤ S1x33344x1x128.size a) ∧
  (∀ a, (k0_off320 v2263) a + S1x1x1x128.size a ≤ S1x33344x1x128.size a)
theorem k0_off319_inb : ∀ (v2263 : BitVec 32) (k0_hw160 : k0_chk160 v2263), ∀ a, (k0_off319 v2263) a + S1x1x1x128.size a ≤ S1x33344x1x128.size a := fun v2263 k0_hw160 => k0_hw160.1
theorem k0_off320_inb : ∀ (v2263 : BitVec 32) (k0_hw160 : k0_chk160 v2263), ∀ a, (k0_off320 v2263) a + S1x1x1x128.size a ≤ S1x33344x1x128.size a := fun v2263 k0_hw160 => k0_hw160.2

def k0_off321 (v2277 : BitVec 32) : Fin 4 → Nat :=
  let c0_2138 : Index := 0#32
  let v2278 : Index := Scalar.indexCast v2277
  let c0_2139 : Index := 0#32
  let c0_2140 : Index := 0#32
  ![0, v2278.toNat, 0, 0]

def k0_off322 (v2277 : BitVec 32) : Fin 4 → Nat :=
  let c0_2144 : Index := 0#32
  let c1_i32_2143 : BitVec 32 := 1#32
  let v2284 : BitVec 32 := Scalar.addi v2277 c1_i32_2143
  let v2285 : Index := Scalar.indexCast v2284
  let c0_2145 : Index := 0#32
  let c0_2146 : Index := 0#32
  ![0, v2285.toNat, 0, 0]

def k0_chk161 (v2277 : BitVec 32) : Prop :=
  (∀ a, (k0_off321 v2277) a + S1x1x1x128.size a ≤ S1x33344x1x128.size a) ∧
  (∀ a, (k0_off322 v2277) a + S1x1x1x128.size a ≤ S1x33344x1x128.size a)
theorem k0_off321_inb : ∀ (v2277 : BitVec 32) (k0_hw161 : k0_chk161 v2277), ∀ a, (k0_off321 v2277) a + S1x1x1x128.size a ≤ S1x33344x1x128.size a := fun v2277 k0_hw161 => k0_hw161.1
theorem k0_off322_inb : ∀ (v2277 : BitVec 32) (k0_hw161 : k0_chk161 v2277), ∀ a, (k0_off322 v2277) a + S1x1x1x128.size a ≤ S1x33344x1x128.size a := fun v2277 k0_hw161 => k0_hw161.2

def k0_off323 (v2291 : BitVec 32) : Fin 4 → Nat :=
  let c0_2152 : Index := 0#32
  let v2292 : Index := Scalar.indexCast v2291
  let c0_2153 : Index := 0#32
  let c0_2154 : Index := 0#32
  ![0, v2292.toNat, 0, 0]

def k0_off324 (v2291 : BitVec 32) : Fin 4 → Nat :=
  let c0_2158 : Index := 0#32
  let c1_i32_2157 : BitVec 32 := 1#32
  let v2298 : BitVec 32 := Scalar.addi v2291 c1_i32_2157
  let v2299 : Index := Scalar.indexCast v2298
  let c0_2159 : Index := 0#32
  let c0_2160 : Index := 0#32
  ![0, v2299.toNat, 0, 0]

def k0_chk162 (v2291 : BitVec 32) : Prop :=
  (∀ a, (k0_off323 v2291) a + S1x1x1x128.size a ≤ S1x33344x1x128.size a) ∧
  (∀ a, (k0_off324 v2291) a + S1x1x1x128.size a ≤ S1x33344x1x128.size a)
theorem k0_off323_inb : ∀ (v2291 : BitVec 32) (k0_hw162 : k0_chk162 v2291), ∀ a, (k0_off323 v2291) a + S1x1x1x128.size a ≤ S1x33344x1x128.size a := fun v2291 k0_hw162 => k0_hw162.1
theorem k0_off324_inb : ∀ (v2291 : BitVec 32) (k0_hw162 : k0_chk162 v2291), ∀ a, (k0_off324 v2291) a + S1x1x1x128.size a ≤ S1x33344x1x128.size a := fun v2291 k0_hw162 => k0_hw162.2

def k0_off325 (v2305 : BitVec 32) : Fin 4 → Nat :=
  let c0_2166 : Index := 0#32
  let v2306 : Index := Scalar.indexCast v2305
  let c0_2167 : Index := 0#32
  let c0_2168 : Index := 0#32
  ![0, v2306.toNat, 0, 0]

def k0_off326 (v2305 : BitVec 32) : Fin 4 → Nat :=
  let c0_2172 : Index := 0#32
  let c1_i32_2171 : BitVec 32 := 1#32
  let v2312 : BitVec 32 := Scalar.addi v2305 c1_i32_2171
  let v2313 : Index := Scalar.indexCast v2312
  let c0_2173 : Index := 0#32
  let c0_2174 : Index := 0#32
  ![0, v2313.toNat, 0, 0]

def k0_chk163 (v2305 : BitVec 32) : Prop :=
  (∀ a, (k0_off325 v2305) a + S1x1x1x128.size a ≤ S1x33344x1x128.size a) ∧
  (∀ a, (k0_off326 v2305) a + S1x1x1x128.size a ≤ S1x33344x1x128.size a)
theorem k0_off325_inb : ∀ (v2305 : BitVec 32) (k0_hw163 : k0_chk163 v2305), ∀ a, (k0_off325 v2305) a + S1x1x1x128.size a ≤ S1x33344x1x128.size a := fun v2305 k0_hw163 => k0_hw163.1
theorem k0_off326_inb : ∀ (v2305 : BitVec 32) (k0_hw163 : k0_chk163 v2305), ∀ a, (k0_off326 v2305) a + S1x1x1x128.size a ≤ S1x33344x1x128.size a := fun v2305 k0_hw163 => k0_hw163.2

def k0_off327 (v2319 : BitVec 32) : Fin 4 → Nat :=
  let c0_2180 : Index := 0#32
  let v2320 : Index := Scalar.indexCast v2319
  let c0_2181 : Index := 0#32
  let c0_2182 : Index := 0#32
  ![0, v2320.toNat, 0, 0]

def k0_off328 (v2319 : BitVec 32) : Fin 4 → Nat :=
  let c0_2186 : Index := 0#32
  let c1_i32_2185 : BitVec 32 := 1#32
  let v2326 : BitVec 32 := Scalar.addi v2319 c1_i32_2185
  let v2327 : Index := Scalar.indexCast v2326
  let c0_2187 : Index := 0#32
  let c0_2188 : Index := 0#32
  ![0, v2327.toNat, 0, 0]

def k0_chk164 (v2319 : BitVec 32) : Prop :=
  (∀ a, (k0_off327 v2319) a + S1x1x1x128.size a ≤ S1x33344x1x128.size a) ∧
  (∀ a, (k0_off328 v2319) a + S1x1x1x128.size a ≤ S1x33344x1x128.size a)
theorem k0_off327_inb : ∀ (v2319 : BitVec 32) (k0_hw164 : k0_chk164 v2319), ∀ a, (k0_off327 v2319) a + S1x1x1x128.size a ≤ S1x33344x1x128.size a := fun v2319 k0_hw164 => k0_hw164.1
theorem k0_off328_inb : ∀ (v2319 : BitVec 32) (k0_hw164 : k0_chk164 v2319), ∀ a, (k0_off328 v2319) a + S1x1x1x128.size a ≤ S1x33344x1x128.size a := fun v2319 k0_hw164 => k0_hw164.2

def k0_off329 (v2333 : BitVec 32) : Fin 4 → Nat :=
  let c0_2194 : Index := 0#32
  let v2334 : Index := Scalar.indexCast v2333
  let c0_2195 : Index := 0#32
  let c0_2196 : Index := 0#32
  ![0, v2334.toNat, 0, 0]

def k0_off330 (v2333 : BitVec 32) : Fin 4 → Nat :=
  let c0_2200 : Index := 0#32
  let c1_i32_2199 : BitVec 32 := 1#32
  let v2340 : BitVec 32 := Scalar.addi v2333 c1_i32_2199
  let v2341 : Index := Scalar.indexCast v2340
  let c0_2201 : Index := 0#32
  let c0_2202 : Index := 0#32
  ![0, v2341.toNat, 0, 0]

def k0_chk165 (v2333 : BitVec 32) : Prop :=
  (∀ a, (k0_off329 v2333) a + S1x1x1x128.size a ≤ S1x33344x1x128.size a) ∧
  (∀ a, (k0_off330 v2333) a + S1x1x1x128.size a ≤ S1x33344x1x128.size a)
theorem k0_off329_inb : ∀ (v2333 : BitVec 32) (k0_hw165 : k0_chk165 v2333), ∀ a, (k0_off329 v2333) a + S1x1x1x128.size a ≤ S1x33344x1x128.size a := fun v2333 k0_hw165 => k0_hw165.1
theorem k0_off330_inb : ∀ (v2333 : BitVec 32) (k0_hw165 : k0_chk165 v2333), ∀ a, (k0_off330 v2333) a + S1x1x1x128.size a ≤ S1x33344x1x128.size a := fun v2333 k0_hw165 => k0_hw165.2

def k0_off331 (v2347 : BitVec 32) : Fin 4 → Nat :=
  let c0_2208 : Index := 0#32
  let v2348 : Index := Scalar.indexCast v2347
  let c0_2209 : Index := 0#32
  let c0_2210 : Index := 0#32
  ![0, v2348.toNat, 0, 0]

def k0_off332 (v2347 : BitVec 32) : Fin 4 → Nat :=
  let c0_2214 : Index := 0#32
  let c1_i32_2213 : BitVec 32 := 1#32
  let v2354 : BitVec 32 := Scalar.addi v2347 c1_i32_2213
  let v2355 : Index := Scalar.indexCast v2354
  let c0_2215 : Index := 0#32
  let c0_2216 : Index := 0#32
  ![0, v2355.toNat, 0, 0]

def k0_chk166 (v2347 : BitVec 32) : Prop :=
  (∀ a, (k0_off331 v2347) a + S1x1x1x128.size a ≤ S1x33344x1x128.size a) ∧
  (∀ a, (k0_off332 v2347) a + S1x1x1x128.size a ≤ S1x33344x1x128.size a)
theorem k0_off331_inb : ∀ (v2347 : BitVec 32) (k0_hw166 : k0_chk166 v2347), ∀ a, (k0_off331 v2347) a + S1x1x1x128.size a ≤ S1x33344x1x128.size a := fun v2347 k0_hw166 => k0_hw166.1
theorem k0_off332_inb : ∀ (v2347 : BitVec 32) (k0_hw166 : k0_chk166 v2347), ∀ a, (k0_off332 v2347) a + S1x1x1x128.size a ≤ S1x33344x1x128.size a := fun v2347 k0_hw166 => k0_hw166.2

def k0_off333 (v2361 : BitVec 32) : Fin 4 → Nat :=
  let c0_2222 : Index := 0#32
  let v2362 : Index := Scalar.indexCast v2361
  let c0_2223 : Index := 0#32
  let c0_2224 : Index := 0#32
  ![0, v2362.toNat, 0, 0]

def k0_off334 (v2361 : BitVec 32) : Fin 4 → Nat :=
  let c0_2228 : Index := 0#32
  let c1_i32_2227 : BitVec 32 := 1#32
  let v2368 : BitVec 32 := Scalar.addi v2361 c1_i32_2227
  let v2369 : Index := Scalar.indexCast v2368
  let c0_2229 : Index := 0#32
  let c0_2230 : Index := 0#32
  ![0, v2369.toNat, 0, 0]

def k0_chk167 (v2361 : BitVec 32) : Prop :=
  (∀ a, (k0_off333 v2361) a + S1x1x1x128.size a ≤ S1x33344x1x128.size a) ∧
  (∀ a, (k0_off334 v2361) a + S1x1x1x128.size a ≤ S1x33344x1x128.size a)
theorem k0_off333_inb : ∀ (v2361 : BitVec 32) (k0_hw167 : k0_chk167 v2361), ∀ a, (k0_off333 v2361) a + S1x1x1x128.size a ≤ S1x33344x1x128.size a := fun v2361 k0_hw167 => k0_hw167.1
theorem k0_off334_inb : ∀ (v2361 : BitVec 32) (k0_hw167 : k0_chk167 v2361), ∀ a, (k0_off334 v2361) a + S1x1x1x128.size a ≤ S1x33344x1x128.size a := fun v2361 k0_hw167 => k0_hw167.2

def k0_off335 (v2375 : BitVec 32) : Fin 4 → Nat :=
  let c0_2236 : Index := 0#32
  let v2376 : Index := Scalar.indexCast v2375
  let c0_2237 : Index := 0#32
  let c0_2238 : Index := 0#32
  ![0, v2376.toNat, 0, 0]

def k0_off336 (v2375 : BitVec 32) : Fin 4 → Nat :=
  let c0_2242 : Index := 0#32
  let c1_i32_2241 : BitVec 32 := 1#32
  let v2382 : BitVec 32 := Scalar.addi v2375 c1_i32_2241
  let v2383 : Index := Scalar.indexCast v2382
  let c0_2243 : Index := 0#32
  let c0_2244 : Index := 0#32
  ![0, v2383.toNat, 0, 0]

def k0_chk168 (v2375 : BitVec 32) : Prop :=
  (∀ a, (k0_off335 v2375) a + S1x1x1x128.size a ≤ S1x33344x1x128.size a) ∧
  (∀ a, (k0_off336 v2375) a + S1x1x1x128.size a ≤ S1x33344x1x128.size a)
theorem k0_off335_inb : ∀ (v2375 : BitVec 32) (k0_hw168 : k0_chk168 v2375), ∀ a, (k0_off335 v2375) a + S1x1x1x128.size a ≤ S1x33344x1x128.size a := fun v2375 k0_hw168 => k0_hw168.1
theorem k0_off336_inb : ∀ (v2375 : BitVec 32) (k0_hw168 : k0_chk168 v2375), ∀ a, (k0_off336 v2375) a + S1x1x1x128.size a ≤ S1x33344x1x128.size a := fun v2375 k0_hw168 => k0_hw168.2

def k0_off337 (v2389 : BitVec 32) : Fin 4 → Nat :=
  let c0_2250 : Index := 0#32
  let v2390 : Index := Scalar.indexCast v2389
  let c0_2251 : Index := 0#32
  let c0_2252 : Index := 0#32
  ![0, v2390.toNat, 0, 0]

def k0_off338 (v2389 : BitVec 32) : Fin 4 → Nat :=
  let c0_2256 : Index := 0#32
  let c1_i32_2255 : BitVec 32 := 1#32
  let v2396 : BitVec 32 := Scalar.addi v2389 c1_i32_2255
  let v2397 : Index := Scalar.indexCast v2396
  let c0_2257 : Index := 0#32
  let c0_2258 : Index := 0#32
  ![0, v2397.toNat, 0, 0]

def k0_chk169 (v2389 : BitVec 32) : Prop :=
  (∀ a, (k0_off337 v2389) a + S1x1x1x128.size a ≤ S1x33344x1x128.size a) ∧
  (∀ a, (k0_off338 v2389) a + S1x1x1x128.size a ≤ S1x33344x1x128.size a)
theorem k0_off337_inb : ∀ (v2389 : BitVec 32) (k0_hw169 : k0_chk169 v2389), ∀ a, (k0_off337 v2389) a + S1x1x1x128.size a ≤ S1x33344x1x128.size a := fun v2389 k0_hw169 => k0_hw169.1
theorem k0_off338_inb : ∀ (v2389 : BitVec 32) (k0_hw169 : k0_chk169 v2389), ∀ a, (k0_off338 v2389) a + S1x1x1x128.size a ≤ S1x33344x1x128.size a := fun v2389 k0_hw169 => k0_hw169.2

def k0_off339 (v2403 : BitVec 32) : Fin 4 → Nat :=
  let c0_2264 : Index := 0#32
  let v2404 : Index := Scalar.indexCast v2403
  let c0_2265 : Index := 0#32
  let c0_2266 : Index := 0#32
  ![0, v2404.toNat, 0, 0]

def k0_off340 (v2403 : BitVec 32) : Fin 4 → Nat :=
  let c0_2270 : Index := 0#32
  let c1_i32_2269 : BitVec 32 := 1#32
  let v2410 : BitVec 32 := Scalar.addi v2403 c1_i32_2269
  let v2411 : Index := Scalar.indexCast v2410
  let c0_2271 : Index := 0#32
  let c0_2272 : Index := 0#32
  ![0, v2411.toNat, 0, 0]

def k0_chk170 (v2403 : BitVec 32) : Prop :=
  (∀ a, (k0_off339 v2403) a + S1x1x1x128.size a ≤ S1x33344x1x128.size a) ∧
  (∀ a, (k0_off340 v2403) a + S1x1x1x128.size a ≤ S1x33344x1x128.size a)
theorem k0_off339_inb : ∀ (v2403 : BitVec 32) (k0_hw170 : k0_chk170 v2403), ∀ a, (k0_off339 v2403) a + S1x1x1x128.size a ≤ S1x33344x1x128.size a := fun v2403 k0_hw170 => k0_hw170.1
theorem k0_off340_inb : ∀ (v2403 : BitVec 32) (k0_hw170 : k0_chk170 v2403), ∀ a, (k0_off340 v2403) a + S1x1x1x128.size a ≤ S1x33344x1x128.size a := fun v2403 k0_hw170 => k0_hw170.2

def k0_off341 (v2417 : BitVec 32) : Fin 4 → Nat :=
  let c0_2278 : Index := 0#32
  let v2418 : Index := Scalar.indexCast v2417
  let c0_2279 : Index := 0#32
  let c0_2280 : Index := 0#32
  ![0, v2418.toNat, 0, 0]

def k0_off342 (v2417 : BitVec 32) : Fin 4 → Nat :=
  let c0_2284 : Index := 0#32
  let c1_i32_2283 : BitVec 32 := 1#32
  let v2424 : BitVec 32 := Scalar.addi v2417 c1_i32_2283
  let v2425 : Index := Scalar.indexCast v2424
  let c0_2285 : Index := 0#32
  let c0_2286 : Index := 0#32
  ![0, v2425.toNat, 0, 0]

def k0_chk171 (v2417 : BitVec 32) : Prop :=
  (∀ a, (k0_off341 v2417) a + S1x1x1x128.size a ≤ S1x33344x1x128.size a) ∧
  (∀ a, (k0_off342 v2417) a + S1x1x1x128.size a ≤ S1x33344x1x128.size a)
theorem k0_off341_inb : ∀ (v2417 : BitVec 32) (k0_hw171 : k0_chk171 v2417), ∀ a, (k0_off341 v2417) a + S1x1x1x128.size a ≤ S1x33344x1x128.size a := fun v2417 k0_hw171 => k0_hw171.1
theorem k0_off342_inb : ∀ (v2417 : BitVec 32) (k0_hw171 : k0_chk171 v2417), ∀ a, (k0_off342 v2417) a + S1x1x1x128.size a ≤ S1x33344x1x128.size a := fun v2417 k0_hw171 => k0_hw171.2

def k0_off343 (v2431 : BitVec 32) : Fin 4 → Nat :=
  let c0_2292 : Index := 0#32
  let v2432 : Index := Scalar.indexCast v2431
  let c0_2293 : Index := 0#32
  let c0_2294 : Index := 0#32
  ![0, v2432.toNat, 0, 0]

def k0_off344 (v2431 : BitVec 32) : Fin 4 → Nat :=
  let c0_2298 : Index := 0#32
  let c1_i32_2297 : BitVec 32 := 1#32
  let v2438 : BitVec 32 := Scalar.addi v2431 c1_i32_2297
  let v2439 : Index := Scalar.indexCast v2438
  let c0_2299 : Index := 0#32
  let c0_2300 : Index := 0#32
  ![0, v2439.toNat, 0, 0]

def k0_chk172 (v2431 : BitVec 32) : Prop :=
  (∀ a, (k0_off343 v2431) a + S1x1x1x128.size a ≤ S1x33344x1x128.size a) ∧
  (∀ a, (k0_off344 v2431) a + S1x1x1x128.size a ≤ S1x33344x1x128.size a)
theorem k0_off343_inb : ∀ (v2431 : BitVec 32) (k0_hw172 : k0_chk172 v2431), ∀ a, (k0_off343 v2431) a + S1x1x1x128.size a ≤ S1x33344x1x128.size a := fun v2431 k0_hw172 => k0_hw172.1
theorem k0_off344_inb : ∀ (v2431 : BitVec 32) (k0_hw172 : k0_chk172 v2431), ∀ a, (k0_off344 v2431) a + S1x1x1x128.size a ≤ S1x33344x1x128.size a := fun v2431 k0_hw172 => k0_hw172.2

def k0_off345 (v2445 : BitVec 32) : Fin 4 → Nat :=
  let c0_2306 : Index := 0#32
  let v2446 : Index := Scalar.indexCast v2445
  let c0_2307 : Index := 0#32
  let c0_2308 : Index := 0#32
  ![0, v2446.toNat, 0, 0]

def k0_off346 (v2445 : BitVec 32) : Fin 4 → Nat :=
  let c0_2312 : Index := 0#32
  let c1_i32_2311 : BitVec 32 := 1#32
  let v2452 : BitVec 32 := Scalar.addi v2445 c1_i32_2311
  let v2453 : Index := Scalar.indexCast v2452
  let c0_2313 : Index := 0#32
  let c0_2314 : Index := 0#32
  ![0, v2453.toNat, 0, 0]

def k0_chk173 (v2445 : BitVec 32) : Prop :=
  (∀ a, (k0_off345 v2445) a + S1x1x1x128.size a ≤ S1x33344x1x128.size a) ∧
  (∀ a, (k0_off346 v2445) a + S1x1x1x128.size a ≤ S1x33344x1x128.size a)
theorem k0_off345_inb : ∀ (v2445 : BitVec 32) (k0_hw173 : k0_chk173 v2445), ∀ a, (k0_off345 v2445) a + S1x1x1x128.size a ≤ S1x33344x1x128.size a := fun v2445 k0_hw173 => k0_hw173.1
theorem k0_off346_inb : ∀ (v2445 : BitVec 32) (k0_hw173 : k0_chk173 v2445), ∀ a, (k0_off346 v2445) a + S1x1x1x128.size a ≤ S1x33344x1x128.size a := fun v2445 k0_hw173 => k0_hw173.2

def k0_off347 (v2459 : BitVec 32) : Fin 4 → Nat :=
  let c0_2320 : Index := 0#32
  let v2460 : Index := Scalar.indexCast v2459
  let c0_2321 : Index := 0#32
  let c0_2322 : Index := 0#32
  ![0, v2460.toNat, 0, 0]

def k0_off348 (v2459 : BitVec 32) : Fin 4 → Nat :=
  let c0_2326 : Index := 0#32
  let c1_i32_2325 : BitVec 32 := 1#32
  let v2466 : BitVec 32 := Scalar.addi v2459 c1_i32_2325
  let v2467 : Index := Scalar.indexCast v2466
  let c0_2327 : Index := 0#32
  let c0_2328 : Index := 0#32
  ![0, v2467.toNat, 0, 0]

def k0_chk174 (v2459 : BitVec 32) : Prop :=
  (∀ a, (k0_off347 v2459) a + S1x1x1x128.size a ≤ S1x33344x1x128.size a) ∧
  (∀ a, (k0_off348 v2459) a + S1x1x1x128.size a ≤ S1x33344x1x128.size a)
theorem k0_off347_inb : ∀ (v2459 : BitVec 32) (k0_hw174 : k0_chk174 v2459), ∀ a, (k0_off347 v2459) a + S1x1x1x128.size a ≤ S1x33344x1x128.size a := fun v2459 k0_hw174 => k0_hw174.1
theorem k0_off348_inb : ∀ (v2459 : BitVec 32) (k0_hw174 : k0_chk174 v2459), ∀ a, (k0_off348 v2459) a + S1x1x1x128.size a ≤ S1x33344x1x128.size a := fun v2459 k0_hw174 => k0_hw174.2

def k0_off349 (v2473 : BitVec 32) : Fin 4 → Nat :=
  let c0_2334 : Index := 0#32
  let v2474 : Index := Scalar.indexCast v2473
  let c0_2335 : Index := 0#32
  let c0_2336 : Index := 0#32
  ![0, v2474.toNat, 0, 0]

def k0_off350 (v2473 : BitVec 32) : Fin 4 → Nat :=
  let c0_2340 : Index := 0#32
  let c1_i32_2339 : BitVec 32 := 1#32
  let v2480 : BitVec 32 := Scalar.addi v2473 c1_i32_2339
  let v2481 : Index := Scalar.indexCast v2480
  let c0_2341 : Index := 0#32
  let c0_2342 : Index := 0#32
  ![0, v2481.toNat, 0, 0]

def k0_chk175 (v2473 : BitVec 32) : Prop :=
  (∀ a, (k0_off349 v2473) a + S1x1x1x128.size a ≤ S1x33344x1x128.size a) ∧
  (∀ a, (k0_off350 v2473) a + S1x1x1x128.size a ≤ S1x33344x1x128.size a)
theorem k0_off349_inb : ∀ (v2473 : BitVec 32) (k0_hw175 : k0_chk175 v2473), ∀ a, (k0_off349 v2473) a + S1x1x1x128.size a ≤ S1x33344x1x128.size a := fun v2473 k0_hw175 => k0_hw175.1
theorem k0_off350_inb : ∀ (v2473 : BitVec 32) (k0_hw175 : k0_chk175 v2473), ∀ a, (k0_off350 v2473) a + S1x1x1x128.size a ≤ S1x33344x1x128.size a := fun v2473 k0_hw175 => k0_hw175.2

def k0_off351 (v2487 : BitVec 32) : Fin 4 → Nat :=
  let c0_2348 : Index := 0#32
  let v2488 : Index := Scalar.indexCast v2487
  let c0_2349 : Index := 0#32
  let c0_2350 : Index := 0#32
  ![0, v2488.toNat, 0, 0]

def k0_off352 (v2487 : BitVec 32) : Fin 4 → Nat :=
  let c0_2354 : Index := 0#32
  let c1_i32_2353 : BitVec 32 := 1#32
  let v2494 : BitVec 32 := Scalar.addi v2487 c1_i32_2353
  let v2495 : Index := Scalar.indexCast v2494
  let c0_2355 : Index := 0#32
  let c0_2356 : Index := 0#32
  ![0, v2495.toNat, 0, 0]

def k0_chk176 (v2487 : BitVec 32) : Prop :=
  (∀ a, (k0_off351 v2487) a + S1x1x1x128.size a ≤ S1x33344x1x128.size a) ∧
  (∀ a, (k0_off352 v2487) a + S1x1x1x128.size a ≤ S1x33344x1x128.size a)
theorem k0_off351_inb : ∀ (v2487 : BitVec 32) (k0_hw176 : k0_chk176 v2487), ∀ a, (k0_off351 v2487) a + S1x1x1x128.size a ≤ S1x33344x1x128.size a := fun v2487 k0_hw176 => k0_hw176.1
theorem k0_off352_inb : ∀ (v2487 : BitVec 32) (k0_hw176 : k0_chk176 v2487), ∀ a, (k0_off352 v2487) a + S1x1x1x128.size a ≤ S1x33344x1x128.size a := fun v2487 k0_hw176 => k0_hw176.2

def k0_off353 (v2501 : BitVec 32) : Fin 4 → Nat :=
  let c0_2362 : Index := 0#32
  let v2502 : Index := Scalar.indexCast v2501
  let c0_2363 : Index := 0#32
  let c0_2364 : Index := 0#32
  ![0, v2502.toNat, 0, 0]

def k0_off354 (v2501 : BitVec 32) : Fin 4 → Nat :=
  let c0_2368 : Index := 0#32
  let c1_i32_2367 : BitVec 32 := 1#32
  let v2508 : BitVec 32 := Scalar.addi v2501 c1_i32_2367
  let v2509 : Index := Scalar.indexCast v2508
  let c0_2369 : Index := 0#32
  let c0_2370 : Index := 0#32
  ![0, v2509.toNat, 0, 0]

def k0_chk177 (v2501 : BitVec 32) : Prop :=
  (∀ a, (k0_off353 v2501) a + S1x1x1x128.size a ≤ S1x33344x1x128.size a) ∧
  (∀ a, (k0_off354 v2501) a + S1x1x1x128.size a ≤ S1x33344x1x128.size a)
theorem k0_off353_inb : ∀ (v2501 : BitVec 32) (k0_hw177 : k0_chk177 v2501), ∀ a, (k0_off353 v2501) a + S1x1x1x128.size a ≤ S1x33344x1x128.size a := fun v2501 k0_hw177 => k0_hw177.1
theorem k0_off354_inb : ∀ (v2501 : BitVec 32) (k0_hw177 : k0_chk177 v2501), ∀ a, (k0_off354 v2501) a + S1x1x1x128.size a ≤ S1x33344x1x128.size a := fun v2501 k0_hw177 => k0_hw177.2

def k0_off355 (v2515 : BitVec 32) : Fin 4 → Nat :=
  let c0_2376 : Index := 0#32
  let v2516 : Index := Scalar.indexCast v2515
  let c0_2377 : Index := 0#32
  let c0_2378 : Index := 0#32
  ![0, v2516.toNat, 0, 0]

def k0_off356 (v2515 : BitVec 32) : Fin 4 → Nat :=
  let c0_2382 : Index := 0#32
  let c1_i32_2381 : BitVec 32 := 1#32
  let v2522 : BitVec 32 := Scalar.addi v2515 c1_i32_2381
  let v2523 : Index := Scalar.indexCast v2522
  let c0_2383 : Index := 0#32
  let c0_2384 : Index := 0#32
  ![0, v2523.toNat, 0, 0]

def k0_chk178 (v2515 : BitVec 32) : Prop :=
  (∀ a, (k0_off355 v2515) a + S1x1x1x128.size a ≤ S1x33344x1x128.size a) ∧
  (∀ a, (k0_off356 v2515) a + S1x1x1x128.size a ≤ S1x33344x1x128.size a)
theorem k0_off355_inb : ∀ (v2515 : BitVec 32) (k0_hw178 : k0_chk178 v2515), ∀ a, (k0_off355 v2515) a + S1x1x1x128.size a ≤ S1x33344x1x128.size a := fun v2515 k0_hw178 => k0_hw178.1
theorem k0_off356_inb : ∀ (v2515 : BitVec 32) (k0_hw178 : k0_chk178 v2515), ∀ a, (k0_off356 v2515) a + S1x1x1x128.size a ≤ S1x33344x1x128.size a := fun v2515 k0_hw178 => k0_hw178.2

def k0_off357 (v2529 : BitVec 32) : Fin 4 → Nat :=
  let c0_2390 : Index := 0#32
  let v2530 : Index := Scalar.indexCast v2529
  let c0_2391 : Index := 0#32
  let c0_2392 : Index := 0#32
  ![0, v2530.toNat, 0, 0]

def k0_off358 (v2529 : BitVec 32) : Fin 4 → Nat :=
  let c0_2396 : Index := 0#32
  let c1_i32_2395 : BitVec 32 := 1#32
  let v2536 : BitVec 32 := Scalar.addi v2529 c1_i32_2395
  let v2537 : Index := Scalar.indexCast v2536
  let c0_2397 : Index := 0#32
  let c0_2398 : Index := 0#32
  ![0, v2537.toNat, 0, 0]

def k0_chk179 (v2529 : BitVec 32) : Prop :=
  (∀ a, (k0_off357 v2529) a + S1x1x1x128.size a ≤ S1x33344x1x128.size a) ∧
  (∀ a, (k0_off358 v2529) a + S1x1x1x128.size a ≤ S1x33344x1x128.size a)
theorem k0_off357_inb : ∀ (v2529 : BitVec 32) (k0_hw179 : k0_chk179 v2529), ∀ a, (k0_off357 v2529) a + S1x1x1x128.size a ≤ S1x33344x1x128.size a := fun v2529 k0_hw179 => k0_hw179.1
theorem k0_off358_inb : ∀ (v2529 : BitVec 32) (k0_hw179 : k0_chk179 v2529), ∀ a, (k0_off358 v2529) a + S1x1x1x128.size a ≤ S1x33344x1x128.size a := fun v2529 k0_hw179 => k0_hw179.2

def k0_off359 (v2543 : BitVec 32) : Fin 4 → Nat :=
  let c0_2404 : Index := 0#32
  let v2544 : Index := Scalar.indexCast v2543
  let c0_2405 : Index := 0#32
  let c0_2406 : Index := 0#32
  ![0, v2544.toNat, 0, 0]

def k0_off360 (v2543 : BitVec 32) : Fin 4 → Nat :=
  let c0_2410 : Index := 0#32
  let c1_i32_2409 : BitVec 32 := 1#32
  let v2550 : BitVec 32 := Scalar.addi v2543 c1_i32_2409
  let v2551 : Index := Scalar.indexCast v2550
  let c0_2411 : Index := 0#32
  let c0_2412 : Index := 0#32
  ![0, v2551.toNat, 0, 0]

def k0_chk180 (v2543 : BitVec 32) : Prop :=
  (∀ a, (k0_off359 v2543) a + S1x1x1x128.size a ≤ S1x33344x1x128.size a) ∧
  (∀ a, (k0_off360 v2543) a + S1x1x1x128.size a ≤ S1x33344x1x128.size a)
theorem k0_off359_inb : ∀ (v2543 : BitVec 32) (k0_hw180 : k0_chk180 v2543), ∀ a, (k0_off359 v2543) a + S1x1x1x128.size a ≤ S1x33344x1x128.size a := fun v2543 k0_hw180 => k0_hw180.1
theorem k0_off360_inb : ∀ (v2543 : BitVec 32) (k0_hw180 : k0_chk180 v2543), ∀ a, (k0_off360 v2543) a + S1x1x1x128.size a ≤ S1x33344x1x128.size a := fun v2543 k0_hw180 => k0_hw180.2

def k0_off361 (v2557 : BitVec 32) : Fin 4 → Nat :=
  let c0_2418 : Index := 0#32
  let v2558 : Index := Scalar.indexCast v2557
  let c0_2419 : Index := 0#32
  let c0_2420 : Index := 0#32
  ![0, v2558.toNat, 0, 0]

def k0_off362 (v2557 : BitVec 32) : Fin 4 → Nat :=
  let c0_2424 : Index := 0#32
  let c1_i32_2423 : BitVec 32 := 1#32
  let v2564 : BitVec 32 := Scalar.addi v2557 c1_i32_2423
  let v2565 : Index := Scalar.indexCast v2564
  let c0_2425 : Index := 0#32
  let c0_2426 : Index := 0#32
  ![0, v2565.toNat, 0, 0]

def k0_chk181 (v2557 : BitVec 32) : Prop :=
  (∀ a, (k0_off361 v2557) a + S1x1x1x128.size a ≤ S1x33344x1x128.size a) ∧
  (∀ a, (k0_off362 v2557) a + S1x1x1x128.size a ≤ S1x33344x1x128.size a)
theorem k0_off361_inb : ∀ (v2557 : BitVec 32) (k0_hw181 : k0_chk181 v2557), ∀ a, (k0_off361 v2557) a + S1x1x1x128.size a ≤ S1x33344x1x128.size a := fun v2557 k0_hw181 => k0_hw181.1
theorem k0_off362_inb : ∀ (v2557 : BitVec 32) (k0_hw181 : k0_chk181 v2557), ∀ a, (k0_off362 v2557) a + S1x1x1x128.size a ≤ S1x33344x1x128.size a := fun v2557 k0_hw181 => k0_hw181.2

def k0_off363 (v2571 : BitVec 32) : Fin 4 → Nat :=
  let c0_2432 : Index := 0#32
  let v2572 : Index := Scalar.indexCast v2571
  let c0_2433 : Index := 0#32
  let c0_2434 : Index := 0#32
  ![0, v2572.toNat, 0, 0]

def k0_off364 (v2571 : BitVec 32) : Fin 4 → Nat :=
  let c0_2438 : Index := 0#32
  let c1_i32_2437 : BitVec 32 := 1#32
  let v2578 : BitVec 32 := Scalar.addi v2571 c1_i32_2437
  let v2579 : Index := Scalar.indexCast v2578
  let c0_2439 : Index := 0#32
  let c0_2440 : Index := 0#32
  ![0, v2579.toNat, 0, 0]

def k0_chk182 (v2571 : BitVec 32) : Prop :=
  (∀ a, (k0_off363 v2571) a + S1x1x1x128.size a ≤ S1x33344x1x128.size a) ∧
  (∀ a, (k0_off364 v2571) a + S1x1x1x128.size a ≤ S1x33344x1x128.size a)
theorem k0_off363_inb : ∀ (v2571 : BitVec 32) (k0_hw182 : k0_chk182 v2571), ∀ a, (k0_off363 v2571) a + S1x1x1x128.size a ≤ S1x33344x1x128.size a := fun v2571 k0_hw182 => k0_hw182.1
theorem k0_off364_inb : ∀ (v2571 : BitVec 32) (k0_hw182 : k0_chk182 v2571), ∀ a, (k0_off364 v2571) a + S1x1x1x128.size a ≤ S1x33344x1x128.size a := fun v2571 k0_hw182 => k0_hw182.2

def k0_off365 (v2585 : BitVec 32) : Fin 4 → Nat :=
  let c0_2446 : Index := 0#32
  let v2586 : Index := Scalar.indexCast v2585
  let c0_2447 : Index := 0#32
  let c0_2448 : Index := 0#32
  ![0, v2586.toNat, 0, 0]

def k0_off366 (v2585 : BitVec 32) : Fin 4 → Nat :=
  let c0_2452 : Index := 0#32
  let c1_i32_2451 : BitVec 32 := 1#32
  let v2592 : BitVec 32 := Scalar.addi v2585 c1_i32_2451
  let v2593 : Index := Scalar.indexCast v2592
  let c0_2453 : Index := 0#32
  let c0_2454 : Index := 0#32
  ![0, v2593.toNat, 0, 0]

def k0_chk183 (v2585 : BitVec 32) : Prop :=
  (∀ a, (k0_off365 v2585) a + S1x1x1x128.size a ≤ S1x33344x1x128.size a) ∧
  (∀ a, (k0_off366 v2585) a + S1x1x1x128.size a ≤ S1x33344x1x128.size a)
theorem k0_off365_inb : ∀ (v2585 : BitVec 32) (k0_hw183 : k0_chk183 v2585), ∀ a, (k0_off365 v2585) a + S1x1x1x128.size a ≤ S1x33344x1x128.size a := fun v2585 k0_hw183 => k0_hw183.1
theorem k0_off366_inb : ∀ (v2585 : BitVec 32) (k0_hw183 : k0_chk183 v2585), ∀ a, (k0_off366 v2585) a + S1x1x1x128.size a ≤ S1x33344x1x128.size a := fun v2585 k0_hw183 => k0_hw183.2

def k0_off367 (v2599 : BitVec 32) : Fin 4 → Nat :=
  let c0_2460 : Index := 0#32
  let v2600 : Index := Scalar.indexCast v2599
  let c0_2461 : Index := 0#32
  let c0_2462 : Index := 0#32
  ![0, v2600.toNat, 0, 0]

def k0_off368 (v2599 : BitVec 32) : Fin 4 → Nat :=
  let c0_2466 : Index := 0#32
  let c1_i32_2465 : BitVec 32 := 1#32
  let v2606 : BitVec 32 := Scalar.addi v2599 c1_i32_2465
  let v2607 : Index := Scalar.indexCast v2606
  let c0_2467 : Index := 0#32
  let c0_2468 : Index := 0#32
  ![0, v2607.toNat, 0, 0]

def k0_chk184 (v2599 : BitVec 32) : Prop :=
  (∀ a, (k0_off367 v2599) a + S1x1x1x128.size a ≤ S1x33344x1x128.size a) ∧
  (∀ a, (k0_off368 v2599) a + S1x1x1x128.size a ≤ S1x33344x1x128.size a)
theorem k0_off367_inb : ∀ (v2599 : BitVec 32) (k0_hw184 : k0_chk184 v2599), ∀ a, (k0_off367 v2599) a + S1x1x1x128.size a ≤ S1x33344x1x128.size a := fun v2599 k0_hw184 => k0_hw184.1
theorem k0_off368_inb : ∀ (v2599 : BitVec 32) (k0_hw184 : k0_chk184 v2599), ∀ a, (k0_off368 v2599) a + S1x1x1x128.size a ≤ S1x33344x1x128.size a := fun v2599 k0_hw184 => k0_hw184.2

def k0_off369 (v2613 : BitVec 32) : Fin 4 → Nat :=
  let c0_2474 : Index := 0#32
  let v2614 : Index := Scalar.indexCast v2613
  let c0_2475 : Index := 0#32
  let c0_2476 : Index := 0#32
  ![0, v2614.toNat, 0, 0]

def k0_off370 (v2613 : BitVec 32) : Fin 4 → Nat :=
  let c0_2480 : Index := 0#32
  let c1_i32_2479 : BitVec 32 := 1#32
  let v2620 : BitVec 32 := Scalar.addi v2613 c1_i32_2479
  let v2621 : Index := Scalar.indexCast v2620
  let c0_2481 : Index := 0#32
  let c0_2482 : Index := 0#32
  ![0, v2621.toNat, 0, 0]

def k0_chk185 (v2613 : BitVec 32) : Prop :=
  (∀ a, (k0_off369 v2613) a + S1x1x1x128.size a ≤ S1x33344x1x128.size a) ∧
  (∀ a, (k0_off370 v2613) a + S1x1x1x128.size a ≤ S1x33344x1x128.size a)
theorem k0_off369_inb : ∀ (v2613 : BitVec 32) (k0_hw185 : k0_chk185 v2613), ∀ a, (k0_off369 v2613) a + S1x1x1x128.size a ≤ S1x33344x1x128.size a := fun v2613 k0_hw185 => k0_hw185.1
theorem k0_off370_inb : ∀ (v2613 : BitVec 32) (k0_hw185 : k0_chk185 v2613), ∀ a, (k0_off370 v2613) a + S1x1x1x128.size a ≤ S1x33344x1x128.size a := fun v2613 k0_hw185 => k0_hw185.2

def k0_off371 (v2627 : BitVec 32) : Fin 4 → Nat :=
  let c0_2488 : Index := 0#32
  let v2628 : Index := Scalar.indexCast v2627
  let c0_2489 : Index := 0#32
  let c0_2490 : Index := 0#32
  ![0, v2628.toNat, 0, 0]

def k0_off372 (v2627 : BitVec 32) : Fin 4 → Nat :=
  let c0_2494 : Index := 0#32
  let c1_i32_2493 : BitVec 32 := 1#32
  let v2634 : BitVec 32 := Scalar.addi v2627 c1_i32_2493
  let v2635 : Index := Scalar.indexCast v2634
  let c0_2495 : Index := 0#32
  let c0_2496 : Index := 0#32
  ![0, v2635.toNat, 0, 0]

def k0_chk186 (v2627 : BitVec 32) : Prop :=
  (∀ a, (k0_off371 v2627) a + S1x1x1x128.size a ≤ S1x33344x1x128.size a) ∧
  (∀ a, (k0_off372 v2627) a + S1x1x1x128.size a ≤ S1x33344x1x128.size a)
theorem k0_off371_inb : ∀ (v2627 : BitVec 32) (k0_hw186 : k0_chk186 v2627), ∀ a, (k0_off371 v2627) a + S1x1x1x128.size a ≤ S1x33344x1x128.size a := fun v2627 k0_hw186 => k0_hw186.1
theorem k0_off372_inb : ∀ (v2627 : BitVec 32) (k0_hw186 : k0_chk186 v2627), ∀ a, (k0_off372 v2627) a + S1x1x1x128.size a ≤ S1x33344x1x128.size a := fun v2627 k0_hw186 => k0_hw186.2

def k0_off373 (v2641 : BitVec 32) : Fin 4 → Nat :=
  let c0_2502 : Index := 0#32
  let v2642 : Index := Scalar.indexCast v2641
  let c0_2503 : Index := 0#32
  let c0_2504 : Index := 0#32
  ![0, v2642.toNat, 0, 0]

def k0_off374 (v2641 : BitVec 32) : Fin 4 → Nat :=
  let c0_2508 : Index := 0#32
  let c1_i32_2507 : BitVec 32 := 1#32
  let v2648 : BitVec 32 := Scalar.addi v2641 c1_i32_2507
  let v2649 : Index := Scalar.indexCast v2648
  let c0_2509 : Index := 0#32
  let c0_2510 : Index := 0#32
  ![0, v2649.toNat, 0, 0]

def k0_chk187 (v2641 : BitVec 32) : Prop :=
  (∀ a, (k0_off373 v2641) a + S1x1x1x128.size a ≤ S1x33344x1x128.size a) ∧
  (∀ a, (k0_off374 v2641) a + S1x1x1x128.size a ≤ S1x33344x1x128.size a)
theorem k0_off373_inb : ∀ (v2641 : BitVec 32) (k0_hw187 : k0_chk187 v2641), ∀ a, (k0_off373 v2641) a + S1x1x1x128.size a ≤ S1x33344x1x128.size a := fun v2641 k0_hw187 => k0_hw187.1
theorem k0_off374_inb : ∀ (v2641 : BitVec 32) (k0_hw187 : k0_chk187 v2641), ∀ a, (k0_off374 v2641) a + S1x1x1x128.size a ≤ S1x33344x1x128.size a := fun v2641 k0_hw187 => k0_hw187.2

def k0_off375 (v2655 : BitVec 32) : Fin 4 → Nat :=
  let c0_2516 : Index := 0#32
  let v2656 : Index := Scalar.indexCast v2655
  let c0_2517 : Index := 0#32
  let c0_2518 : Index := 0#32
  ![0, v2656.toNat, 0, 0]

def k0_off376 (v2655 : BitVec 32) : Fin 4 → Nat :=
  let c0_2522 : Index := 0#32
  let c1_i32_2521 : BitVec 32 := 1#32
  let v2662 : BitVec 32 := Scalar.addi v2655 c1_i32_2521
  let v2663 : Index := Scalar.indexCast v2662
  let c0_2523 : Index := 0#32
  let c0_2524 : Index := 0#32
  ![0, v2663.toNat, 0, 0]

def k0_chk188 (v2655 : BitVec 32) : Prop :=
  (∀ a, (k0_off375 v2655) a + S1x1x1x128.size a ≤ S1x33344x1x128.size a) ∧
  (∀ a, (k0_off376 v2655) a + S1x1x1x128.size a ≤ S1x33344x1x128.size a)
theorem k0_off375_inb : ∀ (v2655 : BitVec 32) (k0_hw188 : k0_chk188 v2655), ∀ a, (k0_off375 v2655) a + S1x1x1x128.size a ≤ S1x33344x1x128.size a := fun v2655 k0_hw188 => k0_hw188.1
theorem k0_off376_inb : ∀ (v2655 : BitVec 32) (k0_hw188 : k0_chk188 v2655), ∀ a, (k0_off376 v2655) a + S1x1x1x128.size a ≤ S1x33344x1x128.size a := fun v2655 k0_hw188 => k0_hw188.2

def k0_off377 (v2669 : BitVec 32) : Fin 4 → Nat :=
  let c0_2530 : Index := 0#32
  let v2670 : Index := Scalar.indexCast v2669
  let c0_2531 : Index := 0#32
  let c0_2532 : Index := 0#32
  ![0, v2670.toNat, 0, 0]

def k0_off378 (v2669 : BitVec 32) : Fin 4 → Nat :=
  let c0_2536 : Index := 0#32
  let c1_i32_2535 : BitVec 32 := 1#32
  let v2676 : BitVec 32 := Scalar.addi v2669 c1_i32_2535
  let v2677 : Index := Scalar.indexCast v2676
  let c0_2537 : Index := 0#32
  let c0_2538 : Index := 0#32
  ![0, v2677.toNat, 0, 0]

def k0_chk189 (v2669 : BitVec 32) : Prop :=
  (∀ a, (k0_off377 v2669) a + S1x1x1x128.size a ≤ S1x33344x1x128.size a) ∧
  (∀ a, (k0_off378 v2669) a + S1x1x1x128.size a ≤ S1x33344x1x128.size a)
theorem k0_off377_inb : ∀ (v2669 : BitVec 32) (k0_hw189 : k0_chk189 v2669), ∀ a, (k0_off377 v2669) a + S1x1x1x128.size a ≤ S1x33344x1x128.size a := fun v2669 k0_hw189 => k0_hw189.1
theorem k0_off378_inb : ∀ (v2669 : BitVec 32) (k0_hw189 : k0_chk189 v2669), ∀ a, (k0_off378 v2669) a + S1x1x1x128.size a ≤ S1x33344x1x128.size a := fun v2669 k0_hw189 => k0_hw189.2

def k0_off379 (v2683 : BitVec 32) : Fin 4 → Nat :=
  let c0_2544 : Index := 0#32
  let v2684 : Index := Scalar.indexCast v2683
  let c0_2545 : Index := 0#32
  let c0_2546 : Index := 0#32
  ![0, v2684.toNat, 0, 0]

def k0_off380 (v2683 : BitVec 32) : Fin 4 → Nat :=
  let c0_2550 : Index := 0#32
  let c1_i32_2549 : BitVec 32 := 1#32
  let v2690 : BitVec 32 := Scalar.addi v2683 c1_i32_2549
  let v2691 : Index := Scalar.indexCast v2690
  let c0_2551 : Index := 0#32
  let c0_2552 : Index := 0#32
  ![0, v2691.toNat, 0, 0]

def k0_chk190 (v2683 : BitVec 32) : Prop :=
  (∀ a, (k0_off379 v2683) a + S1x1x1x128.size a ≤ S1x33344x1x128.size a) ∧
  (∀ a, (k0_off380 v2683) a + S1x1x1x128.size a ≤ S1x33344x1x128.size a)
theorem k0_off379_inb : ∀ (v2683 : BitVec 32) (k0_hw190 : k0_chk190 v2683), ∀ a, (k0_off379 v2683) a + S1x1x1x128.size a ≤ S1x33344x1x128.size a := fun v2683 k0_hw190 => k0_hw190.1
theorem k0_off380_inb : ∀ (v2683 : BitVec 32) (k0_hw190 : k0_chk190 v2683), ∀ a, (k0_off380 v2683) a + S1x1x1x128.size a ≤ S1x33344x1x128.size a := fun v2683 k0_hw190 => k0_hw190.2

def k0_off381 (v2697 : BitVec 32) : Fin 4 → Nat :=
  let c0_2558 : Index := 0#32
  let v2698 : Index := Scalar.indexCast v2697
  let c0_2559 : Index := 0#32
  let c0_2560 : Index := 0#32
  ![0, v2698.toNat, 0, 0]

def k0_off382 (v2697 : BitVec 32) : Fin 4 → Nat :=
  let c0_2564 : Index := 0#32
  let c1_i32_2563 : BitVec 32 := 1#32
  let v2704 : BitVec 32 := Scalar.addi v2697 c1_i32_2563
  let v2705 : Index := Scalar.indexCast v2704
  let c0_2565 : Index := 0#32
  let c0_2566 : Index := 0#32
  ![0, v2705.toNat, 0, 0]

def k0_chk191 (v2697 : BitVec 32) : Prop :=
  (∀ a, (k0_off381 v2697) a + S1x1x1x128.size a ≤ S1x33344x1x128.size a) ∧
  (∀ a, (k0_off382 v2697) a + S1x1x1x128.size a ≤ S1x33344x1x128.size a)
theorem k0_off381_inb : ∀ (v2697 : BitVec 32) (k0_hw191 : k0_chk191 v2697), ∀ a, (k0_off381 v2697) a + S1x1x1x128.size a ≤ S1x33344x1x128.size a := fun v2697 k0_hw191 => k0_hw191.1
theorem k0_off382_inb : ∀ (v2697 : BitVec 32) (k0_hw191 : k0_chk191 v2697), ∀ a, (k0_off382 v2697) a + S1x1x1x128.size a ≤ S1x33344x1x128.size a := fun v2697 k0_hw191 => k0_hw191.2

def k0_off383 (v2711 : BitVec 32) : Fin 4 → Nat :=
  let c0_2572 : Index := 0#32
  let v2712 : Index := Scalar.indexCast v2711
  let c0_2573 : Index := 0#32
  let c0_2574 : Index := 0#32
  ![0, v2712.toNat, 0, 0]

def k0_off384 (v2711 : BitVec 32) : Fin 4 → Nat :=
  let c0_2578 : Index := 0#32
  let c1_i32_2577 : BitVec 32 := 1#32
  let v2718 : BitVec 32 := Scalar.addi v2711 c1_i32_2577
  let v2719 : Index := Scalar.indexCast v2718
  let c0_2579 : Index := 0#32
  let c0_2580 : Index := 0#32
  ![0, v2719.toNat, 0, 0]

def k0_chk192 (v2711 : BitVec 32) : Prop :=
  (∀ a, (k0_off383 v2711) a + S1x1x1x128.size a ≤ S1x33344x1x128.size a) ∧
  (∀ a, (k0_off384 v2711) a + S1x1x1x128.size a ≤ S1x33344x1x128.size a)
theorem k0_off383_inb : ∀ (v2711 : BitVec 32) (k0_hw192 : k0_chk192 v2711), ∀ a, (k0_off383 v2711) a + S1x1x1x128.size a ≤ S1x33344x1x128.size a := fun v2711 k0_hw192 => k0_hw192.1
theorem k0_off384_inb : ∀ (v2711 : BitVec 32) (k0_hw192 : k0_chk192 v2711), ∀ a, (k0_off384 v2711) a + S1x1x1x128.size a ≤ S1x33344x1x128.size a := fun v2711 k0_hw192 => k0_hw192.2

def k0_off385 (v2725 : BitVec 32) : Fin 4 → Nat :=
  let c0_2586 : Index := 0#32
  let v2726 : Index := Scalar.indexCast v2725
  let c0_2587 : Index := 0#32
  let c0_2588 : Index := 0#32
  ![0, v2726.toNat, 0, 0]

def k0_off386 (v2725 : BitVec 32) : Fin 4 → Nat :=
  let c0_2592 : Index := 0#32
  let c1_i32_2591 : BitVec 32 := 1#32
  let v2732 : BitVec 32 := Scalar.addi v2725 c1_i32_2591
  let v2733 : Index := Scalar.indexCast v2732
  let c0_2593 : Index := 0#32
  let c0_2594 : Index := 0#32
  ![0, v2733.toNat, 0, 0]

def k0_chk193 (v2725 : BitVec 32) : Prop :=
  (∀ a, (k0_off385 v2725) a + S1x1x1x128.size a ≤ S1x33344x1x128.size a) ∧
  (∀ a, (k0_off386 v2725) a + S1x1x1x128.size a ≤ S1x33344x1x128.size a)
theorem k0_off385_inb : ∀ (v2725 : BitVec 32) (k0_hw193 : k0_chk193 v2725), ∀ a, (k0_off385 v2725) a + S1x1x1x128.size a ≤ S1x33344x1x128.size a := fun v2725 k0_hw193 => k0_hw193.1
theorem k0_off386_inb : ∀ (v2725 : BitVec 32) (k0_hw193 : k0_chk193 v2725), ∀ a, (k0_off386 v2725) a + S1x1x1x128.size a ≤ S1x33344x1x128.size a := fun v2725 k0_hw193 => k0_hw193.2

def k0_off387 (v2739 : BitVec 32) : Fin 4 → Nat :=
  let c0_2600 : Index := 0#32
  let v2740 : Index := Scalar.indexCast v2739
  let c0_2601 : Index := 0#32
  let c0_2602 : Index := 0#32
  ![0, v2740.toNat, 0, 0]

def k0_off388 (v2739 : BitVec 32) : Fin 4 → Nat :=
  let c0_2606 : Index := 0#32
  let c1_i32_2605 : BitVec 32 := 1#32
  let v2746 : BitVec 32 := Scalar.addi v2739 c1_i32_2605
  let v2747 : Index := Scalar.indexCast v2746
  let c0_2607 : Index := 0#32
  let c0_2608 : Index := 0#32
  ![0, v2747.toNat, 0, 0]

def k0_chk194 (v2739 : BitVec 32) : Prop :=
  (∀ a, (k0_off387 v2739) a + S1x1x1x128.size a ≤ S1x33344x1x128.size a) ∧
  (∀ a, (k0_off388 v2739) a + S1x1x1x128.size a ≤ S1x33344x1x128.size a)
theorem k0_off387_inb : ∀ (v2739 : BitVec 32) (k0_hw194 : k0_chk194 v2739), ∀ a, (k0_off387 v2739) a + S1x1x1x128.size a ≤ S1x33344x1x128.size a := fun v2739 k0_hw194 => k0_hw194.1
theorem k0_off388_inb : ∀ (v2739 : BitVec 32) (k0_hw194 : k0_chk194 v2739), ∀ a, (k0_off388 v2739) a + S1x1x1x128.size a ≤ S1x33344x1x128.size a := fun v2739 k0_hw194 => k0_hw194.2

def k0_off389 (v2753 : BitVec 32) : Fin 4 → Nat :=
  let c0_2614 : Index := 0#32
  let v2754 : Index := Scalar.indexCast v2753
  let c0_2615 : Index := 0#32
  let c0_2616 : Index := 0#32
  ![0, v2754.toNat, 0, 0]

def k0_off390 (v2753 : BitVec 32) : Fin 4 → Nat :=
  let c0_2620 : Index := 0#32
  let c1_i32_2619 : BitVec 32 := 1#32
  let v2760 : BitVec 32 := Scalar.addi v2753 c1_i32_2619
  let v2761 : Index := Scalar.indexCast v2760
  let c0_2621 : Index := 0#32
  let c0_2622 : Index := 0#32
  ![0, v2761.toNat, 0, 0]

def k0_chk195 (v2753 : BitVec 32) : Prop :=
  (∀ a, (k0_off389 v2753) a + S1x1x1x128.size a ≤ S1x33344x1x128.size a) ∧
  (∀ a, (k0_off390 v2753) a + S1x1x1x128.size a ≤ S1x33344x1x128.size a)
theorem k0_off389_inb : ∀ (v2753 : BitVec 32) (k0_hw195 : k0_chk195 v2753), ∀ a, (k0_off389 v2753) a + S1x1x1x128.size a ≤ S1x33344x1x128.size a := fun v2753 k0_hw195 => k0_hw195.1
theorem k0_off390_inb : ∀ (v2753 : BitVec 32) (k0_hw195 : k0_chk195 v2753), ∀ a, (k0_off390 v2753) a + S1x1x1x128.size a ≤ S1x33344x1x128.size a := fun v2753 k0_hw195 => k0_hw195.2

def k0_off391 (v2767 : BitVec 32) : Fin 4 → Nat :=
  let c0_2628 : Index := 0#32
  let v2768 : Index := Scalar.indexCast v2767
  let c0_2629 : Index := 0#32
  let c0_2630 : Index := 0#32
  ![0, v2768.toNat, 0, 0]

def k0_off392 (v2767 : BitVec 32) : Fin 4 → Nat :=
  let c0_2634 : Index := 0#32
  let c1_i32_2633 : BitVec 32 := 1#32
  let v2774 : BitVec 32 := Scalar.addi v2767 c1_i32_2633
  let v2775 : Index := Scalar.indexCast v2774
  let c0_2635 : Index := 0#32
  let c0_2636 : Index := 0#32
  ![0, v2775.toNat, 0, 0]

def k0_chk196 (v2767 : BitVec 32) : Prop :=
  (∀ a, (k0_off391 v2767) a + S1x1x1x128.size a ≤ S1x33344x1x128.size a) ∧
  (∀ a, (k0_off392 v2767) a + S1x1x1x128.size a ≤ S1x33344x1x128.size a)
theorem k0_off391_inb : ∀ (v2767 : BitVec 32) (k0_hw196 : k0_chk196 v2767), ∀ a, (k0_off391 v2767) a + S1x1x1x128.size a ≤ S1x33344x1x128.size a := fun v2767 k0_hw196 => k0_hw196.1
theorem k0_off392_inb : ∀ (v2767 : BitVec 32) (k0_hw196 : k0_chk196 v2767), ∀ a, (k0_off392 v2767) a + S1x1x1x128.size a ≤ S1x33344x1x128.size a := fun v2767 k0_hw196 => k0_hw196.2

def k0_off393 (v2781 : BitVec 32) : Fin 4 → Nat :=
  let c0_2642 : Index := 0#32
  let v2782 : Index := Scalar.indexCast v2781
  let c0_2643 : Index := 0#32
  let c0_2644 : Index := 0#32
  ![0, v2782.toNat, 0, 0]

def k0_off394 (v2781 : BitVec 32) : Fin 4 → Nat :=
  let c0_2648 : Index := 0#32
  let c1_i32_2647 : BitVec 32 := 1#32
  let v2788 : BitVec 32 := Scalar.addi v2781 c1_i32_2647
  let v2789 : Index := Scalar.indexCast v2788
  let c0_2649 : Index := 0#32
  let c0_2650 : Index := 0#32
  ![0, v2789.toNat, 0, 0]

def k0_chk197 (v2781 : BitVec 32) : Prop :=
  (∀ a, (k0_off393 v2781) a + S1x1x1x128.size a ≤ S1x33344x1x128.size a) ∧
  (∀ a, (k0_off394 v2781) a + S1x1x1x128.size a ≤ S1x33344x1x128.size a)
theorem k0_off393_inb : ∀ (v2781 : BitVec 32) (k0_hw197 : k0_chk197 v2781), ∀ a, (k0_off393 v2781) a + S1x1x1x128.size a ≤ S1x33344x1x128.size a := fun v2781 k0_hw197 => k0_hw197.1
theorem k0_off394_inb : ∀ (v2781 : BitVec 32) (k0_hw197 : k0_chk197 v2781), ∀ a, (k0_off394 v2781) a + S1x1x1x128.size a ≤ S1x33344x1x128.size a := fun v2781 k0_hw197 => k0_hw197.2

def k0_off395 (v2795 : BitVec 32) : Fin 4 → Nat :=
  let c0_2656 : Index := 0#32
  let v2796 : Index := Scalar.indexCast v2795
  let c0_2657 : Index := 0#32
  let c0_2658 : Index := 0#32
  ![0, v2796.toNat, 0, 0]

def k0_off396 (v2795 : BitVec 32) : Fin 4 → Nat :=
  let c0_2662 : Index := 0#32
  let c1_i32_2661 : BitVec 32 := 1#32
  let v2802 : BitVec 32 := Scalar.addi v2795 c1_i32_2661
  let v2803 : Index := Scalar.indexCast v2802
  let c0_2663 : Index := 0#32
  let c0_2664 : Index := 0#32
  ![0, v2803.toNat, 0, 0]

def k0_chk198 (v2795 : BitVec 32) : Prop :=
  (∀ a, (k0_off395 v2795) a + S1x1x1x128.size a ≤ S1x33344x1x128.size a) ∧
  (∀ a, (k0_off396 v2795) a + S1x1x1x128.size a ≤ S1x33344x1x128.size a)
theorem k0_off395_inb : ∀ (v2795 : BitVec 32) (k0_hw198 : k0_chk198 v2795), ∀ a, (k0_off395 v2795) a + S1x1x1x128.size a ≤ S1x33344x1x128.size a := fun v2795 k0_hw198 => k0_hw198.1
theorem k0_off396_inb : ∀ (v2795 : BitVec 32) (k0_hw198 : k0_chk198 v2795), ∀ a, (k0_off396 v2795) a + S1x1x1x128.size a ≤ S1x33344x1x128.size a := fun v2795 k0_hw198 => k0_hw198.2

def k0_off397 (v2809 : BitVec 32) : Fin 4 → Nat :=
  let c0_2670 : Index := 0#32
  let v2810 : Index := Scalar.indexCast v2809
  let c0_2671 : Index := 0#32
  let c0_2672 : Index := 0#32
  ![0, v2810.toNat, 0, 0]

def k0_off398 (v2809 : BitVec 32) : Fin 4 → Nat :=
  let c0_2676 : Index := 0#32
  let c1_i32_2675 : BitVec 32 := 1#32
  let v2816 : BitVec 32 := Scalar.addi v2809 c1_i32_2675
  let v2817 : Index := Scalar.indexCast v2816
  let c0_2677 : Index := 0#32
  let c0_2678 : Index := 0#32
  ![0, v2817.toNat, 0, 0]

def k0_chk199 (v2809 : BitVec 32) : Prop :=
  (∀ a, (k0_off397 v2809) a + S1x1x1x128.size a ≤ S1x33344x1x128.size a) ∧
  (∀ a, (k0_off398 v2809) a + S1x1x1x128.size a ≤ S1x33344x1x128.size a)
theorem k0_off397_inb : ∀ (v2809 : BitVec 32) (k0_hw199 : k0_chk199 v2809), ∀ a, (k0_off397 v2809) a + S1x1x1x128.size a ≤ S1x33344x1x128.size a := fun v2809 k0_hw199 => k0_hw199.1
theorem k0_off398_inb : ∀ (v2809 : BitVec 32) (k0_hw199 : k0_chk199 v2809), ∀ a, (k0_off398 v2809) a + S1x1x1x128.size a ≤ S1x33344x1x128.size a := fun v2809 k0_hw199 => k0_hw199.2

def k0_off399 (v2823 : BitVec 32) : Fin 4 → Nat :=
  let c0_2684 : Index := 0#32
  let v2824 : Index := Scalar.indexCast v2823
  let c0_2685 : Index := 0#32
  let c0_2686 : Index := 0#32
  ![0, v2824.toNat, 0, 0]

def k0_off400 (v2823 : BitVec 32) : Fin 4 → Nat :=
  let c0_2690 : Index := 0#32
  let c1_i32_2689 : BitVec 32 := 1#32
  let v2830 : BitVec 32 := Scalar.addi v2823 c1_i32_2689
  let v2831 : Index := Scalar.indexCast v2830
  let c0_2691 : Index := 0#32
  let c0_2692 : Index := 0#32
  ![0, v2831.toNat, 0, 0]

def k0_chk200 (v2823 : BitVec 32) : Prop :=
  (∀ a, (k0_off399 v2823) a + S1x1x1x128.size a ≤ S1x33344x1x128.size a) ∧
  (∀ a, (k0_off400 v2823) a + S1x1x1x128.size a ≤ S1x33344x1x128.size a)
theorem k0_off399_inb : ∀ (v2823 : BitVec 32) (k0_hw200 : k0_chk200 v2823), ∀ a, (k0_off399 v2823) a + S1x1x1x128.size a ≤ S1x33344x1x128.size a := fun v2823 k0_hw200 => k0_hw200.1
theorem k0_off400_inb : ∀ (v2823 : BitVec 32) (k0_hw200 : k0_chk200 v2823), ∀ a, (k0_off400 v2823) a + S1x1x1x128.size a ≤ S1x33344x1x128.size a := fun v2823 k0_hw200 => k0_hw200.2

def k0_off401 (v2837 : BitVec 32) : Fin 4 → Nat :=
  let c0_2698 : Index := 0#32
  let v2838 : Index := Scalar.indexCast v2837
  let c0_2699 : Index := 0#32
  let c0_2700 : Index := 0#32
  ![0, v2838.toNat, 0, 0]

def k0_off402 (v2837 : BitVec 32) : Fin 4 → Nat :=
  let c0_2704 : Index := 0#32
  let c1_i32_2703 : BitVec 32 := 1#32
  let v2844 : BitVec 32 := Scalar.addi v2837 c1_i32_2703
  let v2845 : Index := Scalar.indexCast v2844
  let c0_2705 : Index := 0#32
  let c0_2706 : Index := 0#32
  ![0, v2845.toNat, 0, 0]

def k0_chk201 (v2837 : BitVec 32) : Prop :=
  (∀ a, (k0_off401 v2837) a + S1x1x1x128.size a ≤ S1x33344x1x128.size a) ∧
  (∀ a, (k0_off402 v2837) a + S1x1x1x128.size a ≤ S1x33344x1x128.size a)
theorem k0_off401_inb : ∀ (v2837 : BitVec 32) (k0_hw201 : k0_chk201 v2837), ∀ a, (k0_off401 v2837) a + S1x1x1x128.size a ≤ S1x33344x1x128.size a := fun v2837 k0_hw201 => k0_hw201.1
theorem k0_off402_inb : ∀ (v2837 : BitVec 32) (k0_hw201 : k0_chk201 v2837), ∀ a, (k0_off402 v2837) a + S1x1x1x128.size a ≤ S1x33344x1x128.size a := fun v2837 k0_hw201 => k0_hw201.2

def k0_off403 (v2851 : BitVec 32) : Fin 4 → Nat :=
  let c0_2712 : Index := 0#32
  let v2852 : Index := Scalar.indexCast v2851
  let c0_2713 : Index := 0#32
  let c0_2714 : Index := 0#32
  ![0, v2852.toNat, 0, 0]

def k0_off404 (v2851 : BitVec 32) : Fin 4 → Nat :=
  let c0_2718 : Index := 0#32
  let c1_i32_2717 : BitVec 32 := 1#32
  let v2858 : BitVec 32 := Scalar.addi v2851 c1_i32_2717
  let v2859 : Index := Scalar.indexCast v2858
  let c0_2719 : Index := 0#32
  let c0_2720 : Index := 0#32
  ![0, v2859.toNat, 0, 0]

def k0_chk202 (v2851 : BitVec 32) : Prop :=
  (∀ a, (k0_off403 v2851) a + S1x1x1x128.size a ≤ S1x33344x1x128.size a) ∧
  (∀ a, (k0_off404 v2851) a + S1x1x1x128.size a ≤ S1x33344x1x128.size a)
theorem k0_off403_inb : ∀ (v2851 : BitVec 32) (k0_hw202 : k0_chk202 v2851), ∀ a, (k0_off403 v2851) a + S1x1x1x128.size a ≤ S1x33344x1x128.size a := fun v2851 k0_hw202 => k0_hw202.1
theorem k0_off404_inb : ∀ (v2851 : BitVec 32) (k0_hw202 : k0_chk202 v2851), ∀ a, (k0_off404 v2851) a + S1x1x1x128.size a ≤ S1x33344x1x128.size a := fun v2851 k0_hw202 => k0_hw202.2

def k0_off405 (v2865 : BitVec 32) : Fin 4 → Nat :=
  let c0_2726 : Index := 0#32
  let v2866 : Index := Scalar.indexCast v2865
  let c0_2727 : Index := 0#32
  let c0_2728 : Index := 0#32
  ![0, v2866.toNat, 0, 0]

def k0_off406 (v2865 : BitVec 32) : Fin 4 → Nat :=
  let c0_2732 : Index := 0#32
  let c1_i32_2731 : BitVec 32 := 1#32
  let v2872 : BitVec 32 := Scalar.addi v2865 c1_i32_2731
  let v2873 : Index := Scalar.indexCast v2872
  let c0_2733 : Index := 0#32
  let c0_2734 : Index := 0#32
  ![0, v2873.toNat, 0, 0]

def k0_chk203 (v2865 : BitVec 32) : Prop :=
  (∀ a, (k0_off405 v2865) a + S1x1x1x128.size a ≤ S1x33344x1x128.size a) ∧
  (∀ a, (k0_off406 v2865) a + S1x1x1x128.size a ≤ S1x33344x1x128.size a)
theorem k0_off405_inb : ∀ (v2865 : BitVec 32) (k0_hw203 : k0_chk203 v2865), ∀ a, (k0_off405 v2865) a + S1x1x1x128.size a ≤ S1x33344x1x128.size a := fun v2865 k0_hw203 => k0_hw203.1
theorem k0_off406_inb : ∀ (v2865 : BitVec 32) (k0_hw203 : k0_chk203 v2865), ∀ a, (k0_off406 v2865) a + S1x1x1x128.size a ≤ S1x33344x1x128.size a := fun v2865 k0_hw203 => k0_hw203.2

def k0_off407 (v2879 : BitVec 32) : Fin 4 → Nat :=
  let c0_2740 : Index := 0#32
  let v2880 : Index := Scalar.indexCast v2879
  let c0_2741 : Index := 0#32
  let c0_2742 : Index := 0#32
  ![0, v2880.toNat, 0, 0]

def k0_off408 (v2879 : BitVec 32) : Fin 4 → Nat :=
  let c0_2746 : Index := 0#32
  let c1_i32_2745 : BitVec 32 := 1#32
  let v2886 : BitVec 32 := Scalar.addi v2879 c1_i32_2745
  let v2887 : Index := Scalar.indexCast v2886
  let c0_2747 : Index := 0#32
  let c0_2748 : Index := 0#32
  ![0, v2887.toNat, 0, 0]

def k0_chk204 (v2879 : BitVec 32) : Prop :=
  (∀ a, (k0_off407 v2879) a + S1x1x1x128.size a ≤ S1x33344x1x128.size a) ∧
  (∀ a, (k0_off408 v2879) a + S1x1x1x128.size a ≤ S1x33344x1x128.size a)
theorem k0_off407_inb : ∀ (v2879 : BitVec 32) (k0_hw204 : k0_chk204 v2879), ∀ a, (k0_off407 v2879) a + S1x1x1x128.size a ≤ S1x33344x1x128.size a := fun v2879 k0_hw204 => k0_hw204.1
theorem k0_off408_inb : ∀ (v2879 : BitVec 32) (k0_hw204 : k0_chk204 v2879), ∀ a, (k0_off408 v2879) a + S1x1x1x128.size a ≤ S1x33344x1x128.size a := fun v2879 k0_hw204 => k0_hw204.2

def k0_off409 (v2893 : BitVec 32) : Fin 4 → Nat :=
  let c0_2754 : Index := 0#32
  let v2894 : Index := Scalar.indexCast v2893
  let c0_2755 : Index := 0#32
  let c0_2756 : Index := 0#32
  ![0, v2894.toNat, 0, 0]

def k0_off410 (v2893 : BitVec 32) : Fin 4 → Nat :=
  let c0_2760 : Index := 0#32
  let c1_i32_2759 : BitVec 32 := 1#32
  let v2900 : BitVec 32 := Scalar.addi v2893 c1_i32_2759
  let v2901 : Index := Scalar.indexCast v2900
  let c0_2761 : Index := 0#32
  let c0_2762 : Index := 0#32
  ![0, v2901.toNat, 0, 0]

def k0_chk205 (v2893 : BitVec 32) : Prop :=
  (∀ a, (k0_off409 v2893) a + S1x1x1x128.size a ≤ S1x33344x1x128.size a) ∧
  (∀ a, (k0_off410 v2893) a + S1x1x1x128.size a ≤ S1x33344x1x128.size a)
theorem k0_off409_inb : ∀ (v2893 : BitVec 32) (k0_hw205 : k0_chk205 v2893), ∀ a, (k0_off409 v2893) a + S1x1x1x128.size a ≤ S1x33344x1x128.size a := fun v2893 k0_hw205 => k0_hw205.1
theorem k0_off410_inb : ∀ (v2893 : BitVec 32) (k0_hw205 : k0_chk205 v2893), ∀ a, (k0_off410 v2893) a + S1x1x1x128.size a ≤ S1x33344x1x128.size a := fun v2893 k0_hw205 => k0_hw205.2

def k0_off411 (v2907 : BitVec 32) : Fin 4 → Nat :=
  let c0_2768 : Index := 0#32
  let v2908 : Index := Scalar.indexCast v2907
  let c0_2769 : Index := 0#32
  let c0_2770 : Index := 0#32
  ![0, v2908.toNat, 0, 0]

def k0_off412 (v2907 : BitVec 32) : Fin 4 → Nat :=
  let c0_2774 : Index := 0#32
  let c1_i32_2773 : BitVec 32 := 1#32
  let v2914 : BitVec 32 := Scalar.addi v2907 c1_i32_2773
  let v2915 : Index := Scalar.indexCast v2914
  let c0_2775 : Index := 0#32
  let c0_2776 : Index := 0#32
  ![0, v2915.toNat, 0, 0]

def k0_chk206 (v2907 : BitVec 32) : Prop :=
  (∀ a, (k0_off411 v2907) a + S1x1x1x128.size a ≤ S1x33344x1x128.size a) ∧
  (∀ a, (k0_off412 v2907) a + S1x1x1x128.size a ≤ S1x33344x1x128.size a)
theorem k0_off411_inb : ∀ (v2907 : BitVec 32) (k0_hw206 : k0_chk206 v2907), ∀ a, (k0_off411 v2907) a + S1x1x1x128.size a ≤ S1x33344x1x128.size a := fun v2907 k0_hw206 => k0_hw206.1
theorem k0_off412_inb : ∀ (v2907 : BitVec 32) (k0_hw206 : k0_chk206 v2907), ∀ a, (k0_off412 v2907) a + S1x1x1x128.size a ≤ S1x33344x1x128.size a := fun v2907 k0_hw206 => k0_hw206.2

def k0_off413 (v2921 : BitVec 32) : Fin 4 → Nat :=
  let c0_2782 : Index := 0#32
  let v2922 : Index := Scalar.indexCast v2921
  let c0_2783 : Index := 0#32
  let c0_2784 : Index := 0#32
  ![0, v2922.toNat, 0, 0]

def k0_off414 (v2921 : BitVec 32) : Fin 4 → Nat :=
  let c0_2788 : Index := 0#32
  let c1_i32_2787 : BitVec 32 := 1#32
  let v2928 : BitVec 32 := Scalar.addi v2921 c1_i32_2787
  let v2929 : Index := Scalar.indexCast v2928
  let c0_2789 : Index := 0#32
  let c0_2790 : Index := 0#32
  ![0, v2929.toNat, 0, 0]

def k0_chk207 (v2921 : BitVec 32) : Prop :=
  (∀ a, (k0_off413 v2921) a + S1x1x1x128.size a ≤ S1x33344x1x128.size a) ∧
  (∀ a, (k0_off414 v2921) a + S1x1x1x128.size a ≤ S1x33344x1x128.size a)
theorem k0_off413_inb : ∀ (v2921 : BitVec 32) (k0_hw207 : k0_chk207 v2921), ∀ a, (k0_off413 v2921) a + S1x1x1x128.size a ≤ S1x33344x1x128.size a := fun v2921 k0_hw207 => k0_hw207.1
theorem k0_off414_inb : ∀ (v2921 : BitVec 32) (k0_hw207 : k0_chk207 v2921), ∀ a, (k0_off414 v2921) a + S1x1x1x128.size a ≤ S1x33344x1x128.size a := fun v2921 k0_hw207 => k0_hw207.2

def k0_off415 (v2935 : BitVec 32) : Fin 4 → Nat :=
  let c0_2796 : Index := 0#32
  let v2936 : Index := Scalar.indexCast v2935
  let c0_2797 : Index := 0#32
  let c0_2798 : Index := 0#32
  ![0, v2936.toNat, 0, 0]

def k0_off416 (v2935 : BitVec 32) : Fin 4 → Nat :=
  let c0_2802 : Index := 0#32
  let c1_i32_2801 : BitVec 32 := 1#32
  let v2942 : BitVec 32 := Scalar.addi v2935 c1_i32_2801
  let v2943 : Index := Scalar.indexCast v2942
  let c0_2803 : Index := 0#32
  let c0_2804 : Index := 0#32
  ![0, v2943.toNat, 0, 0]

def k0_chk208 (v2935 : BitVec 32) : Prop :=
  (∀ a, (k0_off415 v2935) a + S1x1x1x128.size a ≤ S1x33344x1x128.size a) ∧
  (∀ a, (k0_off416 v2935) a + S1x1x1x128.size a ≤ S1x33344x1x128.size a)
theorem k0_off415_inb : ∀ (v2935 : BitVec 32) (k0_hw208 : k0_chk208 v2935), ∀ a, (k0_off415 v2935) a + S1x1x1x128.size a ≤ S1x33344x1x128.size a := fun v2935 k0_hw208 => k0_hw208.1
theorem k0_off416_inb : ∀ (v2935 : BitVec 32) (k0_hw208 : k0_chk208 v2935), ∀ a, (k0_off416 v2935) a + S1x1x1x128.size a ≤ S1x33344x1x128.size a := fun v2935 k0_hw208 => k0_hw208.2

def k0_off417 (v2949 : BitVec 32) : Fin 4 → Nat :=
  let c0_2810 : Index := 0#32
  let v2950 : Index := Scalar.indexCast v2949
  let c0_2811 : Index := 0#32
  let c0_2812 : Index := 0#32
  ![0, v2950.toNat, 0, 0]

def k0_off418 (v2949 : BitVec 32) : Fin 4 → Nat :=
  let c0_2816 : Index := 0#32
  let c1_i32_2815 : BitVec 32 := 1#32
  let v2956 : BitVec 32 := Scalar.addi v2949 c1_i32_2815
  let v2957 : Index := Scalar.indexCast v2956
  let c0_2817 : Index := 0#32
  let c0_2818 : Index := 0#32
  ![0, v2957.toNat, 0, 0]

def k0_chk209 (v2949 : BitVec 32) : Prop :=
  (∀ a, (k0_off417 v2949) a + S1x1x1x128.size a ≤ S1x33344x1x128.size a) ∧
  (∀ a, (k0_off418 v2949) a + S1x1x1x128.size a ≤ S1x33344x1x128.size a)
theorem k0_off417_inb : ∀ (v2949 : BitVec 32) (k0_hw209 : k0_chk209 v2949), ∀ a, (k0_off417 v2949) a + S1x1x1x128.size a ≤ S1x33344x1x128.size a := fun v2949 k0_hw209 => k0_hw209.1
theorem k0_off418_inb : ∀ (v2949 : BitVec 32) (k0_hw209 : k0_chk209 v2949), ∀ a, (k0_off418 v2949) a + S1x1x1x128.size a ≤ S1x33344x1x128.size a := fun v2949 k0_hw209 => k0_hw209.2

def k0_off419 (v2963 : BitVec 32) : Fin 4 → Nat :=
  let c0_2824 : Index := 0#32
  let v2964 : Index := Scalar.indexCast v2963
  let c0_2825 : Index := 0#32
  let c0_2826 : Index := 0#32
  ![0, v2964.toNat, 0, 0]

def k0_off420 (v2963 : BitVec 32) : Fin 4 → Nat :=
  let c0_2830 : Index := 0#32
  let c1_i32_2829 : BitVec 32 := 1#32
  let v2970 : BitVec 32 := Scalar.addi v2963 c1_i32_2829
  let v2971 : Index := Scalar.indexCast v2970
  let c0_2831 : Index := 0#32
  let c0_2832 : Index := 0#32
  ![0, v2971.toNat, 0, 0]

def k0_chk210 (v2963 : BitVec 32) : Prop :=
  (∀ a, (k0_off419 v2963) a + S1x1x1x128.size a ≤ S1x33344x1x128.size a) ∧
  (∀ a, (k0_off420 v2963) a + S1x1x1x128.size a ≤ S1x33344x1x128.size a)
theorem k0_off419_inb : ∀ (v2963 : BitVec 32) (k0_hw210 : k0_chk210 v2963), ∀ a, (k0_off419 v2963) a + S1x1x1x128.size a ≤ S1x33344x1x128.size a := fun v2963 k0_hw210 => k0_hw210.1
theorem k0_off420_inb : ∀ (v2963 : BitVec 32) (k0_hw210 : k0_chk210 v2963), ∀ a, (k0_off420 v2963) a + S1x1x1x128.size a ≤ S1x33344x1x128.size a := fun v2963 k0_hw210 => k0_hw210.2

def k0_off421 (v2977 : BitVec 32) : Fin 4 → Nat :=
  let c0_2838 : Index := 0#32
  let v2978 : Index := Scalar.indexCast v2977
  let c0_2839 : Index := 0#32
  let c0_2840 : Index := 0#32
  ![0, v2978.toNat, 0, 0]

def k0_off422 (v2977 : BitVec 32) : Fin 4 → Nat :=
  let c0_2844 : Index := 0#32
  let c1_i32_2843 : BitVec 32 := 1#32
  let v2984 : BitVec 32 := Scalar.addi v2977 c1_i32_2843
  let v2985 : Index := Scalar.indexCast v2984
  let c0_2845 : Index := 0#32
  let c0_2846 : Index := 0#32
  ![0, v2985.toNat, 0, 0]

def k0_chk211 (v2977 : BitVec 32) : Prop :=
  (∀ a, (k0_off421 v2977) a + S1x1x1x128.size a ≤ S1x33344x1x128.size a) ∧
  (∀ a, (k0_off422 v2977) a + S1x1x1x128.size a ≤ S1x33344x1x128.size a)
theorem k0_off421_inb : ∀ (v2977 : BitVec 32) (k0_hw211 : k0_chk211 v2977), ∀ a, (k0_off421 v2977) a + S1x1x1x128.size a ≤ S1x33344x1x128.size a := fun v2977 k0_hw211 => k0_hw211.1
theorem k0_off422_inb : ∀ (v2977 : BitVec 32) (k0_hw211 : k0_chk211 v2977), ∀ a, (k0_off422 v2977) a + S1x1x1x128.size a ≤ S1x33344x1x128.size a := fun v2977 k0_hw211 => k0_hw211.2

def k0_off423 (v2991 : BitVec 32) : Fin 4 → Nat :=
  let c0_2852 : Index := 0#32
  let v2992 : Index := Scalar.indexCast v2991
  let c0_2853 : Index := 0#32
  let c0_2854 : Index := 0#32
  ![0, v2992.toNat, 0, 0]

def k0_off424 (v2991 : BitVec 32) : Fin 4 → Nat :=
  let c0_2858 : Index := 0#32
  let c1_i32_2857 : BitVec 32 := 1#32
  let v2998 : BitVec 32 := Scalar.addi v2991 c1_i32_2857
  let v2999 : Index := Scalar.indexCast v2998
  let c0_2859 : Index := 0#32
  let c0_2860 : Index := 0#32
  ![0, v2999.toNat, 0, 0]

def k0_chk212 (v2991 : BitVec 32) : Prop :=
  (∀ a, (k0_off423 v2991) a + S1x1x1x128.size a ≤ S1x33344x1x128.size a) ∧
  (∀ a, (k0_off424 v2991) a + S1x1x1x128.size a ≤ S1x33344x1x128.size a)
theorem k0_off423_inb : ∀ (v2991 : BitVec 32) (k0_hw212 : k0_chk212 v2991), ∀ a, (k0_off423 v2991) a + S1x1x1x128.size a ≤ S1x33344x1x128.size a := fun v2991 k0_hw212 => k0_hw212.1
theorem k0_off424_inb : ∀ (v2991 : BitVec 32) (k0_hw212 : k0_chk212 v2991), ∀ a, (k0_off424 v2991) a + S1x1x1x128.size a ≤ S1x33344x1x128.size a := fun v2991 k0_hw212 => k0_hw212.2

def k0_off425 (v3005 : BitVec 32) : Fin 4 → Nat :=
  let c0_2866 : Index := 0#32
  let v3006 : Index := Scalar.indexCast v3005
  let c0_2867 : Index := 0#32
  let c0_2868 : Index := 0#32
  ![0, v3006.toNat, 0, 0]

def k0_off426 (v3005 : BitVec 32) : Fin 4 → Nat :=
  let c0_2872 : Index := 0#32
  let c1_i32_2871 : BitVec 32 := 1#32
  let v3012 : BitVec 32 := Scalar.addi v3005 c1_i32_2871
  let v3013 : Index := Scalar.indexCast v3012
  let c0_2873 : Index := 0#32
  let c0_2874 : Index := 0#32
  ![0, v3013.toNat, 0, 0]

def k0_chk213 (v3005 : BitVec 32) : Prop :=
  (∀ a, (k0_off425 v3005) a + S1x1x1x128.size a ≤ S1x33344x1x128.size a) ∧
  (∀ a, (k0_off426 v3005) a + S1x1x1x128.size a ≤ S1x33344x1x128.size a)
theorem k0_off425_inb : ∀ (v3005 : BitVec 32) (k0_hw213 : k0_chk213 v3005), ∀ a, (k0_off425 v3005) a + S1x1x1x128.size a ≤ S1x33344x1x128.size a := fun v3005 k0_hw213 => k0_hw213.1
theorem k0_off426_inb : ∀ (v3005 : BitVec 32) (k0_hw213 : k0_chk213 v3005), ∀ a, (k0_off426 v3005) a + S1x1x1x128.size a ≤ S1x33344x1x128.size a := fun v3005 k0_hw213 => k0_hw213.2

def k0_off427 (v3019 : BitVec 32) : Fin 4 → Nat :=
  let c0_2880 : Index := 0#32
  let v3020 : Index := Scalar.indexCast v3019
  let c0_2881 : Index := 0#32
  let c0_2882 : Index := 0#32
  ![0, v3020.toNat, 0, 0]

def k0_off428 (v3019 : BitVec 32) : Fin 4 → Nat :=
  let c0_2886 : Index := 0#32
  let c1_i32_2885 : BitVec 32 := 1#32
  let v3026 : BitVec 32 := Scalar.addi v3019 c1_i32_2885
  let v3027 : Index := Scalar.indexCast v3026
  let c0_2887 : Index := 0#32
  let c0_2888 : Index := 0#32
  ![0, v3027.toNat, 0, 0]

def k0_chk214 (v3019 : BitVec 32) : Prop :=
  (∀ a, (k0_off427 v3019) a + S1x1x1x128.size a ≤ S1x33344x1x128.size a) ∧
  (∀ a, (k0_off428 v3019) a + S1x1x1x128.size a ≤ S1x33344x1x128.size a)
theorem k0_off427_inb : ∀ (v3019 : BitVec 32) (k0_hw214 : k0_chk214 v3019), ∀ a, (k0_off427 v3019) a + S1x1x1x128.size a ≤ S1x33344x1x128.size a := fun v3019 k0_hw214 => k0_hw214.1
theorem k0_off428_inb : ∀ (v3019 : BitVec 32) (k0_hw214 : k0_chk214 v3019), ∀ a, (k0_off428 v3019) a + S1x1x1x128.size a ≤ S1x33344x1x128.size a := fun v3019 k0_hw214 => k0_hw214.2

def k0_off429 (v3033 : BitVec 32) : Fin 4 → Nat :=
  let c0_2894 : Index := 0#32
  let v3034 : Index := Scalar.indexCast v3033
  let c0_2895 : Index := 0#32
  let c0_2896 : Index := 0#32
  ![0, v3034.toNat, 0, 0]

def k0_off430 (v3033 : BitVec 32) : Fin 4 → Nat :=
  let c0_2900 : Index := 0#32
  let c1_i32_2899 : BitVec 32 := 1#32
  let v3040 : BitVec 32 := Scalar.addi v3033 c1_i32_2899
  let v3041 : Index := Scalar.indexCast v3040
  let c0_2901 : Index := 0#32
  let c0_2902 : Index := 0#32
  ![0, v3041.toNat, 0, 0]

def k0_chk215 (v3033 : BitVec 32) : Prop :=
  (∀ a, (k0_off429 v3033) a + S1x1x1x128.size a ≤ S1x33344x1x128.size a) ∧
  (∀ a, (k0_off430 v3033) a + S1x1x1x128.size a ≤ S1x33344x1x128.size a)
theorem k0_off429_inb : ∀ (v3033 : BitVec 32) (k0_hw215 : k0_chk215 v3033), ∀ a, (k0_off429 v3033) a + S1x1x1x128.size a ≤ S1x33344x1x128.size a := fun v3033 k0_hw215 => k0_hw215.1
theorem k0_off430_inb : ∀ (v3033 : BitVec 32) (k0_hw215 : k0_chk215 v3033), ∀ a, (k0_off430 v3033) a + S1x1x1x128.size a ≤ S1x33344x1x128.size a := fun v3033 k0_hw215 => k0_hw215.2

def k0_off431 (v3047 : BitVec 32) : Fin 4 → Nat :=
  let c0_2908 : Index := 0#32
  let v3048 : Index := Scalar.indexCast v3047
  let c0_2909 : Index := 0#32
  let c0_2910 : Index := 0#32
  ![0, v3048.toNat, 0, 0]

def k0_off432 (v3047 : BitVec 32) : Fin 4 → Nat :=
  let c0_2914 : Index := 0#32
  let c1_i32_2913 : BitVec 32 := 1#32
  let v3054 : BitVec 32 := Scalar.addi v3047 c1_i32_2913
  let v3055 : Index := Scalar.indexCast v3054
  let c0_2915 : Index := 0#32
  let c0_2916 : Index := 0#32
  ![0, v3055.toNat, 0, 0]

def k0_chk216 (v3047 : BitVec 32) : Prop :=
  (∀ a, (k0_off431 v3047) a + S1x1x1x128.size a ≤ S1x33344x1x128.size a) ∧
  (∀ a, (k0_off432 v3047) a + S1x1x1x128.size a ≤ S1x33344x1x128.size a)
theorem k0_off431_inb : ∀ (v3047 : BitVec 32) (k0_hw216 : k0_chk216 v3047), ∀ a, (k0_off431 v3047) a + S1x1x1x128.size a ≤ S1x33344x1x128.size a := fun v3047 k0_hw216 => k0_hw216.1
theorem k0_off432_inb : ∀ (v3047 : BitVec 32) (k0_hw216 : k0_chk216 v3047), ∀ a, (k0_off432 v3047) a + S1x1x1x128.size a ≤ S1x33344x1x128.size a := fun v3047 k0_hw216 => k0_hw216.2

def k0_off433 (v3061 : BitVec 32) : Fin 4 → Nat :=
  let c0_2922 : Index := 0#32
  let v3062 : Index := Scalar.indexCast v3061
  let c0_2923 : Index := 0#32
  let c0_2924 : Index := 0#32
  ![0, v3062.toNat, 0, 0]

def k0_off434 (v3061 : BitVec 32) : Fin 4 → Nat :=
  let c0_2928 : Index := 0#32
  let c1_i32_2927 : BitVec 32 := 1#32
  let v3068 : BitVec 32 := Scalar.addi v3061 c1_i32_2927
  let v3069 : Index := Scalar.indexCast v3068
  let c0_2929 : Index := 0#32
  let c0_2930 : Index := 0#32
  ![0, v3069.toNat, 0, 0]

def k0_chk217 (v3061 : BitVec 32) : Prop :=
  (∀ a, (k0_off433 v3061) a + S1x1x1x128.size a ≤ S1x33344x1x128.size a) ∧
  (∀ a, (k0_off434 v3061) a + S1x1x1x128.size a ≤ S1x33344x1x128.size a)
theorem k0_off433_inb : ∀ (v3061 : BitVec 32) (k0_hw217 : k0_chk217 v3061), ∀ a, (k0_off433 v3061) a + S1x1x1x128.size a ≤ S1x33344x1x128.size a := fun v3061 k0_hw217 => k0_hw217.1
theorem k0_off434_inb : ∀ (v3061 : BitVec 32) (k0_hw217 : k0_chk217 v3061), ∀ a, (k0_off434 v3061) a + S1x1x1x128.size a ≤ S1x33344x1x128.size a := fun v3061 k0_hw217 => k0_hw217.2

def k0_off435 (v3075 : BitVec 32) : Fin 4 → Nat :=
  let c0_2936 : Index := 0#32
  let v3076 : Index := Scalar.indexCast v3075
  let c0_2937 : Index := 0#32
  let c0_2938 : Index := 0#32
  ![0, v3076.toNat, 0, 0]

def k0_off436 (v3075 : BitVec 32) : Fin 4 → Nat :=
  let c0_2942 : Index := 0#32
  let c1_i32_2941 : BitVec 32 := 1#32
  let v3082 : BitVec 32 := Scalar.addi v3075 c1_i32_2941
  let v3083 : Index := Scalar.indexCast v3082
  let c0_2943 : Index := 0#32
  let c0_2944 : Index := 0#32
  ![0, v3083.toNat, 0, 0]

def k0_chk218 (v3075 : BitVec 32) : Prop :=
  (∀ a, (k0_off435 v3075) a + S1x1x1x128.size a ≤ S1x33344x1x128.size a) ∧
  (∀ a, (k0_off436 v3075) a + S1x1x1x128.size a ≤ S1x33344x1x128.size a)
theorem k0_off435_inb : ∀ (v3075 : BitVec 32) (k0_hw218 : k0_chk218 v3075), ∀ a, (k0_off435 v3075) a + S1x1x1x128.size a ≤ S1x33344x1x128.size a := fun v3075 k0_hw218 => k0_hw218.1
theorem k0_off436_inb : ∀ (v3075 : BitVec 32) (k0_hw218 : k0_chk218 v3075), ∀ a, (k0_off436 v3075) a + S1x1x1x128.size a ≤ S1x33344x1x128.size a := fun v3075 k0_hw218 => k0_hw218.2

def k0_off437 (v3089 : BitVec 32) : Fin 4 → Nat :=
  let c0_2950 : Index := 0#32
  let v3090 : Index := Scalar.indexCast v3089
  let c0_2951 : Index := 0#32
  let c0_2952 : Index := 0#32
  ![0, v3090.toNat, 0, 0]

def k0_off438 (v3089 : BitVec 32) : Fin 4 → Nat :=
  let c0_2956 : Index := 0#32
  let c1_i32_2955 : BitVec 32 := 1#32
  let v3096 : BitVec 32 := Scalar.addi v3089 c1_i32_2955
  let v3097 : Index := Scalar.indexCast v3096
  let c0_2957 : Index := 0#32
  let c0_2958 : Index := 0#32
  ![0, v3097.toNat, 0, 0]

def k0_chk219 (v3089 : BitVec 32) : Prop :=
  (∀ a, (k0_off437 v3089) a + S1x1x1x128.size a ≤ S1x33344x1x128.size a) ∧
  (∀ a, (k0_off438 v3089) a + S1x1x1x128.size a ≤ S1x33344x1x128.size a)
theorem k0_off437_inb : ∀ (v3089 : BitVec 32) (k0_hw219 : k0_chk219 v3089), ∀ a, (k0_off437 v3089) a + S1x1x1x128.size a ≤ S1x33344x1x128.size a := fun v3089 k0_hw219 => k0_hw219.1
theorem k0_off438_inb : ∀ (v3089 : BitVec 32) (k0_hw219 : k0_chk219 v3089), ∀ a, (k0_off438 v3089) a + S1x1x1x128.size a ≤ S1x33344x1x128.size a := fun v3089 k0_hw219 => k0_hw219.2

def k0_off439 (v3103 : BitVec 32) : Fin 4 → Nat :=
  let c0_2964 : Index := 0#32
  let v3104 : Index := Scalar.indexCast v3103
  let c0_2965 : Index := 0#32
  let c0_2966 : Index := 0#32
  ![0, v3104.toNat, 0, 0]

def k0_off440 (v3103 : BitVec 32) : Fin 4 → Nat :=
  let c0_2970 : Index := 0#32
  let c1_i32_2969 : BitVec 32 := 1#32
  let v3110 : BitVec 32 := Scalar.addi v3103 c1_i32_2969
  let v3111 : Index := Scalar.indexCast v3110
  let c0_2971 : Index := 0#32
  let c0_2972 : Index := 0#32
  ![0, v3111.toNat, 0, 0]

def k0_chk220 (v3103 : BitVec 32) : Prop :=
  (∀ a, (k0_off439 v3103) a + S1x1x1x128.size a ≤ S1x33344x1x128.size a) ∧
  (∀ a, (k0_off440 v3103) a + S1x1x1x128.size a ≤ S1x33344x1x128.size a)
theorem k0_off439_inb : ∀ (v3103 : BitVec 32) (k0_hw220 : k0_chk220 v3103), ∀ a, (k0_off439 v3103) a + S1x1x1x128.size a ≤ S1x33344x1x128.size a := fun v3103 k0_hw220 => k0_hw220.1
theorem k0_off440_inb : ∀ (v3103 : BitVec 32) (k0_hw220 : k0_chk220 v3103), ∀ a, (k0_off440 v3103) a + S1x1x1x128.size a ≤ S1x33344x1x128.size a := fun v3103 k0_hw220 => k0_hw220.2

def k0_off441 (v3117 : BitVec 32) : Fin 4 → Nat :=
  let c0_2978 : Index := 0#32
  let v3118 : Index := Scalar.indexCast v3117
  let c0_2979 : Index := 0#32
  let c0_2980 : Index := 0#32
  ![0, v3118.toNat, 0, 0]

def k0_off442 (v3117 : BitVec 32) : Fin 4 → Nat :=
  let c0_2984 : Index := 0#32
  let c1_i32_2983 : BitVec 32 := 1#32
  let v3124 : BitVec 32 := Scalar.addi v3117 c1_i32_2983
  let v3125 : Index := Scalar.indexCast v3124
  let c0_2985 : Index := 0#32
  let c0_2986 : Index := 0#32
  ![0, v3125.toNat, 0, 0]

def k0_chk221 (v3117 : BitVec 32) : Prop :=
  (∀ a, (k0_off441 v3117) a + S1x1x1x128.size a ≤ S1x33344x1x128.size a) ∧
  (∀ a, (k0_off442 v3117) a + S1x1x1x128.size a ≤ S1x33344x1x128.size a)
theorem k0_off441_inb : ∀ (v3117 : BitVec 32) (k0_hw221 : k0_chk221 v3117), ∀ a, (k0_off441 v3117) a + S1x1x1x128.size a ≤ S1x33344x1x128.size a := fun v3117 k0_hw221 => k0_hw221.1
theorem k0_off442_inb : ∀ (v3117 : BitVec 32) (k0_hw221 : k0_chk221 v3117), ∀ a, (k0_off442 v3117) a + S1x1x1x128.size a ≤ S1x33344x1x128.size a := fun v3117 k0_hw221 => k0_hw221.2

def k0_off443 (v3131 : BitVec 32) : Fin 4 → Nat :=
  let c0_2992 : Index := 0#32
  let v3132 : Index := Scalar.indexCast v3131
  let c0_2993 : Index := 0#32
  let c0_2994 : Index := 0#32
  ![0, v3132.toNat, 0, 0]

def k0_off444 (v3131 : BitVec 32) : Fin 4 → Nat :=
  let c0_2998 : Index := 0#32
  let c1_i32_2997 : BitVec 32 := 1#32
  let v3138 : BitVec 32 := Scalar.addi v3131 c1_i32_2997
  let v3139 : Index := Scalar.indexCast v3138
  let c0_2999 : Index := 0#32
  let c0_3000 : Index := 0#32
  ![0, v3139.toNat, 0, 0]

def k0_chk222 (v3131 : BitVec 32) : Prop :=
  (∀ a, (k0_off443 v3131) a + S1x1x1x128.size a ≤ S1x33344x1x128.size a) ∧
  (∀ a, (k0_off444 v3131) a + S1x1x1x128.size a ≤ S1x33344x1x128.size a)
theorem k0_off443_inb : ∀ (v3131 : BitVec 32) (k0_hw222 : k0_chk222 v3131), ∀ a, (k0_off443 v3131) a + S1x1x1x128.size a ≤ S1x33344x1x128.size a := fun v3131 k0_hw222 => k0_hw222.1
theorem k0_off444_inb : ∀ (v3131 : BitVec 32) (k0_hw222 : k0_chk222 v3131), ∀ a, (k0_off444 v3131) a + S1x1x1x128.size a ≤ S1x33344x1x128.size a := fun v3131 k0_hw222 => k0_hw222.2

def k0_off445 (v3145 : BitVec 32) : Fin 4 → Nat :=
  let c0_3006 : Index := 0#32
  let v3146 : Index := Scalar.indexCast v3145
  let c0_3007 : Index := 0#32
  let c0_3008 : Index := 0#32
  ![0, v3146.toNat, 0, 0]

def k0_off446 (v3145 : BitVec 32) : Fin 4 → Nat :=
  let c0_3012 : Index := 0#32
  let c1_i32_3011 : BitVec 32 := 1#32
  let v3152 : BitVec 32 := Scalar.addi v3145 c1_i32_3011
  let v3153 : Index := Scalar.indexCast v3152
  let c0_3013 : Index := 0#32
  let c0_3014 : Index := 0#32
  ![0, v3153.toNat, 0, 0]

def k0_chk223 (v3145 : BitVec 32) : Prop :=
  (∀ a, (k0_off445 v3145) a + S1x1x1x128.size a ≤ S1x33344x1x128.size a) ∧
  (∀ a, (k0_off446 v3145) a + S1x1x1x128.size a ≤ S1x33344x1x128.size a)
theorem k0_off445_inb : ∀ (v3145 : BitVec 32) (k0_hw223 : k0_chk223 v3145), ∀ a, (k0_off445 v3145) a + S1x1x1x128.size a ≤ S1x33344x1x128.size a := fun v3145 k0_hw223 => k0_hw223.1
theorem k0_off446_inb : ∀ (v3145 : BitVec 32) (k0_hw223 : k0_chk223 v3145), ∀ a, (k0_off446 v3145) a + S1x1x1x128.size a ≤ S1x33344x1x128.size a := fun v3145 k0_hw223 => k0_hw223.2

def k0_off447 (v3159 : BitVec 32) : Fin 4 → Nat :=
  let c0_3020 : Index := 0#32
  let v3160 : Index := Scalar.indexCast v3159
  let c0_3021 : Index := 0#32
  let c0_3022 : Index := 0#32
  ![0, v3160.toNat, 0, 0]

def k0_off448 (v3159 : BitVec 32) : Fin 4 → Nat :=
  let c0_3026 : Index := 0#32
  let c1_i32_3025 : BitVec 32 := 1#32
  let v3166 : BitVec 32 := Scalar.addi v3159 c1_i32_3025
  let v3167 : Index := Scalar.indexCast v3166
  let c0_3027 : Index := 0#32
  let c0_3028 : Index := 0#32
  ![0, v3167.toNat, 0, 0]

def k0_chk224 (v3159 : BitVec 32) : Prop :=
  (∀ a, (k0_off447 v3159) a + S1x1x1x128.size a ≤ S1x33344x1x128.size a) ∧
  (∀ a, (k0_off448 v3159) a + S1x1x1x128.size a ≤ S1x33344x1x128.size a)
theorem k0_off447_inb : ∀ (v3159 : BitVec 32) (k0_hw224 : k0_chk224 v3159), ∀ a, (k0_off447 v3159) a + S1x1x1x128.size a ≤ S1x33344x1x128.size a := fun v3159 k0_hw224 => k0_hw224.1
theorem k0_off448_inb : ∀ (v3159 : BitVec 32) (k0_hw224 : k0_chk224 v3159), ∀ a, (k0_off448 v3159) a + S1x1x1x128.size a ≤ S1x33344x1x128.size a := fun v3159 k0_hw224 => k0_hw224.2

def k0_off449 (v3173 : BitVec 32) : Fin 4 → Nat :=
  let c0_3034 : Index := 0#32
  let v3174 : Index := Scalar.indexCast v3173
  let c0_3035 : Index := 0#32
  let c0_3036 : Index := 0#32
  ![0, v3174.toNat, 0, 0]

def k0_off450 (v3173 : BitVec 32) : Fin 4 → Nat :=
  let c0_3040 : Index := 0#32
  let c1_i32_3039 : BitVec 32 := 1#32
  let v3180 : BitVec 32 := Scalar.addi v3173 c1_i32_3039
  let v3181 : Index := Scalar.indexCast v3180
  let c0_3041 : Index := 0#32
  let c0_3042 : Index := 0#32
  ![0, v3181.toNat, 0, 0]

def k0_chk225 (v3173 : BitVec 32) : Prop :=
  (∀ a, (k0_off449 v3173) a + S1x1x1x128.size a ≤ S1x33344x1x128.size a) ∧
  (∀ a, (k0_off450 v3173) a + S1x1x1x128.size a ≤ S1x33344x1x128.size a)
theorem k0_off449_inb : ∀ (v3173 : BitVec 32) (k0_hw225 : k0_chk225 v3173), ∀ a, (k0_off449 v3173) a + S1x1x1x128.size a ≤ S1x33344x1x128.size a := fun v3173 k0_hw225 => k0_hw225.1
theorem k0_off450_inb : ∀ (v3173 : BitVec 32) (k0_hw225 : k0_chk225 v3173), ∀ a, (k0_off450 v3173) a + S1x1x1x128.size a ≤ S1x33344x1x128.size a := fun v3173 k0_hw225 => k0_hw225.2

def k0_off451 (v3187 : BitVec 32) : Fin 4 → Nat :=
  let c0_3048 : Index := 0#32
  let v3188 : Index := Scalar.indexCast v3187
  let c0_3049 : Index := 0#32
  let c0_3050 : Index := 0#32
  ![0, v3188.toNat, 0, 0]

def k0_off452 (v3187 : BitVec 32) : Fin 4 → Nat :=
  let c0_3054 : Index := 0#32
  let c1_i32_3053 : BitVec 32 := 1#32
  let v3194 : BitVec 32 := Scalar.addi v3187 c1_i32_3053
  let v3195 : Index := Scalar.indexCast v3194
  let c0_3055 : Index := 0#32
  let c0_3056 : Index := 0#32
  ![0, v3195.toNat, 0, 0]

def k0_chk226 (v3187 : BitVec 32) : Prop :=
  (∀ a, (k0_off451 v3187) a + S1x1x1x128.size a ≤ S1x33344x1x128.size a) ∧
  (∀ a, (k0_off452 v3187) a + S1x1x1x128.size a ≤ S1x33344x1x128.size a)
theorem k0_off451_inb : ∀ (v3187 : BitVec 32) (k0_hw226 : k0_chk226 v3187), ∀ a, (k0_off451 v3187) a + S1x1x1x128.size a ≤ S1x33344x1x128.size a := fun v3187 k0_hw226 => k0_hw226.1
theorem k0_off452_inb : ∀ (v3187 : BitVec 32) (k0_hw226 : k0_chk226 v3187), ∀ a, (k0_off452 v3187) a + S1x1x1x128.size a ≤ S1x33344x1x128.size a := fun v3187 k0_hw226 => k0_hw226.2

def k0_off453 (v3201 : BitVec 32) : Fin 4 → Nat :=
  let c0_3062 : Index := 0#32
  let v3202 : Index := Scalar.indexCast v3201
  let c0_3063 : Index := 0#32
  let c0_3064 : Index := 0#32
  ![0, v3202.toNat, 0, 0]

def k0_off454 (v3201 : BitVec 32) : Fin 4 → Nat :=
  let c0_3068 : Index := 0#32
  let c1_i32_3067 : BitVec 32 := 1#32
  let v3208 : BitVec 32 := Scalar.addi v3201 c1_i32_3067
  let v3209 : Index := Scalar.indexCast v3208
  let c0_3069 : Index := 0#32
  let c0_3070 : Index := 0#32
  ![0, v3209.toNat, 0, 0]

def k0_chk227 (v3201 : BitVec 32) : Prop :=
  (∀ a, (k0_off453 v3201) a + S1x1x1x128.size a ≤ S1x33344x1x128.size a) ∧
  (∀ a, (k0_off454 v3201) a + S1x1x1x128.size a ≤ S1x33344x1x128.size a)
theorem k0_off453_inb : ∀ (v3201 : BitVec 32) (k0_hw227 : k0_chk227 v3201), ∀ a, (k0_off453 v3201) a + S1x1x1x128.size a ≤ S1x33344x1x128.size a := fun v3201 k0_hw227 => k0_hw227.1
theorem k0_off454_inb : ∀ (v3201 : BitVec 32) (k0_hw227 : k0_chk227 v3201), ∀ a, (k0_off454 v3201) a + S1x1x1x128.size a ≤ S1x33344x1x128.size a := fun v3201 k0_hw227 => k0_hw227.2

def k0_off455 (v3215 : BitVec 32) : Fin 4 → Nat :=
  let c0_3076 : Index := 0#32
  let v3216 : Index := Scalar.indexCast v3215
  let c0_3077 : Index := 0#32
  let c0_3078 : Index := 0#32
  ![0, v3216.toNat, 0, 0]

def k0_off456 (v3215 : BitVec 32) : Fin 4 → Nat :=
  let c0_3082 : Index := 0#32
  let c1_i32_3081 : BitVec 32 := 1#32
  let v3222 : BitVec 32 := Scalar.addi v3215 c1_i32_3081
  let v3223 : Index := Scalar.indexCast v3222
  let c0_3083 : Index := 0#32
  let c0_3084 : Index := 0#32
  ![0, v3223.toNat, 0, 0]

def k0_chk228 (v3215 : BitVec 32) : Prop :=
  (∀ a, (k0_off455 v3215) a + S1x1x1x128.size a ≤ S1x33344x1x128.size a) ∧
  (∀ a, (k0_off456 v3215) a + S1x1x1x128.size a ≤ S1x33344x1x128.size a)
theorem k0_off455_inb : ∀ (v3215 : BitVec 32) (k0_hw228 : k0_chk228 v3215), ∀ a, (k0_off455 v3215) a + S1x1x1x128.size a ≤ S1x33344x1x128.size a := fun v3215 k0_hw228 => k0_hw228.1
theorem k0_off456_inb : ∀ (v3215 : BitVec 32) (k0_hw228 : k0_chk228 v3215), ∀ a, (k0_off456 v3215) a + S1x1x1x128.size a ≤ S1x33344x1x128.size a := fun v3215 k0_hw228 => k0_hw228.2

def k0_off457 (v3229 : BitVec 32) : Fin 4 → Nat :=
  let c0_3090 : Index := 0#32
  let v3230 : Index := Scalar.indexCast v3229
  let c0_3091 : Index := 0#32
  let c0_3092 : Index := 0#32
  ![0, v3230.toNat, 0, 0]

def k0_off458 (v3229 : BitVec 32) : Fin 4 → Nat :=
  let c0_3096 : Index := 0#32
  let c1_i32_3095 : BitVec 32 := 1#32
  let v3236 : BitVec 32 := Scalar.addi v3229 c1_i32_3095
  let v3237 : Index := Scalar.indexCast v3236
  let c0_3097 : Index := 0#32
  let c0_3098 : Index := 0#32
  ![0, v3237.toNat, 0, 0]

def k0_chk229 (v3229 : BitVec 32) : Prop :=
  (∀ a, (k0_off457 v3229) a + S1x1x1x128.size a ≤ S1x33344x1x128.size a) ∧
  (∀ a, (k0_off458 v3229) a + S1x1x1x128.size a ≤ S1x33344x1x128.size a)
theorem k0_off457_inb : ∀ (v3229 : BitVec 32) (k0_hw229 : k0_chk229 v3229), ∀ a, (k0_off457 v3229) a + S1x1x1x128.size a ≤ S1x33344x1x128.size a := fun v3229 k0_hw229 => k0_hw229.1
theorem k0_off458_inb : ∀ (v3229 : BitVec 32) (k0_hw229 : k0_chk229 v3229), ∀ a, (k0_off458 v3229) a + S1x1x1x128.size a ≤ S1x33344x1x128.size a := fun v3229 k0_hw229 => k0_hw229.2

def k0_off459 (v3243 : BitVec 32) : Fin 4 → Nat :=
  let c0_3104 : Index := 0#32
  let v3244 : Index := Scalar.indexCast v3243
  let c0_3105 : Index := 0#32
  let c0_3106 : Index := 0#32
  ![0, v3244.toNat, 0, 0]

def k0_off460 (v3243 : BitVec 32) : Fin 4 → Nat :=
  let c0_3110 : Index := 0#32
  let c1_i32_3109 : BitVec 32 := 1#32
  let v3250 : BitVec 32 := Scalar.addi v3243 c1_i32_3109
  let v3251 : Index := Scalar.indexCast v3250
  let c0_3111 : Index := 0#32
  let c0_3112 : Index := 0#32
  ![0, v3251.toNat, 0, 0]

def k0_chk230 (v3243 : BitVec 32) : Prop :=
  (∀ a, (k0_off459 v3243) a + S1x1x1x128.size a ≤ S1x33344x1x128.size a) ∧
  (∀ a, (k0_off460 v3243) a + S1x1x1x128.size a ≤ S1x33344x1x128.size a)
theorem k0_off459_inb : ∀ (v3243 : BitVec 32) (k0_hw230 : k0_chk230 v3243), ∀ a, (k0_off459 v3243) a + S1x1x1x128.size a ≤ S1x33344x1x128.size a := fun v3243 k0_hw230 => k0_hw230.1
theorem k0_off460_inb : ∀ (v3243 : BitVec 32) (k0_hw230 : k0_chk230 v3243), ∀ a, (k0_off460 v3243) a + S1x1x1x128.size a ≤ S1x33344x1x128.size a := fun v3243 k0_hw230 => k0_hw230.2

def k0_off461 (v3257 : BitVec 32) : Fin 4 → Nat :=
  let c0_3118 : Index := 0#32
  let v3258 : Index := Scalar.indexCast v3257
  let c0_3119 : Index := 0#32
  let c0_3120 : Index := 0#32
  ![0, v3258.toNat, 0, 0]

def k0_off462 (v3257 : BitVec 32) : Fin 4 → Nat :=
  let c0_3124 : Index := 0#32
  let c1_i32_3123 : BitVec 32 := 1#32
  let v3264 : BitVec 32 := Scalar.addi v3257 c1_i32_3123
  let v3265 : Index := Scalar.indexCast v3264
  let c0_3125 : Index := 0#32
  let c0_3126 : Index := 0#32
  ![0, v3265.toNat, 0, 0]

def k0_chk231 (v3257 : BitVec 32) : Prop :=
  (∀ a, (k0_off461 v3257) a + S1x1x1x128.size a ≤ S1x33344x1x128.size a) ∧
  (∀ a, (k0_off462 v3257) a + S1x1x1x128.size a ≤ S1x33344x1x128.size a)
theorem k0_off461_inb : ∀ (v3257 : BitVec 32) (k0_hw231 : k0_chk231 v3257), ∀ a, (k0_off461 v3257) a + S1x1x1x128.size a ≤ S1x33344x1x128.size a := fun v3257 k0_hw231 => k0_hw231.1
theorem k0_off462_inb : ∀ (v3257 : BitVec 32) (k0_hw231 : k0_chk231 v3257), ∀ a, (k0_off462 v3257) a + S1x1x1x128.size a ≤ S1x33344x1x128.size a := fun v3257 k0_hw231 => k0_hw231.2

def k0_off463 (v3271 : BitVec 32) : Fin 4 → Nat :=
  let c0_3132 : Index := 0#32
  let v3272 : Index := Scalar.indexCast v3271
  let c0_3133 : Index := 0#32
  let c0_3134 : Index := 0#32
  ![0, v3272.toNat, 0, 0]

def k0_off464 (v3271 : BitVec 32) : Fin 4 → Nat :=
  let c0_3138 : Index := 0#32
  let c1_i32_3137 : BitVec 32 := 1#32
  let v3278 : BitVec 32 := Scalar.addi v3271 c1_i32_3137
  let v3279 : Index := Scalar.indexCast v3278
  let c0_3139 : Index := 0#32
  let c0_3140 : Index := 0#32
  ![0, v3279.toNat, 0, 0]

def k0_chk232 (v3271 : BitVec 32) : Prop :=
  (∀ a, (k0_off463 v3271) a + S1x1x1x128.size a ≤ S1x33344x1x128.size a) ∧
  (∀ a, (k0_off464 v3271) a + S1x1x1x128.size a ≤ S1x33344x1x128.size a)
theorem k0_off463_inb : ∀ (v3271 : BitVec 32) (k0_hw232 : k0_chk232 v3271), ∀ a, (k0_off463 v3271) a + S1x1x1x128.size a ≤ S1x33344x1x128.size a := fun v3271 k0_hw232 => k0_hw232.1
theorem k0_off464_inb : ∀ (v3271 : BitVec 32) (k0_hw232 : k0_chk232 v3271), ∀ a, (k0_off464 v3271) a + S1x1x1x128.size a ≤ S1x33344x1x128.size a := fun v3271 k0_hw232 => k0_hw232.2

def k0_off465 (v3285 : BitVec 32) : Fin 4 → Nat :=
  let c0_3146 : Index := 0#32
  let v3286 : Index := Scalar.indexCast v3285
  let c0_3147 : Index := 0#32
  let c0_3148 : Index := 0#32
  ![0, v3286.toNat, 0, 0]

def k0_off466 (v3285 : BitVec 32) : Fin 4 → Nat :=
  let c0_3152 : Index := 0#32
  let c1_i32_3151 : BitVec 32 := 1#32
  let v3292 : BitVec 32 := Scalar.addi v3285 c1_i32_3151
  let v3293 : Index := Scalar.indexCast v3292
  let c0_3153 : Index := 0#32
  let c0_3154 : Index := 0#32
  ![0, v3293.toNat, 0, 0]

def k0_chk233 (v3285 : BitVec 32) : Prop :=
  (∀ a, (k0_off465 v3285) a + S1x1x1x128.size a ≤ S1x33344x1x128.size a) ∧
  (∀ a, (k0_off466 v3285) a + S1x1x1x128.size a ≤ S1x33344x1x128.size a)
theorem k0_off465_inb : ∀ (v3285 : BitVec 32) (k0_hw233 : k0_chk233 v3285), ∀ a, (k0_off465 v3285) a + S1x1x1x128.size a ≤ S1x33344x1x128.size a := fun v3285 k0_hw233 => k0_hw233.1
theorem k0_off466_inb : ∀ (v3285 : BitVec 32) (k0_hw233 : k0_chk233 v3285), ∀ a, (k0_off466 v3285) a + S1x1x1x128.size a ≤ S1x33344x1x128.size a := fun v3285 k0_hw233 => k0_hw233.2

def k0_off467 (v3299 : BitVec 32) : Fin 4 → Nat :=
  let c0_3160 : Index := 0#32
  let v3300 : Index := Scalar.indexCast v3299
  let c0_3161 : Index := 0#32
  let c0_3162 : Index := 0#32
  ![0, v3300.toNat, 0, 0]

def k0_off468 (v3299 : BitVec 32) : Fin 4 → Nat :=
  let c0_3166 : Index := 0#32
  let c1_i32_3165 : BitVec 32 := 1#32
  let v3306 : BitVec 32 := Scalar.addi v3299 c1_i32_3165
  let v3307 : Index := Scalar.indexCast v3306
  let c0_3167 : Index := 0#32
  let c0_3168 : Index := 0#32
  ![0, v3307.toNat, 0, 0]

def k0_chk234 (v3299 : BitVec 32) : Prop :=
  (∀ a, (k0_off467 v3299) a + S1x1x1x128.size a ≤ S1x33344x1x128.size a) ∧
  (∀ a, (k0_off468 v3299) a + S1x1x1x128.size a ≤ S1x33344x1x128.size a)
theorem k0_off467_inb : ∀ (v3299 : BitVec 32) (k0_hw234 : k0_chk234 v3299), ∀ a, (k0_off467 v3299) a + S1x1x1x128.size a ≤ S1x33344x1x128.size a := fun v3299 k0_hw234 => k0_hw234.1
theorem k0_off468_inb : ∀ (v3299 : BitVec 32) (k0_hw234 : k0_chk234 v3299), ∀ a, (k0_off468 v3299) a + S1x1x1x128.size a ≤ S1x33344x1x128.size a := fun v3299 k0_hw234 => k0_hw234.2

def k0_off469 (v3313 : BitVec 32) : Fin 4 → Nat :=
  let c0_3174 : Index := 0#32
  let v3314 : Index := Scalar.indexCast v3313
  let c0_3175 : Index := 0#32
  let c0_3176 : Index := 0#32
  ![0, v3314.toNat, 0, 0]

def k0_off470 (v3313 : BitVec 32) : Fin 4 → Nat :=
  let c0_3180 : Index := 0#32
  let c1_i32_3179 : BitVec 32 := 1#32
  let v3320 : BitVec 32 := Scalar.addi v3313 c1_i32_3179
  let v3321 : Index := Scalar.indexCast v3320
  let c0_3181 : Index := 0#32
  let c0_3182 : Index := 0#32
  ![0, v3321.toNat, 0, 0]

def k0_chk235 (v3313 : BitVec 32) : Prop :=
  (∀ a, (k0_off469 v3313) a + S1x1x1x128.size a ≤ S1x33344x1x128.size a) ∧
  (∀ a, (k0_off470 v3313) a + S1x1x1x128.size a ≤ S1x33344x1x128.size a)
theorem k0_off469_inb : ∀ (v3313 : BitVec 32) (k0_hw235 : k0_chk235 v3313), ∀ a, (k0_off469 v3313) a + S1x1x1x128.size a ≤ S1x33344x1x128.size a := fun v3313 k0_hw235 => k0_hw235.1
theorem k0_off470_inb : ∀ (v3313 : BitVec 32) (k0_hw235 : k0_chk235 v3313), ∀ a, (k0_off470 v3313) a + S1x1x1x128.size a ≤ S1x33344x1x128.size a := fun v3313 k0_hw235 => k0_hw235.2

def k0_off471 (v3327 : BitVec 32) : Fin 4 → Nat :=
  let c0_3188 : Index := 0#32
  let v3328 : Index := Scalar.indexCast v3327
  let c0_3189 : Index := 0#32
  let c0_3190 : Index := 0#32
  ![0, v3328.toNat, 0, 0]

def k0_off472 (v3327 : BitVec 32) : Fin 4 → Nat :=
  let c0_3194 : Index := 0#32
  let c1_i32_3193 : BitVec 32 := 1#32
  let v3334 : BitVec 32 := Scalar.addi v3327 c1_i32_3193
  let v3335 : Index := Scalar.indexCast v3334
  let c0_3195 : Index := 0#32
  let c0_3196 : Index := 0#32
  ![0, v3335.toNat, 0, 0]

def k0_chk236 (v3327 : BitVec 32) : Prop :=
  (∀ a, (k0_off471 v3327) a + S1x1x1x128.size a ≤ S1x33344x1x128.size a) ∧
  (∀ a, (k0_off472 v3327) a + S1x1x1x128.size a ≤ S1x33344x1x128.size a)
theorem k0_off471_inb : ∀ (v3327 : BitVec 32) (k0_hw236 : k0_chk236 v3327), ∀ a, (k0_off471 v3327) a + S1x1x1x128.size a ≤ S1x33344x1x128.size a := fun v3327 k0_hw236 => k0_hw236.1
theorem k0_off472_inb : ∀ (v3327 : BitVec 32) (k0_hw236 : k0_chk236 v3327), ∀ a, (k0_off472 v3327) a + S1x1x1x128.size a ≤ S1x33344x1x128.size a := fun v3327 k0_hw236 => k0_hw236.2

def k0_off473 (v3341 : BitVec 32) : Fin 4 → Nat :=
  let c0_3202 : Index := 0#32
  let v3342 : Index := Scalar.indexCast v3341
  let c0_3203 : Index := 0#32
  let c0_3204 : Index := 0#32
  ![0, v3342.toNat, 0, 0]

def k0_off474 (v3341 : BitVec 32) : Fin 4 → Nat :=
  let c0_3208 : Index := 0#32
  let c1_i32_3207 : BitVec 32 := 1#32
  let v3348 : BitVec 32 := Scalar.addi v3341 c1_i32_3207
  let v3349 : Index := Scalar.indexCast v3348
  let c0_3209 : Index := 0#32
  let c0_3210 : Index := 0#32
  ![0, v3349.toNat, 0, 0]

def k0_chk237 (v3341 : BitVec 32) : Prop :=
  (∀ a, (k0_off473 v3341) a + S1x1x1x128.size a ≤ S1x33344x1x128.size a) ∧
  (∀ a, (k0_off474 v3341) a + S1x1x1x128.size a ≤ S1x33344x1x128.size a)
theorem k0_off473_inb : ∀ (v3341 : BitVec 32) (k0_hw237 : k0_chk237 v3341), ∀ a, (k0_off473 v3341) a + S1x1x1x128.size a ≤ S1x33344x1x128.size a := fun v3341 k0_hw237 => k0_hw237.1
theorem k0_off474_inb : ∀ (v3341 : BitVec 32) (k0_hw237 : k0_chk237 v3341), ∀ a, (k0_off474 v3341) a + S1x1x1x128.size a ≤ S1x33344x1x128.size a := fun v3341 k0_hw237 => k0_hw237.2

def k0_off475 (v3355 : BitVec 32) : Fin 4 → Nat :=
  let c0_3216 : Index := 0#32
  let v3356 : Index := Scalar.indexCast v3355
  let c0_3217 : Index := 0#32
  let c0_3218 : Index := 0#32
  ![0, v3356.toNat, 0, 0]

def k0_off476 (v3355 : BitVec 32) : Fin 4 → Nat :=
  let c0_3222 : Index := 0#32
  let c1_i32_3221 : BitVec 32 := 1#32
  let v3362 : BitVec 32 := Scalar.addi v3355 c1_i32_3221
  let v3363 : Index := Scalar.indexCast v3362
  let c0_3223 : Index := 0#32
  let c0_3224 : Index := 0#32
  ![0, v3363.toNat, 0, 0]

def k0_chk238 (v3355 : BitVec 32) : Prop :=
  (∀ a, (k0_off475 v3355) a + S1x1x1x128.size a ≤ S1x33344x1x128.size a) ∧
  (∀ a, (k0_off476 v3355) a + S1x1x1x128.size a ≤ S1x33344x1x128.size a)
theorem k0_off475_inb : ∀ (v3355 : BitVec 32) (k0_hw238 : k0_chk238 v3355), ∀ a, (k0_off475 v3355) a + S1x1x1x128.size a ≤ S1x33344x1x128.size a := fun v3355 k0_hw238 => k0_hw238.1
theorem k0_off476_inb : ∀ (v3355 : BitVec 32) (k0_hw238 : k0_chk238 v3355), ∀ a, (k0_off476 v3355) a + S1x1x1x128.size a ≤ S1x33344x1x128.size a := fun v3355 k0_hw238 => k0_hw238.2

def k0_off477 (v3369 : BitVec 32) : Fin 4 → Nat :=
  let c0_3230 : Index := 0#32
  let v3370 : Index := Scalar.indexCast v3369
  let c0_3231 : Index := 0#32
  let c0_3232 : Index := 0#32
  ![0, v3370.toNat, 0, 0]

def k0_off478 (v3369 : BitVec 32) : Fin 4 → Nat :=
  let c0_3236 : Index := 0#32
  let c1_i32_3235 : BitVec 32 := 1#32
  let v3376 : BitVec 32 := Scalar.addi v3369 c1_i32_3235
  let v3377 : Index := Scalar.indexCast v3376
  let c0_3237 : Index := 0#32
  let c0_3238 : Index := 0#32
  ![0, v3377.toNat, 0, 0]

def k0_chk239 (v3369 : BitVec 32) : Prop :=
  (∀ a, (k0_off477 v3369) a + S1x1x1x128.size a ≤ S1x33344x1x128.size a) ∧
  (∀ a, (k0_off478 v3369) a + S1x1x1x128.size a ≤ S1x33344x1x128.size a)
theorem k0_off477_inb : ∀ (v3369 : BitVec 32) (k0_hw239 : k0_chk239 v3369), ∀ a, (k0_off477 v3369) a + S1x1x1x128.size a ≤ S1x33344x1x128.size a := fun v3369 k0_hw239 => k0_hw239.1
theorem k0_off478_inb : ∀ (v3369 : BitVec 32) (k0_hw239 : k0_chk239 v3369), ∀ a, (k0_off478 v3369) a + S1x1x1x128.size a ≤ S1x33344x1x128.size a := fun v3369 k0_hw239 => k0_hw239.2

def k0_off479 (v3383 : BitVec 32) : Fin 4 → Nat :=
  let c0_3244 : Index := 0#32
  let v3384 : Index := Scalar.indexCast v3383
  let c0_3245 : Index := 0#32
  let c0_3246 : Index := 0#32
  ![0, v3384.toNat, 0, 0]

def k0_off480 (v3383 : BitVec 32) : Fin 4 → Nat :=
  let c0_3250 : Index := 0#32
  let c1_i32_3249 : BitVec 32 := 1#32
  let v3390 : BitVec 32 := Scalar.addi v3383 c1_i32_3249
  let v3391 : Index := Scalar.indexCast v3390
  let c0_3251 : Index := 0#32
  let c0_3252 : Index := 0#32
  ![0, v3391.toNat, 0, 0]

def k0_chk240 (v3383 : BitVec 32) : Prop :=
  (∀ a, (k0_off479 v3383) a + S1x1x1x128.size a ≤ S1x33344x1x128.size a) ∧
  (∀ a, (k0_off480 v3383) a + S1x1x1x128.size a ≤ S1x33344x1x128.size a)
theorem k0_off479_inb : ∀ (v3383 : BitVec 32) (k0_hw240 : k0_chk240 v3383), ∀ a, (k0_off479 v3383) a + S1x1x1x128.size a ≤ S1x33344x1x128.size a := fun v3383 k0_hw240 => k0_hw240.1
theorem k0_off480_inb : ∀ (v3383 : BitVec 32) (k0_hw240 : k0_chk240 v3383), ∀ a, (k0_off480 v3383) a + S1x1x1x128.size a ≤ S1x33344x1x128.size a := fun v3383 k0_hw240 => k0_hw240.2

def k0_off481 (v3397 : BitVec 32) : Fin 4 → Nat :=
  let c0_3258 : Index := 0#32
  let v3398 : Index := Scalar.indexCast v3397
  let c0_3259 : Index := 0#32
  let c0_3260 : Index := 0#32
  ![0, v3398.toNat, 0, 0]

def k0_off482 (v3397 : BitVec 32) : Fin 4 → Nat :=
  let c0_3264 : Index := 0#32
  let c1_i32_3263 : BitVec 32 := 1#32
  let v3404 : BitVec 32 := Scalar.addi v3397 c1_i32_3263
  let v3405 : Index := Scalar.indexCast v3404
  let c0_3265 : Index := 0#32
  let c0_3266 : Index := 0#32
  ![0, v3405.toNat, 0, 0]

def k0_chk241 (v3397 : BitVec 32) : Prop :=
  (∀ a, (k0_off481 v3397) a + S1x1x1x128.size a ≤ S1x33344x1x128.size a) ∧
  (∀ a, (k0_off482 v3397) a + S1x1x1x128.size a ≤ S1x33344x1x128.size a)
theorem k0_off481_inb : ∀ (v3397 : BitVec 32) (k0_hw241 : k0_chk241 v3397), ∀ a, (k0_off481 v3397) a + S1x1x1x128.size a ≤ S1x33344x1x128.size a := fun v3397 k0_hw241 => k0_hw241.1
theorem k0_off482_inb : ∀ (v3397 : BitVec 32) (k0_hw241 : k0_chk241 v3397), ∀ a, (k0_off482 v3397) a + S1x1x1x128.size a ≤ S1x33344x1x128.size a := fun v3397 k0_hw241 => k0_hw241.2

def k0_off483 (v3411 : BitVec 32) : Fin 4 → Nat :=
  let c0_3272 : Index := 0#32
  let v3412 : Index := Scalar.indexCast v3411
  let c0_3273 : Index := 0#32
  let c0_3274 : Index := 0#32
  ![0, v3412.toNat, 0, 0]

def k0_off484 (v3411 : BitVec 32) : Fin 4 → Nat :=
  let c0_3278 : Index := 0#32
  let c1_i32_3277 : BitVec 32 := 1#32
  let v3418 : BitVec 32 := Scalar.addi v3411 c1_i32_3277
  let v3419 : Index := Scalar.indexCast v3418
  let c0_3279 : Index := 0#32
  let c0_3280 : Index := 0#32
  ![0, v3419.toNat, 0, 0]

def k0_chk242 (v3411 : BitVec 32) : Prop :=
  (∀ a, (k0_off483 v3411) a + S1x1x1x128.size a ≤ S1x33344x1x128.size a) ∧
  (∀ a, (k0_off484 v3411) a + S1x1x1x128.size a ≤ S1x33344x1x128.size a)
theorem k0_off483_inb : ∀ (v3411 : BitVec 32) (k0_hw242 : k0_chk242 v3411), ∀ a, (k0_off483 v3411) a + S1x1x1x128.size a ≤ S1x33344x1x128.size a := fun v3411 k0_hw242 => k0_hw242.1
theorem k0_off484_inb : ∀ (v3411 : BitVec 32) (k0_hw242 : k0_chk242 v3411), ∀ a, (k0_off484 v3411) a + S1x1x1x128.size a ≤ S1x33344x1x128.size a := fun v3411 k0_hw242 => k0_hw242.2

def k0_off485 (v3425 : BitVec 32) : Fin 4 → Nat :=
  let c0_3286 : Index := 0#32
  let v3426 : Index := Scalar.indexCast v3425
  let c0_3287 : Index := 0#32
  let c0_3288 : Index := 0#32
  ![0, v3426.toNat, 0, 0]

def k0_off486 (v3425 : BitVec 32) : Fin 4 → Nat :=
  let c0_3292 : Index := 0#32
  let c1_i32_3291 : BitVec 32 := 1#32
  let v3432 : BitVec 32 := Scalar.addi v3425 c1_i32_3291
  let v3433 : Index := Scalar.indexCast v3432
  let c0_3293 : Index := 0#32
  let c0_3294 : Index := 0#32
  ![0, v3433.toNat, 0, 0]

def k0_chk243 (v3425 : BitVec 32) : Prop :=
  (∀ a, (k0_off485 v3425) a + S1x1x1x128.size a ≤ S1x33344x1x128.size a) ∧
  (∀ a, (k0_off486 v3425) a + S1x1x1x128.size a ≤ S1x33344x1x128.size a)
theorem k0_off485_inb : ∀ (v3425 : BitVec 32) (k0_hw243 : k0_chk243 v3425), ∀ a, (k0_off485 v3425) a + S1x1x1x128.size a ≤ S1x33344x1x128.size a := fun v3425 k0_hw243 => k0_hw243.1
theorem k0_off486_inb : ∀ (v3425 : BitVec 32) (k0_hw243 : k0_chk243 v3425), ∀ a, (k0_off486 v3425) a + S1x1x1x128.size a ≤ S1x33344x1x128.size a := fun v3425 k0_hw243 => k0_hw243.2

def k0_off487 (v3439 : BitVec 32) : Fin 4 → Nat :=
  let c0_3300 : Index := 0#32
  let v3440 : Index := Scalar.indexCast v3439
  let c0_3301 : Index := 0#32
  let c0_3302 : Index := 0#32
  ![0, v3440.toNat, 0, 0]

def k0_off488 (v3439 : BitVec 32) : Fin 4 → Nat :=
  let c0_3306 : Index := 0#32
  let c1_i32_3305 : BitVec 32 := 1#32
  let v3446 : BitVec 32 := Scalar.addi v3439 c1_i32_3305
  let v3447 : Index := Scalar.indexCast v3446
  let c0_3307 : Index := 0#32
  let c0_3308 : Index := 0#32
  ![0, v3447.toNat, 0, 0]

def k0_chk244 (v3439 : BitVec 32) : Prop :=
  (∀ a, (k0_off487 v3439) a + S1x1x1x128.size a ≤ S1x33344x1x128.size a) ∧
  (∀ a, (k0_off488 v3439) a + S1x1x1x128.size a ≤ S1x33344x1x128.size a)
theorem k0_off487_inb : ∀ (v3439 : BitVec 32) (k0_hw244 : k0_chk244 v3439), ∀ a, (k0_off487 v3439) a + S1x1x1x128.size a ≤ S1x33344x1x128.size a := fun v3439 k0_hw244 => k0_hw244.1
theorem k0_off488_inb : ∀ (v3439 : BitVec 32) (k0_hw244 : k0_chk244 v3439), ∀ a, (k0_off488 v3439) a + S1x1x1x128.size a ≤ S1x33344x1x128.size a := fun v3439 k0_hw244 => k0_hw244.2

def k0_off489 (v3453 : BitVec 32) : Fin 4 → Nat :=
  let c0_3314 : Index := 0#32
  let v3454 : Index := Scalar.indexCast v3453
  let c0_3315 : Index := 0#32
  let c0_3316 : Index := 0#32
  ![0, v3454.toNat, 0, 0]

def k0_off490 (v3453 : BitVec 32) : Fin 4 → Nat :=
  let c0_3320 : Index := 0#32
  let c1_i32_3319 : BitVec 32 := 1#32
  let v3460 : BitVec 32 := Scalar.addi v3453 c1_i32_3319
  let v3461 : Index := Scalar.indexCast v3460
  let c0_3321 : Index := 0#32
  let c0_3322 : Index := 0#32
  ![0, v3461.toNat, 0, 0]

def k0_chk245 (v3453 : BitVec 32) : Prop :=
  (∀ a, (k0_off489 v3453) a + S1x1x1x128.size a ≤ S1x33344x1x128.size a) ∧
  (∀ a, (k0_off490 v3453) a + S1x1x1x128.size a ≤ S1x33344x1x128.size a)
theorem k0_off489_inb : ∀ (v3453 : BitVec 32) (k0_hw245 : k0_chk245 v3453), ∀ a, (k0_off489 v3453) a + S1x1x1x128.size a ≤ S1x33344x1x128.size a := fun v3453 k0_hw245 => k0_hw245.1
theorem k0_off490_inb : ∀ (v3453 : BitVec 32) (k0_hw245 : k0_chk245 v3453), ∀ a, (k0_off490 v3453) a + S1x1x1x128.size a ≤ S1x33344x1x128.size a := fun v3453 k0_hw245 => k0_hw245.2

def k0_off491 (v3467 : BitVec 32) : Fin 4 → Nat :=
  let c0_3328 : Index := 0#32
  let v3468 : Index := Scalar.indexCast v3467
  let c0_3329 : Index := 0#32
  let c0_3330 : Index := 0#32
  ![0, v3468.toNat, 0, 0]

def k0_off492 (v3467 : BitVec 32) : Fin 4 → Nat :=
  let c0_3334 : Index := 0#32
  let c1_i32_3333 : BitVec 32 := 1#32
  let v3474 : BitVec 32 := Scalar.addi v3467 c1_i32_3333
  let v3475 : Index := Scalar.indexCast v3474
  let c0_3335 : Index := 0#32
  let c0_3336 : Index := 0#32
  ![0, v3475.toNat, 0, 0]

def k0_chk246 (v3467 : BitVec 32) : Prop :=
  (∀ a, (k0_off491 v3467) a + S1x1x1x128.size a ≤ S1x33344x1x128.size a) ∧
  (∀ a, (k0_off492 v3467) a + S1x1x1x128.size a ≤ S1x33344x1x128.size a)
theorem k0_off491_inb : ∀ (v3467 : BitVec 32) (k0_hw246 : k0_chk246 v3467), ∀ a, (k0_off491 v3467) a + S1x1x1x128.size a ≤ S1x33344x1x128.size a := fun v3467 k0_hw246 => k0_hw246.1
theorem k0_off492_inb : ∀ (v3467 : BitVec 32) (k0_hw246 : k0_chk246 v3467), ∀ a, (k0_off492 v3467) a + S1x1x1x128.size a ≤ S1x33344x1x128.size a := fun v3467 k0_hw246 => k0_hw246.2

def k0_off493 (v3481 : BitVec 32) : Fin 4 → Nat :=
  let c0_3342 : Index := 0#32
  let v3482 : Index := Scalar.indexCast v3481
  let c0_3343 : Index := 0#32
  let c0_3344 : Index := 0#32
  ![0, v3482.toNat, 0, 0]

def k0_off494 (v3481 : BitVec 32) : Fin 4 → Nat :=
  let c0_3348 : Index := 0#32
  let c1_i32_3347 : BitVec 32 := 1#32
  let v3488 : BitVec 32 := Scalar.addi v3481 c1_i32_3347
  let v3489 : Index := Scalar.indexCast v3488
  let c0_3349 : Index := 0#32
  let c0_3350 : Index := 0#32
  ![0, v3489.toNat, 0, 0]

def k0_chk247 (v3481 : BitVec 32) : Prop :=
  (∀ a, (k0_off493 v3481) a + S1x1x1x128.size a ≤ S1x33344x1x128.size a) ∧
  (∀ a, (k0_off494 v3481) a + S1x1x1x128.size a ≤ S1x33344x1x128.size a)
theorem k0_off493_inb : ∀ (v3481 : BitVec 32) (k0_hw247 : k0_chk247 v3481), ∀ a, (k0_off493 v3481) a + S1x1x1x128.size a ≤ S1x33344x1x128.size a := fun v3481 k0_hw247 => k0_hw247.1
theorem k0_off494_inb : ∀ (v3481 : BitVec 32) (k0_hw247 : k0_chk247 v3481), ∀ a, (k0_off494 v3481) a + S1x1x1x128.size a ≤ S1x33344x1x128.size a := fun v3481 k0_hw247 => k0_hw247.2

def k0_off495 (v3495 : BitVec 32) : Fin 4 → Nat :=
  let c0_3356 : Index := 0#32
  let v3496 : Index := Scalar.indexCast v3495
  let c0_3357 : Index := 0#32
  let c0_3358 : Index := 0#32
  ![0, v3496.toNat, 0, 0]

def k0_off496 (v3495 : BitVec 32) : Fin 4 → Nat :=
  let c0_3362 : Index := 0#32
  let c1_i32_3361 : BitVec 32 := 1#32
  let v3502 : BitVec 32 := Scalar.addi v3495 c1_i32_3361
  let v3503 : Index := Scalar.indexCast v3502
  let c0_3363 : Index := 0#32
  let c0_3364 : Index := 0#32
  ![0, v3503.toNat, 0, 0]

def k0_chk248 (v3495 : BitVec 32) : Prop :=
  (∀ a, (k0_off495 v3495) a + S1x1x1x128.size a ≤ S1x33344x1x128.size a) ∧
  (∀ a, (k0_off496 v3495) a + S1x1x1x128.size a ≤ S1x33344x1x128.size a)
theorem k0_off495_inb : ∀ (v3495 : BitVec 32) (k0_hw248 : k0_chk248 v3495), ∀ a, (k0_off495 v3495) a + S1x1x1x128.size a ≤ S1x33344x1x128.size a := fun v3495 k0_hw248 => k0_hw248.1
theorem k0_off496_inb : ∀ (v3495 : BitVec 32) (k0_hw248 : k0_chk248 v3495), ∀ a, (k0_off496 v3495) a + S1x1x1x128.size a ≤ S1x33344x1x128.size a := fun v3495 k0_hw248 => k0_hw248.2

def k0_off497 (v3509 : BitVec 32) : Fin 4 → Nat :=
  let c0_3370 : Index := 0#32
  let v3510 : Index := Scalar.indexCast v3509
  let c0_3371 : Index := 0#32
  let c0_3372 : Index := 0#32
  ![0, v3510.toNat, 0, 0]

def k0_off498 (v3509 : BitVec 32) : Fin 4 → Nat :=
  let c0_3376 : Index := 0#32
  let c1_i32_3375 : BitVec 32 := 1#32
  let v3516 : BitVec 32 := Scalar.addi v3509 c1_i32_3375
  let v3517 : Index := Scalar.indexCast v3516
  let c0_3377 : Index := 0#32
  let c0_3378 : Index := 0#32
  ![0, v3517.toNat, 0, 0]

def k0_chk249 (v3509 : BitVec 32) : Prop :=
  (∀ a, (k0_off497 v3509) a + S1x1x1x128.size a ≤ S1x33344x1x128.size a) ∧
  (∀ a, (k0_off498 v3509) a + S1x1x1x128.size a ≤ S1x33344x1x128.size a)
theorem k0_off497_inb : ∀ (v3509 : BitVec 32) (k0_hw249 : k0_chk249 v3509), ∀ a, (k0_off497 v3509) a + S1x1x1x128.size a ≤ S1x33344x1x128.size a := fun v3509 k0_hw249 => k0_hw249.1
theorem k0_off498_inb : ∀ (v3509 : BitVec 32) (k0_hw249 : k0_chk249 v3509), ∀ a, (k0_off498 v3509) a + S1x1x1x128.size a ≤ S1x33344x1x128.size a := fun v3509 k0_hw249 => k0_hw249.2

def k0_off499 (v3523 : BitVec 32) : Fin 4 → Nat :=
  let c0_3384 : Index := 0#32
  let v3524 : Index := Scalar.indexCast v3523
  let c0_3385 : Index := 0#32
  let c0_3386 : Index := 0#32
  ![0, v3524.toNat, 0, 0]

def k0_off500 (v3523 : BitVec 32) : Fin 4 → Nat :=
  let c0_3390 : Index := 0#32
  let c1_i32_3389 : BitVec 32 := 1#32
  let v3530 : BitVec 32 := Scalar.addi v3523 c1_i32_3389
  let v3531 : Index := Scalar.indexCast v3530
  let c0_3391 : Index := 0#32
  let c0_3392 : Index := 0#32
  ![0, v3531.toNat, 0, 0]

def k0_chk250 (v3523 : BitVec 32) : Prop :=
  (∀ a, (k0_off499 v3523) a + S1x1x1x128.size a ≤ S1x33344x1x128.size a) ∧
  (∀ a, (k0_off500 v3523) a + S1x1x1x128.size a ≤ S1x33344x1x128.size a)
theorem k0_off499_inb : ∀ (v3523 : BitVec 32) (k0_hw250 : k0_chk250 v3523), ∀ a, (k0_off499 v3523) a + S1x1x1x128.size a ≤ S1x33344x1x128.size a := fun v3523 k0_hw250 => k0_hw250.1
theorem k0_off500_inb : ∀ (v3523 : BitVec 32) (k0_hw250 : k0_chk250 v3523), ∀ a, (k0_off500 v3523) a + S1x1x1x128.size a ≤ S1x33344x1x128.size a := fun v3523 k0_hw250 => k0_hw250.2

def k0_off501 (v3537 : BitVec 32) : Fin 4 → Nat :=
  let c0_3398 : Index := 0#32
  let v3538 : Index := Scalar.indexCast v3537
  let c0_3399 : Index := 0#32
  let c0_3400 : Index := 0#32
  ![0, v3538.toNat, 0, 0]

def k0_off502 (v3537 : BitVec 32) : Fin 4 → Nat :=
  let c0_3404 : Index := 0#32
  let c1_i32_3403 : BitVec 32 := 1#32
  let v3544 : BitVec 32 := Scalar.addi v3537 c1_i32_3403
  let v3545 : Index := Scalar.indexCast v3544
  let c0_3405 : Index := 0#32
  let c0_3406 : Index := 0#32
  ![0, v3545.toNat, 0, 0]

def k0_chk251 (v3537 : BitVec 32) : Prop :=
  (∀ a, (k0_off501 v3537) a + S1x1x1x128.size a ≤ S1x33344x1x128.size a) ∧
  (∀ a, (k0_off502 v3537) a + S1x1x1x128.size a ≤ S1x33344x1x128.size a)
theorem k0_off501_inb : ∀ (v3537 : BitVec 32) (k0_hw251 : k0_chk251 v3537), ∀ a, (k0_off501 v3537) a + S1x1x1x128.size a ≤ S1x33344x1x128.size a := fun v3537 k0_hw251 => k0_hw251.1
theorem k0_off502_inb : ∀ (v3537 : BitVec 32) (k0_hw251 : k0_chk251 v3537), ∀ a, (k0_off502 v3537) a + S1x1x1x128.size a ≤ S1x33344x1x128.size a := fun v3537 k0_hw251 => k0_hw251.2

def k0_off503 (v3551 : BitVec 32) : Fin 4 → Nat :=
  let c0_3412 : Index := 0#32
  let v3552 : Index := Scalar.indexCast v3551
  let c0_3413 : Index := 0#32
  let c0_3414 : Index := 0#32
  ![0, v3552.toNat, 0, 0]

def k0_off504 (v3551 : BitVec 32) : Fin 4 → Nat :=
  let c0_3418 : Index := 0#32
  let c1_i32_3417 : BitVec 32 := 1#32
  let v3558 : BitVec 32 := Scalar.addi v3551 c1_i32_3417
  let v3559 : Index := Scalar.indexCast v3558
  let c0_3419 : Index := 0#32
  let c0_3420 : Index := 0#32
  ![0, v3559.toNat, 0, 0]

def k0_chk252 (v3551 : BitVec 32) : Prop :=
  (∀ a, (k0_off503 v3551) a + S1x1x1x128.size a ≤ S1x33344x1x128.size a) ∧
  (∀ a, (k0_off504 v3551) a + S1x1x1x128.size a ≤ S1x33344x1x128.size a)
theorem k0_off503_inb : ∀ (v3551 : BitVec 32) (k0_hw252 : k0_chk252 v3551), ∀ a, (k0_off503 v3551) a + S1x1x1x128.size a ≤ S1x33344x1x128.size a := fun v3551 k0_hw252 => k0_hw252.1
theorem k0_off504_inb : ∀ (v3551 : BitVec 32) (k0_hw252 : k0_chk252 v3551), ∀ a, (k0_off504 v3551) a + S1x1x1x128.size a ≤ S1x33344x1x128.size a := fun v3551 k0_hw252 => k0_hw252.2

def k0_off505 (v3565 : BitVec 32) : Fin 4 → Nat :=
  let c0_3426 : Index := 0#32
  let v3566 : Index := Scalar.indexCast v3565
  let c0_3427 : Index := 0#32
  let c0_3428 : Index := 0#32
  ![0, v3566.toNat, 0, 0]

def k0_off506 (v3565 : BitVec 32) : Fin 4 → Nat :=
  let c0_3432 : Index := 0#32
  let c1_i32_3431 : BitVec 32 := 1#32
  let v3572 : BitVec 32 := Scalar.addi v3565 c1_i32_3431
  let v3573 : Index := Scalar.indexCast v3572
  let c0_3433 : Index := 0#32
  let c0_3434 : Index := 0#32
  ![0, v3573.toNat, 0, 0]

def k0_chk253 (v3565 : BitVec 32) : Prop :=
  (∀ a, (k0_off505 v3565) a + S1x1x1x128.size a ≤ S1x33344x1x128.size a) ∧
  (∀ a, (k0_off506 v3565) a + S1x1x1x128.size a ≤ S1x33344x1x128.size a)
theorem k0_off505_inb : ∀ (v3565 : BitVec 32) (k0_hw253 : k0_chk253 v3565), ∀ a, (k0_off505 v3565) a + S1x1x1x128.size a ≤ S1x33344x1x128.size a := fun v3565 k0_hw253 => k0_hw253.1
theorem k0_off506_inb : ∀ (v3565 : BitVec 32) (k0_hw253 : k0_chk253 v3565), ∀ a, (k0_off506 v3565) a + S1x1x1x128.size a ≤ S1x33344x1x128.size a := fun v3565 k0_hw253 => k0_hw253.2

def k0_off507 (v3579 : BitVec 32) : Fin 4 → Nat :=
  let c0_3440 : Index := 0#32
  let v3580 : Index := Scalar.indexCast v3579
  let c0_3441 : Index := 0#32
  let c0_3442 : Index := 0#32
  ![0, v3580.toNat, 0, 0]

def k0_off508 (v3579 : BitVec 32) : Fin 4 → Nat :=
  let c0_3446 : Index := 0#32
  let c1_i32_3445 : BitVec 32 := 1#32
  let v3586 : BitVec 32 := Scalar.addi v3579 c1_i32_3445
  let v3587 : Index := Scalar.indexCast v3586
  let c0_3447 : Index := 0#32
  let c0_3448 : Index := 0#32
  ![0, v3587.toNat, 0, 0]

def k0_chk254 (v3579 : BitVec 32) : Prop :=
  (∀ a, (k0_off507 v3579) a + S1x1x1x128.size a ≤ S1x33344x1x128.size a) ∧
  (∀ a, (k0_off508 v3579) a + S1x1x1x128.size a ≤ S1x33344x1x128.size a)
theorem k0_off507_inb : ∀ (v3579 : BitVec 32) (k0_hw254 : k0_chk254 v3579), ∀ a, (k0_off507 v3579) a + S1x1x1x128.size a ≤ S1x33344x1x128.size a := fun v3579 k0_hw254 => k0_hw254.1
theorem k0_off508_inb : ∀ (v3579 : BitVec 32) (k0_hw254 : k0_chk254 v3579), ∀ a, (k0_off508 v3579) a + S1x1x1x128.size a ≤ S1x33344x1x128.size a := fun v3579 k0_hw254 => k0_hw254.2

def k0_off509 (v3593 : BitVec 32) : Fin 4 → Nat :=
  let c0_3454 : Index := 0#32
  let v3594 : Index := Scalar.indexCast v3593
  let c0_3455 : Index := 0#32
  let c0_3456 : Index := 0#32
  ![0, v3594.toNat, 0, 0]

def k0_off510 (v3593 : BitVec 32) : Fin 4 → Nat :=
  let c0_3460 : Index := 0#32
  let c1_i32_3459 : BitVec 32 := 1#32
  let v3600 : BitVec 32 := Scalar.addi v3593 c1_i32_3459
  let v3601 : Index := Scalar.indexCast v3600
  let c0_3461 : Index := 0#32
  let c0_3462 : Index := 0#32
  ![0, v3601.toNat, 0, 0]

def k0_chk255 (v3593 : BitVec 32) : Prop :=
  (∀ a, (k0_off509 v3593) a + S1x1x1x128.size a ≤ S1x33344x1x128.size a) ∧
  (∀ a, (k0_off510 v3593) a + S1x1x1x128.size a ≤ S1x33344x1x128.size a)
theorem k0_off509_inb : ∀ (v3593 : BitVec 32) (k0_hw255 : k0_chk255 v3593), ∀ a, (k0_off509 v3593) a + S1x1x1x128.size a ≤ S1x33344x1x128.size a := fun v3593 k0_hw255 => k0_hw255.1
theorem k0_off510_inb : ∀ (v3593 : BitVec 32) (k0_hw255 : k0_chk255 v3593), ∀ a, (k0_off510 v3593) a + S1x1x1x128.size a ≤ S1x33344x1x128.size a := fun v3593 k0_hw255 => k0_hw255.2

def k0_off511 (v3607 : BitVec 32) : Fin 4 → Nat :=
  let c0_3468 : Index := 0#32
  let v3608 : Index := Scalar.indexCast v3607
  let c0_3469 : Index := 0#32
  let c0_3470 : Index := 0#32
  ![0, v3608.toNat, 0, 0]

def k0_off512 (v3607 : BitVec 32) : Fin 4 → Nat :=
  let c0_3474 : Index := 0#32
  let c1_i32_3473 : BitVec 32 := 1#32
  let v3614 : BitVec 32 := Scalar.addi v3607 c1_i32_3473
  let v3615 : Index := Scalar.indexCast v3614
  let c0_3475 : Index := 0#32
  let c0_3476 : Index := 0#32
  ![0, v3615.toNat, 0, 0]

def k0_chk256 (v3607 : BitVec 32) : Prop :=
  (∀ a, (k0_off511 v3607) a + S1x1x1x128.size a ≤ S1x33344x1x128.size a) ∧
  (∀ a, (k0_off512 v3607) a + S1x1x1x128.size a ≤ S1x33344x1x128.size a)
theorem k0_off511_inb : ∀ (v3607 : BitVec 32) (k0_hw256 : k0_chk256 v3607), ∀ a, (k0_off511 v3607) a + S1x1x1x128.size a ≤ S1x33344x1x128.size a := fun v3607 k0_hw256 => k0_hw256.1
theorem k0_off512_inb : ∀ (v3607 : BitVec 32) (k0_hw256 : k0_chk256 v3607), ∀ a, (k0_off512 v3607) a + S1x1x1x128.size a ≤ S1x33344x1x128.size a := fun v3607 k0_hw256 => k0_hw256.2

def k0_off513 (v3650 : BitVec 32) : Fin 4 → Nat :=
  let c0_3496 : Index := 0#32
  let v3651 : Index := Scalar.indexCast v3650
  let c0_3497 : Index := 0#32
  let c0_3498 : Index := 0#32
  ![0, v3651.toNat, 0, 0]

def k0_off514 (v3650 : BitVec 32) : Fin 4 → Nat :=
  let c0_3502 : Index := 0#32
  let c1_i32_3501 : BitVec 32 := 1#32
  let v3657 : BitVec 32 := Scalar.addi v3650 c1_i32_3501
  let v3658 : Index := Scalar.indexCast v3657
  let c0_3503 : Index := 0#32
  let c0_3504 : Index := 0#32
  ![0, v3658.toNat, 0, 0]

def k0_chk257 (v3650 : BitVec 32) : Prop :=
  (∀ a, (k0_off513 v3650) a + S1x1x1x128.size a ≤ S1x33344x1x128.size a) ∧
  (∀ a, (k0_off514 v3650) a + S1x1x1x128.size a ≤ S1x33344x1x128.size a)
theorem k0_off513_inb : ∀ (v3650 : BitVec 32) (k0_hw257 : k0_chk257 v3650), ∀ a, (k0_off513 v3650) a + S1x1x1x128.size a ≤ S1x33344x1x128.size a := fun v3650 k0_hw257 => k0_hw257.1
theorem k0_off514_inb : ∀ (v3650 : BitVec 32) (k0_hw257 : k0_chk257 v3650), ∀ a, (k0_off514 v3650) a + S1x1x1x128.size a ≤ S1x33344x1x128.size a := fun v3650 k0_hw257 => k0_hw257.2

def k0_off515 (v3664 : BitVec 32) : Fin 4 → Nat :=
  let c0_3510 : Index := 0#32
  let v3665 : Index := Scalar.indexCast v3664
  let c0_3511 : Index := 0#32
  let c0_3512 : Index := 0#32
  ![0, v3665.toNat, 0, 0]

def k0_off516 (v3664 : BitVec 32) : Fin 4 → Nat :=
  let c0_3516 : Index := 0#32
  let c1_i32_3515 : BitVec 32 := 1#32
  let v3671 : BitVec 32 := Scalar.addi v3664 c1_i32_3515
  let v3672 : Index := Scalar.indexCast v3671
  let c0_3517 : Index := 0#32
  let c0_3518 : Index := 0#32
  ![0, v3672.toNat, 0, 0]

def k0_chk258 (v3664 : BitVec 32) : Prop :=
  (∀ a, (k0_off515 v3664) a + S1x1x1x128.size a ≤ S1x33344x1x128.size a) ∧
  (∀ a, (k0_off516 v3664) a + S1x1x1x128.size a ≤ S1x33344x1x128.size a)
theorem k0_off515_inb : ∀ (v3664 : BitVec 32) (k0_hw258 : k0_chk258 v3664), ∀ a, (k0_off515 v3664) a + S1x1x1x128.size a ≤ S1x33344x1x128.size a := fun v3664 k0_hw258 => k0_hw258.1
theorem k0_off516_inb : ∀ (v3664 : BitVec 32) (k0_hw258 : k0_chk258 v3664), ∀ a, (k0_off516 v3664) a + S1x1x1x128.size a ≤ S1x33344x1x128.size a := fun v3664 k0_hw258 => k0_hw258.2

def k0_off517 (v3678 : BitVec 32) : Fin 4 → Nat :=
  let c0_3524 : Index := 0#32
  let v3679 : Index := Scalar.indexCast v3678
  let c0_3525 : Index := 0#32
  let c0_3526 : Index := 0#32
  ![0, v3679.toNat, 0, 0]

def k0_off518 (v3678 : BitVec 32) : Fin 4 → Nat :=
  let c0_3530 : Index := 0#32
  let c1_i32_3529 : BitVec 32 := 1#32
  let v3685 : BitVec 32 := Scalar.addi v3678 c1_i32_3529
  let v3686 : Index := Scalar.indexCast v3685
  let c0_3531 : Index := 0#32
  let c0_3532 : Index := 0#32
  ![0, v3686.toNat, 0, 0]

def k0_chk259 (v3678 : BitVec 32) : Prop :=
  (∀ a, (k0_off517 v3678) a + S1x1x1x128.size a ≤ S1x33344x1x128.size a) ∧
  (∀ a, (k0_off518 v3678) a + S1x1x1x128.size a ≤ S1x33344x1x128.size a)
theorem k0_off517_inb : ∀ (v3678 : BitVec 32) (k0_hw259 : k0_chk259 v3678), ∀ a, (k0_off517 v3678) a + S1x1x1x128.size a ≤ S1x33344x1x128.size a := fun v3678 k0_hw259 => k0_hw259.1
theorem k0_off518_inb : ∀ (v3678 : BitVec 32) (k0_hw259 : k0_chk259 v3678), ∀ a, (k0_off518 v3678) a + S1x1x1x128.size a ≤ S1x33344x1x128.size a := fun v3678 k0_hw259 => k0_hw259.2

def k0_off519 (v3692 : BitVec 32) : Fin 4 → Nat :=
  let c0_3538 : Index := 0#32
  let v3693 : Index := Scalar.indexCast v3692
  let c0_3539 : Index := 0#32
  let c0_3540 : Index := 0#32
  ![0, v3693.toNat, 0, 0]

def k0_off520 (v3692 : BitVec 32) : Fin 4 → Nat :=
  let c0_3544 : Index := 0#32
  let c1_i32_3543 : BitVec 32 := 1#32
  let v3699 : BitVec 32 := Scalar.addi v3692 c1_i32_3543
  let v3700 : Index := Scalar.indexCast v3699
  let c0_3545 : Index := 0#32
  let c0_3546 : Index := 0#32
  ![0, v3700.toNat, 0, 0]

def k0_chk260 (v3692 : BitVec 32) : Prop :=
  (∀ a, (k0_off519 v3692) a + S1x1x1x128.size a ≤ S1x33344x1x128.size a) ∧
  (∀ a, (k0_off520 v3692) a + S1x1x1x128.size a ≤ S1x33344x1x128.size a)
theorem k0_off519_inb : ∀ (v3692 : BitVec 32) (k0_hw260 : k0_chk260 v3692), ∀ a, (k0_off519 v3692) a + S1x1x1x128.size a ≤ S1x33344x1x128.size a := fun v3692 k0_hw260 => k0_hw260.1
theorem k0_off520_inb : ∀ (v3692 : BitVec 32) (k0_hw260 : k0_chk260 v3692), ∀ a, (k0_off520 v3692) a + S1x1x1x128.size a ≤ S1x33344x1x128.size a := fun v3692 k0_hw260 => k0_hw260.2

def k0_off521 (v3706 : BitVec 32) : Fin 4 → Nat :=
  let c0_3552 : Index := 0#32
  let v3707 : Index := Scalar.indexCast v3706
  let c0_3553 : Index := 0#32
  let c0_3554 : Index := 0#32
  ![0, v3707.toNat, 0, 0]

def k0_off522 (v3706 : BitVec 32) : Fin 4 → Nat :=
  let c0_3558 : Index := 0#32
  let c1_i32_3557 : BitVec 32 := 1#32
  let v3713 : BitVec 32 := Scalar.addi v3706 c1_i32_3557
  let v3714 : Index := Scalar.indexCast v3713
  let c0_3559 : Index := 0#32
  let c0_3560 : Index := 0#32
  ![0, v3714.toNat, 0, 0]

def k0_chk261 (v3706 : BitVec 32) : Prop :=
  (∀ a, (k0_off521 v3706) a + S1x1x1x128.size a ≤ S1x33344x1x128.size a) ∧
  (∀ a, (k0_off522 v3706) a + S1x1x1x128.size a ≤ S1x33344x1x128.size a)
theorem k0_off521_inb : ∀ (v3706 : BitVec 32) (k0_hw261 : k0_chk261 v3706), ∀ a, (k0_off521 v3706) a + S1x1x1x128.size a ≤ S1x33344x1x128.size a := fun v3706 k0_hw261 => k0_hw261.1
theorem k0_off522_inb : ∀ (v3706 : BitVec 32) (k0_hw261 : k0_chk261 v3706), ∀ a, (k0_off522 v3706) a + S1x1x1x128.size a ≤ S1x33344x1x128.size a := fun v3706 k0_hw261 => k0_hw261.2

def k0_off523 (v3720 : BitVec 32) : Fin 4 → Nat :=
  let c0_3566 : Index := 0#32
  let v3721 : Index := Scalar.indexCast v3720
  let c0_3567 : Index := 0#32
  let c0_3568 : Index := 0#32
  ![0, v3721.toNat, 0, 0]

def k0_off524 (v3720 : BitVec 32) : Fin 4 → Nat :=
  let c0_3572 : Index := 0#32
  let c1_i32_3571 : BitVec 32 := 1#32
  let v3727 : BitVec 32 := Scalar.addi v3720 c1_i32_3571
  let v3728 : Index := Scalar.indexCast v3727
  let c0_3573 : Index := 0#32
  let c0_3574 : Index := 0#32
  ![0, v3728.toNat, 0, 0]

def k0_chk262 (v3720 : BitVec 32) : Prop :=
  (∀ a, (k0_off523 v3720) a + S1x1x1x128.size a ≤ S1x33344x1x128.size a) ∧
  (∀ a, (k0_off524 v3720) a + S1x1x1x128.size a ≤ S1x33344x1x128.size a)
theorem k0_off523_inb : ∀ (v3720 : BitVec 32) (k0_hw262 : k0_chk262 v3720), ∀ a, (k0_off523 v3720) a + S1x1x1x128.size a ≤ S1x33344x1x128.size a := fun v3720 k0_hw262 => k0_hw262.1
theorem k0_off524_inb : ∀ (v3720 : BitVec 32) (k0_hw262 : k0_chk262 v3720), ∀ a, (k0_off524 v3720) a + S1x1x1x128.size a ≤ S1x33344x1x128.size a := fun v3720 k0_hw262 => k0_hw262.2

def k0_off525 (v3734 : BitVec 32) : Fin 4 → Nat :=
  let c0_3580 : Index := 0#32
  let v3735 : Index := Scalar.indexCast v3734
  let c0_3581 : Index := 0#32
  let c0_3582 : Index := 0#32
  ![0, v3735.toNat, 0, 0]

def k0_off526 (v3734 : BitVec 32) : Fin 4 → Nat :=
  let c0_3586 : Index := 0#32
  let c1_i32_3585 : BitVec 32 := 1#32
  let v3741 : BitVec 32 := Scalar.addi v3734 c1_i32_3585
  let v3742 : Index := Scalar.indexCast v3741
  let c0_3587 : Index := 0#32
  let c0_3588 : Index := 0#32
  ![0, v3742.toNat, 0, 0]

def k0_chk263 (v3734 : BitVec 32) : Prop :=
  (∀ a, (k0_off525 v3734) a + S1x1x1x128.size a ≤ S1x33344x1x128.size a) ∧
  (∀ a, (k0_off526 v3734) a + S1x1x1x128.size a ≤ S1x33344x1x128.size a)
theorem k0_off525_inb : ∀ (v3734 : BitVec 32) (k0_hw263 : k0_chk263 v3734), ∀ a, (k0_off525 v3734) a + S1x1x1x128.size a ≤ S1x33344x1x128.size a := fun v3734 k0_hw263 => k0_hw263.1
theorem k0_off526_inb : ∀ (v3734 : BitVec 32) (k0_hw263 : k0_chk263 v3734), ∀ a, (k0_off526 v3734) a + S1x1x1x128.size a ≤ S1x33344x1x128.size a := fun v3734 k0_hw263 => k0_hw263.2

def k0_off527 (v3748 : BitVec 32) : Fin 4 → Nat :=
  let c0_3594 : Index := 0#32
  let v3749 : Index := Scalar.indexCast v3748
  let c0_3595 : Index := 0#32
  let c0_3596 : Index := 0#32
  ![0, v3749.toNat, 0, 0]

def k0_off528 (v3748 : BitVec 32) : Fin 4 → Nat :=
  let c0_3600 : Index := 0#32
  let c1_i32_3599 : BitVec 32 := 1#32
  let v3755 : BitVec 32 := Scalar.addi v3748 c1_i32_3599
  let v3756 : Index := Scalar.indexCast v3755
  let c0_3601 : Index := 0#32
  let c0_3602 : Index := 0#32
  ![0, v3756.toNat, 0, 0]

def k0_chk264 (v3748 : BitVec 32) : Prop :=
  (∀ a, (k0_off527 v3748) a + S1x1x1x128.size a ≤ S1x33344x1x128.size a) ∧
  (∀ a, (k0_off528 v3748) a + S1x1x1x128.size a ≤ S1x33344x1x128.size a)
theorem k0_off527_inb : ∀ (v3748 : BitVec 32) (k0_hw264 : k0_chk264 v3748), ∀ a, (k0_off527 v3748) a + S1x1x1x128.size a ≤ S1x33344x1x128.size a := fun v3748 k0_hw264 => k0_hw264.1
theorem k0_off528_inb : ∀ (v3748 : BitVec 32) (k0_hw264 : k0_chk264 v3748), ∀ a, (k0_off528 v3748) a + S1x1x1x128.size a ≤ S1x33344x1x128.size a := fun v3748 k0_hw264 => k0_hw264.2

def k0_off529 (v3762 : BitVec 32) : Fin 4 → Nat :=
  let c0_3608 : Index := 0#32
  let v3763 : Index := Scalar.indexCast v3762
  let c0_3609 : Index := 0#32
  let c0_3610 : Index := 0#32
  ![0, v3763.toNat, 0, 0]

def k0_off530 (v3762 : BitVec 32) : Fin 4 → Nat :=
  let c0_3614 : Index := 0#32
  let c1_i32_3613 : BitVec 32 := 1#32
  let v3769 : BitVec 32 := Scalar.addi v3762 c1_i32_3613
  let v3770 : Index := Scalar.indexCast v3769
  let c0_3615 : Index := 0#32
  let c0_3616 : Index := 0#32
  ![0, v3770.toNat, 0, 0]

def k0_chk265 (v3762 : BitVec 32) : Prop :=
  (∀ a, (k0_off529 v3762) a + S1x1x1x128.size a ≤ S1x33344x1x128.size a) ∧
  (∀ a, (k0_off530 v3762) a + S1x1x1x128.size a ≤ S1x33344x1x128.size a)
theorem k0_off529_inb : ∀ (v3762 : BitVec 32) (k0_hw265 : k0_chk265 v3762), ∀ a, (k0_off529 v3762) a + S1x1x1x128.size a ≤ S1x33344x1x128.size a := fun v3762 k0_hw265 => k0_hw265.1
theorem k0_off530_inb : ∀ (v3762 : BitVec 32) (k0_hw265 : k0_chk265 v3762), ∀ a, (k0_off530 v3762) a + S1x1x1x128.size a ≤ S1x33344x1x128.size a := fun v3762 k0_hw265 => k0_hw265.2

def k0_off531 (v3776 : BitVec 32) : Fin 4 → Nat :=
  let c0_3622 : Index := 0#32
  let v3777 : Index := Scalar.indexCast v3776
  let c0_3623 : Index := 0#32
  let c0_3624 : Index := 0#32
  ![0, v3777.toNat, 0, 0]

def k0_off532 (v3776 : BitVec 32) : Fin 4 → Nat :=
  let c0_3628 : Index := 0#32
  let c1_i32_3627 : BitVec 32 := 1#32
  let v3783 : BitVec 32 := Scalar.addi v3776 c1_i32_3627
  let v3784 : Index := Scalar.indexCast v3783
  let c0_3629 : Index := 0#32
  let c0_3630 : Index := 0#32
  ![0, v3784.toNat, 0, 0]

def k0_chk266 (v3776 : BitVec 32) : Prop :=
  (∀ a, (k0_off531 v3776) a + S1x1x1x128.size a ≤ S1x33344x1x128.size a) ∧
  (∀ a, (k0_off532 v3776) a + S1x1x1x128.size a ≤ S1x33344x1x128.size a)
theorem k0_off531_inb : ∀ (v3776 : BitVec 32) (k0_hw266 : k0_chk266 v3776), ∀ a, (k0_off531 v3776) a + S1x1x1x128.size a ≤ S1x33344x1x128.size a := fun v3776 k0_hw266 => k0_hw266.1
theorem k0_off532_inb : ∀ (v3776 : BitVec 32) (k0_hw266 : k0_chk266 v3776), ∀ a, (k0_off532 v3776) a + S1x1x1x128.size a ≤ S1x33344x1x128.size a := fun v3776 k0_hw266 => k0_hw266.2

def k0_off533 (v3790 : BitVec 32) : Fin 4 → Nat :=
  let c0_3636 : Index := 0#32
  let v3791 : Index := Scalar.indexCast v3790
  let c0_3637 : Index := 0#32
  let c0_3638 : Index := 0#32
  ![0, v3791.toNat, 0, 0]

def k0_off534 (v3790 : BitVec 32) : Fin 4 → Nat :=
  let c0_3642 : Index := 0#32
  let c1_i32_3641 : BitVec 32 := 1#32
  let v3797 : BitVec 32 := Scalar.addi v3790 c1_i32_3641
  let v3798 : Index := Scalar.indexCast v3797
  let c0_3643 : Index := 0#32
  let c0_3644 : Index := 0#32
  ![0, v3798.toNat, 0, 0]

def k0_chk267 (v3790 : BitVec 32) : Prop :=
  (∀ a, (k0_off533 v3790) a + S1x1x1x128.size a ≤ S1x33344x1x128.size a) ∧
  (∀ a, (k0_off534 v3790) a + S1x1x1x128.size a ≤ S1x33344x1x128.size a)
theorem k0_off533_inb : ∀ (v3790 : BitVec 32) (k0_hw267 : k0_chk267 v3790), ∀ a, (k0_off533 v3790) a + S1x1x1x128.size a ≤ S1x33344x1x128.size a := fun v3790 k0_hw267 => k0_hw267.1
theorem k0_off534_inb : ∀ (v3790 : BitVec 32) (k0_hw267 : k0_chk267 v3790), ∀ a, (k0_off534 v3790) a + S1x1x1x128.size a ≤ S1x33344x1x128.size a := fun v3790 k0_hw267 => k0_hw267.2

def k0_off535 (v3804 : BitVec 32) : Fin 4 → Nat :=
  let c0_3650 : Index := 0#32
  let v3805 : Index := Scalar.indexCast v3804
  let c0_3651 : Index := 0#32
  let c0_3652 : Index := 0#32
  ![0, v3805.toNat, 0, 0]

def k0_off536 (v3804 : BitVec 32) : Fin 4 → Nat :=
  let c0_3656 : Index := 0#32
  let c1_i32_3655 : BitVec 32 := 1#32
  let v3811 : BitVec 32 := Scalar.addi v3804 c1_i32_3655
  let v3812 : Index := Scalar.indexCast v3811
  let c0_3657 : Index := 0#32
  let c0_3658 : Index := 0#32
  ![0, v3812.toNat, 0, 0]

def k0_chk268 (v3804 : BitVec 32) : Prop :=
  (∀ a, (k0_off535 v3804) a + S1x1x1x128.size a ≤ S1x33344x1x128.size a) ∧
  (∀ a, (k0_off536 v3804) a + S1x1x1x128.size a ≤ S1x33344x1x128.size a)
theorem k0_off535_inb : ∀ (v3804 : BitVec 32) (k0_hw268 : k0_chk268 v3804), ∀ a, (k0_off535 v3804) a + S1x1x1x128.size a ≤ S1x33344x1x128.size a := fun v3804 k0_hw268 => k0_hw268.1
theorem k0_off536_inb : ∀ (v3804 : BitVec 32) (k0_hw268 : k0_chk268 v3804), ∀ a, (k0_off536 v3804) a + S1x1x1x128.size a ≤ S1x33344x1x128.size a := fun v3804 k0_hw268 => k0_hw268.2

def k0_off537 (v3818 : BitVec 32) : Fin 4 → Nat :=
  let c0_3664 : Index := 0#32
  let v3819 : Index := Scalar.indexCast v3818
  let c0_3665 : Index := 0#32
  let c0_3666 : Index := 0#32
  ![0, v3819.toNat, 0, 0]

def k0_off538 (v3818 : BitVec 32) : Fin 4 → Nat :=
  let c0_3670 : Index := 0#32
  let c1_i32_3669 : BitVec 32 := 1#32
  let v3825 : BitVec 32 := Scalar.addi v3818 c1_i32_3669
  let v3826 : Index := Scalar.indexCast v3825
  let c0_3671 : Index := 0#32
  let c0_3672 : Index := 0#32
  ![0, v3826.toNat, 0, 0]

def k0_chk269 (v3818 : BitVec 32) : Prop :=
  (∀ a, (k0_off537 v3818) a + S1x1x1x128.size a ≤ S1x33344x1x128.size a) ∧
  (∀ a, (k0_off538 v3818) a + S1x1x1x128.size a ≤ S1x33344x1x128.size a)
theorem k0_off537_inb : ∀ (v3818 : BitVec 32) (k0_hw269 : k0_chk269 v3818), ∀ a, (k0_off537 v3818) a + S1x1x1x128.size a ≤ S1x33344x1x128.size a := fun v3818 k0_hw269 => k0_hw269.1
theorem k0_off538_inb : ∀ (v3818 : BitVec 32) (k0_hw269 : k0_chk269 v3818), ∀ a, (k0_off538 v3818) a + S1x1x1x128.size a ≤ S1x33344x1x128.size a := fun v3818 k0_hw269 => k0_hw269.2

def k0_off539 (v3832 : BitVec 32) : Fin 4 → Nat :=
  let c0_3678 : Index := 0#32
  let v3833 : Index := Scalar.indexCast v3832
  let c0_3679 : Index := 0#32
  let c0_3680 : Index := 0#32
  ![0, v3833.toNat, 0, 0]

def k0_off540 (v3832 : BitVec 32) : Fin 4 → Nat :=
  let c0_3684 : Index := 0#32
  let c1_i32_3683 : BitVec 32 := 1#32
  let v3839 : BitVec 32 := Scalar.addi v3832 c1_i32_3683
  let v3840 : Index := Scalar.indexCast v3839
  let c0_3685 : Index := 0#32
  let c0_3686 : Index := 0#32
  ![0, v3840.toNat, 0, 0]

def k0_chk270 (v3832 : BitVec 32) : Prop :=
  (∀ a, (k0_off539 v3832) a + S1x1x1x128.size a ≤ S1x33344x1x128.size a) ∧
  (∀ a, (k0_off540 v3832) a + S1x1x1x128.size a ≤ S1x33344x1x128.size a)
theorem k0_off539_inb : ∀ (v3832 : BitVec 32) (k0_hw270 : k0_chk270 v3832), ∀ a, (k0_off539 v3832) a + S1x1x1x128.size a ≤ S1x33344x1x128.size a := fun v3832 k0_hw270 => k0_hw270.1
theorem k0_off540_inb : ∀ (v3832 : BitVec 32) (k0_hw270 : k0_chk270 v3832), ∀ a, (k0_off540 v3832) a + S1x1x1x128.size a ≤ S1x33344x1x128.size a := fun v3832 k0_hw270 => k0_hw270.2

def k0_off541 (v3846 : BitVec 32) : Fin 4 → Nat :=
  let c0_3692 : Index := 0#32
  let v3847 : Index := Scalar.indexCast v3846
  let c0_3693 : Index := 0#32
  let c0_3694 : Index := 0#32
  ![0, v3847.toNat, 0, 0]

def k0_off542 (v3846 : BitVec 32) : Fin 4 → Nat :=
  let c0_3698 : Index := 0#32
  let c1_i32_3697 : BitVec 32 := 1#32
  let v3853 : BitVec 32 := Scalar.addi v3846 c1_i32_3697
  let v3854 : Index := Scalar.indexCast v3853
  let c0_3699 : Index := 0#32
  let c0_3700 : Index := 0#32
  ![0, v3854.toNat, 0, 0]

def k0_chk271 (v3846 : BitVec 32) : Prop :=
  (∀ a, (k0_off541 v3846) a + S1x1x1x128.size a ≤ S1x33344x1x128.size a) ∧
  (∀ a, (k0_off542 v3846) a + S1x1x1x128.size a ≤ S1x33344x1x128.size a)
theorem k0_off541_inb : ∀ (v3846 : BitVec 32) (k0_hw271 : k0_chk271 v3846), ∀ a, (k0_off541 v3846) a + S1x1x1x128.size a ≤ S1x33344x1x128.size a := fun v3846 k0_hw271 => k0_hw271.1
theorem k0_off542_inb : ∀ (v3846 : BitVec 32) (k0_hw271 : k0_chk271 v3846), ∀ a, (k0_off542 v3846) a + S1x1x1x128.size a ≤ S1x33344x1x128.size a := fun v3846 k0_hw271 => k0_hw271.2

def k0_off543 (v3860 : BitVec 32) : Fin 4 → Nat :=
  let c0_3706 : Index := 0#32
  let v3861 : Index := Scalar.indexCast v3860
  let c0_3707 : Index := 0#32
  let c0_3708 : Index := 0#32
  ![0, v3861.toNat, 0, 0]

def k0_off544 (v3860 : BitVec 32) : Fin 4 → Nat :=
  let c0_3712 : Index := 0#32
  let c1_i32_3711 : BitVec 32 := 1#32
  let v3867 : BitVec 32 := Scalar.addi v3860 c1_i32_3711
  let v3868 : Index := Scalar.indexCast v3867
  let c0_3713 : Index := 0#32
  let c0_3714 : Index := 0#32
  ![0, v3868.toNat, 0, 0]

def k0_chk272 (v3860 : BitVec 32) : Prop :=
  (∀ a, (k0_off543 v3860) a + S1x1x1x128.size a ≤ S1x33344x1x128.size a) ∧
  (∀ a, (k0_off544 v3860) a + S1x1x1x128.size a ≤ S1x33344x1x128.size a)
theorem k0_off543_inb : ∀ (v3860 : BitVec 32) (k0_hw272 : k0_chk272 v3860), ∀ a, (k0_off543 v3860) a + S1x1x1x128.size a ≤ S1x33344x1x128.size a := fun v3860 k0_hw272 => k0_hw272.1
theorem k0_off544_inb : ∀ (v3860 : BitVec 32) (k0_hw272 : k0_chk272 v3860), ∀ a, (k0_off544 v3860) a + S1x1x1x128.size a ≤ S1x33344x1x128.size a := fun v3860 k0_hw272 => k0_hw272.2

def k0_off545 (v3874 : BitVec 32) : Fin 4 → Nat :=
  let c0_3720 : Index := 0#32
  let v3875 : Index := Scalar.indexCast v3874
  let c0_3721 : Index := 0#32
  let c0_3722 : Index := 0#32
  ![0, v3875.toNat, 0, 0]

def k0_off546 (v3874 : BitVec 32) : Fin 4 → Nat :=
  let c0_3726 : Index := 0#32
  let c1_i32_3725 : BitVec 32 := 1#32
  let v3881 : BitVec 32 := Scalar.addi v3874 c1_i32_3725
  let v3882 : Index := Scalar.indexCast v3881
  let c0_3727 : Index := 0#32
  let c0_3728 : Index := 0#32
  ![0, v3882.toNat, 0, 0]

def k0_chk273 (v3874 : BitVec 32) : Prop :=
  (∀ a, (k0_off545 v3874) a + S1x1x1x128.size a ≤ S1x33344x1x128.size a) ∧
  (∀ a, (k0_off546 v3874) a + S1x1x1x128.size a ≤ S1x33344x1x128.size a)
theorem k0_off545_inb : ∀ (v3874 : BitVec 32) (k0_hw273 : k0_chk273 v3874), ∀ a, (k0_off545 v3874) a + S1x1x1x128.size a ≤ S1x33344x1x128.size a := fun v3874 k0_hw273 => k0_hw273.1
theorem k0_off546_inb : ∀ (v3874 : BitVec 32) (k0_hw273 : k0_chk273 v3874), ∀ a, (k0_off546 v3874) a + S1x1x1x128.size a ≤ S1x33344x1x128.size a := fun v3874 k0_hw273 => k0_hw273.2

def k0_off547 (v3888 : BitVec 32) : Fin 4 → Nat :=
  let c0_3734 : Index := 0#32
  let v3889 : Index := Scalar.indexCast v3888
  let c0_3735 : Index := 0#32
  let c0_3736 : Index := 0#32
  ![0, v3889.toNat, 0, 0]

def k0_off548 (v3888 : BitVec 32) : Fin 4 → Nat :=
  let c0_3740 : Index := 0#32
  let c1_i32_3739 : BitVec 32 := 1#32
  let v3895 : BitVec 32 := Scalar.addi v3888 c1_i32_3739
  let v3896 : Index := Scalar.indexCast v3895
  let c0_3741 : Index := 0#32
  let c0_3742 : Index := 0#32
  ![0, v3896.toNat, 0, 0]

def k0_chk274 (v3888 : BitVec 32) : Prop :=
  (∀ a, (k0_off547 v3888) a + S1x1x1x128.size a ≤ S1x33344x1x128.size a) ∧
  (∀ a, (k0_off548 v3888) a + S1x1x1x128.size a ≤ S1x33344x1x128.size a)
theorem k0_off547_inb : ∀ (v3888 : BitVec 32) (k0_hw274 : k0_chk274 v3888), ∀ a, (k0_off547 v3888) a + S1x1x1x128.size a ≤ S1x33344x1x128.size a := fun v3888 k0_hw274 => k0_hw274.1
theorem k0_off548_inb : ∀ (v3888 : BitVec 32) (k0_hw274 : k0_chk274 v3888), ∀ a, (k0_off548 v3888) a + S1x1x1x128.size a ≤ S1x33344x1x128.size a := fun v3888 k0_hw274 => k0_hw274.2

def k0_off549 (v3902 : BitVec 32) : Fin 4 → Nat :=
  let c0_3748 : Index := 0#32
  let v3903 : Index := Scalar.indexCast v3902
  let c0_3749 : Index := 0#32
  let c0_3750 : Index := 0#32
  ![0, v3903.toNat, 0, 0]

def k0_off550 (v3902 : BitVec 32) : Fin 4 → Nat :=
  let c0_3754 : Index := 0#32
  let c1_i32_3753 : BitVec 32 := 1#32
  let v3909 : BitVec 32 := Scalar.addi v3902 c1_i32_3753
  let v3910 : Index := Scalar.indexCast v3909
  let c0_3755 : Index := 0#32
  let c0_3756 : Index := 0#32
  ![0, v3910.toNat, 0, 0]

def k0_chk275 (v3902 : BitVec 32) : Prop :=
  (∀ a, (k0_off549 v3902) a + S1x1x1x128.size a ≤ S1x33344x1x128.size a) ∧
  (∀ a, (k0_off550 v3902) a + S1x1x1x128.size a ≤ S1x33344x1x128.size a)
theorem k0_off549_inb : ∀ (v3902 : BitVec 32) (k0_hw275 : k0_chk275 v3902), ∀ a, (k0_off549 v3902) a + S1x1x1x128.size a ≤ S1x33344x1x128.size a := fun v3902 k0_hw275 => k0_hw275.1
theorem k0_off550_inb : ∀ (v3902 : BitVec 32) (k0_hw275 : k0_chk275 v3902), ∀ a, (k0_off550 v3902) a + S1x1x1x128.size a ≤ S1x33344x1x128.size a := fun v3902 k0_hw275 => k0_hw275.2

def k0_off551 (v3916 : BitVec 32) : Fin 4 → Nat :=
  let c0_3762 : Index := 0#32
  let v3917 : Index := Scalar.indexCast v3916
  let c0_3763 : Index := 0#32
  let c0_3764 : Index := 0#32
  ![0, v3917.toNat, 0, 0]

def k0_off552 (v3916 : BitVec 32) : Fin 4 → Nat :=
  let c0_3768 : Index := 0#32
  let c1_i32_3767 : BitVec 32 := 1#32
  let v3923 : BitVec 32 := Scalar.addi v3916 c1_i32_3767
  let v3924 : Index := Scalar.indexCast v3923
  let c0_3769 : Index := 0#32
  let c0_3770 : Index := 0#32
  ![0, v3924.toNat, 0, 0]

def k0_chk276 (v3916 : BitVec 32) : Prop :=
  (∀ a, (k0_off551 v3916) a + S1x1x1x128.size a ≤ S1x33344x1x128.size a) ∧
  (∀ a, (k0_off552 v3916) a + S1x1x1x128.size a ≤ S1x33344x1x128.size a)
theorem k0_off551_inb : ∀ (v3916 : BitVec 32) (k0_hw276 : k0_chk276 v3916), ∀ a, (k0_off551 v3916) a + S1x1x1x128.size a ≤ S1x33344x1x128.size a := fun v3916 k0_hw276 => k0_hw276.1
theorem k0_off552_inb : ∀ (v3916 : BitVec 32) (k0_hw276 : k0_chk276 v3916), ∀ a, (k0_off552 v3916) a + S1x1x1x128.size a ≤ S1x33344x1x128.size a := fun v3916 k0_hw276 => k0_hw276.2

def k0_off553 (v3930 : BitVec 32) : Fin 4 → Nat :=
  let c0_3776 : Index := 0#32
  let v3931 : Index := Scalar.indexCast v3930
  let c0_3777 : Index := 0#32
  let c0_3778 : Index := 0#32
  ![0, v3931.toNat, 0, 0]

def k0_off554 (v3930 : BitVec 32) : Fin 4 → Nat :=
  let c0_3782 : Index := 0#32
  let c1_i32_3781 : BitVec 32 := 1#32
  let v3937 : BitVec 32 := Scalar.addi v3930 c1_i32_3781
  let v3938 : Index := Scalar.indexCast v3937
  let c0_3783 : Index := 0#32
  let c0_3784 : Index := 0#32
  ![0, v3938.toNat, 0, 0]

def k0_chk277 (v3930 : BitVec 32) : Prop :=
  (∀ a, (k0_off553 v3930) a + S1x1x1x128.size a ≤ S1x33344x1x128.size a) ∧
  (∀ a, (k0_off554 v3930) a + S1x1x1x128.size a ≤ S1x33344x1x128.size a)
theorem k0_off553_inb : ∀ (v3930 : BitVec 32) (k0_hw277 : k0_chk277 v3930), ∀ a, (k0_off553 v3930) a + S1x1x1x128.size a ≤ S1x33344x1x128.size a := fun v3930 k0_hw277 => k0_hw277.1
theorem k0_off554_inb : ∀ (v3930 : BitVec 32) (k0_hw277 : k0_chk277 v3930), ∀ a, (k0_off554 v3930) a + S1x1x1x128.size a ≤ S1x33344x1x128.size a := fun v3930 k0_hw277 => k0_hw277.2

def k0_off555 (v3944 : BitVec 32) : Fin 4 → Nat :=
  let c0_3790 : Index := 0#32
  let v3945 : Index := Scalar.indexCast v3944
  let c0_3791 : Index := 0#32
  let c0_3792 : Index := 0#32
  ![0, v3945.toNat, 0, 0]

def k0_off556 (v3944 : BitVec 32) : Fin 4 → Nat :=
  let c0_3796 : Index := 0#32
  let c1_i32_3795 : BitVec 32 := 1#32
  let v3951 : BitVec 32 := Scalar.addi v3944 c1_i32_3795
  let v3952 : Index := Scalar.indexCast v3951
  let c0_3797 : Index := 0#32
  let c0_3798 : Index := 0#32
  ![0, v3952.toNat, 0, 0]

def k0_chk278 (v3944 : BitVec 32) : Prop :=
  (∀ a, (k0_off555 v3944) a + S1x1x1x128.size a ≤ S1x33344x1x128.size a) ∧
  (∀ a, (k0_off556 v3944) a + S1x1x1x128.size a ≤ S1x33344x1x128.size a)
theorem k0_off555_inb : ∀ (v3944 : BitVec 32) (k0_hw278 : k0_chk278 v3944), ∀ a, (k0_off555 v3944) a + S1x1x1x128.size a ≤ S1x33344x1x128.size a := fun v3944 k0_hw278 => k0_hw278.1
theorem k0_off556_inb : ∀ (v3944 : BitVec 32) (k0_hw278 : k0_chk278 v3944), ∀ a, (k0_off556 v3944) a + S1x1x1x128.size a ≤ S1x33344x1x128.size a := fun v3944 k0_hw278 => k0_hw278.2

def k0_off557 (v3958 : BitVec 32) : Fin 4 → Nat :=
  let c0_3804 : Index := 0#32
  let v3959 : Index := Scalar.indexCast v3958
  let c0_3805 : Index := 0#32
  let c0_3806 : Index := 0#32
  ![0, v3959.toNat, 0, 0]

def k0_off558 (v3958 : BitVec 32) : Fin 4 → Nat :=
  let c0_3810 : Index := 0#32
  let c1_i32_3809 : BitVec 32 := 1#32
  let v3965 : BitVec 32 := Scalar.addi v3958 c1_i32_3809
  let v3966 : Index := Scalar.indexCast v3965
  let c0_3811 : Index := 0#32
  let c0_3812 : Index := 0#32
  ![0, v3966.toNat, 0, 0]

def k0_chk279 (v3958 : BitVec 32) : Prop :=
  (∀ a, (k0_off557 v3958) a + S1x1x1x128.size a ≤ S1x33344x1x128.size a) ∧
  (∀ a, (k0_off558 v3958) a + S1x1x1x128.size a ≤ S1x33344x1x128.size a)
theorem k0_off557_inb : ∀ (v3958 : BitVec 32) (k0_hw279 : k0_chk279 v3958), ∀ a, (k0_off557 v3958) a + S1x1x1x128.size a ≤ S1x33344x1x128.size a := fun v3958 k0_hw279 => k0_hw279.1
theorem k0_off558_inb : ∀ (v3958 : BitVec 32) (k0_hw279 : k0_chk279 v3958), ∀ a, (k0_off558 v3958) a + S1x1x1x128.size a ≤ S1x33344x1x128.size a := fun v3958 k0_hw279 => k0_hw279.2

def k0_off559 (v3972 : BitVec 32) : Fin 4 → Nat :=
  let c0_3818 : Index := 0#32
  let v3973 : Index := Scalar.indexCast v3972
  let c0_3819 : Index := 0#32
  let c0_3820 : Index := 0#32
  ![0, v3973.toNat, 0, 0]

def k0_off560 (v3972 : BitVec 32) : Fin 4 → Nat :=
  let c0_3824 : Index := 0#32
  let c1_i32_3823 : BitVec 32 := 1#32
  let v3979 : BitVec 32 := Scalar.addi v3972 c1_i32_3823
  let v3980 : Index := Scalar.indexCast v3979
  let c0_3825 : Index := 0#32
  let c0_3826 : Index := 0#32
  ![0, v3980.toNat, 0, 0]

def k0_chk280 (v3972 : BitVec 32) : Prop :=
  (∀ a, (k0_off559 v3972) a + S1x1x1x128.size a ≤ S1x33344x1x128.size a) ∧
  (∀ a, (k0_off560 v3972) a + S1x1x1x128.size a ≤ S1x33344x1x128.size a)
theorem k0_off559_inb : ∀ (v3972 : BitVec 32) (k0_hw280 : k0_chk280 v3972), ∀ a, (k0_off559 v3972) a + S1x1x1x128.size a ≤ S1x33344x1x128.size a := fun v3972 k0_hw280 => k0_hw280.1
theorem k0_off560_inb : ∀ (v3972 : BitVec 32) (k0_hw280 : k0_chk280 v3972), ∀ a, (k0_off560 v3972) a + S1x1x1x128.size a ≤ S1x33344x1x128.size a := fun v3972 k0_hw280 => k0_hw280.2

def k0_off561 (v3986 : BitVec 32) : Fin 4 → Nat :=
  let c0_3832 : Index := 0#32
  let v3987 : Index := Scalar.indexCast v3986
  let c0_3833 : Index := 0#32
  let c0_3834 : Index := 0#32
  ![0, v3987.toNat, 0, 0]

def k0_off562 (v3986 : BitVec 32) : Fin 4 → Nat :=
  let c0_3838 : Index := 0#32
  let c1_i32_3837 : BitVec 32 := 1#32
  let v3993 : BitVec 32 := Scalar.addi v3986 c1_i32_3837
  let v3994 : Index := Scalar.indexCast v3993
  let c0_3839 : Index := 0#32
  let c0_3840 : Index := 0#32
  ![0, v3994.toNat, 0, 0]

def k0_chk281 (v3986 : BitVec 32) : Prop :=
  (∀ a, (k0_off561 v3986) a + S1x1x1x128.size a ≤ S1x33344x1x128.size a) ∧
  (∀ a, (k0_off562 v3986) a + S1x1x1x128.size a ≤ S1x33344x1x128.size a)
theorem k0_off561_inb : ∀ (v3986 : BitVec 32) (k0_hw281 : k0_chk281 v3986), ∀ a, (k0_off561 v3986) a + S1x1x1x128.size a ≤ S1x33344x1x128.size a := fun v3986 k0_hw281 => k0_hw281.1
theorem k0_off562_inb : ∀ (v3986 : BitVec 32) (k0_hw281 : k0_chk281 v3986), ∀ a, (k0_off562 v3986) a + S1x1x1x128.size a ≤ S1x33344x1x128.size a := fun v3986 k0_hw281 => k0_hw281.2

def k0_off563 (v4000 : BitVec 32) : Fin 4 → Nat :=
  let c0_3846 : Index := 0#32
  let v4001 : Index := Scalar.indexCast v4000
  let c0_3847 : Index := 0#32
  let c0_3848 : Index := 0#32
  ![0, v4001.toNat, 0, 0]

def k0_off564 (v4000 : BitVec 32) : Fin 4 → Nat :=
  let c0_3852 : Index := 0#32
  let c1_i32_3851 : BitVec 32 := 1#32
  let v4007 : BitVec 32 := Scalar.addi v4000 c1_i32_3851
  let v4008 : Index := Scalar.indexCast v4007
  let c0_3853 : Index := 0#32
  let c0_3854 : Index := 0#32
  ![0, v4008.toNat, 0, 0]

def k0_chk282 (v4000 : BitVec 32) : Prop :=
  (∀ a, (k0_off563 v4000) a + S1x1x1x128.size a ≤ S1x33344x1x128.size a) ∧
  (∀ a, (k0_off564 v4000) a + S1x1x1x128.size a ≤ S1x33344x1x128.size a)
theorem k0_off563_inb : ∀ (v4000 : BitVec 32) (k0_hw282 : k0_chk282 v4000), ∀ a, (k0_off563 v4000) a + S1x1x1x128.size a ≤ S1x33344x1x128.size a := fun v4000 k0_hw282 => k0_hw282.1
theorem k0_off564_inb : ∀ (v4000 : BitVec 32) (k0_hw282 : k0_chk282 v4000), ∀ a, (k0_off564 v4000) a + S1x1x1x128.size a ≤ S1x33344x1x128.size a := fun v4000 k0_hw282 => k0_hw282.2

def k0_off565 (v4014 : BitVec 32) : Fin 4 → Nat :=
  let c0_3860 : Index := 0#32
  let v4015 : Index := Scalar.indexCast v4014
  let c0_3861 : Index := 0#32
  let c0_3862 : Index := 0#32
  ![0, v4015.toNat, 0, 0]

def k0_off566 (v4014 : BitVec 32) : Fin 4 → Nat :=
  let c0_3866 : Index := 0#32
  let c1_i32_3865 : BitVec 32 := 1#32
  let v4021 : BitVec 32 := Scalar.addi v4014 c1_i32_3865
  let v4022 : Index := Scalar.indexCast v4021
  let c0_3867 : Index := 0#32
  let c0_3868 : Index := 0#32
  ![0, v4022.toNat, 0, 0]

def k0_chk283 (v4014 : BitVec 32) : Prop :=
  (∀ a, (k0_off565 v4014) a + S1x1x1x128.size a ≤ S1x33344x1x128.size a) ∧
  (∀ a, (k0_off566 v4014) a + S1x1x1x128.size a ≤ S1x33344x1x128.size a)
theorem k0_off565_inb : ∀ (v4014 : BitVec 32) (k0_hw283 : k0_chk283 v4014), ∀ a, (k0_off565 v4014) a + S1x1x1x128.size a ≤ S1x33344x1x128.size a := fun v4014 k0_hw283 => k0_hw283.1
theorem k0_off566_inb : ∀ (v4014 : BitVec 32) (k0_hw283 : k0_chk283 v4014), ∀ a, (k0_off566 v4014) a + S1x1x1x128.size a ≤ S1x33344x1x128.size a := fun v4014 k0_hw283 => k0_hw283.2

def k0_off567 (v4028 : BitVec 32) : Fin 4 → Nat :=
  let c0_3874 : Index := 0#32
  let v4029 : Index := Scalar.indexCast v4028
  let c0_3875 : Index := 0#32
  let c0_3876 : Index := 0#32
  ![0, v4029.toNat, 0, 0]

def k0_off568 (v4028 : BitVec 32) : Fin 4 → Nat :=
  let c0_3880 : Index := 0#32
  let c1_i32_3879 : BitVec 32 := 1#32
  let v4035 : BitVec 32 := Scalar.addi v4028 c1_i32_3879
  let v4036 : Index := Scalar.indexCast v4035
  let c0_3881 : Index := 0#32
  let c0_3882 : Index := 0#32
  ![0, v4036.toNat, 0, 0]

def k0_chk284 (v4028 : BitVec 32) : Prop :=
  (∀ a, (k0_off567 v4028) a + S1x1x1x128.size a ≤ S1x33344x1x128.size a) ∧
  (∀ a, (k0_off568 v4028) a + S1x1x1x128.size a ≤ S1x33344x1x128.size a)
theorem k0_off567_inb : ∀ (v4028 : BitVec 32) (k0_hw284 : k0_chk284 v4028), ∀ a, (k0_off567 v4028) a + S1x1x1x128.size a ≤ S1x33344x1x128.size a := fun v4028 k0_hw284 => k0_hw284.1
theorem k0_off568_inb : ∀ (v4028 : BitVec 32) (k0_hw284 : k0_chk284 v4028), ∀ a, (k0_off568 v4028) a + S1x1x1x128.size a ≤ S1x33344x1x128.size a := fun v4028 k0_hw284 => k0_hw284.2

def k0_off569 (v4042 : BitVec 32) : Fin 4 → Nat :=
  let c0_3888 : Index := 0#32
  let v4043 : Index := Scalar.indexCast v4042
  let c0_3889 : Index := 0#32
  let c0_3890 : Index := 0#32
  ![0, v4043.toNat, 0, 0]

def k0_off570 (v4042 : BitVec 32) : Fin 4 → Nat :=
  let c0_3894 : Index := 0#32
  let c1_i32_3893 : BitVec 32 := 1#32
  let v4049 : BitVec 32 := Scalar.addi v4042 c1_i32_3893
  let v4050 : Index := Scalar.indexCast v4049
  let c0_3895 : Index := 0#32
  let c0_3896 : Index := 0#32
  ![0, v4050.toNat, 0, 0]

def k0_chk285 (v4042 : BitVec 32) : Prop :=
  (∀ a, (k0_off569 v4042) a + S1x1x1x128.size a ≤ S1x33344x1x128.size a) ∧
  (∀ a, (k0_off570 v4042) a + S1x1x1x128.size a ≤ S1x33344x1x128.size a)
theorem k0_off569_inb : ∀ (v4042 : BitVec 32) (k0_hw285 : k0_chk285 v4042), ∀ a, (k0_off569 v4042) a + S1x1x1x128.size a ≤ S1x33344x1x128.size a := fun v4042 k0_hw285 => k0_hw285.1
theorem k0_off570_inb : ∀ (v4042 : BitVec 32) (k0_hw285 : k0_chk285 v4042), ∀ a, (k0_off570 v4042) a + S1x1x1x128.size a ≤ S1x33344x1x128.size a := fun v4042 k0_hw285 => k0_hw285.2

def k0_off571 (v4056 : BitVec 32) : Fin 4 → Nat :=
  let c0_3902 : Index := 0#32
  let v4057 : Index := Scalar.indexCast v4056
  let c0_3903 : Index := 0#32
  let c0_3904 : Index := 0#32
  ![0, v4057.toNat, 0, 0]

def k0_off572 (v4056 : BitVec 32) : Fin 4 → Nat :=
  let c0_3908 : Index := 0#32
  let c1_i32_3907 : BitVec 32 := 1#32
  let v4063 : BitVec 32 := Scalar.addi v4056 c1_i32_3907
  let v4064 : Index := Scalar.indexCast v4063
  let c0_3909 : Index := 0#32
  let c0_3910 : Index := 0#32
  ![0, v4064.toNat, 0, 0]

def k0_chk286 (v4056 : BitVec 32) : Prop :=
  (∀ a, (k0_off571 v4056) a + S1x1x1x128.size a ≤ S1x33344x1x128.size a) ∧
  (∀ a, (k0_off572 v4056) a + S1x1x1x128.size a ≤ S1x33344x1x128.size a)
theorem k0_off571_inb : ∀ (v4056 : BitVec 32) (k0_hw286 : k0_chk286 v4056), ∀ a, (k0_off571 v4056) a + S1x1x1x128.size a ≤ S1x33344x1x128.size a := fun v4056 k0_hw286 => k0_hw286.1
theorem k0_off572_inb : ∀ (v4056 : BitVec 32) (k0_hw286 : k0_chk286 v4056), ∀ a, (k0_off572 v4056) a + S1x1x1x128.size a ≤ S1x33344x1x128.size a := fun v4056 k0_hw286 => k0_hw286.2

def k0_off573 (v4070 : BitVec 32) : Fin 4 → Nat :=
  let c0_3916 : Index := 0#32
  let v4071 : Index := Scalar.indexCast v4070
  let c0_3917 : Index := 0#32
  let c0_3918 : Index := 0#32
  ![0, v4071.toNat, 0, 0]

def k0_off574 (v4070 : BitVec 32) : Fin 4 → Nat :=
  let c0_3922 : Index := 0#32
  let c1_i32_3921 : BitVec 32 := 1#32
  let v4077 : BitVec 32 := Scalar.addi v4070 c1_i32_3921
  let v4078 : Index := Scalar.indexCast v4077
  let c0_3923 : Index := 0#32
  let c0_3924 : Index := 0#32
  ![0, v4078.toNat, 0, 0]

def k0_chk287 (v4070 : BitVec 32) : Prop :=
  (∀ a, (k0_off573 v4070) a + S1x1x1x128.size a ≤ S1x33344x1x128.size a) ∧
  (∀ a, (k0_off574 v4070) a + S1x1x1x128.size a ≤ S1x33344x1x128.size a)
theorem k0_off573_inb : ∀ (v4070 : BitVec 32) (k0_hw287 : k0_chk287 v4070), ∀ a, (k0_off573 v4070) a + S1x1x1x128.size a ≤ S1x33344x1x128.size a := fun v4070 k0_hw287 => k0_hw287.1
theorem k0_off574_inb : ∀ (v4070 : BitVec 32) (k0_hw287 : k0_chk287 v4070), ∀ a, (k0_off574 v4070) a + S1x1x1x128.size a ≤ S1x33344x1x128.size a := fun v4070 k0_hw287 => k0_hw287.2

def k0_off575 (v4084 : BitVec 32) : Fin 4 → Nat :=
  let c0_3930 : Index := 0#32
  let v4085 : Index := Scalar.indexCast v4084
  let c0_3931 : Index := 0#32
  let c0_3932 : Index := 0#32
  ![0, v4085.toNat, 0, 0]

def k0_off576 (v4084 : BitVec 32) : Fin 4 → Nat :=
  let c0_3936 : Index := 0#32
  let c1_i32_3935 : BitVec 32 := 1#32
  let v4091 : BitVec 32 := Scalar.addi v4084 c1_i32_3935
  let v4092 : Index := Scalar.indexCast v4091
  let c0_3937 : Index := 0#32
  let c0_3938 : Index := 0#32
  ![0, v4092.toNat, 0, 0]

def k0_chk288 (v4084 : BitVec 32) : Prop :=
  (∀ a, (k0_off575 v4084) a + S1x1x1x128.size a ≤ S1x33344x1x128.size a) ∧
  (∀ a, (k0_off576 v4084) a + S1x1x1x128.size a ≤ S1x33344x1x128.size a)
theorem k0_off575_inb : ∀ (v4084 : BitVec 32) (k0_hw288 : k0_chk288 v4084), ∀ a, (k0_off575 v4084) a + S1x1x1x128.size a ≤ S1x33344x1x128.size a := fun v4084 k0_hw288 => k0_hw288.1
theorem k0_off576_inb : ∀ (v4084 : BitVec 32) (k0_hw288 : k0_chk288 v4084), ∀ a, (k0_off576 v4084) a + S1x1x1x128.size a ≤ S1x33344x1x128.size a := fun v4084 k0_hw288 => k0_hw288.2

def k0_off577 (v4098 : BitVec 32) : Fin 4 → Nat :=
  let c0_3944 : Index := 0#32
  let v4099 : Index := Scalar.indexCast v4098
  let c0_3945 : Index := 0#32
  let c0_3946 : Index := 0#32
  ![0, v4099.toNat, 0, 0]

def k0_off578 (v4098 : BitVec 32) : Fin 4 → Nat :=
  let c0_3950 : Index := 0#32
  let c1_i32_3949 : BitVec 32 := 1#32
  let v4105 : BitVec 32 := Scalar.addi v4098 c1_i32_3949
  let v4106 : Index := Scalar.indexCast v4105
  let c0_3951 : Index := 0#32
  let c0_3952 : Index := 0#32
  ![0, v4106.toNat, 0, 0]

def k0_chk289 (v4098 : BitVec 32) : Prop :=
  (∀ a, (k0_off577 v4098) a + S1x1x1x128.size a ≤ S1x33344x1x128.size a) ∧
  (∀ a, (k0_off578 v4098) a + S1x1x1x128.size a ≤ S1x33344x1x128.size a)
theorem k0_off577_inb : ∀ (v4098 : BitVec 32) (k0_hw289 : k0_chk289 v4098), ∀ a, (k0_off577 v4098) a + S1x1x1x128.size a ≤ S1x33344x1x128.size a := fun v4098 k0_hw289 => k0_hw289.1
theorem k0_off578_inb : ∀ (v4098 : BitVec 32) (k0_hw289 : k0_chk289 v4098), ∀ a, (k0_off578 v4098) a + S1x1x1x128.size a ≤ S1x33344x1x128.size a := fun v4098 k0_hw289 => k0_hw289.2

def k0_off579 (v4112 : BitVec 32) : Fin 4 → Nat :=
  let c0_3958 : Index := 0#32
  let v4113 : Index := Scalar.indexCast v4112
  let c0_3959 : Index := 0#32
  let c0_3960 : Index := 0#32
  ![0, v4113.toNat, 0, 0]

def k0_off580 (v4112 : BitVec 32) : Fin 4 → Nat :=
  let c0_3964 : Index := 0#32
  let c1_i32_3963 : BitVec 32 := 1#32
  let v4119 : BitVec 32 := Scalar.addi v4112 c1_i32_3963
  let v4120 : Index := Scalar.indexCast v4119
  let c0_3965 : Index := 0#32
  let c0_3966 : Index := 0#32
  ![0, v4120.toNat, 0, 0]

def k0_chk290 (v4112 : BitVec 32) : Prop :=
  (∀ a, (k0_off579 v4112) a + S1x1x1x128.size a ≤ S1x33344x1x128.size a) ∧
  (∀ a, (k0_off580 v4112) a + S1x1x1x128.size a ≤ S1x33344x1x128.size a)
theorem k0_off579_inb : ∀ (v4112 : BitVec 32) (k0_hw290 : k0_chk290 v4112), ∀ a, (k0_off579 v4112) a + S1x1x1x128.size a ≤ S1x33344x1x128.size a := fun v4112 k0_hw290 => k0_hw290.1
theorem k0_off580_inb : ∀ (v4112 : BitVec 32) (k0_hw290 : k0_chk290 v4112), ∀ a, (k0_off580 v4112) a + S1x1x1x128.size a ≤ S1x33344x1x128.size a := fun v4112 k0_hw290 => k0_hw290.2

def k0_off581 (v4126 : BitVec 32) : Fin 4 → Nat :=
  let c0_3972 : Index := 0#32
  let v4127 : Index := Scalar.indexCast v4126
  let c0_3973 : Index := 0#32
  let c0_3974 : Index := 0#32
  ![0, v4127.toNat, 0, 0]

def k0_off582 (v4126 : BitVec 32) : Fin 4 → Nat :=
  let c0_3978 : Index := 0#32
  let c1_i32_3977 : BitVec 32 := 1#32
  let v4133 : BitVec 32 := Scalar.addi v4126 c1_i32_3977
  let v4134 : Index := Scalar.indexCast v4133
  let c0_3979 : Index := 0#32
  let c0_3980 : Index := 0#32
  ![0, v4134.toNat, 0, 0]

def k0_chk291 (v4126 : BitVec 32) : Prop :=
  (∀ a, (k0_off581 v4126) a + S1x1x1x128.size a ≤ S1x33344x1x128.size a) ∧
  (∀ a, (k0_off582 v4126) a + S1x1x1x128.size a ≤ S1x33344x1x128.size a)
theorem k0_off581_inb : ∀ (v4126 : BitVec 32) (k0_hw291 : k0_chk291 v4126), ∀ a, (k0_off581 v4126) a + S1x1x1x128.size a ≤ S1x33344x1x128.size a := fun v4126 k0_hw291 => k0_hw291.1
theorem k0_off582_inb : ∀ (v4126 : BitVec 32) (k0_hw291 : k0_chk291 v4126), ∀ a, (k0_off582 v4126) a + S1x1x1x128.size a ≤ S1x33344x1x128.size a := fun v4126 k0_hw291 => k0_hw291.2

def k0_off583 (v4140 : BitVec 32) : Fin 4 → Nat :=
  let c0_3986 : Index := 0#32
  let v4141 : Index := Scalar.indexCast v4140
  let c0_3987 : Index := 0#32
  let c0_3988 : Index := 0#32
  ![0, v4141.toNat, 0, 0]

def k0_off584 (v4140 : BitVec 32) : Fin 4 → Nat :=
  let c0_3992 : Index := 0#32
  let c1_i32_3991 : BitVec 32 := 1#32
  let v4147 : BitVec 32 := Scalar.addi v4140 c1_i32_3991
  let v4148 : Index := Scalar.indexCast v4147
  let c0_3993 : Index := 0#32
  let c0_3994 : Index := 0#32
  ![0, v4148.toNat, 0, 0]

def k0_chk292 (v4140 : BitVec 32) : Prop :=
  (∀ a, (k0_off583 v4140) a + S1x1x1x128.size a ≤ S1x33344x1x128.size a) ∧
  (∀ a, (k0_off584 v4140) a + S1x1x1x128.size a ≤ S1x33344x1x128.size a)
theorem k0_off583_inb : ∀ (v4140 : BitVec 32) (k0_hw292 : k0_chk292 v4140), ∀ a, (k0_off583 v4140) a + S1x1x1x128.size a ≤ S1x33344x1x128.size a := fun v4140 k0_hw292 => k0_hw292.1
theorem k0_off584_inb : ∀ (v4140 : BitVec 32) (k0_hw292 : k0_chk292 v4140), ∀ a, (k0_off584 v4140) a + S1x1x1x128.size a ≤ S1x33344x1x128.size a := fun v4140 k0_hw292 => k0_hw292.2

def k0_off585 (v4154 : BitVec 32) : Fin 4 → Nat :=
  let c0_4000 : Index := 0#32
  let v4155 : Index := Scalar.indexCast v4154
  let c0_4001 : Index := 0#32
  let c0_4002 : Index := 0#32
  ![0, v4155.toNat, 0, 0]

def k0_off586 (v4154 : BitVec 32) : Fin 4 → Nat :=
  let c0_4006 : Index := 0#32
  let c1_i32_4005 : BitVec 32 := 1#32
  let v4161 : BitVec 32 := Scalar.addi v4154 c1_i32_4005
  let v4162 : Index := Scalar.indexCast v4161
  let c0_4007 : Index := 0#32
  let c0_4008 : Index := 0#32
  ![0, v4162.toNat, 0, 0]

def k0_chk293 (v4154 : BitVec 32) : Prop :=
  (∀ a, (k0_off585 v4154) a + S1x1x1x128.size a ≤ S1x33344x1x128.size a) ∧
  (∀ a, (k0_off586 v4154) a + S1x1x1x128.size a ≤ S1x33344x1x128.size a)
theorem k0_off585_inb : ∀ (v4154 : BitVec 32) (k0_hw293 : k0_chk293 v4154), ∀ a, (k0_off585 v4154) a + S1x1x1x128.size a ≤ S1x33344x1x128.size a := fun v4154 k0_hw293 => k0_hw293.1
theorem k0_off586_inb : ∀ (v4154 : BitVec 32) (k0_hw293 : k0_chk293 v4154), ∀ a, (k0_off586 v4154) a + S1x1x1x128.size a ≤ S1x33344x1x128.size a := fun v4154 k0_hw293 => k0_hw293.2

def k0_off587 (v4168 : BitVec 32) : Fin 4 → Nat :=
  let c0_4014 : Index := 0#32
  let v4169 : Index := Scalar.indexCast v4168
  let c0_4015 : Index := 0#32
  let c0_4016 : Index := 0#32
  ![0, v4169.toNat, 0, 0]

def k0_off588 (v4168 : BitVec 32) : Fin 4 → Nat :=
  let c0_4020 : Index := 0#32
  let c1_i32_4019 : BitVec 32 := 1#32
  let v4175 : BitVec 32 := Scalar.addi v4168 c1_i32_4019
  let v4176 : Index := Scalar.indexCast v4175
  let c0_4021 : Index := 0#32
  let c0_4022 : Index := 0#32
  ![0, v4176.toNat, 0, 0]

def k0_chk294 (v4168 : BitVec 32) : Prop :=
  (∀ a, (k0_off587 v4168) a + S1x1x1x128.size a ≤ S1x33344x1x128.size a) ∧
  (∀ a, (k0_off588 v4168) a + S1x1x1x128.size a ≤ S1x33344x1x128.size a)
theorem k0_off587_inb : ∀ (v4168 : BitVec 32) (k0_hw294 : k0_chk294 v4168), ∀ a, (k0_off587 v4168) a + S1x1x1x128.size a ≤ S1x33344x1x128.size a := fun v4168 k0_hw294 => k0_hw294.1
theorem k0_off588_inb : ∀ (v4168 : BitVec 32) (k0_hw294 : k0_chk294 v4168), ∀ a, (k0_off588 v4168) a + S1x1x1x128.size a ≤ S1x33344x1x128.size a := fun v4168 k0_hw294 => k0_hw294.2

def k0_off589 (v4182 : BitVec 32) : Fin 4 → Nat :=
  let c0_4028 : Index := 0#32
  let v4183 : Index := Scalar.indexCast v4182
  let c0_4029 : Index := 0#32
  let c0_4030 : Index := 0#32
  ![0, v4183.toNat, 0, 0]

def k0_off590 (v4182 : BitVec 32) : Fin 4 → Nat :=
  let c0_4034 : Index := 0#32
  let c1_i32_4033 : BitVec 32 := 1#32
  let v4189 : BitVec 32 := Scalar.addi v4182 c1_i32_4033
  let v4190 : Index := Scalar.indexCast v4189
  let c0_4035 : Index := 0#32
  let c0_4036 : Index := 0#32
  ![0, v4190.toNat, 0, 0]

def k0_chk295 (v4182 : BitVec 32) : Prop :=
  (∀ a, (k0_off589 v4182) a + S1x1x1x128.size a ≤ S1x33344x1x128.size a) ∧
  (∀ a, (k0_off590 v4182) a + S1x1x1x128.size a ≤ S1x33344x1x128.size a)
theorem k0_off589_inb : ∀ (v4182 : BitVec 32) (k0_hw295 : k0_chk295 v4182), ∀ a, (k0_off589 v4182) a + S1x1x1x128.size a ≤ S1x33344x1x128.size a := fun v4182 k0_hw295 => k0_hw295.1
theorem k0_off590_inb : ∀ (v4182 : BitVec 32) (k0_hw295 : k0_chk295 v4182), ∀ a, (k0_off590 v4182) a + S1x1x1x128.size a ≤ S1x33344x1x128.size a := fun v4182 k0_hw295 => k0_hw295.2

def k0_off591 (v4196 : BitVec 32) : Fin 4 → Nat :=
  let c0_4042 : Index := 0#32
  let v4197 : Index := Scalar.indexCast v4196
  let c0_4043 : Index := 0#32
  let c0_4044 : Index := 0#32
  ![0, v4197.toNat, 0, 0]

def k0_off592 (v4196 : BitVec 32) : Fin 4 → Nat :=
  let c0_4048 : Index := 0#32
  let c1_i32_4047 : BitVec 32 := 1#32
  let v4203 : BitVec 32 := Scalar.addi v4196 c1_i32_4047
  let v4204 : Index := Scalar.indexCast v4203
  let c0_4049 : Index := 0#32
  let c0_4050 : Index := 0#32
  ![0, v4204.toNat, 0, 0]

def k0_chk296 (v4196 : BitVec 32) : Prop :=
  (∀ a, (k0_off591 v4196) a + S1x1x1x128.size a ≤ S1x33344x1x128.size a) ∧
  (∀ a, (k0_off592 v4196) a + S1x1x1x128.size a ≤ S1x33344x1x128.size a)
theorem k0_off591_inb : ∀ (v4196 : BitVec 32) (k0_hw296 : k0_chk296 v4196), ∀ a, (k0_off591 v4196) a + S1x1x1x128.size a ≤ S1x33344x1x128.size a := fun v4196 k0_hw296 => k0_hw296.1
theorem k0_off592_inb : ∀ (v4196 : BitVec 32) (k0_hw296 : k0_chk296 v4196), ∀ a, (k0_off592 v4196) a + S1x1x1x128.size a ≤ S1x33344x1x128.size a := fun v4196 k0_hw296 => k0_hw296.2

def k0_off593 (v4210 : BitVec 32) : Fin 4 → Nat :=
  let c0_4056 : Index := 0#32
  let v4211 : Index := Scalar.indexCast v4210
  let c0_4057 : Index := 0#32
  let c0_4058 : Index := 0#32
  ![0, v4211.toNat, 0, 0]

def k0_off594 (v4210 : BitVec 32) : Fin 4 → Nat :=
  let c0_4062 : Index := 0#32
  let c1_i32_4061 : BitVec 32 := 1#32
  let v4217 : BitVec 32 := Scalar.addi v4210 c1_i32_4061
  let v4218 : Index := Scalar.indexCast v4217
  let c0_4063 : Index := 0#32
  let c0_4064 : Index := 0#32
  ![0, v4218.toNat, 0, 0]

def k0_chk297 (v4210 : BitVec 32) : Prop :=
  (∀ a, (k0_off593 v4210) a + S1x1x1x128.size a ≤ S1x33344x1x128.size a) ∧
  (∀ a, (k0_off594 v4210) a + S1x1x1x128.size a ≤ S1x33344x1x128.size a)
theorem k0_off593_inb : ∀ (v4210 : BitVec 32) (k0_hw297 : k0_chk297 v4210), ∀ a, (k0_off593 v4210) a + S1x1x1x128.size a ≤ S1x33344x1x128.size a := fun v4210 k0_hw297 => k0_hw297.1
theorem k0_off594_inb : ∀ (v4210 : BitVec 32) (k0_hw297 : k0_chk297 v4210), ∀ a, (k0_off594 v4210) a + S1x1x1x128.size a ≤ S1x33344x1x128.size a := fun v4210 k0_hw297 => k0_hw297.2

def k0_off595 (v4224 : BitVec 32) : Fin 4 → Nat :=
  let c0_4070 : Index := 0#32
  let v4225 : Index := Scalar.indexCast v4224
  let c0_4071 : Index := 0#32
  let c0_4072 : Index := 0#32
  ![0, v4225.toNat, 0, 0]

def k0_off596 (v4224 : BitVec 32) : Fin 4 → Nat :=
  let c0_4076 : Index := 0#32
  let c1_i32_4075 : BitVec 32 := 1#32
  let v4231 : BitVec 32 := Scalar.addi v4224 c1_i32_4075
  let v4232 : Index := Scalar.indexCast v4231
  let c0_4077 : Index := 0#32
  let c0_4078 : Index := 0#32
  ![0, v4232.toNat, 0, 0]

def k0_chk298 (v4224 : BitVec 32) : Prop :=
  (∀ a, (k0_off595 v4224) a + S1x1x1x128.size a ≤ S1x33344x1x128.size a) ∧
  (∀ a, (k0_off596 v4224) a + S1x1x1x128.size a ≤ S1x33344x1x128.size a)
theorem k0_off595_inb : ∀ (v4224 : BitVec 32) (k0_hw298 : k0_chk298 v4224), ∀ a, (k0_off595 v4224) a + S1x1x1x128.size a ≤ S1x33344x1x128.size a := fun v4224 k0_hw298 => k0_hw298.1
theorem k0_off596_inb : ∀ (v4224 : BitVec 32) (k0_hw298 : k0_chk298 v4224), ∀ a, (k0_off596 v4224) a + S1x1x1x128.size a ≤ S1x33344x1x128.size a := fun v4224 k0_hw298 => k0_hw298.2

def k0_off597 (v4238 : BitVec 32) : Fin 4 → Nat :=
  let c0_4084 : Index := 0#32
  let v4239 : Index := Scalar.indexCast v4238
  let c0_4085 : Index := 0#32
  let c0_4086 : Index := 0#32
  ![0, v4239.toNat, 0, 0]

def k0_off598 (v4238 : BitVec 32) : Fin 4 → Nat :=
  let c0_4090 : Index := 0#32
  let c1_i32_4089 : BitVec 32 := 1#32
  let v4245 : BitVec 32 := Scalar.addi v4238 c1_i32_4089
  let v4246 : Index := Scalar.indexCast v4245
  let c0_4091 : Index := 0#32
  let c0_4092 : Index := 0#32
  ![0, v4246.toNat, 0, 0]

def k0_chk299 (v4238 : BitVec 32) : Prop :=
  (∀ a, (k0_off597 v4238) a + S1x1x1x128.size a ≤ S1x33344x1x128.size a) ∧
  (∀ a, (k0_off598 v4238) a + S1x1x1x128.size a ≤ S1x33344x1x128.size a)
theorem k0_off597_inb : ∀ (v4238 : BitVec 32) (k0_hw299 : k0_chk299 v4238), ∀ a, (k0_off597 v4238) a + S1x1x1x128.size a ≤ S1x33344x1x128.size a := fun v4238 k0_hw299 => k0_hw299.1
theorem k0_off598_inb : ∀ (v4238 : BitVec 32) (k0_hw299 : k0_chk299 v4238), ∀ a, (k0_off598 v4238) a + S1x1x1x128.size a ≤ S1x33344x1x128.size a := fun v4238 k0_hw299 => k0_hw299.2

def k0_off599 (v4252 : BitVec 32) : Fin 4 → Nat :=
  let c0_4098 : Index := 0#32
  let v4253 : Index := Scalar.indexCast v4252
  let c0_4099 : Index := 0#32
  let c0_4100 : Index := 0#32
  ![0, v4253.toNat, 0, 0]

def k0_off600 (v4252 : BitVec 32) : Fin 4 → Nat :=
  let c0_4104 : Index := 0#32
  let c1_i32_4103 : BitVec 32 := 1#32
  let v4259 : BitVec 32 := Scalar.addi v4252 c1_i32_4103
  let v4260 : Index := Scalar.indexCast v4259
  let c0_4105 : Index := 0#32
  let c0_4106 : Index := 0#32
  ![0, v4260.toNat, 0, 0]

def k0_chk300 (v4252 : BitVec 32) : Prop :=
  (∀ a, (k0_off599 v4252) a + S1x1x1x128.size a ≤ S1x33344x1x128.size a) ∧
  (∀ a, (k0_off600 v4252) a + S1x1x1x128.size a ≤ S1x33344x1x128.size a)
theorem k0_off599_inb : ∀ (v4252 : BitVec 32) (k0_hw300 : k0_chk300 v4252), ∀ a, (k0_off599 v4252) a + S1x1x1x128.size a ≤ S1x33344x1x128.size a := fun v4252 k0_hw300 => k0_hw300.1
theorem k0_off600_inb : ∀ (v4252 : BitVec 32) (k0_hw300 : k0_chk300 v4252), ∀ a, (k0_off600 v4252) a + S1x1x1x128.size a ≤ S1x33344x1x128.size a := fun v4252 k0_hw300 => k0_hw300.2

def k0_off601 (v4266 : BitVec 32) : Fin 4 → Nat :=
  let c0_4112 : Index := 0#32
  let v4267 : Index := Scalar.indexCast v4266
  let c0_4113 : Index := 0#32
  let c0_4114 : Index := 0#32
  ![0, v4267.toNat, 0, 0]

def k0_off602 (v4266 : BitVec 32) : Fin 4 → Nat :=
  let c0_4118 : Index := 0#32
  let c1_i32_4117 : BitVec 32 := 1#32
  let v4273 : BitVec 32 := Scalar.addi v4266 c1_i32_4117
  let v4274 : Index := Scalar.indexCast v4273
  let c0_4119 : Index := 0#32
  let c0_4120 : Index := 0#32
  ![0, v4274.toNat, 0, 0]

def k0_chk301 (v4266 : BitVec 32) : Prop :=
  (∀ a, (k0_off601 v4266) a + S1x1x1x128.size a ≤ S1x33344x1x128.size a) ∧
  (∀ a, (k0_off602 v4266) a + S1x1x1x128.size a ≤ S1x33344x1x128.size a)
theorem k0_off601_inb : ∀ (v4266 : BitVec 32) (k0_hw301 : k0_chk301 v4266), ∀ a, (k0_off601 v4266) a + S1x1x1x128.size a ≤ S1x33344x1x128.size a := fun v4266 k0_hw301 => k0_hw301.1
theorem k0_off602_inb : ∀ (v4266 : BitVec 32) (k0_hw301 : k0_chk301 v4266), ∀ a, (k0_off602 v4266) a + S1x1x1x128.size a ≤ S1x33344x1x128.size a := fun v4266 k0_hw301 => k0_hw301.2

def k0_off603 (v4280 : BitVec 32) : Fin 4 → Nat :=
  let c0_4126 : Index := 0#32
  let v4281 : Index := Scalar.indexCast v4280
  let c0_4127 : Index := 0#32
  let c0_4128 : Index := 0#32
  ![0, v4281.toNat, 0, 0]

def k0_off604 (v4280 : BitVec 32) : Fin 4 → Nat :=
  let c0_4132 : Index := 0#32
  let c1_i32_4131 : BitVec 32 := 1#32
  let v4287 : BitVec 32 := Scalar.addi v4280 c1_i32_4131
  let v4288 : Index := Scalar.indexCast v4287
  let c0_4133 : Index := 0#32
  let c0_4134 : Index := 0#32
  ![0, v4288.toNat, 0, 0]

def k0_chk302 (v4280 : BitVec 32) : Prop :=
  (∀ a, (k0_off603 v4280) a + S1x1x1x128.size a ≤ S1x33344x1x128.size a) ∧
  (∀ a, (k0_off604 v4280) a + S1x1x1x128.size a ≤ S1x33344x1x128.size a)
theorem k0_off603_inb : ∀ (v4280 : BitVec 32) (k0_hw302 : k0_chk302 v4280), ∀ a, (k0_off603 v4280) a + S1x1x1x128.size a ≤ S1x33344x1x128.size a := fun v4280 k0_hw302 => k0_hw302.1
theorem k0_off604_inb : ∀ (v4280 : BitVec 32) (k0_hw302 : k0_chk302 v4280), ∀ a, (k0_off604 v4280) a + S1x1x1x128.size a ≤ S1x33344x1x128.size a := fun v4280 k0_hw302 => k0_hw302.2

def k0_off605 (v4294 : BitVec 32) : Fin 4 → Nat :=
  let c0_4140 : Index := 0#32
  let v4295 : Index := Scalar.indexCast v4294
  let c0_4141 : Index := 0#32
  let c0_4142 : Index := 0#32
  ![0, v4295.toNat, 0, 0]

def k0_off606 (v4294 : BitVec 32) : Fin 4 → Nat :=
  let c0_4146 : Index := 0#32
  let c1_i32_4145 : BitVec 32 := 1#32
  let v4301 : BitVec 32 := Scalar.addi v4294 c1_i32_4145
  let v4302 : Index := Scalar.indexCast v4301
  let c0_4147 : Index := 0#32
  let c0_4148 : Index := 0#32
  ![0, v4302.toNat, 0, 0]

def k0_chk303 (v4294 : BitVec 32) : Prop :=
  (∀ a, (k0_off605 v4294) a + S1x1x1x128.size a ≤ S1x33344x1x128.size a) ∧
  (∀ a, (k0_off606 v4294) a + S1x1x1x128.size a ≤ S1x33344x1x128.size a)
theorem k0_off605_inb : ∀ (v4294 : BitVec 32) (k0_hw303 : k0_chk303 v4294), ∀ a, (k0_off605 v4294) a + S1x1x1x128.size a ≤ S1x33344x1x128.size a := fun v4294 k0_hw303 => k0_hw303.1
theorem k0_off606_inb : ∀ (v4294 : BitVec 32) (k0_hw303 : k0_chk303 v4294), ∀ a, (k0_off606 v4294) a + S1x1x1x128.size a ≤ S1x33344x1x128.size a := fun v4294 k0_hw303 => k0_hw303.2

def k0_off607 (v4308 : BitVec 32) : Fin 4 → Nat :=
  let c0_4154 : Index := 0#32
  let v4309 : Index := Scalar.indexCast v4308
  let c0_4155 : Index := 0#32
  let c0_4156 : Index := 0#32
  ![0, v4309.toNat, 0, 0]

def k0_off608 (v4308 : BitVec 32) : Fin 4 → Nat :=
  let c0_4160 : Index := 0#32
  let c1_i32_4159 : BitVec 32 := 1#32
  let v4315 : BitVec 32 := Scalar.addi v4308 c1_i32_4159
  let v4316 : Index := Scalar.indexCast v4315
  let c0_4161 : Index := 0#32
  let c0_4162 : Index := 0#32
  ![0, v4316.toNat, 0, 0]

def k0_chk304 (v4308 : BitVec 32) : Prop :=
  (∀ a, (k0_off607 v4308) a + S1x1x1x128.size a ≤ S1x33344x1x128.size a) ∧
  (∀ a, (k0_off608 v4308) a + S1x1x1x128.size a ≤ S1x33344x1x128.size a)
theorem k0_off607_inb : ∀ (v4308 : BitVec 32) (k0_hw304 : k0_chk304 v4308), ∀ a, (k0_off607 v4308) a + S1x1x1x128.size a ≤ S1x33344x1x128.size a := fun v4308 k0_hw304 => k0_hw304.1
theorem k0_off608_inb : ∀ (v4308 : BitVec 32) (k0_hw304 : k0_chk304 v4308), ∀ a, (k0_off608 v4308) a + S1x1x1x128.size a ≤ S1x33344x1x128.size a := fun v4308 k0_hw304 => k0_hw304.2

def k0_off609 (v4322 : BitVec 32) : Fin 4 → Nat :=
  let c0_4168 : Index := 0#32
  let v4323 : Index := Scalar.indexCast v4322
  let c0_4169 : Index := 0#32
  let c0_4170 : Index := 0#32
  ![0, v4323.toNat, 0, 0]

def k0_off610 (v4322 : BitVec 32) : Fin 4 → Nat :=
  let c0_4174 : Index := 0#32
  let c1_i32_4173 : BitVec 32 := 1#32
  let v4329 : BitVec 32 := Scalar.addi v4322 c1_i32_4173
  let v4330 : Index := Scalar.indexCast v4329
  let c0_4175 : Index := 0#32
  let c0_4176 : Index := 0#32
  ![0, v4330.toNat, 0, 0]

def k0_chk305 (v4322 : BitVec 32) : Prop :=
  (∀ a, (k0_off609 v4322) a + S1x1x1x128.size a ≤ S1x33344x1x128.size a) ∧
  (∀ a, (k0_off610 v4322) a + S1x1x1x128.size a ≤ S1x33344x1x128.size a)
theorem k0_off609_inb : ∀ (v4322 : BitVec 32) (k0_hw305 : k0_chk305 v4322), ∀ a, (k0_off609 v4322) a + S1x1x1x128.size a ≤ S1x33344x1x128.size a := fun v4322 k0_hw305 => k0_hw305.1
theorem k0_off610_inb : ∀ (v4322 : BitVec 32) (k0_hw305 : k0_chk305 v4322), ∀ a, (k0_off610 v4322) a + S1x1x1x128.size a ≤ S1x33344x1x128.size a := fun v4322 k0_hw305 => k0_hw305.2

def k0_off611 (v4336 : BitVec 32) : Fin 4 → Nat :=
  let c0_4182 : Index := 0#32
  let v4337 : Index := Scalar.indexCast v4336
  let c0_4183 : Index := 0#32
  let c0_4184 : Index := 0#32
  ![0, v4337.toNat, 0, 0]

def k0_off612 (v4336 : BitVec 32) : Fin 4 → Nat :=
  let c0_4188 : Index := 0#32
  let c1_i32_4187 : BitVec 32 := 1#32
  let v4343 : BitVec 32 := Scalar.addi v4336 c1_i32_4187
  let v4344 : Index := Scalar.indexCast v4343
  let c0_4189 : Index := 0#32
  let c0_4190 : Index := 0#32
  ![0, v4344.toNat, 0, 0]

def k0_chk306 (v4336 : BitVec 32) : Prop :=
  (∀ a, (k0_off611 v4336) a + S1x1x1x128.size a ≤ S1x33344x1x128.size a) ∧
  (∀ a, (k0_off612 v4336) a + S1x1x1x128.size a ≤ S1x33344x1x128.size a)
theorem k0_off611_inb : ∀ (v4336 : BitVec 32) (k0_hw306 : k0_chk306 v4336), ∀ a, (k0_off611 v4336) a + S1x1x1x128.size a ≤ S1x33344x1x128.size a := fun v4336 k0_hw306 => k0_hw306.1
theorem k0_off612_inb : ∀ (v4336 : BitVec 32) (k0_hw306 : k0_chk306 v4336), ∀ a, (k0_off612 v4336) a + S1x1x1x128.size a ≤ S1x33344x1x128.size a := fun v4336 k0_hw306 => k0_hw306.2

def k0_off613 (v4350 : BitVec 32) : Fin 4 → Nat :=
  let c0_4196 : Index := 0#32
  let v4351 : Index := Scalar.indexCast v4350
  let c0_4197 : Index := 0#32
  let c0_4198 : Index := 0#32
  ![0, v4351.toNat, 0, 0]

def k0_off614 (v4350 : BitVec 32) : Fin 4 → Nat :=
  let c0_4202 : Index := 0#32
  let c1_i32_4201 : BitVec 32 := 1#32
  let v4357 : BitVec 32 := Scalar.addi v4350 c1_i32_4201
  let v4358 : Index := Scalar.indexCast v4357
  let c0_4203 : Index := 0#32
  let c0_4204 : Index := 0#32
  ![0, v4358.toNat, 0, 0]

def k0_chk307 (v4350 : BitVec 32) : Prop :=
  (∀ a, (k0_off613 v4350) a + S1x1x1x128.size a ≤ S1x33344x1x128.size a) ∧
  (∀ a, (k0_off614 v4350) a + S1x1x1x128.size a ≤ S1x33344x1x128.size a)
theorem k0_off613_inb : ∀ (v4350 : BitVec 32) (k0_hw307 : k0_chk307 v4350), ∀ a, (k0_off613 v4350) a + S1x1x1x128.size a ≤ S1x33344x1x128.size a := fun v4350 k0_hw307 => k0_hw307.1
theorem k0_off614_inb : ∀ (v4350 : BitVec 32) (k0_hw307 : k0_chk307 v4350), ∀ a, (k0_off614 v4350) a + S1x1x1x128.size a ≤ S1x33344x1x128.size a := fun v4350 k0_hw307 => k0_hw307.2

def k0_off615 (v4364 : BitVec 32) : Fin 4 → Nat :=
  let c0_4210 : Index := 0#32
  let v4365 : Index := Scalar.indexCast v4364
  let c0_4211 : Index := 0#32
  let c0_4212 : Index := 0#32
  ![0, v4365.toNat, 0, 0]

def k0_off616 (v4364 : BitVec 32) : Fin 4 → Nat :=
  let c0_4216 : Index := 0#32
  let c1_i32_4215 : BitVec 32 := 1#32
  let v4371 : BitVec 32 := Scalar.addi v4364 c1_i32_4215
  let v4372 : Index := Scalar.indexCast v4371
  let c0_4217 : Index := 0#32
  let c0_4218 : Index := 0#32
  ![0, v4372.toNat, 0, 0]

def k0_chk308 (v4364 : BitVec 32) : Prop :=
  (∀ a, (k0_off615 v4364) a + S1x1x1x128.size a ≤ S1x33344x1x128.size a) ∧
  (∀ a, (k0_off616 v4364) a + S1x1x1x128.size a ≤ S1x33344x1x128.size a)
theorem k0_off615_inb : ∀ (v4364 : BitVec 32) (k0_hw308 : k0_chk308 v4364), ∀ a, (k0_off615 v4364) a + S1x1x1x128.size a ≤ S1x33344x1x128.size a := fun v4364 k0_hw308 => k0_hw308.1
theorem k0_off616_inb : ∀ (v4364 : BitVec 32) (k0_hw308 : k0_chk308 v4364), ∀ a, (k0_off616 v4364) a + S1x1x1x128.size a ≤ S1x33344x1x128.size a := fun v4364 k0_hw308 => k0_hw308.2

def k0_off617 (v4378 : BitVec 32) : Fin 4 → Nat :=
  let c0_4224 : Index := 0#32
  let v4379 : Index := Scalar.indexCast v4378
  let c0_4225 : Index := 0#32
  let c0_4226 : Index := 0#32
  ![0, v4379.toNat, 0, 0]

def k0_off618 (v4378 : BitVec 32) : Fin 4 → Nat :=
  let c0_4230 : Index := 0#32
  let c1_i32_4229 : BitVec 32 := 1#32
  let v4385 : BitVec 32 := Scalar.addi v4378 c1_i32_4229
  let v4386 : Index := Scalar.indexCast v4385
  let c0_4231 : Index := 0#32
  let c0_4232 : Index := 0#32
  ![0, v4386.toNat, 0, 0]

def k0_chk309 (v4378 : BitVec 32) : Prop :=
  (∀ a, (k0_off617 v4378) a + S1x1x1x128.size a ≤ S1x33344x1x128.size a) ∧
  (∀ a, (k0_off618 v4378) a + S1x1x1x128.size a ≤ S1x33344x1x128.size a)
theorem k0_off617_inb : ∀ (v4378 : BitVec 32) (k0_hw309 : k0_chk309 v4378), ∀ a, (k0_off617 v4378) a + S1x1x1x128.size a ≤ S1x33344x1x128.size a := fun v4378 k0_hw309 => k0_hw309.1
theorem k0_off618_inb : ∀ (v4378 : BitVec 32) (k0_hw309 : k0_chk309 v4378), ∀ a, (k0_off618 v4378) a + S1x1x1x128.size a ≤ S1x33344x1x128.size a := fun v4378 k0_hw309 => k0_hw309.2

def k0_off619 (v4392 : BitVec 32) : Fin 4 → Nat :=
  let c0_4238 : Index := 0#32
  let v4393 : Index := Scalar.indexCast v4392
  let c0_4239 : Index := 0#32
  let c0_4240 : Index := 0#32
  ![0, v4393.toNat, 0, 0]

def k0_off620 (v4392 : BitVec 32) : Fin 4 → Nat :=
  let c0_4244 : Index := 0#32
  let c1_i32_4243 : BitVec 32 := 1#32
  let v4399 : BitVec 32 := Scalar.addi v4392 c1_i32_4243
  let v4400 : Index := Scalar.indexCast v4399
  let c0_4245 : Index := 0#32
  let c0_4246 : Index := 0#32
  ![0, v4400.toNat, 0, 0]

def k0_chk310 (v4392 : BitVec 32) : Prop :=
  (∀ a, (k0_off619 v4392) a + S1x1x1x128.size a ≤ S1x33344x1x128.size a) ∧
  (∀ a, (k0_off620 v4392) a + S1x1x1x128.size a ≤ S1x33344x1x128.size a)
theorem k0_off619_inb : ∀ (v4392 : BitVec 32) (k0_hw310 : k0_chk310 v4392), ∀ a, (k0_off619 v4392) a + S1x1x1x128.size a ≤ S1x33344x1x128.size a := fun v4392 k0_hw310 => k0_hw310.1
theorem k0_off620_inb : ∀ (v4392 : BitVec 32) (k0_hw310 : k0_chk310 v4392), ∀ a, (k0_off620 v4392) a + S1x1x1x128.size a ≤ S1x33344x1x128.size a := fun v4392 k0_hw310 => k0_hw310.2

def k0_off621 (v4406 : BitVec 32) : Fin 4 → Nat :=
  let c0_4252 : Index := 0#32
  let v4407 : Index := Scalar.indexCast v4406
  let c0_4253 : Index := 0#32
  let c0_4254 : Index := 0#32
  ![0, v4407.toNat, 0, 0]

def k0_off622 (v4406 : BitVec 32) : Fin 4 → Nat :=
  let c0_4258 : Index := 0#32
  let c1_i32_4257 : BitVec 32 := 1#32
  let v4413 : BitVec 32 := Scalar.addi v4406 c1_i32_4257
  let v4414 : Index := Scalar.indexCast v4413
  let c0_4259 : Index := 0#32
  let c0_4260 : Index := 0#32
  ![0, v4414.toNat, 0, 0]

def k0_chk311 (v4406 : BitVec 32) : Prop :=
  (∀ a, (k0_off621 v4406) a + S1x1x1x128.size a ≤ S1x33344x1x128.size a) ∧
  (∀ a, (k0_off622 v4406) a + S1x1x1x128.size a ≤ S1x33344x1x128.size a)
theorem k0_off621_inb : ∀ (v4406 : BitVec 32) (k0_hw311 : k0_chk311 v4406), ∀ a, (k0_off621 v4406) a + S1x1x1x128.size a ≤ S1x33344x1x128.size a := fun v4406 k0_hw311 => k0_hw311.1
theorem k0_off622_inb : ∀ (v4406 : BitVec 32) (k0_hw311 : k0_chk311 v4406), ∀ a, (k0_off622 v4406) a + S1x1x1x128.size a ≤ S1x33344x1x128.size a := fun v4406 k0_hw311 => k0_hw311.2

def k0_off623 (v4420 : BitVec 32) : Fin 4 → Nat :=
  let c0_4266 : Index := 0#32
  let v4421 : Index := Scalar.indexCast v4420
  let c0_4267 : Index := 0#32
  let c0_4268 : Index := 0#32
  ![0, v4421.toNat, 0, 0]

def k0_off624 (v4420 : BitVec 32) : Fin 4 → Nat :=
  let c0_4272 : Index := 0#32
  let c1_i32_4271 : BitVec 32 := 1#32
  let v4427 : BitVec 32 := Scalar.addi v4420 c1_i32_4271
  let v4428 : Index := Scalar.indexCast v4427
  let c0_4273 : Index := 0#32
  let c0_4274 : Index := 0#32
  ![0, v4428.toNat, 0, 0]

def k0_chk312 (v4420 : BitVec 32) : Prop :=
  (∀ a, (k0_off623 v4420) a + S1x1x1x128.size a ≤ S1x33344x1x128.size a) ∧
  (∀ a, (k0_off624 v4420) a + S1x1x1x128.size a ≤ S1x33344x1x128.size a)
theorem k0_off623_inb : ∀ (v4420 : BitVec 32) (k0_hw312 : k0_chk312 v4420), ∀ a, (k0_off623 v4420) a + S1x1x1x128.size a ≤ S1x33344x1x128.size a := fun v4420 k0_hw312 => k0_hw312.1
theorem k0_off624_inb : ∀ (v4420 : BitVec 32) (k0_hw312 : k0_chk312 v4420), ∀ a, (k0_off624 v4420) a + S1x1x1x128.size a ≤ S1x33344x1x128.size a := fun v4420 k0_hw312 => k0_hw312.2

def k0_off625 (v4434 : BitVec 32) : Fin 4 → Nat :=
  let c0_4280 : Index := 0#32
  let v4435 : Index := Scalar.indexCast v4434
  let c0_4281 : Index := 0#32
  let c0_4282 : Index := 0#32
  ![0, v4435.toNat, 0, 0]

def k0_off626 (v4434 : BitVec 32) : Fin 4 → Nat :=
  let c0_4286 : Index := 0#32
  let c1_i32_4285 : BitVec 32 := 1#32
  let v4441 : BitVec 32 := Scalar.addi v4434 c1_i32_4285
  let v4442 : Index := Scalar.indexCast v4441
  let c0_4287 : Index := 0#32
  let c0_4288 : Index := 0#32
  ![0, v4442.toNat, 0, 0]

def k0_chk313 (v4434 : BitVec 32) : Prop :=
  (∀ a, (k0_off625 v4434) a + S1x1x1x128.size a ≤ S1x33344x1x128.size a) ∧
  (∀ a, (k0_off626 v4434) a + S1x1x1x128.size a ≤ S1x33344x1x128.size a)
theorem k0_off625_inb : ∀ (v4434 : BitVec 32) (k0_hw313 : k0_chk313 v4434), ∀ a, (k0_off625 v4434) a + S1x1x1x128.size a ≤ S1x33344x1x128.size a := fun v4434 k0_hw313 => k0_hw313.1
theorem k0_off626_inb : ∀ (v4434 : BitVec 32) (k0_hw313 : k0_chk313 v4434), ∀ a, (k0_off626 v4434) a + S1x1x1x128.size a ≤ S1x33344x1x128.size a := fun v4434 k0_hw313 => k0_hw313.2

def k0_off627 (v4448 : BitVec 32) : Fin 4 → Nat :=
  let c0_4294 : Index := 0#32
  let v4449 : Index := Scalar.indexCast v4448
  let c0_4295 : Index := 0#32
  let c0_4296 : Index := 0#32
  ![0, v4449.toNat, 0, 0]

def k0_off628 (v4448 : BitVec 32) : Fin 4 → Nat :=
  let c0_4300 : Index := 0#32
  let c1_i32_4299 : BitVec 32 := 1#32
  let v4455 : BitVec 32 := Scalar.addi v4448 c1_i32_4299
  let v4456 : Index := Scalar.indexCast v4455
  let c0_4301 : Index := 0#32
  let c0_4302 : Index := 0#32
  ![0, v4456.toNat, 0, 0]

def k0_chk314 (v4448 : BitVec 32) : Prop :=
  (∀ a, (k0_off627 v4448) a + S1x1x1x128.size a ≤ S1x33344x1x128.size a) ∧
  (∀ a, (k0_off628 v4448) a + S1x1x1x128.size a ≤ S1x33344x1x128.size a)
theorem k0_off627_inb : ∀ (v4448 : BitVec 32) (k0_hw314 : k0_chk314 v4448), ∀ a, (k0_off627 v4448) a + S1x1x1x128.size a ≤ S1x33344x1x128.size a := fun v4448 k0_hw314 => k0_hw314.1
theorem k0_off628_inb : ∀ (v4448 : BitVec 32) (k0_hw314 : k0_chk314 v4448), ∀ a, (k0_off628 v4448) a + S1x1x1x128.size a ≤ S1x33344x1x128.size a := fun v4448 k0_hw314 => k0_hw314.2

def k0_off629 (v4462 : BitVec 32) : Fin 4 → Nat :=
  let c0_4308 : Index := 0#32
  let v4463 : Index := Scalar.indexCast v4462
  let c0_4309 : Index := 0#32
  let c0_4310 : Index := 0#32
  ![0, v4463.toNat, 0, 0]

def k0_off630 (v4462 : BitVec 32) : Fin 4 → Nat :=
  let c0_4314 : Index := 0#32
  let c1_i32_4313 : BitVec 32 := 1#32
  let v4469 : BitVec 32 := Scalar.addi v4462 c1_i32_4313
  let v4470 : Index := Scalar.indexCast v4469
  let c0_4315 : Index := 0#32
  let c0_4316 : Index := 0#32
  ![0, v4470.toNat, 0, 0]

def k0_chk315 (v4462 : BitVec 32) : Prop :=
  (∀ a, (k0_off629 v4462) a + S1x1x1x128.size a ≤ S1x33344x1x128.size a) ∧
  (∀ a, (k0_off630 v4462) a + S1x1x1x128.size a ≤ S1x33344x1x128.size a)
theorem k0_off629_inb : ∀ (v4462 : BitVec 32) (k0_hw315 : k0_chk315 v4462), ∀ a, (k0_off629 v4462) a + S1x1x1x128.size a ≤ S1x33344x1x128.size a := fun v4462 k0_hw315 => k0_hw315.1
theorem k0_off630_inb : ∀ (v4462 : BitVec 32) (k0_hw315 : k0_chk315 v4462), ∀ a, (k0_off630 v4462) a + S1x1x1x128.size a ≤ S1x33344x1x128.size a := fun v4462 k0_hw315 => k0_hw315.2

def k0_off631 (v4476 : BitVec 32) : Fin 4 → Nat :=
  let c0_4322 : Index := 0#32
  let v4477 : Index := Scalar.indexCast v4476
  let c0_4323 : Index := 0#32
  let c0_4324 : Index := 0#32
  ![0, v4477.toNat, 0, 0]

def k0_off632 (v4476 : BitVec 32) : Fin 4 → Nat :=
  let c0_4328 : Index := 0#32
  let c1_i32_4327 : BitVec 32 := 1#32
  let v4483 : BitVec 32 := Scalar.addi v4476 c1_i32_4327
  let v4484 : Index := Scalar.indexCast v4483
  let c0_4329 : Index := 0#32
  let c0_4330 : Index := 0#32
  ![0, v4484.toNat, 0, 0]

def k0_chk316 (v4476 : BitVec 32) : Prop :=
  (∀ a, (k0_off631 v4476) a + S1x1x1x128.size a ≤ S1x33344x1x128.size a) ∧
  (∀ a, (k0_off632 v4476) a + S1x1x1x128.size a ≤ S1x33344x1x128.size a)
theorem k0_off631_inb : ∀ (v4476 : BitVec 32) (k0_hw316 : k0_chk316 v4476), ∀ a, (k0_off631 v4476) a + S1x1x1x128.size a ≤ S1x33344x1x128.size a := fun v4476 k0_hw316 => k0_hw316.1
theorem k0_off632_inb : ∀ (v4476 : BitVec 32) (k0_hw316 : k0_chk316 v4476), ∀ a, (k0_off632 v4476) a + S1x1x1x128.size a ≤ S1x33344x1x128.size a := fun v4476 k0_hw316 => k0_hw316.2

def k0_off633 (v4490 : BitVec 32) : Fin 4 → Nat :=
  let c0_4336 : Index := 0#32
  let v4491 : Index := Scalar.indexCast v4490
  let c0_4337 : Index := 0#32
  let c0_4338 : Index := 0#32
  ![0, v4491.toNat, 0, 0]

def k0_off634 (v4490 : BitVec 32) : Fin 4 → Nat :=
  let c0_4342 : Index := 0#32
  let c1_i32_4341 : BitVec 32 := 1#32
  let v4497 : BitVec 32 := Scalar.addi v4490 c1_i32_4341
  let v4498 : Index := Scalar.indexCast v4497
  let c0_4343 : Index := 0#32
  let c0_4344 : Index := 0#32
  ![0, v4498.toNat, 0, 0]

def k0_chk317 (v4490 : BitVec 32) : Prop :=
  (∀ a, (k0_off633 v4490) a + S1x1x1x128.size a ≤ S1x33344x1x128.size a) ∧
  (∀ a, (k0_off634 v4490) a + S1x1x1x128.size a ≤ S1x33344x1x128.size a)
theorem k0_off633_inb : ∀ (v4490 : BitVec 32) (k0_hw317 : k0_chk317 v4490), ∀ a, (k0_off633 v4490) a + S1x1x1x128.size a ≤ S1x33344x1x128.size a := fun v4490 k0_hw317 => k0_hw317.1
theorem k0_off634_inb : ∀ (v4490 : BitVec 32) (k0_hw317 : k0_chk317 v4490), ∀ a, (k0_off634 v4490) a + S1x1x1x128.size a ≤ S1x33344x1x128.size a := fun v4490 k0_hw317 => k0_hw317.2

def k0_off635 (v4504 : BitVec 32) : Fin 4 → Nat :=
  let c0_4350 : Index := 0#32
  let v4505 : Index := Scalar.indexCast v4504
  let c0_4351 : Index := 0#32
  let c0_4352 : Index := 0#32
  ![0, v4505.toNat, 0, 0]

def k0_off636 (v4504 : BitVec 32) : Fin 4 → Nat :=
  let c0_4356 : Index := 0#32
  let c1_i32_4355 : BitVec 32 := 1#32
  let v4511 : BitVec 32 := Scalar.addi v4504 c1_i32_4355
  let v4512 : Index := Scalar.indexCast v4511
  let c0_4357 : Index := 0#32
  let c0_4358 : Index := 0#32
  ![0, v4512.toNat, 0, 0]

def k0_chk318 (v4504 : BitVec 32) : Prop :=
  (∀ a, (k0_off635 v4504) a + S1x1x1x128.size a ≤ S1x33344x1x128.size a) ∧
  (∀ a, (k0_off636 v4504) a + S1x1x1x128.size a ≤ S1x33344x1x128.size a)
theorem k0_off635_inb : ∀ (v4504 : BitVec 32) (k0_hw318 : k0_chk318 v4504), ∀ a, (k0_off635 v4504) a + S1x1x1x128.size a ≤ S1x33344x1x128.size a := fun v4504 k0_hw318 => k0_hw318.1
theorem k0_off636_inb : ∀ (v4504 : BitVec 32) (k0_hw318 : k0_chk318 v4504), ∀ a, (k0_off636 v4504) a + S1x1x1x128.size a ≤ S1x33344x1x128.size a := fun v4504 k0_hw318 => k0_hw318.2

def k0_off637 (v4518 : BitVec 32) : Fin 4 → Nat :=
  let c0_4364 : Index := 0#32
  let v4519 : Index := Scalar.indexCast v4518
  let c0_4365 : Index := 0#32
  let c0_4366 : Index := 0#32
  ![0, v4519.toNat, 0, 0]

def k0_off638 (v4518 : BitVec 32) : Fin 4 → Nat :=
  let c0_4370 : Index := 0#32
  let c1_i32_4369 : BitVec 32 := 1#32
  let v4525 : BitVec 32 := Scalar.addi v4518 c1_i32_4369
  let v4526 : Index := Scalar.indexCast v4525
  let c0_4371 : Index := 0#32
  let c0_4372 : Index := 0#32
  ![0, v4526.toNat, 0, 0]

def k0_chk319 (v4518 : BitVec 32) : Prop :=
  (∀ a, (k0_off637 v4518) a + S1x1x1x128.size a ≤ S1x33344x1x128.size a) ∧
  (∀ a, (k0_off638 v4518) a + S1x1x1x128.size a ≤ S1x33344x1x128.size a)
theorem k0_off637_inb : ∀ (v4518 : BitVec 32) (k0_hw319 : k0_chk319 v4518), ∀ a, (k0_off637 v4518) a + S1x1x1x128.size a ≤ S1x33344x1x128.size a := fun v4518 k0_hw319 => k0_hw319.1
theorem k0_off638_inb : ∀ (v4518 : BitVec 32) (k0_hw319 : k0_chk319 v4518), ∀ a, (k0_off638 v4518) a + S1x1x1x128.size a ≤ S1x33344x1x128.size a := fun v4518 k0_hw319 => k0_hw319.2

def k0_off639 (v4532 : BitVec 32) : Fin 4 → Nat :=
  let c0_4378 : Index := 0#32
  let v4533 : Index := Scalar.indexCast v4532
  let c0_4379 : Index := 0#32
  let c0_4380 : Index := 0#32
  ![0, v4533.toNat, 0, 0]

def k0_off640 (v4532 : BitVec 32) : Fin 4 → Nat :=
  let c0_4384 : Index := 0#32
  let c1_i32_4383 : BitVec 32 := 1#32
  let v4539 : BitVec 32 := Scalar.addi v4532 c1_i32_4383
  let v4540 : Index := Scalar.indexCast v4539
  let c0_4385 : Index := 0#32
  let c0_4386 : Index := 0#32
  ![0, v4540.toNat, 0, 0]

def k0_chk320 (v4532 : BitVec 32) : Prop :=
  (∀ a, (k0_off639 v4532) a + S1x1x1x128.size a ≤ S1x33344x1x128.size a) ∧
  (∀ a, (k0_off640 v4532) a + S1x1x1x128.size a ≤ S1x33344x1x128.size a)
theorem k0_off639_inb : ∀ (v4532 : BitVec 32) (k0_hw320 : k0_chk320 v4532), ∀ a, (k0_off639 v4532) a + S1x1x1x128.size a ≤ S1x33344x1x128.size a := fun v4532 k0_hw320 => k0_hw320.1
theorem k0_off640_inb : ∀ (v4532 : BitVec 32) (k0_hw320 : k0_chk320 v4532), ∀ a, (k0_off640 v4532) a + S1x1x1x128.size a ≤ S1x33344x1x128.size a := fun v4532 k0_hw320 => k0_hw320.2

def k0_off641 (v4546 : BitVec 32) : Fin 4 → Nat :=
  let c0_4392 : Index := 0#32
  let v4547 : Index := Scalar.indexCast v4546
  let c0_4393 : Index := 0#32
  let c0_4394 : Index := 0#32
  ![0, v4547.toNat, 0, 0]

def k0_off642 (v4546 : BitVec 32) : Fin 4 → Nat :=
  let c0_4398 : Index := 0#32
  let c1_i32_4397 : BitVec 32 := 1#32
  let v4553 : BitVec 32 := Scalar.addi v4546 c1_i32_4397
  let v4554 : Index := Scalar.indexCast v4553
  let c0_4399 : Index := 0#32
  let c0_4400 : Index := 0#32
  ![0, v4554.toNat, 0, 0]

def k0_chk321 (v4546 : BitVec 32) : Prop :=
  (∀ a, (k0_off641 v4546) a + S1x1x1x128.size a ≤ S1x33344x1x128.size a) ∧
  (∀ a, (k0_off642 v4546) a + S1x1x1x128.size a ≤ S1x33344x1x128.size a)
theorem k0_off641_inb : ∀ (v4546 : BitVec 32) (k0_hw321 : k0_chk321 v4546), ∀ a, (k0_off641 v4546) a + S1x1x1x128.size a ≤ S1x33344x1x128.size a := fun v4546 k0_hw321 => k0_hw321.1
theorem k0_off642_inb : ∀ (v4546 : BitVec 32) (k0_hw321 : k0_chk321 v4546), ∀ a, (k0_off642 v4546) a + S1x1x1x128.size a ≤ S1x33344x1x128.size a := fun v4546 k0_hw321 => k0_hw321.2

def k0_off643 (v4560 : BitVec 32) : Fin 4 → Nat :=
  let c0_4406 : Index := 0#32
  let v4561 : Index := Scalar.indexCast v4560
  let c0_4407 : Index := 0#32
  let c0_4408 : Index := 0#32
  ![0, v4561.toNat, 0, 0]

def k0_off644 (v4560 : BitVec 32) : Fin 4 → Nat :=
  let c0_4412 : Index := 0#32
  let c1_i32_4411 : BitVec 32 := 1#32
  let v4567 : BitVec 32 := Scalar.addi v4560 c1_i32_4411
  let v4568 : Index := Scalar.indexCast v4567
  let c0_4413 : Index := 0#32
  let c0_4414 : Index := 0#32
  ![0, v4568.toNat, 0, 0]

def k0_chk322 (v4560 : BitVec 32) : Prop :=
  (∀ a, (k0_off643 v4560) a + S1x1x1x128.size a ≤ S1x33344x1x128.size a) ∧
  (∀ a, (k0_off644 v4560) a + S1x1x1x128.size a ≤ S1x33344x1x128.size a)
theorem k0_off643_inb : ∀ (v4560 : BitVec 32) (k0_hw322 : k0_chk322 v4560), ∀ a, (k0_off643 v4560) a + S1x1x1x128.size a ≤ S1x33344x1x128.size a := fun v4560 k0_hw322 => k0_hw322.1
theorem k0_off644_inb : ∀ (v4560 : BitVec 32) (k0_hw322 : k0_chk322 v4560), ∀ a, (k0_off644 v4560) a + S1x1x1x128.size a ≤ S1x33344x1x128.size a := fun v4560 k0_hw322 => k0_hw322.2

def k0_off645 (v4574 : BitVec 32) : Fin 4 → Nat :=
  let c0_4420 : Index := 0#32
  let v4575 : Index := Scalar.indexCast v4574
  let c0_4421 : Index := 0#32
  let c0_4422 : Index := 0#32
  ![0, v4575.toNat, 0, 0]

def k0_off646 (v4574 : BitVec 32) : Fin 4 → Nat :=
  let c0_4426 : Index := 0#32
  let c1_i32_4425 : BitVec 32 := 1#32
  let v4581 : BitVec 32 := Scalar.addi v4574 c1_i32_4425
  let v4582 : Index := Scalar.indexCast v4581
  let c0_4427 : Index := 0#32
  let c0_4428 : Index := 0#32
  ![0, v4582.toNat, 0, 0]

def k0_chk323 (v4574 : BitVec 32) : Prop :=
  (∀ a, (k0_off645 v4574) a + S1x1x1x128.size a ≤ S1x33344x1x128.size a) ∧
  (∀ a, (k0_off646 v4574) a + S1x1x1x128.size a ≤ S1x33344x1x128.size a)
theorem k0_off645_inb : ∀ (v4574 : BitVec 32) (k0_hw323 : k0_chk323 v4574), ∀ a, (k0_off645 v4574) a + S1x1x1x128.size a ≤ S1x33344x1x128.size a := fun v4574 k0_hw323 => k0_hw323.1
theorem k0_off646_inb : ∀ (v4574 : BitVec 32) (k0_hw323 : k0_chk323 v4574), ∀ a, (k0_off646 v4574) a + S1x1x1x128.size a ≤ S1x33344x1x128.size a := fun v4574 k0_hw323 => k0_hw323.2

def k0_off647 (v4588 : BitVec 32) : Fin 4 → Nat :=
  let c0_4434 : Index := 0#32
  let v4589 : Index := Scalar.indexCast v4588
  let c0_4435 : Index := 0#32
  let c0_4436 : Index := 0#32
  ![0, v4589.toNat, 0, 0]

def k0_off648 (v4588 : BitVec 32) : Fin 4 → Nat :=
  let c0_4440 : Index := 0#32
  let c1_i32_4439 : BitVec 32 := 1#32
  let v4595 : BitVec 32 := Scalar.addi v4588 c1_i32_4439
  let v4596 : Index := Scalar.indexCast v4595
  let c0_4441 : Index := 0#32
  let c0_4442 : Index := 0#32
  ![0, v4596.toNat, 0, 0]

def k0_chk324 (v4588 : BitVec 32) : Prop :=
  (∀ a, (k0_off647 v4588) a + S1x1x1x128.size a ≤ S1x33344x1x128.size a) ∧
  (∀ a, (k0_off648 v4588) a + S1x1x1x128.size a ≤ S1x33344x1x128.size a)
theorem k0_off647_inb : ∀ (v4588 : BitVec 32) (k0_hw324 : k0_chk324 v4588), ∀ a, (k0_off647 v4588) a + S1x1x1x128.size a ≤ S1x33344x1x128.size a := fun v4588 k0_hw324 => k0_hw324.1
theorem k0_off648_inb : ∀ (v4588 : BitVec 32) (k0_hw324 : k0_chk324 v4588), ∀ a, (k0_off648 v4588) a + S1x1x1x128.size a ≤ S1x33344x1x128.size a := fun v4588 k0_hw324 => k0_hw324.2

def k0_off649 (v4602 : BitVec 32) : Fin 4 → Nat :=
  let c0_4448 : Index := 0#32
  let v4603 : Index := Scalar.indexCast v4602
  let c0_4449 : Index := 0#32
  let c0_4450 : Index := 0#32
  ![0, v4603.toNat, 0, 0]

def k0_off650 (v4602 : BitVec 32) : Fin 4 → Nat :=
  let c0_4454 : Index := 0#32
  let c1_i32_4453 : BitVec 32 := 1#32
  let v4609 : BitVec 32 := Scalar.addi v4602 c1_i32_4453
  let v4610 : Index := Scalar.indexCast v4609
  let c0_4455 : Index := 0#32
  let c0_4456 : Index := 0#32
  ![0, v4610.toNat, 0, 0]

def k0_chk325 (v4602 : BitVec 32) : Prop :=
  (∀ a, (k0_off649 v4602) a + S1x1x1x128.size a ≤ S1x33344x1x128.size a) ∧
  (∀ a, (k0_off650 v4602) a + S1x1x1x128.size a ≤ S1x33344x1x128.size a)
theorem k0_off649_inb : ∀ (v4602 : BitVec 32) (k0_hw325 : k0_chk325 v4602), ∀ a, (k0_off649 v4602) a + S1x1x1x128.size a ≤ S1x33344x1x128.size a := fun v4602 k0_hw325 => k0_hw325.1
theorem k0_off650_inb : ∀ (v4602 : BitVec 32) (k0_hw325 : k0_chk325 v4602), ∀ a, (k0_off650 v4602) a + S1x1x1x128.size a ≤ S1x33344x1x128.size a := fun v4602 k0_hw325 => k0_hw325.2

def k0_off651 (v4616 : BitVec 32) : Fin 4 → Nat :=
  let c0_4462 : Index := 0#32
  let v4617 : Index := Scalar.indexCast v4616
  let c0_4463 : Index := 0#32
  let c0_4464 : Index := 0#32
  ![0, v4617.toNat, 0, 0]

def k0_off652 (v4616 : BitVec 32) : Fin 4 → Nat :=
  let c0_4468 : Index := 0#32
  let c1_i32_4467 : BitVec 32 := 1#32
  let v4623 : BitVec 32 := Scalar.addi v4616 c1_i32_4467
  let v4624 : Index := Scalar.indexCast v4623
  let c0_4469 : Index := 0#32
  let c0_4470 : Index := 0#32
  ![0, v4624.toNat, 0, 0]

def k0_chk326 (v4616 : BitVec 32) : Prop :=
  (∀ a, (k0_off651 v4616) a + S1x1x1x128.size a ≤ S1x33344x1x128.size a) ∧
  (∀ a, (k0_off652 v4616) a + S1x1x1x128.size a ≤ S1x33344x1x128.size a)
theorem k0_off651_inb : ∀ (v4616 : BitVec 32) (k0_hw326 : k0_chk326 v4616), ∀ a, (k0_off651 v4616) a + S1x1x1x128.size a ≤ S1x33344x1x128.size a := fun v4616 k0_hw326 => k0_hw326.1
theorem k0_off652_inb : ∀ (v4616 : BitVec 32) (k0_hw326 : k0_chk326 v4616), ∀ a, (k0_off652 v4616) a + S1x1x1x128.size a ≤ S1x33344x1x128.size a := fun v4616 k0_hw326 => k0_hw326.2

def k0_off653 (v4630 : BitVec 32) : Fin 4 → Nat :=
  let c0_4476 : Index := 0#32
  let v4631 : Index := Scalar.indexCast v4630
  let c0_4477 : Index := 0#32
  let c0_4478 : Index := 0#32
  ![0, v4631.toNat, 0, 0]

def k0_off654 (v4630 : BitVec 32) : Fin 4 → Nat :=
  let c0_4482 : Index := 0#32
  let c1_i32_4481 : BitVec 32 := 1#32
  let v4637 : BitVec 32 := Scalar.addi v4630 c1_i32_4481
  let v4638 : Index := Scalar.indexCast v4637
  let c0_4483 : Index := 0#32
  let c0_4484 : Index := 0#32
  ![0, v4638.toNat, 0, 0]

def k0_chk327 (v4630 : BitVec 32) : Prop :=
  (∀ a, (k0_off653 v4630) a + S1x1x1x128.size a ≤ S1x33344x1x128.size a) ∧
  (∀ a, (k0_off654 v4630) a + S1x1x1x128.size a ≤ S1x33344x1x128.size a)
theorem k0_off653_inb : ∀ (v4630 : BitVec 32) (k0_hw327 : k0_chk327 v4630), ∀ a, (k0_off653 v4630) a + S1x1x1x128.size a ≤ S1x33344x1x128.size a := fun v4630 k0_hw327 => k0_hw327.1
theorem k0_off654_inb : ∀ (v4630 : BitVec 32) (k0_hw327 : k0_chk327 v4630), ∀ a, (k0_off654 v4630) a + S1x1x1x128.size a ≤ S1x33344x1x128.size a := fun v4630 k0_hw327 => k0_hw327.2

def k0_off655 (v4644 : BitVec 32) : Fin 4 → Nat :=
  let c0_4490 : Index := 0#32
  let v4645 : Index := Scalar.indexCast v4644
  let c0_4491 : Index := 0#32
  let c0_4492 : Index := 0#32
  ![0, v4645.toNat, 0, 0]

def k0_off656 (v4644 : BitVec 32) : Fin 4 → Nat :=
  let c0_4496 : Index := 0#32
  let c1_i32_4495 : BitVec 32 := 1#32
  let v4651 : BitVec 32 := Scalar.addi v4644 c1_i32_4495
  let v4652 : Index := Scalar.indexCast v4651
  let c0_4497 : Index := 0#32
  let c0_4498 : Index := 0#32
  ![0, v4652.toNat, 0, 0]

def k0_chk328 (v4644 : BitVec 32) : Prop :=
  (∀ a, (k0_off655 v4644) a + S1x1x1x128.size a ≤ S1x33344x1x128.size a) ∧
  (∀ a, (k0_off656 v4644) a + S1x1x1x128.size a ≤ S1x33344x1x128.size a)
theorem k0_off655_inb : ∀ (v4644 : BitVec 32) (k0_hw328 : k0_chk328 v4644), ∀ a, (k0_off655 v4644) a + S1x1x1x128.size a ≤ S1x33344x1x128.size a := fun v4644 k0_hw328 => k0_hw328.1
theorem k0_off656_inb : ∀ (v4644 : BitVec 32) (k0_hw328 : k0_chk328 v4644), ∀ a, (k0_off656 v4644) a + S1x1x1x128.size a ≤ S1x33344x1x128.size a := fun v4644 k0_hw328 => k0_hw328.2

def k0_off657 (v4658 : BitVec 32) : Fin 4 → Nat :=
  let c0_4504 : Index := 0#32
  let v4659 : Index := Scalar.indexCast v4658
  let c0_4505 : Index := 0#32
  let c0_4506 : Index := 0#32
  ![0, v4659.toNat, 0, 0]

def k0_off658 (v4658 : BitVec 32) : Fin 4 → Nat :=
  let c0_4510 : Index := 0#32
  let c1_i32_4509 : BitVec 32 := 1#32
  let v4665 : BitVec 32 := Scalar.addi v4658 c1_i32_4509
  let v4666 : Index := Scalar.indexCast v4665
  let c0_4511 : Index := 0#32
  let c0_4512 : Index := 0#32
  ![0, v4666.toNat, 0, 0]

def k0_chk329 (v4658 : BitVec 32) : Prop :=
  (∀ a, (k0_off657 v4658) a + S1x1x1x128.size a ≤ S1x33344x1x128.size a) ∧
  (∀ a, (k0_off658 v4658) a + S1x1x1x128.size a ≤ S1x33344x1x128.size a)
theorem k0_off657_inb : ∀ (v4658 : BitVec 32) (k0_hw329 : k0_chk329 v4658), ∀ a, (k0_off657 v4658) a + S1x1x1x128.size a ≤ S1x33344x1x128.size a := fun v4658 k0_hw329 => k0_hw329.1
theorem k0_off658_inb : ∀ (v4658 : BitVec 32) (k0_hw329 : k0_chk329 v4658), ∀ a, (k0_off658 v4658) a + S1x1x1x128.size a ≤ S1x33344x1x128.size a := fun v4658 k0_hw329 => k0_hw329.2

def k0_off659 (v4672 : BitVec 32) : Fin 4 → Nat :=
  let c0_4518 : Index := 0#32
  let v4673 : Index := Scalar.indexCast v4672
  let c0_4519 : Index := 0#32
  let c0_4520 : Index := 0#32
  ![0, v4673.toNat, 0, 0]

def k0_off660 (v4672 : BitVec 32) : Fin 4 → Nat :=
  let c0_4524 : Index := 0#32
  let c1_i32_4523 : BitVec 32 := 1#32
  let v4679 : BitVec 32 := Scalar.addi v4672 c1_i32_4523
  let v4680 : Index := Scalar.indexCast v4679
  let c0_4525 : Index := 0#32
  let c0_4526 : Index := 0#32
  ![0, v4680.toNat, 0, 0]

def k0_chk330 (v4672 : BitVec 32) : Prop :=
  (∀ a, (k0_off659 v4672) a + S1x1x1x128.size a ≤ S1x33344x1x128.size a) ∧
  (∀ a, (k0_off660 v4672) a + S1x1x1x128.size a ≤ S1x33344x1x128.size a)
theorem k0_off659_inb : ∀ (v4672 : BitVec 32) (k0_hw330 : k0_chk330 v4672), ∀ a, (k0_off659 v4672) a + S1x1x1x128.size a ≤ S1x33344x1x128.size a := fun v4672 k0_hw330 => k0_hw330.1
theorem k0_off660_inb : ∀ (v4672 : BitVec 32) (k0_hw330 : k0_chk330 v4672), ∀ a, (k0_off660 v4672) a + S1x1x1x128.size a ≤ S1x33344x1x128.size a := fun v4672 k0_hw330 => k0_hw330.2

def k0_off661 (v4686 : BitVec 32) : Fin 4 → Nat :=
  let c0_4532 : Index := 0#32
  let v4687 : Index := Scalar.indexCast v4686
  let c0_4533 : Index := 0#32
  let c0_4534 : Index := 0#32
  ![0, v4687.toNat, 0, 0]

def k0_off662 (v4686 : BitVec 32) : Fin 4 → Nat :=
  let c0_4538 : Index := 0#32
  let c1_i32_4537 : BitVec 32 := 1#32
  let v4693 : BitVec 32 := Scalar.addi v4686 c1_i32_4537
  let v4694 : Index := Scalar.indexCast v4693
  let c0_4539 : Index := 0#32
  let c0_4540 : Index := 0#32
  ![0, v4694.toNat, 0, 0]

def k0_chk331 (v4686 : BitVec 32) : Prop :=
  (∀ a, (k0_off661 v4686) a + S1x1x1x128.size a ≤ S1x33344x1x128.size a) ∧
  (∀ a, (k0_off662 v4686) a + S1x1x1x128.size a ≤ S1x33344x1x128.size a)
theorem k0_off661_inb : ∀ (v4686 : BitVec 32) (k0_hw331 : k0_chk331 v4686), ∀ a, (k0_off661 v4686) a + S1x1x1x128.size a ≤ S1x33344x1x128.size a := fun v4686 k0_hw331 => k0_hw331.1
theorem k0_off662_inb : ∀ (v4686 : BitVec 32) (k0_hw331 : k0_chk331 v4686), ∀ a, (k0_off662 v4686) a + S1x1x1x128.size a ≤ S1x33344x1x128.size a := fun v4686 k0_hw331 => k0_hw331.2

def k0_off663 (v4700 : BitVec 32) : Fin 4 → Nat :=
  let c0_4546 : Index := 0#32
  let v4701 : Index := Scalar.indexCast v4700
  let c0_4547 : Index := 0#32
  let c0_4548 : Index := 0#32
  ![0, v4701.toNat, 0, 0]

def k0_off664 (v4700 : BitVec 32) : Fin 4 → Nat :=
  let c0_4552 : Index := 0#32
  let c1_i32_4551 : BitVec 32 := 1#32
  let v4707 : BitVec 32 := Scalar.addi v4700 c1_i32_4551
  let v4708 : Index := Scalar.indexCast v4707
  let c0_4553 : Index := 0#32
  let c0_4554 : Index := 0#32
  ![0, v4708.toNat, 0, 0]

def k0_chk332 (v4700 : BitVec 32) : Prop :=
  (∀ a, (k0_off663 v4700) a + S1x1x1x128.size a ≤ S1x33344x1x128.size a) ∧
  (∀ a, (k0_off664 v4700) a + S1x1x1x128.size a ≤ S1x33344x1x128.size a)
theorem k0_off663_inb : ∀ (v4700 : BitVec 32) (k0_hw332 : k0_chk332 v4700), ∀ a, (k0_off663 v4700) a + S1x1x1x128.size a ≤ S1x33344x1x128.size a := fun v4700 k0_hw332 => k0_hw332.1
theorem k0_off664_inb : ∀ (v4700 : BitVec 32) (k0_hw332 : k0_chk332 v4700), ∀ a, (k0_off664 v4700) a + S1x1x1x128.size a ≤ S1x33344x1x128.size a := fun v4700 k0_hw332 => k0_hw332.2

def k0_off665 (v4714 : BitVec 32) : Fin 4 → Nat :=
  let c0_4560 : Index := 0#32
  let v4715 : Index := Scalar.indexCast v4714
  let c0_4561 : Index := 0#32
  let c0_4562 : Index := 0#32
  ![0, v4715.toNat, 0, 0]

def k0_off666 (v4714 : BitVec 32) : Fin 4 → Nat :=
  let c0_4566 : Index := 0#32
  let c1_i32_4565 : BitVec 32 := 1#32
  let v4721 : BitVec 32 := Scalar.addi v4714 c1_i32_4565
  let v4722 : Index := Scalar.indexCast v4721
  let c0_4567 : Index := 0#32
  let c0_4568 : Index := 0#32
  ![0, v4722.toNat, 0, 0]

def k0_chk333 (v4714 : BitVec 32) : Prop :=
  (∀ a, (k0_off665 v4714) a + S1x1x1x128.size a ≤ S1x33344x1x128.size a) ∧
  (∀ a, (k0_off666 v4714) a + S1x1x1x128.size a ≤ S1x33344x1x128.size a)
theorem k0_off665_inb : ∀ (v4714 : BitVec 32) (k0_hw333 : k0_chk333 v4714), ∀ a, (k0_off665 v4714) a + S1x1x1x128.size a ≤ S1x33344x1x128.size a := fun v4714 k0_hw333 => k0_hw333.1
theorem k0_off666_inb : ∀ (v4714 : BitVec 32) (k0_hw333 : k0_chk333 v4714), ∀ a, (k0_off666 v4714) a + S1x1x1x128.size a ≤ S1x33344x1x128.size a := fun v4714 k0_hw333 => k0_hw333.2

def k0_off667 (v4728 : BitVec 32) : Fin 4 → Nat :=
  let c0_4574 : Index := 0#32
  let v4729 : Index := Scalar.indexCast v4728
  let c0_4575 : Index := 0#32
  let c0_4576 : Index := 0#32
  ![0, v4729.toNat, 0, 0]

def k0_off668 (v4728 : BitVec 32) : Fin 4 → Nat :=
  let c0_4580 : Index := 0#32
  let c1_i32_4579 : BitVec 32 := 1#32
  let v4735 : BitVec 32 := Scalar.addi v4728 c1_i32_4579
  let v4736 : Index := Scalar.indexCast v4735
  let c0_4581 : Index := 0#32
  let c0_4582 : Index := 0#32
  ![0, v4736.toNat, 0, 0]

def k0_chk334 (v4728 : BitVec 32) : Prop :=
  (∀ a, (k0_off667 v4728) a + S1x1x1x128.size a ≤ S1x33344x1x128.size a) ∧
  (∀ a, (k0_off668 v4728) a + S1x1x1x128.size a ≤ S1x33344x1x128.size a)
theorem k0_off667_inb : ∀ (v4728 : BitVec 32) (k0_hw334 : k0_chk334 v4728), ∀ a, (k0_off667 v4728) a + S1x1x1x128.size a ≤ S1x33344x1x128.size a := fun v4728 k0_hw334 => k0_hw334.1
theorem k0_off668_inb : ∀ (v4728 : BitVec 32) (k0_hw334 : k0_chk334 v4728), ∀ a, (k0_off668 v4728) a + S1x1x1x128.size a ≤ S1x33344x1x128.size a := fun v4728 k0_hw334 => k0_hw334.2

def k0_off669 (v4742 : BitVec 32) : Fin 4 → Nat :=
  let c0_4588 : Index := 0#32
  let v4743 : Index := Scalar.indexCast v4742
  let c0_4589 : Index := 0#32
  let c0_4590 : Index := 0#32
  ![0, v4743.toNat, 0, 0]

def k0_off670 (v4742 : BitVec 32) : Fin 4 → Nat :=
  let c0_4594 : Index := 0#32
  let c1_i32_4593 : BitVec 32 := 1#32
  let v4749 : BitVec 32 := Scalar.addi v4742 c1_i32_4593
  let v4750 : Index := Scalar.indexCast v4749
  let c0_4595 : Index := 0#32
  let c0_4596 : Index := 0#32
  ![0, v4750.toNat, 0, 0]

def k0_chk335 (v4742 : BitVec 32) : Prop :=
  (∀ a, (k0_off669 v4742) a + S1x1x1x128.size a ≤ S1x33344x1x128.size a) ∧
  (∀ a, (k0_off670 v4742) a + S1x1x1x128.size a ≤ S1x33344x1x128.size a)
theorem k0_off669_inb : ∀ (v4742 : BitVec 32) (k0_hw335 : k0_chk335 v4742), ∀ a, (k0_off669 v4742) a + S1x1x1x128.size a ≤ S1x33344x1x128.size a := fun v4742 k0_hw335 => k0_hw335.1
theorem k0_off670_inb : ∀ (v4742 : BitVec 32) (k0_hw335 : k0_chk335 v4742), ∀ a, (k0_off670 v4742) a + S1x1x1x128.size a ≤ S1x33344x1x128.size a := fun v4742 k0_hw335 => k0_hw335.2

def k0_off671 (v4756 : BitVec 32) : Fin 4 → Nat :=
  let c0_4602 : Index := 0#32
  let v4757 : Index := Scalar.indexCast v4756
  let c0_4603 : Index := 0#32
  let c0_4604 : Index := 0#32
  ![0, v4757.toNat, 0, 0]

def k0_off672 (v4756 : BitVec 32) : Fin 4 → Nat :=
  let c0_4608 : Index := 0#32
  let c1_i32_4607 : BitVec 32 := 1#32
  let v4763 : BitVec 32 := Scalar.addi v4756 c1_i32_4607
  let v4764 : Index := Scalar.indexCast v4763
  let c0_4609 : Index := 0#32
  let c0_4610 : Index := 0#32
  ![0, v4764.toNat, 0, 0]

def k0_chk336 (v4756 : BitVec 32) : Prop :=
  (∀ a, (k0_off671 v4756) a + S1x1x1x128.size a ≤ S1x33344x1x128.size a) ∧
  (∀ a, (k0_off672 v4756) a + S1x1x1x128.size a ≤ S1x33344x1x128.size a)
theorem k0_off671_inb : ∀ (v4756 : BitVec 32) (k0_hw336 : k0_chk336 v4756), ∀ a, (k0_off671 v4756) a + S1x1x1x128.size a ≤ S1x33344x1x128.size a := fun v4756 k0_hw336 => k0_hw336.1
theorem k0_off672_inb : ∀ (v4756 : BitVec 32) (k0_hw336 : k0_chk336 v4756), ∀ a, (k0_off672 v4756) a + S1x1x1x128.size a ≤ S1x33344x1x128.size a := fun v4756 k0_hw336 => k0_hw336.2

def k0_off673 (v4770 : BitVec 32) : Fin 4 → Nat :=
  let c0_4616 : Index := 0#32
  let v4771 : Index := Scalar.indexCast v4770
  let c0_4617 : Index := 0#32
  let c0_4618 : Index := 0#32
  ![0, v4771.toNat, 0, 0]

def k0_off674 (v4770 : BitVec 32) : Fin 4 → Nat :=
  let c0_4622 : Index := 0#32
  let c1_i32_4621 : BitVec 32 := 1#32
  let v4777 : BitVec 32 := Scalar.addi v4770 c1_i32_4621
  let v4778 : Index := Scalar.indexCast v4777
  let c0_4623 : Index := 0#32
  let c0_4624 : Index := 0#32
  ![0, v4778.toNat, 0, 0]

def k0_chk337 (v4770 : BitVec 32) : Prop :=
  (∀ a, (k0_off673 v4770) a + S1x1x1x128.size a ≤ S1x33344x1x128.size a) ∧
  (∀ a, (k0_off674 v4770) a + S1x1x1x128.size a ≤ S1x33344x1x128.size a)
theorem k0_off673_inb : ∀ (v4770 : BitVec 32) (k0_hw337 : k0_chk337 v4770), ∀ a, (k0_off673 v4770) a + S1x1x1x128.size a ≤ S1x33344x1x128.size a := fun v4770 k0_hw337 => k0_hw337.1
theorem k0_off674_inb : ∀ (v4770 : BitVec 32) (k0_hw337 : k0_chk337 v4770), ∀ a, (k0_off674 v4770) a + S1x1x1x128.size a ≤ S1x33344x1x128.size a := fun v4770 k0_hw337 => k0_hw337.2

def k0_off675 (v4784 : BitVec 32) : Fin 4 → Nat :=
  let c0_4630 : Index := 0#32
  let v4785 : Index := Scalar.indexCast v4784
  let c0_4631 : Index := 0#32
  let c0_4632 : Index := 0#32
  ![0, v4785.toNat, 0, 0]

def k0_off676 (v4784 : BitVec 32) : Fin 4 → Nat :=
  let c0_4636 : Index := 0#32
  let c1_i32_4635 : BitVec 32 := 1#32
  let v4791 : BitVec 32 := Scalar.addi v4784 c1_i32_4635
  let v4792 : Index := Scalar.indexCast v4791
  let c0_4637 : Index := 0#32
  let c0_4638 : Index := 0#32
  ![0, v4792.toNat, 0, 0]

def k0_chk338 (v4784 : BitVec 32) : Prop :=
  (∀ a, (k0_off675 v4784) a + S1x1x1x128.size a ≤ S1x33344x1x128.size a) ∧
  (∀ a, (k0_off676 v4784) a + S1x1x1x128.size a ≤ S1x33344x1x128.size a)
theorem k0_off675_inb : ∀ (v4784 : BitVec 32) (k0_hw338 : k0_chk338 v4784), ∀ a, (k0_off675 v4784) a + S1x1x1x128.size a ≤ S1x33344x1x128.size a := fun v4784 k0_hw338 => k0_hw338.1
theorem k0_off676_inb : ∀ (v4784 : BitVec 32) (k0_hw338 : k0_chk338 v4784), ∀ a, (k0_off676 v4784) a + S1x1x1x128.size a ≤ S1x33344x1x128.size a := fun v4784 k0_hw338 => k0_hw338.2

def k0_off677 (v4798 : BitVec 32) : Fin 4 → Nat :=
  let c0_4644 : Index := 0#32
  let v4799 : Index := Scalar.indexCast v4798
  let c0_4645 : Index := 0#32
  let c0_4646 : Index := 0#32
  ![0, v4799.toNat, 0, 0]

def k0_off678 (v4798 : BitVec 32) : Fin 4 → Nat :=
  let c0_4650 : Index := 0#32
  let c1_i32_4649 : BitVec 32 := 1#32
  let v4805 : BitVec 32 := Scalar.addi v4798 c1_i32_4649
  let v4806 : Index := Scalar.indexCast v4805
  let c0_4651 : Index := 0#32
  let c0_4652 : Index := 0#32
  ![0, v4806.toNat, 0, 0]

def k0_chk339 (v4798 : BitVec 32) : Prop :=
  (∀ a, (k0_off677 v4798) a + S1x1x1x128.size a ≤ S1x33344x1x128.size a) ∧
  (∀ a, (k0_off678 v4798) a + S1x1x1x128.size a ≤ S1x33344x1x128.size a)
theorem k0_off677_inb : ∀ (v4798 : BitVec 32) (k0_hw339 : k0_chk339 v4798), ∀ a, (k0_off677 v4798) a + S1x1x1x128.size a ≤ S1x33344x1x128.size a := fun v4798 k0_hw339 => k0_hw339.1
theorem k0_off678_inb : ∀ (v4798 : BitVec 32) (k0_hw339 : k0_chk339 v4798), ∀ a, (k0_off678 v4798) a + S1x1x1x128.size a ≤ S1x33344x1x128.size a := fun v4798 k0_hw339 => k0_hw339.2

def k0_off679 (v4812 : BitVec 32) : Fin 4 → Nat :=
  let c0_4658 : Index := 0#32
  let v4813 : Index := Scalar.indexCast v4812
  let c0_4659 : Index := 0#32
  let c0_4660 : Index := 0#32
  ![0, v4813.toNat, 0, 0]

def k0_off680 (v4812 : BitVec 32) : Fin 4 → Nat :=
  let c0_4664 : Index := 0#32
  let c1_i32_4663 : BitVec 32 := 1#32
  let v4819 : BitVec 32 := Scalar.addi v4812 c1_i32_4663
  let v4820 : Index := Scalar.indexCast v4819
  let c0_4665 : Index := 0#32
  let c0_4666 : Index := 0#32
  ![0, v4820.toNat, 0, 0]

def k0_chk340 (v4812 : BitVec 32) : Prop :=
  (∀ a, (k0_off679 v4812) a + S1x1x1x128.size a ≤ S1x33344x1x128.size a) ∧
  (∀ a, (k0_off680 v4812) a + S1x1x1x128.size a ≤ S1x33344x1x128.size a)
theorem k0_off679_inb : ∀ (v4812 : BitVec 32) (k0_hw340 : k0_chk340 v4812), ∀ a, (k0_off679 v4812) a + S1x1x1x128.size a ≤ S1x33344x1x128.size a := fun v4812 k0_hw340 => k0_hw340.1
theorem k0_off680_inb : ∀ (v4812 : BitVec 32) (k0_hw340 : k0_chk340 v4812), ∀ a, (k0_off680 v4812) a + S1x1x1x128.size a ≤ S1x33344x1x128.size a := fun v4812 k0_hw340 => k0_hw340.2

def k0_off681 (v4826 : BitVec 32) : Fin 4 → Nat :=
  let c0_4672 : Index := 0#32
  let v4827 : Index := Scalar.indexCast v4826
  let c0_4673 : Index := 0#32
  let c0_4674 : Index := 0#32
  ![0, v4827.toNat, 0, 0]

def k0_off682 (v4826 : BitVec 32) : Fin 4 → Nat :=
  let c0_4678 : Index := 0#32
  let c1_i32_4677 : BitVec 32 := 1#32
  let v4833 : BitVec 32 := Scalar.addi v4826 c1_i32_4677
  let v4834 : Index := Scalar.indexCast v4833
  let c0_4679 : Index := 0#32
  let c0_4680 : Index := 0#32
  ![0, v4834.toNat, 0, 0]

def k0_chk341 (v4826 : BitVec 32) : Prop :=
  (∀ a, (k0_off681 v4826) a + S1x1x1x128.size a ≤ S1x33344x1x128.size a) ∧
  (∀ a, (k0_off682 v4826) a + S1x1x1x128.size a ≤ S1x33344x1x128.size a)
theorem k0_off681_inb : ∀ (v4826 : BitVec 32) (k0_hw341 : k0_chk341 v4826), ∀ a, (k0_off681 v4826) a + S1x1x1x128.size a ≤ S1x33344x1x128.size a := fun v4826 k0_hw341 => k0_hw341.1
theorem k0_off682_inb : ∀ (v4826 : BitVec 32) (k0_hw341 : k0_chk341 v4826), ∀ a, (k0_off682 v4826) a + S1x1x1x128.size a ≤ S1x33344x1x128.size a := fun v4826 k0_hw341 => k0_hw341.2

def k0_off683 (v4840 : BitVec 32) : Fin 4 → Nat :=
  let c0_4686 : Index := 0#32
  let v4841 : Index := Scalar.indexCast v4840
  let c0_4687 : Index := 0#32
  let c0_4688 : Index := 0#32
  ![0, v4841.toNat, 0, 0]

def k0_off684 (v4840 : BitVec 32) : Fin 4 → Nat :=
  let c0_4692 : Index := 0#32
  let c1_i32_4691 : BitVec 32 := 1#32
  let v4847 : BitVec 32 := Scalar.addi v4840 c1_i32_4691
  let v4848 : Index := Scalar.indexCast v4847
  let c0_4693 : Index := 0#32
  let c0_4694 : Index := 0#32
  ![0, v4848.toNat, 0, 0]

def k0_chk342 (v4840 : BitVec 32) : Prop :=
  (∀ a, (k0_off683 v4840) a + S1x1x1x128.size a ≤ S1x33344x1x128.size a) ∧
  (∀ a, (k0_off684 v4840) a + S1x1x1x128.size a ≤ S1x33344x1x128.size a)
theorem k0_off683_inb : ∀ (v4840 : BitVec 32) (k0_hw342 : k0_chk342 v4840), ∀ a, (k0_off683 v4840) a + S1x1x1x128.size a ≤ S1x33344x1x128.size a := fun v4840 k0_hw342 => k0_hw342.1
theorem k0_off684_inb : ∀ (v4840 : BitVec 32) (k0_hw342 : k0_chk342 v4840), ∀ a, (k0_off684 v4840) a + S1x1x1x128.size a ≤ S1x33344x1x128.size a := fun v4840 k0_hw342 => k0_hw342.2

def k0_off685 (v4854 : BitVec 32) : Fin 4 → Nat :=
  let c0_4700 : Index := 0#32
  let v4855 : Index := Scalar.indexCast v4854
  let c0_4701 : Index := 0#32
  let c0_4702 : Index := 0#32
  ![0, v4855.toNat, 0, 0]

def k0_off686 (v4854 : BitVec 32) : Fin 4 → Nat :=
  let c0_4706 : Index := 0#32
  let c1_i32_4705 : BitVec 32 := 1#32
  let v4861 : BitVec 32 := Scalar.addi v4854 c1_i32_4705
  let v4862 : Index := Scalar.indexCast v4861
  let c0_4707 : Index := 0#32
  let c0_4708 : Index := 0#32
  ![0, v4862.toNat, 0, 0]

def k0_chk343 (v4854 : BitVec 32) : Prop :=
  (∀ a, (k0_off685 v4854) a + S1x1x1x128.size a ≤ S1x33344x1x128.size a) ∧
  (∀ a, (k0_off686 v4854) a + S1x1x1x128.size a ≤ S1x33344x1x128.size a)
theorem k0_off685_inb : ∀ (v4854 : BitVec 32) (k0_hw343 : k0_chk343 v4854), ∀ a, (k0_off685 v4854) a + S1x1x1x128.size a ≤ S1x33344x1x128.size a := fun v4854 k0_hw343 => k0_hw343.1
theorem k0_off686_inb : ∀ (v4854 : BitVec 32) (k0_hw343 : k0_chk343 v4854), ∀ a, (k0_off686 v4854) a + S1x1x1x128.size a ≤ S1x33344x1x128.size a := fun v4854 k0_hw343 => k0_hw343.2

def k0_off687 (v4868 : BitVec 32) : Fin 4 → Nat :=
  let c0_4714 : Index := 0#32
  let v4869 : Index := Scalar.indexCast v4868
  let c0_4715 : Index := 0#32
  let c0_4716 : Index := 0#32
  ![0, v4869.toNat, 0, 0]

def k0_off688 (v4868 : BitVec 32) : Fin 4 → Nat :=
  let c0_4720 : Index := 0#32
  let c1_i32_4719 : BitVec 32 := 1#32
  let v4875 : BitVec 32 := Scalar.addi v4868 c1_i32_4719
  let v4876 : Index := Scalar.indexCast v4875
  let c0_4721 : Index := 0#32
  let c0_4722 : Index := 0#32
  ![0, v4876.toNat, 0, 0]

def k0_chk344 (v4868 : BitVec 32) : Prop :=
  (∀ a, (k0_off687 v4868) a + S1x1x1x128.size a ≤ S1x33344x1x128.size a) ∧
  (∀ a, (k0_off688 v4868) a + S1x1x1x128.size a ≤ S1x33344x1x128.size a)
theorem k0_off687_inb : ∀ (v4868 : BitVec 32) (k0_hw344 : k0_chk344 v4868), ∀ a, (k0_off687 v4868) a + S1x1x1x128.size a ≤ S1x33344x1x128.size a := fun v4868 k0_hw344 => k0_hw344.1
theorem k0_off688_inb : ∀ (v4868 : BitVec 32) (k0_hw344 : k0_chk344 v4868), ∀ a, (k0_off688 v4868) a + S1x1x1x128.size a ≤ S1x33344x1x128.size a := fun v4868 k0_hw344 => k0_hw344.2

def k0_off689 (v4882 : BitVec 32) : Fin 4 → Nat :=
  let c0_4728 : Index := 0#32
  let v4883 : Index := Scalar.indexCast v4882
  let c0_4729 : Index := 0#32
  let c0_4730 : Index := 0#32
  ![0, v4883.toNat, 0, 0]

def k0_off690 (v4882 : BitVec 32) : Fin 4 → Nat :=
  let c0_4734 : Index := 0#32
  let c1_i32_4733 : BitVec 32 := 1#32
  let v4889 : BitVec 32 := Scalar.addi v4882 c1_i32_4733
  let v4890 : Index := Scalar.indexCast v4889
  let c0_4735 : Index := 0#32
  let c0_4736 : Index := 0#32
  ![0, v4890.toNat, 0, 0]

def k0_chk345 (v4882 : BitVec 32) : Prop :=
  (∀ a, (k0_off689 v4882) a + S1x1x1x128.size a ≤ S1x33344x1x128.size a) ∧
  (∀ a, (k0_off690 v4882) a + S1x1x1x128.size a ≤ S1x33344x1x128.size a)
theorem k0_off689_inb : ∀ (v4882 : BitVec 32) (k0_hw345 : k0_chk345 v4882), ∀ a, (k0_off689 v4882) a + S1x1x1x128.size a ≤ S1x33344x1x128.size a := fun v4882 k0_hw345 => k0_hw345.1
theorem k0_off690_inb : ∀ (v4882 : BitVec 32) (k0_hw345 : k0_chk345 v4882), ∀ a, (k0_off690 v4882) a + S1x1x1x128.size a ≤ S1x33344x1x128.size a := fun v4882 k0_hw345 => k0_hw345.2

def k0_off691 (v4896 : BitVec 32) : Fin 4 → Nat :=
  let c0_4742 : Index := 0#32
  let v4897 : Index := Scalar.indexCast v4896
  let c0_4743 : Index := 0#32
  let c0_4744 : Index := 0#32
  ![0, v4897.toNat, 0, 0]

def k0_off692 (v4896 : BitVec 32) : Fin 4 → Nat :=
  let c0_4748 : Index := 0#32
  let c1_i32_4747 : BitVec 32 := 1#32
  let v4903 : BitVec 32 := Scalar.addi v4896 c1_i32_4747
  let v4904 : Index := Scalar.indexCast v4903
  let c0_4749 : Index := 0#32
  let c0_4750 : Index := 0#32
  ![0, v4904.toNat, 0, 0]

def k0_chk346 (v4896 : BitVec 32) : Prop :=
  (∀ a, (k0_off691 v4896) a + S1x1x1x128.size a ≤ S1x33344x1x128.size a) ∧
  (∀ a, (k0_off692 v4896) a + S1x1x1x128.size a ≤ S1x33344x1x128.size a)
theorem k0_off691_inb : ∀ (v4896 : BitVec 32) (k0_hw346 : k0_chk346 v4896), ∀ a, (k0_off691 v4896) a + S1x1x1x128.size a ≤ S1x33344x1x128.size a := fun v4896 k0_hw346 => k0_hw346.1
theorem k0_off692_inb : ∀ (v4896 : BitVec 32) (k0_hw346 : k0_chk346 v4896), ∀ a, (k0_off692 v4896) a + S1x1x1x128.size a ≤ S1x33344x1x128.size a := fun v4896 k0_hw346 => k0_hw346.2

def k0_off693 (v4910 : BitVec 32) : Fin 4 → Nat :=
  let c0_4756 : Index := 0#32
  let v4911 : Index := Scalar.indexCast v4910
  let c0_4757 : Index := 0#32
  let c0_4758 : Index := 0#32
  ![0, v4911.toNat, 0, 0]

def k0_off694 (v4910 : BitVec 32) : Fin 4 → Nat :=
  let c0_4762 : Index := 0#32
  let c1_i32_4761 : BitVec 32 := 1#32
  let v4917 : BitVec 32 := Scalar.addi v4910 c1_i32_4761
  let v4918 : Index := Scalar.indexCast v4917
  let c0_4763 : Index := 0#32
  let c0_4764 : Index := 0#32
  ![0, v4918.toNat, 0, 0]

def k0_chk347 (v4910 : BitVec 32) : Prop :=
  (∀ a, (k0_off693 v4910) a + S1x1x1x128.size a ≤ S1x33344x1x128.size a) ∧
  (∀ a, (k0_off694 v4910) a + S1x1x1x128.size a ≤ S1x33344x1x128.size a)
theorem k0_off693_inb : ∀ (v4910 : BitVec 32) (k0_hw347 : k0_chk347 v4910), ∀ a, (k0_off693 v4910) a + S1x1x1x128.size a ≤ S1x33344x1x128.size a := fun v4910 k0_hw347 => k0_hw347.1
theorem k0_off694_inb : ∀ (v4910 : BitVec 32) (k0_hw347 : k0_chk347 v4910), ∀ a, (k0_off694 v4910) a + S1x1x1x128.size a ≤ S1x33344x1x128.size a := fun v4910 k0_hw347 => k0_hw347.2

def k0_off695 (v4924 : BitVec 32) : Fin 4 → Nat :=
  let c0_4770 : Index := 0#32
  let v4925 : Index := Scalar.indexCast v4924
  let c0_4771 : Index := 0#32
  let c0_4772 : Index := 0#32
  ![0, v4925.toNat, 0, 0]

def k0_off696 (v4924 : BitVec 32) : Fin 4 → Nat :=
  let c0_4776 : Index := 0#32
  let c1_i32_4775 : BitVec 32 := 1#32
  let v4931 : BitVec 32 := Scalar.addi v4924 c1_i32_4775
  let v4932 : Index := Scalar.indexCast v4931
  let c0_4777 : Index := 0#32
  let c0_4778 : Index := 0#32
  ![0, v4932.toNat, 0, 0]

def k0_chk348 (v4924 : BitVec 32) : Prop :=
  (∀ a, (k0_off695 v4924) a + S1x1x1x128.size a ≤ S1x33344x1x128.size a) ∧
  (∀ a, (k0_off696 v4924) a + S1x1x1x128.size a ≤ S1x33344x1x128.size a)
theorem k0_off695_inb : ∀ (v4924 : BitVec 32) (k0_hw348 : k0_chk348 v4924), ∀ a, (k0_off695 v4924) a + S1x1x1x128.size a ≤ S1x33344x1x128.size a := fun v4924 k0_hw348 => k0_hw348.1
theorem k0_off696_inb : ∀ (v4924 : BitVec 32) (k0_hw348 : k0_chk348 v4924), ∀ a, (k0_off696 v4924) a + S1x1x1x128.size a ≤ S1x33344x1x128.size a := fun v4924 k0_hw348 => k0_hw348.2

def k0_off697 (v4938 : BitVec 32) : Fin 4 → Nat :=
  let c0_4784 : Index := 0#32
  let v4939 : Index := Scalar.indexCast v4938
  let c0_4785 : Index := 0#32
  let c0_4786 : Index := 0#32
  ![0, v4939.toNat, 0, 0]

def k0_off698 (v4938 : BitVec 32) : Fin 4 → Nat :=
  let c0_4790 : Index := 0#32
  let c1_i32_4789 : BitVec 32 := 1#32
  let v4945 : BitVec 32 := Scalar.addi v4938 c1_i32_4789
  let v4946 : Index := Scalar.indexCast v4945
  let c0_4791 : Index := 0#32
  let c0_4792 : Index := 0#32
  ![0, v4946.toNat, 0, 0]

def k0_chk349 (v4938 : BitVec 32) : Prop :=
  (∀ a, (k0_off697 v4938) a + S1x1x1x128.size a ≤ S1x33344x1x128.size a) ∧
  (∀ a, (k0_off698 v4938) a + S1x1x1x128.size a ≤ S1x33344x1x128.size a)
theorem k0_off697_inb : ∀ (v4938 : BitVec 32) (k0_hw349 : k0_chk349 v4938), ∀ a, (k0_off697 v4938) a + S1x1x1x128.size a ≤ S1x33344x1x128.size a := fun v4938 k0_hw349 => k0_hw349.1
theorem k0_off698_inb : ∀ (v4938 : BitVec 32) (k0_hw349 : k0_chk349 v4938), ∀ a, (k0_off698 v4938) a + S1x1x1x128.size a ≤ S1x33344x1x128.size a := fun v4938 k0_hw349 => k0_hw349.2

def k0_off699 (v4952 : BitVec 32) : Fin 4 → Nat :=
  let c0_4798 : Index := 0#32
  let v4953 : Index := Scalar.indexCast v4952
  let c0_4799 : Index := 0#32
  let c0_4800 : Index := 0#32
  ![0, v4953.toNat, 0, 0]

def k0_off700 (v4952 : BitVec 32) : Fin 4 → Nat :=
  let c0_4804 : Index := 0#32
  let c1_i32_4803 : BitVec 32 := 1#32
  let v4959 : BitVec 32 := Scalar.addi v4952 c1_i32_4803
  let v4960 : Index := Scalar.indexCast v4959
  let c0_4805 : Index := 0#32
  let c0_4806 : Index := 0#32
  ![0, v4960.toNat, 0, 0]

def k0_chk350 (v4952 : BitVec 32) : Prop :=
  (∀ a, (k0_off699 v4952) a + S1x1x1x128.size a ≤ S1x33344x1x128.size a) ∧
  (∀ a, (k0_off700 v4952) a + S1x1x1x128.size a ≤ S1x33344x1x128.size a)
theorem k0_off699_inb : ∀ (v4952 : BitVec 32) (k0_hw350 : k0_chk350 v4952), ∀ a, (k0_off699 v4952) a + S1x1x1x128.size a ≤ S1x33344x1x128.size a := fun v4952 k0_hw350 => k0_hw350.1
theorem k0_off700_inb : ∀ (v4952 : BitVec 32) (k0_hw350 : k0_chk350 v4952), ∀ a, (k0_off700 v4952) a + S1x1x1x128.size a ≤ S1x33344x1x128.size a := fun v4952 k0_hw350 => k0_hw350.2

def k0_off701 (v4966 : BitVec 32) : Fin 4 → Nat :=
  let c0_4812 : Index := 0#32
  let v4967 : Index := Scalar.indexCast v4966
  let c0_4813 : Index := 0#32
  let c0_4814 : Index := 0#32
  ![0, v4967.toNat, 0, 0]

def k0_off702 (v4966 : BitVec 32) : Fin 4 → Nat :=
  let c0_4818 : Index := 0#32
  let c1_i32_4817 : BitVec 32 := 1#32
  let v4973 : BitVec 32 := Scalar.addi v4966 c1_i32_4817
  let v4974 : Index := Scalar.indexCast v4973
  let c0_4819 : Index := 0#32
  let c0_4820 : Index := 0#32
  ![0, v4974.toNat, 0, 0]

def k0_chk351 (v4966 : BitVec 32) : Prop :=
  (∀ a, (k0_off701 v4966) a + S1x1x1x128.size a ≤ S1x33344x1x128.size a) ∧
  (∀ a, (k0_off702 v4966) a + S1x1x1x128.size a ≤ S1x33344x1x128.size a)
theorem k0_off701_inb : ∀ (v4966 : BitVec 32) (k0_hw351 : k0_chk351 v4966), ∀ a, (k0_off701 v4966) a + S1x1x1x128.size a ≤ S1x33344x1x128.size a := fun v4966 k0_hw351 => k0_hw351.1
theorem k0_off702_inb : ∀ (v4966 : BitVec 32) (k0_hw351 : k0_chk351 v4966), ∀ a, (k0_off702 v4966) a + S1x1x1x128.size a ≤ S1x33344x1x128.size a := fun v4966 k0_hw351 => k0_hw351.2

def k0_off703 (v4980 : BitVec 32) : Fin 4 → Nat :=
  let c0_4826 : Index := 0#32
  let v4981 : Index := Scalar.indexCast v4980
  let c0_4827 : Index := 0#32
  let c0_4828 : Index := 0#32
  ![0, v4981.toNat, 0, 0]

def k0_off704 (v4980 : BitVec 32) : Fin 4 → Nat :=
  let c0_4832 : Index := 0#32
  let c1_i32_4831 : BitVec 32 := 1#32
  let v4987 : BitVec 32 := Scalar.addi v4980 c1_i32_4831
  let v4988 : Index := Scalar.indexCast v4987
  let c0_4833 : Index := 0#32
  let c0_4834 : Index := 0#32
  ![0, v4988.toNat, 0, 0]

def k0_chk352 (v4980 : BitVec 32) : Prop :=
  (∀ a, (k0_off703 v4980) a + S1x1x1x128.size a ≤ S1x33344x1x128.size a) ∧
  (∀ a, (k0_off704 v4980) a + S1x1x1x128.size a ≤ S1x33344x1x128.size a)
theorem k0_off703_inb : ∀ (v4980 : BitVec 32) (k0_hw352 : k0_chk352 v4980), ∀ a, (k0_off703 v4980) a + S1x1x1x128.size a ≤ S1x33344x1x128.size a := fun v4980 k0_hw352 => k0_hw352.1
theorem k0_off704_inb : ∀ (v4980 : BitVec 32) (k0_hw352 : k0_chk352 v4980), ∀ a, (k0_off704 v4980) a + S1x1x1x128.size a ≤ S1x33344x1x128.size a := fun v4980 k0_hw352 => k0_hw352.2

def k0_off705 (v4994 : BitVec 32) : Fin 4 → Nat :=
  let c0_4840 : Index := 0#32
  let v4995 : Index := Scalar.indexCast v4994
  let c0_4841 : Index := 0#32
  let c0_4842 : Index := 0#32
  ![0, v4995.toNat, 0, 0]

def k0_off706 (v4994 : BitVec 32) : Fin 4 → Nat :=
  let c0_4846 : Index := 0#32
  let c1_i32_4845 : BitVec 32 := 1#32
  let v5001 : BitVec 32 := Scalar.addi v4994 c1_i32_4845
  let v5002 : Index := Scalar.indexCast v5001
  let c0_4847 : Index := 0#32
  let c0_4848 : Index := 0#32
  ![0, v5002.toNat, 0, 0]

def k0_chk353 (v4994 : BitVec 32) : Prop :=
  (∀ a, (k0_off705 v4994) a + S1x1x1x128.size a ≤ S1x33344x1x128.size a) ∧
  (∀ a, (k0_off706 v4994) a + S1x1x1x128.size a ≤ S1x33344x1x128.size a)
theorem k0_off705_inb : ∀ (v4994 : BitVec 32) (k0_hw353 : k0_chk353 v4994), ∀ a, (k0_off705 v4994) a + S1x1x1x128.size a ≤ S1x33344x1x128.size a := fun v4994 k0_hw353 => k0_hw353.1
theorem k0_off706_inb : ∀ (v4994 : BitVec 32) (k0_hw353 : k0_chk353 v4994), ∀ a, (k0_off706 v4994) a + S1x1x1x128.size a ≤ S1x33344x1x128.size a := fun v4994 k0_hw353 => k0_hw353.2

def k0_off707 (v5008 : BitVec 32) : Fin 4 → Nat :=
  let c0_4854 : Index := 0#32
  let v5009 : Index := Scalar.indexCast v5008
  let c0_4855 : Index := 0#32
  let c0_4856 : Index := 0#32
  ![0, v5009.toNat, 0, 0]

def k0_off708 (v5008 : BitVec 32) : Fin 4 → Nat :=
  let c0_4860 : Index := 0#32
  let c1_i32_4859 : BitVec 32 := 1#32
  let v5015 : BitVec 32 := Scalar.addi v5008 c1_i32_4859
  let v5016 : Index := Scalar.indexCast v5015
  let c0_4861 : Index := 0#32
  let c0_4862 : Index := 0#32
  ![0, v5016.toNat, 0, 0]

def k0_chk354 (v5008 : BitVec 32) : Prop :=
  (∀ a, (k0_off707 v5008) a + S1x1x1x128.size a ≤ S1x33344x1x128.size a) ∧
  (∀ a, (k0_off708 v5008) a + S1x1x1x128.size a ≤ S1x33344x1x128.size a)
theorem k0_off707_inb : ∀ (v5008 : BitVec 32) (k0_hw354 : k0_chk354 v5008), ∀ a, (k0_off707 v5008) a + S1x1x1x128.size a ≤ S1x33344x1x128.size a := fun v5008 k0_hw354 => k0_hw354.1
theorem k0_off708_inb : ∀ (v5008 : BitVec 32) (k0_hw354 : k0_chk354 v5008), ∀ a, (k0_off708 v5008) a + S1x1x1x128.size a ≤ S1x33344x1x128.size a := fun v5008 k0_hw354 => k0_hw354.2

def k0_off709 (v5022 : BitVec 32) : Fin 4 → Nat :=
  let c0_4868 : Index := 0#32
  let v5023 : Index := Scalar.indexCast v5022
  let c0_4869 : Index := 0#32
  let c0_4870 : Index := 0#32
  ![0, v5023.toNat, 0, 0]

def k0_off710 (v5022 : BitVec 32) : Fin 4 → Nat :=
  let c0_4874 : Index := 0#32
  let c1_i32_4873 : BitVec 32 := 1#32
  let v5029 : BitVec 32 := Scalar.addi v5022 c1_i32_4873
  let v5030 : Index := Scalar.indexCast v5029
  let c0_4875 : Index := 0#32
  let c0_4876 : Index := 0#32
  ![0, v5030.toNat, 0, 0]

def k0_chk355 (v5022 : BitVec 32) : Prop :=
  (∀ a, (k0_off709 v5022) a + S1x1x1x128.size a ≤ S1x33344x1x128.size a) ∧
  (∀ a, (k0_off710 v5022) a + S1x1x1x128.size a ≤ S1x33344x1x128.size a)
theorem k0_off709_inb : ∀ (v5022 : BitVec 32) (k0_hw355 : k0_chk355 v5022), ∀ a, (k0_off709 v5022) a + S1x1x1x128.size a ≤ S1x33344x1x128.size a := fun v5022 k0_hw355 => k0_hw355.1
theorem k0_off710_inb : ∀ (v5022 : BitVec 32) (k0_hw355 : k0_chk355 v5022), ∀ a, (k0_off710 v5022) a + S1x1x1x128.size a ≤ S1x33344x1x128.size a := fun v5022 k0_hw355 => k0_hw355.2

def k0_off711 (v5036 : BitVec 32) : Fin 4 → Nat :=
  let c0_4882 : Index := 0#32
  let v5037 : Index := Scalar.indexCast v5036
  let c0_4883 : Index := 0#32
  let c0_4884 : Index := 0#32
  ![0, v5037.toNat, 0, 0]

def k0_off712 (v5036 : BitVec 32) : Fin 4 → Nat :=
  let c0_4888 : Index := 0#32
  let c1_i32_4887 : BitVec 32 := 1#32
  let v5043 : BitVec 32 := Scalar.addi v5036 c1_i32_4887
  let v5044 : Index := Scalar.indexCast v5043
  let c0_4889 : Index := 0#32
  let c0_4890 : Index := 0#32
  ![0, v5044.toNat, 0, 0]

def k0_chk356 (v5036 : BitVec 32) : Prop :=
  (∀ a, (k0_off711 v5036) a + S1x1x1x128.size a ≤ S1x33344x1x128.size a) ∧
  (∀ a, (k0_off712 v5036) a + S1x1x1x128.size a ≤ S1x33344x1x128.size a)
theorem k0_off711_inb : ∀ (v5036 : BitVec 32) (k0_hw356 : k0_chk356 v5036), ∀ a, (k0_off711 v5036) a + S1x1x1x128.size a ≤ S1x33344x1x128.size a := fun v5036 k0_hw356 => k0_hw356.1
theorem k0_off712_inb : ∀ (v5036 : BitVec 32) (k0_hw356 : k0_chk356 v5036), ∀ a, (k0_off712 v5036) a + S1x1x1x128.size a ≤ S1x33344x1x128.size a := fun v5036 k0_hw356 => k0_hw356.2

def k0_off713 (v5050 : BitVec 32) : Fin 4 → Nat :=
  let c0_4896 : Index := 0#32
  let v5051 : Index := Scalar.indexCast v5050
  let c0_4897 : Index := 0#32
  let c0_4898 : Index := 0#32
  ![0, v5051.toNat, 0, 0]

def k0_off714 (v5050 : BitVec 32) : Fin 4 → Nat :=
  let c0_4902 : Index := 0#32
  let c1_i32_4901 : BitVec 32 := 1#32
  let v5057 : BitVec 32 := Scalar.addi v5050 c1_i32_4901
  let v5058 : Index := Scalar.indexCast v5057
  let c0_4903 : Index := 0#32
  let c0_4904 : Index := 0#32
  ![0, v5058.toNat, 0, 0]

def k0_chk357 (v5050 : BitVec 32) : Prop :=
  (∀ a, (k0_off713 v5050) a + S1x1x1x128.size a ≤ S1x33344x1x128.size a) ∧
  (∀ a, (k0_off714 v5050) a + S1x1x1x128.size a ≤ S1x33344x1x128.size a)
theorem k0_off713_inb : ∀ (v5050 : BitVec 32) (k0_hw357 : k0_chk357 v5050), ∀ a, (k0_off713 v5050) a + S1x1x1x128.size a ≤ S1x33344x1x128.size a := fun v5050 k0_hw357 => k0_hw357.1
theorem k0_off714_inb : ∀ (v5050 : BitVec 32) (k0_hw357 : k0_chk357 v5050), ∀ a, (k0_off714 v5050) a + S1x1x1x128.size a ≤ S1x33344x1x128.size a := fun v5050 k0_hw357 => k0_hw357.2

def k0_off715 (v5064 : BitVec 32) : Fin 4 → Nat :=
  let c0_4910 : Index := 0#32
  let v5065 : Index := Scalar.indexCast v5064
  let c0_4911 : Index := 0#32
  let c0_4912 : Index := 0#32
  ![0, v5065.toNat, 0, 0]

def k0_off716 (v5064 : BitVec 32) : Fin 4 → Nat :=
  let c0_4916 : Index := 0#32
  let c1_i32_4915 : BitVec 32 := 1#32
  let v5071 : BitVec 32 := Scalar.addi v5064 c1_i32_4915
  let v5072 : Index := Scalar.indexCast v5071
  let c0_4917 : Index := 0#32
  let c0_4918 : Index := 0#32
  ![0, v5072.toNat, 0, 0]

def k0_chk358 (v5064 : BitVec 32) : Prop :=
  (∀ a, (k0_off715 v5064) a + S1x1x1x128.size a ≤ S1x33344x1x128.size a) ∧
  (∀ a, (k0_off716 v5064) a + S1x1x1x128.size a ≤ S1x33344x1x128.size a)
theorem k0_off715_inb : ∀ (v5064 : BitVec 32) (k0_hw358 : k0_chk358 v5064), ∀ a, (k0_off715 v5064) a + S1x1x1x128.size a ≤ S1x33344x1x128.size a := fun v5064 k0_hw358 => k0_hw358.1
theorem k0_off716_inb : ∀ (v5064 : BitVec 32) (k0_hw358 : k0_chk358 v5064), ∀ a, (k0_off716 v5064) a + S1x1x1x128.size a ≤ S1x33344x1x128.size a := fun v5064 k0_hw358 => k0_hw358.2

def k0_off717 (v5078 : BitVec 32) : Fin 4 → Nat :=
  let c0_4924 : Index := 0#32
  let v5079 : Index := Scalar.indexCast v5078
  let c0_4925 : Index := 0#32
  let c0_4926 : Index := 0#32
  ![0, v5079.toNat, 0, 0]

def k0_off718 (v5078 : BitVec 32) : Fin 4 → Nat :=
  let c0_4930 : Index := 0#32
  let c1_i32_4929 : BitVec 32 := 1#32
  let v5085 : BitVec 32 := Scalar.addi v5078 c1_i32_4929
  let v5086 : Index := Scalar.indexCast v5085
  let c0_4931 : Index := 0#32
  let c0_4932 : Index := 0#32
  ![0, v5086.toNat, 0, 0]

def k0_chk359 (v5078 : BitVec 32) : Prop :=
  (∀ a, (k0_off717 v5078) a + S1x1x1x128.size a ≤ S1x33344x1x128.size a) ∧
  (∀ a, (k0_off718 v5078) a + S1x1x1x128.size a ≤ S1x33344x1x128.size a)
theorem k0_off717_inb : ∀ (v5078 : BitVec 32) (k0_hw359 : k0_chk359 v5078), ∀ a, (k0_off717 v5078) a + S1x1x1x128.size a ≤ S1x33344x1x128.size a := fun v5078 k0_hw359 => k0_hw359.1
theorem k0_off718_inb : ∀ (v5078 : BitVec 32) (k0_hw359 : k0_chk359 v5078), ∀ a, (k0_off718 v5078) a + S1x1x1x128.size a ≤ S1x33344x1x128.size a := fun v5078 k0_hw359 => k0_hw359.2

def k0_off719 (v5092 : BitVec 32) : Fin 4 → Nat :=
  let c0_4938 : Index := 0#32
  let v5093 : Index := Scalar.indexCast v5092
  let c0_4939 : Index := 0#32
  let c0_4940 : Index := 0#32
  ![0, v5093.toNat, 0, 0]

def k0_off720 (v5092 : BitVec 32) : Fin 4 → Nat :=
  let c0_4944 : Index := 0#32
  let c1_i32_4943 : BitVec 32 := 1#32
  let v5099 : BitVec 32 := Scalar.addi v5092 c1_i32_4943
  let v5100 : Index := Scalar.indexCast v5099
  let c0_4945 : Index := 0#32
  let c0_4946 : Index := 0#32
  ![0, v5100.toNat, 0, 0]

def k0_chk360 (v5092 : BitVec 32) : Prop :=
  (∀ a, (k0_off719 v5092) a + S1x1x1x128.size a ≤ S1x33344x1x128.size a) ∧
  (∀ a, (k0_off720 v5092) a + S1x1x1x128.size a ≤ S1x33344x1x128.size a)
theorem k0_off719_inb : ∀ (v5092 : BitVec 32) (k0_hw360 : k0_chk360 v5092), ∀ a, (k0_off719 v5092) a + S1x1x1x128.size a ≤ S1x33344x1x128.size a := fun v5092 k0_hw360 => k0_hw360.1
theorem k0_off720_inb : ∀ (v5092 : BitVec 32) (k0_hw360 : k0_chk360 v5092), ∀ a, (k0_off720 v5092) a + S1x1x1x128.size a ≤ S1x33344x1x128.size a := fun v5092 k0_hw360 => k0_hw360.2

def k0_off721 (v5106 : BitVec 32) : Fin 4 → Nat :=
  let c0_4952 : Index := 0#32
  let v5107 : Index := Scalar.indexCast v5106
  let c0_4953 : Index := 0#32
  let c0_4954 : Index := 0#32
  ![0, v5107.toNat, 0, 0]

def k0_off722 (v5106 : BitVec 32) : Fin 4 → Nat :=
  let c0_4958 : Index := 0#32
  let c1_i32_4957 : BitVec 32 := 1#32
  let v5113 : BitVec 32 := Scalar.addi v5106 c1_i32_4957
  let v5114 : Index := Scalar.indexCast v5113
  let c0_4959 : Index := 0#32
  let c0_4960 : Index := 0#32
  ![0, v5114.toNat, 0, 0]

def k0_chk361 (v5106 : BitVec 32) : Prop :=
  (∀ a, (k0_off721 v5106) a + S1x1x1x128.size a ≤ S1x33344x1x128.size a) ∧
  (∀ a, (k0_off722 v5106) a + S1x1x1x128.size a ≤ S1x33344x1x128.size a)
theorem k0_off721_inb : ∀ (v5106 : BitVec 32) (k0_hw361 : k0_chk361 v5106), ∀ a, (k0_off721 v5106) a + S1x1x1x128.size a ≤ S1x33344x1x128.size a := fun v5106 k0_hw361 => k0_hw361.1
theorem k0_off722_inb : ∀ (v5106 : BitVec 32) (k0_hw361 : k0_chk361 v5106), ∀ a, (k0_off722 v5106) a + S1x1x1x128.size a ≤ S1x33344x1x128.size a := fun v5106 k0_hw361 => k0_hw361.2

def k0_off723 (v5120 : BitVec 32) : Fin 4 → Nat :=
  let c0_4966 : Index := 0#32
  let v5121 : Index := Scalar.indexCast v5120
  let c0_4967 : Index := 0#32
  let c0_4968 : Index := 0#32
  ![0, v5121.toNat, 0, 0]

def k0_off724 (v5120 : BitVec 32) : Fin 4 → Nat :=
  let c0_4972 : Index := 0#32
  let c1_i32_4971 : BitVec 32 := 1#32
  let v5127 : BitVec 32 := Scalar.addi v5120 c1_i32_4971
  let v5128 : Index := Scalar.indexCast v5127
  let c0_4973 : Index := 0#32
  let c0_4974 : Index := 0#32
  ![0, v5128.toNat, 0, 0]

def k0_chk362 (v5120 : BitVec 32) : Prop :=
  (∀ a, (k0_off723 v5120) a + S1x1x1x128.size a ≤ S1x33344x1x128.size a) ∧
  (∀ a, (k0_off724 v5120) a + S1x1x1x128.size a ≤ S1x33344x1x128.size a)
theorem k0_off723_inb : ∀ (v5120 : BitVec 32) (k0_hw362 : k0_chk362 v5120), ∀ a, (k0_off723 v5120) a + S1x1x1x128.size a ≤ S1x33344x1x128.size a := fun v5120 k0_hw362 => k0_hw362.1
theorem k0_off724_inb : ∀ (v5120 : BitVec 32) (k0_hw362 : k0_chk362 v5120), ∀ a, (k0_off724 v5120) a + S1x1x1x128.size a ≤ S1x33344x1x128.size a := fun v5120 k0_hw362 => k0_hw362.2

def k0_off725 (v5134 : BitVec 32) : Fin 4 → Nat :=
  let c0_4980 : Index := 0#32
  let v5135 : Index := Scalar.indexCast v5134
  let c0_4981 : Index := 0#32
  let c0_4982 : Index := 0#32
  ![0, v5135.toNat, 0, 0]

def k0_off726 (v5134 : BitVec 32) : Fin 4 → Nat :=
  let c0_4986 : Index := 0#32
  let c1_i32_4985 : BitVec 32 := 1#32
  let v5141 : BitVec 32 := Scalar.addi v5134 c1_i32_4985
  let v5142 : Index := Scalar.indexCast v5141
  let c0_4987 : Index := 0#32
  let c0_4988 : Index := 0#32
  ![0, v5142.toNat, 0, 0]

def k0_chk363 (v5134 : BitVec 32) : Prop :=
  (∀ a, (k0_off725 v5134) a + S1x1x1x128.size a ≤ S1x33344x1x128.size a) ∧
  (∀ a, (k0_off726 v5134) a + S1x1x1x128.size a ≤ S1x33344x1x128.size a)
theorem k0_off725_inb : ∀ (v5134 : BitVec 32) (k0_hw363 : k0_chk363 v5134), ∀ a, (k0_off725 v5134) a + S1x1x1x128.size a ≤ S1x33344x1x128.size a := fun v5134 k0_hw363 => k0_hw363.1
theorem k0_off726_inb : ∀ (v5134 : BitVec 32) (k0_hw363 : k0_chk363 v5134), ∀ a, (k0_off726 v5134) a + S1x1x1x128.size a ≤ S1x33344x1x128.size a := fun v5134 k0_hw363 => k0_hw363.2

def k0_off727 (v5148 : BitVec 32) : Fin 4 → Nat :=
  let c0_4994 : Index := 0#32
  let v5149 : Index := Scalar.indexCast v5148
  let c0_4995 : Index := 0#32
  let c0_4996 : Index := 0#32
  ![0, v5149.toNat, 0, 0]

def k0_off728 (v5148 : BitVec 32) : Fin 4 → Nat :=
  let c0_5000 : Index := 0#32
  let c1_i32_4999 : BitVec 32 := 1#32
  let v5155 : BitVec 32 := Scalar.addi v5148 c1_i32_4999
  let v5156 : Index := Scalar.indexCast v5155
  let c0_5001 : Index := 0#32
  let c0_5002 : Index := 0#32
  ![0, v5156.toNat, 0, 0]

def k0_chk364 (v5148 : BitVec 32) : Prop :=
  (∀ a, (k0_off727 v5148) a + S1x1x1x128.size a ≤ S1x33344x1x128.size a) ∧
  (∀ a, (k0_off728 v5148) a + S1x1x1x128.size a ≤ S1x33344x1x128.size a)
theorem k0_off727_inb : ∀ (v5148 : BitVec 32) (k0_hw364 : k0_chk364 v5148), ∀ a, (k0_off727 v5148) a + S1x1x1x128.size a ≤ S1x33344x1x128.size a := fun v5148 k0_hw364 => k0_hw364.1
theorem k0_off728_inb : ∀ (v5148 : BitVec 32) (k0_hw364 : k0_chk364 v5148), ∀ a, (k0_off728 v5148) a + S1x1x1x128.size a ≤ S1x33344x1x128.size a := fun v5148 k0_hw364 => k0_hw364.2

def k0_off729 (v5162 : BitVec 32) : Fin 4 → Nat :=
  let c0_5008 : Index := 0#32
  let v5163 : Index := Scalar.indexCast v5162
  let c0_5009 : Index := 0#32
  let c0_5010 : Index := 0#32
  ![0, v5163.toNat, 0, 0]

def k0_off730 (v5162 : BitVec 32) : Fin 4 → Nat :=
  let c0_5014 : Index := 0#32
  let c1_i32_5013 : BitVec 32 := 1#32
  let v5169 : BitVec 32 := Scalar.addi v5162 c1_i32_5013
  let v5170 : Index := Scalar.indexCast v5169
  let c0_5015 : Index := 0#32
  let c0_5016 : Index := 0#32
  ![0, v5170.toNat, 0, 0]

def k0_chk365 (v5162 : BitVec 32) : Prop :=
  (∀ a, (k0_off729 v5162) a + S1x1x1x128.size a ≤ S1x33344x1x128.size a) ∧
  (∀ a, (k0_off730 v5162) a + S1x1x1x128.size a ≤ S1x33344x1x128.size a)
theorem k0_off729_inb : ∀ (v5162 : BitVec 32) (k0_hw365 : k0_chk365 v5162), ∀ a, (k0_off729 v5162) a + S1x1x1x128.size a ≤ S1x33344x1x128.size a := fun v5162 k0_hw365 => k0_hw365.1
theorem k0_off730_inb : ∀ (v5162 : BitVec 32) (k0_hw365 : k0_chk365 v5162), ∀ a, (k0_off730 v5162) a + S1x1x1x128.size a ≤ S1x33344x1x128.size a := fun v5162 k0_hw365 => k0_hw365.2

def k0_off731 (v5176 : BitVec 32) : Fin 4 → Nat :=
  let c0_5022 : Index := 0#32
  let v5177 : Index := Scalar.indexCast v5176
  let c0_5023 : Index := 0#32
  let c0_5024 : Index := 0#32
  ![0, v5177.toNat, 0, 0]

def k0_off732 (v5176 : BitVec 32) : Fin 4 → Nat :=
  let c0_5028 : Index := 0#32
  let c1_i32_5027 : BitVec 32 := 1#32
  let v5183 : BitVec 32 := Scalar.addi v5176 c1_i32_5027
  let v5184 : Index := Scalar.indexCast v5183
  let c0_5029 : Index := 0#32
  let c0_5030 : Index := 0#32
  ![0, v5184.toNat, 0, 0]

def k0_chk366 (v5176 : BitVec 32) : Prop :=
  (∀ a, (k0_off731 v5176) a + S1x1x1x128.size a ≤ S1x33344x1x128.size a) ∧
  (∀ a, (k0_off732 v5176) a + S1x1x1x128.size a ≤ S1x33344x1x128.size a)
theorem k0_off731_inb : ∀ (v5176 : BitVec 32) (k0_hw366 : k0_chk366 v5176), ∀ a, (k0_off731 v5176) a + S1x1x1x128.size a ≤ S1x33344x1x128.size a := fun v5176 k0_hw366 => k0_hw366.1
theorem k0_off732_inb : ∀ (v5176 : BitVec 32) (k0_hw366 : k0_chk366 v5176), ∀ a, (k0_off732 v5176) a + S1x1x1x128.size a ≤ S1x33344x1x128.size a := fun v5176 k0_hw366 => k0_hw366.2

def k0_off733 (v5190 : BitVec 32) : Fin 4 → Nat :=
  let c0_5036 : Index := 0#32
  let v5191 : Index := Scalar.indexCast v5190
  let c0_5037 : Index := 0#32
  let c0_5038 : Index := 0#32
  ![0, v5191.toNat, 0, 0]

def k0_off734 (v5190 : BitVec 32) : Fin 4 → Nat :=
  let c0_5042 : Index := 0#32
  let c1_i32_5041 : BitVec 32 := 1#32
  let v5197 : BitVec 32 := Scalar.addi v5190 c1_i32_5041
  let v5198 : Index := Scalar.indexCast v5197
  let c0_5043 : Index := 0#32
  let c0_5044 : Index := 0#32
  ![0, v5198.toNat, 0, 0]

def k0_chk367 (v5190 : BitVec 32) : Prop :=
  (∀ a, (k0_off733 v5190) a + S1x1x1x128.size a ≤ S1x33344x1x128.size a) ∧
  (∀ a, (k0_off734 v5190) a + S1x1x1x128.size a ≤ S1x33344x1x128.size a)
theorem k0_off733_inb : ∀ (v5190 : BitVec 32) (k0_hw367 : k0_chk367 v5190), ∀ a, (k0_off733 v5190) a + S1x1x1x128.size a ≤ S1x33344x1x128.size a := fun v5190 k0_hw367 => k0_hw367.1
theorem k0_off734_inb : ∀ (v5190 : BitVec 32) (k0_hw367 : k0_chk367 v5190), ∀ a, (k0_off734 v5190) a + S1x1x1x128.size a ≤ S1x33344x1x128.size a := fun v5190 k0_hw367 => k0_hw367.2

def k0_off735 (v5204 : BitVec 32) : Fin 4 → Nat :=
  let c0_5050 : Index := 0#32
  let v5205 : Index := Scalar.indexCast v5204
  let c0_5051 : Index := 0#32
  let c0_5052 : Index := 0#32
  ![0, v5205.toNat, 0, 0]

def k0_off736 (v5204 : BitVec 32) : Fin 4 → Nat :=
  let c0_5056 : Index := 0#32
  let c1_i32_5055 : BitVec 32 := 1#32
  let v5211 : BitVec 32 := Scalar.addi v5204 c1_i32_5055
  let v5212 : Index := Scalar.indexCast v5211
  let c0_5057 : Index := 0#32
  let c0_5058 : Index := 0#32
  ![0, v5212.toNat, 0, 0]

def k0_chk368 (v5204 : BitVec 32) : Prop :=
  (∀ a, (k0_off735 v5204) a + S1x1x1x128.size a ≤ S1x33344x1x128.size a) ∧
  (∀ a, (k0_off736 v5204) a + S1x1x1x128.size a ≤ S1x33344x1x128.size a)
theorem k0_off735_inb : ∀ (v5204 : BitVec 32) (k0_hw368 : k0_chk368 v5204), ∀ a, (k0_off735 v5204) a + S1x1x1x128.size a ≤ S1x33344x1x128.size a := fun v5204 k0_hw368 => k0_hw368.1
theorem k0_off736_inb : ∀ (v5204 : BitVec 32) (k0_hw368 : k0_chk368 v5204), ∀ a, (k0_off736 v5204) a + S1x1x1x128.size a ≤ S1x33344x1x128.size a := fun v5204 k0_hw368 => k0_hw368.2

def k0_off737 (v5218 : BitVec 32) : Fin 4 → Nat :=
  let c0_5064 : Index := 0#32
  let v5219 : Index := Scalar.indexCast v5218
  let c0_5065 : Index := 0#32
  let c0_5066 : Index := 0#32
  ![0, v5219.toNat, 0, 0]

def k0_off738 (v5218 : BitVec 32) : Fin 4 → Nat :=
  let c0_5070 : Index := 0#32
  let c1_i32_5069 : BitVec 32 := 1#32
  let v5225 : BitVec 32 := Scalar.addi v5218 c1_i32_5069
  let v5226 : Index := Scalar.indexCast v5225
  let c0_5071 : Index := 0#32
  let c0_5072 : Index := 0#32
  ![0, v5226.toNat, 0, 0]

def k0_chk369 (v5218 : BitVec 32) : Prop :=
  (∀ a, (k0_off737 v5218) a + S1x1x1x128.size a ≤ S1x33344x1x128.size a) ∧
  (∀ a, (k0_off738 v5218) a + S1x1x1x128.size a ≤ S1x33344x1x128.size a)
theorem k0_off737_inb : ∀ (v5218 : BitVec 32) (k0_hw369 : k0_chk369 v5218), ∀ a, (k0_off737 v5218) a + S1x1x1x128.size a ≤ S1x33344x1x128.size a := fun v5218 k0_hw369 => k0_hw369.1
theorem k0_off738_inb : ∀ (v5218 : BitVec 32) (k0_hw369 : k0_chk369 v5218), ∀ a, (k0_off738 v5218) a + S1x1x1x128.size a ≤ S1x33344x1x128.size a := fun v5218 k0_hw369 => k0_hw369.2

def k0_off739 (v5232 : BitVec 32) : Fin 4 → Nat :=
  let c0_5078 : Index := 0#32
  let v5233 : Index := Scalar.indexCast v5232
  let c0_5079 : Index := 0#32
  let c0_5080 : Index := 0#32
  ![0, v5233.toNat, 0, 0]

def k0_off740 (v5232 : BitVec 32) : Fin 4 → Nat :=
  let c0_5084 : Index := 0#32
  let c1_i32_5083 : BitVec 32 := 1#32
  let v5239 : BitVec 32 := Scalar.addi v5232 c1_i32_5083
  let v5240 : Index := Scalar.indexCast v5239
  let c0_5085 : Index := 0#32
  let c0_5086 : Index := 0#32
  ![0, v5240.toNat, 0, 0]

def k0_chk370 (v5232 : BitVec 32) : Prop :=
  (∀ a, (k0_off739 v5232) a + S1x1x1x128.size a ≤ S1x33344x1x128.size a) ∧
  (∀ a, (k0_off740 v5232) a + S1x1x1x128.size a ≤ S1x33344x1x128.size a)
theorem k0_off739_inb : ∀ (v5232 : BitVec 32) (k0_hw370 : k0_chk370 v5232), ∀ a, (k0_off739 v5232) a + S1x1x1x128.size a ≤ S1x33344x1x128.size a := fun v5232 k0_hw370 => k0_hw370.1
theorem k0_off740_inb : ∀ (v5232 : BitVec 32) (k0_hw370 : k0_chk370 v5232), ∀ a, (k0_off740 v5232) a + S1x1x1x128.size a ≤ S1x33344x1x128.size a := fun v5232 k0_hw370 => k0_hw370.2

def k0_off741 (v5246 : BitVec 32) : Fin 4 → Nat :=
  let c0_5092 : Index := 0#32
  let v5247 : Index := Scalar.indexCast v5246
  let c0_5093 : Index := 0#32
  let c0_5094 : Index := 0#32
  ![0, v5247.toNat, 0, 0]

def k0_off742 (v5246 : BitVec 32) : Fin 4 → Nat :=
  let c0_5098 : Index := 0#32
  let c1_i32_5097 : BitVec 32 := 1#32
  let v5253 : BitVec 32 := Scalar.addi v5246 c1_i32_5097
  let v5254 : Index := Scalar.indexCast v5253
  let c0_5099 : Index := 0#32
  let c0_5100 : Index := 0#32
  ![0, v5254.toNat, 0, 0]

def k0_chk371 (v5246 : BitVec 32) : Prop :=
  (∀ a, (k0_off741 v5246) a + S1x1x1x128.size a ≤ S1x33344x1x128.size a) ∧
  (∀ a, (k0_off742 v5246) a + S1x1x1x128.size a ≤ S1x33344x1x128.size a)
theorem k0_off741_inb : ∀ (v5246 : BitVec 32) (k0_hw371 : k0_chk371 v5246), ∀ a, (k0_off741 v5246) a + S1x1x1x128.size a ≤ S1x33344x1x128.size a := fun v5246 k0_hw371 => k0_hw371.1
theorem k0_off742_inb : ∀ (v5246 : BitVec 32) (k0_hw371 : k0_chk371 v5246), ∀ a, (k0_off742 v5246) a + S1x1x1x128.size a ≤ S1x33344x1x128.size a := fun v5246 k0_hw371 => k0_hw371.2

def k0_off743 (v5260 : BitVec 32) : Fin 4 → Nat :=
  let c0_5106 : Index := 0#32
  let v5261 : Index := Scalar.indexCast v5260
  let c0_5107 : Index := 0#32
  let c0_5108 : Index := 0#32
  ![0, v5261.toNat, 0, 0]

def k0_off744 (v5260 : BitVec 32) : Fin 4 → Nat :=
  let c0_5112 : Index := 0#32
  let c1_i32_5111 : BitVec 32 := 1#32
  let v5267 : BitVec 32 := Scalar.addi v5260 c1_i32_5111
  let v5268 : Index := Scalar.indexCast v5267
  let c0_5113 : Index := 0#32
  let c0_5114 : Index := 0#32
  ![0, v5268.toNat, 0, 0]

def k0_chk372 (v5260 : BitVec 32) : Prop :=
  (∀ a, (k0_off743 v5260) a + S1x1x1x128.size a ≤ S1x33344x1x128.size a) ∧
  (∀ a, (k0_off744 v5260) a + S1x1x1x128.size a ≤ S1x33344x1x128.size a)
theorem k0_off743_inb : ∀ (v5260 : BitVec 32) (k0_hw372 : k0_chk372 v5260), ∀ a, (k0_off743 v5260) a + S1x1x1x128.size a ≤ S1x33344x1x128.size a := fun v5260 k0_hw372 => k0_hw372.1
theorem k0_off744_inb : ∀ (v5260 : BitVec 32) (k0_hw372 : k0_chk372 v5260), ∀ a, (k0_off744 v5260) a + S1x1x1x128.size a ≤ S1x33344x1x128.size a := fun v5260 k0_hw372 => k0_hw372.2

def k0_off745 (v5274 : BitVec 32) : Fin 4 → Nat :=
  let c0_5120 : Index := 0#32
  let v5275 : Index := Scalar.indexCast v5274
  let c0_5121 : Index := 0#32
  let c0_5122 : Index := 0#32
  ![0, v5275.toNat, 0, 0]

def k0_off746 (v5274 : BitVec 32) : Fin 4 → Nat :=
  let c0_5126 : Index := 0#32
  let c1_i32_5125 : BitVec 32 := 1#32
  let v5281 : BitVec 32 := Scalar.addi v5274 c1_i32_5125
  let v5282 : Index := Scalar.indexCast v5281
  let c0_5127 : Index := 0#32
  let c0_5128 : Index := 0#32
  ![0, v5282.toNat, 0, 0]

def k0_chk373 (v5274 : BitVec 32) : Prop :=
  (∀ a, (k0_off745 v5274) a + S1x1x1x128.size a ≤ S1x33344x1x128.size a) ∧
  (∀ a, (k0_off746 v5274) a + S1x1x1x128.size a ≤ S1x33344x1x128.size a)
theorem k0_off745_inb : ∀ (v5274 : BitVec 32) (k0_hw373 : k0_chk373 v5274), ∀ a, (k0_off745 v5274) a + S1x1x1x128.size a ≤ S1x33344x1x128.size a := fun v5274 k0_hw373 => k0_hw373.1
theorem k0_off746_inb : ∀ (v5274 : BitVec 32) (k0_hw373 : k0_chk373 v5274), ∀ a, (k0_off746 v5274) a + S1x1x1x128.size a ≤ S1x33344x1x128.size a := fun v5274 k0_hw373 => k0_hw373.2

def k0_off747 (v5288 : BitVec 32) : Fin 4 → Nat :=
  let c0_5134 : Index := 0#32
  let v5289 : Index := Scalar.indexCast v5288
  let c0_5135 : Index := 0#32
  let c0_5136 : Index := 0#32
  ![0, v5289.toNat, 0, 0]

def k0_off748 (v5288 : BitVec 32) : Fin 4 → Nat :=
  let c0_5140 : Index := 0#32
  let c1_i32_5139 : BitVec 32 := 1#32
  let v5295 : BitVec 32 := Scalar.addi v5288 c1_i32_5139
  let v5296 : Index := Scalar.indexCast v5295
  let c0_5141 : Index := 0#32
  let c0_5142 : Index := 0#32
  ![0, v5296.toNat, 0, 0]

def k0_chk374 (v5288 : BitVec 32) : Prop :=
  (∀ a, (k0_off747 v5288) a + S1x1x1x128.size a ≤ S1x33344x1x128.size a) ∧
  (∀ a, (k0_off748 v5288) a + S1x1x1x128.size a ≤ S1x33344x1x128.size a)
theorem k0_off747_inb : ∀ (v5288 : BitVec 32) (k0_hw374 : k0_chk374 v5288), ∀ a, (k0_off747 v5288) a + S1x1x1x128.size a ≤ S1x33344x1x128.size a := fun v5288 k0_hw374 => k0_hw374.1
theorem k0_off748_inb : ∀ (v5288 : BitVec 32) (k0_hw374 : k0_chk374 v5288), ∀ a, (k0_off748 v5288) a + S1x1x1x128.size a ≤ S1x33344x1x128.size a := fun v5288 k0_hw374 => k0_hw374.2

def k0_off749 (v5302 : BitVec 32) : Fin 4 → Nat :=
  let c0_5148 : Index := 0#32
  let v5303 : Index := Scalar.indexCast v5302
  let c0_5149 : Index := 0#32
  let c0_5150 : Index := 0#32
  ![0, v5303.toNat, 0, 0]

def k0_off750 (v5302 : BitVec 32) : Fin 4 → Nat :=
  let c0_5154 : Index := 0#32
  let c1_i32_5153 : BitVec 32 := 1#32
  let v5309 : BitVec 32 := Scalar.addi v5302 c1_i32_5153
  let v5310 : Index := Scalar.indexCast v5309
  let c0_5155 : Index := 0#32
  let c0_5156 : Index := 0#32
  ![0, v5310.toNat, 0, 0]

def k0_chk375 (v5302 : BitVec 32) : Prop :=
  (∀ a, (k0_off749 v5302) a + S1x1x1x128.size a ≤ S1x33344x1x128.size a) ∧
  (∀ a, (k0_off750 v5302) a + S1x1x1x128.size a ≤ S1x33344x1x128.size a)
theorem k0_off749_inb : ∀ (v5302 : BitVec 32) (k0_hw375 : k0_chk375 v5302), ∀ a, (k0_off749 v5302) a + S1x1x1x128.size a ≤ S1x33344x1x128.size a := fun v5302 k0_hw375 => k0_hw375.1
theorem k0_off750_inb : ∀ (v5302 : BitVec 32) (k0_hw375 : k0_chk375 v5302), ∀ a, (k0_off750 v5302) a + S1x1x1x128.size a ≤ S1x33344x1x128.size a := fun v5302 k0_hw375 => k0_hw375.2

def k0_off751 (v5316 : BitVec 32) : Fin 4 → Nat :=
  let c0_5162 : Index := 0#32
  let v5317 : Index := Scalar.indexCast v5316
  let c0_5163 : Index := 0#32
  let c0_5164 : Index := 0#32
  ![0, v5317.toNat, 0, 0]

def k0_off752 (v5316 : BitVec 32) : Fin 4 → Nat :=
  let c0_5168 : Index := 0#32
  let c1_i32_5167 : BitVec 32 := 1#32
  let v5323 : BitVec 32 := Scalar.addi v5316 c1_i32_5167
  let v5324 : Index := Scalar.indexCast v5323
  let c0_5169 : Index := 0#32
  let c0_5170 : Index := 0#32
  ![0, v5324.toNat, 0, 0]

def k0_chk376 (v5316 : BitVec 32) : Prop :=
  (∀ a, (k0_off751 v5316) a + S1x1x1x128.size a ≤ S1x33344x1x128.size a) ∧
  (∀ a, (k0_off752 v5316) a + S1x1x1x128.size a ≤ S1x33344x1x128.size a)
theorem k0_off751_inb : ∀ (v5316 : BitVec 32) (k0_hw376 : k0_chk376 v5316), ∀ a, (k0_off751 v5316) a + S1x1x1x128.size a ≤ S1x33344x1x128.size a := fun v5316 k0_hw376 => k0_hw376.1
theorem k0_off752_inb : ∀ (v5316 : BitVec 32) (k0_hw376 : k0_chk376 v5316), ∀ a, (k0_off752 v5316) a + S1x1x1x128.size a ≤ S1x33344x1x128.size a := fun v5316 k0_hw376 => k0_hw376.2

def k0_off753 (v5330 : BitVec 32) : Fin 4 → Nat :=
  let c0_5176 : Index := 0#32
  let v5331 : Index := Scalar.indexCast v5330
  let c0_5177 : Index := 0#32
  let c0_5178 : Index := 0#32
  ![0, v5331.toNat, 0, 0]

def k0_off754 (v5330 : BitVec 32) : Fin 4 → Nat :=
  let c0_5182 : Index := 0#32
  let c1_i32_5181 : BitVec 32 := 1#32
  let v5337 : BitVec 32 := Scalar.addi v5330 c1_i32_5181
  let v5338 : Index := Scalar.indexCast v5337
  let c0_5183 : Index := 0#32
  let c0_5184 : Index := 0#32
  ![0, v5338.toNat, 0, 0]

def k0_chk377 (v5330 : BitVec 32) : Prop :=
  (∀ a, (k0_off753 v5330) a + S1x1x1x128.size a ≤ S1x33344x1x128.size a) ∧
  (∀ a, (k0_off754 v5330) a + S1x1x1x128.size a ≤ S1x33344x1x128.size a)
theorem k0_off753_inb : ∀ (v5330 : BitVec 32) (k0_hw377 : k0_chk377 v5330), ∀ a, (k0_off753 v5330) a + S1x1x1x128.size a ≤ S1x33344x1x128.size a := fun v5330 k0_hw377 => k0_hw377.1
theorem k0_off754_inb : ∀ (v5330 : BitVec 32) (k0_hw377 : k0_chk377 v5330), ∀ a, (k0_off754 v5330) a + S1x1x1x128.size a ≤ S1x33344x1x128.size a := fun v5330 k0_hw377 => k0_hw377.2

def k0_off755 (v5344 : BitVec 32) : Fin 4 → Nat :=
  let c0_5190 : Index := 0#32
  let v5345 : Index := Scalar.indexCast v5344
  let c0_5191 : Index := 0#32
  let c0_5192 : Index := 0#32
  ![0, v5345.toNat, 0, 0]

def k0_off756 (v5344 : BitVec 32) : Fin 4 → Nat :=
  let c0_5196 : Index := 0#32
  let c1_i32_5195 : BitVec 32 := 1#32
  let v5351 : BitVec 32 := Scalar.addi v5344 c1_i32_5195
  let v5352 : Index := Scalar.indexCast v5351
  let c0_5197 : Index := 0#32
  let c0_5198 : Index := 0#32
  ![0, v5352.toNat, 0, 0]

def k0_chk378 (v5344 : BitVec 32) : Prop :=
  (∀ a, (k0_off755 v5344) a + S1x1x1x128.size a ≤ S1x33344x1x128.size a) ∧
  (∀ a, (k0_off756 v5344) a + S1x1x1x128.size a ≤ S1x33344x1x128.size a)
theorem k0_off755_inb : ∀ (v5344 : BitVec 32) (k0_hw378 : k0_chk378 v5344), ∀ a, (k0_off755 v5344) a + S1x1x1x128.size a ≤ S1x33344x1x128.size a := fun v5344 k0_hw378 => k0_hw378.1
theorem k0_off756_inb : ∀ (v5344 : BitVec 32) (k0_hw378 : k0_chk378 v5344), ∀ a, (k0_off756 v5344) a + S1x1x1x128.size a ≤ S1x33344x1x128.size a := fun v5344 k0_hw378 => k0_hw378.2

def k0_off757 (v5358 : BitVec 32) : Fin 4 → Nat :=
  let c0_5204 : Index := 0#32
  let v5359 : Index := Scalar.indexCast v5358
  let c0_5205 : Index := 0#32
  let c0_5206 : Index := 0#32
  ![0, v5359.toNat, 0, 0]

def k0_off758 (v5358 : BitVec 32) : Fin 4 → Nat :=
  let c0_5210 : Index := 0#32
  let c1_i32_5209 : BitVec 32 := 1#32
  let v5365 : BitVec 32 := Scalar.addi v5358 c1_i32_5209
  let v5366 : Index := Scalar.indexCast v5365
  let c0_5211 : Index := 0#32
  let c0_5212 : Index := 0#32
  ![0, v5366.toNat, 0, 0]

def k0_chk379 (v5358 : BitVec 32) : Prop :=
  (∀ a, (k0_off757 v5358) a + S1x1x1x128.size a ≤ S1x33344x1x128.size a) ∧
  (∀ a, (k0_off758 v5358) a + S1x1x1x128.size a ≤ S1x33344x1x128.size a)
theorem k0_off757_inb : ∀ (v5358 : BitVec 32) (k0_hw379 : k0_chk379 v5358), ∀ a, (k0_off757 v5358) a + S1x1x1x128.size a ≤ S1x33344x1x128.size a := fun v5358 k0_hw379 => k0_hw379.1
theorem k0_off758_inb : ∀ (v5358 : BitVec 32) (k0_hw379 : k0_chk379 v5358), ∀ a, (k0_off758 v5358) a + S1x1x1x128.size a ≤ S1x33344x1x128.size a := fun v5358 k0_hw379 => k0_hw379.2

def k0_off759 (v5372 : BitVec 32) : Fin 4 → Nat :=
  let c0_5218 : Index := 0#32
  let v5373 : Index := Scalar.indexCast v5372
  let c0_5219 : Index := 0#32
  let c0_5220 : Index := 0#32
  ![0, v5373.toNat, 0, 0]

def k0_off760 (v5372 : BitVec 32) : Fin 4 → Nat :=
  let c0_5224 : Index := 0#32
  let c1_i32_5223 : BitVec 32 := 1#32
  let v5379 : BitVec 32 := Scalar.addi v5372 c1_i32_5223
  let v5380 : Index := Scalar.indexCast v5379
  let c0_5225 : Index := 0#32
  let c0_5226 : Index := 0#32
  ![0, v5380.toNat, 0, 0]

def k0_chk380 (v5372 : BitVec 32) : Prop :=
  (∀ a, (k0_off759 v5372) a + S1x1x1x128.size a ≤ S1x33344x1x128.size a) ∧
  (∀ a, (k0_off760 v5372) a + S1x1x1x128.size a ≤ S1x33344x1x128.size a)
theorem k0_off759_inb : ∀ (v5372 : BitVec 32) (k0_hw380 : k0_chk380 v5372), ∀ a, (k0_off759 v5372) a + S1x1x1x128.size a ≤ S1x33344x1x128.size a := fun v5372 k0_hw380 => k0_hw380.1
theorem k0_off760_inb : ∀ (v5372 : BitVec 32) (k0_hw380 : k0_chk380 v5372), ∀ a, (k0_off760 v5372) a + S1x1x1x128.size a ≤ S1x33344x1x128.size a := fun v5372 k0_hw380 => k0_hw380.2

def k0_off761 (v5386 : BitVec 32) : Fin 4 → Nat :=
  let c0_5232 : Index := 0#32
  let v5387 : Index := Scalar.indexCast v5386
  let c0_5233 : Index := 0#32
  let c0_5234 : Index := 0#32
  ![0, v5387.toNat, 0, 0]

def k0_off762 (v5386 : BitVec 32) : Fin 4 → Nat :=
  let c0_5238 : Index := 0#32
  let c1_i32_5237 : BitVec 32 := 1#32
  let v5393 : BitVec 32 := Scalar.addi v5386 c1_i32_5237
  let v5394 : Index := Scalar.indexCast v5393
  let c0_5239 : Index := 0#32
  let c0_5240 : Index := 0#32
  ![0, v5394.toNat, 0, 0]

def k0_chk381 (v5386 : BitVec 32) : Prop :=
  (∀ a, (k0_off761 v5386) a + S1x1x1x128.size a ≤ S1x33344x1x128.size a) ∧
  (∀ a, (k0_off762 v5386) a + S1x1x1x128.size a ≤ S1x33344x1x128.size a)
theorem k0_off761_inb : ∀ (v5386 : BitVec 32) (k0_hw381 : k0_chk381 v5386), ∀ a, (k0_off761 v5386) a + S1x1x1x128.size a ≤ S1x33344x1x128.size a := fun v5386 k0_hw381 => k0_hw381.1
theorem k0_off762_inb : ∀ (v5386 : BitVec 32) (k0_hw381 : k0_chk381 v5386), ∀ a, (k0_off762 v5386) a + S1x1x1x128.size a ≤ S1x33344x1x128.size a := fun v5386 k0_hw381 => k0_hw381.2

def k0_off763 (v5400 : BitVec 32) : Fin 4 → Nat :=
  let c0_5246 : Index := 0#32
  let v5401 : Index := Scalar.indexCast v5400
  let c0_5247 : Index := 0#32
  let c0_5248 : Index := 0#32
  ![0, v5401.toNat, 0, 0]

def k0_off764 (v5400 : BitVec 32) : Fin 4 → Nat :=
  let c0_5252 : Index := 0#32
  let c1_i32_5251 : BitVec 32 := 1#32
  let v5407 : BitVec 32 := Scalar.addi v5400 c1_i32_5251
  let v5408 : Index := Scalar.indexCast v5407
  let c0_5253 : Index := 0#32
  let c0_5254 : Index := 0#32
  ![0, v5408.toNat, 0, 0]

def k0_chk382 (v5400 : BitVec 32) : Prop :=
  (∀ a, (k0_off763 v5400) a + S1x1x1x128.size a ≤ S1x33344x1x128.size a) ∧
  (∀ a, (k0_off764 v5400) a + S1x1x1x128.size a ≤ S1x33344x1x128.size a)
theorem k0_off763_inb : ∀ (v5400 : BitVec 32) (k0_hw382 : k0_chk382 v5400), ∀ a, (k0_off763 v5400) a + S1x1x1x128.size a ≤ S1x33344x1x128.size a := fun v5400 k0_hw382 => k0_hw382.1
theorem k0_off764_inb : ∀ (v5400 : BitVec 32) (k0_hw382 : k0_chk382 v5400), ∀ a, (k0_off764 v5400) a + S1x1x1x128.size a ≤ S1x33344x1x128.size a := fun v5400 k0_hw382 => k0_hw382.2

def k0_off765 (v5414 : BitVec 32) : Fin 4 → Nat :=
  let c0_5260 : Index := 0#32
  let v5415 : Index := Scalar.indexCast v5414
  let c0_5261 : Index := 0#32
  let c0_5262 : Index := 0#32
  ![0, v5415.toNat, 0, 0]

def k0_off766 (v5414 : BitVec 32) : Fin 4 → Nat :=
  let c0_5266 : Index := 0#32
  let c1_i32_5265 : BitVec 32 := 1#32
  let v5421 : BitVec 32 := Scalar.addi v5414 c1_i32_5265
  let v5422 : Index := Scalar.indexCast v5421
  let c0_5267 : Index := 0#32
  let c0_5268 : Index := 0#32
  ![0, v5422.toNat, 0, 0]

def k0_chk383 (v5414 : BitVec 32) : Prop :=
  (∀ a, (k0_off765 v5414) a + S1x1x1x128.size a ≤ S1x33344x1x128.size a) ∧
  (∀ a, (k0_off766 v5414) a + S1x1x1x128.size a ≤ S1x33344x1x128.size a)
theorem k0_off765_inb : ∀ (v5414 : BitVec 32) (k0_hw383 : k0_chk383 v5414), ∀ a, (k0_off765 v5414) a + S1x1x1x128.size a ≤ S1x33344x1x128.size a := fun v5414 k0_hw383 => k0_hw383.1
theorem k0_off766_inb : ∀ (v5414 : BitVec 32) (k0_hw383 : k0_chk383 v5414), ∀ a, (k0_off766 v5414) a + S1x1x1x128.size a ≤ S1x33344x1x128.size a := fun v5414 k0_hw383 => k0_hw383.2

def k0_off767 (v5428 : BitVec 32) : Fin 4 → Nat :=
  let c0_5274 : Index := 0#32
  let v5429 : Index := Scalar.indexCast v5428
  let c0_5275 : Index := 0#32
  let c0_5276 : Index := 0#32
  ![0, v5429.toNat, 0, 0]

def k0_off768 (v5428 : BitVec 32) : Fin 4 → Nat :=
  let c0_5280 : Index := 0#32
  let c1_i32_5279 : BitVec 32 := 1#32
  let v5435 : BitVec 32 := Scalar.addi v5428 c1_i32_5279
  let v5436 : Index := Scalar.indexCast v5435
  let c0_5281 : Index := 0#32
  let c0_5282 : Index := 0#32
  ![0, v5436.toNat, 0, 0]

def k0_chk384 (v5428 : BitVec 32) : Prop :=
  (∀ a, (k0_off767 v5428) a + S1x1x1x128.size a ≤ S1x33344x1x128.size a) ∧
  (∀ a, (k0_off768 v5428) a + S1x1x1x128.size a ≤ S1x33344x1x128.size a)
theorem k0_off767_inb : ∀ (v5428 : BitVec 32) (k0_hw384 : k0_chk384 v5428), ∀ a, (k0_off767 v5428) a + S1x1x1x128.size a ≤ S1x33344x1x128.size a := fun v5428 k0_hw384 => k0_hw384.1
theorem k0_off768_inb : ∀ (v5428 : BitVec 32) (k0_hw384 : k0_chk384 v5428), ∀ a, (k0_off768 v5428) a + S1x1x1x128.size a ≤ S1x33344x1x128.size a := fun v5428 k0_hw384 => k0_hw384.2

def k0_off769 (v5471 : BitVec 32) : Fin 4 → Nat :=
  let c0_5301 : Index := 0#32
  let v5472 : Index := Scalar.indexCast v5471
  let c0_5302 : Index := 0#32
  let c0_5303 : Index := 0#32
  ![0, v5472.toNat, 0, 0]

def k0_off770 (v5471 : BitVec 32) : Fin 4 → Nat :=
  let c0_5307 : Index := 0#32
  let c1_i32_5306 : BitVec 32 := 1#32
  let v5478 : BitVec 32 := Scalar.addi v5471 c1_i32_5306
  let v5479 : Index := Scalar.indexCast v5478
  let c0_5308 : Index := 0#32
  let c0_5309 : Index := 0#32
  ![0, v5479.toNat, 0, 0]

def k0_chk385 (v5471 : BitVec 32) : Prop :=
  (∀ a, (k0_off769 v5471) a + S1x1x1x128.size a ≤ S1x33344x1x128.size a) ∧
  (∀ a, (k0_off770 v5471) a + S1x1x1x128.size a ≤ S1x33344x1x128.size a)
theorem k0_off769_inb : ∀ (v5471 : BitVec 32) (k0_hw385 : k0_chk385 v5471), ∀ a, (k0_off769 v5471) a + S1x1x1x128.size a ≤ S1x33344x1x128.size a := fun v5471 k0_hw385 => k0_hw385.1
theorem k0_off770_inb : ∀ (v5471 : BitVec 32) (k0_hw385 : k0_chk385 v5471), ∀ a, (k0_off770 v5471) a + S1x1x1x128.size a ≤ S1x33344x1x128.size a := fun v5471 k0_hw385 => k0_hw385.2

def k0_off771 (v5485 : BitVec 32) : Fin 4 → Nat :=
  let c0_5315 : Index := 0#32
  let v5486 : Index := Scalar.indexCast v5485
  let c0_5316 : Index := 0#32
  let c0_5317 : Index := 0#32
  ![0, v5486.toNat, 0, 0]

def k0_off772 (v5485 : BitVec 32) : Fin 4 → Nat :=
  let c0_5321 : Index := 0#32
  let c1_i32_5320 : BitVec 32 := 1#32
  let v5492 : BitVec 32 := Scalar.addi v5485 c1_i32_5320
  let v5493 : Index := Scalar.indexCast v5492
  let c0_5322 : Index := 0#32
  let c0_5323 : Index := 0#32
  ![0, v5493.toNat, 0, 0]

def k0_chk386 (v5485 : BitVec 32) : Prop :=
  (∀ a, (k0_off771 v5485) a + S1x1x1x128.size a ≤ S1x33344x1x128.size a) ∧
  (∀ a, (k0_off772 v5485) a + S1x1x1x128.size a ≤ S1x33344x1x128.size a)
theorem k0_off771_inb : ∀ (v5485 : BitVec 32) (k0_hw386 : k0_chk386 v5485), ∀ a, (k0_off771 v5485) a + S1x1x1x128.size a ≤ S1x33344x1x128.size a := fun v5485 k0_hw386 => k0_hw386.1
theorem k0_off772_inb : ∀ (v5485 : BitVec 32) (k0_hw386 : k0_chk386 v5485), ∀ a, (k0_off772 v5485) a + S1x1x1x128.size a ≤ S1x33344x1x128.size a := fun v5485 k0_hw386 => k0_hw386.2

def k0_off773 (v5499 : BitVec 32) : Fin 4 → Nat :=
  let c0_5329 : Index := 0#32
  let v5500 : Index := Scalar.indexCast v5499
  let c0_5330 : Index := 0#32
  let c0_5331 : Index := 0#32
  ![0, v5500.toNat, 0, 0]

def k0_off774 (v5499 : BitVec 32) : Fin 4 → Nat :=
  let c0_5335 : Index := 0#32
  let c1_i32_5334 : BitVec 32 := 1#32
  let v5506 : BitVec 32 := Scalar.addi v5499 c1_i32_5334
  let v5507 : Index := Scalar.indexCast v5506
  let c0_5336 : Index := 0#32
  let c0_5337 : Index := 0#32
  ![0, v5507.toNat, 0, 0]

def k0_chk387 (v5499 : BitVec 32) : Prop :=
  (∀ a, (k0_off773 v5499) a + S1x1x1x128.size a ≤ S1x33344x1x128.size a) ∧
  (∀ a, (k0_off774 v5499) a + S1x1x1x128.size a ≤ S1x33344x1x128.size a)
theorem k0_off773_inb : ∀ (v5499 : BitVec 32) (k0_hw387 : k0_chk387 v5499), ∀ a, (k0_off773 v5499) a + S1x1x1x128.size a ≤ S1x33344x1x128.size a := fun v5499 k0_hw387 => k0_hw387.1
theorem k0_off774_inb : ∀ (v5499 : BitVec 32) (k0_hw387 : k0_chk387 v5499), ∀ a, (k0_off774 v5499) a + S1x1x1x128.size a ≤ S1x33344x1x128.size a := fun v5499 k0_hw387 => k0_hw387.2

def k0_off775 (v5513 : BitVec 32) : Fin 4 → Nat :=
  let c0_5343 : Index := 0#32
  let v5514 : Index := Scalar.indexCast v5513
  let c0_5344 : Index := 0#32
  let c0_5345 : Index := 0#32
  ![0, v5514.toNat, 0, 0]

def k0_off776 (v5513 : BitVec 32) : Fin 4 → Nat :=
  let c0_5349 : Index := 0#32
  let c1_i32_5348 : BitVec 32 := 1#32
  let v5520 : BitVec 32 := Scalar.addi v5513 c1_i32_5348
  let v5521 : Index := Scalar.indexCast v5520
  let c0_5350 : Index := 0#32
  let c0_5351 : Index := 0#32
  ![0, v5521.toNat, 0, 0]

def k0_chk388 (v5513 : BitVec 32) : Prop :=
  (∀ a, (k0_off775 v5513) a + S1x1x1x128.size a ≤ S1x33344x1x128.size a) ∧
  (∀ a, (k0_off776 v5513) a + S1x1x1x128.size a ≤ S1x33344x1x128.size a)
theorem k0_off775_inb : ∀ (v5513 : BitVec 32) (k0_hw388 : k0_chk388 v5513), ∀ a, (k0_off775 v5513) a + S1x1x1x128.size a ≤ S1x33344x1x128.size a := fun v5513 k0_hw388 => k0_hw388.1
theorem k0_off776_inb : ∀ (v5513 : BitVec 32) (k0_hw388 : k0_chk388 v5513), ∀ a, (k0_off776 v5513) a + S1x1x1x128.size a ≤ S1x33344x1x128.size a := fun v5513 k0_hw388 => k0_hw388.2

def k0_off777 (v5527 : BitVec 32) : Fin 4 → Nat :=
  let c0_5357 : Index := 0#32
  let v5528 : Index := Scalar.indexCast v5527
  let c0_5358 : Index := 0#32
  let c0_5359 : Index := 0#32
  ![0, v5528.toNat, 0, 0]

def k0_off778 (v5527 : BitVec 32) : Fin 4 → Nat :=
  let c0_5363 : Index := 0#32
  let c1_i32_5362 : BitVec 32 := 1#32
  let v5534 : BitVec 32 := Scalar.addi v5527 c1_i32_5362
  let v5535 : Index := Scalar.indexCast v5534
  let c0_5364 : Index := 0#32
  let c0_5365 : Index := 0#32
  ![0, v5535.toNat, 0, 0]

def k0_chk389 (v5527 : BitVec 32) : Prop :=
  (∀ a, (k0_off777 v5527) a + S1x1x1x128.size a ≤ S1x33344x1x128.size a) ∧
  (∀ a, (k0_off778 v5527) a + S1x1x1x128.size a ≤ S1x33344x1x128.size a)
theorem k0_off777_inb : ∀ (v5527 : BitVec 32) (k0_hw389 : k0_chk389 v5527), ∀ a, (k0_off777 v5527) a + S1x1x1x128.size a ≤ S1x33344x1x128.size a := fun v5527 k0_hw389 => k0_hw389.1
theorem k0_off778_inb : ∀ (v5527 : BitVec 32) (k0_hw389 : k0_chk389 v5527), ∀ a, (k0_off778 v5527) a + S1x1x1x128.size a ≤ S1x33344x1x128.size a := fun v5527 k0_hw389 => k0_hw389.2

def k0_off779 (v5541 : BitVec 32) : Fin 4 → Nat :=
  let c0_5371 : Index := 0#32
  let v5542 : Index := Scalar.indexCast v5541
  let c0_5372 : Index := 0#32
  let c0_5373 : Index := 0#32
  ![0, v5542.toNat, 0, 0]

def k0_off780 (v5541 : BitVec 32) : Fin 4 → Nat :=
  let c0_5377 : Index := 0#32
  let c1_i32_5376 : BitVec 32 := 1#32
  let v5548 : BitVec 32 := Scalar.addi v5541 c1_i32_5376
  let v5549 : Index := Scalar.indexCast v5548
  let c0_5378 : Index := 0#32
  let c0_5379 : Index := 0#32
  ![0, v5549.toNat, 0, 0]

def k0_chk390 (v5541 : BitVec 32) : Prop :=
  (∀ a, (k0_off779 v5541) a + S1x1x1x128.size a ≤ S1x33344x1x128.size a) ∧
  (∀ a, (k0_off780 v5541) a + S1x1x1x128.size a ≤ S1x33344x1x128.size a)
theorem k0_off779_inb : ∀ (v5541 : BitVec 32) (k0_hw390 : k0_chk390 v5541), ∀ a, (k0_off779 v5541) a + S1x1x1x128.size a ≤ S1x33344x1x128.size a := fun v5541 k0_hw390 => k0_hw390.1
theorem k0_off780_inb : ∀ (v5541 : BitVec 32) (k0_hw390 : k0_chk390 v5541), ∀ a, (k0_off780 v5541) a + S1x1x1x128.size a ≤ S1x33344x1x128.size a := fun v5541 k0_hw390 => k0_hw390.2

def k0_off781 (v5555 : BitVec 32) : Fin 4 → Nat :=
  let c0_5385 : Index := 0#32
  let v5556 : Index := Scalar.indexCast v5555
  let c0_5386 : Index := 0#32
  let c0_5387 : Index := 0#32
  ![0, v5556.toNat, 0, 0]

def k0_off782 (v5555 : BitVec 32) : Fin 4 → Nat :=
  let c0_5391 : Index := 0#32
  let c1_i32_5390 : BitVec 32 := 1#32
  let v5562 : BitVec 32 := Scalar.addi v5555 c1_i32_5390
  let v5563 : Index := Scalar.indexCast v5562
  let c0_5392 : Index := 0#32
  let c0_5393 : Index := 0#32
  ![0, v5563.toNat, 0, 0]

def k0_chk391 (v5555 : BitVec 32) : Prop :=
  (∀ a, (k0_off781 v5555) a + S1x1x1x128.size a ≤ S1x33344x1x128.size a) ∧
  (∀ a, (k0_off782 v5555) a + S1x1x1x128.size a ≤ S1x33344x1x128.size a)
theorem k0_off781_inb : ∀ (v5555 : BitVec 32) (k0_hw391 : k0_chk391 v5555), ∀ a, (k0_off781 v5555) a + S1x1x1x128.size a ≤ S1x33344x1x128.size a := fun v5555 k0_hw391 => k0_hw391.1
theorem k0_off782_inb : ∀ (v5555 : BitVec 32) (k0_hw391 : k0_chk391 v5555), ∀ a, (k0_off782 v5555) a + S1x1x1x128.size a ≤ S1x33344x1x128.size a := fun v5555 k0_hw391 => k0_hw391.2

def k0_off783 (v5569 : BitVec 32) : Fin 4 → Nat :=
  let c0_5399 : Index := 0#32
  let v5570 : Index := Scalar.indexCast v5569
  let c0_5400 : Index := 0#32
  let c0_5401 : Index := 0#32
  ![0, v5570.toNat, 0, 0]

def k0_off784 (v5569 : BitVec 32) : Fin 4 → Nat :=
  let c0_5405 : Index := 0#32
  let c1_i32_5404 : BitVec 32 := 1#32
  let v5576 : BitVec 32 := Scalar.addi v5569 c1_i32_5404
  let v5577 : Index := Scalar.indexCast v5576
  let c0_5406 : Index := 0#32
  let c0_5407 : Index := 0#32
  ![0, v5577.toNat, 0, 0]

def k0_chk392 (v5569 : BitVec 32) : Prop :=
  (∀ a, (k0_off783 v5569) a + S1x1x1x128.size a ≤ S1x33344x1x128.size a) ∧
  (∀ a, (k0_off784 v5569) a + S1x1x1x128.size a ≤ S1x33344x1x128.size a)
theorem k0_off783_inb : ∀ (v5569 : BitVec 32) (k0_hw392 : k0_chk392 v5569), ∀ a, (k0_off783 v5569) a + S1x1x1x128.size a ≤ S1x33344x1x128.size a := fun v5569 k0_hw392 => k0_hw392.1
theorem k0_off784_inb : ∀ (v5569 : BitVec 32) (k0_hw392 : k0_chk392 v5569), ∀ a, (k0_off784 v5569) a + S1x1x1x128.size a ≤ S1x33344x1x128.size a := fun v5569 k0_hw392 => k0_hw392.2

def k0_off785 (v5583 : BitVec 32) : Fin 4 → Nat :=
  let c0_5413 : Index := 0#32
  let v5584 : Index := Scalar.indexCast v5583
  let c0_5414 : Index := 0#32
  let c0_5415 : Index := 0#32
  ![0, v5584.toNat, 0, 0]

def k0_off786 (v5583 : BitVec 32) : Fin 4 → Nat :=
  let c0_5419 : Index := 0#32
  let c1_i32_5418 : BitVec 32 := 1#32
  let v5590 : BitVec 32 := Scalar.addi v5583 c1_i32_5418
  let v5591 : Index := Scalar.indexCast v5590
  let c0_5420 : Index := 0#32
  let c0_5421 : Index := 0#32
  ![0, v5591.toNat, 0, 0]

def k0_chk393 (v5583 : BitVec 32) : Prop :=
  (∀ a, (k0_off785 v5583) a + S1x1x1x128.size a ≤ S1x33344x1x128.size a) ∧
  (∀ a, (k0_off786 v5583) a + S1x1x1x128.size a ≤ S1x33344x1x128.size a)
theorem k0_off785_inb : ∀ (v5583 : BitVec 32) (k0_hw393 : k0_chk393 v5583), ∀ a, (k0_off785 v5583) a + S1x1x1x128.size a ≤ S1x33344x1x128.size a := fun v5583 k0_hw393 => k0_hw393.1
theorem k0_off786_inb : ∀ (v5583 : BitVec 32) (k0_hw393 : k0_chk393 v5583), ∀ a, (k0_off786 v5583) a + S1x1x1x128.size a ≤ S1x33344x1x128.size a := fun v5583 k0_hw393 => k0_hw393.2

def k0_off787 (v5597 : BitVec 32) : Fin 4 → Nat :=
  let c0_5427 : Index := 0#32
  let v5598 : Index := Scalar.indexCast v5597
  let c0_5428 : Index := 0#32
  let c0_5429 : Index := 0#32
  ![0, v5598.toNat, 0, 0]

def k0_off788 (v5597 : BitVec 32) : Fin 4 → Nat :=
  let c0_5433 : Index := 0#32
  let c1_i32_5432 : BitVec 32 := 1#32
  let v5604 : BitVec 32 := Scalar.addi v5597 c1_i32_5432
  let v5605 : Index := Scalar.indexCast v5604
  let c0_5434 : Index := 0#32
  let c0_5435 : Index := 0#32
  ![0, v5605.toNat, 0, 0]

def k0_chk394 (v5597 : BitVec 32) : Prop :=
  (∀ a, (k0_off787 v5597) a + S1x1x1x128.size a ≤ S1x33344x1x128.size a) ∧
  (∀ a, (k0_off788 v5597) a + S1x1x1x128.size a ≤ S1x33344x1x128.size a)
theorem k0_off787_inb : ∀ (v5597 : BitVec 32) (k0_hw394 : k0_chk394 v5597), ∀ a, (k0_off787 v5597) a + S1x1x1x128.size a ≤ S1x33344x1x128.size a := fun v5597 k0_hw394 => k0_hw394.1
theorem k0_off788_inb : ∀ (v5597 : BitVec 32) (k0_hw394 : k0_chk394 v5597), ∀ a, (k0_off788 v5597) a + S1x1x1x128.size a ≤ S1x33344x1x128.size a := fun v5597 k0_hw394 => k0_hw394.2

def k0_off789 (v5611 : BitVec 32) : Fin 4 → Nat :=
  let c0_5441 : Index := 0#32
  let v5612 : Index := Scalar.indexCast v5611
  let c0_5442 : Index := 0#32
  let c0_5443 : Index := 0#32
  ![0, v5612.toNat, 0, 0]

def k0_off790 (v5611 : BitVec 32) : Fin 4 → Nat :=
  let c0_5447 : Index := 0#32
  let c1_i32_5446 : BitVec 32 := 1#32
  let v5618 : BitVec 32 := Scalar.addi v5611 c1_i32_5446
  let v5619 : Index := Scalar.indexCast v5618
  let c0_5448 : Index := 0#32
  let c0_5449 : Index := 0#32
  ![0, v5619.toNat, 0, 0]

def k0_chk395 (v5611 : BitVec 32) : Prop :=
  (∀ a, (k0_off789 v5611) a + S1x1x1x128.size a ≤ S1x33344x1x128.size a) ∧
  (∀ a, (k0_off790 v5611) a + S1x1x1x128.size a ≤ S1x33344x1x128.size a)
theorem k0_off789_inb : ∀ (v5611 : BitVec 32) (k0_hw395 : k0_chk395 v5611), ∀ a, (k0_off789 v5611) a + S1x1x1x128.size a ≤ S1x33344x1x128.size a := fun v5611 k0_hw395 => k0_hw395.1
theorem k0_off790_inb : ∀ (v5611 : BitVec 32) (k0_hw395 : k0_chk395 v5611), ∀ a, (k0_off790 v5611) a + S1x1x1x128.size a ≤ S1x33344x1x128.size a := fun v5611 k0_hw395 => k0_hw395.2

def k0_off791 (v5625 : BitVec 32) : Fin 4 → Nat :=
  let c0_5455 : Index := 0#32
  let v5626 : Index := Scalar.indexCast v5625
  let c0_5456 : Index := 0#32
  let c0_5457 : Index := 0#32
  ![0, v5626.toNat, 0, 0]

def k0_off792 (v5625 : BitVec 32) : Fin 4 → Nat :=
  let c0_5461 : Index := 0#32
  let c1_i32_5460 : BitVec 32 := 1#32
  let v5632 : BitVec 32 := Scalar.addi v5625 c1_i32_5460
  let v5633 : Index := Scalar.indexCast v5632
  let c0_5462 : Index := 0#32
  let c0_5463 : Index := 0#32
  ![0, v5633.toNat, 0, 0]

def k0_chk396 (v5625 : BitVec 32) : Prop :=
  (∀ a, (k0_off791 v5625) a + S1x1x1x128.size a ≤ S1x33344x1x128.size a) ∧
  (∀ a, (k0_off792 v5625) a + S1x1x1x128.size a ≤ S1x33344x1x128.size a)
theorem k0_off791_inb : ∀ (v5625 : BitVec 32) (k0_hw396 : k0_chk396 v5625), ∀ a, (k0_off791 v5625) a + S1x1x1x128.size a ≤ S1x33344x1x128.size a := fun v5625 k0_hw396 => k0_hw396.1
theorem k0_off792_inb : ∀ (v5625 : BitVec 32) (k0_hw396 : k0_chk396 v5625), ∀ a, (k0_off792 v5625) a + S1x1x1x128.size a ≤ S1x33344x1x128.size a := fun v5625 k0_hw396 => k0_hw396.2

def k0_off793 (v5639 : BitVec 32) : Fin 4 → Nat :=
  let c0_5469 : Index := 0#32
  let v5640 : Index := Scalar.indexCast v5639
  let c0_5470 : Index := 0#32
  let c0_5471 : Index := 0#32
  ![0, v5640.toNat, 0, 0]

def k0_off794 (v5639 : BitVec 32) : Fin 4 → Nat :=
  let c0_5475 : Index := 0#32
  let c1_i32_5474 : BitVec 32 := 1#32
  let v5646 : BitVec 32 := Scalar.addi v5639 c1_i32_5474
  let v5647 : Index := Scalar.indexCast v5646
  let c0_5476 : Index := 0#32
  let c0_5477 : Index := 0#32
  ![0, v5647.toNat, 0, 0]

def k0_chk397 (v5639 : BitVec 32) : Prop :=
  (∀ a, (k0_off793 v5639) a + S1x1x1x128.size a ≤ S1x33344x1x128.size a) ∧
  (∀ a, (k0_off794 v5639) a + S1x1x1x128.size a ≤ S1x33344x1x128.size a)
theorem k0_off793_inb : ∀ (v5639 : BitVec 32) (k0_hw397 : k0_chk397 v5639), ∀ a, (k0_off793 v5639) a + S1x1x1x128.size a ≤ S1x33344x1x128.size a := fun v5639 k0_hw397 => k0_hw397.1
theorem k0_off794_inb : ∀ (v5639 : BitVec 32) (k0_hw397 : k0_chk397 v5639), ∀ a, (k0_off794 v5639) a + S1x1x1x128.size a ≤ S1x33344x1x128.size a := fun v5639 k0_hw397 => k0_hw397.2

def k0_off795 (v5653 : BitVec 32) : Fin 4 → Nat :=
  let c0_5483 : Index := 0#32
  let v5654 : Index := Scalar.indexCast v5653
  let c0_5484 : Index := 0#32
  let c0_5485 : Index := 0#32
  ![0, v5654.toNat, 0, 0]

def k0_off796 (v5653 : BitVec 32) : Fin 4 → Nat :=
  let c0_5489 : Index := 0#32
  let c1_i32_5488 : BitVec 32 := 1#32
  let v5660 : BitVec 32 := Scalar.addi v5653 c1_i32_5488
  let v5661 : Index := Scalar.indexCast v5660
  let c0_5490 : Index := 0#32
  let c0_5491 : Index := 0#32
  ![0, v5661.toNat, 0, 0]

def k0_chk398 (v5653 : BitVec 32) : Prop :=
  (∀ a, (k0_off795 v5653) a + S1x1x1x128.size a ≤ S1x33344x1x128.size a) ∧
  (∀ a, (k0_off796 v5653) a + S1x1x1x128.size a ≤ S1x33344x1x128.size a)
theorem k0_off795_inb : ∀ (v5653 : BitVec 32) (k0_hw398 : k0_chk398 v5653), ∀ a, (k0_off795 v5653) a + S1x1x1x128.size a ≤ S1x33344x1x128.size a := fun v5653 k0_hw398 => k0_hw398.1
theorem k0_off796_inb : ∀ (v5653 : BitVec 32) (k0_hw398 : k0_chk398 v5653), ∀ a, (k0_off796 v5653) a + S1x1x1x128.size a ≤ S1x33344x1x128.size a := fun v5653 k0_hw398 => k0_hw398.2

def k0_off797 (v5667 : BitVec 32) : Fin 4 → Nat :=
  let c0_5497 : Index := 0#32
  let v5668 : Index := Scalar.indexCast v5667
  let c0_5498 : Index := 0#32
  let c0_5499 : Index := 0#32
  ![0, v5668.toNat, 0, 0]

def k0_off798 (v5667 : BitVec 32) : Fin 4 → Nat :=
  let c0_5503 : Index := 0#32
  let c1_i32_5502 : BitVec 32 := 1#32
  let v5674 : BitVec 32 := Scalar.addi v5667 c1_i32_5502
  let v5675 : Index := Scalar.indexCast v5674
  let c0_5504 : Index := 0#32
  let c0_5505 : Index := 0#32
  ![0, v5675.toNat, 0, 0]

def k0_chk399 (v5667 : BitVec 32) : Prop :=
  (∀ a, (k0_off797 v5667) a + S1x1x1x128.size a ≤ S1x33344x1x128.size a) ∧
  (∀ a, (k0_off798 v5667) a + S1x1x1x128.size a ≤ S1x33344x1x128.size a)
theorem k0_off797_inb : ∀ (v5667 : BitVec 32) (k0_hw399 : k0_chk399 v5667), ∀ a, (k0_off797 v5667) a + S1x1x1x128.size a ≤ S1x33344x1x128.size a := fun v5667 k0_hw399 => k0_hw399.1
theorem k0_off798_inb : ∀ (v5667 : BitVec 32) (k0_hw399 : k0_chk399 v5667), ∀ a, (k0_off798 v5667) a + S1x1x1x128.size a ≤ S1x33344x1x128.size a := fun v5667 k0_hw399 => k0_hw399.2

def k0_off799 (v5681 : BitVec 32) : Fin 4 → Nat :=
  let c0_5511 : Index := 0#32
  let v5682 : Index := Scalar.indexCast v5681
  let c0_5512 : Index := 0#32
  let c0_5513 : Index := 0#32
  ![0, v5682.toNat, 0, 0]

def k0_off800 (v5681 : BitVec 32) : Fin 4 → Nat :=
  let c0_5517 : Index := 0#32
  let c1_i32_5516 : BitVec 32 := 1#32
  let v5688 : BitVec 32 := Scalar.addi v5681 c1_i32_5516
  let v5689 : Index := Scalar.indexCast v5688
  let c0_5518 : Index := 0#32
  let c0_5519 : Index := 0#32
  ![0, v5689.toNat, 0, 0]

def k0_chk400 (v5681 : BitVec 32) : Prop :=
  (∀ a, (k0_off799 v5681) a + S1x1x1x128.size a ≤ S1x33344x1x128.size a) ∧
  (∀ a, (k0_off800 v5681) a + S1x1x1x128.size a ≤ S1x33344x1x128.size a)
theorem k0_off799_inb : ∀ (v5681 : BitVec 32) (k0_hw400 : k0_chk400 v5681), ∀ a, (k0_off799 v5681) a + S1x1x1x128.size a ≤ S1x33344x1x128.size a := fun v5681 k0_hw400 => k0_hw400.1
theorem k0_off800_inb : ∀ (v5681 : BitVec 32) (k0_hw400 : k0_chk400 v5681), ∀ a, (k0_off800 v5681) a + S1x1x1x128.size a ≤ S1x33344x1x128.size a := fun v5681 k0_hw400 => k0_hw400.2

def k0_off801 (v5695 : BitVec 32) : Fin 4 → Nat :=
  let c0_5525 : Index := 0#32
  let v5696 : Index := Scalar.indexCast v5695
  let c0_5526 : Index := 0#32
  let c0_5527 : Index := 0#32
  ![0, v5696.toNat, 0, 0]

def k0_off802 (v5695 : BitVec 32) : Fin 4 → Nat :=
  let c0_5531 : Index := 0#32
  let c1_i32_5530 : BitVec 32 := 1#32
  let v5702 : BitVec 32 := Scalar.addi v5695 c1_i32_5530
  let v5703 : Index := Scalar.indexCast v5702
  let c0_5532 : Index := 0#32
  let c0_5533 : Index := 0#32
  ![0, v5703.toNat, 0, 0]

def k0_chk401 (v5695 : BitVec 32) : Prop :=
  (∀ a, (k0_off801 v5695) a + S1x1x1x128.size a ≤ S1x33344x1x128.size a) ∧
  (∀ a, (k0_off802 v5695) a + S1x1x1x128.size a ≤ S1x33344x1x128.size a)
theorem k0_off801_inb : ∀ (v5695 : BitVec 32) (k0_hw401 : k0_chk401 v5695), ∀ a, (k0_off801 v5695) a + S1x1x1x128.size a ≤ S1x33344x1x128.size a := fun v5695 k0_hw401 => k0_hw401.1
theorem k0_off802_inb : ∀ (v5695 : BitVec 32) (k0_hw401 : k0_chk401 v5695), ∀ a, (k0_off802 v5695) a + S1x1x1x128.size a ≤ S1x33344x1x128.size a := fun v5695 k0_hw401 => k0_hw401.2

def k0_off803 (v5709 : BitVec 32) : Fin 4 → Nat :=
  let c0_5539 : Index := 0#32
  let v5710 : Index := Scalar.indexCast v5709
  let c0_5540 : Index := 0#32
  let c0_5541 : Index := 0#32
  ![0, v5710.toNat, 0, 0]

def k0_off804 (v5709 : BitVec 32) : Fin 4 → Nat :=
  let c0_5545 : Index := 0#32
  let c1_i32_5544 : BitVec 32 := 1#32
  let v5716 : BitVec 32 := Scalar.addi v5709 c1_i32_5544
  let v5717 : Index := Scalar.indexCast v5716
  let c0_5546 : Index := 0#32
  let c0_5547 : Index := 0#32
  ![0, v5717.toNat, 0, 0]

def k0_chk402 (v5709 : BitVec 32) : Prop :=
  (∀ a, (k0_off803 v5709) a + S1x1x1x128.size a ≤ S1x33344x1x128.size a) ∧
  (∀ a, (k0_off804 v5709) a + S1x1x1x128.size a ≤ S1x33344x1x128.size a)
theorem k0_off803_inb : ∀ (v5709 : BitVec 32) (k0_hw402 : k0_chk402 v5709), ∀ a, (k0_off803 v5709) a + S1x1x1x128.size a ≤ S1x33344x1x128.size a := fun v5709 k0_hw402 => k0_hw402.1
theorem k0_off804_inb : ∀ (v5709 : BitVec 32) (k0_hw402 : k0_chk402 v5709), ∀ a, (k0_off804 v5709) a + S1x1x1x128.size a ≤ S1x33344x1x128.size a := fun v5709 k0_hw402 => k0_hw402.2

def k0_off805 (v5723 : BitVec 32) : Fin 4 → Nat :=
  let c0_5553 : Index := 0#32
  let v5724 : Index := Scalar.indexCast v5723
  let c0_5554 : Index := 0#32
  let c0_5555 : Index := 0#32
  ![0, v5724.toNat, 0, 0]

def k0_off806 (v5723 : BitVec 32) : Fin 4 → Nat :=
  let c0_5559 : Index := 0#32
  let c1_i32_5558 : BitVec 32 := 1#32
  let v5730 : BitVec 32 := Scalar.addi v5723 c1_i32_5558
  let v5731 : Index := Scalar.indexCast v5730
  let c0_5560 : Index := 0#32
  let c0_5561 : Index := 0#32
  ![0, v5731.toNat, 0, 0]

def k0_chk403 (v5723 : BitVec 32) : Prop :=
  (∀ a, (k0_off805 v5723) a + S1x1x1x128.size a ≤ S1x33344x1x128.size a) ∧
  (∀ a, (k0_off806 v5723) a + S1x1x1x128.size a ≤ S1x33344x1x128.size a)
theorem k0_off805_inb : ∀ (v5723 : BitVec 32) (k0_hw403 : k0_chk403 v5723), ∀ a, (k0_off805 v5723) a + S1x1x1x128.size a ≤ S1x33344x1x128.size a := fun v5723 k0_hw403 => k0_hw403.1
theorem k0_off806_inb : ∀ (v5723 : BitVec 32) (k0_hw403 : k0_chk403 v5723), ∀ a, (k0_off806 v5723) a + S1x1x1x128.size a ≤ S1x33344x1x128.size a := fun v5723 k0_hw403 => k0_hw403.2

def k0_off807 (v5737 : BitVec 32) : Fin 4 → Nat :=
  let c0_5567 : Index := 0#32
  let v5738 : Index := Scalar.indexCast v5737
  let c0_5568 : Index := 0#32
  let c0_5569 : Index := 0#32
  ![0, v5738.toNat, 0, 0]

def k0_off808 (v5737 : BitVec 32) : Fin 4 → Nat :=
  let c0_5573 : Index := 0#32
  let c1_i32_5572 : BitVec 32 := 1#32
  let v5744 : BitVec 32 := Scalar.addi v5737 c1_i32_5572
  let v5745 : Index := Scalar.indexCast v5744
  let c0_5574 : Index := 0#32
  let c0_5575 : Index := 0#32
  ![0, v5745.toNat, 0, 0]

def k0_chk404 (v5737 : BitVec 32) : Prop :=
  (∀ a, (k0_off807 v5737) a + S1x1x1x128.size a ≤ S1x33344x1x128.size a) ∧
  (∀ a, (k0_off808 v5737) a + S1x1x1x128.size a ≤ S1x33344x1x128.size a)
theorem k0_off807_inb : ∀ (v5737 : BitVec 32) (k0_hw404 : k0_chk404 v5737), ∀ a, (k0_off807 v5737) a + S1x1x1x128.size a ≤ S1x33344x1x128.size a := fun v5737 k0_hw404 => k0_hw404.1
theorem k0_off808_inb : ∀ (v5737 : BitVec 32) (k0_hw404 : k0_chk404 v5737), ∀ a, (k0_off808 v5737) a + S1x1x1x128.size a ≤ S1x33344x1x128.size a := fun v5737 k0_hw404 => k0_hw404.2

def k0_off809 (v5751 : BitVec 32) : Fin 4 → Nat :=
  let c0_5581 : Index := 0#32
  let v5752 : Index := Scalar.indexCast v5751
  let c0_5582 : Index := 0#32
  let c0_5583 : Index := 0#32
  ![0, v5752.toNat, 0, 0]

def k0_off810 (v5751 : BitVec 32) : Fin 4 → Nat :=
  let c0_5587 : Index := 0#32
  let c1_i32_5586 : BitVec 32 := 1#32
  let v5758 : BitVec 32 := Scalar.addi v5751 c1_i32_5586
  let v5759 : Index := Scalar.indexCast v5758
  let c0_5588 : Index := 0#32
  let c0_5589 : Index := 0#32
  ![0, v5759.toNat, 0, 0]

def k0_chk405 (v5751 : BitVec 32) : Prop :=
  (∀ a, (k0_off809 v5751) a + S1x1x1x128.size a ≤ S1x33344x1x128.size a) ∧
  (∀ a, (k0_off810 v5751) a + S1x1x1x128.size a ≤ S1x33344x1x128.size a)
theorem k0_off809_inb : ∀ (v5751 : BitVec 32) (k0_hw405 : k0_chk405 v5751), ∀ a, (k0_off809 v5751) a + S1x1x1x128.size a ≤ S1x33344x1x128.size a := fun v5751 k0_hw405 => k0_hw405.1
theorem k0_off810_inb : ∀ (v5751 : BitVec 32) (k0_hw405 : k0_chk405 v5751), ∀ a, (k0_off810 v5751) a + S1x1x1x128.size a ≤ S1x33344x1x128.size a := fun v5751 k0_hw405 => k0_hw405.2

def k0_off811 (v5765 : BitVec 32) : Fin 4 → Nat :=
  let c0_5595 : Index := 0#32
  let v5766 : Index := Scalar.indexCast v5765
  let c0_5596 : Index := 0#32
  let c0_5597 : Index := 0#32
  ![0, v5766.toNat, 0, 0]

def k0_off812 (v5765 : BitVec 32) : Fin 4 → Nat :=
  let c0_5601 : Index := 0#32
  let c1_i32_5600 : BitVec 32 := 1#32
  let v5772 : BitVec 32 := Scalar.addi v5765 c1_i32_5600
  let v5773 : Index := Scalar.indexCast v5772
  let c0_5602 : Index := 0#32
  let c0_5603 : Index := 0#32
  ![0, v5773.toNat, 0, 0]

def k0_chk406 (v5765 : BitVec 32) : Prop :=
  (∀ a, (k0_off811 v5765) a + S1x1x1x128.size a ≤ S1x33344x1x128.size a) ∧
  (∀ a, (k0_off812 v5765) a + S1x1x1x128.size a ≤ S1x33344x1x128.size a)
theorem k0_off811_inb : ∀ (v5765 : BitVec 32) (k0_hw406 : k0_chk406 v5765), ∀ a, (k0_off811 v5765) a + S1x1x1x128.size a ≤ S1x33344x1x128.size a := fun v5765 k0_hw406 => k0_hw406.1
theorem k0_off812_inb : ∀ (v5765 : BitVec 32) (k0_hw406 : k0_chk406 v5765), ∀ a, (k0_off812 v5765) a + S1x1x1x128.size a ≤ S1x33344x1x128.size a := fun v5765 k0_hw406 => k0_hw406.2

def k0_off813 (v5779 : BitVec 32) : Fin 4 → Nat :=
  let c0_5609 : Index := 0#32
  let v5780 : Index := Scalar.indexCast v5779
  let c0_5610 : Index := 0#32
  let c0_5611 : Index := 0#32
  ![0, v5780.toNat, 0, 0]

def k0_off814 (v5779 : BitVec 32) : Fin 4 → Nat :=
  let c0_5615 : Index := 0#32
  let c1_i32_5614 : BitVec 32 := 1#32
  let v5786 : BitVec 32 := Scalar.addi v5779 c1_i32_5614
  let v5787 : Index := Scalar.indexCast v5786
  let c0_5616 : Index := 0#32
  let c0_5617 : Index := 0#32
  ![0, v5787.toNat, 0, 0]

def k0_chk407 (v5779 : BitVec 32) : Prop :=
  (∀ a, (k0_off813 v5779) a + S1x1x1x128.size a ≤ S1x33344x1x128.size a) ∧
  (∀ a, (k0_off814 v5779) a + S1x1x1x128.size a ≤ S1x33344x1x128.size a)
theorem k0_off813_inb : ∀ (v5779 : BitVec 32) (k0_hw407 : k0_chk407 v5779), ∀ a, (k0_off813 v5779) a + S1x1x1x128.size a ≤ S1x33344x1x128.size a := fun v5779 k0_hw407 => k0_hw407.1
theorem k0_off814_inb : ∀ (v5779 : BitVec 32) (k0_hw407 : k0_chk407 v5779), ∀ a, (k0_off814 v5779) a + S1x1x1x128.size a ≤ S1x33344x1x128.size a := fun v5779 k0_hw407 => k0_hw407.2

def k0_off815 (v5793 : BitVec 32) : Fin 4 → Nat :=
  let c0_5623 : Index := 0#32
  let v5794 : Index := Scalar.indexCast v5793
  let c0_5624 : Index := 0#32
  let c0_5625 : Index := 0#32
  ![0, v5794.toNat, 0, 0]

def k0_off816 (v5793 : BitVec 32) : Fin 4 → Nat :=
  let c0_5629 : Index := 0#32
  let c1_i32_5628 : BitVec 32 := 1#32
  let v5800 : BitVec 32 := Scalar.addi v5793 c1_i32_5628
  let v5801 : Index := Scalar.indexCast v5800
  let c0_5630 : Index := 0#32
  let c0_5631 : Index := 0#32
  ![0, v5801.toNat, 0, 0]

def k0_chk408 (v5793 : BitVec 32) : Prop :=
  (∀ a, (k0_off815 v5793) a + S1x1x1x128.size a ≤ S1x33344x1x128.size a) ∧
  (∀ a, (k0_off816 v5793) a + S1x1x1x128.size a ≤ S1x33344x1x128.size a)
theorem k0_off815_inb : ∀ (v5793 : BitVec 32) (k0_hw408 : k0_chk408 v5793), ∀ a, (k0_off815 v5793) a + S1x1x1x128.size a ≤ S1x33344x1x128.size a := fun v5793 k0_hw408 => k0_hw408.1
theorem k0_off816_inb : ∀ (v5793 : BitVec 32) (k0_hw408 : k0_chk408 v5793), ∀ a, (k0_off816 v5793) a + S1x1x1x128.size a ≤ S1x33344x1x128.size a := fun v5793 k0_hw408 => k0_hw408.2

def k0_off817 (v5807 : BitVec 32) : Fin 4 → Nat :=
  let c0_5637 : Index := 0#32
  let v5808 : Index := Scalar.indexCast v5807
  let c0_5638 : Index := 0#32
  let c0_5639 : Index := 0#32
  ![0, v5808.toNat, 0, 0]

def k0_off818 (v5807 : BitVec 32) : Fin 4 → Nat :=
  let c0_5643 : Index := 0#32
  let c1_i32_5642 : BitVec 32 := 1#32
  let v5814 : BitVec 32 := Scalar.addi v5807 c1_i32_5642
  let v5815 : Index := Scalar.indexCast v5814
  let c0_5644 : Index := 0#32
  let c0_5645 : Index := 0#32
  ![0, v5815.toNat, 0, 0]

def k0_chk409 (v5807 : BitVec 32) : Prop :=
  (∀ a, (k0_off817 v5807) a + S1x1x1x128.size a ≤ S1x33344x1x128.size a) ∧
  (∀ a, (k0_off818 v5807) a + S1x1x1x128.size a ≤ S1x33344x1x128.size a)
theorem k0_off817_inb : ∀ (v5807 : BitVec 32) (k0_hw409 : k0_chk409 v5807), ∀ a, (k0_off817 v5807) a + S1x1x1x128.size a ≤ S1x33344x1x128.size a := fun v5807 k0_hw409 => k0_hw409.1
theorem k0_off818_inb : ∀ (v5807 : BitVec 32) (k0_hw409 : k0_chk409 v5807), ∀ a, (k0_off818 v5807) a + S1x1x1x128.size a ≤ S1x33344x1x128.size a := fun v5807 k0_hw409 => k0_hw409.2

def k0_off819 (v5821 : BitVec 32) : Fin 4 → Nat :=
  let c0_5651 : Index := 0#32
  let v5822 : Index := Scalar.indexCast v5821
  let c0_5652 : Index := 0#32
  let c0_5653 : Index := 0#32
  ![0, v5822.toNat, 0, 0]

def k0_off820 (v5821 : BitVec 32) : Fin 4 → Nat :=
  let c0_5657 : Index := 0#32
  let c1_i32_5656 : BitVec 32 := 1#32
  let v5828 : BitVec 32 := Scalar.addi v5821 c1_i32_5656
  let v5829 : Index := Scalar.indexCast v5828
  let c0_5658 : Index := 0#32
  let c0_5659 : Index := 0#32
  ![0, v5829.toNat, 0, 0]

def k0_chk410 (v5821 : BitVec 32) : Prop :=
  (∀ a, (k0_off819 v5821) a + S1x1x1x128.size a ≤ S1x33344x1x128.size a) ∧
  (∀ a, (k0_off820 v5821) a + S1x1x1x128.size a ≤ S1x33344x1x128.size a)
theorem k0_off819_inb : ∀ (v5821 : BitVec 32) (k0_hw410 : k0_chk410 v5821), ∀ a, (k0_off819 v5821) a + S1x1x1x128.size a ≤ S1x33344x1x128.size a := fun v5821 k0_hw410 => k0_hw410.1
theorem k0_off820_inb : ∀ (v5821 : BitVec 32) (k0_hw410 : k0_chk410 v5821), ∀ a, (k0_off820 v5821) a + S1x1x1x128.size a ≤ S1x33344x1x128.size a := fun v5821 k0_hw410 => k0_hw410.2

def k0_off821 (v5835 : BitVec 32) : Fin 4 → Nat :=
  let c0_5665 : Index := 0#32
  let v5836 : Index := Scalar.indexCast v5835
  let c0_5666 : Index := 0#32
  let c0_5667 : Index := 0#32
  ![0, v5836.toNat, 0, 0]

def k0_off822 (v5835 : BitVec 32) : Fin 4 → Nat :=
  let c0_5671 : Index := 0#32
  let c1_i32_5670 : BitVec 32 := 1#32
  let v5842 : BitVec 32 := Scalar.addi v5835 c1_i32_5670
  let v5843 : Index := Scalar.indexCast v5842
  let c0_5672 : Index := 0#32
  let c0_5673 : Index := 0#32
  ![0, v5843.toNat, 0, 0]

def k0_chk411 (v5835 : BitVec 32) : Prop :=
  (∀ a, (k0_off821 v5835) a + S1x1x1x128.size a ≤ S1x33344x1x128.size a) ∧
  (∀ a, (k0_off822 v5835) a + S1x1x1x128.size a ≤ S1x33344x1x128.size a)
theorem k0_off821_inb : ∀ (v5835 : BitVec 32) (k0_hw411 : k0_chk411 v5835), ∀ a, (k0_off821 v5835) a + S1x1x1x128.size a ≤ S1x33344x1x128.size a := fun v5835 k0_hw411 => k0_hw411.1
theorem k0_off822_inb : ∀ (v5835 : BitVec 32) (k0_hw411 : k0_chk411 v5835), ∀ a, (k0_off822 v5835) a + S1x1x1x128.size a ≤ S1x33344x1x128.size a := fun v5835 k0_hw411 => k0_hw411.2

def k0_off823 (v5849 : BitVec 32) : Fin 4 → Nat :=
  let c0_5679 : Index := 0#32
  let v5850 : Index := Scalar.indexCast v5849
  let c0_5680 : Index := 0#32
  let c0_5681 : Index := 0#32
  ![0, v5850.toNat, 0, 0]

def k0_off824 (v5849 : BitVec 32) : Fin 4 → Nat :=
  let c0_5685 : Index := 0#32
  let c1_i32_5684 : BitVec 32 := 1#32
  let v5856 : BitVec 32 := Scalar.addi v5849 c1_i32_5684
  let v5857 : Index := Scalar.indexCast v5856
  let c0_5686 : Index := 0#32
  let c0_5687 : Index := 0#32
  ![0, v5857.toNat, 0, 0]

def k0_chk412 (v5849 : BitVec 32) : Prop :=
  (∀ a, (k0_off823 v5849) a + S1x1x1x128.size a ≤ S1x33344x1x128.size a) ∧
  (∀ a, (k0_off824 v5849) a + S1x1x1x128.size a ≤ S1x33344x1x128.size a)
theorem k0_off823_inb : ∀ (v5849 : BitVec 32) (k0_hw412 : k0_chk412 v5849), ∀ a, (k0_off823 v5849) a + S1x1x1x128.size a ≤ S1x33344x1x128.size a := fun v5849 k0_hw412 => k0_hw412.1
theorem k0_off824_inb : ∀ (v5849 : BitVec 32) (k0_hw412 : k0_chk412 v5849), ∀ a, (k0_off824 v5849) a + S1x1x1x128.size a ≤ S1x33344x1x128.size a := fun v5849 k0_hw412 => k0_hw412.2

def k0_off825 (v5863 : BitVec 32) : Fin 4 → Nat :=
  let c0_5693 : Index := 0#32
  let v5864 : Index := Scalar.indexCast v5863
  let c0_5694 : Index := 0#32
  let c0_5695 : Index := 0#32
  ![0, v5864.toNat, 0, 0]

def k0_off826 (v5863 : BitVec 32) : Fin 4 → Nat :=
  let c0_5699 : Index := 0#32
  let c1_i32_5698 : BitVec 32 := 1#32
  let v5870 : BitVec 32 := Scalar.addi v5863 c1_i32_5698
  let v5871 : Index := Scalar.indexCast v5870
  let c0_5700 : Index := 0#32
  let c0_5701 : Index := 0#32
  ![0, v5871.toNat, 0, 0]

def k0_chk413 (v5863 : BitVec 32) : Prop :=
  (∀ a, (k0_off825 v5863) a + S1x1x1x128.size a ≤ S1x33344x1x128.size a) ∧
  (∀ a, (k0_off826 v5863) a + S1x1x1x128.size a ≤ S1x33344x1x128.size a)
theorem k0_off825_inb : ∀ (v5863 : BitVec 32) (k0_hw413 : k0_chk413 v5863), ∀ a, (k0_off825 v5863) a + S1x1x1x128.size a ≤ S1x33344x1x128.size a := fun v5863 k0_hw413 => k0_hw413.1
theorem k0_off826_inb : ∀ (v5863 : BitVec 32) (k0_hw413 : k0_chk413 v5863), ∀ a, (k0_off826 v5863) a + S1x1x1x128.size a ≤ S1x33344x1x128.size a := fun v5863 k0_hw413 => k0_hw413.2

def k0_off827 (v5877 : BitVec 32) : Fin 4 → Nat :=
  let c0_5707 : Index := 0#32
  let v5878 : Index := Scalar.indexCast v5877
  let c0_5708 : Index := 0#32
  let c0_5709 : Index := 0#32
  ![0, v5878.toNat, 0, 0]

def k0_off828 (v5877 : BitVec 32) : Fin 4 → Nat :=
  let c0_5713 : Index := 0#32
  let c1_i32_5712 : BitVec 32 := 1#32
  let v5884 : BitVec 32 := Scalar.addi v5877 c1_i32_5712
  let v5885 : Index := Scalar.indexCast v5884
  let c0_5714 : Index := 0#32
  let c0_5715 : Index := 0#32
  ![0, v5885.toNat, 0, 0]

def k0_chk414 (v5877 : BitVec 32) : Prop :=
  (∀ a, (k0_off827 v5877) a + S1x1x1x128.size a ≤ S1x33344x1x128.size a) ∧
  (∀ a, (k0_off828 v5877) a + S1x1x1x128.size a ≤ S1x33344x1x128.size a)
theorem k0_off827_inb : ∀ (v5877 : BitVec 32) (k0_hw414 : k0_chk414 v5877), ∀ a, (k0_off827 v5877) a + S1x1x1x128.size a ≤ S1x33344x1x128.size a := fun v5877 k0_hw414 => k0_hw414.1
theorem k0_off828_inb : ∀ (v5877 : BitVec 32) (k0_hw414 : k0_chk414 v5877), ∀ a, (k0_off828 v5877) a + S1x1x1x128.size a ≤ S1x33344x1x128.size a := fun v5877 k0_hw414 => k0_hw414.2

def k0_off829 (v5891 : BitVec 32) : Fin 4 → Nat :=
  let c0_5721 : Index := 0#32
  let v5892 : Index := Scalar.indexCast v5891
  let c0_5722 : Index := 0#32
  let c0_5723 : Index := 0#32
  ![0, v5892.toNat, 0, 0]

def k0_off830 (v5891 : BitVec 32) : Fin 4 → Nat :=
  let c0_5727 : Index := 0#32
  let c1_i32_5726 : BitVec 32 := 1#32
  let v5898 : BitVec 32 := Scalar.addi v5891 c1_i32_5726
  let v5899 : Index := Scalar.indexCast v5898
  let c0_5728 : Index := 0#32
  let c0_5729 : Index := 0#32
  ![0, v5899.toNat, 0, 0]

def k0_chk415 (v5891 : BitVec 32) : Prop :=
  (∀ a, (k0_off829 v5891) a + S1x1x1x128.size a ≤ S1x33344x1x128.size a) ∧
  (∀ a, (k0_off830 v5891) a + S1x1x1x128.size a ≤ S1x33344x1x128.size a)
theorem k0_off829_inb : ∀ (v5891 : BitVec 32) (k0_hw415 : k0_chk415 v5891), ∀ a, (k0_off829 v5891) a + S1x1x1x128.size a ≤ S1x33344x1x128.size a := fun v5891 k0_hw415 => k0_hw415.1
theorem k0_off830_inb : ∀ (v5891 : BitVec 32) (k0_hw415 : k0_chk415 v5891), ∀ a, (k0_off830 v5891) a + S1x1x1x128.size a ≤ S1x33344x1x128.size a := fun v5891 k0_hw415 => k0_hw415.2

def k0_off831 (v5905 : BitVec 32) : Fin 4 → Nat :=
  let c0_5735 : Index := 0#32
  let v5906 : Index := Scalar.indexCast v5905
  let c0_5736 : Index := 0#32
  let c0_5737 : Index := 0#32
  ![0, v5906.toNat, 0, 0]

def k0_off832 (v5905 : BitVec 32) : Fin 4 → Nat :=
  let c0_5741 : Index := 0#32
  let c1_i32_5740 : BitVec 32 := 1#32
  let v5912 : BitVec 32 := Scalar.addi v5905 c1_i32_5740
  let v5913 : Index := Scalar.indexCast v5912
  let c0_5742 : Index := 0#32
  let c0_5743 : Index := 0#32
  ![0, v5913.toNat, 0, 0]

def k0_chk416 (v5905 : BitVec 32) : Prop :=
  (∀ a, (k0_off831 v5905) a + S1x1x1x128.size a ≤ S1x33344x1x128.size a) ∧
  (∀ a, (k0_off832 v5905) a + S1x1x1x128.size a ≤ S1x33344x1x128.size a)
theorem k0_off831_inb : ∀ (v5905 : BitVec 32) (k0_hw416 : k0_chk416 v5905), ∀ a, (k0_off831 v5905) a + S1x1x1x128.size a ≤ S1x33344x1x128.size a := fun v5905 k0_hw416 => k0_hw416.1
theorem k0_off832_inb : ∀ (v5905 : BitVec 32) (k0_hw416 : k0_chk416 v5905), ∀ a, (k0_off832 v5905) a + S1x1x1x128.size a ≤ S1x33344x1x128.size a := fun v5905 k0_hw416 => k0_hw416.2

def k0_off833 (v5919 : BitVec 32) : Fin 4 → Nat :=
  let c0_5749 : Index := 0#32
  let v5920 : Index := Scalar.indexCast v5919
  let c0_5750 : Index := 0#32
  let c0_5751 : Index := 0#32
  ![0, v5920.toNat, 0, 0]

def k0_off834 (v5919 : BitVec 32) : Fin 4 → Nat :=
  let c0_5755 : Index := 0#32
  let c1_i32_5754 : BitVec 32 := 1#32
  let v5926 : BitVec 32 := Scalar.addi v5919 c1_i32_5754
  let v5927 : Index := Scalar.indexCast v5926
  let c0_5756 : Index := 0#32
  let c0_5757 : Index := 0#32
  ![0, v5927.toNat, 0, 0]

def k0_chk417 (v5919 : BitVec 32) : Prop :=
  (∀ a, (k0_off833 v5919) a + S1x1x1x128.size a ≤ S1x33344x1x128.size a) ∧
  (∀ a, (k0_off834 v5919) a + S1x1x1x128.size a ≤ S1x33344x1x128.size a)
theorem k0_off833_inb : ∀ (v5919 : BitVec 32) (k0_hw417 : k0_chk417 v5919), ∀ a, (k0_off833 v5919) a + S1x1x1x128.size a ≤ S1x33344x1x128.size a := fun v5919 k0_hw417 => k0_hw417.1
theorem k0_off834_inb : ∀ (v5919 : BitVec 32) (k0_hw417 : k0_chk417 v5919), ∀ a, (k0_off834 v5919) a + S1x1x1x128.size a ≤ S1x33344x1x128.size a := fun v5919 k0_hw417 => k0_hw417.2

def k0_off835 (v5933 : BitVec 32) : Fin 4 → Nat :=
  let c0_5763 : Index := 0#32
  let v5934 : Index := Scalar.indexCast v5933
  let c0_5764 : Index := 0#32
  let c0_5765 : Index := 0#32
  ![0, v5934.toNat, 0, 0]

def k0_off836 (v5933 : BitVec 32) : Fin 4 → Nat :=
  let c0_5769 : Index := 0#32
  let c1_i32_5768 : BitVec 32 := 1#32
  let v5940 : BitVec 32 := Scalar.addi v5933 c1_i32_5768
  let v5941 : Index := Scalar.indexCast v5940
  let c0_5770 : Index := 0#32
  let c0_5771 : Index := 0#32
  ![0, v5941.toNat, 0, 0]

def k0_chk418 (v5933 : BitVec 32) : Prop :=
  (∀ a, (k0_off835 v5933) a + S1x1x1x128.size a ≤ S1x33344x1x128.size a) ∧
  (∀ a, (k0_off836 v5933) a + S1x1x1x128.size a ≤ S1x33344x1x128.size a)
theorem k0_off835_inb : ∀ (v5933 : BitVec 32) (k0_hw418 : k0_chk418 v5933), ∀ a, (k0_off835 v5933) a + S1x1x1x128.size a ≤ S1x33344x1x128.size a := fun v5933 k0_hw418 => k0_hw418.1
theorem k0_off836_inb : ∀ (v5933 : BitVec 32) (k0_hw418 : k0_chk418 v5933), ∀ a, (k0_off836 v5933) a + S1x1x1x128.size a ≤ S1x33344x1x128.size a := fun v5933 k0_hw418 => k0_hw418.2

def k0_off837 (v5947 : BitVec 32) : Fin 4 → Nat :=
  let c0_5777 : Index := 0#32
  let v5948 : Index := Scalar.indexCast v5947
  let c0_5778 : Index := 0#32
  let c0_5779 : Index := 0#32
  ![0, v5948.toNat, 0, 0]

def k0_off838 (v5947 : BitVec 32) : Fin 4 → Nat :=
  let c0_5783 : Index := 0#32
  let c1_i32_5782 : BitVec 32 := 1#32
  let v5954 : BitVec 32 := Scalar.addi v5947 c1_i32_5782
  let v5955 : Index := Scalar.indexCast v5954
  let c0_5784 : Index := 0#32
  let c0_5785 : Index := 0#32
  ![0, v5955.toNat, 0, 0]

def k0_chk419 (v5947 : BitVec 32) : Prop :=
  (∀ a, (k0_off837 v5947) a + S1x1x1x128.size a ≤ S1x33344x1x128.size a) ∧
  (∀ a, (k0_off838 v5947) a + S1x1x1x128.size a ≤ S1x33344x1x128.size a)
theorem k0_off837_inb : ∀ (v5947 : BitVec 32) (k0_hw419 : k0_chk419 v5947), ∀ a, (k0_off837 v5947) a + S1x1x1x128.size a ≤ S1x33344x1x128.size a := fun v5947 k0_hw419 => k0_hw419.1
theorem k0_off838_inb : ∀ (v5947 : BitVec 32) (k0_hw419 : k0_chk419 v5947), ∀ a, (k0_off838 v5947) a + S1x1x1x128.size a ≤ S1x33344x1x128.size a := fun v5947 k0_hw419 => k0_hw419.2

def k0_off839 (v5961 : BitVec 32) : Fin 4 → Nat :=
  let c0_5791 : Index := 0#32
  let v5962 : Index := Scalar.indexCast v5961
  let c0_5792 : Index := 0#32
  let c0_5793 : Index := 0#32
  ![0, v5962.toNat, 0, 0]

def k0_off840 (v5961 : BitVec 32) : Fin 4 → Nat :=
  let c0_5797 : Index := 0#32
  let c1_i32_5796 : BitVec 32 := 1#32
  let v5968 : BitVec 32 := Scalar.addi v5961 c1_i32_5796
  let v5969 : Index := Scalar.indexCast v5968
  let c0_5798 : Index := 0#32
  let c0_5799 : Index := 0#32
  ![0, v5969.toNat, 0, 0]

def k0_chk420 (v5961 : BitVec 32) : Prop :=
  (∀ a, (k0_off839 v5961) a + S1x1x1x128.size a ≤ S1x33344x1x128.size a) ∧
  (∀ a, (k0_off840 v5961) a + S1x1x1x128.size a ≤ S1x33344x1x128.size a)
theorem k0_off839_inb : ∀ (v5961 : BitVec 32) (k0_hw420 : k0_chk420 v5961), ∀ a, (k0_off839 v5961) a + S1x1x1x128.size a ≤ S1x33344x1x128.size a := fun v5961 k0_hw420 => k0_hw420.1
theorem k0_off840_inb : ∀ (v5961 : BitVec 32) (k0_hw420 : k0_chk420 v5961), ∀ a, (k0_off840 v5961) a + S1x1x1x128.size a ≤ S1x33344x1x128.size a := fun v5961 k0_hw420 => k0_hw420.2

def k0_off841 (v5975 : BitVec 32) : Fin 4 → Nat :=
  let c0_5805 : Index := 0#32
  let v5976 : Index := Scalar.indexCast v5975
  let c0_5806 : Index := 0#32
  let c0_5807 : Index := 0#32
  ![0, v5976.toNat, 0, 0]

def k0_off842 (v5975 : BitVec 32) : Fin 4 → Nat :=
  let c0_5811 : Index := 0#32
  let c1_i32_5810 : BitVec 32 := 1#32
  let v5982 : BitVec 32 := Scalar.addi v5975 c1_i32_5810
  let v5983 : Index := Scalar.indexCast v5982
  let c0_5812 : Index := 0#32
  let c0_5813 : Index := 0#32
  ![0, v5983.toNat, 0, 0]

def k0_chk421 (v5975 : BitVec 32) : Prop :=
  (∀ a, (k0_off841 v5975) a + S1x1x1x128.size a ≤ S1x33344x1x128.size a) ∧
  (∀ a, (k0_off842 v5975) a + S1x1x1x128.size a ≤ S1x33344x1x128.size a)
theorem k0_off841_inb : ∀ (v5975 : BitVec 32) (k0_hw421 : k0_chk421 v5975), ∀ a, (k0_off841 v5975) a + S1x1x1x128.size a ≤ S1x33344x1x128.size a := fun v5975 k0_hw421 => k0_hw421.1
theorem k0_off842_inb : ∀ (v5975 : BitVec 32) (k0_hw421 : k0_chk421 v5975), ∀ a, (k0_off842 v5975) a + S1x1x1x128.size a ≤ S1x33344x1x128.size a := fun v5975 k0_hw421 => k0_hw421.2

def k0_off843 (v5989 : BitVec 32) : Fin 4 → Nat :=
  let c0_5819 : Index := 0#32
  let v5990 : Index := Scalar.indexCast v5989
  let c0_5820 : Index := 0#32
  let c0_5821 : Index := 0#32
  ![0, v5990.toNat, 0, 0]

def k0_off844 (v5989 : BitVec 32) : Fin 4 → Nat :=
  let c0_5825 : Index := 0#32
  let c1_i32_5824 : BitVec 32 := 1#32
  let v5996 : BitVec 32 := Scalar.addi v5989 c1_i32_5824
  let v5997 : Index := Scalar.indexCast v5996
  let c0_5826 : Index := 0#32
  let c0_5827 : Index := 0#32
  ![0, v5997.toNat, 0, 0]

def k0_chk422 (v5989 : BitVec 32) : Prop :=
  (∀ a, (k0_off843 v5989) a + S1x1x1x128.size a ≤ S1x33344x1x128.size a) ∧
  (∀ a, (k0_off844 v5989) a + S1x1x1x128.size a ≤ S1x33344x1x128.size a)
theorem k0_off843_inb : ∀ (v5989 : BitVec 32) (k0_hw422 : k0_chk422 v5989), ∀ a, (k0_off843 v5989) a + S1x1x1x128.size a ≤ S1x33344x1x128.size a := fun v5989 k0_hw422 => k0_hw422.1
theorem k0_off844_inb : ∀ (v5989 : BitVec 32) (k0_hw422 : k0_chk422 v5989), ∀ a, (k0_off844 v5989) a + S1x1x1x128.size a ≤ S1x33344x1x128.size a := fun v5989 k0_hw422 => k0_hw422.2

def k0_off845 (v6003 : BitVec 32) : Fin 4 → Nat :=
  let c0_5833 : Index := 0#32
  let v6004 : Index := Scalar.indexCast v6003
  let c0_5834 : Index := 0#32
  let c0_5835 : Index := 0#32
  ![0, v6004.toNat, 0, 0]

def k0_off846 (v6003 : BitVec 32) : Fin 4 → Nat :=
  let c0_5839 : Index := 0#32
  let c1_i32_5838 : BitVec 32 := 1#32
  let v6010 : BitVec 32 := Scalar.addi v6003 c1_i32_5838
  let v6011 : Index := Scalar.indexCast v6010
  let c0_5840 : Index := 0#32
  let c0_5841 : Index := 0#32
  ![0, v6011.toNat, 0, 0]

def k0_chk423 (v6003 : BitVec 32) : Prop :=
  (∀ a, (k0_off845 v6003) a + S1x1x1x128.size a ≤ S1x33344x1x128.size a) ∧
  (∀ a, (k0_off846 v6003) a + S1x1x1x128.size a ≤ S1x33344x1x128.size a)
theorem k0_off845_inb : ∀ (v6003 : BitVec 32) (k0_hw423 : k0_chk423 v6003), ∀ a, (k0_off845 v6003) a + S1x1x1x128.size a ≤ S1x33344x1x128.size a := fun v6003 k0_hw423 => k0_hw423.1
theorem k0_off846_inb : ∀ (v6003 : BitVec 32) (k0_hw423 : k0_chk423 v6003), ∀ a, (k0_off846 v6003) a + S1x1x1x128.size a ≤ S1x33344x1x128.size a := fun v6003 k0_hw423 => k0_hw423.2

def k0_off847 (v6017 : BitVec 32) : Fin 4 → Nat :=
  let c0_5847 : Index := 0#32
  let v6018 : Index := Scalar.indexCast v6017
  let c0_5848 : Index := 0#32
  let c0_5849 : Index := 0#32
  ![0, v6018.toNat, 0, 0]

def k0_off848 (v6017 : BitVec 32) : Fin 4 → Nat :=
  let c0_5853 : Index := 0#32
  let c1_i32_5852 : BitVec 32 := 1#32
  let v6024 : BitVec 32 := Scalar.addi v6017 c1_i32_5852
  let v6025 : Index := Scalar.indexCast v6024
  let c0_5854 : Index := 0#32
  let c0_5855 : Index := 0#32
  ![0, v6025.toNat, 0, 0]

def k0_chk424 (v6017 : BitVec 32) : Prop :=
  (∀ a, (k0_off847 v6017) a + S1x1x1x128.size a ≤ S1x33344x1x128.size a) ∧
  (∀ a, (k0_off848 v6017) a + S1x1x1x128.size a ≤ S1x33344x1x128.size a)
theorem k0_off847_inb : ∀ (v6017 : BitVec 32) (k0_hw424 : k0_chk424 v6017), ∀ a, (k0_off847 v6017) a + S1x1x1x128.size a ≤ S1x33344x1x128.size a := fun v6017 k0_hw424 => k0_hw424.1
theorem k0_off848_inb : ∀ (v6017 : BitVec 32) (k0_hw424 : k0_chk424 v6017), ∀ a, (k0_off848 v6017) a + S1x1x1x128.size a ≤ S1x33344x1x128.size a := fun v6017 k0_hw424 => k0_hw424.2

def k0_off849 (v6031 : BitVec 32) : Fin 4 → Nat :=
  let c0_5861 : Index := 0#32
  let v6032 : Index := Scalar.indexCast v6031
  let c0_5862 : Index := 0#32
  let c0_5863 : Index := 0#32
  ![0, v6032.toNat, 0, 0]

def k0_off850 (v6031 : BitVec 32) : Fin 4 → Nat :=
  let c0_5867 : Index := 0#32
  let c1_i32_5866 : BitVec 32 := 1#32
  let v6038 : BitVec 32 := Scalar.addi v6031 c1_i32_5866
  let v6039 : Index := Scalar.indexCast v6038
  let c0_5868 : Index := 0#32
  let c0_5869 : Index := 0#32
  ![0, v6039.toNat, 0, 0]

def k0_chk425 (v6031 : BitVec 32) : Prop :=
  (∀ a, (k0_off849 v6031) a + S1x1x1x128.size a ≤ S1x33344x1x128.size a) ∧
  (∀ a, (k0_off850 v6031) a + S1x1x1x128.size a ≤ S1x33344x1x128.size a)
theorem k0_off849_inb : ∀ (v6031 : BitVec 32) (k0_hw425 : k0_chk425 v6031), ∀ a, (k0_off849 v6031) a + S1x1x1x128.size a ≤ S1x33344x1x128.size a := fun v6031 k0_hw425 => k0_hw425.1
theorem k0_off850_inb : ∀ (v6031 : BitVec 32) (k0_hw425 : k0_chk425 v6031), ∀ a, (k0_off850 v6031) a + S1x1x1x128.size a ≤ S1x33344x1x128.size a := fun v6031 k0_hw425 => k0_hw425.2

def k0_off851 (v6045 : BitVec 32) : Fin 4 → Nat :=
  let c0_5875 : Index := 0#32
  let v6046 : Index := Scalar.indexCast v6045
  let c0_5876 : Index := 0#32
  let c0_5877 : Index := 0#32
  ![0, v6046.toNat, 0, 0]

def k0_off852 (v6045 : BitVec 32) : Fin 4 → Nat :=
  let c0_5881 : Index := 0#32
  let c1_i32_5880 : BitVec 32 := 1#32
  let v6052 : BitVec 32 := Scalar.addi v6045 c1_i32_5880
  let v6053 : Index := Scalar.indexCast v6052
  let c0_5882 : Index := 0#32
  let c0_5883 : Index := 0#32
  ![0, v6053.toNat, 0, 0]

def k0_chk426 (v6045 : BitVec 32) : Prop :=
  (∀ a, (k0_off851 v6045) a + S1x1x1x128.size a ≤ S1x33344x1x128.size a) ∧
  (∀ a, (k0_off852 v6045) a + S1x1x1x128.size a ≤ S1x33344x1x128.size a)
theorem k0_off851_inb : ∀ (v6045 : BitVec 32) (k0_hw426 : k0_chk426 v6045), ∀ a, (k0_off851 v6045) a + S1x1x1x128.size a ≤ S1x33344x1x128.size a := fun v6045 k0_hw426 => k0_hw426.1
theorem k0_off852_inb : ∀ (v6045 : BitVec 32) (k0_hw426 : k0_chk426 v6045), ∀ a, (k0_off852 v6045) a + S1x1x1x128.size a ≤ S1x33344x1x128.size a := fun v6045 k0_hw426 => k0_hw426.2

def k0_off853 (v6059 : BitVec 32) : Fin 4 → Nat :=
  let c0_5889 : Index := 0#32
  let v6060 : Index := Scalar.indexCast v6059
  let c0_5890 : Index := 0#32
  let c0_5891 : Index := 0#32
  ![0, v6060.toNat, 0, 0]

def k0_off854 (v6059 : BitVec 32) : Fin 4 → Nat :=
  let c0_5895 : Index := 0#32
  let c1_i32_5894 : BitVec 32 := 1#32
  let v6066 : BitVec 32 := Scalar.addi v6059 c1_i32_5894
  let v6067 : Index := Scalar.indexCast v6066
  let c0_5896 : Index := 0#32
  let c0_5897 : Index := 0#32
  ![0, v6067.toNat, 0, 0]

def k0_chk427 (v6059 : BitVec 32) : Prop :=
  (∀ a, (k0_off853 v6059) a + S1x1x1x128.size a ≤ S1x33344x1x128.size a) ∧
  (∀ a, (k0_off854 v6059) a + S1x1x1x128.size a ≤ S1x33344x1x128.size a)
theorem k0_off853_inb : ∀ (v6059 : BitVec 32) (k0_hw427 : k0_chk427 v6059), ∀ a, (k0_off853 v6059) a + S1x1x1x128.size a ≤ S1x33344x1x128.size a := fun v6059 k0_hw427 => k0_hw427.1
theorem k0_off854_inb : ∀ (v6059 : BitVec 32) (k0_hw427 : k0_chk427 v6059), ∀ a, (k0_off854 v6059) a + S1x1x1x128.size a ≤ S1x33344x1x128.size a := fun v6059 k0_hw427 => k0_hw427.2

def k0_off855 (v6073 : BitVec 32) : Fin 4 → Nat :=
  let c0_5903 : Index := 0#32
  let v6074 : Index := Scalar.indexCast v6073
  let c0_5904 : Index := 0#32
  let c0_5905 : Index := 0#32
  ![0, v6074.toNat, 0, 0]

def k0_off856 (v6073 : BitVec 32) : Fin 4 → Nat :=
  let c0_5909 : Index := 0#32
  let c1_i32_5908 : BitVec 32 := 1#32
  let v6080 : BitVec 32 := Scalar.addi v6073 c1_i32_5908
  let v6081 : Index := Scalar.indexCast v6080
  let c0_5910 : Index := 0#32
  let c0_5911 : Index := 0#32
  ![0, v6081.toNat, 0, 0]

def k0_chk428 (v6073 : BitVec 32) : Prop :=
  (∀ a, (k0_off855 v6073) a + S1x1x1x128.size a ≤ S1x33344x1x128.size a) ∧
  (∀ a, (k0_off856 v6073) a + S1x1x1x128.size a ≤ S1x33344x1x128.size a)
theorem k0_off855_inb : ∀ (v6073 : BitVec 32) (k0_hw428 : k0_chk428 v6073), ∀ a, (k0_off855 v6073) a + S1x1x1x128.size a ≤ S1x33344x1x128.size a := fun v6073 k0_hw428 => k0_hw428.1
theorem k0_off856_inb : ∀ (v6073 : BitVec 32) (k0_hw428 : k0_chk428 v6073), ∀ a, (k0_off856 v6073) a + S1x1x1x128.size a ≤ S1x33344x1x128.size a := fun v6073 k0_hw428 => k0_hw428.2

def k0_off857 (v6087 : BitVec 32) : Fin 4 → Nat :=
  let c0_5917 : Index := 0#32
  let v6088 : Index := Scalar.indexCast v6087
  let c0_5918 : Index := 0#32
  let c0_5919 : Index := 0#32
  ![0, v6088.toNat, 0, 0]

def k0_off858 (v6087 : BitVec 32) : Fin 4 → Nat :=
  let c0_5923 : Index := 0#32
  let c1_i32_5922 : BitVec 32 := 1#32
  let v6094 : BitVec 32 := Scalar.addi v6087 c1_i32_5922
  let v6095 : Index := Scalar.indexCast v6094
  let c0_5924 : Index := 0#32
  let c0_5925 : Index := 0#32
  ![0, v6095.toNat, 0, 0]

def k0_chk429 (v6087 : BitVec 32) : Prop :=
  (∀ a, (k0_off857 v6087) a + S1x1x1x128.size a ≤ S1x33344x1x128.size a) ∧
  (∀ a, (k0_off858 v6087) a + S1x1x1x128.size a ≤ S1x33344x1x128.size a)
theorem k0_off857_inb : ∀ (v6087 : BitVec 32) (k0_hw429 : k0_chk429 v6087), ∀ a, (k0_off857 v6087) a + S1x1x1x128.size a ≤ S1x33344x1x128.size a := fun v6087 k0_hw429 => k0_hw429.1
theorem k0_off858_inb : ∀ (v6087 : BitVec 32) (k0_hw429 : k0_chk429 v6087), ∀ a, (k0_off858 v6087) a + S1x1x1x128.size a ≤ S1x33344x1x128.size a := fun v6087 k0_hw429 => k0_hw429.2

def k0_off859 (v6101 : BitVec 32) : Fin 4 → Nat :=
  let c0_5931 : Index := 0#32
  let v6102 : Index := Scalar.indexCast v6101
  let c0_5932 : Index := 0#32
  let c0_5933 : Index := 0#32
  ![0, v6102.toNat, 0, 0]

def k0_off860 (v6101 : BitVec 32) : Fin 4 → Nat :=
  let c0_5937 : Index := 0#32
  let c1_i32_5936 : BitVec 32 := 1#32
  let v6108 : BitVec 32 := Scalar.addi v6101 c1_i32_5936
  let v6109 : Index := Scalar.indexCast v6108
  let c0_5938 : Index := 0#32
  let c0_5939 : Index := 0#32
  ![0, v6109.toNat, 0, 0]

def k0_chk430 (v6101 : BitVec 32) : Prop :=
  (∀ a, (k0_off859 v6101) a + S1x1x1x128.size a ≤ S1x33344x1x128.size a) ∧
  (∀ a, (k0_off860 v6101) a + S1x1x1x128.size a ≤ S1x33344x1x128.size a)
theorem k0_off859_inb : ∀ (v6101 : BitVec 32) (k0_hw430 : k0_chk430 v6101), ∀ a, (k0_off859 v6101) a + S1x1x1x128.size a ≤ S1x33344x1x128.size a := fun v6101 k0_hw430 => k0_hw430.1
theorem k0_off860_inb : ∀ (v6101 : BitVec 32) (k0_hw430 : k0_chk430 v6101), ∀ a, (k0_off860 v6101) a + S1x1x1x128.size a ≤ S1x33344x1x128.size a := fun v6101 k0_hw430 => k0_hw430.2

def k0_off861 (v6115 : BitVec 32) : Fin 4 → Nat :=
  let c0_5945 : Index := 0#32
  let v6116 : Index := Scalar.indexCast v6115
  let c0_5946 : Index := 0#32
  let c0_5947 : Index := 0#32
  ![0, v6116.toNat, 0, 0]

def k0_off862 (v6115 : BitVec 32) : Fin 4 → Nat :=
  let c0_5951 : Index := 0#32
  let c1_i32_5950 : BitVec 32 := 1#32
  let v6122 : BitVec 32 := Scalar.addi v6115 c1_i32_5950
  let v6123 : Index := Scalar.indexCast v6122
  let c0_5952 : Index := 0#32
  let c0_5953 : Index := 0#32
  ![0, v6123.toNat, 0, 0]

def k0_chk431 (v6115 : BitVec 32) : Prop :=
  (∀ a, (k0_off861 v6115) a + S1x1x1x128.size a ≤ S1x33344x1x128.size a) ∧
  (∀ a, (k0_off862 v6115) a + S1x1x1x128.size a ≤ S1x33344x1x128.size a)
theorem k0_off861_inb : ∀ (v6115 : BitVec 32) (k0_hw431 : k0_chk431 v6115), ∀ a, (k0_off861 v6115) a + S1x1x1x128.size a ≤ S1x33344x1x128.size a := fun v6115 k0_hw431 => k0_hw431.1
theorem k0_off862_inb : ∀ (v6115 : BitVec 32) (k0_hw431 : k0_chk431 v6115), ∀ a, (k0_off862 v6115) a + S1x1x1x128.size a ≤ S1x33344x1x128.size a := fun v6115 k0_hw431 => k0_hw431.2

def k0_off863 (v6129 : BitVec 32) : Fin 4 → Nat :=
  let c0_5959 : Index := 0#32
  let v6130 : Index := Scalar.indexCast v6129
  let c0_5960 : Index := 0#32
  let c0_5961 : Index := 0#32
  ![0, v6130.toNat, 0, 0]

def k0_off864 (v6129 : BitVec 32) : Fin 4 → Nat :=
  let c0_5965 : Index := 0#32
  let c1_i32_5964 : BitVec 32 := 1#32
  let v6136 : BitVec 32 := Scalar.addi v6129 c1_i32_5964
  let v6137 : Index := Scalar.indexCast v6136
  let c0_5966 : Index := 0#32
  let c0_5967 : Index := 0#32
  ![0, v6137.toNat, 0, 0]

def k0_chk432 (v6129 : BitVec 32) : Prop :=
  (∀ a, (k0_off863 v6129) a + S1x1x1x128.size a ≤ S1x33344x1x128.size a) ∧
  (∀ a, (k0_off864 v6129) a + S1x1x1x128.size a ≤ S1x33344x1x128.size a)
theorem k0_off863_inb : ∀ (v6129 : BitVec 32) (k0_hw432 : k0_chk432 v6129), ∀ a, (k0_off863 v6129) a + S1x1x1x128.size a ≤ S1x33344x1x128.size a := fun v6129 k0_hw432 => k0_hw432.1
theorem k0_off864_inb : ∀ (v6129 : BitVec 32) (k0_hw432 : k0_chk432 v6129), ∀ a, (k0_off864 v6129) a + S1x1x1x128.size a ≤ S1x33344x1x128.size a := fun v6129 k0_hw432 => k0_hw432.2

def k0_off865 (v6143 : BitVec 32) : Fin 4 → Nat :=
  let c0_5973 : Index := 0#32
  let v6144 : Index := Scalar.indexCast v6143
  let c0_5974 : Index := 0#32
  let c0_5975 : Index := 0#32
  ![0, v6144.toNat, 0, 0]

def k0_off866 (v6143 : BitVec 32) : Fin 4 → Nat :=
  let c0_5979 : Index := 0#32
  let c1_i32_5978 : BitVec 32 := 1#32
  let v6150 : BitVec 32 := Scalar.addi v6143 c1_i32_5978
  let v6151 : Index := Scalar.indexCast v6150
  let c0_5980 : Index := 0#32
  let c0_5981 : Index := 0#32
  ![0, v6151.toNat, 0, 0]

def k0_chk433 (v6143 : BitVec 32) : Prop :=
  (∀ a, (k0_off865 v6143) a + S1x1x1x128.size a ≤ S1x33344x1x128.size a) ∧
  (∀ a, (k0_off866 v6143) a + S1x1x1x128.size a ≤ S1x33344x1x128.size a)
theorem k0_off865_inb : ∀ (v6143 : BitVec 32) (k0_hw433 : k0_chk433 v6143), ∀ a, (k0_off865 v6143) a + S1x1x1x128.size a ≤ S1x33344x1x128.size a := fun v6143 k0_hw433 => k0_hw433.1
theorem k0_off866_inb : ∀ (v6143 : BitVec 32) (k0_hw433 : k0_chk433 v6143), ∀ a, (k0_off866 v6143) a + S1x1x1x128.size a ≤ S1x33344x1x128.size a := fun v6143 k0_hw433 => k0_hw433.2

def k0_off867 (v6157 : BitVec 32) : Fin 4 → Nat :=
  let c0_5987 : Index := 0#32
  let v6158 : Index := Scalar.indexCast v6157
  let c0_5988 : Index := 0#32
  let c0_5989 : Index := 0#32
  ![0, v6158.toNat, 0, 0]

def k0_off868 (v6157 : BitVec 32) : Fin 4 → Nat :=
  let c0_5993 : Index := 0#32
  let c1_i32_5992 : BitVec 32 := 1#32
  let v6164 : BitVec 32 := Scalar.addi v6157 c1_i32_5992
  let v6165 : Index := Scalar.indexCast v6164
  let c0_5994 : Index := 0#32
  let c0_5995 : Index := 0#32
  ![0, v6165.toNat, 0, 0]

def k0_chk434 (v6157 : BitVec 32) : Prop :=
  (∀ a, (k0_off867 v6157) a + S1x1x1x128.size a ≤ S1x33344x1x128.size a) ∧
  (∀ a, (k0_off868 v6157) a + S1x1x1x128.size a ≤ S1x33344x1x128.size a)
theorem k0_off867_inb : ∀ (v6157 : BitVec 32) (k0_hw434 : k0_chk434 v6157), ∀ a, (k0_off867 v6157) a + S1x1x1x128.size a ≤ S1x33344x1x128.size a := fun v6157 k0_hw434 => k0_hw434.1
theorem k0_off868_inb : ∀ (v6157 : BitVec 32) (k0_hw434 : k0_chk434 v6157), ∀ a, (k0_off868 v6157) a + S1x1x1x128.size a ≤ S1x33344x1x128.size a := fun v6157 k0_hw434 => k0_hw434.2

def k0_off869 (v6171 : BitVec 32) : Fin 4 → Nat :=
  let c0_6001 : Index := 0#32
  let v6172 : Index := Scalar.indexCast v6171
  let c0_6002 : Index := 0#32
  let c0_6003 : Index := 0#32
  ![0, v6172.toNat, 0, 0]

def k0_off870 (v6171 : BitVec 32) : Fin 4 → Nat :=
  let c0_6007 : Index := 0#32
  let c1_i32_6006 : BitVec 32 := 1#32
  let v6178 : BitVec 32 := Scalar.addi v6171 c1_i32_6006
  let v6179 : Index := Scalar.indexCast v6178
  let c0_6008 : Index := 0#32
  let c0_6009 : Index := 0#32
  ![0, v6179.toNat, 0, 0]

def k0_chk435 (v6171 : BitVec 32) : Prop :=
  (∀ a, (k0_off869 v6171) a + S1x1x1x128.size a ≤ S1x33344x1x128.size a) ∧
  (∀ a, (k0_off870 v6171) a + S1x1x1x128.size a ≤ S1x33344x1x128.size a)
theorem k0_off869_inb : ∀ (v6171 : BitVec 32) (k0_hw435 : k0_chk435 v6171), ∀ a, (k0_off869 v6171) a + S1x1x1x128.size a ≤ S1x33344x1x128.size a := fun v6171 k0_hw435 => k0_hw435.1
theorem k0_off870_inb : ∀ (v6171 : BitVec 32) (k0_hw435 : k0_chk435 v6171), ∀ a, (k0_off870 v6171) a + S1x1x1x128.size a ≤ S1x33344x1x128.size a := fun v6171 k0_hw435 => k0_hw435.2

def k0_off871 (v6185 : BitVec 32) : Fin 4 → Nat :=
  let c0_6015 : Index := 0#32
  let v6186 : Index := Scalar.indexCast v6185
  let c0_6016 : Index := 0#32
  let c0_6017 : Index := 0#32
  ![0, v6186.toNat, 0, 0]

def k0_off872 (v6185 : BitVec 32) : Fin 4 → Nat :=
  let c0_6021 : Index := 0#32
  let c1_i32_6020 : BitVec 32 := 1#32
  let v6192 : BitVec 32 := Scalar.addi v6185 c1_i32_6020
  let v6193 : Index := Scalar.indexCast v6192
  let c0_6022 : Index := 0#32
  let c0_6023 : Index := 0#32
  ![0, v6193.toNat, 0, 0]

def k0_chk436 (v6185 : BitVec 32) : Prop :=
  (∀ a, (k0_off871 v6185) a + S1x1x1x128.size a ≤ S1x33344x1x128.size a) ∧
  (∀ a, (k0_off872 v6185) a + S1x1x1x128.size a ≤ S1x33344x1x128.size a)
theorem k0_off871_inb : ∀ (v6185 : BitVec 32) (k0_hw436 : k0_chk436 v6185), ∀ a, (k0_off871 v6185) a + S1x1x1x128.size a ≤ S1x33344x1x128.size a := fun v6185 k0_hw436 => k0_hw436.1
theorem k0_off872_inb : ∀ (v6185 : BitVec 32) (k0_hw436 : k0_chk436 v6185), ∀ a, (k0_off872 v6185) a + S1x1x1x128.size a ≤ S1x33344x1x128.size a := fun v6185 k0_hw436 => k0_hw436.2

def k0_off873 (v6199 : BitVec 32) : Fin 4 → Nat :=
  let c0_6029 : Index := 0#32
  let v6200 : Index := Scalar.indexCast v6199
  let c0_6030 : Index := 0#32
  let c0_6031 : Index := 0#32
  ![0, v6200.toNat, 0, 0]

def k0_off874 (v6199 : BitVec 32) : Fin 4 → Nat :=
  let c0_6035 : Index := 0#32
  let c1_i32_6034 : BitVec 32 := 1#32
  let v6206 : BitVec 32 := Scalar.addi v6199 c1_i32_6034
  let v6207 : Index := Scalar.indexCast v6206
  let c0_6036 : Index := 0#32
  let c0_6037 : Index := 0#32
  ![0, v6207.toNat, 0, 0]

def k0_chk437 (v6199 : BitVec 32) : Prop :=
  (∀ a, (k0_off873 v6199) a + S1x1x1x128.size a ≤ S1x33344x1x128.size a) ∧
  (∀ a, (k0_off874 v6199) a + S1x1x1x128.size a ≤ S1x33344x1x128.size a)
theorem k0_off873_inb : ∀ (v6199 : BitVec 32) (k0_hw437 : k0_chk437 v6199), ∀ a, (k0_off873 v6199) a + S1x1x1x128.size a ≤ S1x33344x1x128.size a := fun v6199 k0_hw437 => k0_hw437.1
theorem k0_off874_inb : ∀ (v6199 : BitVec 32) (k0_hw437 : k0_chk437 v6199), ∀ a, (k0_off874 v6199) a + S1x1x1x128.size a ≤ S1x33344x1x128.size a := fun v6199 k0_hw437 => k0_hw437.2

def k0_off875 (v6213 : BitVec 32) : Fin 4 → Nat :=
  let c0_6043 : Index := 0#32
  let v6214 : Index := Scalar.indexCast v6213
  let c0_6044 : Index := 0#32
  let c0_6045 : Index := 0#32
  ![0, v6214.toNat, 0, 0]

def k0_off876 (v6213 : BitVec 32) : Fin 4 → Nat :=
  let c0_6049 : Index := 0#32
  let c1_i32_6048 : BitVec 32 := 1#32
  let v6220 : BitVec 32 := Scalar.addi v6213 c1_i32_6048
  let v6221 : Index := Scalar.indexCast v6220
  let c0_6050 : Index := 0#32
  let c0_6051 : Index := 0#32
  ![0, v6221.toNat, 0, 0]

def k0_chk438 (v6213 : BitVec 32) : Prop :=
  (∀ a, (k0_off875 v6213) a + S1x1x1x128.size a ≤ S1x33344x1x128.size a) ∧
  (∀ a, (k0_off876 v6213) a + S1x1x1x128.size a ≤ S1x33344x1x128.size a)
theorem k0_off875_inb : ∀ (v6213 : BitVec 32) (k0_hw438 : k0_chk438 v6213), ∀ a, (k0_off875 v6213) a + S1x1x1x128.size a ≤ S1x33344x1x128.size a := fun v6213 k0_hw438 => k0_hw438.1
theorem k0_off876_inb : ∀ (v6213 : BitVec 32) (k0_hw438 : k0_chk438 v6213), ∀ a, (k0_off876 v6213) a + S1x1x1x128.size a ≤ S1x33344x1x128.size a := fun v6213 k0_hw438 => k0_hw438.2

def k0_off877 (v6227 : BitVec 32) : Fin 4 → Nat :=
  let c0_6057 : Index := 0#32
  let v6228 : Index := Scalar.indexCast v6227
  let c0_6058 : Index := 0#32
  let c0_6059 : Index := 0#32
  ![0, v6228.toNat, 0, 0]

def k0_off878 (v6227 : BitVec 32) : Fin 4 → Nat :=
  let c0_6063 : Index := 0#32
  let c1_i32_6062 : BitVec 32 := 1#32
  let v6234 : BitVec 32 := Scalar.addi v6227 c1_i32_6062
  let v6235 : Index := Scalar.indexCast v6234
  let c0_6064 : Index := 0#32
  let c0_6065 : Index := 0#32
  ![0, v6235.toNat, 0, 0]

def k0_chk439 (v6227 : BitVec 32) : Prop :=
  (∀ a, (k0_off877 v6227) a + S1x1x1x128.size a ≤ S1x33344x1x128.size a) ∧
  (∀ a, (k0_off878 v6227) a + S1x1x1x128.size a ≤ S1x33344x1x128.size a)
theorem k0_off877_inb : ∀ (v6227 : BitVec 32) (k0_hw439 : k0_chk439 v6227), ∀ a, (k0_off877 v6227) a + S1x1x1x128.size a ≤ S1x33344x1x128.size a := fun v6227 k0_hw439 => k0_hw439.1
theorem k0_off878_inb : ∀ (v6227 : BitVec 32) (k0_hw439 : k0_chk439 v6227), ∀ a, (k0_off878 v6227) a + S1x1x1x128.size a ≤ S1x33344x1x128.size a := fun v6227 k0_hw439 => k0_hw439.2

def k0_off879 (v6241 : BitVec 32) : Fin 4 → Nat :=
  let c0_6071 : Index := 0#32
  let v6242 : Index := Scalar.indexCast v6241
  let c0_6072 : Index := 0#32
  let c0_6073 : Index := 0#32
  ![0, v6242.toNat, 0, 0]

def k0_off880 (v6241 : BitVec 32) : Fin 4 → Nat :=
  let c0_6077 : Index := 0#32
  let c1_i32_6076 : BitVec 32 := 1#32
  let v6248 : BitVec 32 := Scalar.addi v6241 c1_i32_6076
  let v6249 : Index := Scalar.indexCast v6248
  let c0_6078 : Index := 0#32
  let c0_6079 : Index := 0#32
  ![0, v6249.toNat, 0, 0]

def k0_chk440 (v6241 : BitVec 32) : Prop :=
  (∀ a, (k0_off879 v6241) a + S1x1x1x128.size a ≤ S1x33344x1x128.size a) ∧
  (∀ a, (k0_off880 v6241) a + S1x1x1x128.size a ≤ S1x33344x1x128.size a)
theorem k0_off879_inb : ∀ (v6241 : BitVec 32) (k0_hw440 : k0_chk440 v6241), ∀ a, (k0_off879 v6241) a + S1x1x1x128.size a ≤ S1x33344x1x128.size a := fun v6241 k0_hw440 => k0_hw440.1
theorem k0_off880_inb : ∀ (v6241 : BitVec 32) (k0_hw440 : k0_chk440 v6241), ∀ a, (k0_off880 v6241) a + S1x1x1x128.size a ≤ S1x33344x1x128.size a := fun v6241 k0_hw440 => k0_hw440.2

def k0_off881 (v6255 : BitVec 32) : Fin 4 → Nat :=
  let c0_6085 : Index := 0#32
  let v6256 : Index := Scalar.indexCast v6255
  let c0_6086 : Index := 0#32
  let c0_6087 : Index := 0#32
  ![0, v6256.toNat, 0, 0]

def k0_off882 (v6255 : BitVec 32) : Fin 4 → Nat :=
  let c0_6091 : Index := 0#32
  let c1_i32_6090 : BitVec 32 := 1#32
  let v6262 : BitVec 32 := Scalar.addi v6255 c1_i32_6090
  let v6263 : Index := Scalar.indexCast v6262
  let c0_6092 : Index := 0#32
  let c0_6093 : Index := 0#32
  ![0, v6263.toNat, 0, 0]

def k0_chk441 (v6255 : BitVec 32) : Prop :=
  (∀ a, (k0_off881 v6255) a + S1x1x1x128.size a ≤ S1x33344x1x128.size a) ∧
  (∀ a, (k0_off882 v6255) a + S1x1x1x128.size a ≤ S1x33344x1x128.size a)
theorem k0_off881_inb : ∀ (v6255 : BitVec 32) (k0_hw441 : k0_chk441 v6255), ∀ a, (k0_off881 v6255) a + S1x1x1x128.size a ≤ S1x33344x1x128.size a := fun v6255 k0_hw441 => k0_hw441.1
theorem k0_off882_inb : ∀ (v6255 : BitVec 32) (k0_hw441 : k0_chk441 v6255), ∀ a, (k0_off882 v6255) a + S1x1x1x128.size a ≤ S1x33344x1x128.size a := fun v6255 k0_hw441 => k0_hw441.2

def k0_off883 (v6269 : BitVec 32) : Fin 4 → Nat :=
  let c0_6099 : Index := 0#32
  let v6270 : Index := Scalar.indexCast v6269
  let c0_6100 : Index := 0#32
  let c0_6101 : Index := 0#32
  ![0, v6270.toNat, 0, 0]

def k0_off884 (v6269 : BitVec 32) : Fin 4 → Nat :=
  let c0_6105 : Index := 0#32
  let c1_i32_6104 : BitVec 32 := 1#32
  let v6276 : BitVec 32 := Scalar.addi v6269 c1_i32_6104
  let v6277 : Index := Scalar.indexCast v6276
  let c0_6106 : Index := 0#32
  let c0_6107 : Index := 0#32
  ![0, v6277.toNat, 0, 0]

def k0_chk442 (v6269 : BitVec 32) : Prop :=
  (∀ a, (k0_off883 v6269) a + S1x1x1x128.size a ≤ S1x33344x1x128.size a) ∧
  (∀ a, (k0_off884 v6269) a + S1x1x1x128.size a ≤ S1x33344x1x128.size a)
theorem k0_off883_inb : ∀ (v6269 : BitVec 32) (k0_hw442 : k0_chk442 v6269), ∀ a, (k0_off883 v6269) a + S1x1x1x128.size a ≤ S1x33344x1x128.size a := fun v6269 k0_hw442 => k0_hw442.1
theorem k0_off884_inb : ∀ (v6269 : BitVec 32) (k0_hw442 : k0_chk442 v6269), ∀ a, (k0_off884 v6269) a + S1x1x1x128.size a ≤ S1x33344x1x128.size a := fun v6269 k0_hw442 => k0_hw442.2

def k0_off885 (v6283 : BitVec 32) : Fin 4 → Nat :=
  let c0_6113 : Index := 0#32
  let v6284 : Index := Scalar.indexCast v6283
  let c0_6114 : Index := 0#32
  let c0_6115 : Index := 0#32
  ![0, v6284.toNat, 0, 0]

def k0_off886 (v6283 : BitVec 32) : Fin 4 → Nat :=
  let c0_6119 : Index := 0#32
  let c1_i32_6118 : BitVec 32 := 1#32
  let v6290 : BitVec 32 := Scalar.addi v6283 c1_i32_6118
  let v6291 : Index := Scalar.indexCast v6290
  let c0_6120 : Index := 0#32
  let c0_6121 : Index := 0#32
  ![0, v6291.toNat, 0, 0]

def k0_chk443 (v6283 : BitVec 32) : Prop :=
  (∀ a, (k0_off885 v6283) a + S1x1x1x128.size a ≤ S1x33344x1x128.size a) ∧
  (∀ a, (k0_off886 v6283) a + S1x1x1x128.size a ≤ S1x33344x1x128.size a)
theorem k0_off885_inb : ∀ (v6283 : BitVec 32) (k0_hw443 : k0_chk443 v6283), ∀ a, (k0_off885 v6283) a + S1x1x1x128.size a ≤ S1x33344x1x128.size a := fun v6283 k0_hw443 => k0_hw443.1
theorem k0_off886_inb : ∀ (v6283 : BitVec 32) (k0_hw443 : k0_chk443 v6283), ∀ a, (k0_off886 v6283) a + S1x1x1x128.size a ≤ S1x33344x1x128.size a := fun v6283 k0_hw443 => k0_hw443.2

def k0_off887 (v6297 : BitVec 32) : Fin 4 → Nat :=
  let c0_6127 : Index := 0#32
  let v6298 : Index := Scalar.indexCast v6297
  let c0_6128 : Index := 0#32
  let c0_6129 : Index := 0#32
  ![0, v6298.toNat, 0, 0]

def k0_off888 (v6297 : BitVec 32) : Fin 4 → Nat :=
  let c0_6133 : Index := 0#32
  let c1_i32_6132 : BitVec 32 := 1#32
  let v6304 : BitVec 32 := Scalar.addi v6297 c1_i32_6132
  let v6305 : Index := Scalar.indexCast v6304
  let c0_6134 : Index := 0#32
  let c0_6135 : Index := 0#32
  ![0, v6305.toNat, 0, 0]

def k0_chk444 (v6297 : BitVec 32) : Prop :=
  (∀ a, (k0_off887 v6297) a + S1x1x1x128.size a ≤ S1x33344x1x128.size a) ∧
  (∀ a, (k0_off888 v6297) a + S1x1x1x128.size a ≤ S1x33344x1x128.size a)
theorem k0_off887_inb : ∀ (v6297 : BitVec 32) (k0_hw444 : k0_chk444 v6297), ∀ a, (k0_off887 v6297) a + S1x1x1x128.size a ≤ S1x33344x1x128.size a := fun v6297 k0_hw444 => k0_hw444.1
theorem k0_off888_inb : ∀ (v6297 : BitVec 32) (k0_hw444 : k0_chk444 v6297), ∀ a, (k0_off888 v6297) a + S1x1x1x128.size a ≤ S1x33344x1x128.size a := fun v6297 k0_hw444 => k0_hw444.2

def k0_off889 (v6311 : BitVec 32) : Fin 4 → Nat :=
  let c0_6141 : Index := 0#32
  let v6312 : Index := Scalar.indexCast v6311
  let c0_6142 : Index := 0#32
  let c0_6143 : Index := 0#32
  ![0, v6312.toNat, 0, 0]

def k0_off890 (v6311 : BitVec 32) : Fin 4 → Nat :=
  let c0_6147 : Index := 0#32
  let c1_i32_6146 : BitVec 32 := 1#32
  let v6318 : BitVec 32 := Scalar.addi v6311 c1_i32_6146
  let v6319 : Index := Scalar.indexCast v6318
  let c0_6148 : Index := 0#32
  let c0_6149 : Index := 0#32
  ![0, v6319.toNat, 0, 0]

def k0_chk445 (v6311 : BitVec 32) : Prop :=
  (∀ a, (k0_off889 v6311) a + S1x1x1x128.size a ≤ S1x33344x1x128.size a) ∧
  (∀ a, (k0_off890 v6311) a + S1x1x1x128.size a ≤ S1x33344x1x128.size a)
theorem k0_off889_inb : ∀ (v6311 : BitVec 32) (k0_hw445 : k0_chk445 v6311), ∀ a, (k0_off889 v6311) a + S1x1x1x128.size a ≤ S1x33344x1x128.size a := fun v6311 k0_hw445 => k0_hw445.1
theorem k0_off890_inb : ∀ (v6311 : BitVec 32) (k0_hw445 : k0_chk445 v6311), ∀ a, (k0_off890 v6311) a + S1x1x1x128.size a ≤ S1x33344x1x128.size a := fun v6311 k0_hw445 => k0_hw445.2

def k0_off891 (v6325 : BitVec 32) : Fin 4 → Nat :=
  let c0_6155 : Index := 0#32
  let v6326 : Index := Scalar.indexCast v6325
  let c0_6156 : Index := 0#32
  let c0_6157 : Index := 0#32
  ![0, v6326.toNat, 0, 0]

def k0_off892 (v6325 : BitVec 32) : Fin 4 → Nat :=
  let c0_6161 : Index := 0#32
  let c1_i32_6160 : BitVec 32 := 1#32
  let v6332 : BitVec 32 := Scalar.addi v6325 c1_i32_6160
  let v6333 : Index := Scalar.indexCast v6332
  let c0_6162 : Index := 0#32
  let c0_6163 : Index := 0#32
  ![0, v6333.toNat, 0, 0]

def k0_chk446 (v6325 : BitVec 32) : Prop :=
  (∀ a, (k0_off891 v6325) a + S1x1x1x128.size a ≤ S1x33344x1x128.size a) ∧
  (∀ a, (k0_off892 v6325) a + S1x1x1x128.size a ≤ S1x33344x1x128.size a)
theorem k0_off891_inb : ∀ (v6325 : BitVec 32) (k0_hw446 : k0_chk446 v6325), ∀ a, (k0_off891 v6325) a + S1x1x1x128.size a ≤ S1x33344x1x128.size a := fun v6325 k0_hw446 => k0_hw446.1
theorem k0_off892_inb : ∀ (v6325 : BitVec 32) (k0_hw446 : k0_chk446 v6325), ∀ a, (k0_off892 v6325) a + S1x1x1x128.size a ≤ S1x33344x1x128.size a := fun v6325 k0_hw446 => k0_hw446.2

def k0_off893 (v6339 : BitVec 32) : Fin 4 → Nat :=
  let c0_6169 : Index := 0#32
  let v6340 : Index := Scalar.indexCast v6339
  let c0_6170 : Index := 0#32
  let c0_6171 : Index := 0#32
  ![0, v6340.toNat, 0, 0]

def k0_off894 (v6339 : BitVec 32) : Fin 4 → Nat :=
  let c0_6175 : Index := 0#32
  let c1_i32_6174 : BitVec 32 := 1#32
  let v6346 : BitVec 32 := Scalar.addi v6339 c1_i32_6174
  let v6347 : Index := Scalar.indexCast v6346
  let c0_6176 : Index := 0#32
  let c0_6177 : Index := 0#32
  ![0, v6347.toNat, 0, 0]

def k0_chk447 (v6339 : BitVec 32) : Prop :=
  (∀ a, (k0_off893 v6339) a + S1x1x1x128.size a ≤ S1x33344x1x128.size a) ∧
  (∀ a, (k0_off894 v6339) a + S1x1x1x128.size a ≤ S1x33344x1x128.size a)
theorem k0_off893_inb : ∀ (v6339 : BitVec 32) (k0_hw447 : k0_chk447 v6339), ∀ a, (k0_off893 v6339) a + S1x1x1x128.size a ≤ S1x33344x1x128.size a := fun v6339 k0_hw447 => k0_hw447.1
theorem k0_off894_inb : ∀ (v6339 : BitVec 32) (k0_hw447 : k0_chk447 v6339), ∀ a, (k0_off894 v6339) a + S1x1x1x128.size a ≤ S1x33344x1x128.size a := fun v6339 k0_hw447 => k0_hw447.2

def k0_off895 (v6353 : BitVec 32) : Fin 4 → Nat :=
  let c0_6183 : Index := 0#32
  let v6354 : Index := Scalar.indexCast v6353
  let c0_6184 : Index := 0#32
  let c0_6185 : Index := 0#32
  ![0, v6354.toNat, 0, 0]

def k0_off896 (v6353 : BitVec 32) : Fin 4 → Nat :=
  let c0_6189 : Index := 0#32
  let c1_i32_6188 : BitVec 32 := 1#32
  let v6360 : BitVec 32 := Scalar.addi v6353 c1_i32_6188
  let v6361 : Index := Scalar.indexCast v6360
  let c0_6190 : Index := 0#32
  let c0_6191 : Index := 0#32
  ![0, v6361.toNat, 0, 0]

def k0_chk448 (v6353 : BitVec 32) : Prop :=
  (∀ a, (k0_off895 v6353) a + S1x1x1x128.size a ≤ S1x33344x1x128.size a) ∧
  (∀ a, (k0_off896 v6353) a + S1x1x1x128.size a ≤ S1x33344x1x128.size a)
theorem k0_off895_inb : ∀ (v6353 : BitVec 32) (k0_hw448 : k0_chk448 v6353), ∀ a, (k0_off895 v6353) a + S1x1x1x128.size a ≤ S1x33344x1x128.size a := fun v6353 k0_hw448 => k0_hw448.1
theorem k0_off896_inb : ∀ (v6353 : BitVec 32) (k0_hw448 : k0_chk448 v6353), ∀ a, (k0_off896 v6353) a + S1x1x1x128.size a ≤ S1x33344x1x128.size a := fun v6353 k0_hw448 => k0_hw448.2

def k0_off897 (v6367 : BitVec 32) : Fin 4 → Nat :=
  let c0_6197 : Index := 0#32
  let v6368 : Index := Scalar.indexCast v6367
  let c0_6198 : Index := 0#32
  let c0_6199 : Index := 0#32
  ![0, v6368.toNat, 0, 0]

def k0_off898 (v6367 : BitVec 32) : Fin 4 → Nat :=
  let c0_6203 : Index := 0#32
  let c1_i32_6202 : BitVec 32 := 1#32
  let v6374 : BitVec 32 := Scalar.addi v6367 c1_i32_6202
  let v6375 : Index := Scalar.indexCast v6374
  let c0_6204 : Index := 0#32
  let c0_6205 : Index := 0#32
  ![0, v6375.toNat, 0, 0]

def k0_chk449 (v6367 : BitVec 32) : Prop :=
  (∀ a, (k0_off897 v6367) a + S1x1x1x128.size a ≤ S1x33344x1x128.size a) ∧
  (∀ a, (k0_off898 v6367) a + S1x1x1x128.size a ≤ S1x33344x1x128.size a)
theorem k0_off897_inb : ∀ (v6367 : BitVec 32) (k0_hw449 : k0_chk449 v6367), ∀ a, (k0_off897 v6367) a + S1x1x1x128.size a ≤ S1x33344x1x128.size a := fun v6367 k0_hw449 => k0_hw449.1
theorem k0_off898_inb : ∀ (v6367 : BitVec 32) (k0_hw449 : k0_chk449 v6367), ∀ a, (k0_off898 v6367) a + S1x1x1x128.size a ≤ S1x33344x1x128.size a := fun v6367 k0_hw449 => k0_hw449.2

def k0_off899 (v6381 : BitVec 32) : Fin 4 → Nat :=
  let c0_6211 : Index := 0#32
  let v6382 : Index := Scalar.indexCast v6381
  let c0_6212 : Index := 0#32
  let c0_6213 : Index := 0#32
  ![0, v6382.toNat, 0, 0]

def k0_off900 (v6381 : BitVec 32) : Fin 4 → Nat :=
  let c0_6217 : Index := 0#32
  let c1_i32_6216 : BitVec 32 := 1#32
  let v6388 : BitVec 32 := Scalar.addi v6381 c1_i32_6216
  let v6389 : Index := Scalar.indexCast v6388
  let c0_6218 : Index := 0#32
  let c0_6219 : Index := 0#32
  ![0, v6389.toNat, 0, 0]

def k0_chk450 (v6381 : BitVec 32) : Prop :=
  (∀ a, (k0_off899 v6381) a + S1x1x1x128.size a ≤ S1x33344x1x128.size a) ∧
  (∀ a, (k0_off900 v6381) a + S1x1x1x128.size a ≤ S1x33344x1x128.size a)
theorem k0_off899_inb : ∀ (v6381 : BitVec 32) (k0_hw450 : k0_chk450 v6381), ∀ a, (k0_off899 v6381) a + S1x1x1x128.size a ≤ S1x33344x1x128.size a := fun v6381 k0_hw450 => k0_hw450.1
theorem k0_off900_inb : ∀ (v6381 : BitVec 32) (k0_hw450 : k0_chk450 v6381), ∀ a, (k0_off900 v6381) a + S1x1x1x128.size a ≤ S1x33344x1x128.size a := fun v6381 k0_hw450 => k0_hw450.2

def k0_off901 (v6395 : BitVec 32) : Fin 4 → Nat :=
  let c0_6225 : Index := 0#32
  let v6396 : Index := Scalar.indexCast v6395
  let c0_6226 : Index := 0#32
  let c0_6227 : Index := 0#32
  ![0, v6396.toNat, 0, 0]

def k0_off902 (v6395 : BitVec 32) : Fin 4 → Nat :=
  let c0_6231 : Index := 0#32
  let c1_i32_6230 : BitVec 32 := 1#32
  let v6402 : BitVec 32 := Scalar.addi v6395 c1_i32_6230
  let v6403 : Index := Scalar.indexCast v6402
  let c0_6232 : Index := 0#32
  let c0_6233 : Index := 0#32
  ![0, v6403.toNat, 0, 0]

def k0_chk451 (v6395 : BitVec 32) : Prop :=
  (∀ a, (k0_off901 v6395) a + S1x1x1x128.size a ≤ S1x33344x1x128.size a) ∧
  (∀ a, (k0_off902 v6395) a + S1x1x1x128.size a ≤ S1x33344x1x128.size a)
theorem k0_off901_inb : ∀ (v6395 : BitVec 32) (k0_hw451 : k0_chk451 v6395), ∀ a, (k0_off901 v6395) a + S1x1x1x128.size a ≤ S1x33344x1x128.size a := fun v6395 k0_hw451 => k0_hw451.1
theorem k0_off902_inb : ∀ (v6395 : BitVec 32) (k0_hw451 : k0_chk451 v6395), ∀ a, (k0_off902 v6395) a + S1x1x1x128.size a ≤ S1x33344x1x128.size a := fun v6395 k0_hw451 => k0_hw451.2

def k0_off903 (v6409 : BitVec 32) : Fin 4 → Nat :=
  let c0_6239 : Index := 0#32
  let v6410 : Index := Scalar.indexCast v6409
  let c0_6240 : Index := 0#32
  let c0_6241 : Index := 0#32
  ![0, v6410.toNat, 0, 0]

def k0_off904 (v6409 : BitVec 32) : Fin 4 → Nat :=
  let c0_6245 : Index := 0#32
  let c1_i32_6244 : BitVec 32 := 1#32
  let v6416 : BitVec 32 := Scalar.addi v6409 c1_i32_6244
  let v6417 : Index := Scalar.indexCast v6416
  let c0_6246 : Index := 0#32
  let c0_6247 : Index := 0#32
  ![0, v6417.toNat, 0, 0]

def k0_chk452 (v6409 : BitVec 32) : Prop :=
  (∀ a, (k0_off903 v6409) a + S1x1x1x128.size a ≤ S1x33344x1x128.size a) ∧
  (∀ a, (k0_off904 v6409) a + S1x1x1x128.size a ≤ S1x33344x1x128.size a)
theorem k0_off903_inb : ∀ (v6409 : BitVec 32) (k0_hw452 : k0_chk452 v6409), ∀ a, (k0_off903 v6409) a + S1x1x1x128.size a ≤ S1x33344x1x128.size a := fun v6409 k0_hw452 => k0_hw452.1
theorem k0_off904_inb : ∀ (v6409 : BitVec 32) (k0_hw452 : k0_chk452 v6409), ∀ a, (k0_off904 v6409) a + S1x1x1x128.size a ≤ S1x33344x1x128.size a := fun v6409 k0_hw452 => k0_hw452.2

def k0_off905 (v6423 : BitVec 32) : Fin 4 → Nat :=
  let c0_6253 : Index := 0#32
  let v6424 : Index := Scalar.indexCast v6423
  let c0_6254 : Index := 0#32
  let c0_6255 : Index := 0#32
  ![0, v6424.toNat, 0, 0]

def k0_off906 (v6423 : BitVec 32) : Fin 4 → Nat :=
  let c0_6259 : Index := 0#32
  let c1_i32_6258 : BitVec 32 := 1#32
  let v6430 : BitVec 32 := Scalar.addi v6423 c1_i32_6258
  let v6431 : Index := Scalar.indexCast v6430
  let c0_6260 : Index := 0#32
  let c0_6261 : Index := 0#32
  ![0, v6431.toNat, 0, 0]

def k0_chk453 (v6423 : BitVec 32) : Prop :=
  (∀ a, (k0_off905 v6423) a + S1x1x1x128.size a ≤ S1x33344x1x128.size a) ∧
  (∀ a, (k0_off906 v6423) a + S1x1x1x128.size a ≤ S1x33344x1x128.size a)
theorem k0_off905_inb : ∀ (v6423 : BitVec 32) (k0_hw453 : k0_chk453 v6423), ∀ a, (k0_off905 v6423) a + S1x1x1x128.size a ≤ S1x33344x1x128.size a := fun v6423 k0_hw453 => k0_hw453.1
theorem k0_off906_inb : ∀ (v6423 : BitVec 32) (k0_hw453 : k0_chk453 v6423), ∀ a, (k0_off906 v6423) a + S1x1x1x128.size a ≤ S1x33344x1x128.size a := fun v6423 k0_hw453 => k0_hw453.2

def k0_off907 (v6437 : BitVec 32) : Fin 4 → Nat :=
  let c0_6267 : Index := 0#32
  let v6438 : Index := Scalar.indexCast v6437
  let c0_6268 : Index := 0#32
  let c0_6269 : Index := 0#32
  ![0, v6438.toNat, 0, 0]

def k0_off908 (v6437 : BitVec 32) : Fin 4 → Nat :=
  let c0_6273 : Index := 0#32
  let c1_i32_6272 : BitVec 32 := 1#32
  let v6444 : BitVec 32 := Scalar.addi v6437 c1_i32_6272
  let v6445 : Index := Scalar.indexCast v6444
  let c0_6274 : Index := 0#32
  let c0_6275 : Index := 0#32
  ![0, v6445.toNat, 0, 0]

def k0_chk454 (v6437 : BitVec 32) : Prop :=
  (∀ a, (k0_off907 v6437) a + S1x1x1x128.size a ≤ S1x33344x1x128.size a) ∧
  (∀ a, (k0_off908 v6437) a + S1x1x1x128.size a ≤ S1x33344x1x128.size a)
theorem k0_off907_inb : ∀ (v6437 : BitVec 32) (k0_hw454 : k0_chk454 v6437), ∀ a, (k0_off907 v6437) a + S1x1x1x128.size a ≤ S1x33344x1x128.size a := fun v6437 k0_hw454 => k0_hw454.1
theorem k0_off908_inb : ∀ (v6437 : BitVec 32) (k0_hw454 : k0_chk454 v6437), ∀ a, (k0_off908 v6437) a + S1x1x1x128.size a ≤ S1x33344x1x128.size a := fun v6437 k0_hw454 => k0_hw454.2

def k0_off909 (v6451 : BitVec 32) : Fin 4 → Nat :=
  let c0_6281 : Index := 0#32
  let v6452 : Index := Scalar.indexCast v6451
  let c0_6282 : Index := 0#32
  let c0_6283 : Index := 0#32
  ![0, v6452.toNat, 0, 0]

def k0_off910 (v6451 : BitVec 32) : Fin 4 → Nat :=
  let c0_6287 : Index := 0#32
  let c1_i32_6286 : BitVec 32 := 1#32
  let v6458 : BitVec 32 := Scalar.addi v6451 c1_i32_6286
  let v6459 : Index := Scalar.indexCast v6458
  let c0_6288 : Index := 0#32
  let c0_6289 : Index := 0#32
  ![0, v6459.toNat, 0, 0]

def k0_chk455 (v6451 : BitVec 32) : Prop :=
  (∀ a, (k0_off909 v6451) a + S1x1x1x128.size a ≤ S1x33344x1x128.size a) ∧
  (∀ a, (k0_off910 v6451) a + S1x1x1x128.size a ≤ S1x33344x1x128.size a)
theorem k0_off909_inb : ∀ (v6451 : BitVec 32) (k0_hw455 : k0_chk455 v6451), ∀ a, (k0_off909 v6451) a + S1x1x1x128.size a ≤ S1x33344x1x128.size a := fun v6451 k0_hw455 => k0_hw455.1
theorem k0_off910_inb : ∀ (v6451 : BitVec 32) (k0_hw455 : k0_chk455 v6451), ∀ a, (k0_off910 v6451) a + S1x1x1x128.size a ≤ S1x33344x1x128.size a := fun v6451 k0_hw455 => k0_hw455.2

def k0_off911 (v6465 : BitVec 32) : Fin 4 → Nat :=
  let c0_6295 : Index := 0#32
  let v6466 : Index := Scalar.indexCast v6465
  let c0_6296 : Index := 0#32
  let c0_6297 : Index := 0#32
  ![0, v6466.toNat, 0, 0]

def k0_off912 (v6465 : BitVec 32) : Fin 4 → Nat :=
  let c0_6301 : Index := 0#32
  let c1_i32_6300 : BitVec 32 := 1#32
  let v6472 : BitVec 32 := Scalar.addi v6465 c1_i32_6300
  let v6473 : Index := Scalar.indexCast v6472
  let c0_6302 : Index := 0#32
  let c0_6303 : Index := 0#32
  ![0, v6473.toNat, 0, 0]

def k0_chk456 (v6465 : BitVec 32) : Prop :=
  (∀ a, (k0_off911 v6465) a + S1x1x1x128.size a ≤ S1x33344x1x128.size a) ∧
  (∀ a, (k0_off912 v6465) a + S1x1x1x128.size a ≤ S1x33344x1x128.size a)
theorem k0_off911_inb : ∀ (v6465 : BitVec 32) (k0_hw456 : k0_chk456 v6465), ∀ a, (k0_off911 v6465) a + S1x1x1x128.size a ≤ S1x33344x1x128.size a := fun v6465 k0_hw456 => k0_hw456.1
theorem k0_off912_inb : ∀ (v6465 : BitVec 32) (k0_hw456 : k0_chk456 v6465), ∀ a, (k0_off912 v6465) a + S1x1x1x128.size a ≤ S1x33344x1x128.size a := fun v6465 k0_hw456 => k0_hw456.2

def k0_off913 (v6479 : BitVec 32) : Fin 4 → Nat :=
  let c0_6309 : Index := 0#32
  let v6480 : Index := Scalar.indexCast v6479
  let c0_6310 : Index := 0#32
  let c0_6311 : Index := 0#32
  ![0, v6480.toNat, 0, 0]

def k0_off914 (v6479 : BitVec 32) : Fin 4 → Nat :=
  let c0_6315 : Index := 0#32
  let c1_i32_6314 : BitVec 32 := 1#32
  let v6486 : BitVec 32 := Scalar.addi v6479 c1_i32_6314
  let v6487 : Index := Scalar.indexCast v6486
  let c0_6316 : Index := 0#32
  let c0_6317 : Index := 0#32
  ![0, v6487.toNat, 0, 0]

def k0_chk457 (v6479 : BitVec 32) : Prop :=
  (∀ a, (k0_off913 v6479) a + S1x1x1x128.size a ≤ S1x33344x1x128.size a) ∧
  (∀ a, (k0_off914 v6479) a + S1x1x1x128.size a ≤ S1x33344x1x128.size a)
theorem k0_off913_inb : ∀ (v6479 : BitVec 32) (k0_hw457 : k0_chk457 v6479), ∀ a, (k0_off913 v6479) a + S1x1x1x128.size a ≤ S1x33344x1x128.size a := fun v6479 k0_hw457 => k0_hw457.1
theorem k0_off914_inb : ∀ (v6479 : BitVec 32) (k0_hw457 : k0_chk457 v6479), ∀ a, (k0_off914 v6479) a + S1x1x1x128.size a ≤ S1x33344x1x128.size a := fun v6479 k0_hw457 => k0_hw457.2

def k0_off915 (v6493 : BitVec 32) : Fin 4 → Nat :=
  let c0_6323 : Index := 0#32
  let v6494 : Index := Scalar.indexCast v6493
  let c0_6324 : Index := 0#32
  let c0_6325 : Index := 0#32
  ![0, v6494.toNat, 0, 0]

def k0_off916 (v6493 : BitVec 32) : Fin 4 → Nat :=
  let c0_6329 : Index := 0#32
  let c1_i32_6328 : BitVec 32 := 1#32
  let v6500 : BitVec 32 := Scalar.addi v6493 c1_i32_6328
  let v6501 : Index := Scalar.indexCast v6500
  let c0_6330 : Index := 0#32
  let c0_6331 : Index := 0#32
  ![0, v6501.toNat, 0, 0]

def k0_chk458 (v6493 : BitVec 32) : Prop :=
  (∀ a, (k0_off915 v6493) a + S1x1x1x128.size a ≤ S1x33344x1x128.size a) ∧
  (∀ a, (k0_off916 v6493) a + S1x1x1x128.size a ≤ S1x33344x1x128.size a)
theorem k0_off915_inb : ∀ (v6493 : BitVec 32) (k0_hw458 : k0_chk458 v6493), ∀ a, (k0_off915 v6493) a + S1x1x1x128.size a ≤ S1x33344x1x128.size a := fun v6493 k0_hw458 => k0_hw458.1
theorem k0_off916_inb : ∀ (v6493 : BitVec 32) (k0_hw458 : k0_chk458 v6493), ∀ a, (k0_off916 v6493) a + S1x1x1x128.size a ≤ S1x33344x1x128.size a := fun v6493 k0_hw458 => k0_hw458.2

def k0_off917 (v6507 : BitVec 32) : Fin 4 → Nat :=
  let c0_6337 : Index := 0#32
  let v6508 : Index := Scalar.indexCast v6507
  let c0_6338 : Index := 0#32
  let c0_6339 : Index := 0#32
  ![0, v6508.toNat, 0, 0]

def k0_off918 (v6507 : BitVec 32) : Fin 4 → Nat :=
  let c0_6343 : Index := 0#32
  let c1_i32_6342 : BitVec 32 := 1#32
  let v6514 : BitVec 32 := Scalar.addi v6507 c1_i32_6342
  let v6515 : Index := Scalar.indexCast v6514
  let c0_6344 : Index := 0#32
  let c0_6345 : Index := 0#32
  ![0, v6515.toNat, 0, 0]

def k0_chk459 (v6507 : BitVec 32) : Prop :=
  (∀ a, (k0_off917 v6507) a + S1x1x1x128.size a ≤ S1x33344x1x128.size a) ∧
  (∀ a, (k0_off918 v6507) a + S1x1x1x128.size a ≤ S1x33344x1x128.size a)
theorem k0_off917_inb : ∀ (v6507 : BitVec 32) (k0_hw459 : k0_chk459 v6507), ∀ a, (k0_off917 v6507) a + S1x1x1x128.size a ≤ S1x33344x1x128.size a := fun v6507 k0_hw459 => k0_hw459.1
theorem k0_off918_inb : ∀ (v6507 : BitVec 32) (k0_hw459 : k0_chk459 v6507), ∀ a, (k0_off918 v6507) a + S1x1x1x128.size a ≤ S1x33344x1x128.size a := fun v6507 k0_hw459 => k0_hw459.2

def k0_off919 (v6521 : BitVec 32) : Fin 4 → Nat :=
  let c0_6351 : Index := 0#32
  let v6522 : Index := Scalar.indexCast v6521
  let c0_6352 : Index := 0#32
  let c0_6353 : Index := 0#32
  ![0, v6522.toNat, 0, 0]

def k0_off920 (v6521 : BitVec 32) : Fin 4 → Nat :=
  let c0_6357 : Index := 0#32
  let c1_i32_6356 : BitVec 32 := 1#32
  let v6528 : BitVec 32 := Scalar.addi v6521 c1_i32_6356
  let v6529 : Index := Scalar.indexCast v6528
  let c0_6358 : Index := 0#32
  let c0_6359 : Index := 0#32
  ![0, v6529.toNat, 0, 0]

def k0_chk460 (v6521 : BitVec 32) : Prop :=
  (∀ a, (k0_off919 v6521) a + S1x1x1x128.size a ≤ S1x33344x1x128.size a) ∧
  (∀ a, (k0_off920 v6521) a + S1x1x1x128.size a ≤ S1x33344x1x128.size a)
theorem k0_off919_inb : ∀ (v6521 : BitVec 32) (k0_hw460 : k0_chk460 v6521), ∀ a, (k0_off919 v6521) a + S1x1x1x128.size a ≤ S1x33344x1x128.size a := fun v6521 k0_hw460 => k0_hw460.1
theorem k0_off920_inb : ∀ (v6521 : BitVec 32) (k0_hw460 : k0_chk460 v6521), ∀ a, (k0_off920 v6521) a + S1x1x1x128.size a ≤ S1x33344x1x128.size a := fun v6521 k0_hw460 => k0_hw460.2

def k0_off921 (v6535 : BitVec 32) : Fin 4 → Nat :=
  let c0_6365 : Index := 0#32
  let v6536 : Index := Scalar.indexCast v6535
  let c0_6366 : Index := 0#32
  let c0_6367 : Index := 0#32
  ![0, v6536.toNat, 0, 0]

def k0_off922 (v6535 : BitVec 32) : Fin 4 → Nat :=
  let c0_6371 : Index := 0#32
  let c1_i32_6370 : BitVec 32 := 1#32
  let v6542 : BitVec 32 := Scalar.addi v6535 c1_i32_6370
  let v6543 : Index := Scalar.indexCast v6542
  let c0_6372 : Index := 0#32
  let c0_6373 : Index := 0#32
  ![0, v6543.toNat, 0, 0]

def k0_chk461 (v6535 : BitVec 32) : Prop :=
  (∀ a, (k0_off921 v6535) a + S1x1x1x128.size a ≤ S1x33344x1x128.size a) ∧
  (∀ a, (k0_off922 v6535) a + S1x1x1x128.size a ≤ S1x33344x1x128.size a)
theorem k0_off921_inb : ∀ (v6535 : BitVec 32) (k0_hw461 : k0_chk461 v6535), ∀ a, (k0_off921 v6535) a + S1x1x1x128.size a ≤ S1x33344x1x128.size a := fun v6535 k0_hw461 => k0_hw461.1
theorem k0_off922_inb : ∀ (v6535 : BitVec 32) (k0_hw461 : k0_chk461 v6535), ∀ a, (k0_off922 v6535) a + S1x1x1x128.size a ≤ S1x33344x1x128.size a := fun v6535 k0_hw461 => k0_hw461.2

def k0_off923 (v6549 : BitVec 32) : Fin 4 → Nat :=
  let c0_6379 : Index := 0#32
  let v6550 : Index := Scalar.indexCast v6549
  let c0_6380 : Index := 0#32
  let c0_6381 : Index := 0#32
  ![0, v6550.toNat, 0, 0]

def k0_off924 (v6549 : BitVec 32) : Fin 4 → Nat :=
  let c0_6385 : Index := 0#32
  let c1_i32_6384 : BitVec 32 := 1#32
  let v6556 : BitVec 32 := Scalar.addi v6549 c1_i32_6384
  let v6557 : Index := Scalar.indexCast v6556
  let c0_6386 : Index := 0#32
  let c0_6387 : Index := 0#32
  ![0, v6557.toNat, 0, 0]

def k0_chk462 (v6549 : BitVec 32) : Prop :=
  (∀ a, (k0_off923 v6549) a + S1x1x1x128.size a ≤ S1x33344x1x128.size a) ∧
  (∀ a, (k0_off924 v6549) a + S1x1x1x128.size a ≤ S1x33344x1x128.size a)
theorem k0_off923_inb : ∀ (v6549 : BitVec 32) (k0_hw462 : k0_chk462 v6549), ∀ a, (k0_off923 v6549) a + S1x1x1x128.size a ≤ S1x33344x1x128.size a := fun v6549 k0_hw462 => k0_hw462.1
theorem k0_off924_inb : ∀ (v6549 : BitVec 32) (k0_hw462 : k0_chk462 v6549), ∀ a, (k0_off924 v6549) a + S1x1x1x128.size a ≤ S1x33344x1x128.size a := fun v6549 k0_hw462 => k0_hw462.2

def k0_off925 (v6563 : BitVec 32) : Fin 4 → Nat :=
  let c0_6393 : Index := 0#32
  let v6564 : Index := Scalar.indexCast v6563
  let c0_6394 : Index := 0#32
  let c0_6395 : Index := 0#32
  ![0, v6564.toNat, 0, 0]

def k0_off926 (v6563 : BitVec 32) : Fin 4 → Nat :=
  let c0_6399 : Index := 0#32
  let c1_i32_6398 : BitVec 32 := 1#32
  let v6570 : BitVec 32 := Scalar.addi v6563 c1_i32_6398
  let v6571 : Index := Scalar.indexCast v6570
  let c0_6400 : Index := 0#32
  let c0_6401 : Index := 0#32
  ![0, v6571.toNat, 0, 0]

def k0_chk463 (v6563 : BitVec 32) : Prop :=
  (∀ a, (k0_off925 v6563) a + S1x1x1x128.size a ≤ S1x33344x1x128.size a) ∧
  (∀ a, (k0_off926 v6563) a + S1x1x1x128.size a ≤ S1x33344x1x128.size a)
theorem k0_off925_inb : ∀ (v6563 : BitVec 32) (k0_hw463 : k0_chk463 v6563), ∀ a, (k0_off925 v6563) a + S1x1x1x128.size a ≤ S1x33344x1x128.size a := fun v6563 k0_hw463 => k0_hw463.1
theorem k0_off926_inb : ∀ (v6563 : BitVec 32) (k0_hw463 : k0_chk463 v6563), ∀ a, (k0_off926 v6563) a + S1x1x1x128.size a ≤ S1x33344x1x128.size a := fun v6563 k0_hw463 => k0_hw463.2

def k0_off927 (v6577 : BitVec 32) : Fin 4 → Nat :=
  let c0_6407 : Index := 0#32
  let v6578 : Index := Scalar.indexCast v6577
  let c0_6408 : Index := 0#32
  let c0_6409 : Index := 0#32
  ![0, v6578.toNat, 0, 0]

def k0_off928 (v6577 : BitVec 32) : Fin 4 → Nat :=
  let c0_6413 : Index := 0#32
  let c1_i32_6412 : BitVec 32 := 1#32
  let v6584 : BitVec 32 := Scalar.addi v6577 c1_i32_6412
  let v6585 : Index := Scalar.indexCast v6584
  let c0_6414 : Index := 0#32
  let c0_6415 : Index := 0#32
  ![0, v6585.toNat, 0, 0]

def k0_chk464 (v6577 : BitVec 32) : Prop :=
  (∀ a, (k0_off927 v6577) a + S1x1x1x128.size a ≤ S1x33344x1x128.size a) ∧
  (∀ a, (k0_off928 v6577) a + S1x1x1x128.size a ≤ S1x33344x1x128.size a)
theorem k0_off927_inb : ∀ (v6577 : BitVec 32) (k0_hw464 : k0_chk464 v6577), ∀ a, (k0_off927 v6577) a + S1x1x1x128.size a ≤ S1x33344x1x128.size a := fun v6577 k0_hw464 => k0_hw464.1
theorem k0_off928_inb : ∀ (v6577 : BitVec 32) (k0_hw464 : k0_chk464 v6577), ∀ a, (k0_off928 v6577) a + S1x1x1x128.size a ≤ S1x33344x1x128.size a := fun v6577 k0_hw464 => k0_hw464.2

def k0_off929 (v6591 : BitVec 32) : Fin 4 → Nat :=
  let c0_6421 : Index := 0#32
  let v6592 : Index := Scalar.indexCast v6591
  let c0_6422 : Index := 0#32
  let c0_6423 : Index := 0#32
  ![0, v6592.toNat, 0, 0]

def k0_off930 (v6591 : BitVec 32) : Fin 4 → Nat :=
  let c0_6427 : Index := 0#32
  let c1_i32_6426 : BitVec 32 := 1#32
  let v6598 : BitVec 32 := Scalar.addi v6591 c1_i32_6426
  let v6599 : Index := Scalar.indexCast v6598
  let c0_6428 : Index := 0#32
  let c0_6429 : Index := 0#32
  ![0, v6599.toNat, 0, 0]

def k0_chk465 (v6591 : BitVec 32) : Prop :=
  (∀ a, (k0_off929 v6591) a + S1x1x1x128.size a ≤ S1x33344x1x128.size a) ∧
  (∀ a, (k0_off930 v6591) a + S1x1x1x128.size a ≤ S1x33344x1x128.size a)
theorem k0_off929_inb : ∀ (v6591 : BitVec 32) (k0_hw465 : k0_chk465 v6591), ∀ a, (k0_off929 v6591) a + S1x1x1x128.size a ≤ S1x33344x1x128.size a := fun v6591 k0_hw465 => k0_hw465.1
theorem k0_off930_inb : ∀ (v6591 : BitVec 32) (k0_hw465 : k0_chk465 v6591), ∀ a, (k0_off930 v6591) a + S1x1x1x128.size a ≤ S1x33344x1x128.size a := fun v6591 k0_hw465 => k0_hw465.2

def k0_off931 (v6605 : BitVec 32) : Fin 4 → Nat :=
  let c0_6435 : Index := 0#32
  let v6606 : Index := Scalar.indexCast v6605
  let c0_6436 : Index := 0#32
  let c0_6437 : Index := 0#32
  ![0, v6606.toNat, 0, 0]

def k0_off932 (v6605 : BitVec 32) : Fin 4 → Nat :=
  let c0_6441 : Index := 0#32
  let c1_i32_6440 : BitVec 32 := 1#32
  let v6612 : BitVec 32 := Scalar.addi v6605 c1_i32_6440
  let v6613 : Index := Scalar.indexCast v6612
  let c0_6442 : Index := 0#32
  let c0_6443 : Index := 0#32
  ![0, v6613.toNat, 0, 0]

def k0_chk466 (v6605 : BitVec 32) : Prop :=
  (∀ a, (k0_off931 v6605) a + S1x1x1x128.size a ≤ S1x33344x1x128.size a) ∧
  (∀ a, (k0_off932 v6605) a + S1x1x1x128.size a ≤ S1x33344x1x128.size a)
theorem k0_off931_inb : ∀ (v6605 : BitVec 32) (k0_hw466 : k0_chk466 v6605), ∀ a, (k0_off931 v6605) a + S1x1x1x128.size a ≤ S1x33344x1x128.size a := fun v6605 k0_hw466 => k0_hw466.1
theorem k0_off932_inb : ∀ (v6605 : BitVec 32) (k0_hw466 : k0_chk466 v6605), ∀ a, (k0_off932 v6605) a + S1x1x1x128.size a ≤ S1x33344x1x128.size a := fun v6605 k0_hw466 => k0_hw466.2

def k0_off933 (v6619 : BitVec 32) : Fin 4 → Nat :=
  let c0_6449 : Index := 0#32
  let v6620 : Index := Scalar.indexCast v6619
  let c0_6450 : Index := 0#32
  let c0_6451 : Index := 0#32
  ![0, v6620.toNat, 0, 0]

def k0_off934 (v6619 : BitVec 32) : Fin 4 → Nat :=
  let c0_6455 : Index := 0#32
  let c1_i32_6454 : BitVec 32 := 1#32
  let v6626 : BitVec 32 := Scalar.addi v6619 c1_i32_6454
  let v6627 : Index := Scalar.indexCast v6626
  let c0_6456 : Index := 0#32
  let c0_6457 : Index := 0#32
  ![0, v6627.toNat, 0, 0]

def k0_chk467 (v6619 : BitVec 32) : Prop :=
  (∀ a, (k0_off933 v6619) a + S1x1x1x128.size a ≤ S1x33344x1x128.size a) ∧
  (∀ a, (k0_off934 v6619) a + S1x1x1x128.size a ≤ S1x33344x1x128.size a)
theorem k0_off933_inb : ∀ (v6619 : BitVec 32) (k0_hw467 : k0_chk467 v6619), ∀ a, (k0_off933 v6619) a + S1x1x1x128.size a ≤ S1x33344x1x128.size a := fun v6619 k0_hw467 => k0_hw467.1
theorem k0_off934_inb : ∀ (v6619 : BitVec 32) (k0_hw467 : k0_chk467 v6619), ∀ a, (k0_off934 v6619) a + S1x1x1x128.size a ≤ S1x33344x1x128.size a := fun v6619 k0_hw467 => k0_hw467.2

def k0_off935 (v6633 : BitVec 32) : Fin 4 → Nat :=
  let c0_6463 : Index := 0#32
  let v6634 : Index := Scalar.indexCast v6633
  let c0_6464 : Index := 0#32
  let c0_6465 : Index := 0#32
  ![0, v6634.toNat, 0, 0]

def k0_off936 (v6633 : BitVec 32) : Fin 4 → Nat :=
  let c0_6469 : Index := 0#32
  let c1_i32_6468 : BitVec 32 := 1#32
  let v6640 : BitVec 32 := Scalar.addi v6633 c1_i32_6468
  let v6641 : Index := Scalar.indexCast v6640
  let c0_6470 : Index := 0#32
  let c0_6471 : Index := 0#32
  ![0, v6641.toNat, 0, 0]

def k0_chk468 (v6633 : BitVec 32) : Prop :=
  (∀ a, (k0_off935 v6633) a + S1x1x1x128.size a ≤ S1x33344x1x128.size a) ∧
  (∀ a, (k0_off936 v6633) a + S1x1x1x128.size a ≤ S1x33344x1x128.size a)
theorem k0_off935_inb : ∀ (v6633 : BitVec 32) (k0_hw468 : k0_chk468 v6633), ∀ a, (k0_off935 v6633) a + S1x1x1x128.size a ≤ S1x33344x1x128.size a := fun v6633 k0_hw468 => k0_hw468.1
theorem k0_off936_inb : ∀ (v6633 : BitVec 32) (k0_hw468 : k0_chk468 v6633), ∀ a, (k0_off936 v6633) a + S1x1x1x128.size a ≤ S1x33344x1x128.size a := fun v6633 k0_hw468 => k0_hw468.2

def k0_off937 (v6647 : BitVec 32) : Fin 4 → Nat :=
  let c0_6477 : Index := 0#32
  let v6648 : Index := Scalar.indexCast v6647
  let c0_6478 : Index := 0#32
  let c0_6479 : Index := 0#32
  ![0, v6648.toNat, 0, 0]

def k0_off938 (v6647 : BitVec 32) : Fin 4 → Nat :=
  let c0_6483 : Index := 0#32
  let c1_i32_6482 : BitVec 32 := 1#32
  let v6654 : BitVec 32 := Scalar.addi v6647 c1_i32_6482
  let v6655 : Index := Scalar.indexCast v6654
  let c0_6484 : Index := 0#32
  let c0_6485 : Index := 0#32
  ![0, v6655.toNat, 0, 0]

def k0_chk469 (v6647 : BitVec 32) : Prop :=
  (∀ a, (k0_off937 v6647) a + S1x1x1x128.size a ≤ S1x33344x1x128.size a) ∧
  (∀ a, (k0_off938 v6647) a + S1x1x1x128.size a ≤ S1x33344x1x128.size a)
theorem k0_off937_inb : ∀ (v6647 : BitVec 32) (k0_hw469 : k0_chk469 v6647), ∀ a, (k0_off937 v6647) a + S1x1x1x128.size a ≤ S1x33344x1x128.size a := fun v6647 k0_hw469 => k0_hw469.1
theorem k0_off938_inb : ∀ (v6647 : BitVec 32) (k0_hw469 : k0_chk469 v6647), ∀ a, (k0_off938 v6647) a + S1x1x1x128.size a ≤ S1x33344x1x128.size a := fun v6647 k0_hw469 => k0_hw469.2

def k0_off939 (v6661 : BitVec 32) : Fin 4 → Nat :=
  let c0_6491 : Index := 0#32
  let v6662 : Index := Scalar.indexCast v6661
  let c0_6492 : Index := 0#32
  let c0_6493 : Index := 0#32
  ![0, v6662.toNat, 0, 0]

def k0_off940 (v6661 : BitVec 32) : Fin 4 → Nat :=
  let c0_6497 : Index := 0#32
  let c1_i32_6496 : BitVec 32 := 1#32
  let v6668 : BitVec 32 := Scalar.addi v6661 c1_i32_6496
  let v6669 : Index := Scalar.indexCast v6668
  let c0_6498 : Index := 0#32
  let c0_6499 : Index := 0#32
  ![0, v6669.toNat, 0, 0]

def k0_chk470 (v6661 : BitVec 32) : Prop :=
  (∀ a, (k0_off939 v6661) a + S1x1x1x128.size a ≤ S1x33344x1x128.size a) ∧
  (∀ a, (k0_off940 v6661) a + S1x1x1x128.size a ≤ S1x33344x1x128.size a)
theorem k0_off939_inb : ∀ (v6661 : BitVec 32) (k0_hw470 : k0_chk470 v6661), ∀ a, (k0_off939 v6661) a + S1x1x1x128.size a ≤ S1x33344x1x128.size a := fun v6661 k0_hw470 => k0_hw470.1
theorem k0_off940_inb : ∀ (v6661 : BitVec 32) (k0_hw470 : k0_chk470 v6661), ∀ a, (k0_off940 v6661) a + S1x1x1x128.size a ≤ S1x33344x1x128.size a := fun v6661 k0_hw470 => k0_hw470.2

def k0_off941 (v6675 : BitVec 32) : Fin 4 → Nat :=
  let c0_6505 : Index := 0#32
  let v6676 : Index := Scalar.indexCast v6675
  let c0_6506 : Index := 0#32
  let c0_6507 : Index := 0#32
  ![0, v6676.toNat, 0, 0]

def k0_off942 (v6675 : BitVec 32) : Fin 4 → Nat :=
  let c0_6511 : Index := 0#32
  let c1_i32_6510 : BitVec 32 := 1#32
  let v6682 : BitVec 32 := Scalar.addi v6675 c1_i32_6510
  let v6683 : Index := Scalar.indexCast v6682
  let c0_6512 : Index := 0#32
  let c0_6513 : Index := 0#32
  ![0, v6683.toNat, 0, 0]

def k0_chk471 (v6675 : BitVec 32) : Prop :=
  (∀ a, (k0_off941 v6675) a + S1x1x1x128.size a ≤ S1x33344x1x128.size a) ∧
  (∀ a, (k0_off942 v6675) a + S1x1x1x128.size a ≤ S1x33344x1x128.size a)
theorem k0_off941_inb : ∀ (v6675 : BitVec 32) (k0_hw471 : k0_chk471 v6675), ∀ a, (k0_off941 v6675) a + S1x1x1x128.size a ≤ S1x33344x1x128.size a := fun v6675 k0_hw471 => k0_hw471.1
theorem k0_off942_inb : ∀ (v6675 : BitVec 32) (k0_hw471 : k0_chk471 v6675), ∀ a, (k0_off942 v6675) a + S1x1x1x128.size a ≤ S1x33344x1x128.size a := fun v6675 k0_hw471 => k0_hw471.2

def k0_off943 (v6689 : BitVec 32) : Fin 4 → Nat :=
  let c0_6519 : Index := 0#32
  let v6690 : Index := Scalar.indexCast v6689
  let c0_6520 : Index := 0#32
  let c0_6521 : Index := 0#32
  ![0, v6690.toNat, 0, 0]

def k0_off944 (v6689 : BitVec 32) : Fin 4 → Nat :=
  let c0_6525 : Index := 0#32
  let c1_i32_6524 : BitVec 32 := 1#32
  let v6696 : BitVec 32 := Scalar.addi v6689 c1_i32_6524
  let v6697 : Index := Scalar.indexCast v6696
  let c0_6526 : Index := 0#32
  let c0_6527 : Index := 0#32
  ![0, v6697.toNat, 0, 0]

def k0_chk472 (v6689 : BitVec 32) : Prop :=
  (∀ a, (k0_off943 v6689) a + S1x1x1x128.size a ≤ S1x33344x1x128.size a) ∧
  (∀ a, (k0_off944 v6689) a + S1x1x1x128.size a ≤ S1x33344x1x128.size a)
theorem k0_off943_inb : ∀ (v6689 : BitVec 32) (k0_hw472 : k0_chk472 v6689), ∀ a, (k0_off943 v6689) a + S1x1x1x128.size a ≤ S1x33344x1x128.size a := fun v6689 k0_hw472 => k0_hw472.1
theorem k0_off944_inb : ∀ (v6689 : BitVec 32) (k0_hw472 : k0_chk472 v6689), ∀ a, (k0_off944 v6689) a + S1x1x1x128.size a ≤ S1x33344x1x128.size a := fun v6689 k0_hw472 => k0_hw472.2

def k0_off945 (v6703 : BitVec 32) : Fin 4 → Nat :=
  let c0_6533 : Index := 0#32
  let v6704 : Index := Scalar.indexCast v6703
  let c0_6534 : Index := 0#32
  let c0_6535 : Index := 0#32
  ![0, v6704.toNat, 0, 0]

def k0_off946 (v6703 : BitVec 32) : Fin 4 → Nat :=
  let c0_6539 : Index := 0#32
  let c1_i32_6538 : BitVec 32 := 1#32
  let v6710 : BitVec 32 := Scalar.addi v6703 c1_i32_6538
  let v6711 : Index := Scalar.indexCast v6710
  let c0_6540 : Index := 0#32
  let c0_6541 : Index := 0#32
  ![0, v6711.toNat, 0, 0]

def k0_chk473 (v6703 : BitVec 32) : Prop :=
  (∀ a, (k0_off945 v6703) a + S1x1x1x128.size a ≤ S1x33344x1x128.size a) ∧
  (∀ a, (k0_off946 v6703) a + S1x1x1x128.size a ≤ S1x33344x1x128.size a)
theorem k0_off945_inb : ∀ (v6703 : BitVec 32) (k0_hw473 : k0_chk473 v6703), ∀ a, (k0_off945 v6703) a + S1x1x1x128.size a ≤ S1x33344x1x128.size a := fun v6703 k0_hw473 => k0_hw473.1
theorem k0_off946_inb : ∀ (v6703 : BitVec 32) (k0_hw473 : k0_chk473 v6703), ∀ a, (k0_off946 v6703) a + S1x1x1x128.size a ≤ S1x33344x1x128.size a := fun v6703 k0_hw473 => k0_hw473.2

def k0_off947 (v6717 : BitVec 32) : Fin 4 → Nat :=
  let c0_6547 : Index := 0#32
  let v6718 : Index := Scalar.indexCast v6717
  let c0_6548 : Index := 0#32
  let c0_6549 : Index := 0#32
  ![0, v6718.toNat, 0, 0]

def k0_off948 (v6717 : BitVec 32) : Fin 4 → Nat :=
  let c0_6553 : Index := 0#32
  let c1_i32_6552 : BitVec 32 := 1#32
  let v6724 : BitVec 32 := Scalar.addi v6717 c1_i32_6552
  let v6725 : Index := Scalar.indexCast v6724
  let c0_6554 : Index := 0#32
  let c0_6555 : Index := 0#32
  ![0, v6725.toNat, 0, 0]

def k0_chk474 (v6717 : BitVec 32) : Prop :=
  (∀ a, (k0_off947 v6717) a + S1x1x1x128.size a ≤ S1x33344x1x128.size a) ∧
  (∀ a, (k0_off948 v6717) a + S1x1x1x128.size a ≤ S1x33344x1x128.size a)
theorem k0_off947_inb : ∀ (v6717 : BitVec 32) (k0_hw474 : k0_chk474 v6717), ∀ a, (k0_off947 v6717) a + S1x1x1x128.size a ≤ S1x33344x1x128.size a := fun v6717 k0_hw474 => k0_hw474.1
theorem k0_off948_inb : ∀ (v6717 : BitVec 32) (k0_hw474 : k0_chk474 v6717), ∀ a, (k0_off948 v6717) a + S1x1x1x128.size a ≤ S1x33344x1x128.size a := fun v6717 k0_hw474 => k0_hw474.2

def k0_off949 (v6731 : BitVec 32) : Fin 4 → Nat :=
  let c0_6561 : Index := 0#32
  let v6732 : Index := Scalar.indexCast v6731
  let c0_6562 : Index := 0#32
  let c0_6563 : Index := 0#32
  ![0, v6732.toNat, 0, 0]

def k0_off950 (v6731 : BitVec 32) : Fin 4 → Nat :=
  let c0_6567 : Index := 0#32
  let c1_i32_6566 : BitVec 32 := 1#32
  let v6738 : BitVec 32 := Scalar.addi v6731 c1_i32_6566
  let v6739 : Index := Scalar.indexCast v6738
  let c0_6568 : Index := 0#32
  let c0_6569 : Index := 0#32
  ![0, v6739.toNat, 0, 0]

def k0_chk475 (v6731 : BitVec 32) : Prop :=
  (∀ a, (k0_off949 v6731) a + S1x1x1x128.size a ≤ S1x33344x1x128.size a) ∧
  (∀ a, (k0_off950 v6731) a + S1x1x1x128.size a ≤ S1x33344x1x128.size a)
theorem k0_off949_inb : ∀ (v6731 : BitVec 32) (k0_hw475 : k0_chk475 v6731), ∀ a, (k0_off949 v6731) a + S1x1x1x128.size a ≤ S1x33344x1x128.size a := fun v6731 k0_hw475 => k0_hw475.1
theorem k0_off950_inb : ∀ (v6731 : BitVec 32) (k0_hw475 : k0_chk475 v6731), ∀ a, (k0_off950 v6731) a + S1x1x1x128.size a ≤ S1x33344x1x128.size a := fun v6731 k0_hw475 => k0_hw475.2

def k0_off951 (v6745 : BitVec 32) : Fin 4 → Nat :=
  let c0_6575 : Index := 0#32
  let v6746 : Index := Scalar.indexCast v6745
  let c0_6576 : Index := 0#32
  let c0_6577 : Index := 0#32
  ![0, v6746.toNat, 0, 0]

def k0_off952 (v6745 : BitVec 32) : Fin 4 → Nat :=
  let c0_6581 : Index := 0#32
  let c1_i32_6580 : BitVec 32 := 1#32
  let v6752 : BitVec 32 := Scalar.addi v6745 c1_i32_6580
  let v6753 : Index := Scalar.indexCast v6752
  let c0_6582 : Index := 0#32
  let c0_6583 : Index := 0#32
  ![0, v6753.toNat, 0, 0]

def k0_chk476 (v6745 : BitVec 32) : Prop :=
  (∀ a, (k0_off951 v6745) a + S1x1x1x128.size a ≤ S1x33344x1x128.size a) ∧
  (∀ a, (k0_off952 v6745) a + S1x1x1x128.size a ≤ S1x33344x1x128.size a)
theorem k0_off951_inb : ∀ (v6745 : BitVec 32) (k0_hw476 : k0_chk476 v6745), ∀ a, (k0_off951 v6745) a + S1x1x1x128.size a ≤ S1x33344x1x128.size a := fun v6745 k0_hw476 => k0_hw476.1
theorem k0_off952_inb : ∀ (v6745 : BitVec 32) (k0_hw476 : k0_chk476 v6745), ∀ a, (k0_off952 v6745) a + S1x1x1x128.size a ≤ S1x33344x1x128.size a := fun v6745 k0_hw476 => k0_hw476.2

def k0_off953 (v6759 : BitVec 32) : Fin 4 → Nat :=
  let c0_6589 : Index := 0#32
  let v6760 : Index := Scalar.indexCast v6759
  let c0_6590 : Index := 0#32
  let c0_6591 : Index := 0#32
  ![0, v6760.toNat, 0, 0]

def k0_off954 (v6759 : BitVec 32) : Fin 4 → Nat :=
  let c0_6595 : Index := 0#32
  let c1_i32_6594 : BitVec 32 := 1#32
  let v6766 : BitVec 32 := Scalar.addi v6759 c1_i32_6594
  let v6767 : Index := Scalar.indexCast v6766
  let c0_6596 : Index := 0#32
  let c0_6597 : Index := 0#32
  ![0, v6767.toNat, 0, 0]

def k0_chk477 (v6759 : BitVec 32) : Prop :=
  (∀ a, (k0_off953 v6759) a + S1x1x1x128.size a ≤ S1x33344x1x128.size a) ∧
  (∀ a, (k0_off954 v6759) a + S1x1x1x128.size a ≤ S1x33344x1x128.size a)
theorem k0_off953_inb : ∀ (v6759 : BitVec 32) (k0_hw477 : k0_chk477 v6759), ∀ a, (k0_off953 v6759) a + S1x1x1x128.size a ≤ S1x33344x1x128.size a := fun v6759 k0_hw477 => k0_hw477.1
theorem k0_off954_inb : ∀ (v6759 : BitVec 32) (k0_hw477 : k0_chk477 v6759), ∀ a, (k0_off954 v6759) a + S1x1x1x128.size a ≤ S1x33344x1x128.size a := fun v6759 k0_hw477 => k0_hw477.2

def k0_off955 (v6773 : BitVec 32) : Fin 4 → Nat :=
  let c0_6603 : Index := 0#32
  let v6774 : Index := Scalar.indexCast v6773
  let c0_6604 : Index := 0#32
  let c0_6605 : Index := 0#32
  ![0, v6774.toNat, 0, 0]

def k0_off956 (v6773 : BitVec 32) : Fin 4 → Nat :=
  let c0_6609 : Index := 0#32
  let c1_i32_6608 : BitVec 32 := 1#32
  let v6780 : BitVec 32 := Scalar.addi v6773 c1_i32_6608
  let v6781 : Index := Scalar.indexCast v6780
  let c0_6610 : Index := 0#32
  let c0_6611 : Index := 0#32
  ![0, v6781.toNat, 0, 0]

def k0_chk478 (v6773 : BitVec 32) : Prop :=
  (∀ a, (k0_off955 v6773) a + S1x1x1x128.size a ≤ S1x33344x1x128.size a) ∧
  (∀ a, (k0_off956 v6773) a + S1x1x1x128.size a ≤ S1x33344x1x128.size a)
theorem k0_off955_inb : ∀ (v6773 : BitVec 32) (k0_hw478 : k0_chk478 v6773), ∀ a, (k0_off955 v6773) a + S1x1x1x128.size a ≤ S1x33344x1x128.size a := fun v6773 k0_hw478 => k0_hw478.1
theorem k0_off956_inb : ∀ (v6773 : BitVec 32) (k0_hw478 : k0_chk478 v6773), ∀ a, (k0_off956 v6773) a + S1x1x1x128.size a ≤ S1x33344x1x128.size a := fun v6773 k0_hw478 => k0_hw478.2

def k0_off957 (v6787 : BitVec 32) : Fin 4 → Nat :=
  let c0_6617 : Index := 0#32
  let v6788 : Index := Scalar.indexCast v6787
  let c0_6618 : Index := 0#32
  let c0_6619 : Index := 0#32
  ![0, v6788.toNat, 0, 0]

def k0_off958 (v6787 : BitVec 32) : Fin 4 → Nat :=
  let c0_6623 : Index := 0#32
  let c1_i32_6622 : BitVec 32 := 1#32
  let v6794 : BitVec 32 := Scalar.addi v6787 c1_i32_6622
  let v6795 : Index := Scalar.indexCast v6794
  let c0_6624 : Index := 0#32
  let c0_6625 : Index := 0#32
  ![0, v6795.toNat, 0, 0]

def k0_chk479 (v6787 : BitVec 32) : Prop :=
  (∀ a, (k0_off957 v6787) a + S1x1x1x128.size a ≤ S1x33344x1x128.size a) ∧
  (∀ a, (k0_off958 v6787) a + S1x1x1x128.size a ≤ S1x33344x1x128.size a)
theorem k0_off957_inb : ∀ (v6787 : BitVec 32) (k0_hw479 : k0_chk479 v6787), ∀ a, (k0_off957 v6787) a + S1x1x1x128.size a ≤ S1x33344x1x128.size a := fun v6787 k0_hw479 => k0_hw479.1
theorem k0_off958_inb : ∀ (v6787 : BitVec 32) (k0_hw479 : k0_chk479 v6787), ∀ a, (k0_off958 v6787) a + S1x1x1x128.size a ≤ S1x33344x1x128.size a := fun v6787 k0_hw479 => k0_hw479.2

def k0_off959 (v6801 : BitVec 32) : Fin 4 → Nat :=
  let c0_6631 : Index := 0#32
  let v6802 : Index := Scalar.indexCast v6801
  let c0_6632 : Index := 0#32
  let c0_6633 : Index := 0#32
  ![0, v6802.toNat, 0, 0]

def k0_off960 (v6801 : BitVec 32) : Fin 4 → Nat :=
  let c0_6637 : Index := 0#32
  let c1_i32_6636 : BitVec 32 := 1#32
  let v6808 : BitVec 32 := Scalar.addi v6801 c1_i32_6636
  let v6809 : Index := Scalar.indexCast v6808
  let c0_6638 : Index := 0#32
  let c0_6639 : Index := 0#32
  ![0, v6809.toNat, 0, 0]

def k0_chk480 (v6801 : BitVec 32) : Prop :=
  (∀ a, (k0_off959 v6801) a + S1x1x1x128.size a ≤ S1x33344x1x128.size a) ∧
  (∀ a, (k0_off960 v6801) a + S1x1x1x128.size a ≤ S1x33344x1x128.size a)
theorem k0_off959_inb : ∀ (v6801 : BitVec 32) (k0_hw480 : k0_chk480 v6801), ∀ a, (k0_off959 v6801) a + S1x1x1x128.size a ≤ S1x33344x1x128.size a := fun v6801 k0_hw480 => k0_hw480.1
theorem k0_off960_inb : ∀ (v6801 : BitVec 32) (k0_hw480 : k0_chk480 v6801), ∀ a, (k0_off960 v6801) a + S1x1x1x128.size a ≤ S1x33344x1x128.size a := fun v6801 k0_hw480 => k0_hw480.2

def k0_off961 (v6815 : BitVec 32) : Fin 4 → Nat :=
  let c0_6645 : Index := 0#32
  let v6816 : Index := Scalar.indexCast v6815
  let c0_6646 : Index := 0#32
  let c0_6647 : Index := 0#32
  ![0, v6816.toNat, 0, 0]

def k0_off962 (v6815 : BitVec 32) : Fin 4 → Nat :=
  let c0_6651 : Index := 0#32
  let c1_i32_6650 : BitVec 32 := 1#32
  let v6822 : BitVec 32 := Scalar.addi v6815 c1_i32_6650
  let v6823 : Index := Scalar.indexCast v6822
  let c0_6652 : Index := 0#32
  let c0_6653 : Index := 0#32
  ![0, v6823.toNat, 0, 0]

def k0_chk481 (v6815 : BitVec 32) : Prop :=
  (∀ a, (k0_off961 v6815) a + S1x1x1x128.size a ≤ S1x33344x1x128.size a) ∧
  (∀ a, (k0_off962 v6815) a + S1x1x1x128.size a ≤ S1x33344x1x128.size a)
theorem k0_off961_inb : ∀ (v6815 : BitVec 32) (k0_hw481 : k0_chk481 v6815), ∀ a, (k0_off961 v6815) a + S1x1x1x128.size a ≤ S1x33344x1x128.size a := fun v6815 k0_hw481 => k0_hw481.1
theorem k0_off962_inb : ∀ (v6815 : BitVec 32) (k0_hw481 : k0_chk481 v6815), ∀ a, (k0_off962 v6815) a + S1x1x1x128.size a ≤ S1x33344x1x128.size a := fun v6815 k0_hw481 => k0_hw481.2

def k0_off963 (v6829 : BitVec 32) : Fin 4 → Nat :=
  let c0_6659 : Index := 0#32
  let v6830 : Index := Scalar.indexCast v6829
  let c0_6660 : Index := 0#32
  let c0_6661 : Index := 0#32
  ![0, v6830.toNat, 0, 0]

def k0_off964 (v6829 : BitVec 32) : Fin 4 → Nat :=
  let c0_6665 : Index := 0#32
  let c1_i32_6664 : BitVec 32 := 1#32
  let v6836 : BitVec 32 := Scalar.addi v6829 c1_i32_6664
  let v6837 : Index := Scalar.indexCast v6836
  let c0_6666 : Index := 0#32
  let c0_6667 : Index := 0#32
  ![0, v6837.toNat, 0, 0]

def k0_chk482 (v6829 : BitVec 32) : Prop :=
  (∀ a, (k0_off963 v6829) a + S1x1x1x128.size a ≤ S1x33344x1x128.size a) ∧
  (∀ a, (k0_off964 v6829) a + S1x1x1x128.size a ≤ S1x33344x1x128.size a)
theorem k0_off963_inb : ∀ (v6829 : BitVec 32) (k0_hw482 : k0_chk482 v6829), ∀ a, (k0_off963 v6829) a + S1x1x1x128.size a ≤ S1x33344x1x128.size a := fun v6829 k0_hw482 => k0_hw482.1
theorem k0_off964_inb : ∀ (v6829 : BitVec 32) (k0_hw482 : k0_chk482 v6829), ∀ a, (k0_off964 v6829) a + S1x1x1x128.size a ≤ S1x33344x1x128.size a := fun v6829 k0_hw482 => k0_hw482.2

def k0_off965 (v6843 : BitVec 32) : Fin 4 → Nat :=
  let c0_6673 : Index := 0#32
  let v6844 : Index := Scalar.indexCast v6843
  let c0_6674 : Index := 0#32
  let c0_6675 : Index := 0#32
  ![0, v6844.toNat, 0, 0]

def k0_off966 (v6843 : BitVec 32) : Fin 4 → Nat :=
  let c0_6679 : Index := 0#32
  let c1_i32_6678 : BitVec 32 := 1#32
  let v6850 : BitVec 32 := Scalar.addi v6843 c1_i32_6678
  let v6851 : Index := Scalar.indexCast v6850
  let c0_6680 : Index := 0#32
  let c0_6681 : Index := 0#32
  ![0, v6851.toNat, 0, 0]

def k0_chk483 (v6843 : BitVec 32) : Prop :=
  (∀ a, (k0_off965 v6843) a + S1x1x1x128.size a ≤ S1x33344x1x128.size a) ∧
  (∀ a, (k0_off966 v6843) a + S1x1x1x128.size a ≤ S1x33344x1x128.size a)
theorem k0_off965_inb : ∀ (v6843 : BitVec 32) (k0_hw483 : k0_chk483 v6843), ∀ a, (k0_off965 v6843) a + S1x1x1x128.size a ≤ S1x33344x1x128.size a := fun v6843 k0_hw483 => k0_hw483.1
theorem k0_off966_inb : ∀ (v6843 : BitVec 32) (k0_hw483 : k0_chk483 v6843), ∀ a, (k0_off966 v6843) a + S1x1x1x128.size a ≤ S1x33344x1x128.size a := fun v6843 k0_hw483 => k0_hw483.2

def k0_off967 (v6857 : BitVec 32) : Fin 4 → Nat :=
  let c0_6687 : Index := 0#32
  let v6858 : Index := Scalar.indexCast v6857
  let c0_6688 : Index := 0#32
  let c0_6689 : Index := 0#32
  ![0, v6858.toNat, 0, 0]

def k0_off968 (v6857 : BitVec 32) : Fin 4 → Nat :=
  let c0_6693 : Index := 0#32
  let c1_i32_6692 : BitVec 32 := 1#32
  let v6864 : BitVec 32 := Scalar.addi v6857 c1_i32_6692
  let v6865 : Index := Scalar.indexCast v6864
  let c0_6694 : Index := 0#32
  let c0_6695 : Index := 0#32
  ![0, v6865.toNat, 0, 0]

def k0_chk484 (v6857 : BitVec 32) : Prop :=
  (∀ a, (k0_off967 v6857) a + S1x1x1x128.size a ≤ S1x33344x1x128.size a) ∧
  (∀ a, (k0_off968 v6857) a + S1x1x1x128.size a ≤ S1x33344x1x128.size a)
theorem k0_off967_inb : ∀ (v6857 : BitVec 32) (k0_hw484 : k0_chk484 v6857), ∀ a, (k0_off967 v6857) a + S1x1x1x128.size a ≤ S1x33344x1x128.size a := fun v6857 k0_hw484 => k0_hw484.1
theorem k0_off968_inb : ∀ (v6857 : BitVec 32) (k0_hw484 : k0_chk484 v6857), ∀ a, (k0_off968 v6857) a + S1x1x1x128.size a ≤ S1x33344x1x128.size a := fun v6857 k0_hw484 => k0_hw484.2

def k0_off969 (v6871 : BitVec 32) : Fin 4 → Nat :=
  let c0_6701 : Index := 0#32
  let v6872 : Index := Scalar.indexCast v6871
  let c0_6702 : Index := 0#32
  let c0_6703 : Index := 0#32
  ![0, v6872.toNat, 0, 0]

def k0_off970 (v6871 : BitVec 32) : Fin 4 → Nat :=
  let c0_6707 : Index := 0#32
  let c1_i32_6706 : BitVec 32 := 1#32
  let v6878 : BitVec 32 := Scalar.addi v6871 c1_i32_6706
  let v6879 : Index := Scalar.indexCast v6878
  let c0_6708 : Index := 0#32
  let c0_6709 : Index := 0#32
  ![0, v6879.toNat, 0, 0]

def k0_chk485 (v6871 : BitVec 32) : Prop :=
  (∀ a, (k0_off969 v6871) a + S1x1x1x128.size a ≤ S1x33344x1x128.size a) ∧
  (∀ a, (k0_off970 v6871) a + S1x1x1x128.size a ≤ S1x33344x1x128.size a)
theorem k0_off969_inb : ∀ (v6871 : BitVec 32) (k0_hw485 : k0_chk485 v6871), ∀ a, (k0_off969 v6871) a + S1x1x1x128.size a ≤ S1x33344x1x128.size a := fun v6871 k0_hw485 => k0_hw485.1
theorem k0_off970_inb : ∀ (v6871 : BitVec 32) (k0_hw485 : k0_chk485 v6871), ∀ a, (k0_off970 v6871) a + S1x1x1x128.size a ≤ S1x33344x1x128.size a := fun v6871 k0_hw485 => k0_hw485.2

def k0_off971 (v6885 : BitVec 32) : Fin 4 → Nat :=
  let c0_6715 : Index := 0#32
  let v6886 : Index := Scalar.indexCast v6885
  let c0_6716 : Index := 0#32
  let c0_6717 : Index := 0#32
  ![0, v6886.toNat, 0, 0]

def k0_off972 (v6885 : BitVec 32) : Fin 4 → Nat :=
  let c0_6721 : Index := 0#32
  let c1_i32_6720 : BitVec 32 := 1#32
  let v6892 : BitVec 32 := Scalar.addi v6885 c1_i32_6720
  let v6893 : Index := Scalar.indexCast v6892
  let c0_6722 : Index := 0#32
  let c0_6723 : Index := 0#32
  ![0, v6893.toNat, 0, 0]

def k0_chk486 (v6885 : BitVec 32) : Prop :=
  (∀ a, (k0_off971 v6885) a + S1x1x1x128.size a ≤ S1x33344x1x128.size a) ∧
  (∀ a, (k0_off972 v6885) a + S1x1x1x128.size a ≤ S1x33344x1x128.size a)
theorem k0_off971_inb : ∀ (v6885 : BitVec 32) (k0_hw486 : k0_chk486 v6885), ∀ a, (k0_off971 v6885) a + S1x1x1x128.size a ≤ S1x33344x1x128.size a := fun v6885 k0_hw486 => k0_hw486.1
theorem k0_off972_inb : ∀ (v6885 : BitVec 32) (k0_hw486 : k0_chk486 v6885), ∀ a, (k0_off972 v6885) a + S1x1x1x128.size a ≤ S1x33344x1x128.size a := fun v6885 k0_hw486 => k0_hw486.2

def k0_off973 (v6899 : BitVec 32) : Fin 4 → Nat :=
  let c0_6729 : Index := 0#32
  let v6900 : Index := Scalar.indexCast v6899
  let c0_6730 : Index := 0#32
  let c0_6731 : Index := 0#32
  ![0, v6900.toNat, 0, 0]

def k0_off974 (v6899 : BitVec 32) : Fin 4 → Nat :=
  let c0_6735 : Index := 0#32
  let c1_i32_6734 : BitVec 32 := 1#32
  let v6906 : BitVec 32 := Scalar.addi v6899 c1_i32_6734
  let v6907 : Index := Scalar.indexCast v6906
  let c0_6736 : Index := 0#32
  let c0_6737 : Index := 0#32
  ![0, v6907.toNat, 0, 0]

def k0_chk487 (v6899 : BitVec 32) : Prop :=
  (∀ a, (k0_off973 v6899) a + S1x1x1x128.size a ≤ S1x33344x1x128.size a) ∧
  (∀ a, (k0_off974 v6899) a + S1x1x1x128.size a ≤ S1x33344x1x128.size a)
theorem k0_off973_inb : ∀ (v6899 : BitVec 32) (k0_hw487 : k0_chk487 v6899), ∀ a, (k0_off973 v6899) a + S1x1x1x128.size a ≤ S1x33344x1x128.size a := fun v6899 k0_hw487 => k0_hw487.1
theorem k0_off974_inb : ∀ (v6899 : BitVec 32) (k0_hw487 : k0_chk487 v6899), ∀ a, (k0_off974 v6899) a + S1x1x1x128.size a ≤ S1x33344x1x128.size a := fun v6899 k0_hw487 => k0_hw487.2

def k0_off975 (v6913 : BitVec 32) : Fin 4 → Nat :=
  let c0_6743 : Index := 0#32
  let v6914 : Index := Scalar.indexCast v6913
  let c0_6744 : Index := 0#32
  let c0_6745 : Index := 0#32
  ![0, v6914.toNat, 0, 0]

def k0_off976 (v6913 : BitVec 32) : Fin 4 → Nat :=
  let c0_6749 : Index := 0#32
  let c1_i32_6748 : BitVec 32 := 1#32
  let v6920 : BitVec 32 := Scalar.addi v6913 c1_i32_6748
  let v6921 : Index := Scalar.indexCast v6920
  let c0_6750 : Index := 0#32
  let c0_6751 : Index := 0#32
  ![0, v6921.toNat, 0, 0]

def k0_chk488 (v6913 : BitVec 32) : Prop :=
  (∀ a, (k0_off975 v6913) a + S1x1x1x128.size a ≤ S1x33344x1x128.size a) ∧
  (∀ a, (k0_off976 v6913) a + S1x1x1x128.size a ≤ S1x33344x1x128.size a)
theorem k0_off975_inb : ∀ (v6913 : BitVec 32) (k0_hw488 : k0_chk488 v6913), ∀ a, (k0_off975 v6913) a + S1x1x1x128.size a ≤ S1x33344x1x128.size a := fun v6913 k0_hw488 => k0_hw488.1
theorem k0_off976_inb : ∀ (v6913 : BitVec 32) (k0_hw488 : k0_chk488 v6913), ∀ a, (k0_off976 v6913) a + S1x1x1x128.size a ≤ S1x33344x1x128.size a := fun v6913 k0_hw488 => k0_hw488.2

def k0_off977 (v6927 : BitVec 32) : Fin 4 → Nat :=
  let c0_6757 : Index := 0#32
  let v6928 : Index := Scalar.indexCast v6927
  let c0_6758 : Index := 0#32
  let c0_6759 : Index := 0#32
  ![0, v6928.toNat, 0, 0]

def k0_off978 (v6927 : BitVec 32) : Fin 4 → Nat :=
  let c0_6763 : Index := 0#32
  let c1_i32_6762 : BitVec 32 := 1#32
  let v6934 : BitVec 32 := Scalar.addi v6927 c1_i32_6762
  let v6935 : Index := Scalar.indexCast v6934
  let c0_6764 : Index := 0#32
  let c0_6765 : Index := 0#32
  ![0, v6935.toNat, 0, 0]

def k0_chk489 (v6927 : BitVec 32) : Prop :=
  (∀ a, (k0_off977 v6927) a + S1x1x1x128.size a ≤ S1x33344x1x128.size a) ∧
  (∀ a, (k0_off978 v6927) a + S1x1x1x128.size a ≤ S1x33344x1x128.size a)
theorem k0_off977_inb : ∀ (v6927 : BitVec 32) (k0_hw489 : k0_chk489 v6927), ∀ a, (k0_off977 v6927) a + S1x1x1x128.size a ≤ S1x33344x1x128.size a := fun v6927 k0_hw489 => k0_hw489.1
theorem k0_off978_inb : ∀ (v6927 : BitVec 32) (k0_hw489 : k0_chk489 v6927), ∀ a, (k0_off978 v6927) a + S1x1x1x128.size a ≤ S1x33344x1x128.size a := fun v6927 k0_hw489 => k0_hw489.2

def k0_off979 (v6941 : BitVec 32) : Fin 4 → Nat :=
  let c0_6771 : Index := 0#32
  let v6942 : Index := Scalar.indexCast v6941
  let c0_6772 : Index := 0#32
  let c0_6773 : Index := 0#32
  ![0, v6942.toNat, 0, 0]

def k0_off980 (v6941 : BitVec 32) : Fin 4 → Nat :=
  let c0_6777 : Index := 0#32
  let c1_i32_6776 : BitVec 32 := 1#32
  let v6948 : BitVec 32 := Scalar.addi v6941 c1_i32_6776
  let v6949 : Index := Scalar.indexCast v6948
  let c0_6778 : Index := 0#32
  let c0_6779 : Index := 0#32
  ![0, v6949.toNat, 0, 0]

def k0_chk490 (v6941 : BitVec 32) : Prop :=
  (∀ a, (k0_off979 v6941) a + S1x1x1x128.size a ≤ S1x33344x1x128.size a) ∧
  (∀ a, (k0_off980 v6941) a + S1x1x1x128.size a ≤ S1x33344x1x128.size a)
theorem k0_off979_inb : ∀ (v6941 : BitVec 32) (k0_hw490 : k0_chk490 v6941), ∀ a, (k0_off979 v6941) a + S1x1x1x128.size a ≤ S1x33344x1x128.size a := fun v6941 k0_hw490 => k0_hw490.1
theorem k0_off980_inb : ∀ (v6941 : BitVec 32) (k0_hw490 : k0_chk490 v6941), ∀ a, (k0_off980 v6941) a + S1x1x1x128.size a ≤ S1x33344x1x128.size a := fun v6941 k0_hw490 => k0_hw490.2

def k0_off981 (v6955 : BitVec 32) : Fin 4 → Nat :=
  let c0_6785 : Index := 0#32
  let v6956 : Index := Scalar.indexCast v6955
  let c0_6786 : Index := 0#32
  let c0_6787 : Index := 0#32
  ![0, v6956.toNat, 0, 0]

def k0_off982 (v6955 : BitVec 32) : Fin 4 → Nat :=
  let c0_6791 : Index := 0#32
  let c1_i32_6790 : BitVec 32 := 1#32
  let v6962 : BitVec 32 := Scalar.addi v6955 c1_i32_6790
  let v6963 : Index := Scalar.indexCast v6962
  let c0_6792 : Index := 0#32
  let c0_6793 : Index := 0#32
  ![0, v6963.toNat, 0, 0]

def k0_chk491 (v6955 : BitVec 32) : Prop :=
  (∀ a, (k0_off981 v6955) a + S1x1x1x128.size a ≤ S1x33344x1x128.size a) ∧
  (∀ a, (k0_off982 v6955) a + S1x1x1x128.size a ≤ S1x33344x1x128.size a)
theorem k0_off981_inb : ∀ (v6955 : BitVec 32) (k0_hw491 : k0_chk491 v6955), ∀ a, (k0_off981 v6955) a + S1x1x1x128.size a ≤ S1x33344x1x128.size a := fun v6955 k0_hw491 => k0_hw491.1
theorem k0_off982_inb : ∀ (v6955 : BitVec 32) (k0_hw491 : k0_chk491 v6955), ∀ a, (k0_off982 v6955) a + S1x1x1x128.size a ≤ S1x33344x1x128.size a := fun v6955 k0_hw491 => k0_hw491.2

def k0_off983 (v6969 : BitVec 32) : Fin 4 → Nat :=
  let c0_6799 : Index := 0#32
  let v6970 : Index := Scalar.indexCast v6969
  let c0_6800 : Index := 0#32
  let c0_6801 : Index := 0#32
  ![0, v6970.toNat, 0, 0]

def k0_off984 (v6969 : BitVec 32) : Fin 4 → Nat :=
  let c0_6805 : Index := 0#32
  let c1_i32_6804 : BitVec 32 := 1#32
  let v6976 : BitVec 32 := Scalar.addi v6969 c1_i32_6804
  let v6977 : Index := Scalar.indexCast v6976
  let c0_6806 : Index := 0#32
  let c0_6807 : Index := 0#32
  ![0, v6977.toNat, 0, 0]

def k0_chk492 (v6969 : BitVec 32) : Prop :=
  (∀ a, (k0_off983 v6969) a + S1x1x1x128.size a ≤ S1x33344x1x128.size a) ∧
  (∀ a, (k0_off984 v6969) a + S1x1x1x128.size a ≤ S1x33344x1x128.size a)
theorem k0_off983_inb : ∀ (v6969 : BitVec 32) (k0_hw492 : k0_chk492 v6969), ∀ a, (k0_off983 v6969) a + S1x1x1x128.size a ≤ S1x33344x1x128.size a := fun v6969 k0_hw492 => k0_hw492.1
theorem k0_off984_inb : ∀ (v6969 : BitVec 32) (k0_hw492 : k0_chk492 v6969), ∀ a, (k0_off984 v6969) a + S1x1x1x128.size a ≤ S1x33344x1x128.size a := fun v6969 k0_hw492 => k0_hw492.2

def k0_off985 (v6983 : BitVec 32) : Fin 4 → Nat :=
  let c0_6813 : Index := 0#32
  let v6984 : Index := Scalar.indexCast v6983
  let c0_6814 : Index := 0#32
  let c0_6815 : Index := 0#32
  ![0, v6984.toNat, 0, 0]

def k0_off986 (v6983 : BitVec 32) : Fin 4 → Nat :=
  let c0_6819 : Index := 0#32
  let c1_i32_6818 : BitVec 32 := 1#32
  let v6990 : BitVec 32 := Scalar.addi v6983 c1_i32_6818
  let v6991 : Index := Scalar.indexCast v6990
  let c0_6820 : Index := 0#32
  let c0_6821 : Index := 0#32
  ![0, v6991.toNat, 0, 0]

def k0_chk493 (v6983 : BitVec 32) : Prop :=
  (∀ a, (k0_off985 v6983) a + S1x1x1x128.size a ≤ S1x33344x1x128.size a) ∧
  (∀ a, (k0_off986 v6983) a + S1x1x1x128.size a ≤ S1x33344x1x128.size a)
theorem k0_off985_inb : ∀ (v6983 : BitVec 32) (k0_hw493 : k0_chk493 v6983), ∀ a, (k0_off985 v6983) a + S1x1x1x128.size a ≤ S1x33344x1x128.size a := fun v6983 k0_hw493 => k0_hw493.1
theorem k0_off986_inb : ∀ (v6983 : BitVec 32) (k0_hw493 : k0_chk493 v6983), ∀ a, (k0_off986 v6983) a + S1x1x1x128.size a ≤ S1x33344x1x128.size a := fun v6983 k0_hw493 => k0_hw493.2

def k0_off987 (v6997 : BitVec 32) : Fin 4 → Nat :=
  let c0_6827 : Index := 0#32
  let v6998 : Index := Scalar.indexCast v6997
  let c0_6828 : Index := 0#32
  let c0_6829 : Index := 0#32
  ![0, v6998.toNat, 0, 0]

def k0_off988 (v6997 : BitVec 32) : Fin 4 → Nat :=
  let c0_6833 : Index := 0#32
  let c1_i32_6832 : BitVec 32 := 1#32
  let v7004 : BitVec 32 := Scalar.addi v6997 c1_i32_6832
  let v7005 : Index := Scalar.indexCast v7004
  let c0_6834 : Index := 0#32
  let c0_6835 : Index := 0#32
  ![0, v7005.toNat, 0, 0]

def k0_chk494 (v6997 : BitVec 32) : Prop :=
  (∀ a, (k0_off987 v6997) a + S1x1x1x128.size a ≤ S1x33344x1x128.size a) ∧
  (∀ a, (k0_off988 v6997) a + S1x1x1x128.size a ≤ S1x33344x1x128.size a)
theorem k0_off987_inb : ∀ (v6997 : BitVec 32) (k0_hw494 : k0_chk494 v6997), ∀ a, (k0_off987 v6997) a + S1x1x1x128.size a ≤ S1x33344x1x128.size a := fun v6997 k0_hw494 => k0_hw494.1
theorem k0_off988_inb : ∀ (v6997 : BitVec 32) (k0_hw494 : k0_chk494 v6997), ∀ a, (k0_off988 v6997) a + S1x1x1x128.size a ≤ S1x33344x1x128.size a := fun v6997 k0_hw494 => k0_hw494.2

def k0_off989 (v7011 : BitVec 32) : Fin 4 → Nat :=
  let c0_6841 : Index := 0#32
  let v7012 : Index := Scalar.indexCast v7011
  let c0_6842 : Index := 0#32
  let c0_6843 : Index := 0#32
  ![0, v7012.toNat, 0, 0]

def k0_off990 (v7011 : BitVec 32) : Fin 4 → Nat :=
  let c0_6847 : Index := 0#32
  let c1_i32_6846 : BitVec 32 := 1#32
  let v7018 : BitVec 32 := Scalar.addi v7011 c1_i32_6846
  let v7019 : Index := Scalar.indexCast v7018
  let c0_6848 : Index := 0#32
  let c0_6849 : Index := 0#32
  ![0, v7019.toNat, 0, 0]

def k0_chk495 (v7011 : BitVec 32) : Prop :=
  (∀ a, (k0_off989 v7011) a + S1x1x1x128.size a ≤ S1x33344x1x128.size a) ∧
  (∀ a, (k0_off990 v7011) a + S1x1x1x128.size a ≤ S1x33344x1x128.size a)
theorem k0_off989_inb : ∀ (v7011 : BitVec 32) (k0_hw495 : k0_chk495 v7011), ∀ a, (k0_off989 v7011) a + S1x1x1x128.size a ≤ S1x33344x1x128.size a := fun v7011 k0_hw495 => k0_hw495.1
theorem k0_off990_inb : ∀ (v7011 : BitVec 32) (k0_hw495 : k0_chk495 v7011), ∀ a, (k0_off990 v7011) a + S1x1x1x128.size a ≤ S1x33344x1x128.size a := fun v7011 k0_hw495 => k0_hw495.2

def k0_off991 (v7025 : BitVec 32) : Fin 4 → Nat :=
  let c0_6855 : Index := 0#32
  let v7026 : Index := Scalar.indexCast v7025
  let c0_6856 : Index := 0#32
  let c0_6857 : Index := 0#32
  ![0, v7026.toNat, 0, 0]

def k0_off992 (v7025 : BitVec 32) : Fin 4 → Nat :=
  let c0_6861 : Index := 0#32
  let c1_i32_6860 : BitVec 32 := 1#32
  let v7032 : BitVec 32 := Scalar.addi v7025 c1_i32_6860
  let v7033 : Index := Scalar.indexCast v7032
  let c0_6862 : Index := 0#32
  let c0_6863 : Index := 0#32
  ![0, v7033.toNat, 0, 0]

def k0_chk496 (v7025 : BitVec 32) : Prop :=
  (∀ a, (k0_off991 v7025) a + S1x1x1x128.size a ≤ S1x33344x1x128.size a) ∧
  (∀ a, (k0_off992 v7025) a + S1x1x1x128.size a ≤ S1x33344x1x128.size a)
theorem k0_off991_inb : ∀ (v7025 : BitVec 32) (k0_hw496 : k0_chk496 v7025), ∀ a, (k0_off991 v7025) a + S1x1x1x128.size a ≤ S1x33344x1x128.size a := fun v7025 k0_hw496 => k0_hw496.1
theorem k0_off992_inb : ∀ (v7025 : BitVec 32) (k0_hw496 : k0_chk496 v7025), ∀ a, (k0_off992 v7025) a + S1x1x1x128.size a ≤ S1x33344x1x128.size a := fun v7025 k0_hw496 => k0_hw496.2

def k0_off993 (v7039 : BitVec 32) : Fin 4 → Nat :=
  let c0_6869 : Index := 0#32
  let v7040 : Index := Scalar.indexCast v7039
  let c0_6870 : Index := 0#32
  let c0_6871 : Index := 0#32
  ![0, v7040.toNat, 0, 0]

def k0_off994 (v7039 : BitVec 32) : Fin 4 → Nat :=
  let c0_6875 : Index := 0#32
  let c1_i32_6874 : BitVec 32 := 1#32
  let v7046 : BitVec 32 := Scalar.addi v7039 c1_i32_6874
  let v7047 : Index := Scalar.indexCast v7046
  let c0_6876 : Index := 0#32
  let c0_6877 : Index := 0#32
  ![0, v7047.toNat, 0, 0]

def k0_chk497 (v7039 : BitVec 32) : Prop :=
  (∀ a, (k0_off993 v7039) a + S1x1x1x128.size a ≤ S1x33344x1x128.size a) ∧
  (∀ a, (k0_off994 v7039) a + S1x1x1x128.size a ≤ S1x33344x1x128.size a)
theorem k0_off993_inb : ∀ (v7039 : BitVec 32) (k0_hw497 : k0_chk497 v7039), ∀ a, (k0_off993 v7039) a + S1x1x1x128.size a ≤ S1x33344x1x128.size a := fun v7039 k0_hw497 => k0_hw497.1
theorem k0_off994_inb : ∀ (v7039 : BitVec 32) (k0_hw497 : k0_chk497 v7039), ∀ a, (k0_off994 v7039) a + S1x1x1x128.size a ≤ S1x33344x1x128.size a := fun v7039 k0_hw497 => k0_hw497.2

def k0_off995 (v7053 : BitVec 32) : Fin 4 → Nat :=
  let c0_6883 : Index := 0#32
  let v7054 : Index := Scalar.indexCast v7053
  let c0_6884 : Index := 0#32
  let c0_6885 : Index := 0#32
  ![0, v7054.toNat, 0, 0]

def k0_off996 (v7053 : BitVec 32) : Fin 4 → Nat :=
  let c0_6889 : Index := 0#32
  let c1_i32_6888 : BitVec 32 := 1#32
  let v7060 : BitVec 32 := Scalar.addi v7053 c1_i32_6888
  let v7061 : Index := Scalar.indexCast v7060
  let c0_6890 : Index := 0#32
  let c0_6891 : Index := 0#32
  ![0, v7061.toNat, 0, 0]

def k0_chk498 (v7053 : BitVec 32) : Prop :=
  (∀ a, (k0_off995 v7053) a + S1x1x1x128.size a ≤ S1x33344x1x128.size a) ∧
  (∀ a, (k0_off996 v7053) a + S1x1x1x128.size a ≤ S1x33344x1x128.size a)
theorem k0_off995_inb : ∀ (v7053 : BitVec 32) (k0_hw498 : k0_chk498 v7053), ∀ a, (k0_off995 v7053) a + S1x1x1x128.size a ≤ S1x33344x1x128.size a := fun v7053 k0_hw498 => k0_hw498.1
theorem k0_off996_inb : ∀ (v7053 : BitVec 32) (k0_hw498 : k0_chk498 v7053), ∀ a, (k0_off996 v7053) a + S1x1x1x128.size a ≤ S1x33344x1x128.size a := fun v7053 k0_hw498 => k0_hw498.2

def k0_off997 (v7067 : BitVec 32) : Fin 4 → Nat :=
  let c0_6897 : Index := 0#32
  let v7068 : Index := Scalar.indexCast v7067
  let c0_6898 : Index := 0#32
  let c0_6899 : Index := 0#32
  ![0, v7068.toNat, 0, 0]

def k0_off998 (v7067 : BitVec 32) : Fin 4 → Nat :=
  let c0_6903 : Index := 0#32
  let c1_i32_6902 : BitVec 32 := 1#32
  let v7074 : BitVec 32 := Scalar.addi v7067 c1_i32_6902
  let v7075 : Index := Scalar.indexCast v7074
  let c0_6904 : Index := 0#32
  let c0_6905 : Index := 0#32
  ![0, v7075.toNat, 0, 0]

def k0_chk499 (v7067 : BitVec 32) : Prop :=
  (∀ a, (k0_off997 v7067) a + S1x1x1x128.size a ≤ S1x33344x1x128.size a) ∧
  (∀ a, (k0_off998 v7067) a + S1x1x1x128.size a ≤ S1x33344x1x128.size a)
theorem k0_off997_inb : ∀ (v7067 : BitVec 32) (k0_hw499 : k0_chk499 v7067), ∀ a, (k0_off997 v7067) a + S1x1x1x128.size a ≤ S1x33344x1x128.size a := fun v7067 k0_hw499 => k0_hw499.1
theorem k0_off998_inb : ∀ (v7067 : BitVec 32) (k0_hw499 : k0_chk499 v7067), ∀ a, (k0_off998 v7067) a + S1x1x1x128.size a ≤ S1x33344x1x128.size a := fun v7067 k0_hw499 => k0_hw499.2

def k0_off999 (v7081 : BitVec 32) : Fin 4 → Nat :=
  let c0_6911 : Index := 0#32
  let v7082 : Index := Scalar.indexCast v7081
  let c0_6912 : Index := 0#32
  let c0_6913 : Index := 0#32
  ![0, v7082.toNat, 0, 0]

def k0_off1000 (v7081 : BitVec 32) : Fin 4 → Nat :=
  let c0_6917 : Index := 0#32
  let c1_i32_6916 : BitVec 32 := 1#32
  let v7088 : BitVec 32 := Scalar.addi v7081 c1_i32_6916
  let v7089 : Index := Scalar.indexCast v7088
  let c0_6918 : Index := 0#32
  let c0_6919 : Index := 0#32
  ![0, v7089.toNat, 0, 0]

def k0_chk500 (v7081 : BitVec 32) : Prop :=
  (∀ a, (k0_off999 v7081) a + S1x1x1x128.size a ≤ S1x33344x1x128.size a) ∧
  (∀ a, (k0_off1000 v7081) a + S1x1x1x128.size a ≤ S1x33344x1x128.size a)
theorem k0_off999_inb : ∀ (v7081 : BitVec 32) (k0_hw500 : k0_chk500 v7081), ∀ a, (k0_off999 v7081) a + S1x1x1x128.size a ≤ S1x33344x1x128.size a := fun v7081 k0_hw500 => k0_hw500.1
theorem k0_off1000_inb : ∀ (v7081 : BitVec 32) (k0_hw500 : k0_chk500 v7081), ∀ a, (k0_off1000 v7081) a + S1x1x1x128.size a ≤ S1x33344x1x128.size a := fun v7081 k0_hw500 => k0_hw500.2

def k0_off1001 (v7095 : BitVec 32) : Fin 4 → Nat :=
  let c0_6925 : Index := 0#32
  let v7096 : Index := Scalar.indexCast v7095
  let c0_6926 : Index := 0#32
  let c0_6927 : Index := 0#32
  ![0, v7096.toNat, 0, 0]

def k0_off1002 (v7095 : BitVec 32) : Fin 4 → Nat :=
  let c0_6931 : Index := 0#32
  let c1_i32_6930 : BitVec 32 := 1#32
  let v7102 : BitVec 32 := Scalar.addi v7095 c1_i32_6930
  let v7103 : Index := Scalar.indexCast v7102
  let c0_6932 : Index := 0#32
  let c0_6933 : Index := 0#32
  ![0, v7103.toNat, 0, 0]

def k0_chk501 (v7095 : BitVec 32) : Prop :=
  (∀ a, (k0_off1001 v7095) a + S1x1x1x128.size a ≤ S1x33344x1x128.size a) ∧
  (∀ a, (k0_off1002 v7095) a + S1x1x1x128.size a ≤ S1x33344x1x128.size a)
theorem k0_off1001_inb : ∀ (v7095 : BitVec 32) (k0_hw501 : k0_chk501 v7095), ∀ a, (k0_off1001 v7095) a + S1x1x1x128.size a ≤ S1x33344x1x128.size a := fun v7095 k0_hw501 => k0_hw501.1
theorem k0_off1002_inb : ∀ (v7095 : BitVec 32) (k0_hw501 : k0_chk501 v7095), ∀ a, (k0_off1002 v7095) a + S1x1x1x128.size a ≤ S1x33344x1x128.size a := fun v7095 k0_hw501 => k0_hw501.2

def k0_off1003 (v7109 : BitVec 32) : Fin 4 → Nat :=
  let c0_6939 : Index := 0#32
  let v7110 : Index := Scalar.indexCast v7109
  let c0_6940 : Index := 0#32
  let c0_6941 : Index := 0#32
  ![0, v7110.toNat, 0, 0]

def k0_off1004 (v7109 : BitVec 32) : Fin 4 → Nat :=
  let c0_6945 : Index := 0#32
  let c1_i32_6944 : BitVec 32 := 1#32
  let v7116 : BitVec 32 := Scalar.addi v7109 c1_i32_6944
  let v7117 : Index := Scalar.indexCast v7116
  let c0_6946 : Index := 0#32
  let c0_6947 : Index := 0#32
  ![0, v7117.toNat, 0, 0]

def k0_chk502 (v7109 : BitVec 32) : Prop :=
  (∀ a, (k0_off1003 v7109) a + S1x1x1x128.size a ≤ S1x33344x1x128.size a) ∧
  (∀ a, (k0_off1004 v7109) a + S1x1x1x128.size a ≤ S1x33344x1x128.size a)
theorem k0_off1003_inb : ∀ (v7109 : BitVec 32) (k0_hw502 : k0_chk502 v7109), ∀ a, (k0_off1003 v7109) a + S1x1x1x128.size a ≤ S1x33344x1x128.size a := fun v7109 k0_hw502 => k0_hw502.1
theorem k0_off1004_inb : ∀ (v7109 : BitVec 32) (k0_hw502 : k0_chk502 v7109), ∀ a, (k0_off1004 v7109) a + S1x1x1x128.size a ≤ S1x33344x1x128.size a := fun v7109 k0_hw502 => k0_hw502.2

def k0_off1005 (v7123 : BitVec 32) : Fin 4 → Nat :=
  let c0_6953 : Index := 0#32
  let v7124 : Index := Scalar.indexCast v7123
  let c0_6954 : Index := 0#32
  let c0_6955 : Index := 0#32
  ![0, v7124.toNat, 0, 0]

def k0_off1006 (v7123 : BitVec 32) : Fin 4 → Nat :=
  let c0_6959 : Index := 0#32
  let c1_i32_6958 : BitVec 32 := 1#32
  let v7130 : BitVec 32 := Scalar.addi v7123 c1_i32_6958
  let v7131 : Index := Scalar.indexCast v7130
  let c0_6960 : Index := 0#32
  let c0_6961 : Index := 0#32
  ![0, v7131.toNat, 0, 0]

def k0_chk503 (v7123 : BitVec 32) : Prop :=
  (∀ a, (k0_off1005 v7123) a + S1x1x1x128.size a ≤ S1x33344x1x128.size a) ∧
  (∀ a, (k0_off1006 v7123) a + S1x1x1x128.size a ≤ S1x33344x1x128.size a)
theorem k0_off1005_inb : ∀ (v7123 : BitVec 32) (k0_hw503 : k0_chk503 v7123), ∀ a, (k0_off1005 v7123) a + S1x1x1x128.size a ≤ S1x33344x1x128.size a := fun v7123 k0_hw503 => k0_hw503.1
theorem k0_off1006_inb : ∀ (v7123 : BitVec 32) (k0_hw503 : k0_chk503 v7123), ∀ a, (k0_off1006 v7123) a + S1x1x1x128.size a ≤ S1x33344x1x128.size a := fun v7123 k0_hw503 => k0_hw503.2

def k0_off1007 (v7137 : BitVec 32) : Fin 4 → Nat :=
  let c0_6967 : Index := 0#32
  let v7138 : Index := Scalar.indexCast v7137
  let c0_6968 : Index := 0#32
  let c0_6969 : Index := 0#32
  ![0, v7138.toNat, 0, 0]

def k0_off1008 (v7137 : BitVec 32) : Fin 4 → Nat :=
  let c0_6973 : Index := 0#32
  let c1_i32_6972 : BitVec 32 := 1#32
  let v7144 : BitVec 32 := Scalar.addi v7137 c1_i32_6972
  let v7145 : Index := Scalar.indexCast v7144
  let c0_6974 : Index := 0#32
  let c0_6975 : Index := 0#32
  ![0, v7145.toNat, 0, 0]

def k0_chk504 (v7137 : BitVec 32) : Prop :=
  (∀ a, (k0_off1007 v7137) a + S1x1x1x128.size a ≤ S1x33344x1x128.size a) ∧
  (∀ a, (k0_off1008 v7137) a + S1x1x1x128.size a ≤ S1x33344x1x128.size a)
theorem k0_off1007_inb : ∀ (v7137 : BitVec 32) (k0_hw504 : k0_chk504 v7137), ∀ a, (k0_off1007 v7137) a + S1x1x1x128.size a ≤ S1x33344x1x128.size a := fun v7137 k0_hw504 => k0_hw504.1
theorem k0_off1008_inb : ∀ (v7137 : BitVec 32) (k0_hw504 : k0_chk504 v7137), ∀ a, (k0_off1008 v7137) a + S1x1x1x128.size a ≤ S1x33344x1x128.size a := fun v7137 k0_hw504 => k0_hw504.2

def k0_off1009 (v7151 : BitVec 32) : Fin 4 → Nat :=
  let c0_6981 : Index := 0#32
  let v7152 : Index := Scalar.indexCast v7151
  let c0_6982 : Index := 0#32
  let c0_6983 : Index := 0#32
  ![0, v7152.toNat, 0, 0]

def k0_off1010 (v7151 : BitVec 32) : Fin 4 → Nat :=
  let c0_6987 : Index := 0#32
  let c1_i32_6986 : BitVec 32 := 1#32
  let v7158 : BitVec 32 := Scalar.addi v7151 c1_i32_6986
  let v7159 : Index := Scalar.indexCast v7158
  let c0_6988 : Index := 0#32
  let c0_6989 : Index := 0#32
  ![0, v7159.toNat, 0, 0]

def k0_chk505 (v7151 : BitVec 32) : Prop :=
  (∀ a, (k0_off1009 v7151) a + S1x1x1x128.size a ≤ S1x33344x1x128.size a) ∧
  (∀ a, (k0_off1010 v7151) a + S1x1x1x128.size a ≤ S1x33344x1x128.size a)
theorem k0_off1009_inb : ∀ (v7151 : BitVec 32) (k0_hw505 : k0_chk505 v7151), ∀ a, (k0_off1009 v7151) a + S1x1x1x128.size a ≤ S1x33344x1x128.size a := fun v7151 k0_hw505 => k0_hw505.1
theorem k0_off1010_inb : ∀ (v7151 : BitVec 32) (k0_hw505 : k0_chk505 v7151), ∀ a, (k0_off1010 v7151) a + S1x1x1x128.size a ≤ S1x33344x1x128.size a := fun v7151 k0_hw505 => k0_hw505.2

def k0_off1011 (v7165 : BitVec 32) : Fin 4 → Nat :=
  let c0_6995 : Index := 0#32
  let v7166 : Index := Scalar.indexCast v7165
  let c0_6996 : Index := 0#32
  let c0_6997 : Index := 0#32
  ![0, v7166.toNat, 0, 0]

def k0_off1012 (v7165 : BitVec 32) : Fin 4 → Nat :=
  let c0_7001 : Index := 0#32
  let c1_i32_7000 : BitVec 32 := 1#32
  let v7172 : BitVec 32 := Scalar.addi v7165 c1_i32_7000
  let v7173 : Index := Scalar.indexCast v7172
  let c0_7002 : Index := 0#32
  let c0_7003 : Index := 0#32
  ![0, v7173.toNat, 0, 0]

def k0_chk506 (v7165 : BitVec 32) : Prop :=
  (∀ a, (k0_off1011 v7165) a + S1x1x1x128.size a ≤ S1x33344x1x128.size a) ∧
  (∀ a, (k0_off1012 v7165) a + S1x1x1x128.size a ≤ S1x33344x1x128.size a)
theorem k0_off1011_inb : ∀ (v7165 : BitVec 32) (k0_hw506 : k0_chk506 v7165), ∀ a, (k0_off1011 v7165) a + S1x1x1x128.size a ≤ S1x33344x1x128.size a := fun v7165 k0_hw506 => k0_hw506.1
theorem k0_off1012_inb : ∀ (v7165 : BitVec 32) (k0_hw506 : k0_chk506 v7165), ∀ a, (k0_off1012 v7165) a + S1x1x1x128.size a ≤ S1x33344x1x128.size a := fun v7165 k0_hw506 => k0_hw506.2

def k0_off1013 (v7179 : BitVec 32) : Fin 4 → Nat :=
  let c0_7009 : Index := 0#32
  let v7180 : Index := Scalar.indexCast v7179
  let c0_7010 : Index := 0#32
  let c0_7011 : Index := 0#32
  ![0, v7180.toNat, 0, 0]

def k0_off1014 (v7179 : BitVec 32) : Fin 4 → Nat :=
  let c0_7015 : Index := 0#32
  let c1_i32_7014 : BitVec 32 := 1#32
  let v7186 : BitVec 32 := Scalar.addi v7179 c1_i32_7014
  let v7187 : Index := Scalar.indexCast v7186
  let c0_7016 : Index := 0#32
  let c0_7017 : Index := 0#32
  ![0, v7187.toNat, 0, 0]

def k0_chk507 (v7179 : BitVec 32) : Prop :=
  (∀ a, (k0_off1013 v7179) a + S1x1x1x128.size a ≤ S1x33344x1x128.size a) ∧
  (∀ a, (k0_off1014 v7179) a + S1x1x1x128.size a ≤ S1x33344x1x128.size a)
theorem k0_off1013_inb : ∀ (v7179 : BitVec 32) (k0_hw507 : k0_chk507 v7179), ∀ a, (k0_off1013 v7179) a + S1x1x1x128.size a ≤ S1x33344x1x128.size a := fun v7179 k0_hw507 => k0_hw507.1
theorem k0_off1014_inb : ∀ (v7179 : BitVec 32) (k0_hw507 : k0_chk507 v7179), ∀ a, (k0_off1014 v7179) a + S1x1x1x128.size a ≤ S1x33344x1x128.size a := fun v7179 k0_hw507 => k0_hw507.2

def k0_off1015 (v7193 : BitVec 32) : Fin 4 → Nat :=
  let c0_7023 : Index := 0#32
  let v7194 : Index := Scalar.indexCast v7193
  let c0_7024 : Index := 0#32
  let c0_7025 : Index := 0#32
  ![0, v7194.toNat, 0, 0]

def k0_off1016 (v7193 : BitVec 32) : Fin 4 → Nat :=
  let c0_7029 : Index := 0#32
  let c1_i32_7028 : BitVec 32 := 1#32
  let v7200 : BitVec 32 := Scalar.addi v7193 c1_i32_7028
  let v7201 : Index := Scalar.indexCast v7200
  let c0_7030 : Index := 0#32
  let c0_7031 : Index := 0#32
  ![0, v7201.toNat, 0, 0]

def k0_chk508 (v7193 : BitVec 32) : Prop :=
  (∀ a, (k0_off1015 v7193) a + S1x1x1x128.size a ≤ S1x33344x1x128.size a) ∧
  (∀ a, (k0_off1016 v7193) a + S1x1x1x128.size a ≤ S1x33344x1x128.size a)
theorem k0_off1015_inb : ∀ (v7193 : BitVec 32) (k0_hw508 : k0_chk508 v7193), ∀ a, (k0_off1015 v7193) a + S1x1x1x128.size a ≤ S1x33344x1x128.size a := fun v7193 k0_hw508 => k0_hw508.1
theorem k0_off1016_inb : ∀ (v7193 : BitVec 32) (k0_hw508 : k0_chk508 v7193), ∀ a, (k0_off1016 v7193) a + S1x1x1x128.size a ≤ S1x33344x1x128.size a := fun v7193 k0_hw508 => k0_hw508.2

def k0_off1017 (v7207 : BitVec 32) : Fin 4 → Nat :=
  let c0_7037 : Index := 0#32
  let v7208 : Index := Scalar.indexCast v7207
  let c0_7038 : Index := 0#32
  let c0_7039 : Index := 0#32
  ![0, v7208.toNat, 0, 0]

def k0_off1018 (v7207 : BitVec 32) : Fin 4 → Nat :=
  let c0_7043 : Index := 0#32
  let c1_i32_7042 : BitVec 32 := 1#32
  let v7214 : BitVec 32 := Scalar.addi v7207 c1_i32_7042
  let v7215 : Index := Scalar.indexCast v7214
  let c0_7044 : Index := 0#32
  let c0_7045 : Index := 0#32
  ![0, v7215.toNat, 0, 0]

def k0_chk509 (v7207 : BitVec 32) : Prop :=
  (∀ a, (k0_off1017 v7207) a + S1x1x1x128.size a ≤ S1x33344x1x128.size a) ∧
  (∀ a, (k0_off1018 v7207) a + S1x1x1x128.size a ≤ S1x33344x1x128.size a)
theorem k0_off1017_inb : ∀ (v7207 : BitVec 32) (k0_hw509 : k0_chk509 v7207), ∀ a, (k0_off1017 v7207) a + S1x1x1x128.size a ≤ S1x33344x1x128.size a := fun v7207 k0_hw509 => k0_hw509.1
theorem k0_off1018_inb : ∀ (v7207 : BitVec 32) (k0_hw509 : k0_chk509 v7207), ∀ a, (k0_off1018 v7207) a + S1x1x1x128.size a ≤ S1x33344x1x128.size a := fun v7207 k0_hw509 => k0_hw509.2

def k0_off1019 (v7221 : BitVec 32) : Fin 4 → Nat :=
  let c0_7051 : Index := 0#32
  let v7222 : Index := Scalar.indexCast v7221
  let c0_7052 : Index := 0#32
  let c0_7053 : Index := 0#32
  ![0, v7222.toNat, 0, 0]

def k0_off1020 (v7221 : BitVec 32) : Fin 4 → Nat :=
  let c0_7057 : Index := 0#32
  let c1_i32_7056 : BitVec 32 := 1#32
  let v7228 : BitVec 32 := Scalar.addi v7221 c1_i32_7056
  let v7229 : Index := Scalar.indexCast v7228
  let c0_7058 : Index := 0#32
  let c0_7059 : Index := 0#32
  ![0, v7229.toNat, 0, 0]

def k0_chk510 (v7221 : BitVec 32) : Prop :=
  (∀ a, (k0_off1019 v7221) a + S1x1x1x128.size a ≤ S1x33344x1x128.size a) ∧
  (∀ a, (k0_off1020 v7221) a + S1x1x1x128.size a ≤ S1x33344x1x128.size a)
theorem k0_off1019_inb : ∀ (v7221 : BitVec 32) (k0_hw510 : k0_chk510 v7221), ∀ a, (k0_off1019 v7221) a + S1x1x1x128.size a ≤ S1x33344x1x128.size a := fun v7221 k0_hw510 => k0_hw510.1
theorem k0_off1020_inb : ∀ (v7221 : BitVec 32) (k0_hw510 : k0_chk510 v7221), ∀ a, (k0_off1020 v7221) a + S1x1x1x128.size a ≤ S1x33344x1x128.size a := fun v7221 k0_hw510 => k0_hw510.2

def k0_off1021 (v7235 : BitVec 32) : Fin 4 → Nat :=
  let c0_7065 : Index := 0#32
  let v7236 : Index := Scalar.indexCast v7235
  let c0_7066 : Index := 0#32
  let c0_7067 : Index := 0#32
  ![0, v7236.toNat, 0, 0]

def k0_off1022 (v7235 : BitVec 32) : Fin 4 → Nat :=
  let c0_7071 : Index := 0#32
  let c1_i32_7070 : BitVec 32 := 1#32
  let v7242 : BitVec 32 := Scalar.addi v7235 c1_i32_7070
  let v7243 : Index := Scalar.indexCast v7242
  let c0_7072 : Index := 0#32
  let c0_7073 : Index := 0#32
  ![0, v7243.toNat, 0, 0]

def k0_chk511 (v7235 : BitVec 32) : Prop :=
  (∀ a, (k0_off1021 v7235) a + S1x1x1x128.size a ≤ S1x33344x1x128.size a) ∧
  (∀ a, (k0_off1022 v7235) a + S1x1x1x128.size a ≤ S1x33344x1x128.size a)
theorem k0_off1021_inb : ∀ (v7235 : BitVec 32) (k0_hw511 : k0_chk511 v7235), ∀ a, (k0_off1021 v7235) a + S1x1x1x128.size a ≤ S1x33344x1x128.size a := fun v7235 k0_hw511 => k0_hw511.1
theorem k0_off1022_inb : ∀ (v7235 : BitVec 32) (k0_hw511 : k0_chk511 v7235), ∀ a, (k0_off1022 v7235) a + S1x1x1x128.size a ≤ S1x33344x1x128.size a := fun v7235 k0_hw511 => k0_hw511.2

def k0_off1023 (v7249 : BitVec 32) : Fin 4 → Nat :=
  let c0_7079 : Index := 0#32
  let v7250 : Index := Scalar.indexCast v7249
  let c0_7080 : Index := 0#32
  let c0_7081 : Index := 0#32
  ![0, v7250.toNat, 0, 0]

def k0_off1024 (v7249 : BitVec 32) : Fin 4 → Nat :=
  let c0_7085 : Index := 0#32
  let c1_i32_7084 : BitVec 32 := 1#32
  let v7256 : BitVec 32 := Scalar.addi v7249 c1_i32_7084
  let v7257 : Index := Scalar.indexCast v7256
  let c0_7086 : Index := 0#32
  let c0_7087 : Index := 0#32
  ![0, v7257.toNat, 0, 0]

def k0_chk512 (v7249 : BitVec 32) : Prop :=
  (∀ a, (k0_off1023 v7249) a + S1x1x1x128.size a ≤ S1x33344x1x128.size a) ∧
  (∀ a, (k0_off1024 v7249) a + S1x1x1x128.size a ≤ S1x33344x1x128.size a)
theorem k0_off1023_inb : ∀ (v7249 : BitVec 32) (k0_hw512 : k0_chk512 v7249), ∀ a, (k0_off1023 v7249) a + S1x1x1x128.size a ≤ S1x33344x1x128.size a := fun v7249 k0_hw512 => k0_hw512.1
theorem k0_off1024_inb : ∀ (v7249 : BitVec 32) (k0_hw512 : k0_chk512 v7249), ∀ a, (k0_off1024 v7249) a + S1x1x1x128.size a ≤ S1x33344x1x128.size a := fun v7249 k0_hw512 => k0_hw512.2

def k0_off1025 (v7292 : BitVec 32) : Fin 4 → Nat :=
  let c0_7106 : Index := 0#32
  let v7293 : Index := Scalar.indexCast v7292
  let c0_7107 : Index := 0#32
  let c0_7108 : Index := 0#32
  ![0, v7293.toNat, 0, 0]

def k0_off1026 (v7292 : BitVec 32) : Fin 4 → Nat :=
  let c0_7112 : Index := 0#32
  let c1_i32_7111 : BitVec 32 := 1#32
  let v7299 : BitVec 32 := Scalar.addi v7292 c1_i32_7111
  let v7300 : Index := Scalar.indexCast v7299
  let c0_7113 : Index := 0#32
  let c0_7114 : Index := 0#32
  ![0, v7300.toNat, 0, 0]

def k0_chk513 (v7292 : BitVec 32) : Prop :=
  (∀ a, (k0_off1025 v7292) a + S1x1x1x128.size a ≤ S1x33344x1x128.size a) ∧
  (∀ a, (k0_off1026 v7292) a + S1x1x1x128.size a ≤ S1x33344x1x128.size a)
theorem k0_off1025_inb : ∀ (v7292 : BitVec 32) (k0_hw513 : k0_chk513 v7292), ∀ a, (k0_off1025 v7292) a + S1x1x1x128.size a ≤ S1x33344x1x128.size a := fun v7292 k0_hw513 => k0_hw513.1
theorem k0_off1026_inb : ∀ (v7292 : BitVec 32) (k0_hw513 : k0_chk513 v7292), ∀ a, (k0_off1026 v7292) a + S1x1x1x128.size a ≤ S1x33344x1x128.size a := fun v7292 k0_hw513 => k0_hw513.2

def k0_off1027 (v7306 : BitVec 32) : Fin 4 → Nat :=
  let c0_7120 : Index := 0#32
  let v7307 : Index := Scalar.indexCast v7306
  let c0_7121 : Index := 0#32
  let c0_7122 : Index := 0#32
  ![0, v7307.toNat, 0, 0]

def k0_off1028 (v7306 : BitVec 32) : Fin 4 → Nat :=
  let c0_7126 : Index := 0#32
  let c1_i32_7125 : BitVec 32 := 1#32
  let v7313 : BitVec 32 := Scalar.addi v7306 c1_i32_7125
  let v7314 : Index := Scalar.indexCast v7313
  let c0_7127 : Index := 0#32
  let c0_7128 : Index := 0#32
  ![0, v7314.toNat, 0, 0]

def k0_chk514 (v7306 : BitVec 32) : Prop :=
  (∀ a, (k0_off1027 v7306) a + S1x1x1x128.size a ≤ S1x33344x1x128.size a) ∧
  (∀ a, (k0_off1028 v7306) a + S1x1x1x128.size a ≤ S1x33344x1x128.size a)
theorem k0_off1027_inb : ∀ (v7306 : BitVec 32) (k0_hw514 : k0_chk514 v7306), ∀ a, (k0_off1027 v7306) a + S1x1x1x128.size a ≤ S1x33344x1x128.size a := fun v7306 k0_hw514 => k0_hw514.1
theorem k0_off1028_inb : ∀ (v7306 : BitVec 32) (k0_hw514 : k0_chk514 v7306), ∀ a, (k0_off1028 v7306) a + S1x1x1x128.size a ≤ S1x33344x1x128.size a := fun v7306 k0_hw514 => k0_hw514.2

def k0_off1029 (v7320 : BitVec 32) : Fin 4 → Nat :=
  let c0_7134 : Index := 0#32
  let v7321 : Index := Scalar.indexCast v7320
  let c0_7135 : Index := 0#32
  let c0_7136 : Index := 0#32
  ![0, v7321.toNat, 0, 0]

def k0_off1030 (v7320 : BitVec 32) : Fin 4 → Nat :=
  let c0_7140 : Index := 0#32
  let c1_i32_7139 : BitVec 32 := 1#32
  let v7327 : BitVec 32 := Scalar.addi v7320 c1_i32_7139
  let v7328 : Index := Scalar.indexCast v7327
  let c0_7141 : Index := 0#32
  let c0_7142 : Index := 0#32
  ![0, v7328.toNat, 0, 0]

def k0_chk515 (v7320 : BitVec 32) : Prop :=
  (∀ a, (k0_off1029 v7320) a + S1x1x1x128.size a ≤ S1x33344x1x128.size a) ∧
  (∀ a, (k0_off1030 v7320) a + S1x1x1x128.size a ≤ S1x33344x1x128.size a)
theorem k0_off1029_inb : ∀ (v7320 : BitVec 32) (k0_hw515 : k0_chk515 v7320), ∀ a, (k0_off1029 v7320) a + S1x1x1x128.size a ≤ S1x33344x1x128.size a := fun v7320 k0_hw515 => k0_hw515.1
theorem k0_off1030_inb : ∀ (v7320 : BitVec 32) (k0_hw515 : k0_chk515 v7320), ∀ a, (k0_off1030 v7320) a + S1x1x1x128.size a ≤ S1x33344x1x128.size a := fun v7320 k0_hw515 => k0_hw515.2

def k0_off1031 (v7334 : BitVec 32) : Fin 4 → Nat :=
  let c0_7148 : Index := 0#32
  let v7335 : Index := Scalar.indexCast v7334
  let c0_7149 : Index := 0#32
  let c0_7150 : Index := 0#32
  ![0, v7335.toNat, 0, 0]

def k0_off1032 (v7334 : BitVec 32) : Fin 4 → Nat :=
  let c0_7154 : Index := 0#32
  let c1_i32_7153 : BitVec 32 := 1#32
  let v7341 : BitVec 32 := Scalar.addi v7334 c1_i32_7153
  let v7342 : Index := Scalar.indexCast v7341
  let c0_7155 : Index := 0#32
  let c0_7156 : Index := 0#32
  ![0, v7342.toNat, 0, 0]

def k0_chk516 (v7334 : BitVec 32) : Prop :=
  (∀ a, (k0_off1031 v7334) a + S1x1x1x128.size a ≤ S1x33344x1x128.size a) ∧
  (∀ a, (k0_off1032 v7334) a + S1x1x1x128.size a ≤ S1x33344x1x128.size a)
theorem k0_off1031_inb : ∀ (v7334 : BitVec 32) (k0_hw516 : k0_chk516 v7334), ∀ a, (k0_off1031 v7334) a + S1x1x1x128.size a ≤ S1x33344x1x128.size a := fun v7334 k0_hw516 => k0_hw516.1
theorem k0_off1032_inb : ∀ (v7334 : BitVec 32) (k0_hw516 : k0_chk516 v7334), ∀ a, (k0_off1032 v7334) a + S1x1x1x128.size a ≤ S1x33344x1x128.size a := fun v7334 k0_hw516 => k0_hw516.2

def k0_off1033 (v7348 : BitVec 32) : Fin 4 → Nat :=
  let c0_7162 : Index := 0#32
  let v7349 : Index := Scalar.indexCast v7348
  let c0_7163 : Index := 0#32
  let c0_7164 : Index := 0#32
  ![0, v7349.toNat, 0, 0]

def k0_off1034 (v7348 : BitVec 32) : Fin 4 → Nat :=
  let c0_7168 : Index := 0#32
  let c1_i32_7167 : BitVec 32 := 1#32
  let v7355 : BitVec 32 := Scalar.addi v7348 c1_i32_7167
  let v7356 : Index := Scalar.indexCast v7355
  let c0_7169 : Index := 0#32
  let c0_7170 : Index := 0#32
  ![0, v7356.toNat, 0, 0]

def k0_chk517 (v7348 : BitVec 32) : Prop :=
  (∀ a, (k0_off1033 v7348) a + S1x1x1x128.size a ≤ S1x33344x1x128.size a) ∧
  (∀ a, (k0_off1034 v7348) a + S1x1x1x128.size a ≤ S1x33344x1x128.size a)
theorem k0_off1033_inb : ∀ (v7348 : BitVec 32) (k0_hw517 : k0_chk517 v7348), ∀ a, (k0_off1033 v7348) a + S1x1x1x128.size a ≤ S1x33344x1x128.size a := fun v7348 k0_hw517 => k0_hw517.1
theorem k0_off1034_inb : ∀ (v7348 : BitVec 32) (k0_hw517 : k0_chk517 v7348), ∀ a, (k0_off1034 v7348) a + S1x1x1x128.size a ≤ S1x33344x1x128.size a := fun v7348 k0_hw517 => k0_hw517.2

def k0_off1035 (v7362 : BitVec 32) : Fin 4 → Nat :=
  let c0_7176 : Index := 0#32
  let v7363 : Index := Scalar.indexCast v7362
  let c0_7177 : Index := 0#32
  let c0_7178 : Index := 0#32
  ![0, v7363.toNat, 0, 0]

def k0_off1036 (v7362 : BitVec 32) : Fin 4 → Nat :=
  let c0_7182 : Index := 0#32
  let c1_i32_7181 : BitVec 32 := 1#32
  let v7369 : BitVec 32 := Scalar.addi v7362 c1_i32_7181
  let v7370 : Index := Scalar.indexCast v7369
  let c0_7183 : Index := 0#32
  let c0_7184 : Index := 0#32
  ![0, v7370.toNat, 0, 0]

def k0_chk518 (v7362 : BitVec 32) : Prop :=
  (∀ a, (k0_off1035 v7362) a + S1x1x1x128.size a ≤ S1x33344x1x128.size a) ∧
  (∀ a, (k0_off1036 v7362) a + S1x1x1x128.size a ≤ S1x33344x1x128.size a)
theorem k0_off1035_inb : ∀ (v7362 : BitVec 32) (k0_hw518 : k0_chk518 v7362), ∀ a, (k0_off1035 v7362) a + S1x1x1x128.size a ≤ S1x33344x1x128.size a := fun v7362 k0_hw518 => k0_hw518.1
theorem k0_off1036_inb : ∀ (v7362 : BitVec 32) (k0_hw518 : k0_chk518 v7362), ∀ a, (k0_off1036 v7362) a + S1x1x1x128.size a ≤ S1x33344x1x128.size a := fun v7362 k0_hw518 => k0_hw518.2

def k0_off1037 (v7376 : BitVec 32) : Fin 4 → Nat :=
  let c0_7190 : Index := 0#32
  let v7377 : Index := Scalar.indexCast v7376
  let c0_7191 : Index := 0#32
  let c0_7192 : Index := 0#32
  ![0, v7377.toNat, 0, 0]

def k0_off1038 (v7376 : BitVec 32) : Fin 4 → Nat :=
  let c0_7196 : Index := 0#32
  let c1_i32_7195 : BitVec 32 := 1#32
  let v7383 : BitVec 32 := Scalar.addi v7376 c1_i32_7195
  let v7384 : Index := Scalar.indexCast v7383
  let c0_7197 : Index := 0#32
  let c0_7198 : Index := 0#32
  ![0, v7384.toNat, 0, 0]

def k0_chk519 (v7376 : BitVec 32) : Prop :=
  (∀ a, (k0_off1037 v7376) a + S1x1x1x128.size a ≤ S1x33344x1x128.size a) ∧
  (∀ a, (k0_off1038 v7376) a + S1x1x1x128.size a ≤ S1x33344x1x128.size a)
theorem k0_off1037_inb : ∀ (v7376 : BitVec 32) (k0_hw519 : k0_chk519 v7376), ∀ a, (k0_off1037 v7376) a + S1x1x1x128.size a ≤ S1x33344x1x128.size a := fun v7376 k0_hw519 => k0_hw519.1
theorem k0_off1038_inb : ∀ (v7376 : BitVec 32) (k0_hw519 : k0_chk519 v7376), ∀ a, (k0_off1038 v7376) a + S1x1x1x128.size a ≤ S1x33344x1x128.size a := fun v7376 k0_hw519 => k0_hw519.2

def k0_off1039 (v7390 : BitVec 32) : Fin 4 → Nat :=
  let c0_7204 : Index := 0#32
  let v7391 : Index := Scalar.indexCast v7390
  let c0_7205 : Index := 0#32
  let c0_7206 : Index := 0#32
  ![0, v7391.toNat, 0, 0]

def k0_off1040 (v7390 : BitVec 32) : Fin 4 → Nat :=
  let c0_7210 : Index := 0#32
  let c1_i32_7209 : BitVec 32 := 1#32
  let v7397 : BitVec 32 := Scalar.addi v7390 c1_i32_7209
  let v7398 : Index := Scalar.indexCast v7397
  let c0_7211 : Index := 0#32
  let c0_7212 : Index := 0#32
  ![0, v7398.toNat, 0, 0]

def k0_chk520 (v7390 : BitVec 32) : Prop :=
  (∀ a, (k0_off1039 v7390) a + S1x1x1x128.size a ≤ S1x33344x1x128.size a) ∧
  (∀ a, (k0_off1040 v7390) a + S1x1x1x128.size a ≤ S1x33344x1x128.size a)
theorem k0_off1039_inb : ∀ (v7390 : BitVec 32) (k0_hw520 : k0_chk520 v7390), ∀ a, (k0_off1039 v7390) a + S1x1x1x128.size a ≤ S1x33344x1x128.size a := fun v7390 k0_hw520 => k0_hw520.1
theorem k0_off1040_inb : ∀ (v7390 : BitVec 32) (k0_hw520 : k0_chk520 v7390), ∀ a, (k0_off1040 v7390) a + S1x1x1x128.size a ≤ S1x33344x1x128.size a := fun v7390 k0_hw520 => k0_hw520.2

def k0_off1041 (v7404 : BitVec 32) : Fin 4 → Nat :=
  let c0_7218 : Index := 0#32
  let v7405 : Index := Scalar.indexCast v7404
  let c0_7219 : Index := 0#32
  let c0_7220 : Index := 0#32
  ![0, v7405.toNat, 0, 0]

def k0_off1042 (v7404 : BitVec 32) : Fin 4 → Nat :=
  let c0_7224 : Index := 0#32
  let c1_i32_7223 : BitVec 32 := 1#32
  let v7411 : BitVec 32 := Scalar.addi v7404 c1_i32_7223
  let v7412 : Index := Scalar.indexCast v7411
  let c0_7225 : Index := 0#32
  let c0_7226 : Index := 0#32
  ![0, v7412.toNat, 0, 0]

def k0_chk521 (v7404 : BitVec 32) : Prop :=
  (∀ a, (k0_off1041 v7404) a + S1x1x1x128.size a ≤ S1x33344x1x128.size a) ∧
  (∀ a, (k0_off1042 v7404) a + S1x1x1x128.size a ≤ S1x33344x1x128.size a)
theorem k0_off1041_inb : ∀ (v7404 : BitVec 32) (k0_hw521 : k0_chk521 v7404), ∀ a, (k0_off1041 v7404) a + S1x1x1x128.size a ≤ S1x33344x1x128.size a := fun v7404 k0_hw521 => k0_hw521.1
theorem k0_off1042_inb : ∀ (v7404 : BitVec 32) (k0_hw521 : k0_chk521 v7404), ∀ a, (k0_off1042 v7404) a + S1x1x1x128.size a ≤ S1x33344x1x128.size a := fun v7404 k0_hw521 => k0_hw521.2

def k0_off1043 (v7418 : BitVec 32) : Fin 4 → Nat :=
  let c0_7232 : Index := 0#32
  let v7419 : Index := Scalar.indexCast v7418
  let c0_7233 : Index := 0#32
  let c0_7234 : Index := 0#32
  ![0, v7419.toNat, 0, 0]

def k0_off1044 (v7418 : BitVec 32) : Fin 4 → Nat :=
  let c0_7238 : Index := 0#32
  let c1_i32_7237 : BitVec 32 := 1#32
  let v7425 : BitVec 32 := Scalar.addi v7418 c1_i32_7237
  let v7426 : Index := Scalar.indexCast v7425
  let c0_7239 : Index := 0#32
  let c0_7240 : Index := 0#32
  ![0, v7426.toNat, 0, 0]

def k0_chk522 (v7418 : BitVec 32) : Prop :=
  (∀ a, (k0_off1043 v7418) a + S1x1x1x128.size a ≤ S1x33344x1x128.size a) ∧
  (∀ a, (k0_off1044 v7418) a + S1x1x1x128.size a ≤ S1x33344x1x128.size a)
theorem k0_off1043_inb : ∀ (v7418 : BitVec 32) (k0_hw522 : k0_chk522 v7418), ∀ a, (k0_off1043 v7418) a + S1x1x1x128.size a ≤ S1x33344x1x128.size a := fun v7418 k0_hw522 => k0_hw522.1
theorem k0_off1044_inb : ∀ (v7418 : BitVec 32) (k0_hw522 : k0_chk522 v7418), ∀ a, (k0_off1044 v7418) a + S1x1x1x128.size a ≤ S1x33344x1x128.size a := fun v7418 k0_hw522 => k0_hw522.2

def k0_off1045 (v7432 : BitVec 32) : Fin 4 → Nat :=
  let c0_7246 : Index := 0#32
  let v7433 : Index := Scalar.indexCast v7432
  let c0_7247 : Index := 0#32
  let c0_7248 : Index := 0#32
  ![0, v7433.toNat, 0, 0]

def k0_off1046 (v7432 : BitVec 32) : Fin 4 → Nat :=
  let c0_7252 : Index := 0#32
  let c1_i32_7251 : BitVec 32 := 1#32
  let v7439 : BitVec 32 := Scalar.addi v7432 c1_i32_7251
  let v7440 : Index := Scalar.indexCast v7439
  let c0_7253 : Index := 0#32
  let c0_7254 : Index := 0#32
  ![0, v7440.toNat, 0, 0]

def k0_chk523 (v7432 : BitVec 32) : Prop :=
  (∀ a, (k0_off1045 v7432) a + S1x1x1x128.size a ≤ S1x33344x1x128.size a) ∧
  (∀ a, (k0_off1046 v7432) a + S1x1x1x128.size a ≤ S1x33344x1x128.size a)
theorem k0_off1045_inb : ∀ (v7432 : BitVec 32) (k0_hw523 : k0_chk523 v7432), ∀ a, (k0_off1045 v7432) a + S1x1x1x128.size a ≤ S1x33344x1x128.size a := fun v7432 k0_hw523 => k0_hw523.1
theorem k0_off1046_inb : ∀ (v7432 : BitVec 32) (k0_hw523 : k0_chk523 v7432), ∀ a, (k0_off1046 v7432) a + S1x1x1x128.size a ≤ S1x33344x1x128.size a := fun v7432 k0_hw523 => k0_hw523.2

def k0_off1047 (v7446 : BitVec 32) : Fin 4 → Nat :=
  let c0_7260 : Index := 0#32
  let v7447 : Index := Scalar.indexCast v7446
  let c0_7261 : Index := 0#32
  let c0_7262 : Index := 0#32
  ![0, v7447.toNat, 0, 0]

def k0_off1048 (v7446 : BitVec 32) : Fin 4 → Nat :=
  let c0_7266 : Index := 0#32
  let c1_i32_7265 : BitVec 32 := 1#32
  let v7453 : BitVec 32 := Scalar.addi v7446 c1_i32_7265
  let v7454 : Index := Scalar.indexCast v7453
  let c0_7267 : Index := 0#32
  let c0_7268 : Index := 0#32
  ![0, v7454.toNat, 0, 0]

def k0_chk524 (v7446 : BitVec 32) : Prop :=
  (∀ a, (k0_off1047 v7446) a + S1x1x1x128.size a ≤ S1x33344x1x128.size a) ∧
  (∀ a, (k0_off1048 v7446) a + S1x1x1x128.size a ≤ S1x33344x1x128.size a)
theorem k0_off1047_inb : ∀ (v7446 : BitVec 32) (k0_hw524 : k0_chk524 v7446), ∀ a, (k0_off1047 v7446) a + S1x1x1x128.size a ≤ S1x33344x1x128.size a := fun v7446 k0_hw524 => k0_hw524.1
theorem k0_off1048_inb : ∀ (v7446 : BitVec 32) (k0_hw524 : k0_chk524 v7446), ∀ a, (k0_off1048 v7446) a + S1x1x1x128.size a ≤ S1x33344x1x128.size a := fun v7446 k0_hw524 => k0_hw524.2

def k0_off1049 (v7460 : BitVec 32) : Fin 4 → Nat :=
  let c0_7274 : Index := 0#32
  let v7461 : Index := Scalar.indexCast v7460
  let c0_7275 : Index := 0#32
  let c0_7276 : Index := 0#32
  ![0, v7461.toNat, 0, 0]

def k0_off1050 (v7460 : BitVec 32) : Fin 4 → Nat :=
  let c0_7280 : Index := 0#32
  let c1_i32_7279 : BitVec 32 := 1#32
  let v7467 : BitVec 32 := Scalar.addi v7460 c1_i32_7279
  let v7468 : Index := Scalar.indexCast v7467
  let c0_7281 : Index := 0#32
  let c0_7282 : Index := 0#32
  ![0, v7468.toNat, 0, 0]

def k0_chk525 (v7460 : BitVec 32) : Prop :=
  (∀ a, (k0_off1049 v7460) a + S1x1x1x128.size a ≤ S1x33344x1x128.size a) ∧
  (∀ a, (k0_off1050 v7460) a + S1x1x1x128.size a ≤ S1x33344x1x128.size a)
theorem k0_off1049_inb : ∀ (v7460 : BitVec 32) (k0_hw525 : k0_chk525 v7460), ∀ a, (k0_off1049 v7460) a + S1x1x1x128.size a ≤ S1x33344x1x128.size a := fun v7460 k0_hw525 => k0_hw525.1
theorem k0_off1050_inb : ∀ (v7460 : BitVec 32) (k0_hw525 : k0_chk525 v7460), ∀ a, (k0_off1050 v7460) a + S1x1x1x128.size a ≤ S1x33344x1x128.size a := fun v7460 k0_hw525 => k0_hw525.2

def k0_off1051 (v7474 : BitVec 32) : Fin 4 → Nat :=
  let c0_7288 : Index := 0#32
  let v7475 : Index := Scalar.indexCast v7474
  let c0_7289 : Index := 0#32
  let c0_7290 : Index := 0#32
  ![0, v7475.toNat, 0, 0]

def k0_off1052 (v7474 : BitVec 32) : Fin 4 → Nat :=
  let c0_7294 : Index := 0#32
  let c1_i32_7293 : BitVec 32 := 1#32
  let v7481 : BitVec 32 := Scalar.addi v7474 c1_i32_7293
  let v7482 : Index := Scalar.indexCast v7481
  let c0_7295 : Index := 0#32
  let c0_7296 : Index := 0#32
  ![0, v7482.toNat, 0, 0]

def k0_chk526 (v7474 : BitVec 32) : Prop :=
  (∀ a, (k0_off1051 v7474) a + S1x1x1x128.size a ≤ S1x33344x1x128.size a) ∧
  (∀ a, (k0_off1052 v7474) a + S1x1x1x128.size a ≤ S1x33344x1x128.size a)
theorem k0_off1051_inb : ∀ (v7474 : BitVec 32) (k0_hw526 : k0_chk526 v7474), ∀ a, (k0_off1051 v7474) a + S1x1x1x128.size a ≤ S1x33344x1x128.size a := fun v7474 k0_hw526 => k0_hw526.1
theorem k0_off1052_inb : ∀ (v7474 : BitVec 32) (k0_hw526 : k0_chk526 v7474), ∀ a, (k0_off1052 v7474) a + S1x1x1x128.size a ≤ S1x33344x1x128.size a := fun v7474 k0_hw526 => k0_hw526.2

def k0_off1053 (v7488 : BitVec 32) : Fin 4 → Nat :=
  let c0_7302 : Index := 0#32
  let v7489 : Index := Scalar.indexCast v7488
  let c0_7303 : Index := 0#32
  let c0_7304 : Index := 0#32
  ![0, v7489.toNat, 0, 0]

def k0_off1054 (v7488 : BitVec 32) : Fin 4 → Nat :=
  let c0_7308 : Index := 0#32
  let c1_i32_7307 : BitVec 32 := 1#32
  let v7495 : BitVec 32 := Scalar.addi v7488 c1_i32_7307
  let v7496 : Index := Scalar.indexCast v7495
  let c0_7309 : Index := 0#32
  let c0_7310 : Index := 0#32
  ![0, v7496.toNat, 0, 0]

def k0_chk527 (v7488 : BitVec 32) : Prop :=
  (∀ a, (k0_off1053 v7488) a + S1x1x1x128.size a ≤ S1x33344x1x128.size a) ∧
  (∀ a, (k0_off1054 v7488) a + S1x1x1x128.size a ≤ S1x33344x1x128.size a)
theorem k0_off1053_inb : ∀ (v7488 : BitVec 32) (k0_hw527 : k0_chk527 v7488), ∀ a, (k0_off1053 v7488) a + S1x1x1x128.size a ≤ S1x33344x1x128.size a := fun v7488 k0_hw527 => k0_hw527.1
theorem k0_off1054_inb : ∀ (v7488 : BitVec 32) (k0_hw527 : k0_chk527 v7488), ∀ a, (k0_off1054 v7488) a + S1x1x1x128.size a ≤ S1x33344x1x128.size a := fun v7488 k0_hw527 => k0_hw527.2

def k0_off1055 (v7502 : BitVec 32) : Fin 4 → Nat :=
  let c0_7316 : Index := 0#32
  let v7503 : Index := Scalar.indexCast v7502
  let c0_7317 : Index := 0#32
  let c0_7318 : Index := 0#32
  ![0, v7503.toNat, 0, 0]

def k0_off1056 (v7502 : BitVec 32) : Fin 4 → Nat :=
  let c0_7322 : Index := 0#32
  let c1_i32_7321 : BitVec 32 := 1#32
  let v7509 : BitVec 32 := Scalar.addi v7502 c1_i32_7321
  let v7510 : Index := Scalar.indexCast v7509
  let c0_7323 : Index := 0#32
  let c0_7324 : Index := 0#32
  ![0, v7510.toNat, 0, 0]

def k0_chk528 (v7502 : BitVec 32) : Prop :=
  (∀ a, (k0_off1055 v7502) a + S1x1x1x128.size a ≤ S1x33344x1x128.size a) ∧
  (∀ a, (k0_off1056 v7502) a + S1x1x1x128.size a ≤ S1x33344x1x128.size a)
theorem k0_off1055_inb : ∀ (v7502 : BitVec 32) (k0_hw528 : k0_chk528 v7502), ∀ a, (k0_off1055 v7502) a + S1x1x1x128.size a ≤ S1x33344x1x128.size a := fun v7502 k0_hw528 => k0_hw528.1
theorem k0_off1056_inb : ∀ (v7502 : BitVec 32) (k0_hw528 : k0_chk528 v7502), ∀ a, (k0_off1056 v7502) a + S1x1x1x128.size a ≤ S1x33344x1x128.size a := fun v7502 k0_hw528 => k0_hw528.2

def k0_off1057 (v7516 : BitVec 32) : Fin 4 → Nat :=
  let c0_7330 : Index := 0#32
  let v7517 : Index := Scalar.indexCast v7516
  let c0_7331 : Index := 0#32
  let c0_7332 : Index := 0#32
  ![0, v7517.toNat, 0, 0]

def k0_off1058 (v7516 : BitVec 32) : Fin 4 → Nat :=
  let c0_7336 : Index := 0#32
  let c1_i32_7335 : BitVec 32 := 1#32
  let v7523 : BitVec 32 := Scalar.addi v7516 c1_i32_7335
  let v7524 : Index := Scalar.indexCast v7523
  let c0_7337 : Index := 0#32
  let c0_7338 : Index := 0#32
  ![0, v7524.toNat, 0, 0]

def k0_chk529 (v7516 : BitVec 32) : Prop :=
  (∀ a, (k0_off1057 v7516) a + S1x1x1x128.size a ≤ S1x33344x1x128.size a) ∧
  (∀ a, (k0_off1058 v7516) a + S1x1x1x128.size a ≤ S1x33344x1x128.size a)
theorem k0_off1057_inb : ∀ (v7516 : BitVec 32) (k0_hw529 : k0_chk529 v7516), ∀ a, (k0_off1057 v7516) a + S1x1x1x128.size a ≤ S1x33344x1x128.size a := fun v7516 k0_hw529 => k0_hw529.1
theorem k0_off1058_inb : ∀ (v7516 : BitVec 32) (k0_hw529 : k0_chk529 v7516), ∀ a, (k0_off1058 v7516) a + S1x1x1x128.size a ≤ S1x33344x1x128.size a := fun v7516 k0_hw529 => k0_hw529.2

def k0_off1059 (v7530 : BitVec 32) : Fin 4 → Nat :=
  let c0_7344 : Index := 0#32
  let v7531 : Index := Scalar.indexCast v7530
  let c0_7345 : Index := 0#32
  let c0_7346 : Index := 0#32
  ![0, v7531.toNat, 0, 0]

def k0_off1060 (v7530 : BitVec 32) : Fin 4 → Nat :=
  let c0_7350 : Index := 0#32
  let c1_i32_7349 : BitVec 32 := 1#32
  let v7537 : BitVec 32 := Scalar.addi v7530 c1_i32_7349
  let v7538 : Index := Scalar.indexCast v7537
  let c0_7351 : Index := 0#32
  let c0_7352 : Index := 0#32
  ![0, v7538.toNat, 0, 0]

def k0_chk530 (v7530 : BitVec 32) : Prop :=
  (∀ a, (k0_off1059 v7530) a + S1x1x1x128.size a ≤ S1x33344x1x128.size a) ∧
  (∀ a, (k0_off1060 v7530) a + S1x1x1x128.size a ≤ S1x33344x1x128.size a)
theorem k0_off1059_inb : ∀ (v7530 : BitVec 32) (k0_hw530 : k0_chk530 v7530), ∀ a, (k0_off1059 v7530) a + S1x1x1x128.size a ≤ S1x33344x1x128.size a := fun v7530 k0_hw530 => k0_hw530.1
theorem k0_off1060_inb : ∀ (v7530 : BitVec 32) (k0_hw530 : k0_chk530 v7530), ∀ a, (k0_off1060 v7530) a + S1x1x1x128.size a ≤ S1x33344x1x128.size a := fun v7530 k0_hw530 => k0_hw530.2

def k0_off1061 (v7544 : BitVec 32) : Fin 4 → Nat :=
  let c0_7358 : Index := 0#32
  let v7545 : Index := Scalar.indexCast v7544
  let c0_7359 : Index := 0#32
  let c0_7360 : Index := 0#32
  ![0, v7545.toNat, 0, 0]

def k0_off1062 (v7544 : BitVec 32) : Fin 4 → Nat :=
  let c0_7364 : Index := 0#32
  let c1_i32_7363 : BitVec 32 := 1#32
  let v7551 : BitVec 32 := Scalar.addi v7544 c1_i32_7363
  let v7552 : Index := Scalar.indexCast v7551
  let c0_7365 : Index := 0#32
  let c0_7366 : Index := 0#32
  ![0, v7552.toNat, 0, 0]

def k0_chk531 (v7544 : BitVec 32) : Prop :=
  (∀ a, (k0_off1061 v7544) a + S1x1x1x128.size a ≤ S1x33344x1x128.size a) ∧
  (∀ a, (k0_off1062 v7544) a + S1x1x1x128.size a ≤ S1x33344x1x128.size a)
theorem k0_off1061_inb : ∀ (v7544 : BitVec 32) (k0_hw531 : k0_chk531 v7544), ∀ a, (k0_off1061 v7544) a + S1x1x1x128.size a ≤ S1x33344x1x128.size a := fun v7544 k0_hw531 => k0_hw531.1
theorem k0_off1062_inb : ∀ (v7544 : BitVec 32) (k0_hw531 : k0_chk531 v7544), ∀ a, (k0_off1062 v7544) a + S1x1x1x128.size a ≤ S1x33344x1x128.size a := fun v7544 k0_hw531 => k0_hw531.2

def k0_off1063 (v7558 : BitVec 32) : Fin 4 → Nat :=
  let c0_7372 : Index := 0#32
  let v7559 : Index := Scalar.indexCast v7558
  let c0_7373 : Index := 0#32
  let c0_7374 : Index := 0#32
  ![0, v7559.toNat, 0, 0]

def k0_off1064 (v7558 : BitVec 32) : Fin 4 → Nat :=
  let c0_7378 : Index := 0#32
  let c1_i32_7377 : BitVec 32 := 1#32
  let v7565 : BitVec 32 := Scalar.addi v7558 c1_i32_7377
  let v7566 : Index := Scalar.indexCast v7565
  let c0_7379 : Index := 0#32
  let c0_7380 : Index := 0#32
  ![0, v7566.toNat, 0, 0]

def k0_chk532 (v7558 : BitVec 32) : Prop :=
  (∀ a, (k0_off1063 v7558) a + S1x1x1x128.size a ≤ S1x33344x1x128.size a) ∧
  (∀ a, (k0_off1064 v7558) a + S1x1x1x128.size a ≤ S1x33344x1x128.size a)
theorem k0_off1063_inb : ∀ (v7558 : BitVec 32) (k0_hw532 : k0_chk532 v7558), ∀ a, (k0_off1063 v7558) a + S1x1x1x128.size a ≤ S1x33344x1x128.size a := fun v7558 k0_hw532 => k0_hw532.1
theorem k0_off1064_inb : ∀ (v7558 : BitVec 32) (k0_hw532 : k0_chk532 v7558), ∀ a, (k0_off1064 v7558) a + S1x1x1x128.size a ≤ S1x33344x1x128.size a := fun v7558 k0_hw532 => k0_hw532.2

def k0_off1065 (v7572 : BitVec 32) : Fin 4 → Nat :=
  let c0_7386 : Index := 0#32
  let v7573 : Index := Scalar.indexCast v7572
  let c0_7387 : Index := 0#32
  let c0_7388 : Index := 0#32
  ![0, v7573.toNat, 0, 0]

def k0_off1066 (v7572 : BitVec 32) : Fin 4 → Nat :=
  let c0_7392 : Index := 0#32
  let c1_i32_7391 : BitVec 32 := 1#32
  let v7579 : BitVec 32 := Scalar.addi v7572 c1_i32_7391
  let v7580 : Index := Scalar.indexCast v7579
  let c0_7393 : Index := 0#32
  let c0_7394 : Index := 0#32
  ![0, v7580.toNat, 0, 0]

def k0_chk533 (v7572 : BitVec 32) : Prop :=
  (∀ a, (k0_off1065 v7572) a + S1x1x1x128.size a ≤ S1x33344x1x128.size a) ∧
  (∀ a, (k0_off1066 v7572) a + S1x1x1x128.size a ≤ S1x33344x1x128.size a)
theorem k0_off1065_inb : ∀ (v7572 : BitVec 32) (k0_hw533 : k0_chk533 v7572), ∀ a, (k0_off1065 v7572) a + S1x1x1x128.size a ≤ S1x33344x1x128.size a := fun v7572 k0_hw533 => k0_hw533.1
theorem k0_off1066_inb : ∀ (v7572 : BitVec 32) (k0_hw533 : k0_chk533 v7572), ∀ a, (k0_off1066 v7572) a + S1x1x1x128.size a ≤ S1x33344x1x128.size a := fun v7572 k0_hw533 => k0_hw533.2

def k0_off1067 (v7586 : BitVec 32) : Fin 4 → Nat :=
  let c0_7400 : Index := 0#32
  let v7587 : Index := Scalar.indexCast v7586
  let c0_7401 : Index := 0#32
  let c0_7402 : Index := 0#32
  ![0, v7587.toNat, 0, 0]

def k0_off1068 (v7586 : BitVec 32) : Fin 4 → Nat :=
  let c0_7406 : Index := 0#32
  let c1_i32_7405 : BitVec 32 := 1#32
  let v7593 : BitVec 32 := Scalar.addi v7586 c1_i32_7405
  let v7594 : Index := Scalar.indexCast v7593
  let c0_7407 : Index := 0#32
  let c0_7408 : Index := 0#32
  ![0, v7594.toNat, 0, 0]

def k0_chk534 (v7586 : BitVec 32) : Prop :=
  (∀ a, (k0_off1067 v7586) a + S1x1x1x128.size a ≤ S1x33344x1x128.size a) ∧
  (∀ a, (k0_off1068 v7586) a + S1x1x1x128.size a ≤ S1x33344x1x128.size a)
theorem k0_off1067_inb : ∀ (v7586 : BitVec 32) (k0_hw534 : k0_chk534 v7586), ∀ a, (k0_off1067 v7586) a + S1x1x1x128.size a ≤ S1x33344x1x128.size a := fun v7586 k0_hw534 => k0_hw534.1
theorem k0_off1068_inb : ∀ (v7586 : BitVec 32) (k0_hw534 : k0_chk534 v7586), ∀ a, (k0_off1068 v7586) a + S1x1x1x128.size a ≤ S1x33344x1x128.size a := fun v7586 k0_hw534 => k0_hw534.2

def k0_off1069 (v7600 : BitVec 32) : Fin 4 → Nat :=
  let c0_7414 : Index := 0#32
  let v7601 : Index := Scalar.indexCast v7600
  let c0_7415 : Index := 0#32
  let c0_7416 : Index := 0#32
  ![0, v7601.toNat, 0, 0]

def k0_off1070 (v7600 : BitVec 32) : Fin 4 → Nat :=
  let c0_7420 : Index := 0#32
  let c1_i32_7419 : BitVec 32 := 1#32
  let v7607 : BitVec 32 := Scalar.addi v7600 c1_i32_7419
  let v7608 : Index := Scalar.indexCast v7607
  let c0_7421 : Index := 0#32
  let c0_7422 : Index := 0#32
  ![0, v7608.toNat, 0, 0]

def k0_chk535 (v7600 : BitVec 32) : Prop :=
  (∀ a, (k0_off1069 v7600) a + S1x1x1x128.size a ≤ S1x33344x1x128.size a) ∧
  (∀ a, (k0_off1070 v7600) a + S1x1x1x128.size a ≤ S1x33344x1x128.size a)
theorem k0_off1069_inb : ∀ (v7600 : BitVec 32) (k0_hw535 : k0_chk535 v7600), ∀ a, (k0_off1069 v7600) a + S1x1x1x128.size a ≤ S1x33344x1x128.size a := fun v7600 k0_hw535 => k0_hw535.1
theorem k0_off1070_inb : ∀ (v7600 : BitVec 32) (k0_hw535 : k0_chk535 v7600), ∀ a, (k0_off1070 v7600) a + S1x1x1x128.size a ≤ S1x33344x1x128.size a := fun v7600 k0_hw535 => k0_hw535.2

def k0_off1071 (v7614 : BitVec 32) : Fin 4 → Nat :=
  let c0_7428 : Index := 0#32
  let v7615 : Index := Scalar.indexCast v7614
  let c0_7429 : Index := 0#32
  let c0_7430 : Index := 0#32
  ![0, v7615.toNat, 0, 0]

def k0_off1072 (v7614 : BitVec 32) : Fin 4 → Nat :=
  let c0_7434 : Index := 0#32
  let c1_i32_7433 : BitVec 32 := 1#32
  let v7621 : BitVec 32 := Scalar.addi v7614 c1_i32_7433
  let v7622 : Index := Scalar.indexCast v7621
  let c0_7435 : Index := 0#32
  let c0_7436 : Index := 0#32
  ![0, v7622.toNat, 0, 0]

def k0_chk536 (v7614 : BitVec 32) : Prop :=
  (∀ a, (k0_off1071 v7614) a + S1x1x1x128.size a ≤ S1x33344x1x128.size a) ∧
  (∀ a, (k0_off1072 v7614) a + S1x1x1x128.size a ≤ S1x33344x1x128.size a)
theorem k0_off1071_inb : ∀ (v7614 : BitVec 32) (k0_hw536 : k0_chk536 v7614), ∀ a, (k0_off1071 v7614) a + S1x1x1x128.size a ≤ S1x33344x1x128.size a := fun v7614 k0_hw536 => k0_hw536.1
theorem k0_off1072_inb : ∀ (v7614 : BitVec 32) (k0_hw536 : k0_chk536 v7614), ∀ a, (k0_off1072 v7614) a + S1x1x1x128.size a ≤ S1x33344x1x128.size a := fun v7614 k0_hw536 => k0_hw536.2

def k0_off1073 (v7628 : BitVec 32) : Fin 4 → Nat :=
  let c0_7442 : Index := 0#32
  let v7629 : Index := Scalar.indexCast v7628
  let c0_7443 : Index := 0#32
  let c0_7444 : Index := 0#32
  ![0, v7629.toNat, 0, 0]

def k0_off1074 (v7628 : BitVec 32) : Fin 4 → Nat :=
  let c0_7448 : Index := 0#32
  let c1_i32_7447 : BitVec 32 := 1#32
  let v7635 : BitVec 32 := Scalar.addi v7628 c1_i32_7447
  let v7636 : Index := Scalar.indexCast v7635
  let c0_7449 : Index := 0#32
  let c0_7450 : Index := 0#32
  ![0, v7636.toNat, 0, 0]

def k0_chk537 (v7628 : BitVec 32) : Prop :=
  (∀ a, (k0_off1073 v7628) a + S1x1x1x128.size a ≤ S1x33344x1x128.size a) ∧
  (∀ a, (k0_off1074 v7628) a + S1x1x1x128.size a ≤ S1x33344x1x128.size a)
theorem k0_off1073_inb : ∀ (v7628 : BitVec 32) (k0_hw537 : k0_chk537 v7628), ∀ a, (k0_off1073 v7628) a + S1x1x1x128.size a ≤ S1x33344x1x128.size a := fun v7628 k0_hw537 => k0_hw537.1
theorem k0_off1074_inb : ∀ (v7628 : BitVec 32) (k0_hw537 : k0_chk537 v7628), ∀ a, (k0_off1074 v7628) a + S1x1x1x128.size a ≤ S1x33344x1x128.size a := fun v7628 k0_hw537 => k0_hw537.2

def k0_off1075 (v7642 : BitVec 32) : Fin 4 → Nat :=
  let c0_7456 : Index := 0#32
  let v7643 : Index := Scalar.indexCast v7642
  let c0_7457 : Index := 0#32
  let c0_7458 : Index := 0#32
  ![0, v7643.toNat, 0, 0]

def k0_off1076 (v7642 : BitVec 32) : Fin 4 → Nat :=
  let c0_7462 : Index := 0#32
  let c1_i32_7461 : BitVec 32 := 1#32
  let v7649 : BitVec 32 := Scalar.addi v7642 c1_i32_7461
  let v7650 : Index := Scalar.indexCast v7649
  let c0_7463 : Index := 0#32
  let c0_7464 : Index := 0#32
  ![0, v7650.toNat, 0, 0]

def k0_chk538 (v7642 : BitVec 32) : Prop :=
  (∀ a, (k0_off1075 v7642) a + S1x1x1x128.size a ≤ S1x33344x1x128.size a) ∧
  (∀ a, (k0_off1076 v7642) a + S1x1x1x128.size a ≤ S1x33344x1x128.size a)
theorem k0_off1075_inb : ∀ (v7642 : BitVec 32) (k0_hw538 : k0_chk538 v7642), ∀ a, (k0_off1075 v7642) a + S1x1x1x128.size a ≤ S1x33344x1x128.size a := fun v7642 k0_hw538 => k0_hw538.1
theorem k0_off1076_inb : ∀ (v7642 : BitVec 32) (k0_hw538 : k0_chk538 v7642), ∀ a, (k0_off1076 v7642) a + S1x1x1x128.size a ≤ S1x33344x1x128.size a := fun v7642 k0_hw538 => k0_hw538.2

def k0_off1077 (v7656 : BitVec 32) : Fin 4 → Nat :=
  let c0_7470 : Index := 0#32
  let v7657 : Index := Scalar.indexCast v7656
  let c0_7471 : Index := 0#32
  let c0_7472 : Index := 0#32
  ![0, v7657.toNat, 0, 0]

def k0_off1078 (v7656 : BitVec 32) : Fin 4 → Nat :=
  let c0_7476 : Index := 0#32
  let c1_i32_7475 : BitVec 32 := 1#32
  let v7663 : BitVec 32 := Scalar.addi v7656 c1_i32_7475
  let v7664 : Index := Scalar.indexCast v7663
  let c0_7477 : Index := 0#32
  let c0_7478 : Index := 0#32
  ![0, v7664.toNat, 0, 0]

def k0_chk539 (v7656 : BitVec 32) : Prop :=
  (∀ a, (k0_off1077 v7656) a + S1x1x1x128.size a ≤ S1x33344x1x128.size a) ∧
  (∀ a, (k0_off1078 v7656) a + S1x1x1x128.size a ≤ S1x33344x1x128.size a)
theorem k0_off1077_inb : ∀ (v7656 : BitVec 32) (k0_hw539 : k0_chk539 v7656), ∀ a, (k0_off1077 v7656) a + S1x1x1x128.size a ≤ S1x33344x1x128.size a := fun v7656 k0_hw539 => k0_hw539.1
theorem k0_off1078_inb : ∀ (v7656 : BitVec 32) (k0_hw539 : k0_chk539 v7656), ∀ a, (k0_off1078 v7656) a + S1x1x1x128.size a ≤ S1x33344x1x128.size a := fun v7656 k0_hw539 => k0_hw539.2

def k0_off1079 (v7670 : BitVec 32) : Fin 4 → Nat :=
  let c0_7484 : Index := 0#32
  let v7671 : Index := Scalar.indexCast v7670
  let c0_7485 : Index := 0#32
  let c0_7486 : Index := 0#32
  ![0, v7671.toNat, 0, 0]

def k0_off1080 (v7670 : BitVec 32) : Fin 4 → Nat :=
  let c0_7490 : Index := 0#32
  let c1_i32_7489 : BitVec 32 := 1#32
  let v7677 : BitVec 32 := Scalar.addi v7670 c1_i32_7489
  let v7678 : Index := Scalar.indexCast v7677
  let c0_7491 : Index := 0#32
  let c0_7492 : Index := 0#32
  ![0, v7678.toNat, 0, 0]

def k0_chk540 (v7670 : BitVec 32) : Prop :=
  (∀ a, (k0_off1079 v7670) a + S1x1x1x128.size a ≤ S1x33344x1x128.size a) ∧
  (∀ a, (k0_off1080 v7670) a + S1x1x1x128.size a ≤ S1x33344x1x128.size a)
theorem k0_off1079_inb : ∀ (v7670 : BitVec 32) (k0_hw540 : k0_chk540 v7670), ∀ a, (k0_off1079 v7670) a + S1x1x1x128.size a ≤ S1x33344x1x128.size a := fun v7670 k0_hw540 => k0_hw540.1
theorem k0_off1080_inb : ∀ (v7670 : BitVec 32) (k0_hw540 : k0_chk540 v7670), ∀ a, (k0_off1080 v7670) a + S1x1x1x128.size a ≤ S1x33344x1x128.size a := fun v7670 k0_hw540 => k0_hw540.2

def k0_off1081 (v7684 : BitVec 32) : Fin 4 → Nat :=
  let c0_7498 : Index := 0#32
  let v7685 : Index := Scalar.indexCast v7684
  let c0_7499 : Index := 0#32
  let c0_7500 : Index := 0#32
  ![0, v7685.toNat, 0, 0]

def k0_off1082 (v7684 : BitVec 32) : Fin 4 → Nat :=
  let c0_7504 : Index := 0#32
  let c1_i32_7503 : BitVec 32 := 1#32
  let v7691 : BitVec 32 := Scalar.addi v7684 c1_i32_7503
  let v7692 : Index := Scalar.indexCast v7691
  let c0_7505 : Index := 0#32
  let c0_7506 : Index := 0#32
  ![0, v7692.toNat, 0, 0]

def k0_chk541 (v7684 : BitVec 32) : Prop :=
  (∀ a, (k0_off1081 v7684) a + S1x1x1x128.size a ≤ S1x33344x1x128.size a) ∧
  (∀ a, (k0_off1082 v7684) a + S1x1x1x128.size a ≤ S1x33344x1x128.size a)
theorem k0_off1081_inb : ∀ (v7684 : BitVec 32) (k0_hw541 : k0_chk541 v7684), ∀ a, (k0_off1081 v7684) a + S1x1x1x128.size a ≤ S1x33344x1x128.size a := fun v7684 k0_hw541 => k0_hw541.1
theorem k0_off1082_inb : ∀ (v7684 : BitVec 32) (k0_hw541 : k0_chk541 v7684), ∀ a, (k0_off1082 v7684) a + S1x1x1x128.size a ≤ S1x33344x1x128.size a := fun v7684 k0_hw541 => k0_hw541.2

def k0_off1083 (v7698 : BitVec 32) : Fin 4 → Nat :=
  let c0_7512 : Index := 0#32
  let v7699 : Index := Scalar.indexCast v7698
  let c0_7513 : Index := 0#32
  let c0_7514 : Index := 0#32
  ![0, v7699.toNat, 0, 0]

def k0_off1084 (v7698 : BitVec 32) : Fin 4 → Nat :=
  let c0_7518 : Index := 0#32
  let c1_i32_7517 : BitVec 32 := 1#32
  let v7705 : BitVec 32 := Scalar.addi v7698 c1_i32_7517
  let v7706 : Index := Scalar.indexCast v7705
  let c0_7519 : Index := 0#32
  let c0_7520 : Index := 0#32
  ![0, v7706.toNat, 0, 0]

def k0_chk542 (v7698 : BitVec 32) : Prop :=
  (∀ a, (k0_off1083 v7698) a + S1x1x1x128.size a ≤ S1x33344x1x128.size a) ∧
  (∀ a, (k0_off1084 v7698) a + S1x1x1x128.size a ≤ S1x33344x1x128.size a)
theorem k0_off1083_inb : ∀ (v7698 : BitVec 32) (k0_hw542 : k0_chk542 v7698), ∀ a, (k0_off1083 v7698) a + S1x1x1x128.size a ≤ S1x33344x1x128.size a := fun v7698 k0_hw542 => k0_hw542.1
theorem k0_off1084_inb : ∀ (v7698 : BitVec 32) (k0_hw542 : k0_chk542 v7698), ∀ a, (k0_off1084 v7698) a + S1x1x1x128.size a ≤ S1x33344x1x128.size a := fun v7698 k0_hw542 => k0_hw542.2

def k0_off1085 (v7712 : BitVec 32) : Fin 4 → Nat :=
  let c0_7526 : Index := 0#32
  let v7713 : Index := Scalar.indexCast v7712
  let c0_7527 : Index := 0#32
  let c0_7528 : Index := 0#32
  ![0, v7713.toNat, 0, 0]

def k0_off1086 (v7712 : BitVec 32) : Fin 4 → Nat :=
  let c0_7532 : Index := 0#32
  let c1_i32_7531 : BitVec 32 := 1#32
  let v7719 : BitVec 32 := Scalar.addi v7712 c1_i32_7531
  let v7720 : Index := Scalar.indexCast v7719
  let c0_7533 : Index := 0#32
  let c0_7534 : Index := 0#32
  ![0, v7720.toNat, 0, 0]

def k0_chk543 (v7712 : BitVec 32) : Prop :=
  (∀ a, (k0_off1085 v7712) a + S1x1x1x128.size a ≤ S1x33344x1x128.size a) ∧
  (∀ a, (k0_off1086 v7712) a + S1x1x1x128.size a ≤ S1x33344x1x128.size a)
theorem k0_off1085_inb : ∀ (v7712 : BitVec 32) (k0_hw543 : k0_chk543 v7712), ∀ a, (k0_off1085 v7712) a + S1x1x1x128.size a ≤ S1x33344x1x128.size a := fun v7712 k0_hw543 => k0_hw543.1
theorem k0_off1086_inb : ∀ (v7712 : BitVec 32) (k0_hw543 : k0_chk543 v7712), ∀ a, (k0_off1086 v7712) a + S1x1x1x128.size a ≤ S1x33344x1x128.size a := fun v7712 k0_hw543 => k0_hw543.2

def k0_off1087 (v7726 : BitVec 32) : Fin 4 → Nat :=
  let c0_7540 : Index := 0#32
  let v7727 : Index := Scalar.indexCast v7726
  let c0_7541 : Index := 0#32
  let c0_7542 : Index := 0#32
  ![0, v7727.toNat, 0, 0]

def k0_off1088 (v7726 : BitVec 32) : Fin 4 → Nat :=
  let c0_7546 : Index := 0#32
  let c1_i32_7545 : BitVec 32 := 1#32
  let v7733 : BitVec 32 := Scalar.addi v7726 c1_i32_7545
  let v7734 : Index := Scalar.indexCast v7733
  let c0_7547 : Index := 0#32
  let c0_7548 : Index := 0#32
  ![0, v7734.toNat, 0, 0]

def k0_chk544 (v7726 : BitVec 32) : Prop :=
  (∀ a, (k0_off1087 v7726) a + S1x1x1x128.size a ≤ S1x33344x1x128.size a) ∧
  (∀ a, (k0_off1088 v7726) a + S1x1x1x128.size a ≤ S1x33344x1x128.size a)
theorem k0_off1087_inb : ∀ (v7726 : BitVec 32) (k0_hw544 : k0_chk544 v7726), ∀ a, (k0_off1087 v7726) a + S1x1x1x128.size a ≤ S1x33344x1x128.size a := fun v7726 k0_hw544 => k0_hw544.1
theorem k0_off1088_inb : ∀ (v7726 : BitVec 32) (k0_hw544 : k0_chk544 v7726), ∀ a, (k0_off1088 v7726) a + S1x1x1x128.size a ≤ S1x33344x1x128.size a := fun v7726 k0_hw544 => k0_hw544.2

def k0_off1089 (v7740 : BitVec 32) : Fin 4 → Nat :=
  let c0_7554 : Index := 0#32
  let v7741 : Index := Scalar.indexCast v7740
  let c0_7555 : Index := 0#32
  let c0_7556 : Index := 0#32
  ![0, v7741.toNat, 0, 0]

def k0_off1090 (v7740 : BitVec 32) : Fin 4 → Nat :=
  let c0_7560 : Index := 0#32
  let c1_i32_7559 : BitVec 32 := 1#32
  let v7747 : BitVec 32 := Scalar.addi v7740 c1_i32_7559
  let v7748 : Index := Scalar.indexCast v7747
  let c0_7561 : Index := 0#32
  let c0_7562 : Index := 0#32
  ![0, v7748.toNat, 0, 0]

def k0_chk545 (v7740 : BitVec 32) : Prop :=
  (∀ a, (k0_off1089 v7740) a + S1x1x1x128.size a ≤ S1x33344x1x128.size a) ∧
  (∀ a, (k0_off1090 v7740) a + S1x1x1x128.size a ≤ S1x33344x1x128.size a)
theorem k0_off1089_inb : ∀ (v7740 : BitVec 32) (k0_hw545 : k0_chk545 v7740), ∀ a, (k0_off1089 v7740) a + S1x1x1x128.size a ≤ S1x33344x1x128.size a := fun v7740 k0_hw545 => k0_hw545.1
theorem k0_off1090_inb : ∀ (v7740 : BitVec 32) (k0_hw545 : k0_chk545 v7740), ∀ a, (k0_off1090 v7740) a + S1x1x1x128.size a ≤ S1x33344x1x128.size a := fun v7740 k0_hw545 => k0_hw545.2

def k0_off1091 (v7754 : BitVec 32) : Fin 4 → Nat :=
  let c0_7568 : Index := 0#32
  let v7755 : Index := Scalar.indexCast v7754
  let c0_7569 : Index := 0#32
  let c0_7570 : Index := 0#32
  ![0, v7755.toNat, 0, 0]

def k0_off1092 (v7754 : BitVec 32) : Fin 4 → Nat :=
  let c0_7574 : Index := 0#32
  let c1_i32_7573 : BitVec 32 := 1#32
  let v7761 : BitVec 32 := Scalar.addi v7754 c1_i32_7573
  let v7762 : Index := Scalar.indexCast v7761
  let c0_7575 : Index := 0#32
  let c0_7576 : Index := 0#32
  ![0, v7762.toNat, 0, 0]

def k0_chk546 (v7754 : BitVec 32) : Prop :=
  (∀ a, (k0_off1091 v7754) a + S1x1x1x128.size a ≤ S1x33344x1x128.size a) ∧
  (∀ a, (k0_off1092 v7754) a + S1x1x1x128.size a ≤ S1x33344x1x128.size a)
theorem k0_off1091_inb : ∀ (v7754 : BitVec 32) (k0_hw546 : k0_chk546 v7754), ∀ a, (k0_off1091 v7754) a + S1x1x1x128.size a ≤ S1x33344x1x128.size a := fun v7754 k0_hw546 => k0_hw546.1
theorem k0_off1092_inb : ∀ (v7754 : BitVec 32) (k0_hw546 : k0_chk546 v7754), ∀ a, (k0_off1092 v7754) a + S1x1x1x128.size a ≤ S1x33344x1x128.size a := fun v7754 k0_hw546 => k0_hw546.2

def k0_off1093 (v7768 : BitVec 32) : Fin 4 → Nat :=
  let c0_7582 : Index := 0#32
  let v7769 : Index := Scalar.indexCast v7768
  let c0_7583 : Index := 0#32
  let c0_7584 : Index := 0#32
  ![0, v7769.toNat, 0, 0]

def k0_off1094 (v7768 : BitVec 32) : Fin 4 → Nat :=
  let c0_7588 : Index := 0#32
  let c1_i32_7587 : BitVec 32 := 1#32
  let v7775 : BitVec 32 := Scalar.addi v7768 c1_i32_7587
  let v7776 : Index := Scalar.indexCast v7775
  let c0_7589 : Index := 0#32
  let c0_7590 : Index := 0#32
  ![0, v7776.toNat, 0, 0]

def k0_chk547 (v7768 : BitVec 32) : Prop :=
  (∀ a, (k0_off1093 v7768) a + S1x1x1x128.size a ≤ S1x33344x1x128.size a) ∧
  (∀ a, (k0_off1094 v7768) a + S1x1x1x128.size a ≤ S1x33344x1x128.size a)
theorem k0_off1093_inb : ∀ (v7768 : BitVec 32) (k0_hw547 : k0_chk547 v7768), ∀ a, (k0_off1093 v7768) a + S1x1x1x128.size a ≤ S1x33344x1x128.size a := fun v7768 k0_hw547 => k0_hw547.1
theorem k0_off1094_inb : ∀ (v7768 : BitVec 32) (k0_hw547 : k0_chk547 v7768), ∀ a, (k0_off1094 v7768) a + S1x1x1x128.size a ≤ S1x33344x1x128.size a := fun v7768 k0_hw547 => k0_hw547.2

def k0_off1095 (v7782 : BitVec 32) : Fin 4 → Nat :=
  let c0_7596 : Index := 0#32
  let v7783 : Index := Scalar.indexCast v7782
  let c0_7597 : Index := 0#32
  let c0_7598 : Index := 0#32
  ![0, v7783.toNat, 0, 0]

def k0_off1096 (v7782 : BitVec 32) : Fin 4 → Nat :=
  let c0_7602 : Index := 0#32
  let c1_i32_7601 : BitVec 32 := 1#32
  let v7789 : BitVec 32 := Scalar.addi v7782 c1_i32_7601
  let v7790 : Index := Scalar.indexCast v7789
  let c0_7603 : Index := 0#32
  let c0_7604 : Index := 0#32
  ![0, v7790.toNat, 0, 0]

def k0_chk548 (v7782 : BitVec 32) : Prop :=
  (∀ a, (k0_off1095 v7782) a + S1x1x1x128.size a ≤ S1x33344x1x128.size a) ∧
  (∀ a, (k0_off1096 v7782) a + S1x1x1x128.size a ≤ S1x33344x1x128.size a)
theorem k0_off1095_inb : ∀ (v7782 : BitVec 32) (k0_hw548 : k0_chk548 v7782), ∀ a, (k0_off1095 v7782) a + S1x1x1x128.size a ≤ S1x33344x1x128.size a := fun v7782 k0_hw548 => k0_hw548.1
theorem k0_off1096_inb : ∀ (v7782 : BitVec 32) (k0_hw548 : k0_chk548 v7782), ∀ a, (k0_off1096 v7782) a + S1x1x1x128.size a ≤ S1x33344x1x128.size a := fun v7782 k0_hw548 => k0_hw548.2

def k0_off1097 (v7796 : BitVec 32) : Fin 4 → Nat :=
  let c0_7610 : Index := 0#32
  let v7797 : Index := Scalar.indexCast v7796
  let c0_7611 : Index := 0#32
  let c0_7612 : Index := 0#32
  ![0, v7797.toNat, 0, 0]

def k0_off1098 (v7796 : BitVec 32) : Fin 4 → Nat :=
  let c0_7616 : Index := 0#32
  let c1_i32_7615 : BitVec 32 := 1#32
  let v7803 : BitVec 32 := Scalar.addi v7796 c1_i32_7615
  let v7804 : Index := Scalar.indexCast v7803
  let c0_7617 : Index := 0#32
  let c0_7618 : Index := 0#32
  ![0, v7804.toNat, 0, 0]

def k0_chk549 (v7796 : BitVec 32) : Prop :=
  (∀ a, (k0_off1097 v7796) a + S1x1x1x128.size a ≤ S1x33344x1x128.size a) ∧
  (∀ a, (k0_off1098 v7796) a + S1x1x1x128.size a ≤ S1x33344x1x128.size a)
theorem k0_off1097_inb : ∀ (v7796 : BitVec 32) (k0_hw549 : k0_chk549 v7796), ∀ a, (k0_off1097 v7796) a + S1x1x1x128.size a ≤ S1x33344x1x128.size a := fun v7796 k0_hw549 => k0_hw549.1
theorem k0_off1098_inb : ∀ (v7796 : BitVec 32) (k0_hw549 : k0_chk549 v7796), ∀ a, (k0_off1098 v7796) a + S1x1x1x128.size a ≤ S1x33344x1x128.size a := fun v7796 k0_hw549 => k0_hw549.2

def k0_off1099 (v7810 : BitVec 32) : Fin 4 → Nat :=
  let c0_7624 : Index := 0#32
  let v7811 : Index := Scalar.indexCast v7810
  let c0_7625 : Index := 0#32
  let c0_7626 : Index := 0#32
  ![0, v7811.toNat, 0, 0]

def k0_off1100 (v7810 : BitVec 32) : Fin 4 → Nat :=
  let c0_7630 : Index := 0#32
  let c1_i32_7629 : BitVec 32 := 1#32
  let v7817 : BitVec 32 := Scalar.addi v7810 c1_i32_7629
  let v7818 : Index := Scalar.indexCast v7817
  let c0_7631 : Index := 0#32
  let c0_7632 : Index := 0#32
  ![0, v7818.toNat, 0, 0]

def k0_chk550 (v7810 : BitVec 32) : Prop :=
  (∀ a, (k0_off1099 v7810) a + S1x1x1x128.size a ≤ S1x33344x1x128.size a) ∧
  (∀ a, (k0_off1100 v7810) a + S1x1x1x128.size a ≤ S1x33344x1x128.size a)
theorem k0_off1099_inb : ∀ (v7810 : BitVec 32) (k0_hw550 : k0_chk550 v7810), ∀ a, (k0_off1099 v7810) a + S1x1x1x128.size a ≤ S1x33344x1x128.size a := fun v7810 k0_hw550 => k0_hw550.1
theorem k0_off1100_inb : ∀ (v7810 : BitVec 32) (k0_hw550 : k0_chk550 v7810), ∀ a, (k0_off1100 v7810) a + S1x1x1x128.size a ≤ S1x33344x1x128.size a := fun v7810 k0_hw550 => k0_hw550.2

def k0_off1101 (v7824 : BitVec 32) : Fin 4 → Nat :=
  let c0_7638 : Index := 0#32
  let v7825 : Index := Scalar.indexCast v7824
  let c0_7639 : Index := 0#32
  let c0_7640 : Index := 0#32
  ![0, v7825.toNat, 0, 0]

def k0_off1102 (v7824 : BitVec 32) : Fin 4 → Nat :=
  let c0_7644 : Index := 0#32
  let c1_i32_7643 : BitVec 32 := 1#32
  let v7831 : BitVec 32 := Scalar.addi v7824 c1_i32_7643
  let v7832 : Index := Scalar.indexCast v7831
  let c0_7645 : Index := 0#32
  let c0_7646 : Index := 0#32
  ![0, v7832.toNat, 0, 0]

def k0_chk551 (v7824 : BitVec 32) : Prop :=
  (∀ a, (k0_off1101 v7824) a + S1x1x1x128.size a ≤ S1x33344x1x128.size a) ∧
  (∀ a, (k0_off1102 v7824) a + S1x1x1x128.size a ≤ S1x33344x1x128.size a)
theorem k0_off1101_inb : ∀ (v7824 : BitVec 32) (k0_hw551 : k0_chk551 v7824), ∀ a, (k0_off1101 v7824) a + S1x1x1x128.size a ≤ S1x33344x1x128.size a := fun v7824 k0_hw551 => k0_hw551.1
theorem k0_off1102_inb : ∀ (v7824 : BitVec 32) (k0_hw551 : k0_chk551 v7824), ∀ a, (k0_off1102 v7824) a + S1x1x1x128.size a ≤ S1x33344x1x128.size a := fun v7824 k0_hw551 => k0_hw551.2

def k0_off1103 (v7838 : BitVec 32) : Fin 4 → Nat :=
  let c0_7652 : Index := 0#32
  let v7839 : Index := Scalar.indexCast v7838
  let c0_7653 : Index := 0#32
  let c0_7654 : Index := 0#32
  ![0, v7839.toNat, 0, 0]

def k0_off1104 (v7838 : BitVec 32) : Fin 4 → Nat :=
  let c0_7658 : Index := 0#32
  let c1_i32_7657 : BitVec 32 := 1#32
  let v7845 : BitVec 32 := Scalar.addi v7838 c1_i32_7657
  let v7846 : Index := Scalar.indexCast v7845
  let c0_7659 : Index := 0#32
  let c0_7660 : Index := 0#32
  ![0, v7846.toNat, 0, 0]

def k0_chk552 (v7838 : BitVec 32) : Prop :=
  (∀ a, (k0_off1103 v7838) a + S1x1x1x128.size a ≤ S1x33344x1x128.size a) ∧
  (∀ a, (k0_off1104 v7838) a + S1x1x1x128.size a ≤ S1x33344x1x128.size a)
theorem k0_off1103_inb : ∀ (v7838 : BitVec 32) (k0_hw552 : k0_chk552 v7838), ∀ a, (k0_off1103 v7838) a + S1x1x1x128.size a ≤ S1x33344x1x128.size a := fun v7838 k0_hw552 => k0_hw552.1
theorem k0_off1104_inb : ∀ (v7838 : BitVec 32) (k0_hw552 : k0_chk552 v7838), ∀ a, (k0_off1104 v7838) a + S1x1x1x128.size a ≤ S1x33344x1x128.size a := fun v7838 k0_hw552 => k0_hw552.2

def k0_off1105 (v7852 : BitVec 32) : Fin 4 → Nat :=
  let c0_7666 : Index := 0#32
  let v7853 : Index := Scalar.indexCast v7852
  let c0_7667 : Index := 0#32
  let c0_7668 : Index := 0#32
  ![0, v7853.toNat, 0, 0]

def k0_off1106 (v7852 : BitVec 32) : Fin 4 → Nat :=
  let c0_7672 : Index := 0#32
  let c1_i32_7671 : BitVec 32 := 1#32
  let v7859 : BitVec 32 := Scalar.addi v7852 c1_i32_7671
  let v7860 : Index := Scalar.indexCast v7859
  let c0_7673 : Index := 0#32
  let c0_7674 : Index := 0#32
  ![0, v7860.toNat, 0, 0]

def k0_chk553 (v7852 : BitVec 32) : Prop :=
  (∀ a, (k0_off1105 v7852) a + S1x1x1x128.size a ≤ S1x33344x1x128.size a) ∧
  (∀ a, (k0_off1106 v7852) a + S1x1x1x128.size a ≤ S1x33344x1x128.size a)
theorem k0_off1105_inb : ∀ (v7852 : BitVec 32) (k0_hw553 : k0_chk553 v7852), ∀ a, (k0_off1105 v7852) a + S1x1x1x128.size a ≤ S1x33344x1x128.size a := fun v7852 k0_hw553 => k0_hw553.1
theorem k0_off1106_inb : ∀ (v7852 : BitVec 32) (k0_hw553 : k0_chk553 v7852), ∀ a, (k0_off1106 v7852) a + S1x1x1x128.size a ≤ S1x33344x1x128.size a := fun v7852 k0_hw553 => k0_hw553.2

def k0_off1107 (v7866 : BitVec 32) : Fin 4 → Nat :=
  let c0_7680 : Index := 0#32
  let v7867 : Index := Scalar.indexCast v7866
  let c0_7681 : Index := 0#32
  let c0_7682 : Index := 0#32
  ![0, v7867.toNat, 0, 0]

def k0_off1108 (v7866 : BitVec 32) : Fin 4 → Nat :=
  let c0_7686 : Index := 0#32
  let c1_i32_7685 : BitVec 32 := 1#32
  let v7873 : BitVec 32 := Scalar.addi v7866 c1_i32_7685
  let v7874 : Index := Scalar.indexCast v7873
  let c0_7687 : Index := 0#32
  let c0_7688 : Index := 0#32
  ![0, v7874.toNat, 0, 0]

def k0_chk554 (v7866 : BitVec 32) : Prop :=
  (∀ a, (k0_off1107 v7866) a + S1x1x1x128.size a ≤ S1x33344x1x128.size a) ∧
  (∀ a, (k0_off1108 v7866) a + S1x1x1x128.size a ≤ S1x33344x1x128.size a)
theorem k0_off1107_inb : ∀ (v7866 : BitVec 32) (k0_hw554 : k0_chk554 v7866), ∀ a, (k0_off1107 v7866) a + S1x1x1x128.size a ≤ S1x33344x1x128.size a := fun v7866 k0_hw554 => k0_hw554.1
theorem k0_off1108_inb : ∀ (v7866 : BitVec 32) (k0_hw554 : k0_chk554 v7866), ∀ a, (k0_off1108 v7866) a + S1x1x1x128.size a ≤ S1x33344x1x128.size a := fun v7866 k0_hw554 => k0_hw554.2

def k0_off1109 (v7880 : BitVec 32) : Fin 4 → Nat :=
  let c0_7694 : Index := 0#32
  let v7881 : Index := Scalar.indexCast v7880
  let c0_7695 : Index := 0#32
  let c0_7696 : Index := 0#32
  ![0, v7881.toNat, 0, 0]

def k0_off1110 (v7880 : BitVec 32) : Fin 4 → Nat :=
  let c0_7700 : Index := 0#32
  let c1_i32_7699 : BitVec 32 := 1#32
  let v7887 : BitVec 32 := Scalar.addi v7880 c1_i32_7699
  let v7888 : Index := Scalar.indexCast v7887
  let c0_7701 : Index := 0#32
  let c0_7702 : Index := 0#32
  ![0, v7888.toNat, 0, 0]

def k0_chk555 (v7880 : BitVec 32) : Prop :=
  (∀ a, (k0_off1109 v7880) a + S1x1x1x128.size a ≤ S1x33344x1x128.size a) ∧
  (∀ a, (k0_off1110 v7880) a + S1x1x1x128.size a ≤ S1x33344x1x128.size a)
theorem k0_off1109_inb : ∀ (v7880 : BitVec 32) (k0_hw555 : k0_chk555 v7880), ∀ a, (k0_off1109 v7880) a + S1x1x1x128.size a ≤ S1x33344x1x128.size a := fun v7880 k0_hw555 => k0_hw555.1
theorem k0_off1110_inb : ∀ (v7880 : BitVec 32) (k0_hw555 : k0_chk555 v7880), ∀ a, (k0_off1110 v7880) a + S1x1x1x128.size a ≤ S1x33344x1x128.size a := fun v7880 k0_hw555 => k0_hw555.2

def k0_off1111 (v7894 : BitVec 32) : Fin 4 → Nat :=
  let c0_7708 : Index := 0#32
  let v7895 : Index := Scalar.indexCast v7894
  let c0_7709 : Index := 0#32
  let c0_7710 : Index := 0#32
  ![0, v7895.toNat, 0, 0]

def k0_off1112 (v7894 : BitVec 32) : Fin 4 → Nat :=
  let c0_7714 : Index := 0#32
  let c1_i32_7713 : BitVec 32 := 1#32
  let v7901 : BitVec 32 := Scalar.addi v7894 c1_i32_7713
  let v7902 : Index := Scalar.indexCast v7901
  let c0_7715 : Index := 0#32
  let c0_7716 : Index := 0#32
  ![0, v7902.toNat, 0, 0]

def k0_chk556 (v7894 : BitVec 32) : Prop :=
  (∀ a, (k0_off1111 v7894) a + S1x1x1x128.size a ≤ S1x33344x1x128.size a) ∧
  (∀ a, (k0_off1112 v7894) a + S1x1x1x128.size a ≤ S1x33344x1x128.size a)
theorem k0_off1111_inb : ∀ (v7894 : BitVec 32) (k0_hw556 : k0_chk556 v7894), ∀ a, (k0_off1111 v7894) a + S1x1x1x128.size a ≤ S1x33344x1x128.size a := fun v7894 k0_hw556 => k0_hw556.1
theorem k0_off1112_inb : ∀ (v7894 : BitVec 32) (k0_hw556 : k0_chk556 v7894), ∀ a, (k0_off1112 v7894) a + S1x1x1x128.size a ≤ S1x33344x1x128.size a := fun v7894 k0_hw556 => k0_hw556.2

def k0_off1113 (v7908 : BitVec 32) : Fin 4 → Nat :=
  let c0_7722 : Index := 0#32
  let v7909 : Index := Scalar.indexCast v7908
  let c0_7723 : Index := 0#32
  let c0_7724 : Index := 0#32
  ![0, v7909.toNat, 0, 0]

def k0_off1114 (v7908 : BitVec 32) : Fin 4 → Nat :=
  let c0_7728 : Index := 0#32
  let c1_i32_7727 : BitVec 32 := 1#32
  let v7915 : BitVec 32 := Scalar.addi v7908 c1_i32_7727
  let v7916 : Index := Scalar.indexCast v7915
  let c0_7729 : Index := 0#32
  let c0_7730 : Index := 0#32
  ![0, v7916.toNat, 0, 0]

def k0_chk557 (v7908 : BitVec 32) : Prop :=
  (∀ a, (k0_off1113 v7908) a + S1x1x1x128.size a ≤ S1x33344x1x128.size a) ∧
  (∀ a, (k0_off1114 v7908) a + S1x1x1x128.size a ≤ S1x33344x1x128.size a)
theorem k0_off1113_inb : ∀ (v7908 : BitVec 32) (k0_hw557 : k0_chk557 v7908), ∀ a, (k0_off1113 v7908) a + S1x1x1x128.size a ≤ S1x33344x1x128.size a := fun v7908 k0_hw557 => k0_hw557.1
theorem k0_off1114_inb : ∀ (v7908 : BitVec 32) (k0_hw557 : k0_chk557 v7908), ∀ a, (k0_off1114 v7908) a + S1x1x1x128.size a ≤ S1x33344x1x128.size a := fun v7908 k0_hw557 => k0_hw557.2

def k0_off1115 (v7922 : BitVec 32) : Fin 4 → Nat :=
  let c0_7736 : Index := 0#32
  let v7923 : Index := Scalar.indexCast v7922
  let c0_7737 : Index := 0#32
  let c0_7738 : Index := 0#32
  ![0, v7923.toNat, 0, 0]

def k0_off1116 (v7922 : BitVec 32) : Fin 4 → Nat :=
  let c0_7742 : Index := 0#32
  let c1_i32_7741 : BitVec 32 := 1#32
  let v7929 : BitVec 32 := Scalar.addi v7922 c1_i32_7741
  let v7930 : Index := Scalar.indexCast v7929
  let c0_7743 : Index := 0#32
  let c0_7744 : Index := 0#32
  ![0, v7930.toNat, 0, 0]

def k0_chk558 (v7922 : BitVec 32) : Prop :=
  (∀ a, (k0_off1115 v7922) a + S1x1x1x128.size a ≤ S1x33344x1x128.size a) ∧
  (∀ a, (k0_off1116 v7922) a + S1x1x1x128.size a ≤ S1x33344x1x128.size a)
theorem k0_off1115_inb : ∀ (v7922 : BitVec 32) (k0_hw558 : k0_chk558 v7922), ∀ a, (k0_off1115 v7922) a + S1x1x1x128.size a ≤ S1x33344x1x128.size a := fun v7922 k0_hw558 => k0_hw558.1
theorem k0_off1116_inb : ∀ (v7922 : BitVec 32) (k0_hw558 : k0_chk558 v7922), ∀ a, (k0_off1116 v7922) a + S1x1x1x128.size a ≤ S1x33344x1x128.size a := fun v7922 k0_hw558 => k0_hw558.2

def k0_off1117 (v7936 : BitVec 32) : Fin 4 → Nat :=
  let c0_7750 : Index := 0#32
  let v7937 : Index := Scalar.indexCast v7936
  let c0_7751 : Index := 0#32
  let c0_7752 : Index := 0#32
  ![0, v7937.toNat, 0, 0]

def k0_off1118 (v7936 : BitVec 32) : Fin 4 → Nat :=
  let c0_7756 : Index := 0#32
  let c1_i32_7755 : BitVec 32 := 1#32
  let v7943 : BitVec 32 := Scalar.addi v7936 c1_i32_7755
  let v7944 : Index := Scalar.indexCast v7943
  let c0_7757 : Index := 0#32
  let c0_7758 : Index := 0#32
  ![0, v7944.toNat, 0, 0]

def k0_chk559 (v7936 : BitVec 32) : Prop :=
  (∀ a, (k0_off1117 v7936) a + S1x1x1x128.size a ≤ S1x33344x1x128.size a) ∧
  (∀ a, (k0_off1118 v7936) a + S1x1x1x128.size a ≤ S1x33344x1x128.size a)
theorem k0_off1117_inb : ∀ (v7936 : BitVec 32) (k0_hw559 : k0_chk559 v7936), ∀ a, (k0_off1117 v7936) a + S1x1x1x128.size a ≤ S1x33344x1x128.size a := fun v7936 k0_hw559 => k0_hw559.1
theorem k0_off1118_inb : ∀ (v7936 : BitVec 32) (k0_hw559 : k0_chk559 v7936), ∀ a, (k0_off1118 v7936) a + S1x1x1x128.size a ≤ S1x33344x1x128.size a := fun v7936 k0_hw559 => k0_hw559.2

def k0_off1119 (v7950 : BitVec 32) : Fin 4 → Nat :=
  let c0_7764 : Index := 0#32
  let v7951 : Index := Scalar.indexCast v7950
  let c0_7765 : Index := 0#32
  let c0_7766 : Index := 0#32
  ![0, v7951.toNat, 0, 0]

def k0_off1120 (v7950 : BitVec 32) : Fin 4 → Nat :=
  let c0_7770 : Index := 0#32
  let c1_i32_7769 : BitVec 32 := 1#32
  let v7957 : BitVec 32 := Scalar.addi v7950 c1_i32_7769
  let v7958 : Index := Scalar.indexCast v7957
  let c0_7771 : Index := 0#32
  let c0_7772 : Index := 0#32
  ![0, v7958.toNat, 0, 0]

def k0_chk560 (v7950 : BitVec 32) : Prop :=
  (∀ a, (k0_off1119 v7950) a + S1x1x1x128.size a ≤ S1x33344x1x128.size a) ∧
  (∀ a, (k0_off1120 v7950) a + S1x1x1x128.size a ≤ S1x33344x1x128.size a)
theorem k0_off1119_inb : ∀ (v7950 : BitVec 32) (k0_hw560 : k0_chk560 v7950), ∀ a, (k0_off1119 v7950) a + S1x1x1x128.size a ≤ S1x33344x1x128.size a := fun v7950 k0_hw560 => k0_hw560.1
theorem k0_off1120_inb : ∀ (v7950 : BitVec 32) (k0_hw560 : k0_chk560 v7950), ∀ a, (k0_off1120 v7950) a + S1x1x1x128.size a ≤ S1x33344x1x128.size a := fun v7950 k0_hw560 => k0_hw560.2

def k0_off1121 (v7964 : BitVec 32) : Fin 4 → Nat :=
  let c0_7778 : Index := 0#32
  let v7965 : Index := Scalar.indexCast v7964
  let c0_7779 : Index := 0#32
  let c0_7780 : Index := 0#32
  ![0, v7965.toNat, 0, 0]

def k0_off1122 (v7964 : BitVec 32) : Fin 4 → Nat :=
  let c0_7784 : Index := 0#32
  let c1_i32_7783 : BitVec 32 := 1#32
  let v7971 : BitVec 32 := Scalar.addi v7964 c1_i32_7783
  let v7972 : Index := Scalar.indexCast v7971
  let c0_7785 : Index := 0#32
  let c0_7786 : Index := 0#32
  ![0, v7972.toNat, 0, 0]

def k0_chk561 (v7964 : BitVec 32) : Prop :=
  (∀ a, (k0_off1121 v7964) a + S1x1x1x128.size a ≤ S1x33344x1x128.size a) ∧
  (∀ a, (k0_off1122 v7964) a + S1x1x1x128.size a ≤ S1x33344x1x128.size a)
theorem k0_off1121_inb : ∀ (v7964 : BitVec 32) (k0_hw561 : k0_chk561 v7964), ∀ a, (k0_off1121 v7964) a + S1x1x1x128.size a ≤ S1x33344x1x128.size a := fun v7964 k0_hw561 => k0_hw561.1
theorem k0_off1122_inb : ∀ (v7964 : BitVec 32) (k0_hw561 : k0_chk561 v7964), ∀ a, (k0_off1122 v7964) a + S1x1x1x128.size a ≤ S1x33344x1x128.size a := fun v7964 k0_hw561 => k0_hw561.2

def k0_off1123 (v7978 : BitVec 32) : Fin 4 → Nat :=
  let c0_7792 : Index := 0#32
  let v7979 : Index := Scalar.indexCast v7978
  let c0_7793 : Index := 0#32
  let c0_7794 : Index := 0#32
  ![0, v7979.toNat, 0, 0]

def k0_off1124 (v7978 : BitVec 32) : Fin 4 → Nat :=
  let c0_7798 : Index := 0#32
  let c1_i32_7797 : BitVec 32 := 1#32
  let v7985 : BitVec 32 := Scalar.addi v7978 c1_i32_7797
  let v7986 : Index := Scalar.indexCast v7985
  let c0_7799 : Index := 0#32
  let c0_7800 : Index := 0#32
  ![0, v7986.toNat, 0, 0]

def k0_chk562 (v7978 : BitVec 32) : Prop :=
  (∀ a, (k0_off1123 v7978) a + S1x1x1x128.size a ≤ S1x33344x1x128.size a) ∧
  (∀ a, (k0_off1124 v7978) a + S1x1x1x128.size a ≤ S1x33344x1x128.size a)
theorem k0_off1123_inb : ∀ (v7978 : BitVec 32) (k0_hw562 : k0_chk562 v7978), ∀ a, (k0_off1123 v7978) a + S1x1x1x128.size a ≤ S1x33344x1x128.size a := fun v7978 k0_hw562 => k0_hw562.1
theorem k0_off1124_inb : ∀ (v7978 : BitVec 32) (k0_hw562 : k0_chk562 v7978), ∀ a, (k0_off1124 v7978) a + S1x1x1x128.size a ≤ S1x33344x1x128.size a := fun v7978 k0_hw562 => k0_hw562.2

def k0_off1125 (v7992 : BitVec 32) : Fin 4 → Nat :=
  let c0_7806 : Index := 0#32
  let v7993 : Index := Scalar.indexCast v7992
  let c0_7807 : Index := 0#32
  let c0_7808 : Index := 0#32
  ![0, v7993.toNat, 0, 0]

def k0_off1126 (v7992 : BitVec 32) : Fin 4 → Nat :=
  let c0_7812 : Index := 0#32
  let c1_i32_7811 : BitVec 32 := 1#32
  let v7999 : BitVec 32 := Scalar.addi v7992 c1_i32_7811
  let v8000 : Index := Scalar.indexCast v7999
  let c0_7813 : Index := 0#32
  let c0_7814 : Index := 0#32
  ![0, v8000.toNat, 0, 0]

def k0_chk563 (v7992 : BitVec 32) : Prop :=
  (∀ a, (k0_off1125 v7992) a + S1x1x1x128.size a ≤ S1x33344x1x128.size a) ∧
  (∀ a, (k0_off1126 v7992) a + S1x1x1x128.size a ≤ S1x33344x1x128.size a)
theorem k0_off1125_inb : ∀ (v7992 : BitVec 32) (k0_hw563 : k0_chk563 v7992), ∀ a, (k0_off1125 v7992) a + S1x1x1x128.size a ≤ S1x33344x1x128.size a := fun v7992 k0_hw563 => k0_hw563.1
theorem k0_off1126_inb : ∀ (v7992 : BitVec 32) (k0_hw563 : k0_chk563 v7992), ∀ a, (k0_off1126 v7992) a + S1x1x1x128.size a ≤ S1x33344x1x128.size a := fun v7992 k0_hw563 => k0_hw563.2

def k0_off1127 (v8006 : BitVec 32) : Fin 4 → Nat :=
  let c0_7820 : Index := 0#32
  let v8007 : Index := Scalar.indexCast v8006
  let c0_7821 : Index := 0#32
  let c0_7822 : Index := 0#32
  ![0, v8007.toNat, 0, 0]

def k0_off1128 (v8006 : BitVec 32) : Fin 4 → Nat :=
  let c0_7826 : Index := 0#32
  let c1_i32_7825 : BitVec 32 := 1#32
  let v8013 : BitVec 32 := Scalar.addi v8006 c1_i32_7825
  let v8014 : Index := Scalar.indexCast v8013
  let c0_7827 : Index := 0#32
  let c0_7828 : Index := 0#32
  ![0, v8014.toNat, 0, 0]

def k0_chk564 (v8006 : BitVec 32) : Prop :=
  (∀ a, (k0_off1127 v8006) a + S1x1x1x128.size a ≤ S1x33344x1x128.size a) ∧
  (∀ a, (k0_off1128 v8006) a + S1x1x1x128.size a ≤ S1x33344x1x128.size a)
theorem k0_off1127_inb : ∀ (v8006 : BitVec 32) (k0_hw564 : k0_chk564 v8006), ∀ a, (k0_off1127 v8006) a + S1x1x1x128.size a ≤ S1x33344x1x128.size a := fun v8006 k0_hw564 => k0_hw564.1
theorem k0_off1128_inb : ∀ (v8006 : BitVec 32) (k0_hw564 : k0_chk564 v8006), ∀ a, (k0_off1128 v8006) a + S1x1x1x128.size a ≤ S1x33344x1x128.size a := fun v8006 k0_hw564 => k0_hw564.2

def k0_off1129 (v8020 : BitVec 32) : Fin 4 → Nat :=
  let c0_7834 : Index := 0#32
  let v8021 : Index := Scalar.indexCast v8020
  let c0_7835 : Index := 0#32
  let c0_7836 : Index := 0#32
  ![0, v8021.toNat, 0, 0]

def k0_off1130 (v8020 : BitVec 32) : Fin 4 → Nat :=
  let c0_7840 : Index := 0#32
  let c1_i32_7839 : BitVec 32 := 1#32
  let v8027 : BitVec 32 := Scalar.addi v8020 c1_i32_7839
  let v8028 : Index := Scalar.indexCast v8027
  let c0_7841 : Index := 0#32
  let c0_7842 : Index := 0#32
  ![0, v8028.toNat, 0, 0]

def k0_chk565 (v8020 : BitVec 32) : Prop :=
  (∀ a, (k0_off1129 v8020) a + S1x1x1x128.size a ≤ S1x33344x1x128.size a) ∧
  (∀ a, (k0_off1130 v8020) a + S1x1x1x128.size a ≤ S1x33344x1x128.size a)
theorem k0_off1129_inb : ∀ (v8020 : BitVec 32) (k0_hw565 : k0_chk565 v8020), ∀ a, (k0_off1129 v8020) a + S1x1x1x128.size a ≤ S1x33344x1x128.size a := fun v8020 k0_hw565 => k0_hw565.1
theorem k0_off1130_inb : ∀ (v8020 : BitVec 32) (k0_hw565 : k0_chk565 v8020), ∀ a, (k0_off1130 v8020) a + S1x1x1x128.size a ≤ S1x33344x1x128.size a := fun v8020 k0_hw565 => k0_hw565.2

def k0_off1131 (v8034 : BitVec 32) : Fin 4 → Nat :=
  let c0_7848 : Index := 0#32
  let v8035 : Index := Scalar.indexCast v8034
  let c0_7849 : Index := 0#32
  let c0_7850 : Index := 0#32
  ![0, v8035.toNat, 0, 0]

def k0_off1132 (v8034 : BitVec 32) : Fin 4 → Nat :=
  let c0_7854 : Index := 0#32
  let c1_i32_7853 : BitVec 32 := 1#32
  let v8041 : BitVec 32 := Scalar.addi v8034 c1_i32_7853
  let v8042 : Index := Scalar.indexCast v8041
  let c0_7855 : Index := 0#32
  let c0_7856 : Index := 0#32
  ![0, v8042.toNat, 0, 0]

def k0_chk566 (v8034 : BitVec 32) : Prop :=
  (∀ a, (k0_off1131 v8034) a + S1x1x1x128.size a ≤ S1x33344x1x128.size a) ∧
  (∀ a, (k0_off1132 v8034) a + S1x1x1x128.size a ≤ S1x33344x1x128.size a)
theorem k0_off1131_inb : ∀ (v8034 : BitVec 32) (k0_hw566 : k0_chk566 v8034), ∀ a, (k0_off1131 v8034) a + S1x1x1x128.size a ≤ S1x33344x1x128.size a := fun v8034 k0_hw566 => k0_hw566.1
theorem k0_off1132_inb : ∀ (v8034 : BitVec 32) (k0_hw566 : k0_chk566 v8034), ∀ a, (k0_off1132 v8034) a + S1x1x1x128.size a ≤ S1x33344x1x128.size a := fun v8034 k0_hw566 => k0_hw566.2

def k0_off1133 (v8048 : BitVec 32) : Fin 4 → Nat :=
  let c0_7862 : Index := 0#32
  let v8049 : Index := Scalar.indexCast v8048
  let c0_7863 : Index := 0#32
  let c0_7864 : Index := 0#32
  ![0, v8049.toNat, 0, 0]

def k0_off1134 (v8048 : BitVec 32) : Fin 4 → Nat :=
  let c0_7868 : Index := 0#32
  let c1_i32_7867 : BitVec 32 := 1#32
  let v8055 : BitVec 32 := Scalar.addi v8048 c1_i32_7867
  let v8056 : Index := Scalar.indexCast v8055
  let c0_7869 : Index := 0#32
  let c0_7870 : Index := 0#32
  ![0, v8056.toNat, 0, 0]

def k0_chk567 (v8048 : BitVec 32) : Prop :=
  (∀ a, (k0_off1133 v8048) a + S1x1x1x128.size a ≤ S1x33344x1x128.size a) ∧
  (∀ a, (k0_off1134 v8048) a + S1x1x1x128.size a ≤ S1x33344x1x128.size a)
theorem k0_off1133_inb : ∀ (v8048 : BitVec 32) (k0_hw567 : k0_chk567 v8048), ∀ a, (k0_off1133 v8048) a + S1x1x1x128.size a ≤ S1x33344x1x128.size a := fun v8048 k0_hw567 => k0_hw567.1
theorem k0_off1134_inb : ∀ (v8048 : BitVec 32) (k0_hw567 : k0_chk567 v8048), ∀ a, (k0_off1134 v8048) a + S1x1x1x128.size a ≤ S1x33344x1x128.size a := fun v8048 k0_hw567 => k0_hw567.2

def k0_off1135 (v8062 : BitVec 32) : Fin 4 → Nat :=
  let c0_7876 : Index := 0#32
  let v8063 : Index := Scalar.indexCast v8062
  let c0_7877 : Index := 0#32
  let c0_7878 : Index := 0#32
  ![0, v8063.toNat, 0, 0]

def k0_off1136 (v8062 : BitVec 32) : Fin 4 → Nat :=
  let c0_7882 : Index := 0#32
  let c1_i32_7881 : BitVec 32 := 1#32
  let v8069 : BitVec 32 := Scalar.addi v8062 c1_i32_7881
  let v8070 : Index := Scalar.indexCast v8069
  let c0_7883 : Index := 0#32
  let c0_7884 : Index := 0#32
  ![0, v8070.toNat, 0, 0]

def k0_chk568 (v8062 : BitVec 32) : Prop :=
  (∀ a, (k0_off1135 v8062) a + S1x1x1x128.size a ≤ S1x33344x1x128.size a) ∧
  (∀ a, (k0_off1136 v8062) a + S1x1x1x128.size a ≤ S1x33344x1x128.size a)
theorem k0_off1135_inb : ∀ (v8062 : BitVec 32) (k0_hw568 : k0_chk568 v8062), ∀ a, (k0_off1135 v8062) a + S1x1x1x128.size a ≤ S1x33344x1x128.size a := fun v8062 k0_hw568 => k0_hw568.1
theorem k0_off1136_inb : ∀ (v8062 : BitVec 32) (k0_hw568 : k0_chk568 v8062), ∀ a, (k0_off1136 v8062) a + S1x1x1x128.size a ≤ S1x33344x1x128.size a := fun v8062 k0_hw568 => k0_hw568.2

def k0_off1137 (v8076 : BitVec 32) : Fin 4 → Nat :=
  let c0_7890 : Index := 0#32
  let v8077 : Index := Scalar.indexCast v8076
  let c0_7891 : Index := 0#32
  let c0_7892 : Index := 0#32
  ![0, v8077.toNat, 0, 0]

def k0_off1138 (v8076 : BitVec 32) : Fin 4 → Nat :=
  let c0_7896 : Index := 0#32
  let c1_i32_7895 : BitVec 32 := 1#32
  let v8083 : BitVec 32 := Scalar.addi v8076 c1_i32_7895
  let v8084 : Index := Scalar.indexCast v8083
  let c0_7897 : Index := 0#32
  let c0_7898 : Index := 0#32
  ![0, v8084.toNat, 0, 0]

def k0_chk569 (v8076 : BitVec 32) : Prop :=
  (∀ a, (k0_off1137 v8076) a + S1x1x1x128.size a ≤ S1x33344x1x128.size a) ∧
  (∀ a, (k0_off1138 v8076) a + S1x1x1x128.size a ≤ S1x33344x1x128.size a)
theorem k0_off1137_inb : ∀ (v8076 : BitVec 32) (k0_hw569 : k0_chk569 v8076), ∀ a, (k0_off1137 v8076) a + S1x1x1x128.size a ≤ S1x33344x1x128.size a := fun v8076 k0_hw569 => k0_hw569.1
theorem k0_off1138_inb : ∀ (v8076 : BitVec 32) (k0_hw569 : k0_chk569 v8076), ∀ a, (k0_off1138 v8076) a + S1x1x1x128.size a ≤ S1x33344x1x128.size a := fun v8076 k0_hw569 => k0_hw569.2

def k0_off1139 (v8090 : BitVec 32) : Fin 4 → Nat :=
  let c0_7904 : Index := 0#32
  let v8091 : Index := Scalar.indexCast v8090
  let c0_7905 : Index := 0#32
  let c0_7906 : Index := 0#32
  ![0, v8091.toNat, 0, 0]

def k0_off1140 (v8090 : BitVec 32) : Fin 4 → Nat :=
  let c0_7910 : Index := 0#32
  let c1_i32_7909 : BitVec 32 := 1#32
  let v8097 : BitVec 32 := Scalar.addi v8090 c1_i32_7909
  let v8098 : Index := Scalar.indexCast v8097
  let c0_7911 : Index := 0#32
  let c0_7912 : Index := 0#32
  ![0, v8098.toNat, 0, 0]

def k0_chk570 (v8090 : BitVec 32) : Prop :=
  (∀ a, (k0_off1139 v8090) a + S1x1x1x128.size a ≤ S1x33344x1x128.size a) ∧
  (∀ a, (k0_off1140 v8090) a + S1x1x1x128.size a ≤ S1x33344x1x128.size a)
theorem k0_off1139_inb : ∀ (v8090 : BitVec 32) (k0_hw570 : k0_chk570 v8090), ∀ a, (k0_off1139 v8090) a + S1x1x1x128.size a ≤ S1x33344x1x128.size a := fun v8090 k0_hw570 => k0_hw570.1
theorem k0_off1140_inb : ∀ (v8090 : BitVec 32) (k0_hw570 : k0_chk570 v8090), ∀ a, (k0_off1140 v8090) a + S1x1x1x128.size a ≤ S1x33344x1x128.size a := fun v8090 k0_hw570 => k0_hw570.2

def k0_off1141 (v8104 : BitVec 32) : Fin 4 → Nat :=
  let c0_7918 : Index := 0#32
  let v8105 : Index := Scalar.indexCast v8104
  let c0_7919 : Index := 0#32
  let c0_7920 : Index := 0#32
  ![0, v8105.toNat, 0, 0]

def k0_off1142 (v8104 : BitVec 32) : Fin 4 → Nat :=
  let c0_7924 : Index := 0#32
  let c1_i32_7923 : BitVec 32 := 1#32
  let v8111 : BitVec 32 := Scalar.addi v8104 c1_i32_7923
  let v8112 : Index := Scalar.indexCast v8111
  let c0_7925 : Index := 0#32
  let c0_7926 : Index := 0#32
  ![0, v8112.toNat, 0, 0]

def k0_chk571 (v8104 : BitVec 32) : Prop :=
  (∀ a, (k0_off1141 v8104) a + S1x1x1x128.size a ≤ S1x33344x1x128.size a) ∧
  (∀ a, (k0_off1142 v8104) a + S1x1x1x128.size a ≤ S1x33344x1x128.size a)
theorem k0_off1141_inb : ∀ (v8104 : BitVec 32) (k0_hw571 : k0_chk571 v8104), ∀ a, (k0_off1141 v8104) a + S1x1x1x128.size a ≤ S1x33344x1x128.size a := fun v8104 k0_hw571 => k0_hw571.1
theorem k0_off1142_inb : ∀ (v8104 : BitVec 32) (k0_hw571 : k0_chk571 v8104), ∀ a, (k0_off1142 v8104) a + S1x1x1x128.size a ≤ S1x33344x1x128.size a := fun v8104 k0_hw571 => k0_hw571.2

def k0_off1143 (v8118 : BitVec 32) : Fin 4 → Nat :=
  let c0_7932 : Index := 0#32
  let v8119 : Index := Scalar.indexCast v8118
  let c0_7933 : Index := 0#32
  let c0_7934 : Index := 0#32
  ![0, v8119.toNat, 0, 0]

def k0_off1144 (v8118 : BitVec 32) : Fin 4 → Nat :=
  let c0_7938 : Index := 0#32
  let c1_i32_7937 : BitVec 32 := 1#32
  let v8125 : BitVec 32 := Scalar.addi v8118 c1_i32_7937
  let v8126 : Index := Scalar.indexCast v8125
  let c0_7939 : Index := 0#32
  let c0_7940 : Index := 0#32
  ![0, v8126.toNat, 0, 0]

def k0_chk572 (v8118 : BitVec 32) : Prop :=
  (∀ a, (k0_off1143 v8118) a + S1x1x1x128.size a ≤ S1x33344x1x128.size a) ∧
  (∀ a, (k0_off1144 v8118) a + S1x1x1x128.size a ≤ S1x33344x1x128.size a)
theorem k0_off1143_inb : ∀ (v8118 : BitVec 32) (k0_hw572 : k0_chk572 v8118), ∀ a, (k0_off1143 v8118) a + S1x1x1x128.size a ≤ S1x33344x1x128.size a := fun v8118 k0_hw572 => k0_hw572.1
theorem k0_off1144_inb : ∀ (v8118 : BitVec 32) (k0_hw572 : k0_chk572 v8118), ∀ a, (k0_off1144 v8118) a + S1x1x1x128.size a ≤ S1x33344x1x128.size a := fun v8118 k0_hw572 => k0_hw572.2

def k0_off1145 (v8132 : BitVec 32) : Fin 4 → Nat :=
  let c0_7946 : Index := 0#32
  let v8133 : Index := Scalar.indexCast v8132
  let c0_7947 : Index := 0#32
  let c0_7948 : Index := 0#32
  ![0, v8133.toNat, 0, 0]

def k0_off1146 (v8132 : BitVec 32) : Fin 4 → Nat :=
  let c0_7952 : Index := 0#32
  let c1_i32_7951 : BitVec 32 := 1#32
  let v8139 : BitVec 32 := Scalar.addi v8132 c1_i32_7951
  let v8140 : Index := Scalar.indexCast v8139
  let c0_7953 : Index := 0#32
  let c0_7954 : Index := 0#32
  ![0, v8140.toNat, 0, 0]

def k0_chk573 (v8132 : BitVec 32) : Prop :=
  (∀ a, (k0_off1145 v8132) a + S1x1x1x128.size a ≤ S1x33344x1x128.size a) ∧
  (∀ a, (k0_off1146 v8132) a + S1x1x1x128.size a ≤ S1x33344x1x128.size a)
theorem k0_off1145_inb : ∀ (v8132 : BitVec 32) (k0_hw573 : k0_chk573 v8132), ∀ a, (k0_off1145 v8132) a + S1x1x1x128.size a ≤ S1x33344x1x128.size a := fun v8132 k0_hw573 => k0_hw573.1
theorem k0_off1146_inb : ∀ (v8132 : BitVec 32) (k0_hw573 : k0_chk573 v8132), ∀ a, (k0_off1146 v8132) a + S1x1x1x128.size a ≤ S1x33344x1x128.size a := fun v8132 k0_hw573 => k0_hw573.2

def k0_off1147 (v8146 : BitVec 32) : Fin 4 → Nat :=
  let c0_7960 : Index := 0#32
  let v8147 : Index := Scalar.indexCast v8146
  let c0_7961 : Index := 0#32
  let c0_7962 : Index := 0#32
  ![0, v8147.toNat, 0, 0]

def k0_off1148 (v8146 : BitVec 32) : Fin 4 → Nat :=
  let c0_7966 : Index := 0#32
  let c1_i32_7965 : BitVec 32 := 1#32
  let v8153 : BitVec 32 := Scalar.addi v8146 c1_i32_7965
  let v8154 : Index := Scalar.indexCast v8153
  let c0_7967 : Index := 0#32
  let c0_7968 : Index := 0#32
  ![0, v8154.toNat, 0, 0]

def k0_chk574 (v8146 : BitVec 32) : Prop :=
  (∀ a, (k0_off1147 v8146) a + S1x1x1x128.size a ≤ S1x33344x1x128.size a) ∧
  (∀ a, (k0_off1148 v8146) a + S1x1x1x128.size a ≤ S1x33344x1x128.size a)
theorem k0_off1147_inb : ∀ (v8146 : BitVec 32) (k0_hw574 : k0_chk574 v8146), ∀ a, (k0_off1147 v8146) a + S1x1x1x128.size a ≤ S1x33344x1x128.size a := fun v8146 k0_hw574 => k0_hw574.1
theorem k0_off1148_inb : ∀ (v8146 : BitVec 32) (k0_hw574 : k0_chk574 v8146), ∀ a, (k0_off1148 v8146) a + S1x1x1x128.size a ≤ S1x33344x1x128.size a := fun v8146 k0_hw574 => k0_hw574.2

def k0_off1149 (v8160 : BitVec 32) : Fin 4 → Nat :=
  let c0_7974 : Index := 0#32
  let v8161 : Index := Scalar.indexCast v8160
  let c0_7975 : Index := 0#32
  let c0_7976 : Index := 0#32
  ![0, v8161.toNat, 0, 0]

def k0_off1150 (v8160 : BitVec 32) : Fin 4 → Nat :=
  let c0_7980 : Index := 0#32
  let c1_i32_7979 : BitVec 32 := 1#32
  let v8167 : BitVec 32 := Scalar.addi v8160 c1_i32_7979
  let v8168 : Index := Scalar.indexCast v8167
  let c0_7981 : Index := 0#32
  let c0_7982 : Index := 0#32
  ![0, v8168.toNat, 0, 0]

def k0_chk575 (v8160 : BitVec 32) : Prop :=
  (∀ a, (k0_off1149 v8160) a + S1x1x1x128.size a ≤ S1x33344x1x128.size a) ∧
  (∀ a, (k0_off1150 v8160) a + S1x1x1x128.size a ≤ S1x33344x1x128.size a)
theorem k0_off1149_inb : ∀ (v8160 : BitVec 32) (k0_hw575 : k0_chk575 v8160), ∀ a, (k0_off1149 v8160) a + S1x1x1x128.size a ≤ S1x33344x1x128.size a := fun v8160 k0_hw575 => k0_hw575.1
theorem k0_off1150_inb : ∀ (v8160 : BitVec 32) (k0_hw575 : k0_chk575 v8160), ∀ a, (k0_off1150 v8160) a + S1x1x1x128.size a ≤ S1x33344x1x128.size a := fun v8160 k0_hw575 => k0_hw575.2

def k0_off1151 (v8174 : BitVec 32) : Fin 4 → Nat :=
  let c0_7988 : Index := 0#32
  let v8175 : Index := Scalar.indexCast v8174
  let c0_7989 : Index := 0#32
  let c0_7990 : Index := 0#32
  ![0, v8175.toNat, 0, 0]

def k0_off1152 (v8174 : BitVec 32) : Fin 4 → Nat :=
  let c0_7994 : Index := 0#32
  let c1_i32_7993 : BitVec 32 := 1#32
  let v8181 : BitVec 32 := Scalar.addi v8174 c1_i32_7993
  let v8182 : Index := Scalar.indexCast v8181
  let c0_7995 : Index := 0#32
  let c0_7996 : Index := 0#32
  ![0, v8182.toNat, 0, 0]

def k0_chk576 (v8174 : BitVec 32) : Prop :=
  (∀ a, (k0_off1151 v8174) a + S1x1x1x128.size a ≤ S1x33344x1x128.size a) ∧
  (∀ a, (k0_off1152 v8174) a + S1x1x1x128.size a ≤ S1x33344x1x128.size a)
theorem k0_off1151_inb : ∀ (v8174 : BitVec 32) (k0_hw576 : k0_chk576 v8174), ∀ a, (k0_off1151 v8174) a + S1x1x1x128.size a ≤ S1x33344x1x128.size a := fun v8174 k0_hw576 => k0_hw576.1
theorem k0_off1152_inb : ∀ (v8174 : BitVec 32) (k0_hw576 : k0_chk576 v8174), ∀ a, (k0_off1152 v8174) a + S1x1x1x128.size a ≤ S1x33344x1x128.size a := fun v8174 k0_hw576 => k0_hw576.2

def k0_off1153 (v8188 : BitVec 32) : Fin 4 → Nat :=
  let c0_8002 : Index := 0#32
  let v8189 : Index := Scalar.indexCast v8188
  let c0_8003 : Index := 0#32
  let c0_8004 : Index := 0#32
  ![0, v8189.toNat, 0, 0]

def k0_off1154 (v8188 : BitVec 32) : Fin 4 → Nat :=
  let c0_8008 : Index := 0#32
  let c1_i32_8007 : BitVec 32 := 1#32
  let v8195 : BitVec 32 := Scalar.addi v8188 c1_i32_8007
  let v8196 : Index := Scalar.indexCast v8195
  let c0_8009 : Index := 0#32
  let c0_8010 : Index := 0#32
  ![0, v8196.toNat, 0, 0]

def k0_chk577 (v8188 : BitVec 32) : Prop :=
  (∀ a, (k0_off1153 v8188) a + S1x1x1x128.size a ≤ S1x33344x1x128.size a) ∧
  (∀ a, (k0_off1154 v8188) a + S1x1x1x128.size a ≤ S1x33344x1x128.size a)
theorem k0_off1153_inb : ∀ (v8188 : BitVec 32) (k0_hw577 : k0_chk577 v8188), ∀ a, (k0_off1153 v8188) a + S1x1x1x128.size a ≤ S1x33344x1x128.size a := fun v8188 k0_hw577 => k0_hw577.1
theorem k0_off1154_inb : ∀ (v8188 : BitVec 32) (k0_hw577 : k0_chk577 v8188), ∀ a, (k0_off1154 v8188) a + S1x1x1x128.size a ≤ S1x33344x1x128.size a := fun v8188 k0_hw577 => k0_hw577.2

def k0_off1155 (v8202 : BitVec 32) : Fin 4 → Nat :=
  let c0_8016 : Index := 0#32
  let v8203 : Index := Scalar.indexCast v8202
  let c0_8017 : Index := 0#32
  let c0_8018 : Index := 0#32
  ![0, v8203.toNat, 0, 0]

def k0_off1156 (v8202 : BitVec 32) : Fin 4 → Nat :=
  let c0_8022 : Index := 0#32
  let c1_i32_8021 : BitVec 32 := 1#32
  let v8209 : BitVec 32 := Scalar.addi v8202 c1_i32_8021
  let v8210 : Index := Scalar.indexCast v8209
  let c0_8023 : Index := 0#32
  let c0_8024 : Index := 0#32
  ![0, v8210.toNat, 0, 0]

def k0_chk578 (v8202 : BitVec 32) : Prop :=
  (∀ a, (k0_off1155 v8202) a + S1x1x1x128.size a ≤ S1x33344x1x128.size a) ∧
  (∀ a, (k0_off1156 v8202) a + S1x1x1x128.size a ≤ S1x33344x1x128.size a)
theorem k0_off1155_inb : ∀ (v8202 : BitVec 32) (k0_hw578 : k0_chk578 v8202), ∀ a, (k0_off1155 v8202) a + S1x1x1x128.size a ≤ S1x33344x1x128.size a := fun v8202 k0_hw578 => k0_hw578.1
theorem k0_off1156_inb : ∀ (v8202 : BitVec 32) (k0_hw578 : k0_chk578 v8202), ∀ a, (k0_off1156 v8202) a + S1x1x1x128.size a ≤ S1x33344x1x128.size a := fun v8202 k0_hw578 => k0_hw578.2

def k0_off1157 (v8216 : BitVec 32) : Fin 4 → Nat :=
  let c0_8030 : Index := 0#32
  let v8217 : Index := Scalar.indexCast v8216
  let c0_8031 : Index := 0#32
  let c0_8032 : Index := 0#32
  ![0, v8217.toNat, 0, 0]

def k0_off1158 (v8216 : BitVec 32) : Fin 4 → Nat :=
  let c0_8036 : Index := 0#32
  let c1_i32_8035 : BitVec 32 := 1#32
  let v8223 : BitVec 32 := Scalar.addi v8216 c1_i32_8035
  let v8224 : Index := Scalar.indexCast v8223
  let c0_8037 : Index := 0#32
  let c0_8038 : Index := 0#32
  ![0, v8224.toNat, 0, 0]

def k0_chk579 (v8216 : BitVec 32) : Prop :=
  (∀ a, (k0_off1157 v8216) a + S1x1x1x128.size a ≤ S1x33344x1x128.size a) ∧
  (∀ a, (k0_off1158 v8216) a + S1x1x1x128.size a ≤ S1x33344x1x128.size a)
theorem k0_off1157_inb : ∀ (v8216 : BitVec 32) (k0_hw579 : k0_chk579 v8216), ∀ a, (k0_off1157 v8216) a + S1x1x1x128.size a ≤ S1x33344x1x128.size a := fun v8216 k0_hw579 => k0_hw579.1
theorem k0_off1158_inb : ∀ (v8216 : BitVec 32) (k0_hw579 : k0_chk579 v8216), ∀ a, (k0_off1158 v8216) a + S1x1x1x128.size a ≤ S1x33344x1x128.size a := fun v8216 k0_hw579 => k0_hw579.2

def k0_off1159 (v8230 : BitVec 32) : Fin 4 → Nat :=
  let c0_8044 : Index := 0#32
  let v8231 : Index := Scalar.indexCast v8230
  let c0_8045 : Index := 0#32
  let c0_8046 : Index := 0#32
  ![0, v8231.toNat, 0, 0]

def k0_off1160 (v8230 : BitVec 32) : Fin 4 → Nat :=
  let c0_8050 : Index := 0#32
  let c1_i32_8049 : BitVec 32 := 1#32
  let v8237 : BitVec 32 := Scalar.addi v8230 c1_i32_8049
  let v8238 : Index := Scalar.indexCast v8237
  let c0_8051 : Index := 0#32
  let c0_8052 : Index := 0#32
  ![0, v8238.toNat, 0, 0]

def k0_chk580 (v8230 : BitVec 32) : Prop :=
  (∀ a, (k0_off1159 v8230) a + S1x1x1x128.size a ≤ S1x33344x1x128.size a) ∧
  (∀ a, (k0_off1160 v8230) a + S1x1x1x128.size a ≤ S1x33344x1x128.size a)
theorem k0_off1159_inb : ∀ (v8230 : BitVec 32) (k0_hw580 : k0_chk580 v8230), ∀ a, (k0_off1159 v8230) a + S1x1x1x128.size a ≤ S1x33344x1x128.size a := fun v8230 k0_hw580 => k0_hw580.1
theorem k0_off1160_inb : ∀ (v8230 : BitVec 32) (k0_hw580 : k0_chk580 v8230), ∀ a, (k0_off1160 v8230) a + S1x1x1x128.size a ≤ S1x33344x1x128.size a := fun v8230 k0_hw580 => k0_hw580.2

def k0_off1161 (v8244 : BitVec 32) : Fin 4 → Nat :=
  let c0_8058 : Index := 0#32
  let v8245 : Index := Scalar.indexCast v8244
  let c0_8059 : Index := 0#32
  let c0_8060 : Index := 0#32
  ![0, v8245.toNat, 0, 0]

def k0_off1162 (v8244 : BitVec 32) : Fin 4 → Nat :=
  let c0_8064 : Index := 0#32
  let c1_i32_8063 : BitVec 32 := 1#32
  let v8251 : BitVec 32 := Scalar.addi v8244 c1_i32_8063
  let v8252 : Index := Scalar.indexCast v8251
  let c0_8065 : Index := 0#32
  let c0_8066 : Index := 0#32
  ![0, v8252.toNat, 0, 0]

def k0_chk581 (v8244 : BitVec 32) : Prop :=
  (∀ a, (k0_off1161 v8244) a + S1x1x1x128.size a ≤ S1x33344x1x128.size a) ∧
  (∀ a, (k0_off1162 v8244) a + S1x1x1x128.size a ≤ S1x33344x1x128.size a)
theorem k0_off1161_inb : ∀ (v8244 : BitVec 32) (k0_hw581 : k0_chk581 v8244), ∀ a, (k0_off1161 v8244) a + S1x1x1x128.size a ≤ S1x33344x1x128.size a := fun v8244 k0_hw581 => k0_hw581.1
theorem k0_off1162_inb : ∀ (v8244 : BitVec 32) (k0_hw581 : k0_chk581 v8244), ∀ a, (k0_off1162 v8244) a + S1x1x1x128.size a ≤ S1x33344x1x128.size a := fun v8244 k0_hw581 => k0_hw581.2

def k0_off1163 (v8258 : BitVec 32) : Fin 4 → Nat :=
  let c0_8072 : Index := 0#32
  let v8259 : Index := Scalar.indexCast v8258
  let c0_8073 : Index := 0#32
  let c0_8074 : Index := 0#32
  ![0, v8259.toNat, 0, 0]

def k0_off1164 (v8258 : BitVec 32) : Fin 4 → Nat :=
  let c0_8078 : Index := 0#32
  let c1_i32_8077 : BitVec 32 := 1#32
  let v8265 : BitVec 32 := Scalar.addi v8258 c1_i32_8077
  let v8266 : Index := Scalar.indexCast v8265
  let c0_8079 : Index := 0#32
  let c0_8080 : Index := 0#32
  ![0, v8266.toNat, 0, 0]

def k0_chk582 (v8258 : BitVec 32) : Prop :=
  (∀ a, (k0_off1163 v8258) a + S1x1x1x128.size a ≤ S1x33344x1x128.size a) ∧
  (∀ a, (k0_off1164 v8258) a + S1x1x1x128.size a ≤ S1x33344x1x128.size a)
theorem k0_off1163_inb : ∀ (v8258 : BitVec 32) (k0_hw582 : k0_chk582 v8258), ∀ a, (k0_off1163 v8258) a + S1x1x1x128.size a ≤ S1x33344x1x128.size a := fun v8258 k0_hw582 => k0_hw582.1
theorem k0_off1164_inb : ∀ (v8258 : BitVec 32) (k0_hw582 : k0_chk582 v8258), ∀ a, (k0_off1164 v8258) a + S1x1x1x128.size a ≤ S1x33344x1x128.size a := fun v8258 k0_hw582 => k0_hw582.2

def k0_off1165 (v8272 : BitVec 32) : Fin 4 → Nat :=
  let c0_8086 : Index := 0#32
  let v8273 : Index := Scalar.indexCast v8272
  let c0_8087 : Index := 0#32
  let c0_8088 : Index := 0#32
  ![0, v8273.toNat, 0, 0]

def k0_off1166 (v8272 : BitVec 32) : Fin 4 → Nat :=
  let c0_8092 : Index := 0#32
  let c1_i32_8091 : BitVec 32 := 1#32
  let v8279 : BitVec 32 := Scalar.addi v8272 c1_i32_8091
  let v8280 : Index := Scalar.indexCast v8279
  let c0_8093 : Index := 0#32
  let c0_8094 : Index := 0#32
  ![0, v8280.toNat, 0, 0]

def k0_chk583 (v8272 : BitVec 32) : Prop :=
  (∀ a, (k0_off1165 v8272) a + S1x1x1x128.size a ≤ S1x33344x1x128.size a) ∧
  (∀ a, (k0_off1166 v8272) a + S1x1x1x128.size a ≤ S1x33344x1x128.size a)
theorem k0_off1165_inb : ∀ (v8272 : BitVec 32) (k0_hw583 : k0_chk583 v8272), ∀ a, (k0_off1165 v8272) a + S1x1x1x128.size a ≤ S1x33344x1x128.size a := fun v8272 k0_hw583 => k0_hw583.1
theorem k0_off1166_inb : ∀ (v8272 : BitVec 32) (k0_hw583 : k0_chk583 v8272), ∀ a, (k0_off1166 v8272) a + S1x1x1x128.size a ≤ S1x33344x1x128.size a := fun v8272 k0_hw583 => k0_hw583.2

def k0_off1167 (v8286 : BitVec 32) : Fin 4 → Nat :=
  let c0_8100 : Index := 0#32
  let v8287 : Index := Scalar.indexCast v8286
  let c0_8101 : Index := 0#32
  let c0_8102 : Index := 0#32
  ![0, v8287.toNat, 0, 0]

def k0_off1168 (v8286 : BitVec 32) : Fin 4 → Nat :=
  let c0_8106 : Index := 0#32
  let c1_i32_8105 : BitVec 32 := 1#32
  let v8293 : BitVec 32 := Scalar.addi v8286 c1_i32_8105
  let v8294 : Index := Scalar.indexCast v8293
  let c0_8107 : Index := 0#32
  let c0_8108 : Index := 0#32
  ![0, v8294.toNat, 0, 0]

def k0_chk584 (v8286 : BitVec 32) : Prop :=
  (∀ a, (k0_off1167 v8286) a + S1x1x1x128.size a ≤ S1x33344x1x128.size a) ∧
  (∀ a, (k0_off1168 v8286) a + S1x1x1x128.size a ≤ S1x33344x1x128.size a)
theorem k0_off1167_inb : ∀ (v8286 : BitVec 32) (k0_hw584 : k0_chk584 v8286), ∀ a, (k0_off1167 v8286) a + S1x1x1x128.size a ≤ S1x33344x1x128.size a := fun v8286 k0_hw584 => k0_hw584.1
theorem k0_off1168_inb : ∀ (v8286 : BitVec 32) (k0_hw584 : k0_chk584 v8286), ∀ a, (k0_off1168 v8286) a + S1x1x1x128.size a ≤ S1x33344x1x128.size a := fun v8286 k0_hw584 => k0_hw584.2

def k0_off1169 (v8300 : BitVec 32) : Fin 4 → Nat :=
  let c0_8114 : Index := 0#32
  let v8301 : Index := Scalar.indexCast v8300
  let c0_8115 : Index := 0#32
  let c0_8116 : Index := 0#32
  ![0, v8301.toNat, 0, 0]

def k0_off1170 (v8300 : BitVec 32) : Fin 4 → Nat :=
  let c0_8120 : Index := 0#32
  let c1_i32_8119 : BitVec 32 := 1#32
  let v8307 : BitVec 32 := Scalar.addi v8300 c1_i32_8119
  let v8308 : Index := Scalar.indexCast v8307
  let c0_8121 : Index := 0#32
  let c0_8122 : Index := 0#32
  ![0, v8308.toNat, 0, 0]

def k0_chk585 (v8300 : BitVec 32) : Prop :=
  (∀ a, (k0_off1169 v8300) a + S1x1x1x128.size a ≤ S1x33344x1x128.size a) ∧
  (∀ a, (k0_off1170 v8300) a + S1x1x1x128.size a ≤ S1x33344x1x128.size a)
theorem k0_off1169_inb : ∀ (v8300 : BitVec 32) (k0_hw585 : k0_chk585 v8300), ∀ a, (k0_off1169 v8300) a + S1x1x1x128.size a ≤ S1x33344x1x128.size a := fun v8300 k0_hw585 => k0_hw585.1
theorem k0_off1170_inb : ∀ (v8300 : BitVec 32) (k0_hw585 : k0_chk585 v8300), ∀ a, (k0_off1170 v8300) a + S1x1x1x128.size a ≤ S1x33344x1x128.size a := fun v8300 k0_hw585 => k0_hw585.2

def k0_off1171 (v8314 : BitVec 32) : Fin 4 → Nat :=
  let c0_8128 : Index := 0#32
  let v8315 : Index := Scalar.indexCast v8314
  let c0_8129 : Index := 0#32
  let c0_8130 : Index := 0#32
  ![0, v8315.toNat, 0, 0]

def k0_off1172 (v8314 : BitVec 32) : Fin 4 → Nat :=
  let c0_8134 : Index := 0#32
  let c1_i32_8133 : BitVec 32 := 1#32
  let v8321 : BitVec 32 := Scalar.addi v8314 c1_i32_8133
  let v8322 : Index := Scalar.indexCast v8321
  let c0_8135 : Index := 0#32
  let c0_8136 : Index := 0#32
  ![0, v8322.toNat, 0, 0]

def k0_chk586 (v8314 : BitVec 32) : Prop :=
  (∀ a, (k0_off1171 v8314) a + S1x1x1x128.size a ≤ S1x33344x1x128.size a) ∧
  (∀ a, (k0_off1172 v8314) a + S1x1x1x128.size a ≤ S1x33344x1x128.size a)
theorem k0_off1171_inb : ∀ (v8314 : BitVec 32) (k0_hw586 : k0_chk586 v8314), ∀ a, (k0_off1171 v8314) a + S1x1x1x128.size a ≤ S1x33344x1x128.size a := fun v8314 k0_hw586 => k0_hw586.1
theorem k0_off1172_inb : ∀ (v8314 : BitVec 32) (k0_hw586 : k0_chk586 v8314), ∀ a, (k0_off1172 v8314) a + S1x1x1x128.size a ≤ S1x33344x1x128.size a := fun v8314 k0_hw586 => k0_hw586.2

def k0_off1173 (v8328 : BitVec 32) : Fin 4 → Nat :=
  let c0_8142 : Index := 0#32
  let v8329 : Index := Scalar.indexCast v8328
  let c0_8143 : Index := 0#32
  let c0_8144 : Index := 0#32
  ![0, v8329.toNat, 0, 0]

def k0_off1174 (v8328 : BitVec 32) : Fin 4 → Nat :=
  let c0_8148 : Index := 0#32
  let c1_i32_8147 : BitVec 32 := 1#32
  let v8335 : BitVec 32 := Scalar.addi v8328 c1_i32_8147
  let v8336 : Index := Scalar.indexCast v8335
  let c0_8149 : Index := 0#32
  let c0_8150 : Index := 0#32
  ![0, v8336.toNat, 0, 0]

def k0_chk587 (v8328 : BitVec 32) : Prop :=
  (∀ a, (k0_off1173 v8328) a + S1x1x1x128.size a ≤ S1x33344x1x128.size a) ∧
  (∀ a, (k0_off1174 v8328) a + S1x1x1x128.size a ≤ S1x33344x1x128.size a)
theorem k0_off1173_inb : ∀ (v8328 : BitVec 32) (k0_hw587 : k0_chk587 v8328), ∀ a, (k0_off1173 v8328) a + S1x1x1x128.size a ≤ S1x33344x1x128.size a := fun v8328 k0_hw587 => k0_hw587.1
theorem k0_off1174_inb : ∀ (v8328 : BitVec 32) (k0_hw587 : k0_chk587 v8328), ∀ a, (k0_off1174 v8328) a + S1x1x1x128.size a ≤ S1x33344x1x128.size a := fun v8328 k0_hw587 => k0_hw587.2

def k0_off1175 (v8342 : BitVec 32) : Fin 4 → Nat :=
  let c0_8156 : Index := 0#32
  let v8343 : Index := Scalar.indexCast v8342
  let c0_8157 : Index := 0#32
  let c0_8158 : Index := 0#32
  ![0, v8343.toNat, 0, 0]

def k0_off1176 (v8342 : BitVec 32) : Fin 4 → Nat :=
  let c0_8162 : Index := 0#32
  let c1_i32_8161 : BitVec 32 := 1#32
  let v8349 : BitVec 32 := Scalar.addi v8342 c1_i32_8161
  let v8350 : Index := Scalar.indexCast v8349
  let c0_8163 : Index := 0#32
  let c0_8164 : Index := 0#32
  ![0, v8350.toNat, 0, 0]

def k0_chk588 (v8342 : BitVec 32) : Prop :=
  (∀ a, (k0_off1175 v8342) a + S1x1x1x128.size a ≤ S1x33344x1x128.size a) ∧
  (∀ a, (k0_off1176 v8342) a + S1x1x1x128.size a ≤ S1x33344x1x128.size a)
theorem k0_off1175_inb : ∀ (v8342 : BitVec 32) (k0_hw588 : k0_chk588 v8342), ∀ a, (k0_off1175 v8342) a + S1x1x1x128.size a ≤ S1x33344x1x128.size a := fun v8342 k0_hw588 => k0_hw588.1
theorem k0_off1176_inb : ∀ (v8342 : BitVec 32) (k0_hw588 : k0_chk588 v8342), ∀ a, (k0_off1176 v8342) a + S1x1x1x128.size a ≤ S1x33344x1x128.size a := fun v8342 k0_hw588 => k0_hw588.2

def k0_off1177 (v8356 : BitVec 32) : Fin 4 → Nat :=
  let c0_8170 : Index := 0#32
  let v8357 : Index := Scalar.indexCast v8356
  let c0_8171 : Index := 0#32
  let c0_8172 : Index := 0#32
  ![0, v8357.toNat, 0, 0]

def k0_off1178 (v8356 : BitVec 32) : Fin 4 → Nat :=
  let c0_8176 : Index := 0#32
  let c1_i32_8175 : BitVec 32 := 1#32
  let v8363 : BitVec 32 := Scalar.addi v8356 c1_i32_8175
  let v8364 : Index := Scalar.indexCast v8363
  let c0_8177 : Index := 0#32
  let c0_8178 : Index := 0#32
  ![0, v8364.toNat, 0, 0]

def k0_chk589 (v8356 : BitVec 32) : Prop :=
  (∀ a, (k0_off1177 v8356) a + S1x1x1x128.size a ≤ S1x33344x1x128.size a) ∧
  (∀ a, (k0_off1178 v8356) a + S1x1x1x128.size a ≤ S1x33344x1x128.size a)
theorem k0_off1177_inb : ∀ (v8356 : BitVec 32) (k0_hw589 : k0_chk589 v8356), ∀ a, (k0_off1177 v8356) a + S1x1x1x128.size a ≤ S1x33344x1x128.size a := fun v8356 k0_hw589 => k0_hw589.1
theorem k0_off1178_inb : ∀ (v8356 : BitVec 32) (k0_hw589 : k0_chk589 v8356), ∀ a, (k0_off1178 v8356) a + S1x1x1x128.size a ≤ S1x33344x1x128.size a := fun v8356 k0_hw589 => k0_hw589.2

def k0_off1179 (v8370 : BitVec 32) : Fin 4 → Nat :=
  let c0_8184 : Index := 0#32
  let v8371 : Index := Scalar.indexCast v8370
  let c0_8185 : Index := 0#32
  let c0_8186 : Index := 0#32
  ![0, v8371.toNat, 0, 0]

def k0_off1180 (v8370 : BitVec 32) : Fin 4 → Nat :=
  let c0_8190 : Index := 0#32
  let c1_i32_8189 : BitVec 32 := 1#32
  let v8377 : BitVec 32 := Scalar.addi v8370 c1_i32_8189
  let v8378 : Index := Scalar.indexCast v8377
  let c0_8191 : Index := 0#32
  let c0_8192 : Index := 0#32
  ![0, v8378.toNat, 0, 0]

def k0_chk590 (v8370 : BitVec 32) : Prop :=
  (∀ a, (k0_off1179 v8370) a + S1x1x1x128.size a ≤ S1x33344x1x128.size a) ∧
  (∀ a, (k0_off1180 v8370) a + S1x1x1x128.size a ≤ S1x33344x1x128.size a)
theorem k0_off1179_inb : ∀ (v8370 : BitVec 32) (k0_hw590 : k0_chk590 v8370), ∀ a, (k0_off1179 v8370) a + S1x1x1x128.size a ≤ S1x33344x1x128.size a := fun v8370 k0_hw590 => k0_hw590.1
theorem k0_off1180_inb : ∀ (v8370 : BitVec 32) (k0_hw590 : k0_chk590 v8370), ∀ a, (k0_off1180 v8370) a + S1x1x1x128.size a ≤ S1x33344x1x128.size a := fun v8370 k0_hw590 => k0_hw590.2

def k0_off1181 (v8384 : BitVec 32) : Fin 4 → Nat :=
  let c0_8198 : Index := 0#32
  let v8385 : Index := Scalar.indexCast v8384
  let c0_8199 : Index := 0#32
  let c0_8200 : Index := 0#32
  ![0, v8385.toNat, 0, 0]

def k0_off1182 (v8384 : BitVec 32) : Fin 4 → Nat :=
  let c0_8204 : Index := 0#32
  let c1_i32_8203 : BitVec 32 := 1#32
  let v8391 : BitVec 32 := Scalar.addi v8384 c1_i32_8203
  let v8392 : Index := Scalar.indexCast v8391
  let c0_8205 : Index := 0#32
  let c0_8206 : Index := 0#32
  ![0, v8392.toNat, 0, 0]

def k0_chk591 (v8384 : BitVec 32) : Prop :=
  (∀ a, (k0_off1181 v8384) a + S1x1x1x128.size a ≤ S1x33344x1x128.size a) ∧
  (∀ a, (k0_off1182 v8384) a + S1x1x1x128.size a ≤ S1x33344x1x128.size a)
theorem k0_off1181_inb : ∀ (v8384 : BitVec 32) (k0_hw591 : k0_chk591 v8384), ∀ a, (k0_off1181 v8384) a + S1x1x1x128.size a ≤ S1x33344x1x128.size a := fun v8384 k0_hw591 => k0_hw591.1
theorem k0_off1182_inb : ∀ (v8384 : BitVec 32) (k0_hw591 : k0_chk591 v8384), ∀ a, (k0_off1182 v8384) a + S1x1x1x128.size a ≤ S1x33344x1x128.size a := fun v8384 k0_hw591 => k0_hw591.2

def k0_off1183 (v8398 : BitVec 32) : Fin 4 → Nat :=
  let c0_8212 : Index := 0#32
  let v8399 : Index := Scalar.indexCast v8398
  let c0_8213 : Index := 0#32
  let c0_8214 : Index := 0#32
  ![0, v8399.toNat, 0, 0]

def k0_off1184 (v8398 : BitVec 32) : Fin 4 → Nat :=
  let c0_8218 : Index := 0#32
  let c1_i32_8217 : BitVec 32 := 1#32
  let v8405 : BitVec 32 := Scalar.addi v8398 c1_i32_8217
  let v8406 : Index := Scalar.indexCast v8405
  let c0_8219 : Index := 0#32
  let c0_8220 : Index := 0#32
  ![0, v8406.toNat, 0, 0]

def k0_chk592 (v8398 : BitVec 32) : Prop :=
  (∀ a, (k0_off1183 v8398) a + S1x1x1x128.size a ≤ S1x33344x1x128.size a) ∧
  (∀ a, (k0_off1184 v8398) a + S1x1x1x128.size a ≤ S1x33344x1x128.size a)
theorem k0_off1183_inb : ∀ (v8398 : BitVec 32) (k0_hw592 : k0_chk592 v8398), ∀ a, (k0_off1183 v8398) a + S1x1x1x128.size a ≤ S1x33344x1x128.size a := fun v8398 k0_hw592 => k0_hw592.1
theorem k0_off1184_inb : ∀ (v8398 : BitVec 32) (k0_hw592 : k0_chk592 v8398), ∀ a, (k0_off1184 v8398) a + S1x1x1x128.size a ≤ S1x33344x1x128.size a := fun v8398 k0_hw592 => k0_hw592.2

def k0_off1185 (v8412 : BitVec 32) : Fin 4 → Nat :=
  let c0_8226 : Index := 0#32
  let v8413 : Index := Scalar.indexCast v8412
  let c0_8227 : Index := 0#32
  let c0_8228 : Index := 0#32
  ![0, v8413.toNat, 0, 0]

def k0_off1186 (v8412 : BitVec 32) : Fin 4 → Nat :=
  let c0_8232 : Index := 0#32
  let c1_i32_8231 : BitVec 32 := 1#32
  let v8419 : BitVec 32 := Scalar.addi v8412 c1_i32_8231
  let v8420 : Index := Scalar.indexCast v8419
  let c0_8233 : Index := 0#32
  let c0_8234 : Index := 0#32
  ![0, v8420.toNat, 0, 0]

def k0_chk593 (v8412 : BitVec 32) : Prop :=
  (∀ a, (k0_off1185 v8412) a + S1x1x1x128.size a ≤ S1x33344x1x128.size a) ∧
  (∀ a, (k0_off1186 v8412) a + S1x1x1x128.size a ≤ S1x33344x1x128.size a)
theorem k0_off1185_inb : ∀ (v8412 : BitVec 32) (k0_hw593 : k0_chk593 v8412), ∀ a, (k0_off1185 v8412) a + S1x1x1x128.size a ≤ S1x33344x1x128.size a := fun v8412 k0_hw593 => k0_hw593.1
theorem k0_off1186_inb : ∀ (v8412 : BitVec 32) (k0_hw593 : k0_chk593 v8412), ∀ a, (k0_off1186 v8412) a + S1x1x1x128.size a ≤ S1x33344x1x128.size a := fun v8412 k0_hw593 => k0_hw593.2

def k0_off1187 (v8426 : BitVec 32) : Fin 4 → Nat :=
  let c0_8240 : Index := 0#32
  let v8427 : Index := Scalar.indexCast v8426
  let c0_8241 : Index := 0#32
  let c0_8242 : Index := 0#32
  ![0, v8427.toNat, 0, 0]

def k0_off1188 (v8426 : BitVec 32) : Fin 4 → Nat :=
  let c0_8246 : Index := 0#32
  let c1_i32_8245 : BitVec 32 := 1#32
  let v8433 : BitVec 32 := Scalar.addi v8426 c1_i32_8245
  let v8434 : Index := Scalar.indexCast v8433
  let c0_8247 : Index := 0#32
  let c0_8248 : Index := 0#32
  ![0, v8434.toNat, 0, 0]

def k0_chk594 (v8426 : BitVec 32) : Prop :=
  (∀ a, (k0_off1187 v8426) a + S1x1x1x128.size a ≤ S1x33344x1x128.size a) ∧
  (∀ a, (k0_off1188 v8426) a + S1x1x1x128.size a ≤ S1x33344x1x128.size a)
theorem k0_off1187_inb : ∀ (v8426 : BitVec 32) (k0_hw594 : k0_chk594 v8426), ∀ a, (k0_off1187 v8426) a + S1x1x1x128.size a ≤ S1x33344x1x128.size a := fun v8426 k0_hw594 => k0_hw594.1
theorem k0_off1188_inb : ∀ (v8426 : BitVec 32) (k0_hw594 : k0_chk594 v8426), ∀ a, (k0_off1188 v8426) a + S1x1x1x128.size a ≤ S1x33344x1x128.size a := fun v8426 k0_hw594 => k0_hw594.2

def k0_off1189 (v8440 : BitVec 32) : Fin 4 → Nat :=
  let c0_8254 : Index := 0#32
  let v8441 : Index := Scalar.indexCast v8440
  let c0_8255 : Index := 0#32
  let c0_8256 : Index := 0#32
  ![0, v8441.toNat, 0, 0]

def k0_off1190 (v8440 : BitVec 32) : Fin 4 → Nat :=
  let c0_8260 : Index := 0#32
  let c1_i32_8259 : BitVec 32 := 1#32
  let v8447 : BitVec 32 := Scalar.addi v8440 c1_i32_8259
  let v8448 : Index := Scalar.indexCast v8447
  let c0_8261 : Index := 0#32
  let c0_8262 : Index := 0#32
  ![0, v8448.toNat, 0, 0]

def k0_chk595 (v8440 : BitVec 32) : Prop :=
  (∀ a, (k0_off1189 v8440) a + S1x1x1x128.size a ≤ S1x33344x1x128.size a) ∧
  (∀ a, (k0_off1190 v8440) a + S1x1x1x128.size a ≤ S1x33344x1x128.size a)
theorem k0_off1189_inb : ∀ (v8440 : BitVec 32) (k0_hw595 : k0_chk595 v8440), ∀ a, (k0_off1189 v8440) a + S1x1x1x128.size a ≤ S1x33344x1x128.size a := fun v8440 k0_hw595 => k0_hw595.1
theorem k0_off1190_inb : ∀ (v8440 : BitVec 32) (k0_hw595 : k0_chk595 v8440), ∀ a, (k0_off1190 v8440) a + S1x1x1x128.size a ≤ S1x33344x1x128.size a := fun v8440 k0_hw595 => k0_hw595.2

def k0_off1191 (v8454 : BitVec 32) : Fin 4 → Nat :=
  let c0_8268 : Index := 0#32
  let v8455 : Index := Scalar.indexCast v8454
  let c0_8269 : Index := 0#32
  let c0_8270 : Index := 0#32
  ![0, v8455.toNat, 0, 0]

def k0_off1192 (v8454 : BitVec 32) : Fin 4 → Nat :=
  let c0_8274 : Index := 0#32
  let c1_i32_8273 : BitVec 32 := 1#32
  let v8461 : BitVec 32 := Scalar.addi v8454 c1_i32_8273
  let v8462 : Index := Scalar.indexCast v8461
  let c0_8275 : Index := 0#32
  let c0_8276 : Index := 0#32
  ![0, v8462.toNat, 0, 0]

def k0_chk596 (v8454 : BitVec 32) : Prop :=
  (∀ a, (k0_off1191 v8454) a + S1x1x1x128.size a ≤ S1x33344x1x128.size a) ∧
  (∀ a, (k0_off1192 v8454) a + S1x1x1x128.size a ≤ S1x33344x1x128.size a)
theorem k0_off1191_inb : ∀ (v8454 : BitVec 32) (k0_hw596 : k0_chk596 v8454), ∀ a, (k0_off1191 v8454) a + S1x1x1x128.size a ≤ S1x33344x1x128.size a := fun v8454 k0_hw596 => k0_hw596.1
theorem k0_off1192_inb : ∀ (v8454 : BitVec 32) (k0_hw596 : k0_chk596 v8454), ∀ a, (k0_off1192 v8454) a + S1x1x1x128.size a ≤ S1x33344x1x128.size a := fun v8454 k0_hw596 => k0_hw596.2

def k0_off1193 (v8468 : BitVec 32) : Fin 4 → Nat :=
  let c0_8282 : Index := 0#32
  let v8469 : Index := Scalar.indexCast v8468
  let c0_8283 : Index := 0#32
  let c0_8284 : Index := 0#32
  ![0, v8469.toNat, 0, 0]

def k0_off1194 (v8468 : BitVec 32) : Fin 4 → Nat :=
  let c0_8288 : Index := 0#32
  let c1_i32_8287 : BitVec 32 := 1#32
  let v8475 : BitVec 32 := Scalar.addi v8468 c1_i32_8287
  let v8476 : Index := Scalar.indexCast v8475
  let c0_8289 : Index := 0#32
  let c0_8290 : Index := 0#32
  ![0, v8476.toNat, 0, 0]

def k0_chk597 (v8468 : BitVec 32) : Prop :=
  (∀ a, (k0_off1193 v8468) a + S1x1x1x128.size a ≤ S1x33344x1x128.size a) ∧
  (∀ a, (k0_off1194 v8468) a + S1x1x1x128.size a ≤ S1x33344x1x128.size a)
theorem k0_off1193_inb : ∀ (v8468 : BitVec 32) (k0_hw597 : k0_chk597 v8468), ∀ a, (k0_off1193 v8468) a + S1x1x1x128.size a ≤ S1x33344x1x128.size a := fun v8468 k0_hw597 => k0_hw597.1
theorem k0_off1194_inb : ∀ (v8468 : BitVec 32) (k0_hw597 : k0_chk597 v8468), ∀ a, (k0_off1194 v8468) a + S1x1x1x128.size a ≤ S1x33344x1x128.size a := fun v8468 k0_hw597 => k0_hw597.2

def k0_off1195 (v8482 : BitVec 32) : Fin 4 → Nat :=
  let c0_8296 : Index := 0#32
  let v8483 : Index := Scalar.indexCast v8482
  let c0_8297 : Index := 0#32
  let c0_8298 : Index := 0#32
  ![0, v8483.toNat, 0, 0]

def k0_off1196 (v8482 : BitVec 32) : Fin 4 → Nat :=
  let c0_8302 : Index := 0#32
  let c1_i32_8301 : BitVec 32 := 1#32
  let v8489 : BitVec 32 := Scalar.addi v8482 c1_i32_8301
  let v8490 : Index := Scalar.indexCast v8489
  let c0_8303 : Index := 0#32
  let c0_8304 : Index := 0#32
  ![0, v8490.toNat, 0, 0]

def k0_chk598 (v8482 : BitVec 32) : Prop :=
  (∀ a, (k0_off1195 v8482) a + S1x1x1x128.size a ≤ S1x33344x1x128.size a) ∧
  (∀ a, (k0_off1196 v8482) a + S1x1x1x128.size a ≤ S1x33344x1x128.size a)
theorem k0_off1195_inb : ∀ (v8482 : BitVec 32) (k0_hw598 : k0_chk598 v8482), ∀ a, (k0_off1195 v8482) a + S1x1x1x128.size a ≤ S1x33344x1x128.size a := fun v8482 k0_hw598 => k0_hw598.1
theorem k0_off1196_inb : ∀ (v8482 : BitVec 32) (k0_hw598 : k0_chk598 v8482), ∀ a, (k0_off1196 v8482) a + S1x1x1x128.size a ≤ S1x33344x1x128.size a := fun v8482 k0_hw598 => k0_hw598.2

def k0_off1197 (v8496 : BitVec 32) : Fin 4 → Nat :=
  let c0_8310 : Index := 0#32
  let v8497 : Index := Scalar.indexCast v8496
  let c0_8311 : Index := 0#32
  let c0_8312 : Index := 0#32
  ![0, v8497.toNat, 0, 0]

def k0_off1198 (v8496 : BitVec 32) : Fin 4 → Nat :=
  let c0_8316 : Index := 0#32
  let c1_i32_8315 : BitVec 32 := 1#32
  let v8503 : BitVec 32 := Scalar.addi v8496 c1_i32_8315
  let v8504 : Index := Scalar.indexCast v8503
  let c0_8317 : Index := 0#32
  let c0_8318 : Index := 0#32
  ![0, v8504.toNat, 0, 0]

def k0_chk599 (v8496 : BitVec 32) : Prop :=
  (∀ a, (k0_off1197 v8496) a + S1x1x1x128.size a ≤ S1x33344x1x128.size a) ∧
  (∀ a, (k0_off1198 v8496) a + S1x1x1x128.size a ≤ S1x33344x1x128.size a)
theorem k0_off1197_inb : ∀ (v8496 : BitVec 32) (k0_hw599 : k0_chk599 v8496), ∀ a, (k0_off1197 v8496) a + S1x1x1x128.size a ≤ S1x33344x1x128.size a := fun v8496 k0_hw599 => k0_hw599.1
theorem k0_off1198_inb : ∀ (v8496 : BitVec 32) (k0_hw599 : k0_chk599 v8496), ∀ a, (k0_off1198 v8496) a + S1x1x1x128.size a ≤ S1x33344x1x128.size a := fun v8496 k0_hw599 => k0_hw599.2

def k0_off1199 (v8510 : BitVec 32) : Fin 4 → Nat :=
  let c0_8324 : Index := 0#32
  let v8511 : Index := Scalar.indexCast v8510
  let c0_8325 : Index := 0#32
  let c0_8326 : Index := 0#32
  ![0, v8511.toNat, 0, 0]

def k0_off1200 (v8510 : BitVec 32) : Fin 4 → Nat :=
  let c0_8330 : Index := 0#32
  let c1_i32_8329 : BitVec 32 := 1#32
  let v8517 : BitVec 32 := Scalar.addi v8510 c1_i32_8329
  let v8518 : Index := Scalar.indexCast v8517
  let c0_8331 : Index := 0#32
  let c0_8332 : Index := 0#32
  ![0, v8518.toNat, 0, 0]

def k0_chk600 (v8510 : BitVec 32) : Prop :=
  (∀ a, (k0_off1199 v8510) a + S1x1x1x128.size a ≤ S1x33344x1x128.size a) ∧
  (∀ a, (k0_off1200 v8510) a + S1x1x1x128.size a ≤ S1x33344x1x128.size a)
theorem k0_off1199_inb : ∀ (v8510 : BitVec 32) (k0_hw600 : k0_chk600 v8510), ∀ a, (k0_off1199 v8510) a + S1x1x1x128.size a ≤ S1x33344x1x128.size a := fun v8510 k0_hw600 => k0_hw600.1
theorem k0_off1200_inb : ∀ (v8510 : BitVec 32) (k0_hw600 : k0_chk600 v8510), ∀ a, (k0_off1200 v8510) a + S1x1x1x128.size a ≤ S1x33344x1x128.size a := fun v8510 k0_hw600 => k0_hw600.2

def k0_off1201 (v8524 : BitVec 32) : Fin 4 → Nat :=
  let c0_8338 : Index := 0#32
  let v8525 : Index := Scalar.indexCast v8524
  let c0_8339 : Index := 0#32
  let c0_8340 : Index := 0#32
  ![0, v8525.toNat, 0, 0]

def k0_off1202 (v8524 : BitVec 32) : Fin 4 → Nat :=
  let c0_8344 : Index := 0#32
  let c1_i32_8343 : BitVec 32 := 1#32
  let v8531 : BitVec 32 := Scalar.addi v8524 c1_i32_8343
  let v8532 : Index := Scalar.indexCast v8531
  let c0_8345 : Index := 0#32
  let c0_8346 : Index := 0#32
  ![0, v8532.toNat, 0, 0]

def k0_chk601 (v8524 : BitVec 32) : Prop :=
  (∀ a, (k0_off1201 v8524) a + S1x1x1x128.size a ≤ S1x33344x1x128.size a) ∧
  (∀ a, (k0_off1202 v8524) a + S1x1x1x128.size a ≤ S1x33344x1x128.size a)
theorem k0_off1201_inb : ∀ (v8524 : BitVec 32) (k0_hw601 : k0_chk601 v8524), ∀ a, (k0_off1201 v8524) a + S1x1x1x128.size a ≤ S1x33344x1x128.size a := fun v8524 k0_hw601 => k0_hw601.1
theorem k0_off1202_inb : ∀ (v8524 : BitVec 32) (k0_hw601 : k0_chk601 v8524), ∀ a, (k0_off1202 v8524) a + S1x1x1x128.size a ≤ S1x33344x1x128.size a := fun v8524 k0_hw601 => k0_hw601.2

def k0_off1203 (v8538 : BitVec 32) : Fin 4 → Nat :=
  let c0_8352 : Index := 0#32
  let v8539 : Index := Scalar.indexCast v8538
  let c0_8353 : Index := 0#32
  let c0_8354 : Index := 0#32
  ![0, v8539.toNat, 0, 0]

def k0_off1204 (v8538 : BitVec 32) : Fin 4 → Nat :=
  let c0_8358 : Index := 0#32
  let c1_i32_8357 : BitVec 32 := 1#32
  let v8545 : BitVec 32 := Scalar.addi v8538 c1_i32_8357
  let v8546 : Index := Scalar.indexCast v8545
  let c0_8359 : Index := 0#32
  let c0_8360 : Index := 0#32
  ![0, v8546.toNat, 0, 0]

def k0_chk602 (v8538 : BitVec 32) : Prop :=
  (∀ a, (k0_off1203 v8538) a + S1x1x1x128.size a ≤ S1x33344x1x128.size a) ∧
  (∀ a, (k0_off1204 v8538) a + S1x1x1x128.size a ≤ S1x33344x1x128.size a)
theorem k0_off1203_inb : ∀ (v8538 : BitVec 32) (k0_hw602 : k0_chk602 v8538), ∀ a, (k0_off1203 v8538) a + S1x1x1x128.size a ≤ S1x33344x1x128.size a := fun v8538 k0_hw602 => k0_hw602.1
theorem k0_off1204_inb : ∀ (v8538 : BitVec 32) (k0_hw602 : k0_chk602 v8538), ∀ a, (k0_off1204 v8538) a + S1x1x1x128.size a ≤ S1x33344x1x128.size a := fun v8538 k0_hw602 => k0_hw602.2

def k0_off1205 (v8552 : BitVec 32) : Fin 4 → Nat :=
  let c0_8366 : Index := 0#32
  let v8553 : Index := Scalar.indexCast v8552
  let c0_8367 : Index := 0#32
  let c0_8368 : Index := 0#32
  ![0, v8553.toNat, 0, 0]

def k0_off1206 (v8552 : BitVec 32) : Fin 4 → Nat :=
  let c0_8372 : Index := 0#32
  let c1_i32_8371 : BitVec 32 := 1#32
  let v8559 : BitVec 32 := Scalar.addi v8552 c1_i32_8371
  let v8560 : Index := Scalar.indexCast v8559
  let c0_8373 : Index := 0#32
  let c0_8374 : Index := 0#32
  ![0, v8560.toNat, 0, 0]

def k0_chk603 (v8552 : BitVec 32) : Prop :=
  (∀ a, (k0_off1205 v8552) a + S1x1x1x128.size a ≤ S1x33344x1x128.size a) ∧
  (∀ a, (k0_off1206 v8552) a + S1x1x1x128.size a ≤ S1x33344x1x128.size a)
theorem k0_off1205_inb : ∀ (v8552 : BitVec 32) (k0_hw603 : k0_chk603 v8552), ∀ a, (k0_off1205 v8552) a + S1x1x1x128.size a ≤ S1x33344x1x128.size a := fun v8552 k0_hw603 => k0_hw603.1
theorem k0_off1206_inb : ∀ (v8552 : BitVec 32) (k0_hw603 : k0_chk603 v8552), ∀ a, (k0_off1206 v8552) a + S1x1x1x128.size a ≤ S1x33344x1x128.size a := fun v8552 k0_hw603 => k0_hw603.2

def k0_off1207 (v8566 : BitVec 32) : Fin 4 → Nat :=
  let c0_8380 : Index := 0#32
  let v8567 : Index := Scalar.indexCast v8566
  let c0_8381 : Index := 0#32
  let c0_8382 : Index := 0#32
  ![0, v8567.toNat, 0, 0]

def k0_off1208 (v8566 : BitVec 32) : Fin 4 → Nat :=
  let c0_8386 : Index := 0#32
  let c1_i32_8385 : BitVec 32 := 1#32
  let v8573 : BitVec 32 := Scalar.addi v8566 c1_i32_8385
  let v8574 : Index := Scalar.indexCast v8573
  let c0_8387 : Index := 0#32
  let c0_8388 : Index := 0#32
  ![0, v8574.toNat, 0, 0]

def k0_chk604 (v8566 : BitVec 32) : Prop :=
  (∀ a, (k0_off1207 v8566) a + S1x1x1x128.size a ≤ S1x33344x1x128.size a) ∧
  (∀ a, (k0_off1208 v8566) a + S1x1x1x128.size a ≤ S1x33344x1x128.size a)
theorem k0_off1207_inb : ∀ (v8566 : BitVec 32) (k0_hw604 : k0_chk604 v8566), ∀ a, (k0_off1207 v8566) a + S1x1x1x128.size a ≤ S1x33344x1x128.size a := fun v8566 k0_hw604 => k0_hw604.1
theorem k0_off1208_inb : ∀ (v8566 : BitVec 32) (k0_hw604 : k0_chk604 v8566), ∀ a, (k0_off1208 v8566) a + S1x1x1x128.size a ≤ S1x33344x1x128.size a := fun v8566 k0_hw604 => k0_hw604.2

def k0_off1209 (v8580 : BitVec 32) : Fin 4 → Nat :=
  let c0_8394 : Index := 0#32
  let v8581 : Index := Scalar.indexCast v8580
  let c0_8395 : Index := 0#32
  let c0_8396 : Index := 0#32
  ![0, v8581.toNat, 0, 0]

def k0_off1210 (v8580 : BitVec 32) : Fin 4 → Nat :=
  let c0_8400 : Index := 0#32
  let c1_i32_8399 : BitVec 32 := 1#32
  let v8587 : BitVec 32 := Scalar.addi v8580 c1_i32_8399
  let v8588 : Index := Scalar.indexCast v8587
  let c0_8401 : Index := 0#32
  let c0_8402 : Index := 0#32
  ![0, v8588.toNat, 0, 0]

def k0_chk605 (v8580 : BitVec 32) : Prop :=
  (∀ a, (k0_off1209 v8580) a + S1x1x1x128.size a ≤ S1x33344x1x128.size a) ∧
  (∀ a, (k0_off1210 v8580) a + S1x1x1x128.size a ≤ S1x33344x1x128.size a)
theorem k0_off1209_inb : ∀ (v8580 : BitVec 32) (k0_hw605 : k0_chk605 v8580), ∀ a, (k0_off1209 v8580) a + S1x1x1x128.size a ≤ S1x33344x1x128.size a := fun v8580 k0_hw605 => k0_hw605.1
theorem k0_off1210_inb : ∀ (v8580 : BitVec 32) (k0_hw605 : k0_chk605 v8580), ∀ a, (k0_off1210 v8580) a + S1x1x1x128.size a ≤ S1x33344x1x128.size a := fun v8580 k0_hw605 => k0_hw605.2

def k0_off1211 (v8594 : BitVec 32) : Fin 4 → Nat :=
  let c0_8408 : Index := 0#32
  let v8595 : Index := Scalar.indexCast v8594
  let c0_8409 : Index := 0#32
  let c0_8410 : Index := 0#32
  ![0, v8595.toNat, 0, 0]

def k0_off1212 (v8594 : BitVec 32) : Fin 4 → Nat :=
  let c0_8414 : Index := 0#32
  let c1_i32_8413 : BitVec 32 := 1#32
  let v8601 : BitVec 32 := Scalar.addi v8594 c1_i32_8413
  let v8602 : Index := Scalar.indexCast v8601
  let c0_8415 : Index := 0#32
  let c0_8416 : Index := 0#32
  ![0, v8602.toNat, 0, 0]

def k0_chk606 (v8594 : BitVec 32) : Prop :=
  (∀ a, (k0_off1211 v8594) a + S1x1x1x128.size a ≤ S1x33344x1x128.size a) ∧
  (∀ a, (k0_off1212 v8594) a + S1x1x1x128.size a ≤ S1x33344x1x128.size a)
theorem k0_off1211_inb : ∀ (v8594 : BitVec 32) (k0_hw606 : k0_chk606 v8594), ∀ a, (k0_off1211 v8594) a + S1x1x1x128.size a ≤ S1x33344x1x128.size a := fun v8594 k0_hw606 => k0_hw606.1
theorem k0_off1212_inb : ∀ (v8594 : BitVec 32) (k0_hw606 : k0_chk606 v8594), ∀ a, (k0_off1212 v8594) a + S1x1x1x128.size a ≤ S1x33344x1x128.size a := fun v8594 k0_hw606 => k0_hw606.2

def k0_off1213 (v8608 : BitVec 32) : Fin 4 → Nat :=
  let c0_8422 : Index := 0#32
  let v8609 : Index := Scalar.indexCast v8608
  let c0_8423 : Index := 0#32
  let c0_8424 : Index := 0#32
  ![0, v8609.toNat, 0, 0]

def k0_off1214 (v8608 : BitVec 32) : Fin 4 → Nat :=
  let c0_8428 : Index := 0#32
  let c1_i32_8427 : BitVec 32 := 1#32
  let v8615 : BitVec 32 := Scalar.addi v8608 c1_i32_8427
  let v8616 : Index := Scalar.indexCast v8615
  let c0_8429 : Index := 0#32
  let c0_8430 : Index := 0#32
  ![0, v8616.toNat, 0, 0]

def k0_chk607 (v8608 : BitVec 32) : Prop :=
  (∀ a, (k0_off1213 v8608) a + S1x1x1x128.size a ≤ S1x33344x1x128.size a) ∧
  (∀ a, (k0_off1214 v8608) a + S1x1x1x128.size a ≤ S1x33344x1x128.size a)
theorem k0_off1213_inb : ∀ (v8608 : BitVec 32) (k0_hw607 : k0_chk607 v8608), ∀ a, (k0_off1213 v8608) a + S1x1x1x128.size a ≤ S1x33344x1x128.size a := fun v8608 k0_hw607 => k0_hw607.1
theorem k0_off1214_inb : ∀ (v8608 : BitVec 32) (k0_hw607 : k0_chk607 v8608), ∀ a, (k0_off1214 v8608) a + S1x1x1x128.size a ≤ S1x33344x1x128.size a := fun v8608 k0_hw607 => k0_hw607.2

def k0_off1215 (v8622 : BitVec 32) : Fin 4 → Nat :=
  let c0_8436 : Index := 0#32
  let v8623 : Index := Scalar.indexCast v8622
  let c0_8437 : Index := 0#32
  let c0_8438 : Index := 0#32
  ![0, v8623.toNat, 0, 0]

def k0_off1216 (v8622 : BitVec 32) : Fin 4 → Nat :=
  let c0_8442 : Index := 0#32
  let c1_i32_8441 : BitVec 32 := 1#32
  let v8629 : BitVec 32 := Scalar.addi v8622 c1_i32_8441
  let v8630 : Index := Scalar.indexCast v8629
  let c0_8443 : Index := 0#32
  let c0_8444 : Index := 0#32
  ![0, v8630.toNat, 0, 0]

def k0_chk608 (v8622 : BitVec 32) : Prop :=
  (∀ a, (k0_off1215 v8622) a + S1x1x1x128.size a ≤ S1x33344x1x128.size a) ∧
  (∀ a, (k0_off1216 v8622) a + S1x1x1x128.size a ≤ S1x33344x1x128.size a)
theorem k0_off1215_inb : ∀ (v8622 : BitVec 32) (k0_hw608 : k0_chk608 v8622), ∀ a, (k0_off1215 v8622) a + S1x1x1x128.size a ≤ S1x33344x1x128.size a := fun v8622 k0_hw608 => k0_hw608.1
theorem k0_off1216_inb : ∀ (v8622 : BitVec 32) (k0_hw608 : k0_chk608 v8622), ∀ a, (k0_off1216 v8622) a + S1x1x1x128.size a ≤ S1x33344x1x128.size a := fun v8622 k0_hw608 => k0_hw608.2

def k0_off1217 (v8636 : BitVec 32) : Fin 4 → Nat :=
  let c0_8450 : Index := 0#32
  let v8637 : Index := Scalar.indexCast v8636
  let c0_8451 : Index := 0#32
  let c0_8452 : Index := 0#32
  ![0, v8637.toNat, 0, 0]

def k0_off1218 (v8636 : BitVec 32) : Fin 4 → Nat :=
  let c0_8456 : Index := 0#32
  let c1_i32_8455 : BitVec 32 := 1#32
  let v8643 : BitVec 32 := Scalar.addi v8636 c1_i32_8455
  let v8644 : Index := Scalar.indexCast v8643
  let c0_8457 : Index := 0#32
  let c0_8458 : Index := 0#32
  ![0, v8644.toNat, 0, 0]

def k0_chk609 (v8636 : BitVec 32) : Prop :=
  (∀ a, (k0_off1217 v8636) a + S1x1x1x128.size a ≤ S1x33344x1x128.size a) ∧
  (∀ a, (k0_off1218 v8636) a + S1x1x1x128.size a ≤ S1x33344x1x128.size a)
theorem k0_off1217_inb : ∀ (v8636 : BitVec 32) (k0_hw609 : k0_chk609 v8636), ∀ a, (k0_off1217 v8636) a + S1x1x1x128.size a ≤ S1x33344x1x128.size a := fun v8636 k0_hw609 => k0_hw609.1
theorem k0_off1218_inb : ∀ (v8636 : BitVec 32) (k0_hw609 : k0_chk609 v8636), ∀ a, (k0_off1218 v8636) a + S1x1x1x128.size a ≤ S1x33344x1x128.size a := fun v8636 k0_hw609 => k0_hw609.2

def k0_off1219 (v8650 : BitVec 32) : Fin 4 → Nat :=
  let c0_8464 : Index := 0#32
  let v8651 : Index := Scalar.indexCast v8650
  let c0_8465 : Index := 0#32
  let c0_8466 : Index := 0#32
  ![0, v8651.toNat, 0, 0]

def k0_off1220 (v8650 : BitVec 32) : Fin 4 → Nat :=
  let c0_8470 : Index := 0#32
  let c1_i32_8469 : BitVec 32 := 1#32
  let v8657 : BitVec 32 := Scalar.addi v8650 c1_i32_8469
  let v8658 : Index := Scalar.indexCast v8657
  let c0_8471 : Index := 0#32
  let c0_8472 : Index := 0#32
  ![0, v8658.toNat, 0, 0]

def k0_chk610 (v8650 : BitVec 32) : Prop :=
  (∀ a, (k0_off1219 v8650) a + S1x1x1x128.size a ≤ S1x33344x1x128.size a) ∧
  (∀ a, (k0_off1220 v8650) a + S1x1x1x128.size a ≤ S1x33344x1x128.size a)
theorem k0_off1219_inb : ∀ (v8650 : BitVec 32) (k0_hw610 : k0_chk610 v8650), ∀ a, (k0_off1219 v8650) a + S1x1x1x128.size a ≤ S1x33344x1x128.size a := fun v8650 k0_hw610 => k0_hw610.1
theorem k0_off1220_inb : ∀ (v8650 : BitVec 32) (k0_hw610 : k0_chk610 v8650), ∀ a, (k0_off1220 v8650) a + S1x1x1x128.size a ≤ S1x33344x1x128.size a := fun v8650 k0_hw610 => k0_hw610.2

def k0_off1221 (v8664 : BitVec 32) : Fin 4 → Nat :=
  let c0_8478 : Index := 0#32
  let v8665 : Index := Scalar.indexCast v8664
  let c0_8479 : Index := 0#32
  let c0_8480 : Index := 0#32
  ![0, v8665.toNat, 0, 0]

def k0_off1222 (v8664 : BitVec 32) : Fin 4 → Nat :=
  let c0_8484 : Index := 0#32
  let c1_i32_8483 : BitVec 32 := 1#32
  let v8671 : BitVec 32 := Scalar.addi v8664 c1_i32_8483
  let v8672 : Index := Scalar.indexCast v8671
  let c0_8485 : Index := 0#32
  let c0_8486 : Index := 0#32
  ![0, v8672.toNat, 0, 0]

def k0_chk611 (v8664 : BitVec 32) : Prop :=
  (∀ a, (k0_off1221 v8664) a + S1x1x1x128.size a ≤ S1x33344x1x128.size a) ∧
  (∀ a, (k0_off1222 v8664) a + S1x1x1x128.size a ≤ S1x33344x1x128.size a)
theorem k0_off1221_inb : ∀ (v8664 : BitVec 32) (k0_hw611 : k0_chk611 v8664), ∀ a, (k0_off1221 v8664) a + S1x1x1x128.size a ≤ S1x33344x1x128.size a := fun v8664 k0_hw611 => k0_hw611.1
theorem k0_off1222_inb : ∀ (v8664 : BitVec 32) (k0_hw611 : k0_chk611 v8664), ∀ a, (k0_off1222 v8664) a + S1x1x1x128.size a ≤ S1x33344x1x128.size a := fun v8664 k0_hw611 => k0_hw611.2

def k0_off1223 (v8678 : BitVec 32) : Fin 4 → Nat :=
  let c0_8492 : Index := 0#32
  let v8679 : Index := Scalar.indexCast v8678
  let c0_8493 : Index := 0#32
  let c0_8494 : Index := 0#32
  ![0, v8679.toNat, 0, 0]

def k0_off1224 (v8678 : BitVec 32) : Fin 4 → Nat :=
  let c0_8498 : Index := 0#32
  let c1_i32_8497 : BitVec 32 := 1#32
  let v8685 : BitVec 32 := Scalar.addi v8678 c1_i32_8497
  let v8686 : Index := Scalar.indexCast v8685
  let c0_8499 : Index := 0#32
  let c0_8500 : Index := 0#32
  ![0, v8686.toNat, 0, 0]

def k0_chk612 (v8678 : BitVec 32) : Prop :=
  (∀ a, (k0_off1223 v8678) a + S1x1x1x128.size a ≤ S1x33344x1x128.size a) ∧
  (∀ a, (k0_off1224 v8678) a + S1x1x1x128.size a ≤ S1x33344x1x128.size a)
theorem k0_off1223_inb : ∀ (v8678 : BitVec 32) (k0_hw612 : k0_chk612 v8678), ∀ a, (k0_off1223 v8678) a + S1x1x1x128.size a ≤ S1x33344x1x128.size a := fun v8678 k0_hw612 => k0_hw612.1
theorem k0_off1224_inb : ∀ (v8678 : BitVec 32) (k0_hw612 : k0_chk612 v8678), ∀ a, (k0_off1224 v8678) a + S1x1x1x128.size a ≤ S1x33344x1x128.size a := fun v8678 k0_hw612 => k0_hw612.2

def k0_off1225 (v8692 : BitVec 32) : Fin 4 → Nat :=
  let c0_8506 : Index := 0#32
  let v8693 : Index := Scalar.indexCast v8692
  let c0_8507 : Index := 0#32
  let c0_8508 : Index := 0#32
  ![0, v8693.toNat, 0, 0]

def k0_off1226 (v8692 : BitVec 32) : Fin 4 → Nat :=
  let c0_8512 : Index := 0#32
  let c1_i32_8511 : BitVec 32 := 1#32
  let v8699 : BitVec 32 := Scalar.addi v8692 c1_i32_8511
  let v8700 : Index := Scalar.indexCast v8699
  let c0_8513 : Index := 0#32
  let c0_8514 : Index := 0#32
  ![0, v8700.toNat, 0, 0]

def k0_chk613 (v8692 : BitVec 32) : Prop :=
  (∀ a, (k0_off1225 v8692) a + S1x1x1x128.size a ≤ S1x33344x1x128.size a) ∧
  (∀ a, (k0_off1226 v8692) a + S1x1x1x128.size a ≤ S1x33344x1x128.size a)
theorem k0_off1225_inb : ∀ (v8692 : BitVec 32) (k0_hw613 : k0_chk613 v8692), ∀ a, (k0_off1225 v8692) a + S1x1x1x128.size a ≤ S1x33344x1x128.size a := fun v8692 k0_hw613 => k0_hw613.1
theorem k0_off1226_inb : ∀ (v8692 : BitVec 32) (k0_hw613 : k0_chk613 v8692), ∀ a, (k0_off1226 v8692) a + S1x1x1x128.size a ≤ S1x33344x1x128.size a := fun v8692 k0_hw613 => k0_hw613.2

def k0_off1227 (v8706 : BitVec 32) : Fin 4 → Nat :=
  let c0_8520 : Index := 0#32
  let v8707 : Index := Scalar.indexCast v8706
  let c0_8521 : Index := 0#32
  let c0_8522 : Index := 0#32
  ![0, v8707.toNat, 0, 0]

def k0_off1228 (v8706 : BitVec 32) : Fin 4 → Nat :=
  let c0_8526 : Index := 0#32
  let c1_i32_8525 : BitVec 32 := 1#32
  let v8713 : BitVec 32 := Scalar.addi v8706 c1_i32_8525
  let v8714 : Index := Scalar.indexCast v8713
  let c0_8527 : Index := 0#32
  let c0_8528 : Index := 0#32
  ![0, v8714.toNat, 0, 0]

def k0_chk614 (v8706 : BitVec 32) : Prop :=
  (∀ a, (k0_off1227 v8706) a + S1x1x1x128.size a ≤ S1x33344x1x128.size a) ∧
  (∀ a, (k0_off1228 v8706) a + S1x1x1x128.size a ≤ S1x33344x1x128.size a)
theorem k0_off1227_inb : ∀ (v8706 : BitVec 32) (k0_hw614 : k0_chk614 v8706), ∀ a, (k0_off1227 v8706) a + S1x1x1x128.size a ≤ S1x33344x1x128.size a := fun v8706 k0_hw614 => k0_hw614.1
theorem k0_off1228_inb : ∀ (v8706 : BitVec 32) (k0_hw614 : k0_chk614 v8706), ∀ a, (k0_off1228 v8706) a + S1x1x1x128.size a ≤ S1x33344x1x128.size a := fun v8706 k0_hw614 => k0_hw614.2

def k0_off1229 (v8720 : BitVec 32) : Fin 4 → Nat :=
  let c0_8534 : Index := 0#32
  let v8721 : Index := Scalar.indexCast v8720
  let c0_8535 : Index := 0#32
  let c0_8536 : Index := 0#32
  ![0, v8721.toNat, 0, 0]

def k0_off1230 (v8720 : BitVec 32) : Fin 4 → Nat :=
  let c0_8540 : Index := 0#32
  let c1_i32_8539 : BitVec 32 := 1#32
  let v8727 : BitVec 32 := Scalar.addi v8720 c1_i32_8539
  let v8728 : Index := Scalar.indexCast v8727
  let c0_8541 : Index := 0#32
  let c0_8542 : Index := 0#32
  ![0, v8728.toNat, 0, 0]

def k0_chk615 (v8720 : BitVec 32) : Prop :=
  (∀ a, (k0_off1229 v8720) a + S1x1x1x128.size a ≤ S1x33344x1x128.size a) ∧
  (∀ a, (k0_off1230 v8720) a + S1x1x1x128.size a ≤ S1x33344x1x128.size a)
theorem k0_off1229_inb : ∀ (v8720 : BitVec 32) (k0_hw615 : k0_chk615 v8720), ∀ a, (k0_off1229 v8720) a + S1x1x1x128.size a ≤ S1x33344x1x128.size a := fun v8720 k0_hw615 => k0_hw615.1
theorem k0_off1230_inb : ∀ (v8720 : BitVec 32) (k0_hw615 : k0_chk615 v8720), ∀ a, (k0_off1230 v8720) a + S1x1x1x128.size a ≤ S1x33344x1x128.size a := fun v8720 k0_hw615 => k0_hw615.2

def k0_off1231 (v8734 : BitVec 32) : Fin 4 → Nat :=
  let c0_8548 : Index := 0#32
  let v8735 : Index := Scalar.indexCast v8734
  let c0_8549 : Index := 0#32
  let c0_8550 : Index := 0#32
  ![0, v8735.toNat, 0, 0]

def k0_off1232 (v8734 : BitVec 32) : Fin 4 → Nat :=
  let c0_8554 : Index := 0#32
  let c1_i32_8553 : BitVec 32 := 1#32
  let v8741 : BitVec 32 := Scalar.addi v8734 c1_i32_8553
  let v8742 : Index := Scalar.indexCast v8741
  let c0_8555 : Index := 0#32
  let c0_8556 : Index := 0#32
  ![0, v8742.toNat, 0, 0]

def k0_chk616 (v8734 : BitVec 32) : Prop :=
  (∀ a, (k0_off1231 v8734) a + S1x1x1x128.size a ≤ S1x33344x1x128.size a) ∧
  (∀ a, (k0_off1232 v8734) a + S1x1x1x128.size a ≤ S1x33344x1x128.size a)
theorem k0_off1231_inb : ∀ (v8734 : BitVec 32) (k0_hw616 : k0_chk616 v8734), ∀ a, (k0_off1231 v8734) a + S1x1x1x128.size a ≤ S1x33344x1x128.size a := fun v8734 k0_hw616 => k0_hw616.1
theorem k0_off1232_inb : ∀ (v8734 : BitVec 32) (k0_hw616 : k0_chk616 v8734), ∀ a, (k0_off1232 v8734) a + S1x1x1x128.size a ≤ S1x33344x1x128.size a := fun v8734 k0_hw616 => k0_hw616.2

def k0_off1233 (v8748 : BitVec 32) : Fin 4 → Nat :=
  let c0_8562 : Index := 0#32
  let v8749 : Index := Scalar.indexCast v8748
  let c0_8563 : Index := 0#32
  let c0_8564 : Index := 0#32
  ![0, v8749.toNat, 0, 0]

def k0_off1234 (v8748 : BitVec 32) : Fin 4 → Nat :=
  let c0_8568 : Index := 0#32
  let c1_i32_8567 : BitVec 32 := 1#32
  let v8755 : BitVec 32 := Scalar.addi v8748 c1_i32_8567
  let v8756 : Index := Scalar.indexCast v8755
  let c0_8569 : Index := 0#32
  let c0_8570 : Index := 0#32
  ![0, v8756.toNat, 0, 0]

def k0_chk617 (v8748 : BitVec 32) : Prop :=
  (∀ a, (k0_off1233 v8748) a + S1x1x1x128.size a ≤ S1x33344x1x128.size a) ∧
  (∀ a, (k0_off1234 v8748) a + S1x1x1x128.size a ≤ S1x33344x1x128.size a)
theorem k0_off1233_inb : ∀ (v8748 : BitVec 32) (k0_hw617 : k0_chk617 v8748), ∀ a, (k0_off1233 v8748) a + S1x1x1x128.size a ≤ S1x33344x1x128.size a := fun v8748 k0_hw617 => k0_hw617.1
theorem k0_off1234_inb : ∀ (v8748 : BitVec 32) (k0_hw617 : k0_chk617 v8748), ∀ a, (k0_off1234 v8748) a + S1x1x1x128.size a ≤ S1x33344x1x128.size a := fun v8748 k0_hw617 => k0_hw617.2

def k0_off1235 (v8762 : BitVec 32) : Fin 4 → Nat :=
  let c0_8576 : Index := 0#32
  let v8763 : Index := Scalar.indexCast v8762
  let c0_8577 : Index := 0#32
  let c0_8578 : Index := 0#32
  ![0, v8763.toNat, 0, 0]

def k0_off1236 (v8762 : BitVec 32) : Fin 4 → Nat :=
  let c0_8582 : Index := 0#32
  let c1_i32_8581 : BitVec 32 := 1#32
  let v8769 : BitVec 32 := Scalar.addi v8762 c1_i32_8581
  let v8770 : Index := Scalar.indexCast v8769
  let c0_8583 : Index := 0#32
  let c0_8584 : Index := 0#32
  ![0, v8770.toNat, 0, 0]

def k0_chk618 (v8762 : BitVec 32) : Prop :=
  (∀ a, (k0_off1235 v8762) a + S1x1x1x128.size a ≤ S1x33344x1x128.size a) ∧
  (∀ a, (k0_off1236 v8762) a + S1x1x1x128.size a ≤ S1x33344x1x128.size a)
theorem k0_off1235_inb : ∀ (v8762 : BitVec 32) (k0_hw618 : k0_chk618 v8762), ∀ a, (k0_off1235 v8762) a + S1x1x1x128.size a ≤ S1x33344x1x128.size a := fun v8762 k0_hw618 => k0_hw618.1
theorem k0_off1236_inb : ∀ (v8762 : BitVec 32) (k0_hw618 : k0_chk618 v8762), ∀ a, (k0_off1236 v8762) a + S1x1x1x128.size a ≤ S1x33344x1x128.size a := fun v8762 k0_hw618 => k0_hw618.2

def k0_off1237 (v8776 : BitVec 32) : Fin 4 → Nat :=
  let c0_8590 : Index := 0#32
  let v8777 : Index := Scalar.indexCast v8776
  let c0_8591 : Index := 0#32
  let c0_8592 : Index := 0#32
  ![0, v8777.toNat, 0, 0]

def k0_off1238 (v8776 : BitVec 32) : Fin 4 → Nat :=
  let c0_8596 : Index := 0#32
  let c1_i32_8595 : BitVec 32 := 1#32
  let v8783 : BitVec 32 := Scalar.addi v8776 c1_i32_8595
  let v8784 : Index := Scalar.indexCast v8783
  let c0_8597 : Index := 0#32
  let c0_8598 : Index := 0#32
  ![0, v8784.toNat, 0, 0]

def k0_chk619 (v8776 : BitVec 32) : Prop :=
  (∀ a, (k0_off1237 v8776) a + S1x1x1x128.size a ≤ S1x33344x1x128.size a) ∧
  (∀ a, (k0_off1238 v8776) a + S1x1x1x128.size a ≤ S1x33344x1x128.size a)
theorem k0_off1237_inb : ∀ (v8776 : BitVec 32) (k0_hw619 : k0_chk619 v8776), ∀ a, (k0_off1237 v8776) a + S1x1x1x128.size a ≤ S1x33344x1x128.size a := fun v8776 k0_hw619 => k0_hw619.1
theorem k0_off1238_inb : ∀ (v8776 : BitVec 32) (k0_hw619 : k0_chk619 v8776), ∀ a, (k0_off1238 v8776) a + S1x1x1x128.size a ≤ S1x33344x1x128.size a := fun v8776 k0_hw619 => k0_hw619.2

def k0_off1239 (v8790 : BitVec 32) : Fin 4 → Nat :=
  let c0_8604 : Index := 0#32
  let v8791 : Index := Scalar.indexCast v8790
  let c0_8605 : Index := 0#32
  let c0_8606 : Index := 0#32
  ![0, v8791.toNat, 0, 0]

def k0_off1240 (v8790 : BitVec 32) : Fin 4 → Nat :=
  let c0_8610 : Index := 0#32
  let c1_i32_8609 : BitVec 32 := 1#32
  let v8797 : BitVec 32 := Scalar.addi v8790 c1_i32_8609
  let v8798 : Index := Scalar.indexCast v8797
  let c0_8611 : Index := 0#32
  let c0_8612 : Index := 0#32
  ![0, v8798.toNat, 0, 0]

def k0_chk620 (v8790 : BitVec 32) : Prop :=
  (∀ a, (k0_off1239 v8790) a + S1x1x1x128.size a ≤ S1x33344x1x128.size a) ∧
  (∀ a, (k0_off1240 v8790) a + S1x1x1x128.size a ≤ S1x33344x1x128.size a)
theorem k0_off1239_inb : ∀ (v8790 : BitVec 32) (k0_hw620 : k0_chk620 v8790), ∀ a, (k0_off1239 v8790) a + S1x1x1x128.size a ≤ S1x33344x1x128.size a := fun v8790 k0_hw620 => k0_hw620.1
theorem k0_off1240_inb : ∀ (v8790 : BitVec 32) (k0_hw620 : k0_chk620 v8790), ∀ a, (k0_off1240 v8790) a + S1x1x1x128.size a ≤ S1x33344x1x128.size a := fun v8790 k0_hw620 => k0_hw620.2

def k0_off1241 (v8804 : BitVec 32) : Fin 4 → Nat :=
  let c0_8618 : Index := 0#32
  let v8805 : Index := Scalar.indexCast v8804
  let c0_8619 : Index := 0#32
  let c0_8620 : Index := 0#32
  ![0, v8805.toNat, 0, 0]

def k0_off1242 (v8804 : BitVec 32) : Fin 4 → Nat :=
  let c0_8624 : Index := 0#32
  let c1_i32_8623 : BitVec 32 := 1#32
  let v8811 : BitVec 32 := Scalar.addi v8804 c1_i32_8623
  let v8812 : Index := Scalar.indexCast v8811
  let c0_8625 : Index := 0#32
  let c0_8626 : Index := 0#32
  ![0, v8812.toNat, 0, 0]

def k0_chk621 (v8804 : BitVec 32) : Prop :=
  (∀ a, (k0_off1241 v8804) a + S1x1x1x128.size a ≤ S1x33344x1x128.size a) ∧
  (∀ a, (k0_off1242 v8804) a + S1x1x1x128.size a ≤ S1x33344x1x128.size a)
theorem k0_off1241_inb : ∀ (v8804 : BitVec 32) (k0_hw621 : k0_chk621 v8804), ∀ a, (k0_off1241 v8804) a + S1x1x1x128.size a ≤ S1x33344x1x128.size a := fun v8804 k0_hw621 => k0_hw621.1
theorem k0_off1242_inb : ∀ (v8804 : BitVec 32) (k0_hw621 : k0_chk621 v8804), ∀ a, (k0_off1242 v8804) a + S1x1x1x128.size a ≤ S1x33344x1x128.size a := fun v8804 k0_hw621 => k0_hw621.2

def k0_off1243 (v8818 : BitVec 32) : Fin 4 → Nat :=
  let c0_8632 : Index := 0#32
  let v8819 : Index := Scalar.indexCast v8818
  let c0_8633 : Index := 0#32
  let c0_8634 : Index := 0#32
  ![0, v8819.toNat, 0, 0]

def k0_off1244 (v8818 : BitVec 32) : Fin 4 → Nat :=
  let c0_8638 : Index := 0#32
  let c1_i32_8637 : BitVec 32 := 1#32
  let v8825 : BitVec 32 := Scalar.addi v8818 c1_i32_8637
  let v8826 : Index := Scalar.indexCast v8825
  let c0_8639 : Index := 0#32
  let c0_8640 : Index := 0#32
  ![0, v8826.toNat, 0, 0]

def k0_chk622 (v8818 : BitVec 32) : Prop :=
  (∀ a, (k0_off1243 v8818) a + S1x1x1x128.size a ≤ S1x33344x1x128.size a) ∧
  (∀ a, (k0_off1244 v8818) a + S1x1x1x128.size a ≤ S1x33344x1x128.size a)
theorem k0_off1243_inb : ∀ (v8818 : BitVec 32) (k0_hw622 : k0_chk622 v8818), ∀ a, (k0_off1243 v8818) a + S1x1x1x128.size a ≤ S1x33344x1x128.size a := fun v8818 k0_hw622 => k0_hw622.1
theorem k0_off1244_inb : ∀ (v8818 : BitVec 32) (k0_hw622 : k0_chk622 v8818), ∀ a, (k0_off1244 v8818) a + S1x1x1x128.size a ≤ S1x33344x1x128.size a := fun v8818 k0_hw622 => k0_hw622.2

def k0_off1245 (v8832 : BitVec 32) : Fin 4 → Nat :=
  let c0_8646 : Index := 0#32
  let v8833 : Index := Scalar.indexCast v8832
  let c0_8647 : Index := 0#32
  let c0_8648 : Index := 0#32
  ![0, v8833.toNat, 0, 0]

def k0_off1246 (v8832 : BitVec 32) : Fin 4 → Nat :=
  let c0_8652 : Index := 0#32
  let c1_i32_8651 : BitVec 32 := 1#32
  let v8839 : BitVec 32 := Scalar.addi v8832 c1_i32_8651
  let v8840 : Index := Scalar.indexCast v8839
  let c0_8653 : Index := 0#32
  let c0_8654 : Index := 0#32
  ![0, v8840.toNat, 0, 0]

def k0_chk623 (v8832 : BitVec 32) : Prop :=
  (∀ a, (k0_off1245 v8832) a + S1x1x1x128.size a ≤ S1x33344x1x128.size a) ∧
  (∀ a, (k0_off1246 v8832) a + S1x1x1x128.size a ≤ S1x33344x1x128.size a)
theorem k0_off1245_inb : ∀ (v8832 : BitVec 32) (k0_hw623 : k0_chk623 v8832), ∀ a, (k0_off1245 v8832) a + S1x1x1x128.size a ≤ S1x33344x1x128.size a := fun v8832 k0_hw623 => k0_hw623.1
theorem k0_off1246_inb : ∀ (v8832 : BitVec 32) (k0_hw623 : k0_chk623 v8832), ∀ a, (k0_off1246 v8832) a + S1x1x1x128.size a ≤ S1x33344x1x128.size a := fun v8832 k0_hw623 => k0_hw623.2

def k0_off1247 (v8846 : BitVec 32) : Fin 4 → Nat :=
  let c0_8660 : Index := 0#32
  let v8847 : Index := Scalar.indexCast v8846
  let c0_8661 : Index := 0#32
  let c0_8662 : Index := 0#32
  ![0, v8847.toNat, 0, 0]

def k0_off1248 (v8846 : BitVec 32) : Fin 4 → Nat :=
  let c0_8666 : Index := 0#32
  let c1_i32_8665 : BitVec 32 := 1#32
  let v8853 : BitVec 32 := Scalar.addi v8846 c1_i32_8665
  let v8854 : Index := Scalar.indexCast v8853
  let c0_8667 : Index := 0#32
  let c0_8668 : Index := 0#32
  ![0, v8854.toNat, 0, 0]

def k0_chk624 (v8846 : BitVec 32) : Prop :=
  (∀ a, (k0_off1247 v8846) a + S1x1x1x128.size a ≤ S1x33344x1x128.size a) ∧
  (∀ a, (k0_off1248 v8846) a + S1x1x1x128.size a ≤ S1x33344x1x128.size a)
theorem k0_off1247_inb : ∀ (v8846 : BitVec 32) (k0_hw624 : k0_chk624 v8846), ∀ a, (k0_off1247 v8846) a + S1x1x1x128.size a ≤ S1x33344x1x128.size a := fun v8846 k0_hw624 => k0_hw624.1
theorem k0_off1248_inb : ∀ (v8846 : BitVec 32) (k0_hw624 : k0_chk624 v8846), ∀ a, (k0_off1248 v8846) a + S1x1x1x128.size a ≤ S1x33344x1x128.size a := fun v8846 k0_hw624 => k0_hw624.2

def k0_off1249 (v8860 : BitVec 32) : Fin 4 → Nat :=
  let c0_8674 : Index := 0#32
  let v8861 : Index := Scalar.indexCast v8860
  let c0_8675 : Index := 0#32
  let c0_8676 : Index := 0#32
  ![0, v8861.toNat, 0, 0]

def k0_off1250 (v8860 : BitVec 32) : Fin 4 → Nat :=
  let c0_8680 : Index := 0#32
  let c1_i32_8679 : BitVec 32 := 1#32
  let v8867 : BitVec 32 := Scalar.addi v8860 c1_i32_8679
  let v8868 : Index := Scalar.indexCast v8867
  let c0_8681 : Index := 0#32
  let c0_8682 : Index := 0#32
  ![0, v8868.toNat, 0, 0]

def k0_chk625 (v8860 : BitVec 32) : Prop :=
  (∀ a, (k0_off1249 v8860) a + S1x1x1x128.size a ≤ S1x33344x1x128.size a) ∧
  (∀ a, (k0_off1250 v8860) a + S1x1x1x128.size a ≤ S1x33344x1x128.size a)
theorem k0_off1249_inb : ∀ (v8860 : BitVec 32) (k0_hw625 : k0_chk625 v8860), ∀ a, (k0_off1249 v8860) a + S1x1x1x128.size a ≤ S1x33344x1x128.size a := fun v8860 k0_hw625 => k0_hw625.1
theorem k0_off1250_inb : ∀ (v8860 : BitVec 32) (k0_hw625 : k0_chk625 v8860), ∀ a, (k0_off1250 v8860) a + S1x1x1x128.size a ≤ S1x33344x1x128.size a := fun v8860 k0_hw625 => k0_hw625.2

def k0_off1251 (v8874 : BitVec 32) : Fin 4 → Nat :=
  let c0_8688 : Index := 0#32
  let v8875 : Index := Scalar.indexCast v8874
  let c0_8689 : Index := 0#32
  let c0_8690 : Index := 0#32
  ![0, v8875.toNat, 0, 0]

def k0_off1252 (v8874 : BitVec 32) : Fin 4 → Nat :=
  let c0_8694 : Index := 0#32
  let c1_i32_8693 : BitVec 32 := 1#32
  let v8881 : BitVec 32 := Scalar.addi v8874 c1_i32_8693
  let v8882 : Index := Scalar.indexCast v8881
  let c0_8695 : Index := 0#32
  let c0_8696 : Index := 0#32
  ![0, v8882.toNat, 0, 0]

def k0_chk626 (v8874 : BitVec 32) : Prop :=
  (∀ a, (k0_off1251 v8874) a + S1x1x1x128.size a ≤ S1x33344x1x128.size a) ∧
  (∀ a, (k0_off1252 v8874) a + S1x1x1x128.size a ≤ S1x33344x1x128.size a)
theorem k0_off1251_inb : ∀ (v8874 : BitVec 32) (k0_hw626 : k0_chk626 v8874), ∀ a, (k0_off1251 v8874) a + S1x1x1x128.size a ≤ S1x33344x1x128.size a := fun v8874 k0_hw626 => k0_hw626.1
theorem k0_off1252_inb : ∀ (v8874 : BitVec 32) (k0_hw626 : k0_chk626 v8874), ∀ a, (k0_off1252 v8874) a + S1x1x1x128.size a ≤ S1x33344x1x128.size a := fun v8874 k0_hw626 => k0_hw626.2

def k0_off1253 (v8888 : BitVec 32) : Fin 4 → Nat :=
  let c0_8702 : Index := 0#32
  let v8889 : Index := Scalar.indexCast v8888
  let c0_8703 : Index := 0#32
  let c0_8704 : Index := 0#32
  ![0, v8889.toNat, 0, 0]

def k0_off1254 (v8888 : BitVec 32) : Fin 4 → Nat :=
  let c0_8708 : Index := 0#32
  let c1_i32_8707 : BitVec 32 := 1#32
  let v8895 : BitVec 32 := Scalar.addi v8888 c1_i32_8707
  let v8896 : Index := Scalar.indexCast v8895
  let c0_8709 : Index := 0#32
  let c0_8710 : Index := 0#32
  ![0, v8896.toNat, 0, 0]

def k0_chk627 (v8888 : BitVec 32) : Prop :=
  (∀ a, (k0_off1253 v8888) a + S1x1x1x128.size a ≤ S1x33344x1x128.size a) ∧
  (∀ a, (k0_off1254 v8888) a + S1x1x1x128.size a ≤ S1x33344x1x128.size a)
theorem k0_off1253_inb : ∀ (v8888 : BitVec 32) (k0_hw627 : k0_chk627 v8888), ∀ a, (k0_off1253 v8888) a + S1x1x1x128.size a ≤ S1x33344x1x128.size a := fun v8888 k0_hw627 => k0_hw627.1
theorem k0_off1254_inb : ∀ (v8888 : BitVec 32) (k0_hw627 : k0_chk627 v8888), ∀ a, (k0_off1254 v8888) a + S1x1x1x128.size a ≤ S1x33344x1x128.size a := fun v8888 k0_hw627 => k0_hw627.2

def k0_off1255 (v8902 : BitVec 32) : Fin 4 → Nat :=
  let c0_8716 : Index := 0#32
  let v8903 : Index := Scalar.indexCast v8902
  let c0_8717 : Index := 0#32
  let c0_8718 : Index := 0#32
  ![0, v8903.toNat, 0, 0]

def k0_off1256 (v8902 : BitVec 32) : Fin 4 → Nat :=
  let c0_8722 : Index := 0#32
  let c1_i32_8721 : BitVec 32 := 1#32
  let v8909 : BitVec 32 := Scalar.addi v8902 c1_i32_8721
  let v8910 : Index := Scalar.indexCast v8909
  let c0_8723 : Index := 0#32
  let c0_8724 : Index := 0#32
  ![0, v8910.toNat, 0, 0]

def k0_chk628 (v8902 : BitVec 32) : Prop :=
  (∀ a, (k0_off1255 v8902) a + S1x1x1x128.size a ≤ S1x33344x1x128.size a) ∧
  (∀ a, (k0_off1256 v8902) a + S1x1x1x128.size a ≤ S1x33344x1x128.size a)
theorem k0_off1255_inb : ∀ (v8902 : BitVec 32) (k0_hw628 : k0_chk628 v8902), ∀ a, (k0_off1255 v8902) a + S1x1x1x128.size a ≤ S1x33344x1x128.size a := fun v8902 k0_hw628 => k0_hw628.1
theorem k0_off1256_inb : ∀ (v8902 : BitVec 32) (k0_hw628 : k0_chk628 v8902), ∀ a, (k0_off1256 v8902) a + S1x1x1x128.size a ≤ S1x33344x1x128.size a := fun v8902 k0_hw628 => k0_hw628.2

def k0_off1257 (v8916 : BitVec 32) : Fin 4 → Nat :=
  let c0_8730 : Index := 0#32
  let v8917 : Index := Scalar.indexCast v8916
  let c0_8731 : Index := 0#32
  let c0_8732 : Index := 0#32
  ![0, v8917.toNat, 0, 0]

def k0_off1258 (v8916 : BitVec 32) : Fin 4 → Nat :=
  let c0_8736 : Index := 0#32
  let c1_i32_8735 : BitVec 32 := 1#32
  let v8923 : BitVec 32 := Scalar.addi v8916 c1_i32_8735
  let v8924 : Index := Scalar.indexCast v8923
  let c0_8737 : Index := 0#32
  let c0_8738 : Index := 0#32
  ![0, v8924.toNat, 0, 0]

def k0_chk629 (v8916 : BitVec 32) : Prop :=
  (∀ a, (k0_off1257 v8916) a + S1x1x1x128.size a ≤ S1x33344x1x128.size a) ∧
  (∀ a, (k0_off1258 v8916) a + S1x1x1x128.size a ≤ S1x33344x1x128.size a)
theorem k0_off1257_inb : ∀ (v8916 : BitVec 32) (k0_hw629 : k0_chk629 v8916), ∀ a, (k0_off1257 v8916) a + S1x1x1x128.size a ≤ S1x33344x1x128.size a := fun v8916 k0_hw629 => k0_hw629.1
theorem k0_off1258_inb : ∀ (v8916 : BitVec 32) (k0_hw629 : k0_chk629 v8916), ∀ a, (k0_off1258 v8916) a + S1x1x1x128.size a ≤ S1x33344x1x128.size a := fun v8916 k0_hw629 => k0_hw629.2

def k0_off1259 (v8930 : BitVec 32) : Fin 4 → Nat :=
  let c0_8744 : Index := 0#32
  let v8931 : Index := Scalar.indexCast v8930
  let c0_8745 : Index := 0#32
  let c0_8746 : Index := 0#32
  ![0, v8931.toNat, 0, 0]

def k0_off1260 (v8930 : BitVec 32) : Fin 4 → Nat :=
  let c0_8750 : Index := 0#32
  let c1_i32_8749 : BitVec 32 := 1#32
  let v8937 : BitVec 32 := Scalar.addi v8930 c1_i32_8749
  let v8938 : Index := Scalar.indexCast v8937
  let c0_8751 : Index := 0#32
  let c0_8752 : Index := 0#32
  ![0, v8938.toNat, 0, 0]

def k0_chk630 (v8930 : BitVec 32) : Prop :=
  (∀ a, (k0_off1259 v8930) a + S1x1x1x128.size a ≤ S1x33344x1x128.size a) ∧
  (∀ a, (k0_off1260 v8930) a + S1x1x1x128.size a ≤ S1x33344x1x128.size a)
theorem k0_off1259_inb : ∀ (v8930 : BitVec 32) (k0_hw630 : k0_chk630 v8930), ∀ a, (k0_off1259 v8930) a + S1x1x1x128.size a ≤ S1x33344x1x128.size a := fun v8930 k0_hw630 => k0_hw630.1
theorem k0_off1260_inb : ∀ (v8930 : BitVec 32) (k0_hw630 : k0_chk630 v8930), ∀ a, (k0_off1260 v8930) a + S1x1x1x128.size a ≤ S1x33344x1x128.size a := fun v8930 k0_hw630 => k0_hw630.2

def k0_off1261 (v8944 : BitVec 32) : Fin 4 → Nat :=
  let c0_8758 : Index := 0#32
  let v8945 : Index := Scalar.indexCast v8944
  let c0_8759 : Index := 0#32
  let c0_8760 : Index := 0#32
  ![0, v8945.toNat, 0, 0]

def k0_off1262 (v8944 : BitVec 32) : Fin 4 → Nat :=
  let c0_8764 : Index := 0#32
  let c1_i32_8763 : BitVec 32 := 1#32
  let v8951 : BitVec 32 := Scalar.addi v8944 c1_i32_8763
  let v8952 : Index := Scalar.indexCast v8951
  let c0_8765 : Index := 0#32
  let c0_8766 : Index := 0#32
  ![0, v8952.toNat, 0, 0]

def k0_chk631 (v8944 : BitVec 32) : Prop :=
  (∀ a, (k0_off1261 v8944) a + S1x1x1x128.size a ≤ S1x33344x1x128.size a) ∧
  (∀ a, (k0_off1262 v8944) a + S1x1x1x128.size a ≤ S1x33344x1x128.size a)
theorem k0_off1261_inb : ∀ (v8944 : BitVec 32) (k0_hw631 : k0_chk631 v8944), ∀ a, (k0_off1261 v8944) a + S1x1x1x128.size a ≤ S1x33344x1x128.size a := fun v8944 k0_hw631 => k0_hw631.1
theorem k0_off1262_inb : ∀ (v8944 : BitVec 32) (k0_hw631 : k0_chk631 v8944), ∀ a, (k0_off1262 v8944) a + S1x1x1x128.size a ≤ S1x33344x1x128.size a := fun v8944 k0_hw631 => k0_hw631.2

def k0_off1263 (v8958 : BitVec 32) : Fin 4 → Nat :=
  let c0_8772 : Index := 0#32
  let v8959 : Index := Scalar.indexCast v8958
  let c0_8773 : Index := 0#32
  let c0_8774 : Index := 0#32
  ![0, v8959.toNat, 0, 0]

def k0_off1264 (v8958 : BitVec 32) : Fin 4 → Nat :=
  let c0_8778 : Index := 0#32
  let c1_i32_8777 : BitVec 32 := 1#32
  let v8965 : BitVec 32 := Scalar.addi v8958 c1_i32_8777
  let v8966 : Index := Scalar.indexCast v8965
  let c0_8779 : Index := 0#32
  let c0_8780 : Index := 0#32
  ![0, v8966.toNat, 0, 0]

def k0_chk632 (v8958 : BitVec 32) : Prop :=
  (∀ a, (k0_off1263 v8958) a + S1x1x1x128.size a ≤ S1x33344x1x128.size a) ∧
  (∀ a, (k0_off1264 v8958) a + S1x1x1x128.size a ≤ S1x33344x1x128.size a)
theorem k0_off1263_inb : ∀ (v8958 : BitVec 32) (k0_hw632 : k0_chk632 v8958), ∀ a, (k0_off1263 v8958) a + S1x1x1x128.size a ≤ S1x33344x1x128.size a := fun v8958 k0_hw632 => k0_hw632.1
theorem k0_off1264_inb : ∀ (v8958 : BitVec 32) (k0_hw632 : k0_chk632 v8958), ∀ a, (k0_off1264 v8958) a + S1x1x1x128.size a ≤ S1x33344x1x128.size a := fun v8958 k0_hw632 => k0_hw632.2

def k0_off1265 (v8972 : BitVec 32) : Fin 4 → Nat :=
  let c0_8786 : Index := 0#32
  let v8973 : Index := Scalar.indexCast v8972
  let c0_8787 : Index := 0#32
  let c0_8788 : Index := 0#32
  ![0, v8973.toNat, 0, 0]

def k0_off1266 (v8972 : BitVec 32) : Fin 4 → Nat :=
  let c0_8792 : Index := 0#32
  let c1_i32_8791 : BitVec 32 := 1#32
  let v8979 : BitVec 32 := Scalar.addi v8972 c1_i32_8791
  let v8980 : Index := Scalar.indexCast v8979
  let c0_8793 : Index := 0#32
  let c0_8794 : Index := 0#32
  ![0, v8980.toNat, 0, 0]

def k0_chk633 (v8972 : BitVec 32) : Prop :=
  (∀ a, (k0_off1265 v8972) a + S1x1x1x128.size a ≤ S1x33344x1x128.size a) ∧
  (∀ a, (k0_off1266 v8972) a + S1x1x1x128.size a ≤ S1x33344x1x128.size a)
theorem k0_off1265_inb : ∀ (v8972 : BitVec 32) (k0_hw633 : k0_chk633 v8972), ∀ a, (k0_off1265 v8972) a + S1x1x1x128.size a ≤ S1x33344x1x128.size a := fun v8972 k0_hw633 => k0_hw633.1
theorem k0_off1266_inb : ∀ (v8972 : BitVec 32) (k0_hw633 : k0_chk633 v8972), ∀ a, (k0_off1266 v8972) a + S1x1x1x128.size a ≤ S1x33344x1x128.size a := fun v8972 k0_hw633 => k0_hw633.2

def k0_off1267 (v8986 : BitVec 32) : Fin 4 → Nat :=
  let c0_8800 : Index := 0#32
  let v8987 : Index := Scalar.indexCast v8986
  let c0_8801 : Index := 0#32
  let c0_8802 : Index := 0#32
  ![0, v8987.toNat, 0, 0]

def k0_off1268 (v8986 : BitVec 32) : Fin 4 → Nat :=
  let c0_8806 : Index := 0#32
  let c1_i32_8805 : BitVec 32 := 1#32
  let v8993 : BitVec 32 := Scalar.addi v8986 c1_i32_8805
  let v8994 : Index := Scalar.indexCast v8993
  let c0_8807 : Index := 0#32
  let c0_8808 : Index := 0#32
  ![0, v8994.toNat, 0, 0]

def k0_chk634 (v8986 : BitVec 32) : Prop :=
  (∀ a, (k0_off1267 v8986) a + S1x1x1x128.size a ≤ S1x33344x1x128.size a) ∧
  (∀ a, (k0_off1268 v8986) a + S1x1x1x128.size a ≤ S1x33344x1x128.size a)
theorem k0_off1267_inb : ∀ (v8986 : BitVec 32) (k0_hw634 : k0_chk634 v8986), ∀ a, (k0_off1267 v8986) a + S1x1x1x128.size a ≤ S1x33344x1x128.size a := fun v8986 k0_hw634 => k0_hw634.1
theorem k0_off1268_inb : ∀ (v8986 : BitVec 32) (k0_hw634 : k0_chk634 v8986), ∀ a, (k0_off1268 v8986) a + S1x1x1x128.size a ≤ S1x33344x1x128.size a := fun v8986 k0_hw634 => k0_hw634.2

def k0_off1269 (v9000 : BitVec 32) : Fin 4 → Nat :=
  let c0_8814 : Index := 0#32
  let v9001 : Index := Scalar.indexCast v9000
  let c0_8815 : Index := 0#32
  let c0_8816 : Index := 0#32
  ![0, v9001.toNat, 0, 0]

def k0_off1270 (v9000 : BitVec 32) : Fin 4 → Nat :=
  let c0_8820 : Index := 0#32
  let c1_i32_8819 : BitVec 32 := 1#32
  let v9007 : BitVec 32 := Scalar.addi v9000 c1_i32_8819
  let v9008 : Index := Scalar.indexCast v9007
  let c0_8821 : Index := 0#32
  let c0_8822 : Index := 0#32
  ![0, v9008.toNat, 0, 0]

def k0_chk635 (v9000 : BitVec 32) : Prop :=
  (∀ a, (k0_off1269 v9000) a + S1x1x1x128.size a ≤ S1x33344x1x128.size a) ∧
  (∀ a, (k0_off1270 v9000) a + S1x1x1x128.size a ≤ S1x33344x1x128.size a)
theorem k0_off1269_inb : ∀ (v9000 : BitVec 32) (k0_hw635 : k0_chk635 v9000), ∀ a, (k0_off1269 v9000) a + S1x1x1x128.size a ≤ S1x33344x1x128.size a := fun v9000 k0_hw635 => k0_hw635.1
theorem k0_off1270_inb : ∀ (v9000 : BitVec 32) (k0_hw635 : k0_chk635 v9000), ∀ a, (k0_off1270 v9000) a + S1x1x1x128.size a ≤ S1x33344x1x128.size a := fun v9000 k0_hw635 => k0_hw635.2

def k0_off1271 (v9014 : BitVec 32) : Fin 4 → Nat :=
  let c0_8828 : Index := 0#32
  let v9015 : Index := Scalar.indexCast v9014
  let c0_8829 : Index := 0#32
  let c0_8830 : Index := 0#32
  ![0, v9015.toNat, 0, 0]

def k0_off1272 (v9014 : BitVec 32) : Fin 4 → Nat :=
  let c0_8834 : Index := 0#32
  let c1_i32_8833 : BitVec 32 := 1#32
  let v9021 : BitVec 32 := Scalar.addi v9014 c1_i32_8833
  let v9022 : Index := Scalar.indexCast v9021
  let c0_8835 : Index := 0#32
  let c0_8836 : Index := 0#32
  ![0, v9022.toNat, 0, 0]

def k0_chk636 (v9014 : BitVec 32) : Prop :=
  (∀ a, (k0_off1271 v9014) a + S1x1x1x128.size a ≤ S1x33344x1x128.size a) ∧
  (∀ a, (k0_off1272 v9014) a + S1x1x1x128.size a ≤ S1x33344x1x128.size a)
theorem k0_off1271_inb : ∀ (v9014 : BitVec 32) (k0_hw636 : k0_chk636 v9014), ∀ a, (k0_off1271 v9014) a + S1x1x1x128.size a ≤ S1x33344x1x128.size a := fun v9014 k0_hw636 => k0_hw636.1
theorem k0_off1272_inb : ∀ (v9014 : BitVec 32) (k0_hw636 : k0_chk636 v9014), ∀ a, (k0_off1272 v9014) a + S1x1x1x128.size a ≤ S1x33344x1x128.size a := fun v9014 k0_hw636 => k0_hw636.2

def k0_off1273 (v9028 : BitVec 32) : Fin 4 → Nat :=
  let c0_8842 : Index := 0#32
  let v9029 : Index := Scalar.indexCast v9028
  let c0_8843 : Index := 0#32
  let c0_8844 : Index := 0#32
  ![0, v9029.toNat, 0, 0]

def k0_off1274 (v9028 : BitVec 32) : Fin 4 → Nat :=
  let c0_8848 : Index := 0#32
  let c1_i32_8847 : BitVec 32 := 1#32
  let v9035 : BitVec 32 := Scalar.addi v9028 c1_i32_8847
  let v9036 : Index := Scalar.indexCast v9035
  let c0_8849 : Index := 0#32
  let c0_8850 : Index := 0#32
  ![0, v9036.toNat, 0, 0]

def k0_chk637 (v9028 : BitVec 32) : Prop :=
  (∀ a, (k0_off1273 v9028) a + S1x1x1x128.size a ≤ S1x33344x1x128.size a) ∧
  (∀ a, (k0_off1274 v9028) a + S1x1x1x128.size a ≤ S1x33344x1x128.size a)
theorem k0_off1273_inb : ∀ (v9028 : BitVec 32) (k0_hw637 : k0_chk637 v9028), ∀ a, (k0_off1273 v9028) a + S1x1x1x128.size a ≤ S1x33344x1x128.size a := fun v9028 k0_hw637 => k0_hw637.1
theorem k0_off1274_inb : ∀ (v9028 : BitVec 32) (k0_hw637 : k0_chk637 v9028), ∀ a, (k0_off1274 v9028) a + S1x1x1x128.size a ≤ S1x33344x1x128.size a := fun v9028 k0_hw637 => k0_hw637.2

def k0_off1275 (v9042 : BitVec 32) : Fin 4 → Nat :=
  let c0_8856 : Index := 0#32
  let v9043 : Index := Scalar.indexCast v9042
  let c0_8857 : Index := 0#32
  let c0_8858 : Index := 0#32
  ![0, v9043.toNat, 0, 0]

def k0_off1276 (v9042 : BitVec 32) : Fin 4 → Nat :=
  let c0_8862 : Index := 0#32
  let c1_i32_8861 : BitVec 32 := 1#32
  let v9049 : BitVec 32 := Scalar.addi v9042 c1_i32_8861
  let v9050 : Index := Scalar.indexCast v9049
  let c0_8863 : Index := 0#32
  let c0_8864 : Index := 0#32
  ![0, v9050.toNat, 0, 0]

def k0_chk638 (v9042 : BitVec 32) : Prop :=
  (∀ a, (k0_off1275 v9042) a + S1x1x1x128.size a ≤ S1x33344x1x128.size a) ∧
  (∀ a, (k0_off1276 v9042) a + S1x1x1x128.size a ≤ S1x33344x1x128.size a)
theorem k0_off1275_inb : ∀ (v9042 : BitVec 32) (k0_hw638 : k0_chk638 v9042), ∀ a, (k0_off1275 v9042) a + S1x1x1x128.size a ≤ S1x33344x1x128.size a := fun v9042 k0_hw638 => k0_hw638.1
theorem k0_off1276_inb : ∀ (v9042 : BitVec 32) (k0_hw638 : k0_chk638 v9042), ∀ a, (k0_off1276 v9042) a + S1x1x1x128.size a ≤ S1x33344x1x128.size a := fun v9042 k0_hw638 => k0_hw638.2

def k0_off1277 (v9056 : BitVec 32) : Fin 4 → Nat :=
  let c0_8870 : Index := 0#32
  let v9057 : Index := Scalar.indexCast v9056
  let c0_8871 : Index := 0#32
  let c0_8872 : Index := 0#32
  ![0, v9057.toNat, 0, 0]

def k0_off1278 (v9056 : BitVec 32) : Fin 4 → Nat :=
  let c0_8876 : Index := 0#32
  let c1_i32_8875 : BitVec 32 := 1#32
  let v9063 : BitVec 32 := Scalar.addi v9056 c1_i32_8875
  let v9064 : Index := Scalar.indexCast v9063
  let c0_8877 : Index := 0#32
  let c0_8878 : Index := 0#32
  ![0, v9064.toNat, 0, 0]

def k0_chk639 (v9056 : BitVec 32) : Prop :=
  (∀ a, (k0_off1277 v9056) a + S1x1x1x128.size a ≤ S1x33344x1x128.size a) ∧
  (∀ a, (k0_off1278 v9056) a + S1x1x1x128.size a ≤ S1x33344x1x128.size a)
theorem k0_off1277_inb : ∀ (v9056 : BitVec 32) (k0_hw639 : k0_chk639 v9056), ∀ a, (k0_off1277 v9056) a + S1x1x1x128.size a ≤ S1x33344x1x128.size a := fun v9056 k0_hw639 => k0_hw639.1
theorem k0_off1278_inb : ∀ (v9056 : BitVec 32) (k0_hw639 : k0_chk639 v9056), ∀ a, (k0_off1278 v9056) a + S1x1x1x128.size a ≤ S1x33344x1x128.size a := fun v9056 k0_hw639 => k0_hw639.2

def k0_off1279 (v9070 : BitVec 32) : Fin 4 → Nat :=
  let c0_8884 : Index := 0#32
  let v9071 : Index := Scalar.indexCast v9070
  let c0_8885 : Index := 0#32
  let c0_8886 : Index := 0#32
  ![0, v9071.toNat, 0, 0]

def k0_off1280 (v9070 : BitVec 32) : Fin 4 → Nat :=
  let c0_8890 : Index := 0#32
  let c1_i32_8889 : BitVec 32 := 1#32
  let v9077 : BitVec 32 := Scalar.addi v9070 c1_i32_8889
  let v9078 : Index := Scalar.indexCast v9077
  let c0_8891 : Index := 0#32
  let c0_8892 : Index := 0#32
  ![0, v9078.toNat, 0, 0]

def k0_chk640 (v9070 : BitVec 32) : Prop :=
  (∀ a, (k0_off1279 v9070) a + S1x1x1x128.size a ≤ S1x33344x1x128.size a) ∧
  (∀ a, (k0_off1280 v9070) a + S1x1x1x128.size a ≤ S1x33344x1x128.size a)
theorem k0_off1279_inb : ∀ (v9070 : BitVec 32) (k0_hw640 : k0_chk640 v9070), ∀ a, (k0_off1279 v9070) a + S1x1x1x128.size a ≤ S1x33344x1x128.size a := fun v9070 k0_hw640 => k0_hw640.1
theorem k0_off1280_inb : ∀ (v9070 : BitVec 32) (k0_hw640 : k0_chk640 v9070), ∀ a, (k0_off1280 v9070) a + S1x1x1x128.size a ≤ S1x33344x1x128.size a := fun v9070 k0_hw640 => k0_hw640.2

def k0_off1281 (v9113 : BitVec 32) : Fin 4 → Nat :=
  let c0_8911 : Index := 0#32
  let v9114 : Index := Scalar.indexCast v9113
  let c0_8912 : Index := 0#32
  let c0_8913 : Index := 0#32
  ![0, v9114.toNat, 0, 0]

def k0_off1282 (v9113 : BitVec 32) : Fin 4 → Nat :=
  let c0_8917 : Index := 0#32
  let c1_i32_8916 : BitVec 32 := 1#32
  let v9120 : BitVec 32 := Scalar.addi v9113 c1_i32_8916
  let v9121 : Index := Scalar.indexCast v9120
  let c0_8918 : Index := 0#32
  let c0_8919 : Index := 0#32
  ![0, v9121.toNat, 0, 0]

def k0_chk641 (v9113 : BitVec 32) : Prop :=
  (∀ a, (k0_off1281 v9113) a + S1x1x1x128.size a ≤ S1x33344x1x128.size a) ∧
  (∀ a, (k0_off1282 v9113) a + S1x1x1x128.size a ≤ S1x33344x1x128.size a)
theorem k0_off1281_inb : ∀ (v9113 : BitVec 32) (k0_hw641 : k0_chk641 v9113), ∀ a, (k0_off1281 v9113) a + S1x1x1x128.size a ≤ S1x33344x1x128.size a := fun v9113 k0_hw641 => k0_hw641.1
theorem k0_off1282_inb : ∀ (v9113 : BitVec 32) (k0_hw641 : k0_chk641 v9113), ∀ a, (k0_off1282 v9113) a + S1x1x1x128.size a ≤ S1x33344x1x128.size a := fun v9113 k0_hw641 => k0_hw641.2

def k0_off1283 (v9127 : BitVec 32) : Fin 4 → Nat :=
  let c0_8925 : Index := 0#32
  let v9128 : Index := Scalar.indexCast v9127
  let c0_8926 : Index := 0#32
  let c0_8927 : Index := 0#32
  ![0, v9128.toNat, 0, 0]

def k0_off1284 (v9127 : BitVec 32) : Fin 4 → Nat :=
  let c0_8931 : Index := 0#32
  let c1_i32_8930 : BitVec 32 := 1#32
  let v9134 : BitVec 32 := Scalar.addi v9127 c1_i32_8930
  let v9135 : Index := Scalar.indexCast v9134
  let c0_8932 : Index := 0#32
  let c0_8933 : Index := 0#32
  ![0, v9135.toNat, 0, 0]

def k0_chk642 (v9127 : BitVec 32) : Prop :=
  (∀ a, (k0_off1283 v9127) a + S1x1x1x128.size a ≤ S1x33344x1x128.size a) ∧
  (∀ a, (k0_off1284 v9127) a + S1x1x1x128.size a ≤ S1x33344x1x128.size a)
theorem k0_off1283_inb : ∀ (v9127 : BitVec 32) (k0_hw642 : k0_chk642 v9127), ∀ a, (k0_off1283 v9127) a + S1x1x1x128.size a ≤ S1x33344x1x128.size a := fun v9127 k0_hw642 => k0_hw642.1
theorem k0_off1284_inb : ∀ (v9127 : BitVec 32) (k0_hw642 : k0_chk642 v9127), ∀ a, (k0_off1284 v9127) a + S1x1x1x128.size a ≤ S1x33344x1x128.size a := fun v9127 k0_hw642 => k0_hw642.2

def k0_off1285 (v9141 : BitVec 32) : Fin 4 → Nat :=
  let c0_8939 : Index := 0#32
  let v9142 : Index := Scalar.indexCast v9141
  let c0_8940 : Index := 0#32
  let c0_8941 : Index := 0#32
  ![0, v9142.toNat, 0, 0]

def k0_off1286 (v9141 : BitVec 32) : Fin 4 → Nat :=
  let c0_8945 : Index := 0#32
  let c1_i32_8944 : BitVec 32 := 1#32
  let v9148 : BitVec 32 := Scalar.addi v9141 c1_i32_8944
  let v9149 : Index := Scalar.indexCast v9148
  let c0_8946 : Index := 0#32
  let c0_8947 : Index := 0#32
  ![0, v9149.toNat, 0, 0]

def k0_chk643 (v9141 : BitVec 32) : Prop :=
  (∀ a, (k0_off1285 v9141) a + S1x1x1x128.size a ≤ S1x33344x1x128.size a) ∧
  (∀ a, (k0_off1286 v9141) a + S1x1x1x128.size a ≤ S1x33344x1x128.size a)
theorem k0_off1285_inb : ∀ (v9141 : BitVec 32) (k0_hw643 : k0_chk643 v9141), ∀ a, (k0_off1285 v9141) a + S1x1x1x128.size a ≤ S1x33344x1x128.size a := fun v9141 k0_hw643 => k0_hw643.1
theorem k0_off1286_inb : ∀ (v9141 : BitVec 32) (k0_hw643 : k0_chk643 v9141), ∀ a, (k0_off1286 v9141) a + S1x1x1x128.size a ≤ S1x33344x1x128.size a := fun v9141 k0_hw643 => k0_hw643.2

def k0_off1287 (v9155 : BitVec 32) : Fin 4 → Nat :=
  let c0_8953 : Index := 0#32
  let v9156 : Index := Scalar.indexCast v9155
  let c0_8954 : Index := 0#32
  let c0_8955 : Index := 0#32
  ![0, v9156.toNat, 0, 0]

def k0_off1288 (v9155 : BitVec 32) : Fin 4 → Nat :=
  let c0_8959 : Index := 0#32
  let c1_i32_8958 : BitVec 32 := 1#32
  let v9162 : BitVec 32 := Scalar.addi v9155 c1_i32_8958
  let v9163 : Index := Scalar.indexCast v9162
  let c0_8960 : Index := 0#32
  let c0_8961 : Index := 0#32
  ![0, v9163.toNat, 0, 0]

def k0_chk644 (v9155 : BitVec 32) : Prop :=
  (∀ a, (k0_off1287 v9155) a + S1x1x1x128.size a ≤ S1x33344x1x128.size a) ∧
  (∀ a, (k0_off1288 v9155) a + S1x1x1x128.size a ≤ S1x33344x1x128.size a)
theorem k0_off1287_inb : ∀ (v9155 : BitVec 32) (k0_hw644 : k0_chk644 v9155), ∀ a, (k0_off1287 v9155) a + S1x1x1x128.size a ≤ S1x33344x1x128.size a := fun v9155 k0_hw644 => k0_hw644.1
theorem k0_off1288_inb : ∀ (v9155 : BitVec 32) (k0_hw644 : k0_chk644 v9155), ∀ a, (k0_off1288 v9155) a + S1x1x1x128.size a ≤ S1x33344x1x128.size a := fun v9155 k0_hw644 => k0_hw644.2

def k0_off1289 (v9169 : BitVec 32) : Fin 4 → Nat :=
  let c0_8967 : Index := 0#32
  let v9170 : Index := Scalar.indexCast v9169
  let c0_8968 : Index := 0#32
  let c0_8969 : Index := 0#32
  ![0, v9170.toNat, 0, 0]

def k0_off1290 (v9169 : BitVec 32) : Fin 4 → Nat :=
  let c0_8973 : Index := 0#32
  let c1_i32_8972 : BitVec 32 := 1#32
  let v9176 : BitVec 32 := Scalar.addi v9169 c1_i32_8972
  let v9177 : Index := Scalar.indexCast v9176
  let c0_8974 : Index := 0#32
  let c0_8975 : Index := 0#32
  ![0, v9177.toNat, 0, 0]

def k0_chk645 (v9169 : BitVec 32) : Prop :=
  (∀ a, (k0_off1289 v9169) a + S1x1x1x128.size a ≤ S1x33344x1x128.size a) ∧
  (∀ a, (k0_off1290 v9169) a + S1x1x1x128.size a ≤ S1x33344x1x128.size a)
theorem k0_off1289_inb : ∀ (v9169 : BitVec 32) (k0_hw645 : k0_chk645 v9169), ∀ a, (k0_off1289 v9169) a + S1x1x1x128.size a ≤ S1x33344x1x128.size a := fun v9169 k0_hw645 => k0_hw645.1
theorem k0_off1290_inb : ∀ (v9169 : BitVec 32) (k0_hw645 : k0_chk645 v9169), ∀ a, (k0_off1290 v9169) a + S1x1x1x128.size a ≤ S1x33344x1x128.size a := fun v9169 k0_hw645 => k0_hw645.2

def k0_off1291 (v9183 : BitVec 32) : Fin 4 → Nat :=
  let c0_8981 : Index := 0#32
  let v9184 : Index := Scalar.indexCast v9183
  let c0_8982 : Index := 0#32
  let c0_8983 : Index := 0#32
  ![0, v9184.toNat, 0, 0]

def k0_off1292 (v9183 : BitVec 32) : Fin 4 → Nat :=
  let c0_8987 : Index := 0#32
  let c1_i32_8986 : BitVec 32 := 1#32
  let v9190 : BitVec 32 := Scalar.addi v9183 c1_i32_8986
  let v9191 : Index := Scalar.indexCast v9190
  let c0_8988 : Index := 0#32
  let c0_8989 : Index := 0#32
  ![0, v9191.toNat, 0, 0]

def k0_chk646 (v9183 : BitVec 32) : Prop :=
  (∀ a, (k0_off1291 v9183) a + S1x1x1x128.size a ≤ S1x33344x1x128.size a) ∧
  (∀ a, (k0_off1292 v9183) a + S1x1x1x128.size a ≤ S1x33344x1x128.size a)
theorem k0_off1291_inb : ∀ (v9183 : BitVec 32) (k0_hw646 : k0_chk646 v9183), ∀ a, (k0_off1291 v9183) a + S1x1x1x128.size a ≤ S1x33344x1x128.size a := fun v9183 k0_hw646 => k0_hw646.1
theorem k0_off1292_inb : ∀ (v9183 : BitVec 32) (k0_hw646 : k0_chk646 v9183), ∀ a, (k0_off1292 v9183) a + S1x1x1x128.size a ≤ S1x33344x1x128.size a := fun v9183 k0_hw646 => k0_hw646.2

def k0_off1293 (v9197 : BitVec 32) : Fin 4 → Nat :=
  let c0_8995 : Index := 0#32
  let v9198 : Index := Scalar.indexCast v9197
  let c0_8996 : Index := 0#32
  let c0_8997 : Index := 0#32
  ![0, v9198.toNat, 0, 0]

def k0_off1294 (v9197 : BitVec 32) : Fin 4 → Nat :=
  let c0_9001 : Index := 0#32
  let c1_i32_9000 : BitVec 32 := 1#32
  let v9204 : BitVec 32 := Scalar.addi v9197 c1_i32_9000
  let v9205 : Index := Scalar.indexCast v9204
  let c0_9002 : Index := 0#32
  let c0_9003 : Index := 0#32
  ![0, v9205.toNat, 0, 0]

def k0_chk647 (v9197 : BitVec 32) : Prop :=
  (∀ a, (k0_off1293 v9197) a + S1x1x1x128.size a ≤ S1x33344x1x128.size a) ∧
  (∀ a, (k0_off1294 v9197) a + S1x1x1x128.size a ≤ S1x33344x1x128.size a)
theorem k0_off1293_inb : ∀ (v9197 : BitVec 32) (k0_hw647 : k0_chk647 v9197), ∀ a, (k0_off1293 v9197) a + S1x1x1x128.size a ≤ S1x33344x1x128.size a := fun v9197 k0_hw647 => k0_hw647.1
theorem k0_off1294_inb : ∀ (v9197 : BitVec 32) (k0_hw647 : k0_chk647 v9197), ∀ a, (k0_off1294 v9197) a + S1x1x1x128.size a ≤ S1x33344x1x128.size a := fun v9197 k0_hw647 => k0_hw647.2

def k0_off1295 (v9211 : BitVec 32) : Fin 4 → Nat :=
  let c0_9009 : Index := 0#32
  let v9212 : Index := Scalar.indexCast v9211
  let c0_9010 : Index := 0#32
  let c0_9011 : Index := 0#32
  ![0, v9212.toNat, 0, 0]

def k0_off1296 (v9211 : BitVec 32) : Fin 4 → Nat :=
  let c0_9015 : Index := 0#32
  let c1_i32_9014 : BitVec 32 := 1#32
  let v9218 : BitVec 32 := Scalar.addi v9211 c1_i32_9014
  let v9219 : Index := Scalar.indexCast v9218
  let c0_9016 : Index := 0#32
  let c0_9017 : Index := 0#32
  ![0, v9219.toNat, 0, 0]

def k0_chk648 (v9211 : BitVec 32) : Prop :=
  (∀ a, (k0_off1295 v9211) a + S1x1x1x128.size a ≤ S1x33344x1x128.size a) ∧
  (∀ a, (k0_off1296 v9211) a + S1x1x1x128.size a ≤ S1x33344x1x128.size a)
theorem k0_off1295_inb : ∀ (v9211 : BitVec 32) (k0_hw648 : k0_chk648 v9211), ∀ a, (k0_off1295 v9211) a + S1x1x1x128.size a ≤ S1x33344x1x128.size a := fun v9211 k0_hw648 => k0_hw648.1
theorem k0_off1296_inb : ∀ (v9211 : BitVec 32) (k0_hw648 : k0_chk648 v9211), ∀ a, (k0_off1296 v9211) a + S1x1x1x128.size a ≤ S1x33344x1x128.size a := fun v9211 k0_hw648 => k0_hw648.2

def k0_off1297 (v9225 : BitVec 32) : Fin 4 → Nat :=
  let c0_9023 : Index := 0#32
  let v9226 : Index := Scalar.indexCast v9225
  let c0_9024 : Index := 0#32
  let c0_9025 : Index := 0#32
  ![0, v9226.toNat, 0, 0]

def k0_off1298 (v9225 : BitVec 32) : Fin 4 → Nat :=
  let c0_9029 : Index := 0#32
  let c1_i32_9028 : BitVec 32 := 1#32
  let v9232 : BitVec 32 := Scalar.addi v9225 c1_i32_9028
  let v9233 : Index := Scalar.indexCast v9232
  let c0_9030 : Index := 0#32
  let c0_9031 : Index := 0#32
  ![0, v9233.toNat, 0, 0]

def k0_chk649 (v9225 : BitVec 32) : Prop :=
  (∀ a, (k0_off1297 v9225) a + S1x1x1x128.size a ≤ S1x33344x1x128.size a) ∧
  (∀ a, (k0_off1298 v9225) a + S1x1x1x128.size a ≤ S1x33344x1x128.size a)
theorem k0_off1297_inb : ∀ (v9225 : BitVec 32) (k0_hw649 : k0_chk649 v9225), ∀ a, (k0_off1297 v9225) a + S1x1x1x128.size a ≤ S1x33344x1x128.size a := fun v9225 k0_hw649 => k0_hw649.1
theorem k0_off1298_inb : ∀ (v9225 : BitVec 32) (k0_hw649 : k0_chk649 v9225), ∀ a, (k0_off1298 v9225) a + S1x1x1x128.size a ≤ S1x33344x1x128.size a := fun v9225 k0_hw649 => k0_hw649.2

def k0_off1299 (v9239 : BitVec 32) : Fin 4 → Nat :=
  let c0_9037 : Index := 0#32
  let v9240 : Index := Scalar.indexCast v9239
  let c0_9038 : Index := 0#32
  let c0_9039 : Index := 0#32
  ![0, v9240.toNat, 0, 0]

def k0_off1300 (v9239 : BitVec 32) : Fin 4 → Nat :=
  let c0_9043 : Index := 0#32
  let c1_i32_9042 : BitVec 32 := 1#32
  let v9246 : BitVec 32 := Scalar.addi v9239 c1_i32_9042
  let v9247 : Index := Scalar.indexCast v9246
  let c0_9044 : Index := 0#32
  let c0_9045 : Index := 0#32
  ![0, v9247.toNat, 0, 0]

def k0_chk650 (v9239 : BitVec 32) : Prop :=
  (∀ a, (k0_off1299 v9239) a + S1x1x1x128.size a ≤ S1x33344x1x128.size a) ∧
  (∀ a, (k0_off1300 v9239) a + S1x1x1x128.size a ≤ S1x33344x1x128.size a)
theorem k0_off1299_inb : ∀ (v9239 : BitVec 32) (k0_hw650 : k0_chk650 v9239), ∀ a, (k0_off1299 v9239) a + S1x1x1x128.size a ≤ S1x33344x1x128.size a := fun v9239 k0_hw650 => k0_hw650.1
theorem k0_off1300_inb : ∀ (v9239 : BitVec 32) (k0_hw650 : k0_chk650 v9239), ∀ a, (k0_off1300 v9239) a + S1x1x1x128.size a ≤ S1x33344x1x128.size a := fun v9239 k0_hw650 => k0_hw650.2

def k0_off1301 (v9253 : BitVec 32) : Fin 4 → Nat :=
  let c0_9051 : Index := 0#32
  let v9254 : Index := Scalar.indexCast v9253
  let c0_9052 : Index := 0#32
  let c0_9053 : Index := 0#32
  ![0, v9254.toNat, 0, 0]

def k0_off1302 (v9253 : BitVec 32) : Fin 4 → Nat :=
  let c0_9057 : Index := 0#32
  let c1_i32_9056 : BitVec 32 := 1#32
  let v9260 : BitVec 32 := Scalar.addi v9253 c1_i32_9056
  let v9261 : Index := Scalar.indexCast v9260
  let c0_9058 : Index := 0#32
  let c0_9059 : Index := 0#32
  ![0, v9261.toNat, 0, 0]

def k0_chk651 (v9253 : BitVec 32) : Prop :=
  (∀ a, (k0_off1301 v9253) a + S1x1x1x128.size a ≤ S1x33344x1x128.size a) ∧
  (∀ a, (k0_off1302 v9253) a + S1x1x1x128.size a ≤ S1x33344x1x128.size a)
theorem k0_off1301_inb : ∀ (v9253 : BitVec 32) (k0_hw651 : k0_chk651 v9253), ∀ a, (k0_off1301 v9253) a + S1x1x1x128.size a ≤ S1x33344x1x128.size a := fun v9253 k0_hw651 => k0_hw651.1
theorem k0_off1302_inb : ∀ (v9253 : BitVec 32) (k0_hw651 : k0_chk651 v9253), ∀ a, (k0_off1302 v9253) a + S1x1x1x128.size a ≤ S1x33344x1x128.size a := fun v9253 k0_hw651 => k0_hw651.2

def k0_off1303 (v9267 : BitVec 32) : Fin 4 → Nat :=
  let c0_9065 : Index := 0#32
  let v9268 : Index := Scalar.indexCast v9267
  let c0_9066 : Index := 0#32
  let c0_9067 : Index := 0#32
  ![0, v9268.toNat, 0, 0]

def k0_off1304 (v9267 : BitVec 32) : Fin 4 → Nat :=
  let c0_9071 : Index := 0#32
  let c1_i32_9070 : BitVec 32 := 1#32
  let v9274 : BitVec 32 := Scalar.addi v9267 c1_i32_9070
  let v9275 : Index := Scalar.indexCast v9274
  let c0_9072 : Index := 0#32
  let c0_9073 : Index := 0#32
  ![0, v9275.toNat, 0, 0]

def k0_chk652 (v9267 : BitVec 32) : Prop :=
  (∀ a, (k0_off1303 v9267) a + S1x1x1x128.size a ≤ S1x33344x1x128.size a) ∧
  (∀ a, (k0_off1304 v9267) a + S1x1x1x128.size a ≤ S1x33344x1x128.size a)
theorem k0_off1303_inb : ∀ (v9267 : BitVec 32) (k0_hw652 : k0_chk652 v9267), ∀ a, (k0_off1303 v9267) a + S1x1x1x128.size a ≤ S1x33344x1x128.size a := fun v9267 k0_hw652 => k0_hw652.1
theorem k0_off1304_inb : ∀ (v9267 : BitVec 32) (k0_hw652 : k0_chk652 v9267), ∀ a, (k0_off1304 v9267) a + S1x1x1x128.size a ≤ S1x33344x1x128.size a := fun v9267 k0_hw652 => k0_hw652.2

def k0_off1305 (v9281 : BitVec 32) : Fin 4 → Nat :=
  let c0_9079 : Index := 0#32
  let v9282 : Index := Scalar.indexCast v9281
  let c0_9080 : Index := 0#32
  let c0_9081 : Index := 0#32
  ![0, v9282.toNat, 0, 0]

def k0_off1306 (v9281 : BitVec 32) : Fin 4 → Nat :=
  let c0_9085 : Index := 0#32
  let c1_i32_9084 : BitVec 32 := 1#32
  let v9288 : BitVec 32 := Scalar.addi v9281 c1_i32_9084
  let v9289 : Index := Scalar.indexCast v9288
  let c0_9086 : Index := 0#32
  let c0_9087 : Index := 0#32
  ![0, v9289.toNat, 0, 0]

def k0_chk653 (v9281 : BitVec 32) : Prop :=
  (∀ a, (k0_off1305 v9281) a + S1x1x1x128.size a ≤ S1x33344x1x128.size a) ∧
  (∀ a, (k0_off1306 v9281) a + S1x1x1x128.size a ≤ S1x33344x1x128.size a)
theorem k0_off1305_inb : ∀ (v9281 : BitVec 32) (k0_hw653 : k0_chk653 v9281), ∀ a, (k0_off1305 v9281) a + S1x1x1x128.size a ≤ S1x33344x1x128.size a := fun v9281 k0_hw653 => k0_hw653.1
theorem k0_off1306_inb : ∀ (v9281 : BitVec 32) (k0_hw653 : k0_chk653 v9281), ∀ a, (k0_off1306 v9281) a + S1x1x1x128.size a ≤ S1x33344x1x128.size a := fun v9281 k0_hw653 => k0_hw653.2

def k0_off1307 (v9295 : BitVec 32) : Fin 4 → Nat :=
  let c0_9093 : Index := 0#32
  let v9296 : Index := Scalar.indexCast v9295
  let c0_9094 : Index := 0#32
  let c0_9095 : Index := 0#32
  ![0, v9296.toNat, 0, 0]

def k0_off1308 (v9295 : BitVec 32) : Fin 4 → Nat :=
  let c0_9099 : Index := 0#32
  let c1_i32_9098 : BitVec 32 := 1#32
  let v9302 : BitVec 32 := Scalar.addi v9295 c1_i32_9098
  let v9303 : Index := Scalar.indexCast v9302
  let c0_9100 : Index := 0#32
  let c0_9101 : Index := 0#32
  ![0, v9303.toNat, 0, 0]

def k0_chk654 (v9295 : BitVec 32) : Prop :=
  (∀ a, (k0_off1307 v9295) a + S1x1x1x128.size a ≤ S1x33344x1x128.size a) ∧
  (∀ a, (k0_off1308 v9295) a + S1x1x1x128.size a ≤ S1x33344x1x128.size a)
theorem k0_off1307_inb : ∀ (v9295 : BitVec 32) (k0_hw654 : k0_chk654 v9295), ∀ a, (k0_off1307 v9295) a + S1x1x1x128.size a ≤ S1x33344x1x128.size a := fun v9295 k0_hw654 => k0_hw654.1
theorem k0_off1308_inb : ∀ (v9295 : BitVec 32) (k0_hw654 : k0_chk654 v9295), ∀ a, (k0_off1308 v9295) a + S1x1x1x128.size a ≤ S1x33344x1x128.size a := fun v9295 k0_hw654 => k0_hw654.2

def k0_off1309 (v9309 : BitVec 32) : Fin 4 → Nat :=
  let c0_9107 : Index := 0#32
  let v9310 : Index := Scalar.indexCast v9309
  let c0_9108 : Index := 0#32
  let c0_9109 : Index := 0#32
  ![0, v9310.toNat, 0, 0]

def k0_off1310 (v9309 : BitVec 32) : Fin 4 → Nat :=
  let c0_9113 : Index := 0#32
  let c1_i32_9112 : BitVec 32 := 1#32
  let v9316 : BitVec 32 := Scalar.addi v9309 c1_i32_9112
  let v9317 : Index := Scalar.indexCast v9316
  let c0_9114 : Index := 0#32
  let c0_9115 : Index := 0#32
  ![0, v9317.toNat, 0, 0]

def k0_chk655 (v9309 : BitVec 32) : Prop :=
  (∀ a, (k0_off1309 v9309) a + S1x1x1x128.size a ≤ S1x33344x1x128.size a) ∧
  (∀ a, (k0_off1310 v9309) a + S1x1x1x128.size a ≤ S1x33344x1x128.size a)
theorem k0_off1309_inb : ∀ (v9309 : BitVec 32) (k0_hw655 : k0_chk655 v9309), ∀ a, (k0_off1309 v9309) a + S1x1x1x128.size a ≤ S1x33344x1x128.size a := fun v9309 k0_hw655 => k0_hw655.1
theorem k0_off1310_inb : ∀ (v9309 : BitVec 32) (k0_hw655 : k0_chk655 v9309), ∀ a, (k0_off1310 v9309) a + S1x1x1x128.size a ≤ S1x33344x1x128.size a := fun v9309 k0_hw655 => k0_hw655.2

def k0_off1311 (v9323 : BitVec 32) : Fin 4 → Nat :=
  let c0_9121 : Index := 0#32
  let v9324 : Index := Scalar.indexCast v9323
  let c0_9122 : Index := 0#32
  let c0_9123 : Index := 0#32
  ![0, v9324.toNat, 0, 0]

def k0_off1312 (v9323 : BitVec 32) : Fin 4 → Nat :=
  let c0_9127 : Index := 0#32
  let c1_i32_9126 : BitVec 32 := 1#32
  let v9330 : BitVec 32 := Scalar.addi v9323 c1_i32_9126
  let v9331 : Index := Scalar.indexCast v9330
  let c0_9128 : Index := 0#32
  let c0_9129 : Index := 0#32
  ![0, v9331.toNat, 0, 0]

def k0_chk656 (v9323 : BitVec 32) : Prop :=
  (∀ a, (k0_off1311 v9323) a + S1x1x1x128.size a ≤ S1x33344x1x128.size a) ∧
  (∀ a, (k0_off1312 v9323) a + S1x1x1x128.size a ≤ S1x33344x1x128.size a)
theorem k0_off1311_inb : ∀ (v9323 : BitVec 32) (k0_hw656 : k0_chk656 v9323), ∀ a, (k0_off1311 v9323) a + S1x1x1x128.size a ≤ S1x33344x1x128.size a := fun v9323 k0_hw656 => k0_hw656.1
theorem k0_off1312_inb : ∀ (v9323 : BitVec 32) (k0_hw656 : k0_chk656 v9323), ∀ a, (k0_off1312 v9323) a + S1x1x1x128.size a ≤ S1x33344x1x128.size a := fun v9323 k0_hw656 => k0_hw656.2

def k0_off1313 (v9337 : BitVec 32) : Fin 4 → Nat :=
  let c0_9135 : Index := 0#32
  let v9338 : Index := Scalar.indexCast v9337
  let c0_9136 : Index := 0#32
  let c0_9137 : Index := 0#32
  ![0, v9338.toNat, 0, 0]

def k0_off1314 (v9337 : BitVec 32) : Fin 4 → Nat :=
  let c0_9141 : Index := 0#32
  let c1_i32_9140 : BitVec 32 := 1#32
  let v9344 : BitVec 32 := Scalar.addi v9337 c1_i32_9140
  let v9345 : Index := Scalar.indexCast v9344
  let c0_9142 : Index := 0#32
  let c0_9143 : Index := 0#32
  ![0, v9345.toNat, 0, 0]

def k0_chk657 (v9337 : BitVec 32) : Prop :=
  (∀ a, (k0_off1313 v9337) a + S1x1x1x128.size a ≤ S1x33344x1x128.size a) ∧
  (∀ a, (k0_off1314 v9337) a + S1x1x1x128.size a ≤ S1x33344x1x128.size a)
theorem k0_off1313_inb : ∀ (v9337 : BitVec 32) (k0_hw657 : k0_chk657 v9337), ∀ a, (k0_off1313 v9337) a + S1x1x1x128.size a ≤ S1x33344x1x128.size a := fun v9337 k0_hw657 => k0_hw657.1
theorem k0_off1314_inb : ∀ (v9337 : BitVec 32) (k0_hw657 : k0_chk657 v9337), ∀ a, (k0_off1314 v9337) a + S1x1x1x128.size a ≤ S1x33344x1x128.size a := fun v9337 k0_hw657 => k0_hw657.2

def k0_off1315 (v9351 : BitVec 32) : Fin 4 → Nat :=
  let c0_9149 : Index := 0#32
  let v9352 : Index := Scalar.indexCast v9351
  let c0_9150 : Index := 0#32
  let c0_9151 : Index := 0#32
  ![0, v9352.toNat, 0, 0]

def k0_off1316 (v9351 : BitVec 32) : Fin 4 → Nat :=
  let c0_9155 : Index := 0#32
  let c1_i32_9154 : BitVec 32 := 1#32
  let v9358 : BitVec 32 := Scalar.addi v9351 c1_i32_9154
  let v9359 : Index := Scalar.indexCast v9358
  let c0_9156 : Index := 0#32
  let c0_9157 : Index := 0#32
  ![0, v9359.toNat, 0, 0]

def k0_chk658 (v9351 : BitVec 32) : Prop :=
  (∀ a, (k0_off1315 v9351) a + S1x1x1x128.size a ≤ S1x33344x1x128.size a) ∧
  (∀ a, (k0_off1316 v9351) a + S1x1x1x128.size a ≤ S1x33344x1x128.size a)
theorem k0_off1315_inb : ∀ (v9351 : BitVec 32) (k0_hw658 : k0_chk658 v9351), ∀ a, (k0_off1315 v9351) a + S1x1x1x128.size a ≤ S1x33344x1x128.size a := fun v9351 k0_hw658 => k0_hw658.1
theorem k0_off1316_inb : ∀ (v9351 : BitVec 32) (k0_hw658 : k0_chk658 v9351), ∀ a, (k0_off1316 v9351) a + S1x1x1x128.size a ≤ S1x33344x1x128.size a := fun v9351 k0_hw658 => k0_hw658.2

def k0_off1317 (v9365 : BitVec 32) : Fin 4 → Nat :=
  let c0_9163 : Index := 0#32
  let v9366 : Index := Scalar.indexCast v9365
  let c0_9164 : Index := 0#32
  let c0_9165 : Index := 0#32
  ![0, v9366.toNat, 0, 0]

def k0_off1318 (v9365 : BitVec 32) : Fin 4 → Nat :=
  let c0_9169 : Index := 0#32
  let c1_i32_9168 : BitVec 32 := 1#32
  let v9372 : BitVec 32 := Scalar.addi v9365 c1_i32_9168
  let v9373 : Index := Scalar.indexCast v9372
  let c0_9170 : Index := 0#32
  let c0_9171 : Index := 0#32
  ![0, v9373.toNat, 0, 0]

def k0_chk659 (v9365 : BitVec 32) : Prop :=
  (∀ a, (k0_off1317 v9365) a + S1x1x1x128.size a ≤ S1x33344x1x128.size a) ∧
  (∀ a, (k0_off1318 v9365) a + S1x1x1x128.size a ≤ S1x33344x1x128.size a)
theorem k0_off1317_inb : ∀ (v9365 : BitVec 32) (k0_hw659 : k0_chk659 v9365), ∀ a, (k0_off1317 v9365) a + S1x1x1x128.size a ≤ S1x33344x1x128.size a := fun v9365 k0_hw659 => k0_hw659.1
theorem k0_off1318_inb : ∀ (v9365 : BitVec 32) (k0_hw659 : k0_chk659 v9365), ∀ a, (k0_off1318 v9365) a + S1x1x1x128.size a ≤ S1x33344x1x128.size a := fun v9365 k0_hw659 => k0_hw659.2

def k0_off1319 (v9379 : BitVec 32) : Fin 4 → Nat :=
  let c0_9177 : Index := 0#32
  let v9380 : Index := Scalar.indexCast v9379
  let c0_9178 : Index := 0#32
  let c0_9179 : Index := 0#32
  ![0, v9380.toNat, 0, 0]

def k0_off1320 (v9379 : BitVec 32) : Fin 4 → Nat :=
  let c0_9183 : Index := 0#32
  let c1_i32_9182 : BitVec 32 := 1#32
  let v9386 : BitVec 32 := Scalar.addi v9379 c1_i32_9182
  let v9387 : Index := Scalar.indexCast v9386
  let c0_9184 : Index := 0#32
  let c0_9185 : Index := 0#32
  ![0, v9387.toNat, 0, 0]

def k0_chk660 (v9379 : BitVec 32) : Prop :=
  (∀ a, (k0_off1319 v9379) a + S1x1x1x128.size a ≤ S1x33344x1x128.size a) ∧
  (∀ a, (k0_off1320 v9379) a + S1x1x1x128.size a ≤ S1x33344x1x128.size a)
theorem k0_off1319_inb : ∀ (v9379 : BitVec 32) (k0_hw660 : k0_chk660 v9379), ∀ a, (k0_off1319 v9379) a + S1x1x1x128.size a ≤ S1x33344x1x128.size a := fun v9379 k0_hw660 => k0_hw660.1
theorem k0_off1320_inb : ∀ (v9379 : BitVec 32) (k0_hw660 : k0_chk660 v9379), ∀ a, (k0_off1320 v9379) a + S1x1x1x128.size a ≤ S1x33344x1x128.size a := fun v9379 k0_hw660 => k0_hw660.2

def k0_off1321 (v9393 : BitVec 32) : Fin 4 → Nat :=
  let c0_9191 : Index := 0#32
  let v9394 : Index := Scalar.indexCast v9393
  let c0_9192 : Index := 0#32
  let c0_9193 : Index := 0#32
  ![0, v9394.toNat, 0, 0]

def k0_off1322 (v9393 : BitVec 32) : Fin 4 → Nat :=
  let c0_9197 : Index := 0#32
  let c1_i32_9196 : BitVec 32 := 1#32
  let v9400 : BitVec 32 := Scalar.addi v9393 c1_i32_9196
  let v9401 : Index := Scalar.indexCast v9400
  let c0_9198 : Index := 0#32
  let c0_9199 : Index := 0#32
  ![0, v9401.toNat, 0, 0]

def k0_chk661 (v9393 : BitVec 32) : Prop :=
  (∀ a, (k0_off1321 v9393) a + S1x1x1x128.size a ≤ S1x33344x1x128.size a) ∧
  (∀ a, (k0_off1322 v9393) a + S1x1x1x128.size a ≤ S1x33344x1x128.size a)
theorem k0_off1321_inb : ∀ (v9393 : BitVec 32) (k0_hw661 : k0_chk661 v9393), ∀ a, (k0_off1321 v9393) a + S1x1x1x128.size a ≤ S1x33344x1x128.size a := fun v9393 k0_hw661 => k0_hw661.1
theorem k0_off1322_inb : ∀ (v9393 : BitVec 32) (k0_hw661 : k0_chk661 v9393), ∀ a, (k0_off1322 v9393) a + S1x1x1x128.size a ≤ S1x33344x1x128.size a := fun v9393 k0_hw661 => k0_hw661.2

def k0_off1323 (v9407 : BitVec 32) : Fin 4 → Nat :=
  let c0_9205 : Index := 0#32
  let v9408 : Index := Scalar.indexCast v9407
  let c0_9206 : Index := 0#32
  let c0_9207 : Index := 0#32
  ![0, v9408.toNat, 0, 0]

def k0_off1324 (v9407 : BitVec 32) : Fin 4 → Nat :=
  let c0_9211 : Index := 0#32
  let c1_i32_9210 : BitVec 32 := 1#32
  let v9414 : BitVec 32 := Scalar.addi v9407 c1_i32_9210
  let v9415 : Index := Scalar.indexCast v9414
  let c0_9212 : Index := 0#32
  let c0_9213 : Index := 0#32
  ![0, v9415.toNat, 0, 0]

def k0_chk662 (v9407 : BitVec 32) : Prop :=
  (∀ a, (k0_off1323 v9407) a + S1x1x1x128.size a ≤ S1x33344x1x128.size a) ∧
  (∀ a, (k0_off1324 v9407) a + S1x1x1x128.size a ≤ S1x33344x1x128.size a)
theorem k0_off1323_inb : ∀ (v9407 : BitVec 32) (k0_hw662 : k0_chk662 v9407), ∀ a, (k0_off1323 v9407) a + S1x1x1x128.size a ≤ S1x33344x1x128.size a := fun v9407 k0_hw662 => k0_hw662.1
theorem k0_off1324_inb : ∀ (v9407 : BitVec 32) (k0_hw662 : k0_chk662 v9407), ∀ a, (k0_off1324 v9407) a + S1x1x1x128.size a ≤ S1x33344x1x128.size a := fun v9407 k0_hw662 => k0_hw662.2

def k0_off1325 (v9421 : BitVec 32) : Fin 4 → Nat :=
  let c0_9219 : Index := 0#32
  let v9422 : Index := Scalar.indexCast v9421
  let c0_9220 : Index := 0#32
  let c0_9221 : Index := 0#32
  ![0, v9422.toNat, 0, 0]

def k0_off1326 (v9421 : BitVec 32) : Fin 4 → Nat :=
  let c0_9225 : Index := 0#32
  let c1_i32_9224 : BitVec 32 := 1#32
  let v9428 : BitVec 32 := Scalar.addi v9421 c1_i32_9224
  let v9429 : Index := Scalar.indexCast v9428
  let c0_9226 : Index := 0#32
  let c0_9227 : Index := 0#32
  ![0, v9429.toNat, 0, 0]

def k0_chk663 (v9421 : BitVec 32) : Prop :=
  (∀ a, (k0_off1325 v9421) a + S1x1x1x128.size a ≤ S1x33344x1x128.size a) ∧
  (∀ a, (k0_off1326 v9421) a + S1x1x1x128.size a ≤ S1x33344x1x128.size a)
theorem k0_off1325_inb : ∀ (v9421 : BitVec 32) (k0_hw663 : k0_chk663 v9421), ∀ a, (k0_off1325 v9421) a + S1x1x1x128.size a ≤ S1x33344x1x128.size a := fun v9421 k0_hw663 => k0_hw663.1
theorem k0_off1326_inb : ∀ (v9421 : BitVec 32) (k0_hw663 : k0_chk663 v9421), ∀ a, (k0_off1326 v9421) a + S1x1x1x128.size a ≤ S1x33344x1x128.size a := fun v9421 k0_hw663 => k0_hw663.2

def k0_off1327 (v9435 : BitVec 32) : Fin 4 → Nat :=
  let c0_9233 : Index := 0#32
  let v9436 : Index := Scalar.indexCast v9435
  let c0_9234 : Index := 0#32
  let c0_9235 : Index := 0#32
  ![0, v9436.toNat, 0, 0]

def k0_off1328 (v9435 : BitVec 32) : Fin 4 → Nat :=
  let c0_9239 : Index := 0#32
  let c1_i32_9238 : BitVec 32 := 1#32
  let v9442 : BitVec 32 := Scalar.addi v9435 c1_i32_9238
  let v9443 : Index := Scalar.indexCast v9442
  let c0_9240 : Index := 0#32
  let c0_9241 : Index := 0#32
  ![0, v9443.toNat, 0, 0]

def k0_chk664 (v9435 : BitVec 32) : Prop :=
  (∀ a, (k0_off1327 v9435) a + S1x1x1x128.size a ≤ S1x33344x1x128.size a) ∧
  (∀ a, (k0_off1328 v9435) a + S1x1x1x128.size a ≤ S1x33344x1x128.size a)
theorem k0_off1327_inb : ∀ (v9435 : BitVec 32) (k0_hw664 : k0_chk664 v9435), ∀ a, (k0_off1327 v9435) a + S1x1x1x128.size a ≤ S1x33344x1x128.size a := fun v9435 k0_hw664 => k0_hw664.1
theorem k0_off1328_inb : ∀ (v9435 : BitVec 32) (k0_hw664 : k0_chk664 v9435), ∀ a, (k0_off1328 v9435) a + S1x1x1x128.size a ≤ S1x33344x1x128.size a := fun v9435 k0_hw664 => k0_hw664.2

def k0_off1329 (v9449 : BitVec 32) : Fin 4 → Nat :=
  let c0_9247 : Index := 0#32
  let v9450 : Index := Scalar.indexCast v9449
  let c0_9248 : Index := 0#32
  let c0_9249 : Index := 0#32
  ![0, v9450.toNat, 0, 0]

def k0_off1330 (v9449 : BitVec 32) : Fin 4 → Nat :=
  let c0_9253 : Index := 0#32
  let c1_i32_9252 : BitVec 32 := 1#32
  let v9456 : BitVec 32 := Scalar.addi v9449 c1_i32_9252
  let v9457 : Index := Scalar.indexCast v9456
  let c0_9254 : Index := 0#32
  let c0_9255 : Index := 0#32
  ![0, v9457.toNat, 0, 0]

def k0_chk665 (v9449 : BitVec 32) : Prop :=
  (∀ a, (k0_off1329 v9449) a + S1x1x1x128.size a ≤ S1x33344x1x128.size a) ∧
  (∀ a, (k0_off1330 v9449) a + S1x1x1x128.size a ≤ S1x33344x1x128.size a)
theorem k0_off1329_inb : ∀ (v9449 : BitVec 32) (k0_hw665 : k0_chk665 v9449), ∀ a, (k0_off1329 v9449) a + S1x1x1x128.size a ≤ S1x33344x1x128.size a := fun v9449 k0_hw665 => k0_hw665.1
theorem k0_off1330_inb : ∀ (v9449 : BitVec 32) (k0_hw665 : k0_chk665 v9449), ∀ a, (k0_off1330 v9449) a + S1x1x1x128.size a ≤ S1x33344x1x128.size a := fun v9449 k0_hw665 => k0_hw665.2

def k0_off1331 (v9463 : BitVec 32) : Fin 4 → Nat :=
  let c0_9261 : Index := 0#32
  let v9464 : Index := Scalar.indexCast v9463
  let c0_9262 : Index := 0#32
  let c0_9263 : Index := 0#32
  ![0, v9464.toNat, 0, 0]

def k0_off1332 (v9463 : BitVec 32) : Fin 4 → Nat :=
  let c0_9267 : Index := 0#32
  let c1_i32_9266 : BitVec 32 := 1#32
  let v9470 : BitVec 32 := Scalar.addi v9463 c1_i32_9266
  let v9471 : Index := Scalar.indexCast v9470
  let c0_9268 : Index := 0#32
  let c0_9269 : Index := 0#32
  ![0, v9471.toNat, 0, 0]

def k0_chk666 (v9463 : BitVec 32) : Prop :=
  (∀ a, (k0_off1331 v9463) a + S1x1x1x128.size a ≤ S1x33344x1x128.size a) ∧
  (∀ a, (k0_off1332 v9463) a + S1x1x1x128.size a ≤ S1x33344x1x128.size a)
theorem k0_off1331_inb : ∀ (v9463 : BitVec 32) (k0_hw666 : k0_chk666 v9463), ∀ a, (k0_off1331 v9463) a + S1x1x1x128.size a ≤ S1x33344x1x128.size a := fun v9463 k0_hw666 => k0_hw666.1
theorem k0_off1332_inb : ∀ (v9463 : BitVec 32) (k0_hw666 : k0_chk666 v9463), ∀ a, (k0_off1332 v9463) a + S1x1x1x128.size a ≤ S1x33344x1x128.size a := fun v9463 k0_hw666 => k0_hw666.2

def k0_off1333 (v9477 : BitVec 32) : Fin 4 → Nat :=
  let c0_9275 : Index := 0#32
  let v9478 : Index := Scalar.indexCast v9477
  let c0_9276 : Index := 0#32
  let c0_9277 : Index := 0#32
  ![0, v9478.toNat, 0, 0]

def k0_off1334 (v9477 : BitVec 32) : Fin 4 → Nat :=
  let c0_9281 : Index := 0#32
  let c1_i32_9280 : BitVec 32 := 1#32
  let v9484 : BitVec 32 := Scalar.addi v9477 c1_i32_9280
  let v9485 : Index := Scalar.indexCast v9484
  let c0_9282 : Index := 0#32
  let c0_9283 : Index := 0#32
  ![0, v9485.toNat, 0, 0]

def k0_chk667 (v9477 : BitVec 32) : Prop :=
  (∀ a, (k0_off1333 v9477) a + S1x1x1x128.size a ≤ S1x33344x1x128.size a) ∧
  (∀ a, (k0_off1334 v9477) a + S1x1x1x128.size a ≤ S1x33344x1x128.size a)
theorem k0_off1333_inb : ∀ (v9477 : BitVec 32) (k0_hw667 : k0_chk667 v9477), ∀ a, (k0_off1333 v9477) a + S1x1x1x128.size a ≤ S1x33344x1x128.size a := fun v9477 k0_hw667 => k0_hw667.1
theorem k0_off1334_inb : ∀ (v9477 : BitVec 32) (k0_hw667 : k0_chk667 v9477), ∀ a, (k0_off1334 v9477) a + S1x1x1x128.size a ≤ S1x33344x1x128.size a := fun v9477 k0_hw667 => k0_hw667.2

def k0_off1335 (v9491 : BitVec 32) : Fin 4 → Nat :=
  let c0_9289 : Index := 0#32
  let v9492 : Index := Scalar.indexCast v9491
  let c0_9290 : Index := 0#32
  let c0_9291 : Index := 0#32
  ![0, v9492.toNat, 0, 0]

def k0_off1336 (v9491 : BitVec 32) : Fin 4 → Nat :=
  let c0_9295 : Index := 0#32
  let c1_i32_9294 : BitVec 32 := 1#32
  let v9498 : BitVec 32 := Scalar.addi v9491 c1_i32_9294
  let v9499 : Index := Scalar.indexCast v9498
  let c0_9296 : Index := 0#32
  let c0_9297 : Index := 0#32
  ![0, v9499.toNat, 0, 0]

def k0_chk668 (v9491 : BitVec 32) : Prop :=
  (∀ a, (k0_off1335 v9491) a + S1x1x1x128.size a ≤ S1x33344x1x128.size a) ∧
  (∀ a, (k0_off1336 v9491) a + S1x1x1x128.size a ≤ S1x33344x1x128.size a)
theorem k0_off1335_inb : ∀ (v9491 : BitVec 32) (k0_hw668 : k0_chk668 v9491), ∀ a, (k0_off1335 v9491) a + S1x1x1x128.size a ≤ S1x33344x1x128.size a := fun v9491 k0_hw668 => k0_hw668.1
theorem k0_off1336_inb : ∀ (v9491 : BitVec 32) (k0_hw668 : k0_chk668 v9491), ∀ a, (k0_off1336 v9491) a + S1x1x1x128.size a ≤ S1x33344x1x128.size a := fun v9491 k0_hw668 => k0_hw668.2

def k0_off1337 (v9505 : BitVec 32) : Fin 4 → Nat :=
  let c0_9303 : Index := 0#32
  let v9506 : Index := Scalar.indexCast v9505
  let c0_9304 : Index := 0#32
  let c0_9305 : Index := 0#32
  ![0, v9506.toNat, 0, 0]

def k0_off1338 (v9505 : BitVec 32) : Fin 4 → Nat :=
  let c0_9309 : Index := 0#32
  let c1_i32_9308 : BitVec 32 := 1#32
  let v9512 : BitVec 32 := Scalar.addi v9505 c1_i32_9308
  let v9513 : Index := Scalar.indexCast v9512
  let c0_9310 : Index := 0#32
  let c0_9311 : Index := 0#32
  ![0, v9513.toNat, 0, 0]

def k0_chk669 (v9505 : BitVec 32) : Prop :=
  (∀ a, (k0_off1337 v9505) a + S1x1x1x128.size a ≤ S1x33344x1x128.size a) ∧
  (∀ a, (k0_off1338 v9505) a + S1x1x1x128.size a ≤ S1x33344x1x128.size a)
theorem k0_off1337_inb : ∀ (v9505 : BitVec 32) (k0_hw669 : k0_chk669 v9505), ∀ a, (k0_off1337 v9505) a + S1x1x1x128.size a ≤ S1x33344x1x128.size a := fun v9505 k0_hw669 => k0_hw669.1
theorem k0_off1338_inb : ∀ (v9505 : BitVec 32) (k0_hw669 : k0_chk669 v9505), ∀ a, (k0_off1338 v9505) a + S1x1x1x128.size a ≤ S1x33344x1x128.size a := fun v9505 k0_hw669 => k0_hw669.2

def k0_off1339 (v9519 : BitVec 32) : Fin 4 → Nat :=
  let c0_9317 : Index := 0#32
  let v9520 : Index := Scalar.indexCast v9519
  let c0_9318 : Index := 0#32
  let c0_9319 : Index := 0#32
  ![0, v9520.toNat, 0, 0]

def k0_off1340 (v9519 : BitVec 32) : Fin 4 → Nat :=
  let c0_9323 : Index := 0#32
  let c1_i32_9322 : BitVec 32 := 1#32
  let v9526 : BitVec 32 := Scalar.addi v9519 c1_i32_9322
  let v9527 : Index := Scalar.indexCast v9526
  let c0_9324 : Index := 0#32
  let c0_9325 : Index := 0#32
  ![0, v9527.toNat, 0, 0]

def k0_chk670 (v9519 : BitVec 32) : Prop :=
  (∀ a, (k0_off1339 v9519) a + S1x1x1x128.size a ≤ S1x33344x1x128.size a) ∧
  (∀ a, (k0_off1340 v9519) a + S1x1x1x128.size a ≤ S1x33344x1x128.size a)
theorem k0_off1339_inb : ∀ (v9519 : BitVec 32) (k0_hw670 : k0_chk670 v9519), ∀ a, (k0_off1339 v9519) a + S1x1x1x128.size a ≤ S1x33344x1x128.size a := fun v9519 k0_hw670 => k0_hw670.1
theorem k0_off1340_inb : ∀ (v9519 : BitVec 32) (k0_hw670 : k0_chk670 v9519), ∀ a, (k0_off1340 v9519) a + S1x1x1x128.size a ≤ S1x33344x1x128.size a := fun v9519 k0_hw670 => k0_hw670.2

def k0_off1341 (v9533 : BitVec 32) : Fin 4 → Nat :=
  let c0_9331 : Index := 0#32
  let v9534 : Index := Scalar.indexCast v9533
  let c0_9332 : Index := 0#32
  let c0_9333 : Index := 0#32
  ![0, v9534.toNat, 0, 0]

def k0_off1342 (v9533 : BitVec 32) : Fin 4 → Nat :=
  let c0_9337 : Index := 0#32
  let c1_i32_9336 : BitVec 32 := 1#32
  let v9540 : BitVec 32 := Scalar.addi v9533 c1_i32_9336
  let v9541 : Index := Scalar.indexCast v9540
  let c0_9338 : Index := 0#32
  let c0_9339 : Index := 0#32
  ![0, v9541.toNat, 0, 0]

def k0_chk671 (v9533 : BitVec 32) : Prop :=
  (∀ a, (k0_off1341 v9533) a + S1x1x1x128.size a ≤ S1x33344x1x128.size a) ∧
  (∀ a, (k0_off1342 v9533) a + S1x1x1x128.size a ≤ S1x33344x1x128.size a)
theorem k0_off1341_inb : ∀ (v9533 : BitVec 32) (k0_hw671 : k0_chk671 v9533), ∀ a, (k0_off1341 v9533) a + S1x1x1x128.size a ≤ S1x33344x1x128.size a := fun v9533 k0_hw671 => k0_hw671.1
theorem k0_off1342_inb : ∀ (v9533 : BitVec 32) (k0_hw671 : k0_chk671 v9533), ∀ a, (k0_off1342 v9533) a + S1x1x1x128.size a ≤ S1x33344x1x128.size a := fun v9533 k0_hw671 => k0_hw671.2

def k0_off1343 (v9547 : BitVec 32) : Fin 4 → Nat :=
  let c0_9345 : Index := 0#32
  let v9548 : Index := Scalar.indexCast v9547
  let c0_9346 : Index := 0#32
  let c0_9347 : Index := 0#32
  ![0, v9548.toNat, 0, 0]

def k0_off1344 (v9547 : BitVec 32) : Fin 4 → Nat :=
  let c0_9351 : Index := 0#32
  let c1_i32_9350 : BitVec 32 := 1#32
  let v9554 : BitVec 32 := Scalar.addi v9547 c1_i32_9350
  let v9555 : Index := Scalar.indexCast v9554
  let c0_9352 : Index := 0#32
  let c0_9353 : Index := 0#32
  ![0, v9555.toNat, 0, 0]

def k0_chk672 (v9547 : BitVec 32) : Prop :=
  (∀ a, (k0_off1343 v9547) a + S1x1x1x128.size a ≤ S1x33344x1x128.size a) ∧
  (∀ a, (k0_off1344 v9547) a + S1x1x1x128.size a ≤ S1x33344x1x128.size a)
theorem k0_off1343_inb : ∀ (v9547 : BitVec 32) (k0_hw672 : k0_chk672 v9547), ∀ a, (k0_off1343 v9547) a + S1x1x1x128.size a ≤ S1x33344x1x128.size a := fun v9547 k0_hw672 => k0_hw672.1
theorem k0_off1344_inb : ∀ (v9547 : BitVec 32) (k0_hw672 : k0_chk672 v9547), ∀ a, (k0_off1344 v9547) a + S1x1x1x128.size a ≤ S1x33344x1x128.size a := fun v9547 k0_hw672 => k0_hw672.2

def k0_off1345 (v9561 : BitVec 32) : Fin 4 → Nat :=
  let c0_9359 : Index := 0#32
  let v9562 : Index := Scalar.indexCast v9561
  let c0_9360 : Index := 0#32
  let c0_9361 : Index := 0#32
  ![0, v9562.toNat, 0, 0]

def k0_off1346 (v9561 : BitVec 32) : Fin 4 → Nat :=
  let c0_9365 : Index := 0#32
  let c1_i32_9364 : BitVec 32 := 1#32
  let v9568 : BitVec 32 := Scalar.addi v9561 c1_i32_9364
  let v9569 : Index := Scalar.indexCast v9568
  let c0_9366 : Index := 0#32
  let c0_9367 : Index := 0#32
  ![0, v9569.toNat, 0, 0]

def k0_chk673 (v9561 : BitVec 32) : Prop :=
  (∀ a, (k0_off1345 v9561) a + S1x1x1x128.size a ≤ S1x33344x1x128.size a) ∧
  (∀ a, (k0_off1346 v9561) a + S1x1x1x128.size a ≤ S1x33344x1x128.size a)
theorem k0_off1345_inb : ∀ (v9561 : BitVec 32) (k0_hw673 : k0_chk673 v9561), ∀ a, (k0_off1345 v9561) a + S1x1x1x128.size a ≤ S1x33344x1x128.size a := fun v9561 k0_hw673 => k0_hw673.1
theorem k0_off1346_inb : ∀ (v9561 : BitVec 32) (k0_hw673 : k0_chk673 v9561), ∀ a, (k0_off1346 v9561) a + S1x1x1x128.size a ≤ S1x33344x1x128.size a := fun v9561 k0_hw673 => k0_hw673.2

def k0_off1347 (v9575 : BitVec 32) : Fin 4 → Nat :=
  let c0_9373 : Index := 0#32
  let v9576 : Index := Scalar.indexCast v9575
  let c0_9374 : Index := 0#32
  let c0_9375 : Index := 0#32
  ![0, v9576.toNat, 0, 0]

def k0_off1348 (v9575 : BitVec 32) : Fin 4 → Nat :=
  let c0_9379 : Index := 0#32
  let c1_i32_9378 : BitVec 32 := 1#32
  let v9582 : BitVec 32 := Scalar.addi v9575 c1_i32_9378
  let v9583 : Index := Scalar.indexCast v9582
  let c0_9380 : Index := 0#32
  let c0_9381 : Index := 0#32
  ![0, v9583.toNat, 0, 0]

def k0_chk674 (v9575 : BitVec 32) : Prop :=
  (∀ a, (k0_off1347 v9575) a + S1x1x1x128.size a ≤ S1x33344x1x128.size a) ∧
  (∀ a, (k0_off1348 v9575) a + S1x1x1x128.size a ≤ S1x33344x1x128.size a)
theorem k0_off1347_inb : ∀ (v9575 : BitVec 32) (k0_hw674 : k0_chk674 v9575), ∀ a, (k0_off1347 v9575) a + S1x1x1x128.size a ≤ S1x33344x1x128.size a := fun v9575 k0_hw674 => k0_hw674.1
theorem k0_off1348_inb : ∀ (v9575 : BitVec 32) (k0_hw674 : k0_chk674 v9575), ∀ a, (k0_off1348 v9575) a + S1x1x1x128.size a ≤ S1x33344x1x128.size a := fun v9575 k0_hw674 => k0_hw674.2

def k0_off1349 (v9589 : BitVec 32) : Fin 4 → Nat :=
  let c0_9387 : Index := 0#32
  let v9590 : Index := Scalar.indexCast v9589
  let c0_9388 : Index := 0#32
  let c0_9389 : Index := 0#32
  ![0, v9590.toNat, 0, 0]

def k0_off1350 (v9589 : BitVec 32) : Fin 4 → Nat :=
  let c0_9393 : Index := 0#32
  let c1_i32_9392 : BitVec 32 := 1#32
  let v9596 : BitVec 32 := Scalar.addi v9589 c1_i32_9392
  let v9597 : Index := Scalar.indexCast v9596
  let c0_9394 : Index := 0#32
  let c0_9395 : Index := 0#32
  ![0, v9597.toNat, 0, 0]

def k0_chk675 (v9589 : BitVec 32) : Prop :=
  (∀ a, (k0_off1349 v9589) a + S1x1x1x128.size a ≤ S1x33344x1x128.size a) ∧
  (∀ a, (k0_off1350 v9589) a + S1x1x1x128.size a ≤ S1x33344x1x128.size a)
theorem k0_off1349_inb : ∀ (v9589 : BitVec 32) (k0_hw675 : k0_chk675 v9589), ∀ a, (k0_off1349 v9589) a + S1x1x1x128.size a ≤ S1x33344x1x128.size a := fun v9589 k0_hw675 => k0_hw675.1
theorem k0_off1350_inb : ∀ (v9589 : BitVec 32) (k0_hw675 : k0_chk675 v9589), ∀ a, (k0_off1350 v9589) a + S1x1x1x128.size a ≤ S1x33344x1x128.size a := fun v9589 k0_hw675 => k0_hw675.2

def k0_off1351 (v9603 : BitVec 32) : Fin 4 → Nat :=
  let c0_9401 : Index := 0#32
  let v9604 : Index := Scalar.indexCast v9603
  let c0_9402 : Index := 0#32
  let c0_9403 : Index := 0#32
  ![0, v9604.toNat, 0, 0]

def k0_off1352 (v9603 : BitVec 32) : Fin 4 → Nat :=
  let c0_9407 : Index := 0#32
  let c1_i32_9406 : BitVec 32 := 1#32
  let v9610 : BitVec 32 := Scalar.addi v9603 c1_i32_9406
  let v9611 : Index := Scalar.indexCast v9610
  let c0_9408 : Index := 0#32
  let c0_9409 : Index := 0#32
  ![0, v9611.toNat, 0, 0]

def k0_chk676 (v9603 : BitVec 32) : Prop :=
  (∀ a, (k0_off1351 v9603) a + S1x1x1x128.size a ≤ S1x33344x1x128.size a) ∧
  (∀ a, (k0_off1352 v9603) a + S1x1x1x128.size a ≤ S1x33344x1x128.size a)
theorem k0_off1351_inb : ∀ (v9603 : BitVec 32) (k0_hw676 : k0_chk676 v9603), ∀ a, (k0_off1351 v9603) a + S1x1x1x128.size a ≤ S1x33344x1x128.size a := fun v9603 k0_hw676 => k0_hw676.1
theorem k0_off1352_inb : ∀ (v9603 : BitVec 32) (k0_hw676 : k0_chk676 v9603), ∀ a, (k0_off1352 v9603) a + S1x1x1x128.size a ≤ S1x33344x1x128.size a := fun v9603 k0_hw676 => k0_hw676.2

def k0_off1353 (v9617 : BitVec 32) : Fin 4 → Nat :=
  let c0_9415 : Index := 0#32
  let v9618 : Index := Scalar.indexCast v9617
  let c0_9416 : Index := 0#32
  let c0_9417 : Index := 0#32
  ![0, v9618.toNat, 0, 0]

def k0_off1354 (v9617 : BitVec 32) : Fin 4 → Nat :=
  let c0_9421 : Index := 0#32
  let c1_i32_9420 : BitVec 32 := 1#32
  let v9624 : BitVec 32 := Scalar.addi v9617 c1_i32_9420
  let v9625 : Index := Scalar.indexCast v9624
  let c0_9422 : Index := 0#32
  let c0_9423 : Index := 0#32
  ![0, v9625.toNat, 0, 0]

def k0_chk677 (v9617 : BitVec 32) : Prop :=
  (∀ a, (k0_off1353 v9617) a + S1x1x1x128.size a ≤ S1x33344x1x128.size a) ∧
  (∀ a, (k0_off1354 v9617) a + S1x1x1x128.size a ≤ S1x33344x1x128.size a)
theorem k0_off1353_inb : ∀ (v9617 : BitVec 32) (k0_hw677 : k0_chk677 v9617), ∀ a, (k0_off1353 v9617) a + S1x1x1x128.size a ≤ S1x33344x1x128.size a := fun v9617 k0_hw677 => k0_hw677.1
theorem k0_off1354_inb : ∀ (v9617 : BitVec 32) (k0_hw677 : k0_chk677 v9617), ∀ a, (k0_off1354 v9617) a + S1x1x1x128.size a ≤ S1x33344x1x128.size a := fun v9617 k0_hw677 => k0_hw677.2

def k0_off1355 (v9631 : BitVec 32) : Fin 4 → Nat :=
  let c0_9429 : Index := 0#32
  let v9632 : Index := Scalar.indexCast v9631
  let c0_9430 : Index := 0#32
  let c0_9431 : Index := 0#32
  ![0, v9632.toNat, 0, 0]

def k0_off1356 (v9631 : BitVec 32) : Fin 4 → Nat :=
  let c0_9435 : Index := 0#32
  let c1_i32_9434 : BitVec 32 := 1#32
  let v9638 : BitVec 32 := Scalar.addi v9631 c1_i32_9434
  let v9639 : Index := Scalar.indexCast v9638
  let c0_9436 : Index := 0#32
  let c0_9437 : Index := 0#32
  ![0, v9639.toNat, 0, 0]

def k0_chk678 (v9631 : BitVec 32) : Prop :=
  (∀ a, (k0_off1355 v9631) a + S1x1x1x128.size a ≤ S1x33344x1x128.size a) ∧
  (∀ a, (k0_off1356 v9631) a + S1x1x1x128.size a ≤ S1x33344x1x128.size a)
theorem k0_off1355_inb : ∀ (v9631 : BitVec 32) (k0_hw678 : k0_chk678 v9631), ∀ a, (k0_off1355 v9631) a + S1x1x1x128.size a ≤ S1x33344x1x128.size a := fun v9631 k0_hw678 => k0_hw678.1
theorem k0_off1356_inb : ∀ (v9631 : BitVec 32) (k0_hw678 : k0_chk678 v9631), ∀ a, (k0_off1356 v9631) a + S1x1x1x128.size a ≤ S1x33344x1x128.size a := fun v9631 k0_hw678 => k0_hw678.2

def k0_off1357 (v9645 : BitVec 32) : Fin 4 → Nat :=
  let c0_9443 : Index := 0#32
  let v9646 : Index := Scalar.indexCast v9645
  let c0_9444 : Index := 0#32
  let c0_9445 : Index := 0#32
  ![0, v9646.toNat, 0, 0]

def k0_off1358 (v9645 : BitVec 32) : Fin 4 → Nat :=
  let c0_9449 : Index := 0#32
  let c1_i32_9448 : BitVec 32 := 1#32
  let v9652 : BitVec 32 := Scalar.addi v9645 c1_i32_9448
  let v9653 : Index := Scalar.indexCast v9652
  let c0_9450 : Index := 0#32
  let c0_9451 : Index := 0#32
  ![0, v9653.toNat, 0, 0]

def k0_chk679 (v9645 : BitVec 32) : Prop :=
  (∀ a, (k0_off1357 v9645) a + S1x1x1x128.size a ≤ S1x33344x1x128.size a) ∧
  (∀ a, (k0_off1358 v9645) a + S1x1x1x128.size a ≤ S1x33344x1x128.size a)
theorem k0_off1357_inb : ∀ (v9645 : BitVec 32) (k0_hw679 : k0_chk679 v9645), ∀ a, (k0_off1357 v9645) a + S1x1x1x128.size a ≤ S1x33344x1x128.size a := fun v9645 k0_hw679 => k0_hw679.1
theorem k0_off1358_inb : ∀ (v9645 : BitVec 32) (k0_hw679 : k0_chk679 v9645), ∀ a, (k0_off1358 v9645) a + S1x1x1x128.size a ≤ S1x33344x1x128.size a := fun v9645 k0_hw679 => k0_hw679.2

def k0_off1359 (v9659 : BitVec 32) : Fin 4 → Nat :=
  let c0_9457 : Index := 0#32
  let v9660 : Index := Scalar.indexCast v9659
  let c0_9458 : Index := 0#32
  let c0_9459 : Index := 0#32
  ![0, v9660.toNat, 0, 0]

def k0_off1360 (v9659 : BitVec 32) : Fin 4 → Nat :=
  let c0_9463 : Index := 0#32
  let c1_i32_9462 : BitVec 32 := 1#32
  let v9666 : BitVec 32 := Scalar.addi v9659 c1_i32_9462
  let v9667 : Index := Scalar.indexCast v9666
  let c0_9464 : Index := 0#32
  let c0_9465 : Index := 0#32
  ![0, v9667.toNat, 0, 0]

def k0_chk680 (v9659 : BitVec 32) : Prop :=
  (∀ a, (k0_off1359 v9659) a + S1x1x1x128.size a ≤ S1x33344x1x128.size a) ∧
  (∀ a, (k0_off1360 v9659) a + S1x1x1x128.size a ≤ S1x33344x1x128.size a)
theorem k0_off1359_inb : ∀ (v9659 : BitVec 32) (k0_hw680 : k0_chk680 v9659), ∀ a, (k0_off1359 v9659) a + S1x1x1x128.size a ≤ S1x33344x1x128.size a := fun v9659 k0_hw680 => k0_hw680.1
theorem k0_off1360_inb : ∀ (v9659 : BitVec 32) (k0_hw680 : k0_chk680 v9659), ∀ a, (k0_off1360 v9659) a + S1x1x1x128.size a ≤ S1x33344x1x128.size a := fun v9659 k0_hw680 => k0_hw680.2

def k0_off1361 (v9673 : BitVec 32) : Fin 4 → Nat :=
  let c0_9471 : Index := 0#32
  let v9674 : Index := Scalar.indexCast v9673
  let c0_9472 : Index := 0#32
  let c0_9473 : Index := 0#32
  ![0, v9674.toNat, 0, 0]

def k0_off1362 (v9673 : BitVec 32) : Fin 4 → Nat :=
  let c0_9477 : Index := 0#32
  let c1_i32_9476 : BitVec 32 := 1#32
  let v9680 : BitVec 32 := Scalar.addi v9673 c1_i32_9476
  let v9681 : Index := Scalar.indexCast v9680
  let c0_9478 : Index := 0#32
  let c0_9479 : Index := 0#32
  ![0, v9681.toNat, 0, 0]

def k0_chk681 (v9673 : BitVec 32) : Prop :=
  (∀ a, (k0_off1361 v9673) a + S1x1x1x128.size a ≤ S1x33344x1x128.size a) ∧
  (∀ a, (k0_off1362 v9673) a + S1x1x1x128.size a ≤ S1x33344x1x128.size a)
theorem k0_off1361_inb : ∀ (v9673 : BitVec 32) (k0_hw681 : k0_chk681 v9673), ∀ a, (k0_off1361 v9673) a + S1x1x1x128.size a ≤ S1x33344x1x128.size a := fun v9673 k0_hw681 => k0_hw681.1
theorem k0_off1362_inb : ∀ (v9673 : BitVec 32) (k0_hw681 : k0_chk681 v9673), ∀ a, (k0_off1362 v9673) a + S1x1x1x128.size a ≤ S1x33344x1x128.size a := fun v9673 k0_hw681 => k0_hw681.2

def k0_off1363 (v9687 : BitVec 32) : Fin 4 → Nat :=
  let c0_9485 : Index := 0#32
  let v9688 : Index := Scalar.indexCast v9687
  let c0_9486 : Index := 0#32
  let c0_9487 : Index := 0#32
  ![0, v9688.toNat, 0, 0]

def k0_off1364 (v9687 : BitVec 32) : Fin 4 → Nat :=
  let c0_9491 : Index := 0#32
  let c1_i32_9490 : BitVec 32 := 1#32
  let v9694 : BitVec 32 := Scalar.addi v9687 c1_i32_9490
  let v9695 : Index := Scalar.indexCast v9694
  let c0_9492 : Index := 0#32
  let c0_9493 : Index := 0#32
  ![0, v9695.toNat, 0, 0]

def k0_chk682 (v9687 : BitVec 32) : Prop :=
  (∀ a, (k0_off1363 v9687) a + S1x1x1x128.size a ≤ S1x33344x1x128.size a) ∧
  (∀ a, (k0_off1364 v9687) a + S1x1x1x128.size a ≤ S1x33344x1x128.size a)
theorem k0_off1363_inb : ∀ (v9687 : BitVec 32) (k0_hw682 : k0_chk682 v9687), ∀ a, (k0_off1363 v9687) a + S1x1x1x128.size a ≤ S1x33344x1x128.size a := fun v9687 k0_hw682 => k0_hw682.1
theorem k0_off1364_inb : ∀ (v9687 : BitVec 32) (k0_hw682 : k0_chk682 v9687), ∀ a, (k0_off1364 v9687) a + S1x1x1x128.size a ≤ S1x33344x1x128.size a := fun v9687 k0_hw682 => k0_hw682.2

def k0_off1365 (v9701 : BitVec 32) : Fin 4 → Nat :=
  let c0_9499 : Index := 0#32
  let v9702 : Index := Scalar.indexCast v9701
  let c0_9500 : Index := 0#32
  let c0_9501 : Index := 0#32
  ![0, v9702.toNat, 0, 0]

def k0_off1366 (v9701 : BitVec 32) : Fin 4 → Nat :=
  let c0_9505 : Index := 0#32
  let c1_i32_9504 : BitVec 32 := 1#32
  let v9708 : BitVec 32 := Scalar.addi v9701 c1_i32_9504
  let v9709 : Index := Scalar.indexCast v9708
  let c0_9506 : Index := 0#32
  let c0_9507 : Index := 0#32
  ![0, v9709.toNat, 0, 0]

def k0_chk683 (v9701 : BitVec 32) : Prop :=
  (∀ a, (k0_off1365 v9701) a + S1x1x1x128.size a ≤ S1x33344x1x128.size a) ∧
  (∀ a, (k0_off1366 v9701) a + S1x1x1x128.size a ≤ S1x33344x1x128.size a)
theorem k0_off1365_inb : ∀ (v9701 : BitVec 32) (k0_hw683 : k0_chk683 v9701), ∀ a, (k0_off1365 v9701) a + S1x1x1x128.size a ≤ S1x33344x1x128.size a := fun v9701 k0_hw683 => k0_hw683.1
theorem k0_off1366_inb : ∀ (v9701 : BitVec 32) (k0_hw683 : k0_chk683 v9701), ∀ a, (k0_off1366 v9701) a + S1x1x1x128.size a ≤ S1x33344x1x128.size a := fun v9701 k0_hw683 => k0_hw683.2

def k0_off1367 (v9715 : BitVec 32) : Fin 4 → Nat :=
  let c0_9513 : Index := 0#32
  let v9716 : Index := Scalar.indexCast v9715
  let c0_9514 : Index := 0#32
  let c0_9515 : Index := 0#32
  ![0, v9716.toNat, 0, 0]

def k0_off1368 (v9715 : BitVec 32) : Fin 4 → Nat :=
  let c0_9519 : Index := 0#32
  let c1_i32_9518 : BitVec 32 := 1#32
  let v9722 : BitVec 32 := Scalar.addi v9715 c1_i32_9518
  let v9723 : Index := Scalar.indexCast v9722
  let c0_9520 : Index := 0#32
  let c0_9521 : Index := 0#32
  ![0, v9723.toNat, 0, 0]

def k0_chk684 (v9715 : BitVec 32) : Prop :=
  (∀ a, (k0_off1367 v9715) a + S1x1x1x128.size a ≤ S1x33344x1x128.size a) ∧
  (∀ a, (k0_off1368 v9715) a + S1x1x1x128.size a ≤ S1x33344x1x128.size a)
theorem k0_off1367_inb : ∀ (v9715 : BitVec 32) (k0_hw684 : k0_chk684 v9715), ∀ a, (k0_off1367 v9715) a + S1x1x1x128.size a ≤ S1x33344x1x128.size a := fun v9715 k0_hw684 => k0_hw684.1
theorem k0_off1368_inb : ∀ (v9715 : BitVec 32) (k0_hw684 : k0_chk684 v9715), ∀ a, (k0_off1368 v9715) a + S1x1x1x128.size a ≤ S1x33344x1x128.size a := fun v9715 k0_hw684 => k0_hw684.2

def k0_off1369 (v9729 : BitVec 32) : Fin 4 → Nat :=
  let c0_9527 : Index := 0#32
  let v9730 : Index := Scalar.indexCast v9729
  let c0_9528 : Index := 0#32
  let c0_9529 : Index := 0#32
  ![0, v9730.toNat, 0, 0]

def k0_off1370 (v9729 : BitVec 32) : Fin 4 → Nat :=
  let c0_9533 : Index := 0#32
  let c1_i32_9532 : BitVec 32 := 1#32
  let v9736 : BitVec 32 := Scalar.addi v9729 c1_i32_9532
  let v9737 : Index := Scalar.indexCast v9736
  let c0_9534 : Index := 0#32
  let c0_9535 : Index := 0#32
  ![0, v9737.toNat, 0, 0]

def k0_chk685 (v9729 : BitVec 32) : Prop :=
  (∀ a, (k0_off1369 v9729) a + S1x1x1x128.size a ≤ S1x33344x1x128.size a) ∧
  (∀ a, (k0_off1370 v9729) a + S1x1x1x128.size a ≤ S1x33344x1x128.size a)
theorem k0_off1369_inb : ∀ (v9729 : BitVec 32) (k0_hw685 : k0_chk685 v9729), ∀ a, (k0_off1369 v9729) a + S1x1x1x128.size a ≤ S1x33344x1x128.size a := fun v9729 k0_hw685 => k0_hw685.1
theorem k0_off1370_inb : ∀ (v9729 : BitVec 32) (k0_hw685 : k0_chk685 v9729), ∀ a, (k0_off1370 v9729) a + S1x1x1x128.size a ≤ S1x33344x1x128.size a := fun v9729 k0_hw685 => k0_hw685.2

def k0_off1371 (v9743 : BitVec 32) : Fin 4 → Nat :=
  let c0_9541 : Index := 0#32
  let v9744 : Index := Scalar.indexCast v9743
  let c0_9542 : Index := 0#32
  let c0_9543 : Index := 0#32
  ![0, v9744.toNat, 0, 0]

def k0_off1372 (v9743 : BitVec 32) : Fin 4 → Nat :=
  let c0_9547 : Index := 0#32
  let c1_i32_9546 : BitVec 32 := 1#32
  let v9750 : BitVec 32 := Scalar.addi v9743 c1_i32_9546
  let v9751 : Index := Scalar.indexCast v9750
  let c0_9548 : Index := 0#32
  let c0_9549 : Index := 0#32
  ![0, v9751.toNat, 0, 0]

def k0_chk686 (v9743 : BitVec 32) : Prop :=
  (∀ a, (k0_off1371 v9743) a + S1x1x1x128.size a ≤ S1x33344x1x128.size a) ∧
  (∀ a, (k0_off1372 v9743) a + S1x1x1x128.size a ≤ S1x33344x1x128.size a)
theorem k0_off1371_inb : ∀ (v9743 : BitVec 32) (k0_hw686 : k0_chk686 v9743), ∀ a, (k0_off1371 v9743) a + S1x1x1x128.size a ≤ S1x33344x1x128.size a := fun v9743 k0_hw686 => k0_hw686.1
theorem k0_off1372_inb : ∀ (v9743 : BitVec 32) (k0_hw686 : k0_chk686 v9743), ∀ a, (k0_off1372 v9743) a + S1x1x1x128.size a ≤ S1x33344x1x128.size a := fun v9743 k0_hw686 => k0_hw686.2

def k0_off1373 (v9757 : BitVec 32) : Fin 4 → Nat :=
  let c0_9555 : Index := 0#32
  let v9758 : Index := Scalar.indexCast v9757
  let c0_9556 : Index := 0#32
  let c0_9557 : Index := 0#32
  ![0, v9758.toNat, 0, 0]

def k0_off1374 (v9757 : BitVec 32) : Fin 4 → Nat :=
  let c0_9561 : Index := 0#32
  let c1_i32_9560 : BitVec 32 := 1#32
  let v9764 : BitVec 32 := Scalar.addi v9757 c1_i32_9560
  let v9765 : Index := Scalar.indexCast v9764
  let c0_9562 : Index := 0#32
  let c0_9563 : Index := 0#32
  ![0, v9765.toNat, 0, 0]

def k0_chk687 (v9757 : BitVec 32) : Prop :=
  (∀ a, (k0_off1373 v9757) a + S1x1x1x128.size a ≤ S1x33344x1x128.size a) ∧
  (∀ a, (k0_off1374 v9757) a + S1x1x1x128.size a ≤ S1x33344x1x128.size a)
theorem k0_off1373_inb : ∀ (v9757 : BitVec 32) (k0_hw687 : k0_chk687 v9757), ∀ a, (k0_off1373 v9757) a + S1x1x1x128.size a ≤ S1x33344x1x128.size a := fun v9757 k0_hw687 => k0_hw687.1
theorem k0_off1374_inb : ∀ (v9757 : BitVec 32) (k0_hw687 : k0_chk687 v9757), ∀ a, (k0_off1374 v9757) a + S1x1x1x128.size a ≤ S1x33344x1x128.size a := fun v9757 k0_hw687 => k0_hw687.2

def k0_off1375 (v9771 : BitVec 32) : Fin 4 → Nat :=
  let c0_9569 : Index := 0#32
  let v9772 : Index := Scalar.indexCast v9771
  let c0_9570 : Index := 0#32
  let c0_9571 : Index := 0#32
  ![0, v9772.toNat, 0, 0]

def k0_off1376 (v9771 : BitVec 32) : Fin 4 → Nat :=
  let c0_9575 : Index := 0#32
  let c1_i32_9574 : BitVec 32 := 1#32
  let v9778 : BitVec 32 := Scalar.addi v9771 c1_i32_9574
  let v9779 : Index := Scalar.indexCast v9778
  let c0_9576 : Index := 0#32
  let c0_9577 : Index := 0#32
  ![0, v9779.toNat, 0, 0]

def k0_chk688 (v9771 : BitVec 32) : Prop :=
  (∀ a, (k0_off1375 v9771) a + S1x1x1x128.size a ≤ S1x33344x1x128.size a) ∧
  (∀ a, (k0_off1376 v9771) a + S1x1x1x128.size a ≤ S1x33344x1x128.size a)
theorem k0_off1375_inb : ∀ (v9771 : BitVec 32) (k0_hw688 : k0_chk688 v9771), ∀ a, (k0_off1375 v9771) a + S1x1x1x128.size a ≤ S1x33344x1x128.size a := fun v9771 k0_hw688 => k0_hw688.1
theorem k0_off1376_inb : ∀ (v9771 : BitVec 32) (k0_hw688 : k0_chk688 v9771), ∀ a, (k0_off1376 v9771) a + S1x1x1x128.size a ≤ S1x33344x1x128.size a := fun v9771 k0_hw688 => k0_hw688.2

def k0_off1377 (v9785 : BitVec 32) : Fin 4 → Nat :=
  let c0_9583 : Index := 0#32
  let v9786 : Index := Scalar.indexCast v9785
  let c0_9584 : Index := 0#32
  let c0_9585 : Index := 0#32
  ![0, v9786.toNat, 0, 0]

def k0_off1378 (v9785 : BitVec 32) : Fin 4 → Nat :=
  let c0_9589 : Index := 0#32
  let c1_i32_9588 : BitVec 32 := 1#32
  let v9792 : BitVec 32 := Scalar.addi v9785 c1_i32_9588
  let v9793 : Index := Scalar.indexCast v9792
  let c0_9590 : Index := 0#32
  let c0_9591 : Index := 0#32
  ![0, v9793.toNat, 0, 0]

def k0_chk689 (v9785 : BitVec 32) : Prop :=
  (∀ a, (k0_off1377 v9785) a + S1x1x1x128.size a ≤ S1x33344x1x128.size a) ∧
  (∀ a, (k0_off1378 v9785) a + S1x1x1x128.size a ≤ S1x33344x1x128.size a)
theorem k0_off1377_inb : ∀ (v9785 : BitVec 32) (k0_hw689 : k0_chk689 v9785), ∀ a, (k0_off1377 v9785) a + S1x1x1x128.size a ≤ S1x33344x1x128.size a := fun v9785 k0_hw689 => k0_hw689.1
theorem k0_off1378_inb : ∀ (v9785 : BitVec 32) (k0_hw689 : k0_chk689 v9785), ∀ a, (k0_off1378 v9785) a + S1x1x1x128.size a ≤ S1x33344x1x128.size a := fun v9785 k0_hw689 => k0_hw689.2

def k0_off1379 (v9799 : BitVec 32) : Fin 4 → Nat :=
  let c0_9597 : Index := 0#32
  let v9800 : Index := Scalar.indexCast v9799
  let c0_9598 : Index := 0#32
  let c0_9599 : Index := 0#32
  ![0, v9800.toNat, 0, 0]

def k0_off1380 (v9799 : BitVec 32) : Fin 4 → Nat :=
  let c0_9603 : Index := 0#32
  let c1_i32_9602 : BitVec 32 := 1#32
  let v9806 : BitVec 32 := Scalar.addi v9799 c1_i32_9602
  let v9807 : Index := Scalar.indexCast v9806
  let c0_9604 : Index := 0#32
  let c0_9605 : Index := 0#32
  ![0, v9807.toNat, 0, 0]

def k0_chk690 (v9799 : BitVec 32) : Prop :=
  (∀ a, (k0_off1379 v9799) a + S1x1x1x128.size a ≤ S1x33344x1x128.size a) ∧
  (∀ a, (k0_off1380 v9799) a + S1x1x1x128.size a ≤ S1x33344x1x128.size a)
theorem k0_off1379_inb : ∀ (v9799 : BitVec 32) (k0_hw690 : k0_chk690 v9799), ∀ a, (k0_off1379 v9799) a + S1x1x1x128.size a ≤ S1x33344x1x128.size a := fun v9799 k0_hw690 => k0_hw690.1
theorem k0_off1380_inb : ∀ (v9799 : BitVec 32) (k0_hw690 : k0_chk690 v9799), ∀ a, (k0_off1380 v9799) a + S1x1x1x128.size a ≤ S1x33344x1x128.size a := fun v9799 k0_hw690 => k0_hw690.2

def k0_off1381 (v9813 : BitVec 32) : Fin 4 → Nat :=
  let c0_9611 : Index := 0#32
  let v9814 : Index := Scalar.indexCast v9813
  let c0_9612 : Index := 0#32
  let c0_9613 : Index := 0#32
  ![0, v9814.toNat, 0, 0]

def k0_off1382 (v9813 : BitVec 32) : Fin 4 → Nat :=
  let c0_9617 : Index := 0#32
  let c1_i32_9616 : BitVec 32 := 1#32
  let v9820 : BitVec 32 := Scalar.addi v9813 c1_i32_9616
  let v9821 : Index := Scalar.indexCast v9820
  let c0_9618 : Index := 0#32
  let c0_9619 : Index := 0#32
  ![0, v9821.toNat, 0, 0]

def k0_chk691 (v9813 : BitVec 32) : Prop :=
  (∀ a, (k0_off1381 v9813) a + S1x1x1x128.size a ≤ S1x33344x1x128.size a) ∧
  (∀ a, (k0_off1382 v9813) a + S1x1x1x128.size a ≤ S1x33344x1x128.size a)
theorem k0_off1381_inb : ∀ (v9813 : BitVec 32) (k0_hw691 : k0_chk691 v9813), ∀ a, (k0_off1381 v9813) a + S1x1x1x128.size a ≤ S1x33344x1x128.size a := fun v9813 k0_hw691 => k0_hw691.1
theorem k0_off1382_inb : ∀ (v9813 : BitVec 32) (k0_hw691 : k0_chk691 v9813), ∀ a, (k0_off1382 v9813) a + S1x1x1x128.size a ≤ S1x33344x1x128.size a := fun v9813 k0_hw691 => k0_hw691.2

def k0_off1383 (v9827 : BitVec 32) : Fin 4 → Nat :=
  let c0_9625 : Index := 0#32
  let v9828 : Index := Scalar.indexCast v9827
  let c0_9626 : Index := 0#32
  let c0_9627 : Index := 0#32
  ![0, v9828.toNat, 0, 0]

def k0_off1384 (v9827 : BitVec 32) : Fin 4 → Nat :=
  let c0_9631 : Index := 0#32
  let c1_i32_9630 : BitVec 32 := 1#32
  let v9834 : BitVec 32 := Scalar.addi v9827 c1_i32_9630
  let v9835 : Index := Scalar.indexCast v9834
  let c0_9632 : Index := 0#32
  let c0_9633 : Index := 0#32
  ![0, v9835.toNat, 0, 0]

def k0_chk692 (v9827 : BitVec 32) : Prop :=
  (∀ a, (k0_off1383 v9827) a + S1x1x1x128.size a ≤ S1x33344x1x128.size a) ∧
  (∀ a, (k0_off1384 v9827) a + S1x1x1x128.size a ≤ S1x33344x1x128.size a)
theorem k0_off1383_inb : ∀ (v9827 : BitVec 32) (k0_hw692 : k0_chk692 v9827), ∀ a, (k0_off1383 v9827) a + S1x1x1x128.size a ≤ S1x33344x1x128.size a := fun v9827 k0_hw692 => k0_hw692.1
theorem k0_off1384_inb : ∀ (v9827 : BitVec 32) (k0_hw692 : k0_chk692 v9827), ∀ a, (k0_off1384 v9827) a + S1x1x1x128.size a ≤ S1x33344x1x128.size a := fun v9827 k0_hw692 => k0_hw692.2

def k0_off1385 (v9841 : BitVec 32) : Fin 4 → Nat :=
  let c0_9639 : Index := 0#32
  let v9842 : Index := Scalar.indexCast v9841
  let c0_9640 : Index := 0#32
  let c0_9641 : Index := 0#32
  ![0, v9842.toNat, 0, 0]

def k0_off1386 (v9841 : BitVec 32) : Fin 4 → Nat :=
  let c0_9645 : Index := 0#32
  let c1_i32_9644 : BitVec 32 := 1#32
  let v9848 : BitVec 32 := Scalar.addi v9841 c1_i32_9644
  let v9849 : Index := Scalar.indexCast v9848
  let c0_9646 : Index := 0#32
  let c0_9647 : Index := 0#32
  ![0, v9849.toNat, 0, 0]

def k0_chk693 (v9841 : BitVec 32) : Prop :=
  (∀ a, (k0_off1385 v9841) a + S1x1x1x128.size a ≤ S1x33344x1x128.size a) ∧
  (∀ a, (k0_off1386 v9841) a + S1x1x1x128.size a ≤ S1x33344x1x128.size a)
theorem k0_off1385_inb : ∀ (v9841 : BitVec 32) (k0_hw693 : k0_chk693 v9841), ∀ a, (k0_off1385 v9841) a + S1x1x1x128.size a ≤ S1x33344x1x128.size a := fun v9841 k0_hw693 => k0_hw693.1
theorem k0_off1386_inb : ∀ (v9841 : BitVec 32) (k0_hw693 : k0_chk693 v9841), ∀ a, (k0_off1386 v9841) a + S1x1x1x128.size a ≤ S1x33344x1x128.size a := fun v9841 k0_hw693 => k0_hw693.2

def k0_off1387 (v9855 : BitVec 32) : Fin 4 → Nat :=
  let c0_9653 : Index := 0#32
  let v9856 : Index := Scalar.indexCast v9855
  let c0_9654 : Index := 0#32
  let c0_9655 : Index := 0#32
  ![0, v9856.toNat, 0, 0]

def k0_off1388 (v9855 : BitVec 32) : Fin 4 → Nat :=
  let c0_9659 : Index := 0#32
  let c1_i32_9658 : BitVec 32 := 1#32
  let v9862 : BitVec 32 := Scalar.addi v9855 c1_i32_9658
  let v9863 : Index := Scalar.indexCast v9862
  let c0_9660 : Index := 0#32
  let c0_9661 : Index := 0#32
  ![0, v9863.toNat, 0, 0]

def k0_chk694 (v9855 : BitVec 32) : Prop :=
  (∀ a, (k0_off1387 v9855) a + S1x1x1x128.size a ≤ S1x33344x1x128.size a) ∧
  (∀ a, (k0_off1388 v9855) a + S1x1x1x128.size a ≤ S1x33344x1x128.size a)
theorem k0_off1387_inb : ∀ (v9855 : BitVec 32) (k0_hw694 : k0_chk694 v9855), ∀ a, (k0_off1387 v9855) a + S1x1x1x128.size a ≤ S1x33344x1x128.size a := fun v9855 k0_hw694 => k0_hw694.1
theorem k0_off1388_inb : ∀ (v9855 : BitVec 32) (k0_hw694 : k0_chk694 v9855), ∀ a, (k0_off1388 v9855) a + S1x1x1x128.size a ≤ S1x33344x1x128.size a := fun v9855 k0_hw694 => k0_hw694.2

def k0_off1389 (v9869 : BitVec 32) : Fin 4 → Nat :=
  let c0_9667 : Index := 0#32
  let v9870 : Index := Scalar.indexCast v9869
  let c0_9668 : Index := 0#32
  let c0_9669 : Index := 0#32
  ![0, v9870.toNat, 0, 0]

def k0_off1390 (v9869 : BitVec 32) : Fin 4 → Nat :=
  let c0_9673 : Index := 0#32
  let c1_i32_9672 : BitVec 32 := 1#32
  let v9876 : BitVec 32 := Scalar.addi v9869 c1_i32_9672
  let v9877 : Index := Scalar.indexCast v9876
  let c0_9674 : Index := 0#32
  let c0_9675 : Index := 0#32
  ![0, v9877.toNat, 0, 0]

def k0_chk695 (v9869 : BitVec 32) : Prop :=
  (∀ a, (k0_off1389 v9869) a + S1x1x1x128.size a ≤ S1x33344x1x128.size a) ∧
  (∀ a, (k0_off1390 v9869) a + S1x1x1x128.size a ≤ S1x33344x1x128.size a)
theorem k0_off1389_inb : ∀ (v9869 : BitVec 32) (k0_hw695 : k0_chk695 v9869), ∀ a, (k0_off1389 v9869) a + S1x1x1x128.size a ≤ S1x33344x1x128.size a := fun v9869 k0_hw695 => k0_hw695.1
theorem k0_off1390_inb : ∀ (v9869 : BitVec 32) (k0_hw695 : k0_chk695 v9869), ∀ a, (k0_off1390 v9869) a + S1x1x1x128.size a ≤ S1x33344x1x128.size a := fun v9869 k0_hw695 => k0_hw695.2

def k0_off1391 (v9883 : BitVec 32) : Fin 4 → Nat :=
  let c0_9681 : Index := 0#32
  let v9884 : Index := Scalar.indexCast v9883
  let c0_9682 : Index := 0#32
  let c0_9683 : Index := 0#32
  ![0, v9884.toNat, 0, 0]

def k0_off1392 (v9883 : BitVec 32) : Fin 4 → Nat :=
  let c0_9687 : Index := 0#32
  let c1_i32_9686 : BitVec 32 := 1#32
  let v9890 : BitVec 32 := Scalar.addi v9883 c1_i32_9686
  let v9891 : Index := Scalar.indexCast v9890
  let c0_9688 : Index := 0#32
  let c0_9689 : Index := 0#32
  ![0, v9891.toNat, 0, 0]

def k0_chk696 (v9883 : BitVec 32) : Prop :=
  (∀ a, (k0_off1391 v9883) a + S1x1x1x128.size a ≤ S1x33344x1x128.size a) ∧
  (∀ a, (k0_off1392 v9883) a + S1x1x1x128.size a ≤ S1x33344x1x128.size a)
theorem k0_off1391_inb : ∀ (v9883 : BitVec 32) (k0_hw696 : k0_chk696 v9883), ∀ a, (k0_off1391 v9883) a + S1x1x1x128.size a ≤ S1x33344x1x128.size a := fun v9883 k0_hw696 => k0_hw696.1
theorem k0_off1392_inb : ∀ (v9883 : BitVec 32) (k0_hw696 : k0_chk696 v9883), ∀ a, (k0_off1392 v9883) a + S1x1x1x128.size a ≤ S1x33344x1x128.size a := fun v9883 k0_hw696 => k0_hw696.2

def k0_off1393 (v9897 : BitVec 32) : Fin 4 → Nat :=
  let c0_9695 : Index := 0#32
  let v9898 : Index := Scalar.indexCast v9897
  let c0_9696 : Index := 0#32
  let c0_9697 : Index := 0#32
  ![0, v9898.toNat, 0, 0]

def k0_off1394 (v9897 : BitVec 32) : Fin 4 → Nat :=
  let c0_9701 : Index := 0#32
  let c1_i32_9700 : BitVec 32 := 1#32
  let v9904 : BitVec 32 := Scalar.addi v9897 c1_i32_9700
  let v9905 : Index := Scalar.indexCast v9904
  let c0_9702 : Index := 0#32
  let c0_9703 : Index := 0#32
  ![0, v9905.toNat, 0, 0]

def k0_chk697 (v9897 : BitVec 32) : Prop :=
  (∀ a, (k0_off1393 v9897) a + S1x1x1x128.size a ≤ S1x33344x1x128.size a) ∧
  (∀ a, (k0_off1394 v9897) a + S1x1x1x128.size a ≤ S1x33344x1x128.size a)
theorem k0_off1393_inb : ∀ (v9897 : BitVec 32) (k0_hw697 : k0_chk697 v9897), ∀ a, (k0_off1393 v9897) a + S1x1x1x128.size a ≤ S1x33344x1x128.size a := fun v9897 k0_hw697 => k0_hw697.1
theorem k0_off1394_inb : ∀ (v9897 : BitVec 32) (k0_hw697 : k0_chk697 v9897), ∀ a, (k0_off1394 v9897) a + S1x1x1x128.size a ≤ S1x33344x1x128.size a := fun v9897 k0_hw697 => k0_hw697.2

def k0_off1395 (v9911 : BitVec 32) : Fin 4 → Nat :=
  let c0_9709 : Index := 0#32
  let v9912 : Index := Scalar.indexCast v9911
  let c0_9710 : Index := 0#32
  let c0_9711 : Index := 0#32
  ![0, v9912.toNat, 0, 0]

def k0_off1396 (v9911 : BitVec 32) : Fin 4 → Nat :=
  let c0_9715 : Index := 0#32
  let c1_i32_9714 : BitVec 32 := 1#32
  let v9918 : BitVec 32 := Scalar.addi v9911 c1_i32_9714
  let v9919 : Index := Scalar.indexCast v9918
  let c0_9716 : Index := 0#32
  let c0_9717 : Index := 0#32
  ![0, v9919.toNat, 0, 0]

def k0_chk698 (v9911 : BitVec 32) : Prop :=
  (∀ a, (k0_off1395 v9911) a + S1x1x1x128.size a ≤ S1x33344x1x128.size a) ∧
  (∀ a, (k0_off1396 v9911) a + S1x1x1x128.size a ≤ S1x33344x1x128.size a)
theorem k0_off1395_inb : ∀ (v9911 : BitVec 32) (k0_hw698 : k0_chk698 v9911), ∀ a, (k0_off1395 v9911) a + S1x1x1x128.size a ≤ S1x33344x1x128.size a := fun v9911 k0_hw698 => k0_hw698.1
theorem k0_off1396_inb : ∀ (v9911 : BitVec 32) (k0_hw698 : k0_chk698 v9911), ∀ a, (k0_off1396 v9911) a + S1x1x1x128.size a ≤ S1x33344x1x128.size a := fun v9911 k0_hw698 => k0_hw698.2

def k0_off1397 (v9925 : BitVec 32) : Fin 4 → Nat :=
  let c0_9723 : Index := 0#32
  let v9926 : Index := Scalar.indexCast v9925
  let c0_9724 : Index := 0#32
  let c0_9725 : Index := 0#32
  ![0, v9926.toNat, 0, 0]

def k0_off1398 (v9925 : BitVec 32) : Fin 4 → Nat :=
  let c0_9729 : Index := 0#32
  let c1_i32_9728 : BitVec 32 := 1#32
  let v9932 : BitVec 32 := Scalar.addi v9925 c1_i32_9728
  let v9933 : Index := Scalar.indexCast v9932
  let c0_9730 : Index := 0#32
  let c0_9731 : Index := 0#32
  ![0, v9933.toNat, 0, 0]

def k0_chk699 (v9925 : BitVec 32) : Prop :=
  (∀ a, (k0_off1397 v9925) a + S1x1x1x128.size a ≤ S1x33344x1x128.size a) ∧
  (∀ a, (k0_off1398 v9925) a + S1x1x1x128.size a ≤ S1x33344x1x128.size a)
theorem k0_off1397_inb : ∀ (v9925 : BitVec 32) (k0_hw699 : k0_chk699 v9925), ∀ a, (k0_off1397 v9925) a + S1x1x1x128.size a ≤ S1x33344x1x128.size a := fun v9925 k0_hw699 => k0_hw699.1
theorem k0_off1398_inb : ∀ (v9925 : BitVec 32) (k0_hw699 : k0_chk699 v9925), ∀ a, (k0_off1398 v9925) a + S1x1x1x128.size a ≤ S1x33344x1x128.size a := fun v9925 k0_hw699 => k0_hw699.2

def k0_off1399 (v9939 : BitVec 32) : Fin 4 → Nat :=
  let c0_9737 : Index := 0#32
  let v9940 : Index := Scalar.indexCast v9939
  let c0_9738 : Index := 0#32
  let c0_9739 : Index := 0#32
  ![0, v9940.toNat, 0, 0]

def k0_off1400 (v9939 : BitVec 32) : Fin 4 → Nat :=
  let c0_9743 : Index := 0#32
  let c1_i32_9742 : BitVec 32 := 1#32
  let v9946 : BitVec 32 := Scalar.addi v9939 c1_i32_9742
  let v9947 : Index := Scalar.indexCast v9946
  let c0_9744 : Index := 0#32
  let c0_9745 : Index := 0#32
  ![0, v9947.toNat, 0, 0]

def k0_chk700 (v9939 : BitVec 32) : Prop :=
  (∀ a, (k0_off1399 v9939) a + S1x1x1x128.size a ≤ S1x33344x1x128.size a) ∧
  (∀ a, (k0_off1400 v9939) a + S1x1x1x128.size a ≤ S1x33344x1x128.size a)
theorem k0_off1399_inb : ∀ (v9939 : BitVec 32) (k0_hw700 : k0_chk700 v9939), ∀ a, (k0_off1399 v9939) a + S1x1x1x128.size a ≤ S1x33344x1x128.size a := fun v9939 k0_hw700 => k0_hw700.1
theorem k0_off1400_inb : ∀ (v9939 : BitVec 32) (k0_hw700 : k0_chk700 v9939), ∀ a, (k0_off1400 v9939) a + S1x1x1x128.size a ≤ S1x33344x1x128.size a := fun v9939 k0_hw700 => k0_hw700.2

def k0_off1401 (v9953 : BitVec 32) : Fin 4 → Nat :=
  let c0_9751 : Index := 0#32
  let v9954 : Index := Scalar.indexCast v9953
  let c0_9752 : Index := 0#32
  let c0_9753 : Index := 0#32
  ![0, v9954.toNat, 0, 0]

def k0_off1402 (v9953 : BitVec 32) : Fin 4 → Nat :=
  let c0_9757 : Index := 0#32
  let c1_i32_9756 : BitVec 32 := 1#32
  let v9960 : BitVec 32 := Scalar.addi v9953 c1_i32_9756
  let v9961 : Index := Scalar.indexCast v9960
  let c0_9758 : Index := 0#32
  let c0_9759 : Index := 0#32
  ![0, v9961.toNat, 0, 0]

def k0_chk701 (v9953 : BitVec 32) : Prop :=
  (∀ a, (k0_off1401 v9953) a + S1x1x1x128.size a ≤ S1x33344x1x128.size a) ∧
  (∀ a, (k0_off1402 v9953) a + S1x1x1x128.size a ≤ S1x33344x1x128.size a)
theorem k0_off1401_inb : ∀ (v9953 : BitVec 32) (k0_hw701 : k0_chk701 v9953), ∀ a, (k0_off1401 v9953) a + S1x1x1x128.size a ≤ S1x33344x1x128.size a := fun v9953 k0_hw701 => k0_hw701.1
theorem k0_off1402_inb : ∀ (v9953 : BitVec 32) (k0_hw701 : k0_chk701 v9953), ∀ a, (k0_off1402 v9953) a + S1x1x1x128.size a ≤ S1x33344x1x128.size a := fun v9953 k0_hw701 => k0_hw701.2

def k0_off1403 (v9967 : BitVec 32) : Fin 4 → Nat :=
  let c0_9765 : Index := 0#32
  let v9968 : Index := Scalar.indexCast v9967
  let c0_9766 : Index := 0#32
  let c0_9767 : Index := 0#32
  ![0, v9968.toNat, 0, 0]

def k0_off1404 (v9967 : BitVec 32) : Fin 4 → Nat :=
  let c0_9771 : Index := 0#32
  let c1_i32_9770 : BitVec 32 := 1#32
  let v9974 : BitVec 32 := Scalar.addi v9967 c1_i32_9770
  let v9975 : Index := Scalar.indexCast v9974
  let c0_9772 : Index := 0#32
  let c0_9773 : Index := 0#32
  ![0, v9975.toNat, 0, 0]

def k0_chk702 (v9967 : BitVec 32) : Prop :=
  (∀ a, (k0_off1403 v9967) a + S1x1x1x128.size a ≤ S1x33344x1x128.size a) ∧
  (∀ a, (k0_off1404 v9967) a + S1x1x1x128.size a ≤ S1x33344x1x128.size a)
theorem k0_off1403_inb : ∀ (v9967 : BitVec 32) (k0_hw702 : k0_chk702 v9967), ∀ a, (k0_off1403 v9967) a + S1x1x1x128.size a ≤ S1x33344x1x128.size a := fun v9967 k0_hw702 => k0_hw702.1
theorem k0_off1404_inb : ∀ (v9967 : BitVec 32) (k0_hw702 : k0_chk702 v9967), ∀ a, (k0_off1404 v9967) a + S1x1x1x128.size a ≤ S1x33344x1x128.size a := fun v9967 k0_hw702 => k0_hw702.2

def k0_off1405 (v9981 : BitVec 32) : Fin 4 → Nat :=
  let c0_9779 : Index := 0#32
  let v9982 : Index := Scalar.indexCast v9981
  let c0_9780 : Index := 0#32
  let c0_9781 : Index := 0#32
  ![0, v9982.toNat, 0, 0]

def k0_off1406 (v9981 : BitVec 32) : Fin 4 → Nat :=
  let c0_9785 : Index := 0#32
  let c1_i32_9784 : BitVec 32 := 1#32
  let v9988 : BitVec 32 := Scalar.addi v9981 c1_i32_9784
  let v9989 : Index := Scalar.indexCast v9988
  let c0_9786 : Index := 0#32
  let c0_9787 : Index := 0#32
  ![0, v9989.toNat, 0, 0]

def k0_chk703 (v9981 : BitVec 32) : Prop :=
  (∀ a, (k0_off1405 v9981) a + S1x1x1x128.size a ≤ S1x33344x1x128.size a) ∧
  (∀ a, (k0_off1406 v9981) a + S1x1x1x128.size a ≤ S1x33344x1x128.size a)
theorem k0_off1405_inb : ∀ (v9981 : BitVec 32) (k0_hw703 : k0_chk703 v9981), ∀ a, (k0_off1405 v9981) a + S1x1x1x128.size a ≤ S1x33344x1x128.size a := fun v9981 k0_hw703 => k0_hw703.1
theorem k0_off1406_inb : ∀ (v9981 : BitVec 32) (k0_hw703 : k0_chk703 v9981), ∀ a, (k0_off1406 v9981) a + S1x1x1x128.size a ≤ S1x33344x1x128.size a := fun v9981 k0_hw703 => k0_hw703.2

def k0_off1407 (v9995 : BitVec 32) : Fin 4 → Nat :=
  let c0_9793 : Index := 0#32
  let v9996 : Index := Scalar.indexCast v9995
  let c0_9794 : Index := 0#32
  let c0_9795 : Index := 0#32
  ![0, v9996.toNat, 0, 0]

def k0_off1408 (v9995 : BitVec 32) : Fin 4 → Nat :=
  let c0_9799 : Index := 0#32
  let c1_i32_9798 : BitVec 32 := 1#32
  let v10002 : BitVec 32 := Scalar.addi v9995 c1_i32_9798
  let v10003 : Index := Scalar.indexCast v10002
  let c0_9800 : Index := 0#32
  let c0_9801 : Index := 0#32
  ![0, v10003.toNat, 0, 0]

def k0_chk704 (v9995 : BitVec 32) : Prop :=
  (∀ a, (k0_off1407 v9995) a + S1x1x1x128.size a ≤ S1x33344x1x128.size a) ∧
  (∀ a, (k0_off1408 v9995) a + S1x1x1x128.size a ≤ S1x33344x1x128.size a)
theorem k0_off1407_inb : ∀ (v9995 : BitVec 32) (k0_hw704 : k0_chk704 v9995), ∀ a, (k0_off1407 v9995) a + S1x1x1x128.size a ≤ S1x33344x1x128.size a := fun v9995 k0_hw704 => k0_hw704.1
theorem k0_off1408_inb : ∀ (v9995 : BitVec 32) (k0_hw704 : k0_chk704 v9995), ∀ a, (k0_off1408 v9995) a + S1x1x1x128.size a ≤ S1x33344x1x128.size a := fun v9995 k0_hw704 => k0_hw704.2

def k0_off1409 (v10009 : BitVec 32) : Fin 4 → Nat :=
  let c0_9807 : Index := 0#32
  let v10010 : Index := Scalar.indexCast v10009
  let c0_9808 : Index := 0#32
  let c0_9809 : Index := 0#32
  ![0, v10010.toNat, 0, 0]

def k0_off1410 (v10009 : BitVec 32) : Fin 4 → Nat :=
  let c0_9813 : Index := 0#32
  let c1_i32_9812 : BitVec 32 := 1#32
  let v10016 : BitVec 32 := Scalar.addi v10009 c1_i32_9812
  let v10017 : Index := Scalar.indexCast v10016
  let c0_9814 : Index := 0#32
  let c0_9815 : Index := 0#32
  ![0, v10017.toNat, 0, 0]

def k0_chk705 (v10009 : BitVec 32) : Prop :=
  (∀ a, (k0_off1409 v10009) a + S1x1x1x128.size a ≤ S1x33344x1x128.size a) ∧
  (∀ a, (k0_off1410 v10009) a + S1x1x1x128.size a ≤ S1x33344x1x128.size a)
theorem k0_off1409_inb : ∀ (v10009 : BitVec 32) (k0_hw705 : k0_chk705 v10009), ∀ a, (k0_off1409 v10009) a + S1x1x1x128.size a ≤ S1x33344x1x128.size a := fun v10009 k0_hw705 => k0_hw705.1
theorem k0_off1410_inb : ∀ (v10009 : BitVec 32) (k0_hw705 : k0_chk705 v10009), ∀ a, (k0_off1410 v10009) a + S1x1x1x128.size a ≤ S1x33344x1x128.size a := fun v10009 k0_hw705 => k0_hw705.2

def k0_off1411 (v10023 : BitVec 32) : Fin 4 → Nat :=
  let c0_9821 : Index := 0#32
  let v10024 : Index := Scalar.indexCast v10023
  let c0_9822 : Index := 0#32
  let c0_9823 : Index := 0#32
  ![0, v10024.toNat, 0, 0]

def k0_off1412 (v10023 : BitVec 32) : Fin 4 → Nat :=
  let c0_9827 : Index := 0#32
  let c1_i32_9826 : BitVec 32 := 1#32
  let v10030 : BitVec 32 := Scalar.addi v10023 c1_i32_9826
  let v10031 : Index := Scalar.indexCast v10030
  let c0_9828 : Index := 0#32
  let c0_9829 : Index := 0#32
  ![0, v10031.toNat, 0, 0]

def k0_chk706 (v10023 : BitVec 32) : Prop :=
  (∀ a, (k0_off1411 v10023) a + S1x1x1x128.size a ≤ S1x33344x1x128.size a) ∧
  (∀ a, (k0_off1412 v10023) a + S1x1x1x128.size a ≤ S1x33344x1x128.size a)
theorem k0_off1411_inb : ∀ (v10023 : BitVec 32) (k0_hw706 : k0_chk706 v10023), ∀ a, (k0_off1411 v10023) a + S1x1x1x128.size a ≤ S1x33344x1x128.size a := fun v10023 k0_hw706 => k0_hw706.1
theorem k0_off1412_inb : ∀ (v10023 : BitVec 32) (k0_hw706 : k0_chk706 v10023), ∀ a, (k0_off1412 v10023) a + S1x1x1x128.size a ≤ S1x33344x1x128.size a := fun v10023 k0_hw706 => k0_hw706.2

def k0_off1413 (v10037 : BitVec 32) : Fin 4 → Nat :=
  let c0_9835 : Index := 0#32
  let v10038 : Index := Scalar.indexCast v10037
  let c0_9836 : Index := 0#32
  let c0_9837 : Index := 0#32
  ![0, v10038.toNat, 0, 0]

def k0_off1414 (v10037 : BitVec 32) : Fin 4 → Nat :=
  let c0_9841 : Index := 0#32
  let c1_i32_9840 : BitVec 32 := 1#32
  let v10044 : BitVec 32 := Scalar.addi v10037 c1_i32_9840
  let v10045 : Index := Scalar.indexCast v10044
  let c0_9842 : Index := 0#32
  let c0_9843 : Index := 0#32
  ![0, v10045.toNat, 0, 0]

def k0_chk707 (v10037 : BitVec 32) : Prop :=
  (∀ a, (k0_off1413 v10037) a + S1x1x1x128.size a ≤ S1x33344x1x128.size a) ∧
  (∀ a, (k0_off1414 v10037) a + S1x1x1x128.size a ≤ S1x33344x1x128.size a)
theorem k0_off1413_inb : ∀ (v10037 : BitVec 32) (k0_hw707 : k0_chk707 v10037), ∀ a, (k0_off1413 v10037) a + S1x1x1x128.size a ≤ S1x33344x1x128.size a := fun v10037 k0_hw707 => k0_hw707.1
theorem k0_off1414_inb : ∀ (v10037 : BitVec 32) (k0_hw707 : k0_chk707 v10037), ∀ a, (k0_off1414 v10037) a + S1x1x1x128.size a ≤ S1x33344x1x128.size a := fun v10037 k0_hw707 => k0_hw707.2

def k0_off1415 (v10051 : BitVec 32) : Fin 4 → Nat :=
  let c0_9849 : Index := 0#32
  let v10052 : Index := Scalar.indexCast v10051
  let c0_9850 : Index := 0#32
  let c0_9851 : Index := 0#32
  ![0, v10052.toNat, 0, 0]

def k0_off1416 (v10051 : BitVec 32) : Fin 4 → Nat :=
  let c0_9855 : Index := 0#32
  let c1_i32_9854 : BitVec 32 := 1#32
  let v10058 : BitVec 32 := Scalar.addi v10051 c1_i32_9854
  let v10059 : Index := Scalar.indexCast v10058
  let c0_9856 : Index := 0#32
  let c0_9857 : Index := 0#32
  ![0, v10059.toNat, 0, 0]

def k0_chk708 (v10051 : BitVec 32) : Prop :=
  (∀ a, (k0_off1415 v10051) a + S1x1x1x128.size a ≤ S1x33344x1x128.size a) ∧
  (∀ a, (k0_off1416 v10051) a + S1x1x1x128.size a ≤ S1x33344x1x128.size a)
theorem k0_off1415_inb : ∀ (v10051 : BitVec 32) (k0_hw708 : k0_chk708 v10051), ∀ a, (k0_off1415 v10051) a + S1x1x1x128.size a ≤ S1x33344x1x128.size a := fun v10051 k0_hw708 => k0_hw708.1
theorem k0_off1416_inb : ∀ (v10051 : BitVec 32) (k0_hw708 : k0_chk708 v10051), ∀ a, (k0_off1416 v10051) a + S1x1x1x128.size a ≤ S1x33344x1x128.size a := fun v10051 k0_hw708 => k0_hw708.2

def k0_off1417 (v10065 : BitVec 32) : Fin 4 → Nat :=
  let c0_9863 : Index := 0#32
  let v10066 : Index := Scalar.indexCast v10065
  let c0_9864 : Index := 0#32
  let c0_9865 : Index := 0#32
  ![0, v10066.toNat, 0, 0]

def k0_off1418 (v10065 : BitVec 32) : Fin 4 → Nat :=
  let c0_9869 : Index := 0#32
  let c1_i32_9868 : BitVec 32 := 1#32
  let v10072 : BitVec 32 := Scalar.addi v10065 c1_i32_9868
  let v10073 : Index := Scalar.indexCast v10072
  let c0_9870 : Index := 0#32
  let c0_9871 : Index := 0#32
  ![0, v10073.toNat, 0, 0]

def k0_chk709 (v10065 : BitVec 32) : Prop :=
  (∀ a, (k0_off1417 v10065) a + S1x1x1x128.size a ≤ S1x33344x1x128.size a) ∧
  (∀ a, (k0_off1418 v10065) a + S1x1x1x128.size a ≤ S1x33344x1x128.size a)
theorem k0_off1417_inb : ∀ (v10065 : BitVec 32) (k0_hw709 : k0_chk709 v10065), ∀ a, (k0_off1417 v10065) a + S1x1x1x128.size a ≤ S1x33344x1x128.size a := fun v10065 k0_hw709 => k0_hw709.1
theorem k0_off1418_inb : ∀ (v10065 : BitVec 32) (k0_hw709 : k0_chk709 v10065), ∀ a, (k0_off1418 v10065) a + S1x1x1x128.size a ≤ S1x33344x1x128.size a := fun v10065 k0_hw709 => k0_hw709.2

def k0_off1419 (v10079 : BitVec 32) : Fin 4 → Nat :=
  let c0_9877 : Index := 0#32
  let v10080 : Index := Scalar.indexCast v10079
  let c0_9878 : Index := 0#32
  let c0_9879 : Index := 0#32
  ![0, v10080.toNat, 0, 0]

def k0_off1420 (v10079 : BitVec 32) : Fin 4 → Nat :=
  let c0_9883 : Index := 0#32
  let c1_i32_9882 : BitVec 32 := 1#32
  let v10086 : BitVec 32 := Scalar.addi v10079 c1_i32_9882
  let v10087 : Index := Scalar.indexCast v10086
  let c0_9884 : Index := 0#32
  let c0_9885 : Index := 0#32
  ![0, v10087.toNat, 0, 0]

def k0_chk710 (v10079 : BitVec 32) : Prop :=
  (∀ a, (k0_off1419 v10079) a + S1x1x1x128.size a ≤ S1x33344x1x128.size a) ∧
  (∀ a, (k0_off1420 v10079) a + S1x1x1x128.size a ≤ S1x33344x1x128.size a)
theorem k0_off1419_inb : ∀ (v10079 : BitVec 32) (k0_hw710 : k0_chk710 v10079), ∀ a, (k0_off1419 v10079) a + S1x1x1x128.size a ≤ S1x33344x1x128.size a := fun v10079 k0_hw710 => k0_hw710.1
theorem k0_off1420_inb : ∀ (v10079 : BitVec 32) (k0_hw710 : k0_chk710 v10079), ∀ a, (k0_off1420 v10079) a + S1x1x1x128.size a ≤ S1x33344x1x128.size a := fun v10079 k0_hw710 => k0_hw710.2

def k0_off1421 (v10093 : BitVec 32) : Fin 4 → Nat :=
  let c0_9891 : Index := 0#32
  let v10094 : Index := Scalar.indexCast v10093
  let c0_9892 : Index := 0#32
  let c0_9893 : Index := 0#32
  ![0, v10094.toNat, 0, 0]

def k0_off1422 (v10093 : BitVec 32) : Fin 4 → Nat :=
  let c0_9897 : Index := 0#32
  let c1_i32_9896 : BitVec 32 := 1#32
  let v10100 : BitVec 32 := Scalar.addi v10093 c1_i32_9896
  let v10101 : Index := Scalar.indexCast v10100
  let c0_9898 : Index := 0#32
  let c0_9899 : Index := 0#32
  ![0, v10101.toNat, 0, 0]

def k0_chk711 (v10093 : BitVec 32) : Prop :=
  (∀ a, (k0_off1421 v10093) a + S1x1x1x128.size a ≤ S1x33344x1x128.size a) ∧
  (∀ a, (k0_off1422 v10093) a + S1x1x1x128.size a ≤ S1x33344x1x128.size a)
theorem k0_off1421_inb : ∀ (v10093 : BitVec 32) (k0_hw711 : k0_chk711 v10093), ∀ a, (k0_off1421 v10093) a + S1x1x1x128.size a ≤ S1x33344x1x128.size a := fun v10093 k0_hw711 => k0_hw711.1
theorem k0_off1422_inb : ∀ (v10093 : BitVec 32) (k0_hw711 : k0_chk711 v10093), ∀ a, (k0_off1422 v10093) a + S1x1x1x128.size a ≤ S1x33344x1x128.size a := fun v10093 k0_hw711 => k0_hw711.2

def k0_off1423 (v10107 : BitVec 32) : Fin 4 → Nat :=
  let c0_9905 : Index := 0#32
  let v10108 : Index := Scalar.indexCast v10107
  let c0_9906 : Index := 0#32
  let c0_9907 : Index := 0#32
  ![0, v10108.toNat, 0, 0]

def k0_off1424 (v10107 : BitVec 32) : Fin 4 → Nat :=
  let c0_9911 : Index := 0#32
  let c1_i32_9910 : BitVec 32 := 1#32
  let v10114 : BitVec 32 := Scalar.addi v10107 c1_i32_9910
  let v10115 : Index := Scalar.indexCast v10114
  let c0_9912 : Index := 0#32
  let c0_9913 : Index := 0#32
  ![0, v10115.toNat, 0, 0]

def k0_chk712 (v10107 : BitVec 32) : Prop :=
  (∀ a, (k0_off1423 v10107) a + S1x1x1x128.size a ≤ S1x33344x1x128.size a) ∧
  (∀ a, (k0_off1424 v10107) a + S1x1x1x128.size a ≤ S1x33344x1x128.size a)
theorem k0_off1423_inb : ∀ (v10107 : BitVec 32) (k0_hw712 : k0_chk712 v10107), ∀ a, (k0_off1423 v10107) a + S1x1x1x128.size a ≤ S1x33344x1x128.size a := fun v10107 k0_hw712 => k0_hw712.1
theorem k0_off1424_inb : ∀ (v10107 : BitVec 32) (k0_hw712 : k0_chk712 v10107), ∀ a, (k0_off1424 v10107) a + S1x1x1x128.size a ≤ S1x33344x1x128.size a := fun v10107 k0_hw712 => k0_hw712.2

def k0_off1425 (v10121 : BitVec 32) : Fin 4 → Nat :=
  let c0_9919 : Index := 0#32
  let v10122 : Index := Scalar.indexCast v10121
  let c0_9920 : Index := 0#32
  let c0_9921 : Index := 0#32
  ![0, v10122.toNat, 0, 0]

def k0_off1426 (v10121 : BitVec 32) : Fin 4 → Nat :=
  let c0_9925 : Index := 0#32
  let c1_i32_9924 : BitVec 32 := 1#32
  let v10128 : BitVec 32 := Scalar.addi v10121 c1_i32_9924
  let v10129 : Index := Scalar.indexCast v10128
  let c0_9926 : Index := 0#32
  let c0_9927 : Index := 0#32
  ![0, v10129.toNat, 0, 0]

def k0_chk713 (v10121 : BitVec 32) : Prop :=
  (∀ a, (k0_off1425 v10121) a + S1x1x1x128.size a ≤ S1x33344x1x128.size a) ∧
  (∀ a, (k0_off1426 v10121) a + S1x1x1x128.size a ≤ S1x33344x1x128.size a)
theorem k0_off1425_inb : ∀ (v10121 : BitVec 32) (k0_hw713 : k0_chk713 v10121), ∀ a, (k0_off1425 v10121) a + S1x1x1x128.size a ≤ S1x33344x1x128.size a := fun v10121 k0_hw713 => k0_hw713.1
theorem k0_off1426_inb : ∀ (v10121 : BitVec 32) (k0_hw713 : k0_chk713 v10121), ∀ a, (k0_off1426 v10121) a + S1x1x1x128.size a ≤ S1x33344x1x128.size a := fun v10121 k0_hw713 => k0_hw713.2

def k0_off1427 (v10135 : BitVec 32) : Fin 4 → Nat :=
  let c0_9933 : Index := 0#32
  let v10136 : Index := Scalar.indexCast v10135
  let c0_9934 : Index := 0#32
  let c0_9935 : Index := 0#32
  ![0, v10136.toNat, 0, 0]

def k0_off1428 (v10135 : BitVec 32) : Fin 4 → Nat :=
  let c0_9939 : Index := 0#32
  let c1_i32_9938 : BitVec 32 := 1#32
  let v10142 : BitVec 32 := Scalar.addi v10135 c1_i32_9938
  let v10143 : Index := Scalar.indexCast v10142
  let c0_9940 : Index := 0#32
  let c0_9941 : Index := 0#32
  ![0, v10143.toNat, 0, 0]

def k0_chk714 (v10135 : BitVec 32) : Prop :=
  (∀ a, (k0_off1427 v10135) a + S1x1x1x128.size a ≤ S1x33344x1x128.size a) ∧
  (∀ a, (k0_off1428 v10135) a + S1x1x1x128.size a ≤ S1x33344x1x128.size a)
theorem k0_off1427_inb : ∀ (v10135 : BitVec 32) (k0_hw714 : k0_chk714 v10135), ∀ a, (k0_off1427 v10135) a + S1x1x1x128.size a ≤ S1x33344x1x128.size a := fun v10135 k0_hw714 => k0_hw714.1
theorem k0_off1428_inb : ∀ (v10135 : BitVec 32) (k0_hw714 : k0_chk714 v10135), ∀ a, (k0_off1428 v10135) a + S1x1x1x128.size a ≤ S1x33344x1x128.size a := fun v10135 k0_hw714 => k0_hw714.2

def k0_off1429 (v10149 : BitVec 32) : Fin 4 → Nat :=
  let c0_9947 : Index := 0#32
  let v10150 : Index := Scalar.indexCast v10149
  let c0_9948 : Index := 0#32
  let c0_9949 : Index := 0#32
  ![0, v10150.toNat, 0, 0]

def k0_off1430 (v10149 : BitVec 32) : Fin 4 → Nat :=
  let c0_9953 : Index := 0#32
  let c1_i32_9952 : BitVec 32 := 1#32
  let v10156 : BitVec 32 := Scalar.addi v10149 c1_i32_9952
  let v10157 : Index := Scalar.indexCast v10156
  let c0_9954 : Index := 0#32
  let c0_9955 : Index := 0#32
  ![0, v10157.toNat, 0, 0]

def k0_chk715 (v10149 : BitVec 32) : Prop :=
  (∀ a, (k0_off1429 v10149) a + S1x1x1x128.size a ≤ S1x33344x1x128.size a) ∧
  (∀ a, (k0_off1430 v10149) a + S1x1x1x128.size a ≤ S1x33344x1x128.size a)
theorem k0_off1429_inb : ∀ (v10149 : BitVec 32) (k0_hw715 : k0_chk715 v10149), ∀ a, (k0_off1429 v10149) a + S1x1x1x128.size a ≤ S1x33344x1x128.size a := fun v10149 k0_hw715 => k0_hw715.1
theorem k0_off1430_inb : ∀ (v10149 : BitVec 32) (k0_hw715 : k0_chk715 v10149), ∀ a, (k0_off1430 v10149) a + S1x1x1x128.size a ≤ S1x33344x1x128.size a := fun v10149 k0_hw715 => k0_hw715.2

def k0_off1431 (v10163 : BitVec 32) : Fin 4 → Nat :=
  let c0_9961 : Index := 0#32
  let v10164 : Index := Scalar.indexCast v10163
  let c0_9962 : Index := 0#32
  let c0_9963 : Index := 0#32
  ![0, v10164.toNat, 0, 0]

def k0_off1432 (v10163 : BitVec 32) : Fin 4 → Nat :=
  let c0_9967 : Index := 0#32
  let c1_i32_9966 : BitVec 32 := 1#32
  let v10170 : BitVec 32 := Scalar.addi v10163 c1_i32_9966
  let v10171 : Index := Scalar.indexCast v10170
  let c0_9968 : Index := 0#32
  let c0_9969 : Index := 0#32
  ![0, v10171.toNat, 0, 0]

def k0_chk716 (v10163 : BitVec 32) : Prop :=
  (∀ a, (k0_off1431 v10163) a + S1x1x1x128.size a ≤ S1x33344x1x128.size a) ∧
  (∀ a, (k0_off1432 v10163) a + S1x1x1x128.size a ≤ S1x33344x1x128.size a)
theorem k0_off1431_inb : ∀ (v10163 : BitVec 32) (k0_hw716 : k0_chk716 v10163), ∀ a, (k0_off1431 v10163) a + S1x1x1x128.size a ≤ S1x33344x1x128.size a := fun v10163 k0_hw716 => k0_hw716.1
theorem k0_off1432_inb : ∀ (v10163 : BitVec 32) (k0_hw716 : k0_chk716 v10163), ∀ a, (k0_off1432 v10163) a + S1x1x1x128.size a ≤ S1x33344x1x128.size a := fun v10163 k0_hw716 => k0_hw716.2

def k0_off1433 (v10177 : BitVec 32) : Fin 4 → Nat :=
  let c0_9975 : Index := 0#32
  let v10178 : Index := Scalar.indexCast v10177
  let c0_9976 : Index := 0#32
  let c0_9977 : Index := 0#32
  ![0, v10178.toNat, 0, 0]

def k0_off1434 (v10177 : BitVec 32) : Fin 4 → Nat :=
  let c0_9981 : Index := 0#32
  let c1_i32_9980 : BitVec 32 := 1#32
  let v10184 : BitVec 32 := Scalar.addi v10177 c1_i32_9980
  let v10185 : Index := Scalar.indexCast v10184
  let c0_9982 : Index := 0#32
  let c0_9983 : Index := 0#32
  ![0, v10185.toNat, 0, 0]

def k0_chk717 (v10177 : BitVec 32) : Prop :=
  (∀ a, (k0_off1433 v10177) a + S1x1x1x128.size a ≤ S1x33344x1x128.size a) ∧
  (∀ a, (k0_off1434 v10177) a + S1x1x1x128.size a ≤ S1x33344x1x128.size a)
theorem k0_off1433_inb : ∀ (v10177 : BitVec 32) (k0_hw717 : k0_chk717 v10177), ∀ a, (k0_off1433 v10177) a + S1x1x1x128.size a ≤ S1x33344x1x128.size a := fun v10177 k0_hw717 => k0_hw717.1
theorem k0_off1434_inb : ∀ (v10177 : BitVec 32) (k0_hw717 : k0_chk717 v10177), ∀ a, (k0_off1434 v10177) a + S1x1x1x128.size a ≤ S1x33344x1x128.size a := fun v10177 k0_hw717 => k0_hw717.2

def k0_off1435 (v10191 : BitVec 32) : Fin 4 → Nat :=
  let c0_9989 : Index := 0#32
  let v10192 : Index := Scalar.indexCast v10191
  let c0_9990 : Index := 0#32
  let c0_9991 : Index := 0#32
  ![0, v10192.toNat, 0, 0]

def k0_off1436 (v10191 : BitVec 32) : Fin 4 → Nat :=
  let c0_9995 : Index := 0#32
  let c1_i32_9994 : BitVec 32 := 1#32
  let v10198 : BitVec 32 := Scalar.addi v10191 c1_i32_9994
  let v10199 : Index := Scalar.indexCast v10198
  let c0_9996 : Index := 0#32
  let c0_9997 : Index := 0#32
  ![0, v10199.toNat, 0, 0]

def k0_chk718 (v10191 : BitVec 32) : Prop :=
  (∀ a, (k0_off1435 v10191) a + S1x1x1x128.size a ≤ S1x33344x1x128.size a) ∧
  (∀ a, (k0_off1436 v10191) a + S1x1x1x128.size a ≤ S1x33344x1x128.size a)
theorem k0_off1435_inb : ∀ (v10191 : BitVec 32) (k0_hw718 : k0_chk718 v10191), ∀ a, (k0_off1435 v10191) a + S1x1x1x128.size a ≤ S1x33344x1x128.size a := fun v10191 k0_hw718 => k0_hw718.1
theorem k0_off1436_inb : ∀ (v10191 : BitVec 32) (k0_hw718 : k0_chk718 v10191), ∀ a, (k0_off1436 v10191) a + S1x1x1x128.size a ≤ S1x33344x1x128.size a := fun v10191 k0_hw718 => k0_hw718.2

def k0_off1437 (v10205 : BitVec 32) : Fin 4 → Nat :=
  let c0_10003 : Index := 0#32
  let v10206 : Index := Scalar.indexCast v10205
  let c0_10004 : Index := 0#32
  let c0_10005 : Index := 0#32
  ![0, v10206.toNat, 0, 0]

def k0_off1438 (v10205 : BitVec 32) : Fin 4 → Nat :=
  let c0_10009 : Index := 0#32
  let c1_i32_10008 : BitVec 32 := 1#32
  let v10212 : BitVec 32 := Scalar.addi v10205 c1_i32_10008
  let v10213 : Index := Scalar.indexCast v10212
  let c0_10010 : Index := 0#32
  let c0_10011 : Index := 0#32
  ![0, v10213.toNat, 0, 0]

def k0_chk719 (v10205 : BitVec 32) : Prop :=
  (∀ a, (k0_off1437 v10205) a + S1x1x1x128.size a ≤ S1x33344x1x128.size a) ∧
  (∀ a, (k0_off1438 v10205) a + S1x1x1x128.size a ≤ S1x33344x1x128.size a)
theorem k0_off1437_inb : ∀ (v10205 : BitVec 32) (k0_hw719 : k0_chk719 v10205), ∀ a, (k0_off1437 v10205) a + S1x1x1x128.size a ≤ S1x33344x1x128.size a := fun v10205 k0_hw719 => k0_hw719.1
theorem k0_off1438_inb : ∀ (v10205 : BitVec 32) (k0_hw719 : k0_chk719 v10205), ∀ a, (k0_off1438 v10205) a + S1x1x1x128.size a ≤ S1x33344x1x128.size a := fun v10205 k0_hw719 => k0_hw719.2

def k0_off1439 (v10219 : BitVec 32) : Fin 4 → Nat :=
  let c0_10017 : Index := 0#32
  let v10220 : Index := Scalar.indexCast v10219
  let c0_10018 : Index := 0#32
  let c0_10019 : Index := 0#32
  ![0, v10220.toNat, 0, 0]

def k0_off1440 (v10219 : BitVec 32) : Fin 4 → Nat :=
  let c0_10023 : Index := 0#32
  let c1_i32_10022 : BitVec 32 := 1#32
  let v10226 : BitVec 32 := Scalar.addi v10219 c1_i32_10022
  let v10227 : Index := Scalar.indexCast v10226
  let c0_10024 : Index := 0#32
  let c0_10025 : Index := 0#32
  ![0, v10227.toNat, 0, 0]

def k0_chk720 (v10219 : BitVec 32) : Prop :=
  (∀ a, (k0_off1439 v10219) a + S1x1x1x128.size a ≤ S1x33344x1x128.size a) ∧
  (∀ a, (k0_off1440 v10219) a + S1x1x1x128.size a ≤ S1x33344x1x128.size a)
theorem k0_off1439_inb : ∀ (v10219 : BitVec 32) (k0_hw720 : k0_chk720 v10219), ∀ a, (k0_off1439 v10219) a + S1x1x1x128.size a ≤ S1x33344x1x128.size a := fun v10219 k0_hw720 => k0_hw720.1
theorem k0_off1440_inb : ∀ (v10219 : BitVec 32) (k0_hw720 : k0_chk720 v10219), ∀ a, (k0_off1440 v10219) a + S1x1x1x128.size a ≤ S1x33344x1x128.size a := fun v10219 k0_hw720 => k0_hw720.2

def k0_off1441 (v10233 : BitVec 32) : Fin 4 → Nat :=
  let c0_10031 : Index := 0#32
  let v10234 : Index := Scalar.indexCast v10233
  let c0_10032 : Index := 0#32
  let c0_10033 : Index := 0#32
  ![0, v10234.toNat, 0, 0]

def k0_off1442 (v10233 : BitVec 32) : Fin 4 → Nat :=
  let c0_10037 : Index := 0#32
  let c1_i32_10036 : BitVec 32 := 1#32
  let v10240 : BitVec 32 := Scalar.addi v10233 c1_i32_10036
  let v10241 : Index := Scalar.indexCast v10240
  let c0_10038 : Index := 0#32
  let c0_10039 : Index := 0#32
  ![0, v10241.toNat, 0, 0]

def k0_chk721 (v10233 : BitVec 32) : Prop :=
  (∀ a, (k0_off1441 v10233) a + S1x1x1x128.size a ≤ S1x33344x1x128.size a) ∧
  (∀ a, (k0_off1442 v10233) a + S1x1x1x128.size a ≤ S1x33344x1x128.size a)
theorem k0_off1441_inb : ∀ (v10233 : BitVec 32) (k0_hw721 : k0_chk721 v10233), ∀ a, (k0_off1441 v10233) a + S1x1x1x128.size a ≤ S1x33344x1x128.size a := fun v10233 k0_hw721 => k0_hw721.1
theorem k0_off1442_inb : ∀ (v10233 : BitVec 32) (k0_hw721 : k0_chk721 v10233), ∀ a, (k0_off1442 v10233) a + S1x1x1x128.size a ≤ S1x33344x1x128.size a := fun v10233 k0_hw721 => k0_hw721.2

def k0_off1443 (v10247 : BitVec 32) : Fin 4 → Nat :=
  let c0_10045 : Index := 0#32
  let v10248 : Index := Scalar.indexCast v10247
  let c0_10046 : Index := 0#32
  let c0_10047 : Index := 0#32
  ![0, v10248.toNat, 0, 0]

def k0_off1444 (v10247 : BitVec 32) : Fin 4 → Nat :=
  let c0_10051 : Index := 0#32
  let c1_i32_10050 : BitVec 32 := 1#32
  let v10254 : BitVec 32 := Scalar.addi v10247 c1_i32_10050
  let v10255 : Index := Scalar.indexCast v10254
  let c0_10052 : Index := 0#32
  let c0_10053 : Index := 0#32
  ![0, v10255.toNat, 0, 0]

def k0_chk722 (v10247 : BitVec 32) : Prop :=
  (∀ a, (k0_off1443 v10247) a + S1x1x1x128.size a ≤ S1x33344x1x128.size a) ∧
  (∀ a, (k0_off1444 v10247) a + S1x1x1x128.size a ≤ S1x33344x1x128.size a)
theorem k0_off1443_inb : ∀ (v10247 : BitVec 32) (k0_hw722 : k0_chk722 v10247), ∀ a, (k0_off1443 v10247) a + S1x1x1x128.size a ≤ S1x33344x1x128.size a := fun v10247 k0_hw722 => k0_hw722.1
theorem k0_off1444_inb : ∀ (v10247 : BitVec 32) (k0_hw722 : k0_chk722 v10247), ∀ a, (k0_off1444 v10247) a + S1x1x1x128.size a ≤ S1x33344x1x128.size a := fun v10247 k0_hw722 => k0_hw722.2

def k0_off1445 (v10261 : BitVec 32) : Fin 4 → Nat :=
  let c0_10059 : Index := 0#32
  let v10262 : Index := Scalar.indexCast v10261
  let c0_10060 : Index := 0#32
  let c0_10061 : Index := 0#32
  ![0, v10262.toNat, 0, 0]

def k0_off1446 (v10261 : BitVec 32) : Fin 4 → Nat :=
  let c0_10065 : Index := 0#32
  let c1_i32_10064 : BitVec 32 := 1#32
  let v10268 : BitVec 32 := Scalar.addi v10261 c1_i32_10064
  let v10269 : Index := Scalar.indexCast v10268
  let c0_10066 : Index := 0#32
  let c0_10067 : Index := 0#32
  ![0, v10269.toNat, 0, 0]

def k0_chk723 (v10261 : BitVec 32) : Prop :=
  (∀ a, (k0_off1445 v10261) a + S1x1x1x128.size a ≤ S1x33344x1x128.size a) ∧
  (∀ a, (k0_off1446 v10261) a + S1x1x1x128.size a ≤ S1x33344x1x128.size a)
theorem k0_off1445_inb : ∀ (v10261 : BitVec 32) (k0_hw723 : k0_chk723 v10261), ∀ a, (k0_off1445 v10261) a + S1x1x1x128.size a ≤ S1x33344x1x128.size a := fun v10261 k0_hw723 => k0_hw723.1
theorem k0_off1446_inb : ∀ (v10261 : BitVec 32) (k0_hw723 : k0_chk723 v10261), ∀ a, (k0_off1446 v10261) a + S1x1x1x128.size a ≤ S1x33344x1x128.size a := fun v10261 k0_hw723 => k0_hw723.2

def k0_off1447 (v10275 : BitVec 32) : Fin 4 → Nat :=
  let c0_10073 : Index := 0#32
  let v10276 : Index := Scalar.indexCast v10275
  let c0_10074 : Index := 0#32
  let c0_10075 : Index := 0#32
  ![0, v10276.toNat, 0, 0]

def k0_off1448 (v10275 : BitVec 32) : Fin 4 → Nat :=
  let c0_10079 : Index := 0#32
  let c1_i32_10078 : BitVec 32 := 1#32
  let v10282 : BitVec 32 := Scalar.addi v10275 c1_i32_10078
  let v10283 : Index := Scalar.indexCast v10282
  let c0_10080 : Index := 0#32
  let c0_10081 : Index := 0#32
  ![0, v10283.toNat, 0, 0]

def k0_chk724 (v10275 : BitVec 32) : Prop :=
  (∀ a, (k0_off1447 v10275) a + S1x1x1x128.size a ≤ S1x33344x1x128.size a) ∧
  (∀ a, (k0_off1448 v10275) a + S1x1x1x128.size a ≤ S1x33344x1x128.size a)
theorem k0_off1447_inb : ∀ (v10275 : BitVec 32) (k0_hw724 : k0_chk724 v10275), ∀ a, (k0_off1447 v10275) a + S1x1x1x128.size a ≤ S1x33344x1x128.size a := fun v10275 k0_hw724 => k0_hw724.1
theorem k0_off1448_inb : ∀ (v10275 : BitVec 32) (k0_hw724 : k0_chk724 v10275), ∀ a, (k0_off1448 v10275) a + S1x1x1x128.size a ≤ S1x33344x1x128.size a := fun v10275 k0_hw724 => k0_hw724.2

def k0_off1449 (v10289 : BitVec 32) : Fin 4 → Nat :=
  let c0_10087 : Index := 0#32
  let v10290 : Index := Scalar.indexCast v10289
  let c0_10088 : Index := 0#32
  let c0_10089 : Index := 0#32
  ![0, v10290.toNat, 0, 0]

def k0_off1450 (v10289 : BitVec 32) : Fin 4 → Nat :=
  let c0_10093 : Index := 0#32
  let c1_i32_10092 : BitVec 32 := 1#32
  let v10296 : BitVec 32 := Scalar.addi v10289 c1_i32_10092
  let v10297 : Index := Scalar.indexCast v10296
  let c0_10094 : Index := 0#32
  let c0_10095 : Index := 0#32
  ![0, v10297.toNat, 0, 0]

def k0_chk725 (v10289 : BitVec 32) : Prop :=
  (∀ a, (k0_off1449 v10289) a + S1x1x1x128.size a ≤ S1x33344x1x128.size a) ∧
  (∀ a, (k0_off1450 v10289) a + S1x1x1x128.size a ≤ S1x33344x1x128.size a)
theorem k0_off1449_inb : ∀ (v10289 : BitVec 32) (k0_hw725 : k0_chk725 v10289), ∀ a, (k0_off1449 v10289) a + S1x1x1x128.size a ≤ S1x33344x1x128.size a := fun v10289 k0_hw725 => k0_hw725.1
theorem k0_off1450_inb : ∀ (v10289 : BitVec 32) (k0_hw725 : k0_chk725 v10289), ∀ a, (k0_off1450 v10289) a + S1x1x1x128.size a ≤ S1x33344x1x128.size a := fun v10289 k0_hw725 => k0_hw725.2

def k0_off1451 (v10303 : BitVec 32) : Fin 4 → Nat :=
  let c0_10101 : Index := 0#32
  let v10304 : Index := Scalar.indexCast v10303
  let c0_10102 : Index := 0#32
  let c0_10103 : Index := 0#32
  ![0, v10304.toNat, 0, 0]

def k0_off1452 (v10303 : BitVec 32) : Fin 4 → Nat :=
  let c0_10107 : Index := 0#32
  let c1_i32_10106 : BitVec 32 := 1#32
  let v10310 : BitVec 32 := Scalar.addi v10303 c1_i32_10106
  let v10311 : Index := Scalar.indexCast v10310
  let c0_10108 : Index := 0#32
  let c0_10109 : Index := 0#32
  ![0, v10311.toNat, 0, 0]

def k0_chk726 (v10303 : BitVec 32) : Prop :=
  (∀ a, (k0_off1451 v10303) a + S1x1x1x128.size a ≤ S1x33344x1x128.size a) ∧
  (∀ a, (k0_off1452 v10303) a + S1x1x1x128.size a ≤ S1x33344x1x128.size a)
theorem k0_off1451_inb : ∀ (v10303 : BitVec 32) (k0_hw726 : k0_chk726 v10303), ∀ a, (k0_off1451 v10303) a + S1x1x1x128.size a ≤ S1x33344x1x128.size a := fun v10303 k0_hw726 => k0_hw726.1
theorem k0_off1452_inb : ∀ (v10303 : BitVec 32) (k0_hw726 : k0_chk726 v10303), ∀ a, (k0_off1452 v10303) a + S1x1x1x128.size a ≤ S1x33344x1x128.size a := fun v10303 k0_hw726 => k0_hw726.2

def k0_off1453 (v10317 : BitVec 32) : Fin 4 → Nat :=
  let c0_10115 : Index := 0#32
  let v10318 : Index := Scalar.indexCast v10317
  let c0_10116 : Index := 0#32
  let c0_10117 : Index := 0#32
  ![0, v10318.toNat, 0, 0]

def k0_off1454 (v10317 : BitVec 32) : Fin 4 → Nat :=
  let c0_10121 : Index := 0#32
  let c1_i32_10120 : BitVec 32 := 1#32
  let v10324 : BitVec 32 := Scalar.addi v10317 c1_i32_10120
  let v10325 : Index := Scalar.indexCast v10324
  let c0_10122 : Index := 0#32
  let c0_10123 : Index := 0#32
  ![0, v10325.toNat, 0, 0]

def k0_chk727 (v10317 : BitVec 32) : Prop :=
  (∀ a, (k0_off1453 v10317) a + S1x1x1x128.size a ≤ S1x33344x1x128.size a) ∧
  (∀ a, (k0_off1454 v10317) a + S1x1x1x128.size a ≤ S1x33344x1x128.size a)
theorem k0_off1453_inb : ∀ (v10317 : BitVec 32) (k0_hw727 : k0_chk727 v10317), ∀ a, (k0_off1453 v10317) a + S1x1x1x128.size a ≤ S1x33344x1x128.size a := fun v10317 k0_hw727 => k0_hw727.1
theorem k0_off1454_inb : ∀ (v10317 : BitVec 32) (k0_hw727 : k0_chk727 v10317), ∀ a, (k0_off1454 v10317) a + S1x1x1x128.size a ≤ S1x33344x1x128.size a := fun v10317 k0_hw727 => k0_hw727.2

def k0_off1455 (v10331 : BitVec 32) : Fin 4 → Nat :=
  let c0_10129 : Index := 0#32
  let v10332 : Index := Scalar.indexCast v10331
  let c0_10130 : Index := 0#32
  let c0_10131 : Index := 0#32
  ![0, v10332.toNat, 0, 0]

def k0_off1456 (v10331 : BitVec 32) : Fin 4 → Nat :=
  let c0_10135 : Index := 0#32
  let c1_i32_10134 : BitVec 32 := 1#32
  let v10338 : BitVec 32 := Scalar.addi v10331 c1_i32_10134
  let v10339 : Index := Scalar.indexCast v10338
  let c0_10136 : Index := 0#32
  let c0_10137 : Index := 0#32
  ![0, v10339.toNat, 0, 0]

def k0_chk728 (v10331 : BitVec 32) : Prop :=
  (∀ a, (k0_off1455 v10331) a + S1x1x1x128.size a ≤ S1x33344x1x128.size a) ∧
  (∀ a, (k0_off1456 v10331) a + S1x1x1x128.size a ≤ S1x33344x1x128.size a)
theorem k0_off1455_inb : ∀ (v10331 : BitVec 32) (k0_hw728 : k0_chk728 v10331), ∀ a, (k0_off1455 v10331) a + S1x1x1x128.size a ≤ S1x33344x1x128.size a := fun v10331 k0_hw728 => k0_hw728.1
theorem k0_off1456_inb : ∀ (v10331 : BitVec 32) (k0_hw728 : k0_chk728 v10331), ∀ a, (k0_off1456 v10331) a + S1x1x1x128.size a ≤ S1x33344x1x128.size a := fun v10331 k0_hw728 => k0_hw728.2

def k0_off1457 (v10345 : BitVec 32) : Fin 4 → Nat :=
  let c0_10143 : Index := 0#32
  let v10346 : Index := Scalar.indexCast v10345
  let c0_10144 : Index := 0#32
  let c0_10145 : Index := 0#32
  ![0, v10346.toNat, 0, 0]

def k0_off1458 (v10345 : BitVec 32) : Fin 4 → Nat :=
  let c0_10149 : Index := 0#32
  let c1_i32_10148 : BitVec 32 := 1#32
  let v10352 : BitVec 32 := Scalar.addi v10345 c1_i32_10148
  let v10353 : Index := Scalar.indexCast v10352
  let c0_10150 : Index := 0#32
  let c0_10151 : Index := 0#32
  ![0, v10353.toNat, 0, 0]

def k0_chk729 (v10345 : BitVec 32) : Prop :=
  (∀ a, (k0_off1457 v10345) a + S1x1x1x128.size a ≤ S1x33344x1x128.size a) ∧
  (∀ a, (k0_off1458 v10345) a + S1x1x1x128.size a ≤ S1x33344x1x128.size a)
theorem k0_off1457_inb : ∀ (v10345 : BitVec 32) (k0_hw729 : k0_chk729 v10345), ∀ a, (k0_off1457 v10345) a + S1x1x1x128.size a ≤ S1x33344x1x128.size a := fun v10345 k0_hw729 => k0_hw729.1
theorem k0_off1458_inb : ∀ (v10345 : BitVec 32) (k0_hw729 : k0_chk729 v10345), ∀ a, (k0_off1458 v10345) a + S1x1x1x128.size a ≤ S1x33344x1x128.size a := fun v10345 k0_hw729 => k0_hw729.2

def k0_off1459 (v10359 : BitVec 32) : Fin 4 → Nat :=
  let c0_10157 : Index := 0#32
  let v10360 : Index := Scalar.indexCast v10359
  let c0_10158 : Index := 0#32
  let c0_10159 : Index := 0#32
  ![0, v10360.toNat, 0, 0]

def k0_off1460 (v10359 : BitVec 32) : Fin 4 → Nat :=
  let c0_10163 : Index := 0#32
  let c1_i32_10162 : BitVec 32 := 1#32
  let v10366 : BitVec 32 := Scalar.addi v10359 c1_i32_10162
  let v10367 : Index := Scalar.indexCast v10366
  let c0_10164 : Index := 0#32
  let c0_10165 : Index := 0#32
  ![0, v10367.toNat, 0, 0]

def k0_chk730 (v10359 : BitVec 32) : Prop :=
  (∀ a, (k0_off1459 v10359) a + S1x1x1x128.size a ≤ S1x33344x1x128.size a) ∧
  (∀ a, (k0_off1460 v10359) a + S1x1x1x128.size a ≤ S1x33344x1x128.size a)
theorem k0_off1459_inb : ∀ (v10359 : BitVec 32) (k0_hw730 : k0_chk730 v10359), ∀ a, (k0_off1459 v10359) a + S1x1x1x128.size a ≤ S1x33344x1x128.size a := fun v10359 k0_hw730 => k0_hw730.1
theorem k0_off1460_inb : ∀ (v10359 : BitVec 32) (k0_hw730 : k0_chk730 v10359), ∀ a, (k0_off1460 v10359) a + S1x1x1x128.size a ≤ S1x33344x1x128.size a := fun v10359 k0_hw730 => k0_hw730.2

def k0_off1461 (v10373 : BitVec 32) : Fin 4 → Nat :=
  let c0_10171 : Index := 0#32
  let v10374 : Index := Scalar.indexCast v10373
  let c0_10172 : Index := 0#32
  let c0_10173 : Index := 0#32
  ![0, v10374.toNat, 0, 0]

def k0_off1462 (v10373 : BitVec 32) : Fin 4 → Nat :=
  let c0_10177 : Index := 0#32
  let c1_i32_10176 : BitVec 32 := 1#32
  let v10380 : BitVec 32 := Scalar.addi v10373 c1_i32_10176
  let v10381 : Index := Scalar.indexCast v10380
  let c0_10178 : Index := 0#32
  let c0_10179 : Index := 0#32
  ![0, v10381.toNat, 0, 0]

def k0_chk731 (v10373 : BitVec 32) : Prop :=
  (∀ a, (k0_off1461 v10373) a + S1x1x1x128.size a ≤ S1x33344x1x128.size a) ∧
  (∀ a, (k0_off1462 v10373) a + S1x1x1x128.size a ≤ S1x33344x1x128.size a)
theorem k0_off1461_inb : ∀ (v10373 : BitVec 32) (k0_hw731 : k0_chk731 v10373), ∀ a, (k0_off1461 v10373) a + S1x1x1x128.size a ≤ S1x33344x1x128.size a := fun v10373 k0_hw731 => k0_hw731.1
theorem k0_off1462_inb : ∀ (v10373 : BitVec 32) (k0_hw731 : k0_chk731 v10373), ∀ a, (k0_off1462 v10373) a + S1x1x1x128.size a ≤ S1x33344x1x128.size a := fun v10373 k0_hw731 => k0_hw731.2

def k0_off1463 (v10387 : BitVec 32) : Fin 4 → Nat :=
  let c0_10185 : Index := 0#32
  let v10388 : Index := Scalar.indexCast v10387
  let c0_10186 : Index := 0#32
  let c0_10187 : Index := 0#32
  ![0, v10388.toNat, 0, 0]

def k0_off1464 (v10387 : BitVec 32) : Fin 4 → Nat :=
  let c0_10191 : Index := 0#32
  let c1_i32_10190 : BitVec 32 := 1#32
  let v10394 : BitVec 32 := Scalar.addi v10387 c1_i32_10190
  let v10395 : Index := Scalar.indexCast v10394
  let c0_10192 : Index := 0#32
  let c0_10193 : Index := 0#32
  ![0, v10395.toNat, 0, 0]

def k0_chk732 (v10387 : BitVec 32) : Prop :=
  (∀ a, (k0_off1463 v10387) a + S1x1x1x128.size a ≤ S1x33344x1x128.size a) ∧
  (∀ a, (k0_off1464 v10387) a + S1x1x1x128.size a ≤ S1x33344x1x128.size a)
theorem k0_off1463_inb : ∀ (v10387 : BitVec 32) (k0_hw732 : k0_chk732 v10387), ∀ a, (k0_off1463 v10387) a + S1x1x1x128.size a ≤ S1x33344x1x128.size a := fun v10387 k0_hw732 => k0_hw732.1
theorem k0_off1464_inb : ∀ (v10387 : BitVec 32) (k0_hw732 : k0_chk732 v10387), ∀ a, (k0_off1464 v10387) a + S1x1x1x128.size a ≤ S1x33344x1x128.size a := fun v10387 k0_hw732 => k0_hw732.2

def k0_off1465 (v10401 : BitVec 32) : Fin 4 → Nat :=
  let c0_10199 : Index := 0#32
  let v10402 : Index := Scalar.indexCast v10401
  let c0_10200 : Index := 0#32
  let c0_10201 : Index := 0#32
  ![0, v10402.toNat, 0, 0]

def k0_off1466 (v10401 : BitVec 32) : Fin 4 → Nat :=
  let c0_10205 : Index := 0#32
  let c1_i32_10204 : BitVec 32 := 1#32
  let v10408 : BitVec 32 := Scalar.addi v10401 c1_i32_10204
  let v10409 : Index := Scalar.indexCast v10408
  let c0_10206 : Index := 0#32
  let c0_10207 : Index := 0#32
  ![0, v10409.toNat, 0, 0]

def k0_chk733 (v10401 : BitVec 32) : Prop :=
  (∀ a, (k0_off1465 v10401) a + S1x1x1x128.size a ≤ S1x33344x1x128.size a) ∧
  (∀ a, (k0_off1466 v10401) a + S1x1x1x128.size a ≤ S1x33344x1x128.size a)
theorem k0_off1465_inb : ∀ (v10401 : BitVec 32) (k0_hw733 : k0_chk733 v10401), ∀ a, (k0_off1465 v10401) a + S1x1x1x128.size a ≤ S1x33344x1x128.size a := fun v10401 k0_hw733 => k0_hw733.1
theorem k0_off1466_inb : ∀ (v10401 : BitVec 32) (k0_hw733 : k0_chk733 v10401), ∀ a, (k0_off1466 v10401) a + S1x1x1x128.size a ≤ S1x33344x1x128.size a := fun v10401 k0_hw733 => k0_hw733.2

def k0_off1467 (v10415 : BitVec 32) : Fin 4 → Nat :=
  let c0_10213 : Index := 0#32
  let v10416 : Index := Scalar.indexCast v10415
  let c0_10214 : Index := 0#32
  let c0_10215 : Index := 0#32
  ![0, v10416.toNat, 0, 0]

def k0_off1468 (v10415 : BitVec 32) : Fin 4 → Nat :=
  let c0_10219 : Index := 0#32
  let c1_i32_10218 : BitVec 32 := 1#32
  let v10422 : BitVec 32 := Scalar.addi v10415 c1_i32_10218
  let v10423 : Index := Scalar.indexCast v10422
  let c0_10220 : Index := 0#32
  let c0_10221 : Index := 0#32
  ![0, v10423.toNat, 0, 0]

def k0_chk734 (v10415 : BitVec 32) : Prop :=
  (∀ a, (k0_off1467 v10415) a + S1x1x1x128.size a ≤ S1x33344x1x128.size a) ∧
  (∀ a, (k0_off1468 v10415) a + S1x1x1x128.size a ≤ S1x33344x1x128.size a)
theorem k0_off1467_inb : ∀ (v10415 : BitVec 32) (k0_hw734 : k0_chk734 v10415), ∀ a, (k0_off1467 v10415) a + S1x1x1x128.size a ≤ S1x33344x1x128.size a := fun v10415 k0_hw734 => k0_hw734.1
theorem k0_off1468_inb : ∀ (v10415 : BitVec 32) (k0_hw734 : k0_chk734 v10415), ∀ a, (k0_off1468 v10415) a + S1x1x1x128.size a ≤ S1x33344x1x128.size a := fun v10415 k0_hw734 => k0_hw734.2

def k0_off1469 (v10429 : BitVec 32) : Fin 4 → Nat :=
  let c0_10227 : Index := 0#32
  let v10430 : Index := Scalar.indexCast v10429
  let c0_10228 : Index := 0#32
  let c0_10229 : Index := 0#32
  ![0, v10430.toNat, 0, 0]

def k0_off1470 (v10429 : BitVec 32) : Fin 4 → Nat :=
  let c0_10233 : Index := 0#32
  let c1_i32_10232 : BitVec 32 := 1#32
  let v10436 : BitVec 32 := Scalar.addi v10429 c1_i32_10232
  let v10437 : Index := Scalar.indexCast v10436
  let c0_10234 : Index := 0#32
  let c0_10235 : Index := 0#32
  ![0, v10437.toNat, 0, 0]

def k0_chk735 (v10429 : BitVec 32) : Prop :=
  (∀ a, (k0_off1469 v10429) a + S1x1x1x128.size a ≤ S1x33344x1x128.size a) ∧
  (∀ a, (k0_off1470 v10429) a + S1x1x1x128.size a ≤ S1x33344x1x128.size a)
theorem k0_off1469_inb : ∀ (v10429 : BitVec 32) (k0_hw735 : k0_chk735 v10429), ∀ a, (k0_off1469 v10429) a + S1x1x1x128.size a ≤ S1x33344x1x128.size a := fun v10429 k0_hw735 => k0_hw735.1
theorem k0_off1470_inb : ∀ (v10429 : BitVec 32) (k0_hw735 : k0_chk735 v10429), ∀ a, (k0_off1470 v10429) a + S1x1x1x128.size a ≤ S1x33344x1x128.size a := fun v10429 k0_hw735 => k0_hw735.2

def k0_off1471 (v10443 : BitVec 32) : Fin 4 → Nat :=
  let c0_10241 : Index := 0#32
  let v10444 : Index := Scalar.indexCast v10443
  let c0_10242 : Index := 0#32
  let c0_10243 : Index := 0#32
  ![0, v10444.toNat, 0, 0]

def k0_off1472 (v10443 : BitVec 32) : Fin 4 → Nat :=
  let c0_10247 : Index := 0#32
  let c1_i32_10246 : BitVec 32 := 1#32
  let v10450 : BitVec 32 := Scalar.addi v10443 c1_i32_10246
  let v10451 : Index := Scalar.indexCast v10450
  let c0_10248 : Index := 0#32
  let c0_10249 : Index := 0#32
  ![0, v10451.toNat, 0, 0]

def k0_chk736 (v10443 : BitVec 32) : Prop :=
  (∀ a, (k0_off1471 v10443) a + S1x1x1x128.size a ≤ S1x33344x1x128.size a) ∧
  (∀ a, (k0_off1472 v10443) a + S1x1x1x128.size a ≤ S1x33344x1x128.size a)
theorem k0_off1471_inb : ∀ (v10443 : BitVec 32) (k0_hw736 : k0_chk736 v10443), ∀ a, (k0_off1471 v10443) a + S1x1x1x128.size a ≤ S1x33344x1x128.size a := fun v10443 k0_hw736 => k0_hw736.1
theorem k0_off1472_inb : ∀ (v10443 : BitVec 32) (k0_hw736 : k0_chk736 v10443), ∀ a, (k0_off1472 v10443) a + S1x1x1x128.size a ≤ S1x33344x1x128.size a := fun v10443 k0_hw736 => k0_hw736.2

def k0_off1473 (v10457 : BitVec 32) : Fin 4 → Nat :=
  let c0_10255 : Index := 0#32
  let v10458 : Index := Scalar.indexCast v10457
  let c0_10256 : Index := 0#32
  let c0_10257 : Index := 0#32
  ![0, v10458.toNat, 0, 0]

def k0_off1474 (v10457 : BitVec 32) : Fin 4 → Nat :=
  let c0_10261 : Index := 0#32
  let c1_i32_10260 : BitVec 32 := 1#32
  let v10464 : BitVec 32 := Scalar.addi v10457 c1_i32_10260
  let v10465 : Index := Scalar.indexCast v10464
  let c0_10262 : Index := 0#32
  let c0_10263 : Index := 0#32
  ![0, v10465.toNat, 0, 0]

def k0_chk737 (v10457 : BitVec 32) : Prop :=
  (∀ a, (k0_off1473 v10457) a + S1x1x1x128.size a ≤ S1x33344x1x128.size a) ∧
  (∀ a, (k0_off1474 v10457) a + S1x1x1x128.size a ≤ S1x33344x1x128.size a)
theorem k0_off1473_inb : ∀ (v10457 : BitVec 32) (k0_hw737 : k0_chk737 v10457), ∀ a, (k0_off1473 v10457) a + S1x1x1x128.size a ≤ S1x33344x1x128.size a := fun v10457 k0_hw737 => k0_hw737.1
theorem k0_off1474_inb : ∀ (v10457 : BitVec 32) (k0_hw737 : k0_chk737 v10457), ∀ a, (k0_off1474 v10457) a + S1x1x1x128.size a ≤ S1x33344x1x128.size a := fun v10457 k0_hw737 => k0_hw737.2

def k0_off1475 (v10471 : BitVec 32) : Fin 4 → Nat :=
  let c0_10269 : Index := 0#32
  let v10472 : Index := Scalar.indexCast v10471
  let c0_10270 : Index := 0#32
  let c0_10271 : Index := 0#32
  ![0, v10472.toNat, 0, 0]

def k0_off1476 (v10471 : BitVec 32) : Fin 4 → Nat :=
  let c0_10275 : Index := 0#32
  let c1_i32_10274 : BitVec 32 := 1#32
  let v10478 : BitVec 32 := Scalar.addi v10471 c1_i32_10274
  let v10479 : Index := Scalar.indexCast v10478
  let c0_10276 : Index := 0#32
  let c0_10277 : Index := 0#32
  ![0, v10479.toNat, 0, 0]

def k0_chk738 (v10471 : BitVec 32) : Prop :=
  (∀ a, (k0_off1475 v10471) a + S1x1x1x128.size a ≤ S1x33344x1x128.size a) ∧
  (∀ a, (k0_off1476 v10471) a + S1x1x1x128.size a ≤ S1x33344x1x128.size a)
theorem k0_off1475_inb : ∀ (v10471 : BitVec 32) (k0_hw738 : k0_chk738 v10471), ∀ a, (k0_off1475 v10471) a + S1x1x1x128.size a ≤ S1x33344x1x128.size a := fun v10471 k0_hw738 => k0_hw738.1
theorem k0_off1476_inb : ∀ (v10471 : BitVec 32) (k0_hw738 : k0_chk738 v10471), ∀ a, (k0_off1476 v10471) a + S1x1x1x128.size a ≤ S1x33344x1x128.size a := fun v10471 k0_hw738 => k0_hw738.2

def k0_off1477 (v10485 : BitVec 32) : Fin 4 → Nat :=
  let c0_10283 : Index := 0#32
  let v10486 : Index := Scalar.indexCast v10485
  let c0_10284 : Index := 0#32
  let c0_10285 : Index := 0#32
  ![0, v10486.toNat, 0, 0]

def k0_off1478 (v10485 : BitVec 32) : Fin 4 → Nat :=
  let c0_10289 : Index := 0#32
  let c1_i32_10288 : BitVec 32 := 1#32
  let v10492 : BitVec 32 := Scalar.addi v10485 c1_i32_10288
  let v10493 : Index := Scalar.indexCast v10492
  let c0_10290 : Index := 0#32
  let c0_10291 : Index := 0#32
  ![0, v10493.toNat, 0, 0]

def k0_chk739 (v10485 : BitVec 32) : Prop :=
  (∀ a, (k0_off1477 v10485) a + S1x1x1x128.size a ≤ S1x33344x1x128.size a) ∧
  (∀ a, (k0_off1478 v10485) a + S1x1x1x128.size a ≤ S1x33344x1x128.size a)
theorem k0_off1477_inb : ∀ (v10485 : BitVec 32) (k0_hw739 : k0_chk739 v10485), ∀ a, (k0_off1477 v10485) a + S1x1x1x128.size a ≤ S1x33344x1x128.size a := fun v10485 k0_hw739 => k0_hw739.1
theorem k0_off1478_inb : ∀ (v10485 : BitVec 32) (k0_hw739 : k0_chk739 v10485), ∀ a, (k0_off1478 v10485) a + S1x1x1x128.size a ≤ S1x33344x1x128.size a := fun v10485 k0_hw739 => k0_hw739.2

def k0_off1479 (v10499 : BitVec 32) : Fin 4 → Nat :=
  let c0_10297 : Index := 0#32
  let v10500 : Index := Scalar.indexCast v10499
  let c0_10298 : Index := 0#32
  let c0_10299 : Index := 0#32
  ![0, v10500.toNat, 0, 0]

def k0_off1480 (v10499 : BitVec 32) : Fin 4 → Nat :=
  let c0_10303 : Index := 0#32
  let c1_i32_10302 : BitVec 32 := 1#32
  let v10506 : BitVec 32 := Scalar.addi v10499 c1_i32_10302
  let v10507 : Index := Scalar.indexCast v10506
  let c0_10304 : Index := 0#32
  let c0_10305 : Index := 0#32
  ![0, v10507.toNat, 0, 0]

def k0_chk740 (v10499 : BitVec 32) : Prop :=
  (∀ a, (k0_off1479 v10499) a + S1x1x1x128.size a ≤ S1x33344x1x128.size a) ∧
  (∀ a, (k0_off1480 v10499) a + S1x1x1x128.size a ≤ S1x33344x1x128.size a)
theorem k0_off1479_inb : ∀ (v10499 : BitVec 32) (k0_hw740 : k0_chk740 v10499), ∀ a, (k0_off1479 v10499) a + S1x1x1x128.size a ≤ S1x33344x1x128.size a := fun v10499 k0_hw740 => k0_hw740.1
theorem k0_off1480_inb : ∀ (v10499 : BitVec 32) (k0_hw740 : k0_chk740 v10499), ∀ a, (k0_off1480 v10499) a + S1x1x1x128.size a ≤ S1x33344x1x128.size a := fun v10499 k0_hw740 => k0_hw740.2

def k0_off1481 (v10513 : BitVec 32) : Fin 4 → Nat :=
  let c0_10311 : Index := 0#32
  let v10514 : Index := Scalar.indexCast v10513
  let c0_10312 : Index := 0#32
  let c0_10313 : Index := 0#32
  ![0, v10514.toNat, 0, 0]

def k0_off1482 (v10513 : BitVec 32) : Fin 4 → Nat :=
  let c0_10317 : Index := 0#32
  let c1_i32_10316 : BitVec 32 := 1#32
  let v10520 : BitVec 32 := Scalar.addi v10513 c1_i32_10316
  let v10521 : Index := Scalar.indexCast v10520
  let c0_10318 : Index := 0#32
  let c0_10319 : Index := 0#32
  ![0, v10521.toNat, 0, 0]

def k0_chk741 (v10513 : BitVec 32) : Prop :=
  (∀ a, (k0_off1481 v10513) a + S1x1x1x128.size a ≤ S1x33344x1x128.size a) ∧
  (∀ a, (k0_off1482 v10513) a + S1x1x1x128.size a ≤ S1x33344x1x128.size a)
theorem k0_off1481_inb : ∀ (v10513 : BitVec 32) (k0_hw741 : k0_chk741 v10513), ∀ a, (k0_off1481 v10513) a + S1x1x1x128.size a ≤ S1x33344x1x128.size a := fun v10513 k0_hw741 => k0_hw741.1
theorem k0_off1482_inb : ∀ (v10513 : BitVec 32) (k0_hw741 : k0_chk741 v10513), ∀ a, (k0_off1482 v10513) a + S1x1x1x128.size a ≤ S1x33344x1x128.size a := fun v10513 k0_hw741 => k0_hw741.2

def k0_off1483 (v10527 : BitVec 32) : Fin 4 → Nat :=
  let c0_10325 : Index := 0#32
  let v10528 : Index := Scalar.indexCast v10527
  let c0_10326 : Index := 0#32
  let c0_10327 : Index := 0#32
  ![0, v10528.toNat, 0, 0]

def k0_off1484 (v10527 : BitVec 32) : Fin 4 → Nat :=
  let c0_10331 : Index := 0#32
  let c1_i32_10330 : BitVec 32 := 1#32
  let v10534 : BitVec 32 := Scalar.addi v10527 c1_i32_10330
  let v10535 : Index := Scalar.indexCast v10534
  let c0_10332 : Index := 0#32
  let c0_10333 : Index := 0#32
  ![0, v10535.toNat, 0, 0]

def k0_chk742 (v10527 : BitVec 32) : Prop :=
  (∀ a, (k0_off1483 v10527) a + S1x1x1x128.size a ≤ S1x33344x1x128.size a) ∧
  (∀ a, (k0_off1484 v10527) a + S1x1x1x128.size a ≤ S1x33344x1x128.size a)
theorem k0_off1483_inb : ∀ (v10527 : BitVec 32) (k0_hw742 : k0_chk742 v10527), ∀ a, (k0_off1483 v10527) a + S1x1x1x128.size a ≤ S1x33344x1x128.size a := fun v10527 k0_hw742 => k0_hw742.1
theorem k0_off1484_inb : ∀ (v10527 : BitVec 32) (k0_hw742 : k0_chk742 v10527), ∀ a, (k0_off1484 v10527) a + S1x1x1x128.size a ≤ S1x33344x1x128.size a := fun v10527 k0_hw742 => k0_hw742.2

def k0_off1485 (v10541 : BitVec 32) : Fin 4 → Nat :=
  let c0_10339 : Index := 0#32
  let v10542 : Index := Scalar.indexCast v10541
  let c0_10340 : Index := 0#32
  let c0_10341 : Index := 0#32
  ![0, v10542.toNat, 0, 0]

def k0_off1486 (v10541 : BitVec 32) : Fin 4 → Nat :=
  let c0_10345 : Index := 0#32
  let c1_i32_10344 : BitVec 32 := 1#32
  let v10548 : BitVec 32 := Scalar.addi v10541 c1_i32_10344
  let v10549 : Index := Scalar.indexCast v10548
  let c0_10346 : Index := 0#32
  let c0_10347 : Index := 0#32
  ![0, v10549.toNat, 0, 0]

def k0_chk743 (v10541 : BitVec 32) : Prop :=
  (∀ a, (k0_off1485 v10541) a + S1x1x1x128.size a ≤ S1x33344x1x128.size a) ∧
  (∀ a, (k0_off1486 v10541) a + S1x1x1x128.size a ≤ S1x33344x1x128.size a)
theorem k0_off1485_inb : ∀ (v10541 : BitVec 32) (k0_hw743 : k0_chk743 v10541), ∀ a, (k0_off1485 v10541) a + S1x1x1x128.size a ≤ S1x33344x1x128.size a := fun v10541 k0_hw743 => k0_hw743.1
theorem k0_off1486_inb : ∀ (v10541 : BitVec 32) (k0_hw743 : k0_chk743 v10541), ∀ a, (k0_off1486 v10541) a + S1x1x1x128.size a ≤ S1x33344x1x128.size a := fun v10541 k0_hw743 => k0_hw743.2

def k0_off1487 (v10555 : BitVec 32) : Fin 4 → Nat :=
  let c0_10353 : Index := 0#32
  let v10556 : Index := Scalar.indexCast v10555
  let c0_10354 : Index := 0#32
  let c0_10355 : Index := 0#32
  ![0, v10556.toNat, 0, 0]

def k0_off1488 (v10555 : BitVec 32) : Fin 4 → Nat :=
  let c0_10359 : Index := 0#32
  let c1_i32_10358 : BitVec 32 := 1#32
  let v10562 : BitVec 32 := Scalar.addi v10555 c1_i32_10358
  let v10563 : Index := Scalar.indexCast v10562
  let c0_10360 : Index := 0#32
  let c0_10361 : Index := 0#32
  ![0, v10563.toNat, 0, 0]

def k0_chk744 (v10555 : BitVec 32) : Prop :=
  (∀ a, (k0_off1487 v10555) a + S1x1x1x128.size a ≤ S1x33344x1x128.size a) ∧
  (∀ a, (k0_off1488 v10555) a + S1x1x1x128.size a ≤ S1x33344x1x128.size a)
theorem k0_off1487_inb : ∀ (v10555 : BitVec 32) (k0_hw744 : k0_chk744 v10555), ∀ a, (k0_off1487 v10555) a + S1x1x1x128.size a ≤ S1x33344x1x128.size a := fun v10555 k0_hw744 => k0_hw744.1
theorem k0_off1488_inb : ∀ (v10555 : BitVec 32) (k0_hw744 : k0_chk744 v10555), ∀ a, (k0_off1488 v10555) a + S1x1x1x128.size a ≤ S1x33344x1x128.size a := fun v10555 k0_hw744 => k0_hw744.2

def k0_off1489 (v10569 : BitVec 32) : Fin 4 → Nat :=
  let c0_10367 : Index := 0#32
  let v10570 : Index := Scalar.indexCast v10569
  let c0_10368 : Index := 0#32
  let c0_10369 : Index := 0#32
  ![0, v10570.toNat, 0, 0]

def k0_off1490 (v10569 : BitVec 32) : Fin 4 → Nat :=
  let c0_10373 : Index := 0#32
  let c1_i32_10372 : BitVec 32 := 1#32
  let v10576 : BitVec 32 := Scalar.addi v10569 c1_i32_10372
  let v10577 : Index := Scalar.indexCast v10576
  let c0_10374 : Index := 0#32
  let c0_10375 : Index := 0#32
  ![0, v10577.toNat, 0, 0]

def k0_chk745 (v10569 : BitVec 32) : Prop :=
  (∀ a, (k0_off1489 v10569) a + S1x1x1x128.size a ≤ S1x33344x1x128.size a) ∧
  (∀ a, (k0_off1490 v10569) a + S1x1x1x128.size a ≤ S1x33344x1x128.size a)
theorem k0_off1489_inb : ∀ (v10569 : BitVec 32) (k0_hw745 : k0_chk745 v10569), ∀ a, (k0_off1489 v10569) a + S1x1x1x128.size a ≤ S1x33344x1x128.size a := fun v10569 k0_hw745 => k0_hw745.1
theorem k0_off1490_inb : ∀ (v10569 : BitVec 32) (k0_hw745 : k0_chk745 v10569), ∀ a, (k0_off1490 v10569) a + S1x1x1x128.size a ≤ S1x33344x1x128.size a := fun v10569 k0_hw745 => k0_hw745.2

def k0_off1491 (v10583 : BitVec 32) : Fin 4 → Nat :=
  let c0_10381 : Index := 0#32
  let v10584 : Index := Scalar.indexCast v10583
  let c0_10382 : Index := 0#32
  let c0_10383 : Index := 0#32
  ![0, v10584.toNat, 0, 0]

def k0_off1492 (v10583 : BitVec 32) : Fin 4 → Nat :=
  let c0_10387 : Index := 0#32
  let c1_i32_10386 : BitVec 32 := 1#32
  let v10590 : BitVec 32 := Scalar.addi v10583 c1_i32_10386
  let v10591 : Index := Scalar.indexCast v10590
  let c0_10388 : Index := 0#32
  let c0_10389 : Index := 0#32
  ![0, v10591.toNat, 0, 0]

def k0_chk746 (v10583 : BitVec 32) : Prop :=
  (∀ a, (k0_off1491 v10583) a + S1x1x1x128.size a ≤ S1x33344x1x128.size a) ∧
  (∀ a, (k0_off1492 v10583) a + S1x1x1x128.size a ≤ S1x33344x1x128.size a)
theorem k0_off1491_inb : ∀ (v10583 : BitVec 32) (k0_hw746 : k0_chk746 v10583), ∀ a, (k0_off1491 v10583) a + S1x1x1x128.size a ≤ S1x33344x1x128.size a := fun v10583 k0_hw746 => k0_hw746.1
theorem k0_off1492_inb : ∀ (v10583 : BitVec 32) (k0_hw746 : k0_chk746 v10583), ∀ a, (k0_off1492 v10583) a + S1x1x1x128.size a ≤ S1x33344x1x128.size a := fun v10583 k0_hw746 => k0_hw746.2

def k0_off1493 (v10597 : BitVec 32) : Fin 4 → Nat :=
  let c0_10395 : Index := 0#32
  let v10598 : Index := Scalar.indexCast v10597
  let c0_10396 : Index := 0#32
  let c0_10397 : Index := 0#32
  ![0, v10598.toNat, 0, 0]

def k0_off1494 (v10597 : BitVec 32) : Fin 4 → Nat :=
  let c0_10401 : Index := 0#32
  let c1_i32_10400 : BitVec 32 := 1#32
  let v10604 : BitVec 32 := Scalar.addi v10597 c1_i32_10400
  let v10605 : Index := Scalar.indexCast v10604
  let c0_10402 : Index := 0#32
  let c0_10403 : Index := 0#32
  ![0, v10605.toNat, 0, 0]

def k0_chk747 (v10597 : BitVec 32) : Prop :=
  (∀ a, (k0_off1493 v10597) a + S1x1x1x128.size a ≤ S1x33344x1x128.size a) ∧
  (∀ a, (k0_off1494 v10597) a + S1x1x1x128.size a ≤ S1x33344x1x128.size a)
theorem k0_off1493_inb : ∀ (v10597 : BitVec 32) (k0_hw747 : k0_chk747 v10597), ∀ a, (k0_off1493 v10597) a + S1x1x1x128.size a ≤ S1x33344x1x128.size a := fun v10597 k0_hw747 => k0_hw747.1
theorem k0_off1494_inb : ∀ (v10597 : BitVec 32) (k0_hw747 : k0_chk747 v10597), ∀ a, (k0_off1494 v10597) a + S1x1x1x128.size a ≤ S1x33344x1x128.size a := fun v10597 k0_hw747 => k0_hw747.2

def k0_off1495 (v10611 : BitVec 32) : Fin 4 → Nat :=
  let c0_10409 : Index := 0#32
  let v10612 : Index := Scalar.indexCast v10611
  let c0_10410 : Index := 0#32
  let c0_10411 : Index := 0#32
  ![0, v10612.toNat, 0, 0]

def k0_off1496 (v10611 : BitVec 32) : Fin 4 → Nat :=
  let c0_10415 : Index := 0#32
  let c1_i32_10414 : BitVec 32 := 1#32
  let v10618 : BitVec 32 := Scalar.addi v10611 c1_i32_10414
  let v10619 : Index := Scalar.indexCast v10618
  let c0_10416 : Index := 0#32
  let c0_10417 : Index := 0#32
  ![0, v10619.toNat, 0, 0]

def k0_chk748 (v10611 : BitVec 32) : Prop :=
  (∀ a, (k0_off1495 v10611) a + S1x1x1x128.size a ≤ S1x33344x1x128.size a) ∧
  (∀ a, (k0_off1496 v10611) a + S1x1x1x128.size a ≤ S1x33344x1x128.size a)
theorem k0_off1495_inb : ∀ (v10611 : BitVec 32) (k0_hw748 : k0_chk748 v10611), ∀ a, (k0_off1495 v10611) a + S1x1x1x128.size a ≤ S1x33344x1x128.size a := fun v10611 k0_hw748 => k0_hw748.1
theorem k0_off1496_inb : ∀ (v10611 : BitVec 32) (k0_hw748 : k0_chk748 v10611), ∀ a, (k0_off1496 v10611) a + S1x1x1x128.size a ≤ S1x33344x1x128.size a := fun v10611 k0_hw748 => k0_hw748.2

def k0_off1497 (v10625 : BitVec 32) : Fin 4 → Nat :=
  let c0_10423 : Index := 0#32
  let v10626 : Index := Scalar.indexCast v10625
  let c0_10424 : Index := 0#32
  let c0_10425 : Index := 0#32
  ![0, v10626.toNat, 0, 0]

def k0_off1498 (v10625 : BitVec 32) : Fin 4 → Nat :=
  let c0_10429 : Index := 0#32
  let c1_i32_10428 : BitVec 32 := 1#32
  let v10632 : BitVec 32 := Scalar.addi v10625 c1_i32_10428
  let v10633 : Index := Scalar.indexCast v10632
  let c0_10430 : Index := 0#32
  let c0_10431 : Index := 0#32
  ![0, v10633.toNat, 0, 0]

def k0_chk749 (v10625 : BitVec 32) : Prop :=
  (∀ a, (k0_off1497 v10625) a + S1x1x1x128.size a ≤ S1x33344x1x128.size a) ∧
  (∀ a, (k0_off1498 v10625) a + S1x1x1x128.size a ≤ S1x33344x1x128.size a)
theorem k0_off1497_inb : ∀ (v10625 : BitVec 32) (k0_hw749 : k0_chk749 v10625), ∀ a, (k0_off1497 v10625) a + S1x1x1x128.size a ≤ S1x33344x1x128.size a := fun v10625 k0_hw749 => k0_hw749.1
theorem k0_off1498_inb : ∀ (v10625 : BitVec 32) (k0_hw749 : k0_chk749 v10625), ∀ a, (k0_off1498 v10625) a + S1x1x1x128.size a ≤ S1x33344x1x128.size a := fun v10625 k0_hw749 => k0_hw749.2

def k0_off1499 (v10639 : BitVec 32) : Fin 4 → Nat :=
  let c0_10437 : Index := 0#32
  let v10640 : Index := Scalar.indexCast v10639
  let c0_10438 : Index := 0#32
  let c0_10439 : Index := 0#32
  ![0, v10640.toNat, 0, 0]

def k0_off1500 (v10639 : BitVec 32) : Fin 4 → Nat :=
  let c0_10443 : Index := 0#32
  let c1_i32_10442 : BitVec 32 := 1#32
  let v10646 : BitVec 32 := Scalar.addi v10639 c1_i32_10442
  let v10647 : Index := Scalar.indexCast v10646
  let c0_10444 : Index := 0#32
  let c0_10445 : Index := 0#32
  ![0, v10647.toNat, 0, 0]

def k0_chk750 (v10639 : BitVec 32) : Prop :=
  (∀ a, (k0_off1499 v10639) a + S1x1x1x128.size a ≤ S1x33344x1x128.size a) ∧
  (∀ a, (k0_off1500 v10639) a + S1x1x1x128.size a ≤ S1x33344x1x128.size a)
theorem k0_off1499_inb : ∀ (v10639 : BitVec 32) (k0_hw750 : k0_chk750 v10639), ∀ a, (k0_off1499 v10639) a + S1x1x1x128.size a ≤ S1x33344x1x128.size a := fun v10639 k0_hw750 => k0_hw750.1
theorem k0_off1500_inb : ∀ (v10639 : BitVec 32) (k0_hw750 : k0_chk750 v10639), ∀ a, (k0_off1500 v10639) a + S1x1x1x128.size a ≤ S1x33344x1x128.size a := fun v10639 k0_hw750 => k0_hw750.2

def k0_off1501 (v10653 : BitVec 32) : Fin 4 → Nat :=
  let c0_10451 : Index := 0#32
  let v10654 : Index := Scalar.indexCast v10653
  let c0_10452 : Index := 0#32
  let c0_10453 : Index := 0#32
  ![0, v10654.toNat, 0, 0]

def k0_off1502 (v10653 : BitVec 32) : Fin 4 → Nat :=
  let c0_10457 : Index := 0#32
  let c1_i32_10456 : BitVec 32 := 1#32
  let v10660 : BitVec 32 := Scalar.addi v10653 c1_i32_10456
  let v10661 : Index := Scalar.indexCast v10660
  let c0_10458 : Index := 0#32
  let c0_10459 : Index := 0#32
  ![0, v10661.toNat, 0, 0]

def k0_chk751 (v10653 : BitVec 32) : Prop :=
  (∀ a, (k0_off1501 v10653) a + S1x1x1x128.size a ≤ S1x33344x1x128.size a) ∧
  (∀ a, (k0_off1502 v10653) a + S1x1x1x128.size a ≤ S1x33344x1x128.size a)
theorem k0_off1501_inb : ∀ (v10653 : BitVec 32) (k0_hw751 : k0_chk751 v10653), ∀ a, (k0_off1501 v10653) a + S1x1x1x128.size a ≤ S1x33344x1x128.size a := fun v10653 k0_hw751 => k0_hw751.1
theorem k0_off1502_inb : ∀ (v10653 : BitVec 32) (k0_hw751 : k0_chk751 v10653), ∀ a, (k0_off1502 v10653) a + S1x1x1x128.size a ≤ S1x33344x1x128.size a := fun v10653 k0_hw751 => k0_hw751.2

def k0_off1503 (v10667 : BitVec 32) : Fin 4 → Nat :=
  let c0_10465 : Index := 0#32
  let v10668 : Index := Scalar.indexCast v10667
  let c0_10466 : Index := 0#32
  let c0_10467 : Index := 0#32
  ![0, v10668.toNat, 0, 0]

def k0_off1504 (v10667 : BitVec 32) : Fin 4 → Nat :=
  let c0_10471 : Index := 0#32
  let c1_i32_10470 : BitVec 32 := 1#32
  let v10674 : BitVec 32 := Scalar.addi v10667 c1_i32_10470
  let v10675 : Index := Scalar.indexCast v10674
  let c0_10472 : Index := 0#32
  let c0_10473 : Index := 0#32
  ![0, v10675.toNat, 0, 0]

def k0_chk752 (v10667 : BitVec 32) : Prop :=
  (∀ a, (k0_off1503 v10667) a + S1x1x1x128.size a ≤ S1x33344x1x128.size a) ∧
  (∀ a, (k0_off1504 v10667) a + S1x1x1x128.size a ≤ S1x33344x1x128.size a)
theorem k0_off1503_inb : ∀ (v10667 : BitVec 32) (k0_hw752 : k0_chk752 v10667), ∀ a, (k0_off1503 v10667) a + S1x1x1x128.size a ≤ S1x33344x1x128.size a := fun v10667 k0_hw752 => k0_hw752.1
theorem k0_off1504_inb : ∀ (v10667 : BitVec 32) (k0_hw752 : k0_chk752 v10667), ∀ a, (k0_off1504 v10667) a + S1x1x1x128.size a ≤ S1x33344x1x128.size a := fun v10667 k0_hw752 => k0_hw752.2

def k0_off1505 (v10681 : BitVec 32) : Fin 4 → Nat :=
  let c0_10479 : Index := 0#32
  let v10682 : Index := Scalar.indexCast v10681
  let c0_10480 : Index := 0#32
  let c0_10481 : Index := 0#32
  ![0, v10682.toNat, 0, 0]

def k0_off1506 (v10681 : BitVec 32) : Fin 4 → Nat :=
  let c0_10485 : Index := 0#32
  let c1_i32_10484 : BitVec 32 := 1#32
  let v10688 : BitVec 32 := Scalar.addi v10681 c1_i32_10484
  let v10689 : Index := Scalar.indexCast v10688
  let c0_10486 : Index := 0#32
  let c0_10487 : Index := 0#32
  ![0, v10689.toNat, 0, 0]

def k0_chk753 (v10681 : BitVec 32) : Prop :=
  (∀ a, (k0_off1505 v10681) a + S1x1x1x128.size a ≤ S1x33344x1x128.size a) ∧
  (∀ a, (k0_off1506 v10681) a + S1x1x1x128.size a ≤ S1x33344x1x128.size a)
theorem k0_off1505_inb : ∀ (v10681 : BitVec 32) (k0_hw753 : k0_chk753 v10681), ∀ a, (k0_off1505 v10681) a + S1x1x1x128.size a ≤ S1x33344x1x128.size a := fun v10681 k0_hw753 => k0_hw753.1
theorem k0_off1506_inb : ∀ (v10681 : BitVec 32) (k0_hw753 : k0_chk753 v10681), ∀ a, (k0_off1506 v10681) a + S1x1x1x128.size a ≤ S1x33344x1x128.size a := fun v10681 k0_hw753 => k0_hw753.2

def k0_off1507 (v10695 : BitVec 32) : Fin 4 → Nat :=
  let c0_10493 : Index := 0#32
  let v10696 : Index := Scalar.indexCast v10695
  let c0_10494 : Index := 0#32
  let c0_10495 : Index := 0#32
  ![0, v10696.toNat, 0, 0]

def k0_off1508 (v10695 : BitVec 32) : Fin 4 → Nat :=
  let c0_10499 : Index := 0#32
  let c1_i32_10498 : BitVec 32 := 1#32
  let v10702 : BitVec 32 := Scalar.addi v10695 c1_i32_10498
  let v10703 : Index := Scalar.indexCast v10702
  let c0_10500 : Index := 0#32
  let c0_10501 : Index := 0#32
  ![0, v10703.toNat, 0, 0]

def k0_chk754 (v10695 : BitVec 32) : Prop :=
  (∀ a, (k0_off1507 v10695) a + S1x1x1x128.size a ≤ S1x33344x1x128.size a) ∧
  (∀ a, (k0_off1508 v10695) a + S1x1x1x128.size a ≤ S1x33344x1x128.size a)
theorem k0_off1507_inb : ∀ (v10695 : BitVec 32) (k0_hw754 : k0_chk754 v10695), ∀ a, (k0_off1507 v10695) a + S1x1x1x128.size a ≤ S1x33344x1x128.size a := fun v10695 k0_hw754 => k0_hw754.1
theorem k0_off1508_inb : ∀ (v10695 : BitVec 32) (k0_hw754 : k0_chk754 v10695), ∀ a, (k0_off1508 v10695) a + S1x1x1x128.size a ≤ S1x33344x1x128.size a := fun v10695 k0_hw754 => k0_hw754.2

def k0_off1509 (v10709 : BitVec 32) : Fin 4 → Nat :=
  let c0_10507 : Index := 0#32
  let v10710 : Index := Scalar.indexCast v10709
  let c0_10508 : Index := 0#32
  let c0_10509 : Index := 0#32
  ![0, v10710.toNat, 0, 0]

def k0_off1510 (v10709 : BitVec 32) : Fin 4 → Nat :=
  let c0_10513 : Index := 0#32
  let c1_i32_10512 : BitVec 32 := 1#32
  let v10716 : BitVec 32 := Scalar.addi v10709 c1_i32_10512
  let v10717 : Index := Scalar.indexCast v10716
  let c0_10514 : Index := 0#32
  let c0_10515 : Index := 0#32
  ![0, v10717.toNat, 0, 0]

def k0_chk755 (v10709 : BitVec 32) : Prop :=
  (∀ a, (k0_off1509 v10709) a + S1x1x1x128.size a ≤ S1x33344x1x128.size a) ∧
  (∀ a, (k0_off1510 v10709) a + S1x1x1x128.size a ≤ S1x33344x1x128.size a)
theorem k0_off1509_inb : ∀ (v10709 : BitVec 32) (k0_hw755 : k0_chk755 v10709), ∀ a, (k0_off1509 v10709) a + S1x1x1x128.size a ≤ S1x33344x1x128.size a := fun v10709 k0_hw755 => k0_hw755.1
theorem k0_off1510_inb : ∀ (v10709 : BitVec 32) (k0_hw755 : k0_chk755 v10709), ∀ a, (k0_off1510 v10709) a + S1x1x1x128.size a ≤ S1x33344x1x128.size a := fun v10709 k0_hw755 => k0_hw755.2

def k0_off1511 (v10723 : BitVec 32) : Fin 4 → Nat :=
  let c0_10521 : Index := 0#32
  let v10724 : Index := Scalar.indexCast v10723
  let c0_10522 : Index := 0#32
  let c0_10523 : Index := 0#32
  ![0, v10724.toNat, 0, 0]

def k0_off1512 (v10723 : BitVec 32) : Fin 4 → Nat :=
  let c0_10527 : Index := 0#32
  let c1_i32_10526 : BitVec 32 := 1#32
  let v10730 : BitVec 32 := Scalar.addi v10723 c1_i32_10526
  let v10731 : Index := Scalar.indexCast v10730
  let c0_10528 : Index := 0#32
  let c0_10529 : Index := 0#32
  ![0, v10731.toNat, 0, 0]

def k0_chk756 (v10723 : BitVec 32) : Prop :=
  (∀ a, (k0_off1511 v10723) a + S1x1x1x128.size a ≤ S1x33344x1x128.size a) ∧
  (∀ a, (k0_off1512 v10723) a + S1x1x1x128.size a ≤ S1x33344x1x128.size a)
theorem k0_off1511_inb : ∀ (v10723 : BitVec 32) (k0_hw756 : k0_chk756 v10723), ∀ a, (k0_off1511 v10723) a + S1x1x1x128.size a ≤ S1x33344x1x128.size a := fun v10723 k0_hw756 => k0_hw756.1
theorem k0_off1512_inb : ∀ (v10723 : BitVec 32) (k0_hw756 : k0_chk756 v10723), ∀ a, (k0_off1512 v10723) a + S1x1x1x128.size a ≤ S1x33344x1x128.size a := fun v10723 k0_hw756 => k0_hw756.2

def k0_off1513 (v10737 : BitVec 32) : Fin 4 → Nat :=
  let c0_10535 : Index := 0#32
  let v10738 : Index := Scalar.indexCast v10737
  let c0_10536 : Index := 0#32
  let c0_10537 : Index := 0#32
  ![0, v10738.toNat, 0, 0]

def k0_off1514 (v10737 : BitVec 32) : Fin 4 → Nat :=
  let c0_10541 : Index := 0#32
  let c1_i32_10540 : BitVec 32 := 1#32
  let v10744 : BitVec 32 := Scalar.addi v10737 c1_i32_10540
  let v10745 : Index := Scalar.indexCast v10744
  let c0_10542 : Index := 0#32
  let c0_10543 : Index := 0#32
  ![0, v10745.toNat, 0, 0]

def k0_chk757 (v10737 : BitVec 32) : Prop :=
  (∀ a, (k0_off1513 v10737) a + S1x1x1x128.size a ≤ S1x33344x1x128.size a) ∧
  (∀ a, (k0_off1514 v10737) a + S1x1x1x128.size a ≤ S1x33344x1x128.size a)
theorem k0_off1513_inb : ∀ (v10737 : BitVec 32) (k0_hw757 : k0_chk757 v10737), ∀ a, (k0_off1513 v10737) a + S1x1x1x128.size a ≤ S1x33344x1x128.size a := fun v10737 k0_hw757 => k0_hw757.1
theorem k0_off1514_inb : ∀ (v10737 : BitVec 32) (k0_hw757 : k0_chk757 v10737), ∀ a, (k0_off1514 v10737) a + S1x1x1x128.size a ≤ S1x33344x1x128.size a := fun v10737 k0_hw757 => k0_hw757.2

def k0_off1515 (v10751 : BitVec 32) : Fin 4 → Nat :=
  let c0_10549 : Index := 0#32
  let v10752 : Index := Scalar.indexCast v10751
  let c0_10550 : Index := 0#32
  let c0_10551 : Index := 0#32
  ![0, v10752.toNat, 0, 0]

def k0_off1516 (v10751 : BitVec 32) : Fin 4 → Nat :=
  let c0_10555 : Index := 0#32
  let c1_i32_10554 : BitVec 32 := 1#32
  let v10758 : BitVec 32 := Scalar.addi v10751 c1_i32_10554
  let v10759 : Index := Scalar.indexCast v10758
  let c0_10556 : Index := 0#32
  let c0_10557 : Index := 0#32
  ![0, v10759.toNat, 0, 0]

def k0_chk758 (v10751 : BitVec 32) : Prop :=
  (∀ a, (k0_off1515 v10751) a + S1x1x1x128.size a ≤ S1x33344x1x128.size a) ∧
  (∀ a, (k0_off1516 v10751) a + S1x1x1x128.size a ≤ S1x33344x1x128.size a)
theorem k0_off1515_inb : ∀ (v10751 : BitVec 32) (k0_hw758 : k0_chk758 v10751), ∀ a, (k0_off1515 v10751) a + S1x1x1x128.size a ≤ S1x33344x1x128.size a := fun v10751 k0_hw758 => k0_hw758.1
theorem k0_off1516_inb : ∀ (v10751 : BitVec 32) (k0_hw758 : k0_chk758 v10751), ∀ a, (k0_off1516 v10751) a + S1x1x1x128.size a ≤ S1x33344x1x128.size a := fun v10751 k0_hw758 => k0_hw758.2

def k0_off1517 (v10765 : BitVec 32) : Fin 4 → Nat :=
  let c0_10563 : Index := 0#32
  let v10766 : Index := Scalar.indexCast v10765
  let c0_10564 : Index := 0#32
  let c0_10565 : Index := 0#32
  ![0, v10766.toNat, 0, 0]

def k0_off1518 (v10765 : BitVec 32) : Fin 4 → Nat :=
  let c0_10569 : Index := 0#32
  let c1_i32_10568 : BitVec 32 := 1#32
  let v10772 : BitVec 32 := Scalar.addi v10765 c1_i32_10568
  let v10773 : Index := Scalar.indexCast v10772
  let c0_10570 : Index := 0#32
  let c0_10571 : Index := 0#32
  ![0, v10773.toNat, 0, 0]

def k0_chk759 (v10765 : BitVec 32) : Prop :=
  (∀ a, (k0_off1517 v10765) a + S1x1x1x128.size a ≤ S1x33344x1x128.size a) ∧
  (∀ a, (k0_off1518 v10765) a + S1x1x1x128.size a ≤ S1x33344x1x128.size a)
theorem k0_off1517_inb : ∀ (v10765 : BitVec 32) (k0_hw759 : k0_chk759 v10765), ∀ a, (k0_off1517 v10765) a + S1x1x1x128.size a ≤ S1x33344x1x128.size a := fun v10765 k0_hw759 => k0_hw759.1
theorem k0_off1518_inb : ∀ (v10765 : BitVec 32) (k0_hw759 : k0_chk759 v10765), ∀ a, (k0_off1518 v10765) a + S1x1x1x128.size a ≤ S1x33344x1x128.size a := fun v10765 k0_hw759 => k0_hw759.2

def k0_off1519 (v10779 : BitVec 32) : Fin 4 → Nat :=
  let c0_10577 : Index := 0#32
  let v10780 : Index := Scalar.indexCast v10779
  let c0_10578 : Index := 0#32
  let c0_10579 : Index := 0#32
  ![0, v10780.toNat, 0, 0]

def k0_off1520 (v10779 : BitVec 32) : Fin 4 → Nat :=
  let c0_10583 : Index := 0#32
  let c1_i32_10582 : BitVec 32 := 1#32
  let v10786 : BitVec 32 := Scalar.addi v10779 c1_i32_10582
  let v10787 : Index := Scalar.indexCast v10786
  let c0_10584 : Index := 0#32
  let c0_10585 : Index := 0#32
  ![0, v10787.toNat, 0, 0]

def k0_chk760 (v10779 : BitVec 32) : Prop :=
  (∀ a, (k0_off1519 v10779) a + S1x1x1x128.size a ≤ S1x33344x1x128.size a) ∧
  (∀ a, (k0_off1520 v10779) a + S1x1x1x128.size a ≤ S1x33344x1x128.size a)
theorem k0_off1519_inb : ∀ (v10779 : BitVec 32) (k0_hw760 : k0_chk760 v10779), ∀ a, (k0_off1519 v10779) a + S1x1x1x128.size a ≤ S1x33344x1x128.size a := fun v10779 k0_hw760 => k0_hw760.1
theorem k0_off1520_inb : ∀ (v10779 : BitVec 32) (k0_hw760 : k0_chk760 v10779), ∀ a, (k0_off1520 v10779) a + S1x1x1x128.size a ≤ S1x33344x1x128.size a := fun v10779 k0_hw760 => k0_hw760.2

def k0_off1521 (v10793 : BitVec 32) : Fin 4 → Nat :=
  let c0_10591 : Index := 0#32
  let v10794 : Index := Scalar.indexCast v10793
  let c0_10592 : Index := 0#32
  let c0_10593 : Index := 0#32
  ![0, v10794.toNat, 0, 0]

def k0_off1522 (v10793 : BitVec 32) : Fin 4 → Nat :=
  let c0_10597 : Index := 0#32
  let c1_i32_10596 : BitVec 32 := 1#32
  let v10800 : BitVec 32 := Scalar.addi v10793 c1_i32_10596
  let v10801 : Index := Scalar.indexCast v10800
  let c0_10598 : Index := 0#32
  let c0_10599 : Index := 0#32
  ![0, v10801.toNat, 0, 0]

def k0_chk761 (v10793 : BitVec 32) : Prop :=
  (∀ a, (k0_off1521 v10793) a + S1x1x1x128.size a ≤ S1x33344x1x128.size a) ∧
  (∀ a, (k0_off1522 v10793) a + S1x1x1x128.size a ≤ S1x33344x1x128.size a)
theorem k0_off1521_inb : ∀ (v10793 : BitVec 32) (k0_hw761 : k0_chk761 v10793), ∀ a, (k0_off1521 v10793) a + S1x1x1x128.size a ≤ S1x33344x1x128.size a := fun v10793 k0_hw761 => k0_hw761.1
theorem k0_off1522_inb : ∀ (v10793 : BitVec 32) (k0_hw761 : k0_chk761 v10793), ∀ a, (k0_off1522 v10793) a + S1x1x1x128.size a ≤ S1x33344x1x128.size a := fun v10793 k0_hw761 => k0_hw761.2

def k0_off1523 (v10807 : BitVec 32) : Fin 4 → Nat :=
  let c0_10605 : Index := 0#32
  let v10808 : Index := Scalar.indexCast v10807
  let c0_10606 : Index := 0#32
  let c0_10607 : Index := 0#32
  ![0, v10808.toNat, 0, 0]

def k0_off1524 (v10807 : BitVec 32) : Fin 4 → Nat :=
  let c0_10611 : Index := 0#32
  let c1_i32_10610 : BitVec 32 := 1#32
  let v10814 : BitVec 32 := Scalar.addi v10807 c1_i32_10610
  let v10815 : Index := Scalar.indexCast v10814
  let c0_10612 : Index := 0#32
  let c0_10613 : Index := 0#32
  ![0, v10815.toNat, 0, 0]

def k0_chk762 (v10807 : BitVec 32) : Prop :=
  (∀ a, (k0_off1523 v10807) a + S1x1x1x128.size a ≤ S1x33344x1x128.size a) ∧
  (∀ a, (k0_off1524 v10807) a + S1x1x1x128.size a ≤ S1x33344x1x128.size a)
theorem k0_off1523_inb : ∀ (v10807 : BitVec 32) (k0_hw762 : k0_chk762 v10807), ∀ a, (k0_off1523 v10807) a + S1x1x1x128.size a ≤ S1x33344x1x128.size a := fun v10807 k0_hw762 => k0_hw762.1
theorem k0_off1524_inb : ∀ (v10807 : BitVec 32) (k0_hw762 : k0_chk762 v10807), ∀ a, (k0_off1524 v10807) a + S1x1x1x128.size a ≤ S1x33344x1x128.size a := fun v10807 k0_hw762 => k0_hw762.2

def k0_off1525 (v10821 : BitVec 32) : Fin 4 → Nat :=
  let c0_10619 : Index := 0#32
  let v10822 : Index := Scalar.indexCast v10821
  let c0_10620 : Index := 0#32
  let c0_10621 : Index := 0#32
  ![0, v10822.toNat, 0, 0]

def k0_off1526 (v10821 : BitVec 32) : Fin 4 → Nat :=
  let c0_10625 : Index := 0#32
  let c1_i32_10624 : BitVec 32 := 1#32
  let v10828 : BitVec 32 := Scalar.addi v10821 c1_i32_10624
  let v10829 : Index := Scalar.indexCast v10828
  let c0_10626 : Index := 0#32
  let c0_10627 : Index := 0#32
  ![0, v10829.toNat, 0, 0]

def k0_chk763 (v10821 : BitVec 32) : Prop :=
  (∀ a, (k0_off1525 v10821) a + S1x1x1x128.size a ≤ S1x33344x1x128.size a) ∧
  (∀ a, (k0_off1526 v10821) a + S1x1x1x128.size a ≤ S1x33344x1x128.size a)
theorem k0_off1525_inb : ∀ (v10821 : BitVec 32) (k0_hw763 : k0_chk763 v10821), ∀ a, (k0_off1525 v10821) a + S1x1x1x128.size a ≤ S1x33344x1x128.size a := fun v10821 k0_hw763 => k0_hw763.1
theorem k0_off1526_inb : ∀ (v10821 : BitVec 32) (k0_hw763 : k0_chk763 v10821), ∀ a, (k0_off1526 v10821) a + S1x1x1x128.size a ≤ S1x33344x1x128.size a := fun v10821 k0_hw763 => k0_hw763.2

def k0_off1527 (v10835 : BitVec 32) : Fin 4 → Nat :=
  let c0_10633 : Index := 0#32
  let v10836 : Index := Scalar.indexCast v10835
  let c0_10634 : Index := 0#32
  let c0_10635 : Index := 0#32
  ![0, v10836.toNat, 0, 0]

def k0_off1528 (v10835 : BitVec 32) : Fin 4 → Nat :=
  let c0_10639 : Index := 0#32
  let c1_i32_10638 : BitVec 32 := 1#32
  let v10842 : BitVec 32 := Scalar.addi v10835 c1_i32_10638
  let v10843 : Index := Scalar.indexCast v10842
  let c0_10640 : Index := 0#32
  let c0_10641 : Index := 0#32
  ![0, v10843.toNat, 0, 0]

def k0_chk764 (v10835 : BitVec 32) : Prop :=
  (∀ a, (k0_off1527 v10835) a + S1x1x1x128.size a ≤ S1x33344x1x128.size a) ∧
  (∀ a, (k0_off1528 v10835) a + S1x1x1x128.size a ≤ S1x33344x1x128.size a)
theorem k0_off1527_inb : ∀ (v10835 : BitVec 32) (k0_hw764 : k0_chk764 v10835), ∀ a, (k0_off1527 v10835) a + S1x1x1x128.size a ≤ S1x33344x1x128.size a := fun v10835 k0_hw764 => k0_hw764.1
theorem k0_off1528_inb : ∀ (v10835 : BitVec 32) (k0_hw764 : k0_chk764 v10835), ∀ a, (k0_off1528 v10835) a + S1x1x1x128.size a ≤ S1x33344x1x128.size a := fun v10835 k0_hw764 => k0_hw764.2

def k0_off1529 (v10849 : BitVec 32) : Fin 4 → Nat :=
  let c0_10647 : Index := 0#32
  let v10850 : Index := Scalar.indexCast v10849
  let c0_10648 : Index := 0#32
  let c0_10649 : Index := 0#32
  ![0, v10850.toNat, 0, 0]

def k0_off1530 (v10849 : BitVec 32) : Fin 4 → Nat :=
  let c0_10653 : Index := 0#32
  let c1_i32_10652 : BitVec 32 := 1#32
  let v10856 : BitVec 32 := Scalar.addi v10849 c1_i32_10652
  let v10857 : Index := Scalar.indexCast v10856
  let c0_10654 : Index := 0#32
  let c0_10655 : Index := 0#32
  ![0, v10857.toNat, 0, 0]

def k0_chk765 (v10849 : BitVec 32) : Prop :=
  (∀ a, (k0_off1529 v10849) a + S1x1x1x128.size a ≤ S1x33344x1x128.size a) ∧
  (∀ a, (k0_off1530 v10849) a + S1x1x1x128.size a ≤ S1x33344x1x128.size a)
theorem k0_off1529_inb : ∀ (v10849 : BitVec 32) (k0_hw765 : k0_chk765 v10849), ∀ a, (k0_off1529 v10849) a + S1x1x1x128.size a ≤ S1x33344x1x128.size a := fun v10849 k0_hw765 => k0_hw765.1
theorem k0_off1530_inb : ∀ (v10849 : BitVec 32) (k0_hw765 : k0_chk765 v10849), ∀ a, (k0_off1530 v10849) a + S1x1x1x128.size a ≤ S1x33344x1x128.size a := fun v10849 k0_hw765 => k0_hw765.2

def k0_off1531 (v10863 : BitVec 32) : Fin 4 → Nat :=
  let c0_10661 : Index := 0#32
  let v10864 : Index := Scalar.indexCast v10863
  let c0_10662 : Index := 0#32
  let c0_10663 : Index := 0#32
  ![0, v10864.toNat, 0, 0]

def k0_off1532 (v10863 : BitVec 32) : Fin 4 → Nat :=
  let c0_10667 : Index := 0#32
  let c1_i32_10666 : BitVec 32 := 1#32
  let v10870 : BitVec 32 := Scalar.addi v10863 c1_i32_10666
  let v10871 : Index := Scalar.indexCast v10870
  let c0_10668 : Index := 0#32
  let c0_10669 : Index := 0#32
  ![0, v10871.toNat, 0, 0]

def k0_chk766 (v10863 : BitVec 32) : Prop :=
  (∀ a, (k0_off1531 v10863) a + S1x1x1x128.size a ≤ S1x33344x1x128.size a) ∧
  (∀ a, (k0_off1532 v10863) a + S1x1x1x128.size a ≤ S1x33344x1x128.size a)
theorem k0_off1531_inb : ∀ (v10863 : BitVec 32) (k0_hw766 : k0_chk766 v10863), ∀ a, (k0_off1531 v10863) a + S1x1x1x128.size a ≤ S1x33344x1x128.size a := fun v10863 k0_hw766 => k0_hw766.1
theorem k0_off1532_inb : ∀ (v10863 : BitVec 32) (k0_hw766 : k0_chk766 v10863), ∀ a, (k0_off1532 v10863) a + S1x1x1x128.size a ≤ S1x33344x1x128.size a := fun v10863 k0_hw766 => k0_hw766.2

def k0_off1533 (v10877 : BitVec 32) : Fin 4 → Nat :=
  let c0_10675 : Index := 0#32
  let v10878 : Index := Scalar.indexCast v10877
  let c0_10676 : Index := 0#32
  let c0_10677 : Index := 0#32
  ![0, v10878.toNat, 0, 0]

def k0_off1534 (v10877 : BitVec 32) : Fin 4 → Nat :=
  let c0_10681 : Index := 0#32
  let c1_i32_10680 : BitVec 32 := 1#32
  let v10884 : BitVec 32 := Scalar.addi v10877 c1_i32_10680
  let v10885 : Index := Scalar.indexCast v10884
  let c0_10682 : Index := 0#32
  let c0_10683 : Index := 0#32
  ![0, v10885.toNat, 0, 0]

def k0_chk767 (v10877 : BitVec 32) : Prop :=
  (∀ a, (k0_off1533 v10877) a + S1x1x1x128.size a ≤ S1x33344x1x128.size a) ∧
  (∀ a, (k0_off1534 v10877) a + S1x1x1x128.size a ≤ S1x33344x1x128.size a)
theorem k0_off1533_inb : ∀ (v10877 : BitVec 32) (k0_hw767 : k0_chk767 v10877), ∀ a, (k0_off1533 v10877) a + S1x1x1x128.size a ≤ S1x33344x1x128.size a := fun v10877 k0_hw767 => k0_hw767.1
theorem k0_off1534_inb : ∀ (v10877 : BitVec 32) (k0_hw767 : k0_chk767 v10877), ∀ a, (k0_off1534 v10877) a + S1x1x1x128.size a ≤ S1x33344x1x128.size a := fun v10877 k0_hw767 => k0_hw767.2

def k0_off1535 (v10891 : BitVec 32) : Fin 4 → Nat :=
  let c0_10689 : Index := 0#32
  let v10892 : Index := Scalar.indexCast v10891
  let c0_10690 : Index := 0#32
  let c0_10691 : Index := 0#32
  ![0, v10892.toNat, 0, 0]

def k0_off1536 (v10891 : BitVec 32) : Fin 4 → Nat :=
  let c0_10695 : Index := 0#32
  let c1_i32_10694 : BitVec 32 := 1#32
  let v10898 : BitVec 32 := Scalar.addi v10891 c1_i32_10694
  let v10899 : Index := Scalar.indexCast v10898
  let c0_10696 : Index := 0#32
  let c0_10697 : Index := 0#32
  ![0, v10899.toNat, 0, 0]

def k0_chk768 (v10891 : BitVec 32) : Prop :=
  (∀ a, (k0_off1535 v10891) a + S1x1x1x128.size a ≤ S1x33344x1x128.size a) ∧
  (∀ a, (k0_off1536 v10891) a + S1x1x1x128.size a ≤ S1x33344x1x128.size a)
theorem k0_off1535_inb : ∀ (v10891 : BitVec 32) (k0_hw768 : k0_chk768 v10891), ∀ a, (k0_off1535 v10891) a + S1x1x1x128.size a ≤ S1x33344x1x128.size a := fun v10891 k0_hw768 => k0_hw768.1
theorem k0_off1536_inb : ∀ (v10891 : BitVec 32) (k0_hw768 : k0_chk768 v10891), ∀ a, (k0_off1536 v10891) a + S1x1x1x128.size a ≤ S1x33344x1x128.size a := fun v10891 k0_hw768 => k0_hw768.2

def k0_off1537 (v10934 : BitVec 32) : Fin 4 → Nat :=
  let c0_10716 : Index := 0#32
  let v10935 : Index := Scalar.indexCast v10934
  let c0_10717 : Index := 0#32
  let c0_10718 : Index := 0#32
  ![0, v10935.toNat, 0, 0]

def k0_off1538 (v10934 : BitVec 32) : Fin 4 → Nat :=
  let c0_10722 : Index := 0#32
  let c1_i32_10721 : BitVec 32 := 1#32
  let v10941 : BitVec 32 := Scalar.addi v10934 c1_i32_10721
  let v10942 : Index := Scalar.indexCast v10941
  let c0_10723 : Index := 0#32
  let c0_10724 : Index := 0#32
  ![0, v10942.toNat, 0, 0]

def k0_chk769 (v10934 : BitVec 32) : Prop :=
  (∀ a, (k0_off1537 v10934) a + S1x1x1x128.size a ≤ S1x33344x1x128.size a) ∧
  (∀ a, (k0_off1538 v10934) a + S1x1x1x128.size a ≤ S1x33344x1x128.size a)
theorem k0_off1537_inb : ∀ (v10934 : BitVec 32) (k0_hw769 : k0_chk769 v10934), ∀ a, (k0_off1537 v10934) a + S1x1x1x128.size a ≤ S1x33344x1x128.size a := fun v10934 k0_hw769 => k0_hw769.1
theorem k0_off1538_inb : ∀ (v10934 : BitVec 32) (k0_hw769 : k0_chk769 v10934), ∀ a, (k0_off1538 v10934) a + S1x1x1x128.size a ≤ S1x33344x1x128.size a := fun v10934 k0_hw769 => k0_hw769.2

def k0_off1539 (v10948 : BitVec 32) : Fin 4 → Nat :=
  let c0_10730 : Index := 0#32
  let v10949 : Index := Scalar.indexCast v10948
  let c0_10731 : Index := 0#32
  let c0_10732 : Index := 0#32
  ![0, v10949.toNat, 0, 0]

def k0_off1540 (v10948 : BitVec 32) : Fin 4 → Nat :=
  let c0_10736 : Index := 0#32
  let c1_i32_10735 : BitVec 32 := 1#32
  let v10955 : BitVec 32 := Scalar.addi v10948 c1_i32_10735
  let v10956 : Index := Scalar.indexCast v10955
  let c0_10737 : Index := 0#32
  let c0_10738 : Index := 0#32
  ![0, v10956.toNat, 0, 0]

def k0_chk770 (v10948 : BitVec 32) : Prop :=
  (∀ a, (k0_off1539 v10948) a + S1x1x1x128.size a ≤ S1x33344x1x128.size a) ∧
  (∀ a, (k0_off1540 v10948) a + S1x1x1x128.size a ≤ S1x33344x1x128.size a)
theorem k0_off1539_inb : ∀ (v10948 : BitVec 32) (k0_hw770 : k0_chk770 v10948), ∀ a, (k0_off1539 v10948) a + S1x1x1x128.size a ≤ S1x33344x1x128.size a := fun v10948 k0_hw770 => k0_hw770.1
theorem k0_off1540_inb : ∀ (v10948 : BitVec 32) (k0_hw770 : k0_chk770 v10948), ∀ a, (k0_off1540 v10948) a + S1x1x1x128.size a ≤ S1x33344x1x128.size a := fun v10948 k0_hw770 => k0_hw770.2

def k0_off1541 (v10962 : BitVec 32) : Fin 4 → Nat :=
  let c0_10744 : Index := 0#32
  let v10963 : Index := Scalar.indexCast v10962
  let c0_10745 : Index := 0#32
  let c0_10746 : Index := 0#32
  ![0, v10963.toNat, 0, 0]

def k0_off1542 (v10962 : BitVec 32) : Fin 4 → Nat :=
  let c0_10750 : Index := 0#32
  let c1_i32_10749 : BitVec 32 := 1#32
  let v10969 : BitVec 32 := Scalar.addi v10962 c1_i32_10749
  let v10970 : Index := Scalar.indexCast v10969
  let c0_10751 : Index := 0#32
  let c0_10752 : Index := 0#32
  ![0, v10970.toNat, 0, 0]

def k0_chk771 (v10962 : BitVec 32) : Prop :=
  (∀ a, (k0_off1541 v10962) a + S1x1x1x128.size a ≤ S1x33344x1x128.size a) ∧
  (∀ a, (k0_off1542 v10962) a + S1x1x1x128.size a ≤ S1x33344x1x128.size a)
theorem k0_off1541_inb : ∀ (v10962 : BitVec 32) (k0_hw771 : k0_chk771 v10962), ∀ a, (k0_off1541 v10962) a + S1x1x1x128.size a ≤ S1x33344x1x128.size a := fun v10962 k0_hw771 => k0_hw771.1
theorem k0_off1542_inb : ∀ (v10962 : BitVec 32) (k0_hw771 : k0_chk771 v10962), ∀ a, (k0_off1542 v10962) a + S1x1x1x128.size a ≤ S1x33344x1x128.size a := fun v10962 k0_hw771 => k0_hw771.2

def k0_off1543 (v10976 : BitVec 32) : Fin 4 → Nat :=
  let c0_10758 : Index := 0#32
  let v10977 : Index := Scalar.indexCast v10976
  let c0_10759 : Index := 0#32
  let c0_10760 : Index := 0#32
  ![0, v10977.toNat, 0, 0]

def k0_off1544 (v10976 : BitVec 32) : Fin 4 → Nat :=
  let c0_10764 : Index := 0#32
  let c1_i32_10763 : BitVec 32 := 1#32
  let v10983 : BitVec 32 := Scalar.addi v10976 c1_i32_10763
  let v10984 : Index := Scalar.indexCast v10983
  let c0_10765 : Index := 0#32
  let c0_10766 : Index := 0#32
  ![0, v10984.toNat, 0, 0]

def k0_chk772 (v10976 : BitVec 32) : Prop :=
  (∀ a, (k0_off1543 v10976) a + S1x1x1x128.size a ≤ S1x33344x1x128.size a) ∧
  (∀ a, (k0_off1544 v10976) a + S1x1x1x128.size a ≤ S1x33344x1x128.size a)
theorem k0_off1543_inb : ∀ (v10976 : BitVec 32) (k0_hw772 : k0_chk772 v10976), ∀ a, (k0_off1543 v10976) a + S1x1x1x128.size a ≤ S1x33344x1x128.size a := fun v10976 k0_hw772 => k0_hw772.1
theorem k0_off1544_inb : ∀ (v10976 : BitVec 32) (k0_hw772 : k0_chk772 v10976), ∀ a, (k0_off1544 v10976) a + S1x1x1x128.size a ≤ S1x33344x1x128.size a := fun v10976 k0_hw772 => k0_hw772.2

def k0_off1545 (v10990 : BitVec 32) : Fin 4 → Nat :=
  let c0_10772 : Index := 0#32
  let v10991 : Index := Scalar.indexCast v10990
  let c0_10773 : Index := 0#32
  let c0_10774 : Index := 0#32
  ![0, v10991.toNat, 0, 0]

def k0_off1546 (v10990 : BitVec 32) : Fin 4 → Nat :=
  let c0_10778 : Index := 0#32
  let c1_i32_10777 : BitVec 32 := 1#32
  let v10997 : BitVec 32 := Scalar.addi v10990 c1_i32_10777
  let v10998 : Index := Scalar.indexCast v10997
  let c0_10779 : Index := 0#32
  let c0_10780 : Index := 0#32
  ![0, v10998.toNat, 0, 0]

def k0_chk773 (v10990 : BitVec 32) : Prop :=
  (∀ a, (k0_off1545 v10990) a + S1x1x1x128.size a ≤ S1x33344x1x128.size a) ∧
  (∀ a, (k0_off1546 v10990) a + S1x1x1x128.size a ≤ S1x33344x1x128.size a)
theorem k0_off1545_inb : ∀ (v10990 : BitVec 32) (k0_hw773 : k0_chk773 v10990), ∀ a, (k0_off1545 v10990) a + S1x1x1x128.size a ≤ S1x33344x1x128.size a := fun v10990 k0_hw773 => k0_hw773.1
theorem k0_off1546_inb : ∀ (v10990 : BitVec 32) (k0_hw773 : k0_chk773 v10990), ∀ a, (k0_off1546 v10990) a + S1x1x1x128.size a ≤ S1x33344x1x128.size a := fun v10990 k0_hw773 => k0_hw773.2

def k0_off1547 (v11004 : BitVec 32) : Fin 4 → Nat :=
  let c0_10786 : Index := 0#32
  let v11005 : Index := Scalar.indexCast v11004
  let c0_10787 : Index := 0#32
  let c0_10788 : Index := 0#32
  ![0, v11005.toNat, 0, 0]

def k0_off1548 (v11004 : BitVec 32) : Fin 4 → Nat :=
  let c0_10792 : Index := 0#32
  let c1_i32_10791 : BitVec 32 := 1#32
  let v11011 : BitVec 32 := Scalar.addi v11004 c1_i32_10791
  let v11012 : Index := Scalar.indexCast v11011
  let c0_10793 : Index := 0#32
  let c0_10794 : Index := 0#32
  ![0, v11012.toNat, 0, 0]

def k0_chk774 (v11004 : BitVec 32) : Prop :=
  (∀ a, (k0_off1547 v11004) a + S1x1x1x128.size a ≤ S1x33344x1x128.size a) ∧
  (∀ a, (k0_off1548 v11004) a + S1x1x1x128.size a ≤ S1x33344x1x128.size a)
theorem k0_off1547_inb : ∀ (v11004 : BitVec 32) (k0_hw774 : k0_chk774 v11004), ∀ a, (k0_off1547 v11004) a + S1x1x1x128.size a ≤ S1x33344x1x128.size a := fun v11004 k0_hw774 => k0_hw774.1
theorem k0_off1548_inb : ∀ (v11004 : BitVec 32) (k0_hw774 : k0_chk774 v11004), ∀ a, (k0_off1548 v11004) a + S1x1x1x128.size a ≤ S1x33344x1x128.size a := fun v11004 k0_hw774 => k0_hw774.2

def k0_off1549 (v11018 : BitVec 32) : Fin 4 → Nat :=
  let c0_10800 : Index := 0#32
  let v11019 : Index := Scalar.indexCast v11018
  let c0_10801 : Index := 0#32
  let c0_10802 : Index := 0#32
  ![0, v11019.toNat, 0, 0]

def k0_off1550 (v11018 : BitVec 32) : Fin 4 → Nat :=
  let c0_10806 : Index := 0#32
  let c1_i32_10805 : BitVec 32 := 1#32
  let v11025 : BitVec 32 := Scalar.addi v11018 c1_i32_10805
  let v11026 : Index := Scalar.indexCast v11025
  let c0_10807 : Index := 0#32
  let c0_10808 : Index := 0#32
  ![0, v11026.toNat, 0, 0]

def k0_chk775 (v11018 : BitVec 32) : Prop :=
  (∀ a, (k0_off1549 v11018) a + S1x1x1x128.size a ≤ S1x33344x1x128.size a) ∧
  (∀ a, (k0_off1550 v11018) a + S1x1x1x128.size a ≤ S1x33344x1x128.size a)
theorem k0_off1549_inb : ∀ (v11018 : BitVec 32) (k0_hw775 : k0_chk775 v11018), ∀ a, (k0_off1549 v11018) a + S1x1x1x128.size a ≤ S1x33344x1x128.size a := fun v11018 k0_hw775 => k0_hw775.1
theorem k0_off1550_inb : ∀ (v11018 : BitVec 32) (k0_hw775 : k0_chk775 v11018), ∀ a, (k0_off1550 v11018) a + S1x1x1x128.size a ≤ S1x33344x1x128.size a := fun v11018 k0_hw775 => k0_hw775.2

def k0_off1551 (v11032 : BitVec 32) : Fin 4 → Nat :=
  let c0_10814 : Index := 0#32
  let v11033 : Index := Scalar.indexCast v11032
  let c0_10815 : Index := 0#32
  let c0_10816 : Index := 0#32
  ![0, v11033.toNat, 0, 0]

def k0_off1552 (v11032 : BitVec 32) : Fin 4 → Nat :=
  let c0_10820 : Index := 0#32
  let c1_i32_10819 : BitVec 32 := 1#32
  let v11039 : BitVec 32 := Scalar.addi v11032 c1_i32_10819
  let v11040 : Index := Scalar.indexCast v11039
  let c0_10821 : Index := 0#32
  let c0_10822 : Index := 0#32
  ![0, v11040.toNat, 0, 0]

def k0_chk776 (v11032 : BitVec 32) : Prop :=
  (∀ a, (k0_off1551 v11032) a + S1x1x1x128.size a ≤ S1x33344x1x128.size a) ∧
  (∀ a, (k0_off1552 v11032) a + S1x1x1x128.size a ≤ S1x33344x1x128.size a)
theorem k0_off1551_inb : ∀ (v11032 : BitVec 32) (k0_hw776 : k0_chk776 v11032), ∀ a, (k0_off1551 v11032) a + S1x1x1x128.size a ≤ S1x33344x1x128.size a := fun v11032 k0_hw776 => k0_hw776.1
theorem k0_off1552_inb : ∀ (v11032 : BitVec 32) (k0_hw776 : k0_chk776 v11032), ∀ a, (k0_off1552 v11032) a + S1x1x1x128.size a ≤ S1x33344x1x128.size a := fun v11032 k0_hw776 => k0_hw776.2

def k0_off1553 (v11046 : BitVec 32) : Fin 4 → Nat :=
  let c0_10828 : Index := 0#32
  let v11047 : Index := Scalar.indexCast v11046
  let c0_10829 : Index := 0#32
  let c0_10830 : Index := 0#32
  ![0, v11047.toNat, 0, 0]

def k0_off1554 (v11046 : BitVec 32) : Fin 4 → Nat :=
  let c0_10834 : Index := 0#32
  let c1_i32_10833 : BitVec 32 := 1#32
  let v11053 : BitVec 32 := Scalar.addi v11046 c1_i32_10833
  let v11054 : Index := Scalar.indexCast v11053
  let c0_10835 : Index := 0#32
  let c0_10836 : Index := 0#32
  ![0, v11054.toNat, 0, 0]

def k0_chk777 (v11046 : BitVec 32) : Prop :=
  (∀ a, (k0_off1553 v11046) a + S1x1x1x128.size a ≤ S1x33344x1x128.size a) ∧
  (∀ a, (k0_off1554 v11046) a + S1x1x1x128.size a ≤ S1x33344x1x128.size a)
theorem k0_off1553_inb : ∀ (v11046 : BitVec 32) (k0_hw777 : k0_chk777 v11046), ∀ a, (k0_off1553 v11046) a + S1x1x1x128.size a ≤ S1x33344x1x128.size a := fun v11046 k0_hw777 => k0_hw777.1
theorem k0_off1554_inb : ∀ (v11046 : BitVec 32) (k0_hw777 : k0_chk777 v11046), ∀ a, (k0_off1554 v11046) a + S1x1x1x128.size a ≤ S1x33344x1x128.size a := fun v11046 k0_hw777 => k0_hw777.2

def k0_off1555 (v11060 : BitVec 32) : Fin 4 → Nat :=
  let c0_10842 : Index := 0#32
  let v11061 : Index := Scalar.indexCast v11060
  let c0_10843 : Index := 0#32
  let c0_10844 : Index := 0#32
  ![0, v11061.toNat, 0, 0]

def k0_off1556 (v11060 : BitVec 32) : Fin 4 → Nat :=
  let c0_10848 : Index := 0#32
  let c1_i32_10847 : BitVec 32 := 1#32
  let v11067 : BitVec 32 := Scalar.addi v11060 c1_i32_10847
  let v11068 : Index := Scalar.indexCast v11067
  let c0_10849 : Index := 0#32
  let c0_10850 : Index := 0#32
  ![0, v11068.toNat, 0, 0]

def k0_chk778 (v11060 : BitVec 32) : Prop :=
  (∀ a, (k0_off1555 v11060) a + S1x1x1x128.size a ≤ S1x33344x1x128.size a) ∧
  (∀ a, (k0_off1556 v11060) a + S1x1x1x128.size a ≤ S1x33344x1x128.size a)
theorem k0_off1555_inb : ∀ (v11060 : BitVec 32) (k0_hw778 : k0_chk778 v11060), ∀ a, (k0_off1555 v11060) a + S1x1x1x128.size a ≤ S1x33344x1x128.size a := fun v11060 k0_hw778 => k0_hw778.1
theorem k0_off1556_inb : ∀ (v11060 : BitVec 32) (k0_hw778 : k0_chk778 v11060), ∀ a, (k0_off1556 v11060) a + S1x1x1x128.size a ≤ S1x33344x1x128.size a := fun v11060 k0_hw778 => k0_hw778.2

def k0_off1557 (v11074 : BitVec 32) : Fin 4 → Nat :=
  let c0_10856 : Index := 0#32
  let v11075 : Index := Scalar.indexCast v11074
  let c0_10857 : Index := 0#32
  let c0_10858 : Index := 0#32
  ![0, v11075.toNat, 0, 0]

def k0_off1558 (v11074 : BitVec 32) : Fin 4 → Nat :=
  let c0_10862 : Index := 0#32
  let c1_i32_10861 : BitVec 32 := 1#32
  let v11081 : BitVec 32 := Scalar.addi v11074 c1_i32_10861
  let v11082 : Index := Scalar.indexCast v11081
  let c0_10863 : Index := 0#32
  let c0_10864 : Index := 0#32
  ![0, v11082.toNat, 0, 0]

def k0_chk779 (v11074 : BitVec 32) : Prop :=
  (∀ a, (k0_off1557 v11074) a + S1x1x1x128.size a ≤ S1x33344x1x128.size a) ∧
  (∀ a, (k0_off1558 v11074) a + S1x1x1x128.size a ≤ S1x33344x1x128.size a)
theorem k0_off1557_inb : ∀ (v11074 : BitVec 32) (k0_hw779 : k0_chk779 v11074), ∀ a, (k0_off1557 v11074) a + S1x1x1x128.size a ≤ S1x33344x1x128.size a := fun v11074 k0_hw779 => k0_hw779.1
theorem k0_off1558_inb : ∀ (v11074 : BitVec 32) (k0_hw779 : k0_chk779 v11074), ∀ a, (k0_off1558 v11074) a + S1x1x1x128.size a ≤ S1x33344x1x128.size a := fun v11074 k0_hw779 => k0_hw779.2

def k0_off1559 (v11088 : BitVec 32) : Fin 4 → Nat :=
  let c0_10870 : Index := 0#32
  let v11089 : Index := Scalar.indexCast v11088
  let c0_10871 : Index := 0#32
  let c0_10872 : Index := 0#32
  ![0, v11089.toNat, 0, 0]

def k0_off1560 (v11088 : BitVec 32) : Fin 4 → Nat :=
  let c0_10876 : Index := 0#32
  let c1_i32_10875 : BitVec 32 := 1#32
  let v11095 : BitVec 32 := Scalar.addi v11088 c1_i32_10875
  let v11096 : Index := Scalar.indexCast v11095
  let c0_10877 : Index := 0#32
  let c0_10878 : Index := 0#32
  ![0, v11096.toNat, 0, 0]

def k0_chk780 (v11088 : BitVec 32) : Prop :=
  (∀ a, (k0_off1559 v11088) a + S1x1x1x128.size a ≤ S1x33344x1x128.size a) ∧
  (∀ a, (k0_off1560 v11088) a + S1x1x1x128.size a ≤ S1x33344x1x128.size a)
theorem k0_off1559_inb : ∀ (v11088 : BitVec 32) (k0_hw780 : k0_chk780 v11088), ∀ a, (k0_off1559 v11088) a + S1x1x1x128.size a ≤ S1x33344x1x128.size a := fun v11088 k0_hw780 => k0_hw780.1
theorem k0_off1560_inb : ∀ (v11088 : BitVec 32) (k0_hw780 : k0_chk780 v11088), ∀ a, (k0_off1560 v11088) a + S1x1x1x128.size a ≤ S1x33344x1x128.size a := fun v11088 k0_hw780 => k0_hw780.2

def k0_off1561 (v11102 : BitVec 32) : Fin 4 → Nat :=
  let c0_10884 : Index := 0#32
  let v11103 : Index := Scalar.indexCast v11102
  let c0_10885 : Index := 0#32
  let c0_10886 : Index := 0#32
  ![0, v11103.toNat, 0, 0]

def k0_off1562 (v11102 : BitVec 32) : Fin 4 → Nat :=
  let c0_10890 : Index := 0#32
  let c1_i32_10889 : BitVec 32 := 1#32
  let v11109 : BitVec 32 := Scalar.addi v11102 c1_i32_10889
  let v11110 : Index := Scalar.indexCast v11109
  let c0_10891 : Index := 0#32
  let c0_10892 : Index := 0#32
  ![0, v11110.toNat, 0, 0]

def k0_chk781 (v11102 : BitVec 32) : Prop :=
  (∀ a, (k0_off1561 v11102) a + S1x1x1x128.size a ≤ S1x33344x1x128.size a) ∧
  (∀ a, (k0_off1562 v11102) a + S1x1x1x128.size a ≤ S1x33344x1x128.size a)
theorem k0_off1561_inb : ∀ (v11102 : BitVec 32) (k0_hw781 : k0_chk781 v11102), ∀ a, (k0_off1561 v11102) a + S1x1x1x128.size a ≤ S1x33344x1x128.size a := fun v11102 k0_hw781 => k0_hw781.1
theorem k0_off1562_inb : ∀ (v11102 : BitVec 32) (k0_hw781 : k0_chk781 v11102), ∀ a, (k0_off1562 v11102) a + S1x1x1x128.size a ≤ S1x33344x1x128.size a := fun v11102 k0_hw781 => k0_hw781.2

def k0_off1563 (v11116 : BitVec 32) : Fin 4 → Nat :=
  let c0_10898 : Index := 0#32
  let v11117 : Index := Scalar.indexCast v11116
  let c0_10899 : Index := 0#32
  let c0_10900 : Index := 0#32
  ![0, v11117.toNat, 0, 0]

def k0_off1564 (v11116 : BitVec 32) : Fin 4 → Nat :=
  let c0_10904 : Index := 0#32
  let c1_i32_10903 : BitVec 32 := 1#32
  let v11123 : BitVec 32 := Scalar.addi v11116 c1_i32_10903
  let v11124 : Index := Scalar.indexCast v11123
  let c0_10905 : Index := 0#32
  let c0_10906 : Index := 0#32
  ![0, v11124.toNat, 0, 0]

def k0_chk782 (v11116 : BitVec 32) : Prop :=
  (∀ a, (k0_off1563 v11116) a + S1x1x1x128.size a ≤ S1x33344x1x128.size a) ∧
  (∀ a, (k0_off1564 v11116) a + S1x1x1x128.size a ≤ S1x33344x1x128.size a)
theorem k0_off1563_inb : ∀ (v11116 : BitVec 32) (k0_hw782 : k0_chk782 v11116), ∀ a, (k0_off1563 v11116) a + S1x1x1x128.size a ≤ S1x33344x1x128.size a := fun v11116 k0_hw782 => k0_hw782.1
theorem k0_off1564_inb : ∀ (v11116 : BitVec 32) (k0_hw782 : k0_chk782 v11116), ∀ a, (k0_off1564 v11116) a + S1x1x1x128.size a ≤ S1x33344x1x128.size a := fun v11116 k0_hw782 => k0_hw782.2

def k0_off1565 (v11130 : BitVec 32) : Fin 4 → Nat :=
  let c0_10912 : Index := 0#32
  let v11131 : Index := Scalar.indexCast v11130
  let c0_10913 : Index := 0#32
  let c0_10914 : Index := 0#32
  ![0, v11131.toNat, 0, 0]

def k0_off1566 (v11130 : BitVec 32) : Fin 4 → Nat :=
  let c0_10918 : Index := 0#32
  let c1_i32_10917 : BitVec 32 := 1#32
  let v11137 : BitVec 32 := Scalar.addi v11130 c1_i32_10917
  let v11138 : Index := Scalar.indexCast v11137
  let c0_10919 : Index := 0#32
  let c0_10920 : Index := 0#32
  ![0, v11138.toNat, 0, 0]

def k0_chk783 (v11130 : BitVec 32) : Prop :=
  (∀ a, (k0_off1565 v11130) a + S1x1x1x128.size a ≤ S1x33344x1x128.size a) ∧
  (∀ a, (k0_off1566 v11130) a + S1x1x1x128.size a ≤ S1x33344x1x128.size a)
theorem k0_off1565_inb : ∀ (v11130 : BitVec 32) (k0_hw783 : k0_chk783 v11130), ∀ a, (k0_off1565 v11130) a + S1x1x1x128.size a ≤ S1x33344x1x128.size a := fun v11130 k0_hw783 => k0_hw783.1
theorem k0_off1566_inb : ∀ (v11130 : BitVec 32) (k0_hw783 : k0_chk783 v11130), ∀ a, (k0_off1566 v11130) a + S1x1x1x128.size a ≤ S1x33344x1x128.size a := fun v11130 k0_hw783 => k0_hw783.2

def k0_off1567 (v11144 : BitVec 32) : Fin 4 → Nat :=
  let c0_10926 : Index := 0#32
  let v11145 : Index := Scalar.indexCast v11144
  let c0_10927 : Index := 0#32
  let c0_10928 : Index := 0#32
  ![0, v11145.toNat, 0, 0]

def k0_off1568 (v11144 : BitVec 32) : Fin 4 → Nat :=
  let c0_10932 : Index := 0#32
  let c1_i32_10931 : BitVec 32 := 1#32
  let v11151 : BitVec 32 := Scalar.addi v11144 c1_i32_10931
  let v11152 : Index := Scalar.indexCast v11151
  let c0_10933 : Index := 0#32
  let c0_10934 : Index := 0#32
  ![0, v11152.toNat, 0, 0]

def k0_chk784 (v11144 : BitVec 32) : Prop :=
  (∀ a, (k0_off1567 v11144) a + S1x1x1x128.size a ≤ S1x33344x1x128.size a) ∧
  (∀ a, (k0_off1568 v11144) a + S1x1x1x128.size a ≤ S1x33344x1x128.size a)
theorem k0_off1567_inb : ∀ (v11144 : BitVec 32) (k0_hw784 : k0_chk784 v11144), ∀ a, (k0_off1567 v11144) a + S1x1x1x128.size a ≤ S1x33344x1x128.size a := fun v11144 k0_hw784 => k0_hw784.1
theorem k0_off1568_inb : ∀ (v11144 : BitVec 32) (k0_hw784 : k0_chk784 v11144), ∀ a, (k0_off1568 v11144) a + S1x1x1x128.size a ≤ S1x33344x1x128.size a := fun v11144 k0_hw784 => k0_hw784.2

def k0_off1569 (v11158 : BitVec 32) : Fin 4 → Nat :=
  let c0_10940 : Index := 0#32
  let v11159 : Index := Scalar.indexCast v11158
  let c0_10941 : Index := 0#32
  let c0_10942 : Index := 0#32
  ![0, v11159.toNat, 0, 0]

def k0_off1570 (v11158 : BitVec 32) : Fin 4 → Nat :=
  let c0_10946 : Index := 0#32
  let c1_i32_10945 : BitVec 32 := 1#32
  let v11165 : BitVec 32 := Scalar.addi v11158 c1_i32_10945
  let v11166 : Index := Scalar.indexCast v11165
  let c0_10947 : Index := 0#32
  let c0_10948 : Index := 0#32
  ![0, v11166.toNat, 0, 0]

def k0_chk785 (v11158 : BitVec 32) : Prop :=
  (∀ a, (k0_off1569 v11158) a + S1x1x1x128.size a ≤ S1x33344x1x128.size a) ∧
  (∀ a, (k0_off1570 v11158) a + S1x1x1x128.size a ≤ S1x33344x1x128.size a)
theorem k0_off1569_inb : ∀ (v11158 : BitVec 32) (k0_hw785 : k0_chk785 v11158), ∀ a, (k0_off1569 v11158) a + S1x1x1x128.size a ≤ S1x33344x1x128.size a := fun v11158 k0_hw785 => k0_hw785.1
theorem k0_off1570_inb : ∀ (v11158 : BitVec 32) (k0_hw785 : k0_chk785 v11158), ∀ a, (k0_off1570 v11158) a + S1x1x1x128.size a ≤ S1x33344x1x128.size a := fun v11158 k0_hw785 => k0_hw785.2

def k0_off1571 (v11172 : BitVec 32) : Fin 4 → Nat :=
  let c0_10954 : Index := 0#32
  let v11173 : Index := Scalar.indexCast v11172
  let c0_10955 : Index := 0#32
  let c0_10956 : Index := 0#32
  ![0, v11173.toNat, 0, 0]

def k0_off1572 (v11172 : BitVec 32) : Fin 4 → Nat :=
  let c0_10960 : Index := 0#32
  let c1_i32_10959 : BitVec 32 := 1#32
  let v11179 : BitVec 32 := Scalar.addi v11172 c1_i32_10959
  let v11180 : Index := Scalar.indexCast v11179
  let c0_10961 : Index := 0#32
  let c0_10962 : Index := 0#32
  ![0, v11180.toNat, 0, 0]

def k0_chk786 (v11172 : BitVec 32) : Prop :=
  (∀ a, (k0_off1571 v11172) a + S1x1x1x128.size a ≤ S1x33344x1x128.size a) ∧
  (∀ a, (k0_off1572 v11172) a + S1x1x1x128.size a ≤ S1x33344x1x128.size a)
theorem k0_off1571_inb : ∀ (v11172 : BitVec 32) (k0_hw786 : k0_chk786 v11172), ∀ a, (k0_off1571 v11172) a + S1x1x1x128.size a ≤ S1x33344x1x128.size a := fun v11172 k0_hw786 => k0_hw786.1
theorem k0_off1572_inb : ∀ (v11172 : BitVec 32) (k0_hw786 : k0_chk786 v11172), ∀ a, (k0_off1572 v11172) a + S1x1x1x128.size a ≤ S1x33344x1x128.size a := fun v11172 k0_hw786 => k0_hw786.2

def k0_off1573 (v11186 : BitVec 32) : Fin 4 → Nat :=
  let c0_10968 : Index := 0#32
  let v11187 : Index := Scalar.indexCast v11186
  let c0_10969 : Index := 0#32
  let c0_10970 : Index := 0#32
  ![0, v11187.toNat, 0, 0]

def k0_off1574 (v11186 : BitVec 32) : Fin 4 → Nat :=
  let c0_10974 : Index := 0#32
  let c1_i32_10973 : BitVec 32 := 1#32
  let v11193 : BitVec 32 := Scalar.addi v11186 c1_i32_10973
  let v11194 : Index := Scalar.indexCast v11193
  let c0_10975 : Index := 0#32
  let c0_10976 : Index := 0#32
  ![0, v11194.toNat, 0, 0]

def k0_chk787 (v11186 : BitVec 32) : Prop :=
  (∀ a, (k0_off1573 v11186) a + S1x1x1x128.size a ≤ S1x33344x1x128.size a) ∧
  (∀ a, (k0_off1574 v11186) a + S1x1x1x128.size a ≤ S1x33344x1x128.size a)
theorem k0_off1573_inb : ∀ (v11186 : BitVec 32) (k0_hw787 : k0_chk787 v11186), ∀ a, (k0_off1573 v11186) a + S1x1x1x128.size a ≤ S1x33344x1x128.size a := fun v11186 k0_hw787 => k0_hw787.1
theorem k0_off1574_inb : ∀ (v11186 : BitVec 32) (k0_hw787 : k0_chk787 v11186), ∀ a, (k0_off1574 v11186) a + S1x1x1x128.size a ≤ S1x33344x1x128.size a := fun v11186 k0_hw787 => k0_hw787.2

def k0_off1575 (v11200 : BitVec 32) : Fin 4 → Nat :=
  let c0_10982 : Index := 0#32
  let v11201 : Index := Scalar.indexCast v11200
  let c0_10983 : Index := 0#32
  let c0_10984 : Index := 0#32
  ![0, v11201.toNat, 0, 0]

def k0_off1576 (v11200 : BitVec 32) : Fin 4 → Nat :=
  let c0_10988 : Index := 0#32
  let c1_i32_10987 : BitVec 32 := 1#32
  let v11207 : BitVec 32 := Scalar.addi v11200 c1_i32_10987
  let v11208 : Index := Scalar.indexCast v11207
  let c0_10989 : Index := 0#32
  let c0_10990 : Index := 0#32
  ![0, v11208.toNat, 0, 0]

def k0_chk788 (v11200 : BitVec 32) : Prop :=
  (∀ a, (k0_off1575 v11200) a + S1x1x1x128.size a ≤ S1x33344x1x128.size a) ∧
  (∀ a, (k0_off1576 v11200) a + S1x1x1x128.size a ≤ S1x33344x1x128.size a)
theorem k0_off1575_inb : ∀ (v11200 : BitVec 32) (k0_hw788 : k0_chk788 v11200), ∀ a, (k0_off1575 v11200) a + S1x1x1x128.size a ≤ S1x33344x1x128.size a := fun v11200 k0_hw788 => k0_hw788.1
theorem k0_off1576_inb : ∀ (v11200 : BitVec 32) (k0_hw788 : k0_chk788 v11200), ∀ a, (k0_off1576 v11200) a + S1x1x1x128.size a ≤ S1x33344x1x128.size a := fun v11200 k0_hw788 => k0_hw788.2

def k0_off1577 (v11214 : BitVec 32) : Fin 4 → Nat :=
  let c0_10996 : Index := 0#32
  let v11215 : Index := Scalar.indexCast v11214
  let c0_10997 : Index := 0#32
  let c0_10998 : Index := 0#32
  ![0, v11215.toNat, 0, 0]

def k0_off1578 (v11214 : BitVec 32) : Fin 4 → Nat :=
  let c0_11002 : Index := 0#32
  let c1_i32_11001 : BitVec 32 := 1#32
  let v11221 : BitVec 32 := Scalar.addi v11214 c1_i32_11001
  let v11222 : Index := Scalar.indexCast v11221
  let c0_11003 : Index := 0#32
  let c0_11004 : Index := 0#32
  ![0, v11222.toNat, 0, 0]

def k0_chk789 (v11214 : BitVec 32) : Prop :=
  (∀ a, (k0_off1577 v11214) a + S1x1x1x128.size a ≤ S1x33344x1x128.size a) ∧
  (∀ a, (k0_off1578 v11214) a + S1x1x1x128.size a ≤ S1x33344x1x128.size a)
theorem k0_off1577_inb : ∀ (v11214 : BitVec 32) (k0_hw789 : k0_chk789 v11214), ∀ a, (k0_off1577 v11214) a + S1x1x1x128.size a ≤ S1x33344x1x128.size a := fun v11214 k0_hw789 => k0_hw789.1
theorem k0_off1578_inb : ∀ (v11214 : BitVec 32) (k0_hw789 : k0_chk789 v11214), ∀ a, (k0_off1578 v11214) a + S1x1x1x128.size a ≤ S1x33344x1x128.size a := fun v11214 k0_hw789 => k0_hw789.2

def k0_off1579 (v11228 : BitVec 32) : Fin 4 → Nat :=
  let c0_11010 : Index := 0#32
  let v11229 : Index := Scalar.indexCast v11228
  let c0_11011 : Index := 0#32
  let c0_11012 : Index := 0#32
  ![0, v11229.toNat, 0, 0]

def k0_off1580 (v11228 : BitVec 32) : Fin 4 → Nat :=
  let c0_11016 : Index := 0#32
  let c1_i32_11015 : BitVec 32 := 1#32
  let v11235 : BitVec 32 := Scalar.addi v11228 c1_i32_11015
  let v11236 : Index := Scalar.indexCast v11235
  let c0_11017 : Index := 0#32
  let c0_11018 : Index := 0#32
  ![0, v11236.toNat, 0, 0]

def k0_chk790 (v11228 : BitVec 32) : Prop :=
  (∀ a, (k0_off1579 v11228) a + S1x1x1x128.size a ≤ S1x33344x1x128.size a) ∧
  (∀ a, (k0_off1580 v11228) a + S1x1x1x128.size a ≤ S1x33344x1x128.size a)
theorem k0_off1579_inb : ∀ (v11228 : BitVec 32) (k0_hw790 : k0_chk790 v11228), ∀ a, (k0_off1579 v11228) a + S1x1x1x128.size a ≤ S1x33344x1x128.size a := fun v11228 k0_hw790 => k0_hw790.1
theorem k0_off1580_inb : ∀ (v11228 : BitVec 32) (k0_hw790 : k0_chk790 v11228), ∀ a, (k0_off1580 v11228) a + S1x1x1x128.size a ≤ S1x33344x1x128.size a := fun v11228 k0_hw790 => k0_hw790.2

def k0_off1581 (v11242 : BitVec 32) : Fin 4 → Nat :=
  let c0_11024 : Index := 0#32
  let v11243 : Index := Scalar.indexCast v11242
  let c0_11025 : Index := 0#32
  let c0_11026 : Index := 0#32
  ![0, v11243.toNat, 0, 0]

def k0_off1582 (v11242 : BitVec 32) : Fin 4 → Nat :=
  let c0_11030 : Index := 0#32
  let c1_i32_11029 : BitVec 32 := 1#32
  let v11249 : BitVec 32 := Scalar.addi v11242 c1_i32_11029
  let v11250 : Index := Scalar.indexCast v11249
  let c0_11031 : Index := 0#32
  let c0_11032 : Index := 0#32
  ![0, v11250.toNat, 0, 0]

def k0_chk791 (v11242 : BitVec 32) : Prop :=
  (∀ a, (k0_off1581 v11242) a + S1x1x1x128.size a ≤ S1x33344x1x128.size a) ∧
  (∀ a, (k0_off1582 v11242) a + S1x1x1x128.size a ≤ S1x33344x1x128.size a)
theorem k0_off1581_inb : ∀ (v11242 : BitVec 32) (k0_hw791 : k0_chk791 v11242), ∀ a, (k0_off1581 v11242) a + S1x1x1x128.size a ≤ S1x33344x1x128.size a := fun v11242 k0_hw791 => k0_hw791.1
theorem k0_off1582_inb : ∀ (v11242 : BitVec 32) (k0_hw791 : k0_chk791 v11242), ∀ a, (k0_off1582 v11242) a + S1x1x1x128.size a ≤ S1x33344x1x128.size a := fun v11242 k0_hw791 => k0_hw791.2

def k0_off1583 (v11256 : BitVec 32) : Fin 4 → Nat :=
  let c0_11038 : Index := 0#32
  let v11257 : Index := Scalar.indexCast v11256
  let c0_11039 : Index := 0#32
  let c0_11040 : Index := 0#32
  ![0, v11257.toNat, 0, 0]

def k0_off1584 (v11256 : BitVec 32) : Fin 4 → Nat :=
  let c0_11044 : Index := 0#32
  let c1_i32_11043 : BitVec 32 := 1#32
  let v11263 : BitVec 32 := Scalar.addi v11256 c1_i32_11043
  let v11264 : Index := Scalar.indexCast v11263
  let c0_11045 : Index := 0#32
  let c0_11046 : Index := 0#32
  ![0, v11264.toNat, 0, 0]

def k0_chk792 (v11256 : BitVec 32) : Prop :=
  (∀ a, (k0_off1583 v11256) a + S1x1x1x128.size a ≤ S1x33344x1x128.size a) ∧
  (∀ a, (k0_off1584 v11256) a + S1x1x1x128.size a ≤ S1x33344x1x128.size a)
theorem k0_off1583_inb : ∀ (v11256 : BitVec 32) (k0_hw792 : k0_chk792 v11256), ∀ a, (k0_off1583 v11256) a + S1x1x1x128.size a ≤ S1x33344x1x128.size a := fun v11256 k0_hw792 => k0_hw792.1
theorem k0_off1584_inb : ∀ (v11256 : BitVec 32) (k0_hw792 : k0_chk792 v11256), ∀ a, (k0_off1584 v11256) a + S1x1x1x128.size a ≤ S1x33344x1x128.size a := fun v11256 k0_hw792 => k0_hw792.2

def k0_off1585 (v11270 : BitVec 32) : Fin 4 → Nat :=
  let c0_11052 : Index := 0#32
  let v11271 : Index := Scalar.indexCast v11270
  let c0_11053 : Index := 0#32
  let c0_11054 : Index := 0#32
  ![0, v11271.toNat, 0, 0]

def k0_off1586 (v11270 : BitVec 32) : Fin 4 → Nat :=
  let c0_11058 : Index := 0#32
  let c1_i32_11057 : BitVec 32 := 1#32
  let v11277 : BitVec 32 := Scalar.addi v11270 c1_i32_11057
  let v11278 : Index := Scalar.indexCast v11277
  let c0_11059 : Index := 0#32
  let c0_11060 : Index := 0#32
  ![0, v11278.toNat, 0, 0]

def k0_chk793 (v11270 : BitVec 32) : Prop :=
  (∀ a, (k0_off1585 v11270) a + S1x1x1x128.size a ≤ S1x33344x1x128.size a) ∧
  (∀ a, (k0_off1586 v11270) a + S1x1x1x128.size a ≤ S1x33344x1x128.size a)
theorem k0_off1585_inb : ∀ (v11270 : BitVec 32) (k0_hw793 : k0_chk793 v11270), ∀ a, (k0_off1585 v11270) a + S1x1x1x128.size a ≤ S1x33344x1x128.size a := fun v11270 k0_hw793 => k0_hw793.1
theorem k0_off1586_inb : ∀ (v11270 : BitVec 32) (k0_hw793 : k0_chk793 v11270), ∀ a, (k0_off1586 v11270) a + S1x1x1x128.size a ≤ S1x33344x1x128.size a := fun v11270 k0_hw793 => k0_hw793.2

def k0_off1587 (v11284 : BitVec 32) : Fin 4 → Nat :=
  let c0_11066 : Index := 0#32
  let v11285 : Index := Scalar.indexCast v11284
  let c0_11067 : Index := 0#32
  let c0_11068 : Index := 0#32
  ![0, v11285.toNat, 0, 0]

def k0_off1588 (v11284 : BitVec 32) : Fin 4 → Nat :=
  let c0_11072 : Index := 0#32
  let c1_i32_11071 : BitVec 32 := 1#32
  let v11291 : BitVec 32 := Scalar.addi v11284 c1_i32_11071
  let v11292 : Index := Scalar.indexCast v11291
  let c0_11073 : Index := 0#32
  let c0_11074 : Index := 0#32
  ![0, v11292.toNat, 0, 0]

def k0_chk794 (v11284 : BitVec 32) : Prop :=
  (∀ a, (k0_off1587 v11284) a + S1x1x1x128.size a ≤ S1x33344x1x128.size a) ∧
  (∀ a, (k0_off1588 v11284) a + S1x1x1x128.size a ≤ S1x33344x1x128.size a)
theorem k0_off1587_inb : ∀ (v11284 : BitVec 32) (k0_hw794 : k0_chk794 v11284), ∀ a, (k0_off1587 v11284) a + S1x1x1x128.size a ≤ S1x33344x1x128.size a := fun v11284 k0_hw794 => k0_hw794.1
theorem k0_off1588_inb : ∀ (v11284 : BitVec 32) (k0_hw794 : k0_chk794 v11284), ∀ a, (k0_off1588 v11284) a + S1x1x1x128.size a ≤ S1x33344x1x128.size a := fun v11284 k0_hw794 => k0_hw794.2

def k0_off1589 (v11298 : BitVec 32) : Fin 4 → Nat :=
  let c0_11080 : Index := 0#32
  let v11299 : Index := Scalar.indexCast v11298
  let c0_11081 : Index := 0#32
  let c0_11082 : Index := 0#32
  ![0, v11299.toNat, 0, 0]

def k0_off1590 (v11298 : BitVec 32) : Fin 4 → Nat :=
  let c0_11086 : Index := 0#32
  let c1_i32_11085 : BitVec 32 := 1#32
  let v11305 : BitVec 32 := Scalar.addi v11298 c1_i32_11085
  let v11306 : Index := Scalar.indexCast v11305
  let c0_11087 : Index := 0#32
  let c0_11088 : Index := 0#32
  ![0, v11306.toNat, 0, 0]

def k0_chk795 (v11298 : BitVec 32) : Prop :=
  (∀ a, (k0_off1589 v11298) a + S1x1x1x128.size a ≤ S1x33344x1x128.size a) ∧
  (∀ a, (k0_off1590 v11298) a + S1x1x1x128.size a ≤ S1x33344x1x128.size a)
theorem k0_off1589_inb : ∀ (v11298 : BitVec 32) (k0_hw795 : k0_chk795 v11298), ∀ a, (k0_off1589 v11298) a + S1x1x1x128.size a ≤ S1x33344x1x128.size a := fun v11298 k0_hw795 => k0_hw795.1
theorem k0_off1590_inb : ∀ (v11298 : BitVec 32) (k0_hw795 : k0_chk795 v11298), ∀ a, (k0_off1590 v11298) a + S1x1x1x128.size a ≤ S1x33344x1x128.size a := fun v11298 k0_hw795 => k0_hw795.2

def k0_off1591 (v11312 : BitVec 32) : Fin 4 → Nat :=
  let c0_11094 : Index := 0#32
  let v11313 : Index := Scalar.indexCast v11312
  let c0_11095 : Index := 0#32
  let c0_11096 : Index := 0#32
  ![0, v11313.toNat, 0, 0]

def k0_off1592 (v11312 : BitVec 32) : Fin 4 → Nat :=
  let c0_11100 : Index := 0#32
  let c1_i32_11099 : BitVec 32 := 1#32
  let v11319 : BitVec 32 := Scalar.addi v11312 c1_i32_11099
  let v11320 : Index := Scalar.indexCast v11319
  let c0_11101 : Index := 0#32
  let c0_11102 : Index := 0#32
  ![0, v11320.toNat, 0, 0]

def k0_chk796 (v11312 : BitVec 32) : Prop :=
  (∀ a, (k0_off1591 v11312) a + S1x1x1x128.size a ≤ S1x33344x1x128.size a) ∧
  (∀ a, (k0_off1592 v11312) a + S1x1x1x128.size a ≤ S1x33344x1x128.size a)
theorem k0_off1591_inb : ∀ (v11312 : BitVec 32) (k0_hw796 : k0_chk796 v11312), ∀ a, (k0_off1591 v11312) a + S1x1x1x128.size a ≤ S1x33344x1x128.size a := fun v11312 k0_hw796 => k0_hw796.1
theorem k0_off1592_inb : ∀ (v11312 : BitVec 32) (k0_hw796 : k0_chk796 v11312), ∀ a, (k0_off1592 v11312) a + S1x1x1x128.size a ≤ S1x33344x1x128.size a := fun v11312 k0_hw796 => k0_hw796.2

def k0_off1593 (v11326 : BitVec 32) : Fin 4 → Nat :=
  let c0_11108 : Index := 0#32
  let v11327 : Index := Scalar.indexCast v11326
  let c0_11109 : Index := 0#32
  let c0_11110 : Index := 0#32
  ![0, v11327.toNat, 0, 0]

def k0_off1594 (v11326 : BitVec 32) : Fin 4 → Nat :=
  let c0_11114 : Index := 0#32
  let c1_i32_11113 : BitVec 32 := 1#32
  let v11333 : BitVec 32 := Scalar.addi v11326 c1_i32_11113
  let v11334 : Index := Scalar.indexCast v11333
  let c0_11115 : Index := 0#32
  let c0_11116 : Index := 0#32
  ![0, v11334.toNat, 0, 0]

def k0_chk797 (v11326 : BitVec 32) : Prop :=
  (∀ a, (k0_off1593 v11326) a + S1x1x1x128.size a ≤ S1x33344x1x128.size a) ∧
  (∀ a, (k0_off1594 v11326) a + S1x1x1x128.size a ≤ S1x33344x1x128.size a)
theorem k0_off1593_inb : ∀ (v11326 : BitVec 32) (k0_hw797 : k0_chk797 v11326), ∀ a, (k0_off1593 v11326) a + S1x1x1x128.size a ≤ S1x33344x1x128.size a := fun v11326 k0_hw797 => k0_hw797.1
theorem k0_off1594_inb : ∀ (v11326 : BitVec 32) (k0_hw797 : k0_chk797 v11326), ∀ a, (k0_off1594 v11326) a + S1x1x1x128.size a ≤ S1x33344x1x128.size a := fun v11326 k0_hw797 => k0_hw797.2

def k0_off1595 (v11340 : BitVec 32) : Fin 4 → Nat :=
  let c0_11122 : Index := 0#32
  let v11341 : Index := Scalar.indexCast v11340
  let c0_11123 : Index := 0#32
  let c0_11124 : Index := 0#32
  ![0, v11341.toNat, 0, 0]

def k0_off1596 (v11340 : BitVec 32) : Fin 4 → Nat :=
  let c0_11128 : Index := 0#32
  let c1_i32_11127 : BitVec 32 := 1#32
  let v11347 : BitVec 32 := Scalar.addi v11340 c1_i32_11127
  let v11348 : Index := Scalar.indexCast v11347
  let c0_11129 : Index := 0#32
  let c0_11130 : Index := 0#32
  ![0, v11348.toNat, 0, 0]

def k0_chk798 (v11340 : BitVec 32) : Prop :=
  (∀ a, (k0_off1595 v11340) a + S1x1x1x128.size a ≤ S1x33344x1x128.size a) ∧
  (∀ a, (k0_off1596 v11340) a + S1x1x1x128.size a ≤ S1x33344x1x128.size a)
theorem k0_off1595_inb : ∀ (v11340 : BitVec 32) (k0_hw798 : k0_chk798 v11340), ∀ a, (k0_off1595 v11340) a + S1x1x1x128.size a ≤ S1x33344x1x128.size a := fun v11340 k0_hw798 => k0_hw798.1
theorem k0_off1596_inb : ∀ (v11340 : BitVec 32) (k0_hw798 : k0_chk798 v11340), ∀ a, (k0_off1596 v11340) a + S1x1x1x128.size a ≤ S1x33344x1x128.size a := fun v11340 k0_hw798 => k0_hw798.2

def k0_off1597 (v11354 : BitVec 32) : Fin 4 → Nat :=
  let c0_11136 : Index := 0#32
  let v11355 : Index := Scalar.indexCast v11354
  let c0_11137 : Index := 0#32
  let c0_11138 : Index := 0#32
  ![0, v11355.toNat, 0, 0]

def k0_off1598 (v11354 : BitVec 32) : Fin 4 → Nat :=
  let c0_11142 : Index := 0#32
  let c1_i32_11141 : BitVec 32 := 1#32
  let v11361 : BitVec 32 := Scalar.addi v11354 c1_i32_11141
  let v11362 : Index := Scalar.indexCast v11361
  let c0_11143 : Index := 0#32
  let c0_11144 : Index := 0#32
  ![0, v11362.toNat, 0, 0]

def k0_chk799 (v11354 : BitVec 32) : Prop :=
  (∀ a, (k0_off1597 v11354) a + S1x1x1x128.size a ≤ S1x33344x1x128.size a) ∧
  (∀ a, (k0_off1598 v11354) a + S1x1x1x128.size a ≤ S1x33344x1x128.size a)
theorem k0_off1597_inb : ∀ (v11354 : BitVec 32) (k0_hw799 : k0_chk799 v11354), ∀ a, (k0_off1597 v11354) a + S1x1x1x128.size a ≤ S1x33344x1x128.size a := fun v11354 k0_hw799 => k0_hw799.1
theorem k0_off1598_inb : ∀ (v11354 : BitVec 32) (k0_hw799 : k0_chk799 v11354), ∀ a, (k0_off1598 v11354) a + S1x1x1x128.size a ≤ S1x33344x1x128.size a := fun v11354 k0_hw799 => k0_hw799.2

def k0_off1599 (v11368 : BitVec 32) : Fin 4 → Nat :=
  let c0_11150 : Index := 0#32
  let v11369 : Index := Scalar.indexCast v11368
  let c0_11151 : Index := 0#32
  let c0_11152 : Index := 0#32
  ![0, v11369.toNat, 0, 0]

def k0_off1600 (v11368 : BitVec 32) : Fin 4 → Nat :=
  let c0_11156 : Index := 0#32
  let c1_i32_11155 : BitVec 32 := 1#32
  let v11375 : BitVec 32 := Scalar.addi v11368 c1_i32_11155
  let v11376 : Index := Scalar.indexCast v11375
  let c0_11157 : Index := 0#32
  let c0_11158 : Index := 0#32
  ![0, v11376.toNat, 0, 0]

def k0_chk800 (v11368 : BitVec 32) : Prop :=
  (∀ a, (k0_off1599 v11368) a + S1x1x1x128.size a ≤ S1x33344x1x128.size a) ∧
  (∀ a, (k0_off1600 v11368) a + S1x1x1x128.size a ≤ S1x33344x1x128.size a)
theorem k0_off1599_inb : ∀ (v11368 : BitVec 32) (k0_hw800 : k0_chk800 v11368), ∀ a, (k0_off1599 v11368) a + S1x1x1x128.size a ≤ S1x33344x1x128.size a := fun v11368 k0_hw800 => k0_hw800.1
theorem k0_off1600_inb : ∀ (v11368 : BitVec 32) (k0_hw800 : k0_chk800 v11368), ∀ a, (k0_off1600 v11368) a + S1x1x1x128.size a ≤ S1x33344x1x128.size a := fun v11368 k0_hw800 => k0_hw800.2

def k0_off1601 (v11382 : BitVec 32) : Fin 4 → Nat :=
  let c0_11164 : Index := 0#32
  let v11383 : Index := Scalar.indexCast v11382
  let c0_11165 : Index := 0#32
  let c0_11166 : Index := 0#32
  ![0, v11383.toNat, 0, 0]

def k0_off1602 (v11382 : BitVec 32) : Fin 4 → Nat :=
  let c0_11170 : Index := 0#32
  let c1_i32_11169 : BitVec 32 := 1#32
  let v11389 : BitVec 32 := Scalar.addi v11382 c1_i32_11169
  let v11390 : Index := Scalar.indexCast v11389
  let c0_11171 : Index := 0#32
  let c0_11172 : Index := 0#32
  ![0, v11390.toNat, 0, 0]

def k0_chk801 (v11382 : BitVec 32) : Prop :=
  (∀ a, (k0_off1601 v11382) a + S1x1x1x128.size a ≤ S1x33344x1x128.size a) ∧
  (∀ a, (k0_off1602 v11382) a + S1x1x1x128.size a ≤ S1x33344x1x128.size a)
theorem k0_off1601_inb : ∀ (v11382 : BitVec 32) (k0_hw801 : k0_chk801 v11382), ∀ a, (k0_off1601 v11382) a + S1x1x1x128.size a ≤ S1x33344x1x128.size a := fun v11382 k0_hw801 => k0_hw801.1
theorem k0_off1602_inb : ∀ (v11382 : BitVec 32) (k0_hw801 : k0_chk801 v11382), ∀ a, (k0_off1602 v11382) a + S1x1x1x128.size a ≤ S1x33344x1x128.size a := fun v11382 k0_hw801 => k0_hw801.2

def k0_off1603 (v11396 : BitVec 32) : Fin 4 → Nat :=
  let c0_11178 : Index := 0#32
  let v11397 : Index := Scalar.indexCast v11396
  let c0_11179 : Index := 0#32
  let c0_11180 : Index := 0#32
  ![0, v11397.toNat, 0, 0]

def k0_off1604 (v11396 : BitVec 32) : Fin 4 → Nat :=
  let c0_11184 : Index := 0#32
  let c1_i32_11183 : BitVec 32 := 1#32
  let v11403 : BitVec 32 := Scalar.addi v11396 c1_i32_11183
  let v11404 : Index := Scalar.indexCast v11403
  let c0_11185 : Index := 0#32
  let c0_11186 : Index := 0#32
  ![0, v11404.toNat, 0, 0]

def k0_chk802 (v11396 : BitVec 32) : Prop :=
  (∀ a, (k0_off1603 v11396) a + S1x1x1x128.size a ≤ S1x33344x1x128.size a) ∧
  (∀ a, (k0_off1604 v11396) a + S1x1x1x128.size a ≤ S1x33344x1x128.size a)
theorem k0_off1603_inb : ∀ (v11396 : BitVec 32) (k0_hw802 : k0_chk802 v11396), ∀ a, (k0_off1603 v11396) a + S1x1x1x128.size a ≤ S1x33344x1x128.size a := fun v11396 k0_hw802 => k0_hw802.1
theorem k0_off1604_inb : ∀ (v11396 : BitVec 32) (k0_hw802 : k0_chk802 v11396), ∀ a, (k0_off1604 v11396) a + S1x1x1x128.size a ≤ S1x33344x1x128.size a := fun v11396 k0_hw802 => k0_hw802.2

def k0_off1605 (v11410 : BitVec 32) : Fin 4 → Nat :=
  let c0_11192 : Index := 0#32
  let v11411 : Index := Scalar.indexCast v11410
  let c0_11193 : Index := 0#32
  let c0_11194 : Index := 0#32
  ![0, v11411.toNat, 0, 0]

def k0_off1606 (v11410 : BitVec 32) : Fin 4 → Nat :=
  let c0_11198 : Index := 0#32
  let c1_i32_11197 : BitVec 32 := 1#32
  let v11417 : BitVec 32 := Scalar.addi v11410 c1_i32_11197
  let v11418 : Index := Scalar.indexCast v11417
  let c0_11199 : Index := 0#32
  let c0_11200 : Index := 0#32
  ![0, v11418.toNat, 0, 0]

def k0_chk803 (v11410 : BitVec 32) : Prop :=
  (∀ a, (k0_off1605 v11410) a + S1x1x1x128.size a ≤ S1x33344x1x128.size a) ∧
  (∀ a, (k0_off1606 v11410) a + S1x1x1x128.size a ≤ S1x33344x1x128.size a)
theorem k0_off1605_inb : ∀ (v11410 : BitVec 32) (k0_hw803 : k0_chk803 v11410), ∀ a, (k0_off1605 v11410) a + S1x1x1x128.size a ≤ S1x33344x1x128.size a := fun v11410 k0_hw803 => k0_hw803.1
theorem k0_off1606_inb : ∀ (v11410 : BitVec 32) (k0_hw803 : k0_chk803 v11410), ∀ a, (k0_off1606 v11410) a + S1x1x1x128.size a ≤ S1x33344x1x128.size a := fun v11410 k0_hw803 => k0_hw803.2

def k0_off1607 (v11424 : BitVec 32) : Fin 4 → Nat :=
  let c0_11206 : Index := 0#32
  let v11425 : Index := Scalar.indexCast v11424
  let c0_11207 : Index := 0#32
  let c0_11208 : Index := 0#32
  ![0, v11425.toNat, 0, 0]

def k0_off1608 (v11424 : BitVec 32) : Fin 4 → Nat :=
  let c0_11212 : Index := 0#32
  let c1_i32_11211 : BitVec 32 := 1#32
  let v11431 : BitVec 32 := Scalar.addi v11424 c1_i32_11211
  let v11432 : Index := Scalar.indexCast v11431
  let c0_11213 : Index := 0#32
  let c0_11214 : Index := 0#32
  ![0, v11432.toNat, 0, 0]

def k0_chk804 (v11424 : BitVec 32) : Prop :=
  (∀ a, (k0_off1607 v11424) a + S1x1x1x128.size a ≤ S1x33344x1x128.size a) ∧
  (∀ a, (k0_off1608 v11424) a + S1x1x1x128.size a ≤ S1x33344x1x128.size a)
theorem k0_off1607_inb : ∀ (v11424 : BitVec 32) (k0_hw804 : k0_chk804 v11424), ∀ a, (k0_off1607 v11424) a + S1x1x1x128.size a ≤ S1x33344x1x128.size a := fun v11424 k0_hw804 => k0_hw804.1
theorem k0_off1608_inb : ∀ (v11424 : BitVec 32) (k0_hw804 : k0_chk804 v11424), ∀ a, (k0_off1608 v11424) a + S1x1x1x128.size a ≤ S1x33344x1x128.size a := fun v11424 k0_hw804 => k0_hw804.2

def k0_off1609 (v11438 : BitVec 32) : Fin 4 → Nat :=
  let c0_11220 : Index := 0#32
  let v11439 : Index := Scalar.indexCast v11438
  let c0_11221 : Index := 0#32
  let c0_11222 : Index := 0#32
  ![0, v11439.toNat, 0, 0]

def k0_off1610 (v11438 : BitVec 32) : Fin 4 → Nat :=
  let c0_11226 : Index := 0#32
  let c1_i32_11225 : BitVec 32 := 1#32
  let v11445 : BitVec 32 := Scalar.addi v11438 c1_i32_11225
  let v11446 : Index := Scalar.indexCast v11445
  let c0_11227 : Index := 0#32
  let c0_11228 : Index := 0#32
  ![0, v11446.toNat, 0, 0]

def k0_chk805 (v11438 : BitVec 32) : Prop :=
  (∀ a, (k0_off1609 v11438) a + S1x1x1x128.size a ≤ S1x33344x1x128.size a) ∧
  (∀ a, (k0_off1610 v11438) a + S1x1x1x128.size a ≤ S1x33344x1x128.size a)
theorem k0_off1609_inb : ∀ (v11438 : BitVec 32) (k0_hw805 : k0_chk805 v11438), ∀ a, (k0_off1609 v11438) a + S1x1x1x128.size a ≤ S1x33344x1x128.size a := fun v11438 k0_hw805 => k0_hw805.1
theorem k0_off1610_inb : ∀ (v11438 : BitVec 32) (k0_hw805 : k0_chk805 v11438), ∀ a, (k0_off1610 v11438) a + S1x1x1x128.size a ≤ S1x33344x1x128.size a := fun v11438 k0_hw805 => k0_hw805.2

def k0_off1611 (v11452 : BitVec 32) : Fin 4 → Nat :=
  let c0_11234 : Index := 0#32
  let v11453 : Index := Scalar.indexCast v11452
  let c0_11235 : Index := 0#32
  let c0_11236 : Index := 0#32
  ![0, v11453.toNat, 0, 0]

def k0_off1612 (v11452 : BitVec 32) : Fin 4 → Nat :=
  let c0_11240 : Index := 0#32
  let c1_i32_11239 : BitVec 32 := 1#32
  let v11459 : BitVec 32 := Scalar.addi v11452 c1_i32_11239
  let v11460 : Index := Scalar.indexCast v11459
  let c0_11241 : Index := 0#32
  let c0_11242 : Index := 0#32
  ![0, v11460.toNat, 0, 0]

def k0_chk806 (v11452 : BitVec 32) : Prop :=
  (∀ a, (k0_off1611 v11452) a + S1x1x1x128.size a ≤ S1x33344x1x128.size a) ∧
  (∀ a, (k0_off1612 v11452) a + S1x1x1x128.size a ≤ S1x33344x1x128.size a)
theorem k0_off1611_inb : ∀ (v11452 : BitVec 32) (k0_hw806 : k0_chk806 v11452), ∀ a, (k0_off1611 v11452) a + S1x1x1x128.size a ≤ S1x33344x1x128.size a := fun v11452 k0_hw806 => k0_hw806.1
theorem k0_off1612_inb : ∀ (v11452 : BitVec 32) (k0_hw806 : k0_chk806 v11452), ∀ a, (k0_off1612 v11452) a + S1x1x1x128.size a ≤ S1x33344x1x128.size a := fun v11452 k0_hw806 => k0_hw806.2

def k0_off1613 (v11466 : BitVec 32) : Fin 4 → Nat :=
  let c0_11248 : Index := 0#32
  let v11467 : Index := Scalar.indexCast v11466
  let c0_11249 : Index := 0#32
  let c0_11250 : Index := 0#32
  ![0, v11467.toNat, 0, 0]

def k0_off1614 (v11466 : BitVec 32) : Fin 4 → Nat :=
  let c0_11254 : Index := 0#32
  let c1_i32_11253 : BitVec 32 := 1#32
  let v11473 : BitVec 32 := Scalar.addi v11466 c1_i32_11253
  let v11474 : Index := Scalar.indexCast v11473
  let c0_11255 : Index := 0#32
  let c0_11256 : Index := 0#32
  ![0, v11474.toNat, 0, 0]

def k0_chk807 (v11466 : BitVec 32) : Prop :=
  (∀ a, (k0_off1613 v11466) a + S1x1x1x128.size a ≤ S1x33344x1x128.size a) ∧
  (∀ a, (k0_off1614 v11466) a + S1x1x1x128.size a ≤ S1x33344x1x128.size a)
theorem k0_off1613_inb : ∀ (v11466 : BitVec 32) (k0_hw807 : k0_chk807 v11466), ∀ a, (k0_off1613 v11466) a + S1x1x1x128.size a ≤ S1x33344x1x128.size a := fun v11466 k0_hw807 => k0_hw807.1
theorem k0_off1614_inb : ∀ (v11466 : BitVec 32) (k0_hw807 : k0_chk807 v11466), ∀ a, (k0_off1614 v11466) a + S1x1x1x128.size a ≤ S1x33344x1x128.size a := fun v11466 k0_hw807 => k0_hw807.2

def k0_off1615 (v11480 : BitVec 32) : Fin 4 → Nat :=
  let c0_11262 : Index := 0#32
  let v11481 : Index := Scalar.indexCast v11480
  let c0_11263 : Index := 0#32
  let c0_11264 : Index := 0#32
  ![0, v11481.toNat, 0, 0]

def k0_off1616 (v11480 : BitVec 32) : Fin 4 → Nat :=
  let c0_11268 : Index := 0#32
  let c1_i32_11267 : BitVec 32 := 1#32
  let v11487 : BitVec 32 := Scalar.addi v11480 c1_i32_11267
  let v11488 : Index := Scalar.indexCast v11487
  let c0_11269 : Index := 0#32
  let c0_11270 : Index := 0#32
  ![0, v11488.toNat, 0, 0]

def k0_chk808 (v11480 : BitVec 32) : Prop :=
  (∀ a, (k0_off1615 v11480) a + S1x1x1x128.size a ≤ S1x33344x1x128.size a) ∧
  (∀ a, (k0_off1616 v11480) a + S1x1x1x128.size a ≤ S1x33344x1x128.size a)
theorem k0_off1615_inb : ∀ (v11480 : BitVec 32) (k0_hw808 : k0_chk808 v11480), ∀ a, (k0_off1615 v11480) a + S1x1x1x128.size a ≤ S1x33344x1x128.size a := fun v11480 k0_hw808 => k0_hw808.1
theorem k0_off1616_inb : ∀ (v11480 : BitVec 32) (k0_hw808 : k0_chk808 v11480), ∀ a, (k0_off1616 v11480) a + S1x1x1x128.size a ≤ S1x33344x1x128.size a := fun v11480 k0_hw808 => k0_hw808.2

def k0_off1617 (v11494 : BitVec 32) : Fin 4 → Nat :=
  let c0_11276 : Index := 0#32
  let v11495 : Index := Scalar.indexCast v11494
  let c0_11277 : Index := 0#32
  let c0_11278 : Index := 0#32
  ![0, v11495.toNat, 0, 0]

def k0_off1618 (v11494 : BitVec 32) : Fin 4 → Nat :=
  let c0_11282 : Index := 0#32
  let c1_i32_11281 : BitVec 32 := 1#32
  let v11501 : BitVec 32 := Scalar.addi v11494 c1_i32_11281
  let v11502 : Index := Scalar.indexCast v11501
  let c0_11283 : Index := 0#32
  let c0_11284 : Index := 0#32
  ![0, v11502.toNat, 0, 0]

def k0_chk809 (v11494 : BitVec 32) : Prop :=
  (∀ a, (k0_off1617 v11494) a + S1x1x1x128.size a ≤ S1x33344x1x128.size a) ∧
  (∀ a, (k0_off1618 v11494) a + S1x1x1x128.size a ≤ S1x33344x1x128.size a)
theorem k0_off1617_inb : ∀ (v11494 : BitVec 32) (k0_hw809 : k0_chk809 v11494), ∀ a, (k0_off1617 v11494) a + S1x1x1x128.size a ≤ S1x33344x1x128.size a := fun v11494 k0_hw809 => k0_hw809.1
theorem k0_off1618_inb : ∀ (v11494 : BitVec 32) (k0_hw809 : k0_chk809 v11494), ∀ a, (k0_off1618 v11494) a + S1x1x1x128.size a ≤ S1x33344x1x128.size a := fun v11494 k0_hw809 => k0_hw809.2

def k0_off1619 (v11508 : BitVec 32) : Fin 4 → Nat :=
  let c0_11290 : Index := 0#32
  let v11509 : Index := Scalar.indexCast v11508
  let c0_11291 : Index := 0#32
  let c0_11292 : Index := 0#32
  ![0, v11509.toNat, 0, 0]

def k0_off1620 (v11508 : BitVec 32) : Fin 4 → Nat :=
  let c0_11296 : Index := 0#32
  let c1_i32_11295 : BitVec 32 := 1#32
  let v11515 : BitVec 32 := Scalar.addi v11508 c1_i32_11295
  let v11516 : Index := Scalar.indexCast v11515
  let c0_11297 : Index := 0#32
  let c0_11298 : Index := 0#32
  ![0, v11516.toNat, 0, 0]

def k0_chk810 (v11508 : BitVec 32) : Prop :=
  (∀ a, (k0_off1619 v11508) a + S1x1x1x128.size a ≤ S1x33344x1x128.size a) ∧
  (∀ a, (k0_off1620 v11508) a + S1x1x1x128.size a ≤ S1x33344x1x128.size a)
theorem k0_off1619_inb : ∀ (v11508 : BitVec 32) (k0_hw810 : k0_chk810 v11508), ∀ a, (k0_off1619 v11508) a + S1x1x1x128.size a ≤ S1x33344x1x128.size a := fun v11508 k0_hw810 => k0_hw810.1
theorem k0_off1620_inb : ∀ (v11508 : BitVec 32) (k0_hw810 : k0_chk810 v11508), ∀ a, (k0_off1620 v11508) a + S1x1x1x128.size a ≤ S1x33344x1x128.size a := fun v11508 k0_hw810 => k0_hw810.2

def k0_off1621 (v11522 : BitVec 32) : Fin 4 → Nat :=
  let c0_11304 : Index := 0#32
  let v11523 : Index := Scalar.indexCast v11522
  let c0_11305 : Index := 0#32
  let c0_11306 : Index := 0#32
  ![0, v11523.toNat, 0, 0]

def k0_off1622 (v11522 : BitVec 32) : Fin 4 → Nat :=
  let c0_11310 : Index := 0#32
  let c1_i32_11309 : BitVec 32 := 1#32
  let v11529 : BitVec 32 := Scalar.addi v11522 c1_i32_11309
  let v11530 : Index := Scalar.indexCast v11529
  let c0_11311 : Index := 0#32
  let c0_11312 : Index := 0#32
  ![0, v11530.toNat, 0, 0]

def k0_chk811 (v11522 : BitVec 32) : Prop :=
  (∀ a, (k0_off1621 v11522) a + S1x1x1x128.size a ≤ S1x33344x1x128.size a) ∧
  (∀ a, (k0_off1622 v11522) a + S1x1x1x128.size a ≤ S1x33344x1x128.size a)
theorem k0_off1621_inb : ∀ (v11522 : BitVec 32) (k0_hw811 : k0_chk811 v11522), ∀ a, (k0_off1621 v11522) a + S1x1x1x128.size a ≤ S1x33344x1x128.size a := fun v11522 k0_hw811 => k0_hw811.1
theorem k0_off1622_inb : ∀ (v11522 : BitVec 32) (k0_hw811 : k0_chk811 v11522), ∀ a, (k0_off1622 v11522) a + S1x1x1x128.size a ≤ S1x33344x1x128.size a := fun v11522 k0_hw811 => k0_hw811.2

def k0_off1623 (v11536 : BitVec 32) : Fin 4 → Nat :=
  let c0_11318 : Index := 0#32
  let v11537 : Index := Scalar.indexCast v11536
  let c0_11319 : Index := 0#32
  let c0_11320 : Index := 0#32
  ![0, v11537.toNat, 0, 0]

def k0_off1624 (v11536 : BitVec 32) : Fin 4 → Nat :=
  let c0_11324 : Index := 0#32
  let c1_i32_11323 : BitVec 32 := 1#32
  let v11543 : BitVec 32 := Scalar.addi v11536 c1_i32_11323
  let v11544 : Index := Scalar.indexCast v11543
  let c0_11325 : Index := 0#32
  let c0_11326 : Index := 0#32
  ![0, v11544.toNat, 0, 0]

def k0_chk812 (v11536 : BitVec 32) : Prop :=
  (∀ a, (k0_off1623 v11536) a + S1x1x1x128.size a ≤ S1x33344x1x128.size a) ∧
  (∀ a, (k0_off1624 v11536) a + S1x1x1x128.size a ≤ S1x33344x1x128.size a)
theorem k0_off1623_inb : ∀ (v11536 : BitVec 32) (k0_hw812 : k0_chk812 v11536), ∀ a, (k0_off1623 v11536) a + S1x1x1x128.size a ≤ S1x33344x1x128.size a := fun v11536 k0_hw812 => k0_hw812.1
theorem k0_off1624_inb : ∀ (v11536 : BitVec 32) (k0_hw812 : k0_chk812 v11536), ∀ a, (k0_off1624 v11536) a + S1x1x1x128.size a ≤ S1x33344x1x128.size a := fun v11536 k0_hw812 => k0_hw812.2

def k0_off1625 (v11550 : BitVec 32) : Fin 4 → Nat :=
  let c0_11332 : Index := 0#32
  let v11551 : Index := Scalar.indexCast v11550
  let c0_11333 : Index := 0#32
  let c0_11334 : Index := 0#32
  ![0, v11551.toNat, 0, 0]

def k0_off1626 (v11550 : BitVec 32) : Fin 4 → Nat :=
  let c0_11338 : Index := 0#32
  let c1_i32_11337 : BitVec 32 := 1#32
  let v11557 : BitVec 32 := Scalar.addi v11550 c1_i32_11337
  let v11558 : Index := Scalar.indexCast v11557
  let c0_11339 : Index := 0#32
  let c0_11340 : Index := 0#32
  ![0, v11558.toNat, 0, 0]

def k0_chk813 (v11550 : BitVec 32) : Prop :=
  (∀ a, (k0_off1625 v11550) a + S1x1x1x128.size a ≤ S1x33344x1x128.size a) ∧
  (∀ a, (k0_off1626 v11550) a + S1x1x1x128.size a ≤ S1x33344x1x128.size a)
theorem k0_off1625_inb : ∀ (v11550 : BitVec 32) (k0_hw813 : k0_chk813 v11550), ∀ a, (k0_off1625 v11550) a + S1x1x1x128.size a ≤ S1x33344x1x128.size a := fun v11550 k0_hw813 => k0_hw813.1
theorem k0_off1626_inb : ∀ (v11550 : BitVec 32) (k0_hw813 : k0_chk813 v11550), ∀ a, (k0_off1626 v11550) a + S1x1x1x128.size a ≤ S1x33344x1x128.size a := fun v11550 k0_hw813 => k0_hw813.2

def k0_off1627 (v11564 : BitVec 32) : Fin 4 → Nat :=
  let c0_11346 : Index := 0#32
  let v11565 : Index := Scalar.indexCast v11564
  let c0_11347 : Index := 0#32
  let c0_11348 : Index := 0#32
  ![0, v11565.toNat, 0, 0]

def k0_off1628 (v11564 : BitVec 32) : Fin 4 → Nat :=
  let c0_11352 : Index := 0#32
  let c1_i32_11351 : BitVec 32 := 1#32
  let v11571 : BitVec 32 := Scalar.addi v11564 c1_i32_11351
  let v11572 : Index := Scalar.indexCast v11571
  let c0_11353 : Index := 0#32
  let c0_11354 : Index := 0#32
  ![0, v11572.toNat, 0, 0]

def k0_chk814 (v11564 : BitVec 32) : Prop :=
  (∀ a, (k0_off1627 v11564) a + S1x1x1x128.size a ≤ S1x33344x1x128.size a) ∧
  (∀ a, (k0_off1628 v11564) a + S1x1x1x128.size a ≤ S1x33344x1x128.size a)
theorem k0_off1627_inb : ∀ (v11564 : BitVec 32) (k0_hw814 : k0_chk814 v11564), ∀ a, (k0_off1627 v11564) a + S1x1x1x128.size a ≤ S1x33344x1x128.size a := fun v11564 k0_hw814 => k0_hw814.1
theorem k0_off1628_inb : ∀ (v11564 : BitVec 32) (k0_hw814 : k0_chk814 v11564), ∀ a, (k0_off1628 v11564) a + S1x1x1x128.size a ≤ S1x33344x1x128.size a := fun v11564 k0_hw814 => k0_hw814.2

def k0_off1629 (v11578 : BitVec 32) : Fin 4 → Nat :=
  let c0_11360 : Index := 0#32
  let v11579 : Index := Scalar.indexCast v11578
  let c0_11361 : Index := 0#32
  let c0_11362 : Index := 0#32
  ![0, v11579.toNat, 0, 0]

def k0_off1630 (v11578 : BitVec 32) : Fin 4 → Nat :=
  let c0_11366 : Index := 0#32
  let c1_i32_11365 : BitVec 32 := 1#32
  let v11585 : BitVec 32 := Scalar.addi v11578 c1_i32_11365
  let v11586 : Index := Scalar.indexCast v11585
  let c0_11367 : Index := 0#32
  let c0_11368 : Index := 0#32
  ![0, v11586.toNat, 0, 0]

def k0_chk815 (v11578 : BitVec 32) : Prop :=
  (∀ a, (k0_off1629 v11578) a + S1x1x1x128.size a ≤ S1x33344x1x128.size a) ∧
  (∀ a, (k0_off1630 v11578) a + S1x1x1x128.size a ≤ S1x33344x1x128.size a)
theorem k0_off1629_inb : ∀ (v11578 : BitVec 32) (k0_hw815 : k0_chk815 v11578), ∀ a, (k0_off1629 v11578) a + S1x1x1x128.size a ≤ S1x33344x1x128.size a := fun v11578 k0_hw815 => k0_hw815.1
theorem k0_off1630_inb : ∀ (v11578 : BitVec 32) (k0_hw815 : k0_chk815 v11578), ∀ a, (k0_off1630 v11578) a + S1x1x1x128.size a ≤ S1x33344x1x128.size a := fun v11578 k0_hw815 => k0_hw815.2

def k0_off1631 (v11592 : BitVec 32) : Fin 4 → Nat :=
  let c0_11374 : Index := 0#32
  let v11593 : Index := Scalar.indexCast v11592
  let c0_11375 : Index := 0#32
  let c0_11376 : Index := 0#32
  ![0, v11593.toNat, 0, 0]

def k0_off1632 (v11592 : BitVec 32) : Fin 4 → Nat :=
  let c0_11380 : Index := 0#32
  let c1_i32_11379 : BitVec 32 := 1#32
  let v11599 : BitVec 32 := Scalar.addi v11592 c1_i32_11379
  let v11600 : Index := Scalar.indexCast v11599
  let c0_11381 : Index := 0#32
  let c0_11382 : Index := 0#32
  ![0, v11600.toNat, 0, 0]

def k0_chk816 (v11592 : BitVec 32) : Prop :=
  (∀ a, (k0_off1631 v11592) a + S1x1x1x128.size a ≤ S1x33344x1x128.size a) ∧
  (∀ a, (k0_off1632 v11592) a + S1x1x1x128.size a ≤ S1x33344x1x128.size a)
theorem k0_off1631_inb : ∀ (v11592 : BitVec 32) (k0_hw816 : k0_chk816 v11592), ∀ a, (k0_off1631 v11592) a + S1x1x1x128.size a ≤ S1x33344x1x128.size a := fun v11592 k0_hw816 => k0_hw816.1
theorem k0_off1632_inb : ∀ (v11592 : BitVec 32) (k0_hw816 : k0_chk816 v11592), ∀ a, (k0_off1632 v11592) a + S1x1x1x128.size a ≤ S1x33344x1x128.size a := fun v11592 k0_hw816 => k0_hw816.2

def k0_off1633 (v11606 : BitVec 32) : Fin 4 → Nat :=
  let c0_11388 : Index := 0#32
  let v11607 : Index := Scalar.indexCast v11606
  let c0_11389 : Index := 0#32
  let c0_11390 : Index := 0#32
  ![0, v11607.toNat, 0, 0]

def k0_off1634 (v11606 : BitVec 32) : Fin 4 → Nat :=
  let c0_11394 : Index := 0#32
  let c1_i32_11393 : BitVec 32 := 1#32
  let v11613 : BitVec 32 := Scalar.addi v11606 c1_i32_11393
  let v11614 : Index := Scalar.indexCast v11613
  let c0_11395 : Index := 0#32
  let c0_11396 : Index := 0#32
  ![0, v11614.toNat, 0, 0]

def k0_chk817 (v11606 : BitVec 32) : Prop :=
  (∀ a, (k0_off1633 v11606) a + S1x1x1x128.size a ≤ S1x33344x1x128.size a) ∧
  (∀ a, (k0_off1634 v11606) a + S1x1x1x128.size a ≤ S1x33344x1x128.size a)
theorem k0_off1633_inb : ∀ (v11606 : BitVec 32) (k0_hw817 : k0_chk817 v11606), ∀ a, (k0_off1633 v11606) a + S1x1x1x128.size a ≤ S1x33344x1x128.size a := fun v11606 k0_hw817 => k0_hw817.1
theorem k0_off1634_inb : ∀ (v11606 : BitVec 32) (k0_hw817 : k0_chk817 v11606), ∀ a, (k0_off1634 v11606) a + S1x1x1x128.size a ≤ S1x33344x1x128.size a := fun v11606 k0_hw817 => k0_hw817.2

def k0_off1635 (v11620 : BitVec 32) : Fin 4 → Nat :=
  let c0_11402 : Index := 0#32
  let v11621 : Index := Scalar.indexCast v11620
  let c0_11403 : Index := 0#32
  let c0_11404 : Index := 0#32
  ![0, v11621.toNat, 0, 0]

def k0_off1636 (v11620 : BitVec 32) : Fin 4 → Nat :=
  let c0_11408 : Index := 0#32
  let c1_i32_11407 : BitVec 32 := 1#32
  let v11627 : BitVec 32 := Scalar.addi v11620 c1_i32_11407
  let v11628 : Index := Scalar.indexCast v11627
  let c0_11409 : Index := 0#32
  let c0_11410 : Index := 0#32
  ![0, v11628.toNat, 0, 0]

def k0_chk818 (v11620 : BitVec 32) : Prop :=
  (∀ a, (k0_off1635 v11620) a + S1x1x1x128.size a ≤ S1x33344x1x128.size a) ∧
  (∀ a, (k0_off1636 v11620) a + S1x1x1x128.size a ≤ S1x33344x1x128.size a)
theorem k0_off1635_inb : ∀ (v11620 : BitVec 32) (k0_hw818 : k0_chk818 v11620), ∀ a, (k0_off1635 v11620) a + S1x1x1x128.size a ≤ S1x33344x1x128.size a := fun v11620 k0_hw818 => k0_hw818.1
theorem k0_off1636_inb : ∀ (v11620 : BitVec 32) (k0_hw818 : k0_chk818 v11620), ∀ a, (k0_off1636 v11620) a + S1x1x1x128.size a ≤ S1x33344x1x128.size a := fun v11620 k0_hw818 => k0_hw818.2

def k0_off1637 (v11634 : BitVec 32) : Fin 4 → Nat :=
  let c0_11416 : Index := 0#32
  let v11635 : Index := Scalar.indexCast v11634
  let c0_11417 : Index := 0#32
  let c0_11418 : Index := 0#32
  ![0, v11635.toNat, 0, 0]

def k0_off1638 (v11634 : BitVec 32) : Fin 4 → Nat :=
  let c0_11422 : Index := 0#32
  let c1_i32_11421 : BitVec 32 := 1#32
  let v11641 : BitVec 32 := Scalar.addi v11634 c1_i32_11421
  let v11642 : Index := Scalar.indexCast v11641
  let c0_11423 : Index := 0#32
  let c0_11424 : Index := 0#32
  ![0, v11642.toNat, 0, 0]

def k0_chk819 (v11634 : BitVec 32) : Prop :=
  (∀ a, (k0_off1637 v11634) a + S1x1x1x128.size a ≤ S1x33344x1x128.size a) ∧
  (∀ a, (k0_off1638 v11634) a + S1x1x1x128.size a ≤ S1x33344x1x128.size a)
theorem k0_off1637_inb : ∀ (v11634 : BitVec 32) (k0_hw819 : k0_chk819 v11634), ∀ a, (k0_off1637 v11634) a + S1x1x1x128.size a ≤ S1x33344x1x128.size a := fun v11634 k0_hw819 => k0_hw819.1
theorem k0_off1638_inb : ∀ (v11634 : BitVec 32) (k0_hw819 : k0_chk819 v11634), ∀ a, (k0_off1638 v11634) a + S1x1x1x128.size a ≤ S1x33344x1x128.size a := fun v11634 k0_hw819 => k0_hw819.2

def k0_off1639 (v11648 : BitVec 32) : Fin 4 → Nat :=
  let c0_11430 : Index := 0#32
  let v11649 : Index := Scalar.indexCast v11648
  let c0_11431 : Index := 0#32
  let c0_11432 : Index := 0#32
  ![0, v11649.toNat, 0, 0]

def k0_off1640 (v11648 : BitVec 32) : Fin 4 → Nat :=
  let c0_11436 : Index := 0#32
  let c1_i32_11435 : BitVec 32 := 1#32
  let v11655 : BitVec 32 := Scalar.addi v11648 c1_i32_11435
  let v11656 : Index := Scalar.indexCast v11655
  let c0_11437 : Index := 0#32
  let c0_11438 : Index := 0#32
  ![0, v11656.toNat, 0, 0]

def k0_chk820 (v11648 : BitVec 32) : Prop :=
  (∀ a, (k0_off1639 v11648) a + S1x1x1x128.size a ≤ S1x33344x1x128.size a) ∧
  (∀ a, (k0_off1640 v11648) a + S1x1x1x128.size a ≤ S1x33344x1x128.size a)
theorem k0_off1639_inb : ∀ (v11648 : BitVec 32) (k0_hw820 : k0_chk820 v11648), ∀ a, (k0_off1639 v11648) a + S1x1x1x128.size a ≤ S1x33344x1x128.size a := fun v11648 k0_hw820 => k0_hw820.1
theorem k0_off1640_inb : ∀ (v11648 : BitVec 32) (k0_hw820 : k0_chk820 v11648), ∀ a, (k0_off1640 v11648) a + S1x1x1x128.size a ≤ S1x33344x1x128.size a := fun v11648 k0_hw820 => k0_hw820.2

def k0_off1641 (v11662 : BitVec 32) : Fin 4 → Nat :=
  let c0_11444 : Index := 0#32
  let v11663 : Index := Scalar.indexCast v11662
  let c0_11445 : Index := 0#32
  let c0_11446 : Index := 0#32
  ![0, v11663.toNat, 0, 0]

def k0_off1642 (v11662 : BitVec 32) : Fin 4 → Nat :=
  let c0_11450 : Index := 0#32
  let c1_i32_11449 : BitVec 32 := 1#32
  let v11669 : BitVec 32 := Scalar.addi v11662 c1_i32_11449
  let v11670 : Index := Scalar.indexCast v11669
  let c0_11451 : Index := 0#32
  let c0_11452 : Index := 0#32
  ![0, v11670.toNat, 0, 0]

def k0_chk821 (v11662 : BitVec 32) : Prop :=
  (∀ a, (k0_off1641 v11662) a + S1x1x1x128.size a ≤ S1x33344x1x128.size a) ∧
  (∀ a, (k0_off1642 v11662) a + S1x1x1x128.size a ≤ S1x33344x1x128.size a)
theorem k0_off1641_inb : ∀ (v11662 : BitVec 32) (k0_hw821 : k0_chk821 v11662), ∀ a, (k0_off1641 v11662) a + S1x1x1x128.size a ≤ S1x33344x1x128.size a := fun v11662 k0_hw821 => k0_hw821.1
theorem k0_off1642_inb : ∀ (v11662 : BitVec 32) (k0_hw821 : k0_chk821 v11662), ∀ a, (k0_off1642 v11662) a + S1x1x1x128.size a ≤ S1x33344x1x128.size a := fun v11662 k0_hw821 => k0_hw821.2

def k0_off1643 (v11676 : BitVec 32) : Fin 4 → Nat :=
  let c0_11458 : Index := 0#32
  let v11677 : Index := Scalar.indexCast v11676
  let c0_11459 : Index := 0#32
  let c0_11460 : Index := 0#32
  ![0, v11677.toNat, 0, 0]

def k0_off1644 (v11676 : BitVec 32) : Fin 4 → Nat :=
  let c0_11464 : Index := 0#32
  let c1_i32_11463 : BitVec 32 := 1#32
  let v11683 : BitVec 32 := Scalar.addi v11676 c1_i32_11463
  let v11684 : Index := Scalar.indexCast v11683
  let c0_11465 : Index := 0#32
  let c0_11466 : Index := 0#32
  ![0, v11684.toNat, 0, 0]

def k0_chk822 (v11676 : BitVec 32) : Prop :=
  (∀ a, (k0_off1643 v11676) a + S1x1x1x128.size a ≤ S1x33344x1x128.size a) ∧
  (∀ a, (k0_off1644 v11676) a + S1x1x1x128.size a ≤ S1x33344x1x128.size a)
theorem k0_off1643_inb : ∀ (v11676 : BitVec 32) (k0_hw822 : k0_chk822 v11676), ∀ a, (k0_off1643 v11676) a + S1x1x1x128.size a ≤ S1x33344x1x128.size a := fun v11676 k0_hw822 => k0_hw822.1
theorem k0_off1644_inb : ∀ (v11676 : BitVec 32) (k0_hw822 : k0_chk822 v11676), ∀ a, (k0_off1644 v11676) a + S1x1x1x128.size a ≤ S1x33344x1x128.size a := fun v11676 k0_hw822 => k0_hw822.2

def k0_off1645 (v11690 : BitVec 32) : Fin 4 → Nat :=
  let c0_11472 : Index := 0#32
  let v11691 : Index := Scalar.indexCast v11690
  let c0_11473 : Index := 0#32
  let c0_11474 : Index := 0#32
  ![0, v11691.toNat, 0, 0]

def k0_off1646 (v11690 : BitVec 32) : Fin 4 → Nat :=
  let c0_11478 : Index := 0#32
  let c1_i32_11477 : BitVec 32 := 1#32
  let v11697 : BitVec 32 := Scalar.addi v11690 c1_i32_11477
  let v11698 : Index := Scalar.indexCast v11697
  let c0_11479 : Index := 0#32
  let c0_11480 : Index := 0#32
  ![0, v11698.toNat, 0, 0]

def k0_chk823 (v11690 : BitVec 32) : Prop :=
  (∀ a, (k0_off1645 v11690) a + S1x1x1x128.size a ≤ S1x33344x1x128.size a) ∧
  (∀ a, (k0_off1646 v11690) a + S1x1x1x128.size a ≤ S1x33344x1x128.size a)
theorem k0_off1645_inb : ∀ (v11690 : BitVec 32) (k0_hw823 : k0_chk823 v11690), ∀ a, (k0_off1645 v11690) a + S1x1x1x128.size a ≤ S1x33344x1x128.size a := fun v11690 k0_hw823 => k0_hw823.1
theorem k0_off1646_inb : ∀ (v11690 : BitVec 32) (k0_hw823 : k0_chk823 v11690), ∀ a, (k0_off1646 v11690) a + S1x1x1x128.size a ≤ S1x33344x1x128.size a := fun v11690 k0_hw823 => k0_hw823.2

def k0_off1647 (v11704 : BitVec 32) : Fin 4 → Nat :=
  let c0_11486 : Index := 0#32
  let v11705 : Index := Scalar.indexCast v11704
  let c0_11487 : Index := 0#32
  let c0_11488 : Index := 0#32
  ![0, v11705.toNat, 0, 0]

def k0_off1648 (v11704 : BitVec 32) : Fin 4 → Nat :=
  let c0_11492 : Index := 0#32
  let c1_i32_11491 : BitVec 32 := 1#32
  let v11711 : BitVec 32 := Scalar.addi v11704 c1_i32_11491
  let v11712 : Index := Scalar.indexCast v11711
  let c0_11493 : Index := 0#32
  let c0_11494 : Index := 0#32
  ![0, v11712.toNat, 0, 0]

def k0_chk824 (v11704 : BitVec 32) : Prop :=
  (∀ a, (k0_off1647 v11704) a + S1x1x1x128.size a ≤ S1x33344x1x128.size a) ∧
  (∀ a, (k0_off1648 v11704) a + S1x1x1x128.size a ≤ S1x33344x1x128.size a)
theorem k0_off1647_inb : ∀ (v11704 : BitVec 32) (k0_hw824 : k0_chk824 v11704), ∀ a, (k0_off1647 v11704) a + S1x1x1x128.size a ≤ S1x33344x1x128.size a := fun v11704 k0_hw824 => k0_hw824.1
theorem k0_off1648_inb : ∀ (v11704 : BitVec 32) (k0_hw824 : k0_chk824 v11704), ∀ a, (k0_off1648 v11704) a + S1x1x1x128.size a ≤ S1x33344x1x128.size a := fun v11704 k0_hw824 => k0_hw824.2

def k0_off1649 (v11718 : BitVec 32) : Fin 4 → Nat :=
  let c0_11500 : Index := 0#32
  let v11719 : Index := Scalar.indexCast v11718
  let c0_11501 : Index := 0#32
  let c0_11502 : Index := 0#32
  ![0, v11719.toNat, 0, 0]

def k0_off1650 (v11718 : BitVec 32) : Fin 4 → Nat :=
  let c0_11506 : Index := 0#32
  let c1_i32_11505 : BitVec 32 := 1#32
  let v11725 : BitVec 32 := Scalar.addi v11718 c1_i32_11505
  let v11726 : Index := Scalar.indexCast v11725
  let c0_11507 : Index := 0#32
  let c0_11508 : Index := 0#32
  ![0, v11726.toNat, 0, 0]

def k0_chk825 (v11718 : BitVec 32) : Prop :=
  (∀ a, (k0_off1649 v11718) a + S1x1x1x128.size a ≤ S1x33344x1x128.size a) ∧
  (∀ a, (k0_off1650 v11718) a + S1x1x1x128.size a ≤ S1x33344x1x128.size a)
theorem k0_off1649_inb : ∀ (v11718 : BitVec 32) (k0_hw825 : k0_chk825 v11718), ∀ a, (k0_off1649 v11718) a + S1x1x1x128.size a ≤ S1x33344x1x128.size a := fun v11718 k0_hw825 => k0_hw825.1
theorem k0_off1650_inb : ∀ (v11718 : BitVec 32) (k0_hw825 : k0_chk825 v11718), ∀ a, (k0_off1650 v11718) a + S1x1x1x128.size a ≤ S1x33344x1x128.size a := fun v11718 k0_hw825 => k0_hw825.2

def k0_off1651 (v11732 : BitVec 32) : Fin 4 → Nat :=
  let c0_11514 : Index := 0#32
  let v11733 : Index := Scalar.indexCast v11732
  let c0_11515 : Index := 0#32
  let c0_11516 : Index := 0#32
  ![0, v11733.toNat, 0, 0]

def k0_off1652 (v11732 : BitVec 32) : Fin 4 → Nat :=
  let c0_11520 : Index := 0#32
  let c1_i32_11519 : BitVec 32 := 1#32
  let v11739 : BitVec 32 := Scalar.addi v11732 c1_i32_11519
  let v11740 : Index := Scalar.indexCast v11739
  let c0_11521 : Index := 0#32
  let c0_11522 : Index := 0#32
  ![0, v11740.toNat, 0, 0]

def k0_chk826 (v11732 : BitVec 32) : Prop :=
  (∀ a, (k0_off1651 v11732) a + S1x1x1x128.size a ≤ S1x33344x1x128.size a) ∧
  (∀ a, (k0_off1652 v11732) a + S1x1x1x128.size a ≤ S1x33344x1x128.size a)
theorem k0_off1651_inb : ∀ (v11732 : BitVec 32) (k0_hw826 : k0_chk826 v11732), ∀ a, (k0_off1651 v11732) a + S1x1x1x128.size a ≤ S1x33344x1x128.size a := fun v11732 k0_hw826 => k0_hw826.1
theorem k0_off1652_inb : ∀ (v11732 : BitVec 32) (k0_hw826 : k0_chk826 v11732), ∀ a, (k0_off1652 v11732) a + S1x1x1x128.size a ≤ S1x33344x1x128.size a := fun v11732 k0_hw826 => k0_hw826.2

def k0_off1653 (v11746 : BitVec 32) : Fin 4 → Nat :=
  let c0_11528 : Index := 0#32
  let v11747 : Index := Scalar.indexCast v11746
  let c0_11529 : Index := 0#32
  let c0_11530 : Index := 0#32
  ![0, v11747.toNat, 0, 0]

def k0_off1654 (v11746 : BitVec 32) : Fin 4 → Nat :=
  let c0_11534 : Index := 0#32
  let c1_i32_11533 : BitVec 32 := 1#32
  let v11753 : BitVec 32 := Scalar.addi v11746 c1_i32_11533
  let v11754 : Index := Scalar.indexCast v11753
  let c0_11535 : Index := 0#32
  let c0_11536 : Index := 0#32
  ![0, v11754.toNat, 0, 0]

def k0_chk827 (v11746 : BitVec 32) : Prop :=
  (∀ a, (k0_off1653 v11746) a + S1x1x1x128.size a ≤ S1x33344x1x128.size a) ∧
  (∀ a, (k0_off1654 v11746) a + S1x1x1x128.size a ≤ S1x33344x1x128.size a)
theorem k0_off1653_inb : ∀ (v11746 : BitVec 32) (k0_hw827 : k0_chk827 v11746), ∀ a, (k0_off1653 v11746) a + S1x1x1x128.size a ≤ S1x33344x1x128.size a := fun v11746 k0_hw827 => k0_hw827.1
theorem k0_off1654_inb : ∀ (v11746 : BitVec 32) (k0_hw827 : k0_chk827 v11746), ∀ a, (k0_off1654 v11746) a + S1x1x1x128.size a ≤ S1x33344x1x128.size a := fun v11746 k0_hw827 => k0_hw827.2

def k0_off1655 (v11760 : BitVec 32) : Fin 4 → Nat :=
  let c0_11542 : Index := 0#32
  let v11761 : Index := Scalar.indexCast v11760
  let c0_11543 : Index := 0#32
  let c0_11544 : Index := 0#32
  ![0, v11761.toNat, 0, 0]

def k0_off1656 (v11760 : BitVec 32) : Fin 4 → Nat :=
  let c0_11548 : Index := 0#32
  let c1_i32_11547 : BitVec 32 := 1#32
  let v11767 : BitVec 32 := Scalar.addi v11760 c1_i32_11547
  let v11768 : Index := Scalar.indexCast v11767
  let c0_11549 : Index := 0#32
  let c0_11550 : Index := 0#32
  ![0, v11768.toNat, 0, 0]

def k0_chk828 (v11760 : BitVec 32) : Prop :=
  (∀ a, (k0_off1655 v11760) a + S1x1x1x128.size a ≤ S1x33344x1x128.size a) ∧
  (∀ a, (k0_off1656 v11760) a + S1x1x1x128.size a ≤ S1x33344x1x128.size a)
theorem k0_off1655_inb : ∀ (v11760 : BitVec 32) (k0_hw828 : k0_chk828 v11760), ∀ a, (k0_off1655 v11760) a + S1x1x1x128.size a ≤ S1x33344x1x128.size a := fun v11760 k0_hw828 => k0_hw828.1
theorem k0_off1656_inb : ∀ (v11760 : BitVec 32) (k0_hw828 : k0_chk828 v11760), ∀ a, (k0_off1656 v11760) a + S1x1x1x128.size a ≤ S1x33344x1x128.size a := fun v11760 k0_hw828 => k0_hw828.2

def k0_off1657 (v11774 : BitVec 32) : Fin 4 → Nat :=
  let c0_11556 : Index := 0#32
  let v11775 : Index := Scalar.indexCast v11774
  let c0_11557 : Index := 0#32
  let c0_11558 : Index := 0#32
  ![0, v11775.toNat, 0, 0]

def k0_off1658 (v11774 : BitVec 32) : Fin 4 → Nat :=
  let c0_11562 : Index := 0#32
  let c1_i32_11561 : BitVec 32 := 1#32
  let v11781 : BitVec 32 := Scalar.addi v11774 c1_i32_11561
  let v11782 : Index := Scalar.indexCast v11781
  let c0_11563 : Index := 0#32
  let c0_11564 : Index := 0#32
  ![0, v11782.toNat, 0, 0]

def k0_chk829 (v11774 : BitVec 32) : Prop :=
  (∀ a, (k0_off1657 v11774) a + S1x1x1x128.size a ≤ S1x33344x1x128.size a) ∧
  (∀ a, (k0_off1658 v11774) a + S1x1x1x128.size a ≤ S1x33344x1x128.size a)
theorem k0_off1657_inb : ∀ (v11774 : BitVec 32) (k0_hw829 : k0_chk829 v11774), ∀ a, (k0_off1657 v11774) a + S1x1x1x128.size a ≤ S1x33344x1x128.size a := fun v11774 k0_hw829 => k0_hw829.1
theorem k0_off1658_inb : ∀ (v11774 : BitVec 32) (k0_hw829 : k0_chk829 v11774), ∀ a, (k0_off1658 v11774) a + S1x1x1x128.size a ≤ S1x33344x1x128.size a := fun v11774 k0_hw829 => k0_hw829.2

def k0_off1659 (v11788 : BitVec 32) : Fin 4 → Nat :=
  let c0_11570 : Index := 0#32
  let v11789 : Index := Scalar.indexCast v11788
  let c0_11571 : Index := 0#32
  let c0_11572 : Index := 0#32
  ![0, v11789.toNat, 0, 0]

def k0_off1660 (v11788 : BitVec 32) : Fin 4 → Nat :=
  let c0_11576 : Index := 0#32
  let c1_i32_11575 : BitVec 32 := 1#32
  let v11795 : BitVec 32 := Scalar.addi v11788 c1_i32_11575
  let v11796 : Index := Scalar.indexCast v11795
  let c0_11577 : Index := 0#32
  let c0_11578 : Index := 0#32
  ![0, v11796.toNat, 0, 0]

def k0_chk830 (v11788 : BitVec 32) : Prop :=
  (∀ a, (k0_off1659 v11788) a + S1x1x1x128.size a ≤ S1x33344x1x128.size a) ∧
  (∀ a, (k0_off1660 v11788) a + S1x1x1x128.size a ≤ S1x33344x1x128.size a)
theorem k0_off1659_inb : ∀ (v11788 : BitVec 32) (k0_hw830 : k0_chk830 v11788), ∀ a, (k0_off1659 v11788) a + S1x1x1x128.size a ≤ S1x33344x1x128.size a := fun v11788 k0_hw830 => k0_hw830.1
theorem k0_off1660_inb : ∀ (v11788 : BitVec 32) (k0_hw830 : k0_chk830 v11788), ∀ a, (k0_off1660 v11788) a + S1x1x1x128.size a ≤ S1x33344x1x128.size a := fun v11788 k0_hw830 => k0_hw830.2

def k0_off1661 (v11802 : BitVec 32) : Fin 4 → Nat :=
  let c0_11584 : Index := 0#32
  let v11803 : Index := Scalar.indexCast v11802
  let c0_11585 : Index := 0#32
  let c0_11586 : Index := 0#32
  ![0, v11803.toNat, 0, 0]

def k0_off1662 (v11802 : BitVec 32) : Fin 4 → Nat :=
  let c0_11590 : Index := 0#32
  let c1_i32_11589 : BitVec 32 := 1#32
  let v11809 : BitVec 32 := Scalar.addi v11802 c1_i32_11589
  let v11810 : Index := Scalar.indexCast v11809
  let c0_11591 : Index := 0#32
  let c0_11592 : Index := 0#32
  ![0, v11810.toNat, 0, 0]

def k0_chk831 (v11802 : BitVec 32) : Prop :=
  (∀ a, (k0_off1661 v11802) a + S1x1x1x128.size a ≤ S1x33344x1x128.size a) ∧
  (∀ a, (k0_off1662 v11802) a + S1x1x1x128.size a ≤ S1x33344x1x128.size a)
theorem k0_off1661_inb : ∀ (v11802 : BitVec 32) (k0_hw831 : k0_chk831 v11802), ∀ a, (k0_off1661 v11802) a + S1x1x1x128.size a ≤ S1x33344x1x128.size a := fun v11802 k0_hw831 => k0_hw831.1
theorem k0_off1662_inb : ∀ (v11802 : BitVec 32) (k0_hw831 : k0_chk831 v11802), ∀ a, (k0_off1662 v11802) a + S1x1x1x128.size a ≤ S1x33344x1x128.size a := fun v11802 k0_hw831 => k0_hw831.2

def k0_off1663 (v11816 : BitVec 32) : Fin 4 → Nat :=
  let c0_11598 : Index := 0#32
  let v11817 : Index := Scalar.indexCast v11816
  let c0_11599 : Index := 0#32
  let c0_11600 : Index := 0#32
  ![0, v11817.toNat, 0, 0]

def k0_off1664 (v11816 : BitVec 32) : Fin 4 → Nat :=
  let c0_11604 : Index := 0#32
  let c1_i32_11603 : BitVec 32 := 1#32
  let v11823 : BitVec 32 := Scalar.addi v11816 c1_i32_11603
  let v11824 : Index := Scalar.indexCast v11823
  let c0_11605 : Index := 0#32
  let c0_11606 : Index := 0#32
  ![0, v11824.toNat, 0, 0]

def k0_chk832 (v11816 : BitVec 32) : Prop :=
  (∀ a, (k0_off1663 v11816) a + S1x1x1x128.size a ≤ S1x33344x1x128.size a) ∧
  (∀ a, (k0_off1664 v11816) a + S1x1x1x128.size a ≤ S1x33344x1x128.size a)
theorem k0_off1663_inb : ∀ (v11816 : BitVec 32) (k0_hw832 : k0_chk832 v11816), ∀ a, (k0_off1663 v11816) a + S1x1x1x128.size a ≤ S1x33344x1x128.size a := fun v11816 k0_hw832 => k0_hw832.1
theorem k0_off1664_inb : ∀ (v11816 : BitVec 32) (k0_hw832 : k0_chk832 v11816), ∀ a, (k0_off1664 v11816) a + S1x1x1x128.size a ≤ S1x33344x1x128.size a := fun v11816 k0_hw832 => k0_hw832.2

def k0_off1665 (v11830 : BitVec 32) : Fin 4 → Nat :=
  let c0_11612 : Index := 0#32
  let v11831 : Index := Scalar.indexCast v11830
  let c0_11613 : Index := 0#32
  let c0_11614 : Index := 0#32
  ![0, v11831.toNat, 0, 0]

def k0_off1666 (v11830 : BitVec 32) : Fin 4 → Nat :=
  let c0_11618 : Index := 0#32
  let c1_i32_11617 : BitVec 32 := 1#32
  let v11837 : BitVec 32 := Scalar.addi v11830 c1_i32_11617
  let v11838 : Index := Scalar.indexCast v11837
  let c0_11619 : Index := 0#32
  let c0_11620 : Index := 0#32
  ![0, v11838.toNat, 0, 0]

def k0_chk833 (v11830 : BitVec 32) : Prop :=
  (∀ a, (k0_off1665 v11830) a + S1x1x1x128.size a ≤ S1x33344x1x128.size a) ∧
  (∀ a, (k0_off1666 v11830) a + S1x1x1x128.size a ≤ S1x33344x1x128.size a)
theorem k0_off1665_inb : ∀ (v11830 : BitVec 32) (k0_hw833 : k0_chk833 v11830), ∀ a, (k0_off1665 v11830) a + S1x1x1x128.size a ≤ S1x33344x1x128.size a := fun v11830 k0_hw833 => k0_hw833.1
theorem k0_off1666_inb : ∀ (v11830 : BitVec 32) (k0_hw833 : k0_chk833 v11830), ∀ a, (k0_off1666 v11830) a + S1x1x1x128.size a ≤ S1x33344x1x128.size a := fun v11830 k0_hw833 => k0_hw833.2

def k0_off1667 (v11844 : BitVec 32) : Fin 4 → Nat :=
  let c0_11626 : Index := 0#32
  let v11845 : Index := Scalar.indexCast v11844
  let c0_11627 : Index := 0#32
  let c0_11628 : Index := 0#32
  ![0, v11845.toNat, 0, 0]

def k0_off1668 (v11844 : BitVec 32) : Fin 4 → Nat :=
  let c0_11632 : Index := 0#32
  let c1_i32_11631 : BitVec 32 := 1#32
  let v11851 : BitVec 32 := Scalar.addi v11844 c1_i32_11631
  let v11852 : Index := Scalar.indexCast v11851
  let c0_11633 : Index := 0#32
  let c0_11634 : Index := 0#32
  ![0, v11852.toNat, 0, 0]

def k0_chk834 (v11844 : BitVec 32) : Prop :=
  (∀ a, (k0_off1667 v11844) a + S1x1x1x128.size a ≤ S1x33344x1x128.size a) ∧
  (∀ a, (k0_off1668 v11844) a + S1x1x1x128.size a ≤ S1x33344x1x128.size a)
theorem k0_off1667_inb : ∀ (v11844 : BitVec 32) (k0_hw834 : k0_chk834 v11844), ∀ a, (k0_off1667 v11844) a + S1x1x1x128.size a ≤ S1x33344x1x128.size a := fun v11844 k0_hw834 => k0_hw834.1
theorem k0_off1668_inb : ∀ (v11844 : BitVec 32) (k0_hw834 : k0_chk834 v11844), ∀ a, (k0_off1668 v11844) a + S1x1x1x128.size a ≤ S1x33344x1x128.size a := fun v11844 k0_hw834 => k0_hw834.2

def k0_off1669 (v11858 : BitVec 32) : Fin 4 → Nat :=
  let c0_11640 : Index := 0#32
  let v11859 : Index := Scalar.indexCast v11858
  let c0_11641 : Index := 0#32
  let c0_11642 : Index := 0#32
  ![0, v11859.toNat, 0, 0]

def k0_off1670 (v11858 : BitVec 32) : Fin 4 → Nat :=
  let c0_11646 : Index := 0#32
  let c1_i32_11645 : BitVec 32 := 1#32
  let v11865 : BitVec 32 := Scalar.addi v11858 c1_i32_11645
  let v11866 : Index := Scalar.indexCast v11865
  let c0_11647 : Index := 0#32
  let c0_11648 : Index := 0#32
  ![0, v11866.toNat, 0, 0]

def k0_chk835 (v11858 : BitVec 32) : Prop :=
  (∀ a, (k0_off1669 v11858) a + S1x1x1x128.size a ≤ S1x33344x1x128.size a) ∧
  (∀ a, (k0_off1670 v11858) a + S1x1x1x128.size a ≤ S1x33344x1x128.size a)
theorem k0_off1669_inb : ∀ (v11858 : BitVec 32) (k0_hw835 : k0_chk835 v11858), ∀ a, (k0_off1669 v11858) a + S1x1x1x128.size a ≤ S1x33344x1x128.size a := fun v11858 k0_hw835 => k0_hw835.1
theorem k0_off1670_inb : ∀ (v11858 : BitVec 32) (k0_hw835 : k0_chk835 v11858), ∀ a, (k0_off1670 v11858) a + S1x1x1x128.size a ≤ S1x33344x1x128.size a := fun v11858 k0_hw835 => k0_hw835.2

def k0_off1671 (v11872 : BitVec 32) : Fin 4 → Nat :=
  let c0_11654 : Index := 0#32
  let v11873 : Index := Scalar.indexCast v11872
  let c0_11655 : Index := 0#32
  let c0_11656 : Index := 0#32
  ![0, v11873.toNat, 0, 0]

def k0_off1672 (v11872 : BitVec 32) : Fin 4 → Nat :=
  let c0_11660 : Index := 0#32
  let c1_i32_11659 : BitVec 32 := 1#32
  let v11879 : BitVec 32 := Scalar.addi v11872 c1_i32_11659
  let v11880 : Index := Scalar.indexCast v11879
  let c0_11661 : Index := 0#32
  let c0_11662 : Index := 0#32
  ![0, v11880.toNat, 0, 0]

def k0_chk836 (v11872 : BitVec 32) : Prop :=
  (∀ a, (k0_off1671 v11872) a + S1x1x1x128.size a ≤ S1x33344x1x128.size a) ∧
  (∀ a, (k0_off1672 v11872) a + S1x1x1x128.size a ≤ S1x33344x1x128.size a)
theorem k0_off1671_inb : ∀ (v11872 : BitVec 32) (k0_hw836 : k0_chk836 v11872), ∀ a, (k0_off1671 v11872) a + S1x1x1x128.size a ≤ S1x33344x1x128.size a := fun v11872 k0_hw836 => k0_hw836.1
theorem k0_off1672_inb : ∀ (v11872 : BitVec 32) (k0_hw836 : k0_chk836 v11872), ∀ a, (k0_off1672 v11872) a + S1x1x1x128.size a ≤ S1x33344x1x128.size a := fun v11872 k0_hw836 => k0_hw836.2

def k0_off1673 (v11886 : BitVec 32) : Fin 4 → Nat :=
  let c0_11668 : Index := 0#32
  let v11887 : Index := Scalar.indexCast v11886
  let c0_11669 : Index := 0#32
  let c0_11670 : Index := 0#32
  ![0, v11887.toNat, 0, 0]

def k0_off1674 (v11886 : BitVec 32) : Fin 4 → Nat :=
  let c0_11674 : Index := 0#32
  let c1_i32_11673 : BitVec 32 := 1#32
  let v11893 : BitVec 32 := Scalar.addi v11886 c1_i32_11673
  let v11894 : Index := Scalar.indexCast v11893
  let c0_11675 : Index := 0#32
  let c0_11676 : Index := 0#32
  ![0, v11894.toNat, 0, 0]

def k0_chk837 (v11886 : BitVec 32) : Prop :=
  (∀ a, (k0_off1673 v11886) a + S1x1x1x128.size a ≤ S1x33344x1x128.size a) ∧
  (∀ a, (k0_off1674 v11886) a + S1x1x1x128.size a ≤ S1x33344x1x128.size a)
theorem k0_off1673_inb : ∀ (v11886 : BitVec 32) (k0_hw837 : k0_chk837 v11886), ∀ a, (k0_off1673 v11886) a + S1x1x1x128.size a ≤ S1x33344x1x128.size a := fun v11886 k0_hw837 => k0_hw837.1
theorem k0_off1674_inb : ∀ (v11886 : BitVec 32) (k0_hw837 : k0_chk837 v11886), ∀ a, (k0_off1674 v11886) a + S1x1x1x128.size a ≤ S1x33344x1x128.size a := fun v11886 k0_hw837 => k0_hw837.2

def k0_off1675 (v11900 : BitVec 32) : Fin 4 → Nat :=
  let c0_11682 : Index := 0#32
  let v11901 : Index := Scalar.indexCast v11900
  let c0_11683 : Index := 0#32
  let c0_11684 : Index := 0#32
  ![0, v11901.toNat, 0, 0]

def k0_off1676 (v11900 : BitVec 32) : Fin 4 → Nat :=
  let c0_11688 : Index := 0#32
  let c1_i32_11687 : BitVec 32 := 1#32
  let v11907 : BitVec 32 := Scalar.addi v11900 c1_i32_11687
  let v11908 : Index := Scalar.indexCast v11907
  let c0_11689 : Index := 0#32
  let c0_11690 : Index := 0#32
  ![0, v11908.toNat, 0, 0]

def k0_chk838 (v11900 : BitVec 32) : Prop :=
  (∀ a, (k0_off1675 v11900) a + S1x1x1x128.size a ≤ S1x33344x1x128.size a) ∧
  (∀ a, (k0_off1676 v11900) a + S1x1x1x128.size a ≤ S1x33344x1x128.size a)
theorem k0_off1675_inb : ∀ (v11900 : BitVec 32) (k0_hw838 : k0_chk838 v11900), ∀ a, (k0_off1675 v11900) a + S1x1x1x128.size a ≤ S1x33344x1x128.size a := fun v11900 k0_hw838 => k0_hw838.1
theorem k0_off1676_inb : ∀ (v11900 : BitVec 32) (k0_hw838 : k0_chk838 v11900), ∀ a, (k0_off1676 v11900) a + S1x1x1x128.size a ≤ S1x33344x1x128.size a := fun v11900 k0_hw838 => k0_hw838.2

def k0_off1677 (v11914 : BitVec 32) : Fin 4 → Nat :=
  let c0_11696 : Index := 0#32
  let v11915 : Index := Scalar.indexCast v11914
  let c0_11697 : Index := 0#32
  let c0_11698 : Index := 0#32
  ![0, v11915.toNat, 0, 0]

def k0_off1678 (v11914 : BitVec 32) : Fin 4 → Nat :=
  let c0_11702 : Index := 0#32
  let c1_i32_11701 : BitVec 32 := 1#32
  let v11921 : BitVec 32 := Scalar.addi v11914 c1_i32_11701
  let v11922 : Index := Scalar.indexCast v11921
  let c0_11703 : Index := 0#32
  let c0_11704 : Index := 0#32
  ![0, v11922.toNat, 0, 0]

def k0_chk839 (v11914 : BitVec 32) : Prop :=
  (∀ a, (k0_off1677 v11914) a + S1x1x1x128.size a ≤ S1x33344x1x128.size a) ∧
  (∀ a, (k0_off1678 v11914) a + S1x1x1x128.size a ≤ S1x33344x1x128.size a)
theorem k0_off1677_inb : ∀ (v11914 : BitVec 32) (k0_hw839 : k0_chk839 v11914), ∀ a, (k0_off1677 v11914) a + S1x1x1x128.size a ≤ S1x33344x1x128.size a := fun v11914 k0_hw839 => k0_hw839.1
theorem k0_off1678_inb : ∀ (v11914 : BitVec 32) (k0_hw839 : k0_chk839 v11914), ∀ a, (k0_off1678 v11914) a + S1x1x1x128.size a ≤ S1x33344x1x128.size a := fun v11914 k0_hw839 => k0_hw839.2

def k0_off1679 (v11928 : BitVec 32) : Fin 4 → Nat :=
  let c0_11710 : Index := 0#32
  let v11929 : Index := Scalar.indexCast v11928
  let c0_11711 : Index := 0#32
  let c0_11712 : Index := 0#32
  ![0, v11929.toNat, 0, 0]

def k0_off1680 (v11928 : BitVec 32) : Fin 4 → Nat :=
  let c0_11716 : Index := 0#32
  let c1_i32_11715 : BitVec 32 := 1#32
  let v11935 : BitVec 32 := Scalar.addi v11928 c1_i32_11715
  let v11936 : Index := Scalar.indexCast v11935
  let c0_11717 : Index := 0#32
  let c0_11718 : Index := 0#32
  ![0, v11936.toNat, 0, 0]

def k0_chk840 (v11928 : BitVec 32) : Prop :=
  (∀ a, (k0_off1679 v11928) a + S1x1x1x128.size a ≤ S1x33344x1x128.size a) ∧
  (∀ a, (k0_off1680 v11928) a + S1x1x1x128.size a ≤ S1x33344x1x128.size a)
theorem k0_off1679_inb : ∀ (v11928 : BitVec 32) (k0_hw840 : k0_chk840 v11928), ∀ a, (k0_off1679 v11928) a + S1x1x1x128.size a ≤ S1x33344x1x128.size a := fun v11928 k0_hw840 => k0_hw840.1
theorem k0_off1680_inb : ∀ (v11928 : BitVec 32) (k0_hw840 : k0_chk840 v11928), ∀ a, (k0_off1680 v11928) a + S1x1x1x128.size a ≤ S1x33344x1x128.size a := fun v11928 k0_hw840 => k0_hw840.2

def k0_off1681 (v11942 : BitVec 32) : Fin 4 → Nat :=
  let c0_11724 : Index := 0#32
  let v11943 : Index := Scalar.indexCast v11942
  let c0_11725 : Index := 0#32
  let c0_11726 : Index := 0#32
  ![0, v11943.toNat, 0, 0]

def k0_off1682 (v11942 : BitVec 32) : Fin 4 → Nat :=
  let c0_11730 : Index := 0#32
  let c1_i32_11729 : BitVec 32 := 1#32
  let v11949 : BitVec 32 := Scalar.addi v11942 c1_i32_11729
  let v11950 : Index := Scalar.indexCast v11949
  let c0_11731 : Index := 0#32
  let c0_11732 : Index := 0#32
  ![0, v11950.toNat, 0, 0]

def k0_chk841 (v11942 : BitVec 32) : Prop :=
  (∀ a, (k0_off1681 v11942) a + S1x1x1x128.size a ≤ S1x33344x1x128.size a) ∧
  (∀ a, (k0_off1682 v11942) a + S1x1x1x128.size a ≤ S1x33344x1x128.size a)
theorem k0_off1681_inb : ∀ (v11942 : BitVec 32) (k0_hw841 : k0_chk841 v11942), ∀ a, (k0_off1681 v11942) a + S1x1x1x128.size a ≤ S1x33344x1x128.size a := fun v11942 k0_hw841 => k0_hw841.1
theorem k0_off1682_inb : ∀ (v11942 : BitVec 32) (k0_hw841 : k0_chk841 v11942), ∀ a, (k0_off1682 v11942) a + S1x1x1x128.size a ≤ S1x33344x1x128.size a := fun v11942 k0_hw841 => k0_hw841.2

def k0_off1683 (v11956 : BitVec 32) : Fin 4 → Nat :=
  let c0_11738 : Index := 0#32
  let v11957 : Index := Scalar.indexCast v11956
  let c0_11739 : Index := 0#32
  let c0_11740 : Index := 0#32
  ![0, v11957.toNat, 0, 0]

def k0_off1684 (v11956 : BitVec 32) : Fin 4 → Nat :=
  let c0_11744 : Index := 0#32
  let c1_i32_11743 : BitVec 32 := 1#32
  let v11963 : BitVec 32 := Scalar.addi v11956 c1_i32_11743
  let v11964 : Index := Scalar.indexCast v11963
  let c0_11745 : Index := 0#32
  let c0_11746 : Index := 0#32
  ![0, v11964.toNat, 0, 0]

def k0_chk842 (v11956 : BitVec 32) : Prop :=
  (∀ a, (k0_off1683 v11956) a + S1x1x1x128.size a ≤ S1x33344x1x128.size a) ∧
  (∀ a, (k0_off1684 v11956) a + S1x1x1x128.size a ≤ S1x33344x1x128.size a)
theorem k0_off1683_inb : ∀ (v11956 : BitVec 32) (k0_hw842 : k0_chk842 v11956), ∀ a, (k0_off1683 v11956) a + S1x1x1x128.size a ≤ S1x33344x1x128.size a := fun v11956 k0_hw842 => k0_hw842.1
theorem k0_off1684_inb : ∀ (v11956 : BitVec 32) (k0_hw842 : k0_chk842 v11956), ∀ a, (k0_off1684 v11956) a + S1x1x1x128.size a ≤ S1x33344x1x128.size a := fun v11956 k0_hw842 => k0_hw842.2

def k0_off1685 (v11970 : BitVec 32) : Fin 4 → Nat :=
  let c0_11752 : Index := 0#32
  let v11971 : Index := Scalar.indexCast v11970
  let c0_11753 : Index := 0#32
  let c0_11754 : Index := 0#32
  ![0, v11971.toNat, 0, 0]

def k0_off1686 (v11970 : BitVec 32) : Fin 4 → Nat :=
  let c0_11758 : Index := 0#32
  let c1_i32_11757 : BitVec 32 := 1#32
  let v11977 : BitVec 32 := Scalar.addi v11970 c1_i32_11757
  let v11978 : Index := Scalar.indexCast v11977
  let c0_11759 : Index := 0#32
  let c0_11760 : Index := 0#32
  ![0, v11978.toNat, 0, 0]

def k0_chk843 (v11970 : BitVec 32) : Prop :=
  (∀ a, (k0_off1685 v11970) a + S1x1x1x128.size a ≤ S1x33344x1x128.size a) ∧
  (∀ a, (k0_off1686 v11970) a + S1x1x1x128.size a ≤ S1x33344x1x128.size a)
theorem k0_off1685_inb : ∀ (v11970 : BitVec 32) (k0_hw843 : k0_chk843 v11970), ∀ a, (k0_off1685 v11970) a + S1x1x1x128.size a ≤ S1x33344x1x128.size a := fun v11970 k0_hw843 => k0_hw843.1
theorem k0_off1686_inb : ∀ (v11970 : BitVec 32) (k0_hw843 : k0_chk843 v11970), ∀ a, (k0_off1686 v11970) a + S1x1x1x128.size a ≤ S1x33344x1x128.size a := fun v11970 k0_hw843 => k0_hw843.2

def k0_off1687 (v11984 : BitVec 32) : Fin 4 → Nat :=
  let c0_11766 : Index := 0#32
  let v11985 : Index := Scalar.indexCast v11984
  let c0_11767 : Index := 0#32
  let c0_11768 : Index := 0#32
  ![0, v11985.toNat, 0, 0]

def k0_off1688 (v11984 : BitVec 32) : Fin 4 → Nat :=
  let c0_11772 : Index := 0#32
  let c1_i32_11771 : BitVec 32 := 1#32
  let v11991 : BitVec 32 := Scalar.addi v11984 c1_i32_11771
  let v11992 : Index := Scalar.indexCast v11991
  let c0_11773 : Index := 0#32
  let c0_11774 : Index := 0#32
  ![0, v11992.toNat, 0, 0]

def k0_chk844 (v11984 : BitVec 32) : Prop :=
  (∀ a, (k0_off1687 v11984) a + S1x1x1x128.size a ≤ S1x33344x1x128.size a) ∧
  (∀ a, (k0_off1688 v11984) a + S1x1x1x128.size a ≤ S1x33344x1x128.size a)
theorem k0_off1687_inb : ∀ (v11984 : BitVec 32) (k0_hw844 : k0_chk844 v11984), ∀ a, (k0_off1687 v11984) a + S1x1x1x128.size a ≤ S1x33344x1x128.size a := fun v11984 k0_hw844 => k0_hw844.1
theorem k0_off1688_inb : ∀ (v11984 : BitVec 32) (k0_hw844 : k0_chk844 v11984), ∀ a, (k0_off1688 v11984) a + S1x1x1x128.size a ≤ S1x33344x1x128.size a := fun v11984 k0_hw844 => k0_hw844.2

def k0_off1689 (v11998 : BitVec 32) : Fin 4 → Nat :=
  let c0_11780 : Index := 0#32
  let v11999 : Index := Scalar.indexCast v11998
  let c0_11781 : Index := 0#32
  let c0_11782 : Index := 0#32
  ![0, v11999.toNat, 0, 0]

def k0_off1690 (v11998 : BitVec 32) : Fin 4 → Nat :=
  let c0_11786 : Index := 0#32
  let c1_i32_11785 : BitVec 32 := 1#32
  let v12005 : BitVec 32 := Scalar.addi v11998 c1_i32_11785
  let v12006 : Index := Scalar.indexCast v12005
  let c0_11787 : Index := 0#32
  let c0_11788 : Index := 0#32
  ![0, v12006.toNat, 0, 0]

def k0_chk845 (v11998 : BitVec 32) : Prop :=
  (∀ a, (k0_off1689 v11998) a + S1x1x1x128.size a ≤ S1x33344x1x128.size a) ∧
  (∀ a, (k0_off1690 v11998) a + S1x1x1x128.size a ≤ S1x33344x1x128.size a)
theorem k0_off1689_inb : ∀ (v11998 : BitVec 32) (k0_hw845 : k0_chk845 v11998), ∀ a, (k0_off1689 v11998) a + S1x1x1x128.size a ≤ S1x33344x1x128.size a := fun v11998 k0_hw845 => k0_hw845.1
theorem k0_off1690_inb : ∀ (v11998 : BitVec 32) (k0_hw845 : k0_chk845 v11998), ∀ a, (k0_off1690 v11998) a + S1x1x1x128.size a ≤ S1x33344x1x128.size a := fun v11998 k0_hw845 => k0_hw845.2

def k0_off1691 (v12012 : BitVec 32) : Fin 4 → Nat :=
  let c0_11794 : Index := 0#32
  let v12013 : Index := Scalar.indexCast v12012
  let c0_11795 : Index := 0#32
  let c0_11796 : Index := 0#32
  ![0, v12013.toNat, 0, 0]

def k0_off1692 (v12012 : BitVec 32) : Fin 4 → Nat :=
  let c0_11800 : Index := 0#32
  let c1_i32_11799 : BitVec 32 := 1#32
  let v12019 : BitVec 32 := Scalar.addi v12012 c1_i32_11799
  let v12020 : Index := Scalar.indexCast v12019
  let c0_11801 : Index := 0#32
  let c0_11802 : Index := 0#32
  ![0, v12020.toNat, 0, 0]

def k0_chk846 (v12012 : BitVec 32) : Prop :=
  (∀ a, (k0_off1691 v12012) a + S1x1x1x128.size a ≤ S1x33344x1x128.size a) ∧
  (∀ a, (k0_off1692 v12012) a + S1x1x1x128.size a ≤ S1x33344x1x128.size a)
theorem k0_off1691_inb : ∀ (v12012 : BitVec 32) (k0_hw846 : k0_chk846 v12012), ∀ a, (k0_off1691 v12012) a + S1x1x1x128.size a ≤ S1x33344x1x128.size a := fun v12012 k0_hw846 => k0_hw846.1
theorem k0_off1692_inb : ∀ (v12012 : BitVec 32) (k0_hw846 : k0_chk846 v12012), ∀ a, (k0_off1692 v12012) a + S1x1x1x128.size a ≤ S1x33344x1x128.size a := fun v12012 k0_hw846 => k0_hw846.2

def k0_off1693 (v12026 : BitVec 32) : Fin 4 → Nat :=
  let c0_11808 : Index := 0#32
  let v12027 : Index := Scalar.indexCast v12026
  let c0_11809 : Index := 0#32
  let c0_11810 : Index := 0#32
  ![0, v12027.toNat, 0, 0]

def k0_off1694 (v12026 : BitVec 32) : Fin 4 → Nat :=
  let c0_11814 : Index := 0#32
  let c1_i32_11813 : BitVec 32 := 1#32
  let v12033 : BitVec 32 := Scalar.addi v12026 c1_i32_11813
  let v12034 : Index := Scalar.indexCast v12033
  let c0_11815 : Index := 0#32
  let c0_11816 : Index := 0#32
  ![0, v12034.toNat, 0, 0]

def k0_chk847 (v12026 : BitVec 32) : Prop :=
  (∀ a, (k0_off1693 v12026) a + S1x1x1x128.size a ≤ S1x33344x1x128.size a) ∧
  (∀ a, (k0_off1694 v12026) a + S1x1x1x128.size a ≤ S1x33344x1x128.size a)
theorem k0_off1693_inb : ∀ (v12026 : BitVec 32) (k0_hw847 : k0_chk847 v12026), ∀ a, (k0_off1693 v12026) a + S1x1x1x128.size a ≤ S1x33344x1x128.size a := fun v12026 k0_hw847 => k0_hw847.1
theorem k0_off1694_inb : ∀ (v12026 : BitVec 32) (k0_hw847 : k0_chk847 v12026), ∀ a, (k0_off1694 v12026) a + S1x1x1x128.size a ≤ S1x33344x1x128.size a := fun v12026 k0_hw847 => k0_hw847.2

def k0_off1695 (v12040 : BitVec 32) : Fin 4 → Nat :=
  let c0_11822 : Index := 0#32
  let v12041 : Index := Scalar.indexCast v12040
  let c0_11823 : Index := 0#32
  let c0_11824 : Index := 0#32
  ![0, v12041.toNat, 0, 0]

def k0_off1696 (v12040 : BitVec 32) : Fin 4 → Nat :=
  let c0_11828 : Index := 0#32
  let c1_i32_11827 : BitVec 32 := 1#32
  let v12047 : BitVec 32 := Scalar.addi v12040 c1_i32_11827
  let v12048 : Index := Scalar.indexCast v12047
  let c0_11829 : Index := 0#32
  let c0_11830 : Index := 0#32
  ![0, v12048.toNat, 0, 0]

def k0_chk848 (v12040 : BitVec 32) : Prop :=
  (∀ a, (k0_off1695 v12040) a + S1x1x1x128.size a ≤ S1x33344x1x128.size a) ∧
  (∀ a, (k0_off1696 v12040) a + S1x1x1x128.size a ≤ S1x33344x1x128.size a)
theorem k0_off1695_inb : ∀ (v12040 : BitVec 32) (k0_hw848 : k0_chk848 v12040), ∀ a, (k0_off1695 v12040) a + S1x1x1x128.size a ≤ S1x33344x1x128.size a := fun v12040 k0_hw848 => k0_hw848.1
theorem k0_off1696_inb : ∀ (v12040 : BitVec 32) (k0_hw848 : k0_chk848 v12040), ∀ a, (k0_off1696 v12040) a + S1x1x1x128.size a ≤ S1x33344x1x128.size a := fun v12040 k0_hw848 => k0_hw848.2

def k0_off1697 (v12054 : BitVec 32) : Fin 4 → Nat :=
  let c0_11836 : Index := 0#32
  let v12055 : Index := Scalar.indexCast v12054
  let c0_11837 : Index := 0#32
  let c0_11838 : Index := 0#32
  ![0, v12055.toNat, 0, 0]

def k0_off1698 (v12054 : BitVec 32) : Fin 4 → Nat :=
  let c0_11842 : Index := 0#32
  let c1_i32_11841 : BitVec 32 := 1#32
  let v12061 : BitVec 32 := Scalar.addi v12054 c1_i32_11841
  let v12062 : Index := Scalar.indexCast v12061
  let c0_11843 : Index := 0#32
  let c0_11844 : Index := 0#32
  ![0, v12062.toNat, 0, 0]

def k0_chk849 (v12054 : BitVec 32) : Prop :=
  (∀ a, (k0_off1697 v12054) a + S1x1x1x128.size a ≤ S1x33344x1x128.size a) ∧
  (∀ a, (k0_off1698 v12054) a + S1x1x1x128.size a ≤ S1x33344x1x128.size a)
theorem k0_off1697_inb : ∀ (v12054 : BitVec 32) (k0_hw849 : k0_chk849 v12054), ∀ a, (k0_off1697 v12054) a + S1x1x1x128.size a ≤ S1x33344x1x128.size a := fun v12054 k0_hw849 => k0_hw849.1
theorem k0_off1698_inb : ∀ (v12054 : BitVec 32) (k0_hw849 : k0_chk849 v12054), ∀ a, (k0_off1698 v12054) a + S1x1x1x128.size a ≤ S1x33344x1x128.size a := fun v12054 k0_hw849 => k0_hw849.2

def k0_off1699 (v12068 : BitVec 32) : Fin 4 → Nat :=
  let c0_11850 : Index := 0#32
  let v12069 : Index := Scalar.indexCast v12068
  let c0_11851 : Index := 0#32
  let c0_11852 : Index := 0#32
  ![0, v12069.toNat, 0, 0]

def k0_off1700 (v12068 : BitVec 32) : Fin 4 → Nat :=
  let c0_11856 : Index := 0#32
  let c1_i32_11855 : BitVec 32 := 1#32
  let v12075 : BitVec 32 := Scalar.addi v12068 c1_i32_11855
  let v12076 : Index := Scalar.indexCast v12075
  let c0_11857 : Index := 0#32
  let c0_11858 : Index := 0#32
  ![0, v12076.toNat, 0, 0]

def k0_chk850 (v12068 : BitVec 32) : Prop :=
  (∀ a, (k0_off1699 v12068) a + S1x1x1x128.size a ≤ S1x33344x1x128.size a) ∧
  (∀ a, (k0_off1700 v12068) a + S1x1x1x128.size a ≤ S1x33344x1x128.size a)
theorem k0_off1699_inb : ∀ (v12068 : BitVec 32) (k0_hw850 : k0_chk850 v12068), ∀ a, (k0_off1699 v12068) a + S1x1x1x128.size a ≤ S1x33344x1x128.size a := fun v12068 k0_hw850 => k0_hw850.1
theorem k0_off1700_inb : ∀ (v12068 : BitVec 32) (k0_hw850 : k0_chk850 v12068), ∀ a, (k0_off1700 v12068) a + S1x1x1x128.size a ≤ S1x33344x1x128.size a := fun v12068 k0_hw850 => k0_hw850.2

def k0_off1701 (v12082 : BitVec 32) : Fin 4 → Nat :=
  let c0_11864 : Index := 0#32
  let v12083 : Index := Scalar.indexCast v12082
  let c0_11865 : Index := 0#32
  let c0_11866 : Index := 0#32
  ![0, v12083.toNat, 0, 0]

def k0_off1702 (v12082 : BitVec 32) : Fin 4 → Nat :=
  let c0_11870 : Index := 0#32
  let c1_i32_11869 : BitVec 32 := 1#32
  let v12089 : BitVec 32 := Scalar.addi v12082 c1_i32_11869
  let v12090 : Index := Scalar.indexCast v12089
  let c0_11871 : Index := 0#32
  let c0_11872 : Index := 0#32
  ![0, v12090.toNat, 0, 0]

def k0_chk851 (v12082 : BitVec 32) : Prop :=
  (∀ a, (k0_off1701 v12082) a + S1x1x1x128.size a ≤ S1x33344x1x128.size a) ∧
  (∀ a, (k0_off1702 v12082) a + S1x1x1x128.size a ≤ S1x33344x1x128.size a)
theorem k0_off1701_inb : ∀ (v12082 : BitVec 32) (k0_hw851 : k0_chk851 v12082), ∀ a, (k0_off1701 v12082) a + S1x1x1x128.size a ≤ S1x33344x1x128.size a := fun v12082 k0_hw851 => k0_hw851.1
theorem k0_off1702_inb : ∀ (v12082 : BitVec 32) (k0_hw851 : k0_chk851 v12082), ∀ a, (k0_off1702 v12082) a + S1x1x1x128.size a ≤ S1x33344x1x128.size a := fun v12082 k0_hw851 => k0_hw851.2

def k0_off1703 (v12096 : BitVec 32) : Fin 4 → Nat :=
  let c0_11878 : Index := 0#32
  let v12097 : Index := Scalar.indexCast v12096
  let c0_11879 : Index := 0#32
  let c0_11880 : Index := 0#32
  ![0, v12097.toNat, 0, 0]

def k0_off1704 (v12096 : BitVec 32) : Fin 4 → Nat :=
  let c0_11884 : Index := 0#32
  let c1_i32_11883 : BitVec 32 := 1#32
  let v12103 : BitVec 32 := Scalar.addi v12096 c1_i32_11883
  let v12104 : Index := Scalar.indexCast v12103
  let c0_11885 : Index := 0#32
  let c0_11886 : Index := 0#32
  ![0, v12104.toNat, 0, 0]

def k0_chk852 (v12096 : BitVec 32) : Prop :=
  (∀ a, (k0_off1703 v12096) a + S1x1x1x128.size a ≤ S1x33344x1x128.size a) ∧
  (∀ a, (k0_off1704 v12096) a + S1x1x1x128.size a ≤ S1x33344x1x128.size a)
theorem k0_off1703_inb : ∀ (v12096 : BitVec 32) (k0_hw852 : k0_chk852 v12096), ∀ a, (k0_off1703 v12096) a + S1x1x1x128.size a ≤ S1x33344x1x128.size a := fun v12096 k0_hw852 => k0_hw852.1
theorem k0_off1704_inb : ∀ (v12096 : BitVec 32) (k0_hw852 : k0_chk852 v12096), ∀ a, (k0_off1704 v12096) a + S1x1x1x128.size a ≤ S1x33344x1x128.size a := fun v12096 k0_hw852 => k0_hw852.2

def k0_off1705 (v12110 : BitVec 32) : Fin 4 → Nat :=
  let c0_11892 : Index := 0#32
  let v12111 : Index := Scalar.indexCast v12110
  let c0_11893 : Index := 0#32
  let c0_11894 : Index := 0#32
  ![0, v12111.toNat, 0, 0]

def k0_off1706 (v12110 : BitVec 32) : Fin 4 → Nat :=
  let c0_11898 : Index := 0#32
  let c1_i32_11897 : BitVec 32 := 1#32
  let v12117 : BitVec 32 := Scalar.addi v12110 c1_i32_11897
  let v12118 : Index := Scalar.indexCast v12117
  let c0_11899 : Index := 0#32
  let c0_11900 : Index := 0#32
  ![0, v12118.toNat, 0, 0]

def k0_chk853 (v12110 : BitVec 32) : Prop :=
  (∀ a, (k0_off1705 v12110) a + S1x1x1x128.size a ≤ S1x33344x1x128.size a) ∧
  (∀ a, (k0_off1706 v12110) a + S1x1x1x128.size a ≤ S1x33344x1x128.size a)
theorem k0_off1705_inb : ∀ (v12110 : BitVec 32) (k0_hw853 : k0_chk853 v12110), ∀ a, (k0_off1705 v12110) a + S1x1x1x128.size a ≤ S1x33344x1x128.size a := fun v12110 k0_hw853 => k0_hw853.1
theorem k0_off1706_inb : ∀ (v12110 : BitVec 32) (k0_hw853 : k0_chk853 v12110), ∀ a, (k0_off1706 v12110) a + S1x1x1x128.size a ≤ S1x33344x1x128.size a := fun v12110 k0_hw853 => k0_hw853.2

def k0_off1707 (v12124 : BitVec 32) : Fin 4 → Nat :=
  let c0_11906 : Index := 0#32
  let v12125 : Index := Scalar.indexCast v12124
  let c0_11907 : Index := 0#32
  let c0_11908 : Index := 0#32
  ![0, v12125.toNat, 0, 0]

def k0_off1708 (v12124 : BitVec 32) : Fin 4 → Nat :=
  let c0_11912 : Index := 0#32
  let c1_i32_11911 : BitVec 32 := 1#32
  let v12131 : BitVec 32 := Scalar.addi v12124 c1_i32_11911
  let v12132 : Index := Scalar.indexCast v12131
  let c0_11913 : Index := 0#32
  let c0_11914 : Index := 0#32
  ![0, v12132.toNat, 0, 0]

def k0_chk854 (v12124 : BitVec 32) : Prop :=
  (∀ a, (k0_off1707 v12124) a + S1x1x1x128.size a ≤ S1x33344x1x128.size a) ∧
  (∀ a, (k0_off1708 v12124) a + S1x1x1x128.size a ≤ S1x33344x1x128.size a)
theorem k0_off1707_inb : ∀ (v12124 : BitVec 32) (k0_hw854 : k0_chk854 v12124), ∀ a, (k0_off1707 v12124) a + S1x1x1x128.size a ≤ S1x33344x1x128.size a := fun v12124 k0_hw854 => k0_hw854.1
theorem k0_off1708_inb : ∀ (v12124 : BitVec 32) (k0_hw854 : k0_chk854 v12124), ∀ a, (k0_off1708 v12124) a + S1x1x1x128.size a ≤ S1x33344x1x128.size a := fun v12124 k0_hw854 => k0_hw854.2

def k0_off1709 (v12138 : BitVec 32) : Fin 4 → Nat :=
  let c0_11920 : Index := 0#32
  let v12139 : Index := Scalar.indexCast v12138
  let c0_11921 : Index := 0#32
  let c0_11922 : Index := 0#32
  ![0, v12139.toNat, 0, 0]

def k0_off1710 (v12138 : BitVec 32) : Fin 4 → Nat :=
  let c0_11926 : Index := 0#32
  let c1_i32_11925 : BitVec 32 := 1#32
  let v12145 : BitVec 32 := Scalar.addi v12138 c1_i32_11925
  let v12146 : Index := Scalar.indexCast v12145
  let c0_11927 : Index := 0#32
  let c0_11928 : Index := 0#32
  ![0, v12146.toNat, 0, 0]

def k0_chk855 (v12138 : BitVec 32) : Prop :=
  (∀ a, (k0_off1709 v12138) a + S1x1x1x128.size a ≤ S1x33344x1x128.size a) ∧
  (∀ a, (k0_off1710 v12138) a + S1x1x1x128.size a ≤ S1x33344x1x128.size a)
theorem k0_off1709_inb : ∀ (v12138 : BitVec 32) (k0_hw855 : k0_chk855 v12138), ∀ a, (k0_off1709 v12138) a + S1x1x1x128.size a ≤ S1x33344x1x128.size a := fun v12138 k0_hw855 => k0_hw855.1
theorem k0_off1710_inb : ∀ (v12138 : BitVec 32) (k0_hw855 : k0_chk855 v12138), ∀ a, (k0_off1710 v12138) a + S1x1x1x128.size a ≤ S1x33344x1x128.size a := fun v12138 k0_hw855 => k0_hw855.2

def k0_off1711 (v12152 : BitVec 32) : Fin 4 → Nat :=
  let c0_11934 : Index := 0#32
  let v12153 : Index := Scalar.indexCast v12152
  let c0_11935 : Index := 0#32
  let c0_11936 : Index := 0#32
  ![0, v12153.toNat, 0, 0]

def k0_off1712 (v12152 : BitVec 32) : Fin 4 → Nat :=
  let c0_11940 : Index := 0#32
  let c1_i32_11939 : BitVec 32 := 1#32
  let v12159 : BitVec 32 := Scalar.addi v12152 c1_i32_11939
  let v12160 : Index := Scalar.indexCast v12159
  let c0_11941 : Index := 0#32
  let c0_11942 : Index := 0#32
  ![0, v12160.toNat, 0, 0]

def k0_chk856 (v12152 : BitVec 32) : Prop :=
  (∀ a, (k0_off1711 v12152) a + S1x1x1x128.size a ≤ S1x33344x1x128.size a) ∧
  (∀ a, (k0_off1712 v12152) a + S1x1x1x128.size a ≤ S1x33344x1x128.size a)
theorem k0_off1711_inb : ∀ (v12152 : BitVec 32) (k0_hw856 : k0_chk856 v12152), ∀ a, (k0_off1711 v12152) a + S1x1x1x128.size a ≤ S1x33344x1x128.size a := fun v12152 k0_hw856 => k0_hw856.1
theorem k0_off1712_inb : ∀ (v12152 : BitVec 32) (k0_hw856 : k0_chk856 v12152), ∀ a, (k0_off1712 v12152) a + S1x1x1x128.size a ≤ S1x33344x1x128.size a := fun v12152 k0_hw856 => k0_hw856.2

def k0_off1713 (v12166 : BitVec 32) : Fin 4 → Nat :=
  let c0_11948 : Index := 0#32
  let v12167 : Index := Scalar.indexCast v12166
  let c0_11949 : Index := 0#32
  let c0_11950 : Index := 0#32
  ![0, v12167.toNat, 0, 0]

def k0_off1714 (v12166 : BitVec 32) : Fin 4 → Nat :=
  let c0_11954 : Index := 0#32
  let c1_i32_11953 : BitVec 32 := 1#32
  let v12173 : BitVec 32 := Scalar.addi v12166 c1_i32_11953
  let v12174 : Index := Scalar.indexCast v12173
  let c0_11955 : Index := 0#32
  let c0_11956 : Index := 0#32
  ![0, v12174.toNat, 0, 0]

def k0_chk857 (v12166 : BitVec 32) : Prop :=
  (∀ a, (k0_off1713 v12166) a + S1x1x1x128.size a ≤ S1x33344x1x128.size a) ∧
  (∀ a, (k0_off1714 v12166) a + S1x1x1x128.size a ≤ S1x33344x1x128.size a)
theorem k0_off1713_inb : ∀ (v12166 : BitVec 32) (k0_hw857 : k0_chk857 v12166), ∀ a, (k0_off1713 v12166) a + S1x1x1x128.size a ≤ S1x33344x1x128.size a := fun v12166 k0_hw857 => k0_hw857.1
theorem k0_off1714_inb : ∀ (v12166 : BitVec 32) (k0_hw857 : k0_chk857 v12166), ∀ a, (k0_off1714 v12166) a + S1x1x1x128.size a ≤ S1x33344x1x128.size a := fun v12166 k0_hw857 => k0_hw857.2

def k0_off1715 (v12180 : BitVec 32) : Fin 4 → Nat :=
  let c0_11962 : Index := 0#32
  let v12181 : Index := Scalar.indexCast v12180
  let c0_11963 : Index := 0#32
  let c0_11964 : Index := 0#32
  ![0, v12181.toNat, 0, 0]

def k0_off1716 (v12180 : BitVec 32) : Fin 4 → Nat :=
  let c0_11968 : Index := 0#32
  let c1_i32_11967 : BitVec 32 := 1#32
  let v12187 : BitVec 32 := Scalar.addi v12180 c1_i32_11967
  let v12188 : Index := Scalar.indexCast v12187
  let c0_11969 : Index := 0#32
  let c0_11970 : Index := 0#32
  ![0, v12188.toNat, 0, 0]

def k0_chk858 (v12180 : BitVec 32) : Prop :=
  (∀ a, (k0_off1715 v12180) a + S1x1x1x128.size a ≤ S1x33344x1x128.size a) ∧
  (∀ a, (k0_off1716 v12180) a + S1x1x1x128.size a ≤ S1x33344x1x128.size a)
theorem k0_off1715_inb : ∀ (v12180 : BitVec 32) (k0_hw858 : k0_chk858 v12180), ∀ a, (k0_off1715 v12180) a + S1x1x1x128.size a ≤ S1x33344x1x128.size a := fun v12180 k0_hw858 => k0_hw858.1
theorem k0_off1716_inb : ∀ (v12180 : BitVec 32) (k0_hw858 : k0_chk858 v12180), ∀ a, (k0_off1716 v12180) a + S1x1x1x128.size a ≤ S1x33344x1x128.size a := fun v12180 k0_hw858 => k0_hw858.2

def k0_off1717 (v12194 : BitVec 32) : Fin 4 → Nat :=
  let c0_11976 : Index := 0#32
  let v12195 : Index := Scalar.indexCast v12194
  let c0_11977 : Index := 0#32
  let c0_11978 : Index := 0#32
  ![0, v12195.toNat, 0, 0]

def k0_off1718 (v12194 : BitVec 32) : Fin 4 → Nat :=
  let c0_11982 : Index := 0#32
  let c1_i32_11981 : BitVec 32 := 1#32
  let v12201 : BitVec 32 := Scalar.addi v12194 c1_i32_11981
  let v12202 : Index := Scalar.indexCast v12201
  let c0_11983 : Index := 0#32
  let c0_11984 : Index := 0#32
  ![0, v12202.toNat, 0, 0]

def k0_chk859 (v12194 : BitVec 32) : Prop :=
  (∀ a, (k0_off1717 v12194) a + S1x1x1x128.size a ≤ S1x33344x1x128.size a) ∧
  (∀ a, (k0_off1718 v12194) a + S1x1x1x128.size a ≤ S1x33344x1x128.size a)
theorem k0_off1717_inb : ∀ (v12194 : BitVec 32) (k0_hw859 : k0_chk859 v12194), ∀ a, (k0_off1717 v12194) a + S1x1x1x128.size a ≤ S1x33344x1x128.size a := fun v12194 k0_hw859 => k0_hw859.1
theorem k0_off1718_inb : ∀ (v12194 : BitVec 32) (k0_hw859 : k0_chk859 v12194), ∀ a, (k0_off1718 v12194) a + S1x1x1x128.size a ≤ S1x33344x1x128.size a := fun v12194 k0_hw859 => k0_hw859.2

def k0_off1719 (v12208 : BitVec 32) : Fin 4 → Nat :=
  let c0_11990 : Index := 0#32
  let v12209 : Index := Scalar.indexCast v12208
  let c0_11991 : Index := 0#32
  let c0_11992 : Index := 0#32
  ![0, v12209.toNat, 0, 0]

def k0_off1720 (v12208 : BitVec 32) : Fin 4 → Nat :=
  let c0_11996 : Index := 0#32
  let c1_i32_11995 : BitVec 32 := 1#32
  let v12215 : BitVec 32 := Scalar.addi v12208 c1_i32_11995
  let v12216 : Index := Scalar.indexCast v12215
  let c0_11997 : Index := 0#32
  let c0_11998 : Index := 0#32
  ![0, v12216.toNat, 0, 0]

def k0_chk860 (v12208 : BitVec 32) : Prop :=
  (∀ a, (k0_off1719 v12208) a + S1x1x1x128.size a ≤ S1x33344x1x128.size a) ∧
  (∀ a, (k0_off1720 v12208) a + S1x1x1x128.size a ≤ S1x33344x1x128.size a)
theorem k0_off1719_inb : ∀ (v12208 : BitVec 32) (k0_hw860 : k0_chk860 v12208), ∀ a, (k0_off1719 v12208) a + S1x1x1x128.size a ≤ S1x33344x1x128.size a := fun v12208 k0_hw860 => k0_hw860.1
theorem k0_off1720_inb : ∀ (v12208 : BitVec 32) (k0_hw860 : k0_chk860 v12208), ∀ a, (k0_off1720 v12208) a + S1x1x1x128.size a ≤ S1x33344x1x128.size a := fun v12208 k0_hw860 => k0_hw860.2

def k0_off1721 (v12222 : BitVec 32) : Fin 4 → Nat :=
  let c0_12004 : Index := 0#32
  let v12223 : Index := Scalar.indexCast v12222
  let c0_12005 : Index := 0#32
  let c0_12006 : Index := 0#32
  ![0, v12223.toNat, 0, 0]

def k0_off1722 (v12222 : BitVec 32) : Fin 4 → Nat :=
  let c0_12010 : Index := 0#32
  let c1_i32_12009 : BitVec 32 := 1#32
  let v12229 : BitVec 32 := Scalar.addi v12222 c1_i32_12009
  let v12230 : Index := Scalar.indexCast v12229
  let c0_12011 : Index := 0#32
  let c0_12012 : Index := 0#32
  ![0, v12230.toNat, 0, 0]

def k0_chk861 (v12222 : BitVec 32) : Prop :=
  (∀ a, (k0_off1721 v12222) a + S1x1x1x128.size a ≤ S1x33344x1x128.size a) ∧
  (∀ a, (k0_off1722 v12222) a + S1x1x1x128.size a ≤ S1x33344x1x128.size a)
theorem k0_off1721_inb : ∀ (v12222 : BitVec 32) (k0_hw861 : k0_chk861 v12222), ∀ a, (k0_off1721 v12222) a + S1x1x1x128.size a ≤ S1x33344x1x128.size a := fun v12222 k0_hw861 => k0_hw861.1
theorem k0_off1722_inb : ∀ (v12222 : BitVec 32) (k0_hw861 : k0_chk861 v12222), ∀ a, (k0_off1722 v12222) a + S1x1x1x128.size a ≤ S1x33344x1x128.size a := fun v12222 k0_hw861 => k0_hw861.2

def k0_off1723 (v12236 : BitVec 32) : Fin 4 → Nat :=
  let c0_12018 : Index := 0#32
  let v12237 : Index := Scalar.indexCast v12236
  let c0_12019 : Index := 0#32
  let c0_12020 : Index := 0#32
  ![0, v12237.toNat, 0, 0]

def k0_off1724 (v12236 : BitVec 32) : Fin 4 → Nat :=
  let c0_12024 : Index := 0#32
  let c1_i32_12023 : BitVec 32 := 1#32
  let v12243 : BitVec 32 := Scalar.addi v12236 c1_i32_12023
  let v12244 : Index := Scalar.indexCast v12243
  let c0_12025 : Index := 0#32
  let c0_12026 : Index := 0#32
  ![0, v12244.toNat, 0, 0]

def k0_chk862 (v12236 : BitVec 32) : Prop :=
  (∀ a, (k0_off1723 v12236) a + S1x1x1x128.size a ≤ S1x33344x1x128.size a) ∧
  (∀ a, (k0_off1724 v12236) a + S1x1x1x128.size a ≤ S1x33344x1x128.size a)
theorem k0_off1723_inb : ∀ (v12236 : BitVec 32) (k0_hw862 : k0_chk862 v12236), ∀ a, (k0_off1723 v12236) a + S1x1x1x128.size a ≤ S1x33344x1x128.size a := fun v12236 k0_hw862 => k0_hw862.1
theorem k0_off1724_inb : ∀ (v12236 : BitVec 32) (k0_hw862 : k0_chk862 v12236), ∀ a, (k0_off1724 v12236) a + S1x1x1x128.size a ≤ S1x33344x1x128.size a := fun v12236 k0_hw862 => k0_hw862.2

def k0_off1725 (v12250 : BitVec 32) : Fin 4 → Nat :=
  let c0_12032 : Index := 0#32
  let v12251 : Index := Scalar.indexCast v12250
  let c0_12033 : Index := 0#32
  let c0_12034 : Index := 0#32
  ![0, v12251.toNat, 0, 0]

def k0_off1726 (v12250 : BitVec 32) : Fin 4 → Nat :=
  let c0_12038 : Index := 0#32
  let c1_i32_12037 : BitVec 32 := 1#32
  let v12257 : BitVec 32 := Scalar.addi v12250 c1_i32_12037
  let v12258 : Index := Scalar.indexCast v12257
  let c0_12039 : Index := 0#32
  let c0_12040 : Index := 0#32
  ![0, v12258.toNat, 0, 0]

def k0_chk863 (v12250 : BitVec 32) : Prop :=
  (∀ a, (k0_off1725 v12250) a + S1x1x1x128.size a ≤ S1x33344x1x128.size a) ∧
  (∀ a, (k0_off1726 v12250) a + S1x1x1x128.size a ≤ S1x33344x1x128.size a)
theorem k0_off1725_inb : ∀ (v12250 : BitVec 32) (k0_hw863 : k0_chk863 v12250), ∀ a, (k0_off1725 v12250) a + S1x1x1x128.size a ≤ S1x33344x1x128.size a := fun v12250 k0_hw863 => k0_hw863.1
theorem k0_off1726_inb : ∀ (v12250 : BitVec 32) (k0_hw863 : k0_chk863 v12250), ∀ a, (k0_off1726 v12250) a + S1x1x1x128.size a ≤ S1x33344x1x128.size a := fun v12250 k0_hw863 => k0_hw863.2

def k0_off1727 (v12264 : BitVec 32) : Fin 4 → Nat :=
  let c0_12046 : Index := 0#32
  let v12265 : Index := Scalar.indexCast v12264
  let c0_12047 : Index := 0#32
  let c0_12048 : Index := 0#32
  ![0, v12265.toNat, 0, 0]

def k0_off1728 (v12264 : BitVec 32) : Fin 4 → Nat :=
  let c0_12052 : Index := 0#32
  let c1_i32_12051 : BitVec 32 := 1#32
  let v12271 : BitVec 32 := Scalar.addi v12264 c1_i32_12051
  let v12272 : Index := Scalar.indexCast v12271
  let c0_12053 : Index := 0#32
  let c0_12054 : Index := 0#32
  ![0, v12272.toNat, 0, 0]

def k0_chk864 (v12264 : BitVec 32) : Prop :=
  (∀ a, (k0_off1727 v12264) a + S1x1x1x128.size a ≤ S1x33344x1x128.size a) ∧
  (∀ a, (k0_off1728 v12264) a + S1x1x1x128.size a ≤ S1x33344x1x128.size a)
theorem k0_off1727_inb : ∀ (v12264 : BitVec 32) (k0_hw864 : k0_chk864 v12264), ∀ a, (k0_off1727 v12264) a + S1x1x1x128.size a ≤ S1x33344x1x128.size a := fun v12264 k0_hw864 => k0_hw864.1
theorem k0_off1728_inb : ∀ (v12264 : BitVec 32) (k0_hw864 : k0_chk864 v12264), ∀ a, (k0_off1728 v12264) a + S1x1x1x128.size a ≤ S1x33344x1x128.size a := fun v12264 k0_hw864 => k0_hw864.2

def k0_off1729 (v12278 : BitVec 32) : Fin 4 → Nat :=
  let c0_12060 : Index := 0#32
  let v12279 : Index := Scalar.indexCast v12278
  let c0_12061 : Index := 0#32
  let c0_12062 : Index := 0#32
  ![0, v12279.toNat, 0, 0]

def k0_off1730 (v12278 : BitVec 32) : Fin 4 → Nat :=
  let c0_12066 : Index := 0#32
  let c1_i32_12065 : BitVec 32 := 1#32
  let v12285 : BitVec 32 := Scalar.addi v12278 c1_i32_12065
  let v12286 : Index := Scalar.indexCast v12285
  let c0_12067 : Index := 0#32
  let c0_12068 : Index := 0#32
  ![0, v12286.toNat, 0, 0]

def k0_chk865 (v12278 : BitVec 32) : Prop :=
  (∀ a, (k0_off1729 v12278) a + S1x1x1x128.size a ≤ S1x33344x1x128.size a) ∧
  (∀ a, (k0_off1730 v12278) a + S1x1x1x128.size a ≤ S1x33344x1x128.size a)
theorem k0_off1729_inb : ∀ (v12278 : BitVec 32) (k0_hw865 : k0_chk865 v12278), ∀ a, (k0_off1729 v12278) a + S1x1x1x128.size a ≤ S1x33344x1x128.size a := fun v12278 k0_hw865 => k0_hw865.1
theorem k0_off1730_inb : ∀ (v12278 : BitVec 32) (k0_hw865 : k0_chk865 v12278), ∀ a, (k0_off1730 v12278) a + S1x1x1x128.size a ≤ S1x33344x1x128.size a := fun v12278 k0_hw865 => k0_hw865.2

def k0_off1731 (v12292 : BitVec 32) : Fin 4 → Nat :=
  let c0_12074 : Index := 0#32
  let v12293 : Index := Scalar.indexCast v12292
  let c0_12075 : Index := 0#32
  let c0_12076 : Index := 0#32
  ![0, v12293.toNat, 0, 0]

def k0_off1732 (v12292 : BitVec 32) : Fin 4 → Nat :=
  let c0_12080 : Index := 0#32
  let c1_i32_12079 : BitVec 32 := 1#32
  let v12299 : BitVec 32 := Scalar.addi v12292 c1_i32_12079
  let v12300 : Index := Scalar.indexCast v12299
  let c0_12081 : Index := 0#32
  let c0_12082 : Index := 0#32
  ![0, v12300.toNat, 0, 0]

def k0_chk866 (v12292 : BitVec 32) : Prop :=
  (∀ a, (k0_off1731 v12292) a + S1x1x1x128.size a ≤ S1x33344x1x128.size a) ∧
  (∀ a, (k0_off1732 v12292) a + S1x1x1x128.size a ≤ S1x33344x1x128.size a)
theorem k0_off1731_inb : ∀ (v12292 : BitVec 32) (k0_hw866 : k0_chk866 v12292), ∀ a, (k0_off1731 v12292) a + S1x1x1x128.size a ≤ S1x33344x1x128.size a := fun v12292 k0_hw866 => k0_hw866.1
theorem k0_off1732_inb : ∀ (v12292 : BitVec 32) (k0_hw866 : k0_chk866 v12292), ∀ a, (k0_off1732 v12292) a + S1x1x1x128.size a ≤ S1x33344x1x128.size a := fun v12292 k0_hw866 => k0_hw866.2

def k0_off1733 (v12306 : BitVec 32) : Fin 4 → Nat :=
  let c0_12088 : Index := 0#32
  let v12307 : Index := Scalar.indexCast v12306
  let c0_12089 : Index := 0#32
  let c0_12090 : Index := 0#32
  ![0, v12307.toNat, 0, 0]

def k0_off1734 (v12306 : BitVec 32) : Fin 4 → Nat :=
  let c0_12094 : Index := 0#32
  let c1_i32_12093 : BitVec 32 := 1#32
  let v12313 : BitVec 32 := Scalar.addi v12306 c1_i32_12093
  let v12314 : Index := Scalar.indexCast v12313
  let c0_12095 : Index := 0#32
  let c0_12096 : Index := 0#32
  ![0, v12314.toNat, 0, 0]

def k0_chk867 (v12306 : BitVec 32) : Prop :=
  (∀ a, (k0_off1733 v12306) a + S1x1x1x128.size a ≤ S1x33344x1x128.size a) ∧
  (∀ a, (k0_off1734 v12306) a + S1x1x1x128.size a ≤ S1x33344x1x128.size a)
theorem k0_off1733_inb : ∀ (v12306 : BitVec 32) (k0_hw867 : k0_chk867 v12306), ∀ a, (k0_off1733 v12306) a + S1x1x1x128.size a ≤ S1x33344x1x128.size a := fun v12306 k0_hw867 => k0_hw867.1
theorem k0_off1734_inb : ∀ (v12306 : BitVec 32) (k0_hw867 : k0_chk867 v12306), ∀ a, (k0_off1734 v12306) a + S1x1x1x128.size a ≤ S1x33344x1x128.size a := fun v12306 k0_hw867 => k0_hw867.2

def k0_off1735 (v12320 : BitVec 32) : Fin 4 → Nat :=
  let c0_12102 : Index := 0#32
  let v12321 : Index := Scalar.indexCast v12320
  let c0_12103 : Index := 0#32
  let c0_12104 : Index := 0#32
  ![0, v12321.toNat, 0, 0]

def k0_off1736 (v12320 : BitVec 32) : Fin 4 → Nat :=
  let c0_12108 : Index := 0#32
  let c1_i32_12107 : BitVec 32 := 1#32
  let v12327 : BitVec 32 := Scalar.addi v12320 c1_i32_12107
  let v12328 : Index := Scalar.indexCast v12327
  let c0_12109 : Index := 0#32
  let c0_12110 : Index := 0#32
  ![0, v12328.toNat, 0, 0]

def k0_chk868 (v12320 : BitVec 32) : Prop :=
  (∀ a, (k0_off1735 v12320) a + S1x1x1x128.size a ≤ S1x33344x1x128.size a) ∧
  (∀ a, (k0_off1736 v12320) a + S1x1x1x128.size a ≤ S1x33344x1x128.size a)
theorem k0_off1735_inb : ∀ (v12320 : BitVec 32) (k0_hw868 : k0_chk868 v12320), ∀ a, (k0_off1735 v12320) a + S1x1x1x128.size a ≤ S1x33344x1x128.size a := fun v12320 k0_hw868 => k0_hw868.1
theorem k0_off1736_inb : ∀ (v12320 : BitVec 32) (k0_hw868 : k0_chk868 v12320), ∀ a, (k0_off1736 v12320) a + S1x1x1x128.size a ≤ S1x33344x1x128.size a := fun v12320 k0_hw868 => k0_hw868.2

def k0_off1737 (v12334 : BitVec 32) : Fin 4 → Nat :=
  let c0_12116 : Index := 0#32
  let v12335 : Index := Scalar.indexCast v12334
  let c0_12117 : Index := 0#32
  let c0_12118 : Index := 0#32
  ![0, v12335.toNat, 0, 0]

def k0_off1738 (v12334 : BitVec 32) : Fin 4 → Nat :=
  let c0_12122 : Index := 0#32
  let c1_i32_12121 : BitVec 32 := 1#32
  let v12341 : BitVec 32 := Scalar.addi v12334 c1_i32_12121
  let v12342 : Index := Scalar.indexCast v12341
  let c0_12123 : Index := 0#32
  let c0_12124 : Index := 0#32
  ![0, v12342.toNat, 0, 0]

def k0_chk869 (v12334 : BitVec 32) : Prop :=
  (∀ a, (k0_off1737 v12334) a + S1x1x1x128.size a ≤ S1x33344x1x128.size a) ∧
  (∀ a, (k0_off1738 v12334) a + S1x1x1x128.size a ≤ S1x33344x1x128.size a)
theorem k0_off1737_inb : ∀ (v12334 : BitVec 32) (k0_hw869 : k0_chk869 v12334), ∀ a, (k0_off1737 v12334) a + S1x1x1x128.size a ≤ S1x33344x1x128.size a := fun v12334 k0_hw869 => k0_hw869.1
theorem k0_off1738_inb : ∀ (v12334 : BitVec 32) (k0_hw869 : k0_chk869 v12334), ∀ a, (k0_off1738 v12334) a + S1x1x1x128.size a ≤ S1x33344x1x128.size a := fun v12334 k0_hw869 => k0_hw869.2

def k0_off1739 (v12348 : BitVec 32) : Fin 4 → Nat :=
  let c0_12130 : Index := 0#32
  let v12349 : Index := Scalar.indexCast v12348
  let c0_12131 : Index := 0#32
  let c0_12132 : Index := 0#32
  ![0, v12349.toNat, 0, 0]

def k0_off1740 (v12348 : BitVec 32) : Fin 4 → Nat :=
  let c0_12136 : Index := 0#32
  let c1_i32_12135 : BitVec 32 := 1#32
  let v12355 : BitVec 32 := Scalar.addi v12348 c1_i32_12135
  let v12356 : Index := Scalar.indexCast v12355
  let c0_12137 : Index := 0#32
  let c0_12138 : Index := 0#32
  ![0, v12356.toNat, 0, 0]

def k0_chk870 (v12348 : BitVec 32) : Prop :=
  (∀ a, (k0_off1739 v12348) a + S1x1x1x128.size a ≤ S1x33344x1x128.size a) ∧
  (∀ a, (k0_off1740 v12348) a + S1x1x1x128.size a ≤ S1x33344x1x128.size a)
theorem k0_off1739_inb : ∀ (v12348 : BitVec 32) (k0_hw870 : k0_chk870 v12348), ∀ a, (k0_off1739 v12348) a + S1x1x1x128.size a ≤ S1x33344x1x128.size a := fun v12348 k0_hw870 => k0_hw870.1
theorem k0_off1740_inb : ∀ (v12348 : BitVec 32) (k0_hw870 : k0_chk870 v12348), ∀ a, (k0_off1740 v12348) a + S1x1x1x128.size a ≤ S1x33344x1x128.size a := fun v12348 k0_hw870 => k0_hw870.2

def k0_off1741 (v12362 : BitVec 32) : Fin 4 → Nat :=
  let c0_12144 : Index := 0#32
  let v12363 : Index := Scalar.indexCast v12362
  let c0_12145 : Index := 0#32
  let c0_12146 : Index := 0#32
  ![0, v12363.toNat, 0, 0]

def k0_off1742 (v12362 : BitVec 32) : Fin 4 → Nat :=
  let c0_12150 : Index := 0#32
  let c1_i32_12149 : BitVec 32 := 1#32
  let v12369 : BitVec 32 := Scalar.addi v12362 c1_i32_12149
  let v12370 : Index := Scalar.indexCast v12369
  let c0_12151 : Index := 0#32
  let c0_12152 : Index := 0#32
  ![0, v12370.toNat, 0, 0]

def k0_chk871 (v12362 : BitVec 32) : Prop :=
  (∀ a, (k0_off1741 v12362) a + S1x1x1x128.size a ≤ S1x33344x1x128.size a) ∧
  (∀ a, (k0_off1742 v12362) a + S1x1x1x128.size a ≤ S1x33344x1x128.size a)
theorem k0_off1741_inb : ∀ (v12362 : BitVec 32) (k0_hw871 : k0_chk871 v12362), ∀ a, (k0_off1741 v12362) a + S1x1x1x128.size a ≤ S1x33344x1x128.size a := fun v12362 k0_hw871 => k0_hw871.1
theorem k0_off1742_inb : ∀ (v12362 : BitVec 32) (k0_hw871 : k0_chk871 v12362), ∀ a, (k0_off1742 v12362) a + S1x1x1x128.size a ≤ S1x33344x1x128.size a := fun v12362 k0_hw871 => k0_hw871.2

def k0_off1743 (v12376 : BitVec 32) : Fin 4 → Nat :=
  let c0_12158 : Index := 0#32
  let v12377 : Index := Scalar.indexCast v12376
  let c0_12159 : Index := 0#32
  let c0_12160 : Index := 0#32
  ![0, v12377.toNat, 0, 0]

def k0_off1744 (v12376 : BitVec 32) : Fin 4 → Nat :=
  let c0_12164 : Index := 0#32
  let c1_i32_12163 : BitVec 32 := 1#32
  let v12383 : BitVec 32 := Scalar.addi v12376 c1_i32_12163
  let v12384 : Index := Scalar.indexCast v12383
  let c0_12165 : Index := 0#32
  let c0_12166 : Index := 0#32
  ![0, v12384.toNat, 0, 0]

def k0_chk872 (v12376 : BitVec 32) : Prop :=
  (∀ a, (k0_off1743 v12376) a + S1x1x1x128.size a ≤ S1x33344x1x128.size a) ∧
  (∀ a, (k0_off1744 v12376) a + S1x1x1x128.size a ≤ S1x33344x1x128.size a)
theorem k0_off1743_inb : ∀ (v12376 : BitVec 32) (k0_hw872 : k0_chk872 v12376), ∀ a, (k0_off1743 v12376) a + S1x1x1x128.size a ≤ S1x33344x1x128.size a := fun v12376 k0_hw872 => k0_hw872.1
theorem k0_off1744_inb : ∀ (v12376 : BitVec 32) (k0_hw872 : k0_chk872 v12376), ∀ a, (k0_off1744 v12376) a + S1x1x1x128.size a ≤ S1x33344x1x128.size a := fun v12376 k0_hw872 => k0_hw872.2

def k0_off1745 (v12390 : BitVec 32) : Fin 4 → Nat :=
  let c0_12172 : Index := 0#32
  let v12391 : Index := Scalar.indexCast v12390
  let c0_12173 : Index := 0#32
  let c0_12174 : Index := 0#32
  ![0, v12391.toNat, 0, 0]

def k0_off1746 (v12390 : BitVec 32) : Fin 4 → Nat :=
  let c0_12178 : Index := 0#32
  let c1_i32_12177 : BitVec 32 := 1#32
  let v12397 : BitVec 32 := Scalar.addi v12390 c1_i32_12177
  let v12398 : Index := Scalar.indexCast v12397
  let c0_12179 : Index := 0#32
  let c0_12180 : Index := 0#32
  ![0, v12398.toNat, 0, 0]

def k0_chk873 (v12390 : BitVec 32) : Prop :=
  (∀ a, (k0_off1745 v12390) a + S1x1x1x128.size a ≤ S1x33344x1x128.size a) ∧
  (∀ a, (k0_off1746 v12390) a + S1x1x1x128.size a ≤ S1x33344x1x128.size a)
theorem k0_off1745_inb : ∀ (v12390 : BitVec 32) (k0_hw873 : k0_chk873 v12390), ∀ a, (k0_off1745 v12390) a + S1x1x1x128.size a ≤ S1x33344x1x128.size a := fun v12390 k0_hw873 => k0_hw873.1
theorem k0_off1746_inb : ∀ (v12390 : BitVec 32) (k0_hw873 : k0_chk873 v12390), ∀ a, (k0_off1746 v12390) a + S1x1x1x128.size a ≤ S1x33344x1x128.size a := fun v12390 k0_hw873 => k0_hw873.2

def k0_off1747 (v12404 : BitVec 32) : Fin 4 → Nat :=
  let c0_12186 : Index := 0#32
  let v12405 : Index := Scalar.indexCast v12404
  let c0_12187 : Index := 0#32
  let c0_12188 : Index := 0#32
  ![0, v12405.toNat, 0, 0]

def k0_off1748 (v12404 : BitVec 32) : Fin 4 → Nat :=
  let c0_12192 : Index := 0#32
  let c1_i32_12191 : BitVec 32 := 1#32
  let v12411 : BitVec 32 := Scalar.addi v12404 c1_i32_12191
  let v12412 : Index := Scalar.indexCast v12411
  let c0_12193 : Index := 0#32
  let c0_12194 : Index := 0#32
  ![0, v12412.toNat, 0, 0]

def k0_chk874 (v12404 : BitVec 32) : Prop :=
  (∀ a, (k0_off1747 v12404) a + S1x1x1x128.size a ≤ S1x33344x1x128.size a) ∧
  (∀ a, (k0_off1748 v12404) a + S1x1x1x128.size a ≤ S1x33344x1x128.size a)
theorem k0_off1747_inb : ∀ (v12404 : BitVec 32) (k0_hw874 : k0_chk874 v12404), ∀ a, (k0_off1747 v12404) a + S1x1x1x128.size a ≤ S1x33344x1x128.size a := fun v12404 k0_hw874 => k0_hw874.1
theorem k0_off1748_inb : ∀ (v12404 : BitVec 32) (k0_hw874 : k0_chk874 v12404), ∀ a, (k0_off1748 v12404) a + S1x1x1x128.size a ≤ S1x33344x1x128.size a := fun v12404 k0_hw874 => k0_hw874.2

def k0_off1749 (v12418 : BitVec 32) : Fin 4 → Nat :=
  let c0_12200 : Index := 0#32
  let v12419 : Index := Scalar.indexCast v12418
  let c0_12201 : Index := 0#32
  let c0_12202 : Index := 0#32
  ![0, v12419.toNat, 0, 0]

def k0_off1750 (v12418 : BitVec 32) : Fin 4 → Nat :=
  let c0_12206 : Index := 0#32
  let c1_i32_12205 : BitVec 32 := 1#32
  let v12425 : BitVec 32 := Scalar.addi v12418 c1_i32_12205
  let v12426 : Index := Scalar.indexCast v12425
  let c0_12207 : Index := 0#32
  let c0_12208 : Index := 0#32
  ![0, v12426.toNat, 0, 0]

def k0_chk875 (v12418 : BitVec 32) : Prop :=
  (∀ a, (k0_off1749 v12418) a + S1x1x1x128.size a ≤ S1x33344x1x128.size a) ∧
  (∀ a, (k0_off1750 v12418) a + S1x1x1x128.size a ≤ S1x33344x1x128.size a)
theorem k0_off1749_inb : ∀ (v12418 : BitVec 32) (k0_hw875 : k0_chk875 v12418), ∀ a, (k0_off1749 v12418) a + S1x1x1x128.size a ≤ S1x33344x1x128.size a := fun v12418 k0_hw875 => k0_hw875.1
theorem k0_off1750_inb : ∀ (v12418 : BitVec 32) (k0_hw875 : k0_chk875 v12418), ∀ a, (k0_off1750 v12418) a + S1x1x1x128.size a ≤ S1x33344x1x128.size a := fun v12418 k0_hw875 => k0_hw875.2

def k0_off1751 (v12432 : BitVec 32) : Fin 4 → Nat :=
  let c0_12214 : Index := 0#32
  let v12433 : Index := Scalar.indexCast v12432
  let c0_12215 : Index := 0#32
  let c0_12216 : Index := 0#32
  ![0, v12433.toNat, 0, 0]

def k0_off1752 (v12432 : BitVec 32) : Fin 4 → Nat :=
  let c0_12220 : Index := 0#32
  let c1_i32_12219 : BitVec 32 := 1#32
  let v12439 : BitVec 32 := Scalar.addi v12432 c1_i32_12219
  let v12440 : Index := Scalar.indexCast v12439
  let c0_12221 : Index := 0#32
  let c0_12222 : Index := 0#32
  ![0, v12440.toNat, 0, 0]

def k0_chk876 (v12432 : BitVec 32) : Prop :=
  (∀ a, (k0_off1751 v12432) a + S1x1x1x128.size a ≤ S1x33344x1x128.size a) ∧
  (∀ a, (k0_off1752 v12432) a + S1x1x1x128.size a ≤ S1x33344x1x128.size a)
theorem k0_off1751_inb : ∀ (v12432 : BitVec 32) (k0_hw876 : k0_chk876 v12432), ∀ a, (k0_off1751 v12432) a + S1x1x1x128.size a ≤ S1x33344x1x128.size a := fun v12432 k0_hw876 => k0_hw876.1
theorem k0_off1752_inb : ∀ (v12432 : BitVec 32) (k0_hw876 : k0_chk876 v12432), ∀ a, (k0_off1752 v12432) a + S1x1x1x128.size a ≤ S1x33344x1x128.size a := fun v12432 k0_hw876 => k0_hw876.2

def k0_off1753 (v12446 : BitVec 32) : Fin 4 → Nat :=
  let c0_12228 : Index := 0#32
  let v12447 : Index := Scalar.indexCast v12446
  let c0_12229 : Index := 0#32
  let c0_12230 : Index := 0#32
  ![0, v12447.toNat, 0, 0]

def k0_off1754 (v12446 : BitVec 32) : Fin 4 → Nat :=
  let c0_12234 : Index := 0#32
  let c1_i32_12233 : BitVec 32 := 1#32
  let v12453 : BitVec 32 := Scalar.addi v12446 c1_i32_12233
  let v12454 : Index := Scalar.indexCast v12453
  let c0_12235 : Index := 0#32
  let c0_12236 : Index := 0#32
  ![0, v12454.toNat, 0, 0]

def k0_chk877 (v12446 : BitVec 32) : Prop :=
  (∀ a, (k0_off1753 v12446) a + S1x1x1x128.size a ≤ S1x33344x1x128.size a) ∧
  (∀ a, (k0_off1754 v12446) a + S1x1x1x128.size a ≤ S1x33344x1x128.size a)
theorem k0_off1753_inb : ∀ (v12446 : BitVec 32) (k0_hw877 : k0_chk877 v12446), ∀ a, (k0_off1753 v12446) a + S1x1x1x128.size a ≤ S1x33344x1x128.size a := fun v12446 k0_hw877 => k0_hw877.1
theorem k0_off1754_inb : ∀ (v12446 : BitVec 32) (k0_hw877 : k0_chk877 v12446), ∀ a, (k0_off1754 v12446) a + S1x1x1x128.size a ≤ S1x33344x1x128.size a := fun v12446 k0_hw877 => k0_hw877.2

def k0_off1755 (v12460 : BitVec 32) : Fin 4 → Nat :=
  let c0_12242 : Index := 0#32
  let v12461 : Index := Scalar.indexCast v12460
  let c0_12243 : Index := 0#32
  let c0_12244 : Index := 0#32
  ![0, v12461.toNat, 0, 0]

def k0_off1756 (v12460 : BitVec 32) : Fin 4 → Nat :=
  let c0_12248 : Index := 0#32
  let c1_i32_12247 : BitVec 32 := 1#32
  let v12467 : BitVec 32 := Scalar.addi v12460 c1_i32_12247
  let v12468 : Index := Scalar.indexCast v12467
  let c0_12249 : Index := 0#32
  let c0_12250 : Index := 0#32
  ![0, v12468.toNat, 0, 0]

def k0_chk878 (v12460 : BitVec 32) : Prop :=
  (∀ a, (k0_off1755 v12460) a + S1x1x1x128.size a ≤ S1x33344x1x128.size a) ∧
  (∀ a, (k0_off1756 v12460) a + S1x1x1x128.size a ≤ S1x33344x1x128.size a)
theorem k0_off1755_inb : ∀ (v12460 : BitVec 32) (k0_hw878 : k0_chk878 v12460), ∀ a, (k0_off1755 v12460) a + S1x1x1x128.size a ≤ S1x33344x1x128.size a := fun v12460 k0_hw878 => k0_hw878.1
theorem k0_off1756_inb : ∀ (v12460 : BitVec 32) (k0_hw878 : k0_chk878 v12460), ∀ a, (k0_off1756 v12460) a + S1x1x1x128.size a ≤ S1x33344x1x128.size a := fun v12460 k0_hw878 => k0_hw878.2

def k0_off1757 (v12474 : BitVec 32) : Fin 4 → Nat :=
  let c0_12256 : Index := 0#32
  let v12475 : Index := Scalar.indexCast v12474
  let c0_12257 : Index := 0#32
  let c0_12258 : Index := 0#32
  ![0, v12475.toNat, 0, 0]

def k0_off1758 (v12474 : BitVec 32) : Fin 4 → Nat :=
  let c0_12262 : Index := 0#32
  let c1_i32_12261 : BitVec 32 := 1#32
  let v12481 : BitVec 32 := Scalar.addi v12474 c1_i32_12261
  let v12482 : Index := Scalar.indexCast v12481
  let c0_12263 : Index := 0#32
  let c0_12264 : Index := 0#32
  ![0, v12482.toNat, 0, 0]

def k0_chk879 (v12474 : BitVec 32) : Prop :=
  (∀ a, (k0_off1757 v12474) a + S1x1x1x128.size a ≤ S1x33344x1x128.size a) ∧
  (∀ a, (k0_off1758 v12474) a + S1x1x1x128.size a ≤ S1x33344x1x128.size a)
theorem k0_off1757_inb : ∀ (v12474 : BitVec 32) (k0_hw879 : k0_chk879 v12474), ∀ a, (k0_off1757 v12474) a + S1x1x1x128.size a ≤ S1x33344x1x128.size a := fun v12474 k0_hw879 => k0_hw879.1
theorem k0_off1758_inb : ∀ (v12474 : BitVec 32) (k0_hw879 : k0_chk879 v12474), ∀ a, (k0_off1758 v12474) a + S1x1x1x128.size a ≤ S1x33344x1x128.size a := fun v12474 k0_hw879 => k0_hw879.2

def k0_off1759 (v12488 : BitVec 32) : Fin 4 → Nat :=
  let c0_12270 : Index := 0#32
  let v12489 : Index := Scalar.indexCast v12488
  let c0_12271 : Index := 0#32
  let c0_12272 : Index := 0#32
  ![0, v12489.toNat, 0, 0]

def k0_off1760 (v12488 : BitVec 32) : Fin 4 → Nat :=
  let c0_12276 : Index := 0#32
  let c1_i32_12275 : BitVec 32 := 1#32
  let v12495 : BitVec 32 := Scalar.addi v12488 c1_i32_12275
  let v12496 : Index := Scalar.indexCast v12495
  let c0_12277 : Index := 0#32
  let c0_12278 : Index := 0#32
  ![0, v12496.toNat, 0, 0]

def k0_chk880 (v12488 : BitVec 32) : Prop :=
  (∀ a, (k0_off1759 v12488) a + S1x1x1x128.size a ≤ S1x33344x1x128.size a) ∧
  (∀ a, (k0_off1760 v12488) a + S1x1x1x128.size a ≤ S1x33344x1x128.size a)
theorem k0_off1759_inb : ∀ (v12488 : BitVec 32) (k0_hw880 : k0_chk880 v12488), ∀ a, (k0_off1759 v12488) a + S1x1x1x128.size a ≤ S1x33344x1x128.size a := fun v12488 k0_hw880 => k0_hw880.1
theorem k0_off1760_inb : ∀ (v12488 : BitVec 32) (k0_hw880 : k0_chk880 v12488), ∀ a, (k0_off1760 v12488) a + S1x1x1x128.size a ≤ S1x33344x1x128.size a := fun v12488 k0_hw880 => k0_hw880.2

def k0_off1761 (v12502 : BitVec 32) : Fin 4 → Nat :=
  let c0_12284 : Index := 0#32
  let v12503 : Index := Scalar.indexCast v12502
  let c0_12285 : Index := 0#32
  let c0_12286 : Index := 0#32
  ![0, v12503.toNat, 0, 0]

def k0_off1762 (v12502 : BitVec 32) : Fin 4 → Nat :=
  let c0_12290 : Index := 0#32
  let c1_i32_12289 : BitVec 32 := 1#32
  let v12509 : BitVec 32 := Scalar.addi v12502 c1_i32_12289
  let v12510 : Index := Scalar.indexCast v12509
  let c0_12291 : Index := 0#32
  let c0_12292 : Index := 0#32
  ![0, v12510.toNat, 0, 0]

def k0_chk881 (v12502 : BitVec 32) : Prop :=
  (∀ a, (k0_off1761 v12502) a + S1x1x1x128.size a ≤ S1x33344x1x128.size a) ∧
  (∀ a, (k0_off1762 v12502) a + S1x1x1x128.size a ≤ S1x33344x1x128.size a)
theorem k0_off1761_inb : ∀ (v12502 : BitVec 32) (k0_hw881 : k0_chk881 v12502), ∀ a, (k0_off1761 v12502) a + S1x1x1x128.size a ≤ S1x33344x1x128.size a := fun v12502 k0_hw881 => k0_hw881.1
theorem k0_off1762_inb : ∀ (v12502 : BitVec 32) (k0_hw881 : k0_chk881 v12502), ∀ a, (k0_off1762 v12502) a + S1x1x1x128.size a ≤ S1x33344x1x128.size a := fun v12502 k0_hw881 => k0_hw881.2

def k0_off1763 (v12516 : BitVec 32) : Fin 4 → Nat :=
  let c0_12298 : Index := 0#32
  let v12517 : Index := Scalar.indexCast v12516
  let c0_12299 : Index := 0#32
  let c0_12300 : Index := 0#32
  ![0, v12517.toNat, 0, 0]

def k0_off1764 (v12516 : BitVec 32) : Fin 4 → Nat :=
  let c0_12304 : Index := 0#32
  let c1_i32_12303 : BitVec 32 := 1#32
  let v12523 : BitVec 32 := Scalar.addi v12516 c1_i32_12303
  let v12524 : Index := Scalar.indexCast v12523
  let c0_12305 : Index := 0#32
  let c0_12306 : Index := 0#32
  ![0, v12524.toNat, 0, 0]

def k0_chk882 (v12516 : BitVec 32) : Prop :=
  (∀ a, (k0_off1763 v12516) a + S1x1x1x128.size a ≤ S1x33344x1x128.size a) ∧
  (∀ a, (k0_off1764 v12516) a + S1x1x1x128.size a ≤ S1x33344x1x128.size a)
theorem k0_off1763_inb : ∀ (v12516 : BitVec 32) (k0_hw882 : k0_chk882 v12516), ∀ a, (k0_off1763 v12516) a + S1x1x1x128.size a ≤ S1x33344x1x128.size a := fun v12516 k0_hw882 => k0_hw882.1
theorem k0_off1764_inb : ∀ (v12516 : BitVec 32) (k0_hw882 : k0_chk882 v12516), ∀ a, (k0_off1764 v12516) a + S1x1x1x128.size a ≤ S1x33344x1x128.size a := fun v12516 k0_hw882 => k0_hw882.2

def k0_off1765 (v12530 : BitVec 32) : Fin 4 → Nat :=
  let c0_12312 : Index := 0#32
  let v12531 : Index := Scalar.indexCast v12530
  let c0_12313 : Index := 0#32
  let c0_12314 : Index := 0#32
  ![0, v12531.toNat, 0, 0]

def k0_off1766 (v12530 : BitVec 32) : Fin 4 → Nat :=
  let c0_12318 : Index := 0#32
  let c1_i32_12317 : BitVec 32 := 1#32
  let v12537 : BitVec 32 := Scalar.addi v12530 c1_i32_12317
  let v12538 : Index := Scalar.indexCast v12537
  let c0_12319 : Index := 0#32
  let c0_12320 : Index := 0#32
  ![0, v12538.toNat, 0, 0]

def k0_chk883 (v12530 : BitVec 32) : Prop :=
  (∀ a, (k0_off1765 v12530) a + S1x1x1x128.size a ≤ S1x33344x1x128.size a) ∧
  (∀ a, (k0_off1766 v12530) a + S1x1x1x128.size a ≤ S1x33344x1x128.size a)
theorem k0_off1765_inb : ∀ (v12530 : BitVec 32) (k0_hw883 : k0_chk883 v12530), ∀ a, (k0_off1765 v12530) a + S1x1x1x128.size a ≤ S1x33344x1x128.size a := fun v12530 k0_hw883 => k0_hw883.1
theorem k0_off1766_inb : ∀ (v12530 : BitVec 32) (k0_hw883 : k0_chk883 v12530), ∀ a, (k0_off1766 v12530) a + S1x1x1x128.size a ≤ S1x33344x1x128.size a := fun v12530 k0_hw883 => k0_hw883.2

def k0_off1767 (v12544 : BitVec 32) : Fin 4 → Nat :=
  let c0_12326 : Index := 0#32
  let v12545 : Index := Scalar.indexCast v12544
  let c0_12327 : Index := 0#32
  let c0_12328 : Index := 0#32
  ![0, v12545.toNat, 0, 0]

def k0_off1768 (v12544 : BitVec 32) : Fin 4 → Nat :=
  let c0_12332 : Index := 0#32
  let c1_i32_12331 : BitVec 32 := 1#32
  let v12551 : BitVec 32 := Scalar.addi v12544 c1_i32_12331
  let v12552 : Index := Scalar.indexCast v12551
  let c0_12333 : Index := 0#32
  let c0_12334 : Index := 0#32
  ![0, v12552.toNat, 0, 0]

def k0_chk884 (v12544 : BitVec 32) : Prop :=
  (∀ a, (k0_off1767 v12544) a + S1x1x1x128.size a ≤ S1x33344x1x128.size a) ∧
  (∀ a, (k0_off1768 v12544) a + S1x1x1x128.size a ≤ S1x33344x1x128.size a)
theorem k0_off1767_inb : ∀ (v12544 : BitVec 32) (k0_hw884 : k0_chk884 v12544), ∀ a, (k0_off1767 v12544) a + S1x1x1x128.size a ≤ S1x33344x1x128.size a := fun v12544 k0_hw884 => k0_hw884.1
theorem k0_off1768_inb : ∀ (v12544 : BitVec 32) (k0_hw884 : k0_chk884 v12544), ∀ a, (k0_off1768 v12544) a + S1x1x1x128.size a ≤ S1x33344x1x128.size a := fun v12544 k0_hw884 => k0_hw884.2

def k0_off1769 (v12558 : BitVec 32) : Fin 4 → Nat :=
  let c0_12340 : Index := 0#32
  let v12559 : Index := Scalar.indexCast v12558
  let c0_12341 : Index := 0#32
  let c0_12342 : Index := 0#32
  ![0, v12559.toNat, 0, 0]

def k0_off1770 (v12558 : BitVec 32) : Fin 4 → Nat :=
  let c0_12346 : Index := 0#32
  let c1_i32_12345 : BitVec 32 := 1#32
  let v12565 : BitVec 32 := Scalar.addi v12558 c1_i32_12345
  let v12566 : Index := Scalar.indexCast v12565
  let c0_12347 : Index := 0#32
  let c0_12348 : Index := 0#32
  ![0, v12566.toNat, 0, 0]

def k0_chk885 (v12558 : BitVec 32) : Prop :=
  (∀ a, (k0_off1769 v12558) a + S1x1x1x128.size a ≤ S1x33344x1x128.size a) ∧
  (∀ a, (k0_off1770 v12558) a + S1x1x1x128.size a ≤ S1x33344x1x128.size a)
theorem k0_off1769_inb : ∀ (v12558 : BitVec 32) (k0_hw885 : k0_chk885 v12558), ∀ a, (k0_off1769 v12558) a + S1x1x1x128.size a ≤ S1x33344x1x128.size a := fun v12558 k0_hw885 => k0_hw885.1
theorem k0_off1770_inb : ∀ (v12558 : BitVec 32) (k0_hw885 : k0_chk885 v12558), ∀ a, (k0_off1770 v12558) a + S1x1x1x128.size a ≤ S1x33344x1x128.size a := fun v12558 k0_hw885 => k0_hw885.2

def k0_off1771 (v12572 : BitVec 32) : Fin 4 → Nat :=
  let c0_12354 : Index := 0#32
  let v12573 : Index := Scalar.indexCast v12572
  let c0_12355 : Index := 0#32
  let c0_12356 : Index := 0#32
  ![0, v12573.toNat, 0, 0]

def k0_off1772 (v12572 : BitVec 32) : Fin 4 → Nat :=
  let c0_12360 : Index := 0#32
  let c1_i32_12359 : BitVec 32 := 1#32
  let v12579 : BitVec 32 := Scalar.addi v12572 c1_i32_12359
  let v12580 : Index := Scalar.indexCast v12579
  let c0_12361 : Index := 0#32
  let c0_12362 : Index := 0#32
  ![0, v12580.toNat, 0, 0]

def k0_chk886 (v12572 : BitVec 32) : Prop :=
  (∀ a, (k0_off1771 v12572) a + S1x1x1x128.size a ≤ S1x33344x1x128.size a) ∧
  (∀ a, (k0_off1772 v12572) a + S1x1x1x128.size a ≤ S1x33344x1x128.size a)
theorem k0_off1771_inb : ∀ (v12572 : BitVec 32) (k0_hw886 : k0_chk886 v12572), ∀ a, (k0_off1771 v12572) a + S1x1x1x128.size a ≤ S1x33344x1x128.size a := fun v12572 k0_hw886 => k0_hw886.1
theorem k0_off1772_inb : ∀ (v12572 : BitVec 32) (k0_hw886 : k0_chk886 v12572), ∀ a, (k0_off1772 v12572) a + S1x1x1x128.size a ≤ S1x33344x1x128.size a := fun v12572 k0_hw886 => k0_hw886.2

def k0_off1773 (v12586 : BitVec 32) : Fin 4 → Nat :=
  let c0_12368 : Index := 0#32
  let v12587 : Index := Scalar.indexCast v12586
  let c0_12369 : Index := 0#32
  let c0_12370 : Index := 0#32
  ![0, v12587.toNat, 0, 0]

def k0_off1774 (v12586 : BitVec 32) : Fin 4 → Nat :=
  let c0_12374 : Index := 0#32
  let c1_i32_12373 : BitVec 32 := 1#32
  let v12593 : BitVec 32 := Scalar.addi v12586 c1_i32_12373
  let v12594 : Index := Scalar.indexCast v12593
  let c0_12375 : Index := 0#32
  let c0_12376 : Index := 0#32
  ![0, v12594.toNat, 0, 0]

def k0_chk887 (v12586 : BitVec 32) : Prop :=
  (∀ a, (k0_off1773 v12586) a + S1x1x1x128.size a ≤ S1x33344x1x128.size a) ∧
  (∀ a, (k0_off1774 v12586) a + S1x1x1x128.size a ≤ S1x33344x1x128.size a)
theorem k0_off1773_inb : ∀ (v12586 : BitVec 32) (k0_hw887 : k0_chk887 v12586), ∀ a, (k0_off1773 v12586) a + S1x1x1x128.size a ≤ S1x33344x1x128.size a := fun v12586 k0_hw887 => k0_hw887.1
theorem k0_off1774_inb : ∀ (v12586 : BitVec 32) (k0_hw887 : k0_chk887 v12586), ∀ a, (k0_off1774 v12586) a + S1x1x1x128.size a ≤ S1x33344x1x128.size a := fun v12586 k0_hw887 => k0_hw887.2

def k0_off1775 (v12600 : BitVec 32) : Fin 4 → Nat :=
  let c0_12382 : Index := 0#32
  let v12601 : Index := Scalar.indexCast v12600
  let c0_12383 : Index := 0#32
  let c0_12384 : Index := 0#32
  ![0, v12601.toNat, 0, 0]

def k0_off1776 (v12600 : BitVec 32) : Fin 4 → Nat :=
  let c0_12388 : Index := 0#32
  let c1_i32_12387 : BitVec 32 := 1#32
  let v12607 : BitVec 32 := Scalar.addi v12600 c1_i32_12387
  let v12608 : Index := Scalar.indexCast v12607
  let c0_12389 : Index := 0#32
  let c0_12390 : Index := 0#32
  ![0, v12608.toNat, 0, 0]

def k0_chk888 (v12600 : BitVec 32) : Prop :=
  (∀ a, (k0_off1775 v12600) a + S1x1x1x128.size a ≤ S1x33344x1x128.size a) ∧
  (∀ a, (k0_off1776 v12600) a + S1x1x1x128.size a ≤ S1x33344x1x128.size a)
theorem k0_off1775_inb : ∀ (v12600 : BitVec 32) (k0_hw888 : k0_chk888 v12600), ∀ a, (k0_off1775 v12600) a + S1x1x1x128.size a ≤ S1x33344x1x128.size a := fun v12600 k0_hw888 => k0_hw888.1
theorem k0_off1776_inb : ∀ (v12600 : BitVec 32) (k0_hw888 : k0_chk888 v12600), ∀ a, (k0_off1776 v12600) a + S1x1x1x128.size a ≤ S1x33344x1x128.size a := fun v12600 k0_hw888 => k0_hw888.2

def k0_off1777 (v12614 : BitVec 32) : Fin 4 → Nat :=
  let c0_12396 : Index := 0#32
  let v12615 : Index := Scalar.indexCast v12614
  let c0_12397 : Index := 0#32
  let c0_12398 : Index := 0#32
  ![0, v12615.toNat, 0, 0]

def k0_off1778 (v12614 : BitVec 32) : Fin 4 → Nat :=
  let c0_12402 : Index := 0#32
  let c1_i32_12401 : BitVec 32 := 1#32
  let v12621 : BitVec 32 := Scalar.addi v12614 c1_i32_12401
  let v12622 : Index := Scalar.indexCast v12621
  let c0_12403 : Index := 0#32
  let c0_12404 : Index := 0#32
  ![0, v12622.toNat, 0, 0]

def k0_chk889 (v12614 : BitVec 32) : Prop :=
  (∀ a, (k0_off1777 v12614) a + S1x1x1x128.size a ≤ S1x33344x1x128.size a) ∧
  (∀ a, (k0_off1778 v12614) a + S1x1x1x128.size a ≤ S1x33344x1x128.size a)
theorem k0_off1777_inb : ∀ (v12614 : BitVec 32) (k0_hw889 : k0_chk889 v12614), ∀ a, (k0_off1777 v12614) a + S1x1x1x128.size a ≤ S1x33344x1x128.size a := fun v12614 k0_hw889 => k0_hw889.1
theorem k0_off1778_inb : ∀ (v12614 : BitVec 32) (k0_hw889 : k0_chk889 v12614), ∀ a, (k0_off1778 v12614) a + S1x1x1x128.size a ≤ S1x33344x1x128.size a := fun v12614 k0_hw889 => k0_hw889.2

def k0_off1779 (v12628 : BitVec 32) : Fin 4 → Nat :=
  let c0_12410 : Index := 0#32
  let v12629 : Index := Scalar.indexCast v12628
  let c0_12411 : Index := 0#32
  let c0_12412 : Index := 0#32
  ![0, v12629.toNat, 0, 0]

def k0_off1780 (v12628 : BitVec 32) : Fin 4 → Nat :=
  let c0_12416 : Index := 0#32
  let c1_i32_12415 : BitVec 32 := 1#32
  let v12635 : BitVec 32 := Scalar.addi v12628 c1_i32_12415
  let v12636 : Index := Scalar.indexCast v12635
  let c0_12417 : Index := 0#32
  let c0_12418 : Index := 0#32
  ![0, v12636.toNat, 0, 0]

def k0_chk890 (v12628 : BitVec 32) : Prop :=
  (∀ a, (k0_off1779 v12628) a + S1x1x1x128.size a ≤ S1x33344x1x128.size a) ∧
  (∀ a, (k0_off1780 v12628) a + S1x1x1x128.size a ≤ S1x33344x1x128.size a)
theorem k0_off1779_inb : ∀ (v12628 : BitVec 32) (k0_hw890 : k0_chk890 v12628), ∀ a, (k0_off1779 v12628) a + S1x1x1x128.size a ≤ S1x33344x1x128.size a := fun v12628 k0_hw890 => k0_hw890.1
theorem k0_off1780_inb : ∀ (v12628 : BitVec 32) (k0_hw890 : k0_chk890 v12628), ∀ a, (k0_off1780 v12628) a + S1x1x1x128.size a ≤ S1x33344x1x128.size a := fun v12628 k0_hw890 => k0_hw890.2

def k0_off1781 (v12642 : BitVec 32) : Fin 4 → Nat :=
  let c0_12424 : Index := 0#32
  let v12643 : Index := Scalar.indexCast v12642
  let c0_12425 : Index := 0#32
  let c0_12426 : Index := 0#32
  ![0, v12643.toNat, 0, 0]

def k0_off1782 (v12642 : BitVec 32) : Fin 4 → Nat :=
  let c0_12430 : Index := 0#32
  let c1_i32_12429 : BitVec 32 := 1#32
  let v12649 : BitVec 32 := Scalar.addi v12642 c1_i32_12429
  let v12650 : Index := Scalar.indexCast v12649
  let c0_12431 : Index := 0#32
  let c0_12432 : Index := 0#32
  ![0, v12650.toNat, 0, 0]

def k0_chk891 (v12642 : BitVec 32) : Prop :=
  (∀ a, (k0_off1781 v12642) a + S1x1x1x128.size a ≤ S1x33344x1x128.size a) ∧
  (∀ a, (k0_off1782 v12642) a + S1x1x1x128.size a ≤ S1x33344x1x128.size a)
theorem k0_off1781_inb : ∀ (v12642 : BitVec 32) (k0_hw891 : k0_chk891 v12642), ∀ a, (k0_off1781 v12642) a + S1x1x1x128.size a ≤ S1x33344x1x128.size a := fun v12642 k0_hw891 => k0_hw891.1
theorem k0_off1782_inb : ∀ (v12642 : BitVec 32) (k0_hw891 : k0_chk891 v12642), ∀ a, (k0_off1782 v12642) a + S1x1x1x128.size a ≤ S1x33344x1x128.size a := fun v12642 k0_hw891 => k0_hw891.2

def k0_off1783 (v12656 : BitVec 32) : Fin 4 → Nat :=
  let c0_12438 : Index := 0#32
  let v12657 : Index := Scalar.indexCast v12656
  let c0_12439 : Index := 0#32
  let c0_12440 : Index := 0#32
  ![0, v12657.toNat, 0, 0]

def k0_off1784 (v12656 : BitVec 32) : Fin 4 → Nat :=
  let c0_12444 : Index := 0#32
  let c1_i32_12443 : BitVec 32 := 1#32
  let v12663 : BitVec 32 := Scalar.addi v12656 c1_i32_12443
  let v12664 : Index := Scalar.indexCast v12663
  let c0_12445 : Index := 0#32
  let c0_12446 : Index := 0#32
  ![0, v12664.toNat, 0, 0]

def k0_chk892 (v12656 : BitVec 32) : Prop :=
  (∀ a, (k0_off1783 v12656) a + S1x1x1x128.size a ≤ S1x33344x1x128.size a) ∧
  (∀ a, (k0_off1784 v12656) a + S1x1x1x128.size a ≤ S1x33344x1x128.size a)
theorem k0_off1783_inb : ∀ (v12656 : BitVec 32) (k0_hw892 : k0_chk892 v12656), ∀ a, (k0_off1783 v12656) a + S1x1x1x128.size a ≤ S1x33344x1x128.size a := fun v12656 k0_hw892 => k0_hw892.1
theorem k0_off1784_inb : ∀ (v12656 : BitVec 32) (k0_hw892 : k0_chk892 v12656), ∀ a, (k0_off1784 v12656) a + S1x1x1x128.size a ≤ S1x33344x1x128.size a := fun v12656 k0_hw892 => k0_hw892.2

def k0_off1785 (v12670 : BitVec 32) : Fin 4 → Nat :=
  let c0_12452 : Index := 0#32
  let v12671 : Index := Scalar.indexCast v12670
  let c0_12453 : Index := 0#32
  let c0_12454 : Index := 0#32
  ![0, v12671.toNat, 0, 0]

def k0_off1786 (v12670 : BitVec 32) : Fin 4 → Nat :=
  let c0_12458 : Index := 0#32
  let c1_i32_12457 : BitVec 32 := 1#32
  let v12677 : BitVec 32 := Scalar.addi v12670 c1_i32_12457
  let v12678 : Index := Scalar.indexCast v12677
  let c0_12459 : Index := 0#32
  let c0_12460 : Index := 0#32
  ![0, v12678.toNat, 0, 0]

def k0_chk893 (v12670 : BitVec 32) : Prop :=
  (∀ a, (k0_off1785 v12670) a + S1x1x1x128.size a ≤ S1x33344x1x128.size a) ∧
  (∀ a, (k0_off1786 v12670) a + S1x1x1x128.size a ≤ S1x33344x1x128.size a)
theorem k0_off1785_inb : ∀ (v12670 : BitVec 32) (k0_hw893 : k0_chk893 v12670), ∀ a, (k0_off1785 v12670) a + S1x1x1x128.size a ≤ S1x33344x1x128.size a := fun v12670 k0_hw893 => k0_hw893.1
theorem k0_off1786_inb : ∀ (v12670 : BitVec 32) (k0_hw893 : k0_chk893 v12670), ∀ a, (k0_off1786 v12670) a + S1x1x1x128.size a ≤ S1x33344x1x128.size a := fun v12670 k0_hw893 => k0_hw893.2

def k0_off1787 (v12684 : BitVec 32) : Fin 4 → Nat :=
  let c0_12466 : Index := 0#32
  let v12685 : Index := Scalar.indexCast v12684
  let c0_12467 : Index := 0#32
  let c0_12468 : Index := 0#32
  ![0, v12685.toNat, 0, 0]

def k0_off1788 (v12684 : BitVec 32) : Fin 4 → Nat :=
  let c0_12472 : Index := 0#32
  let c1_i32_12471 : BitVec 32 := 1#32
  let v12691 : BitVec 32 := Scalar.addi v12684 c1_i32_12471
  let v12692 : Index := Scalar.indexCast v12691
  let c0_12473 : Index := 0#32
  let c0_12474 : Index := 0#32
  ![0, v12692.toNat, 0, 0]

def k0_chk894 (v12684 : BitVec 32) : Prop :=
  (∀ a, (k0_off1787 v12684) a + S1x1x1x128.size a ≤ S1x33344x1x128.size a) ∧
  (∀ a, (k0_off1788 v12684) a + S1x1x1x128.size a ≤ S1x33344x1x128.size a)
theorem k0_off1787_inb : ∀ (v12684 : BitVec 32) (k0_hw894 : k0_chk894 v12684), ∀ a, (k0_off1787 v12684) a + S1x1x1x128.size a ≤ S1x33344x1x128.size a := fun v12684 k0_hw894 => k0_hw894.1
theorem k0_off1788_inb : ∀ (v12684 : BitVec 32) (k0_hw894 : k0_chk894 v12684), ∀ a, (k0_off1788 v12684) a + S1x1x1x128.size a ≤ S1x33344x1x128.size a := fun v12684 k0_hw894 => k0_hw894.2

def k0_off1789 (v12698 : BitVec 32) : Fin 4 → Nat :=
  let c0_12480 : Index := 0#32
  let v12699 : Index := Scalar.indexCast v12698
  let c0_12481 : Index := 0#32
  let c0_12482 : Index := 0#32
  ![0, v12699.toNat, 0, 0]

def k0_off1790 (v12698 : BitVec 32) : Fin 4 → Nat :=
  let c0_12486 : Index := 0#32
  let c1_i32_12485 : BitVec 32 := 1#32
  let v12705 : BitVec 32 := Scalar.addi v12698 c1_i32_12485
  let v12706 : Index := Scalar.indexCast v12705
  let c0_12487 : Index := 0#32
  let c0_12488 : Index := 0#32
  ![0, v12706.toNat, 0, 0]

def k0_chk895 (v12698 : BitVec 32) : Prop :=
  (∀ a, (k0_off1789 v12698) a + S1x1x1x128.size a ≤ S1x33344x1x128.size a) ∧
  (∀ a, (k0_off1790 v12698) a + S1x1x1x128.size a ≤ S1x33344x1x128.size a)
theorem k0_off1789_inb : ∀ (v12698 : BitVec 32) (k0_hw895 : k0_chk895 v12698), ∀ a, (k0_off1789 v12698) a + S1x1x1x128.size a ≤ S1x33344x1x128.size a := fun v12698 k0_hw895 => k0_hw895.1
theorem k0_off1790_inb : ∀ (v12698 : BitVec 32) (k0_hw895 : k0_chk895 v12698), ∀ a, (k0_off1790 v12698) a + S1x1x1x128.size a ≤ S1x33344x1x128.size a := fun v12698 k0_hw895 => k0_hw895.2

def k0_off1791 (v12712 : BitVec 32) : Fin 4 → Nat :=
  let c0_12494 : Index := 0#32
  let v12713 : Index := Scalar.indexCast v12712
  let c0_12495 : Index := 0#32
  let c0_12496 : Index := 0#32
  ![0, v12713.toNat, 0, 0]

def k0_off1792 (v12712 : BitVec 32) : Fin 4 → Nat :=
  let c0_12500 : Index := 0#32
  let c1_i32_12499 : BitVec 32 := 1#32
  let v12719 : BitVec 32 := Scalar.addi v12712 c1_i32_12499
  let v12720 : Index := Scalar.indexCast v12719
  let c0_12501 : Index := 0#32
  let c0_12502 : Index := 0#32
  ![0, v12720.toNat, 0, 0]

def k0_chk896 (v12712 : BitVec 32) : Prop :=
  (∀ a, (k0_off1791 v12712) a + S1x1x1x128.size a ≤ S1x33344x1x128.size a) ∧
  (∀ a, (k0_off1792 v12712) a + S1x1x1x128.size a ≤ S1x33344x1x128.size a)
theorem k0_off1791_inb : ∀ (v12712 : BitVec 32) (k0_hw896 : k0_chk896 v12712), ∀ a, (k0_off1791 v12712) a + S1x1x1x128.size a ≤ S1x33344x1x128.size a := fun v12712 k0_hw896 => k0_hw896.1
theorem k0_off1792_inb : ∀ (v12712 : BitVec 32) (k0_hw896 : k0_chk896 v12712), ∀ a, (k0_off1792 v12712) a + S1x1x1x128.size a ≤ S1x33344x1x128.size a := fun v12712 k0_hw896 => k0_hw896.2

def k0_off1793 (v12755 : BitVec 32) : Fin 4 → Nat :=
  let c0_12521 : Index := 0#32
  let v12756 : Index := Scalar.indexCast v12755
  let c0_12522 : Index := 0#32
  let c0_12523 : Index := 0#32
  ![0, v12756.toNat, 0, 0]

def k0_off1794 (v12755 : BitVec 32) : Fin 4 → Nat :=
  let c0_12527 : Index := 0#32
  let c1_i32_12526 : BitVec 32 := 1#32
  let v12762 : BitVec 32 := Scalar.addi v12755 c1_i32_12526
  let v12763 : Index := Scalar.indexCast v12762
  let c0_12528 : Index := 0#32
  let c0_12529 : Index := 0#32
  ![0, v12763.toNat, 0, 0]

def k0_chk897 (v12755 : BitVec 32) : Prop :=
  (∀ a, (k0_off1793 v12755) a + S1x1x1x128.size a ≤ S1x33344x1x128.size a) ∧
  (∀ a, (k0_off1794 v12755) a + S1x1x1x128.size a ≤ S1x33344x1x128.size a)
theorem k0_off1793_inb : ∀ (v12755 : BitVec 32) (k0_hw897 : k0_chk897 v12755), ∀ a, (k0_off1793 v12755) a + S1x1x1x128.size a ≤ S1x33344x1x128.size a := fun v12755 k0_hw897 => k0_hw897.1
theorem k0_off1794_inb : ∀ (v12755 : BitVec 32) (k0_hw897 : k0_chk897 v12755), ∀ a, (k0_off1794 v12755) a + S1x1x1x128.size a ≤ S1x33344x1x128.size a := fun v12755 k0_hw897 => k0_hw897.2

def k0_off1795 (v12769 : BitVec 32) : Fin 4 → Nat :=
  let c0_12535 : Index := 0#32
  let v12770 : Index := Scalar.indexCast v12769
  let c0_12536 : Index := 0#32
  let c0_12537 : Index := 0#32
  ![0, v12770.toNat, 0, 0]

def k0_off1796 (v12769 : BitVec 32) : Fin 4 → Nat :=
  let c0_12541 : Index := 0#32
  let c1_i32_12540 : BitVec 32 := 1#32
  let v12776 : BitVec 32 := Scalar.addi v12769 c1_i32_12540
  let v12777 : Index := Scalar.indexCast v12776
  let c0_12542 : Index := 0#32
  let c0_12543 : Index := 0#32
  ![0, v12777.toNat, 0, 0]

def k0_chk898 (v12769 : BitVec 32) : Prop :=
  (∀ a, (k0_off1795 v12769) a + S1x1x1x128.size a ≤ S1x33344x1x128.size a) ∧
  (∀ a, (k0_off1796 v12769) a + S1x1x1x128.size a ≤ S1x33344x1x128.size a)
theorem k0_off1795_inb : ∀ (v12769 : BitVec 32) (k0_hw898 : k0_chk898 v12769), ∀ a, (k0_off1795 v12769) a + S1x1x1x128.size a ≤ S1x33344x1x128.size a := fun v12769 k0_hw898 => k0_hw898.1
theorem k0_off1796_inb : ∀ (v12769 : BitVec 32) (k0_hw898 : k0_chk898 v12769), ∀ a, (k0_off1796 v12769) a + S1x1x1x128.size a ≤ S1x33344x1x128.size a := fun v12769 k0_hw898 => k0_hw898.2

def k0_off1797 (v12783 : BitVec 32) : Fin 4 → Nat :=
  let c0_12549 : Index := 0#32
  let v12784 : Index := Scalar.indexCast v12783
  let c0_12550 : Index := 0#32
  let c0_12551 : Index := 0#32
  ![0, v12784.toNat, 0, 0]

def k0_off1798 (v12783 : BitVec 32) : Fin 4 → Nat :=
  let c0_12555 : Index := 0#32
  let c1_i32_12554 : BitVec 32 := 1#32
  let v12790 : BitVec 32 := Scalar.addi v12783 c1_i32_12554
  let v12791 : Index := Scalar.indexCast v12790
  let c0_12556 : Index := 0#32
  let c0_12557 : Index := 0#32
  ![0, v12791.toNat, 0, 0]

def k0_chk899 (v12783 : BitVec 32) : Prop :=
  (∀ a, (k0_off1797 v12783) a + S1x1x1x128.size a ≤ S1x33344x1x128.size a) ∧
  (∀ a, (k0_off1798 v12783) a + S1x1x1x128.size a ≤ S1x33344x1x128.size a)
theorem k0_off1797_inb : ∀ (v12783 : BitVec 32) (k0_hw899 : k0_chk899 v12783), ∀ a, (k0_off1797 v12783) a + S1x1x1x128.size a ≤ S1x33344x1x128.size a := fun v12783 k0_hw899 => k0_hw899.1
theorem k0_off1798_inb : ∀ (v12783 : BitVec 32) (k0_hw899 : k0_chk899 v12783), ∀ a, (k0_off1798 v12783) a + S1x1x1x128.size a ≤ S1x33344x1x128.size a := fun v12783 k0_hw899 => k0_hw899.2

def k0_off1799 (v12797 : BitVec 32) : Fin 4 → Nat :=
  let c0_12563 : Index := 0#32
  let v12798 : Index := Scalar.indexCast v12797
  let c0_12564 : Index := 0#32
  let c0_12565 : Index := 0#32
  ![0, v12798.toNat, 0, 0]

def k0_off1800 (v12797 : BitVec 32) : Fin 4 → Nat :=
  let c0_12569 : Index := 0#32
  let c1_i32_12568 : BitVec 32 := 1#32
  let v12804 : BitVec 32 := Scalar.addi v12797 c1_i32_12568
  let v12805 : Index := Scalar.indexCast v12804
  let c0_12570 : Index := 0#32
  let c0_12571 : Index := 0#32
  ![0, v12805.toNat, 0, 0]

def k0_chk900 (v12797 : BitVec 32) : Prop :=
  (∀ a, (k0_off1799 v12797) a + S1x1x1x128.size a ≤ S1x33344x1x128.size a) ∧
  (∀ a, (k0_off1800 v12797) a + S1x1x1x128.size a ≤ S1x33344x1x128.size a)
theorem k0_off1799_inb : ∀ (v12797 : BitVec 32) (k0_hw900 : k0_chk900 v12797), ∀ a, (k0_off1799 v12797) a + S1x1x1x128.size a ≤ S1x33344x1x128.size a := fun v12797 k0_hw900 => k0_hw900.1
theorem k0_off1800_inb : ∀ (v12797 : BitVec 32) (k0_hw900 : k0_chk900 v12797), ∀ a, (k0_off1800 v12797) a + S1x1x1x128.size a ≤ S1x33344x1x128.size a := fun v12797 k0_hw900 => k0_hw900.2

def k0_off1801 (v12811 : BitVec 32) : Fin 4 → Nat :=
  let c0_12577 : Index := 0#32
  let v12812 : Index := Scalar.indexCast v12811
  let c0_12578 : Index := 0#32
  let c0_12579 : Index := 0#32
  ![0, v12812.toNat, 0, 0]

def k0_off1802 (v12811 : BitVec 32) : Fin 4 → Nat :=
  let c0_12583 : Index := 0#32
  let c1_i32_12582 : BitVec 32 := 1#32
  let v12818 : BitVec 32 := Scalar.addi v12811 c1_i32_12582
  let v12819 : Index := Scalar.indexCast v12818
  let c0_12584 : Index := 0#32
  let c0_12585 : Index := 0#32
  ![0, v12819.toNat, 0, 0]

def k0_chk901 (v12811 : BitVec 32) : Prop :=
  (∀ a, (k0_off1801 v12811) a + S1x1x1x128.size a ≤ S1x33344x1x128.size a) ∧
  (∀ a, (k0_off1802 v12811) a + S1x1x1x128.size a ≤ S1x33344x1x128.size a)
theorem k0_off1801_inb : ∀ (v12811 : BitVec 32) (k0_hw901 : k0_chk901 v12811), ∀ a, (k0_off1801 v12811) a + S1x1x1x128.size a ≤ S1x33344x1x128.size a := fun v12811 k0_hw901 => k0_hw901.1
theorem k0_off1802_inb : ∀ (v12811 : BitVec 32) (k0_hw901 : k0_chk901 v12811), ∀ a, (k0_off1802 v12811) a + S1x1x1x128.size a ≤ S1x33344x1x128.size a := fun v12811 k0_hw901 => k0_hw901.2

def k0_off1803 (v12825 : BitVec 32) : Fin 4 → Nat :=
  let c0_12591 : Index := 0#32
  let v12826 : Index := Scalar.indexCast v12825
  let c0_12592 : Index := 0#32
  let c0_12593 : Index := 0#32
  ![0, v12826.toNat, 0, 0]

def k0_off1804 (v12825 : BitVec 32) : Fin 4 → Nat :=
  let c0_12597 : Index := 0#32
  let c1_i32_12596 : BitVec 32 := 1#32
  let v12832 : BitVec 32 := Scalar.addi v12825 c1_i32_12596
  let v12833 : Index := Scalar.indexCast v12832
  let c0_12598 : Index := 0#32
  let c0_12599 : Index := 0#32
  ![0, v12833.toNat, 0, 0]

def k0_chk902 (v12825 : BitVec 32) : Prop :=
  (∀ a, (k0_off1803 v12825) a + S1x1x1x128.size a ≤ S1x33344x1x128.size a) ∧
  (∀ a, (k0_off1804 v12825) a + S1x1x1x128.size a ≤ S1x33344x1x128.size a)
theorem k0_off1803_inb : ∀ (v12825 : BitVec 32) (k0_hw902 : k0_chk902 v12825), ∀ a, (k0_off1803 v12825) a + S1x1x1x128.size a ≤ S1x33344x1x128.size a := fun v12825 k0_hw902 => k0_hw902.1
theorem k0_off1804_inb : ∀ (v12825 : BitVec 32) (k0_hw902 : k0_chk902 v12825), ∀ a, (k0_off1804 v12825) a + S1x1x1x128.size a ≤ S1x33344x1x128.size a := fun v12825 k0_hw902 => k0_hw902.2

def k0_off1805 (v12839 : BitVec 32) : Fin 4 → Nat :=
  let c0_12605 : Index := 0#32
  let v12840 : Index := Scalar.indexCast v12839
  let c0_12606 : Index := 0#32
  let c0_12607 : Index := 0#32
  ![0, v12840.toNat, 0, 0]

def k0_off1806 (v12839 : BitVec 32) : Fin 4 → Nat :=
  let c0_12611 : Index := 0#32
  let c1_i32_12610 : BitVec 32 := 1#32
  let v12846 : BitVec 32 := Scalar.addi v12839 c1_i32_12610
  let v12847 : Index := Scalar.indexCast v12846
  let c0_12612 : Index := 0#32
  let c0_12613 : Index := 0#32
  ![0, v12847.toNat, 0, 0]

def k0_chk903 (v12839 : BitVec 32) : Prop :=
  (∀ a, (k0_off1805 v12839) a + S1x1x1x128.size a ≤ S1x33344x1x128.size a) ∧
  (∀ a, (k0_off1806 v12839) a + S1x1x1x128.size a ≤ S1x33344x1x128.size a)
theorem k0_off1805_inb : ∀ (v12839 : BitVec 32) (k0_hw903 : k0_chk903 v12839), ∀ a, (k0_off1805 v12839) a + S1x1x1x128.size a ≤ S1x33344x1x128.size a := fun v12839 k0_hw903 => k0_hw903.1
theorem k0_off1806_inb : ∀ (v12839 : BitVec 32) (k0_hw903 : k0_chk903 v12839), ∀ a, (k0_off1806 v12839) a + S1x1x1x128.size a ≤ S1x33344x1x128.size a := fun v12839 k0_hw903 => k0_hw903.2

def k0_off1807 (v12853 : BitVec 32) : Fin 4 → Nat :=
  let c0_12619 : Index := 0#32
  let v12854 : Index := Scalar.indexCast v12853
  let c0_12620 : Index := 0#32
  let c0_12621 : Index := 0#32
  ![0, v12854.toNat, 0, 0]

def k0_off1808 (v12853 : BitVec 32) : Fin 4 → Nat :=
  let c0_12625 : Index := 0#32
  let c1_i32_12624 : BitVec 32 := 1#32
  let v12860 : BitVec 32 := Scalar.addi v12853 c1_i32_12624
  let v12861 : Index := Scalar.indexCast v12860
  let c0_12626 : Index := 0#32
  let c0_12627 : Index := 0#32
  ![0, v12861.toNat, 0, 0]

def k0_chk904 (v12853 : BitVec 32) : Prop :=
  (∀ a, (k0_off1807 v12853) a + S1x1x1x128.size a ≤ S1x33344x1x128.size a) ∧
  (∀ a, (k0_off1808 v12853) a + S1x1x1x128.size a ≤ S1x33344x1x128.size a)
theorem k0_off1807_inb : ∀ (v12853 : BitVec 32) (k0_hw904 : k0_chk904 v12853), ∀ a, (k0_off1807 v12853) a + S1x1x1x128.size a ≤ S1x33344x1x128.size a := fun v12853 k0_hw904 => k0_hw904.1
theorem k0_off1808_inb : ∀ (v12853 : BitVec 32) (k0_hw904 : k0_chk904 v12853), ∀ a, (k0_off1808 v12853) a + S1x1x1x128.size a ≤ S1x33344x1x128.size a := fun v12853 k0_hw904 => k0_hw904.2

def k0_off1809 (v12867 : BitVec 32) : Fin 4 → Nat :=
  let c0_12633 : Index := 0#32
  let v12868 : Index := Scalar.indexCast v12867
  let c0_12634 : Index := 0#32
  let c0_12635 : Index := 0#32
  ![0, v12868.toNat, 0, 0]

def k0_off1810 (v12867 : BitVec 32) : Fin 4 → Nat :=
  let c0_12639 : Index := 0#32
  let c1_i32_12638 : BitVec 32 := 1#32
  let v12874 : BitVec 32 := Scalar.addi v12867 c1_i32_12638
  let v12875 : Index := Scalar.indexCast v12874
  let c0_12640 : Index := 0#32
  let c0_12641 : Index := 0#32
  ![0, v12875.toNat, 0, 0]

def k0_chk905 (v12867 : BitVec 32) : Prop :=
  (∀ a, (k0_off1809 v12867) a + S1x1x1x128.size a ≤ S1x33344x1x128.size a) ∧
  (∀ a, (k0_off1810 v12867) a + S1x1x1x128.size a ≤ S1x33344x1x128.size a)
theorem k0_off1809_inb : ∀ (v12867 : BitVec 32) (k0_hw905 : k0_chk905 v12867), ∀ a, (k0_off1809 v12867) a + S1x1x1x128.size a ≤ S1x33344x1x128.size a := fun v12867 k0_hw905 => k0_hw905.1
theorem k0_off1810_inb : ∀ (v12867 : BitVec 32) (k0_hw905 : k0_chk905 v12867), ∀ a, (k0_off1810 v12867) a + S1x1x1x128.size a ≤ S1x33344x1x128.size a := fun v12867 k0_hw905 => k0_hw905.2

def k0_off1811 (v12881 : BitVec 32) : Fin 4 → Nat :=
  let c0_12647 : Index := 0#32
  let v12882 : Index := Scalar.indexCast v12881
  let c0_12648 : Index := 0#32
  let c0_12649 : Index := 0#32
  ![0, v12882.toNat, 0, 0]

def k0_off1812 (v12881 : BitVec 32) : Fin 4 → Nat :=
  let c0_12653 : Index := 0#32
  let c1_i32_12652 : BitVec 32 := 1#32
  let v12888 : BitVec 32 := Scalar.addi v12881 c1_i32_12652
  let v12889 : Index := Scalar.indexCast v12888
  let c0_12654 : Index := 0#32
  let c0_12655 : Index := 0#32
  ![0, v12889.toNat, 0, 0]

def k0_chk906 (v12881 : BitVec 32) : Prop :=
  (∀ a, (k0_off1811 v12881) a + S1x1x1x128.size a ≤ S1x33344x1x128.size a) ∧
  (∀ a, (k0_off1812 v12881) a + S1x1x1x128.size a ≤ S1x33344x1x128.size a)
theorem k0_off1811_inb : ∀ (v12881 : BitVec 32) (k0_hw906 : k0_chk906 v12881), ∀ a, (k0_off1811 v12881) a + S1x1x1x128.size a ≤ S1x33344x1x128.size a := fun v12881 k0_hw906 => k0_hw906.1
theorem k0_off1812_inb : ∀ (v12881 : BitVec 32) (k0_hw906 : k0_chk906 v12881), ∀ a, (k0_off1812 v12881) a + S1x1x1x128.size a ≤ S1x33344x1x128.size a := fun v12881 k0_hw906 => k0_hw906.2

def k0_off1813 (v12895 : BitVec 32) : Fin 4 → Nat :=
  let c0_12661 : Index := 0#32
  let v12896 : Index := Scalar.indexCast v12895
  let c0_12662 : Index := 0#32
  let c0_12663 : Index := 0#32
  ![0, v12896.toNat, 0, 0]

def k0_off1814 (v12895 : BitVec 32) : Fin 4 → Nat :=
  let c0_12667 : Index := 0#32
  let c1_i32_12666 : BitVec 32 := 1#32
  let v12902 : BitVec 32 := Scalar.addi v12895 c1_i32_12666
  let v12903 : Index := Scalar.indexCast v12902
  let c0_12668 : Index := 0#32
  let c0_12669 : Index := 0#32
  ![0, v12903.toNat, 0, 0]

def k0_chk907 (v12895 : BitVec 32) : Prop :=
  (∀ a, (k0_off1813 v12895) a + S1x1x1x128.size a ≤ S1x33344x1x128.size a) ∧
  (∀ a, (k0_off1814 v12895) a + S1x1x1x128.size a ≤ S1x33344x1x128.size a)
theorem k0_off1813_inb : ∀ (v12895 : BitVec 32) (k0_hw907 : k0_chk907 v12895), ∀ a, (k0_off1813 v12895) a + S1x1x1x128.size a ≤ S1x33344x1x128.size a := fun v12895 k0_hw907 => k0_hw907.1
theorem k0_off1814_inb : ∀ (v12895 : BitVec 32) (k0_hw907 : k0_chk907 v12895), ∀ a, (k0_off1814 v12895) a + S1x1x1x128.size a ≤ S1x33344x1x128.size a := fun v12895 k0_hw907 => k0_hw907.2

def k0_off1815 (v12909 : BitVec 32) : Fin 4 → Nat :=
  let c0_12675 : Index := 0#32
  let v12910 : Index := Scalar.indexCast v12909
  let c0_12676 : Index := 0#32
  let c0_12677 : Index := 0#32
  ![0, v12910.toNat, 0, 0]

def k0_off1816 (v12909 : BitVec 32) : Fin 4 → Nat :=
  let c0_12681 : Index := 0#32
  let c1_i32_12680 : BitVec 32 := 1#32
  let v12916 : BitVec 32 := Scalar.addi v12909 c1_i32_12680
  let v12917 : Index := Scalar.indexCast v12916
  let c0_12682 : Index := 0#32
  let c0_12683 : Index := 0#32
  ![0, v12917.toNat, 0, 0]

def k0_chk908 (v12909 : BitVec 32) : Prop :=
  (∀ a, (k0_off1815 v12909) a + S1x1x1x128.size a ≤ S1x33344x1x128.size a) ∧
  (∀ a, (k0_off1816 v12909) a + S1x1x1x128.size a ≤ S1x33344x1x128.size a)
theorem k0_off1815_inb : ∀ (v12909 : BitVec 32) (k0_hw908 : k0_chk908 v12909), ∀ a, (k0_off1815 v12909) a + S1x1x1x128.size a ≤ S1x33344x1x128.size a := fun v12909 k0_hw908 => k0_hw908.1
theorem k0_off1816_inb : ∀ (v12909 : BitVec 32) (k0_hw908 : k0_chk908 v12909), ∀ a, (k0_off1816 v12909) a + S1x1x1x128.size a ≤ S1x33344x1x128.size a := fun v12909 k0_hw908 => k0_hw908.2

def k0_off1817 (v12923 : BitVec 32) : Fin 4 → Nat :=
  let c0_12689 : Index := 0#32
  let v12924 : Index := Scalar.indexCast v12923
  let c0_12690 : Index := 0#32
  let c0_12691 : Index := 0#32
  ![0, v12924.toNat, 0, 0]

def k0_off1818 (v12923 : BitVec 32) : Fin 4 → Nat :=
  let c0_12695 : Index := 0#32
  let c1_i32_12694 : BitVec 32 := 1#32
  let v12930 : BitVec 32 := Scalar.addi v12923 c1_i32_12694
  let v12931 : Index := Scalar.indexCast v12930
  let c0_12696 : Index := 0#32
  let c0_12697 : Index := 0#32
  ![0, v12931.toNat, 0, 0]

def k0_chk909 (v12923 : BitVec 32) : Prop :=
  (∀ a, (k0_off1817 v12923) a + S1x1x1x128.size a ≤ S1x33344x1x128.size a) ∧
  (∀ a, (k0_off1818 v12923) a + S1x1x1x128.size a ≤ S1x33344x1x128.size a)
theorem k0_off1817_inb : ∀ (v12923 : BitVec 32) (k0_hw909 : k0_chk909 v12923), ∀ a, (k0_off1817 v12923) a + S1x1x1x128.size a ≤ S1x33344x1x128.size a := fun v12923 k0_hw909 => k0_hw909.1
theorem k0_off1818_inb : ∀ (v12923 : BitVec 32) (k0_hw909 : k0_chk909 v12923), ∀ a, (k0_off1818 v12923) a + S1x1x1x128.size a ≤ S1x33344x1x128.size a := fun v12923 k0_hw909 => k0_hw909.2

def k0_off1819 (v12937 : BitVec 32) : Fin 4 → Nat :=
  let c0_12703 : Index := 0#32
  let v12938 : Index := Scalar.indexCast v12937
  let c0_12704 : Index := 0#32
  let c0_12705 : Index := 0#32
  ![0, v12938.toNat, 0, 0]

def k0_off1820 (v12937 : BitVec 32) : Fin 4 → Nat :=
  let c0_12709 : Index := 0#32
  let c1_i32_12708 : BitVec 32 := 1#32
  let v12944 : BitVec 32 := Scalar.addi v12937 c1_i32_12708
  let v12945 : Index := Scalar.indexCast v12944
  let c0_12710 : Index := 0#32
  let c0_12711 : Index := 0#32
  ![0, v12945.toNat, 0, 0]

def k0_chk910 (v12937 : BitVec 32) : Prop :=
  (∀ a, (k0_off1819 v12937) a + S1x1x1x128.size a ≤ S1x33344x1x128.size a) ∧
  (∀ a, (k0_off1820 v12937) a + S1x1x1x128.size a ≤ S1x33344x1x128.size a)
theorem k0_off1819_inb : ∀ (v12937 : BitVec 32) (k0_hw910 : k0_chk910 v12937), ∀ a, (k0_off1819 v12937) a + S1x1x1x128.size a ≤ S1x33344x1x128.size a := fun v12937 k0_hw910 => k0_hw910.1
theorem k0_off1820_inb : ∀ (v12937 : BitVec 32) (k0_hw910 : k0_chk910 v12937), ∀ a, (k0_off1820 v12937) a + S1x1x1x128.size a ≤ S1x33344x1x128.size a := fun v12937 k0_hw910 => k0_hw910.2

def k0_off1821 (v12951 : BitVec 32) : Fin 4 → Nat :=
  let c0_12717 : Index := 0#32
  let v12952 : Index := Scalar.indexCast v12951
  let c0_12718 : Index := 0#32
  let c0_12719 : Index := 0#32
  ![0, v12952.toNat, 0, 0]

def k0_off1822 (v12951 : BitVec 32) : Fin 4 → Nat :=
  let c0_12723 : Index := 0#32
  let c1_i32_12722 : BitVec 32 := 1#32
  let v12958 : BitVec 32 := Scalar.addi v12951 c1_i32_12722
  let v12959 : Index := Scalar.indexCast v12958
  let c0_12724 : Index := 0#32
  let c0_12725 : Index := 0#32
  ![0, v12959.toNat, 0, 0]

def k0_chk911 (v12951 : BitVec 32) : Prop :=
  (∀ a, (k0_off1821 v12951) a + S1x1x1x128.size a ≤ S1x33344x1x128.size a) ∧
  (∀ a, (k0_off1822 v12951) a + S1x1x1x128.size a ≤ S1x33344x1x128.size a)
theorem k0_off1821_inb : ∀ (v12951 : BitVec 32) (k0_hw911 : k0_chk911 v12951), ∀ a, (k0_off1821 v12951) a + S1x1x1x128.size a ≤ S1x33344x1x128.size a := fun v12951 k0_hw911 => k0_hw911.1
theorem k0_off1822_inb : ∀ (v12951 : BitVec 32) (k0_hw911 : k0_chk911 v12951), ∀ a, (k0_off1822 v12951) a + S1x1x1x128.size a ≤ S1x33344x1x128.size a := fun v12951 k0_hw911 => k0_hw911.2

def k0_off1823 (v12965 : BitVec 32) : Fin 4 → Nat :=
  let c0_12731 : Index := 0#32
  let v12966 : Index := Scalar.indexCast v12965
  let c0_12732 : Index := 0#32
  let c0_12733 : Index := 0#32
  ![0, v12966.toNat, 0, 0]

def k0_off1824 (v12965 : BitVec 32) : Fin 4 → Nat :=
  let c0_12737 : Index := 0#32
  let c1_i32_12736 : BitVec 32 := 1#32
  let v12972 : BitVec 32 := Scalar.addi v12965 c1_i32_12736
  let v12973 : Index := Scalar.indexCast v12972
  let c0_12738 : Index := 0#32
  let c0_12739 : Index := 0#32
  ![0, v12973.toNat, 0, 0]

def k0_chk912 (v12965 : BitVec 32) : Prop :=
  (∀ a, (k0_off1823 v12965) a + S1x1x1x128.size a ≤ S1x33344x1x128.size a) ∧
  (∀ a, (k0_off1824 v12965) a + S1x1x1x128.size a ≤ S1x33344x1x128.size a)
theorem k0_off1823_inb : ∀ (v12965 : BitVec 32) (k0_hw912 : k0_chk912 v12965), ∀ a, (k0_off1823 v12965) a + S1x1x1x128.size a ≤ S1x33344x1x128.size a := fun v12965 k0_hw912 => k0_hw912.1
theorem k0_off1824_inb : ∀ (v12965 : BitVec 32) (k0_hw912 : k0_chk912 v12965), ∀ a, (k0_off1824 v12965) a + S1x1x1x128.size a ≤ S1x33344x1x128.size a := fun v12965 k0_hw912 => k0_hw912.2

def k0_off1825 (v12979 : BitVec 32) : Fin 4 → Nat :=
  let c0_12745 : Index := 0#32
  let v12980 : Index := Scalar.indexCast v12979
  let c0_12746 : Index := 0#32
  let c0_12747 : Index := 0#32
  ![0, v12980.toNat, 0, 0]

def k0_off1826 (v12979 : BitVec 32) : Fin 4 → Nat :=
  let c0_12751 : Index := 0#32
  let c1_i32_12750 : BitVec 32 := 1#32
  let v12986 : BitVec 32 := Scalar.addi v12979 c1_i32_12750
  let v12987 : Index := Scalar.indexCast v12986
  let c0_12752 : Index := 0#32
  let c0_12753 : Index := 0#32
  ![0, v12987.toNat, 0, 0]

def k0_chk913 (v12979 : BitVec 32) : Prop :=
  (∀ a, (k0_off1825 v12979) a + S1x1x1x128.size a ≤ S1x33344x1x128.size a) ∧
  (∀ a, (k0_off1826 v12979) a + S1x1x1x128.size a ≤ S1x33344x1x128.size a)
theorem k0_off1825_inb : ∀ (v12979 : BitVec 32) (k0_hw913 : k0_chk913 v12979), ∀ a, (k0_off1825 v12979) a + S1x1x1x128.size a ≤ S1x33344x1x128.size a := fun v12979 k0_hw913 => k0_hw913.1
theorem k0_off1826_inb : ∀ (v12979 : BitVec 32) (k0_hw913 : k0_chk913 v12979), ∀ a, (k0_off1826 v12979) a + S1x1x1x128.size a ≤ S1x33344x1x128.size a := fun v12979 k0_hw913 => k0_hw913.2

def k0_off1827 (v12993 : BitVec 32) : Fin 4 → Nat :=
  let c0_12759 : Index := 0#32
  let v12994 : Index := Scalar.indexCast v12993
  let c0_12760 : Index := 0#32
  let c0_12761 : Index := 0#32
  ![0, v12994.toNat, 0, 0]

def k0_off1828 (v12993 : BitVec 32) : Fin 4 → Nat :=
  let c0_12765 : Index := 0#32
  let c1_i32_12764 : BitVec 32 := 1#32
  let v13000 : BitVec 32 := Scalar.addi v12993 c1_i32_12764
  let v13001 : Index := Scalar.indexCast v13000
  let c0_12766 : Index := 0#32
  let c0_12767 : Index := 0#32
  ![0, v13001.toNat, 0, 0]

def k0_chk914 (v12993 : BitVec 32) : Prop :=
  (∀ a, (k0_off1827 v12993) a + S1x1x1x128.size a ≤ S1x33344x1x128.size a) ∧
  (∀ a, (k0_off1828 v12993) a + S1x1x1x128.size a ≤ S1x33344x1x128.size a)
theorem k0_off1827_inb : ∀ (v12993 : BitVec 32) (k0_hw914 : k0_chk914 v12993), ∀ a, (k0_off1827 v12993) a + S1x1x1x128.size a ≤ S1x33344x1x128.size a := fun v12993 k0_hw914 => k0_hw914.1
theorem k0_off1828_inb : ∀ (v12993 : BitVec 32) (k0_hw914 : k0_chk914 v12993), ∀ a, (k0_off1828 v12993) a + S1x1x1x128.size a ≤ S1x33344x1x128.size a := fun v12993 k0_hw914 => k0_hw914.2

def k0_off1829 (v13007 : BitVec 32) : Fin 4 → Nat :=
  let c0_12773 : Index := 0#32
  let v13008 : Index := Scalar.indexCast v13007
  let c0_12774 : Index := 0#32
  let c0_12775 : Index := 0#32
  ![0, v13008.toNat, 0, 0]

def k0_off1830 (v13007 : BitVec 32) : Fin 4 → Nat :=
  let c0_12779 : Index := 0#32
  let c1_i32_12778 : BitVec 32 := 1#32
  let v13014 : BitVec 32 := Scalar.addi v13007 c1_i32_12778
  let v13015 : Index := Scalar.indexCast v13014
  let c0_12780 : Index := 0#32
  let c0_12781 : Index := 0#32
  ![0, v13015.toNat, 0, 0]

def k0_chk915 (v13007 : BitVec 32) : Prop :=
  (∀ a, (k0_off1829 v13007) a + S1x1x1x128.size a ≤ S1x33344x1x128.size a) ∧
  (∀ a, (k0_off1830 v13007) a + S1x1x1x128.size a ≤ S1x33344x1x128.size a)
theorem k0_off1829_inb : ∀ (v13007 : BitVec 32) (k0_hw915 : k0_chk915 v13007), ∀ a, (k0_off1829 v13007) a + S1x1x1x128.size a ≤ S1x33344x1x128.size a := fun v13007 k0_hw915 => k0_hw915.1
theorem k0_off1830_inb : ∀ (v13007 : BitVec 32) (k0_hw915 : k0_chk915 v13007), ∀ a, (k0_off1830 v13007) a + S1x1x1x128.size a ≤ S1x33344x1x128.size a := fun v13007 k0_hw915 => k0_hw915.2

def k0_off1831 (v13021 : BitVec 32) : Fin 4 → Nat :=
  let c0_12787 : Index := 0#32
  let v13022 : Index := Scalar.indexCast v13021
  let c0_12788 : Index := 0#32
  let c0_12789 : Index := 0#32
  ![0, v13022.toNat, 0, 0]

def k0_off1832 (v13021 : BitVec 32) : Fin 4 → Nat :=
  let c0_12793 : Index := 0#32
  let c1_i32_12792 : BitVec 32 := 1#32
  let v13028 : BitVec 32 := Scalar.addi v13021 c1_i32_12792
  let v13029 : Index := Scalar.indexCast v13028
  let c0_12794 : Index := 0#32
  let c0_12795 : Index := 0#32
  ![0, v13029.toNat, 0, 0]

def k0_chk916 (v13021 : BitVec 32) : Prop :=
  (∀ a, (k0_off1831 v13021) a + S1x1x1x128.size a ≤ S1x33344x1x128.size a) ∧
  (∀ a, (k0_off1832 v13021) a + S1x1x1x128.size a ≤ S1x33344x1x128.size a)
theorem k0_off1831_inb : ∀ (v13021 : BitVec 32) (k0_hw916 : k0_chk916 v13021), ∀ a, (k0_off1831 v13021) a + S1x1x1x128.size a ≤ S1x33344x1x128.size a := fun v13021 k0_hw916 => k0_hw916.1
theorem k0_off1832_inb : ∀ (v13021 : BitVec 32) (k0_hw916 : k0_chk916 v13021), ∀ a, (k0_off1832 v13021) a + S1x1x1x128.size a ≤ S1x33344x1x128.size a := fun v13021 k0_hw916 => k0_hw916.2

def k0_off1833 (v13035 : BitVec 32) : Fin 4 → Nat :=
  let c0_12801 : Index := 0#32
  let v13036 : Index := Scalar.indexCast v13035
  let c0_12802 : Index := 0#32
  let c0_12803 : Index := 0#32
  ![0, v13036.toNat, 0, 0]

def k0_off1834 (v13035 : BitVec 32) : Fin 4 → Nat :=
  let c0_12807 : Index := 0#32
  let c1_i32_12806 : BitVec 32 := 1#32
  let v13042 : BitVec 32 := Scalar.addi v13035 c1_i32_12806
  let v13043 : Index := Scalar.indexCast v13042
  let c0_12808 : Index := 0#32
  let c0_12809 : Index := 0#32
  ![0, v13043.toNat, 0, 0]

def k0_chk917 (v13035 : BitVec 32) : Prop :=
  (∀ a, (k0_off1833 v13035) a + S1x1x1x128.size a ≤ S1x33344x1x128.size a) ∧
  (∀ a, (k0_off1834 v13035) a + S1x1x1x128.size a ≤ S1x33344x1x128.size a)
theorem k0_off1833_inb : ∀ (v13035 : BitVec 32) (k0_hw917 : k0_chk917 v13035), ∀ a, (k0_off1833 v13035) a + S1x1x1x128.size a ≤ S1x33344x1x128.size a := fun v13035 k0_hw917 => k0_hw917.1
theorem k0_off1834_inb : ∀ (v13035 : BitVec 32) (k0_hw917 : k0_chk917 v13035), ∀ a, (k0_off1834 v13035) a + S1x1x1x128.size a ≤ S1x33344x1x128.size a := fun v13035 k0_hw917 => k0_hw917.2

def k0_off1835 (v13049 : BitVec 32) : Fin 4 → Nat :=
  let c0_12815 : Index := 0#32
  let v13050 : Index := Scalar.indexCast v13049
  let c0_12816 : Index := 0#32
  let c0_12817 : Index := 0#32
  ![0, v13050.toNat, 0, 0]

def k0_off1836 (v13049 : BitVec 32) : Fin 4 → Nat :=
  let c0_12821 : Index := 0#32
  let c1_i32_12820 : BitVec 32 := 1#32
  let v13056 : BitVec 32 := Scalar.addi v13049 c1_i32_12820
  let v13057 : Index := Scalar.indexCast v13056
  let c0_12822 : Index := 0#32
  let c0_12823 : Index := 0#32
  ![0, v13057.toNat, 0, 0]

def k0_chk918 (v13049 : BitVec 32) : Prop :=
  (∀ a, (k0_off1835 v13049) a + S1x1x1x128.size a ≤ S1x33344x1x128.size a) ∧
  (∀ a, (k0_off1836 v13049) a + S1x1x1x128.size a ≤ S1x33344x1x128.size a)
theorem k0_off1835_inb : ∀ (v13049 : BitVec 32) (k0_hw918 : k0_chk918 v13049), ∀ a, (k0_off1835 v13049) a + S1x1x1x128.size a ≤ S1x33344x1x128.size a := fun v13049 k0_hw918 => k0_hw918.1
theorem k0_off1836_inb : ∀ (v13049 : BitVec 32) (k0_hw918 : k0_chk918 v13049), ∀ a, (k0_off1836 v13049) a + S1x1x1x128.size a ≤ S1x33344x1x128.size a := fun v13049 k0_hw918 => k0_hw918.2

def k0_off1837 (v13063 : BitVec 32) : Fin 4 → Nat :=
  let c0_12829 : Index := 0#32
  let v13064 : Index := Scalar.indexCast v13063
  let c0_12830 : Index := 0#32
  let c0_12831 : Index := 0#32
  ![0, v13064.toNat, 0, 0]

def k0_off1838 (v13063 : BitVec 32) : Fin 4 → Nat :=
  let c0_12835 : Index := 0#32
  let c1_i32_12834 : BitVec 32 := 1#32
  let v13070 : BitVec 32 := Scalar.addi v13063 c1_i32_12834
  let v13071 : Index := Scalar.indexCast v13070
  let c0_12836 : Index := 0#32
  let c0_12837 : Index := 0#32
  ![0, v13071.toNat, 0, 0]

def k0_chk919 (v13063 : BitVec 32) : Prop :=
  (∀ a, (k0_off1837 v13063) a + S1x1x1x128.size a ≤ S1x33344x1x128.size a) ∧
  (∀ a, (k0_off1838 v13063) a + S1x1x1x128.size a ≤ S1x33344x1x128.size a)
theorem k0_off1837_inb : ∀ (v13063 : BitVec 32) (k0_hw919 : k0_chk919 v13063), ∀ a, (k0_off1837 v13063) a + S1x1x1x128.size a ≤ S1x33344x1x128.size a := fun v13063 k0_hw919 => k0_hw919.1
theorem k0_off1838_inb : ∀ (v13063 : BitVec 32) (k0_hw919 : k0_chk919 v13063), ∀ a, (k0_off1838 v13063) a + S1x1x1x128.size a ≤ S1x33344x1x128.size a := fun v13063 k0_hw919 => k0_hw919.2

def k0_off1839 (v13077 : BitVec 32) : Fin 4 → Nat :=
  let c0_12843 : Index := 0#32
  let v13078 : Index := Scalar.indexCast v13077
  let c0_12844 : Index := 0#32
  let c0_12845 : Index := 0#32
  ![0, v13078.toNat, 0, 0]

def k0_off1840 (v13077 : BitVec 32) : Fin 4 → Nat :=
  let c0_12849 : Index := 0#32
  let c1_i32_12848 : BitVec 32 := 1#32
  let v13084 : BitVec 32 := Scalar.addi v13077 c1_i32_12848
  let v13085 : Index := Scalar.indexCast v13084
  let c0_12850 : Index := 0#32
  let c0_12851 : Index := 0#32
  ![0, v13085.toNat, 0, 0]

def k0_chk920 (v13077 : BitVec 32) : Prop :=
  (∀ a, (k0_off1839 v13077) a + S1x1x1x128.size a ≤ S1x33344x1x128.size a) ∧
  (∀ a, (k0_off1840 v13077) a + S1x1x1x128.size a ≤ S1x33344x1x128.size a)
theorem k0_off1839_inb : ∀ (v13077 : BitVec 32) (k0_hw920 : k0_chk920 v13077), ∀ a, (k0_off1839 v13077) a + S1x1x1x128.size a ≤ S1x33344x1x128.size a := fun v13077 k0_hw920 => k0_hw920.1
theorem k0_off1840_inb : ∀ (v13077 : BitVec 32) (k0_hw920 : k0_chk920 v13077), ∀ a, (k0_off1840 v13077) a + S1x1x1x128.size a ≤ S1x33344x1x128.size a := fun v13077 k0_hw920 => k0_hw920.2

def k0_off1841 (v13091 : BitVec 32) : Fin 4 → Nat :=
  let c0_12857 : Index := 0#32
  let v13092 : Index := Scalar.indexCast v13091
  let c0_12858 : Index := 0#32
  let c0_12859 : Index := 0#32
  ![0, v13092.toNat, 0, 0]

def k0_off1842 (v13091 : BitVec 32) : Fin 4 → Nat :=
  let c0_12863 : Index := 0#32
  let c1_i32_12862 : BitVec 32 := 1#32
  let v13098 : BitVec 32 := Scalar.addi v13091 c1_i32_12862
  let v13099 : Index := Scalar.indexCast v13098
  let c0_12864 : Index := 0#32
  let c0_12865 : Index := 0#32
  ![0, v13099.toNat, 0, 0]

def k0_chk921 (v13091 : BitVec 32) : Prop :=
  (∀ a, (k0_off1841 v13091) a + S1x1x1x128.size a ≤ S1x33344x1x128.size a) ∧
  (∀ a, (k0_off1842 v13091) a + S1x1x1x128.size a ≤ S1x33344x1x128.size a)
theorem k0_off1841_inb : ∀ (v13091 : BitVec 32) (k0_hw921 : k0_chk921 v13091), ∀ a, (k0_off1841 v13091) a + S1x1x1x128.size a ≤ S1x33344x1x128.size a := fun v13091 k0_hw921 => k0_hw921.1
theorem k0_off1842_inb : ∀ (v13091 : BitVec 32) (k0_hw921 : k0_chk921 v13091), ∀ a, (k0_off1842 v13091) a + S1x1x1x128.size a ≤ S1x33344x1x128.size a := fun v13091 k0_hw921 => k0_hw921.2

def k0_off1843 (v13105 : BitVec 32) : Fin 4 → Nat :=
  let c0_12871 : Index := 0#32
  let v13106 : Index := Scalar.indexCast v13105
  let c0_12872 : Index := 0#32
  let c0_12873 : Index := 0#32
  ![0, v13106.toNat, 0, 0]

def k0_off1844 (v13105 : BitVec 32) : Fin 4 → Nat :=
  let c0_12877 : Index := 0#32
  let c1_i32_12876 : BitVec 32 := 1#32
  let v13112 : BitVec 32 := Scalar.addi v13105 c1_i32_12876
  let v13113 : Index := Scalar.indexCast v13112
  let c0_12878 : Index := 0#32
  let c0_12879 : Index := 0#32
  ![0, v13113.toNat, 0, 0]

def k0_chk922 (v13105 : BitVec 32) : Prop :=
  (∀ a, (k0_off1843 v13105) a + S1x1x1x128.size a ≤ S1x33344x1x128.size a) ∧
  (∀ a, (k0_off1844 v13105) a + S1x1x1x128.size a ≤ S1x33344x1x128.size a)
theorem k0_off1843_inb : ∀ (v13105 : BitVec 32) (k0_hw922 : k0_chk922 v13105), ∀ a, (k0_off1843 v13105) a + S1x1x1x128.size a ≤ S1x33344x1x128.size a := fun v13105 k0_hw922 => k0_hw922.1
theorem k0_off1844_inb : ∀ (v13105 : BitVec 32) (k0_hw922 : k0_chk922 v13105), ∀ a, (k0_off1844 v13105) a + S1x1x1x128.size a ≤ S1x33344x1x128.size a := fun v13105 k0_hw922 => k0_hw922.2

def k0_off1845 (v13119 : BitVec 32) : Fin 4 → Nat :=
  let c0_12885 : Index := 0#32
  let v13120 : Index := Scalar.indexCast v13119
  let c0_12886 : Index := 0#32
  let c0_12887 : Index := 0#32
  ![0, v13120.toNat, 0, 0]

def k0_off1846 (v13119 : BitVec 32) : Fin 4 → Nat :=
  let c0_12891 : Index := 0#32
  let c1_i32_12890 : BitVec 32 := 1#32
  let v13126 : BitVec 32 := Scalar.addi v13119 c1_i32_12890
  let v13127 : Index := Scalar.indexCast v13126
  let c0_12892 : Index := 0#32
  let c0_12893 : Index := 0#32
  ![0, v13127.toNat, 0, 0]

def k0_chk923 (v13119 : BitVec 32) : Prop :=
  (∀ a, (k0_off1845 v13119) a + S1x1x1x128.size a ≤ S1x33344x1x128.size a) ∧
  (∀ a, (k0_off1846 v13119) a + S1x1x1x128.size a ≤ S1x33344x1x128.size a)
theorem k0_off1845_inb : ∀ (v13119 : BitVec 32) (k0_hw923 : k0_chk923 v13119), ∀ a, (k0_off1845 v13119) a + S1x1x1x128.size a ≤ S1x33344x1x128.size a := fun v13119 k0_hw923 => k0_hw923.1
theorem k0_off1846_inb : ∀ (v13119 : BitVec 32) (k0_hw923 : k0_chk923 v13119), ∀ a, (k0_off1846 v13119) a + S1x1x1x128.size a ≤ S1x33344x1x128.size a := fun v13119 k0_hw923 => k0_hw923.2

def k0_off1847 (v13133 : BitVec 32) : Fin 4 → Nat :=
  let c0_12899 : Index := 0#32
  let v13134 : Index := Scalar.indexCast v13133
  let c0_12900 : Index := 0#32
  let c0_12901 : Index := 0#32
  ![0, v13134.toNat, 0, 0]

def k0_off1848 (v13133 : BitVec 32) : Fin 4 → Nat :=
  let c0_12905 : Index := 0#32
  let c1_i32_12904 : BitVec 32 := 1#32
  let v13140 : BitVec 32 := Scalar.addi v13133 c1_i32_12904
  let v13141 : Index := Scalar.indexCast v13140
  let c0_12906 : Index := 0#32
  let c0_12907 : Index := 0#32
  ![0, v13141.toNat, 0, 0]

def k0_chk924 (v13133 : BitVec 32) : Prop :=
  (∀ a, (k0_off1847 v13133) a + S1x1x1x128.size a ≤ S1x33344x1x128.size a) ∧
  (∀ a, (k0_off1848 v13133) a + S1x1x1x128.size a ≤ S1x33344x1x128.size a)
theorem k0_off1847_inb : ∀ (v13133 : BitVec 32) (k0_hw924 : k0_chk924 v13133), ∀ a, (k0_off1847 v13133) a + S1x1x1x128.size a ≤ S1x33344x1x128.size a := fun v13133 k0_hw924 => k0_hw924.1
theorem k0_off1848_inb : ∀ (v13133 : BitVec 32) (k0_hw924 : k0_chk924 v13133), ∀ a, (k0_off1848 v13133) a + S1x1x1x128.size a ≤ S1x33344x1x128.size a := fun v13133 k0_hw924 => k0_hw924.2

def k0_off1849 (v13147 : BitVec 32) : Fin 4 → Nat :=
  let c0_12913 : Index := 0#32
  let v13148 : Index := Scalar.indexCast v13147
  let c0_12914 : Index := 0#32
  let c0_12915 : Index := 0#32
  ![0, v13148.toNat, 0, 0]

def k0_off1850 (v13147 : BitVec 32) : Fin 4 → Nat :=
  let c0_12919 : Index := 0#32
  let c1_i32_12918 : BitVec 32 := 1#32
  let v13154 : BitVec 32 := Scalar.addi v13147 c1_i32_12918
  let v13155 : Index := Scalar.indexCast v13154
  let c0_12920 : Index := 0#32
  let c0_12921 : Index := 0#32
  ![0, v13155.toNat, 0, 0]

def k0_chk925 (v13147 : BitVec 32) : Prop :=
  (∀ a, (k0_off1849 v13147) a + S1x1x1x128.size a ≤ S1x33344x1x128.size a) ∧
  (∀ a, (k0_off1850 v13147) a + S1x1x1x128.size a ≤ S1x33344x1x128.size a)
theorem k0_off1849_inb : ∀ (v13147 : BitVec 32) (k0_hw925 : k0_chk925 v13147), ∀ a, (k0_off1849 v13147) a + S1x1x1x128.size a ≤ S1x33344x1x128.size a := fun v13147 k0_hw925 => k0_hw925.1
theorem k0_off1850_inb : ∀ (v13147 : BitVec 32) (k0_hw925 : k0_chk925 v13147), ∀ a, (k0_off1850 v13147) a + S1x1x1x128.size a ≤ S1x33344x1x128.size a := fun v13147 k0_hw925 => k0_hw925.2

def k0_off1851 (v13161 : BitVec 32) : Fin 4 → Nat :=
  let c0_12927 : Index := 0#32
  let v13162 : Index := Scalar.indexCast v13161
  let c0_12928 : Index := 0#32
  let c0_12929 : Index := 0#32
  ![0, v13162.toNat, 0, 0]

def k0_off1852 (v13161 : BitVec 32) : Fin 4 → Nat :=
  let c0_12933 : Index := 0#32
  let c1_i32_12932 : BitVec 32 := 1#32
  let v13168 : BitVec 32 := Scalar.addi v13161 c1_i32_12932
  let v13169 : Index := Scalar.indexCast v13168
  let c0_12934 : Index := 0#32
  let c0_12935 : Index := 0#32
  ![0, v13169.toNat, 0, 0]

def k0_chk926 (v13161 : BitVec 32) : Prop :=
  (∀ a, (k0_off1851 v13161) a + S1x1x1x128.size a ≤ S1x33344x1x128.size a) ∧
  (∀ a, (k0_off1852 v13161) a + S1x1x1x128.size a ≤ S1x33344x1x128.size a)
theorem k0_off1851_inb : ∀ (v13161 : BitVec 32) (k0_hw926 : k0_chk926 v13161), ∀ a, (k0_off1851 v13161) a + S1x1x1x128.size a ≤ S1x33344x1x128.size a := fun v13161 k0_hw926 => k0_hw926.1
theorem k0_off1852_inb : ∀ (v13161 : BitVec 32) (k0_hw926 : k0_chk926 v13161), ∀ a, (k0_off1852 v13161) a + S1x1x1x128.size a ≤ S1x33344x1x128.size a := fun v13161 k0_hw926 => k0_hw926.2

def k0_off1853 (v13175 : BitVec 32) : Fin 4 → Nat :=
  let c0_12941 : Index := 0#32
  let v13176 : Index := Scalar.indexCast v13175
  let c0_12942 : Index := 0#32
  let c0_12943 : Index := 0#32
  ![0, v13176.toNat, 0, 0]

def k0_off1854 (v13175 : BitVec 32) : Fin 4 → Nat :=
  let c0_12947 : Index := 0#32
  let c1_i32_12946 : BitVec 32 := 1#32
  let v13182 : BitVec 32 := Scalar.addi v13175 c1_i32_12946
  let v13183 : Index := Scalar.indexCast v13182
  let c0_12948 : Index := 0#32
  let c0_12949 : Index := 0#32
  ![0, v13183.toNat, 0, 0]

def k0_chk927 (v13175 : BitVec 32) : Prop :=
  (∀ a, (k0_off1853 v13175) a + S1x1x1x128.size a ≤ S1x33344x1x128.size a) ∧
  (∀ a, (k0_off1854 v13175) a + S1x1x1x128.size a ≤ S1x33344x1x128.size a)
theorem k0_off1853_inb : ∀ (v13175 : BitVec 32) (k0_hw927 : k0_chk927 v13175), ∀ a, (k0_off1853 v13175) a + S1x1x1x128.size a ≤ S1x33344x1x128.size a := fun v13175 k0_hw927 => k0_hw927.1
theorem k0_off1854_inb : ∀ (v13175 : BitVec 32) (k0_hw927 : k0_chk927 v13175), ∀ a, (k0_off1854 v13175) a + S1x1x1x128.size a ≤ S1x33344x1x128.size a := fun v13175 k0_hw927 => k0_hw927.2

def k0_off1855 (v13189 : BitVec 32) : Fin 4 → Nat :=
  let c0_12955 : Index := 0#32
  let v13190 : Index := Scalar.indexCast v13189
  let c0_12956 : Index := 0#32
  let c0_12957 : Index := 0#32
  ![0, v13190.toNat, 0, 0]

def k0_off1856 (v13189 : BitVec 32) : Fin 4 → Nat :=
  let c0_12961 : Index := 0#32
  let c1_i32_12960 : BitVec 32 := 1#32
  let v13196 : BitVec 32 := Scalar.addi v13189 c1_i32_12960
  let v13197 : Index := Scalar.indexCast v13196
  let c0_12962 : Index := 0#32
  let c0_12963 : Index := 0#32
  ![0, v13197.toNat, 0, 0]

def k0_chk928 (v13189 : BitVec 32) : Prop :=
  (∀ a, (k0_off1855 v13189) a + S1x1x1x128.size a ≤ S1x33344x1x128.size a) ∧
  (∀ a, (k0_off1856 v13189) a + S1x1x1x128.size a ≤ S1x33344x1x128.size a)
theorem k0_off1855_inb : ∀ (v13189 : BitVec 32) (k0_hw928 : k0_chk928 v13189), ∀ a, (k0_off1855 v13189) a + S1x1x1x128.size a ≤ S1x33344x1x128.size a := fun v13189 k0_hw928 => k0_hw928.1
theorem k0_off1856_inb : ∀ (v13189 : BitVec 32) (k0_hw928 : k0_chk928 v13189), ∀ a, (k0_off1856 v13189) a + S1x1x1x128.size a ≤ S1x33344x1x128.size a := fun v13189 k0_hw928 => k0_hw928.2

def k0_off1857 (v13203 : BitVec 32) : Fin 4 → Nat :=
  let c0_12969 : Index := 0#32
  let v13204 : Index := Scalar.indexCast v13203
  let c0_12970 : Index := 0#32
  let c0_12971 : Index := 0#32
  ![0, v13204.toNat, 0, 0]

def k0_off1858 (v13203 : BitVec 32) : Fin 4 → Nat :=
  let c0_12975 : Index := 0#32
  let c1_i32_12974 : BitVec 32 := 1#32
  let v13210 : BitVec 32 := Scalar.addi v13203 c1_i32_12974
  let v13211 : Index := Scalar.indexCast v13210
  let c0_12976 : Index := 0#32
  let c0_12977 : Index := 0#32
  ![0, v13211.toNat, 0, 0]

def k0_chk929 (v13203 : BitVec 32) : Prop :=
  (∀ a, (k0_off1857 v13203) a + S1x1x1x128.size a ≤ S1x33344x1x128.size a) ∧
  (∀ a, (k0_off1858 v13203) a + S1x1x1x128.size a ≤ S1x33344x1x128.size a)
theorem k0_off1857_inb : ∀ (v13203 : BitVec 32) (k0_hw929 : k0_chk929 v13203), ∀ a, (k0_off1857 v13203) a + S1x1x1x128.size a ≤ S1x33344x1x128.size a := fun v13203 k0_hw929 => k0_hw929.1
theorem k0_off1858_inb : ∀ (v13203 : BitVec 32) (k0_hw929 : k0_chk929 v13203), ∀ a, (k0_off1858 v13203) a + S1x1x1x128.size a ≤ S1x33344x1x128.size a := fun v13203 k0_hw929 => k0_hw929.2

def k0_off1859 (v13217 : BitVec 32) : Fin 4 → Nat :=
  let c0_12983 : Index := 0#32
  let v13218 : Index := Scalar.indexCast v13217
  let c0_12984 : Index := 0#32
  let c0_12985 : Index := 0#32
  ![0, v13218.toNat, 0, 0]

def k0_off1860 (v13217 : BitVec 32) : Fin 4 → Nat :=
  let c0_12989 : Index := 0#32
  let c1_i32_12988 : BitVec 32 := 1#32
  let v13224 : BitVec 32 := Scalar.addi v13217 c1_i32_12988
  let v13225 : Index := Scalar.indexCast v13224
  let c0_12990 : Index := 0#32
  let c0_12991 : Index := 0#32
  ![0, v13225.toNat, 0, 0]

def k0_chk930 (v13217 : BitVec 32) : Prop :=
  (∀ a, (k0_off1859 v13217) a + S1x1x1x128.size a ≤ S1x33344x1x128.size a) ∧
  (∀ a, (k0_off1860 v13217) a + S1x1x1x128.size a ≤ S1x33344x1x128.size a)
theorem k0_off1859_inb : ∀ (v13217 : BitVec 32) (k0_hw930 : k0_chk930 v13217), ∀ a, (k0_off1859 v13217) a + S1x1x1x128.size a ≤ S1x33344x1x128.size a := fun v13217 k0_hw930 => k0_hw930.1
theorem k0_off1860_inb : ∀ (v13217 : BitVec 32) (k0_hw930 : k0_chk930 v13217), ∀ a, (k0_off1860 v13217) a + S1x1x1x128.size a ≤ S1x33344x1x128.size a := fun v13217 k0_hw930 => k0_hw930.2

def k0_off1861 (v13231 : BitVec 32) : Fin 4 → Nat :=
  let c0_12997 : Index := 0#32
  let v13232 : Index := Scalar.indexCast v13231
  let c0_12998 : Index := 0#32
  let c0_12999 : Index := 0#32
  ![0, v13232.toNat, 0, 0]

def k0_off1862 (v13231 : BitVec 32) : Fin 4 → Nat :=
  let c0_13003 : Index := 0#32
  let c1_i32_13002 : BitVec 32 := 1#32
  let v13238 : BitVec 32 := Scalar.addi v13231 c1_i32_13002
  let v13239 : Index := Scalar.indexCast v13238
  let c0_13004 : Index := 0#32
  let c0_13005 : Index := 0#32
  ![0, v13239.toNat, 0, 0]

def k0_chk931 (v13231 : BitVec 32) : Prop :=
  (∀ a, (k0_off1861 v13231) a + S1x1x1x128.size a ≤ S1x33344x1x128.size a) ∧
  (∀ a, (k0_off1862 v13231) a + S1x1x1x128.size a ≤ S1x33344x1x128.size a)
theorem k0_off1861_inb : ∀ (v13231 : BitVec 32) (k0_hw931 : k0_chk931 v13231), ∀ a, (k0_off1861 v13231) a + S1x1x1x128.size a ≤ S1x33344x1x128.size a := fun v13231 k0_hw931 => k0_hw931.1
theorem k0_off1862_inb : ∀ (v13231 : BitVec 32) (k0_hw931 : k0_chk931 v13231), ∀ a, (k0_off1862 v13231) a + S1x1x1x128.size a ≤ S1x33344x1x128.size a := fun v13231 k0_hw931 => k0_hw931.2

def k0_off1863 (v13245 : BitVec 32) : Fin 4 → Nat :=
  let c0_13011 : Index := 0#32
  let v13246 : Index := Scalar.indexCast v13245
  let c0_13012 : Index := 0#32
  let c0_13013 : Index := 0#32
  ![0, v13246.toNat, 0, 0]

def k0_off1864 (v13245 : BitVec 32) : Fin 4 → Nat :=
  let c0_13017 : Index := 0#32
  let c1_i32_13016 : BitVec 32 := 1#32
  let v13252 : BitVec 32 := Scalar.addi v13245 c1_i32_13016
  let v13253 : Index := Scalar.indexCast v13252
  let c0_13018 : Index := 0#32
  let c0_13019 : Index := 0#32
  ![0, v13253.toNat, 0, 0]

def k0_chk932 (v13245 : BitVec 32) : Prop :=
  (∀ a, (k0_off1863 v13245) a + S1x1x1x128.size a ≤ S1x33344x1x128.size a) ∧
  (∀ a, (k0_off1864 v13245) a + S1x1x1x128.size a ≤ S1x33344x1x128.size a)
theorem k0_off1863_inb : ∀ (v13245 : BitVec 32) (k0_hw932 : k0_chk932 v13245), ∀ a, (k0_off1863 v13245) a + S1x1x1x128.size a ≤ S1x33344x1x128.size a := fun v13245 k0_hw932 => k0_hw932.1
theorem k0_off1864_inb : ∀ (v13245 : BitVec 32) (k0_hw932 : k0_chk932 v13245), ∀ a, (k0_off1864 v13245) a + S1x1x1x128.size a ≤ S1x33344x1x128.size a := fun v13245 k0_hw932 => k0_hw932.2

def k0_off1865 (v13259 : BitVec 32) : Fin 4 → Nat :=
  let c0_13025 : Index := 0#32
  let v13260 : Index := Scalar.indexCast v13259
  let c0_13026 : Index := 0#32
  let c0_13027 : Index := 0#32
  ![0, v13260.toNat, 0, 0]

def k0_off1866 (v13259 : BitVec 32) : Fin 4 → Nat :=
  let c0_13031 : Index := 0#32
  let c1_i32_13030 : BitVec 32 := 1#32
  let v13266 : BitVec 32 := Scalar.addi v13259 c1_i32_13030
  let v13267 : Index := Scalar.indexCast v13266
  let c0_13032 : Index := 0#32
  let c0_13033 : Index := 0#32
  ![0, v13267.toNat, 0, 0]

def k0_chk933 (v13259 : BitVec 32) : Prop :=
  (∀ a, (k0_off1865 v13259) a + S1x1x1x128.size a ≤ S1x33344x1x128.size a) ∧
  (∀ a, (k0_off1866 v13259) a + S1x1x1x128.size a ≤ S1x33344x1x128.size a)
theorem k0_off1865_inb : ∀ (v13259 : BitVec 32) (k0_hw933 : k0_chk933 v13259), ∀ a, (k0_off1865 v13259) a + S1x1x1x128.size a ≤ S1x33344x1x128.size a := fun v13259 k0_hw933 => k0_hw933.1
theorem k0_off1866_inb : ∀ (v13259 : BitVec 32) (k0_hw933 : k0_chk933 v13259), ∀ a, (k0_off1866 v13259) a + S1x1x1x128.size a ≤ S1x33344x1x128.size a := fun v13259 k0_hw933 => k0_hw933.2

def k0_off1867 (v13273 : BitVec 32) : Fin 4 → Nat :=
  let c0_13039 : Index := 0#32
  let v13274 : Index := Scalar.indexCast v13273
  let c0_13040 : Index := 0#32
  let c0_13041 : Index := 0#32
  ![0, v13274.toNat, 0, 0]

def k0_off1868 (v13273 : BitVec 32) : Fin 4 → Nat :=
  let c0_13045 : Index := 0#32
  let c1_i32_13044 : BitVec 32 := 1#32
  let v13280 : BitVec 32 := Scalar.addi v13273 c1_i32_13044
  let v13281 : Index := Scalar.indexCast v13280
  let c0_13046 : Index := 0#32
  let c0_13047 : Index := 0#32
  ![0, v13281.toNat, 0, 0]

def k0_chk934 (v13273 : BitVec 32) : Prop :=
  (∀ a, (k0_off1867 v13273) a + S1x1x1x128.size a ≤ S1x33344x1x128.size a) ∧
  (∀ a, (k0_off1868 v13273) a + S1x1x1x128.size a ≤ S1x33344x1x128.size a)
theorem k0_off1867_inb : ∀ (v13273 : BitVec 32) (k0_hw934 : k0_chk934 v13273), ∀ a, (k0_off1867 v13273) a + S1x1x1x128.size a ≤ S1x33344x1x128.size a := fun v13273 k0_hw934 => k0_hw934.1
theorem k0_off1868_inb : ∀ (v13273 : BitVec 32) (k0_hw934 : k0_chk934 v13273), ∀ a, (k0_off1868 v13273) a + S1x1x1x128.size a ≤ S1x33344x1x128.size a := fun v13273 k0_hw934 => k0_hw934.2

def k0_off1869 (v13287 : BitVec 32) : Fin 4 → Nat :=
  let c0_13053 : Index := 0#32
  let v13288 : Index := Scalar.indexCast v13287
  let c0_13054 : Index := 0#32
  let c0_13055 : Index := 0#32
  ![0, v13288.toNat, 0, 0]

def k0_off1870 (v13287 : BitVec 32) : Fin 4 → Nat :=
  let c0_13059 : Index := 0#32
  let c1_i32_13058 : BitVec 32 := 1#32
  let v13294 : BitVec 32 := Scalar.addi v13287 c1_i32_13058
  let v13295 : Index := Scalar.indexCast v13294
  let c0_13060 : Index := 0#32
  let c0_13061 : Index := 0#32
  ![0, v13295.toNat, 0, 0]

def k0_chk935 (v13287 : BitVec 32) : Prop :=
  (∀ a, (k0_off1869 v13287) a + S1x1x1x128.size a ≤ S1x33344x1x128.size a) ∧
  (∀ a, (k0_off1870 v13287) a + S1x1x1x128.size a ≤ S1x33344x1x128.size a)
theorem k0_off1869_inb : ∀ (v13287 : BitVec 32) (k0_hw935 : k0_chk935 v13287), ∀ a, (k0_off1869 v13287) a + S1x1x1x128.size a ≤ S1x33344x1x128.size a := fun v13287 k0_hw935 => k0_hw935.1
theorem k0_off1870_inb : ∀ (v13287 : BitVec 32) (k0_hw935 : k0_chk935 v13287), ∀ a, (k0_off1870 v13287) a + S1x1x1x128.size a ≤ S1x33344x1x128.size a := fun v13287 k0_hw935 => k0_hw935.2

def k0_off1871 (v13301 : BitVec 32) : Fin 4 → Nat :=
  let c0_13067 : Index := 0#32
  let v13302 : Index := Scalar.indexCast v13301
  let c0_13068 : Index := 0#32
  let c0_13069 : Index := 0#32
  ![0, v13302.toNat, 0, 0]

def k0_off1872 (v13301 : BitVec 32) : Fin 4 → Nat :=
  let c0_13073 : Index := 0#32
  let c1_i32_13072 : BitVec 32 := 1#32
  let v13308 : BitVec 32 := Scalar.addi v13301 c1_i32_13072
  let v13309 : Index := Scalar.indexCast v13308
  let c0_13074 : Index := 0#32
  let c0_13075 : Index := 0#32
  ![0, v13309.toNat, 0, 0]

def k0_chk936 (v13301 : BitVec 32) : Prop :=
  (∀ a, (k0_off1871 v13301) a + S1x1x1x128.size a ≤ S1x33344x1x128.size a) ∧
  (∀ a, (k0_off1872 v13301) a + S1x1x1x128.size a ≤ S1x33344x1x128.size a)
theorem k0_off1871_inb : ∀ (v13301 : BitVec 32) (k0_hw936 : k0_chk936 v13301), ∀ a, (k0_off1871 v13301) a + S1x1x1x128.size a ≤ S1x33344x1x128.size a := fun v13301 k0_hw936 => k0_hw936.1
theorem k0_off1872_inb : ∀ (v13301 : BitVec 32) (k0_hw936 : k0_chk936 v13301), ∀ a, (k0_off1872 v13301) a + S1x1x1x128.size a ≤ S1x33344x1x128.size a := fun v13301 k0_hw936 => k0_hw936.2

def k0_off1873 (v13315 : BitVec 32) : Fin 4 → Nat :=
  let c0_13081 : Index := 0#32
  let v13316 : Index := Scalar.indexCast v13315
  let c0_13082 : Index := 0#32
  let c0_13083 : Index := 0#32
  ![0, v13316.toNat, 0, 0]

def k0_off1874 (v13315 : BitVec 32) : Fin 4 → Nat :=
  let c0_13087 : Index := 0#32
  let c1_i32_13086 : BitVec 32 := 1#32
  let v13322 : BitVec 32 := Scalar.addi v13315 c1_i32_13086
  let v13323 : Index := Scalar.indexCast v13322
  let c0_13088 : Index := 0#32
  let c0_13089 : Index := 0#32
  ![0, v13323.toNat, 0, 0]

def k0_chk937 (v13315 : BitVec 32) : Prop :=
  (∀ a, (k0_off1873 v13315) a + S1x1x1x128.size a ≤ S1x33344x1x128.size a) ∧
  (∀ a, (k0_off1874 v13315) a + S1x1x1x128.size a ≤ S1x33344x1x128.size a)
theorem k0_off1873_inb : ∀ (v13315 : BitVec 32) (k0_hw937 : k0_chk937 v13315), ∀ a, (k0_off1873 v13315) a + S1x1x1x128.size a ≤ S1x33344x1x128.size a := fun v13315 k0_hw937 => k0_hw937.1
theorem k0_off1874_inb : ∀ (v13315 : BitVec 32) (k0_hw937 : k0_chk937 v13315), ∀ a, (k0_off1874 v13315) a + S1x1x1x128.size a ≤ S1x33344x1x128.size a := fun v13315 k0_hw937 => k0_hw937.2

def k0_off1875 (v13329 : BitVec 32) : Fin 4 → Nat :=
  let c0_13095 : Index := 0#32
  let v13330 : Index := Scalar.indexCast v13329
  let c0_13096 : Index := 0#32
  let c0_13097 : Index := 0#32
  ![0, v13330.toNat, 0, 0]

def k0_off1876 (v13329 : BitVec 32) : Fin 4 → Nat :=
  let c0_13101 : Index := 0#32
  let c1_i32_13100 : BitVec 32 := 1#32
  let v13336 : BitVec 32 := Scalar.addi v13329 c1_i32_13100
  let v13337 : Index := Scalar.indexCast v13336
  let c0_13102 : Index := 0#32
  let c0_13103 : Index := 0#32
  ![0, v13337.toNat, 0, 0]

def k0_chk938 (v13329 : BitVec 32) : Prop :=
  (∀ a, (k0_off1875 v13329) a + S1x1x1x128.size a ≤ S1x33344x1x128.size a) ∧
  (∀ a, (k0_off1876 v13329) a + S1x1x1x128.size a ≤ S1x33344x1x128.size a)
theorem k0_off1875_inb : ∀ (v13329 : BitVec 32) (k0_hw938 : k0_chk938 v13329), ∀ a, (k0_off1875 v13329) a + S1x1x1x128.size a ≤ S1x33344x1x128.size a := fun v13329 k0_hw938 => k0_hw938.1
theorem k0_off1876_inb : ∀ (v13329 : BitVec 32) (k0_hw938 : k0_chk938 v13329), ∀ a, (k0_off1876 v13329) a + S1x1x1x128.size a ≤ S1x33344x1x128.size a := fun v13329 k0_hw938 => k0_hw938.2

def k0_off1877 (v13343 : BitVec 32) : Fin 4 → Nat :=
  let c0_13109 : Index := 0#32
  let v13344 : Index := Scalar.indexCast v13343
  let c0_13110 : Index := 0#32
  let c0_13111 : Index := 0#32
  ![0, v13344.toNat, 0, 0]

def k0_off1878 (v13343 : BitVec 32) : Fin 4 → Nat :=
  let c0_13115 : Index := 0#32
  let c1_i32_13114 : BitVec 32 := 1#32
  let v13350 : BitVec 32 := Scalar.addi v13343 c1_i32_13114
  let v13351 : Index := Scalar.indexCast v13350
  let c0_13116 : Index := 0#32
  let c0_13117 : Index := 0#32
  ![0, v13351.toNat, 0, 0]

def k0_chk939 (v13343 : BitVec 32) : Prop :=
  (∀ a, (k0_off1877 v13343) a + S1x1x1x128.size a ≤ S1x33344x1x128.size a) ∧
  (∀ a, (k0_off1878 v13343) a + S1x1x1x128.size a ≤ S1x33344x1x128.size a)
theorem k0_off1877_inb : ∀ (v13343 : BitVec 32) (k0_hw939 : k0_chk939 v13343), ∀ a, (k0_off1877 v13343) a + S1x1x1x128.size a ≤ S1x33344x1x128.size a := fun v13343 k0_hw939 => k0_hw939.1
theorem k0_off1878_inb : ∀ (v13343 : BitVec 32) (k0_hw939 : k0_chk939 v13343), ∀ a, (k0_off1878 v13343) a + S1x1x1x128.size a ≤ S1x33344x1x128.size a := fun v13343 k0_hw939 => k0_hw939.2

def k0_off1879 (v13357 : BitVec 32) : Fin 4 → Nat :=
  let c0_13123 : Index := 0#32
  let v13358 : Index := Scalar.indexCast v13357
  let c0_13124 : Index := 0#32
  let c0_13125 : Index := 0#32
  ![0, v13358.toNat, 0, 0]

def k0_off1880 (v13357 : BitVec 32) : Fin 4 → Nat :=
  let c0_13129 : Index := 0#32
  let c1_i32_13128 : BitVec 32 := 1#32
  let v13364 : BitVec 32 := Scalar.addi v13357 c1_i32_13128
  let v13365 : Index := Scalar.indexCast v13364
  let c0_13130 : Index := 0#32
  let c0_13131 : Index := 0#32
  ![0, v13365.toNat, 0, 0]

def k0_chk940 (v13357 : BitVec 32) : Prop :=
  (∀ a, (k0_off1879 v13357) a + S1x1x1x128.size a ≤ S1x33344x1x128.size a) ∧
  (∀ a, (k0_off1880 v13357) a + S1x1x1x128.size a ≤ S1x33344x1x128.size a)
theorem k0_off1879_inb : ∀ (v13357 : BitVec 32) (k0_hw940 : k0_chk940 v13357), ∀ a, (k0_off1879 v13357) a + S1x1x1x128.size a ≤ S1x33344x1x128.size a := fun v13357 k0_hw940 => k0_hw940.1
theorem k0_off1880_inb : ∀ (v13357 : BitVec 32) (k0_hw940 : k0_chk940 v13357), ∀ a, (k0_off1880 v13357) a + S1x1x1x128.size a ≤ S1x33344x1x128.size a := fun v13357 k0_hw940 => k0_hw940.2

def k0_off1881 (v13371 : BitVec 32) : Fin 4 → Nat :=
  let c0_13137 : Index := 0#32
  let v13372 : Index := Scalar.indexCast v13371
  let c0_13138 : Index := 0#32
  let c0_13139 : Index := 0#32
  ![0, v13372.toNat, 0, 0]

def k0_off1882 (v13371 : BitVec 32) : Fin 4 → Nat :=
  let c0_13143 : Index := 0#32
  let c1_i32_13142 : BitVec 32 := 1#32
  let v13378 : BitVec 32 := Scalar.addi v13371 c1_i32_13142
  let v13379 : Index := Scalar.indexCast v13378
  let c0_13144 : Index := 0#32
  let c0_13145 : Index := 0#32
  ![0, v13379.toNat, 0, 0]

def k0_chk941 (v13371 : BitVec 32) : Prop :=
  (∀ a, (k0_off1881 v13371) a + S1x1x1x128.size a ≤ S1x33344x1x128.size a) ∧
  (∀ a, (k0_off1882 v13371) a + S1x1x1x128.size a ≤ S1x33344x1x128.size a)
theorem k0_off1881_inb : ∀ (v13371 : BitVec 32) (k0_hw941 : k0_chk941 v13371), ∀ a, (k0_off1881 v13371) a + S1x1x1x128.size a ≤ S1x33344x1x128.size a := fun v13371 k0_hw941 => k0_hw941.1
theorem k0_off1882_inb : ∀ (v13371 : BitVec 32) (k0_hw941 : k0_chk941 v13371), ∀ a, (k0_off1882 v13371) a + S1x1x1x128.size a ≤ S1x33344x1x128.size a := fun v13371 k0_hw941 => k0_hw941.2

def k0_off1883 (v13385 : BitVec 32) : Fin 4 → Nat :=
  let c0_13151 : Index := 0#32
  let v13386 : Index := Scalar.indexCast v13385
  let c0_13152 : Index := 0#32
  let c0_13153 : Index := 0#32
  ![0, v13386.toNat, 0, 0]

def k0_off1884 (v13385 : BitVec 32) : Fin 4 → Nat :=
  let c0_13157 : Index := 0#32
  let c1_i32_13156 : BitVec 32 := 1#32
  let v13392 : BitVec 32 := Scalar.addi v13385 c1_i32_13156
  let v13393 : Index := Scalar.indexCast v13392
  let c0_13158 : Index := 0#32
  let c0_13159 : Index := 0#32
  ![0, v13393.toNat, 0, 0]

def k0_chk942 (v13385 : BitVec 32) : Prop :=
  (∀ a, (k0_off1883 v13385) a + S1x1x1x128.size a ≤ S1x33344x1x128.size a) ∧
  (∀ a, (k0_off1884 v13385) a + S1x1x1x128.size a ≤ S1x33344x1x128.size a)
theorem k0_off1883_inb : ∀ (v13385 : BitVec 32) (k0_hw942 : k0_chk942 v13385), ∀ a, (k0_off1883 v13385) a + S1x1x1x128.size a ≤ S1x33344x1x128.size a := fun v13385 k0_hw942 => k0_hw942.1
theorem k0_off1884_inb : ∀ (v13385 : BitVec 32) (k0_hw942 : k0_chk942 v13385), ∀ a, (k0_off1884 v13385) a + S1x1x1x128.size a ≤ S1x33344x1x128.size a := fun v13385 k0_hw942 => k0_hw942.2

def k0_off1885 (v13399 : BitVec 32) : Fin 4 → Nat :=
  let c0_13165 : Index := 0#32
  let v13400 : Index := Scalar.indexCast v13399
  let c0_13166 : Index := 0#32
  let c0_13167 : Index := 0#32
  ![0, v13400.toNat, 0, 0]

def k0_off1886 (v13399 : BitVec 32) : Fin 4 → Nat :=
  let c0_13171 : Index := 0#32
  let c1_i32_13170 : BitVec 32 := 1#32
  let v13406 : BitVec 32 := Scalar.addi v13399 c1_i32_13170
  let v13407 : Index := Scalar.indexCast v13406
  let c0_13172 : Index := 0#32
  let c0_13173 : Index := 0#32
  ![0, v13407.toNat, 0, 0]

def k0_chk943 (v13399 : BitVec 32) : Prop :=
  (∀ a, (k0_off1885 v13399) a + S1x1x1x128.size a ≤ S1x33344x1x128.size a) ∧
  (∀ a, (k0_off1886 v13399) a + S1x1x1x128.size a ≤ S1x33344x1x128.size a)
theorem k0_off1885_inb : ∀ (v13399 : BitVec 32) (k0_hw943 : k0_chk943 v13399), ∀ a, (k0_off1885 v13399) a + S1x1x1x128.size a ≤ S1x33344x1x128.size a := fun v13399 k0_hw943 => k0_hw943.1
theorem k0_off1886_inb : ∀ (v13399 : BitVec 32) (k0_hw943 : k0_chk943 v13399), ∀ a, (k0_off1886 v13399) a + S1x1x1x128.size a ≤ S1x33344x1x128.size a := fun v13399 k0_hw943 => k0_hw943.2

def k0_off1887 (v13413 : BitVec 32) : Fin 4 → Nat :=
  let c0_13179 : Index := 0#32
  let v13414 : Index := Scalar.indexCast v13413
  let c0_13180 : Index := 0#32
  let c0_13181 : Index := 0#32
  ![0, v13414.toNat, 0, 0]

def k0_off1888 (v13413 : BitVec 32) : Fin 4 → Nat :=
  let c0_13185 : Index := 0#32
  let c1_i32_13184 : BitVec 32 := 1#32
  let v13420 : BitVec 32 := Scalar.addi v13413 c1_i32_13184
  let v13421 : Index := Scalar.indexCast v13420
  let c0_13186 : Index := 0#32
  let c0_13187 : Index := 0#32
  ![0, v13421.toNat, 0, 0]

def k0_chk944 (v13413 : BitVec 32) : Prop :=
  (∀ a, (k0_off1887 v13413) a + S1x1x1x128.size a ≤ S1x33344x1x128.size a) ∧
  (∀ a, (k0_off1888 v13413) a + S1x1x1x128.size a ≤ S1x33344x1x128.size a)
theorem k0_off1887_inb : ∀ (v13413 : BitVec 32) (k0_hw944 : k0_chk944 v13413), ∀ a, (k0_off1887 v13413) a + S1x1x1x128.size a ≤ S1x33344x1x128.size a := fun v13413 k0_hw944 => k0_hw944.1
theorem k0_off1888_inb : ∀ (v13413 : BitVec 32) (k0_hw944 : k0_chk944 v13413), ∀ a, (k0_off1888 v13413) a + S1x1x1x128.size a ≤ S1x33344x1x128.size a := fun v13413 k0_hw944 => k0_hw944.2

def k0_off1889 (v13427 : BitVec 32) : Fin 4 → Nat :=
  let c0_13193 : Index := 0#32
  let v13428 : Index := Scalar.indexCast v13427
  let c0_13194 : Index := 0#32
  let c0_13195 : Index := 0#32
  ![0, v13428.toNat, 0, 0]

def k0_off1890 (v13427 : BitVec 32) : Fin 4 → Nat :=
  let c0_13199 : Index := 0#32
  let c1_i32_13198 : BitVec 32 := 1#32
  let v13434 : BitVec 32 := Scalar.addi v13427 c1_i32_13198
  let v13435 : Index := Scalar.indexCast v13434
  let c0_13200 : Index := 0#32
  let c0_13201 : Index := 0#32
  ![0, v13435.toNat, 0, 0]

def k0_chk945 (v13427 : BitVec 32) : Prop :=
  (∀ a, (k0_off1889 v13427) a + S1x1x1x128.size a ≤ S1x33344x1x128.size a) ∧
  (∀ a, (k0_off1890 v13427) a + S1x1x1x128.size a ≤ S1x33344x1x128.size a)
theorem k0_off1889_inb : ∀ (v13427 : BitVec 32) (k0_hw945 : k0_chk945 v13427), ∀ a, (k0_off1889 v13427) a + S1x1x1x128.size a ≤ S1x33344x1x128.size a := fun v13427 k0_hw945 => k0_hw945.1
theorem k0_off1890_inb : ∀ (v13427 : BitVec 32) (k0_hw945 : k0_chk945 v13427), ∀ a, (k0_off1890 v13427) a + S1x1x1x128.size a ≤ S1x33344x1x128.size a := fun v13427 k0_hw945 => k0_hw945.2

def k0_off1891 (v13441 : BitVec 32) : Fin 4 → Nat :=
  let c0_13207 : Index := 0#32
  let v13442 : Index := Scalar.indexCast v13441
  let c0_13208 : Index := 0#32
  let c0_13209 : Index := 0#32
  ![0, v13442.toNat, 0, 0]

def k0_off1892 (v13441 : BitVec 32) : Fin 4 → Nat :=
  let c0_13213 : Index := 0#32
  let c1_i32_13212 : BitVec 32 := 1#32
  let v13448 : BitVec 32 := Scalar.addi v13441 c1_i32_13212
  let v13449 : Index := Scalar.indexCast v13448
  let c0_13214 : Index := 0#32
  let c0_13215 : Index := 0#32
  ![0, v13449.toNat, 0, 0]

def k0_chk946 (v13441 : BitVec 32) : Prop :=
  (∀ a, (k0_off1891 v13441) a + S1x1x1x128.size a ≤ S1x33344x1x128.size a) ∧
  (∀ a, (k0_off1892 v13441) a + S1x1x1x128.size a ≤ S1x33344x1x128.size a)
theorem k0_off1891_inb : ∀ (v13441 : BitVec 32) (k0_hw946 : k0_chk946 v13441), ∀ a, (k0_off1891 v13441) a + S1x1x1x128.size a ≤ S1x33344x1x128.size a := fun v13441 k0_hw946 => k0_hw946.1
theorem k0_off1892_inb : ∀ (v13441 : BitVec 32) (k0_hw946 : k0_chk946 v13441), ∀ a, (k0_off1892 v13441) a + S1x1x1x128.size a ≤ S1x33344x1x128.size a := fun v13441 k0_hw946 => k0_hw946.2

def k0_off1893 (v13455 : BitVec 32) : Fin 4 → Nat :=
  let c0_13221 : Index := 0#32
  let v13456 : Index := Scalar.indexCast v13455
  let c0_13222 : Index := 0#32
  let c0_13223 : Index := 0#32
  ![0, v13456.toNat, 0, 0]

def k0_off1894 (v13455 : BitVec 32) : Fin 4 → Nat :=
  let c0_13227 : Index := 0#32
  let c1_i32_13226 : BitVec 32 := 1#32
  let v13462 : BitVec 32 := Scalar.addi v13455 c1_i32_13226
  let v13463 : Index := Scalar.indexCast v13462
  let c0_13228 : Index := 0#32
  let c0_13229 : Index := 0#32
  ![0, v13463.toNat, 0, 0]

def k0_chk947 (v13455 : BitVec 32) : Prop :=
  (∀ a, (k0_off1893 v13455) a + S1x1x1x128.size a ≤ S1x33344x1x128.size a) ∧
  (∀ a, (k0_off1894 v13455) a + S1x1x1x128.size a ≤ S1x33344x1x128.size a)
theorem k0_off1893_inb : ∀ (v13455 : BitVec 32) (k0_hw947 : k0_chk947 v13455), ∀ a, (k0_off1893 v13455) a + S1x1x1x128.size a ≤ S1x33344x1x128.size a := fun v13455 k0_hw947 => k0_hw947.1
theorem k0_off1894_inb : ∀ (v13455 : BitVec 32) (k0_hw947 : k0_chk947 v13455), ∀ a, (k0_off1894 v13455) a + S1x1x1x128.size a ≤ S1x33344x1x128.size a := fun v13455 k0_hw947 => k0_hw947.2

def k0_off1895 (v13469 : BitVec 32) : Fin 4 → Nat :=
  let c0_13235 : Index := 0#32
  let v13470 : Index := Scalar.indexCast v13469
  let c0_13236 : Index := 0#32
  let c0_13237 : Index := 0#32
  ![0, v13470.toNat, 0, 0]

def k0_off1896 (v13469 : BitVec 32) : Fin 4 → Nat :=
  let c0_13241 : Index := 0#32
  let c1_i32_13240 : BitVec 32 := 1#32
  let v13476 : BitVec 32 := Scalar.addi v13469 c1_i32_13240
  let v13477 : Index := Scalar.indexCast v13476
  let c0_13242 : Index := 0#32
  let c0_13243 : Index := 0#32
  ![0, v13477.toNat, 0, 0]

def k0_chk948 (v13469 : BitVec 32) : Prop :=
  (∀ a, (k0_off1895 v13469) a + S1x1x1x128.size a ≤ S1x33344x1x128.size a) ∧
  (∀ a, (k0_off1896 v13469) a + S1x1x1x128.size a ≤ S1x33344x1x128.size a)
theorem k0_off1895_inb : ∀ (v13469 : BitVec 32) (k0_hw948 : k0_chk948 v13469), ∀ a, (k0_off1895 v13469) a + S1x1x1x128.size a ≤ S1x33344x1x128.size a := fun v13469 k0_hw948 => k0_hw948.1
theorem k0_off1896_inb : ∀ (v13469 : BitVec 32) (k0_hw948 : k0_chk948 v13469), ∀ a, (k0_off1896 v13469) a + S1x1x1x128.size a ≤ S1x33344x1x128.size a := fun v13469 k0_hw948 => k0_hw948.2

def k0_off1897 (v13483 : BitVec 32) : Fin 4 → Nat :=
  let c0_13249 : Index := 0#32
  let v13484 : Index := Scalar.indexCast v13483
  let c0_13250 : Index := 0#32
  let c0_13251 : Index := 0#32
  ![0, v13484.toNat, 0, 0]

def k0_off1898 (v13483 : BitVec 32) : Fin 4 → Nat :=
  let c0_13255 : Index := 0#32
  let c1_i32_13254 : BitVec 32 := 1#32
  let v13490 : BitVec 32 := Scalar.addi v13483 c1_i32_13254
  let v13491 : Index := Scalar.indexCast v13490
  let c0_13256 : Index := 0#32
  let c0_13257 : Index := 0#32
  ![0, v13491.toNat, 0, 0]

def k0_chk949 (v13483 : BitVec 32) : Prop :=
  (∀ a, (k0_off1897 v13483) a + S1x1x1x128.size a ≤ S1x33344x1x128.size a) ∧
  (∀ a, (k0_off1898 v13483) a + S1x1x1x128.size a ≤ S1x33344x1x128.size a)
theorem k0_off1897_inb : ∀ (v13483 : BitVec 32) (k0_hw949 : k0_chk949 v13483), ∀ a, (k0_off1897 v13483) a + S1x1x1x128.size a ≤ S1x33344x1x128.size a := fun v13483 k0_hw949 => k0_hw949.1
theorem k0_off1898_inb : ∀ (v13483 : BitVec 32) (k0_hw949 : k0_chk949 v13483), ∀ a, (k0_off1898 v13483) a + S1x1x1x128.size a ≤ S1x33344x1x128.size a := fun v13483 k0_hw949 => k0_hw949.2

def k0_off1899 (v13497 : BitVec 32) : Fin 4 → Nat :=
  let c0_13263 : Index := 0#32
  let v13498 : Index := Scalar.indexCast v13497
  let c0_13264 : Index := 0#32
  let c0_13265 : Index := 0#32
  ![0, v13498.toNat, 0, 0]

def k0_off1900 (v13497 : BitVec 32) : Fin 4 → Nat :=
  let c0_13269 : Index := 0#32
  let c1_i32_13268 : BitVec 32 := 1#32
  let v13504 : BitVec 32 := Scalar.addi v13497 c1_i32_13268
  let v13505 : Index := Scalar.indexCast v13504
  let c0_13270 : Index := 0#32
  let c0_13271 : Index := 0#32
  ![0, v13505.toNat, 0, 0]

def k0_chk950 (v13497 : BitVec 32) : Prop :=
  (∀ a, (k0_off1899 v13497) a + S1x1x1x128.size a ≤ S1x33344x1x128.size a) ∧
  (∀ a, (k0_off1900 v13497) a + S1x1x1x128.size a ≤ S1x33344x1x128.size a)
theorem k0_off1899_inb : ∀ (v13497 : BitVec 32) (k0_hw950 : k0_chk950 v13497), ∀ a, (k0_off1899 v13497) a + S1x1x1x128.size a ≤ S1x33344x1x128.size a := fun v13497 k0_hw950 => k0_hw950.1
theorem k0_off1900_inb : ∀ (v13497 : BitVec 32) (k0_hw950 : k0_chk950 v13497), ∀ a, (k0_off1900 v13497) a + S1x1x1x128.size a ≤ S1x33344x1x128.size a := fun v13497 k0_hw950 => k0_hw950.2

def k0_off1901 (v13511 : BitVec 32) : Fin 4 → Nat :=
  let c0_13277 : Index := 0#32
  let v13512 : Index := Scalar.indexCast v13511
  let c0_13278 : Index := 0#32
  let c0_13279 : Index := 0#32
  ![0, v13512.toNat, 0, 0]

def k0_off1902 (v13511 : BitVec 32) : Fin 4 → Nat :=
  let c0_13283 : Index := 0#32
  let c1_i32_13282 : BitVec 32 := 1#32
  let v13518 : BitVec 32 := Scalar.addi v13511 c1_i32_13282
  let v13519 : Index := Scalar.indexCast v13518
  let c0_13284 : Index := 0#32
  let c0_13285 : Index := 0#32
  ![0, v13519.toNat, 0, 0]

def k0_chk951 (v13511 : BitVec 32) : Prop :=
  (∀ a, (k0_off1901 v13511) a + S1x1x1x128.size a ≤ S1x33344x1x128.size a) ∧
  (∀ a, (k0_off1902 v13511) a + S1x1x1x128.size a ≤ S1x33344x1x128.size a)
theorem k0_off1901_inb : ∀ (v13511 : BitVec 32) (k0_hw951 : k0_chk951 v13511), ∀ a, (k0_off1901 v13511) a + S1x1x1x128.size a ≤ S1x33344x1x128.size a := fun v13511 k0_hw951 => k0_hw951.1
theorem k0_off1902_inb : ∀ (v13511 : BitVec 32) (k0_hw951 : k0_chk951 v13511), ∀ a, (k0_off1902 v13511) a + S1x1x1x128.size a ≤ S1x33344x1x128.size a := fun v13511 k0_hw951 => k0_hw951.2

def k0_off1903 (v13525 : BitVec 32) : Fin 4 → Nat :=
  let c0_13291 : Index := 0#32
  let v13526 : Index := Scalar.indexCast v13525
  let c0_13292 : Index := 0#32
  let c0_13293 : Index := 0#32
  ![0, v13526.toNat, 0, 0]

def k0_off1904 (v13525 : BitVec 32) : Fin 4 → Nat :=
  let c0_13297 : Index := 0#32
  let c1_i32_13296 : BitVec 32 := 1#32
  let v13532 : BitVec 32 := Scalar.addi v13525 c1_i32_13296
  let v13533 : Index := Scalar.indexCast v13532
  let c0_13298 : Index := 0#32
  let c0_13299 : Index := 0#32
  ![0, v13533.toNat, 0, 0]

def k0_chk952 (v13525 : BitVec 32) : Prop :=
  (∀ a, (k0_off1903 v13525) a + S1x1x1x128.size a ≤ S1x33344x1x128.size a) ∧
  (∀ a, (k0_off1904 v13525) a + S1x1x1x128.size a ≤ S1x33344x1x128.size a)
theorem k0_off1903_inb : ∀ (v13525 : BitVec 32) (k0_hw952 : k0_chk952 v13525), ∀ a, (k0_off1903 v13525) a + S1x1x1x128.size a ≤ S1x33344x1x128.size a := fun v13525 k0_hw952 => k0_hw952.1
theorem k0_off1904_inb : ∀ (v13525 : BitVec 32) (k0_hw952 : k0_chk952 v13525), ∀ a, (k0_off1904 v13525) a + S1x1x1x128.size a ≤ S1x33344x1x128.size a := fun v13525 k0_hw952 => k0_hw952.2

def k0_off1905 (v13539 : BitVec 32) : Fin 4 → Nat :=
  let c0_13305 : Index := 0#32
  let v13540 : Index := Scalar.indexCast v13539
  let c0_13306 : Index := 0#32
  let c0_13307 : Index := 0#32
  ![0, v13540.toNat, 0, 0]

def k0_off1906 (v13539 : BitVec 32) : Fin 4 → Nat :=
  let c0_13311 : Index := 0#32
  let c1_i32_13310 : BitVec 32 := 1#32
  let v13546 : BitVec 32 := Scalar.addi v13539 c1_i32_13310
  let v13547 : Index := Scalar.indexCast v13546
  let c0_13312 : Index := 0#32
  let c0_13313 : Index := 0#32
  ![0, v13547.toNat, 0, 0]

def k0_chk953 (v13539 : BitVec 32) : Prop :=
  (∀ a, (k0_off1905 v13539) a + S1x1x1x128.size a ≤ S1x33344x1x128.size a) ∧
  (∀ a, (k0_off1906 v13539) a + S1x1x1x128.size a ≤ S1x33344x1x128.size a)
theorem k0_off1905_inb : ∀ (v13539 : BitVec 32) (k0_hw953 : k0_chk953 v13539), ∀ a, (k0_off1905 v13539) a + S1x1x1x128.size a ≤ S1x33344x1x128.size a := fun v13539 k0_hw953 => k0_hw953.1
theorem k0_off1906_inb : ∀ (v13539 : BitVec 32) (k0_hw953 : k0_chk953 v13539), ∀ a, (k0_off1906 v13539) a + S1x1x1x128.size a ≤ S1x33344x1x128.size a := fun v13539 k0_hw953 => k0_hw953.2

def k0_off1907 (v13553 : BitVec 32) : Fin 4 → Nat :=
  let c0_13319 : Index := 0#32
  let v13554 : Index := Scalar.indexCast v13553
  let c0_13320 : Index := 0#32
  let c0_13321 : Index := 0#32
  ![0, v13554.toNat, 0, 0]

def k0_off1908 (v13553 : BitVec 32) : Fin 4 → Nat :=
  let c0_13325 : Index := 0#32
  let c1_i32_13324 : BitVec 32 := 1#32
  let v13560 : BitVec 32 := Scalar.addi v13553 c1_i32_13324
  let v13561 : Index := Scalar.indexCast v13560
  let c0_13326 : Index := 0#32
  let c0_13327 : Index := 0#32
  ![0, v13561.toNat, 0, 0]

def k0_chk954 (v13553 : BitVec 32) : Prop :=
  (∀ a, (k0_off1907 v13553) a + S1x1x1x128.size a ≤ S1x33344x1x128.size a) ∧
  (∀ a, (k0_off1908 v13553) a + S1x1x1x128.size a ≤ S1x33344x1x128.size a)
theorem k0_off1907_inb : ∀ (v13553 : BitVec 32) (k0_hw954 : k0_chk954 v13553), ∀ a, (k0_off1907 v13553) a + S1x1x1x128.size a ≤ S1x33344x1x128.size a := fun v13553 k0_hw954 => k0_hw954.1
theorem k0_off1908_inb : ∀ (v13553 : BitVec 32) (k0_hw954 : k0_chk954 v13553), ∀ a, (k0_off1908 v13553) a + S1x1x1x128.size a ≤ S1x33344x1x128.size a := fun v13553 k0_hw954 => k0_hw954.2

def k0_off1909 (v13567 : BitVec 32) : Fin 4 → Nat :=
  let c0_13333 : Index := 0#32
  let v13568 : Index := Scalar.indexCast v13567
  let c0_13334 : Index := 0#32
  let c0_13335 : Index := 0#32
  ![0, v13568.toNat, 0, 0]

def k0_off1910 (v13567 : BitVec 32) : Fin 4 → Nat :=
  let c0_13339 : Index := 0#32
  let c1_i32_13338 : BitVec 32 := 1#32
  let v13574 : BitVec 32 := Scalar.addi v13567 c1_i32_13338
  let v13575 : Index := Scalar.indexCast v13574
  let c0_13340 : Index := 0#32
  let c0_13341 : Index := 0#32
  ![0, v13575.toNat, 0, 0]

def k0_chk955 (v13567 : BitVec 32) : Prop :=
  (∀ a, (k0_off1909 v13567) a + S1x1x1x128.size a ≤ S1x33344x1x128.size a) ∧
  (∀ a, (k0_off1910 v13567) a + S1x1x1x128.size a ≤ S1x33344x1x128.size a)
theorem k0_off1909_inb : ∀ (v13567 : BitVec 32) (k0_hw955 : k0_chk955 v13567), ∀ a, (k0_off1909 v13567) a + S1x1x1x128.size a ≤ S1x33344x1x128.size a := fun v13567 k0_hw955 => k0_hw955.1
theorem k0_off1910_inb : ∀ (v13567 : BitVec 32) (k0_hw955 : k0_chk955 v13567), ∀ a, (k0_off1910 v13567) a + S1x1x1x128.size a ≤ S1x33344x1x128.size a := fun v13567 k0_hw955 => k0_hw955.2

def k0_off1911 (v13581 : BitVec 32) : Fin 4 → Nat :=
  let c0_13347 : Index := 0#32
  let v13582 : Index := Scalar.indexCast v13581
  let c0_13348 : Index := 0#32
  let c0_13349 : Index := 0#32
  ![0, v13582.toNat, 0, 0]

def k0_off1912 (v13581 : BitVec 32) : Fin 4 → Nat :=
  let c0_13353 : Index := 0#32
  let c1_i32_13352 : BitVec 32 := 1#32
  let v13588 : BitVec 32 := Scalar.addi v13581 c1_i32_13352
  let v13589 : Index := Scalar.indexCast v13588
  let c0_13354 : Index := 0#32
  let c0_13355 : Index := 0#32
  ![0, v13589.toNat, 0, 0]

def k0_chk956 (v13581 : BitVec 32) : Prop :=
  (∀ a, (k0_off1911 v13581) a + S1x1x1x128.size a ≤ S1x33344x1x128.size a) ∧
  (∀ a, (k0_off1912 v13581) a + S1x1x1x128.size a ≤ S1x33344x1x128.size a)
theorem k0_off1911_inb : ∀ (v13581 : BitVec 32) (k0_hw956 : k0_chk956 v13581), ∀ a, (k0_off1911 v13581) a + S1x1x1x128.size a ≤ S1x33344x1x128.size a := fun v13581 k0_hw956 => k0_hw956.1
theorem k0_off1912_inb : ∀ (v13581 : BitVec 32) (k0_hw956 : k0_chk956 v13581), ∀ a, (k0_off1912 v13581) a + S1x1x1x128.size a ≤ S1x33344x1x128.size a := fun v13581 k0_hw956 => k0_hw956.2

def k0_off1913 (v13595 : BitVec 32) : Fin 4 → Nat :=
  let c0_13361 : Index := 0#32
  let v13596 : Index := Scalar.indexCast v13595
  let c0_13362 : Index := 0#32
  let c0_13363 : Index := 0#32
  ![0, v13596.toNat, 0, 0]

def k0_off1914 (v13595 : BitVec 32) : Fin 4 → Nat :=
  let c0_13367 : Index := 0#32
  let c1_i32_13366 : BitVec 32 := 1#32
  let v13602 : BitVec 32 := Scalar.addi v13595 c1_i32_13366
  let v13603 : Index := Scalar.indexCast v13602
  let c0_13368 : Index := 0#32
  let c0_13369 : Index := 0#32
  ![0, v13603.toNat, 0, 0]

def k0_chk957 (v13595 : BitVec 32) : Prop :=
  (∀ a, (k0_off1913 v13595) a + S1x1x1x128.size a ≤ S1x33344x1x128.size a) ∧
  (∀ a, (k0_off1914 v13595) a + S1x1x1x128.size a ≤ S1x33344x1x128.size a)
theorem k0_off1913_inb : ∀ (v13595 : BitVec 32) (k0_hw957 : k0_chk957 v13595), ∀ a, (k0_off1913 v13595) a + S1x1x1x128.size a ≤ S1x33344x1x128.size a := fun v13595 k0_hw957 => k0_hw957.1
theorem k0_off1914_inb : ∀ (v13595 : BitVec 32) (k0_hw957 : k0_chk957 v13595), ∀ a, (k0_off1914 v13595) a + S1x1x1x128.size a ≤ S1x33344x1x128.size a := fun v13595 k0_hw957 => k0_hw957.2

def k0_off1915 (v13609 : BitVec 32) : Fin 4 → Nat :=
  let c0_13375 : Index := 0#32
  let v13610 : Index := Scalar.indexCast v13609
  let c0_13376 : Index := 0#32
  let c0_13377 : Index := 0#32
  ![0, v13610.toNat, 0, 0]

def k0_off1916 (v13609 : BitVec 32) : Fin 4 → Nat :=
  let c0_13381 : Index := 0#32
  let c1_i32_13380 : BitVec 32 := 1#32
  let v13616 : BitVec 32 := Scalar.addi v13609 c1_i32_13380
  let v13617 : Index := Scalar.indexCast v13616
  let c0_13382 : Index := 0#32
  let c0_13383 : Index := 0#32
  ![0, v13617.toNat, 0, 0]

def k0_chk958 (v13609 : BitVec 32) : Prop :=
  (∀ a, (k0_off1915 v13609) a + S1x1x1x128.size a ≤ S1x33344x1x128.size a) ∧
  (∀ a, (k0_off1916 v13609) a + S1x1x1x128.size a ≤ S1x33344x1x128.size a)
theorem k0_off1915_inb : ∀ (v13609 : BitVec 32) (k0_hw958 : k0_chk958 v13609), ∀ a, (k0_off1915 v13609) a + S1x1x1x128.size a ≤ S1x33344x1x128.size a := fun v13609 k0_hw958 => k0_hw958.1
theorem k0_off1916_inb : ∀ (v13609 : BitVec 32) (k0_hw958 : k0_chk958 v13609), ∀ a, (k0_off1916 v13609) a + S1x1x1x128.size a ≤ S1x33344x1x128.size a := fun v13609 k0_hw958 => k0_hw958.2

def k0_off1917 (v13623 : BitVec 32) : Fin 4 → Nat :=
  let c0_13389 : Index := 0#32
  let v13624 : Index := Scalar.indexCast v13623
  let c0_13390 : Index := 0#32
  let c0_13391 : Index := 0#32
  ![0, v13624.toNat, 0, 0]

def k0_off1918 (v13623 : BitVec 32) : Fin 4 → Nat :=
  let c0_13395 : Index := 0#32
  let c1_i32_13394 : BitVec 32 := 1#32
  let v13630 : BitVec 32 := Scalar.addi v13623 c1_i32_13394
  let v13631 : Index := Scalar.indexCast v13630
  let c0_13396 : Index := 0#32
  let c0_13397 : Index := 0#32
  ![0, v13631.toNat, 0, 0]

def k0_chk959 (v13623 : BitVec 32) : Prop :=
  (∀ a, (k0_off1917 v13623) a + S1x1x1x128.size a ≤ S1x33344x1x128.size a) ∧
  (∀ a, (k0_off1918 v13623) a + S1x1x1x128.size a ≤ S1x33344x1x128.size a)
theorem k0_off1917_inb : ∀ (v13623 : BitVec 32) (k0_hw959 : k0_chk959 v13623), ∀ a, (k0_off1917 v13623) a + S1x1x1x128.size a ≤ S1x33344x1x128.size a := fun v13623 k0_hw959 => k0_hw959.1
theorem k0_off1918_inb : ∀ (v13623 : BitVec 32) (k0_hw959 : k0_chk959 v13623), ∀ a, (k0_off1918 v13623) a + S1x1x1x128.size a ≤ S1x33344x1x128.size a := fun v13623 k0_hw959 => k0_hw959.2

def k0_off1919 (v13637 : BitVec 32) : Fin 4 → Nat :=
  let c0_13403 : Index := 0#32
  let v13638 : Index := Scalar.indexCast v13637
  let c0_13404 : Index := 0#32
  let c0_13405 : Index := 0#32
  ![0, v13638.toNat, 0, 0]

def k0_off1920 (v13637 : BitVec 32) : Fin 4 → Nat :=
  let c0_13409 : Index := 0#32
  let c1_i32_13408 : BitVec 32 := 1#32
  let v13644 : BitVec 32 := Scalar.addi v13637 c1_i32_13408
  let v13645 : Index := Scalar.indexCast v13644
  let c0_13410 : Index := 0#32
  let c0_13411 : Index := 0#32
  ![0, v13645.toNat, 0, 0]

def k0_chk960 (v13637 : BitVec 32) : Prop :=
  (∀ a, (k0_off1919 v13637) a + S1x1x1x128.size a ≤ S1x33344x1x128.size a) ∧
  (∀ a, (k0_off1920 v13637) a + S1x1x1x128.size a ≤ S1x33344x1x128.size a)
theorem k0_off1919_inb : ∀ (v13637 : BitVec 32) (k0_hw960 : k0_chk960 v13637), ∀ a, (k0_off1919 v13637) a + S1x1x1x128.size a ≤ S1x33344x1x128.size a := fun v13637 k0_hw960 => k0_hw960.1
theorem k0_off1920_inb : ∀ (v13637 : BitVec 32) (k0_hw960 : k0_chk960 v13637), ∀ a, (k0_off1920 v13637) a + S1x1x1x128.size a ≤ S1x33344x1x128.size a := fun v13637 k0_hw960 => k0_hw960.2

def k0_off1921 (v13651 : BitVec 32) : Fin 4 → Nat :=
  let c0_13417 : Index := 0#32
  let v13652 : Index := Scalar.indexCast v13651
  let c0_13418 : Index := 0#32
  let c0_13419 : Index := 0#32
  ![0, v13652.toNat, 0, 0]

def k0_off1922 (v13651 : BitVec 32) : Fin 4 → Nat :=
  let c0_13423 : Index := 0#32
  let c1_i32_13422 : BitVec 32 := 1#32
  let v13658 : BitVec 32 := Scalar.addi v13651 c1_i32_13422
  let v13659 : Index := Scalar.indexCast v13658
  let c0_13424 : Index := 0#32
  let c0_13425 : Index := 0#32
  ![0, v13659.toNat, 0, 0]

def k0_chk961 (v13651 : BitVec 32) : Prop :=
  (∀ a, (k0_off1921 v13651) a + S1x1x1x128.size a ≤ S1x33344x1x128.size a) ∧
  (∀ a, (k0_off1922 v13651) a + S1x1x1x128.size a ≤ S1x33344x1x128.size a)
theorem k0_off1921_inb : ∀ (v13651 : BitVec 32) (k0_hw961 : k0_chk961 v13651), ∀ a, (k0_off1921 v13651) a + S1x1x1x128.size a ≤ S1x33344x1x128.size a := fun v13651 k0_hw961 => k0_hw961.1
theorem k0_off1922_inb : ∀ (v13651 : BitVec 32) (k0_hw961 : k0_chk961 v13651), ∀ a, (k0_off1922 v13651) a + S1x1x1x128.size a ≤ S1x33344x1x128.size a := fun v13651 k0_hw961 => k0_hw961.2

def k0_off1923 (v13665 : BitVec 32) : Fin 4 → Nat :=
  let c0_13431 : Index := 0#32
  let v13666 : Index := Scalar.indexCast v13665
  let c0_13432 : Index := 0#32
  let c0_13433 : Index := 0#32
  ![0, v13666.toNat, 0, 0]

def k0_off1924 (v13665 : BitVec 32) : Fin 4 → Nat :=
  let c0_13437 : Index := 0#32
  let c1_i32_13436 : BitVec 32 := 1#32
  let v13672 : BitVec 32 := Scalar.addi v13665 c1_i32_13436
  let v13673 : Index := Scalar.indexCast v13672
  let c0_13438 : Index := 0#32
  let c0_13439 : Index := 0#32
  ![0, v13673.toNat, 0, 0]

def k0_chk962 (v13665 : BitVec 32) : Prop :=
  (∀ a, (k0_off1923 v13665) a + S1x1x1x128.size a ≤ S1x33344x1x128.size a) ∧
  (∀ a, (k0_off1924 v13665) a + S1x1x1x128.size a ≤ S1x33344x1x128.size a)
theorem k0_off1923_inb : ∀ (v13665 : BitVec 32) (k0_hw962 : k0_chk962 v13665), ∀ a, (k0_off1923 v13665) a + S1x1x1x128.size a ≤ S1x33344x1x128.size a := fun v13665 k0_hw962 => k0_hw962.1
theorem k0_off1924_inb : ∀ (v13665 : BitVec 32) (k0_hw962 : k0_chk962 v13665), ∀ a, (k0_off1924 v13665) a + S1x1x1x128.size a ≤ S1x33344x1x128.size a := fun v13665 k0_hw962 => k0_hw962.2

def k0_off1925 (v13679 : BitVec 32) : Fin 4 → Nat :=
  let c0_13445 : Index := 0#32
  let v13680 : Index := Scalar.indexCast v13679
  let c0_13446 : Index := 0#32
  let c0_13447 : Index := 0#32
  ![0, v13680.toNat, 0, 0]

def k0_off1926 (v13679 : BitVec 32) : Fin 4 → Nat :=
  let c0_13451 : Index := 0#32
  let c1_i32_13450 : BitVec 32 := 1#32
  let v13686 : BitVec 32 := Scalar.addi v13679 c1_i32_13450
  let v13687 : Index := Scalar.indexCast v13686
  let c0_13452 : Index := 0#32
  let c0_13453 : Index := 0#32
  ![0, v13687.toNat, 0, 0]

def k0_chk963 (v13679 : BitVec 32) : Prop :=
  (∀ a, (k0_off1925 v13679) a + S1x1x1x128.size a ≤ S1x33344x1x128.size a) ∧
  (∀ a, (k0_off1926 v13679) a + S1x1x1x128.size a ≤ S1x33344x1x128.size a)
theorem k0_off1925_inb : ∀ (v13679 : BitVec 32) (k0_hw963 : k0_chk963 v13679), ∀ a, (k0_off1925 v13679) a + S1x1x1x128.size a ≤ S1x33344x1x128.size a := fun v13679 k0_hw963 => k0_hw963.1
theorem k0_off1926_inb : ∀ (v13679 : BitVec 32) (k0_hw963 : k0_chk963 v13679), ∀ a, (k0_off1926 v13679) a + S1x1x1x128.size a ≤ S1x33344x1x128.size a := fun v13679 k0_hw963 => k0_hw963.2

def k0_off1927 (v13693 : BitVec 32) : Fin 4 → Nat :=
  let c0_13459 : Index := 0#32
  let v13694 : Index := Scalar.indexCast v13693
  let c0_13460 : Index := 0#32
  let c0_13461 : Index := 0#32
  ![0, v13694.toNat, 0, 0]

def k0_off1928 (v13693 : BitVec 32) : Fin 4 → Nat :=
  let c0_13465 : Index := 0#32
  let c1_i32_13464 : BitVec 32 := 1#32
  let v13700 : BitVec 32 := Scalar.addi v13693 c1_i32_13464
  let v13701 : Index := Scalar.indexCast v13700
  let c0_13466 : Index := 0#32
  let c0_13467 : Index := 0#32
  ![0, v13701.toNat, 0, 0]

variable {F : FTy → Type} [FloatOps F]

def k0_chk964 (v13693 : BitVec 32) : Prop :=
  (∀ a, (k0_off1927 v13693) a + S1x1x1x128.size a ≤ S1x33344x1x128.size a) ∧
  (∀ a, (k0_off1928 v13693) a + S1x1x1x128.size a ≤ S1x33344x1x128.size a)
theorem k0_off1927_inb : ∀ (v13693 : BitVec 32) (k0_hw964 : k0_chk964 v13693), ∀ a, (k0_off1927 v13693) a + S1x1x1x128.size a ≤ S1x33344x1x128.size a := fun v13693 k0_hw964 => k0_hw964.1
theorem k0_off1928_inb : ∀ (v13693 : BitVec 32) (k0_hw964 : k0_chk964 v13693), ∀ a, (k0_off1928 v13693) a + S1x1x1x128.size a ≤ S1x33344x1x128.size a := fun v13693 k0_hw964 => k0_hw964.2

def k0_off1929 (v13707 : BitVec 32) : Fin 4 → Nat :=
  let c0_13473 : Index := 0#32
  let v13708 : Index := Scalar.indexCast v13707
  let c0_13474 : Index := 0#32
  let c0_13475 : Index := 0#32
  ![0, v13708.toNat, 0, 0]

def k0_off1930 (v13707 : BitVec 32) : Fin 4 → Nat :=
  let c0_13479 : Index := 0#32
  let c1_i32_13478 : BitVec 32 := 1#32
  let v13714 : BitVec 32 := Scalar.addi v13707 c1_i32_13478
  let v13715 : Index := Scalar.indexCast v13714
  let c0_13480 : Index := 0#32
  let c0_13481 : Index := 0#32
  ![0, v13715.toNat, 0, 0]

def k0_chk965 (v13707 : BitVec 32) : Prop :=
  (∀ a, (k0_off1929 v13707) a + S1x1x1x128.size a ≤ S1x33344x1x128.size a) ∧
  (∀ a, (k0_off1930 v13707) a + S1x1x1x128.size a ≤ S1x33344x1x128.size a)
theorem k0_off1929_inb : ∀ (v13707 : BitVec 32) (k0_hw965 : k0_chk965 v13707), ∀ a, (k0_off1929 v13707) a + S1x1x1x128.size a ≤ S1x33344x1x128.size a := fun v13707 k0_hw965 => k0_hw965.1
theorem k0_off1930_inb : ∀ (v13707 : BitVec 32) (k0_hw965 : k0_chk965 v13707), ∀ a, (k0_off1930 v13707) a + S1x1x1x128.size a ≤ S1x33344x1x128.size a := fun v13707 k0_hw965 => k0_hw965.2

def k0_off1931 (v13721 : BitVec 32) : Fin 4 → Nat :=
  let c0_13487 : Index := 0#32
  let v13722 : Index := Scalar.indexCast v13721
  let c0_13488 : Index := 0#32
  let c0_13489 : Index := 0#32
  ![0, v13722.toNat, 0, 0]

def k0_off1932 (v13721 : BitVec 32) : Fin 4 → Nat :=
  let c0_13493 : Index := 0#32
  let c1_i32_13492 : BitVec 32 := 1#32
  let v13728 : BitVec 32 := Scalar.addi v13721 c1_i32_13492
  let v13729 : Index := Scalar.indexCast v13728
  let c0_13494 : Index := 0#32
  let c0_13495 : Index := 0#32
  ![0, v13729.toNat, 0, 0]

def k0_chk966 (v13721 : BitVec 32) : Prop :=
  (∀ a, (k0_off1931 v13721) a + S1x1x1x128.size a ≤ S1x33344x1x128.size a) ∧
  (∀ a, (k0_off1932 v13721) a + S1x1x1x128.size a ≤ S1x33344x1x128.size a)
theorem k0_off1931_inb : ∀ (v13721 : BitVec 32) (k0_hw966 : k0_chk966 v13721), ∀ a, (k0_off1931 v13721) a + S1x1x1x128.size a ≤ S1x33344x1x128.size a := fun v13721 k0_hw966 => k0_hw966.1
theorem k0_off1932_inb : ∀ (v13721 : BitVec 32) (k0_hw966 : k0_chk966 v13721), ∀ a, (k0_off1932 v13721) a + S1x1x1x128.size a ≤ S1x33344x1x128.size a := fun v13721 k0_hw966 => k0_hw966.2

def k0_off1933 (v13735 : BitVec 32) : Fin 4 → Nat :=
  let c0_13501 : Index := 0#32
  let v13736 : Index := Scalar.indexCast v13735
  let c0_13502 : Index := 0#32
  let c0_13503 : Index := 0#32
  ![0, v13736.toNat, 0, 0]

def k0_off1934 (v13735 : BitVec 32) : Fin 4 → Nat :=
  let c0_13507 : Index := 0#32
  let c1_i32_13506 : BitVec 32 := 1#32
  let v13742 : BitVec 32 := Scalar.addi v13735 c1_i32_13506
  let v13743 : Index := Scalar.indexCast v13742
  let c0_13508 : Index := 0#32
  let c0_13509 : Index := 0#32
  ![0, v13743.toNat, 0, 0]

def k0_chk967 (v13735 : BitVec 32) : Prop :=
  (∀ a, (k0_off1933 v13735) a + S1x1x1x128.size a ≤ S1x33344x1x128.size a) ∧
  (∀ a, (k0_off1934 v13735) a + S1x1x1x128.size a ≤ S1x33344x1x128.size a)
theorem k0_off1933_inb : ∀ (v13735 : BitVec 32) (k0_hw967 : k0_chk967 v13735), ∀ a, (k0_off1933 v13735) a + S1x1x1x128.size a ≤ S1x33344x1x128.size a := fun v13735 k0_hw967 => k0_hw967.1
theorem k0_off1934_inb : ∀ (v13735 : BitVec 32) (k0_hw967 : k0_chk967 v13735), ∀ a, (k0_off1934 v13735) a + S1x1x1x128.size a ≤ S1x33344x1x128.size a := fun v13735 k0_hw967 => k0_hw967.2

def k0_off1935 (v13749 : BitVec 32) : Fin 4 → Nat :=
  let c0_13515 : Index := 0#32
  let v13750 : Index := Scalar.indexCast v13749
  let c0_13516 : Index := 0#32
  let c0_13517 : Index := 0#32
  ![0, v13750.toNat, 0, 0]

def k0_off1936 (v13749 : BitVec 32) : Fin 4 → Nat :=
  let c0_13521 : Index := 0#32
  let c1_i32_13520 : BitVec 32 := 1#32
  let v13756 : BitVec 32 := Scalar.addi v13749 c1_i32_13520
  let v13757 : Index := Scalar.indexCast v13756
  let c0_13522 : Index := 0#32
  let c0_13523 : Index := 0#32
  ![0, v13757.toNat, 0, 0]

def k0_chk968 (v13749 : BitVec 32) : Prop :=
  (∀ a, (k0_off1935 v13749) a + S1x1x1x128.size a ≤ S1x33344x1x128.size a) ∧
  (∀ a, (k0_off1936 v13749) a + S1x1x1x128.size a ≤ S1x33344x1x128.size a)
theorem k0_off1935_inb : ∀ (v13749 : BitVec 32) (k0_hw968 : k0_chk968 v13749), ∀ a, (k0_off1935 v13749) a + S1x1x1x128.size a ≤ S1x33344x1x128.size a := fun v13749 k0_hw968 => k0_hw968.1
theorem k0_off1936_inb : ∀ (v13749 : BitVec 32) (k0_hw968 : k0_chk968 v13749), ∀ a, (k0_off1936 v13749) a + S1x1x1x128.size a ≤ S1x33344x1x128.size a := fun v13749 k0_hw968 => k0_hw968.2

def k0_off1937 (v13763 : BitVec 32) : Fin 4 → Nat :=
  let c0_13529 : Index := 0#32
  let v13764 : Index := Scalar.indexCast v13763
  let c0_13530 : Index := 0#32
  let c0_13531 : Index := 0#32
  ![0, v13764.toNat, 0, 0]

def k0_off1938 (v13763 : BitVec 32) : Fin 4 → Nat :=
  let c0_13535 : Index := 0#32
  let c1_i32_13534 : BitVec 32 := 1#32
  let v13770 : BitVec 32 := Scalar.addi v13763 c1_i32_13534
  let v13771 : Index := Scalar.indexCast v13770
  let c0_13536 : Index := 0#32
  let c0_13537 : Index := 0#32
  ![0, v13771.toNat, 0, 0]

def k0_chk969 (v13763 : BitVec 32) : Prop :=
  (∀ a, (k0_off1937 v13763) a + S1x1x1x128.size a ≤ S1x33344x1x128.size a) ∧
  (∀ a, (k0_off1938 v13763) a + S1x1x1x128.size a ≤ S1x33344x1x128.size a)
theorem k0_off1937_inb : ∀ (v13763 : BitVec 32) (k0_hw969 : k0_chk969 v13763), ∀ a, (k0_off1937 v13763) a + S1x1x1x128.size a ≤ S1x33344x1x128.size a := fun v13763 k0_hw969 => k0_hw969.1
theorem k0_off1938_inb : ∀ (v13763 : BitVec 32) (k0_hw969 : k0_chk969 v13763), ∀ a, (k0_off1938 v13763) a + S1x1x1x128.size a ≤ S1x33344x1x128.size a := fun v13763 k0_hw969 => k0_hw969.2

def k0_off1939 (v13777 : BitVec 32) : Fin 4 → Nat :=
  let c0_13543 : Index := 0#32
  let v13778 : Index := Scalar.indexCast v13777
  let c0_13544 : Index := 0#32
  let c0_13545 : Index := 0#32
  ![0, v13778.toNat, 0, 0]

def k0_off1940 (v13777 : BitVec 32) : Fin 4 → Nat :=
  let c0_13549 : Index := 0#32
  let c1_i32_13548 : BitVec 32 := 1#32
  let v13784 : BitVec 32 := Scalar.addi v13777 c1_i32_13548
  let v13785 : Index := Scalar.indexCast v13784
  let c0_13550 : Index := 0#32
  let c0_13551 : Index := 0#32
  ![0, v13785.toNat, 0, 0]

def k0_chk970 (v13777 : BitVec 32) : Prop :=
  (∀ a, (k0_off1939 v13777) a + S1x1x1x128.size a ≤ S1x33344x1x128.size a) ∧
  (∀ a, (k0_off1940 v13777) a + S1x1x1x128.size a ≤ S1x33344x1x128.size a)
theorem k0_off1939_inb : ∀ (v13777 : BitVec 32) (k0_hw970 : k0_chk970 v13777), ∀ a, (k0_off1939 v13777) a + S1x1x1x128.size a ≤ S1x33344x1x128.size a := fun v13777 k0_hw970 => k0_hw970.1
theorem k0_off1940_inb : ∀ (v13777 : BitVec 32) (k0_hw970 : k0_chk970 v13777), ∀ a, (k0_off1940 v13777) a + S1x1x1x128.size a ≤ S1x33344x1x128.size a := fun v13777 k0_hw970 => k0_hw970.2

def k0_off1941 (v13791 : BitVec 32) : Fin 4 → Nat :=
  let c0_13557 : Index := 0#32
  let v13792 : Index := Scalar.indexCast v13791
  let c0_13558 : Index := 0#32
  let c0_13559 : Index := 0#32
  ![0, v13792.toNat, 0, 0]

def k0_off1942 (v13791 : BitVec 32) : Fin 4 → Nat :=
  let c0_13563 : Index := 0#32
  let c1_i32_13562 : BitVec 32 := 1#32
  let v13798 : BitVec 32 := Scalar.addi v13791 c1_i32_13562
  let v13799 : Index := Scalar.indexCast v13798
  let c0_13564 : Index := 0#32
  let c0_13565 : Index := 0#32
  ![0, v13799.toNat, 0, 0]

def k0_chk971 (v13791 : BitVec 32) : Prop :=
  (∀ a, (k0_off1941 v13791) a + S1x1x1x128.size a ≤ S1x33344x1x128.size a) ∧
  (∀ a, (k0_off1942 v13791) a + S1x1x1x128.size a ≤ S1x33344x1x128.size a)
theorem k0_off1941_inb : ∀ (v13791 : BitVec 32) (k0_hw971 : k0_chk971 v13791), ∀ a, (k0_off1941 v13791) a + S1x1x1x128.size a ≤ S1x33344x1x128.size a := fun v13791 k0_hw971 => k0_hw971.1
theorem k0_off1942_inb : ∀ (v13791 : BitVec 32) (k0_hw971 : k0_chk971 v13791), ∀ a, (k0_off1942 v13791) a + S1x1x1x128.size a ≤ S1x33344x1x128.size a := fun v13791 k0_hw971 => k0_hw971.2

def k0_off1943 (v13805 : BitVec 32) : Fin 4 → Nat :=
  let c0_13571 : Index := 0#32
  let v13806 : Index := Scalar.indexCast v13805
  let c0_13572 : Index := 0#32
  let c0_13573 : Index := 0#32
  ![0, v13806.toNat, 0, 0]

def k0_off1944 (v13805 : BitVec 32) : Fin 4 → Nat :=
  let c0_13577 : Index := 0#32
  let c1_i32_13576 : BitVec 32 := 1#32
  let v13812 : BitVec 32 := Scalar.addi v13805 c1_i32_13576
  let v13813 : Index := Scalar.indexCast v13812
  let c0_13578 : Index := 0#32
  let c0_13579 : Index := 0#32
  ![0, v13813.toNat, 0, 0]

def k0_chk972 (v13805 : BitVec 32) : Prop :=
  (∀ a, (k0_off1943 v13805) a + S1x1x1x128.size a ≤ S1x33344x1x128.size a) ∧
  (∀ a, (k0_off1944 v13805) a + S1x1x1x128.size a ≤ S1x33344x1x128.size a)
theorem k0_off1943_inb : ∀ (v13805 : BitVec 32) (k0_hw972 : k0_chk972 v13805), ∀ a, (k0_off1943 v13805) a + S1x1x1x128.size a ≤ S1x33344x1x128.size a := fun v13805 k0_hw972 => k0_hw972.1
theorem k0_off1944_inb : ∀ (v13805 : BitVec 32) (k0_hw972 : k0_chk972 v13805), ∀ a, (k0_off1944 v13805) a + S1x1x1x128.size a ≤ S1x33344x1x128.size a := fun v13805 k0_hw972 => k0_hw972.2

def k0_off1945 (v13819 : BitVec 32) : Fin 4 → Nat :=
  let c0_13585 : Index := 0#32
  let v13820 : Index := Scalar.indexCast v13819
  let c0_13586 : Index := 0#32
  let c0_13587 : Index := 0#32
  ![0, v13820.toNat, 0, 0]

def k0_off1946 (v13819 : BitVec 32) : Fin 4 → Nat :=
  let c0_13591 : Index := 0#32
  let c1_i32_13590 : BitVec 32 := 1#32
  let v13826 : BitVec 32 := Scalar.addi v13819 c1_i32_13590
  let v13827 : Index := Scalar.indexCast v13826
  let c0_13592 : Index := 0#32
  let c0_13593 : Index := 0#32
  ![0, v13827.toNat, 0, 0]

def k0_chk973 (v13819 : BitVec 32) : Prop :=
  (∀ a, (k0_off1945 v13819) a + S1x1x1x128.size a ≤ S1x33344x1x128.size a) ∧
  (∀ a, (k0_off1946 v13819) a + S1x1x1x128.size a ≤ S1x33344x1x128.size a)
theorem k0_off1945_inb : ∀ (v13819 : BitVec 32) (k0_hw973 : k0_chk973 v13819), ∀ a, (k0_off1945 v13819) a + S1x1x1x128.size a ≤ S1x33344x1x128.size a := fun v13819 k0_hw973 => k0_hw973.1
theorem k0_off1946_inb : ∀ (v13819 : BitVec 32) (k0_hw973 : k0_chk973 v13819), ∀ a, (k0_off1946 v13819) a + S1x1x1x128.size a ≤ S1x33344x1x128.size a := fun v13819 k0_hw973 => k0_hw973.2

def k0_off1947 (v13833 : BitVec 32) : Fin 4 → Nat :=
  let c0_13599 : Index := 0#32
  let v13834 : Index := Scalar.indexCast v13833
  let c0_13600 : Index := 0#32
  let c0_13601 : Index := 0#32
  ![0, v13834.toNat, 0, 0]

def k0_off1948 (v13833 : BitVec 32) : Fin 4 → Nat :=
  let c0_13605 : Index := 0#32
  let c1_i32_13604 : BitVec 32 := 1#32
  let v13840 : BitVec 32 := Scalar.addi v13833 c1_i32_13604
  let v13841 : Index := Scalar.indexCast v13840
  let c0_13606 : Index := 0#32
  let c0_13607 : Index := 0#32
  ![0, v13841.toNat, 0, 0]

def k0_chk974 (v13833 : BitVec 32) : Prop :=
  (∀ a, (k0_off1947 v13833) a + S1x1x1x128.size a ≤ S1x33344x1x128.size a) ∧
  (∀ a, (k0_off1948 v13833) a + S1x1x1x128.size a ≤ S1x33344x1x128.size a)
theorem k0_off1947_inb : ∀ (v13833 : BitVec 32) (k0_hw974 : k0_chk974 v13833), ∀ a, (k0_off1947 v13833) a + S1x1x1x128.size a ≤ S1x33344x1x128.size a := fun v13833 k0_hw974 => k0_hw974.1
theorem k0_off1948_inb : ∀ (v13833 : BitVec 32) (k0_hw974 : k0_chk974 v13833), ∀ a, (k0_off1948 v13833) a + S1x1x1x128.size a ≤ S1x33344x1x128.size a := fun v13833 k0_hw974 => k0_hw974.2

def k0_off1949 (v13847 : BitVec 32) : Fin 4 → Nat :=
  let c0_13613 : Index := 0#32
  let v13848 : Index := Scalar.indexCast v13847
  let c0_13614 : Index := 0#32
  let c0_13615 : Index := 0#32
  ![0, v13848.toNat, 0, 0]

def k0_off1950 (v13847 : BitVec 32) : Fin 4 → Nat :=
  let c0_13619 : Index := 0#32
  let c1_i32_13618 : BitVec 32 := 1#32
  let v13854 : BitVec 32 := Scalar.addi v13847 c1_i32_13618
  let v13855 : Index := Scalar.indexCast v13854
  let c0_13620 : Index := 0#32
  let c0_13621 : Index := 0#32
  ![0, v13855.toNat, 0, 0]

def k0_chk975 (v13847 : BitVec 32) : Prop :=
  (∀ a, (k0_off1949 v13847) a + S1x1x1x128.size a ≤ S1x33344x1x128.size a) ∧
  (∀ a, (k0_off1950 v13847) a + S1x1x1x128.size a ≤ S1x33344x1x128.size a)
theorem k0_off1949_inb : ∀ (v13847 : BitVec 32) (k0_hw975 : k0_chk975 v13847), ∀ a, (k0_off1949 v13847) a + S1x1x1x128.size a ≤ S1x33344x1x128.size a := fun v13847 k0_hw975 => k0_hw975.1
theorem k0_off1950_inb : ∀ (v13847 : BitVec 32) (k0_hw975 : k0_chk975 v13847), ∀ a, (k0_off1950 v13847) a + S1x1x1x128.size a ≤ S1x33344x1x128.size a := fun v13847 k0_hw975 => k0_hw975.2

def k0_off1951 (v13861 : BitVec 32) : Fin 4 → Nat :=
  let c0_13627 : Index := 0#32
  let v13862 : Index := Scalar.indexCast v13861
  let c0_13628 : Index := 0#32
  let c0_13629 : Index := 0#32
  ![0, v13862.toNat, 0, 0]

def k0_off1952 (v13861 : BitVec 32) : Fin 4 → Nat :=
  let c0_13633 : Index := 0#32
  let c1_i32_13632 : BitVec 32 := 1#32
  let v13868 : BitVec 32 := Scalar.addi v13861 c1_i32_13632
  let v13869 : Index := Scalar.indexCast v13868
  let c0_13634 : Index := 0#32
  let c0_13635 : Index := 0#32
  ![0, v13869.toNat, 0, 0]

def k0_chk976 (v13861 : BitVec 32) : Prop :=
  (∀ a, (k0_off1951 v13861) a + S1x1x1x128.size a ≤ S1x33344x1x128.size a) ∧
  (∀ a, (k0_off1952 v13861) a + S1x1x1x128.size a ≤ S1x33344x1x128.size a)
theorem k0_off1951_inb : ∀ (v13861 : BitVec 32) (k0_hw976 : k0_chk976 v13861), ∀ a, (k0_off1951 v13861) a + S1x1x1x128.size a ≤ S1x33344x1x128.size a := fun v13861 k0_hw976 => k0_hw976.1
theorem k0_off1952_inb : ∀ (v13861 : BitVec 32) (k0_hw976 : k0_chk976 v13861), ∀ a, (k0_off1952 v13861) a + S1x1x1x128.size a ≤ S1x33344x1x128.size a := fun v13861 k0_hw976 => k0_hw976.2

def k0_off1953 (v13875 : BitVec 32) : Fin 4 → Nat :=
  let c0_13641 : Index := 0#32
  let v13876 : Index := Scalar.indexCast v13875
  let c0_13642 : Index := 0#32
  let c0_13643 : Index := 0#32
  ![0, v13876.toNat, 0, 0]

def k0_off1954 (v13875 : BitVec 32) : Fin 4 → Nat :=
  let c0_13647 : Index := 0#32
  let c1_i32_13646 : BitVec 32 := 1#32
  let v13882 : BitVec 32 := Scalar.addi v13875 c1_i32_13646
  let v13883 : Index := Scalar.indexCast v13882
  let c0_13648 : Index := 0#32
  let c0_13649 : Index := 0#32
  ![0, v13883.toNat, 0, 0]

def k0_chk977 (v13875 : BitVec 32) : Prop :=
  (∀ a, (k0_off1953 v13875) a + S1x1x1x128.size a ≤ S1x33344x1x128.size a) ∧
  (∀ a, (k0_off1954 v13875) a + S1x1x1x128.size a ≤ S1x33344x1x128.size a)
theorem k0_off1953_inb : ∀ (v13875 : BitVec 32) (k0_hw977 : k0_chk977 v13875), ∀ a, (k0_off1953 v13875) a + S1x1x1x128.size a ≤ S1x33344x1x128.size a := fun v13875 k0_hw977 => k0_hw977.1
theorem k0_off1954_inb : ∀ (v13875 : BitVec 32) (k0_hw977 : k0_chk977 v13875), ∀ a, (k0_off1954 v13875) a + S1x1x1x128.size a ≤ S1x33344x1x128.size a := fun v13875 k0_hw977 => k0_hw977.2

def k0_off1955 (v13889 : BitVec 32) : Fin 4 → Nat :=
  let c0_13655 : Index := 0#32
  let v13890 : Index := Scalar.indexCast v13889
  let c0_13656 : Index := 0#32
  let c0_13657 : Index := 0#32
  ![0, v13890.toNat, 0, 0]

def k0_off1956 (v13889 : BitVec 32) : Fin 4 → Nat :=
  let c0_13661 : Index := 0#32
  let c1_i32_13660 : BitVec 32 := 1#32
  let v13896 : BitVec 32 := Scalar.addi v13889 c1_i32_13660
  let v13897 : Index := Scalar.indexCast v13896
  let c0_13662 : Index := 0#32
  let c0_13663 : Index := 0#32
  ![0, v13897.toNat, 0, 0]

def k0_chk978 (v13889 : BitVec 32) : Prop :=
  (∀ a, (k0_off1955 v13889) a + S1x1x1x128.size a ≤ S1x33344x1x128.size a) ∧
  (∀ a, (k0_off1956 v13889) a + S1x1x1x128.size a ≤ S1x33344x1x128.size a)
theorem k0_off1955_inb : ∀ (v13889 : BitVec 32) (k0_hw978 : k0_chk978 v13889), ∀ a, (k0_off1955 v13889) a + S1x1x1x128.size a ≤ S1x33344x1x128.size a := fun v13889 k0_hw978 => k0_hw978.1
theorem k0_off1956_inb : ∀ (v13889 : BitVec 32) (k0_hw978 : k0_chk978 v13889), ∀ a, (k0_off1956 v13889) a + S1x1x1x128.size a ≤ S1x33344x1x128.size a := fun v13889 k0_hw978 => k0_hw978.2

def k0_off1957 (v13903 : BitVec 32) : Fin 4 → Nat :=
  let c0_13669 : Index := 0#32
  let v13904 : Index := Scalar.indexCast v13903
  let c0_13670 : Index := 0#32
  let c0_13671 : Index := 0#32
  ![0, v13904.toNat, 0, 0]

def k0_off1958 (v13903 : BitVec 32) : Fin 4 → Nat :=
  let c0_13675 : Index := 0#32
  let c1_i32_13674 : BitVec 32 := 1#32
  let v13910 : BitVec 32 := Scalar.addi v13903 c1_i32_13674
  let v13911 : Index := Scalar.indexCast v13910
  let c0_13676 : Index := 0#32
  let c0_13677 : Index := 0#32
  ![0, v13911.toNat, 0, 0]

def k0_chk979 (v13903 : BitVec 32) : Prop :=
  (∀ a, (k0_off1957 v13903) a + S1x1x1x128.size a ≤ S1x33344x1x128.size a) ∧
  (∀ a, (k0_off1958 v13903) a + S1x1x1x128.size a ≤ S1x33344x1x128.size a)
theorem k0_off1957_inb : ∀ (v13903 : BitVec 32) (k0_hw979 : k0_chk979 v13903), ∀ a, (k0_off1957 v13903) a + S1x1x1x128.size a ≤ S1x33344x1x128.size a := fun v13903 k0_hw979 => k0_hw979.1
theorem k0_off1958_inb : ∀ (v13903 : BitVec 32) (k0_hw979 : k0_chk979 v13903), ∀ a, (k0_off1958 v13903) a + S1x1x1x128.size a ≤ S1x33344x1x128.size a := fun v13903 k0_hw979 => k0_hw979.2

def k0_off1959 (v13917 : BitVec 32) : Fin 4 → Nat :=
  let c0_13683 : Index := 0#32
  let v13918 : Index := Scalar.indexCast v13917
  let c0_13684 : Index := 0#32
  let c0_13685 : Index := 0#32
  ![0, v13918.toNat, 0, 0]

def k0_off1960 (v13917 : BitVec 32) : Fin 4 → Nat :=
  let c0_13689 : Index := 0#32
  let c1_i32_13688 : BitVec 32 := 1#32
  let v13924 : BitVec 32 := Scalar.addi v13917 c1_i32_13688
  let v13925 : Index := Scalar.indexCast v13924
  let c0_13690 : Index := 0#32
  let c0_13691 : Index := 0#32
  ![0, v13925.toNat, 0, 0]

def k0_chk980 (v13917 : BitVec 32) : Prop :=
  (∀ a, (k0_off1959 v13917) a + S1x1x1x128.size a ≤ S1x33344x1x128.size a) ∧
  (∀ a, (k0_off1960 v13917) a + S1x1x1x128.size a ≤ S1x33344x1x128.size a)
theorem k0_off1959_inb : ∀ (v13917 : BitVec 32) (k0_hw980 : k0_chk980 v13917), ∀ a, (k0_off1959 v13917) a + S1x1x1x128.size a ≤ S1x33344x1x128.size a := fun v13917 k0_hw980 => k0_hw980.1
theorem k0_off1960_inb : ∀ (v13917 : BitVec 32) (k0_hw980 : k0_chk980 v13917), ∀ a, (k0_off1960 v13917) a + S1x1x1x128.size a ≤ S1x33344x1x128.size a := fun v13917 k0_hw980 => k0_hw980.2

def k0_off1961 (v13931 : BitVec 32) : Fin 4 → Nat :=
  let c0_13697 : Index := 0#32
  let v13932 : Index := Scalar.indexCast v13931
  let c0_13698 : Index := 0#32
  let c0_13699 : Index := 0#32
  ![0, v13932.toNat, 0, 0]

def k0_off1962 (v13931 : BitVec 32) : Fin 4 → Nat :=
  let c0_13703 : Index := 0#32
  let c1_i32_13702 : BitVec 32 := 1#32
  let v13938 : BitVec 32 := Scalar.addi v13931 c1_i32_13702
  let v13939 : Index := Scalar.indexCast v13938
  let c0_13704 : Index := 0#32
  let c0_13705 : Index := 0#32
  ![0, v13939.toNat, 0, 0]

def k0_chk981 (v13931 : BitVec 32) : Prop :=
  (∀ a, (k0_off1961 v13931) a + S1x1x1x128.size a ≤ S1x33344x1x128.size a) ∧
  (∀ a, (k0_off1962 v13931) a + S1x1x1x128.size a ≤ S1x33344x1x128.size a)
theorem k0_off1961_inb : ∀ (v13931 : BitVec 32) (k0_hw981 : k0_chk981 v13931), ∀ a, (k0_off1961 v13931) a + S1x1x1x128.size a ≤ S1x33344x1x128.size a := fun v13931 k0_hw981 => k0_hw981.1
theorem k0_off1962_inb : ∀ (v13931 : BitVec 32) (k0_hw981 : k0_chk981 v13931), ∀ a, (k0_off1962 v13931) a + S1x1x1x128.size a ≤ S1x33344x1x128.size a := fun v13931 k0_hw981 => k0_hw981.2

def k0_off1963 (v13945 : BitVec 32) : Fin 4 → Nat :=
  let c0_13711 : Index := 0#32
  let v13946 : Index := Scalar.indexCast v13945
  let c0_13712 : Index := 0#32
  let c0_13713 : Index := 0#32
  ![0, v13946.toNat, 0, 0]

def k0_off1964 (v13945 : BitVec 32) : Fin 4 → Nat :=
  let c0_13717 : Index := 0#32
  let c1_i32_13716 : BitVec 32 := 1#32
  let v13952 : BitVec 32 := Scalar.addi v13945 c1_i32_13716
  let v13953 : Index := Scalar.indexCast v13952
  let c0_13718 : Index := 0#32
  let c0_13719 : Index := 0#32
  ![0, v13953.toNat, 0, 0]

def k0_chk982 (v13945 : BitVec 32) : Prop :=
  (∀ a, (k0_off1963 v13945) a + S1x1x1x128.size a ≤ S1x33344x1x128.size a) ∧
  (∀ a, (k0_off1964 v13945) a + S1x1x1x128.size a ≤ S1x33344x1x128.size a)
theorem k0_off1963_inb : ∀ (v13945 : BitVec 32) (k0_hw982 : k0_chk982 v13945), ∀ a, (k0_off1963 v13945) a + S1x1x1x128.size a ≤ S1x33344x1x128.size a := fun v13945 k0_hw982 => k0_hw982.1
theorem k0_off1964_inb : ∀ (v13945 : BitVec 32) (k0_hw982 : k0_chk982 v13945), ∀ a, (k0_off1964 v13945) a + S1x1x1x128.size a ≤ S1x33344x1x128.size a := fun v13945 k0_hw982 => k0_hw982.2

def k0_off1965 (v13959 : BitVec 32) : Fin 4 → Nat :=
  let c0_13725 : Index := 0#32
  let v13960 : Index := Scalar.indexCast v13959
  let c0_13726 : Index := 0#32
  let c0_13727 : Index := 0#32
  ![0, v13960.toNat, 0, 0]

def k0_off1966 (v13959 : BitVec 32) : Fin 4 → Nat :=
  let c0_13731 : Index := 0#32
  let c1_i32_13730 : BitVec 32 := 1#32
  let v13966 : BitVec 32 := Scalar.addi v13959 c1_i32_13730
  let v13967 : Index := Scalar.indexCast v13966
  let c0_13732 : Index := 0#32
  let c0_13733 : Index := 0#32
  ![0, v13967.toNat, 0, 0]

def k0_chk983 (v13959 : BitVec 32) : Prop :=
  (∀ a, (k0_off1965 v13959) a + S1x1x1x128.size a ≤ S1x33344x1x128.size a) ∧
  (∀ a, (k0_off1966 v13959) a + S1x1x1x128.size a ≤ S1x33344x1x128.size a)
theorem k0_off1965_inb : ∀ (v13959 : BitVec 32) (k0_hw983 : k0_chk983 v13959), ∀ a, (k0_off1965 v13959) a + S1x1x1x128.size a ≤ S1x33344x1x128.size a := fun v13959 k0_hw983 => k0_hw983.1
theorem k0_off1966_inb : ∀ (v13959 : BitVec 32) (k0_hw983 : k0_chk983 v13959), ∀ a, (k0_off1966 v13959) a + S1x1x1x128.size a ≤ S1x33344x1x128.size a := fun v13959 k0_hw983 => k0_hw983.2

def k0_off1967 (v13973 : BitVec 32) : Fin 4 → Nat :=
  let c0_13739 : Index := 0#32
  let v13974 : Index := Scalar.indexCast v13973
  let c0_13740 : Index := 0#32
  let c0_13741 : Index := 0#32
  ![0, v13974.toNat, 0, 0]

def k0_off1968 (v13973 : BitVec 32) : Fin 4 → Nat :=
  let c0_13745 : Index := 0#32
  let c1_i32_13744 : BitVec 32 := 1#32
  let v13980 : BitVec 32 := Scalar.addi v13973 c1_i32_13744
  let v13981 : Index := Scalar.indexCast v13980
  let c0_13746 : Index := 0#32
  let c0_13747 : Index := 0#32
  ![0, v13981.toNat, 0, 0]

def k0_chk984 (v13973 : BitVec 32) : Prop :=
  (∀ a, (k0_off1967 v13973) a + S1x1x1x128.size a ≤ S1x33344x1x128.size a) ∧
  (∀ a, (k0_off1968 v13973) a + S1x1x1x128.size a ≤ S1x33344x1x128.size a)
theorem k0_off1967_inb : ∀ (v13973 : BitVec 32) (k0_hw984 : k0_chk984 v13973), ∀ a, (k0_off1967 v13973) a + S1x1x1x128.size a ≤ S1x33344x1x128.size a := fun v13973 k0_hw984 => k0_hw984.1
theorem k0_off1968_inb : ∀ (v13973 : BitVec 32) (k0_hw984 : k0_chk984 v13973), ∀ a, (k0_off1968 v13973) a + S1x1x1x128.size a ≤ S1x33344x1x128.size a := fun v13973 k0_hw984 => k0_hw984.2

def k0_off1969 (v13987 : BitVec 32) : Fin 4 → Nat :=
  let c0_13753 : Index := 0#32
  let v13988 : Index := Scalar.indexCast v13987
  let c0_13754 : Index := 0#32
  let c0_13755 : Index := 0#32
  ![0, v13988.toNat, 0, 0]

def k0_off1970 (v13987 : BitVec 32) : Fin 4 → Nat :=
  let c0_13759 : Index := 0#32
  let c1_i32_13758 : BitVec 32 := 1#32
  let v13994 : BitVec 32 := Scalar.addi v13987 c1_i32_13758
  let v13995 : Index := Scalar.indexCast v13994
  let c0_13760 : Index := 0#32
  let c0_13761 : Index := 0#32
  ![0, v13995.toNat, 0, 0]

def k0_chk985 (v13987 : BitVec 32) : Prop :=
  (∀ a, (k0_off1969 v13987) a + S1x1x1x128.size a ≤ S1x33344x1x128.size a) ∧
  (∀ a, (k0_off1970 v13987) a + S1x1x1x128.size a ≤ S1x33344x1x128.size a)
theorem k0_off1969_inb : ∀ (v13987 : BitVec 32) (k0_hw985 : k0_chk985 v13987), ∀ a, (k0_off1969 v13987) a + S1x1x1x128.size a ≤ S1x33344x1x128.size a := fun v13987 k0_hw985 => k0_hw985.1
theorem k0_off1970_inb : ∀ (v13987 : BitVec 32) (k0_hw985 : k0_chk985 v13987), ∀ a, (k0_off1970 v13987) a + S1x1x1x128.size a ≤ S1x33344x1x128.size a := fun v13987 k0_hw985 => k0_hw985.2

def k0_off1971 (v14001 : BitVec 32) : Fin 4 → Nat :=
  let c0_13767 : Index := 0#32
  let v14002 : Index := Scalar.indexCast v14001
  let c0_13768 : Index := 0#32
  let c0_13769 : Index := 0#32
  ![0, v14002.toNat, 0, 0]

def k0_off1972 (v14001 : BitVec 32) : Fin 4 → Nat :=
  let c0_13773 : Index := 0#32
  let c1_i32_13772 : BitVec 32 := 1#32
  let v14008 : BitVec 32 := Scalar.addi v14001 c1_i32_13772
  let v14009 : Index := Scalar.indexCast v14008
  let c0_13774 : Index := 0#32
  let c0_13775 : Index := 0#32
  ![0, v14009.toNat, 0, 0]

def k0_chk986 (v14001 : BitVec 32) : Prop :=
  (∀ a, (k0_off1971 v14001) a + S1x1x1x128.size a ≤ S1x33344x1x128.size a) ∧
  (∀ a, (k0_off1972 v14001) a + S1x1x1x128.size a ≤ S1x33344x1x128.size a)
theorem k0_off1971_inb : ∀ (v14001 : BitVec 32) (k0_hw986 : k0_chk986 v14001), ∀ a, (k0_off1971 v14001) a + S1x1x1x128.size a ≤ S1x33344x1x128.size a := fun v14001 k0_hw986 => k0_hw986.1
theorem k0_off1972_inb : ∀ (v14001 : BitVec 32) (k0_hw986 : k0_chk986 v14001), ∀ a, (k0_off1972 v14001) a + S1x1x1x128.size a ≤ S1x33344x1x128.size a := fun v14001 k0_hw986 => k0_hw986.2

def k0_off1973 (v14015 : BitVec 32) : Fin 4 → Nat :=
  let c0_13781 : Index := 0#32
  let v14016 : Index := Scalar.indexCast v14015
  let c0_13782 : Index := 0#32
  let c0_13783 : Index := 0#32
  ![0, v14016.toNat, 0, 0]

def k0_off1974 (v14015 : BitVec 32) : Fin 4 → Nat :=
  let c0_13787 : Index := 0#32
  let c1_i32_13786 : BitVec 32 := 1#32
  let v14022 : BitVec 32 := Scalar.addi v14015 c1_i32_13786
  let v14023 : Index := Scalar.indexCast v14022
  let c0_13788 : Index := 0#32
  let c0_13789 : Index := 0#32
  ![0, v14023.toNat, 0, 0]

def k0_chk987 (v14015 : BitVec 32) : Prop :=
  (∀ a, (k0_off1973 v14015) a + S1x1x1x128.size a ≤ S1x33344x1x128.size a) ∧
  (∀ a, (k0_off1974 v14015) a + S1x1x1x128.size a ≤ S1x33344x1x128.size a)
theorem k0_off1973_inb : ∀ (v14015 : BitVec 32) (k0_hw987 : k0_chk987 v14015), ∀ a, (k0_off1973 v14015) a + S1x1x1x128.size a ≤ S1x33344x1x128.size a := fun v14015 k0_hw987 => k0_hw987.1
theorem k0_off1974_inb : ∀ (v14015 : BitVec 32) (k0_hw987 : k0_chk987 v14015), ∀ a, (k0_off1974 v14015) a + S1x1x1x128.size a ≤ S1x33344x1x128.size a := fun v14015 k0_hw987 => k0_hw987.2

def k0_off1975 (v14029 : BitVec 32) : Fin 4 → Nat :=
  let c0_13795 : Index := 0#32
  let v14030 : Index := Scalar.indexCast v14029
  let c0_13796 : Index := 0#32
  let c0_13797 : Index := 0#32
  ![0, v14030.toNat, 0, 0]

def k0_off1976 (v14029 : BitVec 32) : Fin 4 → Nat :=
  let c0_13801 : Index := 0#32
  let c1_i32_13800 : BitVec 32 := 1#32
  let v14036 : BitVec 32 := Scalar.addi v14029 c1_i32_13800
  let v14037 : Index := Scalar.indexCast v14036
  let c0_13802 : Index := 0#32
  let c0_13803 : Index := 0#32
  ![0, v14037.toNat, 0, 0]

def k0_chk988 (v14029 : BitVec 32) : Prop :=
  (∀ a, (k0_off1975 v14029) a + S1x1x1x128.size a ≤ S1x33344x1x128.size a) ∧
  (∀ a, (k0_off1976 v14029) a + S1x1x1x128.size a ≤ S1x33344x1x128.size a)
theorem k0_off1975_inb : ∀ (v14029 : BitVec 32) (k0_hw988 : k0_chk988 v14029), ∀ a, (k0_off1975 v14029) a + S1x1x1x128.size a ≤ S1x33344x1x128.size a := fun v14029 k0_hw988 => k0_hw988.1
theorem k0_off1976_inb : ∀ (v14029 : BitVec 32) (k0_hw988 : k0_chk988 v14029), ∀ a, (k0_off1976 v14029) a + S1x1x1x128.size a ≤ S1x33344x1x128.size a := fun v14029 k0_hw988 => k0_hw988.2

def k0_off1977 (v14043 : BitVec 32) : Fin 4 → Nat :=
  let c0_13809 : Index := 0#32
  let v14044 : Index := Scalar.indexCast v14043
  let c0_13810 : Index := 0#32
  let c0_13811 : Index := 0#32
  ![0, v14044.toNat, 0, 0]

def k0_off1978 (v14043 : BitVec 32) : Fin 4 → Nat :=
  let c0_13815 : Index := 0#32
  let c1_i32_13814 : BitVec 32 := 1#32
  let v14050 : BitVec 32 := Scalar.addi v14043 c1_i32_13814
  let v14051 : Index := Scalar.indexCast v14050
  let c0_13816 : Index := 0#32
  let c0_13817 : Index := 0#32
  ![0, v14051.toNat, 0, 0]

def k0_chk989 (v14043 : BitVec 32) : Prop :=
  (∀ a, (k0_off1977 v14043) a + S1x1x1x128.size a ≤ S1x33344x1x128.size a) ∧
  (∀ a, (k0_off1978 v14043) a + S1x1x1x128.size a ≤ S1x33344x1x128.size a)
theorem k0_off1977_inb : ∀ (v14043 : BitVec 32) (k0_hw989 : k0_chk989 v14043), ∀ a, (k0_off1977 v14043) a + S1x1x1x128.size a ≤ S1x33344x1x128.size a := fun v14043 k0_hw989 => k0_hw989.1
theorem k0_off1978_inb : ∀ (v14043 : BitVec 32) (k0_hw989 : k0_chk989 v14043), ∀ a, (k0_off1978 v14043) a + S1x1x1x128.size a ≤ S1x33344x1x128.size a := fun v14043 k0_hw989 => k0_hw989.2

def k0_off1979 (v14057 : BitVec 32) : Fin 4 → Nat :=
  let c0_13823 : Index := 0#32
  let v14058 : Index := Scalar.indexCast v14057
  let c0_13824 : Index := 0#32
  let c0_13825 : Index := 0#32
  ![0, v14058.toNat, 0, 0]

def k0_off1980 (v14057 : BitVec 32) : Fin 4 → Nat :=
  let c0_13829 : Index := 0#32
  let c1_i32_13828 : BitVec 32 := 1#32
  let v14064 : BitVec 32 := Scalar.addi v14057 c1_i32_13828
  let v14065 : Index := Scalar.indexCast v14064
  let c0_13830 : Index := 0#32
  let c0_13831 : Index := 0#32
  ![0, v14065.toNat, 0, 0]

def k0_chk990 (v14057 : BitVec 32) : Prop :=
  (∀ a, (k0_off1979 v14057) a + S1x1x1x128.size a ≤ S1x33344x1x128.size a) ∧
  (∀ a, (k0_off1980 v14057) a + S1x1x1x128.size a ≤ S1x33344x1x128.size a)
theorem k0_off1979_inb : ∀ (v14057 : BitVec 32) (k0_hw990 : k0_chk990 v14057), ∀ a, (k0_off1979 v14057) a + S1x1x1x128.size a ≤ S1x33344x1x128.size a := fun v14057 k0_hw990 => k0_hw990.1
theorem k0_off1980_inb : ∀ (v14057 : BitVec 32) (k0_hw990 : k0_chk990 v14057), ∀ a, (k0_off1980 v14057) a + S1x1x1x128.size a ≤ S1x33344x1x128.size a := fun v14057 k0_hw990 => k0_hw990.2

def k0_off1981 (v14071 : BitVec 32) : Fin 4 → Nat :=
  let c0_13837 : Index := 0#32
  let v14072 : Index := Scalar.indexCast v14071
  let c0_13838 : Index := 0#32
  let c0_13839 : Index := 0#32
  ![0, v14072.toNat, 0, 0]

def k0_off1982 (v14071 : BitVec 32) : Fin 4 → Nat :=
  let c0_13843 : Index := 0#32
  let c1_i32_13842 : BitVec 32 := 1#32
  let v14078 : BitVec 32 := Scalar.addi v14071 c1_i32_13842
  let v14079 : Index := Scalar.indexCast v14078
  let c0_13844 : Index := 0#32
  let c0_13845 : Index := 0#32
  ![0, v14079.toNat, 0, 0]

def k0_chk991 (v14071 : BitVec 32) : Prop :=
  (∀ a, (k0_off1981 v14071) a + S1x1x1x128.size a ≤ S1x33344x1x128.size a) ∧
  (∀ a, (k0_off1982 v14071) a + S1x1x1x128.size a ≤ S1x33344x1x128.size a)
theorem k0_off1981_inb : ∀ (v14071 : BitVec 32) (k0_hw991 : k0_chk991 v14071), ∀ a, (k0_off1981 v14071) a + S1x1x1x128.size a ≤ S1x33344x1x128.size a := fun v14071 k0_hw991 => k0_hw991.1
theorem k0_off1982_inb : ∀ (v14071 : BitVec 32) (k0_hw991 : k0_chk991 v14071), ∀ a, (k0_off1982 v14071) a + S1x1x1x128.size a ≤ S1x33344x1x128.size a := fun v14071 k0_hw991 => k0_hw991.2

def k0_off1983 (v14085 : BitVec 32) : Fin 4 → Nat :=
  let c0_13851 : Index := 0#32
  let v14086 : Index := Scalar.indexCast v14085
  let c0_13852 : Index := 0#32
  let c0_13853 : Index := 0#32
  ![0, v14086.toNat, 0, 0]

def k0_off1984 (v14085 : BitVec 32) : Fin 4 → Nat :=
  let c0_13857 : Index := 0#32
  let c1_i32_13856 : BitVec 32 := 1#32
  let v14092 : BitVec 32 := Scalar.addi v14085 c1_i32_13856
  let v14093 : Index := Scalar.indexCast v14092
  let c0_13858 : Index := 0#32
  let c0_13859 : Index := 0#32
  ![0, v14093.toNat, 0, 0]

def k0_chk992 (v14085 : BitVec 32) : Prop :=
  (∀ a, (k0_off1983 v14085) a + S1x1x1x128.size a ≤ S1x33344x1x128.size a) ∧
  (∀ a, (k0_off1984 v14085) a + S1x1x1x128.size a ≤ S1x33344x1x128.size a)
theorem k0_off1983_inb : ∀ (v14085 : BitVec 32) (k0_hw992 : k0_chk992 v14085), ∀ a, (k0_off1983 v14085) a + S1x1x1x128.size a ≤ S1x33344x1x128.size a := fun v14085 k0_hw992 => k0_hw992.1
theorem k0_off1984_inb : ∀ (v14085 : BitVec 32) (k0_hw992 : k0_chk992 v14085), ∀ a, (k0_off1984 v14085) a + S1x1x1x128.size a ≤ S1x33344x1x128.size a := fun v14085 k0_hw992 => k0_hw992.2

def k0_off1985 (v14099 : BitVec 32) : Fin 4 → Nat :=
  let c0_13865 : Index := 0#32
  let v14100 : Index := Scalar.indexCast v14099
  let c0_13866 : Index := 0#32
  let c0_13867 : Index := 0#32
  ![0, v14100.toNat, 0, 0]

def k0_off1986 (v14099 : BitVec 32) : Fin 4 → Nat :=
  let c0_13871 : Index := 0#32
  let c1_i32_13870 : BitVec 32 := 1#32
  let v14106 : BitVec 32 := Scalar.addi v14099 c1_i32_13870
  let v14107 : Index := Scalar.indexCast v14106
  let c0_13872 : Index := 0#32
  let c0_13873 : Index := 0#32
  ![0, v14107.toNat, 0, 0]

def k0_chk993 (v14099 : BitVec 32) : Prop :=
  (∀ a, (k0_off1985 v14099) a + S1x1x1x128.size a ≤ S1x33344x1x128.size a) ∧
  (∀ a, (k0_off1986 v14099) a + S1x1x1x128.size a ≤ S1x33344x1x128.size a)
theorem k0_off1985_inb : ∀ (v14099 : BitVec 32) (k0_hw993 : k0_chk993 v14099), ∀ a, (k0_off1985 v14099) a + S1x1x1x128.size a ≤ S1x33344x1x128.size a := fun v14099 k0_hw993 => k0_hw993.1
theorem k0_off1986_inb : ∀ (v14099 : BitVec 32) (k0_hw993 : k0_chk993 v14099), ∀ a, (k0_off1986 v14099) a + S1x1x1x128.size a ≤ S1x33344x1x128.size a := fun v14099 k0_hw993 => k0_hw993.2

def k0_off1987 (v14113 : BitVec 32) : Fin 4 → Nat :=
  let c0_13879 : Index := 0#32
  let v14114 : Index := Scalar.indexCast v14113
  let c0_13880 : Index := 0#32
  let c0_13881 : Index := 0#32
  ![0, v14114.toNat, 0, 0]

def k0_off1988 (v14113 : BitVec 32) : Fin 4 → Nat :=
  let c0_13885 : Index := 0#32
  let c1_i32_13884 : BitVec 32 := 1#32
  let v14120 : BitVec 32 := Scalar.addi v14113 c1_i32_13884
  let v14121 : Index := Scalar.indexCast v14120
  let c0_13886 : Index := 0#32
  let c0_13887 : Index := 0#32
  ![0, v14121.toNat, 0, 0]

def k0_chk994 (v14113 : BitVec 32) : Prop :=
  (∀ a, (k0_off1987 v14113) a + S1x1x1x128.size a ≤ S1x33344x1x128.size a) ∧
  (∀ a, (k0_off1988 v14113) a + S1x1x1x128.size a ≤ S1x33344x1x128.size a)
theorem k0_off1987_inb : ∀ (v14113 : BitVec 32) (k0_hw994 : k0_chk994 v14113), ∀ a, (k0_off1987 v14113) a + S1x1x1x128.size a ≤ S1x33344x1x128.size a := fun v14113 k0_hw994 => k0_hw994.1
theorem k0_off1988_inb : ∀ (v14113 : BitVec 32) (k0_hw994 : k0_chk994 v14113), ∀ a, (k0_off1988 v14113) a + S1x1x1x128.size a ≤ S1x33344x1x128.size a := fun v14113 k0_hw994 => k0_hw994.2

def k0_off1989 (v14127 : BitVec 32) : Fin 4 → Nat :=
  let c0_13893 : Index := 0#32
  let v14128 : Index := Scalar.indexCast v14127
  let c0_13894 : Index := 0#32
  let c0_13895 : Index := 0#32
  ![0, v14128.toNat, 0, 0]

def k0_off1990 (v14127 : BitVec 32) : Fin 4 → Nat :=
  let c0_13899 : Index := 0#32
  let c1_i32_13898 : BitVec 32 := 1#32
  let v14134 : BitVec 32 := Scalar.addi v14127 c1_i32_13898
  let v14135 : Index := Scalar.indexCast v14134
  let c0_13900 : Index := 0#32
  let c0_13901 : Index := 0#32
  ![0, v14135.toNat, 0, 0]

def k0_chk995 (v14127 : BitVec 32) : Prop :=
  (∀ a, (k0_off1989 v14127) a + S1x1x1x128.size a ≤ S1x33344x1x128.size a) ∧
  (∀ a, (k0_off1990 v14127) a + S1x1x1x128.size a ≤ S1x33344x1x128.size a)
theorem k0_off1989_inb : ∀ (v14127 : BitVec 32) (k0_hw995 : k0_chk995 v14127), ∀ a, (k0_off1989 v14127) a + S1x1x1x128.size a ≤ S1x33344x1x128.size a := fun v14127 k0_hw995 => k0_hw995.1
theorem k0_off1990_inb : ∀ (v14127 : BitVec 32) (k0_hw995 : k0_chk995 v14127), ∀ a, (k0_off1990 v14127) a + S1x1x1x128.size a ≤ S1x33344x1x128.size a := fun v14127 k0_hw995 => k0_hw995.2

def k0_off1991 (v14141 : BitVec 32) : Fin 4 → Nat :=
  let c0_13907 : Index := 0#32
  let v14142 : Index := Scalar.indexCast v14141
  let c0_13908 : Index := 0#32
  let c0_13909 : Index := 0#32
  ![0, v14142.toNat, 0, 0]

def k0_off1992 (v14141 : BitVec 32) : Fin 4 → Nat :=
  let c0_13913 : Index := 0#32
  let c1_i32_13912 : BitVec 32 := 1#32
  let v14148 : BitVec 32 := Scalar.addi v14141 c1_i32_13912
  let v14149 : Index := Scalar.indexCast v14148
  let c0_13914 : Index := 0#32
  let c0_13915 : Index := 0#32
  ![0, v14149.toNat, 0, 0]

def k0_chk996 (v14141 : BitVec 32) : Prop :=
  (∀ a, (k0_off1991 v14141) a + S1x1x1x128.size a ≤ S1x33344x1x128.size a) ∧
  (∀ a, (k0_off1992 v14141) a + S1x1x1x128.size a ≤ S1x33344x1x128.size a)
theorem k0_off1991_inb : ∀ (v14141 : BitVec 32) (k0_hw996 : k0_chk996 v14141), ∀ a, (k0_off1991 v14141) a + S1x1x1x128.size a ≤ S1x33344x1x128.size a := fun v14141 k0_hw996 => k0_hw996.1
theorem k0_off1992_inb : ∀ (v14141 : BitVec 32) (k0_hw996 : k0_chk996 v14141), ∀ a, (k0_off1992 v14141) a + S1x1x1x128.size a ≤ S1x33344x1x128.size a := fun v14141 k0_hw996 => k0_hw996.2

def k0_off1993 (v14155 : BitVec 32) : Fin 4 → Nat :=
  let c0_13921 : Index := 0#32
  let v14156 : Index := Scalar.indexCast v14155
  let c0_13922 : Index := 0#32
  let c0_13923 : Index := 0#32
  ![0, v14156.toNat, 0, 0]

def k0_off1994 (v14155 : BitVec 32) : Fin 4 → Nat :=
  let c0_13927 : Index := 0#32
  let c1_i32_13926 : BitVec 32 := 1#32
  let v14162 : BitVec 32 := Scalar.addi v14155 c1_i32_13926
  let v14163 : Index := Scalar.indexCast v14162
  let c0_13928 : Index := 0#32
  let c0_13929 : Index := 0#32
  ![0, v14163.toNat, 0, 0]

def k0_chk997 (v14155 : BitVec 32) : Prop :=
  (∀ a, (k0_off1993 v14155) a + S1x1x1x128.size a ≤ S1x33344x1x128.size a) ∧
  (∀ a, (k0_off1994 v14155) a + S1x1x1x128.size a ≤ S1x33344x1x128.size a)
theorem k0_off1993_inb : ∀ (v14155 : BitVec 32) (k0_hw997 : k0_chk997 v14155), ∀ a, (k0_off1993 v14155) a + S1x1x1x128.size a ≤ S1x33344x1x128.size a := fun v14155 k0_hw997 => k0_hw997.1
theorem k0_off1994_inb : ∀ (v14155 : BitVec 32) (k0_hw997 : k0_chk997 v14155), ∀ a, (k0_off1994 v14155) a + S1x1x1x128.size a ≤ S1x33344x1x128.size a := fun v14155 k0_hw997 => k0_hw997.2

def k0_off1995 (v14169 : BitVec 32) : Fin 4 → Nat :=
  let c0_13935 : Index := 0#32
  let v14170 : Index := Scalar.indexCast v14169
  let c0_13936 : Index := 0#32
  let c0_13937 : Index := 0#32
  ![0, v14170.toNat, 0, 0]

def k0_off1996 (v14169 : BitVec 32) : Fin 4 → Nat :=
  let c0_13941 : Index := 0#32
  let c1_i32_13940 : BitVec 32 := 1#32
  let v14176 : BitVec 32 := Scalar.addi v14169 c1_i32_13940
  let v14177 : Index := Scalar.indexCast v14176
  let c0_13942 : Index := 0#32
  let c0_13943 : Index := 0#32
  ![0, v14177.toNat, 0, 0]

def k0_chk998 (v14169 : BitVec 32) : Prop :=
  (∀ a, (k0_off1995 v14169) a + S1x1x1x128.size a ≤ S1x33344x1x128.size a) ∧
  (∀ a, (k0_off1996 v14169) a + S1x1x1x128.size a ≤ S1x33344x1x128.size a)
theorem k0_off1995_inb : ∀ (v14169 : BitVec 32) (k0_hw998 : k0_chk998 v14169), ∀ a, (k0_off1995 v14169) a + S1x1x1x128.size a ≤ S1x33344x1x128.size a := fun v14169 k0_hw998 => k0_hw998.1
theorem k0_off1996_inb : ∀ (v14169 : BitVec 32) (k0_hw998 : k0_chk998 v14169), ∀ a, (k0_off1996 v14169) a + S1x1x1x128.size a ≤ S1x33344x1x128.size a := fun v14169 k0_hw998 => k0_hw998.2

def k0_off1997 (v14183 : BitVec 32) : Fin 4 → Nat :=
  let c0_13949 : Index := 0#32
  let v14184 : Index := Scalar.indexCast v14183
  let c0_13950 : Index := 0#32
  let c0_13951 : Index := 0#32
  ![0, v14184.toNat, 0, 0]

def k0_off1998 (v14183 : BitVec 32) : Fin 4 → Nat :=
  let c0_13955 : Index := 0#32
  let c1_i32_13954 : BitVec 32 := 1#32
  let v14190 : BitVec 32 := Scalar.addi v14183 c1_i32_13954
  let v14191 : Index := Scalar.indexCast v14190
  let c0_13956 : Index := 0#32
  let c0_13957 : Index := 0#32
  ![0, v14191.toNat, 0, 0]

def k0_chk999 (v14183 : BitVec 32) : Prop :=
  (∀ a, (k0_off1997 v14183) a + S1x1x1x128.size a ≤ S1x33344x1x128.size a) ∧
  (∀ a, (k0_off1998 v14183) a + S1x1x1x128.size a ≤ S1x33344x1x128.size a)
theorem k0_off1997_inb : ∀ (v14183 : BitVec 32) (k0_hw999 : k0_chk999 v14183), ∀ a, (k0_off1997 v14183) a + S1x1x1x128.size a ≤ S1x33344x1x128.size a := fun v14183 k0_hw999 => k0_hw999.1
theorem k0_off1998_inb : ∀ (v14183 : BitVec 32) (k0_hw999 : k0_chk999 v14183), ∀ a, (k0_off1998 v14183) a + S1x1x1x128.size a ≤ S1x33344x1x128.size a := fun v14183 k0_hw999 => k0_hw999.2

def k0_off1999 (v14197 : BitVec 32) : Fin 4 → Nat :=
  let c0_13963 : Index := 0#32
  let v14198 : Index := Scalar.indexCast v14197
  let c0_13964 : Index := 0#32
  let c0_13965 : Index := 0#32
  ![0, v14198.toNat, 0, 0]

def k0_off2000 (v14197 : BitVec 32) : Fin 4 → Nat :=
  let c0_13969 : Index := 0#32
  let c1_i32_13968 : BitVec 32 := 1#32
  let v14204 : BitVec 32 := Scalar.addi v14197 c1_i32_13968
  let v14205 : Index := Scalar.indexCast v14204
  let c0_13970 : Index := 0#32
  let c0_13971 : Index := 0#32
  ![0, v14205.toNat, 0, 0]

def k0_chk1000 (v14197 : BitVec 32) : Prop :=
  (∀ a, (k0_off1999 v14197) a + S1x1x1x128.size a ≤ S1x33344x1x128.size a) ∧
  (∀ a, (k0_off2000 v14197) a + S1x1x1x128.size a ≤ S1x33344x1x128.size a)
theorem k0_off1999_inb : ∀ (v14197 : BitVec 32) (k0_hw1000 : k0_chk1000 v14197), ∀ a, (k0_off1999 v14197) a + S1x1x1x128.size a ≤ S1x33344x1x128.size a := fun v14197 k0_hw1000 => k0_hw1000.1
theorem k0_off2000_inb : ∀ (v14197 : BitVec 32) (k0_hw1000 : k0_chk1000 v14197), ∀ a, (k0_off2000 v14197) a + S1x1x1x128.size a ≤ S1x33344x1x128.size a := fun v14197 k0_hw1000 => k0_hw1000.2

def k0_off2001 (v14211 : BitVec 32) : Fin 4 → Nat :=
  let c0_13977 : Index := 0#32
  let v14212 : Index := Scalar.indexCast v14211
  let c0_13978 : Index := 0#32
  let c0_13979 : Index := 0#32
  ![0, v14212.toNat, 0, 0]

def k0_off2002 (v14211 : BitVec 32) : Fin 4 → Nat :=
  let c0_13983 : Index := 0#32
  let c1_i32_13982 : BitVec 32 := 1#32
  let v14218 : BitVec 32 := Scalar.addi v14211 c1_i32_13982
  let v14219 : Index := Scalar.indexCast v14218
  let c0_13984 : Index := 0#32
  let c0_13985 : Index := 0#32
  ![0, v14219.toNat, 0, 0]

def k0_chk1001 (v14211 : BitVec 32) : Prop :=
  (∀ a, (k0_off2001 v14211) a + S1x1x1x128.size a ≤ S1x33344x1x128.size a) ∧
  (∀ a, (k0_off2002 v14211) a + S1x1x1x128.size a ≤ S1x33344x1x128.size a)
theorem k0_off2001_inb : ∀ (v14211 : BitVec 32) (k0_hw1001 : k0_chk1001 v14211), ∀ a, (k0_off2001 v14211) a + S1x1x1x128.size a ≤ S1x33344x1x128.size a := fun v14211 k0_hw1001 => k0_hw1001.1
theorem k0_off2002_inb : ∀ (v14211 : BitVec 32) (k0_hw1001 : k0_chk1001 v14211), ∀ a, (k0_off2002 v14211) a + S1x1x1x128.size a ≤ S1x33344x1x128.size a := fun v14211 k0_hw1001 => k0_hw1001.2

def k0_off2003 (v14225 : BitVec 32) : Fin 4 → Nat :=
  let c0_13991 : Index := 0#32
  let v14226 : Index := Scalar.indexCast v14225
  let c0_13992 : Index := 0#32
  let c0_13993 : Index := 0#32
  ![0, v14226.toNat, 0, 0]

def k0_off2004 (v14225 : BitVec 32) : Fin 4 → Nat :=
  let c0_13997 : Index := 0#32
  let c1_i32_13996 : BitVec 32 := 1#32
  let v14232 : BitVec 32 := Scalar.addi v14225 c1_i32_13996
  let v14233 : Index := Scalar.indexCast v14232
  let c0_13998 : Index := 0#32
  let c0_13999 : Index := 0#32
  ![0, v14233.toNat, 0, 0]

def k0_chk1002 (v14225 : BitVec 32) : Prop :=
  (∀ a, (k0_off2003 v14225) a + S1x1x1x128.size a ≤ S1x33344x1x128.size a) ∧
  (∀ a, (k0_off2004 v14225) a + S1x1x1x128.size a ≤ S1x33344x1x128.size a)
theorem k0_off2003_inb : ∀ (v14225 : BitVec 32) (k0_hw1002 : k0_chk1002 v14225), ∀ a, (k0_off2003 v14225) a + S1x1x1x128.size a ≤ S1x33344x1x128.size a := fun v14225 k0_hw1002 => k0_hw1002.1
theorem k0_off2004_inb : ∀ (v14225 : BitVec 32) (k0_hw1002 : k0_chk1002 v14225), ∀ a, (k0_off2004 v14225) a + S1x1x1x128.size a ≤ S1x33344x1x128.size a := fun v14225 k0_hw1002 => k0_hw1002.2

def k0_off2005 (v14239 : BitVec 32) : Fin 4 → Nat :=
  let c0_14005 : Index := 0#32
  let v14240 : Index := Scalar.indexCast v14239
  let c0_14006 : Index := 0#32
  let c0_14007 : Index := 0#32
  ![0, v14240.toNat, 0, 0]

def k0_off2006 (v14239 : BitVec 32) : Fin 4 → Nat :=
  let c0_14011 : Index := 0#32
  let c1_i32_14010 : BitVec 32 := 1#32
  let v14246 : BitVec 32 := Scalar.addi v14239 c1_i32_14010
  let v14247 : Index := Scalar.indexCast v14246
  let c0_14012 : Index := 0#32
  let c0_14013 : Index := 0#32
  ![0, v14247.toNat, 0, 0]

def k0_chk1003 (v14239 : BitVec 32) : Prop :=
  (∀ a, (k0_off2005 v14239) a + S1x1x1x128.size a ≤ S1x33344x1x128.size a) ∧
  (∀ a, (k0_off2006 v14239) a + S1x1x1x128.size a ≤ S1x33344x1x128.size a)
theorem k0_off2005_inb : ∀ (v14239 : BitVec 32) (k0_hw1003 : k0_chk1003 v14239), ∀ a, (k0_off2005 v14239) a + S1x1x1x128.size a ≤ S1x33344x1x128.size a := fun v14239 k0_hw1003 => k0_hw1003.1
theorem k0_off2006_inb : ∀ (v14239 : BitVec 32) (k0_hw1003 : k0_chk1003 v14239), ∀ a, (k0_off2006 v14239) a + S1x1x1x128.size a ≤ S1x33344x1x128.size a := fun v14239 k0_hw1003 => k0_hw1003.2

def k0_off2007 (v14253 : BitVec 32) : Fin 4 → Nat :=
  let c0_14019 : Index := 0#32
  let v14254 : Index := Scalar.indexCast v14253
  let c0_14020 : Index := 0#32
  let c0_14021 : Index := 0#32
  ![0, v14254.toNat, 0, 0]

def k0_off2008 (v14253 : BitVec 32) : Fin 4 → Nat :=
  let c0_14025 : Index := 0#32
  let c1_i32_14024 : BitVec 32 := 1#32
  let v14260 : BitVec 32 := Scalar.addi v14253 c1_i32_14024
  let v14261 : Index := Scalar.indexCast v14260
  let c0_14026 : Index := 0#32
  let c0_14027 : Index := 0#32
  ![0, v14261.toNat, 0, 0]

def k0_chk1004 (v14253 : BitVec 32) : Prop :=
  (∀ a, (k0_off2007 v14253) a + S1x1x1x128.size a ≤ S1x33344x1x128.size a) ∧
  (∀ a, (k0_off2008 v14253) a + S1x1x1x128.size a ≤ S1x33344x1x128.size a)
theorem k0_off2007_inb : ∀ (v14253 : BitVec 32) (k0_hw1004 : k0_chk1004 v14253), ∀ a, (k0_off2007 v14253) a + S1x1x1x128.size a ≤ S1x33344x1x128.size a := fun v14253 k0_hw1004 => k0_hw1004.1
theorem k0_off2008_inb : ∀ (v14253 : BitVec 32) (k0_hw1004 : k0_chk1004 v14253), ∀ a, (k0_off2008 v14253) a + S1x1x1x128.size a ≤ S1x33344x1x128.size a := fun v14253 k0_hw1004 => k0_hw1004.2

def k0_off2009 (v14267 : BitVec 32) : Fin 4 → Nat :=
  let c0_14033 : Index := 0#32
  let v14268 : Index := Scalar.indexCast v14267
  let c0_14034 : Index := 0#32
  let c0_14035 : Index := 0#32
  ![0, v14268.toNat, 0, 0]

def k0_off2010 (v14267 : BitVec 32) : Fin 4 → Nat :=
  let c0_14039 : Index := 0#32
  let c1_i32_14038 : BitVec 32 := 1#32
  let v14274 : BitVec 32 := Scalar.addi v14267 c1_i32_14038
  let v14275 : Index := Scalar.indexCast v14274
  let c0_14040 : Index := 0#32
  let c0_14041 : Index := 0#32
  ![0, v14275.toNat, 0, 0]

def k0_chk1005 (v14267 : BitVec 32) : Prop :=
  (∀ a, (k0_off2009 v14267) a + S1x1x1x128.size a ≤ S1x33344x1x128.size a) ∧
  (∀ a, (k0_off2010 v14267) a + S1x1x1x128.size a ≤ S1x33344x1x128.size a)
theorem k0_off2009_inb : ∀ (v14267 : BitVec 32) (k0_hw1005 : k0_chk1005 v14267), ∀ a, (k0_off2009 v14267) a + S1x1x1x128.size a ≤ S1x33344x1x128.size a := fun v14267 k0_hw1005 => k0_hw1005.1
theorem k0_off2010_inb : ∀ (v14267 : BitVec 32) (k0_hw1005 : k0_chk1005 v14267), ∀ a, (k0_off2010 v14267) a + S1x1x1x128.size a ≤ S1x33344x1x128.size a := fun v14267 k0_hw1005 => k0_hw1005.2

def k0_off2011 (v14281 : BitVec 32) : Fin 4 → Nat :=
  let c0_14047 : Index := 0#32
  let v14282 : Index := Scalar.indexCast v14281
  let c0_14048 : Index := 0#32
  let c0_14049 : Index := 0#32
  ![0, v14282.toNat, 0, 0]

def k0_off2012 (v14281 : BitVec 32) : Fin 4 → Nat :=
  let c0_14053 : Index := 0#32
  let c1_i32_14052 : BitVec 32 := 1#32
  let v14288 : BitVec 32 := Scalar.addi v14281 c1_i32_14052
  let v14289 : Index := Scalar.indexCast v14288
  let c0_14054 : Index := 0#32
  let c0_14055 : Index := 0#32
  ![0, v14289.toNat, 0, 0]

def k0_chk1006 (v14281 : BitVec 32) : Prop :=
  (∀ a, (k0_off2011 v14281) a + S1x1x1x128.size a ≤ S1x33344x1x128.size a) ∧
  (∀ a, (k0_off2012 v14281) a + S1x1x1x128.size a ≤ S1x33344x1x128.size a)
theorem k0_off2011_inb : ∀ (v14281 : BitVec 32) (k0_hw1006 : k0_chk1006 v14281), ∀ a, (k0_off2011 v14281) a + S1x1x1x128.size a ≤ S1x33344x1x128.size a := fun v14281 k0_hw1006 => k0_hw1006.1
theorem k0_off2012_inb : ∀ (v14281 : BitVec 32) (k0_hw1006 : k0_chk1006 v14281), ∀ a, (k0_off2012 v14281) a + S1x1x1x128.size a ≤ S1x33344x1x128.size a := fun v14281 k0_hw1006 => k0_hw1006.2

def k0_off2013 (v14295 : BitVec 32) : Fin 4 → Nat :=
  let c0_14061 : Index := 0#32
  let v14296 : Index := Scalar.indexCast v14295
  let c0_14062 : Index := 0#32
  let c0_14063 : Index := 0#32
  ![0, v14296.toNat, 0, 0]

def k0_off2014 (v14295 : BitVec 32) : Fin 4 → Nat :=
  let c0_14067 : Index := 0#32
  let c1_i32_14066 : BitVec 32 := 1#32
  let v14302 : BitVec 32 := Scalar.addi v14295 c1_i32_14066
  let v14303 : Index := Scalar.indexCast v14302
  let c0_14068 : Index := 0#32
  let c0_14069 : Index := 0#32
  ![0, v14303.toNat, 0, 0]

def k0_chk1007 (v14295 : BitVec 32) : Prop :=
  (∀ a, (k0_off2013 v14295) a + S1x1x1x128.size a ≤ S1x33344x1x128.size a) ∧
  (∀ a, (k0_off2014 v14295) a + S1x1x1x128.size a ≤ S1x33344x1x128.size a)
theorem k0_off2013_inb : ∀ (v14295 : BitVec 32) (k0_hw1007 : k0_chk1007 v14295), ∀ a, (k0_off2013 v14295) a + S1x1x1x128.size a ≤ S1x33344x1x128.size a := fun v14295 k0_hw1007 => k0_hw1007.1
theorem k0_off2014_inb : ∀ (v14295 : BitVec 32) (k0_hw1007 : k0_chk1007 v14295), ∀ a, (k0_off2014 v14295) a + S1x1x1x128.size a ≤ S1x33344x1x128.size a := fun v14295 k0_hw1007 => k0_hw1007.2

def k0_off2015 (v14309 : BitVec 32) : Fin 4 → Nat :=
  let c0_14075 : Index := 0#32
  let v14310 : Index := Scalar.indexCast v14309
  let c0_14076 : Index := 0#32
  let c0_14077 : Index := 0#32
  ![0, v14310.toNat, 0, 0]

def k0_off2016 (v14309 : BitVec 32) : Fin 4 → Nat :=
  let c0_14081 : Index := 0#32
  let c1_i32_14080 : BitVec 32 := 1#32
  let v14316 : BitVec 32 := Scalar.addi v14309 c1_i32_14080
  let v14317 : Index := Scalar.indexCast v14316
  let c0_14082 : Index := 0#32
  let c0_14083 : Index := 0#32
  ![0, v14317.toNat, 0, 0]

def k0_chk1008 (v14309 : BitVec 32) : Prop :=
  (∀ a, (k0_off2015 v14309) a + S1x1x1x128.size a ≤ S1x33344x1x128.size a) ∧
  (∀ a, (k0_off2016 v14309) a + S1x1x1x128.size a ≤ S1x33344x1x128.size a)
theorem k0_off2015_inb : ∀ (v14309 : BitVec 32) (k0_hw1008 : k0_chk1008 v14309), ∀ a, (k0_off2015 v14309) a + S1x1x1x128.size a ≤ S1x33344x1x128.size a := fun v14309 k0_hw1008 => k0_hw1008.1
theorem k0_off2016_inb : ∀ (v14309 : BitVec 32) (k0_hw1008 : k0_chk1008 v14309), ∀ a, (k0_off2016 v14309) a + S1x1x1x128.size a ≤ S1x33344x1x128.size a := fun v14309 k0_hw1008 => k0_hw1008.2

def k0_off2017 (v14323 : BitVec 32) : Fin 4 → Nat :=
  let c0_14089 : Index := 0#32
  let v14324 : Index := Scalar.indexCast v14323
  let c0_14090 : Index := 0#32
  let c0_14091 : Index := 0#32
  ![0, v14324.toNat, 0, 0]

def k0_off2018 (v14323 : BitVec 32) : Fin 4 → Nat :=
  let c0_14095 : Index := 0#32
  let c1_i32_14094 : BitVec 32 := 1#32
  let v14330 : BitVec 32 := Scalar.addi v14323 c1_i32_14094
  let v14331 : Index := Scalar.indexCast v14330
  let c0_14096 : Index := 0#32
  let c0_14097 : Index := 0#32
  ![0, v14331.toNat, 0, 0]

def k0_chk1009 (v14323 : BitVec 32) : Prop :=
  (∀ a, (k0_off2017 v14323) a + S1x1x1x128.size a ≤ S1x33344x1x128.size a) ∧
  (∀ a, (k0_off2018 v14323) a + S1x1x1x128.size a ≤ S1x33344x1x128.size a)
theorem k0_off2017_inb : ∀ (v14323 : BitVec 32) (k0_hw1009 : k0_chk1009 v14323), ∀ a, (k0_off2017 v14323) a + S1x1x1x128.size a ≤ S1x33344x1x128.size a := fun v14323 k0_hw1009 => k0_hw1009.1
theorem k0_off2018_inb : ∀ (v14323 : BitVec 32) (k0_hw1009 : k0_chk1009 v14323), ∀ a, (k0_off2018 v14323) a + S1x1x1x128.size a ≤ S1x33344x1x128.size a := fun v14323 k0_hw1009 => k0_hw1009.2

def k0_off2019 (v14337 : BitVec 32) : Fin 4 → Nat :=
  let c0_14103 : Index := 0#32
  let v14338 : Index := Scalar.indexCast v14337
  let c0_14104 : Index := 0#32
  let c0_14105 : Index := 0#32
  ![0, v14338.toNat, 0, 0]

def k0_off2020 (v14337 : BitVec 32) : Fin 4 → Nat :=
  let c0_14109 : Index := 0#32
  let c1_i32_14108 : BitVec 32 := 1#32
  let v14344 : BitVec 32 := Scalar.addi v14337 c1_i32_14108
  let v14345 : Index := Scalar.indexCast v14344
  let c0_14110 : Index := 0#32
  let c0_14111 : Index := 0#32
  ![0, v14345.toNat, 0, 0]

def k0_chk1010 (v14337 : BitVec 32) : Prop :=
  (∀ a, (k0_off2019 v14337) a + S1x1x1x128.size a ≤ S1x33344x1x128.size a) ∧
  (∀ a, (k0_off2020 v14337) a + S1x1x1x128.size a ≤ S1x33344x1x128.size a)
theorem k0_off2019_inb : ∀ (v14337 : BitVec 32) (k0_hw1010 : k0_chk1010 v14337), ∀ a, (k0_off2019 v14337) a + S1x1x1x128.size a ≤ S1x33344x1x128.size a := fun v14337 k0_hw1010 => k0_hw1010.1
theorem k0_off2020_inb : ∀ (v14337 : BitVec 32) (k0_hw1010 : k0_chk1010 v14337), ∀ a, (k0_off2020 v14337) a + S1x1x1x128.size a ≤ S1x33344x1x128.size a := fun v14337 k0_hw1010 => k0_hw1010.2

def k0_off2021 (v14351 : BitVec 32) : Fin 4 → Nat :=
  let c0_14117 : Index := 0#32
  let v14352 : Index := Scalar.indexCast v14351
  let c0_14118 : Index := 0#32
  let c0_14119 : Index := 0#32
  ![0, v14352.toNat, 0, 0]

def k0_off2022 (v14351 : BitVec 32) : Fin 4 → Nat :=
  let c0_14123 : Index := 0#32
  let c1_i32_14122 : BitVec 32 := 1#32
  let v14358 : BitVec 32 := Scalar.addi v14351 c1_i32_14122
  let v14359 : Index := Scalar.indexCast v14358
  let c0_14124 : Index := 0#32
  let c0_14125 : Index := 0#32
  ![0, v14359.toNat, 0, 0]

def k0_chk1011 (v14351 : BitVec 32) : Prop :=
  (∀ a, (k0_off2021 v14351) a + S1x1x1x128.size a ≤ S1x33344x1x128.size a) ∧
  (∀ a, (k0_off2022 v14351) a + S1x1x1x128.size a ≤ S1x33344x1x128.size a)
theorem k0_off2021_inb : ∀ (v14351 : BitVec 32) (k0_hw1011 : k0_chk1011 v14351), ∀ a, (k0_off2021 v14351) a + S1x1x1x128.size a ≤ S1x33344x1x128.size a := fun v14351 k0_hw1011 => k0_hw1011.1
theorem k0_off2022_inb : ∀ (v14351 : BitVec 32) (k0_hw1011 : k0_chk1011 v14351), ∀ a, (k0_off2022 v14351) a + S1x1x1x128.size a ≤ S1x33344x1x128.size a := fun v14351 k0_hw1011 => k0_hw1011.2

def k0_off2023 (v14365 : BitVec 32) : Fin 4 → Nat :=
  let c0_14131 : Index := 0#32
  let v14366 : Index := Scalar.indexCast v14365
  let c0_14132 : Index := 0#32
  let c0_14133 : Index := 0#32
  ![0, v14366.toNat, 0, 0]

def k0_off2024 (v14365 : BitVec 32) : Fin 4 → Nat :=
  let c0_14137 : Index := 0#32
  let c1_i32_14136 : BitVec 32 := 1#32
  let v14372 : BitVec 32 := Scalar.addi v14365 c1_i32_14136
  let v14373 : Index := Scalar.indexCast v14372
  let c0_14138 : Index := 0#32
  let c0_14139 : Index := 0#32
  ![0, v14373.toNat, 0, 0]

def k0_chk1012 (v14365 : BitVec 32) : Prop :=
  (∀ a, (k0_off2023 v14365) a + S1x1x1x128.size a ≤ S1x33344x1x128.size a) ∧
  (∀ a, (k0_off2024 v14365) a + S1x1x1x128.size a ≤ S1x33344x1x128.size a)
theorem k0_off2023_inb : ∀ (v14365 : BitVec 32) (k0_hw1012 : k0_chk1012 v14365), ∀ a, (k0_off2023 v14365) a + S1x1x1x128.size a ≤ S1x33344x1x128.size a := fun v14365 k0_hw1012 => k0_hw1012.1
theorem k0_off2024_inb : ∀ (v14365 : BitVec 32) (k0_hw1012 : k0_chk1012 v14365), ∀ a, (k0_off2024 v14365) a + S1x1x1x128.size a ≤ S1x33344x1x128.size a := fun v14365 k0_hw1012 => k0_hw1012.2

def k0_off2025 (v14379 : BitVec 32) : Fin 4 → Nat :=
  let c0_14145 : Index := 0#32
  let v14380 : Index := Scalar.indexCast v14379
  let c0_14146 : Index := 0#32
  let c0_14147 : Index := 0#32
  ![0, v14380.toNat, 0, 0]

def k0_off2026 (v14379 : BitVec 32) : Fin 4 → Nat :=
  let c0_14151 : Index := 0#32
  let c1_i32_14150 : BitVec 32 := 1#32
  let v14386 : BitVec 32 := Scalar.addi v14379 c1_i32_14150
  let v14387 : Index := Scalar.indexCast v14386
  let c0_14152 : Index := 0#32
  let c0_14153 : Index := 0#32
  ![0, v14387.toNat, 0, 0]

def k0_chk1013 (v14379 : BitVec 32) : Prop :=
  (∀ a, (k0_off2025 v14379) a + S1x1x1x128.size a ≤ S1x33344x1x128.size a) ∧
  (∀ a, (k0_off2026 v14379) a + S1x1x1x128.size a ≤ S1x33344x1x128.size a)
theorem k0_off2025_inb : ∀ (v14379 : BitVec 32) (k0_hw1013 : k0_chk1013 v14379), ∀ a, (k0_off2025 v14379) a + S1x1x1x128.size a ≤ S1x33344x1x128.size a := fun v14379 k0_hw1013 => k0_hw1013.1
theorem k0_off2026_inb : ∀ (v14379 : BitVec 32) (k0_hw1013 : k0_chk1013 v14379), ∀ a, (k0_off2026 v14379) a + S1x1x1x128.size a ≤ S1x33344x1x128.size a := fun v14379 k0_hw1013 => k0_hw1013.2

def k0_off2027 (v14393 : BitVec 32) : Fin 4 → Nat :=
  let c0_14159 : Index := 0#32
  let v14394 : Index := Scalar.indexCast v14393
  let c0_14160 : Index := 0#32
  let c0_14161 : Index := 0#32
  ![0, v14394.toNat, 0, 0]

def k0_off2028 (v14393 : BitVec 32) : Fin 4 → Nat :=
  let c0_14165 : Index := 0#32
  let c1_i32_14164 : BitVec 32 := 1#32
  let v14400 : BitVec 32 := Scalar.addi v14393 c1_i32_14164
  let v14401 : Index := Scalar.indexCast v14400
  let c0_14166 : Index := 0#32
  let c0_14167 : Index := 0#32
  ![0, v14401.toNat, 0, 0]

def k0_chk1014 (v14393 : BitVec 32) : Prop :=
  (∀ a, (k0_off2027 v14393) a + S1x1x1x128.size a ≤ S1x33344x1x128.size a) ∧
  (∀ a, (k0_off2028 v14393) a + S1x1x1x128.size a ≤ S1x33344x1x128.size a)
theorem k0_off2027_inb : ∀ (v14393 : BitVec 32) (k0_hw1014 : k0_chk1014 v14393), ∀ a, (k0_off2027 v14393) a + S1x1x1x128.size a ≤ S1x33344x1x128.size a := fun v14393 k0_hw1014 => k0_hw1014.1
theorem k0_off2028_inb : ∀ (v14393 : BitVec 32) (k0_hw1014 : k0_chk1014 v14393), ∀ a, (k0_off2028 v14393) a + S1x1x1x128.size a ≤ S1x33344x1x128.size a := fun v14393 k0_hw1014 => k0_hw1014.2

def k0_off2029 (v14407 : BitVec 32) : Fin 4 → Nat :=
  let c0_14173 : Index := 0#32
  let v14408 : Index := Scalar.indexCast v14407
  let c0_14174 : Index := 0#32
  let c0_14175 : Index := 0#32
  ![0, v14408.toNat, 0, 0]

def k0_off2030 (v14407 : BitVec 32) : Fin 4 → Nat :=
  let c0_14179 : Index := 0#32
  let c1_i32_14178 : BitVec 32 := 1#32
  let v14414 : BitVec 32 := Scalar.addi v14407 c1_i32_14178
  let v14415 : Index := Scalar.indexCast v14414
  let c0_14180 : Index := 0#32
  let c0_14181 : Index := 0#32
  ![0, v14415.toNat, 0, 0]

def k0_chk1015 (v14407 : BitVec 32) : Prop :=
  (∀ a, (k0_off2029 v14407) a + S1x1x1x128.size a ≤ S1x33344x1x128.size a) ∧
  (∀ a, (k0_off2030 v14407) a + S1x1x1x128.size a ≤ S1x33344x1x128.size a)
theorem k0_off2029_inb : ∀ (v14407 : BitVec 32) (k0_hw1015 : k0_chk1015 v14407), ∀ a, (k0_off2029 v14407) a + S1x1x1x128.size a ≤ S1x33344x1x128.size a := fun v14407 k0_hw1015 => k0_hw1015.1
theorem k0_off2030_inb : ∀ (v14407 : BitVec 32) (k0_hw1015 : k0_chk1015 v14407), ∀ a, (k0_off2030 v14407) a + S1x1x1x128.size a ≤ S1x33344x1x128.size a := fun v14407 k0_hw1015 => k0_hw1015.2

def k0_off2031 (v14421 : BitVec 32) : Fin 4 → Nat :=
  let c0_14187 : Index := 0#32
  let v14422 : Index := Scalar.indexCast v14421
  let c0_14188 : Index := 0#32
  let c0_14189 : Index := 0#32
  ![0, v14422.toNat, 0, 0]

def k0_off2032 (v14421 : BitVec 32) : Fin 4 → Nat :=
  let c0_14193 : Index := 0#32
  let c1_i32_14192 : BitVec 32 := 1#32
  let v14428 : BitVec 32 := Scalar.addi v14421 c1_i32_14192
  let v14429 : Index := Scalar.indexCast v14428
  let c0_14194 : Index := 0#32
  let c0_14195 : Index := 0#32
  ![0, v14429.toNat, 0, 0]

def k0_chk1016 (v14421 : BitVec 32) : Prop :=
  (∀ a, (k0_off2031 v14421) a + S1x1x1x128.size a ≤ S1x33344x1x128.size a) ∧
  (∀ a, (k0_off2032 v14421) a + S1x1x1x128.size a ≤ S1x33344x1x128.size a)
theorem k0_off2031_inb : ∀ (v14421 : BitVec 32) (k0_hw1016 : k0_chk1016 v14421), ∀ a, (k0_off2031 v14421) a + S1x1x1x128.size a ≤ S1x33344x1x128.size a := fun v14421 k0_hw1016 => k0_hw1016.1
theorem k0_off2032_inb : ∀ (v14421 : BitVec 32) (k0_hw1016 : k0_chk1016 v14421), ∀ a, (k0_off2032 v14421) a + S1x1x1x128.size a ≤ S1x33344x1x128.size a := fun v14421 k0_hw1016 => k0_hw1016.2

def k0_off2033 (v14435 : BitVec 32) : Fin 4 → Nat :=
  let c0_14201 : Index := 0#32
  let v14436 : Index := Scalar.indexCast v14435
  let c0_14202 : Index := 0#32
  let c0_14203 : Index := 0#32
  ![0, v14436.toNat, 0, 0]

def k0_off2034 (v14435 : BitVec 32) : Fin 4 → Nat :=
  let c0_14207 : Index := 0#32
  let c1_i32_14206 : BitVec 32 := 1#32
  let v14442 : BitVec 32 := Scalar.addi v14435 c1_i32_14206
  let v14443 : Index := Scalar.indexCast v14442
  let c0_14208 : Index := 0#32
  let c0_14209 : Index := 0#32
  ![0, v14443.toNat, 0, 0]

def k0_chk1017 (v14435 : BitVec 32) : Prop :=
  (∀ a, (k0_off2033 v14435) a + S1x1x1x128.size a ≤ S1x33344x1x128.size a) ∧
  (∀ a, (k0_off2034 v14435) a + S1x1x1x128.size a ≤ S1x33344x1x128.size a)
theorem k0_off2033_inb : ∀ (v14435 : BitVec 32) (k0_hw1017 : k0_chk1017 v14435), ∀ a, (k0_off2033 v14435) a + S1x1x1x128.size a ≤ S1x33344x1x128.size a := fun v14435 k0_hw1017 => k0_hw1017.1
theorem k0_off2034_inb : ∀ (v14435 : BitVec 32) (k0_hw1017 : k0_chk1017 v14435), ∀ a, (k0_off2034 v14435) a + S1x1x1x128.size a ≤ S1x33344x1x128.size a := fun v14435 k0_hw1017 => k0_hw1017.2

def k0_off2035 (v14449 : BitVec 32) : Fin 4 → Nat :=
  let c0_14215 : Index := 0#32
  let v14450 : Index := Scalar.indexCast v14449
  let c0_14216 : Index := 0#32
  let c0_14217 : Index := 0#32
  ![0, v14450.toNat, 0, 0]

def k0_off2036 (v14449 : BitVec 32) : Fin 4 → Nat :=
  let c0_14221 : Index := 0#32
  let c1_i32_14220 : BitVec 32 := 1#32
  let v14456 : BitVec 32 := Scalar.addi v14449 c1_i32_14220
  let v14457 : Index := Scalar.indexCast v14456
  let c0_14222 : Index := 0#32
  let c0_14223 : Index := 0#32
  ![0, v14457.toNat, 0, 0]

def k0_chk1018 (v14449 : BitVec 32) : Prop :=
  (∀ a, (k0_off2035 v14449) a + S1x1x1x128.size a ≤ S1x33344x1x128.size a) ∧
  (∀ a, (k0_off2036 v14449) a + S1x1x1x128.size a ≤ S1x33344x1x128.size a)
theorem k0_off2035_inb : ∀ (v14449 : BitVec 32) (k0_hw1018 : k0_chk1018 v14449), ∀ a, (k0_off2035 v14449) a + S1x1x1x128.size a ≤ S1x33344x1x128.size a := fun v14449 k0_hw1018 => k0_hw1018.1
theorem k0_off2036_inb : ∀ (v14449 : BitVec 32) (k0_hw1018 : k0_chk1018 v14449), ∀ a, (k0_off2036 v14449) a + S1x1x1x128.size a ≤ S1x33344x1x128.size a := fun v14449 k0_hw1018 => k0_hw1018.2

def k0_off2037 (v14463 : BitVec 32) : Fin 4 → Nat :=
  let c0_14229 : Index := 0#32
  let v14464 : Index := Scalar.indexCast v14463
  let c0_14230 : Index := 0#32
  let c0_14231 : Index := 0#32
  ![0, v14464.toNat, 0, 0]

def k0_off2038 (v14463 : BitVec 32) : Fin 4 → Nat :=
  let c0_14235 : Index := 0#32
  let c1_i32_14234 : BitVec 32 := 1#32
  let v14470 : BitVec 32 := Scalar.addi v14463 c1_i32_14234
  let v14471 : Index := Scalar.indexCast v14470
  let c0_14236 : Index := 0#32
  let c0_14237 : Index := 0#32
  ![0, v14471.toNat, 0, 0]

def k0_chk1019 (v14463 : BitVec 32) : Prop :=
  (∀ a, (k0_off2037 v14463) a + S1x1x1x128.size a ≤ S1x33344x1x128.size a) ∧
  (∀ a, (k0_off2038 v14463) a + S1x1x1x128.size a ≤ S1x33344x1x128.size a)
theorem k0_off2037_inb : ∀ (v14463 : BitVec 32) (k0_hw1019 : k0_chk1019 v14463), ∀ a, (k0_off2037 v14463) a + S1x1x1x128.size a ≤ S1x33344x1x128.size a := fun v14463 k0_hw1019 => k0_hw1019.1
theorem k0_off2038_inb : ∀ (v14463 : BitVec 32) (k0_hw1019 : k0_chk1019 v14463), ∀ a, (k0_off2038 v14463) a + S1x1x1x128.size a ≤ S1x33344x1x128.size a := fun v14463 k0_hw1019 => k0_hw1019.2

def k0_off2039 (v14477 : BitVec 32) : Fin 4 → Nat :=
  let c0_14243 : Index := 0#32
  let v14478 : Index := Scalar.indexCast v14477
  let c0_14244 : Index := 0#32
  let c0_14245 : Index := 0#32
  ![0, v14478.toNat, 0, 0]

def k0_off2040 (v14477 : BitVec 32) : Fin 4 → Nat :=
  let c0_14249 : Index := 0#32
  let c1_i32_14248 : BitVec 32 := 1#32
  let v14484 : BitVec 32 := Scalar.addi v14477 c1_i32_14248
  let v14485 : Index := Scalar.indexCast v14484
  let c0_14250 : Index := 0#32
  let c0_14251 : Index := 0#32
  ![0, v14485.toNat, 0, 0]

def k0_chk1020 (v14477 : BitVec 32) : Prop :=
  (∀ a, (k0_off2039 v14477) a + S1x1x1x128.size a ≤ S1x33344x1x128.size a) ∧
  (∀ a, (k0_off2040 v14477) a + S1x1x1x128.size a ≤ S1x33344x1x128.size a)
theorem k0_off2039_inb : ∀ (v14477 : BitVec 32) (k0_hw1020 : k0_chk1020 v14477), ∀ a, (k0_off2039 v14477) a + S1x1x1x128.size a ≤ S1x33344x1x128.size a := fun v14477 k0_hw1020 => k0_hw1020.1
theorem k0_off2040_inb : ∀ (v14477 : BitVec 32) (k0_hw1020 : k0_chk1020 v14477), ∀ a, (k0_off2040 v14477) a + S1x1x1x128.size a ≤ S1x33344x1x128.size a := fun v14477 k0_hw1020 => k0_hw1020.2

def k0_off2041 (v14491 : BitVec 32) : Fin 4 → Nat :=
  let c0_14257 : Index := 0#32
  let v14492 : Index := Scalar.indexCast v14491
  let c0_14258 : Index := 0#32
  let c0_14259 : Index := 0#32
  ![0, v14492.toNat, 0, 0]

def k0_off2042 (v14491 : BitVec 32) : Fin 4 → Nat :=
  let c0_14263 : Index := 0#32
  let c1_i32_14262 : BitVec 32 := 1#32
  let v14498 : BitVec 32 := Scalar.addi v14491 c1_i32_14262
  let v14499 : Index := Scalar.indexCast v14498
  let c0_14264 : Index := 0#32
  let c0_14265 : Index := 0#32
  ![0, v14499.toNat, 0, 0]

def k0_chk1021 (v14491 : BitVec 32) : Prop :=
  (∀ a, (k0_off2041 v14491) a + S1x1x1x128.size a ≤ S1x33344x1x128.size a) ∧
  (∀ a, (k0_off2042 v14491) a + S1x1x1x128.size a ≤ S1x33344x1x128.size a)
theorem k0_off2041_inb : ∀ (v14491 : BitVec 32) (k0_hw1021 : k0_chk1021 v14491), ∀ a, (k0_off2041 v14491) a + S1x1x1x128.size a ≤ S1x33344x1x128.size a := fun v14491 k0_hw1021 => k0_hw1021.1
theorem k0_off2042_inb : ∀ (v14491 : BitVec 32) (k0_hw1021 : k0_chk1021 v14491), ∀ a, (k0_off2042 v14491) a + S1x1x1x128.size a ≤ S1x33344x1x128.size a := fun v14491 k0_hw1021 => k0_hw1021.2

def k0_off2043 (v14505 : BitVec 32) : Fin 4 → Nat :=
  let c0_14271 : Index := 0#32
  let v14506 : Index := Scalar.indexCast v14505
  let c0_14272 : Index := 0#32
  let c0_14273 : Index := 0#32
  ![0, v14506.toNat, 0, 0]

def k0_off2044 (v14505 : BitVec 32) : Fin 4 → Nat :=
  let c0_14277 : Index := 0#32
  let c1_i32_14276 : BitVec 32 := 1#32
  let v14512 : BitVec 32 := Scalar.addi v14505 c1_i32_14276
  let v14513 : Index := Scalar.indexCast v14512
  let c0_14278 : Index := 0#32
  let c0_14279 : Index := 0#32
  ![0, v14513.toNat, 0, 0]

def k0_chk1022 (v14505 : BitVec 32) : Prop :=
  (∀ a, (k0_off2043 v14505) a + S1x1x1x128.size a ≤ S1x33344x1x128.size a) ∧
  (∀ a, (k0_off2044 v14505) a + S1x1x1x128.size a ≤ S1x33344x1x128.size a)
theorem k0_off2043_inb : ∀ (v14505 : BitVec 32) (k0_hw1022 : k0_chk1022 v14505), ∀ a, (k0_off2043 v14505) a + S1x1x1x128.size a ≤ S1x33344x1x128.size a := fun v14505 k0_hw1022 => k0_hw1022.1
theorem k0_off2044_inb : ∀ (v14505 : BitVec 32) (k0_hw1022 : k0_chk1022 v14505), ∀ a, (k0_off2044 v14505) a + S1x1x1x128.size a ≤ S1x33344x1x128.size a := fun v14505 k0_hw1022 => k0_hw1022.2

def k0_off2045 (v14519 : BitVec 32) : Fin 4 → Nat :=
  let c0_14285 : Index := 0#32
  let v14520 : Index := Scalar.indexCast v14519
  let c0_14286 : Index := 0#32
  let c0_14287 : Index := 0#32
  ![0, v14520.toNat, 0, 0]

def k0_off2046 (v14519 : BitVec 32) : Fin 4 → Nat :=
  let c0_14291 : Index := 0#32
  let c1_i32_14290 : BitVec 32 := 1#32
  let v14526 : BitVec 32 := Scalar.addi v14519 c1_i32_14290
  let v14527 : Index := Scalar.indexCast v14526
  let c0_14292 : Index := 0#32
  let c0_14293 : Index := 0#32
  ![0, v14527.toNat, 0, 0]

def k0_chk1023 (v14519 : BitVec 32) : Prop :=
  (∀ a, (k0_off2045 v14519) a + S1x1x1x128.size a ≤ S1x33344x1x128.size a) ∧
  (∀ a, (k0_off2046 v14519) a + S1x1x1x128.size a ≤ S1x33344x1x128.size a)
theorem k0_off2045_inb : ∀ (v14519 : BitVec 32) (k0_hw1023 : k0_chk1023 v14519), ∀ a, (k0_off2045 v14519) a + S1x1x1x128.size a ≤ S1x33344x1x128.size a := fun v14519 k0_hw1023 => k0_hw1023.1
theorem k0_off2046_inb : ∀ (v14519 : BitVec 32) (k0_hw1023 : k0_chk1023 v14519), ∀ a, (k0_off2046 v14519) a + S1x1x1x128.size a ≤ S1x33344x1x128.size a := fun v14519 k0_hw1023 => k0_hw1023.2

def k0_off2047 (v14533 : BitVec 32) : Fin 4 → Nat :=
  let c0_14299 : Index := 0#32
  let v14534 : Index := Scalar.indexCast v14533
  let c0_14300 : Index := 0#32
  let c0_14301 : Index := 0#32
  ![0, v14534.toNat, 0, 0]

def k0_off2048 (v14533 : BitVec 32) : Fin 4 → Nat :=
  let c0_14305 : Index := 0#32
  let c1_i32_14304 : BitVec 32 := 1#32
  let v14540 : BitVec 32 := Scalar.addi v14533 c1_i32_14304
  let v14541 : Index := Scalar.indexCast v14540
  let c0_14306 : Index := 0#32
  let c0_14307 : Index := 0#32
  ![0, v14541.toNat, 0, 0]

def k0_chk1024 (v14533 : BitVec 32) : Prop :=
  (∀ a, (k0_off2047 v14533) a + S1x1x1x128.size a ≤ S1x33344x1x128.size a) ∧
  (∀ a, (k0_off2048 v14533) a + S1x1x1x128.size a ≤ S1x33344x1x128.size a)
theorem k0_off2047_inb : ∀ (v14533 : BitVec 32) (k0_hw1024 : k0_chk1024 v14533), ∀ a, (k0_off2047 v14533) a + S1x1x1x128.size a ≤ S1x33344x1x128.size a := fun v14533 k0_hw1024 => k0_hw1024.1
theorem k0_off2048_inb : ∀ (v14533 : BitVec 32) (k0_hw1024 : k0_chk1024 v14533), ∀ a, (k0_off2048 v14533) a + S1x1x1x128.size a ≤ S1x33344x1x128.size a := fun v14533 k0_hw1024 => k0_hw1024.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .smem S1x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x33344x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S4x4224x128 : Shape := ⟨3, ![4, 4224, 128]⟩
abbrev S4x33344x1x128 : Shape := ⟨4, ![4, 33344, 1, 128]⟩
abbrev S1x33344x1x128 : Shape := ⟨4, ![1, 33344, 1, 128]⟩
abbrev S33344x128 : Shape := ⟨2, ![33344, 128]⟩
abbrev S1x4224x128 : Shape := ⟨3, ![1, 4224, 128]⟩
abbrev S4224x128 : Shape := ⟨2, ![4224, 128]⟩
abbrev S4224x128x1 : Shape := ⟨3, ![4224, 128, 1]⟩
abbrev S4224x128x128 : Shape := ⟨3, ![4224, 128, 128]⟩
abbrev S1x4224x128x128 : Shape := ⟨4, ![1, 4224, 128, 128]⟩
abbrev S4x4224x128x128 : Shape := ⟨4, ![4, 4224, 128, 128]⟩
abbrev S4x4224x128x1 : Shape := ⟨4, ![4, 4224, 128, 1]⟩
abbrev S_ : Shape := ⟨0, ![]⟩
abbrev S4x4224x128x64 : Shape := ⟨4, ![4, 4224, 128, 64]⟩
abbrev S4x33792x16x64 : Shape := ⟨4, ![4, 33792, 16, 64]⟩
abbrev S4x33792x64 : Shape := ⟨3, ![4, 33792, 64]⟩

abbrev nBuf : Space → Nat
  | .hbm => 86
  | .vmem => 0
  | .smem => 0
  | _ => 0

abbrev bufTy : (tb : Table) → Fin (tcTables nBuf tb) → BufTy
  | .hbm, ⟨0, _⟩ => ⟨S4x4224x128, .i32⟩
  | .hbm, ⟨1, _⟩ => ⟨S4x4224x128, .f32⟩
  | .hbm, ⟨2, _⟩ => ⟨S4x4224x128, .f32⟩
  | .hbm, ⟨3, _⟩ => ⟨S4x4224x128, .f32⟩
  | .hbm, ⟨4, _⟩ => ⟨S4x4224x128, .f32⟩
  | .hbm, ⟨5, _⟩ => ⟨S4x33344x1x128, .f32⟩
  | .hbm, ⟨6, _⟩ => ⟨S1x33344x1x128, .f32⟩
  | .hbm, ⟨7, _⟩ => ⟨S33344x128, .f32⟩
  | .hbm, ⟨8, _⟩ => ⟨S1x4224x128, .i32⟩
  | .hbm, ⟨9, _⟩ => ⟨S4224x128, .i32⟩
  | .hbm, ⟨10, _⟩ => ⟨S4224x128x1, .i32⟩
  | .hbm, ⟨11, _⟩ => ⟨S4224x128x128, .f32⟩
  | .hbm, ⟨12, _⟩ => ⟨S1x33344x1x128, .f32⟩
  | .hbm, ⟨13, _⟩ => ⟨S33344x128, .f32⟩
  | .hbm, ⟨14, _⟩ => ⟨S1x4224x128, .i32⟩
  | .hbm, ⟨15, _⟩ => ⟨S4224x128, .i32⟩
  | .hbm, ⟨16, _⟩ => ⟨S4224x128x1, .i32⟩
  | .hbm, ⟨17, _⟩ => ⟨S4224x128x128, .f32⟩
  | .hbm, ⟨18, _⟩ => ⟨S1x33344x1x128, .f32⟩
  | .hbm, ⟨19, _⟩ => ⟨S33344x128, .f32⟩
  | .hbm, ⟨20, _⟩ => ⟨S1x4224x128, .i32⟩
  | .hbm, ⟨21, _⟩ => ⟨S4224x128, .i32⟩
  | .hbm, ⟨22, _⟩ => ⟨S4224x128x1, .i32⟩
  | .hbm, ⟨23, _⟩ => ⟨S4224x128x128, .f32⟩
  | .hbm, ⟨24, _⟩ => ⟨S1x33344x1x128, .f32⟩
  | .hbm, ⟨25, _⟩ => ⟨S33344x128, .f32⟩
  | .hbm, ⟨26, _⟩ => ⟨S1x4224x128, .i32⟩
  | .hbm, ⟨27, _⟩ => ⟨S4224x128, .i32⟩
  | .hbm, ⟨28, _⟩ => ⟨S4224x128x1, .i32⟩
  | .hbm, ⟨29, _⟩ => ⟨S4224x128x128, .f32⟩
  | .hbm, ⟨30, _⟩ => ⟨S1x4224x128x128, .f32⟩
  | .hbm, ⟨31, _⟩ => ⟨S1x4224x128x128, .f32⟩
  | .hbm, ⟨32, _⟩ => ⟨S1x4224x128x128, .f32⟩
  | .hbm, ⟨33, _⟩ => ⟨S1x4224x128x128, .f32⟩
  | .hbm, ⟨34, _⟩ => ⟨S4x4224x128x128, .f32⟩
  | .hbm, ⟨35, _⟩ => ⟨S4x4224x128x1, .f32⟩
  | .hbm, ⟨36, _⟩ => ⟨S4x4224x128x128, .f32⟩
  | .hbm, ⟨37, _⟩ => ⟨S4x4224x128x128, .f32⟩
  | .hbm, ⟨38, _⟩ => ⟨S_, .i32⟩
  | .hbm, ⟨39, _⟩ => ⟨S4x4224x128, .i32⟩
  | .hbm, ⟨40, _⟩ => ⟨S4x4224x128, .i32⟩
  | .hbm, ⟨41, _⟩ => ⟨S1x33344x1x128, .f32⟩
  | .hbm, ⟨42, _⟩ => ⟨S33344x128, .f32⟩
  | .hbm, ⟨43, _⟩ => ⟨S1x4224x128, .i32⟩
  | .hbm, ⟨44, _⟩ => ⟨S4224x128, .i32⟩
  | .hbm, ⟨45, _⟩ => ⟨S4224x128x1, .i32⟩
  | .hbm, ⟨46, _⟩ => ⟨S4224x128x128, .f32⟩
  | .hbm, ⟨47, _⟩ => ⟨S1x33344x1x128, .f32⟩
  | .hbm, ⟨48, _⟩ => ⟨S33344x128, .f32⟩
  | .hbm, ⟨49, _⟩ => ⟨S1x4224x128, .i32⟩
  | .hbm, ⟨50, _⟩ => ⟨S4224x128, .i32⟩
  | .hbm, ⟨51, _⟩ => ⟨S4224x128x1, .i32⟩
  | .hbm, ⟨52, _⟩ => ⟨S4224x128x128, .f32⟩
  | .hbm, ⟨53, _⟩ => ⟨S1x33344x1x128, .f32⟩
  | .hbm, ⟨54, _⟩ => ⟨S33344x128, .f32⟩
  | .hbm, ⟨55, _⟩ => ⟨S1x4224x128, .i32⟩
  | .hbm, ⟨56, _⟩ => ⟨S4224x128, .i32⟩
  | .hbm, ⟨57, _⟩ => ⟨S4224x128x1, .i32⟩
  | .hbm, ⟨58, _⟩ => ⟨S4224x128x128, .f32⟩
  | .hbm, ⟨59, _⟩ => ⟨S1x33344x1x128, .f32⟩
  | .hbm, ⟨60, _⟩ => ⟨S33344x128, .f32⟩
  | .hbm, ⟨61, _⟩ => ⟨S1x4224x128, .i32⟩
  | .hbm, ⟨62, _⟩ => ⟨S4224x128, .i32⟩
  | .hbm, ⟨63, _⟩ => ⟨S4224x128x1, .i32⟩
  | .hbm, ⟨64, _⟩ => ⟨S4224x128x128, .f32⟩
  | .hbm, ⟨65, _⟩ => ⟨S1x4224x128x128, .f32⟩
  | .hbm, ⟨66, _⟩ => ⟨S1x4224x128x128, .f32⟩
  | .hbm, ⟨67, _⟩ => ⟨S1x4224x128x128, .f32⟩
  | .hbm, ⟨68, _⟩ => ⟨S1x4224x128x128, .f32⟩
  | .hbm, ⟨69, _⟩ => ⟨S4x4224x128x128, .f32⟩
  | .hbm, ⟨70, _⟩ => ⟨S4x4224x128x1, .f32⟩
  | .hbm, ⟨71, _⟩ => ⟨S4x4224x128x128, .f32⟩
  | .hbm, ⟨72, _⟩ => ⟨S4x4224x128x128, .f32⟩
  | .hbm, ⟨73, _⟩ => ⟨S4x4224x128x128, .f32⟩
  | .hbm, ⟨74, _⟩ => ⟨S4x4224x128x64, .f32⟩
  | .hbm, ⟨75, _⟩ => ⟨S4x4224x128x1, .f32⟩
  | .hbm, ⟨76, _⟩ => ⟨S4x4224x128x64, .f32⟩
  | .hbm, ⟨77, _⟩ => ⟨S4x4224x128x64, .f32⟩
  | .hbm, ⟨78, _⟩ => ⟨S4x4224x128x64, .f32⟩
  | .hbm, ⟨79, _⟩ => ⟨S4x4224x128x1, .f32⟩
  | .hbm, ⟨80, _⟩ => ⟨S4x4224x128x64, .f32⟩
  | .hbm, ⟨81, _⟩ => ⟨S4x4224x128x64, .f32⟩
  | .hbm, ⟨82, _⟩ => ⟨S4x4224x128x64, .f32⟩
  | .hbm, ⟨83, _⟩ => ⟨S4x33792x16x64, .f32⟩
  | .hbm, ⟨84, _⟩ => ⟨S_, .f32⟩
  | .hbm, ⟨85, _⟩ => ⟨S4x33792x64, .f32⟩
  | _, _ => ⟨S4x4224x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call2_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call3_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call4_v0 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call5_v0 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call6_v0 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_call7_v0 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst : Ref sig .tc := ⟨.hbm, 84, rfl⟩
abbrev main_v69 : Ref sig .tc := ⟨.hbm, 85, rfl⟩

abbrev nD : Nat := 1
abbrev τ : Topo := Topo.v7x

variable {F : FTy → Type} [FloatOps F]
-- ==== Proof.FeedForward.lean ====
/-
  Hand-written, untrusted. The VALUE of the output projection, first normalisation, feed-forward products and second
  normalisation: the kernel's result array after its run is the reference's result of the same arguments, row by row.
-/
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.Proof.FeedForward

open Idealize.ShloMosaic Idealize.ShloMosaic.TcCoe Idealize.SL.Sem
open Cert.KernelIdeal Cert.KernelIdeal.Gen

/-- The kernel's layer normalisation of one block of rows. -/
def normK (X : FVec Ideal S512x512 .f32) (g b : FVec Ideal S1x512 .f32) : FVec Ideal S512x512 .f32 :=
  have total : FVec Ideal S512x512 .f32 → FVec Ideal S512x1 .f32 := fun Y =>
    divf (shapeCast S512x1 (multiReduction .add [1] S512 Y 0x00000000#32 reduces_S512x512_S512 (.inl rfl) rfl)
      shapeCasts_S512_S512x1) (broadcast S512x1 (Scalar.ofBits .f32 0x44000000#32))
  have D : FVec Ideal S512x512 .f32 := subf X (broadcastTo S512x512 (total X) broadcasts_S512x1_S512x512)
  have R : FVec Ideal S512x1 .f32 := rsqrt (addf (total (mulf D D)) (broadcast S512x1 (Scalar.ofBits .f32 0x3727C5AC#32)))
  addf (mulf (mulf D (broadcastTo S512x512 R broadcasts_S512x1_S512x512))
      (broadcastTo S512x512 (shapeCast S1x512 g shapeCasts_S1x512_S1x512) broadcasts_S1x512_S512x512))
    (broadcastTo S512x512 (shapeCast S1x512 b shapeCasts_S1x512_S1x512) broadcasts_S1x512_S512x512)

/-- The reference's layer normalisation of all rows. -/
def normR (X : FVec Ideal Cert.ReferenceIdeal.S16896x512 .f32) (g b : FVec Ideal Cert.ReferenceIdeal.S512 .f32) :
    FVec Ideal Cert.ReferenceIdeal.S16896x512 .f32 :=
  have total : FVec Ideal Cert.ReferenceIdeal.S16896x512 .f32 → FVec Ideal Cert.ReferenceIdeal.S16896x1 .f32 := fun Y =>
    Host.divf (broadcastInDim Cert.ReferenceIdeal.S16896x1 ![0] Cert.ReferenceIdeal.Gen.bcast_S16896_S16896x1_0
      (Host.reduceAdd Y (constant Cert.ReferenceIdeal.S_ .f32 0x00000000#32)
        Cert.ReferenceIdeal.Gen.reducesTo_S16896x512_S16896_d1 Cert.ReferenceIdeal.Gen.h_S_))
      (broadcastInDim Cert.ReferenceIdeal.S16896x1 ![] Cert.ReferenceIdeal.Gen.bcast_S_S16896x1
        (constant Cert.ReferenceIdeal.S_ .f32 0x44000000#32))
  have D := subf X (broadcastInDim Cert.ReferenceIdeal.S16896x512 ![0, 1]
    Cert.ReferenceIdeal.Gen.bcast_S16896x1_S16896x512_0_1 (total X))
  have R := Host.rsqrt (addf (total (mulf D D)) (broadcastInDim Cert.ReferenceIdeal.S16896x1 ![]
    Cert.ReferenceIdeal.Gen.bcast_S_S16896x1 (constant Cert.ReferenceIdeal.S_ .f32 0x3727C5AC#32)))
  have row : FVec Ideal Cert.ReferenceIdeal.S512 .f32 → FVec Ideal Cert.ReferenceIdeal.S16896x512 .f32 := fun v =>
    broadcastInDim Cert.ReferenceIdeal.S16896x512 ![0, 1] Cert.ReferenceIdeal.Gen.bcast_S1x512_S16896x512_0_1
      (broadcastInDim Cert.ReferenceIdeal.S1x512 ![1] Cert.ReferenceIdeal.Gen.bcast_S512_S1x512_1 v)
  addf (mulf (mulf D (broadcastInDim Cert.ReferenceIdeal.S16896x512 ![0, 1]
    Cert.ReferenceIdeal.Gen.bcast_S16896x1_S16896x512_0_1 R)) (row g)) (row b)

/-- The kernel's affine map of a block of rows: a product with a 512 by 512 matrix, then a bias row. -/
def outK (X : FVec Ideal S512x512 .f32) (W : FVec Ideal S512x512 .f32) (b : FVec Ideal S1x512 .f32) : FVec Ideal S512x512 .f32 :=
  addf (matmul dot_S512x512_S512x512_S512x512_1_0_0_1_n_n none X W (constant S512x512 .f32 0x00000000#32))
    (broadcastTo S512x512 (shapeCast S1x512 b shapeCasts_S1x512_S1x512) broadcasts_S1x512_S512x512)

/-- The kernel's two feed-forward products of a block of rows, with the rectifier between them. -/
def ffK (X : FVec Ideal S512x512 .f32) (W1 : FVec Ideal S512x2048 .f32) (b1 : FVec Ideal S1x2048 .f32)
    (W2 : FVec Ideal S2048x512 .f32) (b2 : FVec Ideal S1x512 .f32) : FVec Ideal S512x512 .f32 :=
  addf (matmul dot_S512x2048_S2048x512_S512x512_1_0_0_1_n_n none
      (maximumf (addf (matmul dot_S512x512_S512x2048_S512x2048_1_0_0_1_n_n none X W1 (constant S512x2048 .f32 0x00000000#32))
        (broadcastTo S512x2048 (shapeCast S1x2048 b1 shapeCasts_S1x2048_S1x2048) broadcasts_S1x2048_S512x2048))
        (broadcast S512x2048 (Scalar.ofBits .f32 0x00000000#32))) W2 (constant S512x512 .f32 0x00000000#32))
    (broadcastTo S512x512 (shapeCast S1x512 b2 shapeCasts_S1x512_S1x512) broadcasts_S1x512_S512x512)

/-- The reference's affine map of all rows. -/
def outR (X : FVec Ideal Cert.ReferenceIdeal.S16896x512 .f32) (W : FVec Ideal Cert.ReferenceIdeal.S512x512 .f32)
    (b : FVec Ideal Cert.ReferenceIdeal.S512 .f32) : FVec Ideal Cert.ReferenceIdeal.S16896x512 .f32 :=
  addf (Host.dotGeneral Cert.ReferenceIdeal.dot_S16896x512_S512x512_S16896x512_1_0_0_1_n_n none X W)
    (broadcastInDim Cert.ReferenceIdeal.S16896x512 ![0, 1] Cert.ReferenceIdeal.Gen.bcast_S1x512_S16896x512_0_1
      (broadcastInDim Cert.ReferenceIdeal.S1x512 ![1] Cert.ReferenceIdeal.Gen.bcast_S512_S1x512_1 b))

/-- The reference's two feed-forward products of all rows, with the rectifier between them. -/
def ffR (X : FVec Ideal Cert.ReferenceIdeal.S16896x512 .f32) (W1 : FVec Ideal Cert.ReferenceIdeal.S512x2048 .f32)
    (b1 : FVec Ideal Cert.ReferenceIdeal.S2048 .f32) (W2 : FVec Ideal Cert.ReferenceIdeal.S2048x512 .f32)
    (b2 : FVec Ideal Cert.ReferenceIdeal.S512 .f32) : FVec Ideal Cert.ReferenceIdeal.S16896x512 .f32 :=
  addf (Host.dotGeneral Cert.ReferenceIdeal.dot_S16896x2048_S2048x512_S16896x512_1_0_0_1_n_n none
      (maximumf (addf (Host.dotGeneral Cert.ReferenceIdeal.dot_S16896x512_S512x2048_S16896x2048_1_0_0_1_n_n none X W1)
        (broadcastInDim Cert.ReferenceIdeal.S16896x2048 ![0, 1] Cert.ReferenceIdeal.Gen.bcast_S1x2048_S16896x2048_0_1
          (broadcastInDim Cert.ReferenceIdeal.S1x2048 ![1] Cert.ReferenceIdeal.Gen.bcast_S2048_S1x2048_1 b1)))
        (broadcastInDim Cert.ReferenceIdeal.S16896x2048 ![] Cert.ReferenceIdeal.Gen.bcast_S_S16896x2048
          (constant Cert.ReferenceIdeal.S_ .f32 0x00000000#32))) W2)
    (broadcastInDim Cert.ReferenceIdeal.S16896x512 ![0, 1] Cert.ReferenceIdeal.Gen.bcast_S1x512_S16896x512_0_1
      (broadcastInDim Cert.ReferenceIdeal.S1x512 ![1] Cert.ReferenceIdeal.Gen.bcast_S512_S1x512_1 b2))

section
variable {XK : FVec Ideal S512x512 .f32} {XR : FVec Ideal Cert.ReferenceIdeal.S16896x512 .f32} {r : Fin 512} {s : Fin 16896}
  {bK : FVec Ideal S1x512 .f32} {bR : FVec Ideal Cert.ReferenceIdeal.S512 .f32}

/-- Two equal rows have equal layer normalisations. -/
theorem norm_row {gK : FVec Ideal S1x512 .f32} {gR : FVec Ideal Cert.ReferenceIdeal.S512 .f32}
    (hX : ∀ k : Fin 512, XK (ix2 r k) = XR (ix2 s k)) (hg : ∀ k : Fin 512, gK (ix2 0 k) = gR (ix1 k))
    (hb : ∀ k : Fin 512, bK (ix2 0 k) = bR (ix1 k)) (j : Fin 512) :
    normK XK gK bK (ix2 r j) = normR XR gR bR (ix2 s j) := by
  pointwise [normK, normR]
  simp only [hX, hg, hb]

/-- Two equal rows have equal affine images. -/
theorem out_row {W : FVec Ideal S512x512 .f32}
    (hX : ∀ k : Fin 512, XK (ix2 r k) = XR (ix2 s k)) (hb : ∀ k : Fin 512, bK (ix2 0 k) = bR (ix1 k)) (j : Fin 512) :
    outK XK W bK (ix2 r j) = outR XR W bR (ix2 s j) := by
  pointwise [outK, outR]
  simp only [hX, hb]

/-- Two equal rows have equal feed-forward images. -/
theorem ff_row {W1 : FVec Ideal S512x2048 .f32} {W2 : FVec Ideal S2048x512 .f32} {cK : FVec Ideal S1x2048 .f32}
    {cR : FVec Ideal Cert.ReferenceIdeal.S2048 .f32}
    (hX : ∀ k : Fin 512, XK (ix2 r k) = XR (ix2 s k)) (hc : ∀ k : Fin 2048, cK (ix2 0 k) = cR (ix1 k))
    (hb : ∀ k : Fin 512, bK (ix2 0 k) = bR (ix1 k)) (j : Fin 512) :
    ffK XK W1 cK W2 bK (ix2 r j) = ffR XR W1 cR W2 bR (ix2 s j) := by
  pointwise [ffK, ffR]
  simp only [hX, hb, hc]

end

/-- The reference's result over its argument arrays: two residual sums, each normalised. -/
def REF (q a : FVec Ideal Cert.ReferenceIdeal.S16896x512 .f32) (Wo : FVec Ideal Cert.ReferenceIdeal.S512x512 .f32)
    (bo : FVec Ideal Cert.ReferenceIdeal.S512 .f32) (W1 : FVec Ideal Cert.ReferenceIdeal.S512x2048 .f32)
    (b1 : FVec Ideal Cert.ReferenceIdeal.S2048 .f32) (W2 : FVec Ideal Cert.ReferenceIdeal.S2048x512 .f32)
    (b2 g1 e1 g2 e2 : FVec Ideal Cert.ReferenceIdeal.S512 .f32) : FVec Ideal Cert.ReferenceIdeal.S16896x512 .f32 :=
  have x : FVec Ideal Cert.ReferenceIdeal.S16896x512 .f32 := normR (addf q (outR a Wo bo)) g1 e1
  normR (addf x (ffR x W1 b1 W2 b2)) g2 e2

/-- The kernel's stored block over its loaded blocks is the same composition. -/
theorem stored (q a Wo : FVec Ideal S512x512 .f32) (bo : FVec Ideal S1x512 .f32) (W1 : FVec Ideal S512x2048 .f32)
    (b1 : FVec Ideal S1x2048 .f32) (W2 : FVec Ideal S2048x512 .f32) (b2 g1 e1 g2 e2 : FVec Ideal S1x512 .f32) :
    k0_pay3 (k0_pay1 q a Wo bo g1 e1) (k0_pay2 q a Wo bo g1 e1 W1) b1 W2 b2 g2 e2
      = normK (addf (normK (addf q (outK a Wo bo)) g1 e1)
          (ffK (normK (addf q (outK a Wo bo)) g1 e1) W1 b1 W2 b2)) g2 e2 := rfl

/-- One row of the kernel's stored block is the row of the reference's result that has the same inputs. -/
theorem stored_row {q a Wo : FVec Ideal S512x512 .f32} {bo : FVec Ideal S1x512 .f32} {W1 : FVec Ideal S512x2048 .f32}
    {b1 : FVec Ideal S1x2048 .f32} {W2 : FVec Ideal S2048x512 .f32} {b2 g1 e1 g2 e2 : FVec Ideal S1x512 .f32}
    {q' a' : FVec Ideal Cert.ReferenceIdeal.S16896x512 .f32} {bo' : FVec Ideal Cert.ReferenceIdeal.S512 .f32}
    {b1' : FVec Ideal Cert.ReferenceIdeal.S2048 .f32} {b2' g1' e1' g2' e2' : FVec Ideal Cert.ReferenceIdeal.S512 .f32}
    {r : Fin 512} {s : Fin 16896} (hq : ∀ k : Fin 512, q (ix2 r k) = q' (ix2 s k)) (ha : ∀ k : Fin 512, a (ix2 r k) = a' (ix2 s k))
    (hbo : ∀ k : Fin 512, bo (ix2 0 k) = bo' (ix1 k)) (hb1 : ∀ k : Fin 2048, b1 (ix2 0 k) = b1' (ix1 k))
    (hb2 : ∀ k : Fin 512, b2 (ix2 0 k) = b2' (ix1 k)) (hg1 : ∀ k : Fin 512, g1 (ix2 0 k) = g1' (ix1 k))
    (he1 : ∀ k : Fin 512, e1 (ix2 0 k) = e1' (ix1 k)) (hg2 : ∀ k : Fin 512, g2 (ix2 0 k) = g2' (ix1 k))
    (he2 : ∀ k : Fin 512, e2 (ix2 0 k) = e2' (ix1 k)) (j : Fin 512) :
    k0_pay3 (k0_pay1 q a Wo bo g1 e1) (k0_pay2 q a Wo bo g1 e1 W1) b1 W2 b2 g2 e2 (ix2 r j)
      = REF q' a' Wo bo' W1 b1' W2 b2' g1' e1' g2' e2' (ix2 s j) := by
  rw [stored]
  have h1 : ∀ k : Fin 512, normK (addf q (outK a Wo bo)) g1 e1 (ix2 r k) = normR (addf q' (outR a' Wo bo')) g1' e1' (ix2 s k) :=
    norm_row (fun k => congrArg₂ (· + ·) (hq k) (out_row ha hbo k)) hg1 he1
  exact norm_row (fun k => congrArg₂ (· + ·) (h1 k) (ff_row h1 hb1 hb2 k)) hg2 he2 j

variable (m : (ℓ : Loc nD τ sig) → Buf (Elt Ideal) ℓ)

/-- Where each window's block sits at each grid point: the two row windows and the result move one block of rows a point, the
    others stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![t.val, 0] :=
  (by decide +kernel : ∀ t : Fin grid0.N, _)

/-- The result array after the run is the reference's result over the argument arrays. -/
theorem final (c : Dev nD) : (Cert.KernelIdeal.Gen.dats m 0 c).arrAt 12 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  refine (Cert.KernelIdeal.Gen.dats m 0 c).arrAt_eq_of_covers 12 _ (by decide +kernel) fun t _ y => ?_
  blk_simp
  rw [after0_12]
  frame_out
  have h2 : iblk m c 2 t = m ((c : Thread nD τ).loc main_arg2) := by blk_ext! [iblk, V, idx t]
  have h4 : iblk m c 4 t = m ((c : Thread nD τ).loc main_arg4) := by blk_ext! [iblk, V, idx t]
  have h6 : iblk m c 6 t = m ((c : Thread nD τ).loc main_arg6) := by blk_ext! [iblk, V, idx t]
  rw [h2, h4, h6]
  have hy : y = ix2 (y 0 : Fin 512) (y 1 : Fin 512) := by blk_ext []
  have hs : t.val * 512 + (y 0).val < 16896 := by
    have h0 : t.val < 33 := t.isLt
    have h1 : (y 0).val < 512 := (y 0).isLt
    omega
  have he : (((View.whole main_v7).slice (win0_12.rect t)).emb y : S16896x512.Idx)
      = ix2 (⟨t.val * 512 + (y 0).val, hs⟩ : Fin 16896) (y 1 : Fin 512) := by blk_ext [idx t]
  rw [he]
  refine Eq.trans (congrArg _ hy) ?_
  refine stored_row (fun k => ?_) (fun k => ?_) (fun k => ?_) (fun k => ?_) (fun k => ?_) (fun k => ?_) (fun k => ?_)
    (fun k => ?_) (fun k => ?_) _ <;> blk_point [iblk, V, idx t]

/-- The reference's run leaves that composition. -/
theorem ref_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_out0 m' c
      = REF (m' (c.tc.loc Cert.ReferenceIdeal.main_arg0)) (m' (c.tc.loc Cert.ReferenceIdeal.main_arg1))
        (m' (c.tc.loc Cert.ReferenceIdeal.main_arg2)) (m' (c.tc.loc Cert.ReferenceIdeal.main_arg3))
        (m' (c.tc.loc Cert.ReferenceIdeal.main_arg4)) (m' (c.tc.loc Cert.ReferenceIdeal.main_arg5))
        (m' (c.tc.loc Cert.ReferenceIdeal.main_arg6)) (m' (c.tc.loc Cert.ReferenceIdeal.main_arg7))
        (m' (c.tc.loc Cert.ReferenceIdeal.main_arg8)) (m' (c.tc.loc Cert.ReferenceIdeal.main_arg9))
        (m' (c.tc.loc Cert.ReferenceIdeal.main_arg10)) (m' (c.tc.loc Cert.ReferenceIdeal.main_arg11)) := by
  unfold Cert.ReferenceIdeal.Value.res_out0 Cert.ReferenceIdeal.Value.res_main_v62 REF normR outR ffR
  rfl

end Cert.Proof.FeedForward
end
-- ==== Proof.Softmax.lean ====
/-
  Hand-written, untrusted. Softmax over the reals: subtracting one number or another before the exponentials gives the same
  weights, and a sum over 128 lanes that a mask cuts down to one run of 16 is the sum over that run.
-/
module

public import Idealize.ShloMosaic.Lib.Pipeline.ValueKit
public import Idealize.ShloMosaic.Lib.Pointwise

@[expose] public section

noncomputable section

namespace Cert.Proof.Softmax

open Idealize.ShloMosaic

/-- The largest of finitely many reals is a real. -/
theorem fold_max_real {n : Nat} (f : Fin (n + 1) → EReal) (h : ∀ k, ∃ r : ℝ, f k = r) :
    ∃ r : ℝ, Finset.univ.fold max (⊥ : EReal) f = r := by
  obtain ⟨i, -, hi⟩ := Finset.exists_mem_eq_sup Finset.univ Finset.univ_nonempty f
  obtain ⟨r, hr⟩ := h i
  exact ⟨r, (show Finset.univ.fold max (⊥ : EReal) f = _ from hi).trans hr⟩

/-- A sum of reals is a real. -/
theorem sum_coe {n : Nat} (x : Fin n → ℝ) : ∑ k, ((x k : ℝ) : EReal) = ((∑ k, x k : ℝ) : EReal) := by
  induction n with
  | zero => simp
  | succ n ih => rw [Fin.sum_univ_castSucc, Fin.sum_univ_castSucc, ih, EReal.coe_add]

/-- A product of a row of reals with a column of reals, plus a real, is a real. -/
theorem dot_real {n : Nat} (x w : Fin n → EReal) (b : EReal) (hx : ∀ k, ∃ r : ℝ, x k = r) (hw : ∀ k, ∃ r : ℝ, w k = r)
    (hb : ∃ r : ℝ, b = r) : ∃ r : ℝ, ∑ k, x k * w k + b = r := by
  choose x' hx' using hx
  choose w' hw' using hw
  obtain ⟨b', rfl⟩ := hb
  refine ⟨∑ k, x' k * w' k + b', ?_⟩
  simp only [hx', hw', ← EReal.coe_mul, sum_coe, ← EReal.coe_add]

/-- The quotient of a real by a positive real. -/
theorem div_real (a b : ℝ) (hb : 0 < b) : Ideal.div (a : EReal) (b : EReal) = ((a / b : ℝ) : EReal) := by
  unfold Ideal.div
  rw [if_neg (by exact_mod_cast hb.ne'), div_eq_mul_inv, EReal.coe_mul, EReal.coe_inv]

/-- Softmax with any real subtracted is softmax with nothing subtracted. -/
theorem softmax_real {n : Nat} (x : Fin (n + 1) → ℝ) (M y : ℝ) :
    Ideal.div (Ideal.exp ((y : EReal) - (M : EReal))) (∑ k, Ideal.exp ((x k : EReal) - (M : EReal)))
      = ((Real.exp y / ∑ k, Real.exp (x k) : ℝ) : EReal) := by
  simp only [← EReal.coe_sub]
  show Ideal.div ((Real.exp (y - M) : ℝ) : EReal) (∑ k, ((Real.exp (x k - M) : ℝ) : EReal)) = _
  rw [sum_coe, div_real _ _ (Finset.sum_pos (fun k _ => Real.exp_pos _) Finset.univ_nonempty)]
  simp only [Real.exp_sub, ← Finset.sum_div]
  congr 1
  exact div_div_div_cancel_right₀ (Real.exp_pos M).ne' _ _

/-- A sum over 128 lanes masked to the lanes of `j`'s run of 16. -/
theorem masked_sum (f : Fin 128 → EReal) (g : Fin 128 → EReal) (j : Fin 128)
    (hg : ∀ k : Fin 128, g k = if k.val / 16 = j.val / 16 then 1 else 0) :
    ∑ k, f k * g k = ∑ a : Fin 16, f ⟨j.val / 16 * 16 + a.val, by omega⟩ := by
  rw [Fin.sum_univ_tiles 8 16 rfl]
  rw [Finset.sum_eq_single (⟨j.val / 16, by omega⟩ : Fin 8)]
  · refine Finset.sum_congr rfl fun a _ => ?_
    rw [hg, if_pos (by show (j.val / 16 * 16 + a.val) / 16 = _; omega), mul_one]
  · intro b _ hb
    refine Finset.sum_eq_zero fun a _ => ?_
    rw [hg, if_neg, mul_zero]
    intro e
    refine hb (Fin.ext ?_)
    have e' : (b.val * 16 + a.val) / 16 = j.val / 16 := e
    show b.val = j.val / 16
    omega
  · intro hn
    exact absurd (Finset.mem_univ _) hn

/-- The kernel's weight of lane `j` — the largest logit of all 128 lanes subtracted, the sum masked — is the softmax over the
    16 lanes of `j`'s run. -/
theorem softmax_lanes (L g : Fin 128 → EReal) (hL : ∀ k, ∃ r : ℝ, L k = r) (j : Fin 128)
    (hg : ∀ k : Fin 128, g k = if k.val / 16 = j.val / 16 then 1 else 0) :
    Ideal.div (Ideal.exp (L j - Finset.univ.fold max ⊥ L)) (∑ k, Ideal.exp (L k - Finset.univ.fold max ⊥ L) * g k)
      = Ideal.div (Ideal.exp (L j - Finset.univ.fold max ⊥ fun a : Fin 16 => L ⟨j.val / 16 * 16 + a.val, by omega⟩))
          (∑ a : Fin 16, Ideal.exp (L ⟨j.val / 16 * 16 + a.val, by omega⟩
            - Finset.univ.fold max ⊥ fun a : Fin 16 => L ⟨j.val / 16 * 16 + a.val, by omega⟩)) := by
  rw [masked_sum (fun k => Ideal.exp (L k - Finset.univ.fold max ⊥ L)) g j hg]
  obtain ⟨M, hM⟩ := fold_max_real (n := 127) L hL
  obtain ⟨M', hM'⟩ := fold_max_real (n := 15) (fun a : Fin 16 => L ⟨j.val / 16 * 16 + a.val, by omega⟩) fun a => hL _
  rw [hM, hM']
  choose x hx using hL
  simp only [hx]
  rw [softmax_real (n := 15) (fun a : Fin 16 => x ⟨j.val / 16 * 16 + a.val, by omega⟩),
    softmax_real (n := 15) (fun a : Fin 16 => x ⟨j.val / 16 * 16 + a.val, by omega⟩)]

/-- Minus infinity's pattern. -/
theorem neg_inf : Ideal.ofBits .f32 0xFF800000#32 = (⊥ : EReal) := by simp [Ideal.ofBits, Ideal.ieee]

/-- Plus infinity's pattern. -/
theorem pos_inf : Ideal.ofBits .f32 0x7F800000#32 = (⊤ : EReal) := by simp [Ideal.ofBits, Ideal.ieee]

/-- A truth value read as a signed word and as an unsigned bit is one number. -/
theorem truth (b : BitVec 1) : FloatOps.sitofp (F := Ideal) .f32 (BitVec.setWidth 32 b) = FloatOps.uitofp (F := Ideal) .f32 b := by
  have h : b = 0#1 ∨ b = 1#1 := by revert b; decide
  rcases h with rfl | rfl <;> simp [FloatOps.sitofp, FloatOps.uitofp]

/-- Whether two lanes' heads are the same word, as a number. -/
theorem same_word {x j : Fin 128} {a b : BitVec 32} (ha : a = BitVec.ofNat 32 (x.val / 16)) (hb : b = BitVec.ofNat 32 (j.val / 16)) :
    FloatOps.sitofp (F := Ideal) .f32 (BitVec.setWidth 32 (IntOp.cmpi .eq a b))
      = if x.val / 16 = j.val / 16 then (1 : EReal) else 0 := by
  rw [truth, ha, hb]
  by_cases h : x.val / 16 = j.val / 16
  · rw [if_pos h, h]
    simp [IntOp.cmpi, FloatOps.uitofp]
  · rw [if_neg h]
    have hn : ¬ BitVec.ofNat 32 (x.val / 16) = BitVec.ofNat 32 (j.val / 16) := fun e => h (by
      have e' := congrArg BitVec.toNat e
      simp only [BitVec.toNat_ofNat] at e'
      omega)
    simp [IntOp.cmpi, FloatOps.uitofp, hn]

/-- What is below plus infinity in absolute value is a real. -/
theorem real_of_abs_lt {x : EReal} (h : max x (-x) < ⊤) : ∃ r : ℝ, x = r := by
  induction x with
  | bot => simp at h
  | top => simp at h
  | coe r => exact ⟨r, rfl⟩

end Cert.Proof.Softmax
end
-- ==== Proof.Sampling.lean ====
/-
  Hand-written, untrusted. The reference's sampling weights and base cells, as functions of arrays, and the kernel's of one
  block of rows: equal positions have equal weights and equal base cells.
-/
module

public import proofs.«01_k».proof.Defs
public import proofs.«01_k».proof.Proof.Gen.Kernel2Ideal.Value
public import proofs.«01_k».proof.Proof.Gen.Reference2Ideal.Run
public import proofs.«01_k».proof.Proof.Gen.Pre_finite
public import Idealize.ShloMosaic.Lib.Pipeline.ValueKit
public import Idealize.ShloMosaic.Lib.Pointwise
public import proofs.«01_k».proof.Proof.Softmax

@[expose] public section

set_option maxRecDepth 16384

noncomputable section

namespace Cert.Proof.Sampling

open Idealize.ShloMosaic Idealize.ShloMosaic.TcCoe Idealize.SL.Sem

section
open Cert.Reference2Ideal Cert.Reference2Ideal.Gen

/-- The four levels' side lengths, in the reference. -/
def sizeR : IVec S1x1x4x1 32 := broadcastInDim S1x1x4x1 ![2] bcast_S4_S1x1x4x1_2 (fun i => lit0 (S4.rowMajor i))

/-- A constant of every sample, in the reference. -/
def everyR (x : BitVec 32) : FVec Ideal S16896x8x4x4 .f32 :=
  broadcastInDim S16896x8x4x4 ![] bcast_S_S16896x8x4x4 (constant S_ .f32 x)

/-- A whole number for every sample, in the reference. -/
def everyI (x : BitVec 32) : IVec S16896x8x4x4 32 := broadcastInDim S16896x8x4x4 ![] bcast_S_S16896x8x4x4 (constantI S_ 32 x)

/-- The offsets of all queries, in the reference. -/
def offR (q : FVec Ideal S16896x512 .f32) (W : FVec Ideal S512x256 .f32) (b : FVec Ideal S256 .f32) :
    FVec Ideal S16896x8x4x4x2 .f32 :=
  shapeCast _ (addf (Host.dotGeneral dot_S16896x512_S512x256_S16896x256_1_0_0_1_n_n none q W)
    (broadcastInDim S16896x256 ![0, 1] bcast_S1x256_S16896x256_0_1 (broadcastInDim S1x256 ![1] bcast_S256_S1x256_1 b)))
    shapeCasts_S16896x256_S16896x8x4x4x2

/-- The positions along one axis, from that axis's reference points and offsets, in the reference. -/
def posR (ref : FVec Ideal S16896x1 .f32) (off : FVec Ideal S16896x8x4x4x1 .f32) : FVec Ideal S16896x8x4x4 .f32 :=
  have scale : FVec Ideal S16896x8x4x4 .f32 :=
    broadcastInDim S16896x8x4x4 ![0, 1, 2, 3] bcast_S1x1x4x1_S16896x8x4x4_0_1_2_3 (sitofp .f32 sizeR)
  subf (mulf (addf (broadcastInDim S16896x8x4x4 ![0, 1, 2, 3] bcast_S16896x1x1x1_S16896x8x4x4_0_1_2_3
      (broadcastInDim S16896x1x1x1 ![0] bcast_S16896_S16896x1x1x1_0 (shapeCast _ ref shapeCasts_S16896x1_S16896)))
    (Host.divf (shapeCast _ off shapeCasts_S16896x8x4x4x1_S16896x8x4x4) scale)) scale) (everyR 0x3F000000#32)

/-- The cell before each position, in the reference. -/
def cellR (p : FVec Ideal S16896x8x4x4 .f32) : IVec S16896x8x4x4 32 := fptosi 32 (Host.floor p)

/-- That cell kept inside its level, in the reference. -/
def baseR (p : FVec Ideal S16896x8x4x4 .f32) : IVec S16896x8x4x4 32 :=
  minsi (broadcastInDim S16896x8x4x4 ![0, 1, 2, 3] bcast_S1x1x4x1_S16896x8x4x4_0_1_2_3
    (subi sizeR (broadcastInDim S1x1x4x1 ![] bcast_S_S1x1x4x1 (constantI S_ 32 2#32)))) (maxsi (everyI 0#32) (cellR p))

/-- The linear weight of a cell for each position, in the reference. -/
def weightR (p : FVec Ideal S16896x8x4x4 .f32) (z : IVec S16896x8x4x4 32) : FVec Ideal S16896x8x4x4 .f32 :=
  addf (mulf (subf (everyR 0x3F800000#32) (subf p (Host.floor p))) (uitofp .f32 (cmpi .eq z (cellR p))))
    (mulf (subf p (Host.floor p)) (uitofp .f32 (cmpi .eq z (addi (cellR p) (everyI 1#32)))))

/-- The attention weights, in the reference. -/
def attnR (q : FVec Ideal S16896x512 .f32) (W : FVec Ideal S512x128 .f32) (b : FVec Ideal S128 .f32) :
    FVec Ideal S16896x8x16 .f32 :=
  have l : FVec Ideal S16896x8x16 .f32 :=
    shapeCast _ (addf (Host.dotGeneral dot_S16896x512_S512x128_S16896x128_1_0_0_1_n_n none q W)
      (broadcastInDim S16896x128 ![0, 1] bcast_S1x128_S16896x128_0_1 (broadcastInDim S1x128 ![1] bcast_S128_S1x128_1 b)))
      shapeCasts_S16896x128_S16896x8x16
  have spread : FVec Ideal S16896x8 .f32 → FVec Ideal S16896x8x16 .f32 := fun x =>
    broadcastInDim S16896x8x16 ![0, 1, 2] bcast_S16896x8x1_S16896x8x16_0_1_2
      (broadcastInDim S16896x8x1 ![0, 1] bcast_S16896x8_S16896x8x1_0_1 x)
  have e : FVec Ideal S16896x8x16 .f32 := Host.exp (subf l (spread (maximumf
    (broadcastInDim S16896x8 ![] bcast_S_S16896x8 (constant S_ .f32 0xFF800000#32))
    (Host.reduce FloatOps.maximumf l (constant S_ .f32 0xFF800000#32) reducesTo_S16896x8x16_S16896x8_d2 h_S_))))
  Host.divf e (spread (Host.reduceAdd e (constant S_ .f32 0x00000000#32) reducesTo_S16896x8x16_S16896x8_d2 h_S_))

/-- One array of samples, flat. -/
def flat {T : Type} (x : S16896x8x4x4.Idx → T) : S16896x128.Idx → T := shapeCast S16896x128 x shapeCasts_S16896x8x4x4_S16896x128

/-- Sample `j` of a flat row is head `j / 16`, level `j / 4 % 4`, point `j % 4`. -/
theorem flat_at {T : Type} (x : S16896x8x4x4.Idx → T) (s : Fin 16896) (j : Fin 128) :
    flat x (ix2 s j) = x (ix4 s ⟨j.val / 16, by omega⟩ ⟨j.val / 4 % 4, by omega⟩ ⟨j.val % 4, by omega⟩) := by
  pointwise [flat]

/-- Logit `i` of one row. -/
def logit (x : Fin 512 → EReal) (W : Fin 512 → Fin 128 → EReal) (b : Fin 128 → EReal) (i : Fin 128) : EReal :=
  ∑ k, x k * W k i + b i

/-- Softmax of one row of logits over the run of 16 that begins at lane `16 h`, at its element `a`. -/
def share (L : Fin 128 → EReal) (h : Fin 8) (a : Fin 16) : EReal :=
  Ideal.div (Ideal.exp (L ⟨h.val * 16 + a.val, by omega⟩ - Finset.univ.fold max ⊥ fun x : Fin 16 => L ⟨h.val * 16 + x.val, by omega⟩))
    (∑ y : Fin 16, Ideal.exp (L ⟨h.val * 16 + y.val, by omega⟩
      - Finset.univ.fold max ⊥ fun x : Fin 16 => L ⟨h.val * 16 + x.val, by omega⟩))

/-- The reference's attention weights are that softmax. -/
theorem attnR_at (q : FVec Ideal S16896x512 .f32) (W : FVec Ideal S512x128 .f32) (b : FVec Ideal S128 .f32) (s : Fin 16896)
    (h : Fin 8) (a : Fin 16) :
    attnR q W b (ix3 s h a) = share (logit (fun k => q (ix2 s k)) (fun k i => W (ix2 k i)) (fun i => b (ix1 i))) h a := by
  pointwise [attnR, share, logit]
  simp [Softmax.neg_inf]

/-- The reference's offsets, each a row of `q` times a column of `W` plus an entry of `b`. -/
theorem offR_at (q : FVec Ideal S16896x512 .f32) (W : FVec Ideal S512x256 .f32) (b : FVec Ideal S256 .f32) (s : Fin 16896)
    (h : Fin 8) (l k : Fin 4) (d : Fin 2) :
    offR q W b (ix5 s h l k d) = ∑ x : Fin 512, q (ix2 s x) * W (ix2 x (⟨h.val * 32 + l.val * 8 + k.val * 2 + d.val, by omega⟩ : Fin 256))
      + b (ix1 (⟨h.val * 32 + l.val * 8 + k.val * 2 + d.val, by omega⟩ : Fin 256)) := by
  pointwise [offR]

/-- The attention weights as samples, in the reference. -/
def attn4 (q : FVec Ideal S16896x512 .f32) (W : FVec Ideal S512x128 .f32) (b : FVec Ideal S128 .f32) :
    FVec Ideal S16896x8x4x4 .f32 := shapeCast _ (attnR q W b) shapeCasts_S16896x8x16_S16896x8x4x4

/-- Sample `(s, h, l, k)`'s attention weight is number `4 l + k` of head `h`. -/
theorem attn4_at (q : FVec Ideal S16896x512 .f32) (W : FVec Ideal S512x128 .f32) (b : FVec Ideal S128 .f32) (s : Fin 16896)
    (h : Fin 8) (l k : Fin 4) : attn4 q W b (ix4 s h l k) = attnR q W b (ix3 s h ⟨l.val * 4 + k.val, by omega⟩) := by
  pointwise [attn4]

/-- The horizontal positions, in the reference. -/
def posX (ref : FVec Ideal S16896x2 .f32) (off : FVec Ideal S16896x8x4x4x2 .f32) : FVec Ideal S16896x8x4x4 .f32 :=
  posR (extractStridedSlice S16896x1 ![0, 0] ref slices_S16896x2_S16896x1_0_0)
    (extractStridedSlice S16896x8x4x4x1 ![0, 0, 0, 0, 0] off slices_S16896x8x4x4x2_S16896x8x4x4x1_0_0_0_0_0)

/-- The vertical positions, in the reference. -/
def posY (ref : FVec Ideal S16896x2 .f32) (off : FVec Ideal S16896x8x4x4x2 .f32) : FVec Ideal S16896x8x4x4 .f32 :=
  posR (extractStridedSlice S16896x1 ![0, 1] ref slices_S16896x2_S16896x1_0_1)
    (extractStridedSlice S16896x8x4x4x1 ![0, 0, 0, 0, 1] off slices_S16896x8x4x4x2_S16896x8x4x4x1_0_0_0_0_1)

/-- The table rows of the samples whose base cells are `bx` and `by'`, in the reference. -/
def indexR (bx by' : IVec S16896x8x4x4 32) : IVec S16896x8x4x4 32 :=
  addi (addi (broadcastInDim S16896x8x4x4 ![0, 1, 2, 3] bcast_S1x8x4x1_S16896x8x4x4_0_1_2_3
    (addi (broadcastInDim S1x8x4x1 ![0, 1, 2, 3] bcast_S1x8x1x1_S1x8x4x1_0_1_2_3
        (muli (broadcastInDim S1x8x1x1 ![] bcast_S_S1x8x1x1 (constantI S_ 32 4168#32))
          (broadcastInDim S1x8x1x1 ![1] bcast_S8_S1x8x1x1_1 (iotaInDim S8 32 0))))
      (broadcastInDim S1x8x4x1 ![0, 1, 2, 3] bcast_S1x1x4x1_S1x8x4x1_0_1_2_3
        (broadcastInDim S1x1x4x1 ![2] bcast_S4_S1x1x4x1_2 (fun i => lit1 (S4.rowMajor i))))))
    (muli by' (broadcastInDim S16896x8x4x4 ![0, 1, 2, 3] bcast_S1x1x4x1_S16896x8x4x4_0_1_2_3 sizeR))) bx

end

section
open Cert.Kernel2Ideal Cert.Kernel2Ideal.Gen

/-- The cell before each position, in the kernel. -/
def cellK (p : FVec Ideal S256x128 .f32) : IVec S256x128 32 := fptosi 32 (floor p)

/-- The positions along one axis, from that axis's reference points and offsets, in the kernel. -/
def posK (size : IVec S256x128 32) (ref : FVec Ideal S256x1 .f32) (off : FVec Ideal S256x128 .f32) : FVec Ideal S256x128 .f32 :=
  subf (mulf (addf (broadcastTo S256x128 ref broadcasts_S256x1_S256x128) (divf off (sitofp .f32 size))) (sitofp .f32 size))
    (broadcast S256x128 (Scalar.ofBits .f32 0x3F000000#32))

/-- That cell kept inside its level, in the kernel. -/
def baseK (size : IVec S256x128 32) (p : FVec Ideal S256x128 .f32) : IVec S256x128 32 :=
  minsi (subi size (broadcast S256x128 2#32)) (maxsi (broadcast S256x128 0#32) (cellK p))

/-- The linear weight of a cell for each position, in the kernel. -/
def weightK (p : FVec Ideal S256x128 .f32) (z : IVec S256x128 32) : FVec Ideal S256x128 .f32 :=
  addf (mulf (subf (broadcast S256x128 (Scalar.ofBits .f32 0x3F800000#32)) (subf p (floor p)))
      (sitofp .f32 (extui 32 (cmpi .eq z (cellK p)) natLt_1_32)))
    (mulf (subf p (floor p)) (sitofp .f32 (extui 32 (cmpi .eq z (addi (cellK p) (broadcast S256x128 1#32))) natLt_1_32)))

/-- The lane number. -/
def laneK : IVec S256x128 32 := iota .tc S256x128 32 [1] iota_S256x128_d1_w32

/-- The level of each lane. -/
def levelK : IVec S256x128 32 := k0_pay10 laneK 16#32

/-- The side length of each lane's level. -/
def sizeK : IVec S256x128 32 := k0_pay14 levelK (k0_pay11 laneK 16#32) (k0_pay12 laneK 16#32) k0_pay13

/-- The attention weights of a block of logits' exponentials. -/
def attnK (e : FVec Ideal S256x128 .f32) : FVec Ideal S256x128 .f32 :=
  k0_pay9 e (iota .tc S128x128 32 [0] iota_S128x128_d0_w32) 16#32 k0_pay6 k0_pay7 k0_pay8

/-- The left half of the offsets' block: the horizontal offsets. -/
def leftK (v : FVec Ideal S256x256 .f32) : FVec Ideal S256x128 .f32 :=
  extractStridedSlice S256x128 ![0, 0] v slices_S256x256_o0_0_S256x128

/-- The base cells, horizontal, as the kernel computes them. -/
theorem baseX_eq (v : FVec Ideal S256x256 .f32) (sz : IVec S256x128 32) (r : Vec Ideal S256x1 .f32) :
    k0_pay26 v sz r = baseK sz (posK sz r (leftK v)) := rfl

/-- The base cells, vertical. -/
theorem baseY_eq (off : FVec Ideal S256x128 .f32) (sz : IVec S256x128 32) (r : Vec Ideal S256x1 .f32) :
    k0_pay35 sz (k0_pay19 sz) off r = baseK sz (posK sz r off) := rfl

/-- The stored horizontal weights of the base cells. -/
theorem lowX_eq (v : FVec Ideal S256x256 .f32) (a : FVec Ideal S256x128 .f32) (sz : IVec S256x128 32) (r : Vec Ideal S256x1 .f32) :
    k0_pay27 v a sz r = mulf a (weightK (posK sz r (leftK v)) (baseK sz (posK sz r (leftK v)))) := rfl

/-- The stored horizontal weights of the cells after the base cells. -/
theorem highX_eq (v : FVec Ideal S256x256 .f32) (a : FVec Ideal S256x128 .f32) (sz : IVec S256x128 32) (r : Vec Ideal S256x1 .f32) :
    k0_pay29 a (k0_pay23 v sz r) (k0_pay25 v sz r) (k0_pay26 v sz r) (k0_pay28 v sz r) 1#32
      = mulf a (weightK (posK sz r (leftK v)) (addi (baseK sz (posK sz r (leftK v))) (broadcast S256x128 1#32))) := rfl

/-- The stored vertical weights of the base cells. -/
theorem lowY_eq (off : FVec Ideal S256x128 .f32) (sz : IVec S256x128 32) (r : Vec Ideal S256x1 .f32) :
    k0_pay36 sz (k0_pay19 sz) off r = weightK (posK sz r off) (baseK sz (posK sz r off)) := rfl

/-- The stored vertical weights of the cells after the base cells. -/
theorem highY_eq (off : FVec Ideal S256x128 .f32) (sz : IVec S256x128 32) (r : Vec Ideal S256x1 .f32) :
    k0_pay1 (k0_pay32 (k0_pay19 sz) off r) (k0_pay34 (k0_pay19 sz) off r) (k0_pay35 sz (k0_pay19 sz) off r)
        (k0_pay37 sz (k0_pay19 sz) off r) k0_pay38
      = weightK (posK sz r off) (addi (baseK sz (posK sz r off)) (broadcast S256x128 1#32)) := rfl

/-- Each lane's side length, read from the reference's table. -/
theorem sizeK_at (r : Fin 256) (j : Fin 128) : sizeK (ix2 r j) = Cert.Reference2Ideal.lit0 ⟨j.val / 4 % 4, by omega⟩ := by
  pointwise [sizeK, levelK, laneK, k0_pay10, k0_pay11, k0_pay12, k0_pay13, k0_pay14]
  revert j
  decide +kernel

/-- Each lane's level's first cell, read from the reference's table. -/
theorem startK_at (r : Fin 256) (j : Fin 128) :
    k0_pay15 levelK (ix2 r j) = Cert.Reference2Ideal.lit1 ⟨j.val / 4 % 4, by omega⟩ := by
  pointwise [levelK, laneK, k0_pay10, k0_pay15]
  revert j
  decide +kernel

/-- Each lane's head's first table row. -/
theorem headK_at (r : Fin 256) (j : Fin 128) :
    k0_pay18 (k0_pay16 laneK) (k0_pay17 laneK) 1#32 (ix2 r j) = 4168#32 * BitVec.ofNat 32 (j.val / 16) := by
  pointwise [laneK, k0_pay16, k0_pay17, k0_pay18]
  revert j
  decide +kernel

/-- The stored offsets: a row of the block times a column of the weights plus an entry of the bias. -/
theorem offK_at (x : Vec Ideal S256x512 .f32) (W : Vec Ideal S512x256 .f32) (b : Vec Ideal S1x256 .f32) (r : Fin 256)
    (i : Fin 256) : k0_pay4 x W b (ix2 r i) = ∑ k : Fin 512, x (ix2 r k) * W (ix2 k i) + b (ix2 (0 : Fin 1) i) := by
  pointwise [k0_pay4]

/-- The exponentials of a row's logits, the row's largest subtracted. -/
theorem expK_at (x : Vec Ideal S256x512 .f32) (W : Vec Ideal S512x128 .f32) (b : Vec Ideal S1x128 .f32) (r : Fin 256)
    (j : Fin 128) :
    k0_pay5 x W b (ix2 r j)
      = Ideal.exp (logit (fun k => x (ix2 r k)) (fun k i => W (ix2 k i)) (fun i => b (ix2 (0 : Fin 1) i)) j
        - Finset.univ.fold max ⊥ (logit (fun k => x (ix2 r k)) (fun k i => W (ix2 k i)) (fun i => b (ix2 (0 : Fin 1) i)))) := by
  pointwise [k0_pay5]
  simp only [Softmax.neg_inf]
  rfl

/-- The kernel's attention weight of lane `j`: its exponential over the masked sum of its row's. -/
theorem attnK_at (l : FVec Ideal S256x128 .f32) (r : Fin 256) (j : Fin 128) :
    attnK l (ix2 r j) = Ideal.div (l (ix2 r j)) (∑ k : Fin 128, l (ix2 r k) * (if k.val / 16 = j.val / 16 then 1 else 0)) := by
  pointwise [attnK, k0_pay6, k0_pay7, k0_pay8, k0_pay9]
  refine congrArg _ (Finset.sum_congr rfl fun x _ => congrArg _ (Softmax.same_word ?_ ?_))
  · revert x
    decide +kernel
  · revert j
    decide +kernel

end

/-- Equal positions and equal cells have equal weights. -/
theorem weight_row {pK : FVec Ideal Cert.Kernel2Ideal.S256x128 .f32} {zK : IVec Cert.Kernel2Ideal.S256x128 32}
    {pR : FVec Ideal Cert.Reference2Ideal.S16896x8x4x4 .f32} {zR : IVec Cert.Reference2Ideal.S16896x8x4x4 32} {r : Fin 256} {j : Fin 128}
    {s : Fin 16896} {h : Fin 8} {l k : Fin 4} (hp : pK (ix2 r j) = pR (ix4 s h l k)) (hz : zK (ix2 r j) = zR (ix4 s h l k)) :
    weightK pK zK (ix2 r j) = weightR pR zR (ix4 s h l k) := by
  pointwise [weightK, weightR, cellK, cellR, everyR, everyI]
  simp only [hp, hz, Softmax.truth]

/-- The flat place of entry `l` of a list of four is `l`. -/
theorem place4 (l : Fin 4) : Cert.Reference2Ideal.S4.rowMajor (ix1 l) = (l : Fin 4) := Fin.ext (by
  show (Cert.Reference2Ideal.S4.rowMajor (ix1 l)).val = l.val
  revert l
  decide +kernel)

/-- Equal positions have equal base cells. -/
theorem base_row {pK : FVec Ideal Cert.Kernel2Ideal.S256x128 .f32} {pR : FVec Ideal Cert.Reference2Ideal.S16896x8x4x4 .f32}
    {r : Fin 256} {j : Fin 128} {s : Fin 16896} {h : Fin 8} {k : Fin 4}
    (hp : pK (ix2 r j) = pR (ix4 s h ⟨j.val / 4 % 4, by omega⟩ k)) :
    baseK sizeK pK (ix2 r j) = baseR pR (ix4 s h ⟨j.val / 4 % 4, by omega⟩ k) := by
  have hs := sizeK_at r j
  pointwise [baseK, baseR, cellK, cellR, everyI, sizeR]
  simp only [hp, hs, place4]

/-- Equal reference points and equal offsets have equal positions. -/
theorem pos_row {refK : FVec Ideal Cert.Kernel2Ideal.S256x1 .f32} {offK : FVec Ideal Cert.Kernel2Ideal.S256x128 .f32}
    {ref : FVec Ideal Cert.Reference2Ideal.S16896x1 .f32} {off : FVec Ideal Cert.Reference2Ideal.S16896x8x4x4x1 .f32}
    {r : Fin 256} {j : Fin 128} {s : Fin 16896} {h : Fin 8} {k : Fin 4} (hr : refK (ix2 r (0 : Fin 1)) = ref (ix2 s (0 : Fin 1)))
    (ho : offK (ix2 r j) = off (ix5 s h ⟨j.val / 4 % 4, by omega⟩ k (0 : Fin 1))) :
    posK sizeK refK offK (ix2 r j) = posR ref off (ix4 s h ⟨j.val / 4 % 4, by omega⟩ k) := by
  have hs := sizeK_at r j
  pointwise [posK, posR, everyR, sizeR]
  simp only [hr, ho, hs, place4]

/-- Equal base cells have equal table rows. -/
theorem index_row {bxK byK : IVec Cert.Kernel2Ideal.S256x128 32} {bxR byR : IVec Cert.Reference2Ideal.S16896x8x4x4 32}
    {r : Fin 256} {j : Fin 128} {s : Fin 16896} {k : Fin 4}
    (hx : bxK (ix2 r j) = bxR (ix4 s ⟨j.val / 16, by omega⟩ ⟨j.val / 4 % 4, by omega⟩ k))
    (hy : byK (ix2 r j) = byR (ix4 s ⟨j.val / 16, by omega⟩ ⟨j.val / 4 % 4, by omega⟩ k)) :
    Cert.Kernel2Ideal.Gen.k0_pay2 sizeK (Cert.Kernel2Ideal.Gen.k0_pay15 levelK)
        (Cert.Kernel2Ideal.Gen.k0_pay18 (Cert.Kernel2Ideal.Gen.k0_pay16 laneK) (Cert.Kernel2Ideal.Gen.k0_pay17 laneK) 1#32)
        bxK byK (ix2 r j)
      = indexR bxR byR (ix4 s ⟨j.val / 16, by omega⟩ ⟨j.val / 4 % 4, by omega⟩ k) := by
  have hs := sizeK_at r j
  have ht := startK_at r j
  have hh := headK_at r j
  pointwise [Cert.Kernel2Ideal.Gen.k0_pay2, indexR, sizeR]
  simp only [hx, hy, hs, ht, hh, place4]
  rfl

end Cert.Proof.Sampling
end
-- ==== Proof.Samples.lean ====
/-
  Hand-written, untrusted. The kernel that makes the samples: what each of its result arrays holds after the run, beside the
  reference's results. Row `r` of block `t` of every result is the reference's row `256 t + r`.
-/
module

public import proofs.«01_k».proof.Proof.Sampling

@[expose] public section

set_option maxRecDepth 16384

noncomputable section

namespace Cert.Proof.Samples

open Idealize.ShloMosaic Idealize.ShloMosaic.TcCoe Idealize.SL.Sem
open Cert.Kernel2Ideal Cert.Kernel2Ideal.Gen
open Cert.Proof.Sampling

/-! ## One row of a block -/

/-- The reference's column of the offsets' weights that column `i` of the kernel's holds: axis `i / 128`, head `i / 16 % 8`,
    level `i / 4 % 4`, point `i % 4`. -/
def column (i : Fin 256) : Fin 256 := ⟨i.val / 16 % 8 * 32 + i.val / 4 % 4 * 8 + i.val % 4 * 2 + i.val / 128, by omega⟩

/-- Row `r` of a kernel's blocks reads row `s` of the reference's arguments, and the weights are the reference's, the offsets'
    columns in another order. -/
structure Reads (x : FVec Ideal S256x512 .f32) (cx cy : Vec Ideal S256x1 .f32) (x4 : FVec Ideal S512x256 .f32)
    (x5 : FVec Ideal S1x256 .f32) (x6 : FVec Ideal S512x128 .f32) (x7 : FVec Ideal S1x128 .f32)
    (q : FVec Ideal Cert.Reference2Ideal.S16896x512 .f32) (ref : FVec Ideal Cert.Reference2Ideal.S16896x2 .f32)
    (Wo : FVec Ideal Cert.Reference2Ideal.S512x256 .f32) (bo : FVec Ideal Cert.Reference2Ideal.S256 .f32)
    (Wa : FVec Ideal Cert.Reference2Ideal.S512x128 .f32) (ba : FVec Ideal Cert.Reference2Ideal.S128 .f32)
    (r : Fin 256) (s : Fin 16896) : Prop where
  hq : ∀ k, x (ix2 r k) = q (ix2 s k)
  hx : cx (ix2 r (0 : Fin 1)) = ref (ix2 s (0 : Fin 2))
  hy : cy (ix2 r (0 : Fin 1)) = ref (ix2 s (1 : Fin 2))
  hW : ∀ k i, x4 (ix2 k i) = Wo (ix2 k (column i))
  hb : ∀ i, x5 (ix2 (0 : Fin 1) i) = bo (ix1 (column i))
  hA : ∀ k i, x6 (ix2 k i) = Wa (ix2 k i)
  hB : ∀ i, x7 (ix2 (0 : Fin 1) i) = ba (ix1 i)

variable {x : FVec Ideal S256x512 .f32} {cx cy : Vec Ideal S256x1 .f32} {x4 : FVec Ideal S512x256 .f32}
    {x5 : FVec Ideal S1x256 .f32} {x6 : FVec Ideal S512x128 .f32} {x7 : FVec Ideal S1x128 .f32}
    {q : FVec Ideal Cert.Reference2Ideal.S16896x512 .f32} {ref : FVec Ideal Cert.Reference2Ideal.S16896x2 .f32}
    {Wo : FVec Ideal Cert.Reference2Ideal.S512x256 .f32} {bo : FVec Ideal Cert.Reference2Ideal.S256 .f32}
    {Wa : FVec Ideal Cert.Reference2Ideal.S512x128 .f32} {ba : FVec Ideal Cert.Reference2Ideal.S128 .f32}
    {r : Fin 256} {s : Fin 16896}

/-- The offsets' block holds the reference's offsets. -/
theorem offset (R : Reads x cx cy x4 x5 x6 x7 q ref Wo bo Wa ba r s) (j : Fin 128) (d : Fin 2) :
    k0_pay4 x x4 x5 (ix2 r (⟨d.val * 128 + j.val, by omega⟩ : Fin 256))
      = offR q Wo bo (ix5 s ⟨j.val / 16, by omega⟩ ⟨j.val / 4 % 4, by omega⟩ ⟨j.val % 4, by omega⟩ d) := by
  rw [offK_at, offR_at]
  have e : column ⟨d.val * 128 + j.val, by omega⟩
      = ⟨j.val / 16 * 32 + j.val / 4 % 4 * 8 + j.val % 4 * 2 + d.val, by omega⟩ := Fin.ext (by
    show (d.val * 128 + j.val) / 16 % 8 * 32 + (d.val * 128 + j.val) / 4 % 4 * 8 + (d.val * 128 + j.val) % 4 * 2
      + (d.val * 128 + j.val) / 128 = _
    have h1 : (d.val * 128 + j.val) / 16 % 8 = j.val / 16 := by omega
    have h2 : (d.val * 128 + j.val) / 4 % 4 = j.val / 4 % 4 := by omega
    have h3 : (d.val * 128 + j.val) % 4 = j.val % 4 := by omega
    have h4 : (d.val * 128 + j.val) / 128 = d.val := by omega
    rw [h1, h2, h3, h4])
  simp only [R.hq, R.hW, R.hb, e]

/-- The left half of the offsets' block. -/
theorem left_at (v : FVec Ideal S256x256 .f32) (r : Fin 256) (j : Fin 128) : leftK v (ix2 r j) = v (ix2 r ⟨j.val, by omega⟩) := by
  pointwise [leftK]

/-- The right half of the offsets' block. -/
theorem right_at (v : FVec Ideal S256x256 .f32) (r : Fin 256) (j : Fin 128) :
    k0_pay20 v (ix2 r j) = v (ix2 r ⟨128 + j.val, by omega⟩) := by
  pointwise [k0_pay20]

/-- The horizontal positions of a row. -/
theorem posX_row (R : Reads x cx cy x4 x5 x6 x7 q ref Wo bo Wa ba r s) (j : Fin 128) :
    posK sizeK cx (leftK (k0_pay4 x x4 x5)) (ix2 r j)
      = posX ref (offR q Wo bo) (ix4 s ⟨j.val / 16, by omega⟩ ⟨j.val / 4 % 4, by omega⟩ ⟨j.val % 4, by omega⟩) := by
  refine pos_row (R.hx.trans ?_) ?_
  · pointwise []
  · rw [left_at]
    refine Eq.trans (congrArg _ (congrArg (ix2 r) (Fin.ext ?_))) ((offset R j 0).trans ?_)
    · show j.val = 0 * 128 + j.val
      omega
    · pointwise []

/-- The vertical positions of a row. -/
theorem posY_row (R : Reads x cx cy x4 x5 x6 x7 q ref Wo bo Wa ba r s) (j : Fin 128) :
    posK sizeK cy (k0_pay20 (k0_pay4 x x4 x5)) (ix2 r j)
      = posY ref (offR q Wo bo) (ix4 s ⟨j.val / 16, by omega⟩ ⟨j.val / 4 % 4, by omega⟩ ⟨j.val % 4, by omega⟩) := by
  refine pos_row (R.hy.trans ?_) ?_
  · pointwise []
  · rw [right_at]
    refine Eq.trans (congrArg _ (congrArg (ix2 r) (Fin.ext ?_))) ((offset R j 1).trans ?_)
    · show 128 + j.val = 1 * 128 + j.val
      omega
    · pointwise []

/-- The attention weights of a row, of real logits. -/
theorem attn_row (R : Reads x cx cy x4 x5 x6 x7 q ref Wo bo Wa ba r s) (hq : ∀ i, ∃ y : ℝ, q i = y) (hA : ∀ i, ∃ y : ℝ, Wa i = y)
    (hB : ∀ i, ∃ y : ℝ, ba i = y) (j : Fin 128) :
    attnK (k0_pay5 x x6 x7) (ix2 r j)
      = attn4 q Wa ba (ix4 s ⟨j.val / 16, by omega⟩ ⟨j.val / 4 % 4, by omega⟩ ⟨j.val % 4, by omega⟩) := by
  rw [attnK_at, attn4_at, attnR_at]
  simp only [expK_at, R.hq, R.hA, R.hB]
  refine (Softmax.softmax_lanes _ _ (fun k => Softmax.dot_real _ _ _ (fun _ => hq _) (fun _ => hA _) (hB _)) j fun k => rfl).trans ?_
  have e : j = ⟨j.val / 16 * 16 + (j.val / 4 % 4 * 4 + j.val % 4), by omega⟩ := Fin.ext (by
    show j.val = j.val / 16 * 16 + (j.val / 4 % 4 * 4 + j.val % 4)
    omega)
  unfold share
  rw [← e]
  rfl

/-- The values, in the reference. -/
def Val (q : FVec Ideal Cert.Reference2Ideal.S16896x512 .f32) (Wv : FVec Ideal Cert.Reference2Ideal.S512x512 .f32)
    (bv : FVec Ideal Cert.Reference2Ideal.S512 .f32) : FVec Ideal Cert.Reference2Ideal.S16896x512 .f32 :=
  addf (Host.dotGeneral Cert.Reference2Ideal.dot_S16896x512_S512x512_S16896x512_1_0_0_1_n_n none q Wv)
    (broadcastInDim Cert.Reference2Ideal.S16896x512 ![0, 1] Cert.Reference2Ideal.Gen.bcast_S1x512_S16896x512_0_1
      (broadcastInDim Cert.Reference2Ideal.S1x512 ![1] Cert.Reference2Ideal.Gen.bcast_S512_S1x512_1 bv))

/-- The values of a row: its query times the weights, plus the biases. -/
theorem value_row {b : FVec Ideal S1x512 .f32} {Wv : FVec Ideal S512x512 .f32} {bv : FVec Ideal Cert.Reference2Ideal.S512 .f32}
    (hq : ∀ k, x (ix2 r k) = q (ix2 s k)) (hb : ∀ i, b (ix2 (0 : Fin 1) i) = bv (ix1 i)) (j : Fin 512) :
    k0_pay3 x Wv b (ix2 r j) = Val q Wv bv (ix2 s j) := by
  pointwise [k0_pay3, Val]
  simp only [hq, hb]

/-! ## The reference's results, each as a function of the arguments -/

/-- The weights of the left cells. -/
def A0 (q : FVec Ideal Cert.Reference2Ideal.S16896x512 .f32) (ref : FVec Ideal Cert.Reference2Ideal.S16896x2 .f32)
    (Wo : FVec Ideal Cert.Reference2Ideal.S512x256 .f32) (bo : FVec Ideal Cert.Reference2Ideal.S256 .f32)
    (Wa : FVec Ideal Cert.Reference2Ideal.S512x128 .f32) (ba : FVec Ideal Cert.Reference2Ideal.S128 .f32) :
    FVec Ideal Cert.Reference2Ideal.S16896x128 .f32 :=
  flat (mulf (attn4 q Wa ba) (weightR (posX ref (offR q Wo bo)) (baseR (posX ref (offR q Wo bo)))))

/-- The weights of the right cells. -/
def A1 (q : FVec Ideal Cert.Reference2Ideal.S16896x512 .f32) (ref : FVec Ideal Cert.Reference2Ideal.S16896x2 .f32)
    (Wo : FVec Ideal Cert.Reference2Ideal.S512x256 .f32) (bo : FVec Ideal Cert.Reference2Ideal.S256 .f32)
    (Wa : FVec Ideal Cert.Reference2Ideal.S512x128 .f32) (ba : FVec Ideal Cert.Reference2Ideal.S128 .f32) :
    FVec Ideal Cert.Reference2Ideal.S16896x128 .f32 :=
  flat (mulf (attn4 q Wa ba) (weightR (posX ref (offR q Wo bo)) (addi (baseR (posX ref (offR q Wo bo))) (everyI 1#32))))

/-- The weights of the upper cells. -/
def B0 (q : FVec Ideal Cert.Reference2Ideal.S16896x512 .f32) (ref : FVec Ideal Cert.Reference2Ideal.S16896x2 .f32)
    (Wo : FVec Ideal Cert.Reference2Ideal.S512x256 .f32) (bo : FVec Ideal Cert.Reference2Ideal.S256 .f32) :
    FVec Ideal Cert.Reference2Ideal.S16896x128 .f32 :=
  flat (weightR (posY ref (offR q Wo bo)) (baseR (posY ref (offR q Wo bo))))

/-- The weights of the lower cells. -/
def B1 (q : FVec Ideal Cert.Reference2Ideal.S16896x512 .f32) (ref : FVec Ideal Cert.Reference2Ideal.S16896x2 .f32)
    (Wo : FVec Ideal Cert.Reference2Ideal.S512x256 .f32) (bo : FVec Ideal Cert.Reference2Ideal.S256 .f32) :
    FVec Ideal Cert.Reference2Ideal.S16896x128 .f32 :=
  flat (weightR (posY ref (offR q Wo bo)) (addi (baseR (posY ref (offR q Wo bo))) (everyI 1#32)))

/-- The table rows. -/
def Ix (q : FVec Ideal Cert.Reference2Ideal.S16896x512 .f32) (ref : FVec Ideal Cert.Reference2Ideal.S16896x2 .f32)
    (Wo : FVec Ideal Cert.Reference2Ideal.S512x256 .f32) (bo : FVec Ideal Cert.Reference2Ideal.S256 .f32) :
    IVec Cert.Reference2Ideal.S16896x128 32 :=
  flat (indexR (baseR (posX ref (offR q Wo bo))) (baseR (posY ref (offR q Wo bo))))

/-- A cell after another, in the kernel and in the reference. -/
theorem next_row {zK : IVec S256x128 32} {zR : IVec Cert.Reference2Ideal.S16896x8x4x4 32} {j : Fin 128} {h : Fin 8} {l k : Fin 4}
    (e : zK (ix2 r j) = zR (ix4 s h l k)) :
    addi zK (broadcast S256x128 1#32) (ix2 r j) = addi zR (everyI 1#32) (ix4 s h l k) := by
  pointwise [everyI]
  simp only [e]

/-- Row `r` of the stored weights of the left cells. -/
theorem a0_row (R : Reads x cx cy x4 x5 x6 x7 q ref Wo bo Wa ba r s) (hq : ∀ i, ∃ y : ℝ, q i = y) (hA : ∀ i, ∃ y : ℝ, Wa i = y)
    (hB : ∀ i, ∃ y : ℝ, ba i = y) (j : Fin 128) :
    k0_pay27 (k0_pay4 x x4 x5) (attnK (k0_pay5 x x6 x7)) sizeK cx (ix2 r j) = A0 q ref Wo bo Wa ba (ix2 s j) := by
  rw [lowX_eq]
  refine Eq.trans ?_ (flat_at _ s j).symm
  exact congrArg₂ (· * ·) (attn_row R hq hA hB j) (weight_row (posX_row R j) (base_row (posX_row R j)))

/-- Row `r` of the stored weights of the right cells. -/
theorem a1_row (R : Reads x cx cy x4 x5 x6 x7 q ref Wo bo Wa ba r s) (hq : ∀ i, ∃ y : ℝ, q i = y) (hA : ∀ i, ∃ y : ℝ, Wa i = y)
    (hB : ∀ i, ∃ y : ℝ, ba i = y) (j : Fin 128) :
    k0_pay29 (attnK (k0_pay5 x x6 x7)) (k0_pay23 (k0_pay4 x x4 x5) sizeK cx) (k0_pay25 (k0_pay4 x x4 x5) sizeK cx)
        (k0_pay26 (k0_pay4 x x4 x5) sizeK cx) (k0_pay28 (k0_pay4 x x4 x5) sizeK cx) 1#32 (ix2 r j)
      = A1 q ref Wo bo Wa ba (ix2 s j) := by
  rw [highX_eq]
  refine Eq.trans ?_ (flat_at _ s j).symm
  exact congrArg₂ (· * ·) (attn_row R hq hA hB j) (weight_row (posX_row R j) (next_row (base_row (posX_row R j))))

/-- Row `r` of the stored weights of the upper cells. -/
theorem b0_row (R : Reads x cx cy x4 x5 x6 x7 q ref Wo bo Wa ba r s) (j : Fin 128) :
    k0_pay36 sizeK (k0_pay19 sizeK) (k0_pay20 (k0_pay4 x x4 x5)) cy (ix2 r j) = B0 q ref Wo bo (ix2 s j) := by
  rw [lowY_eq]
  refine Eq.trans ?_ (flat_at _ s j).symm
  exact weight_row (posY_row R j) (base_row (posY_row R j))

/-- Row `r` of the stored weights of the lower cells. -/
theorem b1_row (R : Reads x cx cy x4 x5 x6 x7 q ref Wo bo Wa ba r s) (j : Fin 128) :
    k0_pay1 (k0_pay32 (k0_pay19 sizeK) (k0_pay20 (k0_pay4 x x4 x5)) cy) (k0_pay34 (k0_pay19 sizeK) (k0_pay20 (k0_pay4 x x4 x5)) cy)
        (k0_pay35 sizeK (k0_pay19 sizeK) (k0_pay20 (k0_pay4 x x4 x5)) cy)
        (k0_pay37 sizeK (k0_pay19 sizeK) (k0_pay20 (k0_pay4 x x4 x5)) cy) k0_pay38 (ix2 r j)
      = B1 q ref Wo bo (ix2 s j) := by
  rw [highY_eq]
  refine Eq.trans ?_ (flat_at _ s j).symm
  exact weight_row (posY_row R j) (next_row (base_row (posY_row R j)))

/-- Row `r` of the stored table rows. -/
theorem ix_row (R : Reads x cx cy x4 x5 x6 x7 q ref Wo bo Wa ba r s) (j : Fin 128) :
    k0_pay2 sizeK (k0_pay15 levelK) (k0_pay18 (k0_pay16 laneK) (k0_pay17 laneK) 1#32) (k0_pay26 (k0_pay4 x x4 x5) sizeK cx)
        (k0_pay35 sizeK (k0_pay19 sizeK) (k0_pay20 (k0_pay4 x x4 x5)) cy) (ix2 r j)
      = Ix q ref Wo bo (ix2 s j) := by
  rw [baseX_eq, baseY_eq]
  refine Eq.trans ?_ (flat_at _ s j).symm
  exact index_row (base_row (posX_row R j)) (base_row (posY_row R j))

end Cert.Proof.Samples
end
-- ==== Proof.SampleArrays.lean ====
/-
  Hand-written, untrusted. The sampling kernel's result arrays after the run, the reference's, and what the precondition says.
-/
module

public import proofs.«01_k».proof.Proof.Samples
public import Idealize.ShloMosaic.Lib.ReduceAll

@[expose] public section

set_option maxRecDepth 16384

noncomputable section

namespace Cert.Proof.SampleArrays

open Idealize.ShloMosaic Idealize.ShloMosaic.TcCoe Idealize.SL.Sem

/-! ## The precondition -/

section
open Cert.Pre_finite Cert.Pre_finite.Gen

instance : Subsingleton S_.Idx := ⟨fun a b => funext fun i => i.elim0⟩

/-- An array whose every absolute value is below plus infinity is an array of reals. -/
theorem all_real {s : Shape} {axes : List (Fin s.rank)} (x : FVec Ideal s .f32) (hb : S_.BroadcastsInDim s (![] : Fin 0 → Fin s.rank))
    (hr : s.ReducesTo axes S_) (i : s.Idx)
    (e : Host.reduce IntOp.andi (cmpf .olt (Host.absf x) (broadcastInDim s ![] hb (constant S_ .f32 0x7F800000#32)))
      (constantI S_ 1 1#1) hr h_S_ ix0 = 1#1) : ∃ y : ℝ, x i = y := by
  have h := Host.reduce_andi_all _ _ hr h_S_ ix0 e i
  refine Softmax.real_of_abs_lt ?_
  rw [← Softmax.pos_inf]
  by_contra hn
  have h' : BitVec.ofBool (decide (max (x i) (-(x i)) < Ideal.ofBits .f32 0x7F800000#32)) = 1#1 := h
  rw [decide_eq_false hn] at h'
  exact absurd h' (by decide)

/-- The precondition: the queries, the attention's weights and its biases are reals. -/
theorem finite {q : FVec Ideal S16896x512 .f32} {ref : FVec Ideal S16896x2 .f32} {Wv : FVec Ideal S512x512 .f32}
    {bv : FVec Ideal S512 .f32} {Wo : FVec Ideal S512x256 .f32} {bo : FVec Ideal S256 .f32} {Wa : FVec Ideal S512x128 .f32}
    {ba : FVec Ideal S128 .f32} (h : fn (F := Ideal) q ref Wv bv Wo bo Wa ba = fun _ => 1#1) :
    (∀ i, ∃ y : ℝ, q i = y) ∧ (∀ i, ∃ y : ℝ, Wa i = y) ∧ (∀ i, ∃ y : ℝ, ba i = y) := by
  have h0 := congrFun h ix0
  obtain ⟨h1, h2⟩ := IntOp.andi_eq_one.1 h0
  obtain ⟨h3, h4⟩ := IntOp.andi_eq_one.1 h1
  exact ⟨fun i => all_real _ _ _ i h3, fun i => all_real _ _ _ i h4, fun i => all_real _ _ _ i h2⟩

end

/-! ## The kernel's arrays -/

section
open Cert.Kernel2Ideal Cert.Kernel2Ideal.Gen
open Idealize.ShloMosaic.Pipeline (Dat)

variable (m : (ℓ : Loc nD τ sig) → Buf (Elt Ideal) ℓ)

/-- Where each window's block sits at each grid point: the two row windows and the six results move one block of rows a point,
    the others stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] :=
  (by decide +kernel : ∀ t : Fin grid0.N, _)

/-- Row `r` of the blocks of grid point `t` reads row `256 t + r` of the arguments. -/
theorem reads (c : Dev nD) (t : Fin cfg0.N) (r : Fin 256) (hs : t.val * 256 + r.val < 16896) :
    Samples.Reads (iblk m c 0 t) (View.ld (iblk m c 1 t) r0_7) (View.ld (iblk m c 1 t) r0_8) (iblk m c 4 t) (iblk m c 5 t)
      (iblk m c 6 t) (iblk m c 7 t) (m ((c : Thread nD τ).loc main_arg0)) (m ((c : Thread nD τ).loc main_arg1))
      (m ((c : Thread nD τ).loc main_arg4)) (m ((c : Thread nD τ).loc main_arg5)) (m ((c : Thread nD τ).loc main_arg6))
      (m ((c : Thread nD τ).loc main_arg7)) r ⟨t.val * 256 + r.val, hs⟩ := by
  refine ⟨fun k => ?_, ?_, ?_, fun k i => ?_, fun i => ?_, fun k i => ?_, fun i => ?_⟩ <;> blk_point [iblk, V, idx t]
  all_goals rfl

/-- Two arrays that agree on every row of grid point `t`'s block agree at every index of that block. -/
theorem of_rows {K : Type} {n : Nat} (t : Fin cfg0.N) {pay : (⟨2, ![256, n]⟩ : Shape).Idx → K}
    {res : (⟨2, ![16896, n]⟩ : Shape).Idx → K} {y : (⟨2, ![256, n]⟩ : Shape).Idx} {e : (⟨2, ![16896, n]⟩ : Shape).Idx}
    (he : ∀ hs : t.val * 256 + (y 0).val < 16896, e = ix2 (⟨t.val * 256 + (y 0).val, hs⟩ : Fin 16896) (y 1 : Fin n))
    (h : ∀ (r : Fin 256) (j : Fin n) (hs : t.val * 256 + r.val < 16896), pay (ix2 r j) = res (ix2 ⟨t.val * 256 + r.val, hs⟩ j)) :
    pay y = res e := by
  have hs : t.val * 256 + (y 0).val < 16896 := by
    have h0 : t.val < 66 := t.isLt
    have h1 : (y 0).val < 256 := (y 0).isLt
    omega
  have hy : y = ix2 (y 0 : Fin 256) (y 1 : Fin n) := funext fun i => by fin_cases i <;> rfl
  rw [he hs]
  exact (congrArg pay hy).trans (h (y 0) (y 1) hs)

/-- The values' array after the run is the reference's. -/
theorem final8 (c : Dev nD) : (dats m 0 c).arrAt 8 cfg0.N
    = Samples.Val (m ((c : Thread nD τ).loc main_arg0)) (m ((c : Thread nD τ).loc main_arg2)) (m ((c : Thread nD τ).loc main_arg3)) := by
  refine (dats m 0 c).arrAt_eq_of_covers 8 _ (by decide +kernel) fun t _ y => ?_
  blk_simp
  rw [after0_8]
  unfold_out out0_8
  frame_out
  have h2 : iblk m c 2 t = m ((c : Thread nD τ).loc main_arg2) := by blk_ext! [iblk, V, idx t]
  rw [h2]
  refine of_rows (res := Samples.Val _ _ _) t (fun hs => ?_) fun r j hs => Samples.value_row (reads m c t r hs).hq (fun i => ?_) j
  · blk_ext [idx t]
  · blk_point [iblk, V, idx t]

/-- The left cells' weights after the run are the reference's, where the attention's inputs are reals. -/
theorem final9 (c : Dev nD)
    (hp : Cert.Pre_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) = fun _ => 1#1) : (dats m 0 c).arrAt 9 cfg0.N
    = Samples.A0 (m ((c : Thread nD τ).loc main_arg0)) (m ((c : Thread nD τ).loc main_arg1)) (m ((c : Thread nD τ).loc main_arg4))
        (m ((c : Thread nD τ).loc main_arg5)) (m ((c : Thread nD τ).loc main_arg6)) (m ((c : Thread nD τ).loc main_arg7)) := by
  obtain ⟨hq, hA, hB⟩ := finite hp
  refine (dats m 0 c).arrAt_eq_of_covers 9 _ (by decide +kernel) fun t _ y => ?_
  blk_simp
  rw [after0_9]
  unfold_out out0_9
  frame_out
  refine of_rows (res := Samples.A0 _ _ _ _ _ _) t (fun hs => ?_) fun r j hs => Samples.a0_row (reads m c t r hs) hq hA hB j
  blk_ext [idx t]

/-- The right cells' weights after the run are the reference's, where the attention's inputs are reals. -/
theorem final10 (c : Dev nD)
    (hp : Cert.Pre_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) = fun _ => 1#1) : (dats m 0 c).arrAt 10 cfg0.N
    = Samples.A1 (m ((c : Thread nD τ).loc main_arg0)) (m ((c : Thread nD τ).loc main_arg1)) (m ((c : Thread nD τ).loc main_arg4))
        (m ((c : Thread nD τ).loc main_arg5)) (m ((c : Thread nD τ).loc main_arg6)) (m ((c : Thread nD τ).loc main_arg7)) := by
  obtain ⟨hq, hA, hB⟩ := finite hp
  refine (dats m 0 c).arrAt_eq_of_covers 10 _ (by decide +kernel) fun t _ y => ?_
  blk_simp
  rw [after0_10]
  unfold_out out0_10
  frame_out
  refine of_rows (res := Samples.A1 _ _ _ _ _ _) t (fun hs => ?_) fun r j hs => Samples.a1_row (reads m c t r hs) hq hA hB j
  blk_ext [idx t]

/-- The upper cells' weights after the run are the reference's. -/
theorem final11 (c : Dev nD) : (dats m 0 c).arrAt 11 cfg0.N
    = Samples.B0 (m ((c : Thread nD τ).loc main_arg0)) (m ((c : Thread nD τ).loc main_arg1)) (m ((c : Thread nD τ).loc main_arg4))
        (m ((c : Thread nD τ).loc main_arg5)) := by
  refine (dats m 0 c).arrAt_eq_of_covers 11 _ (by decide +kernel) fun t _ y => ?_
  blk_simp
  rw [after0_11]
  unfold_out out0_11
  frame_out
  refine of_rows (res := Samples.B0 _ _ _ _) t (fun hs => ?_) fun r j hs => Samples.b0_row (reads m c t r hs) j
  blk_ext [idx t]

/-- The lower cells' weights after the run are the reference's. -/
theorem final12 (c : Dev nD) : (dats m 0 c).arrAt 12 cfg0.N
    = Samples.B1 (m ((c : Thread nD τ).loc main_arg0)) (m ((c : Thread nD τ).loc main_arg1)) (m ((c : Thread nD τ).loc main_arg4))
        (m ((c : Thread nD τ).loc main_arg5)) := by
  refine (dats m 0 c).arrAt_eq_of_covers 12 _ (by decide +kernel) fun t _ y => ?_
  blk_simp
  rw [after0_12]
  unfold_out out0_12
  frame_out
  refine of_rows (res := Samples.B1 _ _ _ _) t (fun hs => ?_) fun r j hs => Samples.b1_row (reads m c t r hs) j
  blk_ext [idx t]

/-- The table rows after the run are the reference's. -/
theorem final13 (c : Dev nD) : (dats m 0 c).arrAt 13 cfg0.N
    = Samples.Ix (m ((c : Thread nD τ).loc main_arg0)) (m ((c : Thread nD τ).loc main_arg1)) (m ((c : Thread nD τ).loc main_arg4))
        (m ((c : Thread nD τ).loc main_arg5)) := by
  refine (dats m 0 c).arrAt_eq_of_covers 13 _ (by decide +kernel) fun t _ y => ?_
  blk_simp
  rw [after0_13]
  unfold_out out0_13
  frame_out
  refine of_rows (res := Samples.Ix _ _ _ _) t (fun hs => ?_) fun r j hs => Samples.ix_row (reads m c t r hs) j
  blk_ext [idx t]

end

/-! ## The reference's arrays -/

section
open Cert.Reference2Ideal Cert.Reference2Ideal.Gen Cert.Reference2Ideal.Value

variable (m : (ℓ : Loc nD τ sig) → Buf (Elt Ideal) ℓ)

/-- The reference's result 1 is that function of its arguments. -/
theorem ref1 (c : Dev nD) : res_out1 m c
    = Samples.A0 (m (c.tc.loc main_arg0)) (m (c.tc.loc main_arg1)) (m (c.tc.loc main_arg4)) (m (c.tc.loc main_arg5))
      (m (c.tc.loc main_arg6)) (m (c.tc.loc main_arg7)) := by
  unfold res_out1 res_main_v116
  rfl

/-- The reference's result 2 is that function of its arguments. -/
theorem ref2 (c : Dev nD) : res_out2 m c
    = Samples.A1 (m (c.tc.loc main_arg0)) (m (c.tc.loc main_arg1)) (m (c.tc.loc main_arg4)) (m (c.tc.loc main_arg5))
      (m (c.tc.loc main_arg6)) (m (c.tc.loc main_arg7)) := by
  unfold res_out2 res_main_v118
  rfl

/-- The reference's result 3 is that function of its arguments. -/
theorem ref3 (c : Dev nD) : res_out3 m c
    = Samples.B0 (m (c.tc.loc main_arg0)) (m (c.tc.loc main_arg1)) (m (c.tc.loc main_arg4)) (m (c.tc.loc main_arg5)) := by
  unfold res_out3 res_main_v119
  rfl

/-- The reference's result 4 is that function of its arguments. -/
theorem ref4 (c : Dev nD) : res_out4 m c
    = Samples.B1 (m (c.tc.loc main_arg0)) (m (c.tc.loc main_arg1)) (m (c.tc.loc main_arg4)) (m (c.tc.loc main_arg5)) := by
  unfold res_out4 res_main_v120
  rfl

/-- The reference's result 5 is that function of its arguments. -/
theorem ref5 (c : Dev nD) : res_out5 m c
    = Samples.Ix (m (c.tc.loc main_arg0)) (m (c.tc.loc main_arg1)) (m (c.tc.loc main_arg4)) (m (c.tc.loc main_arg5)) := by
  unfold res_out5 res_main_v129
  rfl

end

end Cert.Proof.SampleArrays
end
-- ==== Proof.GatherLoop.lean ====
/- The gather of the second call as a loop, over any signature: `body` loads the four blocks of weights and then, for each of
   the block's 8 query rows, copies 128 pairs of table rows into two scratch buffers (`steps`) and writes one 8-row piece of the
   result (`block`). `sound_body` is its triple: what it leaves in the result's buffer is `outRows` of what it finds in the
   inputs' buffers, provided every index word names two rows of the table. -/
module

public import Idealize.ShloMosaic.Lib.Pipeline.FrameBody
public import Idealize.ShloMosaic.Lib.Tactic
public import Idealize.ShloMosaic.Lib.WordCmp
public import Idealize.ShloMosaic.Lib.Claim
public import Idealize.ShloMosaic.Lib.Affine

@[expose] public section

noncomputable section

namespace Cert.GatherLoop

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

abbrev S1x1x1 : Shape := ⟨3, ![1, 1, 1]⟩
abbrev S1x8x128 : Shape := ⟨3, ![1, 8, 128]⟩
abbrev S1x1x1x128 : Shape := ⟨4, ![1, 1, 1, 128]⟩
abbrev S1x33344x1x128 : Shape := ⟨4, ![1, 33344, 1, 128]⟩
abbrev S128 : Shape := ⟨1, ![128]⟩
abbrev S1x128 : Shape := ⟨2, ![1, 128]⟩
abbrev S128x128 : Shape := ⟨2, ![128, 128]⟩
abbrev S1x8x64 : Shape := ⟨3, ![1, 8, 64]⟩
abbrev S1x64x64 : Shape := ⟨3, ![1, 64, 64]⟩

/-- Where the first row of the pair that word `v` names starts in the table. -/
def lo (v : BitVec 32) : Fin 4 → Nat := ![0, (Scalar.indexCast v).toNat, 0, 0]
/-- Where the second row of the pair starts. -/
def hi (v : BitVec 32) : Fin 4 → Nat := ![0, (Scalar.indexCast (Scalar.addi v 1#32)).toNat, 0, 0]

/-- Both rows that word `v` names lie inside the table. -/
def Inside (v : BitVec 32) : Prop :=
  (∀ a, lo v a + S1x1x1x128.size a ≤ S1x33344x1x128.size a) ∧ (∀ a, hi v a + S1x1x1x128.size a ≤ S1x33344x1x128.size a)

instance Inside.dec (v : BitVec 32) : Decidable (Inside v) := decidable_of_iff' _ (Iff.of_eq (Inside.eq_1 v))

theorem inb_word {t s : Nat} (ht : t < 8) (hs : s < 128) :
    ∀ a, (![0, t, s] : Fin 3 → Nat) a + S1x1x1.size a ≤ S1x8x128.size a := by
  intro a; fin_cases a <;> simp [S1x1x1, S1x8x128] <;> omega

theorem inb_row {s : Nat} (hs : s < 128) :
    ∀ a, (![s, 0] : Fin 2 → Nat) a + S1x128.size a ≤ S128x128.size a := by
  intro a; fin_cases a <;> simp [S1x128, S128x128]; omega

theorem inb_out {t : Nat} (ht : t < 8) :
    ∀ a, (![0, 8 * t, 0] : Fin 3 → Nat) a + S1x8x64.size a ≤ S1x64x64.size a := by
  intro a; fin_cases a <;> simp [S1x8x64, S1x64x64]; omega

theorem inb_in : ∀ a, (![0, 0, 0] : Fin 3 → Nat) a + S1x8x128.size a ≤ S1x8x128.size a := by decide
theorem inb_all : ∀ a, (![0, 0] : Fin 2 → Nat) a + S128x128.size a ≤ S128x128.size a := by decide
theorem one_word : S1x1x1.numel = 1 := by decide
theorem pos_row4 : 0 < S1x1x1x128.numel := by decide
theorem pos_row2 : 0 < S1x128.numel := by decide
theorem pos_in : 0 < S1x8x128.numel := by decide
theorem pos_all : 0 < S128x128.numel := by decide
theorem pos_out : 0 < S1x8x64.numel := by decide
theorem casts_flat : S1x1x1x128.ShapeCasts S128 := by decide
theorem casts_row : S128.ShapeCasts S1x128 := by decide

/-- The index word of row `t`, sample `s`. -/
abbrev rWord (t s : Nat) (ht : t < 8) (hs : s < 128) : Rect S1x8x128 := Rect.unit (s := S1x8x128) ![0, t, s] S1x1x1.size (inb_word ht hs)
/-- Row `s` of a scratch buffer. -/
abbrev rRow (s : Nat) (hs : s < 128) : Rect S128x128 := Rect.unit (s := S128x128) ![s, 0] S1x128.size (inb_row hs)
/-- The piece of the result's block that row `t` writes. -/
abbrev rOut (t : Nat) (ht : t < 8) : Rect S1x64x64 := Rect.unit (s := S1x64x64) ![0, 8 * t, 0] S1x8x64.size (inb_out ht)
/-- A whole block of weights. -/
abbrev rIn : Rect S1x8x128 := Rect.unit (s := S1x8x128) ![0, 0, 0] S1x8x128.size inb_in
/-- A whole scratch buffer. -/
abbrev rAll : Rect S128x128 := Rect.unit (s := S128x128) ![0, 0] S128x128.size inb_all
/-- The table row at `o`. -/
abbrev rTab (o : Fin 4 → Nat) (h : ∀ a, o a + S1x1x1x128.size a ≤ S1x33344x1x128.size a) : Rect S1x33344x1x128 :=
  Rect.unit (s := S1x33344x1x128) o S1x1x1x128.size h

variable {F : FTy → Type} [FloatOps F]

/-- One table row as a row of the scratch. -/
def toRow (w : Vec F S1x1x1x128 .f32) : FVec F S1x128 .f32 := shapeCast S1x128 (shapeCast S128 w casts_flat) casts_row

variable {nD : Nat} {τ : Topo} {sig : RefSig} {Λ₀ : Labels}

section Programs

variable (out : Nat → Vec F S1x8x128 .f32 → Vec F S1x8x128 .f32 → Vec F S1x8x128 .f32 → Vec F S1x8x128 .f32 →
    Vec F S128x128 .f32 → Vec F S128x128 .f32 → FVec F S1x8x64 .f32)
  (arg2 : Memref sig .tc .smem S1x8x128 .i32)
  (arg3 arg4 arg5 arg6 : Memref sig .tc .vmem S1x8x128 .f32)
  (arg7 : Memref sig .tc .vmem S1x33344x1x128 .f32) (arg8 : Memref sig .tc .vmem S1x64x64 .f32)
  (arg9 arg10 : Memref sig .tc .vmem S128x128 .f32)

/-- One step of the gather: the two table rows that word `(t, s)` names, copied to row `s` of the scratches. -/
def step (t s : Nat) (ht : t < 8) (hs : s < 128) (k : Prog (TpuEff nD τ sig (Elt F) Λ₀ .tc) PUnit) :
    Prog (TpuEff nD τ sig (Elt F) Λ₀ .tc) PUnit := do
  let v : Elt F .i32 ← smemLoad arg2 (rWord t s ht hs) one_word rfl
  have hw : Inside v := (← Prog.lift (TpuEff.assume (Inside v) (Inside.dec v))).down
  let w : Vec F S1x1x1x128 .f32 ← Prog.lift (.load arg7 (rTab (lo v) hw.1).toLoadRect (View.loadsAt_vmem pos_row4))
  let _ : Vec F S1x128 .f32 ← Prog.lift (.load arg9 (rRow s hs).toLoadRect (View.loadsAt_vmem pos_row2))
  Prog.lift (.store arg9 (rRow s hs) (toRow w) Finset.univ (View.stores_vmem_bits_univ pos_row2 rfl) (.inl rfl))
  let w' : Vec F S1x1x1x128 .f32 ← Prog.lift (.load arg7 (rTab (hi v) hw.2).toLoadRect (View.loadsAt_vmem pos_row4))
  let _ : Vec F S1x128 .f32 ← Prog.lift (.load arg10 (rRow s hs).toLoadRect (View.loadsAt_vmem pos_row2))
  Prog.lift (.store arg10 (rRow s hs) (toRow w') Finset.univ (View.stores_vmem_bits_univ pos_row2 rfl) (.inl rfl))
  k

/-- The steps of row `t` from sample `s` on, then `k`. -/
def steps (t : Nat) (ht : t < 8) (k : Prog (TpuEff nD τ sig (Elt F) Λ₀ .tc) PUnit) :
    (n s : Nat) → s + n ≤ 128 → Prog (TpuEff nD τ sig (Elt F) Λ₀ .tc) PUnit
  | 0, _, _ => k
  | n + 1, s, h => step arg2 arg7 arg9 arg10 t s ht (by omega) (steps t ht k n (s + 1) (by omega))

/-- What follows the gather of row `t`: both scratches read whole, and the row's piece of the result written. -/
def block (t : Nat) (ht : t < 8) (a0 a1 b0 b1 : Vec F S1x8x128 .f32) (k : Prog (TpuEff nD τ sig (Elt F) Λ₀ .tc) PUnit) :
    Prog (TpuEff nD τ sig (Elt F) Λ₀ .tc) PUnit := do
  let g0 : Vec F S128x128 .f32 ← Prog.lift (.load arg9 rAll.toLoadRect (View.loadsAt_vmem pos_all))
  let g1 : Vec F S128x128 .f32 ← Prog.lift (.load arg10 rAll.toLoadRect (View.loadsAt_vmem pos_all))
  let _ : Vec F S1x8x64 .f32 ← Prog.lift (.load arg8 (rOut t ht).toLoadRect (View.loadsAt_vmem pos_out))
  Prog.lift (.store arg8 (rOut t ht) (out t a0 a1 b0 b1 g0 g1) Finset.univ (View.stores_vmem_bits_univ pos_out rfl) (.inl rfl))
  k

/-- The rows of the queries from `t` on. -/
def rows (a0 a1 b0 b1 : Vec F S1x8x128 .f32) : (n t : Nat) → t + n ≤ 8 → Prog (TpuEff nD τ sig (Elt F) Λ₀ .tc) PUnit
  | 0, _, _ => pure ⟨⟩
  | n + 1, t, h => steps arg2 arg7 arg9 arg10 t (by omega)
      (block out arg8 arg9 arg10 t (by omega) a0 a1 b0 b1 (rows a0 a1 b0 b1 n (t + 1) (by omega))) 128 0 (by omega)

/-- The whole body. -/
def body : Prog (TpuEff nD τ sig (Elt F) Λ₀ .tc) PUnit := do
  let a0 : Vec F S1x8x128 .f32 ← Prog.lift (.load arg3 rIn.toLoadRect (View.loadsAt_vmem pos_in))
  let a1 : Vec F S1x8x128 .f32 ← Prog.lift (.load arg4 rIn.toLoadRect (View.loadsAt_vmem pos_in))
  let b0 : Vec F S1x8x128 .f32 ← Prog.lift (.load arg5 rIn.toLoadRect (View.loadsAt_vmem pos_in))
  let b1 : Vec F S1x8x128 .f32 ← Prog.lift (.load arg6 rIn.toLoadRect (View.loadsAt_vmem pos_in))
  rows out arg2 arg7 arg8 arg9 arg10 a0 a1 b0 b1 8 0 (by omega)

end Programs

/-! ## What the pieces leave -/

/-- The index word of row `t`, sample `s`, in a block of index words. -/
def word (x0 : Vec F S1x8x128 .i32) (t s : Nat) (ht : t < 8) (hs : s < 128) : BitVec 32 :=
  View.ld (Val := Elt F) x0 (rWord t s ht hs) (Shape.Idx.first (one_word.symm ▸ Nat.one_pos))

/-- The table row at `o`, as a row of the scratch. -/
def tabRow (x5 : Vec F S1x33344x1x128 .f32) (o : Fin 4 → Nat) (h : ∀ a, o a + S1x1x1x128.size a ≤ S1x33344x1x128.size a) :
    FVec F S1x128 .f32 := toRow (View.ld (Val := Elt F) x5 (rTab o h))

/-- Column `j` of a one-row vector. -/
def ixRow (j : Fin 128) : S1x128.Idx := fun | 0 => ⟨0, Nat.one_pos⟩ | 1 => j
/-- Head `h`, channel `d` of the piece that one row writes. -/
def ixOut (h : Fin 8) (d : Fin 64) : S1x8x64.Idx := fun | 0 => ⟨0, Nat.one_pos⟩ | 1 => h | 2 => d

/-- A scratch after the table rows of samples below `n` have been copied to it. -/
def scr (row : (s : Nat) → s < 128 → FVec F S1x128 .f32) (n : Nat) (g : Vec F S128x128 .f32) : Vec F S128x128 .f32 := fun y =>
  if h : (y 0).val < n ∧ (y 0).val < 128 then row (y 0).val h.2 (ixRow (y 1)) else g y

theorem scr_zero (row : (s : Nat) → s < 128 → FVec F S1x128 .f32) (g : Vec F S128x128 .f32) : scr row 0 g = g := by
  funext y; unfold scr; rw [dif_neg]; omega

/-- One more row written is one more row copied. -/
theorem read_row {v : View sig .tc .vmem S128x128 .f32} (row : (s : Nat) → s < 128 → FVec F S1x128 .f32) (s : Nat) (hs : s < 128)
    (g : Vec F S128x128 .f32) (f : v.ty.Contents (Elt F)) (hf : v.read (Elt F) f = scr row s g) :
    v.read (Elt F) (v.writes (Elt F) f [⟨rRow s hs, row s hs⟩]) = scr row (s + 1) g := by
  funext y
  by_cases hy : (y 0).val = s
  · have e : (rRow s hs).emb (ixRow (y 1)) = y := by
      funext a; apply Fin.ext
      match a with
      | ⟨0, _⟩ => exact hy.symm
      | ⟨1, _⟩ => exact (Nat.zero_add _).trans (Nat.one_mul _)
    rw [View.read_writes_cons_hit v f (rRow s hs) (row s hs) [] _ y e]
    unfold scr
    rw [dif_pos ⟨by omega, by omega⟩]
    subst hy; rfl
  · have := View.read_writes_cons_miss_of_axis v f ⟨rRow s hs, row s hs⟩ [] y 0 s 1 rfl rfl rfl (by omega)
    refine this.trans ((congrFun hf y).trans ?_)
    unfold scr
    by_cases h : (y 0).val < s ∧ (y 0).val < 128
    · rw [dif_pos h, dif_pos ⟨by omega, h.2⟩]
    · rw [dif_neg h, dif_neg (by omega)]

/-- The result's buffer after rows below `n` have been written. -/
def outs (val : (t : Nat) → t < 8 → FVec F S1x8x64 .f32) (n : Nat) (g : Vec F S1x64x64 .f32) : Vec F S1x64x64 .f32 := fun y =>
  if h : (y 1).val < 8 * n ∧ (y 1).val / 8 < 8 then
    val ((y 1).val / 8) h.2 (ixOut ⟨(y 1).val % 8, Nat.mod_lt _ (by decide)⟩ (y 2))
  else g y

theorem outs_zero (val : (t : Nat) → t < 8 → FVec F S1x8x64 .f32) (g : Vec F S1x64x64 .f32) : outs val 0 g = g := by
  funext y; unfold outs; rw [dif_neg]; omega

/-- One more piece written is one more row written. -/
theorem read_out {v : View sig .tc .vmem S1x64x64 .f32} (val : (t : Nat) → t < 8 → FVec F S1x8x64 .f32) (t : Nat) (ht : t < 8)
    (g : Vec F S1x64x64 .f32) (f : v.ty.Contents (Elt F)) (hf : v.read (Elt F) f = outs val t g) :
    v.read (Elt F) (v.writes (Elt F) f [⟨rOut t ht, val t ht⟩]) = outs val (t + 1) g := by
  funext y
  by_cases hy : (y 1).val / 8 = t
  · have e : (rOut t ht).emb (ixOut ⟨(y 1).val % 8, Nat.mod_lt _ (by decide)⟩ (y 2)) = y := by
      funext a; apply Fin.ext
      match a with
      | ⟨0, _⟩ => have := (y 0).isLt; show 0 + 1 * 0 = (y 0).val; simp at this ⊢; omega
      | ⟨1, _⟩ => show 8 * t + 1 * ((y 1).val % 8) = (y 1).val; omega
      | ⟨2, _⟩ => exact (Nat.zero_add _).trans (Nat.one_mul _)
    rw [View.read_writes_cons_hit v f (rOut t ht) (val t ht) [] _ y e]
    unfold outs
    rw [dif_pos ⟨by omega, by omega⟩]
    subst hy; rfl
  · have := View.read_writes_cons_miss_of_axis v f ⟨rOut t ht, val t ht⟩ [] y 1 (8 * t) 8 rfl rfl rfl (by omega)
    refine this.trans ((congrFun hf y).trans ?_)
    unfold outs
    by_cases h : (y 1).val < 8 * t ∧ (y 1).val / 8 < 8
    · rw [dif_pos h, dif_pos ⟨by omega, h.2⟩]
    · rw [dif_neg h, dif_neg (by omega)]

/-! ## The triples -/

section Triples

local notation "𝕄" => MT nD τ sig Unit (Elt F) ℕ (UR sig nD τ) ℕ

variable (defs : Defs nD τ sig (Elt F) Λ₀) (c : Dev nD) (E : Set ℕ)
variable (out : Nat → Vec F S1x8x128 .f32 → Vec F S1x8x128 .f32 → Vec F S1x8x128 .f32 → Vec F S1x8x128 .f32 →
    Vec F S128x128 .f32 → Vec F S128x128 .f32 → FVec F S1x8x64 .f32)
  (arg2 : Memref sig .tc .smem S1x8x128 .i32)
  (arg3 arg4 arg5 arg6 : Memref sig .tc .vmem S1x8x128 .f32)
  (arg7 : Memref sig .tc .vmem S1x33344x1x128 .f32) (arg8 : Memref sig .tc .vmem S1x64x64 .f32)
  (arg9 arg10 : Memref sig .tc .vmem S128x128 .f32)
  (x0 : Vec F S1x8x128 .i32) (x5 : Vec F S1x33344x1x128 .f32)
  (hx : ∀ t s ht hs, Inside (word x0 t s ht hs))

/-- The first row of every pair that row `t` names. -/
def rowLo (hx : ∀ t s ht hs, Inside (word x0 t s ht hs)) (t : Nat) (ht : t < 8) (s : Nat) (hs : s < 128) : FVec F S1x128 .f32 :=
  tabRow x5 (lo (word x0 t s ht hs)) (hx t s ht hs).1
/-- The second row of every pair that row `t` names. -/
def rowHi (hx : ∀ t s ht hs, Inside (word x0 t s ht hs)) (t : Nat) (ht : t < 8) (s : Nat) (hs : s < 128) : FVec F S1x128 .f32 :=
  tabRow x5 (hi (word x0 t s ht hs)) (hx t s ht hs).2

/-- One step of the gather copies one more pair of rows. -/
theorem sound_step (t s : Nat) (ht : t < 8) (hs : s < 128) (g0 g1 : Vec F S128x128 .f32)
    (k : Prog (TpuEff nD τ sig (Elt F) Λ₀ .tc) PUnit) (K : PUnit → sProp 𝕄) :
    iprop(owns (c : Thread nD τ) arg2 fullShare x0 ∗ owns (c : Thread nD τ) arg7 fullShare x5
        ∗ owns (c : Thread nD τ) arg9 fullShare (scr (rowLo x0 x5 hx t ht) s g0) ∗ owns (c : Thread nD τ) arg10 fullShare (scr (rowHi x0 x5 hx t ht) s g1)
        ∗ (iprop(owns (c : Thread nD τ) arg2 fullShare x0 ∗ owns (c : Thread nD τ) arg7 fullShare x5
            ∗ owns (c : Thread nD τ) arg9 fullShare (scr (rowLo x0 x5 hx t ht) (s + 1) g0) ∗ owns (c : Thread nD τ) arg10 fullShare (scr (rowHi x0 x5 hx t ht) (s + 1) g1))
          -∗ wp frame (wpE defs Variants.none c none) E k K))
      ⊢ wp frame (wpE defs Variants.none c none) E (step arg2 arg7 arg9 arg10 t s ht hs k) K := by
  unfold owns step smemLoad
  iintro ⟨⟨%f0, %hf0, H0⟩, ⟨%f5, %hf5, H5⟩, ⟨%f9, %hf9, H9⟩, ⟨%f10, %hf10, H10⟩, Hk⟩
  subst hf0 hf5
  sl_exec
  iapply Hk
  isplitl [H0]
  · iexists f0; isplitr; · ipureintro; rfl
    iexact H0
  isplitl [H5]
  · iexists f5; isplitr; · ipureintro; rfl
    iexact H5
  isplitl [H9]
  · iexists _; isplitr
    swap; · iexact H9
    ipureintro; exact read_row (rowLo _ _ hx t ht) s hs g0 f9 hf9
  iexists _; isplitr
  swap; · iexact H10
  ipureintro; exact read_row (rowHi _ _ hx t ht) s hs g1 f10 hf10

/-- The steps from sample `s` on copy every remaining pair of rows. -/
theorem sound_steps (t : Nat) (ht : t < 8) (g0 g1 : Vec F S128x128 .f32)
    (k : Prog (TpuEff nD τ sig (Elt F) Λ₀ .tc) PUnit) (K : PUnit → sProp 𝕄) (n : Nat) : ∀ (s : Nat) (h : s + n ≤ 128),
    iprop(owns (c : Thread nD τ) arg2 fullShare x0 ∗ owns (c : Thread nD τ) arg7 fullShare x5
        ∗ owns (c : Thread nD τ) arg9 fullShare (scr (rowLo x0 x5 hx t ht) s g0) ∗ owns (c : Thread nD τ) arg10 fullShare (scr (rowHi x0 x5 hx t ht) s g1)
        ∗ (iprop(owns (c : Thread nD τ) arg2 fullShare x0 ∗ owns (c : Thread nD τ) arg7 fullShare x5
            ∗ owns (c : Thread nD τ) arg9 fullShare (scr (rowLo x0 x5 hx t ht) (s + n) g0) ∗ owns (c : Thread nD τ) arg10 fullShare (scr (rowHi x0 x5 hx t ht) (s + n) g1))
          -∗ wp frame (wpE defs Variants.none c none) E k K))
      ⊢ wp frame (wpE defs Variants.none c none) E (steps arg2 arg7 arg9 arg10 t ht k n s h) K := by
  induction n with
  | zero =>
    intro s h
    iintro ⟨H0, H5, H9, H10, Hk⟩
    iapply Hk
    isplitl [H0]; · iexact H0
    isplitl [H5]; · iexact H5
    isplitl [H9]; · iexact H9
    iexact H10
  | succ n ih =>
    intro s h
    iintro ⟨H0, H5, H9, H10, Hk⟩
    iapply (sound_step defs c E arg2 arg7 arg9 arg10 x0 x5 hx t s ht (by omega) g0 g1 (steps arg2 arg7 arg9 arg10 t ht k n (s + 1) (by omega)) K)
    isplitl [H0]; · iexact H0
    isplitl [H5]; · iexact H5
    isplitl [H9]; · iexact H9
    isplitl [H10]; · iexact H10
    iintro ⟨H0, H5, H9, H10⟩
    have h' : s + 1 + n ≤ 128 := by omega
    iapply (ih (s + 1) h')
    isplitl [H0]; · iexact H0
    isplitl [H5]; · iexact H5
    isplitl [H9]; · iexact H9
    isplitl [H10]; · iexact H10
    rw [show s + 1 + n = s + (n + 1) by omega]
    iexact Hk

/-- A scratch once every row has been copied to it. -/
def full (row : (s : Nat) → s < 128 → FVec F S1x128 .f32) : Vec F S128x128 .f32 := fun y => row (y 0).val (y 0).isLt (ixRow (y 1))

theorem scr_full (row : (s : Nat) → s < 128 → FVec F S1x128 .f32) (g : Vec F S128x128 .f32) : scr row 128 g = full row := by
  funext y
  have h : (y 0).val < 128 := (y 0).isLt
  unfold scr; rw [dif_pos ⟨h, h⟩]; rfl

theorem ld_all (g : Vec F S128x128 .f32) : View.ld (Val := Elt F) g rAll = g := by
  funext y
  show g (rAll.idx y) = g y
  congr 1
  funext a; apply Fin.ext
  match a with
  | ⟨0, _⟩ => exact (Nat.zero_add _).trans (Nat.one_mul _)
  | ⟨1, _⟩ => exact (Nat.zero_add _).trans (Nat.one_mul _)

theorem ld_in {e : EltTy} (g : Vec F S1x8x128 e) : View.ld (Val := Elt F) g rIn = g := by
  funext y
  show g (rIn.idx y) = g y
  congr 1
  funext a; apply Fin.ext
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

variable (x1 x2 x3 x4 : Vec F S1x8x128 .f32)

/-- What row `t` writes, of the inputs' blocks. -/
def rowOut (hx : ∀ t s ht hs, Inside (word x0 t s ht hs)) (t : Nat) (ht : t < 8) : FVec F S1x8x64 .f32 :=
  out t x1 x2 x3 x4 (full (rowLo x0 x5 hx t ht)) (full (rowHi x0 x5 hx t ht))

/-- What follows the gather of row `t` writes that row's piece. -/
theorem sound_block (t : Nat) (ht : t < 8) (d : Vec F S1x64x64 .f32)
    (k : Prog (TpuEff nD τ sig (Elt F) Λ₀ .tc) PUnit) (K : PUnit → sProp 𝕄) :
    iprop(owns (c : Thread nD τ) arg9 fullShare (full (rowLo x0 x5 hx t ht)) ∗ owns (c : Thread nD τ) arg10 fullShare (full (rowHi x0 x5 hx t ht))
        ∗ owns (c : Thread nD τ) arg8 fullShare (outs (rowOut out x0 x5 x1 x2 x3 x4 hx) t d)
        ∗ (iprop(owns (c : Thread nD τ) arg9 fullShare (full (rowLo x0 x5 hx t ht)) ∗ owns (c : Thread nD τ) arg10 fullShare (full (rowHi x0 x5 hx t ht))
            ∗ owns (c : Thread nD τ) arg8 fullShare (outs (rowOut out x0 x5 x1 x2 x3 x4 hx) (t + 1) d))
          -∗ wp frame (wpE defs Variants.none c none) E k K))
      ⊢ wp frame (wpE defs Variants.none c none) E (block out arg8 arg9 arg10 t ht x1 x2 x3 x4 k) K := by
  unfold owns block
  iintro ⟨⟨%f9, %hf9, H9⟩, ⟨%f10, %hf10, H10⟩, ⟨%f8, %hf8, H8⟩, Hk⟩
  sl_exec
  iapply Hk
  isplitl [H9]
  · iexists f9; isplitr; · ipureintro; exact hf9
    iexact H9
  isplitl [H10]
  · iexists f10; isplitr; · ipureintro; exact hf10
    iexact H10
  iexists _; isplitr
  swap; · iexact H8
  ipureintro
  have e : out t x1 x2 x3 x4 (View.readAt (Elt F) arg9.view rAll.toLoadRect f9) (View.readAt (Elt F) arg10.view rAll.toLoadRect f10)
      = rowOut out x0 x5 x1 x2 x3 x4 hx t ht := by
    unfold rowOut
    rw [View.readAt_eq_ld, View.readAt_eq_ld, hf9, hf10, ld_all, ld_all]
  rw [← read_out (rowOut out x0 x5 x1 x2 x3 x4 hx) t ht d f8 hf8, ← e]

/-- The rows from `t` on write every remaining piece. -/
theorem sound_rows (d : Vec F S1x64x64 .f32) (K : PUnit → sProp 𝕄) (n : Nat) : ∀ (t : Nat) (h : t + n ≤ 8),
    iprop(owns (c : Thread nD τ) arg2 fullShare x0 ∗ owns (c : Thread nD τ) arg7 fullShare x5
        ∗ (∃ g, owns (c : Thread nD τ) arg9 fullShare g) ∗ (∃ g, owns (c : Thread nD τ) arg10 fullShare g)
        ∗ owns (c : Thread nD τ) arg8 fullShare (outs (rowOut out x0 x5 x1 x2 x3 x4 hx) t d)
        ∗ (iprop(owns (c : Thread nD τ) arg2 fullShare x0 ∗ owns (c : Thread nD τ) arg7 fullShare x5
            ∗ (∃ g, owns (c : Thread nD τ) arg9 fullShare g) ∗ (∃ g, owns (c : Thread nD τ) arg10 fullShare g)
            ∗ owns (c : Thread nD τ) arg8 fullShare (outs (rowOut out x0 x5 x1 x2 x3 x4 hx) (t + n) d))
          -∗ K ⟨⟩))
      ⊢ wp frame (wpE defs Variants.none c none) E (rows out arg2 arg7 arg8 arg9 arg10 x1 x2 x3 x4 n t h) K := by
  induction n with
  | zero =>
    intro t h
    iintro ⟨H0, H5, H9, H10, H8, Hk⟩
    unfold rows
    sl_step
    iapply Hk
    isplitl [H0]; · iexact H0
    isplitl [H5]; · iexact H5
    isplitl [H9]; · iexact H9
    isplitl [H10]; · iexact H10
    iexact H8
  | succ n ih =>
    intro t h
    iintro ⟨H0, H5, ⟨%g0, H9⟩, ⟨%g1, H10⟩, H8, Hk⟩
    iapply (sound_steps defs c E arg2 arg7 arg9 arg10 x0 x5 hx t (by omega) g0 g1
      (block out arg8 arg9 arg10 t (by omega) x1 x2 x3 x4 (rows out arg2 arg7 arg8 arg9 arg10 x1 x2 x3 x4 n (t + 1) (by omega))) K 128 0 (by omega))
    rw [scr_zero, scr_zero, Nat.zero_add, scr_full, scr_full]
    isplitl [H0]; · iexact H0
    isplitl [H5]; · iexact H5
    isplitl [H9]; · iexact H9
    isplitl [H10]; · iexact H10
    iintro ⟨H0, H5, H9, H10⟩
    have ht : t < 8 := by omega
    have h' : t + 1 + n ≤ 8 := by omega
    iapply (sound_block defs c E out arg8 arg9 arg10 x0 x5 hx x1 x2 x3 x4 t ht d)
    isplitl [H9]; · iexact H9
    isplitl [H10]; · iexact H10
    isplitl [H8]; · iexact H8
    iintro ⟨H9, H10, H8⟩
    iapply (ih (t + 1) h')
    isplitl [H0]; · iexact H0
    isplitl [H5]; · iexact H5
    isplitl [H9]; · iexists _; iexact H9
    isplitl [H10]; · iexists _; iexact H10
    isplitl [H8]; · iexact H8
    rw [show t + 1 + n = t + (n + 1) by omega]
    iexact Hk

/-- What the body leaves in the result's buffer. -/
def outRows (hx : ∀ t s ht hs, Inside (word x0 t s ht hs)) : Vec F S1x64x64 .f32 := fun y =>
  rowOut out x0 x5 x1 x2 x3 x4 hx ((y 1).val / 8) (by have := (y 1).isLt; simp at this; omega)
    (ixOut ⟨(y 1).val % 8, Nat.mod_lt _ (by decide)⟩ (y 2))

theorem outs_full (hx : ∀ t s ht hs, Inside (word x0 t s ht hs)) (d : Vec F S1x64x64 .f32) :
    outs (rowOut out x0 x5 x1 x2 x3 x4 hx) 8 d = outRows out x0 x5 x1 x2 x3 x4 hx := by
  funext y
  have h : (y 1).val < 64 := (y 1).isLt
  unfold outs; rw [dif_pos ⟨by omega, by omega⟩]; rfl

/-- The four loads of the weights give their buffers' contents. -/
theorem sound_loads (k : Vec F S1x8x128 .f32 → Vec F S1x8x128 .f32 → Vec F S1x8x128 .f32 → Vec F S1x8x128 .f32
      → Prog (TpuEff nD τ sig (Elt F) Λ₀ .tc) PUnit) (K : PUnit → sProp 𝕄) :
    iprop(owns (c : Thread nD τ) arg3 fullShare x1 ∗ owns (c : Thread nD τ) arg4 fullShare x2
        ∗ owns (c : Thread nD τ) arg5 fullShare x3 ∗ owns (c : Thread nD τ) arg6 fullShare x4
        ∗ (iprop(owns (c : Thread nD τ) arg3 fullShare x1 ∗ owns (c : Thread nD τ) arg4 fullShare x2
            ∗ owns (c : Thread nD τ) arg5 fullShare x3 ∗ owns (c : Thread nD τ) arg6 fullShare x4)
          -∗ wp frame (wpE defs Variants.none c none) E (k x1 x2 x3 x4) K))
      ⊢ wp frame (wpE defs Variants.none c none) E (do
          let a0 ← (Prog.lift (.load arg3 rIn.toLoadRect (View.loadsAt_vmem pos_in)) : Prog (TpuEff nD τ sig (Elt F) Λ₀ .tc) (Vec F S1x8x128 .f32))
          let a1 ← (Prog.lift (.load arg4 rIn.toLoadRect (View.loadsAt_vmem pos_in)) : Prog (TpuEff nD τ sig (Elt F) Λ₀ .tc) (Vec F S1x8x128 .f32))
          let b0 ← (Prog.lift (.load arg5 rIn.toLoadRect (View.loadsAt_vmem pos_in)) : Prog (TpuEff nD τ sig (Elt F) Λ₀ .tc) (Vec F S1x8x128 .f32))
          let b1 ← (Prog.lift (.load arg6 rIn.toLoadRect (View.loadsAt_vmem pos_in)) : Prog (TpuEff nD τ sig (Elt F) Λ₀ .tc) (Vec F S1x8x128 .f32))
          k a0 a1 b0 b1) K := by
  unfold owns
  iintro ⟨⟨%f1, %hf1, H1⟩, ⟨%f2, %hf2, H2⟩, ⟨%f3, %hf3, H3⟩, ⟨%f4, %hf4, H4⟩, Hk⟩
  sl_exec
  have e : k (View.readAt (Elt F) arg3.view rIn.toLoadRect f1) (View.readAt (Elt F) arg4.view rIn.toLoadRect f2)
      (View.readAt (Elt F) arg5.view rIn.toLoadRect f3) (View.readAt (Elt F) arg6.view rIn.toLoadRect f4) = k x1 x2 x3 x4 := by
    rw [View.readAt_eq_ld, View.readAt_eq_ld, View.readAt_eq_ld, View.readAt_eq_ld, hf1, hf2, hf3, hf4, ld_in, ld_in, ld_in, ld_in]
  rw [e]
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  iexists f4; isplitr; · ipureintro; exact hf4
  iexact H4

/-- THE BODY: from the inputs' buffers at contents whose index words all name rows of the table, it leaves `outRows` of them in
    the result's buffer and the inputs' buffers as they were. -/
theorem sound_body (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (∃ g, owns (c : Thread nD τ) arg9 fullShare g) ∗ (∃ g, owns (c : Thread nD τ) arg10 fullShare g)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (outRows out x0 x5 x1 x2 x3 x4 hx)
            ∗ (∃ g, owns (c : Thread nD τ) arg9 fullShare g) ∗ (∃ g, owns (c : Thread nD τ) arg10 fullShare g))
          -∗ K ⟨⟩))
      ⊢ wp frame (wpE defs Variants.none c none) E (body out arg2 arg3 arg4 arg5 arg6 arg7 arg8 arg9 arg10) K := by
  have h8 : 0 + 8 ≤ 8 := by omega
  have hr := sound_rows (Λ₀ := Λ₀) defs c E out arg2 arg7 arg8 arg9 arg10 x0 x5 hx x1 x2 x3 x4
  unfold body
  iintro ⟨H0, H1, H2, H3, H4, H5, ⟨%d, H8⟩, H9, H10, Hk⟩
  iapply (sound_loads defs c E arg3 arg4 arg5 arg6 x1 x2 x3 x4 (fun a0 a1 b0 b1 => rows out arg2 arg7 arg8 arg9 arg10 a0 a1 b0 b1 8 0 h8))
  isplitl [H1]; · iexact H1
  isplitl [H2]; · iexact H2
  isplitl [H3]; · iexact H3
  isplitl [H4]; · iexact H4
  iintro ⟨H1, H2, H3, H4⟩
  iapply (hr d K 8 0 h8)
  isplitl [H0]; · iexact H0
  isplitl [H5]; · iexact H5
  isplitl [H9]; · iexact H9
  isplitl [H10]; · iexact H10
  rw [outs_zero, Nat.zero_add, outs_full]
  isplitl [H8]; · iexact H8
  iintro ⟨H0, H5, H9, H10, H8⟩
  iapply Hk
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  iexact H10

/-- A whole buffer held is the memref of it held at what it holds. -/
theorem hold_whole (r : Ref sig .tc) (f : Buf (Elt F) ((c : Thread nD τ).loc r)) :
    (((c : Thread nD τ).loc r) ↦{fullShare} f : sProp 𝕄) ⊢ iprop(∃ g, owns (c : Thread nD τ) (Memref.whole r) fullShare g) := by
  unfold owns
  rw [show (Memref.whole r).view.set = Finset.univ from View.set_whole r]
  iintro H
  iexists _; iexists f
  isplitr; · ipureintro; rfl
  iexact H

/-- and back. -/
theorem hold_buffer (r : Ref sig .tc) :
    (iprop(∃ g, owns (c : Thread nD τ) (Memref.whole r) fullShare g) : sProp 𝕄)
      ⊢ iprop(∃ f : Buf (Elt F) ((c : Thread nD τ).loc r), ((c : Thread nD τ).loc r) ↦{fullShare} f) := by
  unfold owns
  rw [show (Memref.whole r).view.set = Finset.univ from View.set_whole r]
  iintro ⟨%g, %f, %hf, H⟩
  iexists f
  iexact H

end Triples

/-- A word between 0 and 33342 names two rows of the table. -/
theorem Inside.of_range {v : BitVec 32} (h : IntOp.andi (IntOp.cmpi .sge v 0#32) (IntOp.cmpi .slt v 33343#32) = 1#1) : Inside v := by
  obtain ⟨h0, h1⟩ := IntOp.andi_eq_one.1 h
  rw [IntOp.cmpi_sge] at h0
  rw [IntOp.cmpi_slt] at h1
  have hv : v.toNat < 33343 := by
    have e0 : (0#32 : BitVec 32).toInt = 0 := by decide
    have e1 : (33343#32 : BitVec 32).toInt = 33343 := by decide
    have hl := v.isLt
    rw [e0, BitVec.toInt_eq_toNat_cond] at h0
    rw [e1, BitVec.toInt_eq_toNat_cond] at h1
    split at h0 <;> omega
  have hs : (Scalar.indexCast v).toNat = v.toNat := rfl
  have hs' : (Scalar.indexCast (Scalar.addi v 1#32)).toNat = v.toNat + 1 := by
    show (v + 1#32).toNat = _
    rw [BitVec.toNat_add]
    simp
    omega
  constructor <;> intro a
  · unfold lo; rw [hs]; fin_cases a <;> simp [S1x1x1x128, S1x33344x1x128]; omega
  · unfold hi; rw [hs']; fin_cases a <;> simp [S1x1x1x128, S1x33344x1x128]; omega

end Cert.GatherLoop

end
-- ==== Proof.GatherBlock.lean ====
/-
  Hand-written, untrusted. What the second call computes of one row's gathered table rows, and its value over the ideal reals: each
  product with a one-hot matrix picks one row of weights, so an element is a sum over 16 samples of the four weighted
  table entries.
-/
module

public import proofs.«01_k».proof.Proof.GatherLoop
public import proofs.«01_k».proof.Proof.Gen.Pre_inside
public import Idealize.ShloMosaic.Lib.Pointwise
public import Idealize.ShloMosaic.Lib.ReduceAll

@[expose] public section

noncomputable section

namespace Cert.GatherLoop

open Idealize.ShloMosaic

abbrev S8x128 : Shape := ⟨2, ![8, 128]⟩
abbrev S8x64 : Shape := ⟨2, ![8, 64]⟩
abbrev S128x64 : Shape := ⟨2, ![128, 64]⟩
abbrev S8x16x64 : Shape := ⟨3, ![8, 16, 64]⟩

theorem casts_weights : S1x8x128.ShapeCasts S8x128 := by decide
theorem casts_heads : S128x64.ShapeCasts S8x16x64 := by decide
theorem casts_piece : S8x64.ShapeCasts S1x8x64 := by decide
theorem iota_wide : S8x128.Iotas .tc 32 [0] := by decide
theorem iota_narrow : S8x64.Iotas .tc 32 [0] := by decide
theorem bit_word : 1 < 32 := by decide
theorem slices_left : S128x128.Slices ![0, 0] S128x64 := by decide
theorem slices_right : S128x128.Slices ![0, 64] S128x64 := by decide
theorem sums_head : S8x16x64.Reduces [1] S8x64 := by decide

/-- The product of the transpose of an 8 by 128 matrix with an 8 by 128 matrix. -/
def dotWide : DotDims S8x128 S8x128 S128x128 where
  lhsContracting := [0]
  rhsContracting := [0]
  lhsNonContracting := [1]
  rhsNonContracting := [1]
  lhsBatch := []
  rhsBatch := []
  wf := by decide

/-- The product of the transpose of an 8 by 128 matrix with an 8 by 64 matrix. -/
def dotNarrow : DotDims S8x128 S8x64 S128x64 where
  lhsContracting := [0]
  rhsContracting := [0]
  lhsNonContracting := [1]
  rhsNonContracting := [1]
  lhsBatch := []
  rhsBatch := []
  wf := by decide

variable {F : FTy → Type} [FloatOps F]

/-- Row `t` of a block of weights as a column against 128 lanes. -/
def colWide (t : Nat) (a : FVec F S8x128 .f32) : FVec F S128x128 .f32 :=
  matmul dotWide none a (sitofp .f32 (extui 32 (cmpi .eq (iota .tc S8x128 32 [0] iota_wide) (broadcast S8x128 (BitVec.ofNat 32 t))) bit_word))
    (constant S128x128 .f32 0x00000000#32)

/-- The same against 64 lanes. -/
def colNarrow (t : Nat) (a : FVec F S8x128 .f32) : FVec F S128x64 .f32 :=
  matmul dotNarrow none a (sitofp .f32 (extui 32 (cmpi .eq (iota .tc S8x64 32 [0] iota_narrow) (broadcast S8x64 (BitVec.ofNat 32 t))) bit_word))
    (constant S128x64 .f32 0x00000000#32)

/-- The two gathered rows of every sample, weighted along x. -/
def mixX (t : Nat) (a0 a1 : FVec F S8x128 .f32) (g0 g1 : FVec F S128x128 .f32) : FVec F S128x128 .f32 :=
  addf (mulf g0 (colWide t a0)) (mulf g1 (colWide t a1))

/-- The eight head rows that query row `t` of a block writes. -/
def blockOut (t : Nat) (a0 a1 b0 b1 : Vec F S1x8x128 .f32) (g0 g1 : Vec F S128x128 .f32) : FVec F S1x8x64 .f32 :=
  shapeCast S1x8x64 (multiReduction .add [1] S8x64
    (shapeCast S8x16x64
      (addf (mulf (extractStridedSlice S128x64 ![0, 0] (mixX t (shapeCast S8x128 a0 casts_weights) (shapeCast S8x128 a1 casts_weights) g0 g1) slices_left)
          (colNarrow t (shapeCast S8x128 b0 casts_weights)))
        (mulf (extractStridedSlice S128x64 ![0, 64] (mixX t (shapeCast S8x128 a0 casts_weights) (shapeCast S8x128 a1 casts_weights) g0 g1) slices_right)
          (colNarrow t (shapeCast S8x128 b1 casts_weights))))
      casts_heads) 0x00000000#32 sums_head (.inl rfl) rfl) casts_piece

/-- The one-hot entry in row `k`. -/
theorem hot (t k : Fin 8) : FloatOps.sitofp (F := Ideal) .f32 (BitVec.setWidth 32 (IntOp.cmpi .eq (BitVec.ofNat 32 k.val) (BitVec.ofNat 32 t.val)))
    = if k = t then (1 : EReal) else 0 := by
  by_cases h : k = t
  · rw [if_pos h, h]
    simp [IntOp.cmpi, FloatOps.sitofp]
  · rw [if_neg h]
    have hn : ¬ BitVec.ofNat 32 k.val = BitVec.ofNat 32 t.val := fun e => h (Fin.ext (by
      have e' := congrArg BitVec.toNat e
      simp only [BitVec.toNat_ofNat] at e'
      omega))
    have hb : (BitVec.ofNat 32 k.val == BitVec.ofNat 32 t.val) = false := beq_eq_false_iff_ne.mpr hn
    unfold IntOp.cmpi
    simp only [hb]
    simp [FloatOps.sitofp]

/-- A weight against 128 lanes is that weight. -/
theorem colWide_at (t : Fin 8) (a : FVec Ideal S8x128 .f32) (s l : Fin 128) : colWide t.val a (ix2 s l) = a (ix2 t s) := by
  pointwise [colWide]
  simp [hot]

/-- A weight against 64 lanes is that weight. -/
theorem colNarrow_at (t : Fin 8) (a : FVec Ideal S8x128 .f32) (s : Fin 128) (l : Fin 64) : colNarrow t.val a (ix2 s l) = a (ix2 t s) := by
  pointwise [colNarrow]
  simp [hot]

/-- A block of weights without its leading axis. -/
theorem flat_at (a : Vec Ideal S1x8x128 .f32) (t : Fin 8) (s : Fin 128) :
    shapeCast S8x128 a casts_weights (ix2 t s) = a (ix3 0 t s) := by
  pointwise

/-- One sample's weighted table entry at channel `d`. -/
def sample (a0 a1 b0 b1 : EReal) (g0 g1 : Fin 128 → EReal) (d : Fin 64) : EReal :=
  (g0 ⟨d.val, by omega⟩ * a0 + g1 ⟨d.val, by omega⟩ * a1) * b0
    + (g0 ⟨64 + d.val, by omega⟩ * a0 + g1 ⟨64 + d.val, by omega⟩ * a1) * b1

/-- An element of the piece is the sum of its head's 16 samples. -/
theorem blockOut_at (t : Fin 8) (a0 a1 b0 b1 : Vec Ideal S1x8x128 .f32) (g0 g1 : Vec Ideal S128x128 .f32) (h : Fin 8) (d : Fin 64) :
    blockOut t.val a0 a1 b0 b1 g0 g1 (ix3 0 h d) = ∑ k : Fin 16, sample
      (a0 (ix3 0 t (⟨h.val * 16 + k.val, by omega⟩ : Fin 128))) (a1 (ix3 0 t (⟨h.val * 16 + k.val, by omega⟩ : Fin 128)))
      (b0 (ix3 0 t (⟨h.val * 16 + k.val, by omega⟩ : Fin 128))) (b1 (ix3 0 t (⟨h.val * 16 + k.val, by omega⟩ : Fin 128)))
      (fun l => g0 (ix2 (⟨h.val * 16 + k.val, by omega⟩ : Fin 128) l)) (fun l => g1 (ix2 (⟨h.val * 16 + k.val, by omega⟩ : Fin 128) l)) d := by
  pointwise [blockOut, mixX, sample]
  simp only [colWide_at, colNarrow_at]
  refine Finset.sum_congr rfl fun k _ => ?_
  have e (a : Vec Ideal S1x8x128 .f32) := flat_at a t (⟨h.val * 16 + k.val, by omega⟩ : Fin 128)
  exact congrArg₂ (· + ·)
    (congrArg₂ (· * ·) (congrArg₂ (· + ·) (congrArg _ (e a0)) (congrArg _ (e a1))) (e b0))
    (congrArg₂ (· * ·) (congrArg₂ (· + ·) (congrArg _ (e a0)) (congrArg _ (e a1))) (e b1))

/-- The precondition: every index word names two rows of the table. -/
theorem inside_all {idx : IVec Cert.Pre_inside.S4x4224x128 32} {a0 a1 b0 b1 : FVec F Cert.Pre_inside.S4x4224x128 .f32}
    {tbl : FVec F Cert.Pre_inside.S4x33344x1x128 .f32} (h : Cert.Pre_inside.fn (F := F) idx a0 a1 b0 b1 tbl = fun _ => 1#1)
    (i : Cert.Pre_inside.S4x4224x128.Idx) : Inside (idx i) :=
  haveI : Subsingleton Cert.Pre_inside.S_.Idx := ⟨fun a b => funext fun i => i.elim0⟩
  Inside.of_range (Host.reduce_andi_all _ _ _ _ ix0 (congrFun h ix0) i)

end Cert.GatherLoop

end
-- ==== Proof.GatherIdeal.lean ====
/-
  Hand-written, untrusted. The run of the second call, as printed for ideal arithmetic: its body is the gather of `Proof.GatherLoop`
  (`body_eq`), so once every index word names two rows of the table each point leaves `outRows` of its blocks (`dats`), and the
  whole call ends with its arguments as they were and every counter at zero (`frame`).
-/
module

public import proofs.«01_k».proof.Proof.GatherBlock
public import proofs.«01_k».proof.Proof.Gen.Kernel3Ideal.Frame

@[expose] public section

set_option maxRecDepth 16384

noncomputable section

namespace Cert.Kernel3Ideal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel3Ideal Cert.Kernel3Ideal.Gen
open Cert.GatherLoop (Inside word blockOut outRows)

variable {F : FTy → Type} [FloatOps F]

local notation "𝕄" => MT nD τ sig Unit (Elt F) ℕ (UR sig nD τ) ℕ

set_option maxRecDepth 1000000 in
set_option maxHeartbeats 0 in
/-- The printed body is the gather loop. -/
theorem body_eq (i : grid0.Coords) (arg2 : Memref sig .tc .smem S1x8x128 .i32) (arg3 arg4 arg5 arg6 : Memref sig .tc .vmem S1x8x128 .f32)
    (arg7 : Memref sig .tc .vmem S1x33344x1x128 .f32) (arg8 : Memref sig .tc .vmem S1x64x64 .f32)
    (arg9 arg10 : Memref sig .tc .vmem S128x128 .f32) (h2 : arg2.IsWhole) (h3 : arg3.IsWhole) (h4 : arg4.IsWhole)
    (h5 : arg5.IsWhole) (h6 : arg6.IsWhole) (h7 : arg7.IsWhole) (h8 : arg8.IsWhole) (h9 : arg9.IsWhole) (h10 : arg10.IsWhole) :
    cc0__k2_body (F := F) i arg2 h2 arg3 h3 arg4 h4 arg5 h5 arg6 h6 arg7 h7 arg8 h8 arg9 h9 arg10 h10
      = GatherLoop.body blockOut arg2 arg3 arg4 arg5 arg6 arg7 arg8 arg9 arg10 := rfl

variable (m : (ℓ : Loc nD τ sig) → Buf (Elt F) ℓ) (ρ : Dev nD → PrngReg)

/-- Every index word of every block names two rows of the table. -/
def Named : Prop := ∀ (c : Dev nD) (p : Fin cfg0.N) (t s : Nat) (ht : t < 8) (hs : s < 128), Inside (word (F := F) (iblk m c 0 p) t s ht hs)

/-- The blocks' words are the array's. -/
theorem named_of (h : ∀ (c : Dev nD) (i : S4x4224x128.Idx), Inside (m ((c : Thread nD τ).loc main_arg0) i)) : Named m :=
  fun c p t s ht hs => h c _

variable (hx : Named m)

/-- What each point leaves in each window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outRows blockOut (iblk m c 0 t) (iblk m c 5 t) (iblk m c 1 t) (iblk m c 2 t) (iblk m c 3 t) (iblk m c 4 t) (hx c t)
  Φ _ := Pipeline.ΦA spec0 c
  q _ := fullShare
  owed _ := 0

theorem arrays (c : Dev nD) (w : Fin cfg0.W) : (dats m hx 0 c).A w = V m c (Pipeline.arrRef spec0 w) := by dsimp only [dats]

theorem after_0 (c : Dev nD) (t : Fin cfg0.N) : (dats m hx 0 c).after 0 t = iblk m c 0 t := by dsimp only [dats]
theorem after_1 (c : Dev nD) (t : Fin cfg0.N) : (dats m hx 0 c).after 1 t = iblk m c 1 t := by dsimp only [dats]
theorem after_2 (c : Dev nD) (t : Fin cfg0.N) : (dats m hx 0 c).after 2 t = iblk m c 2 t := by dsimp only [dats]
theorem after_3 (c : Dev nD) (t : Fin cfg0.N) : (dats m hx 0 c).after 3 t = iblk m c 3 t := by dsimp only [dats]
theorem after_4 (c : Dev nD) (t : Fin cfg0.N) : (dats m hx 0 c).after 4 t = iblk m c 4 t := by dsimp only [dats]
theorem after_5 (c : Dev nD) (t : Fin cfg0.N) : (dats m hx 0 c).after 5 t = iblk m c 5 t := by dsimp only [dats]
/-- The result's buffer after a point. -/
theorem after_6 (c : Dev nD) (t : Fin cfg0.N) : (dats m hx 0 c).after 6 t
    = outRows blockOut (iblk m c 0 t) (iblk m c 5 t) (iblk m c 1 t) (iblk m c 2 t) (iblk m c 3 t) (iblk m c 4 t) (hx c t) := by dsimp only [dats]

/-- What the body finds at a point. -/
def pre (c : Dev nD) (t : Fin cfg0.N) : sProp 𝕄 :=
  iprop((dats m hx 0 c).Φ t.castSucc ∗ (dats m hx 0 c).owesAt () t.castSucc
    ∗ (∃ d, owns (c : Thread nD τ) (st0_0 t) fullShare ((dats m hx 0 c).before 0 t d))
    ∗ (∃ d, owns (c : Thread nD τ) (st0_1 t) fullShare ((dats m hx 0 c).before 1 t d))
    ∗ (∃ d, owns (c : Thread nD τ) (st0_2 t) fullShare ((dats m hx 0 c).before 2 t d))
    ∗ (∃ d, owns (c : Thread nD τ) (st0_3 t) fullShare ((dats m hx 0 c).before 3 t d))
    ∗ (∃ d, owns (c : Thread nD τ) (st0_4 t) fullShare ((dats m hx 0 c).before 4 t d))
    ∗ (∃ d, owns (c : Thread nD τ) (st0_5 t) fullShare ((dats m hx 0 c).before 5 t d))
    ∗ (∃ d, owns (c : Thread nD τ) (st0_6 t) fullShare ((dats m hx 0 c).before 6 t d)))

/-- What the body leaves at a point. -/
def post (c : Dev nD) (t : Fin cfg0.N) : sProp 𝕄 :=
  iprop((dats m hx 0 c).Φ t.succ ∗ (dats m hx 0 c).owesAt () t.succ
    ∗ owns (c : Thread nD τ) (st0_0 t) fullShare ((dats m hx 0 c).after 0 t)
    ∗ owns (c : Thread nD τ) (st0_1 t) fullShare ((dats m hx 0 c).after 1 t)
    ∗ owns (c : Thread nD τ) (st0_2 t) fullShare ((dats m hx 0 c).after 2 t)
    ∗ owns (c : Thread nD τ) (st0_3 t) fullShare ((dats m hx 0 c).after 3 t)
    ∗ owns (c : Thread nD τ) (st0_4 t) fullShare ((dats m hx 0 c).after 4 t)
    ∗ owns (c : Thread nD τ) (st0_5 t) fullShare ((dats m hx 0 c).after 5 t)
    ∗ owns (c : Thread nD τ) (st0_6 t) fullShare ((dats m hx 0 c).after 6 t))

/-- The body at any point. -/
theorem sound_point (c : Dev nD) (t : Fin cfg0.N) :
    pre m hx c t ⊢ wp frame (wpE (defs₀ (F := F)) Variants.none c none) Set.univ (bodyAt0 t) (fun _ => post m hx c t) := by
  have e : bodyAt0 (F := F) t = GatherLoop.body blockOut (st0_0 t) (st0_1 t) (st0_2 t) (st0_3 t) (st0_4 t) (st0_5 t) (st0_6 t)
      (Memref.whole cc0_scratch0) (Memref.whole cc0_scratch1) := body_eq _ _ _ _ _ _ _ _ _ _ _ _ _ _ _ _ _ _ _
  rw [e]
  unfold pre post
  simp only [before0_0_of m (dats m hx 0 c) (arrays m hx c 0) (after_0 m hx c), before0_1_of m (dats m hx 0 c) (arrays m hx c 1) (after_1 m hx c),
    before0_2_of m (dats m hx 0 c) (arrays m hx c 2) (after_2 m hx c), before0_3_of m (dats m hx 0 c) (arrays m hx c 3) (after_3 m hx c),
    before0_4_of m (dats m hx 0 c) (arrays m hx c 4) (after_4 m hx c), before0_5_of m (dats m hx 0 c) (arrays m hx c 5) (after_5 m hx c)]
  rw [show (dats m hx 0 c).Φ t.succ = Pipeline.ΦA spec0 c from rfl, show (dats m hx 0 c).Φ t.castSucc = Pipeline.ΦA spec0 c from rfl,
    show (dats m hx 0 c).owesAt () t.succ = (dats m hx 0 c).owesAt () t.castSucc from rfl,
    after_0, after_1, after_2, after_3, after_4, after_5, after_6]
  unfold Pipeline.ΦA
  rw [scopedRest0_eq]
  iintro ⟨⟨⟨⟨%s0, S0⟩, ⟨%s1, S1⟩⟩, Hr⟩, Ho, ⟨%d0, H0⟩, ⟨%d1, H1⟩, ⟨%d2, H2⟩, ⟨%d3, H3⟩, ⟨%d4, H4⟩, ⟨%d5, H5⟩, ⟨%d6, H6⟩⟩
  iapply (GatherLoop.sound_body (F := F) (defs₀ (F := F)) c Set.univ blockOut (st0_0 t) (st0_1 t) (st0_2 t) (st0_3 t) (st0_4 t) (st0_5 t) (st0_6 t)
    (Memref.whole cc0_scratch0) (Memref.whole cc0_scratch1) (iblk m c 0 t) (iblk m c 5 t) (hx c t) (iblk m c 1 t) (iblk m c 2 t)
    (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iapply (GatherLoop.hold_whole c cc0_scratch0 s0); iexact S0
  isplitl [S1]; · iapply (GatherLoop.hold_whole c cc0_scratch1 s1); iexact S1
  iintro ⟨H0, H1, H2, H3, H4, H5, H6, S0, S1⟩
  isplitl [S0 S1 Hr]
  · isplitr [Hr]
    · isplitl [S0]; · iapply (GatherLoop.hold_buffer c cc0_scratch0); iexact S0
      iapply (GatherLoop.hold_buffer c cc0_scratch1); iexact S1
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point is the body there. -/
theorem row_eq (t : Fin cfg0.N) : defs₀ (F := F) .tc cfg0.body (cfg0.bodyArgs t (cfg0.slots t)) = bodyAt0 t := by
  unfold defs₀; rw [Defs.onTc_tc]

/-- The body meets its obligation at every point. -/
theorem obligation (c : Dev nD) : BodyObligation (dats (F := F) m hx 0 c) (defs₀ (F := F)) Variants.none () Set.univ := fun t => by
  rw [bigSep_W0, bigSep_W0, row_eq]
  exact triple_restated (sound_point m hx c t) rfl .rfl fun _ => .rfl

set_option backward.isDefEq.respectTransparency.types false in
set_option maxHeartbeats 800000 in
/-- The run: every array as the points' writes leave it, and every counter at zero. -/
theorem run_quiet : θ_run defs (onTc (τ := τ) (main (F := F))) (s₀ m ρ)
    (fun r => (Pipeline.FramePost cfgs (dats m hx) 0 (V m)) r ∧ r.2.sem = fun _ => 0) :=
  Pipeline.θ_run_frame (Q' := _) cfgs (dats m hx) (0 : Fin 1) launch0 defs₀ Variants.none m ρ main
    (hbody := fun c => (obligation m hx c).loose) (hshare := fun c => (dats m hx 0 c).share_full fun _ => rfl)
    (howed := fun _ _ => rfl) (V := V m) (hmain := hmain m Variants.none) (hA := arrays m hx) (hΦ := fun _ _ => rfl)

include hx in
/-- The call runs, its arguments end as they were, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m hx) (arrays m hx) ((θ_run defs _ _).mono (fun _ h => h.1) (run_quiet m ρ hx)))
    ((θ_run defs _ _).mono (fun _ h => h.2) (run_quiet m ρ hx))

end Cert.Kernel3Ideal.Gather

end
-- ==== Proof.GatherRef.lean ====
/-
  Hand-written, untrusted. What the gather's reference computes: each element of its result is a sum over 16 samples of the four
  weighted table entries, the table's rows read at the index words (kept inside the table).
-/
module

public import proofs.«01_k».proof.Proof.GatherBlock
public import proofs.«01_k».proof.Proof.Gen.Reference3Ideal.Run

@[expose] public section

set_option maxRecDepth 16384

noncomputable section

namespace Cert.Proof.GatherRef

open Idealize.ShloMosaic Idealize.ShloMosaic.TcCoe
open Cert.Reference3Ideal Cert.Reference3Ideal.Gen Cert.Reference3Ideal.Value
open Cert.GatherLoop (sample)

/-- The table row that a word names, kept inside the table. -/
def row (v : BitVec 32) : Fin 33344 := ⟨min v.toInt.toNat 33343, by omega⟩

/-- Column `l` of the row of table `b` that a word names. -/
def entry (tbl : FVec Ideal S4x33344x1x128 .f32) (b : Fin 4) (v : BitVec 32) (l : Fin 128) : EReal := tbl (ix4 b (row v) 0 l)

/-- Sample `s` of query `r` at channel `d`. -/
def term (idx : IVec S4x4224x128 32) (a0 a1 b0 b1 : FVec Ideal S4x4224x128 .f32) (tbl : FVec Ideal S4x33344x1x128 .f32)
    (b : Fin 4) (r : Fin 4224) (s : Fin 128) (d : Fin 64) : EReal :=
  sample (a0 (ix3 b r s)) (a1 (ix3 b r s)) (b0 (ix3 b r s)) (b1 (ix3 b r s))
    (entry tbl b (idx (ix3 b r s))) (entry tbl b (idx (ix3 b r s) + 1#32)) d

/-- The result: at batch `b`, row `q`, channel `d`, the sum over the 16 samples of head `q mod 8` of query `q / 8`. -/
def total (idx : IVec S4x4224x128 32) (a0 a1 b0 b1 : FVec Ideal S4x4224x128 .f32) (tbl : FVec Ideal S4x33344x1x128 .f32) :
    FVec Ideal S4x33792x64 .f32 := fun y =>
  ∑ k : Fin 16, term idx a0 a1 b0 b1 tbl (y 0) ⟨(y 1).val / 8, by have : (y 1).val < 33792 := (y 1).isLt; omega⟩
    ⟨(y 1).val % 8 * 16 + k.val, by omega⟩ (y 2)

/-- A gather of whole rows reads the row its start index names. -/
theorem gather_at (x : FVec Ideal S33344x128 .f32) (i : IVec S4224x128x1 32) (r : Fin 4224) (s l : Fin 128) :
    Host.gather gather_S33344x128_S4224x128x1_S4224x128x128_2_0_n_n_0_2_1128 x i (ix3 r s l) = x (ix2 (row (i (ix3 r s 0))) l) := by
  unfold Host.gather
  congr 1
  funext a
  refine Fin.ext ?_
  show GatherDims.start _ (ix3 r s l) i a + GatherDims.batchCoord _ (ix3 r s l) a + GatherDims.offCoord _ (ix3 r s l) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show _ ∈ GatherDims.startIndexMap _ from List.mem_singleton.mpr rfl)]
    have e : ∀ c, GatherDims.siIdx gather_S33344x128_S4224x128x1_S4224x128x128_2_0_n_n_0_2_1128 (ix3 r s l) c = ix3 r s 0 := by
      intro c
      funext b; refine Fin.ext ?_
      match b with
      | ⟨0, _⟩ => rfl
      | ⟨1, _⟩ => rfl
      | ⟨2, _⟩ => exact Nat.lt_one_iff.mp c.isLt
    rw [e]
    rfl
  | ⟨1, _⟩ =>
    unfold GatherDims.start
    rw [dif_neg (show ¬ (_ ∈ GatherDims.startIndexMap _) from fun h => Nat.one_ne_zero (congrArg Fin.val (List.mem_singleton.mp h))), Nat.zero_add]
    rfl

/-- The rows of batch `b`'s table that batch `b`'s words name. -/
def piece (b : Nat) (ht : S4x33344x1x128.Slices ![b, 0, 0, 0] S1x33344x1x128) (hi : S4x4224x128.Slices ![b, 0, 0] S1x4224x128)
    (tbl : FVec Ideal S4x33344x1x128 .f32) (idx : IVec S4x4224x128 32) : FVec Ideal S1x4224x128x128 .f32 :=
  broadcastInDim S1x4224x128x128 ![1, 2, 3] bcast_S4224x128x128_S1x4224x128x128_1_2_3
    (Host.gather gather_S33344x128_S4224x128x1_S4224x128x128_2_0_n_n_0_2_1128
      (shapeCast _ (extractStridedSlice S1x33344x1x128 ![b, 0, 0, 0] tbl ht) shapeCasts_S1x33344x1x128_S33344x128)
      (broadcastInDim S4224x128x1 ![0, 1] bcast_S4224x128_S4224x128x1_0_1
        (shapeCast _ (extractStridedSlice S1x4224x128 ![b, 0, 0] idx hi) shapeCasts_S1x4224x128_S4224x128)))

/-- A piece's row is the one its batch's word names. -/
theorem piece_at (b : Fin 4) (ht : S4x33344x1x128.Slices ![b.val, 0, 0, 0] S1x33344x1x128) (hi : S4x4224x128.Slices ![b.val, 0, 0] S1x4224x128)
    (tbl : FVec Ideal S4x33344x1x128 .f32) (idx : IVec S4x4224x128 32) (r : Fin 4224) (s l : Fin 128) :
    piece b.val ht hi tbl idx (ix4 0 r s l) = entry tbl b (idx (ix3 b r s)) l := by
  have e : piece b.val ht hi tbl idx (ix4 0 r s l) = Host.gather gather_S33344x128_S4224x128x1_S4224x128x128_2_0_n_n_0_2_1128
      (shapeCast _ (extractStridedSlice S1x33344x1x128 ![b.val, 0, 0, 0] tbl ht) shapeCasts_S1x33344x1x128_S33344x128)
      (broadcastInDim S4224x128x1 ![0, 1] bcast_S4224x128_S4224x128x1_0_1
        (shapeCast _ (extractStridedSlice S1x4224x128 ![b.val, 0, 0] idx hi) shapeCasts_S1x4224x128_S4224x128)) (ix3 r s l) := by
    pointwise [piece]
  rw [e, gather_at]
  have e1 : (broadcastInDim S4224x128x1 ![0, 1] bcast_S4224x128_S4224x128x1_0_1
        (shapeCast S4224x128 (extractStridedSlice S1x4224x128 ![b.val, 0, 0] idx hi) shapeCasts_S1x4224x128_S4224x128)) (ix3 r s 0)
      = idx (ix3 b r s) := by
    pointwise
  have e2 (q : Fin 33344) : shapeCast S33344x128 (extractStridedSlice S1x33344x1x128 ![b.val, 0, 0, 0] tbl ht)
      shapeCasts_S1x33344x1x128_S33344x128 (ix2 q l) = tbl (ix4 b q 0 l) := by
    pointwise
  rw [e1, e2]
  rfl

/-- The rows that all batches' words name. -/
def cells (tbl : FVec Ideal S4x33344x1x128 .f32) (idx : IVec S4x4224x128 32) : FVec Ideal S4x4224x128x128 .f32 :=
  concatenate S4x4224x128x128 0
    [⟨S1x4224x128x128, piece 0 slices_S4x33344x1x128_S1x33344x1x128_0_0_0_0 slices_S4x4224x128_S1x4224x128_0_0_0 tbl idx⟩,
      ⟨S1x4224x128x128, piece 1 slices_S4x33344x1x128_S1x33344x1x128_1_0_0_0 slices_S4x4224x128_S1x4224x128_1_0_0 tbl idx⟩,
      ⟨S1x4224x128x128, piece 2 slices_S4x33344x1x128_S1x33344x1x128_2_0_0_0 slices_S4x4224x128_S1x4224x128_2_0_0 tbl idx⟩,
      ⟨S1x4224x128x128, piece 3 slices_S4x33344x1x128_S1x33344x1x128_3_0_0_0 slices_S4x4224x128_S1x4224x128_3_0_0 tbl idx⟩]
    concatenates_S1x4224x128x128_S1x4224x128x128_S1x4224x128x128_S1x4224x128x128_S4x4224x128x128_d0

/-- Four pieces joined along the batch: batch `b` reads piece `b`. -/
theorem join_at (p : Fin 4 → FVec Ideal S1x4224x128x128 .f32) (b : Fin 4) (r : Fin 4224) (s l : Fin 128) :
    concatenate S4x4224x128x128 0 [⟨S1x4224x128x128, p 0⟩, ⟨S1x4224x128x128, p 1⟩, ⟨S1x4224x128x128, p 2⟩, ⟨S1x4224x128x128, p 3⟩]
      concatenates_S1x4224x128x128_S1x4224x128x128_S1x4224x128x128_S1x4224x128x128_S4x4224x128x128_d0 (ix4 b r s l)
      = p b (ix4 0 r s l) := by
  fin_cases b <;> pointwise

/-- Row `s` of query `r` is the one that batch `b`'s word names. -/
theorem cells_at (tbl : FVec Ideal S4x33344x1x128 .f32) (idx : IVec S4x4224x128 32) (b : Fin 4) (r : Fin 4224) (s l : Fin 128) :
    cells tbl idx (ix4 b r s l) = entry tbl b (idx (ix3 b r s)) l := by
  unfold cells
  refine (join_at ![piece 0 slices_S4x33344x1x128_S1x33344x1x128_0_0_0_0 slices_S4x4224x128_S1x4224x128_0_0_0 tbl idx,
    piece 1 slices_S4x33344x1x128_S1x33344x1x128_1_0_0_0 slices_S4x4224x128_S1x4224x128_1_0_0 tbl idx,
    piece 2 slices_S4x33344x1x128_S1x33344x1x128_2_0_0_0 slices_S4x4224x128_S1x4224x128_2_0_0 tbl idx,
    piece 3 slices_S4x33344x1x128_S1x33344x1x128_3_0_0_0 slices_S4x4224x128_S1x4224x128_3_0_0 tbl idx] b r s l).trans ?_
  match b with
  | 0 => exact piece_at 0 slices_S4x33344x1x128_S1x33344x1x128_0_0_0_0 slices_S4x4224x128_S1x4224x128_0_0_0 tbl idx r s l
  | 1 => exact piece_at 1 slices_S4x33344x1x128_S1x33344x1x128_1_0_0_0 slices_S4x4224x128_S1x4224x128_1_0_0 tbl idx r s l
  | 2 => exact piece_at 2 slices_S4x33344x1x128_S1x33344x1x128_2_0_0_0 slices_S4x4224x128_S1x4224x128_2_0_0 tbl idx r s l
  | 3 => exact piece_at 3 slices_S4x33344x1x128_S1x33344x1x128_3_0_0_0 slices_S4x4224x128_S1x4224x128_3_0_0 tbl idx r s l

/-- The weights of every sample against the 128 columns. -/
def wide (a : FVec Ideal S4x4224x128 .f32) : FVec Ideal S4x4224x128x128 .f32 :=
  broadcastInDim S4x4224x128x128 ![0, 1, 2, 3] bcast_S4x4224x128x1_S4x4224x128x128_0_1_2_3
    (broadcastInDim S4x4224x128x1 ![0, 1, 2] bcast_S4x4224x128_S4x4224x128x1_0_1_2 a)

/-- The weights of every sample against the 64 channels. -/
def narrow (a : FVec Ideal S4x4224x128 .f32) : FVec Ideal S4x4224x128x64 .f32 :=
  broadcastInDim S4x4224x128x64 ![0, 1, 2, 3] bcast_S4x4224x128x1_S4x4224x128x64_0_1_2_3
    (broadcastInDim S4x4224x128x1 ![0, 1, 2] bcast_S4x4224x128_S4x4224x128x1_0_1_2 a)

/-- Both rows of every sample, weighted along x. -/
def mixed (idx : IVec S4x4224x128 32) (a0 a1 : FVec Ideal S4x4224x128 .f32) (tbl : FVec Ideal S4x33344x1x128 .f32) : FVec Ideal S4x4224x128x128 .f32 :=
  addf (mulf (cells tbl idx) (wide a0))
    (mulf (cells tbl (addi idx (broadcastInDim S4x4224x128 ![] bcast_S_S4x4224x128 (constantI S_ 32 1#32)))) (wide a1))

/-- Every sample's weighted entry. -/
def samples (idx : IVec S4x4224x128 32) (a0 a1 b0 b1 : FVec Ideal S4x4224x128 .f32) (tbl : FVec Ideal S4x33344x1x128 .f32) :
    FVec Ideal S4x4224x128x64 .f32 :=
  addf (mulf (extractStridedSlice S4x4224x128x64 ![0, 0, 0, 0] (mixed idx a0 a1 tbl) slices_S4x4224x128x128_S4x4224x128x64_0_0_0_0) (narrow b0))
    (mulf (extractStridedSlice S4x4224x128x64 ![0, 0, 0, 64] (mixed idx a0 a1 tbl) slices_S4x4224x128x128_S4x4224x128x64_0_0_0_64) (narrow b1))

/-- An element of the samples is the sample's weighted entry. -/
theorem samples_at (idx : IVec S4x4224x128 32) (a0 a1 b0 b1 : FVec Ideal S4x4224x128 .f32) (tbl : FVec Ideal S4x33344x1x128 .f32)
    (b : Fin 4) (r : Fin 4224) (s : Fin 128) (d : Fin 64) :
    samples idx a0 a1 b0 b1 tbl (ix4 b r s d) = term idx a0 a1 b0 b1 tbl b r s d := by
  pointwise [samples, mixed, wide, narrow, term, sample]
  simp only [cells_at]
  rfl

/-- The sum of every head's samples. -/
def heads (x : FVec Ideal S4x4224x128x64 .f32) : FVec Ideal S4x33792x64 .f32 :=
  Host.reduceAdd (shapeCast S4x33792x16x64 x shapeCasts_S4x4224x128x64_S4x33792x16x64) (constant S_ .f32 0x00000000#32)
    reducesTo_S4x33792x16x64_S4x33792x64_d2 h_S_

/-- A head's sum has 16 terms. -/
theorem heads_at (x : FVec Ideal S4x4224x128x64 .f32) (b : Fin 4) (q : Fin 33792) (d : Fin 64) :
    heads x (ix3 b q d) = ∑ k : Fin 16, x (ix4 b (⟨q.val / 8, by omega⟩ : Fin 4224) (⟨q.val % 8 * 16 + k.val, by omega⟩ : Fin 128) d) := by
  pointwise [heads]

variable (m : (ℓ : Loc nD τ sig) → Buf (Elt Ideal) ℓ)

/-- The reference's result is that function of its arguments. -/
theorem result (c : Dev nD) : res_out0 m c
    = total (m (c.tc.loc main_arg0)) (m (c.tc.loc main_arg1)) (m (c.tc.loc main_arg2)) (m (c.tc.loc main_arg3)) (m (c.tc.loc main_arg4))
      (m (c.tc.loc main_arg5)) := by
  have e : res_out0 m c = heads (samples (m (c.tc.loc main_arg0)) (m (c.tc.loc main_arg1)) (m (c.tc.loc main_arg2)) (m (c.tc.loc main_arg3))
      (m (c.tc.loc main_arg4)) (m (c.tc.loc main_arg5))) := by
    unfold res_out0 res_main_v69
    rfl
  rw [e]
  funext y
  have p : ∀ (b : Fin 4) (q : Fin 33792) (d : Fin 64), heads (samples (m (c.tc.loc main_arg0)) (m (c.tc.loc main_arg1)) (m (c.tc.loc main_arg2))
      (m (c.tc.loc main_arg3)) (m (c.tc.loc main_arg4)) (m (c.tc.loc main_arg5))) (ix3 b q d)
      = total (m (c.tc.loc main_arg0)) (m (c.tc.loc main_arg1)) (m (c.tc.loc main_arg2)) (m (c.tc.loc main_arg3)) (m (c.tc.loc main_arg4))
        (m (c.tc.loc main_arg5)) (ix3 b q d) := by
    intro b q d
    rw [heads_at]
    exact Finset.sum_congr rfl fun k _ => samples_at _ _ _ _ _ _ _ _ _ _
  have hy : y = ix3 (y 0 : Fin 4) (y 1 : Fin 33792) (y 2 : Fin 64) := funext fun i => by fin_cases i <;> rfl
  rw [hy]
  exact p _ _ _

end Cert.Proof.GatherRef

end
-- ==== Proof.GatherValue.lean ====
/-
  Hand-written, untrusted. The gather kernel's result array after the run, over the ideal reals, is the reference's function of the
  arguments, once every index word names two rows of the table.
-/
module

public import proofs.«01_k».proof.Proof.GatherIdeal
public import proofs.«01_k».proof.Proof.GatherRef
public import Idealize.ShloMosaic.Lib.Pipeline.ValueKit

@[expose] public section

set_option maxRecDepth 16384

noncomputable section

namespace Cert.Proof.GatherValue

open Idealize.ShloMosaic Idealize.ShloMosaic.TcCoe Idealize.SL.Sem
open Cert.GatherLoop

/-! ## One block -/

/-- A word whose row lies inside the table names that row. -/
theorem row_val {v : BitVec 32} (h : v.toNat + 1 ≤ 33344) : (GatherRef.row v).val = v.toNat := by
  show min v.toInt.toNat 33343 = v.toNat
  rw [BitVec.toInt_eq_toNat_cond]
  split <;> omega

/-- The word that a step reads. -/
theorem word_at (x0 : Vec Ideal S1x8x128 .i32) (t : Fin 8) (s : Fin 128) : word x0 t.val s.val t.isLt s.isLt = x0 (ix3 0 t s) := by
  refine congrArg x0 (funext fun a => Fin.ext ?_)
  match a with
  | ⟨0, _⟩ => rfl
  | ⟨1, _⟩ => rfl
  | ⟨2, _⟩ => rfl

/-- A copied row is the table's. -/
theorem tabRow_at (x5 : Vec Ideal S1x33344x1x128 .f32) (n : Nat) (h : ∀ a, (![0, n, 0, 0] : Fin 4 → Nat) a + S1x1x1x128.size a ≤ S1x33344x1x128.size a)
    (q : Fin 33344) (hq : q.val = n) (l : Fin 128) : tabRow x5 ![0, n, 0, 0] h (ixRow l) = x5 (ix4 0 q 0 l) := by
  subst hq
  have e : ∀ w : Vec Ideal S1x1x1x128 .f32, toRow w (ixRow l) = w (ix4 0 0 0 l) := by
    intro w
    rw [show ixRow l = ix2 0 l from funext fun i => by fin_cases i <;> rfl]
    pointwise [toRow]
  unfold tabRow
  rw [e]
  refine congrArg x5 (funext fun a => Fin.ext ?_)
  match a with
  | ⟨0, _⟩ => rfl
  | ⟨1, _⟩ => exact (congrArg (q.val + ·) (Nat.one_mul _)).trans (Nat.add_zero _)
  | ⟨2, _⟩ => rfl
  | ⟨3, _⟩ => exact (Nat.zero_add _).trans (Nat.one_mul _)

section

variable (x0 : Vec Ideal S1x8x128 .i32) (x5 : Vec Ideal S1x33344x1x128 .f32) (hx : ∀ t s ht hs, Inside (word x0 t s ht hs))

/-- The first scratch holds the rows that the words name. -/
theorem lo_at (t : Fin 8) (s : Fin 128) (l : Fin 128) :
    full (rowLo x0 x5 hx t.val t.isLt) (ix2 s l) = x5 (ix4 0 (GatherRef.row (x0 (ix3 0 t s))) 0 l) := by
  have h := (hx t.val s.val t.isLt s.isLt).1
  have h1 : (word x0 t.val s.val t.isLt s.isLt).toNat + 1 ≤ 33344 := h 1
  refine tabRow_at x5 _ h _ ?_ l
  rw [← word_at x0, row_val h1]
  rfl

/-- The second holds the rows after them. -/
theorem hi_at (t : Fin 8) (s : Fin 128) (l : Fin 128) :
    full (rowHi x0 x5 hx t.val t.isLt) (ix2 s l) = x5 (ix4 0 (GatherRef.row (x0 (ix3 0 t s) + 1#32)) 0 l) := by
  have h := (hx t.val s.val t.isLt s.isLt).2
  have h1 : (word x0 t.val s.val t.isLt s.isLt + 1#32).toNat + 1 ≤ 33344 := h 1
  refine tabRow_at x5 _ h _ ?_ l
  rw [← word_at x0, row_val h1]
  rfl

/-- An element of a point's block is the sum of its 16 samples. -/
theorem outRows_at (x1 x2 x3 x4 : Vec Ideal S1x8x128 .f32) (q : Fin 64) (d : Fin 64) :
    outRows blockOut x0 x5 x1 x2 x3 x4 hx (ix3 0 q d) = ∑ k : Fin 16,
      let t : Fin 8 := ⟨q.val / 8, by omega⟩
      let s : Fin 128 := ⟨q.val % 8 * 16 + k.val, by omega⟩
      sample (x1 (ix3 0 t s)) (x2 (ix3 0 t s)) (x3 (ix3 0 t s)) (x4 (ix3 0 t s))
        (fun l => x5 (ix4 0 (GatherRef.row (x0 (ix3 0 t s))) 0 l)) (fun l => x5 (ix4 0 (GatherRef.row (x0 (ix3 0 t s) + 1#32)) 0 l)) d := by
  have e : outRows blockOut x0 x5 x1 x2 x3 x4 hx (ix3 0 q d)
      = blockOut (q.val / 8) x1 x2 x3 x4 (full (rowLo x0 x5 hx (q.val / 8) (by omega))) (full (rowHi x0 x5 hx (q.val / 8) (by omega)))
        (ix3 0 (⟨q.val % 8, by omega⟩ : Fin 8) d) := by
    show blockOut (q.val / 8) x1 x2 x3 x4 _ _ (ixOut (⟨q.val % 8, by omega⟩ : Fin 8) d) = _
    rw [show ixOut (⟨q.val % 8, by omega⟩ : Fin 8) d = ix3 0 (⟨q.val % 8, by omega⟩ : Fin 8) d from funext fun i => by fin_cases i <;> rfl]
    rfl
  rw [e]
  refine (blockOut_at (⟨q.val / 8, by omega⟩ : Fin 8) x1 x2 x3 x4 _ _ _ d).trans (Finset.sum_congr rfl fun k _ => ?_)
  have el := lo_at x0 x5 hx (⟨q.val / 8, by omega⟩ : Fin 8) (⟨q.val % 8 * 16 + k.val, by omega⟩ : Fin 128)
  have eh := hi_at x0 x5 hx (⟨q.val / 8, by omega⟩ : Fin 8) (⟨q.val % 8 * 16 + k.val, by omega⟩ : Fin 128)
  exact congrArg₂ (fun g0 g1 => sample _ _ _ _ g0 g1 d) (funext el) (funext eh)

end

/-! ## The array -/

section
open Cert.Kernel3Ideal Cert.Kernel3Ideal.Gen Cert.Kernel3Ideal.Gather
open Idealize.ShloMosaic.Pipeline (Dat)

variable (m : (ℓ : Loc nD τ sig) → Buf (Elt Ideal) ℓ) (hx : Named m)

/-- Where each window's block sits at each grid point: a batch has 528 points, the table's block is the batch's. -/
theorem idx : ∀ t : Fin cfg0.N, win0_0.index t = ![t.val / 528, t.val % 528, 0] ∧ win0_1.index t = ![t.val / 528, t.val % 528, 0]
    ∧ win0_2.index t = ![t.val / 528, t.val % 528, 0] ∧ win0_3.index t = ![t.val / 528, t.val % 528, 0]
    ∧ win0_4.index t = ![t.val / 528, t.val % 528, 0] ∧ win0_5.index t = ![t.val / 528, 0, 0, 0]
    ∧ win0_6.index t = ![t.val / 528, t.val % 528, 0] :=
  (by decide +kernel : ∀ t : Fin grid0.N, _)

/-- The result's blocks cover its array. -/
theorem covers : (cfg0.win 6).Covers := by decide +kernel

/-- The batch of a grid point. -/
def bat (t : Fin cfg0.N) : Fin 4 := ⟨t.val / 528, by have h : t.val < 2112 := t.isLt; omega⟩
/-- The query that row `r` of a grid point's blocks holds. -/
def query (t : Fin cfg0.N) (r : Fin 8) : Fin 4224 := ⟨t.val % 528 * 8 + r.val, by omega⟩

/-- A point's block of words, in the array. -/
theorem read0 (c : Dev nD) (t : Fin cfg0.N) (r : Fin 8) (s : Fin 128) :
    iblk m c 0 t (ix3 0 r s) = m ((c : Thread nD τ).loc main_arg0) (ix3 (bat t) (query t r) s) := by
  blk_point [iblk, V, idx t]
  all_goals rfl

/-- A point's block of left weights, in the array. -/
theorem read1 (c : Dev nD) (t : Fin cfg0.N) (r : Fin 8) (s : Fin 128) :
    iblk m c 1 t (ix3 0 r s) = m ((c : Thread nD τ).loc main_arg1) (ix3 (bat t) (query t r) s) := by
  blk_point [iblk, V, idx t]
  all_goals rfl

/-- A point's block of right weights, in the array. -/
theorem read2 (c : Dev nD) (t : Fin cfg0.N) (r : Fin 8) (s : Fin 128) :
    iblk m c 2 t (ix3 0 r s) = m ((c : Thread nD τ).loc main_arg2) (ix3 (bat t) (query t r) s) := by
  blk_point [iblk, V, idx t]
  all_goals rfl

/-- A point's block of upper weights, in the array. -/
theorem read3 (c : Dev nD) (t : Fin cfg0.N) (r : Fin 8) (s : Fin 128) :
    iblk m c 3 t (ix3 0 r s) = m ((c : Thread nD τ).loc main_arg3) (ix3 (bat t) (query t r) s) := by
  blk_point [iblk, V, idx t]
  all_goals rfl

/-- A point's block of lower weights, in the array. -/
theorem read4 (c : Dev nD) (t : Fin cfg0.N) (r : Fin 8) (s : Fin 128) :
    iblk m c 4 t (ix3 0 r s) = m ((c : Thread nD τ).loc main_arg4) (ix3 (bat t) (query t r) s) := by
  blk_point [iblk, V, idx t]
  all_goals rfl

/-- A point's table is its batch's. -/
theorem read5 (c : Dev nD) (t : Fin cfg0.N) (q : Fin 33344) (l : Fin 128) :
    iblk m c 5 t (ix4 0 q 0 l) = m ((c : Thread nD τ).loc main_arg5) (ix4 (bat t) q 0 l) := by
  blk_point [iblk, V, idx t]
  all_goals rfl

/-- An element of a point's block is the reference's. -/
theorem block_at (c : Dev nD) (t : Fin cfg0.N) (q : Fin 64) (d : Fin 64) (e : Fin 33792) (he : e.val = t.val % 528 * 64 + q.val) :
    outRows blockOut (iblk m c 0 t) (iblk m c 5 t) (iblk m c 1 t) (iblk m c 2 t) (iblk m c 3 t) (iblk m c 4 t) (hx c t) (ix3 0 q d)
      = GatherRef.total (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix3 (bat t) e d) := by
  rw [outRows_at]
  refine Finset.sum_congr rfl fun k _ => ?_
  have hr : (⟨e.val / 8, by omega⟩ : Fin 4224) = query t ⟨q.val / 8, by omega⟩ :=
    Fin.ext (show e.val / 8 = t.val % 528 * 8 + q.val / 8 by omega)
  have hs : (⟨e.val % 8 * 16 + k.val, by omega⟩ : Fin 128) = ⟨q.val % 8 * 16 + k.val, by omega⟩ :=
    Fin.ext (show e.val % 8 * 16 + k.val = q.val % 8 * 16 + k.val by omega)
  show sample _ _ _ _ _ _ d = GatherRef.term _ _ _ _ _ _ (bat t) (⟨e.val / 8, by omega⟩ : Fin 4224) (⟨e.val % 8 * 16 + k.val, by omega⟩ : Fin 128) d
  rw [hr, hs, read0, read1, read2, read3, read4]
  simp only [read5]
  rfl

/-- The result's array after the run is the reference's function of the arguments. -/
theorem final (c : Dev nD) : (dats m hx 0 c).arrAt 6 cfg0.N
    = GatherRef.total (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m hx 0 c).arrAt_eq_of_covers 6 _ covers fun t _ y => ?_
  blk_simp
  rw [after_6]
  have hy : y = ix3 (0 : Fin 1) (y 1 : Fin 64) (y 2 : Fin 64) := funext fun i => by
    match i with
    | ⟨0, _⟩ => exact Subsingleton.elim (α := Fin 1) _ _
    | ⟨1, _⟩ => rfl
    | ⟨2, _⟩ => rfl
  have h1 : (y 1).val < 64 := (y 1).isLt
  have he : (win0_6.blk t).view.emb y = ix3 (bat t) (⟨t.val % 528 * 64 + (y 1).val, by omega⟩ : Fin 33792) (y 2 : Fin 64) := by
    have h0 : (y 0).val = 0 := Nat.lt_one_iff.mp (y 0).isLt
    blk_ext [idx t, bat]
    all_goals omega
  rw [he]
  exact (congrArg _ hy).trans (block_at m hx c t (y 1) (y 2) _ rfl)

/-- The run: the result's array as the points' writes leave it, and the arguments as they were. -/
theorem run (g : Dev nD → PrngReg) : θ_run defs (onTc (τ := τ) (main (F := Ideal))) ⟨m, fun _ => 0, g⟩ (fun r => (∀ c : Dev nD,
      r.2.mem ((c.tc : Thread nD τ).loc main_v0) = (dats m hx 0 c).arrAt 6 cfg0.N)
      ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  θ_run_and ((θ_run defs _ _).mono (fun _ h c => (h.1 c).1 6) (run_quiet m g hx))
    ((θ_run defs _ _).mono (fun _ h => h.1) (frame m g hx))

end

end Cert.Proof.GatherValue

end
-- ==== Proof.lean ====
/-
  Hand-written, untrusted. The proof of `Cert.Claim` (proof/Defs.lean). The frames of the first and the third call are generated, the
  second's are Proof/GatherKernel.lean's and Proof/GatherIdeal.lean's; the references' frames and the equalities read the runs:
  Proof/FeedForward.lean, Proof/SampleArrays.lean and Proof/GatherValue.lean say what the calls' result arrays hold.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.FeedForward
public import proofs.«01_k».proof.Proof.SampleArrays
public import proofs.«01_k».proof.Proof.GatherKernel
public import proofs.«01_k».proof.Proof.GatherValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- `Cert.algebraic_KernelIdeal_ReferenceIdeal`: both run, and from equal arguments the results are equal. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Value.run_blocks m g
  · run_from Cert.ReferenceIdeal.Value.run m' g'
    obtain ⟨h0, h1, h2, h3, h4, h5, h6, h7, h8, h9, h10, h11⟩ := hagree c
    rw [FeedForward.final m c]
    refine (FeedForward.ref_eq m' c).trans ?_
    rw [h0, h1, h2, h3, h4, h5, h6, h7, h8, h9, h10, h11]

/-- `Cert.quiescent_ReferenceIdeal`: the reference runs and leaves its arguments as they were. -/
theorem frame_reference : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run (F := Ideal) m g)

/-- `Cert.algebraic_Kernel2Ideal_Reference2Ideal_pre_finite`: both run, and from equal arguments of which the queries, the
    attention's weights and its biases are finite the six results are equal. -/
theorem algebraic2 : Cert.algebraic_Kernel2Ideal_Reference2Ideal_pre_finite (hKernel2Ideal := Cert.Kernel2Ideal.Gen.facts)
    (hReference2Ideal := Cert.Reference2Ideal.Gen.facts) (hPre_finite := Cert.Pre_finite.Gen.facts) := by
  pair_intro
  · run_from Cert.Kernel2Ideal.Value.run_blocks m g
  · refine Idealize.ShloMosaic.θ_run_mono (Cert.Reference2Ideal.Value.run m' g') ?_
    intro r hr c
    obtain ⟨h0, h1, h2, h3, h4, h5, hk⟩ := hr c
    obtain ⟨e0, e1, e2, e3, e4, e5, e6, e7⟩ := hagree c
    refine ⟨h0.trans ?_, h1.trans ((SampleArrays.ref1 m' c).trans ?_), h2.trans ((SampleArrays.ref2 m' c).trans ?_),
      h3.trans ((SampleArrays.ref3 m' c).trans ?_), h4.trans ((SampleArrays.ref4 m' c).trans ?_),
      h5.trans ((SampleArrays.ref5 m' c).trans ?_), hk⟩
    · rw [SampleArrays.final8 m c, e0, e2, e3]
      rfl
    · rw [SampleArrays.final9 m c (hpre c), e0, e1, e4, e5, e6, e7]
    · rw [SampleArrays.final10 m c (hpre c), e0, e1, e4, e5, e6, e7]
    · rw [SampleArrays.final11 m c, e0, e1, e4, e5]
    · rw [SampleArrays.final12 m c, e0, e1, e4, e5]
    · rw [SampleArrays.final13 m c, e0, e1, e4, e5]

/-- `Cert.quiescent_Reference2Ideal`: the reference runs and leaves its arguments as they were. -/
theorem frame_reference2 : Cert.quiescent_Reference2Ideal (hReference2Ideal := Cert.Reference2Ideal.Gen.facts) := by
  intro m g _
  exact (θ_run Cert.Reference2Ideal.defs _ _).mono
    (fun r h => ⟨fun c => (h c).2.2.2.2.2.2, sem_eq_zero_of_no_sems (by decide) r.2⟩)
    (Cert.Reference2Ideal.Value.run (F := Ideal) m g)

/-- `Cert.algebraic_Kernel3Ideal_Reference3Ideal`: both run, and from equal arguments whose index words all name two rows of the
    table the results are equal. -/
theorem algebraic3 : Cert.algebraic_Kernel3Ideal_Reference3Ideal (hKernel3Ideal := Cert.Kernel3Ideal.Gen.facts)
    (hReference3Ideal := Cert.Reference3Ideal.Gen.facts) (hPre_inside := Cert.Pre_inside.Gen.facts) := by
  intro m g m' g' hpre hagree
  have hx : Cert.Kernel3Ideal.Gather.Named m := Cert.Kernel3Ideal.Gather.named_of m fun c i => GatherLoop.inside_all (hpre c) i
  refine ⟨fun c => (Cert.Kernel3Ideal.Gather.dats m hx 0 c).arrAt 6 Cert.Kernel3Ideal.cfg0.N, ?_, ?_⟩
  · exact (θ_run Cert.Kernel3Ideal.defs _ _).mono (fun r h c => ⟨h.1 c, h.2 c⟩) (GatherValue.run m hx g)
  · refine (θ_run Cert.Reference3Ideal.defs _ _).mono (fun r h c => ⟨(h c).1.trans ?_, (h c).2⟩) (Cert.Reference3Ideal.Value.run (F := Ideal) m' g')
    obtain ⟨h0, h1, h2, h3, h4, h5⟩ := hagree c
    refine (GatherRef.result m' c).trans ?_
    rw [h0, h1, h2, h3, h4, h5]
    exact (GatherValue.final m hx c).symm

/-- `Cert.quiescent_Kernel3`: the call runs where every index word names two rows of the table. -/
theorem frame_gather : Cert.quiescent_Kernel3 (hKernel3 := Cert.Kernel3.Gen.facts) (hPre_inside := Cert.Pre_inside.Gen.facts) :=
  fun m g hpre => Cert.Kernel3.Gather.frame m g (Cert.Kernel3.Gather.named_of m fun c i => GatherLoop.inside_all (hpre c) i)

/-- `Cert.quiescent_Kernel3Ideal`: the same over the ideal reals. -/
theorem frame_gather_ideal : Cert.quiescent_Kernel3Ideal (hKernel3Ideal := Cert.Kernel3Ideal.Gen.facts)
    (hPre_inside := Cert.Pre_inside.Gen.facts) :=
  fun m g hpre => Cert.Kernel3Ideal.Gather.frame m g
    (Cert.Kernel3Ideal.Gather.named_of m fun c i => GatherLoop.inside_all (hpre c) i)

/-- `Cert.quiescent_Reference3Ideal`: the reference runs and leaves its arguments as they were. -/
theorem frame_reference3 : Cert.quiescent_Reference3Ideal (hReference3Ideal := Cert.Reference3Ideal.Gen.facts) := by
  intro m g _
  exact (θ_run Cert.Reference3Ideal.defs _ _).mono (fun r h => ⟨fun c => (h c).2, sem_eq_zero_of_no_sems (by decide) r.2⟩)
    (Cert.Reference3Ideal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts,
  Cert.Kernel3Ideal.Gen.facts, Cert.Reference3Ideal.Gen.facts, Cert.Pre_finite.Gen.facts, Cert.Pre_inside.Gen.facts,
  fun m g _ => Cert.Kernel.Gen.frame m g, fun m g _ => Cert.KernelIdeal.Gen.frame m g, frame_reference,
  fun m g _ => Cert.Kernel2.Gen.frame m g, fun m g _ => Cert.Kernel2Ideal.Gen.frame m g,
  fun m g _ => Cert.Kernel2Ideal.Gen.frame m g, frame_reference2, fun m g _ => frame_reference2 m g trivial,
  frame_gather, frame_gather_ideal, frame_reference3, fun m g _ => frame_reference3 m g trivial,
  trivial, algebraic, trivial, algebraic2, trivial, algebraic3⟩

end Cert.Proof

end
